-- ==== Defs.lean ====
def Pre_Kernel [hPre_counts_ok : Cert.Pre_counts_ok.Facts] (m : (ℓ : Loc Cert.Kernel.nD Cert.Kernel.τ Cert.Kernel.sig) → Buf (Elt Bits) ℓ) : Prop :=
  ∀ c : Dev Cert.Kernel.nD,
    (Cert.Pre_counts_ok.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_counts_ok : Cert.Pre_counts_ok.Facts] (m : (ℓ : Loc Cert.KernelIdeal.nD Cert.KernelIdeal.τ Cert.KernelIdeal.sig) → Buf (Elt Ideal) ℓ) : Prop :=
  ∀ c : Dev Cert.KernelIdeal.nD,
    (Cert.Pre_counts_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_ok [hPre_counts_ok : Cert.Pre_counts_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Norm [hPre_graphs_ok : Cert.Pre_graphs_ok.Facts] (m : (ℓ : Loc Cert.Norm.nD Cert.Norm.τ Cert.Norm.sig) → Buf (Elt Bits) ℓ) : Prop :=
  ∀ c : Dev Cert.Norm.nD,
    (Cert.Pre_graphs_ok.fn (F := Bits) (m ((c.tc : Thread Cert.Norm.nD Cert.Norm.τ).loc Cert.Norm.main_arg0)) (m ((c.tc : Thread Cert.Norm.nD Cert.Norm.τ).loc Cert.Norm.main_arg1)) (m ((c.tc : Thread Cert.Norm.nD Cert.Norm.τ).loc Cert.Norm.main_arg2))) = (fun _ => 1#1)

def Pre_NormIdeal [hPre_graphs_ok : Cert.Pre_graphs_ok.Facts] (m : (ℓ : Loc Cert.NormIdeal.nD Cert.NormIdeal.τ Cert.NormIdeal.sig) → Buf (Elt Ideal) ℓ) : Prop :=
  ∀ c : Dev Cert.NormIdeal.nD,
    (Cert.Pre_graphs_ok.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_graphs_ok [hPre_graphs_ok : Cert.Pre_graphs_ok.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_graphs_ok.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2))) = (fun _ => 1#1)

def Pre_Epi (m : (ℓ : Loc Cert.Epi.nD Cert.Epi.τ Cert.Epi.sig) → Buf (Elt Bits) ℓ) : Prop :=
  True

def Pre_EpiIdeal (m : (ℓ : Loc Cert.EpiIdeal.nD Cert.EpiIdeal.τ Cert.EpiIdeal.sig) → Buf (Elt Ideal) ℓ) : Prop :=
  True

def Pre_EpiIdeal_actions_ok [hPre_actions_ok : Cert.Pre_actions_ok.Facts] (m : (ℓ : Loc Cert.EpiIdeal.nD Cert.EpiIdeal.τ Cert.EpiIdeal.sig) → Buf (Elt Ideal) ℓ) : Prop :=
  ∀ c : Dev Cert.EpiIdeal.nD,
    (Cert.Pre_actions_ok.fn (F := Ideal) (m ((c.tc : Thread Cert.EpiIdeal.nD Cert.EpiIdeal.τ).loc Cert.EpiIdeal.main_arg0)) (m ((c.tc : Thread Cert.EpiIdeal.nD Cert.EpiIdeal.τ).loc Cert.EpiIdeal.main_arg1))) = (fun _ => 1#1)

def Pre_EpiRefIdeal (m : (ℓ : Loc Cert.EpiRefIdeal.nD Cert.EpiRefIdeal.τ Cert.EpiRefIdeal.sig) → Buf (Elt Ideal) ℓ) : Prop :=
  True

def Pre_EpiRefIdeal_actions_ok [hPre_actions_ok : Cert.Pre_actions_ok.Facts] (m : (ℓ : Loc Cert.EpiRefIdeal.nD Cert.EpiRefIdeal.τ Cert.EpiRefIdeal.sig) → Buf (Elt Ideal) ℓ) : Prop :=
  ∀ c : Dev Cert.EpiRefIdeal.nD,
    (Cert.Pre_actions_ok.fn (F := Ideal) (m ((c.tc : Thread Cert.EpiRefIdeal.nD Cert.EpiRefIdeal.τ).loc Cert.EpiRefIdeal.main_arg0)) (m ((c.tc : Thread Cert.EpiRefIdeal.nD Cert.EpiRefIdeal.τ).loc Cert.EpiRefIdeal.main_arg1))) = (fun _ => 1#1)

def Pre_Node (m : (ℓ : Loc Cert.Node.nD Cert.Node.τ Cert.Node.sig) → Buf (Elt Bits) ℓ) : Prop :=
  True

def Pre_NodeIdeal (m : (ℓ : Loc Cert.NodeIdeal.nD Cert.NodeIdeal.τ Cert.NodeIdeal.sig) → Buf (Elt Ideal) ℓ) : Prop :=
  True

def Pre_NodeIdeal_logits_ok [hPre_logits_ok : Cert.Pre_logits_ok.Facts] (m : (ℓ : Loc Cert.NodeIdeal.nD Cert.NodeIdeal.τ Cert.NodeIdeal.sig) → Buf (Elt Ideal) ℓ) : Prop :=
  ∀ c : Dev Cert.NodeIdeal.nD,
    (Cert.Pre_logits_ok.fn (F := Ideal) (m ((c.tc : Thread Cert.NodeIdeal.nD Cert.NodeIdeal.τ).loc Cert.NodeIdeal.main_arg0)) (m ((c.tc : Thread Cert.NodeIdeal.nD Cert.NodeIdeal.τ).loc Cert.NodeIdeal.main_arg1)) (m ((c.tc : Thread Cert.NodeIdeal.nD Cert.NodeIdeal.τ).loc Cert.NodeIdeal.main_arg2)) (m ((c.tc : Thread Cert.NodeIdeal.nD Cert.NodeIdeal.τ).loc Cert.NodeIdeal.main_arg3)) (m ((c.tc : Thread Cert.NodeIdeal.nD Cert.NodeIdeal.τ).loc Cert.NodeIdeal.main_arg4)) (m ((c.tc : Thread Cert.NodeIdeal.nD Cert.NodeIdeal.τ).loc Cert.NodeIdeal.main_arg5)) (m ((c.tc : Thread Cert.NodeIdeal.nD Cert.NodeIdeal.τ).loc Cert.NodeIdeal.main_arg6)) (m ((c.tc : Thread Cert.NodeIdeal.nD Cert.NodeIdeal.τ).loc Cert.NodeIdeal.main_arg7)) (m ((c.tc : Thread Cert.NodeIdeal.nD Cert.NodeIdeal.τ).loc Cert.NodeIdeal.main_arg8)) (m ((c.tc : Thread Cert.NodeIdeal.nD Cert.NodeIdeal.τ).loc Cert.NodeIdeal.main_arg9))) = (fun _ => 1#1)

def Pre_NodeRefIdeal (m : (ℓ : Loc Cert.NodeRefIdeal.nD Cert.NodeRefIdeal.τ Cert.NodeRefIdeal.sig) → Buf (Elt Ideal) ℓ) : Prop :=
  True

def Pre_NodeRefIdeal_logits_ok [hPre_logits_ok : Cert.Pre_logits_ok.Facts] (m : (ℓ : Loc Cert.NodeRefIdeal.nD Cert.NodeRefIdeal.τ Cert.NodeRefIdeal.sig) → Buf (Elt Ideal) ℓ) : Prop :=
  ∀ c : Dev Cert.NodeRefIdeal.nD,
    (Cert.Pre_logits_ok.fn (F := Ideal) (m ((c.tc : Thread Cert.NodeRefIdeal.nD Cert.NodeRefIdeal.τ).loc Cert.NodeRefIdeal.main_arg0)) (m ((c.tc : Thread Cert.NodeRefIdeal.nD Cert.NodeRefIdeal.τ).loc Cert.NodeRefIdeal.main_arg1)) (m ((c.tc : Thread Cert.NodeRefIdeal.nD Cert.NodeRefIdeal.τ).loc Cert.NodeRefIdeal.main_arg2)) (m ((c.tc : Thread Cert.NodeRefIdeal.nD Cert.NodeRefIdeal.τ).loc Cert.NodeRefIdeal.main_arg3)) (m ((c.tc : Thread Cert.NodeRefIdeal.nD Cert.NodeRefIdeal.τ).loc Cert.NodeRefIdeal.main_arg4)) (m ((c.tc : Thread Cert.NodeRefIdeal.nD Cert.NodeRefIdeal.τ).loc Cert.NodeRefIdeal.main_arg5)) (m ((c.tc : Thread Cert.NodeRefIdeal.nD Cert.NodeRefIdeal.τ).loc Cert.NodeRefIdeal.main_arg6)) (m ((c.tc : Thread Cert.NodeRefIdeal.nD Cert.NodeRefIdeal.τ).loc Cert.NodeRefIdeal.main_arg7)) (m ((c.tc : Thread Cert.NodeRefIdeal.nD Cert.NodeRefIdeal.τ).loc Cert.NodeRefIdeal.main_arg8)) (m ((c.tc : Thread Cert.NodeRefIdeal.nD Cert.NodeRefIdeal.τ).loc Cert.NodeRefIdeal.main_arg9))) = (fun _ => 1#1)

def quiescent_Kernel [hKernel : Cert.Kernel.Facts] [hPre_counts_ok : Cert.Pre_counts_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_counts_ok : Cert.Pre_counts_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_counts_ok [hReferenceIdeal : Cert.ReferenceIdeal.Facts] [hPre_counts_ok : Cert.Pre_counts_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Norm [hNorm : Cert.Norm.Facts] [hPre_graphs_ok : Cert.Pre_graphs_ok.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (Cert.Norm.threads (F := Bits)) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] [hPre_graphs_ok : Cert.Pre_graphs_ok.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (Cert.NormIdeal.threads (F := Ideal)) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormRefIdeal_pre_graphs_ok [hNormRefIdeal : Cert.NormRefIdeal.Facts] [hPre_graphs_ok : Cert.Pre_graphs_ok.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_graphs_ok m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Epi [hEpi : Cert.Epi.Facts] : Prop :=
  ∀ (m : (ℓ : Loc Cert.Epi.nD Cert.Epi.τ Cert.Epi.sig) → Buf (Elt Bits) ℓ) (g : Dev Cert.Epi.nD → PrngReg), Pre_Epi m →
    θ_run (Cert.Epi.defs (F := Bits)) (onTc (τ := Cert.Epi.τ) (Cert.Epi.main (F := Bits))) ⟨m, fun _ => 0, g⟩ (fun r => (∀ c : Dev Cert.Epi.nD,
      r.2.mem ((c.tc : Thread Cert.Epi.nD Cert.Epi.τ).loc Cert.Epi.main_arg0) = m ((c.tc : Thread Cert.Epi.nD Cert.Epi.τ).loc Cert.Epi.main_arg0)
      ∧ r.2.mem ((c.tc : Thread Cert.Epi.nD Cert.Epi.τ).loc Cert.Epi.main_arg1) = m ((c.tc : Thread Cert.Epi.nD Cert.Epi.τ).loc Cert.Epi.main_arg1))
      ∧ r.2.sem = fun _ => 0)

def quiescent_EpiIdeal [hEpiIdeal : Cert.EpiIdeal.Facts] : Prop :=
  ∀ (m : (ℓ : Loc Cert.EpiIdeal.nD Cert.EpiIdeal.τ Cert.EpiIdeal.sig) → Buf (Elt Ideal) ℓ) (g : Dev Cert.EpiIdeal.nD → PrngReg), Pre_EpiIdeal m →
    θ_run (Cert.EpiIdeal.defs (F := Ideal)) (onTc (τ := Cert.EpiIdeal.τ) (Cert.EpiIdeal.main (F := Ideal))) ⟨m, fun _ => 0, g⟩ (fun r => (∀ c : Dev Cert.EpiIdeal.nD,
      r.2.mem ((c.tc : Thread Cert.EpiIdeal.nD Cert.EpiIdeal.τ).loc Cert.EpiIdeal.main_arg0) = m ((c.tc : Thread Cert.EpiIdeal.nD Cert.EpiIdeal.τ).loc Cert.EpiIdeal.main_arg0)
      ∧ r.2.mem ((c.tc : Thread Cert.EpiIdeal.nD Cert.EpiIdeal.τ).loc Cert.EpiIdeal.main_arg1) = m ((c.tc : Thread Cert.EpiIdeal.nD Cert.EpiIdeal.τ).loc Cert.EpiIdeal.main_arg1))
      ∧ r.2.sem = fun _ => 0)

def quiescent_EpiIdeal_pre_actions_ok [hEpiIdeal : Cert.EpiIdeal.Facts] [hPre_actions_ok : Cert.Pre_actions_ok.Facts] : Prop :=
  ∀ (m : (ℓ : Loc Cert.EpiIdeal.nD Cert.EpiIdeal.τ Cert.EpiIdeal.sig) → Buf (Elt Ideal) ℓ) (g : Dev Cert.EpiIdeal.nD → PrngReg), Pre_EpiIdeal_actions_ok m →
    θ_run (Cert.EpiIdeal.defs (F := Ideal)) (onTc (τ := Cert.EpiIdeal.τ) (Cert.EpiIdeal.main (F := Ideal))) ⟨m, fun _ => 0, g⟩ (fun r => (∀ c : Dev Cert.EpiIdeal.nD,
      r.2.mem ((c.tc : Thread Cert.EpiIdeal.nD Cert.EpiIdeal.τ).loc Cert.EpiIdeal.main_arg0) = m ((c.tc : Thread Cert.EpiIdeal.nD Cert.EpiIdeal.τ).loc Cert.EpiIdeal.main_arg0)
      ∧ r.2.mem ((c.tc : Thread Cert.EpiIdeal.nD Cert.EpiIdeal.τ).loc Cert.EpiIdeal.main_arg1) = m ((c.tc : Thread Cert.EpiIdeal.nD Cert.EpiIdeal.τ).loc Cert.EpiIdeal.main_arg1))
      ∧ r.2.sem = fun _ => 0)

def quiescent_EpiRefIdeal [hEpiRefIdeal : Cert.EpiRefIdeal.Facts] : Prop :=
  ∀ (m : (ℓ : Loc Cert.EpiRefIdeal.nD Cert.EpiRefIdeal.τ Cert.EpiRefIdeal.sig) → Buf (Elt Ideal) ℓ) (g : Dev Cert.EpiRefIdeal.nD → PrngReg), Pre_EpiRefIdeal m →
    θ_run (Cert.EpiRefIdeal.defs (F := Ideal)) (onTc (τ := Cert.EpiRefIdeal.τ) (Cert.EpiRefIdeal.main (F := Ideal))) ⟨m, fun _ => 0, g⟩ (fun r => (∀ c : Dev Cert.EpiRefIdeal.nD,
      r.2.mem ((c.tc : Thread Cert.EpiRefIdeal.nD Cert.EpiRefIdeal.τ).loc Cert.EpiRefIdeal.main_arg0) = m ((c.tc : Thread Cert.EpiRefIdeal.nD Cert.EpiRefIdeal.τ).loc Cert.EpiRefIdeal.main_arg0)
      ∧ r.2.mem ((c.tc : Thread Cert.EpiRefIdeal.nD Cert.EpiRefIdeal.τ).loc Cert.EpiRefIdeal.main_arg1) = m ((c.tc : Thread Cert.EpiRefIdeal.nD Cert.EpiRefIdeal.τ).loc Cert.EpiRefIdeal.main_arg1))
      ∧ r.2.sem = fun _ => 0)

def quiescent_EpiRefIdeal_pre_actions_ok [hEpiRefIdeal : Cert.EpiRefIdeal.Facts] [hPre_actions_ok : Cert.Pre_actions_ok.Facts] : Prop :=
  ∀ (m : (ℓ : Loc Cert.EpiRefIdeal.nD Cert.EpiRefIdeal.τ Cert.EpiRefIdeal.sig) → Buf (Elt Ideal) ℓ) (g : Dev Cert.EpiRefIdeal.nD → PrngReg), Pre_EpiRefIdeal_actions_ok m →
    θ_run (Cert.EpiRefIdeal.defs (F := Ideal)) (onTc (τ := Cert.EpiRefIdeal.τ) (Cert.EpiRefIdeal.main (F := Ideal))) ⟨m, fun _ => 0, g⟩ (fun r => (∀ c : Dev Cert.EpiRefIdeal.nD,
      r.2.mem ((c.tc : Thread Cert.EpiRefIdeal.nD Cert.EpiRefIdeal.τ).loc Cert.EpiRefIdeal.main_arg0) = m ((c.tc : Thread Cert.EpiRefIdeal.nD Cert.EpiRefIdeal.τ).loc Cert.EpiRefIdeal.main_arg0)
      ∧ r.2.mem ((c.tc : Thread Cert.EpiRefIdeal.nD Cert.EpiRefIdeal.τ).loc Cert.EpiRefIdeal.main_arg1) = m ((c.tc : Thread Cert.EpiRefIdeal.nD Cert.EpiRefIdeal.τ).loc Cert.EpiRefIdeal.main_arg1))
      ∧ r.2.sem = fun _ => 0)

def quiescent_Node [hNode : Cert.Node.Facts] : Prop :=
  ∀ (m : (ℓ : Loc Cert.Node.nD Cert.Node.τ Cert.Node.sig) → Buf (Elt Bits) ℓ) (g : Dev Cert.Node.nD → PrngReg), Pre_Node m →
    θ_run (Cert.Node.defs (F := Bits)) (onTc (τ := Cert.Node.τ) (Cert.Node.main (F := Bits))) ⟨m, fun _ => 0, g⟩ (fun r => (∀ c : Dev Cert.Node.nD,
      r.2.mem ((c.tc : Thread Cert.Node.nD Cert.Node.τ).loc Cert.Node.main_arg0) = m ((c.tc : Thread Cert.Node.nD Cert.Node.τ).loc Cert.Node.main_arg0)
      ∧ r.2.mem ((c.tc : Thread Cert.Node.nD Cert.Node.τ).loc Cert.Node.main_arg1) = m ((c.tc : Thread Cert.Node.nD Cert.Node.τ).loc Cert.Node.main_arg1)
      ∧ r.2.mem ((c.tc : Thread Cert.Node.nD Cert.Node.τ).loc Cert.Node.main_arg2) = m ((c.tc : Thread Cert.Node.nD Cert.Node.τ).loc Cert.Node.main_arg2)
      ∧ r.2.mem ((c.tc : Thread Cert.Node.nD Cert.Node.τ).loc Cert.Node.main_arg3) = m ((c.tc : Thread Cert.Node.nD Cert.Node.τ).loc Cert.Node.main_arg3)
      ∧ r.2.mem ((c.tc : Thread Cert.Node.nD Cert.Node.τ).loc Cert.Node.main_arg4) = m ((c.tc : Thread Cert.Node.nD Cert.Node.τ).loc Cert.Node.main_arg4)
      ∧ r.2.mem ((c.tc : Thread Cert.Node.nD Cert.Node.τ).loc Cert.Node.main_arg5) = m ((c.tc : Thread Cert.Node.nD Cert.Node.τ).loc Cert.Node.main_arg5)
      ∧ r.2.mem ((c.tc : Thread Cert.Node.nD Cert.Node.τ).loc Cert.Node.main_arg6) = m ((c.tc : Thread Cert.Node.nD Cert.Node.τ).loc Cert.Node.main_arg6)
      ∧ r.2.mem ((c.tc : Thread Cert.Node.nD Cert.Node.τ).loc Cert.Node.main_arg7) = m ((c.tc : Thread Cert.Node.nD Cert.Node.τ).loc Cert.Node.main_arg7)
      ∧ r.2.mem ((c.tc : Thread Cert.Node.nD Cert.Node.τ).loc Cert.Node.main_arg8) = m ((c.tc : Thread Cert.Node.nD Cert.Node.τ).loc Cert.Node.main_arg8)
      ∧ r.2.mem ((c.tc : Thread Cert.Node.nD Cert.Node.τ).loc Cert.Node.main_arg9) = m ((c.tc : Thread Cert.Node.nD Cert.Node.τ).loc Cert.Node.main_arg9))
      ∧ r.2.sem = fun _ => 0)

def quiescent_NodeIdeal [hNodeIdeal : Cert.NodeIdeal.Facts] : Prop :=
  ∀ (m : (ℓ : Loc Cert.NodeIdeal.nD Cert.NodeIdeal.τ Cert.NodeIdeal.sig) → Buf (Elt Ideal) ℓ) (g : Dev Cert.NodeIdeal.nD → PrngReg), Pre_NodeIdeal m →
    θ_run (Cert.NodeIdeal.defs (F := Ideal)) (onTc (τ := Cert.NodeIdeal.τ) (Cert.NodeIdeal.main (F := Ideal))) ⟨m, fun _ => 0, g⟩ (fun r => (∀ c : Dev Cert.NodeIdeal.nD,
      r.2.mem ((c.tc : Thread Cert.NodeIdeal.nD Cert.NodeIdeal.τ).loc Cert.NodeIdeal.main_arg0) = m ((c.tc : Thread Cert.NodeIdeal.nD Cert.NodeIdeal.τ).loc Cert.NodeIdeal.main_arg0)
      ∧ r.2.mem ((c.tc : Thread Cert.NodeIdeal.nD Cert.NodeIdeal.τ).loc Cert.NodeIdeal.main_arg1) = m ((c.tc : Thread Cert.NodeIdeal.nD Cert.NodeIdeal.τ).loc Cert.NodeIdeal.main_arg1)
      ∧ r.2.mem ((c.tc : Thread Cert.NodeIdeal.nD Cert.NodeIdeal.τ).loc Cert.NodeIdeal.main_arg2) = m ((c.tc : Thread Cert.NodeIdeal.nD Cert.NodeIdeal.τ).loc Cert.NodeIdeal.main_arg2)
      ∧ r.2.mem ((c.tc : Thread Cert.NodeIdeal.nD Cert.NodeIdeal.τ).loc Cert.NodeIdeal.main_arg3) = m ((c.tc : Thread Cert.NodeIdeal.nD Cert.NodeIdeal.τ).loc Cert.NodeIdeal.main_arg3)
      ∧ r.2.mem ((c.tc : Thread Cert.NodeIdeal.nD Cert.NodeIdeal.τ).loc Cert.NodeIdeal.main_arg4) = m ((c.tc : Thread Cert.NodeIdeal.nD Cert.NodeIdeal.τ).loc Cert.NodeIdeal.main_arg4)
      ∧ r.2.mem ((c.tc : Thread Cert.NodeIdeal.nD Cert.NodeIdeal.τ).loc Cert.NodeIdeal.main_arg5) = m ((c.tc : Thread Cert.NodeIdeal.nD Cert.NodeIdeal.τ).loc Cert.NodeIdeal.main_arg5)
      ∧ r.2.mem ((c.tc : Thread Cert.NodeIdeal.nD Cert.NodeIdeal.τ).loc Cert.NodeIdeal.main_arg6) = m ((c.tc : Thread Cert.NodeIdeal.nD Cert.NodeIdeal.τ).loc Cert.NodeIdeal.main_arg6)
      ∧ r.2.mem ((c.tc : Thread Cert.NodeIdeal.nD Cert.NodeIdeal.τ).loc Cert.NodeIdeal.main_arg7) = m ((c.tc : Thread Cert.NodeIdeal.nD Cert.NodeIdeal.τ).loc Cert.NodeIdeal.main_arg7)
      ∧ r.2.mem ((c.tc : Thread Cert.NodeIdeal.nD Cert.NodeIdeal.τ).loc Cert.NodeIdeal.main_arg8) = m ((c.tc : Thread Cert.NodeIdeal.nD Cert.NodeIdeal.τ).loc Cert.NodeIdeal.main_arg8)
      ∧ r.2.mem ((c.tc : Thread Cert.NodeIdeal.nD Cert.NodeIdeal.τ).loc Cert.NodeIdeal.main_arg9) = m ((c.tc : Thread Cert.NodeIdeal.nD Cert.NodeIdeal.τ).loc Cert.NodeIdeal.main_arg9))
      ∧ r.2.sem = fun _ => 0)

def quiescent_NodeIdeal_pre_logits_ok [hNodeIdeal : Cert.NodeIdeal.Facts] [hPre_logits_ok : Cert.Pre_logits_ok.Facts] : Prop :=
  ∀ (m : (ℓ : Loc Cert.NodeIdeal.nD Cert.NodeIdeal.τ Cert.NodeIdeal.sig) → Buf (Elt Ideal) ℓ) (g : Dev Cert.NodeIdeal.nD → PrngReg), Pre_NodeIdeal_logits_ok m →
    θ_run (Cert.NodeIdeal.defs (F := Ideal)) (onTc (τ := Cert.NodeIdeal.τ) (Cert.NodeIdeal.main (F := Ideal))) ⟨m, fun _ => 0, g⟩ (fun r => (∀ c : Dev Cert.NodeIdeal.nD,
      r.2.mem ((c.tc : Thread Cert.NodeIdeal.nD Cert.NodeIdeal.τ).loc Cert.NodeIdeal.main_arg0) = m ((c.tc : Thread Cert.NodeIdeal.nD Cert.NodeIdeal.τ).loc Cert.NodeIdeal.main_arg0)
      ∧ r.2.mem ((c.tc : Thread Cert.NodeIdeal.nD Cert.NodeIdeal.τ).loc Cert.NodeIdeal.main_arg1) = m ((c.tc : Thread Cert.NodeIdeal.nD Cert.NodeIdeal.τ).loc Cert.NodeIdeal.main_arg1)
      ∧ r.2.mem ((c.tc : Thread Cert.NodeIdeal.nD Cert.NodeIdeal.τ).loc Cert.NodeIdeal.main_arg2) = m ((c.tc : Thread Cert.NodeIdeal.nD Cert.NodeIdeal.τ).loc Cert.NodeIdeal.main_arg2)
      ∧ r.2.mem ((c.tc : Thread Cert.NodeIdeal.nD Cert.NodeIdeal.τ).loc Cert.NodeIdeal.main_arg3) = m ((c.tc : Thread Cert.NodeIdeal.nD Cert.NodeIdeal.τ).loc Cert.NodeIdeal.main_arg3)
      ∧ r.2.mem ((c.tc : Thread Cert.NodeIdeal.nD Cert.NodeIdeal.τ).loc Cert.NodeIdeal.main_arg4) = m ((c.tc : Thread Cert.NodeIdeal.nD Cert.NodeIdeal.τ).loc Cert.NodeIdeal.main_arg4)
      ∧ r.2.mem ((c.tc : Thread Cert.NodeIdeal.nD Cert.NodeIdeal.τ).loc Cert.NodeIdeal.main_arg5) = m ((c.tc : Thread Cert.NodeIdeal.nD Cert.NodeIdeal.τ).loc Cert.NodeIdeal.main_arg5)
      ∧ r.2.mem ((c.tc : Thread Cert.NodeIdeal.nD Cert.NodeIdeal.τ).loc Cert.NodeIdeal.main_arg6) = m ((c.tc : Thread Cert.NodeIdeal.nD Cert.NodeIdeal.τ).loc Cert.NodeIdeal.main_arg6)
      ∧ r.2.mem ((c.tc : Thread Cert.NodeIdeal.nD Cert.NodeIdeal.τ).loc Cert.NodeIdeal.main_arg7) = m ((c.tc : Thread Cert.NodeIdeal.nD Cert.NodeIdeal.τ).loc Cert.NodeIdeal.main_arg7)
      ∧ r.2.mem ((c.tc : Thread Cert.NodeIdeal.nD Cert.NodeIdeal.τ).loc Cert.NodeIdeal.main_arg8) = m ((c.tc : Thread Cert.NodeIdeal.nD Cert.NodeIdeal.τ).loc Cert.NodeIdeal.main_arg8)
      ∧ r.2.mem ((c.tc : Thread Cert.NodeIdeal.nD Cert.NodeIdeal.τ).loc Cert.NodeIdeal.main_arg9) = m ((c.tc : Thread Cert.NodeIdeal.nD Cert.NodeIdeal.τ).loc Cert.NodeIdeal.main_arg9))
      ∧ r.2.sem = fun _ => 0)

def quiescent_NodeRefIdeal [hNodeRefIdeal : Cert.NodeRefIdeal.Facts] : Prop :=
  ∀ (m : (ℓ : Loc Cert.NodeRefIdeal.nD Cert.NodeRefIdeal.τ Cert.NodeRefIdeal.sig) → Buf (Elt Ideal) ℓ) (g : Dev Cert.NodeRefIdeal.nD → PrngReg), Pre_NodeRefIdeal m →
    θ_run (Cert.NodeRefIdeal.defs (F := Ideal)) (onTc (τ := Cert.NodeRefIdeal.τ) (Cert.NodeRefIdeal.main (F := Ideal))) ⟨m, fun _ => 0, g⟩ (fun r => (∀ c : Dev Cert.NodeRefIdeal.nD,
      r.2.mem ((c.tc : Thread Cert.NodeRefIdeal.nD Cert.NodeRefIdeal.τ).loc Cert.NodeRefIdeal.main_arg0) = m ((c.tc : Thread Cert.NodeRefIdeal.nD Cert.NodeRefIdeal.τ).loc Cert.NodeRefIdeal.main_arg0)
      ∧ r.2.mem ((c.tc : Thread Cert.NodeRefIdeal.nD Cert.NodeRefIdeal.τ).loc Cert.NodeRefIdeal.main_arg1) = m ((c.tc : Thread Cert.NodeRefIdeal.nD Cert.NodeRefIdeal.τ).loc Cert.NodeRefIdeal.main_arg1)
      ∧ r.2.mem ((c.tc : Thread Cert.NodeRefIdeal.nD Cert.NodeRefIdeal.τ).loc Cert.NodeRefIdeal.main_arg2) = m ((c.tc : Thread Cert.NodeRefIdeal.nD Cert.NodeRefIdeal.τ).loc Cert.NodeRefIdeal.main_arg2)
      ∧ r.2.mem ((c.tc : Thread Cert.NodeRefIdeal.nD Cert.NodeRefIdeal.τ).loc Cert.NodeRefIdeal.main_arg3) = m ((c.tc : Thread Cert.NodeRefIdeal.nD Cert.NodeRefIdeal.τ).loc Cert.NodeRefIdeal.main_arg3)
      ∧ r.2.mem ((c.tc : Thread Cert.NodeRefIdeal.nD Cert.NodeRefIdeal.τ).loc Cert.NodeRefIdeal.main_arg4) = m ((c.tc : Thread Cert.NodeRefIdeal.nD Cert.NodeRefIdeal.τ).loc Cert.NodeRefIdeal.main_arg4)
      ∧ r.2.mem ((c.tc : Thread Cert.NodeRefIdeal.nD Cert.NodeRefIdeal.τ).loc Cert.NodeRefIdeal.main_arg5) = m ((c.tc : Thread Cert.NodeRefIdeal.nD Cert.NodeRefIdeal.τ).loc Cert.NodeRefIdeal.main_arg5)
      ∧ r.2.mem ((c.tc : Thread Cert.NodeRefIdeal.nD Cert.NodeRefIdeal.τ).loc Cert.NodeRefIdeal.main_arg6) = m ((c.tc : Thread Cert.NodeRefIdeal.nD Cert.NodeRefIdeal.τ).loc Cert.NodeRefIdeal.main_arg6)
      ∧ r.2.mem ((c.tc : Thread Cert.NodeRefIdeal.nD Cert.NodeRefIdeal.τ).loc Cert.NodeRefIdeal.main_arg7) = m ((c.tc : Thread Cert.NodeRefIdeal.nD Cert.NodeRefIdeal.τ).loc Cert.NodeRefIdeal.main_arg7)
      ∧ r.2.mem ((c.tc : Thread Cert.NodeRefIdeal.nD Cert.NodeRefIdeal.τ).loc Cert.NodeRefIdeal.main_arg8) = m ((c.tc : Thread Cert.NodeRefIdeal.nD Cert.NodeRefIdeal.τ).loc Cert.NodeRefIdeal.main_arg8)
      ∧ r.2.mem ((c.tc : Thread Cert.NodeRefIdeal.nD Cert.NodeRefIdeal.τ).loc Cert.NodeRefIdeal.main_arg9) = m ((c.tc : Thread Cert.NodeRefIdeal.nD Cert.NodeRefIdeal.τ).loc Cert.NodeRefIdeal.main_arg9))
      ∧ r.2.sem = fun _ => 0)

def quiescent_NodeRefIdeal_pre_logits_ok [hNodeRefIdeal : Cert.NodeRefIdeal.Facts] [hPre_logits_ok : Cert.Pre_logits_ok.Facts] : Prop :=
  ∀ (m : (ℓ : Loc Cert.NodeRefIdeal.nD Cert.NodeRefIdeal.τ Cert.NodeRefIdeal.sig) → Buf (Elt Ideal) ℓ) (g : Dev Cert.NodeRefIdeal.nD → PrngReg), Pre_NodeRefIdeal_logits_ok m →
    θ_run (Cert.NodeRefIdeal.defs (F := Ideal)) (onTc (τ := Cert.NodeRefIdeal.τ) (Cert.NodeRefIdeal.main (F := Ideal))) ⟨m, fun _ => 0, g⟩ (fun r => (∀ c : Dev Cert.NodeRefIdeal.nD,
      r.2.mem ((c.tc : Thread Cert.NodeRefIdeal.nD Cert.NodeRefIdeal.τ).loc Cert.NodeRefIdeal.main_arg0) = m ((c.tc : Thread Cert.NodeRefIdeal.nD Cert.NodeRefIdeal.τ).loc Cert.NodeRefIdeal.main_arg0)
      ∧ r.2.mem ((c.tc : Thread Cert.NodeRefIdeal.nD Cert.NodeRefIdeal.τ).loc Cert.NodeRefIdeal.main_arg1) = m ((c.tc : Thread Cert.NodeRefIdeal.nD Cert.NodeRefIdeal.τ).loc Cert.NodeRefIdeal.main_arg1)
      ∧ r.2.mem ((c.tc : Thread Cert.NodeRefIdeal.nD Cert.NodeRefIdeal.τ).loc Cert.NodeRefIdeal.main_arg2) = m ((c.tc : Thread Cert.NodeRefIdeal.nD Cert.NodeRefIdeal.τ).loc Cert.NodeRefIdeal.main_arg2)
      ∧ r.2.mem ((c.tc : Thread Cert.NodeRefIdeal.nD Cert.NodeRefIdeal.τ).loc Cert.NodeRefIdeal.main_arg3) = m ((c.tc : Thread Cert.NodeRefIdeal.nD Cert.NodeRefIdeal.τ).loc Cert.NodeRefIdeal.main_arg3)
      ∧ r.2.mem ((c.tc : Thread Cert.NodeRefIdeal.nD Cert.NodeRefIdeal.τ).loc Cert.NodeRefIdeal.main_arg4) = m ((c.tc : Thread Cert.NodeRefIdeal.nD Cert.NodeRefIdeal.τ).loc Cert.NodeRefIdeal.main_arg4)
      ∧ r.2.mem ((c.tc : Thread Cert.NodeRefIdeal.nD Cert.NodeRefIdeal.τ).loc Cert.NodeRefIdeal.main_arg5) = m ((c.tc : Thread Cert.NodeRefIdeal.nD Cert.NodeRefIdeal.τ).loc Cert.NodeRefIdeal.main_arg5)
      ∧ r.2.mem ((c.tc : Thread Cert.NodeRefIdeal.nD Cert.NodeRefIdeal.τ).loc Cert.NodeRefIdeal.main_arg6) = m ((c.tc : Thread Cert.NodeRefIdeal.nD Cert.NodeRefIdeal.τ).loc Cert.NodeRefIdeal.main_arg6)
      ∧ r.2.mem ((c.tc : Thread Cert.NodeRefIdeal.nD Cert.NodeRefIdeal.τ).loc Cert.NodeRefIdeal.main_arg7) = m ((c.tc : Thread Cert.NodeRefIdeal.nD Cert.NodeRefIdeal.τ).loc Cert.NodeRefIdeal.main_arg7)
      ∧ r.2.mem ((c.tc : Thread Cert.NodeRefIdeal.nD Cert.NodeRefIdeal.τ).loc Cert.NodeRefIdeal.main_arg8) = m ((c.tc : Thread Cert.NodeRefIdeal.nD Cert.NodeRefIdeal.τ).loc Cert.NodeRefIdeal.main_arg8)
      ∧ r.2.mem ((c.tc : Thread Cert.NodeRefIdeal.nD Cert.NodeRefIdeal.τ).loc Cert.NodeRefIdeal.main_arg9) = m ((c.tc : Thread Cert.NodeRefIdeal.nD Cert.NodeRefIdeal.τ).loc Cert.NodeRefIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_ok : Cert.Pre_counts_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Norm_NormIdeal : Prop :=
  True

def algebraic_NormIdeal_NormRefIdeal [hNormIdeal : Cert.NormIdeal.Facts] [hNormRefIdeal : Cert.NormRefIdeal.Facts] [hPre_graphs_ok : Cert.Pre_graphs_ok.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (Cert.NormIdeal.threads (F := Ideal)) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v10) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Epi_EpiIdeal : Prop :=
  True

def algebraic_EpiIdeal_EpiRefIdeal_pre_actions_ok [hEpiIdeal : Cert.EpiIdeal.Facts] [hEpiRefIdeal : Cert.EpiRefIdeal.Facts] [hPre_actions_ok : Cert.Pre_actions_ok.Facts] : Prop :=
  ∀ (m : (ℓ : Loc Cert.EpiIdeal.nD Cert.EpiIdeal.τ Cert.EpiIdeal.sig) → Buf (Elt Ideal) ℓ) (g : Dev Cert.EpiIdeal.nD → PrngReg)
    (m' : (ℓ : Loc Cert.EpiRefIdeal.nD Cert.EpiRefIdeal.τ Cert.EpiRefIdeal.sig) → Buf (Elt Ideal) ℓ) (g' : Dev Cert.EpiRefIdeal.nD → PrngReg), Pre_EpiIdeal_actions_ok m →
    (∀ c : Dev Cert.EpiIdeal.nD,
      m' ((c.tc : Thread Cert.EpiRefIdeal.nD Cert.EpiRefIdeal.τ).loc Cert.EpiRefIdeal.main_arg0) = m ((c.tc : Thread Cert.EpiIdeal.nD Cert.EpiIdeal.τ).loc Cert.EpiIdeal.main_arg0)
      ∧ m' ((c.tc : Thread Cert.EpiRefIdeal.nD Cert.EpiRefIdeal.τ).loc Cert.EpiRefIdeal.main_arg1) = m ((c.tc : Thread Cert.EpiIdeal.nD Cert.EpiIdeal.τ).loc Cert.EpiIdeal.main_arg1)) →
    ∃ (v0 : (c : Dev Cert.EpiIdeal.nD) → Buf (Elt Ideal) ((c.tc : Thread Cert.EpiIdeal.nD Cert.EpiIdeal.τ).loc Cert.EpiIdeal.main_v2_0)) (v1 : (c : Dev Cert.EpiIdeal.nD) → Buf (Elt Ideal) ((c.tc : Thread Cert.EpiIdeal.nD Cert.EpiIdeal.τ).loc Cert.EpiIdeal.main_v2_1)) (v2 : (c : Dev Cert.EpiIdeal.nD) → Buf (Elt Ideal) ((c.tc : Thread Cert.EpiIdeal.nD Cert.EpiIdeal.τ).loc Cert.EpiIdeal.main_v2_2)) (v3 : (c : Dev Cert.EpiIdeal.nD) → Buf (Elt Ideal) ((c.tc : Thread Cert.EpiIdeal.nD Cert.EpiIdeal.τ).loc Cert.EpiIdeal.main_v2_3)) (v4 : (c : Dev Cert.EpiIdeal.nD) → Buf (Elt Ideal) ((c.tc : Thread Cert.EpiIdeal.nD Cert.EpiIdeal.τ).loc Cert.EpiIdeal.main_v2_4)),
      θ_run (Cert.EpiIdeal.defs (F := Ideal)) (onTc (τ := Cert.EpiIdeal.τ) (Cert.EpiIdeal.main (F := Ideal))) ⟨m, fun _ => 0, g⟩ (fun r => ∀ c : Dev Cert.EpiIdeal.nD,
          r.2.mem ((c.tc : Thread Cert.EpiIdeal.nD Cert.EpiIdeal.τ).loc Cert.EpiIdeal.main_v2_0) = v0 c
          ∧ r.2.mem ((c.tc : Thread Cert.EpiIdeal.nD Cert.EpiIdeal.τ).loc Cert.EpiIdeal.main_v2_1) = v1 c
          ∧ r.2.mem ((c.tc : Thread Cert.EpiIdeal.nD Cert.EpiIdeal.τ).loc Cert.EpiIdeal.main_v2_2) = v2 c
          ∧ r.2.mem ((c.tc : Thread Cert.EpiIdeal.nD Cert.EpiIdeal.τ).loc Cert.EpiIdeal.main_v2_3) = v3 c
          ∧ r.2.mem ((c.tc : Thread Cert.EpiIdeal.nD Cert.EpiIdeal.τ).loc Cert.EpiIdeal.main_v2_4) = v4 c
          ∧ r.2.mem ((c.tc : Thread Cert.EpiIdeal.nD Cert.EpiIdeal.τ).loc Cert.EpiIdeal.main_arg0) = m ((c.tc : Thread Cert.EpiIdeal.nD Cert.EpiIdeal.τ).loc Cert.EpiIdeal.main_arg0)
          ∧ r.2.mem ((c.tc : Thread Cert.EpiIdeal.nD Cert.EpiIdeal.τ).loc Cert.EpiIdeal.main_arg1) = m ((c.tc : Thread Cert.EpiIdeal.nD Cert.EpiIdeal.τ).loc Cert.EpiIdeal.main_arg1))
      ∧ θ_run (Cert.EpiRefIdeal.defs (F := Ideal)) (onTc (τ := Cert.EpiRefIdeal.τ) (Cert.EpiRefIdeal.main (F := Ideal))) ⟨m', fun _ => 0, g'⟩ (fun r => ∀ c : Dev Cert.EpiRefIdeal.nD,
          r.2.mem ((c.tc : Thread Cert.EpiRefIdeal.nD Cert.EpiRefIdeal.τ).loc Cert.EpiRefIdeal.main_v15) = v0 c
          ∧ r.2.mem ((c.tc : Thread Cert.EpiRefIdeal.nD Cert.EpiRefIdeal.τ).loc Cert.EpiRefIdeal.main_v27) = v1 c
          ∧ r.2.mem ((c.tc : Thread Cert.EpiRefIdeal.nD Cert.EpiRefIdeal.τ).loc Cert.EpiRefIdeal.main_v28) = v2 c
          ∧ r.2.mem ((c.tc : Thread Cert.EpiRefIdeal.nD Cert.EpiRefIdeal.τ).loc Cert.EpiRefIdeal.main_v10) = v3 c
          ∧ r.2.mem ((c.tc : Thread Cert.EpiRefIdeal.nD Cert.EpiRefIdeal.τ).loc Cert.EpiRefIdeal.main_v22) = v4 c
          ∧ r.2.mem ((c.tc : Thread Cert.EpiRefIdeal.nD Cert.EpiRefIdeal.τ).loc Cert.EpiRefIdeal.main_arg0) = m' ((c.tc : Thread Cert.EpiRefIdeal.nD Cert.EpiRefIdeal.τ).loc Cert.EpiRefIdeal.main_arg0)
          ∧ r.2.mem ((c.tc : Thread Cert.EpiRefIdeal.nD Cert.EpiRefIdeal.τ).loc Cert.EpiRefIdeal.main_arg1) = m' ((c.tc : Thread Cert.EpiRefIdeal.nD Cert.EpiRefIdeal.τ).loc Cert.EpiRefIdeal.main_arg1))

def preserves_Node_NodeIdeal : Prop :=
  True

def algebraic_NodeIdeal_NodeRefIdeal_pre_logits_ok [hNodeIdeal : Cert.NodeIdeal.Facts] [hNodeRefIdeal : Cert.NodeRefIdeal.Facts] [hPre_logits_ok : Cert.Pre_logits_ok.Facts] : Prop :=
  ∀ (m : (ℓ : Loc Cert.NodeIdeal.nD Cert.NodeIdeal.τ Cert.NodeIdeal.sig) → Buf (Elt Ideal) ℓ) (g : Dev Cert.NodeIdeal.nD → PrngReg)
    (m' : (ℓ : Loc Cert.NodeRefIdeal.nD Cert.NodeRefIdeal.τ Cert.NodeRefIdeal.sig) → Buf (Elt Ideal) ℓ) (g' : Dev Cert.NodeRefIdeal.nD → PrngReg), Pre_NodeIdeal_logits_ok m →
    (∀ c : Dev Cert.NodeIdeal.nD,
      m' ((c.tc : Thread Cert.NodeRefIdeal.nD Cert.NodeRefIdeal.τ).loc Cert.NodeRefIdeal.main_arg0) = m ((c.tc : Thread Cert.NodeIdeal.nD Cert.NodeIdeal.τ).loc Cert.NodeIdeal.main_arg0)
      ∧ m' ((c.tc : Thread Cert.NodeRefIdeal.nD Cert.NodeRefIdeal.τ).loc Cert.NodeRefIdeal.main_arg1) = m ((c.tc : Thread Cert.NodeIdeal.nD Cert.NodeIdeal.τ).loc Cert.NodeIdeal.main_arg1)
      ∧ m' ((c.tc : Thread Cert.NodeRefIdeal.nD Cert.NodeRefIdeal.τ).loc Cert.NodeRefIdeal.main_arg2) = m ((c.tc : Thread Cert.NodeIdeal.nD Cert.NodeIdeal.τ).loc Cert.NodeIdeal.main_arg2)
      ∧ m' ((c.tc : Thread Cert.NodeRefIdeal.nD Cert.NodeRefIdeal.τ).loc Cert.NodeRefIdeal.main_arg3) = m ((c.tc : Thread Cert.NodeIdeal.nD Cert.NodeIdeal.τ).loc Cert.NodeIdeal.main_arg3)
      ∧ m' ((c.tc : Thread Cert.NodeRefIdeal.nD Cert.NodeRefIdeal.τ).loc Cert.NodeRefIdeal.main_arg4) = m ((c.tc : Thread Cert.NodeIdeal.nD Cert.NodeIdeal.τ).loc Cert.NodeIdeal.main_arg4)
      ∧ m' ((c.tc : Thread Cert.NodeRefIdeal.nD Cert.NodeRefIdeal.τ).loc Cert.NodeRefIdeal.main_arg5) = m ((c.tc : Thread Cert.NodeIdeal.nD Cert.NodeIdeal.τ).loc Cert.NodeIdeal.main_arg5)
      ∧ m' ((c.tc : Thread Cert.NodeRefIdeal.nD Cert.NodeRefIdeal.τ).loc Cert.NodeRefIdeal.main_arg6) = m ((c.tc : Thread Cert.NodeIdeal.nD Cert.NodeIdeal.τ).loc Cert.NodeIdeal.main_arg6)
      ∧ m' ((c.tc : Thread Cert.NodeRefIdeal.nD Cert.NodeRefIdeal.τ).loc Cert.NodeRefIdeal.main_arg7) = m ((c.tc : Thread Cert.NodeIdeal.nD Cert.NodeIdeal.τ).loc Cert.NodeIdeal.main_arg7)
      ∧ m' ((c.tc : Thread Cert.NodeRefIdeal.nD Cert.NodeRefIdeal.τ).loc Cert.NodeRefIdeal.main_arg8) = m ((c.tc : Thread Cert.NodeIdeal.nD Cert.NodeIdeal.τ).loc Cert.NodeIdeal.main_arg8)
      ∧ m' ((c.tc : Thread Cert.NodeRefIdeal.nD Cert.NodeRefIdeal.τ).loc Cert.NodeRefIdeal.main_arg9) = m ((c.tc : Thread Cert.NodeIdeal.nD Cert.NodeIdeal.τ).loc Cert.NodeIdeal.main_arg9)) →
    ∃ (v0 : (c : Dev Cert.NodeIdeal.nD) → Buf (Elt Ideal) ((c.tc : Thread Cert.NodeIdeal.nD Cert.NodeIdeal.τ).loc Cert.NodeIdeal.main_v5_0)) (v1 : (c : Dev Cert.NodeIdeal.nD) → Buf (Elt Ideal) ((c.tc : Thread Cert.NodeIdeal.nD Cert.NodeIdeal.τ).loc Cert.NodeIdeal.main_v5_1)),
      θ_run (Cert.NodeIdeal.defs (F := Ideal)) (onTc (τ := Cert.NodeIdeal.τ) (Cert.NodeIdeal.main (F := Ideal))) ⟨m, fun _ => 0, g⟩ (fun r => ∀ c : Dev Cert.NodeIdeal.nD,
          r.2.mem ((c.tc : Thread Cert.NodeIdeal.nD Cert.NodeIdeal.τ).loc Cert.NodeIdeal.main_v5_0) = v0 c
          ∧ r.2.mem ((c.tc : Thread Cert.NodeIdeal.nD Cert.NodeIdeal.τ).loc Cert.NodeIdeal.main_v5_1) = v1 c
          ∧ r.2.mem ((c.tc : Thread Cert.NodeIdeal.nD Cert.NodeIdeal.τ).loc Cert.NodeIdeal.main_arg0) = m ((c.tc : Thread Cert.NodeIdeal.nD Cert.NodeIdeal.τ).loc Cert.NodeIdeal.main_arg0)
          ∧ r.2.mem ((c.tc : Thread Cert.NodeIdeal.nD Cert.NodeIdeal.τ).loc Cert.NodeIdeal.main_arg1) = m ((c.tc : Thread Cert.NodeIdeal.nD Cert.NodeIdeal.τ).loc Cert.NodeIdeal.main_arg1)
          ∧ r.2.mem ((c.tc : Thread Cert.NodeIdeal.nD Cert.NodeIdeal.τ).loc Cert.NodeIdeal.main_arg2) = m ((c.tc : Thread Cert.NodeIdeal.nD Cert.NodeIdeal.τ).loc Cert.NodeIdeal.main_arg2)
          ∧ r.2.mem ((c.tc : Thread Cert.NodeIdeal.nD Cert.NodeIdeal.τ).loc Cert.NodeIdeal.main_arg3) = m ((c.tc : Thread Cert.NodeIdeal.nD Cert.NodeIdeal.τ).loc Cert.NodeIdeal.main_arg3)
          ∧ r.2.mem ((c.tc : Thread Cert.NodeIdeal.nD Cert.NodeIdeal.τ).loc Cert.NodeIdeal.main_arg4) = m ((c.tc : Thread Cert.NodeIdeal.nD Cert.NodeIdeal.τ).loc Cert.NodeIdeal.main_arg4)
          ∧ r.2.mem ((c.tc : Thread Cert.NodeIdeal.nD Cert.NodeIdeal.τ).loc Cert.NodeIdeal.main_arg5) = m ((c.tc : Thread Cert.NodeIdeal.nD Cert.NodeIdeal.τ).loc Cert.NodeIdeal.main_arg5)
          ∧ r.2.mem ((c.tc : Thread Cert.NodeIdeal.nD Cert.NodeIdeal.τ).loc Cert.NodeIdeal.main_arg6) = m ((c.tc : Thread Cert.NodeIdeal.nD Cert.NodeIdeal.τ).loc Cert.NodeIdeal.main_arg6)
          ∧ r.2.mem ((c.tc : Thread Cert.NodeIdeal.nD Cert.NodeIdeal.τ).loc Cert.NodeIdeal.main_arg7) = m ((c.tc : Thread Cert.NodeIdeal.nD Cert.NodeIdeal.τ).loc Cert.NodeIdeal.main_arg7)
          ∧ r.2.mem ((c.tc : Thread Cert.NodeIdeal.nD Cert.NodeIdeal.τ).loc Cert.NodeIdeal.main_arg8) = m ((c.tc : Thread Cert.NodeIdeal.nD Cert.NodeIdeal.τ).loc Cert.NodeIdeal.main_arg8)
          ∧ r.2.mem ((c.tc : Thread Cert.NodeIdeal.nD Cert.NodeIdeal.τ).loc Cert.NodeIdeal.main_arg9) = m ((c.tc : Thread Cert.NodeIdeal.nD Cert.NodeIdeal.τ).loc Cert.NodeIdeal.main_arg9))
      ∧ θ_run (Cert.NodeRefIdeal.defs (F := Ideal)) (onTc (τ := Cert.NodeRefIdeal.τ) (Cert.NodeRefIdeal.main (F := Ideal))) ⟨m', fun _ => 0, g'⟩ (fun r => ∀ c : Dev Cert.NodeRefIdeal.nD,
          r.2.mem ((c.tc : Thread Cert.NodeRefIdeal.nD Cert.NodeRefIdeal.τ).loc Cert.NodeRefIdeal.main_v34) = v0 c
          ∧ r.2.mem ((c.tc : Thread Cert.NodeRefIdeal.nD Cert.NodeRefIdeal.τ).loc Cert.NodeRefIdeal.main_v21) = v1 c
          ∧ r.2.mem ((c.tc : Thread Cert.NodeRefIdeal.nD Cert.NodeRefIdeal.τ).loc Cert.NodeRefIdeal.main_arg0) = m' ((c.tc : Thread Cert.NodeRefIdeal.nD Cert.NodeRefIdeal.τ).loc Cert.NodeRefIdeal.main_arg0)
          ∧ r.2.mem ((c.tc : Thread Cert.NodeRefIdeal.nD Cert.NodeRefIdeal.τ).loc Cert.NodeRefIdeal.main_arg1) = m' ((c.tc : Thread Cert.NodeRefIdeal.nD Cert.NodeRefIdeal.τ).loc Cert.NodeRefIdeal.main_arg1)
          ∧ r.2.mem ((c.tc : Thread Cert.NodeRefIdeal.nD Cert.NodeRefIdeal.τ).loc Cert.NodeRefIdeal.main_arg2) = m' ((c.tc : Thread Cert.NodeRefIdeal.nD Cert.NodeRefIdeal.τ).loc Cert.NodeRefIdeal.main_arg2)
          ∧ r.2.mem ((c.tc : Thread Cert.NodeRefIdeal.nD Cert.NodeRefIdeal.τ).loc Cert.NodeRefIdeal.main_arg3) = m' ((c.tc : Thread Cert.NodeRefIdeal.nD Cert.NodeRefIdeal.τ).loc Cert.NodeRefIdeal.main_arg3)
          ∧ r.2.mem ((c.tc : Thread Cert.NodeRefIdeal.nD Cert.NodeRefIdeal.τ).loc Cert.NodeRefIdeal.main_arg4) = m' ((c.tc : Thread Cert.NodeRefIdeal.nD Cert.NodeRefIdeal.τ).loc Cert.NodeRefIdeal.main_arg4)
          ∧ r.2.mem ((c.tc : Thread Cert.NodeRefIdeal.nD Cert.NodeRefIdeal.τ).loc Cert.NodeRefIdeal.main_arg5) = m' ((c.tc : Thread Cert.NodeRefIdeal.nD Cert.NodeRefIdeal.τ).loc Cert.NodeRefIdeal.main_arg5)
          ∧ r.2.mem ((c.tc : Thread Cert.NodeRefIdeal.nD Cert.NodeRefIdeal.τ).loc Cert.NodeRefIdeal.main_arg6) = m' ((c.tc : Thread Cert.NodeRefIdeal.nD Cert.NodeRefIdeal.τ).loc Cert.NodeRefIdeal.main_arg6)
          ∧ r.2.mem ((c.tc : Thread Cert.NodeRefIdeal.nD Cert.NodeRefIdeal.τ).loc Cert.NodeRefIdeal.main_arg7) = m' ((c.tc : Thread Cert.NodeRefIdeal.nD Cert.NodeRefIdeal.τ).loc Cert.NodeRefIdeal.main_arg7)
          ∧ r.2.mem ((c.tc : Thread Cert.NodeRefIdeal.nD Cert.NodeRefIdeal.τ).loc Cert.NodeRefIdeal.main_arg8) = m' ((c.tc : Thread Cert.NodeRefIdeal.nD Cert.NodeRefIdeal.τ).loc Cert.NodeRefIdeal.main_arg8)
          ∧ r.2.mem ((c.tc : Thread Cert.NodeRefIdeal.nD Cert.NodeRefIdeal.τ).loc Cert.NodeRefIdeal.main_arg9) = m' ((c.tc : Thread Cert.NodeRefIdeal.nD Cert.NodeRefIdeal.τ).loc Cert.NodeRefIdeal.main_arg9))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hEpi : Cert.Epi.Facts) (hEpiIdeal : Cert.EpiIdeal.Facts) (hEpiRefIdeal : Cert.EpiRefIdeal.Facts) (hNode : Cert.Node.Facts) (hNodeIdeal : Cert.NodeIdeal.Facts) (hNodeRefIdeal : Cert.NodeRefIdeal.Facts) (hPre_counts_ok : Cert.Pre_counts_ok.Facts) (hPre_graphs_ok : Cert.Pre_graphs_ok.Facts) (hPre_actions_ok : Cert.Pre_actions_ok.Facts) (hPre_logits_ok : Cert.Pre_logits_ok.Facts),
    quiescent_Kernel (hKernel := hKernel) (hPre_counts_ok := hPre_counts_ok)
    ∧ quiescent_KernelIdeal (hKernelIdeal := hKernelIdeal) (hPre_counts_ok := hPre_counts_ok)
    ∧ quiescent_ReferenceIdeal (hReferenceIdeal := hReferenceIdeal)
    ∧ quiescent_ReferenceIdeal_pre_counts_ok (hReferenceIdeal := hReferenceIdeal) (hPre_counts_ok := hPre_counts_ok)
    ∧ quiescent_Norm (hNorm := hNorm) (hPre_graphs_ok := hPre_graphs_ok)
    ∧ quiescent_NormIdeal (hNormIdeal := hNormIdeal) (hPre_graphs_ok := hPre_graphs_ok)
    ∧ quiescent_NormRefIdeal (hNormRefIdeal := hNormRefIdeal)
    ∧ quiescent_NormRefIdeal_pre_graphs_ok (hNormRefIdeal := hNormRefIdeal) (hPre_graphs_ok := hPre_graphs_ok)
    ∧ quiescent_Epi (hEpi := hEpi)
    ∧ quiescent_EpiIdeal (hEpiIdeal := hEpiIdeal)
    ∧ quiescent_EpiIdeal_pre_actions_ok (hEpiIdeal := hEpiIdeal) (hPre_actions_ok := hPre_actions_ok)
    ∧ quiescent_EpiRefIdeal (hEpiRefIdeal := hEpiRefIdeal)
    ∧ quiescent_EpiRefIdeal_pre_actions_ok (hEpiRefIdeal := hEpiRefIdeal) (hPre_actions_ok := hPre_actions_ok)
    ∧ quiescent_Node (hNode := hNode)
    ∧ quiescent_NodeIdeal (hNodeIdeal := hNodeIdeal)
    ∧ quiescent_NodeIdeal_pre_logits_ok (hNodeIdeal := hNodeIdeal) (hPre_logits_ok := hPre_logits_ok)
    ∧ quiescent_NodeRefIdeal (hNodeRefIdeal := hNodeRefIdeal)
    ∧ quiescent_NodeRefIdeal_pre_logits_ok (hNodeRefIdeal := hNodeRefIdeal) (hPre_logits_ok := hPre_logits_ok)
    ∧ preserves_Kernel_KernelIdeal
    ∧ algebraic_KernelIdeal_ReferenceIdeal (hKernelIdeal := hKernelIdeal) (hReferenceIdeal := hReferenceIdeal) (hPre_counts_ok := hPre_counts_ok)
    ∧ preserves_Norm_NormIdeal
    ∧ algebraic_NormIdeal_NormRefIdeal (hNormIdeal := hNormIdeal) (hNormRefIdeal := hNormRefIdeal) (hPre_graphs_ok := hPre_graphs_ok)
    ∧ preserves_Epi_EpiIdeal
    ∧ algebraic_EpiIdeal_EpiRefIdeal_pre_actions_ok (hEpiIdeal := hEpiIdeal) (hEpiRefIdeal := hEpiRefIdeal) (hPre_actions_ok := hPre_actions_ok)
    ∧ preserves_Node_NodeIdeal
    ∧ algebraic_NodeIdeal_NodeRefIdeal_pre_logits_ok (hNodeIdeal := hNodeIdeal) (hNodeRefIdeal := hNodeRefIdeal) (hPre_logits_ok := hPre_logits_ok)
-- ==== Pre_actions_ok.lean ====
abbrev S65536 : Shape := ⟨1, ![65536]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S65536 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 16#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_counts_ok.lean ====
abbrev S320000x128 : Shape := ⟨2, ![320000, 128]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S320000x128 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 320000#32
  let main_v2 : IVec S1024 32 := broadcastInDim S1024 ![] bcast_S_S1024 main_c_0
  let main_v3 : IVec S1024 1 := cmpi .sle main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S_ 32 := (fun x v => Host.reduce IntOp.addi x v reducesTo_S1024_S_d0 h_S_) main_arg1 main_c_2
  let main_c_3 : IVec S_ 32 := constantI S_ 32 320000#32
  let main_v7 : IVec S_ 1 := cmpi .eq main_v6 main_c_3
  let main_v8 : IVec S_ 1 := andi main_v5 main_v7
  main_v8
-- ==== Pre_graphs_ok.lean ====
abbrev S5120000 : Shape := ⟨1, ![5120000]⟩
abbrev S320000 : Shape := ⟨1, ![320000]⟩
abbrev S16384 : Shape := ⟨1, ![16384]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S5120000 .f32) (main_arg1 : IVec S320000 32) (main_arg2 : FVec F S16384 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 1024#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Pre_logits_ok.lean ====
abbrev S320000x128 : Shape := ⟨2, ![320000, 128]⟩
abbrev S128x1 : Shape := ⟨2, ![128, 1]⟩
abbrev S128x16 : Shape := ⟨2, ![128, 16]⟩
abbrev S16 : Shape := ⟨1, ![16]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S320000x128 .f32) (main_arg1 : FVec F S128x1 .f32) (main_arg2 : FVec F S128x16 .f32) (main_arg3 : FVec F S16 .f32) (main_arg4 : FVec F S128x16 .f32) (main_arg5 : FVec F S16 .f32) (main_arg6 : FVec F S128x16 .f32) (main_arg7 : FVec F S16 .f32) (main_arg8 : FVec F S128x16 .f32) (main_arg9 : FVec F S16 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S320000x128 : Shape := ⟨2, ![320000, 128]⟩
abbrev S1024 : Shape := ⟨1, ![1024]⟩
abbrev S65536 : Shape := ⟨1, ![65536]⟩
abbrev S512x128 : Shape := ⟨2, ![512, 128]⟩
abbrev S2048 : Shape := ⟨1, ![2048]⟩
abbrev S_ : Shape := ⟨0, ![]⟩
abbrev S16 : Shape := ⟨1, ![16]⟩
abbrev S1x16 : Shape := ⟨2, ![1, 16]⟩

abbrev nBuf : Table → Nat
  | .hbm => 3
  | .local .scVector .vmem => 3
  | _ => 0

abbrev bufTy : (tb : Table) → Fin (nBuf tb) → BufTy
  | .hbm, ⟨0, _⟩ => ⟨S320000x128, .f32⟩
  | .hbm, ⟨1, _⟩ => ⟨S1024, .i32⟩
  | .hbm, ⟨2, _⟩ => ⟨S65536, .f32⟩
  | .local .scVector .vmem, ⟨0, _⟩ => ⟨S512x128, .f32⟩
  | .local .scVector .vmem, ⟨1, _⟩ => ⟨S1024, .i32⟩
  | .local .scVector .vmem, ⟨2, _⟩ => ⟨S2048, .f32⟩
  | _, _ => ⟨S320000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 66 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | _ => false

abbrev sig : RefSig :=
  ofTables nBuf rfl bufTy 4 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v5 : BitVec 32 := Scalar.muli v1 c2_i32_0
  let v7 : BitVec 32 := Scalar.subi v5 c0_i32_1
  let c1_i32 : BitVec 32 := 1#32
  let v9 : BitVec 32 := Scalar.divsi v7 c1_i32
  let v10 : BitVec 32 := Scalar.muli v9 c1_i32
  let v11 : BitVec 32 := Scalar.addi c0_i32_1 v10
  let c1_i32_2 : BitVec 32 := 1#32
  ⟨c0_i32_1, v11, c1_i32_2⟩

def k0_chk1 (i : grid0.Coords) (k0_t1 : Fin (k0_t1_loop i).trips) (v1212 : IVec S16 32) : Prop :=
  (∀ a x, ((![v1212] : Fin 1 → IVec S16 32) a x).toNat < S1024.size a)
theorem k0_idx1_inb : ∀ (i : grid0.Coords) (k0_t1 : Fin (k0_t1_loop i).trips) (v1212 : IVec S16 32) (k0_hw1 : k0_chk1 i k0_t1 v1212), ∀ a x, ((![v1212] : Fin 1 → IVec S16 32) a x).toNat < S1024.size a := fun i k0_t1 v1212 k0_hw1 => k0_hw1
@[reducible] def k0_t2_loop (i : grid0.Coords) : Scf.Loop 32 :=
  let c0_i32_1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v5 : BitVec 32 := Scalar.muli v1 c2_i32_0
  let v7 : BitVec 32 := Scalar.subi v5 c0_i32_1
  let c1_i32 : BitVec 32 := 1#32
  let v9 : BitVec 32 := Scalar.divsi v7 c1_i32
  let v10 : BitVec 32 := Scalar.muli v9 c1_i32
  let v11 : BitVec 32 := Scalar.addi c0_i32_1 v10
  let v8 : BitVec 32 := Scalar.addi c0_i32_1 v7
  let c1_i32_3 : BitVec 32 := 1#32
  ⟨v11, v8, c1_i32_3⟩

def k0_chk2 (i : grid0.Coords) (k0_t2 : Fin (k0_t2_loop i).trips) (v1212 : IVec S16 32) : Prop :=
  (∀ a x, ((![v1212] : Fin 1 → IVec S16 32) a x).toNat < S1024.size a)
theorem k0_idx2_inb : ∀ (i : grid0.Coords) (k0_t2 : Fin (k0_t2_loop i).trips) (v1212 : IVec S16 32) (k0_hw2 : k0_chk2 i k0_t2 v1212), ∀ a x, ((![v1212] : Fin 1 → IVec S16 32) a x).toNat < S1024.size a := fun i k0_t2 v1212 k0_hw2 => k0_hw2

def k0_chk3 (v19 : IVec S16 32) : Prop :=
  (∀ a x, ((![v19] : Fin 1 → IVec S16 32) a x).toNat < S1024.size a)
theorem k0_idx3_inb : ∀ (v19 : IVec S16 32) (k0_hw3 : k0_chk3 v19), ∀ a x, ((![v19] : Fin 1 → IVec S16 32) a x).toNat < S1024.size a := fun v19 k0_hw3 => k0_hw3

def k0_chk4 (v23 : IVec S16 32) : Prop :=
  (∀ a x, ((![v23] : Fin 1 → IVec S16 32) a x).toNat < S1024.size a)
theorem k0_idx4_inb : ∀ (v23 : IVec S16 32) (k0_hw4 : k0_chk4 v23), ∀ a x, ((![v23] : Fin 1 → IVec S16 32) a x).toNat < S1024.size a := fun v23 k0_hw4 => k0_hw4
@[reducible] def k0_t3_loop (v31 : BitVec 32) : Scf.Loop 32 :=
  let c0_i32_15 : BitVec 32 := 0#32
  let c0_i32_8 : BitVec 32 := 0#32
  let v34 : BitVec 1 := Scalar.cmpi .sgt v31 c0_i32_8
  let v35 : BitVec 32 := Scalar.extui v34
  let c0_i32_9 : BitVec 32 := 0#32
  let v36 : BitVec 1 := Scalar.cmpi .slt v31 c0_i32_9
  let v37 : BitVec 32 := Scalar.extui v36
  let v38 : BitVec 32 := Scalar.subi v35 v37
  let c504_i32 : BitVec 32 := 504#32
  let c0_i32_10 : BitVec 32 := 0#32
  let v39 : BitVec 1 := Scalar.cmpi .sgt c504_i32 c0_i32_10
  let v40 : BitVec 32 := Scalar.extui v39
  let c0_i32_11 : BitVec 32 := 0#32
  let v41 : BitVec 1 := Scalar.cmpi .slt c504_i32 c0_i32_11
  let v42 : BitVec 32 := Scalar.extui v41
  let v43 : BitVec 32 := Scalar.subi v40 v42
  let v44 : BitVec 1 := Scalar.cmpi .ne v38 v43
  let v45 : BitVec 32 := Scalar.remsi v31 c504_i32
  let c0_i32_12 : BitVec 32 := 0#32
  let v46 : BitVec 1 := Scalar.cmpi .ne v45 c0_i32_12
  let v47 : BitVec 1 := Scalar.andi v44 v46
  let v33 : BitVec 32 := Scalar.divsi v31 c504_i32
  let c1_i32_13 : BitVec 32 := 1#32
  let v48 : BitVec 32 := Scalar.subi v33 c1_i32_13
  let v49 : BitVec 32 := Scalar.select v47 v48 v33
  let c1_i32_14 : BitVec 32 := 1#32
  let v50 : BitVec 32 := Scalar.addi v49 c1_i32_14
  let v51 : BitVec 32 := Scalar.subi v50 c0_i32_15
  let c1_i32_16 : BitVec 32 := 1#32
  let v53 : BitVec 32 := Scalar.divsi v51 c1_i32_16
  let v54 : BitVec 32 := Scalar.muli v53 c1_i32_16
  let v55 : BitVec 32 := Scalar.addi c0_i32_15 v54
  let c1_i32_17 : BitVec 32 := 1#32
  ⟨c0_i32_15, v55, c1_i32_17⟩

def k0_mult1 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off1 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r1 : BitVec 32 := 0#32
  ![v1213.toNat, 0]
@[reducible] def k0_t4_loop (v16 : BitVec 32) (v31 : BitVec 32) (arg13 : BitVec 32) : Scf.Loop 32 :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off2 (v16 : BitVec 32) (v31 : BitVec 32) (arg13 : BitVec 32) (k0_t4 : Fin (k0_t4_loop v16 v31 arg13).trips) : Fin 2 → Nat :=
  let c1_i32_473 : BitVec 32 := 1#32
  let arg14 : BitVec 32 := Scf.iv arg13 c1_i32_473 k0_t4
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off3 (v16 : BitVec 32) (v31 : BitVec 32) (arg13 : BitVec 32) (k0_t4 : Fin (k0_t4_loop v16 v31 arg13).trips) : Fin 2 → Nat :=
  let c1_i32_473 : BitVec 32 := 1#32
  let arg14 : BitVec 32 := Scf.iv arg13 c1_i32_473 k0_t4
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off4 (v16 : BitVec 32) (v31 : BitVec 32) (arg13 : BitVec 32) (k0_t4 : Fin (k0_t4_loop v16 v31 arg13).trips) : Fin 2 → Nat :=
  let c1_i32_473 : BitVec 32 := 1#32
  let arg14 : BitVec 32 := Scf.iv arg13 c1_i32_473 k0_t4
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off5 (v16 : BitVec 32) (v31 : BitVec 32) (arg13 : BitVec 32) (k0_t4 : Fin (k0_t4_loop v16 v31 arg13).trips) : Fin 2 → Nat :=
  let c1_i32_473 : BitVec 32 := 1#32
  let arg14 : BitVec 32 := Scf.iv arg13 c1_i32_473 k0_t4
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t5_loop (v16 : BitVec 32) (v31 : BitVec 32) (arg13 : BitVec 32) : Scf.Loop 32 :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off6 (v16 : BitVec 32) (v31 : BitVec 32) (arg13 : BitVec 32) (k0_t5 : Fin (k0_t5_loop v16 v31 arg13).trips) : Fin 2 → Nat :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t5
  let v1224 : BitVec 32 := Scalar.subi arg14 v1213
  let v1225 : Index := Scalar.indexCast v1224
  let c0_475 : Index := 0#32
  ![v1225.toNat, 0]
def k0_off7 (v16 : BitVec 32) (v31 : BitVec 32) (arg13 : BitVec 32) (k0_t5 : Fin (k0_t5_loop v16 v31 arg13).trips) : Fin 2 → Nat :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t5
  let v1224 : BitVec 32 := Scalar.subi arg14 v1213
  let v1228 : Index := Scalar.indexCast v1224
  let c16_476 : Index := 16#32
  ![v1228.toNat, 16]
def k0_off8 (v16 : BitVec 32) (v31 : BitVec 32) (arg13 : BitVec 32) (k0_t5 : Fin (k0_t5_loop v16 v31 arg13).trips) : Fin 2 → Nat :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t5
  let v1224 : BitVec 32 := Scalar.subi arg14 v1213
  let v1231 : Index := Scalar.indexCast v1224
  let c32_477 : Index := 32#32
  ![v1231.toNat, 32]
def k0_off9 (v16 : BitVec 32) (v31 : BitVec 32) (arg13 : BitVec 32) (k0_t5 : Fin (k0_t5_loop v16 v31 arg13).trips) : Fin 2 → Nat :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t5
  let v1224 : BitVec 32 := Scalar.subi arg14 v1213
  let v1234 : Index := Scalar.indexCast v1224
  let c48_478 : Index := 48#32
  ![v1234.toNat, 48]

def k0_chk6 (v16 : BitVec 32) (v31 : BitVec 32) (arg13 : BitVec 32) : Prop :=
  (8 ∣ (k0_mult1 arg13).toNat) ∧
  (∀ a, (k0_off1 arg13) a + S512x128.size a ≤ S320000x128.size a) ∧
  ((k0_t4_loop v16 v31 arg13).OK) ∧
  (∀ k0_t4 : Fin (k0_t4_loop v16 v31 arg13).trips, ∀ a, (k0_off2 v16 v31 arg13 k0_t4) a + S1x16.size a ≤ S512x128.size a) ∧
  (∀ k0_t4 : Fin (k0_t4_loop v16 v31 arg13).trips, ∀ a, (k0_off3 v16 v31 arg13 k0_t4) a + S1x16.size a ≤ S512x128.size a) ∧
  (∀ k0_t4 : Fin (k0_t4_loop v16 v31 arg13).trips, ∀ a, (k0_off4 v16 v31 arg13 k0_t4) a + S1x16.size a ≤ S512x128.size a) ∧
  (∀ k0_t4 : Fin (k0_t4_loop v16 v31 arg13).trips, ∀ a, (k0_off5 v16 v31 arg13 k0_t4) a + S1x16.size a ≤ S512x128.size a) ∧
  ((k0_t5_loop v16 v31 arg13).OK) ∧
  (∀ k0_t5 : Fin (k0_t5_loop v16 v31 arg13).trips, ∀ a, (k0_off6 v16 v31 arg13 k0_t5) a + S1x16.size a ≤ S512x128.size a) ∧
  (∀ k0_t5 : Fin (k0_t5_loop v16 v31 arg13).trips, ∀ a, (k0_off7 v16 v31 arg13 k0_t5) a + S1x16.size a ≤ S512x128.size a) ∧
  (∀ k0_t5 : Fin (k0_t5_loop v16 v31 arg13).trips, ∀ a, (k0_off8 v16 v31 arg13 k0_t5) a + S1x16.size a ≤ S512x128.size a) ∧
  (∀ k0_t5 : Fin (k0_t5_loop v16 v31 arg13).trips, ∀ a, (k0_off9 v16 v31 arg13 k0_t5) a + S1x16.size a ≤ S512x128.size a)
theorem k0_mult1_dvd : ∀ (v16 : BitVec 32) (v31 : BitVec 32) (arg13 : BitVec 32) (k0_hw6 : k0_chk6 v16 v31 arg13), 8 ∣ (k0_mult1 arg13).toNat := fun v16 v31 arg13 k0_hw6 => k0_hw6.1
theorem k0_off1_inb : ∀ (v16 : BitVec 32) (v31 : BitVec 32) (arg13 : BitVec 32) (k0_hw6 : k0_chk6 v16 v31 arg13), ∀ a, (k0_off1 arg13) a + S512x128.size a ≤ S320000x128.size a := fun v16 v31 arg13 k0_hw6 => k0_hw6.2.1
theorem k0_t4_ok : ∀ (v16 : BitVec 32) (v31 : BitVec 32) (arg13 : BitVec 32) (k0_hw6 : k0_chk6 v16 v31 arg13), (k0_t4_loop v16 v31 arg13).OK := fun v16 v31 arg13 k0_hw6 => k0_hw6.2.2.1
theorem k0_off2_inb : ∀ (v16 : BitVec 32) (v31 : BitVec 32) (arg13 : BitVec 32) (k0_hw6 : k0_chk6 v16 v31 arg13) (k0_t4 : Fin (k0_t4_loop v16 v31 arg13).trips), ∀ a, (k0_off2 v16 v31 arg13 k0_t4) a + S1x16.size a ≤ S512x128.size a := fun v16 v31 arg13 k0_hw6 k0_t4 => k0_hw6.2.2.2.1 k0_t4
theorem k0_off3_inb : ∀ (v16 : BitVec 32) (v31 : BitVec 32) (arg13 : BitVec 32) (k0_hw6 : k0_chk6 v16 v31 arg13) (k0_t4 : Fin (k0_t4_loop v16 v31 arg13).trips), ∀ a, (k0_off3 v16 v31 arg13 k0_t4) a + S1x16.size a ≤ S512x128.size a := fun v16 v31 arg13 k0_hw6 k0_t4 => k0_hw6.2.2.2.2.1 k0_t4
theorem k0_off4_inb : ∀ (v16 : BitVec 32) (v31 : BitVec 32) (arg13 : BitVec 32) (k0_hw6 : k0_chk6 v16 v31 arg13) (k0_t4 : Fin (k0_t4_loop v16 v31 arg13).trips), ∀ a, (k0_off4 v16 v31 arg13 k0_t4) a + S1x16.size a ≤ S512x128.size a := fun v16 v31 arg13 k0_hw6 k0_t4 => k0_hw6.2.2.2.2.2.1 k0_t4
theorem k0_off5_inb : ∀ (v16 : BitVec 32) (v31 : BitVec 32) (arg13 : BitVec 32) (k0_hw6 : k0_chk6 v16 v31 arg13) (k0_t4 : Fin (k0_t4_loop v16 v31 arg13).trips), ∀ a, (k0_off5 v16 v31 arg13 k0_t4) a + S1x16.size a ≤ S512x128.size a := fun v16 v31 arg13 k0_hw6 k0_t4 => k0_hw6.2.2.2.2.2.2.1 k0_t4
theorem k0_t5_ok : ∀ (v16 : BitVec 32) (v31 : BitVec 32) (arg13 : BitVec 32) (k0_hw6 : k0_chk6 v16 v31 arg13), (k0_t5_loop v16 v31 arg13).OK := fun v16 v31 arg13 k0_hw6 => k0_hw6.2.2.2.2.2.2.2.1
theorem k0_off6_inb : ∀ (v16 : BitVec 32) (v31 : BitVec 32) (arg13 : BitVec 32) (k0_hw6 : k0_chk6 v16 v31 arg13) (k0_t5 : Fin (k0_t5_loop v16 v31 arg13).trips), ∀ a, (k0_off6 v16 v31 arg13 k0_t5) a + S1x16.size a ≤ S512x128.size a := fun v16 v31 arg13 k0_hw6 k0_t5 => k0_hw6.2.2.2.2.2.2.2.2.1 k0_t5
theorem k0_off7_inb : ∀ (v16 : BitVec 32) (v31 : BitVec 32) (arg13 : BitVec 32) (k0_hw6 : k0_chk6 v16 v31 arg13) (k0_t5 : Fin (k0_t5_loop v16 v31 arg13).trips), ∀ a, (k0_off7 v16 v31 arg13 k0_t5) a + S1x16.size a ≤ S512x128.size a := fun v16 v31 arg13 k0_hw6 k0_t5 => k0_hw6.2.2.2.2.2.2.2.2.2.1 k0_t5
theorem k0_off8_inb : ∀ (v16 : BitVec 32) (v31 : BitVec 32) (arg13 : BitVec 32) (k0_hw6 : k0_chk6 v16 v31 arg13) (k0_t5 : Fin (k0_t5_loop v16 v31 arg13).trips), ∀ a, (k0_off8 v16 v31 arg13 k0_t5) a + S1x16.size a ≤ S512x128.size a := fun v16 v31 arg13 k0_hw6 k0_t5 => k0_hw6.2.2.2.2.2.2.2.2.2.2.1 k0_t5
theorem k0_off9_inb : ∀ (v16 : BitVec 32) (v31 : BitVec 32) (arg13 : BitVec 32) (k0_hw6 : k0_chk6 v16 v31 arg13) (k0_t5 : Fin (k0_t5_loop v16 v31 arg13).trips), ∀ a, (k0_off9 v16 v31 arg13 k0_t5) a + S1x16.size a ≤ S512x128.size a := fun v16 v31 arg13 k0_hw6 k0_t5 => k0_hw6.2.2.2.2.2.2.2.2.2.2.2 k0_t5

@[reducible] def k0_t6_loop (v31 : BitVec 32) : Scf.Loop 32 :=
  let c0_i32_15 : BitVec 32 := 0#32
  let c0_i32_8 : BitVec 32 := 0#32
  let v34 : BitVec 1 := Scalar.cmpi .sgt v31 c0_i32_8
  let v35 : BitVec 32 := Scalar.extui v34
  let c0_i32_9 : BitVec 32 := 0#32
  let v36 : BitVec 1 := Scalar.cmpi .slt v31 c0_i32_9
  let v37 : BitVec 32 := Scalar.extui v36
  let v38 : BitVec 32 := Scalar.subi v35 v37
  let c504_i32 : BitVec 32 := 504#32
  let c0_i32_10 : BitVec 32 := 0#32
  let v39 : BitVec 1 := Scalar.cmpi .sgt c504_i32 c0_i32_10
  let v40 : BitVec 32 := Scalar.extui v39
  let c0_i32_11 : BitVec 32 := 0#32
  let v41 : BitVec 1 := Scalar.cmpi .slt c504_i32 c0_i32_11
  let v42 : BitVec 32 := Scalar.extui v41
  let v43 : BitVec 32 := Scalar.subi v40 v42
  let v44 : BitVec 1 := Scalar.cmpi .ne v38 v43
  let v45 : BitVec 32 := Scalar.remsi v31 c504_i32
  let c0_i32_12 : BitVec 32 := 0#32
  let v46 : BitVec 1 := Scalar.cmpi .ne v45 c0_i32_12
  let v47 : BitVec 1 := Scalar.andi v44 v46
  let v33 : BitVec 32 := Scalar.divsi v31 c504_i32
  let c1_i32_13 : BitVec 32 := 1#32
  let v48 : BitVec 32 := Scalar.subi v33 c1_i32_13
  let v49 : BitVec 32 := Scalar.select v47 v48 v33
  let c1_i32_14 : BitVec 32 := 1#32
  let v50 : BitVec 32 := Scalar.addi v49 c1_i32_14
  let v51 : BitVec 32 := Scalar.subi v50 c0_i32_15
  let c1_i32_16 : BitVec 32 := 1#32
  let v53 : BitVec 32 := Scalar.divsi v51 c1_i32_16
  let v54 : BitVec 32 := Scalar.muli v53 c1_i32_16
  let v55 : BitVec 32 := Scalar.addi c0_i32_15 v54
  let v52 : BitVec 32 := Scalar.addi c0_i32_15 v51
  let c1_i32_18 : BitVec 32 := 1#32
  ⟨v55, v52, c1_i32_18⟩

def k0_chk5 (v31 : BitVec 32) : Prop :=
  ((k0_t3_loop v31).OK) ∧
  ((k0_t6_loop v31).OK)
theorem k0_t3_ok : ∀ (v31 : BitVec 32) (k0_hw5 : k0_chk5 v31), (k0_t3_loop v31).OK := fun v31 k0_hw5 => k0_hw5.1
theorem k0_t6_ok : ∀ (v31 : BitVec 32) (k0_hw5 : k0_chk5 v31), (k0_t6_loop v31).OK := fun v31 k0_hw5 => k0_hw5.2

def k0_mult2 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off10 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r2 : BitVec 32 := 0#32
  ![v1213.toNat, 0]
@[reducible] def k0_t7_loop (v16 : BitVec 32) (v31 : BitVec 32) (arg13 : BitVec 32) : Scf.Loop 32 :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off11 (v16 : BitVec 32) (v31 : BitVec 32) (arg13 : BitVec 32) (k0_t7 : Fin (k0_t7_loop v16 v31 arg13).trips) : Fin 2 → Nat :=
  let c1_i32_473 : BitVec 32 := 1#32
  let arg14 : BitVec 32 := Scf.iv arg13 c1_i32_473 k0_t7
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off12 (v16 : BitVec 32) (v31 : BitVec 32) (arg13 : BitVec 32) (k0_t7 : Fin (k0_t7_loop v16 v31 arg13).trips) : Fin 2 → Nat :=
  let c1_i32_473 : BitVec 32 := 1#32
  let arg14 : BitVec 32 := Scf.iv arg13 c1_i32_473 k0_t7
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off13 (v16 : BitVec 32) (v31 : BitVec 32) (arg13 : BitVec 32) (k0_t7 : Fin (k0_t7_loop v16 v31 arg13).trips) : Fin 2 → Nat :=
  let c1_i32_473 : BitVec 32 := 1#32
  let arg14 : BitVec 32 := Scf.iv arg13 c1_i32_473 k0_t7
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off14 (v16 : BitVec 32) (v31 : BitVec 32) (arg13 : BitVec 32) (k0_t7 : Fin (k0_t7_loop v16 v31 arg13).trips) : Fin 2 → Nat :=
  let c1_i32_473 : BitVec 32 := 1#32
  let arg14 : BitVec 32 := Scf.iv arg13 c1_i32_473 k0_t7
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t8_loop (v16 : BitVec 32) (v31 : BitVec 32) (arg13 : BitVec 32) : Scf.Loop 32 :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off15 (v16 : BitVec 32) (v31 : BitVec 32) (arg13 : BitVec 32) (k0_t8 : Fin (k0_t8_loop v16 v31 arg13).trips) : Fin 2 → Nat :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t8
  let v1224 : BitVec 32 := Scalar.subi arg14 v1213
  let v1225 : Index := Scalar.indexCast v1224
  let c0_475 : Index := 0#32
  ![v1225.toNat, 0]
def k0_off16 (v16 : BitVec 32) (v31 : BitVec 32) (arg13 : BitVec 32) (k0_t8 : Fin (k0_t8_loop v16 v31 arg13).trips) : Fin 2 → Nat :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t8
  let v1224 : BitVec 32 := Scalar.subi arg14 v1213
  let v1228 : Index := Scalar.indexCast v1224
  let c16_476 : Index := 16#32
  ![v1228.toNat, 16]
def k0_off17 (v16 : BitVec 32) (v31 : BitVec 32) (arg13 : BitVec 32) (k0_t8 : Fin (k0_t8_loop v16 v31 arg13).trips) : Fin 2 → Nat :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t8
  let v1224 : BitVec 32 := Scalar.subi arg14 v1213
  let v1231 : Index := Scalar.indexCast v1224
  let c32_477 : Index := 32#32
  ![v1231.toNat, 32]
def k0_off18 (v16 : BitVec 32) (v31 : BitVec 32) (arg13 : BitVec 32) (k0_t8 : Fin (k0_t8_loop v16 v31 arg13).trips) : Fin 2 → Nat :=
  let v32 : BitVec 32 := Scalar.addi v16 v31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v32 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t8
  let v1224 : BitVec 32 := Scalar.subi arg14 v1213
  let v1234 : Index := Scalar.indexCast v1224
  let c48_478 : Index := 48#32
  ![v1234.toNat, 48]

def k0_chk7 (v16 : BitVec 32) (v31 : BitVec 32) (arg13 : BitVec 32) : Prop :=
  (8 ∣ (k0_mult2 arg13).toNat) ∧
  (∀ a, (k0_off10 arg13) a + S512x128.size a ≤ S320000x128.size a) ∧
  ((k0_t7_loop v16 v31 arg13).OK) ∧
  (∀ k0_t7 : Fin (k0_t7_loop v16 v31 arg13).trips, ∀ a, (k0_off11 v16 v31 arg13 k0_t7) a + S1x16.size a ≤ S512x128.size a) ∧
  (∀ k0_t7 : Fin (k0_t7_loop v16 v31 arg13).trips, ∀ a, (k0_off12 v16 v31 arg13 k0_t7) a + S1x16.size a ≤ S512x128.size a) ∧
  (∀ k0_t7 : Fin (k0_t7_loop v16 v31 arg13).trips, ∀ a, (k0_off13 v16 v31 arg13 k0_t7) a + S1x16.size a ≤ S512x128.size a) ∧
  (∀ k0_t7 : Fin (k0_t7_loop v16 v31 arg13).trips, ∀ a, (k0_off14 v16 v31 arg13 k0_t7) a + S1x16.size a ≤ S512x128.size a) ∧
  ((k0_t8_loop v16 v31 arg13).OK) ∧
  (∀ k0_t8 : Fin (k0_t8_loop v16 v31 arg13).trips, ∀ a, (k0_off15 v16 v31 arg13 k0_t8) a + S1x16.size a ≤ S512x128.size a) ∧
  (∀ k0_t8 : Fin (k0_t8_loop v16 v31 arg13).trips, ∀ a, (k0_off16 v16 v31 arg13 k0_t8) a + S1x16.size a ≤ S512x128.size a) ∧
  (∀ k0_t8 : Fin (k0_t8_loop v16 v31 arg13).trips, ∀ a, (k0_off17 v16 v31 arg13 k0_t8) a + S1x16.size a ≤ S512x128.size a) ∧
  (∀ k0_t8 : Fin (k0_t8_loop v16 v31 arg13).trips, ∀ a, (k0_off18 v16 v31 arg13 k0_t8) a + S1x16.size a ≤ S512x128.size a)
theorem k0_mult2_dvd : ∀ (v16 : BitVec 32) (v31 : BitVec 32) (arg13 : BitVec 32) (k0_hw7 : k0_chk7 v16 v31 arg13), 8 ∣ (k0_mult2 arg13).toNat := fun v16 v31 arg13 k0_hw7 => k0_hw7.1
theorem k0_off10_inb : ∀ (v16 : BitVec 32) (v31 : BitVec 32) (arg13 : BitVec 32) (k0_hw7 : k0_chk7 v16 v31 arg13), ∀ a, (k0_off10 arg13) a + S512x128.size a ≤ S320000x128.size a := fun v16 v31 arg13 k0_hw7 => k0_hw7.2.1
theorem k0_t7_ok : ∀ (v16 : BitVec 32) (v31 : BitVec 32) (arg13 : BitVec 32) (k0_hw7 : k0_chk7 v16 v31 arg13), (k0_t7_loop v16 v31 arg13).OK := fun v16 v31 arg13 k0_hw7 => k0_hw7.2.2.1
theorem k0_off11_inb : ∀ (v16 : BitVec 32) (v31 : BitVec 32) (arg13 : BitVec 32) (k0_hw7 : k0_chk7 v16 v31 arg13) (k0_t7 : Fin (k0_t7_loop v16 v31 arg13).trips), ∀ a, (k0_off11 v16 v31 arg13 k0_t7) a + S1x16.size a ≤ S512x128.size a := fun v16 v31 arg13 k0_hw7 k0_t7 => k0_hw7.2.2.2.1 k0_t7
theorem k0_off12_inb : ∀ (v16 : BitVec 32) (v31 : BitVec 32) (arg13 : BitVec 32) (k0_hw7 : k0_chk7 v16 v31 arg13) (k0_t7 : Fin (k0_t7_loop v16 v31 arg13).trips), ∀ a, (k0_off12 v16 v31 arg13 k0_t7) a + S1x16.size a ≤ S512x128.size a := fun v16 v31 arg13 k0_hw7 k0_t7 => k0_hw7.2.2.2.2.1 k0_t7
theorem k0_off13_inb : ∀ (v16 : BitVec 32) (v31 : BitVec 32) (arg13 : BitVec 32) (k0_hw7 : k0_chk7 v16 v31 arg13) (k0_t7 : Fin (k0_t7_loop v16 v31 arg13).trips), ∀ a, (k0_off13 v16 v31 arg13 k0_t7) a + S1x16.size a ≤ S512x128.size a := fun v16 v31 arg13 k0_hw7 k0_t7 => k0_hw7.2.2.2.2.2.1 k0_t7
theorem k0_off14_inb : ∀ (v16 : BitVec 32) (v31 : BitVec 32) (arg13 : BitVec 32) (k0_hw7 : k0_chk7 v16 v31 arg13) (k0_t7 : Fin (k0_t7_loop v16 v31 arg13).trips), ∀ a, (k0_off14 v16 v31 arg13 k0_t7) a + S1x16.size a ≤ S512x128.size a := fun v16 v31 arg13 k0_hw7 k0_t7 => k0_hw7.2.2.2.2.2.2.1 k0_t7
theorem k0_t8_ok : ∀ (v16 : BitVec 32) (v31 : BitVec 32) (arg13 : BitVec 32) (k0_hw7 : k0_chk7 v16 v31 arg13), (k0_t8_loop v16 v31 arg13).OK := fun v16 v31 arg13 k0_hw7 => k0_hw7.2.2.2.2.2.2.2.1
theorem k0_off15_inb : ∀ (v16 : BitVec 32) (v31 : BitVec 32) (arg13 : BitVec 32) (k0_hw7 : k0_chk7 v16 v31 arg13) (k0_t8 : Fin (k0_t8_loop v16 v31 arg13).trips), ∀ a, (k0_off15 v16 v31 arg13 k0_t8) a + S1x16.size a ≤ S512x128.size a := fun v16 v31 arg13 k0_hw7 k0_t8 => k0_hw7.2.2.2.2.2.2.2.2.1 k0_t8
theorem k0_off16_inb : ∀ (v16 : BitVec 32) (v31 : BitVec 32) (arg13 : BitVec 32) (k0_hw7 : k0_chk7 v16 v31 arg13) (k0_t8 : Fin (k0_t8_loop v16 v31 arg13).trips), ∀ a, (k0_off16 v16 v31 arg13 k0_t8) a + S1x16.size a ≤ S512x128.size a := fun v16 v31 arg13 k0_hw7 k0_t8 => k0_hw7.2.2.2.2.2.2.2.2.2.1 k0_t8
theorem k0_off17_inb : ∀ (v16 : BitVec 32) (v31 : BitVec 32) (arg13 : BitVec 32) (k0_hw7 : k0_chk7 v16 v31 arg13) (k0_t8 : Fin (k0_t8_loop v16 v31 arg13).trips), ∀ a, (k0_off17 v16 v31 arg13 k0_t8) a + S1x16.size a ≤ S512x128.size a := fun v16 v31 arg13 k0_hw7 k0_t8 => k0_hw7.2.2.2.2.2.2.2.2.2.2.1 k0_t8
theorem k0_off18_inb : ∀ (v16 : BitVec 32) (v31 : BitVec 32) (arg13 : BitVec 32) (k0_hw7 : k0_chk7 v16 v31 arg13) (k0_t8 : Fin (k0_t8_loop v16 v31 arg13).trips), ∀ a, (k0_off18 v16 v31 arg13 k0_t8) a + S1x16.size a ≤ S512x128.size a := fun v16 v31 arg13 k0_hw7 k0_t8 => k0_hw7.2.2.2.2.2.2.2.2.2.2.2 k0_t8

@[reducible] def k0_t9_loop (v68 : BitVec 32) : Scf.Loop 32 :=
  let c0_i32_30 : BitVec 32 := 0#32
  let c0_i32_23 : BitVec 32 := 0#32
  let v71 : BitVec 1 := Scalar.cmpi .sgt v68 c0_i32_23
  let v72 : BitVec 32 := Scalar.extui v71
  let c0_i32_24 : BitVec 32 := 0#32
  let v73 : BitVec 1 := Scalar.cmpi .slt v68 c0_i32_24
  let v74 : BitVec 32 := Scalar.extui v73
  let v75 : BitVec 32 := Scalar.subi v72 v74
  let c504_i32_22 : BitVec 32 := 504#32
  let c0_i32_25 : BitVec 32 := 0#32
  let v76 : BitVec 1 := Scalar.cmpi .sgt c504_i32_22 c0_i32_25
  let v77 : BitVec 32 := Scalar.extui v76
  let c0_i32_26 : BitVec 32 := 0#32
  let v78 : BitVec 1 := Scalar.cmpi .slt c504_i32_22 c0_i32_26
  let v79 : BitVec 32 := Scalar.extui v78
  let v80 : BitVec 32 := Scalar.subi v77 v79
  let v81 : BitVec 1 := Scalar.cmpi .ne v75 v80
  let v82 : BitVec 32 := Scalar.remsi v68 c504_i32_22
  let c0_i32_27 : BitVec 32 := 0#32
  let v83 : BitVec 1 := Scalar.cmpi .ne v82 c0_i32_27
  let v84 : BitVec 1 := Scalar.andi v81 v83
  let v70 : BitVec 32 := Scalar.divsi v68 c504_i32_22
  let c1_i32_28 : BitVec 32 := 1#32
  let v85 : BitVec 32 := Scalar.subi v70 c1_i32_28
  let v86 : BitVec 32 := Scalar.select v84 v85 v70
  let c1_i32_29 : BitVec 32 := 1#32
  let v87 : BitVec 32 := Scalar.addi v86 c1_i32_29
  let v88 : BitVec 32 := Scalar.subi v87 c0_i32_30
  let c1_i32_31 : BitVec 32 := 1#32
  let v90 : BitVec 32 := Scalar.divsi v88 c1_i32_31
  let v91 : BitVec 32 := Scalar.muli v90 c1_i32_31
  let v92 : BitVec 32 := Scalar.addi c0_i32_30 v91
  let c1_i32_32 : BitVec 32 := 1#32
  ⟨c0_i32_30, v92, c1_i32_32⟩

def k0_mult3 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off19 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r3 : BitVec 32 := 0#32
  ![v1213.toNat, 0]
@[reducible] def k0_t10_loop (v16 : BitVec 32) (v31 : BitVec 32) (v68 : BitVec 32) (arg13 : BitVec 32) : Scf.Loop 32 :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off20 (v16 : BitVec 32) (v31 : BitVec 32) (v68 : BitVec 32) (arg13 : BitVec 32) (k0_t10 : Fin (k0_t10_loop v16 v31 v68 arg13).trips) : Fin 2 → Nat :=
  let c1_i32_473 : BitVec 32 := 1#32
  let arg14 : BitVec 32 := Scf.iv arg13 c1_i32_473 k0_t10
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off21 (v16 : BitVec 32) (v31 : BitVec 32) (v68 : BitVec 32) (arg13 : BitVec 32) (k0_t10 : Fin (k0_t10_loop v16 v31 v68 arg13).trips) : Fin 2 → Nat :=
  let c1_i32_473 : BitVec 32 := 1#32
  let arg14 : BitVec 32 := Scf.iv arg13 c1_i32_473 k0_t10
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off22 (v16 : BitVec 32) (v31 : BitVec 32) (v68 : BitVec 32) (arg13 : BitVec 32) (k0_t10 : Fin (k0_t10_loop v16 v31 v68 arg13).trips) : Fin 2 → Nat :=
  let c1_i32_473 : BitVec 32 := 1#32
  let arg14 : BitVec 32 := Scf.iv arg13 c1_i32_473 k0_t10
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off23 (v16 : BitVec 32) (v31 : BitVec 32) (v68 : BitVec 32) (arg13 : BitVec 32) (k0_t10 : Fin (k0_t10_loop v16 v31 v68 arg13).trips) : Fin 2 → Nat :=
  let c1_i32_473 : BitVec 32 := 1#32
  let arg14 : BitVec 32 := Scf.iv arg13 c1_i32_473 k0_t10
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t11_loop (v16 : BitVec 32) (v31 : BitVec 32) (v68 : BitVec 32) (arg13 : BitVec 32) : Scf.Loop 32 :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off24 (v16 : BitVec 32) (v31 : BitVec 32) (v68 : BitVec 32) (arg13 : BitVec 32) (k0_t11 : Fin (k0_t11_loop v16 v31 v68 arg13).trips) : Fin 2 → Nat :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t11
  let v1224 : BitVec 32 := Scalar.subi arg14 v1213
  let v1225 : Index := Scalar.indexCast v1224
  let c0_475 : Index := 0#32
  ![v1225.toNat, 0]
def k0_off25 (v16 : BitVec 32) (v31 : BitVec 32) (v68 : BitVec 32) (arg13 : BitVec 32) (k0_t11 : Fin (k0_t11_loop v16 v31 v68 arg13).trips) : Fin 2 → Nat :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t11
  let v1224 : BitVec 32 := Scalar.subi arg14 v1213
  let v1228 : Index := Scalar.indexCast v1224
  let c16_476 : Index := 16#32
  ![v1228.toNat, 16]
def k0_off26 (v16 : BitVec 32) (v31 : BitVec 32) (v68 : BitVec 32) (arg13 : BitVec 32) (k0_t11 : Fin (k0_t11_loop v16 v31 v68 arg13).trips) : Fin 2 → Nat :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t11
  let v1224 : BitVec 32 := Scalar.subi arg14 v1213
  let v1231 : Index := Scalar.indexCast v1224
  let c32_477 : Index := 32#32
  ![v1231.toNat, 32]
def k0_off27 (v16 : BitVec 32) (v31 : BitVec 32) (v68 : BitVec 32) (arg13 : BitVec 32) (k0_t11 : Fin (k0_t11_loop v16 v31 v68 arg13).trips) : Fin 2 → Nat :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t11
  let v1224 : BitVec 32 := Scalar.subi arg14 v1213
  let v1234 : Index := Scalar.indexCast v1224
  let c48_478 : Index := 48#32
  ![v1234.toNat, 48]

def k0_chk9 (v16 : BitVec 32) (v31 : BitVec 32) (v68 : BitVec 32) (arg13 : BitVec 32) : Prop :=
  (8 ∣ (k0_mult3 arg13).toNat) ∧
  (∀ a, (k0_off19 arg13) a + S512x128.size a ≤ S320000x128.size a) ∧
  ((k0_t10_loop v16 v31 v68 arg13).OK) ∧
  (∀ k0_t10 : Fin (k0_t10_loop v16 v31 v68 arg13).trips, ∀ a, (k0_off20 v16 v31 v68 arg13 k0_t10) a + S1x16.size a ≤ S512x128.size a) ∧
  (∀ k0_t10 : Fin (k0_t10_loop v16 v31 v68 arg13).trips, ∀ a, (k0_off21 v16 v31 v68 arg13 k0_t10) a + S1x16.size a ≤ S512x128.size a) ∧
  (∀ k0_t10 : Fin (k0_t10_loop v16 v31 v68 arg13).trips, ∀ a, (k0_off22 v16 v31 v68 arg13 k0_t10) a + S1x16.size a ≤ S512x128.size a) ∧
  (∀ k0_t10 : Fin (k0_t10_loop v16 v31 v68 arg13).trips, ∀ a, (k0_off23 v16 v31 v68 arg13 k0_t10) a + S1x16.size a ≤ S512x128.size a) ∧
  ((k0_t11_loop v16 v31 v68 arg13).OK) ∧
  (∀ k0_t11 : Fin (k0_t11_loop v16 v31 v68 arg13).trips, ∀ a, (k0_off24 v16 v31 v68 arg13 k0_t11) a + S1x16.size a ≤ S512x128.size a) ∧
  (∀ k0_t11 : Fin (k0_t11_loop v16 v31 v68 arg13).trips, ∀ a, (k0_off25 v16 v31 v68 arg13 k0_t11) a + S1x16.size a ≤ S512x128.size a) ∧
  (∀ k0_t11 : Fin (k0_t11_loop v16 v31 v68 arg13).trips, ∀ a, (k0_off26 v16 v31 v68 arg13 k0_t11) a + S1x16.size a ≤ S512x128.size a) ∧
  (∀ k0_t11 : Fin (k0_t11_loop v16 v31 v68 arg13).trips, ∀ a, (k0_off27 v16 v31 v68 arg13 k0_t11) a + S1x16.size a ≤ S512x128.size a)
theorem k0_mult3_dvd : ∀ (v16 : BitVec 32) (v31 : BitVec 32) (v68 : BitVec 32) (arg13 : BitVec 32) (k0_hw9 : k0_chk9 v16 v31 v68 arg13), 8 ∣ (k0_mult3 arg13).toNat := fun v16 v31 v68 arg13 k0_hw9 => k0_hw9.1
theorem k0_off19_inb : ∀ (v16 : BitVec 32) (v31 : BitVec 32) (v68 : BitVec 32) (arg13 : BitVec 32) (k0_hw9 : k0_chk9 v16 v31 v68 arg13), ∀ a, (k0_off19 arg13) a + S512x128.size a ≤ S320000x128.size a := fun v16 v31 v68 arg13 k0_hw9 => k0_hw9.2.1
theorem k0_t10_ok : ∀ (v16 : BitVec 32) (v31 : BitVec 32) (v68 : BitVec 32) (arg13 : BitVec 32) (k0_hw9 : k0_chk9 v16 v31 v68 arg13), (k0_t10_loop v16 v31 v68 arg13).OK := fun v16 v31 v68 arg13 k0_hw9 => k0_hw9.2.2.1
theorem k0_off20_inb : ∀ (v16 : BitVec 32) (v31 : BitVec 32) (v68 : BitVec 32) (arg13 : BitVec 32) (k0_hw9 : k0_chk9 v16 v31 v68 arg13) (k0_t10 : Fin (k0_t10_loop v16 v31 v68 arg13).trips), ∀ a, (k0_off20 v16 v31 v68 arg13 k0_t10) a + S1x16.size a ≤ S512x128.size a := fun v16 v31 v68 arg13 k0_hw9 k0_t10 => k0_hw9.2.2.2.1 k0_t10
theorem k0_off21_inb : ∀ (v16 : BitVec 32) (v31 : BitVec 32) (v68 : BitVec 32) (arg13 : BitVec 32) (k0_hw9 : k0_chk9 v16 v31 v68 arg13) (k0_t10 : Fin (k0_t10_loop v16 v31 v68 arg13).trips), ∀ a, (k0_off21 v16 v31 v68 arg13 k0_t10) a + S1x16.size a ≤ S512x128.size a := fun v16 v31 v68 arg13 k0_hw9 k0_t10 => k0_hw9.2.2.2.2.1 k0_t10
theorem k0_off22_inb : ∀ (v16 : BitVec 32) (v31 : BitVec 32) (v68 : BitVec 32) (arg13 : BitVec 32) (k0_hw9 : k0_chk9 v16 v31 v68 arg13) (k0_t10 : Fin (k0_t10_loop v16 v31 v68 arg13).trips), ∀ a, (k0_off22 v16 v31 v68 arg13 k0_t10) a + S1x16.size a ≤ S512x128.size a := fun v16 v31 v68 arg13 k0_hw9 k0_t10 => k0_hw9.2.2.2.2.2.1 k0_t10
theorem k0_off23_inb : ∀ (v16 : BitVec 32) (v31 : BitVec 32) (v68 : BitVec 32) (arg13 : BitVec 32) (k0_hw9 : k0_chk9 v16 v31 v68 arg13) (k0_t10 : Fin (k0_t10_loop v16 v31 v68 arg13).trips), ∀ a, (k0_off23 v16 v31 v68 arg13 k0_t10) a + S1x16.size a ≤ S512x128.size a := fun v16 v31 v68 arg13 k0_hw9 k0_t10 => k0_hw9.2.2.2.2.2.2.1 k0_t10
theorem k0_t11_ok : ∀ (v16 : BitVec 32) (v31 : BitVec 32) (v68 : BitVec 32) (arg13 : BitVec 32) (k0_hw9 : k0_chk9 v16 v31 v68 arg13), (k0_t11_loop v16 v31 v68 arg13).OK := fun v16 v31 v68 arg13 k0_hw9 => k0_hw9.2.2.2.2.2.2.2.1
theorem k0_off24_inb : ∀ (v16 : BitVec 32) (v31 : BitVec 32) (v68 : BitVec 32) (arg13 : BitVec 32) (k0_hw9 : k0_chk9 v16 v31 v68 arg13) (k0_t11 : Fin (k0_t11_loop v16 v31 v68 arg13).trips), ∀ a, (k0_off24 v16 v31 v68 arg13 k0_t11) a + S1x16.size a ≤ S512x128.size a := fun v16 v31 v68 arg13 k0_hw9 k0_t11 => k0_hw9.2.2.2.2.2.2.2.2.1 k0_t11
theorem k0_off25_inb : ∀ (v16 : BitVec 32) (v31 : BitVec 32) (v68 : BitVec 32) (arg13 : BitVec 32) (k0_hw9 : k0_chk9 v16 v31 v68 arg13) (k0_t11 : Fin (k0_t11_loop v16 v31 v68 arg13).trips), ∀ a, (k0_off25 v16 v31 v68 arg13 k0_t11) a + S1x16.size a ≤ S512x128.size a := fun v16 v31 v68 arg13 k0_hw9 k0_t11 => k0_hw9.2.2.2.2.2.2.2.2.2.1 k0_t11
theorem k0_off26_inb : ∀ (v16 : BitVec 32) (v31 : BitVec 32) (v68 : BitVec 32) (arg13 : BitVec 32) (k0_hw9 : k0_chk9 v16 v31 v68 arg13) (k0_t11 : Fin (k0_t11_loop v16 v31 v68 arg13).trips), ∀ a, (k0_off26 v16 v31 v68 arg13 k0_t11) a + S1x16.size a ≤ S512x128.size a := fun v16 v31 v68 arg13 k0_hw9 k0_t11 => k0_hw9.2.2.2.2.2.2.2.2.2.2.1 k0_t11
theorem k0_off27_inb : ∀ (v16 : BitVec 32) (v31 : BitVec 32) (v68 : BitVec 32) (arg13 : BitVec 32) (k0_hw9 : k0_chk9 v16 v31 v68 arg13) (k0_t11 : Fin (k0_t11_loop v16 v31 v68 arg13).trips), ∀ a, (k0_off27 v16 v31 v68 arg13 k0_t11) a + S1x16.size a ≤ S512x128.size a := fun v16 v31 v68 arg13 k0_hw9 k0_t11 => k0_hw9.2.2.2.2.2.2.2.2.2.2.2 k0_t11

@[reducible] def k0_t12_loop (v68 : BitVec 32) : Scf.Loop 32 :=
  let c0_i32_30 : BitVec 32 := 0#32
  let c0_i32_23 : BitVec 32 := 0#32
  let v71 : BitVec 1 := Scalar.cmpi .sgt v68 c0_i32_23
  let v72 : BitVec 32 := Scalar.extui v71
  let c0_i32_24 : BitVec 32 := 0#32
  let v73 : BitVec 1 := Scalar.cmpi .slt v68 c0_i32_24
  let v74 : BitVec 32 := Scalar.extui v73
  let v75 : BitVec 32 := Scalar.subi v72 v74
  let c504_i32_22 : BitVec 32 := 504#32
  let c0_i32_25 : BitVec 32 := 0#32
  let v76 : BitVec 1 := Scalar.cmpi .sgt c504_i32_22 c0_i32_25
  let v77 : BitVec 32 := Scalar.extui v76
  let c0_i32_26 : BitVec 32 := 0#32
  let v78 : BitVec 1 := Scalar.cmpi .slt c504_i32_22 c0_i32_26
  let v79 : BitVec 32 := Scalar.extui v78
  let v80 : BitVec 32 := Scalar.subi v77 v79
  let v81 : BitVec 1 := Scalar.cmpi .ne v75 v80
  let v82 : BitVec 32 := Scalar.remsi v68 c504_i32_22
  let c0_i32_27 : BitVec 32 := 0#32
  let v83 : BitVec 1 := Scalar.cmpi .ne v82 c0_i32_27
  let v84 : BitVec 1 := Scalar.andi v81 v83
  let v70 : BitVec 32 := Scalar.divsi v68 c504_i32_22
  let c1_i32_28 : BitVec 32 := 1#32
  let v85 : BitVec 32 := Scalar.subi v70 c1_i32_28
  let v86 : BitVec 32 := Scalar.select v84 v85 v70
  let c1_i32_29 : BitVec 32 := 1#32
  let v87 : BitVec 32 := Scalar.addi v86 c1_i32_29
  let v88 : BitVec 32 := Scalar.subi v87 c0_i32_30
  let c1_i32_31 : BitVec 32 := 1#32
  let v90 : BitVec 32 := Scalar.divsi v88 c1_i32_31
  let v91 : BitVec 32 := Scalar.muli v90 c1_i32_31
  let v92 : BitVec 32 := Scalar.addi c0_i32_30 v91
  let v89 : BitVec 32 := Scalar.addi c0_i32_30 v88
  let c1_i32_33 : BitVec 32 := 1#32
  ⟨v92, v89, c1_i32_33⟩

def k0_chk8 (v68 : BitVec 32) : Prop :=
  ((k0_t9_loop v68).OK) ∧
  ((k0_t12_loop v68).OK)
theorem k0_t9_ok : ∀ (v68 : BitVec 32) (k0_hw8 : k0_chk8 v68), (k0_t9_loop v68).OK := fun v68 k0_hw8 => k0_hw8.1
theorem k0_t12_ok : ∀ (v68 : BitVec 32) (k0_hw8 : k0_chk8 v68), (k0_t12_loop v68).OK := fun v68 k0_hw8 => k0_hw8.2

def k0_mult4 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off28 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r4 : BitVec 32 := 0#32
  ![v1213.toNat, 0]
@[reducible] def k0_t13_loop (v16 : BitVec 32) (v31 : BitVec 32) (v68 : BitVec 32) (arg13 : BitVec 32) : Scf.Loop 32 :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off29 (v16 : BitVec 32) (v31 : BitVec 32) (v68 : BitVec 32) (arg13 : BitVec 32) (k0_t13 : Fin (k0_t13_loop v16 v31 v68 arg13).trips) : Fin 2 → Nat :=
  let c1_i32_473 : BitVec 32 := 1#32
  let arg14 : BitVec 32 := Scf.iv arg13 c1_i32_473 k0_t13
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off30 (v16 : BitVec 32) (v31 : BitVec 32) (v68 : BitVec 32) (arg13 : BitVec 32) (k0_t13 : Fin (k0_t13_loop v16 v31 v68 arg13).trips) : Fin 2 → Nat :=
  let c1_i32_473 : BitVec 32 := 1#32
  let arg14 : BitVec 32 := Scf.iv arg13 c1_i32_473 k0_t13
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off31 (v16 : BitVec 32) (v31 : BitVec 32) (v68 : BitVec 32) (arg13 : BitVec 32) (k0_t13 : Fin (k0_t13_loop v16 v31 v68 arg13).trips) : Fin 2 → Nat :=
  let c1_i32_473 : BitVec 32 := 1#32
  let arg14 : BitVec 32 := Scf.iv arg13 c1_i32_473 k0_t13
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off32 (v16 : BitVec 32) (v31 : BitVec 32) (v68 : BitVec 32) (arg13 : BitVec 32) (k0_t13 : Fin (k0_t13_loop v16 v31 v68 arg13).trips) : Fin 2 → Nat :=
  let c1_i32_473 : BitVec 32 := 1#32
  let arg14 : BitVec 32 := Scf.iv arg13 c1_i32_473 k0_t13
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t14_loop (v16 : BitVec 32) (v31 : BitVec 32) (v68 : BitVec 32) (arg13 : BitVec 32) : Scf.Loop 32 :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off33 (v16 : BitVec 32) (v31 : BitVec 32) (v68 : BitVec 32) (arg13 : BitVec 32) (k0_t14 : Fin (k0_t14_loop v16 v31 v68 arg13).trips) : Fin 2 → Nat :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t14
  let v1224 : BitVec 32 := Scalar.subi arg14 v1213
  let v1225 : Index := Scalar.indexCast v1224
  let c0_475 : Index := 0#32
  ![v1225.toNat, 0]
def k0_off34 (v16 : BitVec 32) (v31 : BitVec 32) (v68 : BitVec 32) (arg13 : BitVec 32) (k0_t14 : Fin (k0_t14_loop v16 v31 v68 arg13).trips) : Fin 2 → Nat :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t14
  let v1224 : BitVec 32 := Scalar.subi arg14 v1213
  let v1228 : Index := Scalar.indexCast v1224
  let c16_476 : Index := 16#32
  ![v1228.toNat, 16]
def k0_off35 (v16 : BitVec 32) (v31 : BitVec 32) (v68 : BitVec 32) (arg13 : BitVec 32) (k0_t14 : Fin (k0_t14_loop v16 v31 v68 arg13).trips) : Fin 2 → Nat :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t14
  let v1224 : BitVec 32 := Scalar.subi arg14 v1213
  let v1231 : Index := Scalar.indexCast v1224
  let c32_477 : Index := 32#32
  ![v1231.toNat, 32]
def k0_off36 (v16 : BitVec 32) (v31 : BitVec 32) (v68 : BitVec 32) (arg13 : BitVec 32) (k0_t14 : Fin (k0_t14_loop v16 v31 v68 arg13).trips) : Fin 2 → Nat :=
  let v32 : BitVec 32 := Scalar.addi v16 v31
  let v69 : BitVec 32 := Scalar.addi v32 v68
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v69 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t14
  let v1224 : BitVec 32 := Scalar.subi arg14 v1213
  let v1234 : Index := Scalar.indexCast v1224
  let c48_478 : Index := 48#32
  ![v1234.toNat, 48]

def k0_chk10 (v16 : BitVec 32) (v31 : BitVec 32) (v68 : BitVec 32) (arg13 : BitVec 32) : Prop :=
  (8 ∣ (k0_mult4 arg13).toNat) ∧
  (∀ a, (k0_off28 arg13) a + S512x128.size a ≤ S320000x128.size a) ∧
  ((k0_t13_loop v16 v31 v68 arg13).OK) ∧
  (∀ k0_t13 : Fin (k0_t13_loop v16 v31 v68 arg13).trips, ∀ a, (k0_off29 v16 v31 v68 arg13 k0_t13) a + S1x16.size a ≤ S512x128.size a) ∧
  (∀ k0_t13 : Fin (k0_t13_loop v16 v31 v68 arg13).trips, ∀ a, (k0_off30 v16 v31 v68 arg13 k0_t13) a + S1x16.size a ≤ S512x128.size a) ∧
  (∀ k0_t13 : Fin (k0_t13_loop v16 v31 v68 arg13).trips, ∀ a, (k0_off31 v16 v31 v68 arg13 k0_t13) a + S1x16.size a ≤ S512x128.size a) ∧
  (∀ k0_t13 : Fin (k0_t13_loop v16 v31 v68 arg13).trips, ∀ a, (k0_off32 v16 v31 v68 arg13 k0_t13) a + S1x16.size a ≤ S512x128.size a) ∧
  ((k0_t14_loop v16 v31 v68 arg13).OK) ∧
  (∀ k0_t14 : Fin (k0_t14_loop v16 v31 v68 arg13).trips, ∀ a, (k0_off33 v16 v31 v68 arg13 k0_t14) a + S1x16.size a ≤ S512x128.size a) ∧
  (∀ k0_t14 : Fin (k0_t14_loop v16 v31 v68 arg13).trips, ∀ a, (k0_off34 v16 v31 v68 arg13 k0_t14) a + S1x16.size a ≤ S512x128.size a) ∧
  (∀ k0_t14 : Fin (k0_t14_loop v16 v31 v68 arg13).trips, ∀ a, (k0_off35 v16 v31 v68 arg13 k0_t14) a + S1x16.size a ≤ S512x128.size a) ∧
  (∀ k0_t14 : Fin (k0_t14_loop v16 v31 v68 arg13).trips, ∀ a, (k0_off36 v16 v31 v68 arg13 k0_t14) a + S1x16.size a ≤ S512x128.size a)
theorem k0_mult4_dvd : ∀ (v16 : BitVec 32) (v31 : BitVec 32) (v68 : BitVec 32) (arg13 : BitVec 32) (k0_hw10 : k0_chk10 v16 v31 v68 arg13), 8 ∣ (k0_mult4 arg13).toNat := fun v16 v31 v68 arg13 k0_hw10 => k0_hw10.1
theorem k0_off28_inb : ∀ (v16 : BitVec 32) (v31 : BitVec 32) (v68 : BitVec 32) (arg13 : BitVec 32) (k0_hw10 : k0_chk10 v16 v31 v68 arg13), ∀ a, (k0_off28 arg13) a + S512x128.size a ≤ S320000x128.size a := fun v16 v31 v68 arg13 k0_hw10 => k0_hw10.2.1
theorem k0_t13_ok : ∀ (v16 : BitVec 32) (v31 : BitVec 32) (v68 : BitVec 32) (arg13 : BitVec 32) (k0_hw10 : k0_chk10 v16 v31 v68 arg13), (k0_t13_loop v16 v31 v68 arg13).OK := fun v16 v31 v68 arg13 k0_hw10 => k0_hw10.2.2.1
theorem k0_off29_inb : ∀ (v16 : BitVec 32) (v31 : BitVec 32) (v68 : BitVec 32) (arg13 : BitVec 32) (k0_hw10 : k0_chk10 v16 v31 v68 arg13) (k0_t13 : Fin (k0_t13_loop v16 v31 v68 arg13).trips), ∀ a, (k0_off29 v16 v31 v68 arg13 k0_t13) a + S1x16.size a ≤ S512x128.size a := fun v16 v31 v68 arg13 k0_hw10 k0_t13 => k0_hw10.2.2.2.1 k0_t13
theorem k0_off30_inb : ∀ (v16 : BitVec 32) (v31 : BitVec 32) (v68 : BitVec 32) (arg13 : BitVec 32) (k0_hw10 : k0_chk10 v16 v31 v68 arg13) (k0_t13 : Fin (k0_t13_loop v16 v31 v68 arg13).trips), ∀ a, (k0_off30 v16 v31 v68 arg13 k0_t13) a + S1x16.size a ≤ S512x128.size a := fun v16 v31 v68 arg13 k0_hw10 k0_t13 => k0_hw10.2.2.2.2.1 k0_t13
theorem k0_off31_inb : ∀ (v16 : BitVec 32) (v31 : BitVec 32) (v68 : BitVec 32) (arg13 : BitVec 32) (k0_hw10 : k0_chk10 v16 v31 v68 arg13) (k0_t13 : Fin (k0_t13_loop v16 v31 v68 arg13).trips), ∀ a, (k0_off31 v16 v31 v68 arg13 k0_t13) a + S1x16.size a ≤ S512x128.size a := fun v16 v31 v68 arg13 k0_hw10 k0_t13 => k0_hw10.2.2.2.2.2.1 k0_t13
theorem k0_off32_inb : ∀ (v16 : BitVec 32) (v31 : BitVec 32) (v68 : BitVec 32) (arg13 : BitVec 32) (k0_hw10 : k0_chk10 v16 v31 v68 arg13) (k0_t13 : Fin (k0_t13_loop v16 v31 v68 arg13).trips), ∀ a, (k0_off32 v16 v31 v68 arg13 k0_t13) a + S1x16.size a ≤ S512x128.size a := fun v16 v31 v68 arg13 k0_hw10 k0_t13 => k0_hw10.2.2.2.2.2.2.1 k0_t13
theorem k0_t14_ok : ∀ (v16 : BitVec 32) (v31 : BitVec 32) (v68 : BitVec 32) (arg13 : BitVec 32) (k0_hw10 : k0_chk10 v16 v31 v68 arg13), (k0_t14_loop v16 v31 v68 arg13).OK := fun v16 v31 v68 arg13 k0_hw10 => k0_hw10.2.2.2.2.2.2.2.1
theorem k0_off33_inb : ∀ (v16 : BitVec 32) (v31 : BitVec 32) (v68 : BitVec 32) (arg13 : BitVec 32) (k0_hw10 : k0_chk10 v16 v31 v68 arg13) (k0_t14 : Fin (k0_t14_loop v16 v31 v68 arg13).trips), ∀ a, (k0_off33 v16 v31 v68 arg13 k0_t14) a + S1x16.size a ≤ S512x128.size a := fun v16 v31 v68 arg13 k0_hw10 k0_t14 => k0_hw10.2.2.2.2.2.2.2.2.1 k0_t14
theorem k0_off34_inb : ∀ (v16 : BitVec 32) (v31 : BitVec 32) (v68 : BitVec 32) (arg13 : BitVec 32) (k0_hw10 : k0_chk10 v16 v31 v68 arg13) (k0_t14 : Fin (k0_t14_loop v16 v31 v68 arg13).trips), ∀ a, (k0_off34 v16 v31 v68 arg13 k0_t14) a + S1x16.size a ≤ S512x128.size a := fun v16 v31 v68 arg13 k0_hw10 k0_t14 => k0_hw10.2.2.2.2.2.2.2.2.2.1 k0_t14
theorem k0_off35_inb : ∀ (v16 : BitVec 32) (v31 : BitVec 32) (v68 : BitVec 32) (arg13 : BitVec 32) (k0_hw10 : k0_chk10 v16 v31 v68 arg13) (k0_t14 : Fin (k0_t14_loop v16 v31 v68 arg13).trips), ∀ a, (k0_off35 v16 v31 v68 arg13 k0_t14) a + S1x16.size a ≤ S512x128.size a := fun v16 v31 v68 arg13 k0_hw10 k0_t14 => k0_hw10.2.2.2.2.2.2.2.2.2.2.1 k0_t14
theorem k0_off36_inb : ∀ (v16 : BitVec 32) (v31 : BitVec 32) (v68 : BitVec 32) (arg13 : BitVec 32) (k0_hw10 : k0_chk10 v16 v31 v68 arg13) (k0_t14 : Fin (k0_t14_loop v16 v31 v68 arg13).trips), ∀ a, (k0_off36 v16 v31 v68 arg13 k0_t14) a + S1x16.size a ≤ S512x128.size a := fun v16 v31 v68 arg13 k0_hw10 k0_t14 => k0_hw10.2.2.2.2.2.2.2.2.2.2.2 k0_t14

@[reducible] def k0_t15_loop (v105 : BitVec 32) : Scf.Loop 32 :=
  let c0_i32_45 : BitVec 32 := 0#32
  let c0_i32_38 : BitVec 32 := 0#32
  let v108 : BitVec 1 := Scalar.cmpi .sgt v105 c0_i32_38
  let v109 : BitVec 32 := Scalar.extui v108
  let c0_i32_39 : BitVec 32 := 0#32
  let v110 : BitVec 1 := Scalar.cmpi .slt v105 c0_i32_39
  let v111 : BitVec 32 := Scalar.extui v110
  let v112 : BitVec 32 := Scalar.subi v109 v111
  let c504_i32_37 : BitVec 32 := 504#32
  let c0_i32_40 : BitVec 32 := 0#32
  let v113 : BitVec 1 := Scalar.cmpi .sgt c504_i32_37 c0_i32_40
  let v114 : BitVec 32 := Scalar.extui v113
  let c0_i32_41 : BitVec 32 := 0#32
  let v115 : BitVec 1 := Scalar.cmpi .slt c504_i32_37 c0_i32_41
  let v116 : BitVec 32 := Scalar.extui v115
  let v117 : BitVec 32 := Scalar.subi v114 v116
  let v118 : BitVec 1 := Scalar.cmpi .ne v112 v117
  let v119 : BitVec 32 := Scalar.remsi v105 c504_i32_37
  let c0_i32_42 : BitVec 32 := 0#32
  let v120 : BitVec 1 := Scalar.cmpi .ne v119 c0_i32_42
  let v121 : BitVec 1 := Scalar.andi v118 v120
  let v107 : BitVec 32 := Scalar.divsi v105 c504_i32_37
  let c1_i32_43 : BitVec 32 := 1#32
  let v122 : BitVec 32 := Scalar.subi v107 c1_i32_43
  let v123 : BitVec 32 := Scalar.select v121 v122 v107
  let c1_i32_44 : BitVec 32 := 1#32
  let v124 : BitVec 32 := Scalar.addi v123 c1_i32_44
  let v125 : BitVec 32 := Scalar.subi v124 c0_i32_45
  let c1_i32_46 : BitVec 32 := 1#32
  let v127 : BitVec 32 := Scalar.divsi v125 c1_i32_46
  let v128 : BitVec 32 := Scalar.muli v127 c1_i32_46
  let v129 : BitVec 32 := Scalar.addi c0_i32_45 v128
  let c1_i32_47 : BitVec 32 := 1#32
  ⟨c0_i32_45, v129, c1_i32_47⟩

def k0_mult5 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off37 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r5 : BitVec 32 := 0#32
  ![v1213.toNat, 0]
@[reducible] def k0_t16_loop (v16 : BitVec 32) (v31 : BitVec 32) (v68 : BitVec 32) (v105 : BitVec 32) (arg13 : BitVec 32) : Scf.Loop 32 :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off38 (v16 : BitVec 32) (v31 : BitVec 32) (v68 : BitVec 32) (v105 : BitVec 32) (arg13 : BitVec 32) (k0_t16 : Fin (k0_t16_loop v16 v31 v68 v105 arg13).trips) : Fin 2 → Nat :=
  let c1_i32_473 : BitVec 32 := 1#32
  let arg14 : BitVec 32 := Scf.iv arg13 c1_i32_473 k0_t16
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off39 (v16 : BitVec 32) (v31 : BitVec 32) (v68 : BitVec 32) (v105 : BitVec 32) (arg13 : BitVec 32) (k0_t16 : Fin (k0_t16_loop v16 v31 v68 v105 arg13).trips) : Fin 2 → Nat :=
  let c1_i32_473 : BitVec 32 := 1#32
  let arg14 : BitVec 32 := Scf.iv arg13 c1_i32_473 k0_t16
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off40 (v16 : BitVec 32) (v31 : BitVec 32) (v68 : BitVec 32) (v105 : BitVec 32) (arg13 : BitVec 32) (k0_t16 : Fin (k0_t16_loop v16 v31 v68 v105 arg13).trips) : Fin 2 → Nat :=
  let c1_i32_473 : BitVec 32 := 1#32
  let arg14 : BitVec 32 := Scf.iv arg13 c1_i32_473 k0_t16
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off41 (v16 : BitVec 32) (v31 : BitVec 32) (v68 : BitVec 32) (v105 : BitVec 32) (arg13 : BitVec 32) (k0_t16 : Fin (k0_t16_loop v16 v31 v68 v105 arg13).trips) : Fin 2 → Nat :=
  let c1_i32_473 : BitVec 32 := 1#32
  let arg14 : BitVec 32 := Scf.iv arg13 c1_i32_473 k0_t16
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t17_loop (v16 : BitVec 32) (v31 : BitVec 32) (v68 : BitVec 32) (v105 : BitVec 32) (arg13 : BitVec 32) : Scf.Loop 32 :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off42 (v16 : BitVec 32) (v31 : BitVec 32) (v68 : BitVec 32) (v105 : BitVec 32) (arg13 : BitVec 32) (k0_t17 : Fin (k0_t17_loop v16 v31 v68 v105 arg13).trips) : Fin 2 → Nat :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t17
  let v1224 : BitVec 32 := Scalar.subi arg14 v1213
  let v1225 : Index := Scalar.indexCast v1224
  let c0_475 : Index := 0#32
  ![v1225.toNat, 0]
def k0_off43 (v16 : BitVec 32) (v31 : BitVec 32) (v68 : BitVec 32) (v105 : BitVec 32) (arg13 : BitVec 32) (k0_t17 : Fin (k0_t17_loop v16 v31 v68 v105 arg13).trips) : Fin 2 → Nat :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t17
  let v1224 : BitVec 32 := Scalar.subi arg14 v1213
  let v1228 : Index := Scalar.indexCast v1224
  let c16_476 : Index := 16#32
  ![v1228.toNat, 16]
def k0_off44 (v16 : BitVec 32) (v31 : BitVec 32) (v68 : BitVec 32) (v105 : BitVec 32) (arg13 : BitVec 32) (k0_t17 : Fin (k0_t17_loop v16 v31 v68 v105 arg13).trips) : Fin 2 → Nat :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t17
  let v1224 : BitVec 32 := Scalar.subi arg14 v1213
  let v1231 : Index := Scalar.indexCast v1224
  let c32_477 : Index := 32#32
  ![v1231.toNat, 32]
def k0_off45 (v16 : BitVec 32) (v31 : BitVec 32) (v68 : BitVec 32) (v105 : BitVec 32) (arg13 : BitVec 32) (k0_t17 : Fin (k0_t17_loop v16 v31 v68 v105 arg13).trips) : Fin 2 → Nat :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t17
  let v1224 : BitVec 32 := Scalar.subi arg14 v1213
  let v1234 : Index := Scalar.indexCast v1224
  let c48_478 : Index := 48#32
  ![v1234.toNat, 48]

def k0_chk12 (v16 : BitVec 32) (v31 : BitVec 32) (v68 : BitVec 32) (v105 : BitVec 32) (arg13 : BitVec 32) : Prop :=
  (8 ∣ (k0_mult5 arg13).toNat) ∧
  (∀ a, (k0_off37 arg13) a + S512x128.size a ≤ S320000x128.size a) ∧
  ((k0_t16_loop v16 v31 v68 v105 arg13).OK) ∧
  (∀ k0_t16 : Fin (k0_t16_loop v16 v31 v68 v105 arg13).trips, ∀ a, (k0_off38 v16 v31 v68 v105 arg13 k0_t16) a + S1x16.size a ≤ S512x128.size a) ∧
  (∀ k0_t16 : Fin (k0_t16_loop v16 v31 v68 v105 arg13).trips, ∀ a, (k0_off39 v16 v31 v68 v105 arg13 k0_t16) a + S1x16.size a ≤ S512x128.size a) ∧
  (∀ k0_t16 : Fin (k0_t16_loop v16 v31 v68 v105 arg13).trips, ∀ a, (k0_off40 v16 v31 v68 v105 arg13 k0_t16) a + S1x16.size a ≤ S512x128.size a) ∧
  (∀ k0_t16 : Fin (k0_t16_loop v16 v31 v68 v105 arg13).trips, ∀ a, (k0_off41 v16 v31 v68 v105 arg13 k0_t16) a + S1x16.size a ≤ S512x128.size a) ∧
  ((k0_t17_loop v16 v31 v68 v105 arg13).OK) ∧
  (∀ k0_t17 : Fin (k0_t17_loop v16 v31 v68 v105 arg13).trips, ∀ a, (k0_off42 v16 v31 v68 v105 arg13 k0_t17) a + S1x16.size a ≤ S512x128.size a) ∧
  (∀ k0_t17 : Fin (k0_t17_loop v16 v31 v68 v105 arg13).trips, ∀ a, (k0_off43 v16 v31 v68 v105 arg13 k0_t17) a + S1x16.size a ≤ S512x128.size a) ∧
  (∀ k0_t17 : Fin (k0_t17_loop v16 v31 v68 v105 arg13).trips, ∀ a, (k0_off44 v16 v31 v68 v105 arg13 k0_t17) a + S1x16.size a ≤ S512x128.size a) ∧
  (∀ k0_t17 : Fin (k0_t17_loop v16 v31 v68 v105 arg13).trips, ∀ a, (k0_off45 v16 v31 v68 v105 arg13 k0_t17) a + S1x16.size a ≤ S512x128.size a)
theorem k0_mult5_dvd : ∀ (v16 : BitVec 32) (v31 : BitVec 32) (v68 : BitVec 32) (v105 : BitVec 32) (arg13 : BitVec 32) (k0_hw12 : k0_chk12 v16 v31 v68 v105 arg13), 8 ∣ (k0_mult5 arg13).toNat := fun v16 v31 v68 v105 arg13 k0_hw12 => k0_hw12.1
theorem k0_off37_inb : ∀ (v16 : BitVec 32) (v31 : BitVec 32) (v68 : BitVec 32) (v105 : BitVec 32) (arg13 : BitVec 32) (k0_hw12 : k0_chk12 v16 v31 v68 v105 arg13), ∀ a, (k0_off37 arg13) a + S512x128.size a ≤ S320000x128.size a := fun v16 v31 v68 v105 arg13 k0_hw12 => k0_hw12.2.1
theorem k0_t16_ok : ∀ (v16 : BitVec 32) (v31 : BitVec 32) (v68 : BitVec 32) (v105 : BitVec 32) (arg13 : BitVec 32) (k0_hw12 : k0_chk12 v16 v31 v68 v105 arg13), (k0_t16_loop v16 v31 v68 v105 arg13).OK := fun v16 v31 v68 v105 arg13 k0_hw12 => k0_hw12.2.2.1
theorem k0_off38_inb : ∀ (v16 : BitVec 32) (v31 : BitVec 32) (v68 : BitVec 32) (v105 : BitVec 32) (arg13 : BitVec 32) (k0_hw12 : k0_chk12 v16 v31 v68 v105 arg13) (k0_t16 : Fin (k0_t16_loop v16 v31 v68 v105 arg13).trips), ∀ a, (k0_off38 v16 v31 v68 v105 arg13 k0_t16) a + S1x16.size a ≤ S512x128.size a := fun v16 v31 v68 v105 arg13 k0_hw12 k0_t16 => k0_hw12.2.2.2.1 k0_t16
theorem k0_off39_inb : ∀ (v16 : BitVec 32) (v31 : BitVec 32) (v68 : BitVec 32) (v105 : BitVec 32) (arg13 : BitVec 32) (k0_hw12 : k0_chk12 v16 v31 v68 v105 arg13) (k0_t16 : Fin (k0_t16_loop v16 v31 v68 v105 arg13).trips), ∀ a, (k0_off39 v16 v31 v68 v105 arg13 k0_t16) a + S1x16.size a ≤ S512x128.size a := fun v16 v31 v68 v105 arg13 k0_hw12 k0_t16 => k0_hw12.2.2.2.2.1 k0_t16
theorem k0_off40_inb : ∀ (v16 : BitVec 32) (v31 : BitVec 32) (v68 : BitVec 32) (v105 : BitVec 32) (arg13 : BitVec 32) (k0_hw12 : k0_chk12 v16 v31 v68 v105 arg13) (k0_t16 : Fin (k0_t16_loop v16 v31 v68 v105 arg13).trips), ∀ a, (k0_off40 v16 v31 v68 v105 arg13 k0_t16) a + S1x16.size a ≤ S512x128.size a := fun v16 v31 v68 v105 arg13 k0_hw12 k0_t16 => k0_hw12.2.2.2.2.2.1 k0_t16
theorem k0_off41_inb : ∀ (v16 : BitVec 32) (v31 : BitVec 32) (v68 : BitVec 32) (v105 : BitVec 32) (arg13 : BitVec 32) (k0_hw12 : k0_chk12 v16 v31 v68 v105 arg13) (k0_t16 : Fin (k0_t16_loop v16 v31 v68 v105 arg13).trips), ∀ a, (k0_off41 v16 v31 v68 v105 arg13 k0_t16) a + S1x16.size a ≤ S512x128.size a := fun v16 v31 v68 v105 arg13 k0_hw12 k0_t16 => k0_hw12.2.2.2.2.2.2.1 k0_t16
theorem k0_t17_ok : ∀ (v16 : BitVec 32) (v31 : BitVec 32) (v68 : BitVec 32) (v105 : BitVec 32) (arg13 : BitVec 32) (k0_hw12 : k0_chk12 v16 v31 v68 v105 arg13), (k0_t17_loop v16 v31 v68 v105 arg13).OK := fun v16 v31 v68 v105 arg13 k0_hw12 => k0_hw12.2.2.2.2.2.2.2.1
theorem k0_off42_inb : ∀ (v16 : BitVec 32) (v31 : BitVec 32) (v68 : BitVec 32) (v105 : BitVec 32) (arg13 : BitVec 32) (k0_hw12 : k0_chk12 v16 v31 v68 v105 arg13) (k0_t17 : Fin (k0_t17_loop v16 v31 v68 v105 arg13).trips), ∀ a, (k0_off42 v16 v31 v68 v105 arg13 k0_t17) a + S1x16.size a ≤ S512x128.size a := fun v16 v31 v68 v105 arg13 k0_hw12 k0_t17 => k0_hw12.2.2.2.2.2.2.2.2.1 k0_t17
theorem k0_off43_inb : ∀ (v16 : BitVec 32) (v31 : BitVec 32) (v68 : BitVec 32) (v105 : BitVec 32) (arg13 : BitVec 32) (k0_hw12 : k0_chk12 v16 v31 v68 v105 arg13) (k0_t17 : Fin (k0_t17_loop v16 v31 v68 v105 arg13).trips), ∀ a, (k0_off43 v16 v31 v68 v105 arg13 k0_t17) a + S1x16.size a ≤ S512x128.size a := fun v16 v31 v68 v105 arg13 k0_hw12 k0_t17 => k0_hw12.2.2.2.2.2.2.2.2.2.1 k0_t17
theorem k0_off44_inb : ∀ (v16 : BitVec 32) (v31 : BitVec 32) (v68 : BitVec 32) (v105 : BitVec 32) (arg13 : BitVec 32) (k0_hw12 : k0_chk12 v16 v31 v68 v105 arg13) (k0_t17 : Fin (k0_t17_loop v16 v31 v68 v105 arg13).trips), ∀ a, (k0_off44 v16 v31 v68 v105 arg13 k0_t17) a + S1x16.size a ≤ S512x128.size a := fun v16 v31 v68 v105 arg13 k0_hw12 k0_t17 => k0_hw12.2.2.2.2.2.2.2.2.2.2.1 k0_t17
theorem k0_off45_inb : ∀ (v16 : BitVec 32) (v31 : BitVec 32) (v68 : BitVec 32) (v105 : BitVec 32) (arg13 : BitVec 32) (k0_hw12 : k0_chk12 v16 v31 v68 v105 arg13) (k0_t17 : Fin (k0_t17_loop v16 v31 v68 v105 arg13).trips), ∀ a, (k0_off45 v16 v31 v68 v105 arg13 k0_t17) a + S1x16.size a ≤ S512x128.size a := fun v16 v31 v68 v105 arg13 k0_hw12 k0_t17 => k0_hw12.2.2.2.2.2.2.2.2.2.2.2 k0_t17

@[reducible] def k0_t18_loop (v105 : BitVec 32) : Scf.Loop 32 :=
  let c0_i32_45 : BitVec 32 := 0#32
  let c0_i32_38 : BitVec 32 := 0#32
  let v108 : BitVec 1 := Scalar.cmpi .sgt v105 c0_i32_38
  let v109 : BitVec 32 := Scalar.extui v108
  let c0_i32_39 : BitVec 32 := 0#32
  let v110 : BitVec 1 := Scalar.cmpi .slt v105 c0_i32_39
  let v111 : BitVec 32 := Scalar.extui v110
  let v112 : BitVec 32 := Scalar.subi v109 v111
  let c504_i32_37 : BitVec 32 := 504#32
  let c0_i32_40 : BitVec 32 := 0#32
  let v113 : BitVec 1 := Scalar.cmpi .sgt c504_i32_37 c0_i32_40
  let v114 : BitVec 32 := Scalar.extui v113
  let c0_i32_41 : BitVec 32 := 0#32
  let v115 : BitVec 1 := Scalar.cmpi .slt c504_i32_37 c0_i32_41
  let v116 : BitVec 32 := Scalar.extui v115
  let v117 : BitVec 32 := Scalar.subi v114 v116
  let v118 : BitVec 1 := Scalar.cmpi .ne v112 v117
  let v119 : BitVec 32 := Scalar.remsi v105 c504_i32_37
  let c0_i32_42 : BitVec 32 := 0#32
  let v120 : BitVec 1 := Scalar.cmpi .ne v119 c0_i32_42
  let v121 : BitVec 1 := Scalar.andi v118 v120
  let v107 : BitVec 32 := Scalar.divsi v105 c504_i32_37
  let c1_i32_43 : BitVec 32 := 1#32
  let v122 : BitVec 32 := Scalar.subi v107 c1_i32_43
  let v123 : BitVec 32 := Scalar.select v121 v122 v107
  let c1_i32_44 : BitVec 32 := 1#32
  let v124 : BitVec 32 := Scalar.addi v123 c1_i32_44
  let v125 : BitVec 32 := Scalar.subi v124 c0_i32_45
  let c1_i32_46 : BitVec 32 := 1#32
  let v127 : BitVec 32 := Scalar.divsi v125 c1_i32_46
  let v128 : BitVec 32 := Scalar.muli v127 c1_i32_46
  let v129 : BitVec 32 := Scalar.addi c0_i32_45 v128
  let v126 : BitVec 32 := Scalar.addi c0_i32_45 v125
  let c1_i32_48 : BitVec 32 := 1#32
  ⟨v129, v126, c1_i32_48⟩

def k0_chk11 (v105 : BitVec 32) : Prop :=
  ((k0_t15_loop v105).OK) ∧
  ((k0_t18_loop v105).OK)
theorem k0_t15_ok : ∀ (v105 : BitVec 32) (k0_hw11 : k0_chk11 v105), (k0_t15_loop v105).OK := fun v105 k0_hw11 => k0_hw11.1
theorem k0_t18_ok : ∀ (v105 : BitVec 32) (k0_hw11 : k0_chk11 v105), (k0_t18_loop v105).OK := fun v105 k0_hw11 => k0_hw11.2

def k0_mult6 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off46 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r6 : BitVec 32 := 0#32
  ![v1213.toNat, 0]
@[reducible] def k0_t19_loop (v16 : BitVec 32) (v31 : BitVec 32) (v68 : BitVec 32) (v105 : BitVec 32) (arg13 : BitVec 32) : Scf.Loop 32 :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off47 (v16 : BitVec 32) (v31 : BitVec 32) (v68 : BitVec 32) (v105 : BitVec 32) (arg13 : BitVec 32) (k0_t19 : Fin (k0_t19_loop v16 v31 v68 v105 arg13).trips) : Fin 2 → Nat :=
  let c1_i32_473 : BitVec 32 := 1#32
  let arg14 : BitVec 32 := Scf.iv arg13 c1_i32_473 k0_t19
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off48 (v16 : BitVec 32) (v31 : BitVec 32) (v68 : BitVec 32) (v105 : BitVec 32) (arg13 : BitVec 32) (k0_t19 : Fin (k0_t19_loop v16 v31 v68 v105 arg13).trips) : Fin 2 → Nat :=
  let c1_i32_473 : BitVec 32 := 1#32
  let arg14 : BitVec 32 := Scf.iv arg13 c1_i32_473 k0_t19
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off49 (v16 : BitVec 32) (v31 : BitVec 32) (v68 : BitVec 32) (v105 : BitVec 32) (arg13 : BitVec 32) (k0_t19 : Fin (k0_t19_loop v16 v31 v68 v105 arg13).trips) : Fin 2 → Nat :=
  let c1_i32_473 : BitVec 32 := 1#32
  let arg14 : BitVec 32 := Scf.iv arg13 c1_i32_473 k0_t19
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off50 (v16 : BitVec 32) (v31 : BitVec 32) (v68 : BitVec 32) (v105 : BitVec 32) (arg13 : BitVec 32) (k0_t19 : Fin (k0_t19_loop v16 v31 v68 v105 arg13).trips) : Fin 2 → Nat :=
  let c1_i32_473 : BitVec 32 := 1#32
  let arg14 : BitVec 32 := Scf.iv arg13 c1_i32_473 k0_t19
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t20_loop (v16 : BitVec 32) (v31 : BitVec 32) (v68 : BitVec 32) (v105 : BitVec 32) (arg13 : BitVec 32) : Scf.Loop 32 :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off51 (v16 : BitVec 32) (v31 : BitVec 32) (v68 : BitVec 32) (v105 : BitVec 32) (arg13 : BitVec 32) (k0_t20 : Fin (k0_t20_loop v16 v31 v68 v105 arg13).trips) : Fin 2 → Nat :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t20
  let v1224 : BitVec 32 := Scalar.subi arg14 v1213
  let v1225 : Index := Scalar.indexCast v1224
  let c0_475 : Index := 0#32
  ![v1225.toNat, 0]
def k0_off52 (v16 : BitVec 32) (v31 : BitVec 32) (v68 : BitVec 32) (v105 : BitVec 32) (arg13 : BitVec 32) (k0_t20 : Fin (k0_t20_loop v16 v31 v68 v105 arg13).trips) : Fin 2 → Nat :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t20
  let v1224 : BitVec 32 := Scalar.subi arg14 v1213
  let v1228 : Index := Scalar.indexCast v1224
  let c16_476 : Index := 16#32
  ![v1228.toNat, 16]
def k0_off53 (v16 : BitVec 32) (v31 : BitVec 32) (v68 : BitVec 32) (v105 : BitVec 32) (arg13 : BitVec 32) (k0_t20 : Fin (k0_t20_loop v16 v31 v68 v105 arg13).trips) : Fin 2 → Nat :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t20
  let v1224 : BitVec 32 := Scalar.subi arg14 v1213
  let v1231 : Index := Scalar.indexCast v1224
  let c32_477 : Index := 32#32
  ![v1231.toNat, 32]
def k0_off54 (v16 : BitVec 32) (v31 : BitVec 32) (v68 : BitVec 32) (v105 : BitVec 32) (arg13 : BitVec 32) (k0_t20 : Fin (k0_t20_loop v16 v31 v68 v105 arg13).trips) : Fin 2 → Nat :=
  let v32 : BitVec 32 := Scalar.addi v16 v31
  let v69 : BitVec 32 := Scalar.addi v32 v68
  let v106 : BitVec 32 := Scalar.addi v69 v105
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v106 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t20
  let v1224 : BitVec 32 := Scalar.subi arg14 v1213
  let v1234 : Index := Scalar.indexCast v1224
  let c48_478 : Index := 48#32
  ![v1234.toNat, 48]

def k0_chk13 (v16 : BitVec 32) (v31 : BitVec 32) (v68 : BitVec 32) (v105 : BitVec 32) (arg13 : BitVec 32) : Prop :=
  (8 ∣ (k0_mult6 arg13).toNat) ∧
  (∀ a, (k0_off46 arg13) a + S512x128.size a ≤ S320000x128.size a) ∧
  ((k0_t19_loop v16 v31 v68 v105 arg13).OK) ∧
  (∀ k0_t19 : Fin (k0_t19_loop v16 v31 v68 v105 arg13).trips, ∀ a, (k0_off47 v16 v31 v68 v105 arg13 k0_t19) a + S1x16.size a ≤ S512x128.size a) ∧
  (∀ k0_t19 : Fin (k0_t19_loop v16 v31 v68 v105 arg13).trips, ∀ a, (k0_off48 v16 v31 v68 v105 arg13 k0_t19) a + S1x16.size a ≤ S512x128.size a) ∧
  (∀ k0_t19 : Fin (k0_t19_loop v16 v31 v68 v105 arg13).trips, ∀ a, (k0_off49 v16 v31 v68 v105 arg13 k0_t19) a + S1x16.size a ≤ S512x128.size a) ∧
  (∀ k0_t19 : Fin (k0_t19_loop v16 v31 v68 v105 arg13).trips, ∀ a, (k0_off50 v16 v31 v68 v105 arg13 k0_t19) a + S1x16.size a ≤ S512x128.size a) ∧
  ((k0_t20_loop v16 v31 v68 v105 arg13).OK) ∧
  (∀ k0_t20 : Fin (k0_t20_loop v16 v31 v68 v105 arg13).trips, ∀ a, (k0_off51 v16 v31 v68 v105 arg13 k0_t20) a + S1x16.size a ≤ S512x128.size a) ∧
  (∀ k0_t20 : Fin (k0_t20_loop v16 v31 v68 v105 arg13).trips, ∀ a, (k0_off52 v16 v31 v68 v105 arg13 k0_t20) a + S1x16.size a ≤ S512x128.size a) ∧
  (∀ k0_t20 : Fin (k0_t20_loop v16 v31 v68 v105 arg13).trips, ∀ a, (k0_off53 v16 v31 v68 v105 arg13 k0_t20) a + S1x16.size a ≤ S512x128.size a) ∧
  (∀ k0_t20 : Fin (k0_t20_loop v16 v31 v68 v105 arg13).trips, ∀ a, (k0_off54 v16 v31 v68 v105 arg13 k0_t20) a + S1x16.size a ≤ S512x128.size a)
theorem k0_mult6_dvd : ∀ (v16 : BitVec 32) (v31 : BitVec 32) (v68 : BitVec 32) (v105 : BitVec 32) (arg13 : BitVec 32) (k0_hw13 : k0_chk13 v16 v31 v68 v105 arg13), 8 ∣ (k0_mult6 arg13).toNat := fun v16 v31 v68 v105 arg13 k0_hw13 => k0_hw13.1
theorem k0_off46_inb : ∀ (v16 : BitVec 32) (v31 : BitVec 32) (v68 : BitVec 32) (v105 : BitVec 32) (arg13 : BitVec 32) (k0_hw13 : k0_chk13 v16 v31 v68 v105 arg13), ∀ a, (k0_off46 arg13) a + S512x128.size a ≤ S320000x128.size a := fun v16 v31 v68 v105 arg13 k0_hw13 => k0_hw13.2.1
theorem k0_t19_ok : ∀ (v16 : BitVec 32) (v31 : BitVec 32) (v68 : BitVec 32) (v105 : BitVec 32) (arg13 : BitVec 32) (k0_hw13 : k0_chk13 v16 v31 v68 v105 arg13), (k0_t19_loop v16 v31 v68 v105 arg13).OK := fun v16 v31 v68 v105 arg13 k0_hw13 => k0_hw13.2.2.1
theorem k0_off47_inb : ∀ (v16 : BitVec 32) (v31 : BitVec 32) (v68 : BitVec 32) (v105 : BitVec 32) (arg13 : BitVec 32) (k0_hw13 : k0_chk13 v16 v31 v68 v105 arg13) (k0_t19 : Fin (k0_t19_loop v16 v31 v68 v105 arg13).trips), ∀ a, (k0_off47 v16 v31 v68 v105 arg13 k0_t19) a + S1x16.size a ≤ S512x128.size a := fun v16 v31 v68 v105 arg13 k0_hw13 k0_t19 => k0_hw13.2.2.2.1 k0_t19
theorem k0_off48_inb : ∀ (v16 : BitVec 32) (v31 : BitVec 32) (v68 : BitVec 32) (v105 : BitVec 32) (arg13 : BitVec 32) (k0_hw13 : k0_chk13 v16 v31 v68 v105 arg13) (k0_t19 : Fin (k0_t19_loop v16 v31 v68 v105 arg13).trips), ∀ a, (k0_off48 v16 v31 v68 v105 arg13 k0_t19) a + S1x16.size a ≤ S512x128.size a := fun v16 v31 v68 v105 arg13 k0_hw13 k0_t19 => k0_hw13.2.2.2.2.1 k0_t19
theorem k0_off49_inb : ∀ (v16 : BitVec 32) (v31 : BitVec 32) (v68 : BitVec 32) (v105 : BitVec 32) (arg13 : BitVec 32) (k0_hw13 : k0_chk13 v16 v31 v68 v105 arg13) (k0_t19 : Fin (k0_t19_loop v16 v31 v68 v105 arg13).trips), ∀ a, (k0_off49 v16 v31 v68 v105 arg13 k0_t19) a + S1x16.size a ≤ S512x128.size a := fun v16 v31 v68 v105 arg13 k0_hw13 k0_t19 => k0_hw13.2.2.2.2.2.1 k0_t19
theorem k0_off50_inb : ∀ (v16 : BitVec 32) (v31 : BitVec 32) (v68 : BitVec 32) (v105 : BitVec 32) (arg13 : BitVec 32) (k0_hw13 : k0_chk13 v16 v31 v68 v105 arg13) (k0_t19 : Fin (k0_t19_loop v16 v31 v68 v105 arg13).trips), ∀ a, (k0_off50 v16 v31 v68 v105 arg13 k0_t19) a + S1x16.size a ≤ S512x128.size a := fun v16 v31 v68 v105 arg13 k0_hw13 k0_t19 => k0_hw13.2.2.2.2.2.2.1 k0_t19
theorem k0_t20_ok : ∀ (v16 : BitVec 32) (v31 : BitVec 32) (v68 : BitVec 32) (v105 : BitVec 32) (arg13 : BitVec 32) (k0_hw13 : k0_chk13 v16 v31 v68 v105 arg13), (k0_t20_loop v16 v31 v68 v105 arg13).OK := fun v16 v31 v68 v105 arg13 k0_hw13 => k0_hw13.2.2.2.2.2.2.2.1
theorem k0_off51_inb : ∀ (v16 : BitVec 32) (v31 : BitVec 32) (v68 : BitVec 32) (v105 : BitVec 32) (arg13 : BitVec 32) (k0_hw13 : k0_chk13 v16 v31 v68 v105 arg13) (k0_t20 : Fin (k0_t20_loop v16 v31 v68 v105 arg13).trips), ∀ a, (k0_off51 v16 v31 v68 v105 arg13 k0_t20) a + S1x16.size a ≤ S512x128.size a := fun v16 v31 v68 v105 arg13 k0_hw13 k0_t20 => k0_hw13.2.2.2.2.2.2.2.2.1 k0_t20
theorem k0_off52_inb : ∀ (v16 : BitVec 32) (v31 : BitVec 32) (v68 : BitVec 32) (v105 : BitVec 32) (arg13 : BitVec 32) (k0_hw13 : k0_chk13 v16 v31 v68 v105 arg13) (k0_t20 : Fin (k0_t20_loop v16 v31 v68 v105 arg13).trips), ∀ a, (k0_off52 v16 v31 v68 v105 arg13 k0_t20) a + S1x16.size a ≤ S512x128.size a := fun v16 v31 v68 v105 arg13 k0_hw13 k0_t20 => k0_hw13.2.2.2.2.2.2.2.2.2.1 k0_t20
theorem k0_off53_inb : ∀ (v16 : BitVec 32) (v31 : BitVec 32) (v68 : BitVec 32) (v105 : BitVec 32) (arg13 : BitVec 32) (k0_hw13 : k0_chk13 v16 v31 v68 v105 arg13) (k0_t20 : Fin (k0_t20_loop v16 v31 v68 v105 arg13).trips), ∀ a, (k0_off53 v16 v31 v68 v105 arg13 k0_t20) a + S1x16.size a ≤ S512x128.size a := fun v16 v31 v68 v105 arg13 k0_hw13 k0_t20 => k0_hw13.2.2.2.2.2.2.2.2.2.2.1 k0_t20
theorem k0_off54_inb : ∀ (v16 : BitVec 32) (v31 : BitVec 32) (v68 : BitVec 32) (v105 : BitVec 32) (arg13 : BitVec 32) (k0_hw13 : k0_chk13 v16 v31 v68 v105 arg13) (k0_t20 : Fin (k0_t20_loop v16 v31 v68 v105 arg13).trips), ∀ a, (k0_off54 v16 v31 v68 v105 arg13 k0_t20) a + S1x16.size a ≤ S512x128.size a := fun v16 v31 v68 v105 arg13 k0_hw13 k0_t20 => k0_hw13.2.2.2.2.2.2.2.2.2.2.2 k0_t20

@[reducible] def k0_t21_loop (v142 : BitVec 32) : Scf.Loop 32 :=
  let c0_i32_59 : BitVec 32 := 0#32
  let c0_i32_52 : BitVec 32 := 0#32
  let v145 : BitVec 1 := Scalar.cmpi .sgt v142 c0_i32_52
  let v146 : BitVec 32 := Scalar.extui v145
  let c0_i32_53 : BitVec 32 := 0#32
  let v147 : BitVec 1 := Scalar.cmpi .slt v142 c0_i32_53
  let v148 : BitVec 32 := Scalar.extui v147
  let v149 : BitVec 32 := Scalar.subi v146 v148
  let c504_i32_51 : BitVec 32 := 504#32
  let c0_i32_54 : BitVec 32 := 0#32
  let v150 : BitVec 1 := Scalar.cmpi .sgt c504_i32_51 c0_i32_54
  let v151 : BitVec 32 := Scalar.extui v150
  let c0_i32_55 : BitVec 32 := 0#32
  let v152 : BitVec 1 := Scalar.cmpi .slt c504_i32_51 c0_i32_55
  let v153 : BitVec 32 := Scalar.extui v152
  let v154 : BitVec 32 := Scalar.subi v151 v153
  let v155 : BitVec 1 := Scalar.cmpi .ne v149 v154
  let v156 : BitVec 32 := Scalar.remsi v142 c504_i32_51
  let c0_i32_56 : BitVec 32 := 0#32
  let v157 : BitVec 1 := Scalar.cmpi .ne v156 c0_i32_56
  let v158 : BitVec 1 := Scalar.andi v155 v157
  let v144 : BitVec 32 := Scalar.divsi v142 c504_i32_51
  let c1_i32_57 : BitVec 32 := 1#32
  let v159 : BitVec 32 := Scalar.subi v144 c1_i32_57
  let v160 : BitVec 32 := Scalar.select v158 v159 v144
  let c1_i32_58 : BitVec 32 := 1#32
  let v161 : BitVec 32 := Scalar.addi v160 c1_i32_58
  let v162 : BitVec 32 := Scalar.subi v161 c0_i32_59
  let c1_i32_60 : BitVec 32 := 1#32
  let v164 : BitVec 32 := Scalar.divsi v162 c1_i32_60
  let v165 : BitVec 32 := Scalar.muli v164 c1_i32_60
  let v166 : BitVec 32 := Scalar.addi c0_i32_59 v165
  let c1_i32_61 : BitVec 32 := 1#32
  ⟨c0_i32_59, v166, c1_i32_61⟩

def k0_mult7 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off55 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r7 : BitVec 32 := 0#32
  ![v1213.toNat, 0]
@[reducible] def k0_t22_loop (v16 : BitVec 32) (v31 : BitVec 32) (v68 : BitVec 32) (v105 : BitVec 32) (v142 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off56 (v16 : BitVec 32) (v31 : BitVec 32) (v68 : BitVec 32) (v105 : BitVec 32) (v142 : BitVec 32) (arg13 : BitVec 32) (k0_t22 : Fin (k0_t22_loop v16 v31 v68 v105 v142 arg13).trips) : Fin 2 → Nat :=
  let c1_i32_473 : BitVec 32 := 1#32
  let arg14 : BitVec 32 := Scf.iv arg13 c1_i32_473 k0_t22
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off57 (v16 : BitVec 32) (v31 : BitVec 32) (v68 : BitVec 32) (v105 : BitVec 32) (v142 : BitVec 32) (arg13 : BitVec 32) (k0_t22 : Fin (k0_t22_loop v16 v31 v68 v105 v142 arg13).trips) : Fin 2 → Nat :=
  let c1_i32_473 : BitVec 32 := 1#32
  let arg14 : BitVec 32 := Scf.iv arg13 c1_i32_473 k0_t22
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off58 (v16 : BitVec 32) (v31 : BitVec 32) (v68 : BitVec 32) (v105 : BitVec 32) (v142 : BitVec 32) (arg13 : BitVec 32) (k0_t22 : Fin (k0_t22_loop v16 v31 v68 v105 v142 arg13).trips) : Fin 2 → Nat :=
  let c1_i32_473 : BitVec 32 := 1#32
  let arg14 : BitVec 32 := Scf.iv arg13 c1_i32_473 k0_t22
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off59 (v16 : BitVec 32) (v31 : BitVec 32) (v68 : BitVec 32) (v105 : BitVec 32) (v142 : BitVec 32) (arg13 : BitVec 32) (k0_t22 : Fin (k0_t22_loop v16 v31 v68 v105 v142 arg13).trips) : Fin 2 → Nat :=
  let c1_i32_473 : BitVec 32 := 1#32
  let arg14 : BitVec 32 := Scf.iv arg13 c1_i32_473 k0_t22
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t23_loop (v16 : BitVec 32) (v31 : BitVec 32) (v68 : BitVec 32) (v105 : BitVec 32) (v142 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off60 (v16 : BitVec 32) (v31 : BitVec 32) (v68 : BitVec 32) (v105 : BitVec 32) (v142 : BitVec 32) (arg13 : BitVec 32) (k0_t23 : Fin (k0_t23_loop v16 v31 v68 v105 v142 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t23
  let v1224 : BitVec 32 := Scalar.subi arg14 v1213
  let v1225 : Index := Scalar.indexCast v1224
  let c0_475 : Index := 0#32
  ![v1225.toNat, 0]
def k0_off61 (v16 : BitVec 32) (v31 : BitVec 32) (v68 : BitVec 32) (v105 : BitVec 32) (v142 : BitVec 32) (arg13 : BitVec 32) (k0_t23 : Fin (k0_t23_loop v16 v31 v68 v105 v142 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t23
  let v1224 : BitVec 32 := Scalar.subi arg14 v1213
  let v1228 : Index := Scalar.indexCast v1224
  let c16_476 : Index := 16#32
  ![v1228.toNat, 16]
def k0_off62 (v16 : BitVec 32) (v31 : BitVec 32) (v68 : BitVec 32) (v105 : BitVec 32) (v142 : BitVec 32) (arg13 : BitVec 32) (k0_t23 : Fin (k0_t23_loop v16 v31 v68 v105 v142 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t23
  let v1224 : BitVec 32 := Scalar.subi arg14 v1213
  let v1231 : Index := Scalar.indexCast v1224
  let c32_477 : Index := 32#32
  ![v1231.toNat, 32]
def k0_off63 (v16 : BitVec 32) (v31 : BitVec 32) (v68 : BitVec 32) (v105 : BitVec 32) (v142 : BitVec 32) (arg13 : BitVec 32) (k0_t23 : Fin (k0_t23_loop v16 v31 v68 v105 v142 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t23
  let v1224 : BitVec 32 := Scalar.subi arg14 v1213
  let v1234 : Index := Scalar.indexCast v1224
  let c48_478 : Index := 48#32
  ![v1234.toNat, 48]

def k0_chk15 (v16 : BitVec 32) (v31 : BitVec 32) (v68 : BitVec 32) (v105 : BitVec 32) (v142 : BitVec 32) (arg13 : BitVec 32) : Prop :=
  (8 ∣ (k0_mult7 arg13).toNat) ∧
  (∀ a, (k0_off55 arg13) a + S512x128.size a ≤ S320000x128.size a) ∧
  ((k0_t22_loop v16 v31 v68 v105 v142 arg13).OK) ∧
  (∀ k0_t22 : Fin (k0_t22_loop v16 v31 v68 v105 v142 arg13).trips, ∀ a, (k0_off56 v16 v31 v68 v105 v142 arg13 k0_t22) a + S1x16.size a ≤ S512x128.size a) ∧
  (∀ k0_t22 : Fin (k0_t22_loop v16 v31 v68 v105 v142 arg13).trips, ∀ a, (k0_off57 v16 v31 v68 v105 v142 arg13 k0_t22) a + S1x16.size a ≤ S512x128.size a) ∧
  (∀ k0_t22 : Fin (k0_t22_loop v16 v31 v68 v105 v142 arg13).trips, ∀ a, (k0_off58 v16 v31 v68 v105 v142 arg13 k0_t22) a + S1x16.size a ≤ S512x128.size a) ∧
  (∀ k0_t22 : Fin (k0_t22_loop v16 v31 v68 v105 v142 arg13).trips, ∀ a, (k0_off59 v16 v31 v68 v105 v142 arg13 k0_t22) a + S1x16.size a ≤ S512x128.size a) ∧
  ((k0_t23_loop v16 v31 v68 v105 v142 arg13).OK) ∧
  (∀ k0_t23 : Fin (k0_t23_loop v16 v31 v68 v105 v142 arg13).trips, ∀ a, (k0_off60 v16 v31 v68 v105 v142 arg13 k0_t23) a + S1x16.size a ≤ S512x128.size a) ∧
  (∀ k0_t23 : Fin (k0_t23_loop v16 v31 v68 v105 v142 arg13).trips, ∀ a, (k0_off61 v16 v31 v68 v105 v142 arg13 k0_t23) a + S1x16.size a ≤ S512x128.size a) ∧
  (∀ k0_t23 : Fin (k0_t23_loop v16 v31 v68 v105 v142 arg13).trips, ∀ a, (k0_off62 v16 v31 v68 v105 v142 arg13 k0_t23) a + S1x16.size a ≤ S512x128.size a) ∧
  (∀ k0_t23 : Fin (k0_t23_loop v16 v31 v68 v105 v142 arg13).trips, ∀ a, (k0_off63 v16 v31 v68 v105 v142 arg13 k0_t23) a + S1x16.size a ≤ S512x128.size a)
theorem k0_mult7_dvd : ∀ (v16 : BitVec 32) (v31 : BitVec 32) (v68 : BitVec 32) (v105 : BitVec 32) (v142 : BitVec 32) (arg13 : BitVec 32) (k0_hw15 : k0_chk15 v16 v31 v68 v105 v142 arg13), 8 ∣ (k0_mult7 arg13).toNat := fun v16 v31 v68 v105 v142 arg13 k0_hw15 => k0_hw15.1
theorem k0_off55_inb : ∀ (v16 : BitVec 32) (v31 : BitVec 32) (v68 : BitVec 32) (v105 : BitVec 32) (v142 : BitVec 32) (arg13 : BitVec 32) (k0_hw15 : k0_chk15 v16 v31 v68 v105 v142 arg13), ∀ a, (k0_off55 arg13) a + S512x128.size a ≤ S320000x128.size a := fun v16 v31 v68 v105 v142 arg13 k0_hw15 => k0_hw15.2.1
theorem k0_t22_ok : ∀ (v16 : BitVec 32) (v31 : BitVec 32) (v68 : BitVec 32) (v105 : BitVec 32) (v142 : BitVec 32) (arg13 : BitVec 32) (k0_hw15 : k0_chk15 v16 v31 v68 v105 v142 arg13), (k0_t22_loop v16 v31 v68 v105 v142 arg13).OK := fun v16 v31 v68 v105 v142 arg13 k0_hw15 => k0_hw15.2.2.1
theorem k0_off56_inb : ∀ (v16 : BitVec 32) (v31 : BitVec 32) (v68 : BitVec 32) (v105 : BitVec 32) (v142 : BitVec 32) (arg13 : BitVec 32) (k0_hw15 : k0_chk15 v16 v31 v68 v105 v142 arg13) (k0_t22 : Fin (k0_t22_loop v16 v31 v68 v105 v142 arg13).trips), ∀ a, (k0_off56 v16 v31 v68 v105 v142 arg13 k0_t22) a + S1x16.size a ≤ S512x128.size a := fun v16 v31 v68 v105 v142 arg13 k0_hw15 k0_t22 => k0_hw15.2.2.2.1 k0_t22
theorem k0_off57_inb : ∀ (v16 : BitVec 32) (v31 : BitVec 32) (v68 : BitVec 32) (v105 : BitVec 32) (v142 : BitVec 32) (arg13 : BitVec 32) (k0_hw15 : k0_chk15 v16 v31 v68 v105 v142 arg13) (k0_t22 : Fin (k0_t22_loop v16 v31 v68 v105 v142 arg13).trips), ∀ a, (k0_off57 v16 v31 v68 v105 v142 arg13 k0_t22) a + S1x16.size a ≤ S512x128.size a := fun v16 v31 v68 v105 v142 arg13 k0_hw15 k0_t22 => k0_hw15.2.2.2.2.1 k0_t22
theorem k0_off58_inb : ∀ (v16 : BitVec 32) (v31 : BitVec 32) (v68 : BitVec 32) (v105 : BitVec 32) (v142 : BitVec 32) (arg13 : BitVec 32) (k0_hw15 : k0_chk15 v16 v31 v68 v105 v142 arg13) (k0_t22 : Fin (k0_t22_loop v16 v31 v68 v105 v142 arg13).trips), ∀ a, (k0_off58 v16 v31 v68 v105 v142 arg13 k0_t22) a + S1x16.size a ≤ S512x128.size a := fun v16 v31 v68 v105 v142 arg13 k0_hw15 k0_t22 => k0_hw15.2.2.2.2.2.1 k0_t22
theorem k0_off59_inb : ∀ (v16 : BitVec 32) (v31 : BitVec 32) (v68 : BitVec 32) (v105 : BitVec 32) (v142 : BitVec 32) (arg13 : BitVec 32) (k0_hw15 : k0_chk15 v16 v31 v68 v105 v142 arg13) (k0_t22 : Fin (k0_t22_loop v16 v31 v68 v105 v142 arg13).trips), ∀ a, (k0_off59 v16 v31 v68 v105 v142 arg13 k0_t22) a + S1x16.size a ≤ S512x128.size a := fun v16 v31 v68 v105 v142 arg13 k0_hw15 k0_t22 => k0_hw15.2.2.2.2.2.2.1 k0_t22
theorem k0_t23_ok : ∀ (v16 : BitVec 32) (v31 : BitVec 32) (v68 : BitVec 32) (v105 : BitVec 32) (v142 : BitVec 32) (arg13 : BitVec 32) (k0_hw15 : k0_chk15 v16 v31 v68 v105 v142 arg13), (k0_t23_loop v16 v31 v68 v105 v142 arg13).OK := fun v16 v31 v68 v105 v142 arg13 k0_hw15 => k0_hw15.2.2.2.2.2.2.2.1
theorem k0_off60_inb : ∀ (v16 : BitVec 32) (v31 : BitVec 32) (v68 : BitVec 32) (v105 : BitVec 32) (v142 : BitVec 32) (arg13 : BitVec 32) (k0_hw15 : k0_chk15 v16 v31 v68 v105 v142 arg13) (k0_t23 : Fin (k0_t23_loop v16 v31 v68 v105 v142 arg13).trips), ∀ a, (k0_off60 v16 v31 v68 v105 v142 arg13 k0_t23) a + S1x16.size a ≤ S512x128.size a := fun v16 v31 v68 v105 v142 arg13 k0_hw15 k0_t23 => k0_hw15.2.2.2.2.2.2.2.2.1 k0_t23
theorem k0_off61_inb : ∀ (v16 : BitVec 32) (v31 : BitVec 32) (v68 : BitVec 32) (v105 : BitVec 32) (v142 : BitVec 32) (arg13 : BitVec 32) (k0_hw15 : k0_chk15 v16 v31 v68 v105 v142 arg13) (k0_t23 : Fin (k0_t23_loop v16 v31 v68 v105 v142 arg13).trips), ∀ a, (k0_off61 v16 v31 v68 v105 v142 arg13 k0_t23) a + S1x16.size a ≤ S512x128.size a := fun v16 v31 v68 v105 v142 arg13 k0_hw15 k0_t23 => k0_hw15.2.2.2.2.2.2.2.2.2.1 k0_t23
theorem k0_off62_inb : ∀ (v16 : BitVec 32) (v31 : BitVec 32) (v68 : BitVec 32) (v105 : BitVec 32) (v142 : BitVec 32) (arg13 : BitVec 32) (k0_hw15 : k0_chk15 v16 v31 v68 v105 v142 arg13) (k0_t23 : Fin (k0_t23_loop v16 v31 v68 v105 v142 arg13).trips), ∀ a, (k0_off62 v16 v31 v68 v105 v142 arg13 k0_t23) a + S1x16.size a ≤ S512x128.size a := fun v16 v31 v68 v105 v142 arg13 k0_hw15 k0_t23 => k0_hw15.2.2.2.2.2.2.2.2.2.2.1 k0_t23
theorem k0_off63_inb : ∀ (v16 : BitVec 32) (v31 : BitVec 32) (v68 : BitVec 32) (v105 : BitVec 32) (v142 : BitVec 32) (arg13 : BitVec 32) (k0_hw15 : k0_chk15 v16 v31 v68 v105 v142 arg13) (k0_t23 : Fin (k0_t23_loop v16 v31 v68 v105 v142 arg13).trips), ∀ a, (k0_off63 v16 v31 v68 v105 v142 arg13 k0_t23) a + S1x16.size a ≤ S512x128.size a := fun v16 v31 v68 v105 v142 arg13 k0_hw15 k0_t23 => k0_hw15.2.2.2.2.2.2.2.2.2.2.2 k0_t23

@[reducible] def k0_t24_loop (v142 : BitVec 32) : Scf.Loop 32 :=
  let c0_i32_59 : BitVec 32 := 0#32
  let c0_i32_52 : BitVec 32 := 0#32
  let v145 : BitVec 1 := Scalar.cmpi .sgt v142 c0_i32_52
  let v146 : BitVec 32 := Scalar.extui v145
  let c0_i32_53 : BitVec 32 := 0#32
  let v147 : BitVec 1 := Scalar.cmpi .slt v142 c0_i32_53
  let v148 : BitVec 32 := Scalar.extui v147
  let v149 : BitVec 32 := Scalar.subi v146 v148
  let c504_i32_51 : BitVec 32 := 504#32
  let c0_i32_54 : BitVec 32 := 0#32
  let v150 : BitVec 1 := Scalar.cmpi .sgt c504_i32_51 c0_i32_54
  let v151 : BitVec 32 := Scalar.extui v150
  let c0_i32_55 : BitVec 32 := 0#32
  let v152 : BitVec 1 := Scalar.cmpi .slt c504_i32_51 c0_i32_55
  let v153 : BitVec 32 := Scalar.extui v152
  let v154 : BitVec 32 := Scalar.subi v151 v153
  let v155 : BitVec 1 := Scalar.cmpi .ne v149 v154
  let v156 : BitVec 32 := Scalar.remsi v142 c504_i32_51
  let c0_i32_56 : BitVec 32 := 0#32
  let v157 : BitVec 1 := Scalar.cmpi .ne v156 c0_i32_56
  let v158 : BitVec 1 := Scalar.andi v155 v157
  let v144 : BitVec 32 := Scalar.divsi v142 c504_i32_51
  let c1_i32_57 : BitVec 32 := 1#32
  let v159 : BitVec 32 := Scalar.subi v144 c1_i32_57
  let v160 : BitVec 32 := Scalar.select v158 v159 v144
  let c1_i32_58 : BitVec 32 := 1#32
  let v161 : BitVec 32 := Scalar.addi v160 c1_i32_58
  let v162 : BitVec 32 := Scalar.subi v161 c0_i32_59
  let c1_i32_60 : BitVec 32 := 1#32
  let v164 : BitVec 32 := Scalar.divsi v162 c1_i32_60
  let v165 : BitVec 32 := Scalar.muli v164 c1_i32_60
  let v166 : BitVec 32 := Scalar.addi c0_i32_59 v165
  let v163 : BitVec 32 := Scalar.addi c0_i32_59 v162
  let c1_i32_62 : BitVec 32 := 1#32
  ⟨v166, v163, c1_i32_62⟩

def k0_chk14 (v142 : BitVec 32) : Prop :=
  ((k0_t21_loop v142).OK) ∧
  ((k0_t24_loop v142).OK)
theorem k0_t21_ok : ∀ (v142 : BitVec 32) (k0_hw14 : k0_chk14 v142), (k0_t21_loop v142).OK := fun v142 k0_hw14 => k0_hw14.1
theorem k0_t24_ok : ∀ (v142 : BitVec 32) (k0_hw14 : k0_chk14 v142), (k0_t24_loop v142).OK := fun v142 k0_hw14 => k0_hw14.2

def k0_mult8 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off64 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r8 : BitVec 32 := 0#32
  ![v1213.toNat, 0]
@[reducible] def k0_t25_loop (v16 : BitVec 32) (v31 : BitVec 32) (v68 : BitVec 32) (v105 : BitVec 32) (v142 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off65 (v16 : BitVec 32) (v31 : BitVec 32) (v68 : BitVec 32) (v105 : BitVec 32) (v142 : BitVec 32) (arg13 : BitVec 32) (k0_t25 : Fin (k0_t25_loop v16 v31 v68 v105 v142 arg13).trips) : Fin 2 → Nat :=
  let c1_i32_473 : BitVec 32 := 1#32
  let arg14 : BitVec 32 := Scf.iv arg13 c1_i32_473 k0_t25
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off66 (v16 : BitVec 32) (v31 : BitVec 32) (v68 : BitVec 32) (v105 : BitVec 32) (v142 : BitVec 32) (arg13 : BitVec 32) (k0_t25 : Fin (k0_t25_loop v16 v31 v68 v105 v142 arg13).trips) : Fin 2 → Nat :=
  let c1_i32_473 : BitVec 32 := 1#32
  let arg14 : BitVec 32 := Scf.iv arg13 c1_i32_473 k0_t25
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off67 (v16 : BitVec 32) (v31 : BitVec 32) (v68 : BitVec 32) (v105 : BitVec 32) (v142 : BitVec 32) (arg13 : BitVec 32) (k0_t25 : Fin (k0_t25_loop v16 v31 v68 v105 v142 arg13).trips) : Fin 2 → Nat :=
  let c1_i32_473 : BitVec 32 := 1#32
  let arg14 : BitVec 32 := Scf.iv arg13 c1_i32_473 k0_t25
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off68 (v16 : BitVec 32) (v31 : BitVec 32) (v68 : BitVec 32) (v105 : BitVec 32) (v142 : BitVec 32) (arg13 : BitVec 32) (k0_t25 : Fin (k0_t25_loop v16 v31 v68 v105 v142 arg13).trips) : Fin 2 → Nat :=
  let c1_i32_473 : BitVec 32 := 1#32
  let arg14 : BitVec 32 := Scf.iv arg13 c1_i32_473 k0_t25
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t26_loop (v16 : BitVec 32) (v31 : BitVec 32) (v68 : BitVec 32) (v105 : BitVec 32) (v142 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off69 (v16 : BitVec 32) (v31 : BitVec 32) (v68 : BitVec 32) (v105 : BitVec 32) (v142 : BitVec 32) (arg13 : BitVec 32) (k0_t26 : Fin (k0_t26_loop v16 v31 v68 v105 v142 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t26
  let v1224 : BitVec 32 := Scalar.subi arg14 v1213
  let v1225 : Index := Scalar.indexCast v1224
  let c0_475 : Index := 0#32
  ![v1225.toNat, 0]
def k0_off70 (v16 : BitVec 32) (v31 : BitVec 32) (v68 : BitVec 32) (v105 : BitVec 32) (v142 : BitVec 32) (arg13 : BitVec 32) (k0_t26 : Fin (k0_t26_loop v16 v31 v68 v105 v142 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t26
  let v1224 : BitVec 32 := Scalar.subi arg14 v1213
  let v1228 : Index := Scalar.indexCast v1224
  let c16_476 : Index := 16#32
  ![v1228.toNat, 16]
def k0_off71 (v16 : BitVec 32) (v31 : BitVec 32) (v68 : BitVec 32) (v105 : BitVec 32) (v142 : BitVec 32) (arg13 : BitVec 32) (k0_t26 : Fin (k0_t26_loop v16 v31 v68 v105 v142 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t26
  let v1224 : BitVec 32 := Scalar.subi arg14 v1213
  let v1231 : Index := Scalar.indexCast v1224
  let c32_477 : Index := 32#32
  ![v1231.toNat, 32]
def k0_off72 (v16 : BitVec 32) (v31 : BitVec 32) (v68 : BitVec 32) (v105 : BitVec 32) (v142 : BitVec 32) (arg13 : BitVec 32) (k0_t26 : Fin (k0_t26_loop v16 v31 v68 v105 v142 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v143 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t26
  let v1224 : BitVec 32 := Scalar.subi arg14 v1213
  let v1234 : Index := Scalar.indexCast v1224
  let c48_478 : Index := 48#32
  ![v1234.toNat, 48]

def k0_chk16 (v16 : BitVec 32) (v31 : BitVec 32) (v68 : BitVec 32) (v105 : BitVec 32) (v142 : BitVec 32) (arg13 : BitVec 32) : Prop :=
  (8 ∣ (k0_mult8 arg13).toNat) ∧
  (∀ a, (k0_off64 arg13) a + S512x128.size a ≤ S320000x128.size a) ∧
  ((k0_t25_loop v16 v31 v68 v105 v142 arg13).OK) ∧
  (∀ k0_t25 : Fin (k0_t25_loop v16 v31 v68 v105 v142 arg13).trips, ∀ a, (k0_off65 v16 v31 v68 v105 v142 arg13 k0_t25) a + S1x16.size a ≤ S512x128.size a) ∧
  (∀ k0_t25 : Fin (k0_t25_loop v16 v31 v68 v105 v142 arg13).trips, ∀ a, (k0_off66 v16 v31 v68 v105 v142 arg13 k0_t25) a + S1x16.size a ≤ S512x128.size a) ∧
  (∀ k0_t25 : Fin (k0_t25_loop v16 v31 v68 v105 v142 arg13).trips, ∀ a, (k0_off67 v16 v31 v68 v105 v142 arg13 k0_t25) a + S1x16.size a ≤ S512x128.size a) ∧
  (∀ k0_t25 : Fin (k0_t25_loop v16 v31 v68 v105 v142 arg13).trips, ∀ a, (k0_off68 v16 v31 v68 v105 v142 arg13 k0_t25) a + S1x16.size a ≤ S512x128.size a) ∧
  ((k0_t26_loop v16 v31 v68 v105 v142 arg13).OK) ∧
  (∀ k0_t26 : Fin (k0_t26_loop v16 v31 v68 v105 v142 arg13).trips, ∀ a, (k0_off69 v16 v31 v68 v105 v142 arg13 k0_t26) a + S1x16.size a ≤ S512x128.size a) ∧
  (∀ k0_t26 : Fin (k0_t26_loop v16 v31 v68 v105 v142 arg13).trips, ∀ a, (k0_off70 v16 v31 v68 v105 v142 arg13 k0_t26) a + S1x16.size a ≤ S512x128.size a) ∧
  (∀ k0_t26 : Fin (k0_t26_loop v16 v31 v68 v105 v142 arg13).trips, ∀ a, (k0_off71 v16 v31 v68 v105 v142 arg13 k0_t26) a + S1x16.size a ≤ S512x128.size a) ∧
  (∀ k0_t26 : Fin (k0_t26_loop v16 v31 v68 v105 v142 arg13).trips, ∀ a, (k0_off72 v16 v31 v68 v105 v142 arg13 k0_t26) a + S1x16.size a ≤ S512x128.size a)
theorem k0_mult8_dvd : ∀ (v16 : BitVec 32) (v31 : BitVec 32) (v68 : BitVec 32) (v105 : BitVec 32) (v142 : BitVec 32) (arg13 : BitVec 32) (k0_hw16 : k0_chk16 v16 v31 v68 v105 v142 arg13), 8 ∣ (k0_mult8 arg13).toNat := fun v16 v31 v68 v105 v142 arg13 k0_hw16 => k0_hw16.1
theorem k0_off64_inb : ∀ (v16 : BitVec 32) (v31 : BitVec 32) (v68 : BitVec 32) (v105 : BitVec 32) (v142 : BitVec 32) (arg13 : BitVec 32) (k0_hw16 : k0_chk16 v16 v31 v68 v105 v142 arg13), ∀ a, (k0_off64 arg13) a + S512x128.size a ≤ S320000x128.size a := fun v16 v31 v68 v105 v142 arg13 k0_hw16 => k0_hw16.2.1
theorem k0_t25_ok : ∀ (v16 : BitVec 32) (v31 : BitVec 32) (v68 : BitVec 32) (v105 : BitVec 32) (v142 : BitVec 32) (arg13 : BitVec 32) (k0_hw16 : k0_chk16 v16 v31 v68 v105 v142 arg13), (k0_t25_loop v16 v31 v68 v105 v142 arg13).OK := fun v16 v31 v68 v105 v142 arg13 k0_hw16 => k0_hw16.2.2.1
theorem k0_off65_inb : ∀ (v16 : BitVec 32) (v31 : BitVec 32) (v68 : BitVec 32) (v105 : BitVec 32) (v142 : BitVec 32) (arg13 : BitVec 32) (k0_hw16 : k0_chk16 v16 v31 v68 v105 v142 arg13) (k0_t25 : Fin (k0_t25_loop v16 v31 v68 v105 v142 arg13).trips), ∀ a, (k0_off65 v16 v31 v68 v105 v142 arg13 k0_t25) a + S1x16.size a ≤ S512x128.size a := fun v16 v31 v68 v105 v142 arg13 k0_hw16 k0_t25 => k0_hw16.2.2.2.1 k0_t25
theorem k0_off66_inb : ∀ (v16 : BitVec 32) (v31 : BitVec 32) (v68 : BitVec 32) (v105 : BitVec 32) (v142 : BitVec 32) (arg13 : BitVec 32) (k0_hw16 : k0_chk16 v16 v31 v68 v105 v142 arg13) (k0_t25 : Fin (k0_t25_loop v16 v31 v68 v105 v142 arg13).trips), ∀ a, (k0_off66 v16 v31 v68 v105 v142 arg13 k0_t25) a + S1x16.size a ≤ S512x128.size a := fun v16 v31 v68 v105 v142 arg13 k0_hw16 k0_t25 => k0_hw16.2.2.2.2.1 k0_t25
theorem k0_off67_inb : ∀ (v16 : BitVec 32) (v31 : BitVec 32) (v68 : BitVec 32) (v105 : BitVec 32) (v142 : BitVec 32) (arg13 : BitVec 32) (k0_hw16 : k0_chk16 v16 v31 v68 v105 v142 arg13) (k0_t25 : Fin (k0_t25_loop v16 v31 v68 v105 v142 arg13).trips), ∀ a, (k0_off67 v16 v31 v68 v105 v142 arg13 k0_t25) a + S1x16.size a ≤ S512x128.size a := fun v16 v31 v68 v105 v142 arg13 k0_hw16 k0_t25 => k0_hw16.2.2.2.2.2.1 k0_t25
theorem k0_off68_inb : ∀ (v16 : BitVec 32) (v31 : BitVec 32) (v68 : BitVec 32) (v105 : BitVec 32) (v142 : BitVec 32) (arg13 : BitVec 32) (k0_hw16 : k0_chk16 v16 v31 v68 v105 v142 arg13) (k0_t25 : Fin (k0_t25_loop v16 v31 v68 v105 v142 arg13).trips), ∀ a, (k0_off68 v16 v31 v68 v105 v142 arg13 k0_t25) a + S1x16.size a ≤ S512x128.size a := fun v16 v31 v68 v105 v142 arg13 k0_hw16 k0_t25 => k0_hw16.2.2.2.2.2.2.1 k0_t25
theorem k0_t26_ok : ∀ (v16 : BitVec 32) (v31 : BitVec 32) (v68 : BitVec 32) (v105 : BitVec 32) (v142 : BitVec 32) (arg13 : BitVec 32) (k0_hw16 : k0_chk16 v16 v31 v68 v105 v142 arg13), (k0_t26_loop v16 v31 v68 v105 v142 arg13).OK := fun v16 v31 v68 v105 v142 arg13 k0_hw16 => k0_hw16.2.2.2.2.2.2.2.1
theorem k0_off69_inb : ∀ (v16 : BitVec 32) (v31 : BitVec 32) (v68 : BitVec 32) (v105 : BitVec 32) (v142 : BitVec 32) (arg13 : BitVec 32) (k0_hw16 : k0_chk16 v16 v31 v68 v105 v142 arg13) (k0_t26 : Fin (k0_t26_loop v16 v31 v68 v105 v142 arg13).trips), ∀ a, (k0_off69 v16 v31 v68 v105 v142 arg13 k0_t26) a + S1x16.size a ≤ S512x128.size a := fun v16 v31 v68 v105 v142 arg13 k0_hw16 k0_t26 => k0_hw16.2.2.2.2.2.2.2.2.1 k0_t26
theorem k0_off70_inb : ∀ (v16 : BitVec 32) (v31 : BitVec 32) (v68 : BitVec 32) (v105 : BitVec 32) (v142 : BitVec 32) (arg13 : BitVec 32) (k0_hw16 : k0_chk16 v16 v31 v68 v105 v142 arg13) (k0_t26 : Fin (k0_t26_loop v16 v31 v68 v105 v142 arg13).trips), ∀ a, (k0_off70 v16 v31 v68 v105 v142 arg13 k0_t26) a + S1x16.size a ≤ S512x128.size a := fun v16 v31 v68 v105 v142 arg13 k0_hw16 k0_t26 => k0_hw16.2.2.2.2.2.2.2.2.2.1 k0_t26
theorem k0_off71_inb : ∀ (v16 : BitVec 32) (v31 : BitVec 32) (v68 : BitVec 32) (v105 : BitVec 32) (v142 : BitVec 32) (arg13 : BitVec 32) (k0_hw16 : k0_chk16 v16 v31 v68 v105 v142 arg13) (k0_t26 : Fin (k0_t26_loop v16 v31 v68 v105 v142 arg13).trips), ∀ a, (k0_off71 v16 v31 v68 v105 v142 arg13 k0_t26) a + S1x16.size a ≤ S512x128.size a := fun v16 v31 v68 v105 v142 arg13 k0_hw16 k0_t26 => k0_hw16.2.2.2.2.2.2.2.2.2.2.1 k0_t26
theorem k0_off72_inb : ∀ (v16 : BitVec 32) (v31 : BitVec 32) (v68 : BitVec 32) (v105 : BitVec 32) (v142 : BitVec 32) (arg13 : BitVec 32) (k0_hw16 : k0_chk16 v16 v31 v68 v105 v142 arg13) (k0_t26 : Fin (k0_t26_loop v16 v31 v68 v105 v142 arg13).trips), ∀ a, (k0_off72 v16 v31 v68 v105 v142 arg13 k0_t26) a + S1x16.size a ≤ S512x128.size a := fun v16 v31 v68 v105 v142 arg13 k0_hw16 k0_t26 => k0_hw16.2.2.2.2.2.2.2.2.2.2.2 k0_t26

@[reducible] def k0_t27_loop (v179 : BitVec 32) : Scf.Loop 32 :=
  let c0_i32_73 : BitVec 32 := 0#32
  let c0_i32_66 : BitVec 32 := 0#32
  let v182 : BitVec 1 := Scalar.cmpi .sgt v179 c0_i32_66
  let v183 : BitVec 32 := Scalar.extui v182
  let c0_i32_67 : BitVec 32 := 0#32
  let v184 : BitVec 1 := Scalar.cmpi .slt v179 c0_i32_67
  let v185 : BitVec 32 := Scalar.extui v184
  let v186 : BitVec 32 := Scalar.subi v183 v185
  let c504_i32_65 : BitVec 32 := 504#32
  let c0_i32_68 : BitVec 32 := 0#32
  let v187 : BitVec 1 := Scalar.cmpi .sgt c504_i32_65 c0_i32_68
  let v188 : BitVec 32 := Scalar.extui v187
  let c0_i32_69 : BitVec 32 := 0#32
  let v189 : BitVec 1 := Scalar.cmpi .slt c504_i32_65 c0_i32_69
  let v190 : BitVec 32 := Scalar.extui v189
  let v191 : BitVec 32 := Scalar.subi v188 v190
  let v192 : BitVec 1 := Scalar.cmpi .ne v186 v191
  let v193 : BitVec 32 := Scalar.remsi v179 c504_i32_65
  let c0_i32_70 : BitVec 32 := 0#32
  let v194 : BitVec 1 := Scalar.cmpi .ne v193 c0_i32_70
  let v195 : BitVec 1 := Scalar.andi v192 v194
  let v181 : BitVec 32 := Scalar.divsi v179 c504_i32_65
  let c1_i32_71 : BitVec 32 := 1#32
  let v196 : BitVec 32 := Scalar.subi v181 c1_i32_71
  let v197 : BitVec 32 := Scalar.select v195 v196 v181
  let c1_i32_72 : BitVec 32 := 1#32
  let v198 : BitVec 32 := Scalar.addi v197 c1_i32_72
  let v199 : BitVec 32 := Scalar.subi v198 c0_i32_73
  let c1_i32_74 : BitVec 32 := 1#32
  let v201 : BitVec 32 := Scalar.divsi v199 c1_i32_74
  let v202 : BitVec 32 := Scalar.muli v201 c1_i32_74
  let v203 : BitVec 32 := Scalar.addi c0_i32_73 v202
  let c1_i32_75 : BitVec 32 := 1#32
  ⟨c0_i32_73, v203, c1_i32_75⟩

def k0_mult9 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off73 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r9 : BitVec 32 := 0#32
  ![v1213.toNat, 0]
@[reducible] def k0_t28_loop (v16 : BitVec 32) (v31 : BitVec 32) (v68 : BitVec 32) (v105 : BitVec 32) (v142 : BitVec 32) (v179 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off74 (v16 : BitVec 32) (v31 : BitVec 32) (v68 : BitVec 32) (v105 : BitVec 32) (v142 : BitVec 32) (v179 : BitVec 32) (arg13 : BitVec 32) (k0_t28 : Fin (k0_t28_loop v16 v31 v68 v105 v142 v179 arg13).trips) : Fin 2 → Nat :=
  let c1_i32_473 : BitVec 32 := 1#32
  let arg14 : BitVec 32 := Scf.iv arg13 c1_i32_473 k0_t28
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off75 (v16 : BitVec 32) (v31 : BitVec 32) (v68 : BitVec 32) (v105 : BitVec 32) (v142 : BitVec 32) (v179 : BitVec 32) (arg13 : BitVec 32) (k0_t28 : Fin (k0_t28_loop v16 v31 v68 v105 v142 v179 arg13).trips) : Fin 2 → Nat :=
  let c1_i32_473 : BitVec 32 := 1#32
  let arg14 : BitVec 32 := Scf.iv arg13 c1_i32_473 k0_t28
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off76 (v16 : BitVec 32) (v31 : BitVec 32) (v68 : BitVec 32) (v105 : BitVec 32) (v142 : BitVec 32) (v179 : BitVec 32) (arg13 : BitVec 32) (k0_t28 : Fin (k0_t28_loop v16 v31 v68 v105 v142 v179 arg13).trips) : Fin 2 → Nat :=
  let c1_i32_473 : BitVec 32 := 1#32
  let arg14 : BitVec 32 := Scf.iv arg13 c1_i32_473 k0_t28
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off77 (v16 : BitVec 32) (v31 : BitVec 32) (v68 : BitVec 32) (v105 : BitVec 32) (v142 : BitVec 32) (v179 : BitVec 32) (arg13 : BitVec 32) (k0_t28 : Fin (k0_t28_loop v16 v31 v68 v105 v142 v179 arg13).trips) : Fin 2 → Nat :=
  let c1_i32_473 : BitVec 32 := 1#32
  let arg14 : BitVec 32 := Scf.iv arg13 c1_i32_473 k0_t28
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t29_loop (v16 : BitVec 32) (v31 : BitVec 32) (v68 : BitVec 32) (v105 : BitVec 32) (v142 : BitVec 32) (v179 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off78 (v16 : BitVec 32) (v31 : BitVec 32) (v68 : BitVec 32) (v105 : BitVec 32) (v142 : BitVec 32) (v179 : BitVec 32) (arg13 : BitVec 32) (k0_t29 : Fin (k0_t29_loop v16 v31 v68 v105 v142 v179 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t29
  let v1224 : BitVec 32 := Scalar.subi arg14 v1213
  let v1225 : Index := Scalar.indexCast v1224
  let c0_475 : Index := 0#32
  ![v1225.toNat, 0]
def k0_off79 (v16 : BitVec 32) (v31 : BitVec 32) (v68 : BitVec 32) (v105 : BitVec 32) (v142 : BitVec 32) (v179 : BitVec 32) (arg13 : BitVec 32) (k0_t29 : Fin (k0_t29_loop v16 v31 v68 v105 v142 v179 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t29
  let v1224 : BitVec 32 := Scalar.subi arg14 v1213
  let v1228 : Index := Scalar.indexCast v1224
  let c16_476 : Index := 16#32
  ![v1228.toNat, 16]
def k0_off80 (v16 : BitVec 32) (v31 : BitVec 32) (v68 : BitVec 32) (v105 : BitVec 32) (v142 : BitVec 32) (v179 : BitVec 32) (arg13 : BitVec 32) (k0_t29 : Fin (k0_t29_loop v16 v31 v68 v105 v142 v179 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t29
  let v1224 : BitVec 32 := Scalar.subi arg14 v1213
  let v1231 : Index := Scalar.indexCast v1224
  let c32_477 : Index := 32#32
  ![v1231.toNat, 32]
def k0_off81 (v16 : BitVec 32) (v31 : BitVec 32) (v68 : BitVec 32) (v105 : BitVec 32) (v142 : BitVec 32) (v179 : BitVec 32) (arg13 : BitVec 32) (k0_t29 : Fin (k0_t29_loop v16 v31 v68 v105 v142 v179 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t29
  let v1224 : BitVec 32 := Scalar.subi arg14 v1213
  let v1234 : Index := Scalar.indexCast v1224
  let c48_478 : Index := 48#32
  ![v1234.toNat, 48]

def k0_chk18 (v16 : BitVec 32) (v31 : BitVec 32) (v68 : BitVec 32) (v105 : BitVec 32) (v142 : BitVec 32) (v179 : BitVec 32) (arg13 : BitVec 32) : Prop :=
  (8 ∣ (k0_mult9 arg13).toNat) ∧
  (∀ a, (k0_off73 arg13) a + S512x128.size a ≤ S320000x128.size a) ∧
  ((k0_t28_loop v16 v31 v68 v105 v142 v179 arg13).OK) ∧
  (∀ k0_t28 : Fin (k0_t28_loop v16 v31 v68 v105 v142 v179 arg13).trips, ∀ a, (k0_off74 v16 v31 v68 v105 v142 v179 arg13 k0_t28) a + S1x16.size a ≤ S512x128.size a) ∧
  (∀ k0_t28 : Fin (k0_t28_loop v16 v31 v68 v105 v142 v179 arg13).trips, ∀ a, (k0_off75 v16 v31 v68 v105 v142 v179 arg13 k0_t28) a + S1x16.size a ≤ S512x128.size a) ∧
  (∀ k0_t28 : Fin (k0_t28_loop v16 v31 v68 v105 v142 v179 arg13).trips, ∀ a, (k0_off76 v16 v31 v68 v105 v142 v179 arg13 k0_t28) a + S1x16.size a ≤ S512x128.size a) ∧
  (∀ k0_t28 : Fin (k0_t28_loop v16 v31 v68 v105 v142 v179 arg13).trips, ∀ a, (k0_off77 v16 v31 v68 v105 v142 v179 arg13 k0_t28) a + S1x16.size a ≤ S512x128.size a) ∧
  ((k0_t29_loop v16 v31 v68 v105 v142 v179 arg13).OK) ∧
  (∀ k0_t29 : Fin (k0_t29_loop v16 v31 v68 v105 v142 v179 arg13).trips, ∀ a, (k0_off78 v16 v31 v68 v105 v142 v179 arg13 k0_t29) a + S1x16.size a ≤ S512x128.size a) ∧
  (∀ k0_t29 : Fin (k0_t29_loop v16 v31 v68 v105 v142 v179 arg13).trips, ∀ a, (k0_off79 v16 v31 v68 v105 v142 v179 arg13 k0_t29) a + S1x16.size a ≤ S512x128.size a) ∧
  (∀ k0_t29 : Fin (k0_t29_loop v16 v31 v68 v105 v142 v179 arg13).trips, ∀ a, (k0_off80 v16 v31 v68 v105 v142 v179 arg13 k0_t29) a + S1x16.size a ≤ S512x128.size a) ∧
  (∀ k0_t29 : Fin (k0_t29_loop v16 v31 v68 v105 v142 v179 arg13).trips, ∀ a, (k0_off81 v16 v31 v68 v105 v142 v179 arg13 k0_t29) a + S1x16.size a ≤ S512x128.size a)
theorem k0_mult9_dvd : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13), 8 ∣ (k0_mult9 arg13).toNat := fun v16 v31 v68 v105 v142 v179 arg13 k0_hw18 => k0_hw18.1
theorem k0_off73_inb : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13), ∀ a, (k0_off73 arg13) a + S512x128.size a ≤ S320000x128.size a := fun v16 v31 v68 v105 v142 v179 arg13 k0_hw18 => k0_hw18.2.1
theorem k0_t28_ok : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13), (k0_t28_loop v16 v31 v68 v105 v142 v179 arg13).OK := fun v16 v31 v68 v105 v142 v179 arg13 k0_hw18 => k0_hw18.2.2.1
theorem k0_off74_inb : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13) (k0_t28 : Fin (k0_t28_loop v16 v31 v68 v105 v142 v179 arg13).trips), ∀ a, (k0_off74 v16 v31 v68 v105 v142 v179 arg13 k0_t28) a + S1x16.size a ≤ S512x128.size a := fun v16 v31 v68 v105 v142 v179 arg13 k0_hw18 k0_t28 => k0_hw18.2.2.2.1 k0_t28
theorem k0_off75_inb : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13) (k0_t28 : Fin (k0_t28_loop v16 v31 v68 v105 v142 v179 arg13).trips), ∀ a, (k0_off75 v16 v31 v68 v105 v142 v179 arg13 k0_t28) a + S1x16.size a ≤ S512x128.size a := fun v16 v31 v68 v105 v142 v179 arg13 k0_hw18 k0_t28 => k0_hw18.2.2.2.2.1 k0_t28
theorem k0_off76_inb : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13) (k0_t28 : Fin (k0_t28_loop v16 v31 v68 v105 v142 v179 arg13).trips), ∀ a, (k0_off76 v16 v31 v68 v105 v142 v179 arg13 k0_t28) a + S1x16.size a ≤ S512x128.size a := fun v16 v31 v68 v105 v142 v179 arg13 k0_hw18 k0_t28 => k0_hw18.2.2.2.2.2.1 k0_t28
theorem k0_off77_inb : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13) (k0_t28 : Fin (k0_t28_loop v16 v31 v68 v105 v142 v179 arg13).trips), ∀ a, (k0_off77 v16 v31 v68 v105 v142 v179 arg13 k0_t28) a + S1x16.size a ≤ S512x128.size a := fun v16 v31 v68 v105 v142 v179 arg13 k0_hw18 k0_t28 => k0_hw18.2.2.2.2.2.2.1 k0_t28
theorem k0_t29_ok : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13), (k0_t29_loop v16 v31 v68 v105 v142 v179 arg13).OK := fun v16 v31 v68 v105 v142 v179 arg13 k0_hw18 => k0_hw18.2.2.2.2.2.2.2.1
theorem k0_off78_inb : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13) (k0_t29 : Fin (k0_t29_loop v16 v31 v68 v105 v142 v179 arg13).trips), ∀ a, (k0_off78 v16 v31 v68 v105 v142 v179 arg13 k0_t29) a + S1x16.size a ≤ S512x128.size a := fun v16 v31 v68 v105 v142 v179 arg13 k0_hw18 k0_t29 => k0_hw18.2.2.2.2.2.2.2.2.1 k0_t29
theorem k0_off79_inb : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13) (k0_t29 : Fin (k0_t29_loop v16 v31 v68 v105 v142 v179 arg13).trips), ∀ a, (k0_off79 v16 v31 v68 v105 v142 v179 arg13 k0_t29) a + S1x16.size a ≤ S512x128.size a := fun v16 v31 v68 v105 v142 v179 arg13 k0_hw18 k0_t29 => k0_hw18.2.2.2.2.2.2.2.2.2.1 k0_t29
theorem k0_off80_inb : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13) (k0_t29 : Fin (k0_t29_loop v16 v31 v68 v105 v142 v179 arg13).trips), ∀ a, (k0_off80 v16 v31 v68 v105 v142 v179 arg13 k0_t29) a + S1x16.size a ≤ S512x128.size a := fun v16 v31 v68 v105 v142 v179 arg13 k0_hw18 k0_t29 => k0_hw18.2.2.2.2.2.2.2.2.2.2.1 k0_t29
theorem k0_off81_inb : ∀ (v16 : BitVec 32) (v31 : BitVec 32) (v68 : BitVec 32) (v105 : BitVec 32) (v142 : BitVec 32) (v179 : BitVec 32) (arg13 : BitVec 32) (k0_hw18 : k0_chk18 v16 v31 v68 v105 v142 v179 arg13) (k0_t29 : Fin (k0_t29_loop v16 v31 v68 v105 v142 v179 arg13).trips), ∀ a, (k0_off81 v16 v31 v68 v105 v142 v179 arg13 k0_t29) a + S1x16.size a ≤ S512x128.size a := fun v16 v31 v68 v105 v142 v179 arg13 k0_hw18 k0_t29 => k0_hw18.2.2.2.2.2.2.2.2.2.2.2 k0_t29

@[reducible] def k0_t30_loop (v179 : BitVec 32) : Scf.Loop 32 :=
  let c0_i32_73 : BitVec 32 := 0#32
  let c0_i32_66 : BitVec 32 := 0#32
  let v182 : BitVec 1 := Scalar.cmpi .sgt v179 c0_i32_66
  let v183 : BitVec 32 := Scalar.extui v182
  let c0_i32_67 : BitVec 32 := 0#32
  let v184 : BitVec 1 := Scalar.cmpi .slt v179 c0_i32_67
  let v185 : BitVec 32 := Scalar.extui v184
  let v186 : BitVec 32 := Scalar.subi v183 v185
  let c504_i32_65 : BitVec 32 := 504#32
  let c0_i32_68 : BitVec 32 := 0#32
  let v187 : BitVec 1 := Scalar.cmpi .sgt c504_i32_65 c0_i32_68
  let v188 : BitVec 32 := Scalar.extui v187
  let c0_i32_69 : BitVec 32 := 0#32
  let v189 : BitVec 1 := Scalar.cmpi .slt c504_i32_65 c0_i32_69
  let v190 : BitVec 32 := Scalar.extui v189
  let v191 : BitVec 32 := Scalar.subi v188 v190
  let v192 : BitVec 1 := Scalar.cmpi .ne v186 v191
  let v193 : BitVec 32 := Scalar.remsi v179 c504_i32_65
  let c0_i32_70 : BitVec 32 := 0#32
  let v194 : BitVec 1 := Scalar.cmpi .ne v193 c0_i32_70
  let v195 : BitVec 1 := Scalar.andi v192 v194
  let v181 : BitVec 32 := Scalar.divsi v179 c504_i32_65
  let c1_i32_71 : BitVec 32 := 1#32
  let v196 : BitVec 32 := Scalar.subi v181 c1_i32_71
  let v197 : BitVec 32 := Scalar.select v195 v196 v181
  let c1_i32_72 : BitVec 32 := 1#32
  let v198 : BitVec 32 := Scalar.addi v197 c1_i32_72
  let v199 : BitVec 32 := Scalar.subi v198 c0_i32_73
  let c1_i32_74 : BitVec 32 := 1#32
  let v201 : BitVec 32 := Scalar.divsi v199 c1_i32_74
  let v202 : BitVec 32 := Scalar.muli v201 c1_i32_74
  let v203 : BitVec 32 := Scalar.addi c0_i32_73 v202
  let v200 : BitVec 32 := Scalar.addi c0_i32_73 v199
  let c1_i32_76 : BitVec 32 := 1#32
  ⟨v203, v200, c1_i32_76⟩

def k0_chk17 (v179 : BitVec 32) : Prop :=
  ((k0_t27_loop v179).OK) ∧
  ((k0_t30_loop v179).OK)
theorem k0_t27_ok : ∀ (v179 : BitVec 32) (k0_hw17 : k0_chk17 v179), (k0_t27_loop v179).OK := fun v179 k0_hw17 => k0_hw17.1
theorem k0_t30_ok : ∀ (v179 : BitVec 32) (k0_hw17 : k0_chk17 v179), (k0_t30_loop v179).OK := fun v179 k0_hw17 => k0_hw17.2

def k0_mult10 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off82 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r10 : BitVec 32 := 0#32
  ![v1213.toNat, 0]
@[reducible] def k0_t31_loop (v16 : BitVec 32) (v31 : BitVec 32) (v68 : BitVec 32) (v105 : BitVec 32) (v142 : BitVec 32) (v179 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off83 (v16 : BitVec 32) (v31 : BitVec 32) (v68 : BitVec 32) (v105 : BitVec 32) (v142 : BitVec 32) (v179 : BitVec 32) (arg13 : BitVec 32) (k0_t31 : Fin (k0_t31_loop v16 v31 v68 v105 v142 v179 arg13).trips) : Fin 2 → Nat :=
  let c1_i32_473 : BitVec 32 := 1#32
  let arg14 : BitVec 32 := Scf.iv arg13 c1_i32_473 k0_t31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off84 (v16 : BitVec 32) (v31 : BitVec 32) (v68 : BitVec 32) (v105 : BitVec 32) (v142 : BitVec 32) (v179 : BitVec 32) (arg13 : BitVec 32) (k0_t31 : Fin (k0_t31_loop v16 v31 v68 v105 v142 v179 arg13).trips) : Fin 2 → Nat :=
  let c1_i32_473 : BitVec 32 := 1#32
  let arg14 : BitVec 32 := Scf.iv arg13 c1_i32_473 k0_t31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off85 (v16 : BitVec 32) (v31 : BitVec 32) (v68 : BitVec 32) (v105 : BitVec 32) (v142 : BitVec 32) (v179 : BitVec 32) (arg13 : BitVec 32) (k0_t31 : Fin (k0_t31_loop v16 v31 v68 v105 v142 v179 arg13).trips) : Fin 2 → Nat :=
  let c1_i32_473 : BitVec 32 := 1#32
  let arg14 : BitVec 32 := Scf.iv arg13 c1_i32_473 k0_t31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off86 (v16 : BitVec 32) (v31 : BitVec 32) (v68 : BitVec 32) (v105 : BitVec 32) (v142 : BitVec 32) (v179 : BitVec 32) (arg13 : BitVec 32) (k0_t31 : Fin (k0_t31_loop v16 v31 v68 v105 v142 v179 arg13).trips) : Fin 2 → Nat :=
  let c1_i32_473 : BitVec 32 := 1#32
  let arg14 : BitVec 32 := Scf.iv arg13 c1_i32_473 k0_t31
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t32_loop (v16 : BitVec 32) (v31 : BitVec 32) (v68 : BitVec 32) (v105 : BitVec 32) (v142 : BitVec 32) (v179 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off87 (v16 : BitVec 32) (v31 : BitVec 32) (v68 : BitVec 32) (v105 : BitVec 32) (v142 : BitVec 32) (v179 : BitVec 32) (arg13 : BitVec 32) (k0_t32 : Fin (k0_t32_loop v16 v31 v68 v105 v142 v179 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t32
  let v1224 : BitVec 32 := Scalar.subi arg14 v1213
  let v1225 : Index := Scalar.indexCast v1224
  let c0_475 : Index := 0#32
  ![v1225.toNat, 0]
def k0_off88 (v16 : BitVec 32) (v31 : BitVec 32) (v68 : BitVec 32) (v105 : BitVec 32) (v142 : BitVec 32) (v179 : BitVec 32) (arg13 : BitVec 32) (k0_t32 : Fin (k0_t32_loop v16 v31 v68 v105 v142 v179 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t32
  let v1224 : BitVec 32 := Scalar.subi arg14 v1213
  let v1228 : Index := Scalar.indexCast v1224
  let c16_476 : Index := 16#32
  ![v1228.toNat, 16]
def k0_off89 (v16 : BitVec 32) (v31 : BitVec 32) (v68 : BitVec 32) (v105 : BitVec 32) (v142 : BitVec 32) (v179 : BitVec 32) (arg13 : BitVec 32) (k0_t32 : Fin (k0_t32_loop v16 v31 v68 v105 v142 v179 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t32
  let v1224 : BitVec 32 := Scalar.subi arg14 v1213
  let v1231 : Index := Scalar.indexCast v1224
  let c32_477 : Index := 32#32
  ![v1231.toNat, 32]
def k0_off90 (v16 : BitVec 32) (v31 : BitVec 32) (v68 : BitVec 32) (v105 : BitVec 32) (v142 : BitVec 32) (v179 : BitVec 32) (arg13 : BitVec 32) (k0_t32 : Fin (k0_t32_loop v16 v31 v68 v105 v142 v179 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v180 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t32
  let v1224 : BitVec 32 := Scalar.subi arg14 v1213
  let v1234 : Index := Scalar.indexCast v1224
  let c48_478 : Index := 48#32
  ![v1234.toNat, 48]

def k0_chk19 (v16 : BitVec 32) (v31 : BitVec 32) (v68 : BitVec 32) (v105 : BitVec 32) (v142 : BitVec 32) (v179 : BitVec 32) (arg13 : BitVec 32) : Prop :=
  (8 ∣ (k0_mult10 arg13).toNat) ∧
  (∀ a, (k0_off82 arg13) a + S512x128.size a ≤ S320000x128.size a) ∧
  ((k0_t31_loop v16 v31 v68 v105 v142 v179 arg13).OK) ∧
  (∀ k0_t31 : Fin (k0_t31_loop v16 v31 v68 v105 v142 v179 arg13).trips, ∀ a, (k0_off83 v16 v31 v68 v105 v142 v179 arg13 k0_t31) a + S1x16.size a ≤ S512x128.size a) ∧
  (∀ k0_t31 : Fin (k0_t31_loop v16 v31 v68 v105 v142 v179 arg13).trips, ∀ a, (k0_off84 v16 v31 v68 v105 v142 v179 arg13 k0_t31) a + S1x16.size a ≤ S512x128.size a) ∧
  (∀ k0_t31 : Fin (k0_t31_loop v16 v31 v68 v105 v142 v179 arg13).trips, ∀ a, (k0_off85 v16 v31 v68 v105 v142 v179 arg13 k0_t31) a + S1x16.size a ≤ S512x128.size a) ∧
  (∀ k0_t31 : Fin (k0_t31_loop v16 v31 v68 v105 v142 v179 arg13).trips, ∀ a, (k0_off86 v16 v31 v68 v105 v142 v179 arg13 k0_t31) a + S1x16.size a ≤ S512x128.size a) ∧
  ((k0_t32_loop v16 v31 v68 v105 v142 v179 arg13).OK) ∧
  (∀ k0_t32 : Fin (k0_t32_loop v16 v31 v68 v105 v142 v179 arg13).trips, ∀ a, (k0_off87 v16 v31 v68 v105 v142 v179 arg13 k0_t32) a + S1x16.size a ≤ S512x128.size a) ∧
  (∀ k0_t32 : Fin (k0_t32_loop v16 v31 v68 v105 v142 v179 arg13).trips, ∀ a, (k0_off88 v16 v31 v68 v105 v142 v179 arg13 k0_t32) a + S1x16.size a ≤ S512x128.size a) ∧
  (∀ k0_t32 : Fin (k0_t32_loop v16 v31 v68 v105 v142 v179 arg13).trips, ∀ a, (k0_off89 v16 v31 v68 v105 v142 v179 arg13 k0_t32) a + S1x16.size a ≤ S512x128.size a) ∧
  (∀ k0_t32 : Fin (k0_t32_loop v16 v31 v68 v105 v142 v179 arg13).trips, ∀ a, (k0_off90 v16 v31 v68 v105 v142 v179 arg13 k0_t32) a + S1x16.size a ≤ S512x128.size a)
theorem k0_mult10_dvd : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13), 8 ∣ (k0_mult10 arg13).toNat := fun v16 v31 v68 v105 v142 v179 arg13 k0_hw19 => k0_hw19.1
theorem k0_off82_inb : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13), ∀ a, (k0_off82 arg13) a + S512x128.size a ≤ S320000x128.size a := fun v16 v31 v68 v105 v142 v179 arg13 k0_hw19 => k0_hw19.2.1
theorem k0_t31_ok : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13), (k0_t31_loop v16 v31 v68 v105 v142 v179 arg13).OK := fun v16 v31 v68 v105 v142 v179 arg13 k0_hw19 => k0_hw19.2.2.1
theorem k0_off83_inb : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13) (k0_t31 : Fin (k0_t31_loop v16 v31 v68 v105 v142 v179 arg13).trips), ∀ a, (k0_off83 v16 v31 v68 v105 v142 v179 arg13 k0_t31) a + S1x16.size a ≤ S512x128.size a := fun v16 v31 v68 v105 v142 v179 arg13 k0_hw19 k0_t31 => k0_hw19.2.2.2.1 k0_t31
theorem k0_off84_inb : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13) (k0_t31 : Fin (k0_t31_loop v16 v31 v68 v105 v142 v179 arg13).trips), ∀ a, (k0_off84 v16 v31 v68 v105 v142 v179 arg13 k0_t31) a + S1x16.size a ≤ S512x128.size a := fun v16 v31 v68 v105 v142 v179 arg13 k0_hw19 k0_t31 => k0_hw19.2.2.2.2.1 k0_t31
theorem k0_off85_inb : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13) (k0_t31 : Fin (k0_t31_loop v16 v31 v68 v105 v142 v179 arg13).trips), ∀ a, (k0_off85 v16 v31 v68 v105 v142 v179 arg13 k0_t31) a + S1x16.size a ≤ S512x128.size a := fun v16 v31 v68 v105 v142 v179 arg13 k0_hw19 k0_t31 => k0_hw19.2.2.2.2.2.1 k0_t31
theorem k0_off86_inb : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13) (k0_t31 : Fin (k0_t31_loop v16 v31 v68 v105 v142 v179 arg13).trips), ∀ a, (k0_off86 v16 v31 v68 v105 v142 v179 arg13 k0_t31) a + S1x16.size a ≤ S512x128.size a := fun v16 v31 v68 v105 v142 v179 arg13 k0_hw19 k0_t31 => k0_hw19.2.2.2.2.2.2.1 k0_t31
theorem k0_t32_ok : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13), (k0_t32_loop v16 v31 v68 v105 v142 v179 arg13).OK := fun v16 v31 v68 v105 v142 v179 arg13 k0_hw19 => k0_hw19.2.2.2.2.2.2.2.1
theorem k0_off87_inb : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13) (k0_t32 : Fin (k0_t32_loop v16 v31 v68 v105 v142 v179 arg13).trips), ∀ a, (k0_off87 v16 v31 v68 v105 v142 v179 arg13 k0_t32) a + S1x16.size a ≤ S512x128.size a := fun v16 v31 v68 v105 v142 v179 arg13 k0_hw19 k0_t32 => k0_hw19.2.2.2.2.2.2.2.2.1 k0_t32
theorem k0_off88_inb : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13) (k0_t32 : Fin (k0_t32_loop v16 v31 v68 v105 v142 v179 arg13).trips), ∀ a, (k0_off88 v16 v31 v68 v105 v142 v179 arg13 k0_t32) a + S1x16.size a ≤ S512x128.size a := fun v16 v31 v68 v105 v142 v179 arg13 k0_hw19 k0_t32 => k0_hw19.2.2.2.2.2.2.2.2.2.1 k0_t32
theorem k0_off89_inb : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13) (k0_t32 : Fin (k0_t32_loop v16 v31 v68 v105 v142 v179 arg13).trips), ∀ a, (k0_off89 v16 v31 v68 v105 v142 v179 arg13 k0_t32) a + S1x16.size a ≤ S512x128.size a := fun v16 v31 v68 v105 v142 v179 arg13 k0_hw19 k0_t32 => k0_hw19.2.2.2.2.2.2.2.2.2.2.1 k0_t32
theorem k0_off90_inb : ∀ (v16 : BitVec 32) (v31 : BitVec 32) (v68 : BitVec 32) (v105 : BitVec 32) (v142 : BitVec 32) (v179 : BitVec 32) (arg13 : BitVec 32) (k0_hw19 : k0_chk19 v16 v31 v68 v105 v142 v179 arg13) (k0_t32 : Fin (k0_t32_loop v16 v31 v68 v105 v142 v179 arg13).trips), ∀ a, (k0_off90 v16 v31 v68 v105 v142 v179 arg13 k0_t32) a + S1x16.size a ≤ S512x128.size a := fun v16 v31 v68 v105 v142 v179 arg13 k0_hw19 k0_t32 => k0_hw19.2.2.2.2.2.2.2.2.2.2.2 k0_t32

@[reducible] def k0_t33_loop (v216 : BitVec 32) : Scf.Loop 32 :=
  let c0_i32_87 : BitVec 32 := 0#32
  let c0_i32_80 : BitVec 32 := 0#32
  let v219 : BitVec 1 := Scalar.cmpi .sgt v216 c0_i32_80
  let v220 : BitVec 32 := Scalar.extui v219
  let c0_i32_81 : BitVec 32 := 0#32
  let v221 : BitVec 1 := Scalar.cmpi .slt v216 c0_i32_81
  let v222 : BitVec 32 := Scalar.extui v221
  let v223 : BitVec 32 := Scalar.subi v220 v222
  let c504_i32_79 : BitVec 32 := 504#32
  let c0_i32_82 : BitVec 32 := 0#32
  let v224 : BitVec 1 := Scalar.cmpi .sgt c504_i32_79 c0_i32_82
  let v225 : BitVec 32 := Scalar.extui v224
  let c0_i32_83 : BitVec 32 := 0#32
  let v226 : BitVec 1 := Scalar.cmpi .slt c504_i32_79 c0_i32_83
  let v227 : BitVec 32 := Scalar.extui v226
  let v228 : BitVec 32 := Scalar.subi v225 v227
  let v229 : BitVec 1 := Scalar.cmpi .ne v223 v228
  let v230 : BitVec 32 := Scalar.remsi v216 c504_i32_79
  let c0_i32_84 : BitVec 32 := 0#32
  let v231 : BitVec 1 := Scalar.cmpi .ne v230 c0_i32_84
  let v232 : BitVec 1 := Scalar.andi v229 v231
  let v218 : BitVec 32 := Scalar.divsi v216 c504_i32_79
  let c1_i32_85 : BitVec 32 := 1#32
  let v233 : BitVec 32 := Scalar.subi v218 c1_i32_85
  let v234 : BitVec 32 := Scalar.select v232 v233 v218
  let c1_i32_86 : BitVec 32 := 1#32
  let v235 : BitVec 32 := Scalar.addi v234 c1_i32_86
  let v236 : BitVec 32 := Scalar.subi v235 c0_i32_87
  let c1_i32_88 : BitVec 32 := 1#32
  let v238 : BitVec 32 := Scalar.divsi v236 c1_i32_88
  let v239 : BitVec 32 := Scalar.muli v238 c1_i32_88
  let v240 : BitVec 32 := Scalar.addi c0_i32_87 v239
  let c1_i32_89 : BitVec 32 := 1#32
  ⟨c0_i32_87, v240, c1_i32_89⟩

def k0_mult11 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off91 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r11 : BitVec 32 := 0#32
  ![v1213.toNat, 0]
@[reducible] def k0_t34_loop (v16 : BitVec 32) (v31 : BitVec 32) (v68 : BitVec 32) (v105 : BitVec 32) (v142 : BitVec 32) (v179 : BitVec 32) (v216 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off92 (v16 : BitVec 32) (v31 : BitVec 32) (v68 : BitVec 32) (v105 : BitVec 32) (v142 : BitVec 32) (v179 : BitVec 32) (v216 : BitVec 32) (arg13 : BitVec 32) (k0_t34 : Fin (k0_t34_loop v16 v31 v68 v105 v142 v179 v216 arg13).trips) : Fin 2 → Nat :=
  let c1_i32_473 : BitVec 32 := 1#32
  let arg14 : BitVec 32 := Scf.iv arg13 c1_i32_473 k0_t34
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off93 (v16 : BitVec 32) (v31 : BitVec 32) (v68 : BitVec 32) (v105 : BitVec 32) (v142 : BitVec 32) (v179 : BitVec 32) (v216 : BitVec 32) (arg13 : BitVec 32) (k0_t34 : Fin (k0_t34_loop v16 v31 v68 v105 v142 v179 v216 arg13).trips) : Fin 2 → Nat :=
  let c1_i32_473 : BitVec 32 := 1#32
  let arg14 : BitVec 32 := Scf.iv arg13 c1_i32_473 k0_t34
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off94 (v16 : BitVec 32) (v31 : BitVec 32) (v68 : BitVec 32) (v105 : BitVec 32) (v142 : BitVec 32) (v179 : BitVec 32) (v216 : BitVec 32) (arg13 : BitVec 32) (k0_t34 : Fin (k0_t34_loop v16 v31 v68 v105 v142 v179 v216 arg13).trips) : Fin 2 → Nat :=
  let c1_i32_473 : BitVec 32 := 1#32
  let arg14 : BitVec 32 := Scf.iv arg13 c1_i32_473 k0_t34
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off95 (v16 : BitVec 32) (v31 : BitVec 32) (v68 : BitVec 32) (v105 : BitVec 32) (v142 : BitVec 32) (v179 : BitVec 32) (v216 : BitVec 32) (arg13 : BitVec 32) (k0_t34 : Fin (k0_t34_loop v16 v31 v68 v105 v142 v179 v216 arg13).trips) : Fin 2 → Nat :=
  let c1_i32_473 : BitVec 32 := 1#32
  let arg14 : BitVec 32 := Scf.iv arg13 c1_i32_473 k0_t34
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t35_loop (v16 : BitVec 32) (v31 : BitVec 32) (v68 : BitVec 32) (v105 : BitVec 32) (v142 : BitVec 32) (v179 : BitVec 32) (v216 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off96 (v16 : BitVec 32) (v31 : BitVec 32) (v68 : BitVec 32) (v105 : BitVec 32) (v142 : BitVec 32) (v179 : BitVec 32) (v216 : BitVec 32) (arg13 : BitVec 32) (k0_t35 : Fin (k0_t35_loop v16 v31 v68 v105 v142 v179 v216 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t35
  let v1224 : BitVec 32 := Scalar.subi arg14 v1213
  let v1225 : Index := Scalar.indexCast v1224
  let c0_475 : Index := 0#32
  ![v1225.toNat, 0]
def k0_off97 (v16 : BitVec 32) (v31 : BitVec 32) (v68 : BitVec 32) (v105 : BitVec 32) (v142 : BitVec 32) (v179 : BitVec 32) (v216 : BitVec 32) (arg13 : BitVec 32) (k0_t35 : Fin (k0_t35_loop v16 v31 v68 v105 v142 v179 v216 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t35
  let v1224 : BitVec 32 := Scalar.subi arg14 v1213
  let v1228 : Index := Scalar.indexCast v1224
  let c16_476 : Index := 16#32
  ![v1228.toNat, 16]
def k0_off98 (v16 : BitVec 32) (v31 : BitVec 32) (v68 : BitVec 32) (v105 : BitVec 32) (v142 : BitVec 32) (v179 : BitVec 32) (v216 : BitVec 32) (arg13 : BitVec 32) (k0_t35 : Fin (k0_t35_loop v16 v31 v68 v105 v142 v179 v216 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t35
  let v1224 : BitVec 32 := Scalar.subi arg14 v1213
  let v1231 : Index := Scalar.indexCast v1224
  let c32_477 : Index := 32#32
  ![v1231.toNat, 32]
def k0_off99 (v16 : BitVec 32) (v31 : BitVec 32) (v68 : BitVec 32) (v105 : BitVec 32) (v142 : BitVec 32) (v179 : BitVec 32) (v216 : BitVec 32) (arg13 : BitVec 32) (k0_t35 : Fin (k0_t35_loop v16 v31 v68 v105 v142 v179 v216 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t35
  let v1224 : BitVec 32 := Scalar.subi arg14 v1213
  let v1234 : Index := Scalar.indexCast v1224
  let c48_478 : Index := 48#32
  ![v1234.toNat, 48]

def k0_chk21 (v16 : BitVec 32) (v31 : BitVec 32) (v68 : BitVec 32) (v105 : BitVec 32) (v142 : BitVec 32) (v179 : BitVec 32) (v216 : BitVec 32) (arg13 : BitVec 32) : Prop :=
  (8 ∣ (k0_mult11 arg13).toNat) ∧
  (∀ a, (k0_off91 arg13) a + S512x128.size a ≤ S320000x128.size a) ∧
  ((k0_t34_loop v16 v31 v68 v105 v142 v179 v216 arg13).OK) ∧
  (∀ k0_t34 : Fin (k0_t34_loop v16 v31 v68 v105 v142 v179 v216 arg13).trips, ∀ a, (k0_off92 v16 v31 v68 v105 v142 v179 v216 arg13 k0_t34) a + S1x16.size a ≤ S512x128.size a) ∧
  (∀ k0_t34 : Fin (k0_t34_loop v16 v31 v68 v105 v142 v179 v216 arg13).trips, ∀ a, (k0_off93 v16 v31 v68 v105 v142 v179 v216 arg13 k0_t34) a + S1x16.size a ≤ S512x128.size a) ∧
  (∀ k0_t34 : Fin (k0_t34_loop v16 v31 v68 v105 v142 v179 v216 arg13).trips, ∀ a, (k0_off94 v16 v31 v68 v105 v142 v179 v216 arg13 k0_t34) a + S1x16.size a ≤ S512x128.size a) ∧
  (∀ k0_t34 : Fin (k0_t34_loop v16 v31 v68 v105 v142 v179 v216 arg13).trips, ∀ a, (k0_off95 v16 v31 v68 v105 v142 v179 v216 arg13 k0_t34) a + S1x16.size a ≤ S512x128.size a) ∧
  ((k0_t35_loop v16 v31 v68 v105 v142 v179 v216 arg13).OK) ∧
  (∀ k0_t35 : Fin (k0_t35_loop v16 v31 v68 v105 v142 v179 v216 arg13).trips, ∀ a, (k0_off96 v16 v31 v68 v105 v142 v179 v216 arg13 k0_t35) a + S1x16.size a ≤ S512x128.size a) ∧
  (∀ k0_t35 : Fin (k0_t35_loop v16 v31 v68 v105 v142 v179 v216 arg13).trips, ∀ a, (k0_off97 v16 v31 v68 v105 v142 v179 v216 arg13 k0_t35) a + S1x16.size a ≤ S512x128.size a) ∧
  (∀ k0_t35 : Fin (k0_t35_loop v16 v31 v68 v105 v142 v179 v216 arg13).trips, ∀ a, (k0_off98 v16 v31 v68 v105 v142 v179 v216 arg13 k0_t35) a + S1x16.size a ≤ S512x128.size a) ∧
  (∀ k0_t35 : Fin (k0_t35_loop v16 v31 v68 v105 v142 v179 v216 arg13).trips, ∀ a, (k0_off99 v16 v31 v68 v105 v142 v179 v216 arg13 k0_t35) a + S1x16.size a ≤ S512x128.size a)
theorem k0_mult11_dvd : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13), 8 ∣ (k0_mult11 arg13).toNat := fun v16 v31 v68 v105 v142 v179 v216 arg13 k0_hw21 => k0_hw21.1
theorem k0_off91_inb : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13), ∀ a, (k0_off91 arg13) a + S512x128.size a ≤ S320000x128.size a := fun v16 v31 v68 v105 v142 v179 v216 arg13 k0_hw21 => k0_hw21.2.1
theorem k0_t34_ok : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13), (k0_t34_loop v16 v31 v68 v105 v142 v179 v216 arg13).OK := fun v16 v31 v68 v105 v142 v179 v216 arg13 k0_hw21 => k0_hw21.2.2.1
theorem k0_off92_inb : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13) (k0_t34 : Fin (k0_t34_loop v16 v31 v68 v105 v142 v179 v216 arg13).trips), ∀ a, (k0_off92 v16 v31 v68 v105 v142 v179 v216 arg13 k0_t34) a + S1x16.size a ≤ S512x128.size a := fun v16 v31 v68 v105 v142 v179 v216 arg13 k0_hw21 k0_t34 => k0_hw21.2.2.2.1 k0_t34
theorem k0_off93_inb : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13) (k0_t34 : Fin (k0_t34_loop v16 v31 v68 v105 v142 v179 v216 arg13).trips), ∀ a, (k0_off93 v16 v31 v68 v105 v142 v179 v216 arg13 k0_t34) a + S1x16.size a ≤ S512x128.size a := fun v16 v31 v68 v105 v142 v179 v216 arg13 k0_hw21 k0_t34 => k0_hw21.2.2.2.2.1 k0_t34
theorem k0_off94_inb : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13) (k0_t34 : Fin (k0_t34_loop v16 v31 v68 v105 v142 v179 v216 arg13).trips), ∀ a, (k0_off94 v16 v31 v68 v105 v142 v179 v216 arg13 k0_t34) a + S1x16.size a ≤ S512x128.size a := fun v16 v31 v68 v105 v142 v179 v216 arg13 k0_hw21 k0_t34 => k0_hw21.2.2.2.2.2.1 k0_t34
theorem k0_off95_inb : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13) (k0_t34 : Fin (k0_t34_loop v16 v31 v68 v105 v142 v179 v216 arg13).trips), ∀ a, (k0_off95 v16 v31 v68 v105 v142 v179 v216 arg13 k0_t34) a + S1x16.size a ≤ S512x128.size a := fun v16 v31 v68 v105 v142 v179 v216 arg13 k0_hw21 k0_t34 => k0_hw21.2.2.2.2.2.2.1 k0_t34
theorem k0_t35_ok : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13), (k0_t35_loop v16 v31 v68 v105 v142 v179 v216 arg13).OK := fun v16 v31 v68 v105 v142 v179 v216 arg13 k0_hw21 => k0_hw21.2.2.2.2.2.2.2.1
theorem k0_off96_inb : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13) (k0_t35 : Fin (k0_t35_loop v16 v31 v68 v105 v142 v179 v216 arg13).trips), ∀ a, (k0_off96 v16 v31 v68 v105 v142 v179 v216 arg13 k0_t35) a + S1x16.size a ≤ S512x128.size a := fun v16 v31 v68 v105 v142 v179 v216 arg13 k0_hw21 k0_t35 => k0_hw21.2.2.2.2.2.2.2.2.1 k0_t35
theorem k0_off97_inb : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13) (k0_t35 : Fin (k0_t35_loop v16 v31 v68 v105 v142 v179 v216 arg13).trips), ∀ a, (k0_off97 v16 v31 v68 v105 v142 v179 v216 arg13 k0_t35) a + S1x16.size a ≤ S512x128.size a := fun v16 v31 v68 v105 v142 v179 v216 arg13 k0_hw21 k0_t35 => k0_hw21.2.2.2.2.2.2.2.2.2.1 k0_t35
theorem k0_off98_inb : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13) (k0_t35 : Fin (k0_t35_loop v16 v31 v68 v105 v142 v179 v216 arg13).trips), ∀ a, (k0_off98 v16 v31 v68 v105 v142 v179 v216 arg13 k0_t35) a + S1x16.size a ≤ S512x128.size a := fun v16 v31 v68 v105 v142 v179 v216 arg13 k0_hw21 k0_t35 => k0_hw21.2.2.2.2.2.2.2.2.2.2.1 k0_t35
theorem k0_off99_inb : ∀ (v16 : BitVec 32) (v31 : BitVec 32) (v68 : BitVec 32) (v105 : BitVec 32) (v142 : BitVec 32) (v179 : BitVec 32) (v216 : BitVec 32) (arg13 : BitVec 32) (k0_hw21 : k0_chk21 v16 v31 v68 v105 v142 v179 v216 arg13) (k0_t35 : Fin (k0_t35_loop v16 v31 v68 v105 v142 v179 v216 arg13).trips), ∀ a, (k0_off99 v16 v31 v68 v105 v142 v179 v216 arg13 k0_t35) a + S1x16.size a ≤ S512x128.size a := fun v16 v31 v68 v105 v142 v179 v216 arg13 k0_hw21 k0_t35 => k0_hw21.2.2.2.2.2.2.2.2.2.2.2 k0_t35

@[reducible] def k0_t36_loop (v216 : BitVec 32) : Scf.Loop 32 :=
  let c0_i32_87 : BitVec 32 := 0#32
  let c0_i32_80 : BitVec 32 := 0#32
  let v219 : BitVec 1 := Scalar.cmpi .sgt v216 c0_i32_80
  let v220 : BitVec 32 := Scalar.extui v219
  let c0_i32_81 : BitVec 32 := 0#32
  let v221 : BitVec 1 := Scalar.cmpi .slt v216 c0_i32_81
  let v222 : BitVec 32 := Scalar.extui v221
  let v223 : BitVec 32 := Scalar.subi v220 v222
  let c504_i32_79 : BitVec 32 := 504#32
  let c0_i32_82 : BitVec 32 := 0#32
  let v224 : BitVec 1 := Scalar.cmpi .sgt c504_i32_79 c0_i32_82
  let v225 : BitVec 32 := Scalar.extui v224
  let c0_i32_83 : BitVec 32 := 0#32
  let v226 : BitVec 1 := Scalar.cmpi .slt c504_i32_79 c0_i32_83
  let v227 : BitVec 32 := Scalar.extui v226
  let v228 : BitVec 32 := Scalar.subi v225 v227
  let v229 : BitVec 1 := Scalar.cmpi .ne v223 v228
  let v230 : BitVec 32 := Scalar.remsi v216 c504_i32_79
  let c0_i32_84 : BitVec 32 := 0#32
  let v231 : BitVec 1 := Scalar.cmpi .ne v230 c0_i32_84
  let v232 : BitVec 1 := Scalar.andi v229 v231
  let v218 : BitVec 32 := Scalar.divsi v216 c504_i32_79
  let c1_i32_85 : BitVec 32 := 1#32
  let v233 : BitVec 32 := Scalar.subi v218 c1_i32_85
  let v234 : BitVec 32 := Scalar.select v232 v233 v218
  let c1_i32_86 : BitVec 32 := 1#32
  let v235 : BitVec 32 := Scalar.addi v234 c1_i32_86
  let v236 : BitVec 32 := Scalar.subi v235 c0_i32_87
  let c1_i32_88 : BitVec 32 := 1#32
  let v238 : BitVec 32 := Scalar.divsi v236 c1_i32_88
  let v239 : BitVec 32 := Scalar.muli v238 c1_i32_88
  let v240 : BitVec 32 := Scalar.addi c0_i32_87 v239
  let v237 : BitVec 32 := Scalar.addi c0_i32_87 v236
  let c1_i32_90 : BitVec 32 := 1#32
  ⟨v240, v237, c1_i32_90⟩

def k0_chk20 (v216 : BitVec 32) : Prop :=
  ((k0_t33_loop v216).OK) ∧
  ((k0_t36_loop v216).OK)
theorem k0_t33_ok : ∀ (v216 : BitVec 32) (k0_hw20 : k0_chk20 v216), (k0_t33_loop v216).OK := fun v216 k0_hw20 => k0_hw20.1
theorem k0_t36_ok : ∀ (v216 : BitVec 32) (k0_hw20 : k0_chk20 v216), (k0_t36_loop v216).OK := fun v216 k0_hw20 => k0_hw20.2

def k0_mult12 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off100 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r12 : BitVec 32 := 0#32
  ![v1213.toNat, 0]
@[reducible] def k0_t37_loop (v16 : BitVec 32) (v31 : BitVec 32) (v68 : BitVec 32) (v105 : BitVec 32) (v142 : BitVec 32) (v179 : BitVec 32) (v216 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off101 (v16 : BitVec 32) (v31 : BitVec 32) (v68 : BitVec 32) (v105 : BitVec 32) (v142 : BitVec 32) (v179 : BitVec 32) (v216 : BitVec 32) (arg13 : BitVec 32) (k0_t37 : Fin (k0_t37_loop v16 v31 v68 v105 v142 v179 v216 arg13).trips) : Fin 2 → Nat :=
  let c1_i32_473 : BitVec 32 := 1#32
  let arg14 : BitVec 32 := Scf.iv arg13 c1_i32_473 k0_t37
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off102 (v16 : BitVec 32) (v31 : BitVec 32) (v68 : BitVec 32) (v105 : BitVec 32) (v142 : BitVec 32) (v179 : BitVec 32) (v216 : BitVec 32) (arg13 : BitVec 32) (k0_t37 : Fin (k0_t37_loop v16 v31 v68 v105 v142 v179 v216 arg13).trips) : Fin 2 → Nat :=
  let c1_i32_473 : BitVec 32 := 1#32
  let arg14 : BitVec 32 := Scf.iv arg13 c1_i32_473 k0_t37
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off103 (v16 : BitVec 32) (v31 : BitVec 32) (v68 : BitVec 32) (v105 : BitVec 32) (v142 : BitVec 32) (v179 : BitVec 32) (v216 : BitVec 32) (arg13 : BitVec 32) (k0_t37 : Fin (k0_t37_loop v16 v31 v68 v105 v142 v179 v216 arg13).trips) : Fin 2 → Nat :=
  let c1_i32_473 : BitVec 32 := 1#32
  let arg14 : BitVec 32 := Scf.iv arg13 c1_i32_473 k0_t37
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off104 (v16 : BitVec 32) (v31 : BitVec 32) (v68 : BitVec 32) (v105 : BitVec 32) (v142 : BitVec 32) (v179 : BitVec 32) (v216 : BitVec 32) (arg13 : BitVec 32) (k0_t37 : Fin (k0_t37_loop v16 v31 v68 v105 v142 v179 v216 arg13).trips) : Fin 2 → Nat :=
  let c1_i32_473 : BitVec 32 := 1#32
  let arg14 : BitVec 32 := Scf.iv arg13 c1_i32_473 k0_t37
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t38_loop (v16 : BitVec 32) (v31 : BitVec 32) (v68 : BitVec 32) (v105 : BitVec 32) (v142 : BitVec 32) (v179 : BitVec 32) (v216 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off105 (v16 : BitVec 32) (v31 : BitVec 32) (v68 : BitVec 32) (v105 : BitVec 32) (v142 : BitVec 32) (v179 : BitVec 32) (v216 : BitVec 32) (arg13 : BitVec 32) (k0_t38 : Fin (k0_t38_loop v16 v31 v68 v105 v142 v179 v216 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t38
  let v1224 : BitVec 32 := Scalar.subi arg14 v1213
  let v1225 : Index := Scalar.indexCast v1224
  let c0_475 : Index := 0#32
  ![v1225.toNat, 0]
def k0_off106 (v16 : BitVec 32) (v31 : BitVec 32) (v68 : BitVec 32) (v105 : BitVec 32) (v142 : BitVec 32) (v179 : BitVec 32) (v216 : BitVec 32) (arg13 : BitVec 32) (k0_t38 : Fin (k0_t38_loop v16 v31 v68 v105 v142 v179 v216 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t38
  let v1224 : BitVec 32 := Scalar.subi arg14 v1213
  let v1228 : Index := Scalar.indexCast v1224
  let c16_476 : Index := 16#32
  ![v1228.toNat, 16]
def k0_off107 (v16 : BitVec 32) (v31 : BitVec 32) (v68 : BitVec 32) (v105 : BitVec 32) (v142 : BitVec 32) (v179 : BitVec 32) (v216 : BitVec 32) (arg13 : BitVec 32) (k0_t38 : Fin (k0_t38_loop v16 v31 v68 v105 v142 v179 v216 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t38
  let v1224 : BitVec 32 := Scalar.subi arg14 v1213
  let v1231 : Index := Scalar.indexCast v1224
  let c32_477 : Index := 32#32
  ![v1231.toNat, 32]
def k0_off108 (v16 : BitVec 32) (v31 : BitVec 32) (v68 : BitVec 32) (v105 : BitVec 32) (v142 : BitVec 32) (v179 : BitVec 32) (v216 : BitVec 32) (arg13 : BitVec 32) (k0_t38 : Fin (k0_t38_loop v16 v31 v68 v105 v142 v179 v216 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v217 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t38
  let v1224 : BitVec 32 := Scalar.subi arg14 v1213
  let v1234 : Index := Scalar.indexCast v1224
  let c48_478 : Index := 48#32
  ![v1234.toNat, 48]

def k0_chk22 (v16 : BitVec 32) (v31 : BitVec 32) (v68 : BitVec 32) (v105 : BitVec 32) (v142 : BitVec 32) (v179 : BitVec 32) (v216 : BitVec 32) (arg13 : BitVec 32) : Prop :=
  (8 ∣ (k0_mult12 arg13).toNat) ∧
  (∀ a, (k0_off100 arg13) a + S512x128.size a ≤ S320000x128.size a) ∧
  ((k0_t37_loop v16 v31 v68 v105 v142 v179 v216 arg13).OK) ∧
  (∀ k0_t37 : Fin (k0_t37_loop v16 v31 v68 v105 v142 v179 v216 arg13).trips, ∀ a, (k0_off101 v16 v31 v68 v105 v142 v179 v216 arg13 k0_t37) a + S1x16.size a ≤ S512x128.size a) ∧
  (∀ k0_t37 : Fin (k0_t37_loop v16 v31 v68 v105 v142 v179 v216 arg13).trips, ∀ a, (k0_off102 v16 v31 v68 v105 v142 v179 v216 arg13 k0_t37) a + S1x16.size a ≤ S512x128.size a) ∧
  (∀ k0_t37 : Fin (k0_t37_loop v16 v31 v68 v105 v142 v179 v216 arg13).trips, ∀ a, (k0_off103 v16 v31 v68 v105 v142 v179 v216 arg13 k0_t37) a + S1x16.size a ≤ S512x128.size a) ∧
  (∀ k0_t37 : Fin (k0_t37_loop v16 v31 v68 v105 v142 v179 v216 arg13).trips, ∀ a, (k0_off104 v16 v31 v68 v105 v142 v179 v216 arg13 k0_t37) a + S1x16.size a ≤ S512x128.size a) ∧
  ((k0_t38_loop v16 v31 v68 v105 v142 v179 v216 arg13).OK) ∧
  (∀ k0_t38 : Fin (k0_t38_loop v16 v31 v68 v105 v142 v179 v216 arg13).trips, ∀ a, (k0_off105 v16 v31 v68 v105 v142 v179 v216 arg13 k0_t38) a + S1x16.size a ≤ S512x128.size a) ∧
  (∀ k0_t38 : Fin (k0_t38_loop v16 v31 v68 v105 v142 v179 v216 arg13).trips, ∀ a, (k0_off106 v16 v31 v68 v105 v142 v179 v216 arg13 k0_t38) a + S1x16.size a ≤ S512x128.size a) ∧
  (∀ k0_t38 : Fin (k0_t38_loop v16 v31 v68 v105 v142 v179 v216 arg13).trips, ∀ a, (k0_off107 v16 v31 v68 v105 v142 v179 v216 arg13 k0_t38) a + S1x16.size a ≤ S512x128.size a) ∧
  (∀ k0_t38 : Fin (k0_t38_loop v16 v31 v68 v105 v142 v179 v216 arg13).trips, ∀ a, (k0_off108 v16 v31 v68 v105 v142 v179 v216 arg13 k0_t38) a + S1x16.size a ≤ S512x128.size a)
theorem k0_mult12_dvd : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13), 8 ∣ (k0_mult12 arg13).toNat := fun v16 v31 v68 v105 v142 v179 v216 arg13 k0_hw22 => k0_hw22.1
theorem k0_off100_inb : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13), ∀ a, (k0_off100 arg13) a + S512x128.size a ≤ S320000x128.size a := fun v16 v31 v68 v105 v142 v179 v216 arg13 k0_hw22 => k0_hw22.2.1
theorem k0_t37_ok : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13), (k0_t37_loop v16 v31 v68 v105 v142 v179 v216 arg13).OK := fun v16 v31 v68 v105 v142 v179 v216 arg13 k0_hw22 => k0_hw22.2.2.1
theorem k0_off101_inb : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13) (k0_t37 : Fin (k0_t37_loop v16 v31 v68 v105 v142 v179 v216 arg13).trips), ∀ a, (k0_off101 v16 v31 v68 v105 v142 v179 v216 arg13 k0_t37) a + S1x16.size a ≤ S512x128.size a := fun v16 v31 v68 v105 v142 v179 v216 arg13 k0_hw22 k0_t37 => k0_hw22.2.2.2.1 k0_t37
theorem k0_off102_inb : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13) (k0_t37 : Fin (k0_t37_loop v16 v31 v68 v105 v142 v179 v216 arg13).trips), ∀ a, (k0_off102 v16 v31 v68 v105 v142 v179 v216 arg13 k0_t37) a + S1x16.size a ≤ S512x128.size a := fun v16 v31 v68 v105 v142 v179 v216 arg13 k0_hw22 k0_t37 => k0_hw22.2.2.2.2.1 k0_t37
theorem k0_off103_inb : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13) (k0_t37 : Fin (k0_t37_loop v16 v31 v68 v105 v142 v179 v216 arg13).trips), ∀ a, (k0_off103 v16 v31 v68 v105 v142 v179 v216 arg13 k0_t37) a + S1x16.size a ≤ S512x128.size a := fun v16 v31 v68 v105 v142 v179 v216 arg13 k0_hw22 k0_t37 => k0_hw22.2.2.2.2.2.1 k0_t37
theorem k0_off104_inb : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13) (k0_t37 : Fin (k0_t37_loop v16 v31 v68 v105 v142 v179 v216 arg13).trips), ∀ a, (k0_off104 v16 v31 v68 v105 v142 v179 v216 arg13 k0_t37) a + S1x16.size a ≤ S512x128.size a := fun v16 v31 v68 v105 v142 v179 v216 arg13 k0_hw22 k0_t37 => k0_hw22.2.2.2.2.2.2.1 k0_t37
theorem k0_t38_ok : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13), (k0_t38_loop v16 v31 v68 v105 v142 v179 v216 arg13).OK := fun v16 v31 v68 v105 v142 v179 v216 arg13 k0_hw22 => k0_hw22.2.2.2.2.2.2.2.1
theorem k0_off105_inb : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13) (k0_t38 : Fin (k0_t38_loop v16 v31 v68 v105 v142 v179 v216 arg13).trips), ∀ a, (k0_off105 v16 v31 v68 v105 v142 v179 v216 arg13 k0_t38) a + S1x16.size a ≤ S512x128.size a := fun v16 v31 v68 v105 v142 v179 v216 arg13 k0_hw22 k0_t38 => k0_hw22.2.2.2.2.2.2.2.2.1 k0_t38
theorem k0_off106_inb : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13) (k0_t38 : Fin (k0_t38_loop v16 v31 v68 v105 v142 v179 v216 arg13).trips), ∀ a, (k0_off106 v16 v31 v68 v105 v142 v179 v216 arg13 k0_t38) a + S1x16.size a ≤ S512x128.size a := fun v16 v31 v68 v105 v142 v179 v216 arg13 k0_hw22 k0_t38 => k0_hw22.2.2.2.2.2.2.2.2.2.1 k0_t38
theorem k0_off107_inb : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13) (k0_t38 : Fin (k0_t38_loop v16 v31 v68 v105 v142 v179 v216 arg13).trips), ∀ a, (k0_off107 v16 v31 v68 v105 v142 v179 v216 arg13 k0_t38) a + S1x16.size a ≤ S512x128.size a := fun v16 v31 v68 v105 v142 v179 v216 arg13 k0_hw22 k0_t38 => k0_hw22.2.2.2.2.2.2.2.2.2.2.1 k0_t38
theorem k0_off108_inb : ∀ (v16 : BitVec 32) (v31 : BitVec 32) (v68 : BitVec 32) (v105 : BitVec 32) (v142 : BitVec 32) (v179 : BitVec 32) (v216 : BitVec 32) (arg13 : BitVec 32) (k0_hw22 : k0_chk22 v16 v31 v68 v105 v142 v179 v216 arg13) (k0_t38 : Fin (k0_t38_loop v16 v31 v68 v105 v142 v179 v216 arg13).trips), ∀ a, (k0_off108 v16 v31 v68 v105 v142 v179 v216 arg13 k0_t38) a + S1x16.size a ≤ S512x128.size a := fun v16 v31 v68 v105 v142 v179 v216 arg13 k0_hw22 k0_t38 => k0_hw22.2.2.2.2.2.2.2.2.2.2.2 k0_t38

@[reducible] def k0_t39_loop (v253 : BitVec 32) : Scf.Loop 32 :=
  let c0_i32_101 : BitVec 32 := 0#32
  let c0_i32_94 : BitVec 32 := 0#32
  let v256 : BitVec 1 := Scalar.cmpi .sgt v253 c0_i32_94
  let v257 : BitVec 32 := Scalar.extui v256
  let c0_i32_95 : BitVec 32 := 0#32
  let v258 : BitVec 1 := Scalar.cmpi .slt v253 c0_i32_95
  let v259 : BitVec 32 := Scalar.extui v258
  let v260 : BitVec 32 := Scalar.subi v257 v259
  let c504_i32_93 : BitVec 32 := 504#32
  let c0_i32_96 : BitVec 32 := 0#32
  let v261 : BitVec 1 := Scalar.cmpi .sgt c504_i32_93 c0_i32_96
  let v262 : BitVec 32 := Scalar.extui v261
  let c0_i32_97 : BitVec 32 := 0#32
  let v263 : BitVec 1 := Scalar.cmpi .slt c504_i32_93 c0_i32_97
  let v264 : BitVec 32 := Scalar.extui v263
  let v265 : BitVec 32 := Scalar.subi v262 v264
  let v266 : BitVec 1 := Scalar.cmpi .ne v260 v265
  let v267 : BitVec 32 := Scalar.remsi v253 c504_i32_93
  let c0_i32_98 : BitVec 32 := 0#32
  let v268 : BitVec 1 := Scalar.cmpi .ne v267 c0_i32_98
  let v269 : BitVec 1 := Scalar.andi v266 v268
  let v255 : BitVec 32 := Scalar.divsi v253 c504_i32_93
  let c1_i32_99 : BitVec 32 := 1#32
  let v270 : BitVec 32 := Scalar.subi v255 c1_i32_99
  let v271 : BitVec 32 := Scalar.select v269 v270 v255
  let c1_i32_100 : BitVec 32 := 1#32
  let v272 : BitVec 32 := Scalar.addi v271 c1_i32_100
  let v273 : BitVec 32 := Scalar.subi v272 c0_i32_101
  let c1_i32_102 : BitVec 32 := 1#32
  let v275 : BitVec 32 := Scalar.divsi v273 c1_i32_102
  let v276 : BitVec 32 := Scalar.muli v275 c1_i32_102
  let v277 : BitVec 32 := Scalar.addi c0_i32_101 v276
  let c1_i32_103 : BitVec 32 := 1#32
  ⟨c0_i32_101, v277, c1_i32_103⟩

def k0_mult13 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off109 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r13 : BitVec 32 := 0#32
  ![v1213.toNat, 0]
@[reducible] def k0_t40_loop (v16 : BitVec 32) (v31 : BitVec 32) (v68 : BitVec 32) (v105 : BitVec 32) (v142 : BitVec 32) (v179 : BitVec 32) (v216 : BitVec 32) (v253 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off110 (v16 : BitVec 32) (v31 : BitVec 32) (v68 : BitVec 32) (v105 : BitVec 32) (v142 : BitVec 32) (v179 : BitVec 32) (v216 : BitVec 32) (v253 : BitVec 32) (arg13 : BitVec 32) (k0_t40 : Fin (k0_t40_loop v16 v31 v68 v105 v142 v179 v216 v253 arg13).trips) : Fin 2 → Nat :=
  let c1_i32_473 : BitVec 32 := 1#32
  let arg14 : BitVec 32 := Scf.iv arg13 c1_i32_473 k0_t40
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off111 (v16 : BitVec 32) (v31 : BitVec 32) (v68 : BitVec 32) (v105 : BitVec 32) (v142 : BitVec 32) (v179 : BitVec 32) (v216 : BitVec 32) (v253 : BitVec 32) (arg13 : BitVec 32) (k0_t40 : Fin (k0_t40_loop v16 v31 v68 v105 v142 v179 v216 v253 arg13).trips) : Fin 2 → Nat :=
  let c1_i32_473 : BitVec 32 := 1#32
  let arg14 : BitVec 32 := Scf.iv arg13 c1_i32_473 k0_t40
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off112 (v16 : BitVec 32) (v31 : BitVec 32) (v68 : BitVec 32) (v105 : BitVec 32) (v142 : BitVec 32) (v179 : BitVec 32) (v216 : BitVec 32) (v253 : BitVec 32) (arg13 : BitVec 32) (k0_t40 : Fin (k0_t40_loop v16 v31 v68 v105 v142 v179 v216 v253 arg13).trips) : Fin 2 → Nat :=
  let c1_i32_473 : BitVec 32 := 1#32
  let arg14 : BitVec 32 := Scf.iv arg13 c1_i32_473 k0_t40
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off113 (v16 : BitVec 32) (v31 : BitVec 32) (v68 : BitVec 32) (v105 : BitVec 32) (v142 : BitVec 32) (v179 : BitVec 32) (v216 : BitVec 32) (v253 : BitVec 32) (arg13 : BitVec 32) (k0_t40 : Fin (k0_t40_loop v16 v31 v68 v105 v142 v179 v216 v253 arg13).trips) : Fin 2 → Nat :=
  let c1_i32_473 : BitVec 32 := 1#32
  let arg14 : BitVec 32 := Scf.iv arg13 c1_i32_473 k0_t40
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t41_loop (v16 : BitVec 32) (v31 : BitVec 32) (v68 : BitVec 32) (v105 : BitVec 32) (v142 : BitVec 32) (v179 : BitVec 32) (v216 : BitVec 32) (v253 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off114 (v16 : BitVec 32) (v31 : BitVec 32) (v68 : BitVec 32) (v105 : BitVec 32) (v142 : BitVec 32) (v179 : BitVec 32) (v216 : BitVec 32) (v253 : BitVec 32) (arg13 : BitVec 32) (k0_t41 : Fin (k0_t41_loop v16 v31 v68 v105 v142 v179 v216 v253 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t41
  let v1224 : BitVec 32 := Scalar.subi arg14 v1213
  let v1225 : Index := Scalar.indexCast v1224
  let c0_475 : Index := 0#32
  ![v1225.toNat, 0]
def k0_off115 (v16 : BitVec 32) (v31 : BitVec 32) (v68 : BitVec 32) (v105 : BitVec 32) (v142 : BitVec 32) (v179 : BitVec 32) (v216 : BitVec 32) (v253 : BitVec 32) (arg13 : BitVec 32) (k0_t41 : Fin (k0_t41_loop v16 v31 v68 v105 v142 v179 v216 v253 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t41
  let v1224 : BitVec 32 := Scalar.subi arg14 v1213
  let v1228 : Index := Scalar.indexCast v1224
  let c16_476 : Index := 16#32
  ![v1228.toNat, 16]
def k0_off116 (v16 : BitVec 32) (v31 : BitVec 32) (v68 : BitVec 32) (v105 : BitVec 32) (v142 : BitVec 32) (v179 : BitVec 32) (v216 : BitVec 32) (v253 : BitVec 32) (arg13 : BitVec 32) (k0_t41 : Fin (k0_t41_loop v16 v31 v68 v105 v142 v179 v216 v253 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t41
  let v1224 : BitVec 32 := Scalar.subi arg14 v1213
  let v1231 : Index := Scalar.indexCast v1224
  let c32_477 : Index := 32#32
  ![v1231.toNat, 32]
def k0_off117 (v16 : BitVec 32) (v31 : BitVec 32) (v68 : BitVec 32) (v105 : BitVec 32) (v142 : BitVec 32) (v179 : BitVec 32) (v216 : BitVec 32) (v253 : BitVec 32) (arg13 : BitVec 32) (k0_t41 : Fin (k0_t41_loop v16 v31 v68 v105 v142 v179 v216 v253 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t41
  let v1224 : BitVec 32 := Scalar.subi arg14 v1213
  let v1234 : Index := Scalar.indexCast v1224
  let c48_478 : Index := 48#32
  ![v1234.toNat, 48]

def k0_chk24 (v16 : BitVec 32) (v31 : BitVec 32) (v68 : BitVec 32) (v105 : BitVec 32) (v142 : BitVec 32) (v179 : BitVec 32) (v216 : BitVec 32) (v253 : BitVec 32) (arg13 : BitVec 32) : Prop :=
  (8 ∣ (k0_mult13 arg13).toNat) ∧
  (∀ a, (k0_off109 arg13) a + S512x128.size a ≤ S320000x128.size a) ∧
  ((k0_t40_loop v16 v31 v68 v105 v142 v179 v216 v253 arg13).OK) ∧
  (∀ k0_t40 : Fin (k0_t40_loop v16 v31 v68 v105 v142 v179 v216 v253 arg13).trips, ∀ a, (k0_off110 v16 v31 v68 v105 v142 v179 v216 v253 arg13 k0_t40) a + S1x16.size a ≤ S512x128.size a) ∧
  (∀ k0_t40 : Fin (k0_t40_loop v16 v31 v68 v105 v142 v179 v216 v253 arg13).trips, ∀ a, (k0_off111 v16 v31 v68 v105 v142 v179 v216 v253 arg13 k0_t40) a + S1x16.size a ≤ S512x128.size a) ∧
  (∀ k0_t40 : Fin (k0_t40_loop v16 v31 v68 v105 v142 v179 v216 v253 arg13).trips, ∀ a, (k0_off112 v16 v31 v68 v105 v142 v179 v216 v253 arg13 k0_t40) a + S1x16.size a ≤ S512x128.size a) ∧
  (∀ k0_t40 : Fin (k0_t40_loop v16 v31 v68 v105 v142 v179 v216 v253 arg13).trips, ∀ a, (k0_off113 v16 v31 v68 v105 v142 v179 v216 v253 arg13 k0_t40) a + S1x16.size a ≤ S512x128.size a) ∧
  ((k0_t41_loop v16 v31 v68 v105 v142 v179 v216 v253 arg13).OK) ∧
  (∀ k0_t41 : Fin (k0_t41_loop v16 v31 v68 v105 v142 v179 v216 v253 arg13).trips, ∀ a, (k0_off114 v16 v31 v68 v105 v142 v179 v216 v253 arg13 k0_t41) a + S1x16.size a ≤ S512x128.size a) ∧
  (∀ k0_t41 : Fin (k0_t41_loop v16 v31 v68 v105 v142 v179 v216 v253 arg13).trips, ∀ a, (k0_off115 v16 v31 v68 v105 v142 v179 v216 v253 arg13 k0_t41) a + S1x16.size a ≤ S512x128.size a) ∧
  (∀ k0_t41 : Fin (k0_t41_loop v16 v31 v68 v105 v142 v179 v216 v253 arg13).trips, ∀ a, (k0_off116 v16 v31 v68 v105 v142 v179 v216 v253 arg13 k0_t41) a + S1x16.size a ≤ S512x128.size a) ∧
  (∀ k0_t41 : Fin (k0_t41_loop v16 v31 v68 v105 v142 v179 v216 v253 arg13).trips, ∀ a, (k0_off117 v16 v31 v68 v105 v142 v179 v216 v253 arg13 k0_t41) a + S1x16.size a ≤ S512x128.size a)
theorem k0_mult13_dvd : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13), 8 ∣ (k0_mult13 arg13).toNat := fun v16 v31 v68 v105 v142 v179 v216 v253 arg13 k0_hw24 => k0_hw24.1
theorem k0_off109_inb : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13), ∀ a, (k0_off109 arg13) a + S512x128.size a ≤ S320000x128.size a := fun v16 v31 v68 v105 v142 v179 v216 v253 arg13 k0_hw24 => k0_hw24.2.1
theorem k0_t40_ok : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13), (k0_t40_loop v16 v31 v68 v105 v142 v179 v216 v253 arg13).OK := fun v16 v31 v68 v105 v142 v179 v216 v253 arg13 k0_hw24 => k0_hw24.2.2.1
theorem k0_off110_inb : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13) (k0_t40 : Fin (k0_t40_loop v16 v31 v68 v105 v142 v179 v216 v253 arg13).trips), ∀ a, (k0_off110 v16 v31 v68 v105 v142 v179 v216 v253 arg13 k0_t40) a + S1x16.size a ≤ S512x128.size a := fun v16 v31 v68 v105 v142 v179 v216 v253 arg13 k0_hw24 k0_t40 => k0_hw24.2.2.2.1 k0_t40
theorem k0_off111_inb : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13) (k0_t40 : Fin (k0_t40_loop v16 v31 v68 v105 v142 v179 v216 v253 arg13).trips), ∀ a, (k0_off111 v16 v31 v68 v105 v142 v179 v216 v253 arg13 k0_t40) a + S1x16.size a ≤ S512x128.size a := fun v16 v31 v68 v105 v142 v179 v216 v253 arg13 k0_hw24 k0_t40 => k0_hw24.2.2.2.2.1 k0_t40
theorem k0_off112_inb : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13) (k0_t40 : Fin (k0_t40_loop v16 v31 v68 v105 v142 v179 v216 v253 arg13).trips), ∀ a, (k0_off112 v16 v31 v68 v105 v142 v179 v216 v253 arg13 k0_t40) a + S1x16.size a ≤ S512x128.size a := fun v16 v31 v68 v105 v142 v179 v216 v253 arg13 k0_hw24 k0_t40 => k0_hw24.2.2.2.2.2.1 k0_t40
theorem k0_off113_inb : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13) (k0_t40 : Fin (k0_t40_loop v16 v31 v68 v105 v142 v179 v216 v253 arg13).trips), ∀ a, (k0_off113 v16 v31 v68 v105 v142 v179 v216 v253 arg13 k0_t40) a + S1x16.size a ≤ S512x128.size a := fun v16 v31 v68 v105 v142 v179 v216 v253 arg13 k0_hw24 k0_t40 => k0_hw24.2.2.2.2.2.2.1 k0_t40
theorem k0_t41_ok : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13), (k0_t41_loop v16 v31 v68 v105 v142 v179 v216 v253 arg13).OK := fun v16 v31 v68 v105 v142 v179 v216 v253 arg13 k0_hw24 => k0_hw24.2.2.2.2.2.2.2.1
theorem k0_off114_inb : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13) (k0_t41 : Fin (k0_t41_loop v16 v31 v68 v105 v142 v179 v216 v253 arg13).trips), ∀ a, (k0_off114 v16 v31 v68 v105 v142 v179 v216 v253 arg13 k0_t41) a + S1x16.size a ≤ S512x128.size a := fun v16 v31 v68 v105 v142 v179 v216 v253 arg13 k0_hw24 k0_t41 => k0_hw24.2.2.2.2.2.2.2.2.1 k0_t41
theorem k0_off115_inb : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13) (k0_t41 : Fin (k0_t41_loop v16 v31 v68 v105 v142 v179 v216 v253 arg13).trips), ∀ a, (k0_off115 v16 v31 v68 v105 v142 v179 v216 v253 arg13 k0_t41) a + S1x16.size a ≤ S512x128.size a := fun v16 v31 v68 v105 v142 v179 v216 v253 arg13 k0_hw24 k0_t41 => k0_hw24.2.2.2.2.2.2.2.2.2.1 k0_t41
theorem k0_off116_inb : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13) (k0_t41 : Fin (k0_t41_loop v16 v31 v68 v105 v142 v179 v216 v253 arg13).trips), ∀ a, (k0_off116 v16 v31 v68 v105 v142 v179 v216 v253 arg13 k0_t41) a + S1x16.size a ≤ S512x128.size a := fun v16 v31 v68 v105 v142 v179 v216 v253 arg13 k0_hw24 k0_t41 => k0_hw24.2.2.2.2.2.2.2.2.2.2.1 k0_t41
theorem k0_off117_inb : ∀ (v16 : BitVec 32) (v31 : BitVec 32) (v68 : BitVec 32) (v105 : BitVec 32) (v142 : BitVec 32) (v179 : BitVec 32) (v216 : BitVec 32) (v253 : BitVec 32) (arg13 : BitVec 32) (k0_hw24 : k0_chk24 v16 v31 v68 v105 v142 v179 v216 v253 arg13) (k0_t41 : Fin (k0_t41_loop v16 v31 v68 v105 v142 v179 v216 v253 arg13).trips), ∀ a, (k0_off117 v16 v31 v68 v105 v142 v179 v216 v253 arg13 k0_t41) a + S1x16.size a ≤ S512x128.size a := fun v16 v31 v68 v105 v142 v179 v216 v253 arg13 k0_hw24 k0_t41 => k0_hw24.2.2.2.2.2.2.2.2.2.2.2 k0_t41

@[reducible] def k0_t42_loop (v253 : BitVec 32) : Scf.Loop 32 :=
  let c0_i32_101 : BitVec 32 := 0#32
  let c0_i32_94 : BitVec 32 := 0#32
  let v256 : BitVec 1 := Scalar.cmpi .sgt v253 c0_i32_94
  let v257 : BitVec 32 := Scalar.extui v256
  let c0_i32_95 : BitVec 32 := 0#32
  let v258 : BitVec 1 := Scalar.cmpi .slt v253 c0_i32_95
  let v259 : BitVec 32 := Scalar.extui v258
  let v260 : BitVec 32 := Scalar.subi v257 v259
  let c504_i32_93 : BitVec 32 := 504#32
  let c0_i32_96 : BitVec 32 := 0#32
  let v261 : BitVec 1 := Scalar.cmpi .sgt c504_i32_93 c0_i32_96
  let v262 : BitVec 32 := Scalar.extui v261
  let c0_i32_97 : BitVec 32 := 0#32
  let v263 : BitVec 1 := Scalar.cmpi .slt c504_i32_93 c0_i32_97
  let v264 : BitVec 32 := Scalar.extui v263
  let v265 : BitVec 32 := Scalar.subi v262 v264
  let v266 : BitVec 1 := Scalar.cmpi .ne v260 v265
  let v267 : BitVec 32 := Scalar.remsi v253 c504_i32_93
  let c0_i32_98 : BitVec 32 := 0#32
  let v268 : BitVec 1 := Scalar.cmpi .ne v267 c0_i32_98
  let v269 : BitVec 1 := Scalar.andi v266 v268
  let v255 : BitVec 32 := Scalar.divsi v253 c504_i32_93
  let c1_i32_99 : BitVec 32 := 1#32
  let v270 : BitVec 32 := Scalar.subi v255 c1_i32_99
  let v271 : BitVec 32 := Scalar.select v269 v270 v255
  let c1_i32_100 : BitVec 32 := 1#32
  let v272 : BitVec 32 := Scalar.addi v271 c1_i32_100
  let v273 : BitVec 32 := Scalar.subi v272 c0_i32_101
  let c1_i32_102 : BitVec 32 := 1#32
  let v275 : BitVec 32 := Scalar.divsi v273 c1_i32_102
  let v276 : BitVec 32 := Scalar.muli v275 c1_i32_102
  let v277 : BitVec 32 := Scalar.addi c0_i32_101 v276
  let v274 : BitVec 32 := Scalar.addi c0_i32_101 v273
  let c1_i32_104 : BitVec 32 := 1#32
  ⟨v277, v274, c1_i32_104⟩

def k0_chk23 (v253 : BitVec 32) : Prop :=
  ((k0_t39_loop v253).OK) ∧
  ((k0_t42_loop v253).OK)
theorem k0_t39_ok : ∀ (v253 : BitVec 32) (k0_hw23 : k0_chk23 v253), (k0_t39_loop v253).OK := fun v253 k0_hw23 => k0_hw23.1
theorem k0_t42_ok : ∀ (v253 : BitVec 32) (k0_hw23 : k0_chk23 v253), (k0_t42_loop v253).OK := fun v253 k0_hw23 => k0_hw23.2

def k0_mult14 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off118 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r14 : BitVec 32 := 0#32
  ![v1213.toNat, 0]
@[reducible] def k0_t43_loop (v16 : BitVec 32) (v31 : BitVec 32) (v68 : BitVec 32) (v105 : BitVec 32) (v142 : BitVec 32) (v179 : BitVec 32) (v216 : BitVec 32) (v253 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off119 (v16 : BitVec 32) (v31 : BitVec 32) (v68 : BitVec 32) (v105 : BitVec 32) (v142 : BitVec 32) (v179 : BitVec 32) (v216 : BitVec 32) (v253 : BitVec 32) (arg13 : BitVec 32) (k0_t43 : Fin (k0_t43_loop v16 v31 v68 v105 v142 v179 v216 v253 arg13).trips) : Fin 2 → Nat :=
  let c1_i32_473 : BitVec 32 := 1#32
  let arg14 : BitVec 32 := Scf.iv arg13 c1_i32_473 k0_t43
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off120 (v16 : BitVec 32) (v31 : BitVec 32) (v68 : BitVec 32) (v105 : BitVec 32) (v142 : BitVec 32) (v179 : BitVec 32) (v216 : BitVec 32) (v253 : BitVec 32) (arg13 : BitVec 32) (k0_t43 : Fin (k0_t43_loop v16 v31 v68 v105 v142 v179 v216 v253 arg13).trips) : Fin 2 → Nat :=
  let c1_i32_473 : BitVec 32 := 1#32
  let arg14 : BitVec 32 := Scf.iv arg13 c1_i32_473 k0_t43
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off121 (v16 : BitVec 32) (v31 : BitVec 32) (v68 : BitVec 32) (v105 : BitVec 32) (v142 : BitVec 32) (v179 : BitVec 32) (v216 : BitVec 32) (v253 : BitVec 32) (arg13 : BitVec 32) (k0_t43 : Fin (k0_t43_loop v16 v31 v68 v105 v142 v179 v216 v253 arg13).trips) : Fin 2 → Nat :=
  let c1_i32_473 : BitVec 32 := 1#32
  let arg14 : BitVec 32 := Scf.iv arg13 c1_i32_473 k0_t43
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off122 (v16 : BitVec 32) (v31 : BitVec 32) (v68 : BitVec 32) (v105 : BitVec 32) (v142 : BitVec 32) (v179 : BitVec 32) (v216 : BitVec 32) (v253 : BitVec 32) (arg13 : BitVec 32) (k0_t43 : Fin (k0_t43_loop v16 v31 v68 v105 v142 v179 v216 v253 arg13).trips) : Fin 2 → Nat :=
  let c1_i32_473 : BitVec 32 := 1#32
  let arg14 : BitVec 32 := Scf.iv arg13 c1_i32_473 k0_t43
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t44_loop (v16 : BitVec 32) (v31 : BitVec 32) (v68 : BitVec 32) (v105 : BitVec 32) (v142 : BitVec 32) (v179 : BitVec 32) (v216 : BitVec 32) (v253 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off123 (v16 : BitVec 32) (v31 : BitVec 32) (v68 : BitVec 32) (v105 : BitVec 32) (v142 : BitVec 32) (v179 : BitVec 32) (v216 : BitVec 32) (v253 : BitVec 32) (arg13 : BitVec 32) (k0_t44 : Fin (k0_t44_loop v16 v31 v68 v105 v142 v179 v216 v253 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t44
  let v1224 : BitVec 32 := Scalar.subi arg14 v1213
  let v1225 : Index := Scalar.indexCast v1224
  let c0_475 : Index := 0#32
  ![v1225.toNat, 0]
def k0_off124 (v16 : BitVec 32) (v31 : BitVec 32) (v68 : BitVec 32) (v105 : BitVec 32) (v142 : BitVec 32) (v179 : BitVec 32) (v216 : BitVec 32) (v253 : BitVec 32) (arg13 : BitVec 32) (k0_t44 : Fin (k0_t44_loop v16 v31 v68 v105 v142 v179 v216 v253 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t44
  let v1224 : BitVec 32 := Scalar.subi arg14 v1213
  let v1228 : Index := Scalar.indexCast v1224
  let c16_476 : Index := 16#32
  ![v1228.toNat, 16]
def k0_off125 (v16 : BitVec 32) (v31 : BitVec 32) (v68 : BitVec 32) (v105 : BitVec 32) (v142 : BitVec 32) (v179 : BitVec 32) (v216 : BitVec 32) (v253 : BitVec 32) (arg13 : BitVec 32) (k0_t44 : Fin (k0_t44_loop v16 v31 v68 v105 v142 v179 v216 v253 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t44
  let v1224 : BitVec 32 := Scalar.subi arg14 v1213
  let v1231 : Index := Scalar.indexCast v1224
  let c32_477 : Index := 32#32
  ![v1231.toNat, 32]
def k0_off126 (v16 : BitVec 32) (v31 : BitVec 32) (v68 : BitVec 32) (v105 : BitVec 32) (v142 : BitVec 32) (v179 : BitVec 32) (v216 : BitVec 32) (v253 : BitVec 32) (arg13 : BitVec 32) (k0_t44 : Fin (k0_t44_loop v16 v31 v68 v105 v142 v179 v216 v253 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v254 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t44
  let v1224 : BitVec 32 := Scalar.subi arg14 v1213
  let v1234 : Index := Scalar.indexCast v1224
  let c48_478 : Index := 48#32
  ![v1234.toNat, 48]

def k0_chk25 (v16 : BitVec 32) (v31 : BitVec 32) (v68 : BitVec 32) (v105 : BitVec 32) (v142 : BitVec 32) (v179 : BitVec 32) (v216 : BitVec 32) (v253 : BitVec 32) (arg13 : BitVec 32) : Prop :=
  (8 ∣ (k0_mult14 arg13).toNat) ∧
  (∀ a, (k0_off118 arg13) a + S512x128.size a ≤ S320000x128.size a) ∧
  ((k0_t43_loop v16 v31 v68 v105 v142 v179 v216 v253 arg13).OK) ∧
  (∀ k0_t43 : Fin (k0_t43_loop v16 v31 v68 v105 v142 v179 v216 v253 arg13).trips, ∀ a, (k0_off119 v16 v31 v68 v105 v142 v179 v216 v253 arg13 k0_t43) a + S1x16.size a ≤ S512x128.size a) ∧
  (∀ k0_t43 : Fin (k0_t43_loop v16 v31 v68 v105 v142 v179 v216 v253 arg13).trips, ∀ a, (k0_off120 v16 v31 v68 v105 v142 v179 v216 v253 arg13 k0_t43) a + S1x16.size a ≤ S512x128.size a) ∧
  (∀ k0_t43 : Fin (k0_t43_loop v16 v31 v68 v105 v142 v179 v216 v253 arg13).trips, ∀ a, (k0_off121 v16 v31 v68 v105 v142 v179 v216 v253 arg13 k0_t43) a + S1x16.size a ≤ S512x128.size a) ∧
  (∀ k0_t43 : Fin (k0_t43_loop v16 v31 v68 v105 v142 v179 v216 v253 arg13).trips, ∀ a, (k0_off122 v16 v31 v68 v105 v142 v179 v216 v253 arg13 k0_t43) a + S1x16.size a ≤ S512x128.size a) ∧
  ((k0_t44_loop v16 v31 v68 v105 v142 v179 v216 v253 arg13).OK) ∧
  (∀ k0_t44 : Fin (k0_t44_loop v16 v31 v68 v105 v142 v179 v216 v253 arg13).trips, ∀ a, (k0_off123 v16 v31 v68 v105 v142 v179 v216 v253 arg13 k0_t44) a + S1x16.size a ≤ S512x128.size a) ∧
  (∀ k0_t44 : Fin (k0_t44_loop v16 v31 v68 v105 v142 v179 v216 v253 arg13).trips, ∀ a, (k0_off124 v16 v31 v68 v105 v142 v179 v216 v253 arg13 k0_t44) a + S1x16.size a ≤ S512x128.size a) ∧
  (∀ k0_t44 : Fin (k0_t44_loop v16 v31 v68 v105 v142 v179 v216 v253 arg13).trips, ∀ a, (k0_off125 v16 v31 v68 v105 v142 v179 v216 v253 arg13 k0_t44) a + S1x16.size a ≤ S512x128.size a) ∧
  (∀ k0_t44 : Fin (k0_t44_loop v16 v31 v68 v105 v142 v179 v216 v253 arg13).trips, ∀ a, (k0_off126 v16 v31 v68 v105 v142 v179 v216 v253 arg13 k0_t44) a + S1x16.size a ≤ S512x128.size a)
theorem k0_mult14_dvd : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13), 8 ∣ (k0_mult14 arg13).toNat := fun v16 v31 v68 v105 v142 v179 v216 v253 arg13 k0_hw25 => k0_hw25.1
theorem k0_off118_inb : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13), ∀ a, (k0_off118 arg13) a + S512x128.size a ≤ S320000x128.size a := fun v16 v31 v68 v105 v142 v179 v216 v253 arg13 k0_hw25 => k0_hw25.2.1
theorem k0_t43_ok : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13), (k0_t43_loop v16 v31 v68 v105 v142 v179 v216 v253 arg13).OK := fun v16 v31 v68 v105 v142 v179 v216 v253 arg13 k0_hw25 => k0_hw25.2.2.1
theorem k0_off119_inb : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13) (k0_t43 : Fin (k0_t43_loop v16 v31 v68 v105 v142 v179 v216 v253 arg13).trips), ∀ a, (k0_off119 v16 v31 v68 v105 v142 v179 v216 v253 arg13 k0_t43) a + S1x16.size a ≤ S512x128.size a := fun v16 v31 v68 v105 v142 v179 v216 v253 arg13 k0_hw25 k0_t43 => k0_hw25.2.2.2.1 k0_t43
theorem k0_off120_inb : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13) (k0_t43 : Fin (k0_t43_loop v16 v31 v68 v105 v142 v179 v216 v253 arg13).trips), ∀ a, (k0_off120 v16 v31 v68 v105 v142 v179 v216 v253 arg13 k0_t43) a + S1x16.size a ≤ S512x128.size a := fun v16 v31 v68 v105 v142 v179 v216 v253 arg13 k0_hw25 k0_t43 => k0_hw25.2.2.2.2.1 k0_t43
theorem k0_off121_inb : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13) (k0_t43 : Fin (k0_t43_loop v16 v31 v68 v105 v142 v179 v216 v253 arg13).trips), ∀ a, (k0_off121 v16 v31 v68 v105 v142 v179 v216 v253 arg13 k0_t43) a + S1x16.size a ≤ S512x128.size a := fun v16 v31 v68 v105 v142 v179 v216 v253 arg13 k0_hw25 k0_t43 => k0_hw25.2.2.2.2.2.1 k0_t43
theorem k0_off122_inb : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13) (k0_t43 : Fin (k0_t43_loop v16 v31 v68 v105 v142 v179 v216 v253 arg13).trips), ∀ a, (k0_off122 v16 v31 v68 v105 v142 v179 v216 v253 arg13 k0_t43) a + S1x16.size a ≤ S512x128.size a := fun v16 v31 v68 v105 v142 v179 v216 v253 arg13 k0_hw25 k0_t43 => k0_hw25.2.2.2.2.2.2.1 k0_t43
theorem k0_t44_ok : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13), (k0_t44_loop v16 v31 v68 v105 v142 v179 v216 v253 arg13).OK := fun v16 v31 v68 v105 v142 v179 v216 v253 arg13 k0_hw25 => k0_hw25.2.2.2.2.2.2.2.1
theorem k0_off123_inb : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13) (k0_t44 : Fin (k0_t44_loop v16 v31 v68 v105 v142 v179 v216 v253 arg13).trips), ∀ a, (k0_off123 v16 v31 v68 v105 v142 v179 v216 v253 arg13 k0_t44) a + S1x16.size a ≤ S512x128.size a := fun v16 v31 v68 v105 v142 v179 v216 v253 arg13 k0_hw25 k0_t44 => k0_hw25.2.2.2.2.2.2.2.2.1 k0_t44
theorem k0_off124_inb : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13) (k0_t44 : Fin (k0_t44_loop v16 v31 v68 v105 v142 v179 v216 v253 arg13).trips), ∀ a, (k0_off124 v16 v31 v68 v105 v142 v179 v216 v253 arg13 k0_t44) a + S1x16.size a ≤ S512x128.size a := fun v16 v31 v68 v105 v142 v179 v216 v253 arg13 k0_hw25 k0_t44 => k0_hw25.2.2.2.2.2.2.2.2.2.1 k0_t44
theorem k0_off125_inb : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13) (k0_t44 : Fin (k0_t44_loop v16 v31 v68 v105 v142 v179 v216 v253 arg13).trips), ∀ a, (k0_off125 v16 v31 v68 v105 v142 v179 v216 v253 arg13 k0_t44) a + S1x16.size a ≤ S512x128.size a := fun v16 v31 v68 v105 v142 v179 v216 v253 arg13 k0_hw25 k0_t44 => k0_hw25.2.2.2.2.2.2.2.2.2.2.1 k0_t44
theorem k0_off126_inb : ∀ (v16 : BitVec 32) (v31 : BitVec 32) (v68 : BitVec 32) (v105 : BitVec 32) (v142 : BitVec 32) (v179 : BitVec 32) (v216 : BitVec 32) (v253 : BitVec 32) (arg13 : BitVec 32) (k0_hw25 : k0_chk25 v16 v31 v68 v105 v142 v179 v216 v253 arg13) (k0_t44 : Fin (k0_t44_loop v16 v31 v68 v105 v142 v179 v216 v253 arg13).trips), ∀ a, (k0_off126 v16 v31 v68 v105 v142 v179 v216 v253 arg13 k0_t44) a + S1x16.size a ≤ S512x128.size a := fun v16 v31 v68 v105 v142 v179 v216 v253 arg13 k0_hw25 k0_t44 => k0_hw25.2.2.2.2.2.2.2.2.2.2.2 k0_t44

@[reducible] def k0_t45_loop (v290 : BitVec 32) : Scf.Loop 32 :=
  let c0_i32_115 : BitVec 32 := 0#32
  let c0_i32_108 : BitVec 32 := 0#32
  let v293 : BitVec 1 := Scalar.cmpi .sgt v290 c0_i32_108
  let v294 : BitVec 32 := Scalar.extui v293
  let c0_i32_109 : BitVec 32 := 0#32
  let v295 : BitVec 1 := Scalar.cmpi .slt v290 c0_i32_109
  let v296 : BitVec 32 := Scalar.extui v295
  let v297 : BitVec 32 := Scalar.subi v294 v296
  let c504_i32_107 : BitVec 32 := 504#32
  let c0_i32_110 : BitVec 32 := 0#32
  let v298 : BitVec 1 := Scalar.cmpi .sgt c504_i32_107 c0_i32_110
  let v299 : BitVec 32 := Scalar.extui v298
  let c0_i32_111 : BitVec 32 := 0#32
  let v300 : BitVec 1 := Scalar.cmpi .slt c504_i32_107 c0_i32_111
  let v301 : BitVec 32 := Scalar.extui v300
  let v302 : BitVec 32 := Scalar.subi v299 v301
  let v303 : BitVec 1 := Scalar.cmpi .ne v297 v302
  let v304 : BitVec 32 := Scalar.remsi v290 c504_i32_107
  let c0_i32_112 : BitVec 32 := 0#32
  let v305 : BitVec 1 := Scalar.cmpi .ne v304 c0_i32_112
  let v306 : BitVec 1 := Scalar.andi v303 v305
  let v292 : BitVec 32 := Scalar.divsi v290 c504_i32_107
  let c1_i32_113 : BitVec 32 := 1#32
  let v307 : BitVec 32 := Scalar.subi v292 c1_i32_113
  let v308 : BitVec 32 := Scalar.select v306 v307 v292
  let c1_i32_114 : BitVec 32 := 1#32
  let v309 : BitVec 32 := Scalar.addi v308 c1_i32_114
  let v310 : BitVec 32 := Scalar.subi v309 c0_i32_115
  let c1_i32_116 : BitVec 32 := 1#32
  let v312 : BitVec 32 := Scalar.divsi v310 c1_i32_116
  let v313 : BitVec 32 := Scalar.muli v312 c1_i32_116
  let v314 : BitVec 32 := Scalar.addi c0_i32_115 v313
  let c1_i32_117 : BitVec 32 := 1#32
  ⟨c0_i32_115, v314, c1_i32_117⟩

def k0_mult15 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off127 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r15 : BitVec 32 := 0#32
  ![v1213.toNat, 0]
@[reducible] def k0_t46_loop (v16 : BitVec 32) (v31 : BitVec 32) (v68 : BitVec 32) (v105 : BitVec 32) (v142 : BitVec 32) (v179 : BitVec 32) (v216 : BitVec 32) (v253 : BitVec 32) (v290 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off128 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t46 : Fin (k0_t46_loop v16 v31 v68 v105 v142 v179 v216 v253 v290 arg13).trips) : Fin 2 → Nat :=
  let c1_i32_473 : BitVec 32 := 1#32
  let arg14 : BitVec 32 := Scf.iv arg13 c1_i32_473 k0_t46
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off129 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t46 : Fin (k0_t46_loop v16 v31 v68 v105 v142 v179 v216 v253 v290 arg13).trips) : Fin 2 → Nat :=
  let c1_i32_473 : BitVec 32 := 1#32
  let arg14 : BitVec 32 := Scf.iv arg13 c1_i32_473 k0_t46
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off130 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t46 : Fin (k0_t46_loop v16 v31 v68 v105 v142 v179 v216 v253 v290 arg13).trips) : Fin 2 → Nat :=
  let c1_i32_473 : BitVec 32 := 1#32
  let arg14 : BitVec 32 := Scf.iv arg13 c1_i32_473 k0_t46
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off131 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t46 : Fin (k0_t46_loop v16 v31 v68 v105 v142 v179 v216 v253 v290 arg13).trips) : Fin 2 → Nat :=
  let c1_i32_473 : BitVec 32 := 1#32
  let arg14 : BitVec 32 := Scf.iv arg13 c1_i32_473 k0_t46
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t47_loop (v16 : BitVec 32) (v31 : BitVec 32) (v68 : BitVec 32) (v105 : BitVec 32) (v142 : BitVec 32) (v179 : BitVec 32) (v216 : BitVec 32) (v253 : BitVec 32) (v290 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off132 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t47 : Fin (k0_t47_loop v16 v31 v68 v105 v142 v179 v216 v253 v290 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t47
  let v1224 : BitVec 32 := Scalar.subi arg14 v1213
  let v1225 : Index := Scalar.indexCast v1224
  let c0_475 : Index := 0#32
  ![v1225.toNat, 0]
def k0_off133 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t47 : Fin (k0_t47_loop v16 v31 v68 v105 v142 v179 v216 v253 v290 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t47
  let v1224 : BitVec 32 := Scalar.subi arg14 v1213
  let v1228 : Index := Scalar.indexCast v1224
  let c16_476 : Index := 16#32
  ![v1228.toNat, 16]
def k0_off134 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t47 : Fin (k0_t47_loop v16 v31 v68 v105 v142 v179 v216 v253 v290 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t47
  let v1224 : BitVec 32 := Scalar.subi arg14 v1213
  let v1231 : Index := Scalar.indexCast v1224
  let c32_477 : Index := 32#32
  ![v1231.toNat, 32]
def k0_off135 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t47 : Fin (k0_t47_loop v16 v31 v68 v105 v142 v179 v216 v253 v290 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t47
  let v1224 : BitVec 32 := Scalar.subi arg14 v1213
  let v1234 : Index := Scalar.indexCast v1224
  let c48_478 : Index := 48#32
  ![v1234.toNat, 48]

def k0_chk27 (v16 : BitVec 32) (v31 : BitVec 32) (v68 : BitVec 32) (v105 : BitVec 32) (v142 : BitVec 32) (v179 : BitVec 32) (v216 : BitVec 32) (v253 : BitVec 32) (v290 : BitVec 32) (arg13 : BitVec 32) : Prop :=
  (8 ∣ (k0_mult15 arg13).toNat) ∧
  (∀ a, (k0_off127 arg13) a + S512x128.size a ≤ S320000x128.size a) ∧
  ((k0_t46_loop v16 v31 v68 v105 v142 v179 v216 v253 v290 arg13).OK) ∧
  (∀ k0_t46 : Fin (k0_t46_loop v16 v31 v68 v105 v142 v179 v216 v253 v290 arg13).trips, ∀ a, (k0_off128 v16 v31 v68 v105 v142 v179 v216 v253 v290 arg13 k0_t46) a + S1x16.size a ≤ S512x128.size a) ∧
  (∀ k0_t46 : Fin (k0_t46_loop v16 v31 v68 v105 v142 v179 v216 v253 v290 arg13).trips, ∀ a, (k0_off129 v16 v31 v68 v105 v142 v179 v216 v253 v290 arg13 k0_t46) a + S1x16.size a ≤ S512x128.size a) ∧
  (∀ k0_t46 : Fin (k0_t46_loop v16 v31 v68 v105 v142 v179 v216 v253 v290 arg13).trips, ∀ a, (k0_off130 v16 v31 v68 v105 v142 v179 v216 v253 v290 arg13 k0_t46) a + S1x16.size a ≤ S512x128.size a) ∧
  (∀ k0_t46 : Fin (k0_t46_loop v16 v31 v68 v105 v142 v179 v216 v253 v290 arg13).trips, ∀ a, (k0_off131 v16 v31 v68 v105 v142 v179 v216 v253 v290 arg13 k0_t46) a + S1x16.size a ≤ S512x128.size a) ∧
  ((k0_t47_loop v16 v31 v68 v105 v142 v179 v216 v253 v290 arg13).OK) ∧
  (∀ k0_t47 : Fin (k0_t47_loop v16 v31 v68 v105 v142 v179 v216 v253 v290 arg13).trips, ∀ a, (k0_off132 v16 v31 v68 v105 v142 v179 v216 v253 v290 arg13 k0_t47) a + S1x16.size a ≤ S512x128.size a) ∧
  (∀ k0_t47 : Fin (k0_t47_loop v16 v31 v68 v105 v142 v179 v216 v253 v290 arg13).trips, ∀ a, (k0_off133 v16 v31 v68 v105 v142 v179 v216 v253 v290 arg13 k0_t47) a + S1x16.size a ≤ S512x128.size a) ∧
  (∀ k0_t47 : Fin (k0_t47_loop v16 v31 v68 v105 v142 v179 v216 v253 v290 arg13).trips, ∀ a, (k0_off134 v16 v31 v68 v105 v142 v179 v216 v253 v290 arg13 k0_t47) a + S1x16.size a ≤ S512x128.size a) ∧
  (∀ k0_t47 : Fin (k0_t47_loop v16 v31 v68 v105 v142 v179 v216 v253 v290 arg13).trips, ∀ a, (k0_off135 v16 v31 v68 v105 v142 v179 v216 v253 v290 arg13 k0_t47) a + S1x16.size a ≤ S512x128.size a)
theorem k0_mult15_dvd : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13), 8 ∣ (k0_mult15 arg13).toNat := fun v16 v31 v68 v105 v142 v179 v216 v253 v290 arg13 k0_hw27 => k0_hw27.1
theorem k0_off127_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13), ∀ a, (k0_off127 arg13) a + S512x128.size a ≤ S320000x128.size a := fun v16 v31 v68 v105 v142 v179 v216 v253 v290 arg13 k0_hw27 => k0_hw27.2.1
theorem k0_t46_ok : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13), (k0_t46_loop v16 v31 v68 v105 v142 v179 v216 v253 v290 arg13).OK := fun v16 v31 v68 v105 v142 v179 v216 v253 v290 arg13 k0_hw27 => k0_hw27.2.2.1
theorem k0_off128_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13) (k0_t46 : Fin (k0_t46_loop v16 v31 v68 v105 v142 v179 v216 v253 v290 arg13).trips), ∀ a, (k0_off128 v16 v31 v68 v105 v142 v179 v216 v253 v290 arg13 k0_t46) a + S1x16.size a ≤ S512x128.size a := fun v16 v31 v68 v105 v142 v179 v216 v253 v290 arg13 k0_hw27 k0_t46 => k0_hw27.2.2.2.1 k0_t46
theorem k0_off129_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13) (k0_t46 : Fin (k0_t46_loop v16 v31 v68 v105 v142 v179 v216 v253 v290 arg13).trips), ∀ a, (k0_off129 v16 v31 v68 v105 v142 v179 v216 v253 v290 arg13 k0_t46) a + S1x16.size a ≤ S512x128.size a := fun v16 v31 v68 v105 v142 v179 v216 v253 v290 arg13 k0_hw27 k0_t46 => k0_hw27.2.2.2.2.1 k0_t46
theorem k0_off130_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13) (k0_t46 : Fin (k0_t46_loop v16 v31 v68 v105 v142 v179 v216 v253 v290 arg13).trips), ∀ a, (k0_off130 v16 v31 v68 v105 v142 v179 v216 v253 v290 arg13 k0_t46) a + S1x16.size a ≤ S512x128.size a := fun v16 v31 v68 v105 v142 v179 v216 v253 v290 arg13 k0_hw27 k0_t46 => k0_hw27.2.2.2.2.2.1 k0_t46
theorem k0_off131_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13) (k0_t46 : Fin (k0_t46_loop v16 v31 v68 v105 v142 v179 v216 v253 v290 arg13).trips), ∀ a, (k0_off131 v16 v31 v68 v105 v142 v179 v216 v253 v290 arg13 k0_t46) a + S1x16.size a ≤ S512x128.size a := fun v16 v31 v68 v105 v142 v179 v216 v253 v290 arg13 k0_hw27 k0_t46 => k0_hw27.2.2.2.2.2.2.1 k0_t46
theorem k0_t47_ok : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13), (k0_t47_loop v16 v31 v68 v105 v142 v179 v216 v253 v290 arg13).OK := fun v16 v31 v68 v105 v142 v179 v216 v253 v290 arg13 k0_hw27 => k0_hw27.2.2.2.2.2.2.2.1
theorem k0_off132_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13) (k0_t47 : Fin (k0_t47_loop v16 v31 v68 v105 v142 v179 v216 v253 v290 arg13).trips), ∀ a, (k0_off132 v16 v31 v68 v105 v142 v179 v216 v253 v290 arg13 k0_t47) a + S1x16.size a ≤ S512x128.size a := fun v16 v31 v68 v105 v142 v179 v216 v253 v290 arg13 k0_hw27 k0_t47 => k0_hw27.2.2.2.2.2.2.2.2.1 k0_t47
theorem k0_off133_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13) (k0_t47 : Fin (k0_t47_loop v16 v31 v68 v105 v142 v179 v216 v253 v290 arg13).trips), ∀ a, (k0_off133 v16 v31 v68 v105 v142 v179 v216 v253 v290 arg13 k0_t47) a + S1x16.size a ≤ S512x128.size a := fun v16 v31 v68 v105 v142 v179 v216 v253 v290 arg13 k0_hw27 k0_t47 => k0_hw27.2.2.2.2.2.2.2.2.2.1 k0_t47
theorem k0_off134_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13) (k0_t47 : Fin (k0_t47_loop v16 v31 v68 v105 v142 v179 v216 v253 v290 arg13).trips), ∀ a, (k0_off134 v16 v31 v68 v105 v142 v179 v216 v253 v290 arg13 k0_t47) a + S1x16.size a ≤ S512x128.size a := fun v16 v31 v68 v105 v142 v179 v216 v253 v290 arg13 k0_hw27 k0_t47 => k0_hw27.2.2.2.2.2.2.2.2.2.2.1 k0_t47
theorem k0_off135_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw27 : k0_chk27 v16 v31 v68 v105 v142 v179 v216 v253 v290 arg13) (k0_t47 : Fin (k0_t47_loop v16 v31 v68 v105 v142 v179 v216 v253 v290 arg13).trips), ∀ a, (k0_off135 v16 v31 v68 v105 v142 v179 v216 v253 v290 arg13 k0_t47) a + S1x16.size a ≤ S512x128.size a := fun v16 v31 v68 v105 v142 v179 v216 v253 v290 arg13 k0_hw27 k0_t47 => k0_hw27.2.2.2.2.2.2.2.2.2.2.2 k0_t47

@[reducible] def k0_t48_loop (v290 : BitVec 32) : Scf.Loop 32 :=
  let c0_i32_115 : BitVec 32 := 0#32
  let c0_i32_108 : BitVec 32 := 0#32
  let v293 : BitVec 1 := Scalar.cmpi .sgt v290 c0_i32_108
  let v294 : BitVec 32 := Scalar.extui v293
  let c0_i32_109 : BitVec 32 := 0#32
  let v295 : BitVec 1 := Scalar.cmpi .slt v290 c0_i32_109
  let v296 : BitVec 32 := Scalar.extui v295
  let v297 : BitVec 32 := Scalar.subi v294 v296
  let c504_i32_107 : BitVec 32 := 504#32
  let c0_i32_110 : BitVec 32 := 0#32
  let v298 : BitVec 1 := Scalar.cmpi .sgt c504_i32_107 c0_i32_110
  let v299 : BitVec 32 := Scalar.extui v298
  let c0_i32_111 : BitVec 32 := 0#32
  let v300 : BitVec 1 := Scalar.cmpi .slt c504_i32_107 c0_i32_111
  let v301 : BitVec 32 := Scalar.extui v300
  let v302 : BitVec 32 := Scalar.subi v299 v301
  let v303 : BitVec 1 := Scalar.cmpi .ne v297 v302
  let v304 : BitVec 32 := Scalar.remsi v290 c504_i32_107
  let c0_i32_112 : BitVec 32 := 0#32
  let v305 : BitVec 1 := Scalar.cmpi .ne v304 c0_i32_112
  let v306 : BitVec 1 := Scalar.andi v303 v305
  let v292 : BitVec 32 := Scalar.divsi v290 c504_i32_107
  let c1_i32_113 : BitVec 32 := 1#32
  let v307 : BitVec 32 := Scalar.subi v292 c1_i32_113
  let v308 : BitVec 32 := Scalar.select v306 v307 v292
  let c1_i32_114 : BitVec 32 := 1#32
  let v309 : BitVec 32 := Scalar.addi v308 c1_i32_114
  let v310 : BitVec 32 := Scalar.subi v309 c0_i32_115
  let c1_i32_116 : BitVec 32 := 1#32
  let v312 : BitVec 32 := Scalar.divsi v310 c1_i32_116
  let v313 : BitVec 32 := Scalar.muli v312 c1_i32_116
  let v314 : BitVec 32 := Scalar.addi c0_i32_115 v313
  let v311 : BitVec 32 := Scalar.addi c0_i32_115 v310
  let c1_i32_118 : BitVec 32 := 1#32
  ⟨v314, v311, c1_i32_118⟩

def k0_chk26 (v290 : BitVec 32) : Prop :=
  ((k0_t45_loop v290).OK) ∧
  ((k0_t48_loop v290).OK)
theorem k0_t45_ok : ∀ (v290 : BitVec 32) (k0_hw26 : k0_chk26 v290), (k0_t45_loop v290).OK := fun v290 k0_hw26 => k0_hw26.1
theorem k0_t48_ok : ∀ (v290 : BitVec 32) (k0_hw26 : k0_chk26 v290), (k0_t48_loop v290).OK := fun v290 k0_hw26 => k0_hw26.2

def k0_mult16 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off136 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r16 : BitVec 32 := 0#32
  ![v1213.toNat, 0]
@[reducible] def k0_t49_loop (v16 : BitVec 32) (v31 : BitVec 32) (v68 : BitVec 32) (v105 : BitVec 32) (v142 : BitVec 32) (v179 : BitVec 32) (v216 : BitVec 32) (v253 : BitVec 32) (v290 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off137 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t49 : Fin (k0_t49_loop v16 v31 v68 v105 v142 v179 v216 v253 v290 arg13).trips) : Fin 2 → Nat :=
  let c1_i32_473 : BitVec 32 := 1#32
  let arg14 : BitVec 32 := Scf.iv arg13 c1_i32_473 k0_t49
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off138 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t49 : Fin (k0_t49_loop v16 v31 v68 v105 v142 v179 v216 v253 v290 arg13).trips) : Fin 2 → Nat :=
  let c1_i32_473 : BitVec 32 := 1#32
  let arg14 : BitVec 32 := Scf.iv arg13 c1_i32_473 k0_t49
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off139 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t49 : Fin (k0_t49_loop v16 v31 v68 v105 v142 v179 v216 v253 v290 arg13).trips) : Fin 2 → Nat :=
  let c1_i32_473 : BitVec 32 := 1#32
  let arg14 : BitVec 32 := Scf.iv arg13 c1_i32_473 k0_t49
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off140 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t49 : Fin (k0_t49_loop v16 v31 v68 v105 v142 v179 v216 v253 v290 arg13).trips) : Fin 2 → Nat :=
  let c1_i32_473 : BitVec 32 := 1#32
  let arg14 : BitVec 32 := Scf.iv arg13 c1_i32_473 k0_t49
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t50_loop (v16 : BitVec 32) (v31 : BitVec 32) (v68 : BitVec 32) (v105 : BitVec 32) (v142 : BitVec 32) (v179 : BitVec 32) (v216 : BitVec 32) (v253 : BitVec 32) (v290 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off141 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t50 : Fin (k0_t50_loop v16 v31 v68 v105 v142 v179 v216 v253 v290 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t50
  let v1224 : BitVec 32 := Scalar.subi arg14 v1213
  let v1225 : Index := Scalar.indexCast v1224
  let c0_475 : Index := 0#32
  ![v1225.toNat, 0]
def k0_off142 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t50 : Fin (k0_t50_loop v16 v31 v68 v105 v142 v179 v216 v253 v290 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t50
  let v1224 : BitVec 32 := Scalar.subi arg14 v1213
  let v1228 : Index := Scalar.indexCast v1224
  let c16_476 : Index := 16#32
  ![v1228.toNat, 16]
def k0_off143 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t50 : Fin (k0_t50_loop v16 v31 v68 v105 v142 v179 v216 v253 v290 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t50
  let v1224 : BitVec 32 := Scalar.subi arg14 v1213
  let v1231 : Index := Scalar.indexCast v1224
  let c32_477 : Index := 32#32
  ![v1231.toNat, 32]
def k0_off144 (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_t50 : Fin (k0_t50_loop v16 v31 v68 v105 v142 v179 v216 v253 v290 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v291 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t50
  let v1224 : BitVec 32 := Scalar.subi arg14 v1213
  let v1234 : Index := Scalar.indexCast v1224
  let c48_478 : Index := 48#32
  ![v1234.toNat, 48]

def k0_chk28 (v16 : BitVec 32) (v31 : BitVec 32) (v68 : BitVec 32) (v105 : BitVec 32) (v142 : BitVec 32) (v179 : BitVec 32) (v216 : BitVec 32) (v253 : BitVec 32) (v290 : BitVec 32) (arg13 : BitVec 32) : Prop :=
  (8 ∣ (k0_mult16 arg13).toNat) ∧
  (∀ a, (k0_off136 arg13) a + S512x128.size a ≤ S320000x128.size a) ∧
  ((k0_t49_loop v16 v31 v68 v105 v142 v179 v216 v253 v290 arg13).OK) ∧
  (∀ k0_t49 : Fin (k0_t49_loop v16 v31 v68 v105 v142 v179 v216 v253 v290 arg13).trips, ∀ a, (k0_off137 v16 v31 v68 v105 v142 v179 v216 v253 v290 arg13 k0_t49) a + S1x16.size a ≤ S512x128.size a) ∧
  (∀ k0_t49 : Fin (k0_t49_loop v16 v31 v68 v105 v142 v179 v216 v253 v290 arg13).trips, ∀ a, (k0_off138 v16 v31 v68 v105 v142 v179 v216 v253 v290 arg13 k0_t49) a + S1x16.size a ≤ S512x128.size a) ∧
  (∀ k0_t49 : Fin (k0_t49_loop v16 v31 v68 v105 v142 v179 v216 v253 v290 arg13).trips, ∀ a, (k0_off139 v16 v31 v68 v105 v142 v179 v216 v253 v290 arg13 k0_t49) a + S1x16.size a ≤ S512x128.size a) ∧
  (∀ k0_t49 : Fin (k0_t49_loop v16 v31 v68 v105 v142 v179 v216 v253 v290 arg13).trips, ∀ a, (k0_off140 v16 v31 v68 v105 v142 v179 v216 v253 v290 arg13 k0_t49) a + S1x16.size a ≤ S512x128.size a) ∧
  ((k0_t50_loop v16 v31 v68 v105 v142 v179 v216 v253 v290 arg13).OK) ∧
  (∀ k0_t50 : Fin (k0_t50_loop v16 v31 v68 v105 v142 v179 v216 v253 v290 arg13).trips, ∀ a, (k0_off141 v16 v31 v68 v105 v142 v179 v216 v253 v290 arg13 k0_t50) a + S1x16.size a ≤ S512x128.size a) ∧
  (∀ k0_t50 : Fin (k0_t50_loop v16 v31 v68 v105 v142 v179 v216 v253 v290 arg13).trips, ∀ a, (k0_off142 v16 v31 v68 v105 v142 v179 v216 v253 v290 arg13 k0_t50) a + S1x16.size a ≤ S512x128.size a) ∧
  (∀ k0_t50 : Fin (k0_t50_loop v16 v31 v68 v105 v142 v179 v216 v253 v290 arg13).trips, ∀ a, (k0_off143 v16 v31 v68 v105 v142 v179 v216 v253 v290 arg13 k0_t50) a + S1x16.size a ≤ S512x128.size a) ∧
  (∀ k0_t50 : Fin (k0_t50_loop v16 v31 v68 v105 v142 v179 v216 v253 v290 arg13).trips, ∀ a, (k0_off144 v16 v31 v68 v105 v142 v179 v216 v253 v290 arg13 k0_t50) a + S1x16.size a ≤ S512x128.size a)
theorem k0_mult16_dvd : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13), 8 ∣ (k0_mult16 arg13).toNat := fun v16 v31 v68 v105 v142 v179 v216 v253 v290 arg13 k0_hw28 => k0_hw28.1
theorem k0_off136_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13), ∀ a, (k0_off136 arg13) a + S512x128.size a ≤ S320000x128.size a := fun v16 v31 v68 v105 v142 v179 v216 v253 v290 arg13 k0_hw28 => k0_hw28.2.1
theorem k0_t49_ok : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13), (k0_t49_loop v16 v31 v68 v105 v142 v179 v216 v253 v290 arg13).OK := fun v16 v31 v68 v105 v142 v179 v216 v253 v290 arg13 k0_hw28 => k0_hw28.2.2.1
theorem k0_off137_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13) (k0_t49 : Fin (k0_t49_loop v16 v31 v68 v105 v142 v179 v216 v253 v290 arg13).trips), ∀ a, (k0_off137 v16 v31 v68 v105 v142 v179 v216 v253 v290 arg13 k0_t49) a + S1x16.size a ≤ S512x128.size a := fun v16 v31 v68 v105 v142 v179 v216 v253 v290 arg13 k0_hw28 k0_t49 => k0_hw28.2.2.2.1 k0_t49
theorem k0_off138_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13) (k0_t49 : Fin (k0_t49_loop v16 v31 v68 v105 v142 v179 v216 v253 v290 arg13).trips), ∀ a, (k0_off138 v16 v31 v68 v105 v142 v179 v216 v253 v290 arg13 k0_t49) a + S1x16.size a ≤ S512x128.size a := fun v16 v31 v68 v105 v142 v179 v216 v253 v290 arg13 k0_hw28 k0_t49 => k0_hw28.2.2.2.2.1 k0_t49
theorem k0_off139_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13) (k0_t49 : Fin (k0_t49_loop v16 v31 v68 v105 v142 v179 v216 v253 v290 arg13).trips), ∀ a, (k0_off139 v16 v31 v68 v105 v142 v179 v216 v253 v290 arg13 k0_t49) a + S1x16.size a ≤ S512x128.size a := fun v16 v31 v68 v105 v142 v179 v216 v253 v290 arg13 k0_hw28 k0_t49 => k0_hw28.2.2.2.2.2.1 k0_t49
theorem k0_off140_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13) (k0_t49 : Fin (k0_t49_loop v16 v31 v68 v105 v142 v179 v216 v253 v290 arg13).trips), ∀ a, (k0_off140 v16 v31 v68 v105 v142 v179 v216 v253 v290 arg13 k0_t49) a + S1x16.size a ≤ S512x128.size a := fun v16 v31 v68 v105 v142 v179 v216 v253 v290 arg13 k0_hw28 k0_t49 => k0_hw28.2.2.2.2.2.2.1 k0_t49
theorem k0_t50_ok : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13), (k0_t50_loop v16 v31 v68 v105 v142 v179 v216 v253 v290 arg13).OK := fun v16 v31 v68 v105 v142 v179 v216 v253 v290 arg13 k0_hw28 => k0_hw28.2.2.2.2.2.2.2.1
theorem k0_off141_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13) (k0_t50 : Fin (k0_t50_loop v16 v31 v68 v105 v142 v179 v216 v253 v290 arg13).trips), ∀ a, (k0_off141 v16 v31 v68 v105 v142 v179 v216 v253 v290 arg13 k0_t50) a + S1x16.size a ≤ S512x128.size a := fun v16 v31 v68 v105 v142 v179 v216 v253 v290 arg13 k0_hw28 k0_t50 => k0_hw28.2.2.2.2.2.2.2.2.1 k0_t50
theorem k0_off142_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13) (k0_t50 : Fin (k0_t50_loop v16 v31 v68 v105 v142 v179 v216 v253 v290 arg13).trips), ∀ a, (k0_off142 v16 v31 v68 v105 v142 v179 v216 v253 v290 arg13 k0_t50) a + S1x16.size a ≤ S512x128.size a := fun v16 v31 v68 v105 v142 v179 v216 v253 v290 arg13 k0_hw28 k0_t50 => k0_hw28.2.2.2.2.2.2.2.2.2.1 k0_t50
theorem k0_off143_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13) (k0_t50 : Fin (k0_t50_loop v16 v31 v68 v105 v142 v179 v216 v253 v290 arg13).trips), ∀ a, (k0_off143 v16 v31 v68 v105 v142 v179 v216 v253 v290 arg13 k0_t50) a + S1x16.size a ≤ S512x128.size a := fun v16 v31 v68 v105 v142 v179 v216 v253 v290 arg13 k0_hw28 k0_t50 => k0_hw28.2.2.2.2.2.2.2.2.2.2.1 k0_t50
theorem k0_off144_inb : ∀ (v16 : BitVec 32) (v31 : BitVec 32) (v68 : BitVec 32) (v105 : BitVec 32) (v142 : BitVec 32) (v179 : BitVec 32) (v216 : BitVec 32) (v253 : BitVec 32) (v290 : BitVec 32) (arg13 : BitVec 32) (k0_hw28 : k0_chk28 v16 v31 v68 v105 v142 v179 v216 v253 v290 arg13) (k0_t50 : Fin (k0_t50_loop v16 v31 v68 v105 v142 v179 v216 v253 v290 arg13).trips), ∀ a, (k0_off144 v16 v31 v68 v105 v142 v179 v216 v253 v290 arg13 k0_t50) a + S1x16.size a ≤ S512x128.size a := fun v16 v31 v68 v105 v142 v179 v216 v253 v290 arg13 k0_hw28 k0_t50 => k0_hw28.2.2.2.2.2.2.2.2.2.2.2 k0_t50

@[reducible] def k0_t51_loop (v327 : BitVec 32) : Scf.Loop 32 :=
  let c0_i32_129 : BitVec 32 := 0#32
  let c0_i32_122 : BitVec 32 := 0#32
  let v330 : BitVec 1 := Scalar.cmpi .sgt v327 c0_i32_122
  let v331 : BitVec 32 := Scalar.extui v330
  let c0_i32_123 : BitVec 32 := 0#32
  let v332 : BitVec 1 := Scalar.cmpi .slt v327 c0_i32_123
  let v333 : BitVec 32 := Scalar.extui v332
  let v334 : BitVec 32 := Scalar.subi v331 v333
  let c504_i32_121 : BitVec 32 := 504#32
  let c0_i32_124 : BitVec 32 := 0#32
  let v335 : BitVec 1 := Scalar.cmpi .sgt c504_i32_121 c0_i32_124
  let v336 : BitVec 32 := Scalar.extui v335
  let c0_i32_125 : BitVec 32 := 0#32
  let v337 : BitVec 1 := Scalar.cmpi .slt c504_i32_121 c0_i32_125
  let v338 : BitVec 32 := Scalar.extui v337
  let v339 : BitVec 32 := Scalar.subi v336 v338
  let v340 : BitVec 1 := Scalar.cmpi .ne v334 v339
  let v341 : BitVec 32 := Scalar.remsi v327 c504_i32_121
  let c0_i32_126 : BitVec 32 := 0#32
  let v342 : BitVec 1 := Scalar.cmpi .ne v341 c0_i32_126
  let v343 : BitVec 1 := Scalar.andi v340 v342
  let v329 : BitVec 32 := Scalar.divsi v327 c504_i32_121
  let c1_i32_127 : BitVec 32 := 1#32
  let v344 : BitVec 32 := Scalar.subi v329 c1_i32_127
  let v345 : BitVec 32 := Scalar.select v343 v344 v329
  let c1_i32_128 : BitVec 32 := 1#32
  let v346 : BitVec 32 := Scalar.addi v345 c1_i32_128
  let v347 : BitVec 32 := Scalar.subi v346 c0_i32_129
  let c1_i32_130 : BitVec 32 := 1#32
  let v349 : BitVec 32 := Scalar.divsi v347 c1_i32_130
  let v350 : BitVec 32 := Scalar.muli v349 c1_i32_130
  let v351 : BitVec 32 := Scalar.addi c0_i32_129 v350
  let c1_i32_131 : BitVec 32 := 1#32
  ⟨c0_i32_129, v351, c1_i32_131⟩

def k0_mult17 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off145 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r17 : BitVec 32 := 0#32
  ![v1213.toNat, 0]
@[reducible] def k0_t52_loop (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off146 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t52 : Fin (k0_t52_loop v16 v31 v68 v105 v142 v179 v216 v253 v290 v327 arg13).trips) : Fin 2 → Nat :=
  let c1_i32_473 : BitVec 32 := 1#32
  let arg14 : BitVec 32 := Scf.iv arg13 c1_i32_473 k0_t52
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off147 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t52 : Fin (k0_t52_loop v16 v31 v68 v105 v142 v179 v216 v253 v290 v327 arg13).trips) : Fin 2 → Nat :=
  let c1_i32_473 : BitVec 32 := 1#32
  let arg14 : BitVec 32 := Scf.iv arg13 c1_i32_473 k0_t52
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off148 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t52 : Fin (k0_t52_loop v16 v31 v68 v105 v142 v179 v216 v253 v290 v327 arg13).trips) : Fin 2 → Nat :=
  let c1_i32_473 : BitVec 32 := 1#32
  let arg14 : BitVec 32 := Scf.iv arg13 c1_i32_473 k0_t52
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off149 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t52 : Fin (k0_t52_loop v16 v31 v68 v105 v142 v179 v216 v253 v290 v327 arg13).trips) : Fin 2 → Nat :=
  let c1_i32_473 : BitVec 32 := 1#32
  let arg14 : BitVec 32 := Scf.iv arg13 c1_i32_473 k0_t52
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t53_loop (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off150 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t53 : Fin (k0_t53_loop v16 v31 v68 v105 v142 v179 v216 v253 v290 v327 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t53
  let v1224 : BitVec 32 := Scalar.subi arg14 v1213
  let v1225 : Index := Scalar.indexCast v1224
  let c0_475 : Index := 0#32
  ![v1225.toNat, 0]
def k0_off151 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t53 : Fin (k0_t53_loop v16 v31 v68 v105 v142 v179 v216 v253 v290 v327 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t53
  let v1224 : BitVec 32 := Scalar.subi arg14 v1213
  let v1228 : Index := Scalar.indexCast v1224
  let c16_476 : Index := 16#32
  ![v1228.toNat, 16]
def k0_off152 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t53 : Fin (k0_t53_loop v16 v31 v68 v105 v142 v179 v216 v253 v290 v327 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t53
  let v1224 : BitVec 32 := Scalar.subi arg14 v1213
  let v1231 : Index := Scalar.indexCast v1224
  let c32_477 : Index := 32#32
  ![v1231.toNat, 32]
def k0_off153 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t53 : Fin (k0_t53_loop v16 v31 v68 v105 v142 v179 v216 v253 v290 v327 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t53
  let v1224 : BitVec 32 := Scalar.subi arg14 v1213
  let v1234 : Index := Scalar.indexCast v1224
  let c48_478 : Index := 48#32
  ![v1234.toNat, 48]

def k0_chk30 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) : Prop :=
  (8 ∣ (k0_mult17 arg13).toNat) ∧
  (∀ a, (k0_off145 arg13) a + S512x128.size a ≤ S320000x128.size a) ∧
  ((k0_t52_loop v16 v31 v68 v105 v142 v179 v216 v253 v290 v327 arg13).OK) ∧
  (∀ k0_t52 : Fin (k0_t52_loop v16 v31 v68 v105 v142 v179 v216 v253 v290 v327 arg13).trips, ∀ a, (k0_off146 v16 v31 v68 v105 v142 v179 v216 v253 v290 v327 arg13 k0_t52) a + S1x16.size a ≤ S512x128.size a) ∧
  (∀ k0_t52 : Fin (k0_t52_loop v16 v31 v68 v105 v142 v179 v216 v253 v290 v327 arg13).trips, ∀ a, (k0_off147 v16 v31 v68 v105 v142 v179 v216 v253 v290 v327 arg13 k0_t52) a + S1x16.size a ≤ S512x128.size a) ∧
  (∀ k0_t52 : Fin (k0_t52_loop v16 v31 v68 v105 v142 v179 v216 v253 v290 v327 arg13).trips, ∀ a, (k0_off148 v16 v31 v68 v105 v142 v179 v216 v253 v290 v327 arg13 k0_t52) a + S1x16.size a ≤ S512x128.size a) ∧
  (∀ k0_t52 : Fin (k0_t52_loop v16 v31 v68 v105 v142 v179 v216 v253 v290 v327 arg13).trips, ∀ a, (k0_off149 v16 v31 v68 v105 v142 v179 v216 v253 v290 v327 arg13 k0_t52) a + S1x16.size a ≤ S512x128.size a) ∧
  ((k0_t53_loop v16 v31 v68 v105 v142 v179 v216 v253 v290 v327 arg13).OK) ∧
  (∀ k0_t53 : Fin (k0_t53_loop v16 v31 v68 v105 v142 v179 v216 v253 v290 v327 arg13).trips, ∀ a, (k0_off150 v16 v31 v68 v105 v142 v179 v216 v253 v290 v327 arg13 k0_t53) a + S1x16.size a ≤ S512x128.size a) ∧
  (∀ k0_t53 : Fin (k0_t53_loop v16 v31 v68 v105 v142 v179 v216 v253 v290 v327 arg13).trips, ∀ a, (k0_off151 v16 v31 v68 v105 v142 v179 v216 v253 v290 v327 arg13 k0_t53) a + S1x16.size a ≤ S512x128.size a) ∧
  (∀ k0_t53 : Fin (k0_t53_loop v16 v31 v68 v105 v142 v179 v216 v253 v290 v327 arg13).trips, ∀ a, (k0_off152 v16 v31 v68 v105 v142 v179 v216 v253 v290 v327 arg13 k0_t53) a + S1x16.size a ≤ S512x128.size a) ∧
  (∀ k0_t53 : Fin (k0_t53_loop v16 v31 v68 v105 v142 v179 v216 v253 v290 v327 arg13).trips, ∀ a, (k0_off153 v16 v31 v68 v105 v142 v179 v216 v253 v290 v327 arg13 k0_t53) a + S1x16.size a ≤ S512x128.size a)
theorem k0_mult17_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13), 8 ∣ (k0_mult17 arg13).toNat := fun v16 v31 v68 v105 v142 v179 v216 v253 v290 v327 arg13 k0_hw30 => k0_hw30.1
theorem k0_off145_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13), ∀ a, (k0_off145 arg13) a + S512x128.size a ≤ S320000x128.size a := fun v16 v31 v68 v105 v142 v179 v216 v253 v290 v327 arg13 k0_hw30 => k0_hw30.2.1
theorem k0_t52_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13), (k0_t52_loop v16 v31 v68 v105 v142 v179 v216 v253 v290 v327 arg13).OK := fun v16 v31 v68 v105 v142 v179 v216 v253 v290 v327 arg13 k0_hw30 => k0_hw30.2.2.1
theorem k0_off146_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13) (k0_t52 : Fin (k0_t52_loop v16 v31 v68 v105 v142 v179 v216 v253 v290 v327 arg13).trips), ∀ a, (k0_off146 v16 v31 v68 v105 v142 v179 v216 v253 v290 v327 arg13 k0_t52) a + S1x16.size a ≤ S512x128.size a := fun v16 v31 v68 v105 v142 v179 v216 v253 v290 v327 arg13 k0_hw30 k0_t52 => k0_hw30.2.2.2.1 k0_t52
theorem k0_off147_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13) (k0_t52 : Fin (k0_t52_loop v16 v31 v68 v105 v142 v179 v216 v253 v290 v327 arg13).trips), ∀ a, (k0_off147 v16 v31 v68 v105 v142 v179 v216 v253 v290 v327 arg13 k0_t52) a + S1x16.size a ≤ S512x128.size a := fun v16 v31 v68 v105 v142 v179 v216 v253 v290 v327 arg13 k0_hw30 k0_t52 => k0_hw30.2.2.2.2.1 k0_t52
theorem k0_off148_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13) (k0_t52 : Fin (k0_t52_loop v16 v31 v68 v105 v142 v179 v216 v253 v290 v327 arg13).trips), ∀ a, (k0_off148 v16 v31 v68 v105 v142 v179 v216 v253 v290 v327 arg13 k0_t52) a + S1x16.size a ≤ S512x128.size a := fun v16 v31 v68 v105 v142 v179 v216 v253 v290 v327 arg13 k0_hw30 k0_t52 => k0_hw30.2.2.2.2.2.1 k0_t52
theorem k0_off149_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13) (k0_t52 : Fin (k0_t52_loop v16 v31 v68 v105 v142 v179 v216 v253 v290 v327 arg13).trips), ∀ a, (k0_off149 v16 v31 v68 v105 v142 v179 v216 v253 v290 v327 arg13 k0_t52) a + S1x16.size a ≤ S512x128.size a := fun v16 v31 v68 v105 v142 v179 v216 v253 v290 v327 arg13 k0_hw30 k0_t52 => k0_hw30.2.2.2.2.2.2.1 k0_t52
theorem k0_t53_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13), (k0_t53_loop v16 v31 v68 v105 v142 v179 v216 v253 v290 v327 arg13).OK := fun v16 v31 v68 v105 v142 v179 v216 v253 v290 v327 arg13 k0_hw30 => k0_hw30.2.2.2.2.2.2.2.1
theorem k0_off150_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13) (k0_t53 : Fin (k0_t53_loop v16 v31 v68 v105 v142 v179 v216 v253 v290 v327 arg13).trips), ∀ a, (k0_off150 v16 v31 v68 v105 v142 v179 v216 v253 v290 v327 arg13 k0_t53) a + S1x16.size a ≤ S512x128.size a := fun v16 v31 v68 v105 v142 v179 v216 v253 v290 v327 arg13 k0_hw30 k0_t53 => k0_hw30.2.2.2.2.2.2.2.2.1 k0_t53
theorem k0_off151_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13) (k0_t53 : Fin (k0_t53_loop v16 v31 v68 v105 v142 v179 v216 v253 v290 v327 arg13).trips), ∀ a, (k0_off151 v16 v31 v68 v105 v142 v179 v216 v253 v290 v327 arg13 k0_t53) a + S1x16.size a ≤ S512x128.size a := fun v16 v31 v68 v105 v142 v179 v216 v253 v290 v327 arg13 k0_hw30 k0_t53 => k0_hw30.2.2.2.2.2.2.2.2.2.1 k0_t53
theorem k0_off152_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13) (k0_t53 : Fin (k0_t53_loop v16 v31 v68 v105 v142 v179 v216 v253 v290 v327 arg13).trips), ∀ a, (k0_off152 v16 v31 v68 v105 v142 v179 v216 v253 v290 v327 arg13 k0_t53) a + S1x16.size a ≤ S512x128.size a := fun v16 v31 v68 v105 v142 v179 v216 v253 v290 v327 arg13 k0_hw30 k0_t53 => k0_hw30.2.2.2.2.2.2.2.2.2.2.1 k0_t53
theorem k0_off153_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw30 : k0_chk30 v16 v31 v68 v105 v142 v179 v216 v253 v290 v327 arg13) (k0_t53 : Fin (k0_t53_loop v16 v31 v68 v105 v142 v179 v216 v253 v290 v327 arg13).trips), ∀ a, (k0_off153 v16 v31 v68 v105 v142 v179 v216 v253 v290 v327 arg13 k0_t53) a + S1x16.size a ≤ S512x128.size a := fun v16 v31 v68 v105 v142 v179 v216 v253 v290 v327 arg13 k0_hw30 k0_t53 => k0_hw30.2.2.2.2.2.2.2.2.2.2.2 k0_t53

@[reducible] def k0_t54_loop (v327 : BitVec 32) : Scf.Loop 32 :=
  let c0_i32_129 : BitVec 32 := 0#32
  let c0_i32_122 : BitVec 32 := 0#32
  let v330 : BitVec 1 := Scalar.cmpi .sgt v327 c0_i32_122
  let v331 : BitVec 32 := Scalar.extui v330
  let c0_i32_123 : BitVec 32 := 0#32
  let v332 : BitVec 1 := Scalar.cmpi .slt v327 c0_i32_123
  let v333 : BitVec 32 := Scalar.extui v332
  let v334 : BitVec 32 := Scalar.subi v331 v333
  let c504_i32_121 : BitVec 32 := 504#32
  let c0_i32_124 : BitVec 32 := 0#32
  let v335 : BitVec 1 := Scalar.cmpi .sgt c504_i32_121 c0_i32_124
  let v336 : BitVec 32 := Scalar.extui v335
  let c0_i32_125 : BitVec 32 := 0#32
  let v337 : BitVec 1 := Scalar.cmpi .slt c504_i32_121 c0_i32_125
  let v338 : BitVec 32 := Scalar.extui v337
  let v339 : BitVec 32 := Scalar.subi v336 v338
  let v340 : BitVec 1 := Scalar.cmpi .ne v334 v339
  let v341 : BitVec 32 := Scalar.remsi v327 c504_i32_121
  let c0_i32_126 : BitVec 32 := 0#32
  let v342 : BitVec 1 := Scalar.cmpi .ne v341 c0_i32_126
  let v343 : BitVec 1 := Scalar.andi v340 v342
  let v329 : BitVec 32 := Scalar.divsi v327 c504_i32_121
  let c1_i32_127 : BitVec 32 := 1#32
  let v344 : BitVec 32 := Scalar.subi v329 c1_i32_127
  let v345 : BitVec 32 := Scalar.select v343 v344 v329
  let c1_i32_128 : BitVec 32 := 1#32
  let v346 : BitVec 32 := Scalar.addi v345 c1_i32_128
  let v347 : BitVec 32 := Scalar.subi v346 c0_i32_129
  let c1_i32_130 : BitVec 32 := 1#32
  let v349 : BitVec 32 := Scalar.divsi v347 c1_i32_130
  let v350 : BitVec 32 := Scalar.muli v349 c1_i32_130
  let v351 : BitVec 32 := Scalar.addi c0_i32_129 v350
  let v348 : BitVec 32 := Scalar.addi c0_i32_129 v347
  let c1_i32_132 : BitVec 32 := 1#32
  ⟨v351, v348, c1_i32_132⟩

def k0_chk29 (v327 : BitVec 32) : Prop :=
  ((k0_t51_loop v327).OK) ∧
  ((k0_t54_loop v327).OK)
theorem k0_t51_ok : ∀ (v327 : BitVec 32) (k0_hw29 : k0_chk29 v327), (k0_t51_loop v327).OK := fun v327 k0_hw29 => k0_hw29.1
theorem k0_t54_ok : ∀ (v327 : BitVec 32) (k0_hw29 : k0_chk29 v327), (k0_t54_loop v327).OK := fun v327 k0_hw29 => k0_hw29.2

def k0_mult18 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off154 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r18 : BitVec 32 := 0#32
  ![v1213.toNat, 0]
@[reducible] def k0_t55_loop (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off155 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t55 : Fin (k0_t55_loop v16 v31 v68 v105 v142 v179 v216 v253 v290 v327 arg13).trips) : Fin 2 → Nat :=
  let c1_i32_473 : BitVec 32 := 1#32
  let arg14 : BitVec 32 := Scf.iv arg13 c1_i32_473 k0_t55
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off156 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t55 : Fin (k0_t55_loop v16 v31 v68 v105 v142 v179 v216 v253 v290 v327 arg13).trips) : Fin 2 → Nat :=
  let c1_i32_473 : BitVec 32 := 1#32
  let arg14 : BitVec 32 := Scf.iv arg13 c1_i32_473 k0_t55
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off157 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t55 : Fin (k0_t55_loop v16 v31 v68 v105 v142 v179 v216 v253 v290 v327 arg13).trips) : Fin 2 → Nat :=
  let c1_i32_473 : BitVec 32 := 1#32
  let arg14 : BitVec 32 := Scf.iv arg13 c1_i32_473 k0_t55
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off158 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t55 : Fin (k0_t55_loop v16 v31 v68 v105 v142 v179 v216 v253 v290 v327 arg13).trips) : Fin 2 → Nat :=
  let c1_i32_473 : BitVec 32 := 1#32
  let arg14 : BitVec 32 := Scf.iv arg13 c1_i32_473 k0_t55
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t56_loop (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off159 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t56 : Fin (k0_t56_loop v16 v31 v68 v105 v142 v179 v216 v253 v290 v327 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t56
  let v1224 : BitVec 32 := Scalar.subi arg14 v1213
  let v1225 : Index := Scalar.indexCast v1224
  let c0_475 : Index := 0#32
  ![v1225.toNat, 0]
def k0_off160 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t56 : Fin (k0_t56_loop v16 v31 v68 v105 v142 v179 v216 v253 v290 v327 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t56
  let v1224 : BitVec 32 := Scalar.subi arg14 v1213
  let v1228 : Index := Scalar.indexCast v1224
  let c16_476 : Index := 16#32
  ![v1228.toNat, 16]
def k0_off161 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t56 : Fin (k0_t56_loop v16 v31 v68 v105 v142 v179 v216 v253 v290 v327 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t56
  let v1224 : BitVec 32 := Scalar.subi arg14 v1213
  let v1231 : Index := Scalar.indexCast v1224
  let c32_477 : Index := 32#32
  ![v1231.toNat, 32]
def k0_off162 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_t56 : Fin (k0_t56_loop v16 v31 v68 v105 v142 v179 v216 v253 v290 v327 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v328 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t56
  let v1224 : BitVec 32 := Scalar.subi arg14 v1213
  let v1234 : Index := Scalar.indexCast v1224
  let c48_478 : Index := 48#32
  ![v1234.toNat, 48]

def k0_chk31 (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) : Prop :=
  (8 ∣ (k0_mult18 arg13).toNat) ∧
  (∀ a, (k0_off154 arg13) a + S512x128.size a ≤ S320000x128.size a) ∧
  ((k0_t55_loop v16 v31 v68 v105 v142 v179 v216 v253 v290 v327 arg13).OK) ∧
  (∀ k0_t55 : Fin (k0_t55_loop v16 v31 v68 v105 v142 v179 v216 v253 v290 v327 arg13).trips, ∀ a, (k0_off155 v16 v31 v68 v105 v142 v179 v216 v253 v290 v327 arg13 k0_t55) a + S1x16.size a ≤ S512x128.size a) ∧
  (∀ k0_t55 : Fin (k0_t55_loop v16 v31 v68 v105 v142 v179 v216 v253 v290 v327 arg13).trips, ∀ a, (k0_off156 v16 v31 v68 v105 v142 v179 v216 v253 v290 v327 arg13 k0_t55) a + S1x16.size a ≤ S512x128.size a) ∧
  (∀ k0_t55 : Fin (k0_t55_loop v16 v31 v68 v105 v142 v179 v216 v253 v290 v327 arg13).trips, ∀ a, (k0_off157 v16 v31 v68 v105 v142 v179 v216 v253 v290 v327 arg13 k0_t55) a + S1x16.size a ≤ S512x128.size a) ∧
  (∀ k0_t55 : Fin (k0_t55_loop v16 v31 v68 v105 v142 v179 v216 v253 v290 v327 arg13).trips, ∀ a, (k0_off158 v16 v31 v68 v105 v142 v179 v216 v253 v290 v327 arg13 k0_t55) a + S1x16.size a ≤ S512x128.size a) ∧
  ((k0_t56_loop v16 v31 v68 v105 v142 v179 v216 v253 v290 v327 arg13).OK) ∧
  (∀ k0_t56 : Fin (k0_t56_loop v16 v31 v68 v105 v142 v179 v216 v253 v290 v327 arg13).trips, ∀ a, (k0_off159 v16 v31 v68 v105 v142 v179 v216 v253 v290 v327 arg13 k0_t56) a + S1x16.size a ≤ S512x128.size a) ∧
  (∀ k0_t56 : Fin (k0_t56_loop v16 v31 v68 v105 v142 v179 v216 v253 v290 v327 arg13).trips, ∀ a, (k0_off160 v16 v31 v68 v105 v142 v179 v216 v253 v290 v327 arg13 k0_t56) a + S1x16.size a ≤ S512x128.size a) ∧
  (∀ k0_t56 : Fin (k0_t56_loop v16 v31 v68 v105 v142 v179 v216 v253 v290 v327 arg13).trips, ∀ a, (k0_off161 v16 v31 v68 v105 v142 v179 v216 v253 v290 v327 arg13 k0_t56) a + S1x16.size a ≤ S512x128.size a) ∧
  (∀ k0_t56 : Fin (k0_t56_loop v16 v31 v68 v105 v142 v179 v216 v253 v290 v327 arg13).trips, ∀ a, (k0_off162 v16 v31 v68 v105 v142 v179 v216 v253 v290 v327 arg13 k0_t56) a + S1x16.size a ≤ S512x128.size a)
theorem k0_mult18_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13), 8 ∣ (k0_mult18 arg13).toNat := fun v16 v31 v68 v105 v142 v179 v216 v253 v290 v327 arg13 k0_hw31 => k0_hw31.1
theorem k0_off154_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13), ∀ a, (k0_off154 arg13) a + S512x128.size a ≤ S320000x128.size a := fun v16 v31 v68 v105 v142 v179 v216 v253 v290 v327 arg13 k0_hw31 => k0_hw31.2.1
theorem k0_t55_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13), (k0_t55_loop v16 v31 v68 v105 v142 v179 v216 v253 v290 v327 arg13).OK := fun v16 v31 v68 v105 v142 v179 v216 v253 v290 v327 arg13 k0_hw31 => k0_hw31.2.2.1
theorem k0_off155_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13) (k0_t55 : Fin (k0_t55_loop v16 v31 v68 v105 v142 v179 v216 v253 v290 v327 arg13).trips), ∀ a, (k0_off155 v16 v31 v68 v105 v142 v179 v216 v253 v290 v327 arg13 k0_t55) a + S1x16.size a ≤ S512x128.size a := fun v16 v31 v68 v105 v142 v179 v216 v253 v290 v327 arg13 k0_hw31 k0_t55 => k0_hw31.2.2.2.1 k0_t55
theorem k0_off156_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13) (k0_t55 : Fin (k0_t55_loop v16 v31 v68 v105 v142 v179 v216 v253 v290 v327 arg13).trips), ∀ a, (k0_off156 v16 v31 v68 v105 v142 v179 v216 v253 v290 v327 arg13 k0_t55) a + S1x16.size a ≤ S512x128.size a := fun v16 v31 v68 v105 v142 v179 v216 v253 v290 v327 arg13 k0_hw31 k0_t55 => k0_hw31.2.2.2.2.1 k0_t55
theorem k0_off157_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13) (k0_t55 : Fin (k0_t55_loop v16 v31 v68 v105 v142 v179 v216 v253 v290 v327 arg13).trips), ∀ a, (k0_off157 v16 v31 v68 v105 v142 v179 v216 v253 v290 v327 arg13 k0_t55) a + S1x16.size a ≤ S512x128.size a := fun v16 v31 v68 v105 v142 v179 v216 v253 v290 v327 arg13 k0_hw31 k0_t55 => k0_hw31.2.2.2.2.2.1 k0_t55
theorem k0_off158_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13) (k0_t55 : Fin (k0_t55_loop v16 v31 v68 v105 v142 v179 v216 v253 v290 v327 arg13).trips), ∀ a, (k0_off158 v16 v31 v68 v105 v142 v179 v216 v253 v290 v327 arg13 k0_t55) a + S1x16.size a ≤ S512x128.size a := fun v16 v31 v68 v105 v142 v179 v216 v253 v290 v327 arg13 k0_hw31 k0_t55 => k0_hw31.2.2.2.2.2.2.1 k0_t55
theorem k0_t56_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13), (k0_t56_loop v16 v31 v68 v105 v142 v179 v216 v253 v290 v327 arg13).OK := fun v16 v31 v68 v105 v142 v179 v216 v253 v290 v327 arg13 k0_hw31 => k0_hw31.2.2.2.2.2.2.2.1
theorem k0_off159_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13) (k0_t56 : Fin (k0_t56_loop v16 v31 v68 v105 v142 v179 v216 v253 v290 v327 arg13).trips), ∀ a, (k0_off159 v16 v31 v68 v105 v142 v179 v216 v253 v290 v327 arg13 k0_t56) a + S1x16.size a ≤ S512x128.size a := fun v16 v31 v68 v105 v142 v179 v216 v253 v290 v327 arg13 k0_hw31 k0_t56 => k0_hw31.2.2.2.2.2.2.2.2.1 k0_t56
theorem k0_off160_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13) (k0_t56 : Fin (k0_t56_loop v16 v31 v68 v105 v142 v179 v216 v253 v290 v327 arg13).trips), ∀ a, (k0_off160 v16 v31 v68 v105 v142 v179 v216 v253 v290 v327 arg13 k0_t56) a + S1x16.size a ≤ S512x128.size a := fun v16 v31 v68 v105 v142 v179 v216 v253 v290 v327 arg13 k0_hw31 k0_t56 => k0_hw31.2.2.2.2.2.2.2.2.2.1 k0_t56
theorem k0_off161_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13) (k0_t56 : Fin (k0_t56_loop v16 v31 v68 v105 v142 v179 v216 v253 v290 v327 arg13).trips), ∀ a, (k0_off161 v16 v31 v68 v105 v142 v179 v216 v253 v290 v327 arg13 k0_t56) a + S1x16.size a ≤ S512x128.size a := fun v16 v31 v68 v105 v142 v179 v216 v253 v290 v327 arg13 k0_hw31 k0_t56 => k0_hw31.2.2.2.2.2.2.2.2.2.2.1 k0_t56
theorem k0_off162_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (arg13 : BitVec 32) (k0_hw31 : k0_chk31 v16 v31 v68 v105 v142 v179 v216 v253 v290 v327 arg13) (k0_t56 : Fin (k0_t56_loop v16 v31 v68 v105 v142 v179 v216 v253 v290 v327 arg13).trips), ∀ a, (k0_off162 v16 v31 v68 v105 v142 v179 v216 v253 v290 v327 arg13 k0_t56) a + S1x16.size a ≤ S512x128.size a := fun v16 v31 v68 v105 v142 v179 v216 v253 v290 v327 arg13 k0_hw31 k0_t56 => k0_hw31.2.2.2.2.2.2.2.2.2.2.2 k0_t56

@[reducible] def k0_t57_loop (v364 : BitVec 32) : Scf.Loop 32 :=
  let c0_i32_143 : BitVec 32 := 0#32
  let c0_i32_136 : BitVec 32 := 0#32
  let v367 : BitVec 1 := Scalar.cmpi .sgt v364 c0_i32_136
  let v368 : BitVec 32 := Scalar.extui v367
  let c0_i32_137 : BitVec 32 := 0#32
  let v369 : BitVec 1 := Scalar.cmpi .slt v364 c0_i32_137
  let v370 : BitVec 32 := Scalar.extui v369
  let v371 : BitVec 32 := Scalar.subi v368 v370
  let c504_i32_135 : BitVec 32 := 504#32
  let c0_i32_138 : BitVec 32 := 0#32
  let v372 : BitVec 1 := Scalar.cmpi .sgt c504_i32_135 c0_i32_138
  let v373 : BitVec 32 := Scalar.extui v372
  let c0_i32_139 : BitVec 32 := 0#32
  let v374 : BitVec 1 := Scalar.cmpi .slt c504_i32_135 c0_i32_139
  let v375 : BitVec 32 := Scalar.extui v374
  let v376 : BitVec 32 := Scalar.subi v373 v375
  let v377 : BitVec 1 := Scalar.cmpi .ne v371 v376
  let v378 : BitVec 32 := Scalar.remsi v364 c504_i32_135
  let c0_i32_140 : BitVec 32 := 0#32
  let v379 : BitVec 1 := Scalar.cmpi .ne v378 c0_i32_140
  let v380 : BitVec 1 := Scalar.andi v377 v379
  let v366 : BitVec 32 := Scalar.divsi v364 c504_i32_135
  let c1_i32_141 : BitVec 32 := 1#32
  let v381 : BitVec 32 := Scalar.subi v366 c1_i32_141
  let v382 : BitVec 32 := Scalar.select v380 v381 v366
  let c1_i32_142 : BitVec 32 := 1#32
  let v383 : BitVec 32 := Scalar.addi v382 c1_i32_142
  let v384 : BitVec 32 := Scalar.subi v383 c0_i32_143
  let c1_i32_144 : BitVec 32 := 1#32
  let v386 : BitVec 32 := Scalar.divsi v384 c1_i32_144
  let v387 : BitVec 32 := Scalar.muli v386 c1_i32_144
  let v388 : BitVec 32 := Scalar.addi c0_i32_143 v387
  let c1_i32_145 : BitVec 32 := 1#32
  ⟨c0_i32_143, v388, c1_i32_145⟩

def k0_mult19 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off163 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r19 : BitVec 32 := 0#32
  ![v1213.toNat, 0]
@[reducible] def k0_t58_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off164 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t58 : Fin (k0_t58_loop v16 v31 v68 v105 v142 v179 v216 v253 v290 v327 v364 arg13).trips) : Fin 2 → Nat :=
  let c1_i32_473 : BitVec 32 := 1#32
  let arg14 : BitVec 32 := Scf.iv arg13 c1_i32_473 k0_t58
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off165 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t58 : Fin (k0_t58_loop v16 v31 v68 v105 v142 v179 v216 v253 v290 v327 v364 arg13).trips) : Fin 2 → Nat :=
  let c1_i32_473 : BitVec 32 := 1#32
  let arg14 : BitVec 32 := Scf.iv arg13 c1_i32_473 k0_t58
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off166 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t58 : Fin (k0_t58_loop v16 v31 v68 v105 v142 v179 v216 v253 v290 v327 v364 arg13).trips) : Fin 2 → Nat :=
  let c1_i32_473 : BitVec 32 := 1#32
  let arg14 : BitVec 32 := Scf.iv arg13 c1_i32_473 k0_t58
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off167 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t58 : Fin (k0_t58_loop v16 v31 v68 v105 v142 v179 v216 v253 v290 v327 v364 arg13).trips) : Fin 2 → Nat :=
  let c1_i32_473 : BitVec 32 := 1#32
  let arg14 : BitVec 32 := Scf.iv arg13 c1_i32_473 k0_t58
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t59_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off168 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t59 : Fin (k0_t59_loop v16 v31 v68 v105 v142 v179 v216 v253 v290 v327 v364 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t59
  let v1224 : BitVec 32 := Scalar.subi arg14 v1213
  let v1225 : Index := Scalar.indexCast v1224
  let c0_475 : Index := 0#32
  ![v1225.toNat, 0]
def k0_off169 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t59 : Fin (k0_t59_loop v16 v31 v68 v105 v142 v179 v216 v253 v290 v327 v364 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t59
  let v1224 : BitVec 32 := Scalar.subi arg14 v1213
  let v1228 : Index := Scalar.indexCast v1224
  let c16_476 : Index := 16#32
  ![v1228.toNat, 16]
def k0_off170 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t59 : Fin (k0_t59_loop v16 v31 v68 v105 v142 v179 v216 v253 v290 v327 v364 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t59
  let v1224 : BitVec 32 := Scalar.subi arg14 v1213
  let v1231 : Index := Scalar.indexCast v1224
  let c32_477 : Index := 32#32
  ![v1231.toNat, 32]
def k0_off171 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t59 : Fin (k0_t59_loop v16 v31 v68 v105 v142 v179 v216 v253 v290 v327 v364 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t59
  let v1224 : BitVec 32 := Scalar.subi arg14 v1213
  let v1234 : Index := Scalar.indexCast v1224
  let c48_478 : Index := 48#32
  ![v1234.toNat, 48]

def k0_chk33 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) : Prop :=
  (8 ∣ (k0_mult19 arg13).toNat) ∧
  (∀ a, (k0_off163 arg13) a + S512x128.size a ≤ S320000x128.size a) ∧
  ((k0_t58_loop v16 v31 v68 v105 v142 v179 v216 v253 v290 v327 v364 arg13).OK) ∧
  (∀ k0_t58 : Fin (k0_t58_loop v16 v31 v68 v105 v142 v179 v216 v253 v290 v327 v364 arg13).trips, ∀ a, (k0_off164 v16 v31 v68 v105 v142 v179 v216 v253 v290 v327 v364 arg13 k0_t58) a + S1x16.size a ≤ S512x128.size a) ∧
  (∀ k0_t58 : Fin (k0_t58_loop v16 v31 v68 v105 v142 v179 v216 v253 v290 v327 v364 arg13).trips, ∀ a, (k0_off165 v16 v31 v68 v105 v142 v179 v216 v253 v290 v327 v364 arg13 k0_t58) a + S1x16.size a ≤ S512x128.size a) ∧
  (∀ k0_t58 : Fin (k0_t58_loop v16 v31 v68 v105 v142 v179 v216 v253 v290 v327 v364 arg13).trips, ∀ a, (k0_off166 v16 v31 v68 v105 v142 v179 v216 v253 v290 v327 v364 arg13 k0_t58) a + S1x16.size a ≤ S512x128.size a) ∧
  (∀ k0_t58 : Fin (k0_t58_loop v16 v31 v68 v105 v142 v179 v216 v253 v290 v327 v364 arg13).trips, ∀ a, (k0_off167 v16 v31 v68 v105 v142 v179 v216 v253 v290 v327 v364 arg13 k0_t58) a + S1x16.size a ≤ S512x128.size a) ∧
  ((k0_t59_loop v16 v31 v68 v105 v142 v179 v216 v253 v290 v327 v364 arg13).OK) ∧
  (∀ k0_t59 : Fin (k0_t59_loop v16 v31 v68 v105 v142 v179 v216 v253 v290 v327 v364 arg13).trips, ∀ a, (k0_off168 v16 v31 v68 v105 v142 v179 v216 v253 v290 v327 v364 arg13 k0_t59) a + S1x16.size a ≤ S512x128.size a) ∧
  (∀ k0_t59 : Fin (k0_t59_loop v16 v31 v68 v105 v142 v179 v216 v253 v290 v327 v364 arg13).trips, ∀ a, (k0_off169 v16 v31 v68 v105 v142 v179 v216 v253 v290 v327 v364 arg13 k0_t59) a + S1x16.size a ≤ S512x128.size a) ∧
  (∀ k0_t59 : Fin (k0_t59_loop v16 v31 v68 v105 v142 v179 v216 v253 v290 v327 v364 arg13).trips, ∀ a, (k0_off170 v16 v31 v68 v105 v142 v179 v216 v253 v290 v327 v364 arg13 k0_t59) a + S1x16.size a ≤ S512x128.size a) ∧
  (∀ k0_t59 : Fin (k0_t59_loop v16 v31 v68 v105 v142 v179 v216 v253 v290 v327 v364 arg13).trips, ∀ a, (k0_off171 v16 v31 v68 v105 v142 v179 v216 v253 v290 v327 v364 arg13 k0_t59) a + S1x16.size a ≤ S512x128.size a)
theorem k0_mult19_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13), 8 ∣ (k0_mult19 arg13).toNat := fun v16 v31 v68 v105 v142 v179 v216 v253 v290 v327 v364 arg13 k0_hw33 => k0_hw33.1
theorem k0_off163_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13), ∀ a, (k0_off163 arg13) a + S512x128.size a ≤ S320000x128.size a := fun v16 v31 v68 v105 v142 v179 v216 v253 v290 v327 v364 arg13 k0_hw33 => k0_hw33.2.1
theorem k0_t58_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13), (k0_t58_loop v16 v31 v68 v105 v142 v179 v216 v253 v290 v327 v364 arg13).OK := fun v16 v31 v68 v105 v142 v179 v216 v253 v290 v327 v364 arg13 k0_hw33 => k0_hw33.2.2.1
theorem k0_off164_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13) (k0_t58 : Fin (k0_t58_loop v16 v31 v68 v105 v142 v179 v216 v253 v290 v327 v364 arg13).trips), ∀ a, (k0_off164 v16 v31 v68 v105 v142 v179 v216 v253 v290 v327 v364 arg13 k0_t58) a + S1x16.size a ≤ S512x128.size a := fun v16 v31 v68 v105 v142 v179 v216 v253 v290 v327 v364 arg13 k0_hw33 k0_t58 => k0_hw33.2.2.2.1 k0_t58
theorem k0_off165_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13) (k0_t58 : Fin (k0_t58_loop v16 v31 v68 v105 v142 v179 v216 v253 v290 v327 v364 arg13).trips), ∀ a, (k0_off165 v16 v31 v68 v105 v142 v179 v216 v253 v290 v327 v364 arg13 k0_t58) a + S1x16.size a ≤ S512x128.size a := fun v16 v31 v68 v105 v142 v179 v216 v253 v290 v327 v364 arg13 k0_hw33 k0_t58 => k0_hw33.2.2.2.2.1 k0_t58
theorem k0_off166_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13) (k0_t58 : Fin (k0_t58_loop v16 v31 v68 v105 v142 v179 v216 v253 v290 v327 v364 arg13).trips), ∀ a, (k0_off166 v16 v31 v68 v105 v142 v179 v216 v253 v290 v327 v364 arg13 k0_t58) a + S1x16.size a ≤ S512x128.size a := fun v16 v31 v68 v105 v142 v179 v216 v253 v290 v327 v364 arg13 k0_hw33 k0_t58 => k0_hw33.2.2.2.2.2.1 k0_t58
theorem k0_off167_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13) (k0_t58 : Fin (k0_t58_loop v16 v31 v68 v105 v142 v179 v216 v253 v290 v327 v364 arg13).trips), ∀ a, (k0_off167 v16 v31 v68 v105 v142 v179 v216 v253 v290 v327 v364 arg13 k0_t58) a + S1x16.size a ≤ S512x128.size a := fun v16 v31 v68 v105 v142 v179 v216 v253 v290 v327 v364 arg13 k0_hw33 k0_t58 => k0_hw33.2.2.2.2.2.2.1 k0_t58
theorem k0_t59_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13), (k0_t59_loop v16 v31 v68 v105 v142 v179 v216 v253 v290 v327 v364 arg13).OK := fun v16 v31 v68 v105 v142 v179 v216 v253 v290 v327 v364 arg13 k0_hw33 => k0_hw33.2.2.2.2.2.2.2.1
theorem k0_off168_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13) (k0_t59 : Fin (k0_t59_loop v16 v31 v68 v105 v142 v179 v216 v253 v290 v327 v364 arg13).trips), ∀ a, (k0_off168 v16 v31 v68 v105 v142 v179 v216 v253 v290 v327 v364 arg13 k0_t59) a + S1x16.size a ≤ S512x128.size a := fun v16 v31 v68 v105 v142 v179 v216 v253 v290 v327 v364 arg13 k0_hw33 k0_t59 => k0_hw33.2.2.2.2.2.2.2.2.1 k0_t59
theorem k0_off169_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13) (k0_t59 : Fin (k0_t59_loop v16 v31 v68 v105 v142 v179 v216 v253 v290 v327 v364 arg13).trips), ∀ a, (k0_off169 v16 v31 v68 v105 v142 v179 v216 v253 v290 v327 v364 arg13 k0_t59) a + S1x16.size a ≤ S512x128.size a := fun v16 v31 v68 v105 v142 v179 v216 v253 v290 v327 v364 arg13 k0_hw33 k0_t59 => k0_hw33.2.2.2.2.2.2.2.2.2.1 k0_t59
theorem k0_off170_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13) (k0_t59 : Fin (k0_t59_loop v16 v31 v68 v105 v142 v179 v216 v253 v290 v327 v364 arg13).trips), ∀ a, (k0_off170 v16 v31 v68 v105 v142 v179 v216 v253 v290 v327 v364 arg13 k0_t59) a + S1x16.size a ≤ S512x128.size a := fun v16 v31 v68 v105 v142 v179 v216 v253 v290 v327 v364 arg13 k0_hw33 k0_t59 => k0_hw33.2.2.2.2.2.2.2.2.2.2.1 k0_t59
theorem k0_off171_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw33 : k0_chk33 v16 v31 v68 v105 v142 v179 v216 v253 v290 v327 v364 arg13) (k0_t59 : Fin (k0_t59_loop v16 v31 v68 v105 v142 v179 v216 v253 v290 v327 v364 arg13).trips), ∀ a, (k0_off171 v16 v31 v68 v105 v142 v179 v216 v253 v290 v327 v364 arg13 k0_t59) a + S1x16.size a ≤ S512x128.size a := fun v16 v31 v68 v105 v142 v179 v216 v253 v290 v327 v364 arg13 k0_hw33 k0_t59 => k0_hw33.2.2.2.2.2.2.2.2.2.2.2 k0_t59

@[reducible] def k0_t60_loop (v364 : BitVec 32) : Scf.Loop 32 :=
  let c0_i32_143 : BitVec 32 := 0#32
  let c0_i32_136 : BitVec 32 := 0#32
  let v367 : BitVec 1 := Scalar.cmpi .sgt v364 c0_i32_136
  let v368 : BitVec 32 := Scalar.extui v367
  let c0_i32_137 : BitVec 32 := 0#32
  let v369 : BitVec 1 := Scalar.cmpi .slt v364 c0_i32_137
  let v370 : BitVec 32 := Scalar.extui v369
  let v371 : BitVec 32 := Scalar.subi v368 v370
  let c504_i32_135 : BitVec 32 := 504#32
  let c0_i32_138 : BitVec 32 := 0#32
  let v372 : BitVec 1 := Scalar.cmpi .sgt c504_i32_135 c0_i32_138
  let v373 : BitVec 32 := Scalar.extui v372
  let c0_i32_139 : BitVec 32 := 0#32
  let v374 : BitVec 1 := Scalar.cmpi .slt c504_i32_135 c0_i32_139
  let v375 : BitVec 32 := Scalar.extui v374
  let v376 : BitVec 32 := Scalar.subi v373 v375
  let v377 : BitVec 1 := Scalar.cmpi .ne v371 v376
  let v378 : BitVec 32 := Scalar.remsi v364 c504_i32_135
  let c0_i32_140 : BitVec 32 := 0#32
  let v379 : BitVec 1 := Scalar.cmpi .ne v378 c0_i32_140
  let v380 : BitVec 1 := Scalar.andi v377 v379
  let v366 : BitVec 32 := Scalar.divsi v364 c504_i32_135
  let c1_i32_141 : BitVec 32 := 1#32
  let v381 : BitVec 32 := Scalar.subi v366 c1_i32_141
  let v382 : BitVec 32 := Scalar.select v380 v381 v366
  let c1_i32_142 : BitVec 32 := 1#32
  let v383 : BitVec 32 := Scalar.addi v382 c1_i32_142
  let v384 : BitVec 32 := Scalar.subi v383 c0_i32_143
  let c1_i32_144 : BitVec 32 := 1#32
  let v386 : BitVec 32 := Scalar.divsi v384 c1_i32_144
  let v387 : BitVec 32 := Scalar.muli v386 c1_i32_144
  let v388 : BitVec 32 := Scalar.addi c0_i32_143 v387
  let v385 : BitVec 32 := Scalar.addi c0_i32_143 v384
  let c1_i32_146 : BitVec 32 := 1#32
  ⟨v388, v385, c1_i32_146⟩

def k0_chk32 (v364 : BitVec 32) : Prop :=
  ((k0_t57_loop v364).OK) ∧
  ((k0_t60_loop v364).OK)
theorem k0_t57_ok : ∀ (v364 : BitVec 32) (k0_hw32 : k0_chk32 v364), (k0_t57_loop v364).OK := fun v364 k0_hw32 => k0_hw32.1
theorem k0_t60_ok : ∀ (v364 : BitVec 32) (k0_hw32 : k0_chk32 v364), (k0_t60_loop v364).OK := fun v364 k0_hw32 => k0_hw32.2

def k0_mult20 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off172 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r20 : BitVec 32 := 0#32
  ![v1213.toNat, 0]
@[reducible] def k0_t61_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off173 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t61 : Fin (k0_t61_loop v16 v31 v68 v105 v142 v179 v216 v253 v290 v327 v364 arg13).trips) : Fin 2 → Nat :=
  let c1_i32_473 : BitVec 32 := 1#32
  let arg14 : BitVec 32 := Scf.iv arg13 c1_i32_473 k0_t61
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off174 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t61 : Fin (k0_t61_loop v16 v31 v68 v105 v142 v179 v216 v253 v290 v327 v364 arg13).trips) : Fin 2 → Nat :=
  let c1_i32_473 : BitVec 32 := 1#32
  let arg14 : BitVec 32 := Scf.iv arg13 c1_i32_473 k0_t61
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off175 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t61 : Fin (k0_t61_loop v16 v31 v68 v105 v142 v179 v216 v253 v290 v327 v364 arg13).trips) : Fin 2 → Nat :=
  let c1_i32_473 : BitVec 32 := 1#32
  let arg14 : BitVec 32 := Scf.iv arg13 c1_i32_473 k0_t61
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off176 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t61 : Fin (k0_t61_loop v16 v31 v68 v105 v142 v179 v216 v253 v290 v327 v364 arg13).trips) : Fin 2 → Nat :=
  let c1_i32_473 : BitVec 32 := 1#32
  let arg14 : BitVec 32 := Scf.iv arg13 c1_i32_473 k0_t61
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t62_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off177 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t62 : Fin (k0_t62_loop v16 v31 v68 v105 v142 v179 v216 v253 v290 v327 v364 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t62
  let v1224 : BitVec 32 := Scalar.subi arg14 v1213
  let v1225 : Index := Scalar.indexCast v1224
  let c0_475 : Index := 0#32
  ![v1225.toNat, 0]
def k0_off178 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t62 : Fin (k0_t62_loop v16 v31 v68 v105 v142 v179 v216 v253 v290 v327 v364 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t62
  let v1224 : BitVec 32 := Scalar.subi arg14 v1213
  let v1228 : Index := Scalar.indexCast v1224
  let c16_476 : Index := 16#32
  ![v1228.toNat, 16]
def k0_off179 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t62 : Fin (k0_t62_loop v16 v31 v68 v105 v142 v179 v216 v253 v290 v327 v364 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t62
  let v1224 : BitVec 32 := Scalar.subi arg14 v1213
  let v1231 : Index := Scalar.indexCast v1224
  let c32_477 : Index := 32#32
  ![v1231.toNat, 32]
def k0_off180 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_t62 : Fin (k0_t62_loop v16 v31 v68 v105 v142 v179 v216 v253 v290 v327 v364 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v365 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t62
  let v1224 : BitVec 32 := Scalar.subi arg14 v1213
  let v1234 : Index := Scalar.indexCast v1224
  let c48_478 : Index := 48#32
  ![v1234.toNat, 48]

def k0_chk34 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) : Prop :=
  (8 ∣ (k0_mult20 arg13).toNat) ∧
  (∀ a, (k0_off172 arg13) a + S512x128.size a ≤ S320000x128.size a) ∧
  ((k0_t61_loop v16 v31 v68 v105 v142 v179 v216 v253 v290 v327 v364 arg13).OK) ∧
  (∀ k0_t61 : Fin (k0_t61_loop v16 v31 v68 v105 v142 v179 v216 v253 v290 v327 v364 arg13).trips, ∀ a, (k0_off173 v16 v31 v68 v105 v142 v179 v216 v253 v290 v327 v364 arg13 k0_t61) a + S1x16.size a ≤ S512x128.size a) ∧
  (∀ k0_t61 : Fin (k0_t61_loop v16 v31 v68 v105 v142 v179 v216 v253 v290 v327 v364 arg13).trips, ∀ a, (k0_off174 v16 v31 v68 v105 v142 v179 v216 v253 v290 v327 v364 arg13 k0_t61) a + S1x16.size a ≤ S512x128.size a) ∧
  (∀ k0_t61 : Fin (k0_t61_loop v16 v31 v68 v105 v142 v179 v216 v253 v290 v327 v364 arg13).trips, ∀ a, (k0_off175 v16 v31 v68 v105 v142 v179 v216 v253 v290 v327 v364 arg13 k0_t61) a + S1x16.size a ≤ S512x128.size a) ∧
  (∀ k0_t61 : Fin (k0_t61_loop v16 v31 v68 v105 v142 v179 v216 v253 v290 v327 v364 arg13).trips, ∀ a, (k0_off176 v16 v31 v68 v105 v142 v179 v216 v253 v290 v327 v364 arg13 k0_t61) a + S1x16.size a ≤ S512x128.size a) ∧
  ((k0_t62_loop v16 v31 v68 v105 v142 v179 v216 v253 v290 v327 v364 arg13).OK) ∧
  (∀ k0_t62 : Fin (k0_t62_loop v16 v31 v68 v105 v142 v179 v216 v253 v290 v327 v364 arg13).trips, ∀ a, (k0_off177 v16 v31 v68 v105 v142 v179 v216 v253 v290 v327 v364 arg13 k0_t62) a + S1x16.size a ≤ S512x128.size a) ∧
  (∀ k0_t62 : Fin (k0_t62_loop v16 v31 v68 v105 v142 v179 v216 v253 v290 v327 v364 arg13).trips, ∀ a, (k0_off178 v16 v31 v68 v105 v142 v179 v216 v253 v290 v327 v364 arg13 k0_t62) a + S1x16.size a ≤ S512x128.size a) ∧
  (∀ k0_t62 : Fin (k0_t62_loop v16 v31 v68 v105 v142 v179 v216 v253 v290 v327 v364 arg13).trips, ∀ a, (k0_off179 v16 v31 v68 v105 v142 v179 v216 v253 v290 v327 v364 arg13 k0_t62) a + S1x16.size a ≤ S512x128.size a) ∧
  (∀ k0_t62 : Fin (k0_t62_loop v16 v31 v68 v105 v142 v179 v216 v253 v290 v327 v364 arg13).trips, ∀ a, (k0_off180 v16 v31 v68 v105 v142 v179 v216 v253 v290 v327 v364 arg13 k0_t62) a + S1x16.size a ≤ S512x128.size a)
theorem k0_mult20_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13), 8 ∣ (k0_mult20 arg13).toNat := fun v16 v31 v68 v105 v142 v179 v216 v253 v290 v327 v364 arg13 k0_hw34 => k0_hw34.1
theorem k0_off172_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13), ∀ a, (k0_off172 arg13) a + S512x128.size a ≤ S320000x128.size a := fun v16 v31 v68 v105 v142 v179 v216 v253 v290 v327 v364 arg13 k0_hw34 => k0_hw34.2.1
theorem k0_t61_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13), (k0_t61_loop v16 v31 v68 v105 v142 v179 v216 v253 v290 v327 v364 arg13).OK := fun v16 v31 v68 v105 v142 v179 v216 v253 v290 v327 v364 arg13 k0_hw34 => k0_hw34.2.2.1
theorem k0_off173_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13) (k0_t61 : Fin (k0_t61_loop v16 v31 v68 v105 v142 v179 v216 v253 v290 v327 v364 arg13).trips), ∀ a, (k0_off173 v16 v31 v68 v105 v142 v179 v216 v253 v290 v327 v364 arg13 k0_t61) a + S1x16.size a ≤ S512x128.size a := fun v16 v31 v68 v105 v142 v179 v216 v253 v290 v327 v364 arg13 k0_hw34 k0_t61 => k0_hw34.2.2.2.1 k0_t61
theorem k0_off174_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13) (k0_t61 : Fin (k0_t61_loop v16 v31 v68 v105 v142 v179 v216 v253 v290 v327 v364 arg13).trips), ∀ a, (k0_off174 v16 v31 v68 v105 v142 v179 v216 v253 v290 v327 v364 arg13 k0_t61) a + S1x16.size a ≤ S512x128.size a := fun v16 v31 v68 v105 v142 v179 v216 v253 v290 v327 v364 arg13 k0_hw34 k0_t61 => k0_hw34.2.2.2.2.1 k0_t61
theorem k0_off175_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13) (k0_t61 : Fin (k0_t61_loop v16 v31 v68 v105 v142 v179 v216 v253 v290 v327 v364 arg13).trips), ∀ a, (k0_off175 v16 v31 v68 v105 v142 v179 v216 v253 v290 v327 v364 arg13 k0_t61) a + S1x16.size a ≤ S512x128.size a := fun v16 v31 v68 v105 v142 v179 v216 v253 v290 v327 v364 arg13 k0_hw34 k0_t61 => k0_hw34.2.2.2.2.2.1 k0_t61
theorem k0_off176_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13) (k0_t61 : Fin (k0_t61_loop v16 v31 v68 v105 v142 v179 v216 v253 v290 v327 v364 arg13).trips), ∀ a, (k0_off176 v16 v31 v68 v105 v142 v179 v216 v253 v290 v327 v364 arg13 k0_t61) a + S1x16.size a ≤ S512x128.size a := fun v16 v31 v68 v105 v142 v179 v216 v253 v290 v327 v364 arg13 k0_hw34 k0_t61 => k0_hw34.2.2.2.2.2.2.1 k0_t61
theorem k0_t62_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13), (k0_t62_loop v16 v31 v68 v105 v142 v179 v216 v253 v290 v327 v364 arg13).OK := fun v16 v31 v68 v105 v142 v179 v216 v253 v290 v327 v364 arg13 k0_hw34 => k0_hw34.2.2.2.2.2.2.2.1
theorem k0_off177_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13) (k0_t62 : Fin (k0_t62_loop v16 v31 v68 v105 v142 v179 v216 v253 v290 v327 v364 arg13).trips), ∀ a, (k0_off177 v16 v31 v68 v105 v142 v179 v216 v253 v290 v327 v364 arg13 k0_t62) a + S1x16.size a ≤ S512x128.size a := fun v16 v31 v68 v105 v142 v179 v216 v253 v290 v327 v364 arg13 k0_hw34 k0_t62 => k0_hw34.2.2.2.2.2.2.2.2.1 k0_t62
theorem k0_off178_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13) (k0_t62 : Fin (k0_t62_loop v16 v31 v68 v105 v142 v179 v216 v253 v290 v327 v364 arg13).trips), ∀ a, (k0_off178 v16 v31 v68 v105 v142 v179 v216 v253 v290 v327 v364 arg13 k0_t62) a + S1x16.size a ≤ S512x128.size a := fun v16 v31 v68 v105 v142 v179 v216 v253 v290 v327 v364 arg13 k0_hw34 k0_t62 => k0_hw34.2.2.2.2.2.2.2.2.2.1 k0_t62
theorem k0_off179_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13) (k0_t62 : Fin (k0_t62_loop v16 v31 v68 v105 v142 v179 v216 v253 v290 v327 v364 arg13).trips), ∀ a, (k0_off179 v16 v31 v68 v105 v142 v179 v216 v253 v290 v327 v364 arg13 k0_t62) a + S1x16.size a ≤ S512x128.size a := fun v16 v31 v68 v105 v142 v179 v216 v253 v290 v327 v364 arg13 k0_hw34 k0_t62 => k0_hw34.2.2.2.2.2.2.2.2.2.2.1 k0_t62
theorem k0_off180_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (arg13 : BitVec 32) (k0_hw34 : k0_chk34 v16 v31 v68 v105 v142 v179 v216 v253 v290 v327 v364 arg13) (k0_t62 : Fin (k0_t62_loop v16 v31 v68 v105 v142 v179 v216 v253 v290 v327 v364 arg13).trips), ∀ a, (k0_off180 v16 v31 v68 v105 v142 v179 v216 v253 v290 v327 v364 arg13 k0_t62) a + S1x16.size a ≤ S512x128.size a := fun v16 v31 v68 v105 v142 v179 v216 v253 v290 v327 v364 arg13 k0_hw34 k0_t62 => k0_hw34.2.2.2.2.2.2.2.2.2.2.2 k0_t62

@[reducible] def k0_t63_loop (v401 : BitVec 32) : Scf.Loop 32 :=
  let c0_i32_157 : BitVec 32 := 0#32
  let c0_i32_150 : BitVec 32 := 0#32
  let v404 : BitVec 1 := Scalar.cmpi .sgt v401 c0_i32_150
  let v405 : BitVec 32 := Scalar.extui v404
  let c0_i32_151 : BitVec 32 := 0#32
  let v406 : BitVec 1 := Scalar.cmpi .slt v401 c0_i32_151
  let v407 : BitVec 32 := Scalar.extui v406
  let v408 : BitVec 32 := Scalar.subi v405 v407
  let c504_i32_149 : BitVec 32 := 504#32
  let c0_i32_152 : BitVec 32 := 0#32
  let v409 : BitVec 1 := Scalar.cmpi .sgt c504_i32_149 c0_i32_152
  let v410 : BitVec 32 := Scalar.extui v409
  let c0_i32_153 : BitVec 32 := 0#32
  let v411 : BitVec 1 := Scalar.cmpi .slt c504_i32_149 c0_i32_153
  let v412 : BitVec 32 := Scalar.extui v411
  let v413 : BitVec 32 := Scalar.subi v410 v412
  let v414 : BitVec 1 := Scalar.cmpi .ne v408 v413
  let v415 : BitVec 32 := Scalar.remsi v401 c504_i32_149
  let c0_i32_154 : BitVec 32 := 0#32
  let v416 : BitVec 1 := Scalar.cmpi .ne v415 c0_i32_154
  let v417 : BitVec 1 := Scalar.andi v414 v416
  let v403 : BitVec 32 := Scalar.divsi v401 c504_i32_149
  let c1_i32_155 : BitVec 32 := 1#32
  let v418 : BitVec 32 := Scalar.subi v403 c1_i32_155
  let v419 : BitVec 32 := Scalar.select v417 v418 v403
  let c1_i32_156 : BitVec 32 := 1#32
  let v420 : BitVec 32 := Scalar.addi v419 c1_i32_156
  let v421 : BitVec 32 := Scalar.subi v420 c0_i32_157
  let c1_i32_158 : BitVec 32 := 1#32
  let v423 : BitVec 32 := Scalar.divsi v421 c1_i32_158
  let v424 : BitVec 32 := Scalar.muli v423 c1_i32_158
  let v425 : BitVec 32 := Scalar.addi c0_i32_157 v424
  let c1_i32_159 : BitVec 32 := 1#32
  ⟨c0_i32_157, v425, c1_i32_159⟩

def k0_mult21 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off181 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r21 : BitVec 32 := 0#32
  ![v1213.toNat, 0]
@[reducible] def k0_t64_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off182 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t64 : Fin (k0_t64_loop v16 v31 v68 v105 v142 v179 v216 v253 v290 v327 v364 v401 arg13).trips) : Fin 2 → Nat :=
  let c1_i32_473 : BitVec 32 := 1#32
  let arg14 : BitVec 32 := Scf.iv arg13 c1_i32_473 k0_t64
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off183 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t64 : Fin (k0_t64_loop v16 v31 v68 v105 v142 v179 v216 v253 v290 v327 v364 v401 arg13).trips) : Fin 2 → Nat :=
  let c1_i32_473 : BitVec 32 := 1#32
  let arg14 : BitVec 32 := Scf.iv arg13 c1_i32_473 k0_t64
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off184 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t64 : Fin (k0_t64_loop v16 v31 v68 v105 v142 v179 v216 v253 v290 v327 v364 v401 arg13).trips) : Fin 2 → Nat :=
  let c1_i32_473 : BitVec 32 := 1#32
  let arg14 : BitVec 32 := Scf.iv arg13 c1_i32_473 k0_t64
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off185 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t64 : Fin (k0_t64_loop v16 v31 v68 v105 v142 v179 v216 v253 v290 v327 v364 v401 arg13).trips) : Fin 2 → Nat :=
  let c1_i32_473 : BitVec 32 := 1#32
  let arg14 : BitVec 32 := Scf.iv arg13 c1_i32_473 k0_t64
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t65_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off186 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t65 : Fin (k0_t65_loop v16 v31 v68 v105 v142 v179 v216 v253 v290 v327 v364 v401 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t65
  let v1224 : BitVec 32 := Scalar.subi arg14 v1213
  let v1225 : Index := Scalar.indexCast v1224
  let c0_475 : Index := 0#32
  ![v1225.toNat, 0]
def k0_off187 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t65 : Fin (k0_t65_loop v16 v31 v68 v105 v142 v179 v216 v253 v290 v327 v364 v401 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t65
  let v1224 : BitVec 32 := Scalar.subi arg14 v1213
  let v1228 : Index := Scalar.indexCast v1224
  let c16_476 : Index := 16#32
  ![v1228.toNat, 16]
def k0_off188 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t65 : Fin (k0_t65_loop v16 v31 v68 v105 v142 v179 v216 v253 v290 v327 v364 v401 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t65
  let v1224 : BitVec 32 := Scalar.subi arg14 v1213
  let v1231 : Index := Scalar.indexCast v1224
  let c32_477 : Index := 32#32
  ![v1231.toNat, 32]
def k0_off189 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t65 : Fin (k0_t65_loop v16 v31 v68 v105 v142 v179 v216 v253 v290 v327 v364 v401 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t65
  let v1224 : BitVec 32 := Scalar.subi arg14 v1213
  let v1234 : Index := Scalar.indexCast v1224
  let c48_478 : Index := 48#32
  ![v1234.toNat, 48]

def k0_chk36 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) : Prop :=
  (8 ∣ (k0_mult21 arg13).toNat) ∧
  (∀ a, (k0_off181 arg13) a + S512x128.size a ≤ S320000x128.size a) ∧
  ((k0_t64_loop v16 v31 v68 v105 v142 v179 v216 v253 v290 v327 v364 v401 arg13).OK) ∧
  (∀ k0_t64 : Fin (k0_t64_loop v16 v31 v68 v105 v142 v179 v216 v253 v290 v327 v364 v401 arg13).trips, ∀ a, (k0_off182 v16 v31 v68 v105 v142 v179 v216 v253 v290 v327 v364 v401 arg13 k0_t64) a + S1x16.size a ≤ S512x128.size a) ∧
  (∀ k0_t64 : Fin (k0_t64_loop v16 v31 v68 v105 v142 v179 v216 v253 v290 v327 v364 v401 arg13).trips, ∀ a, (k0_off183 v16 v31 v68 v105 v142 v179 v216 v253 v290 v327 v364 v401 arg13 k0_t64) a + S1x16.size a ≤ S512x128.size a) ∧
  (∀ k0_t64 : Fin (k0_t64_loop v16 v31 v68 v105 v142 v179 v216 v253 v290 v327 v364 v401 arg13).trips, ∀ a, (k0_off184 v16 v31 v68 v105 v142 v179 v216 v253 v290 v327 v364 v401 arg13 k0_t64) a + S1x16.size a ≤ S512x128.size a) ∧
  (∀ k0_t64 : Fin (k0_t64_loop v16 v31 v68 v105 v142 v179 v216 v253 v290 v327 v364 v401 arg13).trips, ∀ a, (k0_off185 v16 v31 v68 v105 v142 v179 v216 v253 v290 v327 v364 v401 arg13 k0_t64) a + S1x16.size a ≤ S512x128.size a) ∧
  ((k0_t65_loop v16 v31 v68 v105 v142 v179 v216 v253 v290 v327 v364 v401 arg13).OK) ∧
  (∀ k0_t65 : Fin (k0_t65_loop v16 v31 v68 v105 v142 v179 v216 v253 v290 v327 v364 v401 arg13).trips, ∀ a, (k0_off186 v16 v31 v68 v105 v142 v179 v216 v253 v290 v327 v364 v401 arg13 k0_t65) a + S1x16.size a ≤ S512x128.size a) ∧
  (∀ k0_t65 : Fin (k0_t65_loop v16 v31 v68 v105 v142 v179 v216 v253 v290 v327 v364 v401 arg13).trips, ∀ a, (k0_off187 v16 v31 v68 v105 v142 v179 v216 v253 v290 v327 v364 v401 arg13 k0_t65) a + S1x16.size a ≤ S512x128.size a) ∧
  (∀ k0_t65 : Fin (k0_t65_loop v16 v31 v68 v105 v142 v179 v216 v253 v290 v327 v364 v401 arg13).trips, ∀ a, (k0_off188 v16 v31 v68 v105 v142 v179 v216 v253 v290 v327 v364 v401 arg13 k0_t65) a + S1x16.size a ≤ S512x128.size a) ∧
  (∀ k0_t65 : Fin (k0_t65_loop v16 v31 v68 v105 v142 v179 v216 v253 v290 v327 v364 v401 arg13).trips, ∀ a, (k0_off189 v16 v31 v68 v105 v142 v179 v216 v253 v290 v327 v364 v401 arg13 k0_t65) a + S1x16.size a ≤ S512x128.size a)
theorem k0_mult21_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13), 8 ∣ (k0_mult21 arg13).toNat := fun v16 v31 v68 v105 v142 v179 v216 v253 v290 v327 v364 v401 arg13 k0_hw36 => k0_hw36.1
theorem k0_off181_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13), ∀ a, (k0_off181 arg13) a + S512x128.size a ≤ S320000x128.size a := fun v16 v31 v68 v105 v142 v179 v216 v253 v290 v327 v364 v401 arg13 k0_hw36 => k0_hw36.2.1
theorem k0_t64_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13), (k0_t64_loop v16 v31 v68 v105 v142 v179 v216 v253 v290 v327 v364 v401 arg13).OK := fun v16 v31 v68 v105 v142 v179 v216 v253 v290 v327 v364 v401 arg13 k0_hw36 => k0_hw36.2.2.1
theorem k0_off182_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13) (k0_t64 : Fin (k0_t64_loop v16 v31 v68 v105 v142 v179 v216 v253 v290 v327 v364 v401 arg13).trips), ∀ a, (k0_off182 v16 v31 v68 v105 v142 v179 v216 v253 v290 v327 v364 v401 arg13 k0_t64) a + S1x16.size a ≤ S512x128.size a := fun v16 v31 v68 v105 v142 v179 v216 v253 v290 v327 v364 v401 arg13 k0_hw36 k0_t64 => k0_hw36.2.2.2.1 k0_t64
theorem k0_off183_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13) (k0_t64 : Fin (k0_t64_loop v16 v31 v68 v105 v142 v179 v216 v253 v290 v327 v364 v401 arg13).trips), ∀ a, (k0_off183 v16 v31 v68 v105 v142 v179 v216 v253 v290 v327 v364 v401 arg13 k0_t64) a + S1x16.size a ≤ S512x128.size a := fun v16 v31 v68 v105 v142 v179 v216 v253 v290 v327 v364 v401 arg13 k0_hw36 k0_t64 => k0_hw36.2.2.2.2.1 k0_t64
theorem k0_off184_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13) (k0_t64 : Fin (k0_t64_loop v16 v31 v68 v105 v142 v179 v216 v253 v290 v327 v364 v401 arg13).trips), ∀ a, (k0_off184 v16 v31 v68 v105 v142 v179 v216 v253 v290 v327 v364 v401 arg13 k0_t64) a + S1x16.size a ≤ S512x128.size a := fun v16 v31 v68 v105 v142 v179 v216 v253 v290 v327 v364 v401 arg13 k0_hw36 k0_t64 => k0_hw36.2.2.2.2.2.1 k0_t64
theorem k0_off185_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13) (k0_t64 : Fin (k0_t64_loop v16 v31 v68 v105 v142 v179 v216 v253 v290 v327 v364 v401 arg13).trips), ∀ a, (k0_off185 v16 v31 v68 v105 v142 v179 v216 v253 v290 v327 v364 v401 arg13 k0_t64) a + S1x16.size a ≤ S512x128.size a := fun v16 v31 v68 v105 v142 v179 v216 v253 v290 v327 v364 v401 arg13 k0_hw36 k0_t64 => k0_hw36.2.2.2.2.2.2.1 k0_t64
theorem k0_t65_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13), (k0_t65_loop v16 v31 v68 v105 v142 v179 v216 v253 v290 v327 v364 v401 arg13).OK := fun v16 v31 v68 v105 v142 v179 v216 v253 v290 v327 v364 v401 arg13 k0_hw36 => k0_hw36.2.2.2.2.2.2.2.1
theorem k0_off186_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13) (k0_t65 : Fin (k0_t65_loop v16 v31 v68 v105 v142 v179 v216 v253 v290 v327 v364 v401 arg13).trips), ∀ a, (k0_off186 v16 v31 v68 v105 v142 v179 v216 v253 v290 v327 v364 v401 arg13 k0_t65) a + S1x16.size a ≤ S512x128.size a := fun v16 v31 v68 v105 v142 v179 v216 v253 v290 v327 v364 v401 arg13 k0_hw36 k0_t65 => k0_hw36.2.2.2.2.2.2.2.2.1 k0_t65
theorem k0_off187_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13) (k0_t65 : Fin (k0_t65_loop v16 v31 v68 v105 v142 v179 v216 v253 v290 v327 v364 v401 arg13).trips), ∀ a, (k0_off187 v16 v31 v68 v105 v142 v179 v216 v253 v290 v327 v364 v401 arg13 k0_t65) a + S1x16.size a ≤ S512x128.size a := fun v16 v31 v68 v105 v142 v179 v216 v253 v290 v327 v364 v401 arg13 k0_hw36 k0_t65 => k0_hw36.2.2.2.2.2.2.2.2.2.1 k0_t65
theorem k0_off188_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13) (k0_t65 : Fin (k0_t65_loop v16 v31 v68 v105 v142 v179 v216 v253 v290 v327 v364 v401 arg13).trips), ∀ a, (k0_off188 v16 v31 v68 v105 v142 v179 v216 v253 v290 v327 v364 v401 arg13 k0_t65) a + S1x16.size a ≤ S512x128.size a := fun v16 v31 v68 v105 v142 v179 v216 v253 v290 v327 v364 v401 arg13 k0_hw36 k0_t65 => k0_hw36.2.2.2.2.2.2.2.2.2.2.1 k0_t65
theorem k0_off189_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw36 : k0_chk36 v16 v31 v68 v105 v142 v179 v216 v253 v290 v327 v364 v401 arg13) (k0_t65 : Fin (k0_t65_loop v16 v31 v68 v105 v142 v179 v216 v253 v290 v327 v364 v401 arg13).trips), ∀ a, (k0_off189 v16 v31 v68 v105 v142 v179 v216 v253 v290 v327 v364 v401 arg13 k0_t65) a + S1x16.size a ≤ S512x128.size a := fun v16 v31 v68 v105 v142 v179 v216 v253 v290 v327 v364 v401 arg13 k0_hw36 k0_t65 => k0_hw36.2.2.2.2.2.2.2.2.2.2.2 k0_t65

@[reducible] def k0_t66_loop (v401 : BitVec 32) : Scf.Loop 32 :=
  let c0_i32_157 : BitVec 32 := 0#32
  let c0_i32_150 : BitVec 32 := 0#32
  let v404 : BitVec 1 := Scalar.cmpi .sgt v401 c0_i32_150
  let v405 : BitVec 32 := Scalar.extui v404
  let c0_i32_151 : BitVec 32 := 0#32
  let v406 : BitVec 1 := Scalar.cmpi .slt v401 c0_i32_151
  let v407 : BitVec 32 := Scalar.extui v406
  let v408 : BitVec 32 := Scalar.subi v405 v407
  let c504_i32_149 : BitVec 32 := 504#32
  let c0_i32_152 : BitVec 32 := 0#32
  let v409 : BitVec 1 := Scalar.cmpi .sgt c504_i32_149 c0_i32_152
  let v410 : BitVec 32 := Scalar.extui v409
  let c0_i32_153 : BitVec 32 := 0#32
  let v411 : BitVec 1 := Scalar.cmpi .slt c504_i32_149 c0_i32_153
  let v412 : BitVec 32 := Scalar.extui v411
  let v413 : BitVec 32 := Scalar.subi v410 v412
  let v414 : BitVec 1 := Scalar.cmpi .ne v408 v413
  let v415 : BitVec 32 := Scalar.remsi v401 c504_i32_149
  let c0_i32_154 : BitVec 32 := 0#32
  let v416 : BitVec 1 := Scalar.cmpi .ne v415 c0_i32_154
  let v417 : BitVec 1 := Scalar.andi v414 v416
  let v403 : BitVec 32 := Scalar.divsi v401 c504_i32_149
  let c1_i32_155 : BitVec 32 := 1#32
  let v418 : BitVec 32 := Scalar.subi v403 c1_i32_155
  let v419 : BitVec 32 := Scalar.select v417 v418 v403
  let c1_i32_156 : BitVec 32 := 1#32
  let v420 : BitVec 32 := Scalar.addi v419 c1_i32_156
  let v421 : BitVec 32 := Scalar.subi v420 c0_i32_157
  let c1_i32_158 : BitVec 32 := 1#32
  let v423 : BitVec 32 := Scalar.divsi v421 c1_i32_158
  let v424 : BitVec 32 := Scalar.muli v423 c1_i32_158
  let v425 : BitVec 32 := Scalar.addi c0_i32_157 v424
  let v422 : BitVec 32 := Scalar.addi c0_i32_157 v421
  let c1_i32_160 : BitVec 32 := 1#32
  ⟨v425, v422, c1_i32_160⟩

def k0_chk35 (v401 : BitVec 32) : Prop :=
  ((k0_t63_loop v401).OK) ∧
  ((k0_t66_loop v401).OK)
theorem k0_t63_ok : ∀ (v401 : BitVec 32) (k0_hw35 : k0_chk35 v401), (k0_t63_loop v401).OK := fun v401 k0_hw35 => k0_hw35.1
theorem k0_t66_ok : ∀ (v401 : BitVec 32) (k0_hw35 : k0_chk35 v401), (k0_t66_loop v401).OK := fun v401 k0_hw35 => k0_hw35.2

def k0_mult22 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off190 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r22 : BitVec 32 := 0#32
  ![v1213.toNat, 0]
@[reducible] def k0_t67_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off191 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t67 : Fin (k0_t67_loop v16 v31 v68 v105 v142 v179 v216 v253 v290 v327 v364 v401 arg13).trips) : Fin 2 → Nat :=
  let c1_i32_473 : BitVec 32 := 1#32
  let arg14 : BitVec 32 := Scf.iv arg13 c1_i32_473 k0_t67
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off192 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t67 : Fin (k0_t67_loop v16 v31 v68 v105 v142 v179 v216 v253 v290 v327 v364 v401 arg13).trips) : Fin 2 → Nat :=
  let c1_i32_473 : BitVec 32 := 1#32
  let arg14 : BitVec 32 := Scf.iv arg13 c1_i32_473 k0_t67
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off193 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t67 : Fin (k0_t67_loop v16 v31 v68 v105 v142 v179 v216 v253 v290 v327 v364 v401 arg13).trips) : Fin 2 → Nat :=
  let c1_i32_473 : BitVec 32 := 1#32
  let arg14 : BitVec 32 := Scf.iv arg13 c1_i32_473 k0_t67
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off194 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t67 : Fin (k0_t67_loop v16 v31 v68 v105 v142 v179 v216 v253 v290 v327 v364 v401 arg13).trips) : Fin 2 → Nat :=
  let c1_i32_473 : BitVec 32 := 1#32
  let arg14 : BitVec 32 := Scf.iv arg13 c1_i32_473 k0_t67
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t68_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off195 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t68 : Fin (k0_t68_loop v16 v31 v68 v105 v142 v179 v216 v253 v290 v327 v364 v401 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t68
  let v1224 : BitVec 32 := Scalar.subi arg14 v1213
  let v1225 : Index := Scalar.indexCast v1224
  let c0_475 : Index := 0#32
  ![v1225.toNat, 0]
def k0_off196 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t68 : Fin (k0_t68_loop v16 v31 v68 v105 v142 v179 v216 v253 v290 v327 v364 v401 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t68
  let v1224 : BitVec 32 := Scalar.subi arg14 v1213
  let v1228 : Index := Scalar.indexCast v1224
  let c16_476 : Index := 16#32
  ![v1228.toNat, 16]
def k0_off197 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t68 : Fin (k0_t68_loop v16 v31 v68 v105 v142 v179 v216 v253 v290 v327 v364 v401 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t68
  let v1224 : BitVec 32 := Scalar.subi arg14 v1213
  let v1231 : Index := Scalar.indexCast v1224
  let c32_477 : Index := 32#32
  ![v1231.toNat, 32]
def k0_off198 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_t68 : Fin (k0_t68_loop v16 v31 v68 v105 v142 v179 v216 v253 v290 v327 v364 v401 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v402 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t68
  let v1224 : BitVec 32 := Scalar.subi arg14 v1213
  let v1234 : Index := Scalar.indexCast v1224
  let c48_478 : Index := 48#32
  ![v1234.toNat, 48]

def k0_chk37 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) : Prop :=
  (8 ∣ (k0_mult22 arg13).toNat) ∧
  (∀ a, (k0_off190 arg13) a + S512x128.size a ≤ S320000x128.size a) ∧
  ((k0_t67_loop v16 v31 v68 v105 v142 v179 v216 v253 v290 v327 v364 v401 arg13).OK) ∧
  (∀ k0_t67 : Fin (k0_t67_loop v16 v31 v68 v105 v142 v179 v216 v253 v290 v327 v364 v401 arg13).trips, ∀ a, (k0_off191 v16 v31 v68 v105 v142 v179 v216 v253 v290 v327 v364 v401 arg13 k0_t67) a + S1x16.size a ≤ S512x128.size a) ∧
  (∀ k0_t67 : Fin (k0_t67_loop v16 v31 v68 v105 v142 v179 v216 v253 v290 v327 v364 v401 arg13).trips, ∀ a, (k0_off192 v16 v31 v68 v105 v142 v179 v216 v253 v290 v327 v364 v401 arg13 k0_t67) a + S1x16.size a ≤ S512x128.size a) ∧
  (∀ k0_t67 : Fin (k0_t67_loop v16 v31 v68 v105 v142 v179 v216 v253 v290 v327 v364 v401 arg13).trips, ∀ a, (k0_off193 v16 v31 v68 v105 v142 v179 v216 v253 v290 v327 v364 v401 arg13 k0_t67) a + S1x16.size a ≤ S512x128.size a) ∧
  (∀ k0_t67 : Fin (k0_t67_loop v16 v31 v68 v105 v142 v179 v216 v253 v290 v327 v364 v401 arg13).trips, ∀ a, (k0_off194 v16 v31 v68 v105 v142 v179 v216 v253 v290 v327 v364 v401 arg13 k0_t67) a + S1x16.size a ≤ S512x128.size a) ∧
  ((k0_t68_loop v16 v31 v68 v105 v142 v179 v216 v253 v290 v327 v364 v401 arg13).OK) ∧
  (∀ k0_t68 : Fin (k0_t68_loop v16 v31 v68 v105 v142 v179 v216 v253 v290 v327 v364 v401 arg13).trips, ∀ a, (k0_off195 v16 v31 v68 v105 v142 v179 v216 v253 v290 v327 v364 v401 arg13 k0_t68) a + S1x16.size a ≤ S512x128.size a) ∧
  (∀ k0_t68 : Fin (k0_t68_loop v16 v31 v68 v105 v142 v179 v216 v253 v290 v327 v364 v401 arg13).trips, ∀ a, (k0_off196 v16 v31 v68 v105 v142 v179 v216 v253 v290 v327 v364 v401 arg13 k0_t68) a + S1x16.size a ≤ S512x128.size a) ∧
  (∀ k0_t68 : Fin (k0_t68_loop v16 v31 v68 v105 v142 v179 v216 v253 v290 v327 v364 v401 arg13).trips, ∀ a, (k0_off197 v16 v31 v68 v105 v142 v179 v216 v253 v290 v327 v364 v401 arg13 k0_t68) a + S1x16.size a ≤ S512x128.size a) ∧
  (∀ k0_t68 : Fin (k0_t68_loop v16 v31 v68 v105 v142 v179 v216 v253 v290 v327 v364 v401 arg13).trips, ∀ a, (k0_off198 v16 v31 v68 v105 v142 v179 v216 v253 v290 v327 v364 v401 arg13 k0_t68) a + S1x16.size a ≤ S512x128.size a)
theorem k0_mult22_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13), 8 ∣ (k0_mult22 arg13).toNat := fun v16 v31 v68 v105 v142 v179 v216 v253 v290 v327 v364 v401 arg13 k0_hw37 => k0_hw37.1
theorem k0_off190_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13), ∀ a, (k0_off190 arg13) a + S512x128.size a ≤ S320000x128.size a := fun v16 v31 v68 v105 v142 v179 v216 v253 v290 v327 v364 v401 arg13 k0_hw37 => k0_hw37.2.1
theorem k0_t67_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13), (k0_t67_loop v16 v31 v68 v105 v142 v179 v216 v253 v290 v327 v364 v401 arg13).OK := fun v16 v31 v68 v105 v142 v179 v216 v253 v290 v327 v364 v401 arg13 k0_hw37 => k0_hw37.2.2.1
theorem k0_off191_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13) (k0_t67 : Fin (k0_t67_loop v16 v31 v68 v105 v142 v179 v216 v253 v290 v327 v364 v401 arg13).trips), ∀ a, (k0_off191 v16 v31 v68 v105 v142 v179 v216 v253 v290 v327 v364 v401 arg13 k0_t67) a + S1x16.size a ≤ S512x128.size a := fun v16 v31 v68 v105 v142 v179 v216 v253 v290 v327 v364 v401 arg13 k0_hw37 k0_t67 => k0_hw37.2.2.2.1 k0_t67
theorem k0_off192_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13) (k0_t67 : Fin (k0_t67_loop v16 v31 v68 v105 v142 v179 v216 v253 v290 v327 v364 v401 arg13).trips), ∀ a, (k0_off192 v16 v31 v68 v105 v142 v179 v216 v253 v290 v327 v364 v401 arg13 k0_t67) a + S1x16.size a ≤ S512x128.size a := fun v16 v31 v68 v105 v142 v179 v216 v253 v290 v327 v364 v401 arg13 k0_hw37 k0_t67 => k0_hw37.2.2.2.2.1 k0_t67
theorem k0_off193_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13) (k0_t67 : Fin (k0_t67_loop v16 v31 v68 v105 v142 v179 v216 v253 v290 v327 v364 v401 arg13).trips), ∀ a, (k0_off193 v16 v31 v68 v105 v142 v179 v216 v253 v290 v327 v364 v401 arg13 k0_t67) a + S1x16.size a ≤ S512x128.size a := fun v16 v31 v68 v105 v142 v179 v216 v253 v290 v327 v364 v401 arg13 k0_hw37 k0_t67 => k0_hw37.2.2.2.2.2.1 k0_t67
theorem k0_off194_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13) (k0_t67 : Fin (k0_t67_loop v16 v31 v68 v105 v142 v179 v216 v253 v290 v327 v364 v401 arg13).trips), ∀ a, (k0_off194 v16 v31 v68 v105 v142 v179 v216 v253 v290 v327 v364 v401 arg13 k0_t67) a + S1x16.size a ≤ S512x128.size a := fun v16 v31 v68 v105 v142 v179 v216 v253 v290 v327 v364 v401 arg13 k0_hw37 k0_t67 => k0_hw37.2.2.2.2.2.2.1 k0_t67
theorem k0_t68_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13), (k0_t68_loop v16 v31 v68 v105 v142 v179 v216 v253 v290 v327 v364 v401 arg13).OK := fun v16 v31 v68 v105 v142 v179 v216 v253 v290 v327 v364 v401 arg13 k0_hw37 => k0_hw37.2.2.2.2.2.2.2.1
theorem k0_off195_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13) (k0_t68 : Fin (k0_t68_loop v16 v31 v68 v105 v142 v179 v216 v253 v290 v327 v364 v401 arg13).trips), ∀ a, (k0_off195 v16 v31 v68 v105 v142 v179 v216 v253 v290 v327 v364 v401 arg13 k0_t68) a + S1x16.size a ≤ S512x128.size a := fun v16 v31 v68 v105 v142 v179 v216 v253 v290 v327 v364 v401 arg13 k0_hw37 k0_t68 => k0_hw37.2.2.2.2.2.2.2.2.1 k0_t68
theorem k0_off196_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13) (k0_t68 : Fin (k0_t68_loop v16 v31 v68 v105 v142 v179 v216 v253 v290 v327 v364 v401 arg13).trips), ∀ a, (k0_off196 v16 v31 v68 v105 v142 v179 v216 v253 v290 v327 v364 v401 arg13 k0_t68) a + S1x16.size a ≤ S512x128.size a := fun v16 v31 v68 v105 v142 v179 v216 v253 v290 v327 v364 v401 arg13 k0_hw37 k0_t68 => k0_hw37.2.2.2.2.2.2.2.2.2.1 k0_t68
theorem k0_off197_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13) (k0_t68 : Fin (k0_t68_loop v16 v31 v68 v105 v142 v179 v216 v253 v290 v327 v364 v401 arg13).trips), ∀ a, (k0_off197 v16 v31 v68 v105 v142 v179 v216 v253 v290 v327 v364 v401 arg13 k0_t68) a + S1x16.size a ≤ S512x128.size a := fun v16 v31 v68 v105 v142 v179 v216 v253 v290 v327 v364 v401 arg13 k0_hw37 k0_t68 => k0_hw37.2.2.2.2.2.2.2.2.2.2.1 k0_t68
theorem k0_off198_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (arg13 : BitVec 32) (k0_hw37 : k0_chk37 v16 v31 v68 v105 v142 v179 v216 v253 v290 v327 v364 v401 arg13) (k0_t68 : Fin (k0_t68_loop v16 v31 v68 v105 v142 v179 v216 v253 v290 v327 v364 v401 arg13).trips), ∀ a, (k0_off198 v16 v31 v68 v105 v142 v179 v216 v253 v290 v327 v364 v401 arg13 k0_t68) a + S1x16.size a ≤ S512x128.size a := fun v16 v31 v68 v105 v142 v179 v216 v253 v290 v327 v364 v401 arg13 k0_hw37 k0_t68 => k0_hw37.2.2.2.2.2.2.2.2.2.2.2 k0_t68

@[reducible] def k0_t69_loop (v438 : BitVec 32) : Scf.Loop 32 :=
  let c0_i32_171 : BitVec 32 := 0#32
  let c0_i32_164 : BitVec 32 := 0#32
  let v441 : BitVec 1 := Scalar.cmpi .sgt v438 c0_i32_164
  let v442 : BitVec 32 := Scalar.extui v441
  let c0_i32_165 : BitVec 32 := 0#32
  let v443 : BitVec 1 := Scalar.cmpi .slt v438 c0_i32_165
  let v444 : BitVec 32 := Scalar.extui v443
  let v445 : BitVec 32 := Scalar.subi v442 v444
  let c504_i32_163 : BitVec 32 := 504#32
  let c0_i32_166 : BitVec 32 := 0#32
  let v446 : BitVec 1 := Scalar.cmpi .sgt c504_i32_163 c0_i32_166
  let v447 : BitVec 32 := Scalar.extui v446
  let c0_i32_167 : BitVec 32 := 0#32
  let v448 : BitVec 1 := Scalar.cmpi .slt c504_i32_163 c0_i32_167
  let v449 : BitVec 32 := Scalar.extui v448
  let v450 : BitVec 32 := Scalar.subi v447 v449
  let v451 : BitVec 1 := Scalar.cmpi .ne v445 v450
  let v452 : BitVec 32 := Scalar.remsi v438 c504_i32_163
  let c0_i32_168 : BitVec 32 := 0#32
  let v453 : BitVec 1 := Scalar.cmpi .ne v452 c0_i32_168
  let v454 : BitVec 1 := Scalar.andi v451 v453
  let v440 : BitVec 32 := Scalar.divsi v438 c504_i32_163
  let c1_i32_169 : BitVec 32 := 1#32
  let v455 : BitVec 32 := Scalar.subi v440 c1_i32_169
  let v456 : BitVec 32 := Scalar.select v454 v455 v440
  let c1_i32_170 : BitVec 32 := 1#32
  let v457 : BitVec 32 := Scalar.addi v456 c1_i32_170
  let v458 : BitVec 32 := Scalar.subi v457 c0_i32_171
  let c1_i32_172 : BitVec 32 := 1#32
  let v460 : BitVec 32 := Scalar.divsi v458 c1_i32_172
  let v461 : BitVec 32 := Scalar.muli v460 c1_i32_172
  let v462 : BitVec 32 := Scalar.addi c0_i32_171 v461
  let c1_i32_173 : BitVec 32 := 1#32
  ⟨c0_i32_171, v462, c1_i32_173⟩

def k0_mult23 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off199 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r23 : BitVec 32 := 0#32
  ![v1213.toNat, 0]
@[reducible] def k0_t70_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off200 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t70 : Fin (k0_t70_loop v16 v31 v68 v105 v142 v179 v216 v253 v290 v327 v364 v401 v438 arg13).trips) : Fin 2 → Nat :=
  let c1_i32_473 : BitVec 32 := 1#32
  let arg14 : BitVec 32 := Scf.iv arg13 c1_i32_473 k0_t70
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off201 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t70 : Fin (k0_t70_loop v16 v31 v68 v105 v142 v179 v216 v253 v290 v327 v364 v401 v438 arg13).trips) : Fin 2 → Nat :=
  let c1_i32_473 : BitVec 32 := 1#32
  let arg14 : BitVec 32 := Scf.iv arg13 c1_i32_473 k0_t70
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off202 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t70 : Fin (k0_t70_loop v16 v31 v68 v105 v142 v179 v216 v253 v290 v327 v364 v401 v438 arg13).trips) : Fin 2 → Nat :=
  let c1_i32_473 : BitVec 32 := 1#32
  let arg14 : BitVec 32 := Scf.iv arg13 c1_i32_473 k0_t70
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off203 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t70 : Fin (k0_t70_loop v16 v31 v68 v105 v142 v179 v216 v253 v290 v327 v364 v401 v438 arg13).trips) : Fin 2 → Nat :=
  let c1_i32_473 : BitVec 32 := 1#32
  let arg14 : BitVec 32 := Scf.iv arg13 c1_i32_473 k0_t70
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t71_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off204 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t71 : Fin (k0_t71_loop v16 v31 v68 v105 v142 v179 v216 v253 v290 v327 v364 v401 v438 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t71
  let v1224 : BitVec 32 := Scalar.subi arg14 v1213
  let v1225 : Index := Scalar.indexCast v1224
  let c0_475 : Index := 0#32
  ![v1225.toNat, 0]
def k0_off205 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t71 : Fin (k0_t71_loop v16 v31 v68 v105 v142 v179 v216 v253 v290 v327 v364 v401 v438 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t71
  let v1224 : BitVec 32 := Scalar.subi arg14 v1213
  let v1228 : Index := Scalar.indexCast v1224
  let c16_476 : Index := 16#32
  ![v1228.toNat, 16]
def k0_off206 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t71 : Fin (k0_t71_loop v16 v31 v68 v105 v142 v179 v216 v253 v290 v327 v364 v401 v438 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t71
  let v1224 : BitVec 32 := Scalar.subi arg14 v1213
  let v1231 : Index := Scalar.indexCast v1224
  let c32_477 : Index := 32#32
  ![v1231.toNat, 32]
def k0_off207 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t71 : Fin (k0_t71_loop v16 v31 v68 v105 v142 v179 v216 v253 v290 v327 v364 v401 v438 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t71
  let v1224 : BitVec 32 := Scalar.subi arg14 v1213
  let v1234 : Index := Scalar.indexCast v1224
  let c48_478 : Index := 48#32
  ![v1234.toNat, 48]

def k0_chk39 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) : Prop :=
  (8 ∣ (k0_mult23 arg13).toNat) ∧
  (∀ a, (k0_off199 arg13) a + S512x128.size a ≤ S320000x128.size a) ∧
  ((k0_t70_loop v16 v31 v68 v105 v142 v179 v216 v253 v290 v327 v364 v401 v438 arg13).OK) ∧
  (∀ k0_t70 : Fin (k0_t70_loop v16 v31 v68 v105 v142 v179 v216 v253 v290 v327 v364 v401 v438 arg13).trips, ∀ a, (k0_off200 v16 v31 v68 v105 v142 v179 v216 v253 v290 v327 v364 v401 v438 arg13 k0_t70) a + S1x16.size a ≤ S512x128.size a) ∧
  (∀ k0_t70 : Fin (k0_t70_loop v16 v31 v68 v105 v142 v179 v216 v253 v290 v327 v364 v401 v438 arg13).trips, ∀ a, (k0_off201 v16 v31 v68 v105 v142 v179 v216 v253 v290 v327 v364 v401 v438 arg13 k0_t70) a + S1x16.size a ≤ S512x128.size a) ∧
  (∀ k0_t70 : Fin (k0_t70_loop v16 v31 v68 v105 v142 v179 v216 v253 v290 v327 v364 v401 v438 arg13).trips, ∀ a, (k0_off202 v16 v31 v68 v105 v142 v179 v216 v253 v290 v327 v364 v401 v438 arg13 k0_t70) a + S1x16.size a ≤ S512x128.size a) ∧
  (∀ k0_t70 : Fin (k0_t70_loop v16 v31 v68 v105 v142 v179 v216 v253 v290 v327 v364 v401 v438 arg13).trips, ∀ a, (k0_off203 v16 v31 v68 v105 v142 v179 v216 v253 v290 v327 v364 v401 v438 arg13 k0_t70) a + S1x16.size a ≤ S512x128.size a) ∧
  ((k0_t71_loop v16 v31 v68 v105 v142 v179 v216 v253 v290 v327 v364 v401 v438 arg13).OK) ∧
  (∀ k0_t71 : Fin (k0_t71_loop v16 v31 v68 v105 v142 v179 v216 v253 v290 v327 v364 v401 v438 arg13).trips, ∀ a, (k0_off204 v16 v31 v68 v105 v142 v179 v216 v253 v290 v327 v364 v401 v438 arg13 k0_t71) a + S1x16.size a ≤ S512x128.size a) ∧
  (∀ k0_t71 : Fin (k0_t71_loop v16 v31 v68 v105 v142 v179 v216 v253 v290 v327 v364 v401 v438 arg13).trips, ∀ a, (k0_off205 v16 v31 v68 v105 v142 v179 v216 v253 v290 v327 v364 v401 v438 arg13 k0_t71) a + S1x16.size a ≤ S512x128.size a) ∧
  (∀ k0_t71 : Fin (k0_t71_loop v16 v31 v68 v105 v142 v179 v216 v253 v290 v327 v364 v401 v438 arg13).trips, ∀ a, (k0_off206 v16 v31 v68 v105 v142 v179 v216 v253 v290 v327 v364 v401 v438 arg13 k0_t71) a + S1x16.size a ≤ S512x128.size a) ∧
  (∀ k0_t71 : Fin (k0_t71_loop v16 v31 v68 v105 v142 v179 v216 v253 v290 v327 v364 v401 v438 arg13).trips, ∀ a, (k0_off207 v16 v31 v68 v105 v142 v179 v216 v253 v290 v327 v364 v401 v438 arg13 k0_t71) a + S1x16.size a ≤ S512x128.size a)
theorem k0_mult23_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13), 8 ∣ (k0_mult23 arg13).toNat := fun v16 v31 v68 v105 v142 v179 v216 v253 v290 v327 v364 v401 v438 arg13 k0_hw39 => k0_hw39.1
theorem k0_off199_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13), ∀ a, (k0_off199 arg13) a + S512x128.size a ≤ S320000x128.size a := fun v16 v31 v68 v105 v142 v179 v216 v253 v290 v327 v364 v401 v438 arg13 k0_hw39 => k0_hw39.2.1
theorem k0_t70_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13), (k0_t70_loop v16 v31 v68 v105 v142 v179 v216 v253 v290 v327 v364 v401 v438 arg13).OK := fun v16 v31 v68 v105 v142 v179 v216 v253 v290 v327 v364 v401 v438 arg13 k0_hw39 => k0_hw39.2.2.1
theorem k0_off200_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13) (k0_t70 : Fin (k0_t70_loop v16 v31 v68 v105 v142 v179 v216 v253 v290 v327 v364 v401 v438 arg13).trips), ∀ a, (k0_off200 v16 v31 v68 v105 v142 v179 v216 v253 v290 v327 v364 v401 v438 arg13 k0_t70) a + S1x16.size a ≤ S512x128.size a := fun v16 v31 v68 v105 v142 v179 v216 v253 v290 v327 v364 v401 v438 arg13 k0_hw39 k0_t70 => k0_hw39.2.2.2.1 k0_t70
theorem k0_off201_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13) (k0_t70 : Fin (k0_t70_loop v16 v31 v68 v105 v142 v179 v216 v253 v290 v327 v364 v401 v438 arg13).trips), ∀ a, (k0_off201 v16 v31 v68 v105 v142 v179 v216 v253 v290 v327 v364 v401 v438 arg13 k0_t70) a + S1x16.size a ≤ S512x128.size a := fun v16 v31 v68 v105 v142 v179 v216 v253 v290 v327 v364 v401 v438 arg13 k0_hw39 k0_t70 => k0_hw39.2.2.2.2.1 k0_t70
theorem k0_off202_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13) (k0_t70 : Fin (k0_t70_loop v16 v31 v68 v105 v142 v179 v216 v253 v290 v327 v364 v401 v438 arg13).trips), ∀ a, (k0_off202 v16 v31 v68 v105 v142 v179 v216 v253 v290 v327 v364 v401 v438 arg13 k0_t70) a + S1x16.size a ≤ S512x128.size a := fun v16 v31 v68 v105 v142 v179 v216 v253 v290 v327 v364 v401 v438 arg13 k0_hw39 k0_t70 => k0_hw39.2.2.2.2.2.1 k0_t70
theorem k0_off203_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13) (k0_t70 : Fin (k0_t70_loop v16 v31 v68 v105 v142 v179 v216 v253 v290 v327 v364 v401 v438 arg13).trips), ∀ a, (k0_off203 v16 v31 v68 v105 v142 v179 v216 v253 v290 v327 v364 v401 v438 arg13 k0_t70) a + S1x16.size a ≤ S512x128.size a := fun v16 v31 v68 v105 v142 v179 v216 v253 v290 v327 v364 v401 v438 arg13 k0_hw39 k0_t70 => k0_hw39.2.2.2.2.2.2.1 k0_t70
theorem k0_t71_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13), (k0_t71_loop v16 v31 v68 v105 v142 v179 v216 v253 v290 v327 v364 v401 v438 arg13).OK := fun v16 v31 v68 v105 v142 v179 v216 v253 v290 v327 v364 v401 v438 arg13 k0_hw39 => k0_hw39.2.2.2.2.2.2.2.1
theorem k0_off204_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13) (k0_t71 : Fin (k0_t71_loop v16 v31 v68 v105 v142 v179 v216 v253 v290 v327 v364 v401 v438 arg13).trips), ∀ a, (k0_off204 v16 v31 v68 v105 v142 v179 v216 v253 v290 v327 v364 v401 v438 arg13 k0_t71) a + S1x16.size a ≤ S512x128.size a := fun v16 v31 v68 v105 v142 v179 v216 v253 v290 v327 v364 v401 v438 arg13 k0_hw39 k0_t71 => k0_hw39.2.2.2.2.2.2.2.2.1 k0_t71
theorem k0_off205_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13) (k0_t71 : Fin (k0_t71_loop v16 v31 v68 v105 v142 v179 v216 v253 v290 v327 v364 v401 v438 arg13).trips), ∀ a, (k0_off205 v16 v31 v68 v105 v142 v179 v216 v253 v290 v327 v364 v401 v438 arg13 k0_t71) a + S1x16.size a ≤ S512x128.size a := fun v16 v31 v68 v105 v142 v179 v216 v253 v290 v327 v364 v401 v438 arg13 k0_hw39 k0_t71 => k0_hw39.2.2.2.2.2.2.2.2.2.1 k0_t71
theorem k0_off206_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13) (k0_t71 : Fin (k0_t71_loop v16 v31 v68 v105 v142 v179 v216 v253 v290 v327 v364 v401 v438 arg13).trips), ∀ a, (k0_off206 v16 v31 v68 v105 v142 v179 v216 v253 v290 v327 v364 v401 v438 arg13 k0_t71) a + S1x16.size a ≤ S512x128.size a := fun v16 v31 v68 v105 v142 v179 v216 v253 v290 v327 v364 v401 v438 arg13 k0_hw39 k0_t71 => k0_hw39.2.2.2.2.2.2.2.2.2.2.1 k0_t71
theorem k0_off207_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw39 : k0_chk39 v16 v31 v68 v105 v142 v179 v216 v253 v290 v327 v364 v401 v438 arg13) (k0_t71 : Fin (k0_t71_loop v16 v31 v68 v105 v142 v179 v216 v253 v290 v327 v364 v401 v438 arg13).trips), ∀ a, (k0_off207 v16 v31 v68 v105 v142 v179 v216 v253 v290 v327 v364 v401 v438 arg13 k0_t71) a + S1x16.size a ≤ S512x128.size a := fun v16 v31 v68 v105 v142 v179 v216 v253 v290 v327 v364 v401 v438 arg13 k0_hw39 k0_t71 => k0_hw39.2.2.2.2.2.2.2.2.2.2.2 k0_t71

@[reducible] def k0_t72_loop (v438 : BitVec 32) : Scf.Loop 32 :=
  let c0_i32_171 : BitVec 32 := 0#32
  let c0_i32_164 : BitVec 32 := 0#32
  let v441 : BitVec 1 := Scalar.cmpi .sgt v438 c0_i32_164
  let v442 : BitVec 32 := Scalar.extui v441
  let c0_i32_165 : BitVec 32 := 0#32
  let v443 : BitVec 1 := Scalar.cmpi .slt v438 c0_i32_165
  let v444 : BitVec 32 := Scalar.extui v443
  let v445 : BitVec 32 := Scalar.subi v442 v444
  let c504_i32_163 : BitVec 32 := 504#32
  let c0_i32_166 : BitVec 32 := 0#32
  let v446 : BitVec 1 := Scalar.cmpi .sgt c504_i32_163 c0_i32_166
  let v447 : BitVec 32 := Scalar.extui v446
  let c0_i32_167 : BitVec 32 := 0#32
  let v448 : BitVec 1 := Scalar.cmpi .slt c504_i32_163 c0_i32_167
  let v449 : BitVec 32 := Scalar.extui v448
  let v450 : BitVec 32 := Scalar.subi v447 v449
  let v451 : BitVec 1 := Scalar.cmpi .ne v445 v450
  let v452 : BitVec 32 := Scalar.remsi v438 c504_i32_163
  let c0_i32_168 : BitVec 32 := 0#32
  let v453 : BitVec 1 := Scalar.cmpi .ne v452 c0_i32_168
  let v454 : BitVec 1 := Scalar.andi v451 v453
  let v440 : BitVec 32 := Scalar.divsi v438 c504_i32_163
  let c1_i32_169 : BitVec 32 := 1#32
  let v455 : BitVec 32 := Scalar.subi v440 c1_i32_169
  let v456 : BitVec 32 := Scalar.select v454 v455 v440
  let c1_i32_170 : BitVec 32 := 1#32
  let v457 : BitVec 32 := Scalar.addi v456 c1_i32_170
  let v458 : BitVec 32 := Scalar.subi v457 c0_i32_171
  let c1_i32_172 : BitVec 32 := 1#32
  let v460 : BitVec 32 := Scalar.divsi v458 c1_i32_172
  let v461 : BitVec 32 := Scalar.muli v460 c1_i32_172
  let v462 : BitVec 32 := Scalar.addi c0_i32_171 v461
  let v459 : BitVec 32 := Scalar.addi c0_i32_171 v458
  let c1_i32_174 : BitVec 32 := 1#32
  ⟨v462, v459, c1_i32_174⟩

def k0_chk38 (v438 : BitVec 32) : Prop :=
  ((k0_t69_loop v438).OK) ∧
  ((k0_t72_loop v438).OK)
theorem k0_t69_ok : ∀ (v438 : BitVec 32) (k0_hw38 : k0_chk38 v438), (k0_t69_loop v438).OK := fun v438 k0_hw38 => k0_hw38.1
theorem k0_t72_ok : ∀ (v438 : BitVec 32) (k0_hw38 : k0_chk38 v438), (k0_t72_loop v438).OK := fun v438 k0_hw38 => k0_hw38.2

def k0_mult24 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off208 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r24 : BitVec 32 := 0#32
  ![v1213.toNat, 0]
@[reducible] def k0_t73_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off209 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t73 : Fin (k0_t73_loop v16 v31 v68 v105 v142 v179 v216 v253 v290 v327 v364 v401 v438 arg13).trips) : Fin 2 → Nat :=
  let c1_i32_473 : BitVec 32 := 1#32
  let arg14 : BitVec 32 := Scf.iv arg13 c1_i32_473 k0_t73
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off210 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t73 : Fin (k0_t73_loop v16 v31 v68 v105 v142 v179 v216 v253 v290 v327 v364 v401 v438 arg13).trips) : Fin 2 → Nat :=
  let c1_i32_473 : BitVec 32 := 1#32
  let arg14 : BitVec 32 := Scf.iv arg13 c1_i32_473 k0_t73
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off211 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t73 : Fin (k0_t73_loop v16 v31 v68 v105 v142 v179 v216 v253 v290 v327 v364 v401 v438 arg13).trips) : Fin 2 → Nat :=
  let c1_i32_473 : BitVec 32 := 1#32
  let arg14 : BitVec 32 := Scf.iv arg13 c1_i32_473 k0_t73
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off212 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t73 : Fin (k0_t73_loop v16 v31 v68 v105 v142 v179 v216 v253 v290 v327 v364 v401 v438 arg13).trips) : Fin 2 → Nat :=
  let c1_i32_473 : BitVec 32 := 1#32
  let arg14 : BitVec 32 := Scf.iv arg13 c1_i32_473 k0_t73
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t74_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off213 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t74 : Fin (k0_t74_loop v16 v31 v68 v105 v142 v179 v216 v253 v290 v327 v364 v401 v438 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t74
  let v1224 : BitVec 32 := Scalar.subi arg14 v1213
  let v1225 : Index := Scalar.indexCast v1224
  let c0_475 : Index := 0#32
  ![v1225.toNat, 0]
def k0_off214 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t74 : Fin (k0_t74_loop v16 v31 v68 v105 v142 v179 v216 v253 v290 v327 v364 v401 v438 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t74
  let v1224 : BitVec 32 := Scalar.subi arg14 v1213
  let v1228 : Index := Scalar.indexCast v1224
  let c16_476 : Index := 16#32
  ![v1228.toNat, 16]
def k0_off215 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t74 : Fin (k0_t74_loop v16 v31 v68 v105 v142 v179 v216 v253 v290 v327 v364 v401 v438 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t74
  let v1224 : BitVec 32 := Scalar.subi arg14 v1213
  let v1231 : Index := Scalar.indexCast v1224
  let c32_477 : Index := 32#32
  ![v1231.toNat, 32]
def k0_off216 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_t74 : Fin (k0_t74_loop v16 v31 v68 v105 v142 v179 v216 v253 v290 v327 v364 v401 v438 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v439 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t74
  let v1224 : BitVec 32 := Scalar.subi arg14 v1213
  let v1234 : Index := Scalar.indexCast v1224
  let c48_478 : Index := 48#32
  ![v1234.toNat, 48]

def k0_chk40 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) : Prop :=
  (8 ∣ (k0_mult24 arg13).toNat) ∧
  (∀ a, (k0_off208 arg13) a + S512x128.size a ≤ S320000x128.size a) ∧
  ((k0_t73_loop v16 v31 v68 v105 v142 v179 v216 v253 v290 v327 v364 v401 v438 arg13).OK) ∧
  (∀ k0_t73 : Fin (k0_t73_loop v16 v31 v68 v105 v142 v179 v216 v253 v290 v327 v364 v401 v438 arg13).trips, ∀ a, (k0_off209 v16 v31 v68 v105 v142 v179 v216 v253 v290 v327 v364 v401 v438 arg13 k0_t73) a + S1x16.size a ≤ S512x128.size a) ∧
  (∀ k0_t73 : Fin (k0_t73_loop v16 v31 v68 v105 v142 v179 v216 v253 v290 v327 v364 v401 v438 arg13).trips, ∀ a, (k0_off210 v16 v31 v68 v105 v142 v179 v216 v253 v290 v327 v364 v401 v438 arg13 k0_t73) a + S1x16.size a ≤ S512x128.size a) ∧
  (∀ k0_t73 : Fin (k0_t73_loop v16 v31 v68 v105 v142 v179 v216 v253 v290 v327 v364 v401 v438 arg13).trips, ∀ a, (k0_off211 v16 v31 v68 v105 v142 v179 v216 v253 v290 v327 v364 v401 v438 arg13 k0_t73) a + S1x16.size a ≤ S512x128.size a) ∧
  (∀ k0_t73 : Fin (k0_t73_loop v16 v31 v68 v105 v142 v179 v216 v253 v290 v327 v364 v401 v438 arg13).trips, ∀ a, (k0_off212 v16 v31 v68 v105 v142 v179 v216 v253 v290 v327 v364 v401 v438 arg13 k0_t73) a + S1x16.size a ≤ S512x128.size a) ∧
  ((k0_t74_loop v16 v31 v68 v105 v142 v179 v216 v253 v290 v327 v364 v401 v438 arg13).OK) ∧
  (∀ k0_t74 : Fin (k0_t74_loop v16 v31 v68 v105 v142 v179 v216 v253 v290 v327 v364 v401 v438 arg13).trips, ∀ a, (k0_off213 v16 v31 v68 v105 v142 v179 v216 v253 v290 v327 v364 v401 v438 arg13 k0_t74) a + S1x16.size a ≤ S512x128.size a) ∧
  (∀ k0_t74 : Fin (k0_t74_loop v16 v31 v68 v105 v142 v179 v216 v253 v290 v327 v364 v401 v438 arg13).trips, ∀ a, (k0_off214 v16 v31 v68 v105 v142 v179 v216 v253 v290 v327 v364 v401 v438 arg13 k0_t74) a + S1x16.size a ≤ S512x128.size a) ∧
  (∀ k0_t74 : Fin (k0_t74_loop v16 v31 v68 v105 v142 v179 v216 v253 v290 v327 v364 v401 v438 arg13).trips, ∀ a, (k0_off215 v16 v31 v68 v105 v142 v179 v216 v253 v290 v327 v364 v401 v438 arg13 k0_t74) a + S1x16.size a ≤ S512x128.size a) ∧
  (∀ k0_t74 : Fin (k0_t74_loop v16 v31 v68 v105 v142 v179 v216 v253 v290 v327 v364 v401 v438 arg13).trips, ∀ a, (k0_off216 v16 v31 v68 v105 v142 v179 v216 v253 v290 v327 v364 v401 v438 arg13 k0_t74) a + S1x16.size a ≤ S512x128.size a)
theorem k0_mult24_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13), 8 ∣ (k0_mult24 arg13).toNat := fun v16 v31 v68 v105 v142 v179 v216 v253 v290 v327 v364 v401 v438 arg13 k0_hw40 => k0_hw40.1
theorem k0_off208_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13), ∀ a, (k0_off208 arg13) a + S512x128.size a ≤ S320000x128.size a := fun v16 v31 v68 v105 v142 v179 v216 v253 v290 v327 v364 v401 v438 arg13 k0_hw40 => k0_hw40.2.1
theorem k0_t73_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13), (k0_t73_loop v16 v31 v68 v105 v142 v179 v216 v253 v290 v327 v364 v401 v438 arg13).OK := fun v16 v31 v68 v105 v142 v179 v216 v253 v290 v327 v364 v401 v438 arg13 k0_hw40 => k0_hw40.2.2.1
theorem k0_off209_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13) (k0_t73 : Fin (k0_t73_loop v16 v31 v68 v105 v142 v179 v216 v253 v290 v327 v364 v401 v438 arg13).trips), ∀ a, (k0_off209 v16 v31 v68 v105 v142 v179 v216 v253 v290 v327 v364 v401 v438 arg13 k0_t73) a + S1x16.size a ≤ S512x128.size a := fun v16 v31 v68 v105 v142 v179 v216 v253 v290 v327 v364 v401 v438 arg13 k0_hw40 k0_t73 => k0_hw40.2.2.2.1 k0_t73
theorem k0_off210_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13) (k0_t73 : Fin (k0_t73_loop v16 v31 v68 v105 v142 v179 v216 v253 v290 v327 v364 v401 v438 arg13).trips), ∀ a, (k0_off210 v16 v31 v68 v105 v142 v179 v216 v253 v290 v327 v364 v401 v438 arg13 k0_t73) a + S1x16.size a ≤ S512x128.size a := fun v16 v31 v68 v105 v142 v179 v216 v253 v290 v327 v364 v401 v438 arg13 k0_hw40 k0_t73 => k0_hw40.2.2.2.2.1 k0_t73
theorem k0_off211_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13) (k0_t73 : Fin (k0_t73_loop v16 v31 v68 v105 v142 v179 v216 v253 v290 v327 v364 v401 v438 arg13).trips), ∀ a, (k0_off211 v16 v31 v68 v105 v142 v179 v216 v253 v290 v327 v364 v401 v438 arg13 k0_t73) a + S1x16.size a ≤ S512x128.size a := fun v16 v31 v68 v105 v142 v179 v216 v253 v290 v327 v364 v401 v438 arg13 k0_hw40 k0_t73 => k0_hw40.2.2.2.2.2.1 k0_t73
theorem k0_off212_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13) (k0_t73 : Fin (k0_t73_loop v16 v31 v68 v105 v142 v179 v216 v253 v290 v327 v364 v401 v438 arg13).trips), ∀ a, (k0_off212 v16 v31 v68 v105 v142 v179 v216 v253 v290 v327 v364 v401 v438 arg13 k0_t73) a + S1x16.size a ≤ S512x128.size a := fun v16 v31 v68 v105 v142 v179 v216 v253 v290 v327 v364 v401 v438 arg13 k0_hw40 k0_t73 => k0_hw40.2.2.2.2.2.2.1 k0_t73
theorem k0_t74_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13), (k0_t74_loop v16 v31 v68 v105 v142 v179 v216 v253 v290 v327 v364 v401 v438 arg13).OK := fun v16 v31 v68 v105 v142 v179 v216 v253 v290 v327 v364 v401 v438 arg13 k0_hw40 => k0_hw40.2.2.2.2.2.2.2.1
theorem k0_off213_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13) (k0_t74 : Fin (k0_t74_loop v16 v31 v68 v105 v142 v179 v216 v253 v290 v327 v364 v401 v438 arg13).trips), ∀ a, (k0_off213 v16 v31 v68 v105 v142 v179 v216 v253 v290 v327 v364 v401 v438 arg13 k0_t74) a + S1x16.size a ≤ S512x128.size a := fun v16 v31 v68 v105 v142 v179 v216 v253 v290 v327 v364 v401 v438 arg13 k0_hw40 k0_t74 => k0_hw40.2.2.2.2.2.2.2.2.1 k0_t74
theorem k0_off214_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13) (k0_t74 : Fin (k0_t74_loop v16 v31 v68 v105 v142 v179 v216 v253 v290 v327 v364 v401 v438 arg13).trips), ∀ a, (k0_off214 v16 v31 v68 v105 v142 v179 v216 v253 v290 v327 v364 v401 v438 arg13 k0_t74) a + S1x16.size a ≤ S512x128.size a := fun v16 v31 v68 v105 v142 v179 v216 v253 v290 v327 v364 v401 v438 arg13 k0_hw40 k0_t74 => k0_hw40.2.2.2.2.2.2.2.2.2.1 k0_t74
theorem k0_off215_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13) (k0_t74 : Fin (k0_t74_loop v16 v31 v68 v105 v142 v179 v216 v253 v290 v327 v364 v401 v438 arg13).trips), ∀ a, (k0_off215 v16 v31 v68 v105 v142 v179 v216 v253 v290 v327 v364 v401 v438 arg13 k0_t74) a + S1x16.size a ≤ S512x128.size a := fun v16 v31 v68 v105 v142 v179 v216 v253 v290 v327 v364 v401 v438 arg13 k0_hw40 k0_t74 => k0_hw40.2.2.2.2.2.2.2.2.2.2.1 k0_t74
theorem k0_off216_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (arg13 : BitVec 32) (k0_hw40 : k0_chk40 v16 v31 v68 v105 v142 v179 v216 v253 v290 v327 v364 v401 v438 arg13) (k0_t74 : Fin (k0_t74_loop v16 v31 v68 v105 v142 v179 v216 v253 v290 v327 v364 v401 v438 arg13).trips), ∀ a, (k0_off216 v16 v31 v68 v105 v142 v179 v216 v253 v290 v327 v364 v401 v438 arg13 k0_t74) a + S1x16.size a ≤ S512x128.size a := fun v16 v31 v68 v105 v142 v179 v216 v253 v290 v327 v364 v401 v438 arg13 k0_hw40 k0_t74 => k0_hw40.2.2.2.2.2.2.2.2.2.2.2 k0_t74

@[reducible] def k0_t75_loop (v475 : BitVec 32) : Scf.Loop 32 :=
  let c0_i32_185 : BitVec 32 := 0#32
  let c0_i32_178 : BitVec 32 := 0#32
  let v478 : BitVec 1 := Scalar.cmpi .sgt v475 c0_i32_178
  let v479 : BitVec 32 := Scalar.extui v478
  let c0_i32_179 : BitVec 32 := 0#32
  let v480 : BitVec 1 := Scalar.cmpi .slt v475 c0_i32_179
  let v481 : BitVec 32 := Scalar.extui v480
  let v482 : BitVec 32 := Scalar.subi v479 v481
  let c504_i32_177 : BitVec 32 := 504#32
  let c0_i32_180 : BitVec 32 := 0#32
  let v483 : BitVec 1 := Scalar.cmpi .sgt c504_i32_177 c0_i32_180
  let v484 : BitVec 32 := Scalar.extui v483
  let c0_i32_181 : BitVec 32 := 0#32
  let v485 : BitVec 1 := Scalar.cmpi .slt c504_i32_177 c0_i32_181
  let v486 : BitVec 32 := Scalar.extui v485
  let v487 : BitVec 32 := Scalar.subi v484 v486
  let v488 : BitVec 1 := Scalar.cmpi .ne v482 v487
  let v489 : BitVec 32 := Scalar.remsi v475 c504_i32_177
  let c0_i32_182 : BitVec 32 := 0#32
  let v490 : BitVec 1 := Scalar.cmpi .ne v489 c0_i32_182
  let v491 : BitVec 1 := Scalar.andi v488 v490
  let v477 : BitVec 32 := Scalar.divsi v475 c504_i32_177
  let c1_i32_183 : BitVec 32 := 1#32
  let v492 : BitVec 32 := Scalar.subi v477 c1_i32_183
  let v493 : BitVec 32 := Scalar.select v491 v492 v477
  let c1_i32_184 : BitVec 32 := 1#32
  let v494 : BitVec 32 := Scalar.addi v493 c1_i32_184
  let v495 : BitVec 32 := Scalar.subi v494 c0_i32_185
  let c1_i32_186 : BitVec 32 := 1#32
  let v497 : BitVec 32 := Scalar.divsi v495 c1_i32_186
  let v498 : BitVec 32 := Scalar.muli v497 c1_i32_186
  let v499 : BitVec 32 := Scalar.addi c0_i32_185 v498
  let c1_i32_187 : BitVec 32 := 1#32
  ⟨c0_i32_185, v499, c1_i32_187⟩

def k0_mult25 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off217 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r25 : BitVec 32 := 0#32
  ![v1213.toNat, 0]
@[reducible] def k0_t76_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off218 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t76 : Fin (k0_t76_loop v16 v31 v68 v105 v142 v179 v216 v253 v290 v327 v364 v401 v438 v475 arg13).trips) : Fin 2 → Nat :=
  let c1_i32_473 : BitVec 32 := 1#32
  let arg14 : BitVec 32 := Scf.iv arg13 c1_i32_473 k0_t76
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off219 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t76 : Fin (k0_t76_loop v16 v31 v68 v105 v142 v179 v216 v253 v290 v327 v364 v401 v438 v475 arg13).trips) : Fin 2 → Nat :=
  let c1_i32_473 : BitVec 32 := 1#32
  let arg14 : BitVec 32 := Scf.iv arg13 c1_i32_473 k0_t76
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off220 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t76 : Fin (k0_t76_loop v16 v31 v68 v105 v142 v179 v216 v253 v290 v327 v364 v401 v438 v475 arg13).trips) : Fin 2 → Nat :=
  let c1_i32_473 : BitVec 32 := 1#32
  let arg14 : BitVec 32 := Scf.iv arg13 c1_i32_473 k0_t76
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off221 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t76 : Fin (k0_t76_loop v16 v31 v68 v105 v142 v179 v216 v253 v290 v327 v364 v401 v438 v475 arg13).trips) : Fin 2 → Nat :=
  let c1_i32_473 : BitVec 32 := 1#32
  let arg14 : BitVec 32 := Scf.iv arg13 c1_i32_473 k0_t76
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t77_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off222 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t77 : Fin (k0_t77_loop v16 v31 v68 v105 v142 v179 v216 v253 v290 v327 v364 v401 v438 v475 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t77
  let v1224 : BitVec 32 := Scalar.subi arg14 v1213
  let v1225 : Index := Scalar.indexCast v1224
  let c0_475 : Index := 0#32
  ![v1225.toNat, 0]
def k0_off223 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t77 : Fin (k0_t77_loop v16 v31 v68 v105 v142 v179 v216 v253 v290 v327 v364 v401 v438 v475 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t77
  let v1224 : BitVec 32 := Scalar.subi arg14 v1213
  let v1228 : Index := Scalar.indexCast v1224
  let c16_476 : Index := 16#32
  ![v1228.toNat, 16]
def k0_off224 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t77 : Fin (k0_t77_loop v16 v31 v68 v105 v142 v179 v216 v253 v290 v327 v364 v401 v438 v475 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t77
  let v1224 : BitVec 32 := Scalar.subi arg14 v1213
  let v1231 : Index := Scalar.indexCast v1224
  let c32_477 : Index := 32#32
  ![v1231.toNat, 32]
def k0_off225 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t77 : Fin (k0_t77_loop v16 v31 v68 v105 v142 v179 v216 v253 v290 v327 v364 v401 v438 v475 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t77
  let v1224 : BitVec 32 := Scalar.subi arg14 v1213
  let v1234 : Index := Scalar.indexCast v1224
  let c48_478 : Index := 48#32
  ![v1234.toNat, 48]

def k0_chk42 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) : Prop :=
  (8 ∣ (k0_mult25 arg13).toNat) ∧
  (∀ a, (k0_off217 arg13) a + S512x128.size a ≤ S320000x128.size a) ∧
  ((k0_t76_loop v16 v31 v68 v105 v142 v179 v216 v253 v290 v327 v364 v401 v438 v475 arg13).OK) ∧
  (∀ k0_t76 : Fin (k0_t76_loop v16 v31 v68 v105 v142 v179 v216 v253 v290 v327 v364 v401 v438 v475 arg13).trips, ∀ a, (k0_off218 v16 v31 v68 v105 v142 v179 v216 v253 v290 v327 v364 v401 v438 v475 arg13 k0_t76) a + S1x16.size a ≤ S512x128.size a) ∧
  (∀ k0_t76 : Fin (k0_t76_loop v16 v31 v68 v105 v142 v179 v216 v253 v290 v327 v364 v401 v438 v475 arg13).trips, ∀ a, (k0_off219 v16 v31 v68 v105 v142 v179 v216 v253 v290 v327 v364 v401 v438 v475 arg13 k0_t76) a + S1x16.size a ≤ S512x128.size a) ∧
  (∀ k0_t76 : Fin (k0_t76_loop v16 v31 v68 v105 v142 v179 v216 v253 v290 v327 v364 v401 v438 v475 arg13).trips, ∀ a, (k0_off220 v16 v31 v68 v105 v142 v179 v216 v253 v290 v327 v364 v401 v438 v475 arg13 k0_t76) a + S1x16.size a ≤ S512x128.size a) ∧
  (∀ k0_t76 : Fin (k0_t76_loop v16 v31 v68 v105 v142 v179 v216 v253 v290 v327 v364 v401 v438 v475 arg13).trips, ∀ a, (k0_off221 v16 v31 v68 v105 v142 v179 v216 v253 v290 v327 v364 v401 v438 v475 arg13 k0_t76) a + S1x16.size a ≤ S512x128.size a) ∧
  ((k0_t77_loop v16 v31 v68 v105 v142 v179 v216 v253 v290 v327 v364 v401 v438 v475 arg13).OK) ∧
  (∀ k0_t77 : Fin (k0_t77_loop v16 v31 v68 v105 v142 v179 v216 v253 v290 v327 v364 v401 v438 v475 arg13).trips, ∀ a, (k0_off222 v16 v31 v68 v105 v142 v179 v216 v253 v290 v327 v364 v401 v438 v475 arg13 k0_t77) a + S1x16.size a ≤ S512x128.size a) ∧
  (∀ k0_t77 : Fin (k0_t77_loop v16 v31 v68 v105 v142 v179 v216 v253 v290 v327 v364 v401 v438 v475 arg13).trips, ∀ a, (k0_off223 v16 v31 v68 v105 v142 v179 v216 v253 v290 v327 v364 v401 v438 v475 arg13 k0_t77) a + S1x16.size a ≤ S512x128.size a) ∧
  (∀ k0_t77 : Fin (k0_t77_loop v16 v31 v68 v105 v142 v179 v216 v253 v290 v327 v364 v401 v438 v475 arg13).trips, ∀ a, (k0_off224 v16 v31 v68 v105 v142 v179 v216 v253 v290 v327 v364 v401 v438 v475 arg13 k0_t77) a + S1x16.size a ≤ S512x128.size a) ∧
  (∀ k0_t77 : Fin (k0_t77_loop v16 v31 v68 v105 v142 v179 v216 v253 v290 v327 v364 v401 v438 v475 arg13).trips, ∀ a, (k0_off225 v16 v31 v68 v105 v142 v179 v216 v253 v290 v327 v364 v401 v438 v475 arg13 k0_t77) a + S1x16.size a ≤ S512x128.size a)
theorem k0_mult25_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13), 8 ∣ (k0_mult25 arg13).toNat := fun v16 v31 v68 v105 v142 v179 v216 v253 v290 v327 v364 v401 v438 v475 arg13 k0_hw42 => k0_hw42.1
theorem k0_off217_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13), ∀ a, (k0_off217 arg13) a + S512x128.size a ≤ S320000x128.size a := fun v16 v31 v68 v105 v142 v179 v216 v253 v290 v327 v364 v401 v438 v475 arg13 k0_hw42 => k0_hw42.2.1
theorem k0_t76_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13), (k0_t76_loop v16 v31 v68 v105 v142 v179 v216 v253 v290 v327 v364 v401 v438 v475 arg13).OK := fun v16 v31 v68 v105 v142 v179 v216 v253 v290 v327 v364 v401 v438 v475 arg13 k0_hw42 => k0_hw42.2.2.1
theorem k0_off218_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13) (k0_t76 : Fin (k0_t76_loop v16 v31 v68 v105 v142 v179 v216 v253 v290 v327 v364 v401 v438 v475 arg13).trips), ∀ a, (k0_off218 v16 v31 v68 v105 v142 v179 v216 v253 v290 v327 v364 v401 v438 v475 arg13 k0_t76) a + S1x16.size a ≤ S512x128.size a := fun v16 v31 v68 v105 v142 v179 v216 v253 v290 v327 v364 v401 v438 v475 arg13 k0_hw42 k0_t76 => k0_hw42.2.2.2.1 k0_t76
theorem k0_off219_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13) (k0_t76 : Fin (k0_t76_loop v16 v31 v68 v105 v142 v179 v216 v253 v290 v327 v364 v401 v438 v475 arg13).trips), ∀ a, (k0_off219 v16 v31 v68 v105 v142 v179 v216 v253 v290 v327 v364 v401 v438 v475 arg13 k0_t76) a + S1x16.size a ≤ S512x128.size a := fun v16 v31 v68 v105 v142 v179 v216 v253 v290 v327 v364 v401 v438 v475 arg13 k0_hw42 k0_t76 => k0_hw42.2.2.2.2.1 k0_t76
theorem k0_off220_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13) (k0_t76 : Fin (k0_t76_loop v16 v31 v68 v105 v142 v179 v216 v253 v290 v327 v364 v401 v438 v475 arg13).trips), ∀ a, (k0_off220 v16 v31 v68 v105 v142 v179 v216 v253 v290 v327 v364 v401 v438 v475 arg13 k0_t76) a + S1x16.size a ≤ S512x128.size a := fun v16 v31 v68 v105 v142 v179 v216 v253 v290 v327 v364 v401 v438 v475 arg13 k0_hw42 k0_t76 => k0_hw42.2.2.2.2.2.1 k0_t76
theorem k0_off221_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13) (k0_t76 : Fin (k0_t76_loop v16 v31 v68 v105 v142 v179 v216 v253 v290 v327 v364 v401 v438 v475 arg13).trips), ∀ a, (k0_off221 v16 v31 v68 v105 v142 v179 v216 v253 v290 v327 v364 v401 v438 v475 arg13 k0_t76) a + S1x16.size a ≤ S512x128.size a := fun v16 v31 v68 v105 v142 v179 v216 v253 v290 v327 v364 v401 v438 v475 arg13 k0_hw42 k0_t76 => k0_hw42.2.2.2.2.2.2.1 k0_t76
theorem k0_t77_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13), (k0_t77_loop v16 v31 v68 v105 v142 v179 v216 v253 v290 v327 v364 v401 v438 v475 arg13).OK := fun v16 v31 v68 v105 v142 v179 v216 v253 v290 v327 v364 v401 v438 v475 arg13 k0_hw42 => k0_hw42.2.2.2.2.2.2.2.1
theorem k0_off222_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13) (k0_t77 : Fin (k0_t77_loop v16 v31 v68 v105 v142 v179 v216 v253 v290 v327 v364 v401 v438 v475 arg13).trips), ∀ a, (k0_off222 v16 v31 v68 v105 v142 v179 v216 v253 v290 v327 v364 v401 v438 v475 arg13 k0_t77) a + S1x16.size a ≤ S512x128.size a := fun v16 v31 v68 v105 v142 v179 v216 v253 v290 v327 v364 v401 v438 v475 arg13 k0_hw42 k0_t77 => k0_hw42.2.2.2.2.2.2.2.2.1 k0_t77
theorem k0_off223_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13) (k0_t77 : Fin (k0_t77_loop v16 v31 v68 v105 v142 v179 v216 v253 v290 v327 v364 v401 v438 v475 arg13).trips), ∀ a, (k0_off223 v16 v31 v68 v105 v142 v179 v216 v253 v290 v327 v364 v401 v438 v475 arg13 k0_t77) a + S1x16.size a ≤ S512x128.size a := fun v16 v31 v68 v105 v142 v179 v216 v253 v290 v327 v364 v401 v438 v475 arg13 k0_hw42 k0_t77 => k0_hw42.2.2.2.2.2.2.2.2.2.1 k0_t77
theorem k0_off224_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13) (k0_t77 : Fin (k0_t77_loop v16 v31 v68 v105 v142 v179 v216 v253 v290 v327 v364 v401 v438 v475 arg13).trips), ∀ a, (k0_off224 v16 v31 v68 v105 v142 v179 v216 v253 v290 v327 v364 v401 v438 v475 arg13 k0_t77) a + S1x16.size a ≤ S512x128.size a := fun v16 v31 v68 v105 v142 v179 v216 v253 v290 v327 v364 v401 v438 v475 arg13 k0_hw42 k0_t77 => k0_hw42.2.2.2.2.2.2.2.2.2.2.1 k0_t77
theorem k0_off225_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw42 : k0_chk42 v16 v31 v68 v105 v142 v179 v216 v253 v290 v327 v364 v401 v438 v475 arg13) (k0_t77 : Fin (k0_t77_loop v16 v31 v68 v105 v142 v179 v216 v253 v290 v327 v364 v401 v438 v475 arg13).trips), ∀ a, (k0_off225 v16 v31 v68 v105 v142 v179 v216 v253 v290 v327 v364 v401 v438 v475 arg13 k0_t77) a + S1x16.size a ≤ S512x128.size a := fun v16 v31 v68 v105 v142 v179 v216 v253 v290 v327 v364 v401 v438 v475 arg13 k0_hw42 k0_t77 => k0_hw42.2.2.2.2.2.2.2.2.2.2.2 k0_t77

@[reducible] def k0_t78_loop (v475 : BitVec 32) : Scf.Loop 32 :=
  let c0_i32_185 : BitVec 32 := 0#32
  let c0_i32_178 : BitVec 32 := 0#32
  let v478 : BitVec 1 := Scalar.cmpi .sgt v475 c0_i32_178
  let v479 : BitVec 32 := Scalar.extui v478
  let c0_i32_179 : BitVec 32 := 0#32
  let v480 : BitVec 1 := Scalar.cmpi .slt v475 c0_i32_179
  let v481 : BitVec 32 := Scalar.extui v480
  let v482 : BitVec 32 := Scalar.subi v479 v481
  let c504_i32_177 : BitVec 32 := 504#32
  let c0_i32_180 : BitVec 32 := 0#32
  let v483 : BitVec 1 := Scalar.cmpi .sgt c504_i32_177 c0_i32_180
  let v484 : BitVec 32 := Scalar.extui v483
  let c0_i32_181 : BitVec 32 := 0#32
  let v485 : BitVec 1 := Scalar.cmpi .slt c504_i32_177 c0_i32_181
  let v486 : BitVec 32 := Scalar.extui v485
  let v487 : BitVec 32 := Scalar.subi v484 v486
  let v488 : BitVec 1 := Scalar.cmpi .ne v482 v487
  let v489 : BitVec 32 := Scalar.remsi v475 c504_i32_177
  let c0_i32_182 : BitVec 32 := 0#32
  let v490 : BitVec 1 := Scalar.cmpi .ne v489 c0_i32_182
  let v491 : BitVec 1 := Scalar.andi v488 v490
  let v477 : BitVec 32 := Scalar.divsi v475 c504_i32_177
  let c1_i32_183 : BitVec 32 := 1#32
  let v492 : BitVec 32 := Scalar.subi v477 c1_i32_183
  let v493 : BitVec 32 := Scalar.select v491 v492 v477
  let c1_i32_184 : BitVec 32 := 1#32
  let v494 : BitVec 32 := Scalar.addi v493 c1_i32_184
  let v495 : BitVec 32 := Scalar.subi v494 c0_i32_185
  let c1_i32_186 : BitVec 32 := 1#32
  let v497 : BitVec 32 := Scalar.divsi v495 c1_i32_186
  let v498 : BitVec 32 := Scalar.muli v497 c1_i32_186
  let v499 : BitVec 32 := Scalar.addi c0_i32_185 v498
  let v496 : BitVec 32 := Scalar.addi c0_i32_185 v495
  let c1_i32_188 : BitVec 32 := 1#32
  ⟨v499, v496, c1_i32_188⟩

def k0_chk41 (v475 : BitVec 32) : Prop :=
  ((k0_t75_loop v475).OK) ∧
  ((k0_t78_loop v475).OK)
theorem k0_t75_ok : ∀ (v475 : BitVec 32) (k0_hw41 : k0_chk41 v475), (k0_t75_loop v475).OK := fun v475 k0_hw41 => k0_hw41.1
theorem k0_t78_ok : ∀ (v475 : BitVec 32) (k0_hw41 : k0_chk41 v475), (k0_t78_loop v475).OK := fun v475 k0_hw41 => k0_hw41.2

def k0_mult26 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off226 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r26 : BitVec 32 := 0#32
  ![v1213.toNat, 0]
@[reducible] def k0_t79_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off227 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t79 : Fin (k0_t79_loop v16 v31 v68 v105 v142 v179 v216 v253 v290 v327 v364 v401 v438 v475 arg13).trips) : Fin 2 → Nat :=
  let c1_i32_473 : BitVec 32 := 1#32
  let arg14 : BitVec 32 := Scf.iv arg13 c1_i32_473 k0_t79
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off228 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t79 : Fin (k0_t79_loop v16 v31 v68 v105 v142 v179 v216 v253 v290 v327 v364 v401 v438 v475 arg13).trips) : Fin 2 → Nat :=
  let c1_i32_473 : BitVec 32 := 1#32
  let arg14 : BitVec 32 := Scf.iv arg13 c1_i32_473 k0_t79
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off229 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t79 : Fin (k0_t79_loop v16 v31 v68 v105 v142 v179 v216 v253 v290 v327 v364 v401 v438 v475 arg13).trips) : Fin 2 → Nat :=
  let c1_i32_473 : BitVec 32 := 1#32
  let arg14 : BitVec 32 := Scf.iv arg13 c1_i32_473 k0_t79
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off230 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t79 : Fin (k0_t79_loop v16 v31 v68 v105 v142 v179 v216 v253 v290 v327 v364 v401 v438 v475 arg13).trips) : Fin 2 → Nat :=
  let c1_i32_473 : BitVec 32 := 1#32
  let arg14 : BitVec 32 := Scf.iv arg13 c1_i32_473 k0_t79
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t80_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off231 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t80 : Fin (k0_t80_loop v16 v31 v68 v105 v142 v179 v216 v253 v290 v327 v364 v401 v438 v475 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t80
  let v1224 : BitVec 32 := Scalar.subi arg14 v1213
  let v1225 : Index := Scalar.indexCast v1224
  let c0_475 : Index := 0#32
  ![v1225.toNat, 0]
def k0_off232 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t80 : Fin (k0_t80_loop v16 v31 v68 v105 v142 v179 v216 v253 v290 v327 v364 v401 v438 v475 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t80
  let v1224 : BitVec 32 := Scalar.subi arg14 v1213
  let v1228 : Index := Scalar.indexCast v1224
  let c16_476 : Index := 16#32
  ![v1228.toNat, 16]
def k0_off233 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t80 : Fin (k0_t80_loop v16 v31 v68 v105 v142 v179 v216 v253 v290 v327 v364 v401 v438 v475 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t80
  let v1224 : BitVec 32 := Scalar.subi arg14 v1213
  let v1231 : Index := Scalar.indexCast v1224
  let c32_477 : Index := 32#32
  ![v1231.toNat, 32]
def k0_off234 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_t80 : Fin (k0_t80_loop v16 v31 v68 v105 v142 v179 v216 v253 v290 v327 v364 v401 v438 v475 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v476 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t80
  let v1224 : BitVec 32 := Scalar.subi arg14 v1213
  let v1234 : Index := Scalar.indexCast v1224
  let c48_478 : Index := 48#32
  ![v1234.toNat, 48]

def k0_chk43 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) : Prop :=
  (8 ∣ (k0_mult26 arg13).toNat) ∧
  (∀ a, (k0_off226 arg13) a + S512x128.size a ≤ S320000x128.size a) ∧
  ((k0_t79_loop v16 v31 v68 v105 v142 v179 v216 v253 v290 v327 v364 v401 v438 v475 arg13).OK) ∧
  (∀ k0_t79 : Fin (k0_t79_loop v16 v31 v68 v105 v142 v179 v216 v253 v290 v327 v364 v401 v438 v475 arg13).trips, ∀ a, (k0_off227 v16 v31 v68 v105 v142 v179 v216 v253 v290 v327 v364 v401 v438 v475 arg13 k0_t79) a + S1x16.size a ≤ S512x128.size a) ∧
  (∀ k0_t79 : Fin (k0_t79_loop v16 v31 v68 v105 v142 v179 v216 v253 v290 v327 v364 v401 v438 v475 arg13).trips, ∀ a, (k0_off228 v16 v31 v68 v105 v142 v179 v216 v253 v290 v327 v364 v401 v438 v475 arg13 k0_t79) a + S1x16.size a ≤ S512x128.size a) ∧
  (∀ k0_t79 : Fin (k0_t79_loop v16 v31 v68 v105 v142 v179 v216 v253 v290 v327 v364 v401 v438 v475 arg13).trips, ∀ a, (k0_off229 v16 v31 v68 v105 v142 v179 v216 v253 v290 v327 v364 v401 v438 v475 arg13 k0_t79) a + S1x16.size a ≤ S512x128.size a) ∧
  (∀ k0_t79 : Fin (k0_t79_loop v16 v31 v68 v105 v142 v179 v216 v253 v290 v327 v364 v401 v438 v475 arg13).trips, ∀ a, (k0_off230 v16 v31 v68 v105 v142 v179 v216 v253 v290 v327 v364 v401 v438 v475 arg13 k0_t79) a + S1x16.size a ≤ S512x128.size a) ∧
  ((k0_t80_loop v16 v31 v68 v105 v142 v179 v216 v253 v290 v327 v364 v401 v438 v475 arg13).OK) ∧
  (∀ k0_t80 : Fin (k0_t80_loop v16 v31 v68 v105 v142 v179 v216 v253 v290 v327 v364 v401 v438 v475 arg13).trips, ∀ a, (k0_off231 v16 v31 v68 v105 v142 v179 v216 v253 v290 v327 v364 v401 v438 v475 arg13 k0_t80) a + S1x16.size a ≤ S512x128.size a) ∧
  (∀ k0_t80 : Fin (k0_t80_loop v16 v31 v68 v105 v142 v179 v216 v253 v290 v327 v364 v401 v438 v475 arg13).trips, ∀ a, (k0_off232 v16 v31 v68 v105 v142 v179 v216 v253 v290 v327 v364 v401 v438 v475 arg13 k0_t80) a + S1x16.size a ≤ S512x128.size a) ∧
  (∀ k0_t80 : Fin (k0_t80_loop v16 v31 v68 v105 v142 v179 v216 v253 v290 v327 v364 v401 v438 v475 arg13).trips, ∀ a, (k0_off233 v16 v31 v68 v105 v142 v179 v216 v253 v290 v327 v364 v401 v438 v475 arg13 k0_t80) a + S1x16.size a ≤ S512x128.size a) ∧
  (∀ k0_t80 : Fin (k0_t80_loop v16 v31 v68 v105 v142 v179 v216 v253 v290 v327 v364 v401 v438 v475 arg13).trips, ∀ a, (k0_off234 v16 v31 v68 v105 v142 v179 v216 v253 v290 v327 v364 v401 v438 v475 arg13 k0_t80) a + S1x16.size a ≤ S512x128.size a)
theorem k0_mult26_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13), 8 ∣ (k0_mult26 arg13).toNat := fun v16 v31 v68 v105 v142 v179 v216 v253 v290 v327 v364 v401 v438 v475 arg13 k0_hw43 => k0_hw43.1
theorem k0_off226_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13), ∀ a, (k0_off226 arg13) a + S512x128.size a ≤ S320000x128.size a := fun v16 v31 v68 v105 v142 v179 v216 v253 v290 v327 v364 v401 v438 v475 arg13 k0_hw43 => k0_hw43.2.1
theorem k0_t79_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13), (k0_t79_loop v16 v31 v68 v105 v142 v179 v216 v253 v290 v327 v364 v401 v438 v475 arg13).OK := fun v16 v31 v68 v105 v142 v179 v216 v253 v290 v327 v364 v401 v438 v475 arg13 k0_hw43 => k0_hw43.2.2.1
theorem k0_off227_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13) (k0_t79 : Fin (k0_t79_loop v16 v31 v68 v105 v142 v179 v216 v253 v290 v327 v364 v401 v438 v475 arg13).trips), ∀ a, (k0_off227 v16 v31 v68 v105 v142 v179 v216 v253 v290 v327 v364 v401 v438 v475 arg13 k0_t79) a + S1x16.size a ≤ S512x128.size a := fun v16 v31 v68 v105 v142 v179 v216 v253 v290 v327 v364 v401 v438 v475 arg13 k0_hw43 k0_t79 => k0_hw43.2.2.2.1 k0_t79
theorem k0_off228_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13) (k0_t79 : Fin (k0_t79_loop v16 v31 v68 v105 v142 v179 v216 v253 v290 v327 v364 v401 v438 v475 arg13).trips), ∀ a, (k0_off228 v16 v31 v68 v105 v142 v179 v216 v253 v290 v327 v364 v401 v438 v475 arg13 k0_t79) a + S1x16.size a ≤ S512x128.size a := fun v16 v31 v68 v105 v142 v179 v216 v253 v290 v327 v364 v401 v438 v475 arg13 k0_hw43 k0_t79 => k0_hw43.2.2.2.2.1 k0_t79
theorem k0_off229_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13) (k0_t79 : Fin (k0_t79_loop v16 v31 v68 v105 v142 v179 v216 v253 v290 v327 v364 v401 v438 v475 arg13).trips), ∀ a, (k0_off229 v16 v31 v68 v105 v142 v179 v216 v253 v290 v327 v364 v401 v438 v475 arg13 k0_t79) a + S1x16.size a ≤ S512x128.size a := fun v16 v31 v68 v105 v142 v179 v216 v253 v290 v327 v364 v401 v438 v475 arg13 k0_hw43 k0_t79 => k0_hw43.2.2.2.2.2.1 k0_t79
theorem k0_off230_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13) (k0_t79 : Fin (k0_t79_loop v16 v31 v68 v105 v142 v179 v216 v253 v290 v327 v364 v401 v438 v475 arg13).trips), ∀ a, (k0_off230 v16 v31 v68 v105 v142 v179 v216 v253 v290 v327 v364 v401 v438 v475 arg13 k0_t79) a + S1x16.size a ≤ S512x128.size a := fun v16 v31 v68 v105 v142 v179 v216 v253 v290 v327 v364 v401 v438 v475 arg13 k0_hw43 k0_t79 => k0_hw43.2.2.2.2.2.2.1 k0_t79
theorem k0_t80_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13), (k0_t80_loop v16 v31 v68 v105 v142 v179 v216 v253 v290 v327 v364 v401 v438 v475 arg13).OK := fun v16 v31 v68 v105 v142 v179 v216 v253 v290 v327 v364 v401 v438 v475 arg13 k0_hw43 => k0_hw43.2.2.2.2.2.2.2.1
theorem k0_off231_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13) (k0_t80 : Fin (k0_t80_loop v16 v31 v68 v105 v142 v179 v216 v253 v290 v327 v364 v401 v438 v475 arg13).trips), ∀ a, (k0_off231 v16 v31 v68 v105 v142 v179 v216 v253 v290 v327 v364 v401 v438 v475 arg13 k0_t80) a + S1x16.size a ≤ S512x128.size a := fun v16 v31 v68 v105 v142 v179 v216 v253 v290 v327 v364 v401 v438 v475 arg13 k0_hw43 k0_t80 => k0_hw43.2.2.2.2.2.2.2.2.1 k0_t80
theorem k0_off232_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13) (k0_t80 : Fin (k0_t80_loop v16 v31 v68 v105 v142 v179 v216 v253 v290 v327 v364 v401 v438 v475 arg13).trips), ∀ a, (k0_off232 v16 v31 v68 v105 v142 v179 v216 v253 v290 v327 v364 v401 v438 v475 arg13 k0_t80) a + S1x16.size a ≤ S512x128.size a := fun v16 v31 v68 v105 v142 v179 v216 v253 v290 v327 v364 v401 v438 v475 arg13 k0_hw43 k0_t80 => k0_hw43.2.2.2.2.2.2.2.2.2.1 k0_t80
theorem k0_off233_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13) (k0_t80 : Fin (k0_t80_loop v16 v31 v68 v105 v142 v179 v216 v253 v290 v327 v364 v401 v438 v475 arg13).trips), ∀ a, (k0_off233 v16 v31 v68 v105 v142 v179 v216 v253 v290 v327 v364 v401 v438 v475 arg13 k0_t80) a + S1x16.size a ≤ S512x128.size a := fun v16 v31 v68 v105 v142 v179 v216 v253 v290 v327 v364 v401 v438 v475 arg13 k0_hw43 k0_t80 => k0_hw43.2.2.2.2.2.2.2.2.2.2.1 k0_t80
theorem k0_off234_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (arg13 : BitVec 32) (k0_hw43 : k0_chk43 v16 v31 v68 v105 v142 v179 v216 v253 v290 v327 v364 v401 v438 v475 arg13) (k0_t80 : Fin (k0_t80_loop v16 v31 v68 v105 v142 v179 v216 v253 v290 v327 v364 v401 v438 v475 arg13).trips), ∀ a, (k0_off234 v16 v31 v68 v105 v142 v179 v216 v253 v290 v327 v364 v401 v438 v475 arg13 k0_t80) a + S1x16.size a ≤ S512x128.size a := fun v16 v31 v68 v105 v142 v179 v216 v253 v290 v327 v364 v401 v438 v475 arg13 k0_hw43 k0_t80 => k0_hw43.2.2.2.2.2.2.2.2.2.2.2 k0_t80

@[reducible] def k0_t81_loop (v512 : BitVec 32) : Scf.Loop 32 :=
  let c0_i32_199 : BitVec 32 := 0#32
  let c0_i32_192 : BitVec 32 := 0#32
  let v515 : BitVec 1 := Scalar.cmpi .sgt v512 c0_i32_192
  let v516 : BitVec 32 := Scalar.extui v515
  let c0_i32_193 : BitVec 32 := 0#32
  let v517 : BitVec 1 := Scalar.cmpi .slt v512 c0_i32_193
  let v518 : BitVec 32 := Scalar.extui v517
  let v519 : BitVec 32 := Scalar.subi v516 v518
  let c504_i32_191 : BitVec 32 := 504#32
  let c0_i32_194 : BitVec 32 := 0#32
  let v520 : BitVec 1 := Scalar.cmpi .sgt c504_i32_191 c0_i32_194
  let v521 : BitVec 32 := Scalar.extui v520
  let c0_i32_195 : BitVec 32 := 0#32
  let v522 : BitVec 1 := Scalar.cmpi .slt c504_i32_191 c0_i32_195
  let v523 : BitVec 32 := Scalar.extui v522
  let v524 : BitVec 32 := Scalar.subi v521 v523
  let v525 : BitVec 1 := Scalar.cmpi .ne v519 v524
  let v526 : BitVec 32 := Scalar.remsi v512 c504_i32_191
  let c0_i32_196 : BitVec 32 := 0#32
  let v527 : BitVec 1 := Scalar.cmpi .ne v526 c0_i32_196
  let v528 : BitVec 1 := Scalar.andi v525 v527
  let v514 : BitVec 32 := Scalar.divsi v512 c504_i32_191
  let c1_i32_197 : BitVec 32 := 1#32
  let v529 : BitVec 32 := Scalar.subi v514 c1_i32_197
  let v530 : BitVec 32 := Scalar.select v528 v529 v514
  let c1_i32_198 : BitVec 32 := 1#32
  let v531 : BitVec 32 := Scalar.addi v530 c1_i32_198
  let v532 : BitVec 32 := Scalar.subi v531 c0_i32_199
  let c1_i32_200 : BitVec 32 := 1#32
  let v534 : BitVec 32 := Scalar.divsi v532 c1_i32_200
  let v535 : BitVec 32 := Scalar.muli v534 c1_i32_200
  let v536 : BitVec 32 := Scalar.addi c0_i32_199 v535
  let c1_i32_201 : BitVec 32 := 1#32
  ⟨c0_i32_199, v536, c1_i32_201⟩

def k0_mult27 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off235 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r27 : BitVec 32 := 0#32
  ![v1213.toNat, 0]
@[reducible] def k0_t82_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off236 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t82 : Fin (k0_t82_loop v16 v31 v68 v105 v142 v179 v216 v253 v290 v327 v364 v401 v438 v475 v512 arg13).trips) : Fin 2 → Nat :=
  let c1_i32_473 : BitVec 32 := 1#32
  let arg14 : BitVec 32 := Scf.iv arg13 c1_i32_473 k0_t82
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off237 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t82 : Fin (k0_t82_loop v16 v31 v68 v105 v142 v179 v216 v253 v290 v327 v364 v401 v438 v475 v512 arg13).trips) : Fin 2 → Nat :=
  let c1_i32_473 : BitVec 32 := 1#32
  let arg14 : BitVec 32 := Scf.iv arg13 c1_i32_473 k0_t82
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off238 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t82 : Fin (k0_t82_loop v16 v31 v68 v105 v142 v179 v216 v253 v290 v327 v364 v401 v438 v475 v512 arg13).trips) : Fin 2 → Nat :=
  let c1_i32_473 : BitVec 32 := 1#32
  let arg14 : BitVec 32 := Scf.iv arg13 c1_i32_473 k0_t82
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off239 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t82 : Fin (k0_t82_loop v16 v31 v68 v105 v142 v179 v216 v253 v290 v327 v364 v401 v438 v475 v512 arg13).trips) : Fin 2 → Nat :=
  let c1_i32_473 : BitVec 32 := 1#32
  let arg14 : BitVec 32 := Scf.iv arg13 c1_i32_473 k0_t82
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t83_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off240 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t83 : Fin (k0_t83_loop v16 v31 v68 v105 v142 v179 v216 v253 v290 v327 v364 v401 v438 v475 v512 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t83
  let v1224 : BitVec 32 := Scalar.subi arg14 v1213
  let v1225 : Index := Scalar.indexCast v1224
  let c0_475 : Index := 0#32
  ![v1225.toNat, 0]
def k0_off241 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t83 : Fin (k0_t83_loop v16 v31 v68 v105 v142 v179 v216 v253 v290 v327 v364 v401 v438 v475 v512 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t83
  let v1224 : BitVec 32 := Scalar.subi arg14 v1213
  let v1228 : Index := Scalar.indexCast v1224
  let c16_476 : Index := 16#32
  ![v1228.toNat, 16]
def k0_off242 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t83 : Fin (k0_t83_loop v16 v31 v68 v105 v142 v179 v216 v253 v290 v327 v364 v401 v438 v475 v512 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t83
  let v1224 : BitVec 32 := Scalar.subi arg14 v1213
  let v1231 : Index := Scalar.indexCast v1224
  let c32_477 : Index := 32#32
  ![v1231.toNat, 32]
def k0_off243 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t83 : Fin (k0_t83_loop v16 v31 v68 v105 v142 v179 v216 v253 v290 v327 v364 v401 v438 v475 v512 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t83
  let v1224 : BitVec 32 := Scalar.subi arg14 v1213
  let v1234 : Index := Scalar.indexCast v1224
  let c48_478 : Index := 48#32
  ![v1234.toNat, 48]

def k0_chk45 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) : Prop :=
  (8 ∣ (k0_mult27 arg13).toNat) ∧
  (∀ a, (k0_off235 arg13) a + S512x128.size a ≤ S320000x128.size a) ∧
  ((k0_t82_loop v16 v31 v68 v105 v142 v179 v216 v253 v290 v327 v364 v401 v438 v475 v512 arg13).OK) ∧
  (∀ k0_t82 : Fin (k0_t82_loop v16 v31 v68 v105 v142 v179 v216 v253 v290 v327 v364 v401 v438 v475 v512 arg13).trips, ∀ a, (k0_off236 v16 v31 v68 v105 v142 v179 v216 v253 v290 v327 v364 v401 v438 v475 v512 arg13 k0_t82) a + S1x16.size a ≤ S512x128.size a) ∧
  (∀ k0_t82 : Fin (k0_t82_loop v16 v31 v68 v105 v142 v179 v216 v253 v290 v327 v364 v401 v438 v475 v512 arg13).trips, ∀ a, (k0_off237 v16 v31 v68 v105 v142 v179 v216 v253 v290 v327 v364 v401 v438 v475 v512 arg13 k0_t82) a + S1x16.size a ≤ S512x128.size a) ∧
  (∀ k0_t82 : Fin (k0_t82_loop v16 v31 v68 v105 v142 v179 v216 v253 v290 v327 v364 v401 v438 v475 v512 arg13).trips, ∀ a, (k0_off238 v16 v31 v68 v105 v142 v179 v216 v253 v290 v327 v364 v401 v438 v475 v512 arg13 k0_t82) a + S1x16.size a ≤ S512x128.size a) ∧
  (∀ k0_t82 : Fin (k0_t82_loop v16 v31 v68 v105 v142 v179 v216 v253 v290 v327 v364 v401 v438 v475 v512 arg13).trips, ∀ a, (k0_off239 v16 v31 v68 v105 v142 v179 v216 v253 v290 v327 v364 v401 v438 v475 v512 arg13 k0_t82) a + S1x16.size a ≤ S512x128.size a) ∧
  ((k0_t83_loop v16 v31 v68 v105 v142 v179 v216 v253 v290 v327 v364 v401 v438 v475 v512 arg13).OK) ∧
  (∀ k0_t83 : Fin (k0_t83_loop v16 v31 v68 v105 v142 v179 v216 v253 v290 v327 v364 v401 v438 v475 v512 arg13).trips, ∀ a, (k0_off240 v16 v31 v68 v105 v142 v179 v216 v253 v290 v327 v364 v401 v438 v475 v512 arg13 k0_t83) a + S1x16.size a ≤ S512x128.size a) ∧
  (∀ k0_t83 : Fin (k0_t83_loop v16 v31 v68 v105 v142 v179 v216 v253 v290 v327 v364 v401 v438 v475 v512 arg13).trips, ∀ a, (k0_off241 v16 v31 v68 v105 v142 v179 v216 v253 v290 v327 v364 v401 v438 v475 v512 arg13 k0_t83) a + S1x16.size a ≤ S512x128.size a) ∧
  (∀ k0_t83 : Fin (k0_t83_loop v16 v31 v68 v105 v142 v179 v216 v253 v290 v327 v364 v401 v438 v475 v512 arg13).trips, ∀ a, (k0_off242 v16 v31 v68 v105 v142 v179 v216 v253 v290 v327 v364 v401 v438 v475 v512 arg13 k0_t83) a + S1x16.size a ≤ S512x128.size a) ∧
  (∀ k0_t83 : Fin (k0_t83_loop v16 v31 v68 v105 v142 v179 v216 v253 v290 v327 v364 v401 v438 v475 v512 arg13).trips, ∀ a, (k0_off243 v16 v31 v68 v105 v142 v179 v216 v253 v290 v327 v364 v401 v438 v475 v512 arg13 k0_t83) a + S1x16.size a ≤ S512x128.size a)
theorem k0_mult27_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13), 8 ∣ (k0_mult27 arg13).toNat := fun v16 v31 v68 v105 v142 v179 v216 v253 v290 v327 v364 v401 v438 v475 v512 arg13 k0_hw45 => k0_hw45.1
theorem k0_off235_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13), ∀ a, (k0_off235 arg13) a + S512x128.size a ≤ S320000x128.size a := fun v16 v31 v68 v105 v142 v179 v216 v253 v290 v327 v364 v401 v438 v475 v512 arg13 k0_hw45 => k0_hw45.2.1
theorem k0_t82_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13), (k0_t82_loop v16 v31 v68 v105 v142 v179 v216 v253 v290 v327 v364 v401 v438 v475 v512 arg13).OK := fun v16 v31 v68 v105 v142 v179 v216 v253 v290 v327 v364 v401 v438 v475 v512 arg13 k0_hw45 => k0_hw45.2.2.1
theorem k0_off236_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13) (k0_t82 : Fin (k0_t82_loop v16 v31 v68 v105 v142 v179 v216 v253 v290 v327 v364 v401 v438 v475 v512 arg13).trips), ∀ a, (k0_off236 v16 v31 v68 v105 v142 v179 v216 v253 v290 v327 v364 v401 v438 v475 v512 arg13 k0_t82) a + S1x16.size a ≤ S512x128.size a := fun v16 v31 v68 v105 v142 v179 v216 v253 v290 v327 v364 v401 v438 v475 v512 arg13 k0_hw45 k0_t82 => k0_hw45.2.2.2.1 k0_t82
theorem k0_off237_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13) (k0_t82 : Fin (k0_t82_loop v16 v31 v68 v105 v142 v179 v216 v253 v290 v327 v364 v401 v438 v475 v512 arg13).trips), ∀ a, (k0_off237 v16 v31 v68 v105 v142 v179 v216 v253 v290 v327 v364 v401 v438 v475 v512 arg13 k0_t82) a + S1x16.size a ≤ S512x128.size a := fun v16 v31 v68 v105 v142 v179 v216 v253 v290 v327 v364 v401 v438 v475 v512 arg13 k0_hw45 k0_t82 => k0_hw45.2.2.2.2.1 k0_t82
theorem k0_off238_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13) (k0_t82 : Fin (k0_t82_loop v16 v31 v68 v105 v142 v179 v216 v253 v290 v327 v364 v401 v438 v475 v512 arg13).trips), ∀ a, (k0_off238 v16 v31 v68 v105 v142 v179 v216 v253 v290 v327 v364 v401 v438 v475 v512 arg13 k0_t82) a + S1x16.size a ≤ S512x128.size a := fun v16 v31 v68 v105 v142 v179 v216 v253 v290 v327 v364 v401 v438 v475 v512 arg13 k0_hw45 k0_t82 => k0_hw45.2.2.2.2.2.1 k0_t82
theorem k0_off239_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13) (k0_t82 : Fin (k0_t82_loop v16 v31 v68 v105 v142 v179 v216 v253 v290 v327 v364 v401 v438 v475 v512 arg13).trips), ∀ a, (k0_off239 v16 v31 v68 v105 v142 v179 v216 v253 v290 v327 v364 v401 v438 v475 v512 arg13 k0_t82) a + S1x16.size a ≤ S512x128.size a := fun v16 v31 v68 v105 v142 v179 v216 v253 v290 v327 v364 v401 v438 v475 v512 arg13 k0_hw45 k0_t82 => k0_hw45.2.2.2.2.2.2.1 k0_t82
theorem k0_t83_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13), (k0_t83_loop v16 v31 v68 v105 v142 v179 v216 v253 v290 v327 v364 v401 v438 v475 v512 arg13).OK := fun v16 v31 v68 v105 v142 v179 v216 v253 v290 v327 v364 v401 v438 v475 v512 arg13 k0_hw45 => k0_hw45.2.2.2.2.2.2.2.1
theorem k0_off240_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13) (k0_t83 : Fin (k0_t83_loop v16 v31 v68 v105 v142 v179 v216 v253 v290 v327 v364 v401 v438 v475 v512 arg13).trips), ∀ a, (k0_off240 v16 v31 v68 v105 v142 v179 v216 v253 v290 v327 v364 v401 v438 v475 v512 arg13 k0_t83) a + S1x16.size a ≤ S512x128.size a := fun v16 v31 v68 v105 v142 v179 v216 v253 v290 v327 v364 v401 v438 v475 v512 arg13 k0_hw45 k0_t83 => k0_hw45.2.2.2.2.2.2.2.2.1 k0_t83
theorem k0_off241_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13) (k0_t83 : Fin (k0_t83_loop v16 v31 v68 v105 v142 v179 v216 v253 v290 v327 v364 v401 v438 v475 v512 arg13).trips), ∀ a, (k0_off241 v16 v31 v68 v105 v142 v179 v216 v253 v290 v327 v364 v401 v438 v475 v512 arg13 k0_t83) a + S1x16.size a ≤ S512x128.size a := fun v16 v31 v68 v105 v142 v179 v216 v253 v290 v327 v364 v401 v438 v475 v512 arg13 k0_hw45 k0_t83 => k0_hw45.2.2.2.2.2.2.2.2.2.1 k0_t83
theorem k0_off242_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13) (k0_t83 : Fin (k0_t83_loop v16 v31 v68 v105 v142 v179 v216 v253 v290 v327 v364 v401 v438 v475 v512 arg13).trips), ∀ a, (k0_off242 v16 v31 v68 v105 v142 v179 v216 v253 v290 v327 v364 v401 v438 v475 v512 arg13 k0_t83) a + S1x16.size a ≤ S512x128.size a := fun v16 v31 v68 v105 v142 v179 v216 v253 v290 v327 v364 v401 v438 v475 v512 arg13 k0_hw45 k0_t83 => k0_hw45.2.2.2.2.2.2.2.2.2.2.1 k0_t83
theorem k0_off243_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw45 : k0_chk45 v16 v31 v68 v105 v142 v179 v216 v253 v290 v327 v364 v401 v438 v475 v512 arg13) (k0_t83 : Fin (k0_t83_loop v16 v31 v68 v105 v142 v179 v216 v253 v290 v327 v364 v401 v438 v475 v512 arg13).trips), ∀ a, (k0_off243 v16 v31 v68 v105 v142 v179 v216 v253 v290 v327 v364 v401 v438 v475 v512 arg13 k0_t83) a + S1x16.size a ≤ S512x128.size a := fun v16 v31 v68 v105 v142 v179 v216 v253 v290 v327 v364 v401 v438 v475 v512 arg13 k0_hw45 k0_t83 => k0_hw45.2.2.2.2.2.2.2.2.2.2.2 k0_t83

@[reducible] def k0_t84_loop (v512 : BitVec 32) : Scf.Loop 32 :=
  let c0_i32_199 : BitVec 32 := 0#32
  let c0_i32_192 : BitVec 32 := 0#32
  let v515 : BitVec 1 := Scalar.cmpi .sgt v512 c0_i32_192
  let v516 : BitVec 32 := Scalar.extui v515
  let c0_i32_193 : BitVec 32 := 0#32
  let v517 : BitVec 1 := Scalar.cmpi .slt v512 c0_i32_193
  let v518 : BitVec 32 := Scalar.extui v517
  let v519 : BitVec 32 := Scalar.subi v516 v518
  let c504_i32_191 : BitVec 32 := 504#32
  let c0_i32_194 : BitVec 32 := 0#32
  let v520 : BitVec 1 := Scalar.cmpi .sgt c504_i32_191 c0_i32_194
  let v521 : BitVec 32 := Scalar.extui v520
  let c0_i32_195 : BitVec 32 := 0#32
  let v522 : BitVec 1 := Scalar.cmpi .slt c504_i32_191 c0_i32_195
  let v523 : BitVec 32 := Scalar.extui v522
  let v524 : BitVec 32 := Scalar.subi v521 v523
  let v525 : BitVec 1 := Scalar.cmpi .ne v519 v524
  let v526 : BitVec 32 := Scalar.remsi v512 c504_i32_191
  let c0_i32_196 : BitVec 32 := 0#32
  let v527 : BitVec 1 := Scalar.cmpi .ne v526 c0_i32_196
  let v528 : BitVec 1 := Scalar.andi v525 v527
  let v514 : BitVec 32 := Scalar.divsi v512 c504_i32_191
  let c1_i32_197 : BitVec 32 := 1#32
  let v529 : BitVec 32 := Scalar.subi v514 c1_i32_197
  let v530 : BitVec 32 := Scalar.select v528 v529 v514
  let c1_i32_198 : BitVec 32 := 1#32
  let v531 : BitVec 32 := Scalar.addi v530 c1_i32_198
  let v532 : BitVec 32 := Scalar.subi v531 c0_i32_199
  let c1_i32_200 : BitVec 32 := 1#32
  let v534 : BitVec 32 := Scalar.divsi v532 c1_i32_200
  let v535 : BitVec 32 := Scalar.muli v534 c1_i32_200
  let v536 : BitVec 32 := Scalar.addi c0_i32_199 v535
  let v533 : BitVec 32 := Scalar.addi c0_i32_199 v532
  let c1_i32_202 : BitVec 32 := 1#32
  ⟨v536, v533, c1_i32_202⟩

def k0_chk44 (v512 : BitVec 32) : Prop :=
  ((k0_t81_loop v512).OK) ∧
  ((k0_t84_loop v512).OK)
theorem k0_t81_ok : ∀ (v512 : BitVec 32) (k0_hw44 : k0_chk44 v512), (k0_t81_loop v512).OK := fun v512 k0_hw44 => k0_hw44.1
theorem k0_t84_ok : ∀ (v512 : BitVec 32) (k0_hw44 : k0_chk44 v512), (k0_t84_loop v512).OK := fun v512 k0_hw44 => k0_hw44.2

def k0_mult28 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off244 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r28 : BitVec 32 := 0#32
  ![v1213.toNat, 0]
@[reducible] def k0_t85_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off245 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t85 : Fin (k0_t85_loop v16 v31 v68 v105 v142 v179 v216 v253 v290 v327 v364 v401 v438 v475 v512 arg13).trips) : Fin 2 → Nat :=
  let c1_i32_473 : BitVec 32 := 1#32
  let arg14 : BitVec 32 := Scf.iv arg13 c1_i32_473 k0_t85
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off246 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t85 : Fin (k0_t85_loop v16 v31 v68 v105 v142 v179 v216 v253 v290 v327 v364 v401 v438 v475 v512 arg13).trips) : Fin 2 → Nat :=
  let c1_i32_473 : BitVec 32 := 1#32
  let arg14 : BitVec 32 := Scf.iv arg13 c1_i32_473 k0_t85
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off247 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t85 : Fin (k0_t85_loop v16 v31 v68 v105 v142 v179 v216 v253 v290 v327 v364 v401 v438 v475 v512 arg13).trips) : Fin 2 → Nat :=
  let c1_i32_473 : BitVec 32 := 1#32
  let arg14 : BitVec 32 := Scf.iv arg13 c1_i32_473 k0_t85
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off248 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t85 : Fin (k0_t85_loop v16 v31 v68 v105 v142 v179 v216 v253 v290 v327 v364 v401 v438 v475 v512 arg13).trips) : Fin 2 → Nat :=
  let c1_i32_473 : BitVec 32 := 1#32
  let arg14 : BitVec 32 := Scf.iv arg13 c1_i32_473 k0_t85
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t86_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off249 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t86 : Fin (k0_t86_loop v16 v31 v68 v105 v142 v179 v216 v253 v290 v327 v364 v401 v438 v475 v512 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t86
  let v1224 : BitVec 32 := Scalar.subi arg14 v1213
  let v1225 : Index := Scalar.indexCast v1224
  let c0_475 : Index := 0#32
  ![v1225.toNat, 0]
def k0_off250 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t86 : Fin (k0_t86_loop v16 v31 v68 v105 v142 v179 v216 v253 v290 v327 v364 v401 v438 v475 v512 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t86
  let v1224 : BitVec 32 := Scalar.subi arg14 v1213
  let v1228 : Index := Scalar.indexCast v1224
  let c16_476 : Index := 16#32
  ![v1228.toNat, 16]
def k0_off251 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t86 : Fin (k0_t86_loop v16 v31 v68 v105 v142 v179 v216 v253 v290 v327 v364 v401 v438 v475 v512 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t86
  let v1224 : BitVec 32 := Scalar.subi arg14 v1213
  let v1231 : Index := Scalar.indexCast v1224
  let c32_477 : Index := 32#32
  ![v1231.toNat, 32]
def k0_off252 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_t86 : Fin (k0_t86_loop v16 v31 v68 v105 v142 v179 v216 v253 v290 v327 v364 v401 v438 v475 v512 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v513 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t86
  let v1224 : BitVec 32 := Scalar.subi arg14 v1213
  let v1234 : Index := Scalar.indexCast v1224
  let c48_478 : Index := 48#32
  ![v1234.toNat, 48]

def k0_chk46 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) : Prop :=
  (8 ∣ (k0_mult28 arg13).toNat) ∧
  (∀ a, (k0_off244 arg13) a + S512x128.size a ≤ S320000x128.size a) ∧
  ((k0_t85_loop v16 v31 v68 v105 v142 v179 v216 v253 v290 v327 v364 v401 v438 v475 v512 arg13).OK) ∧
  (∀ k0_t85 : Fin (k0_t85_loop v16 v31 v68 v105 v142 v179 v216 v253 v290 v327 v364 v401 v438 v475 v512 arg13).trips, ∀ a, (k0_off245 v16 v31 v68 v105 v142 v179 v216 v253 v290 v327 v364 v401 v438 v475 v512 arg13 k0_t85) a + S1x16.size a ≤ S512x128.size a) ∧
  (∀ k0_t85 : Fin (k0_t85_loop v16 v31 v68 v105 v142 v179 v216 v253 v290 v327 v364 v401 v438 v475 v512 arg13).trips, ∀ a, (k0_off246 v16 v31 v68 v105 v142 v179 v216 v253 v290 v327 v364 v401 v438 v475 v512 arg13 k0_t85) a + S1x16.size a ≤ S512x128.size a) ∧
  (∀ k0_t85 : Fin (k0_t85_loop v16 v31 v68 v105 v142 v179 v216 v253 v290 v327 v364 v401 v438 v475 v512 arg13).trips, ∀ a, (k0_off247 v16 v31 v68 v105 v142 v179 v216 v253 v290 v327 v364 v401 v438 v475 v512 arg13 k0_t85) a + S1x16.size a ≤ S512x128.size a) ∧
  (∀ k0_t85 : Fin (k0_t85_loop v16 v31 v68 v105 v142 v179 v216 v253 v290 v327 v364 v401 v438 v475 v512 arg13).trips, ∀ a, (k0_off248 v16 v31 v68 v105 v142 v179 v216 v253 v290 v327 v364 v401 v438 v475 v512 arg13 k0_t85) a + S1x16.size a ≤ S512x128.size a) ∧
  ((k0_t86_loop v16 v31 v68 v105 v142 v179 v216 v253 v290 v327 v364 v401 v438 v475 v512 arg13).OK) ∧
  (∀ k0_t86 : Fin (k0_t86_loop v16 v31 v68 v105 v142 v179 v216 v253 v290 v327 v364 v401 v438 v475 v512 arg13).trips, ∀ a, (k0_off249 v16 v31 v68 v105 v142 v179 v216 v253 v290 v327 v364 v401 v438 v475 v512 arg13 k0_t86) a + S1x16.size a ≤ S512x128.size a) ∧
  (∀ k0_t86 : Fin (k0_t86_loop v16 v31 v68 v105 v142 v179 v216 v253 v290 v327 v364 v401 v438 v475 v512 arg13).trips, ∀ a, (k0_off250 v16 v31 v68 v105 v142 v179 v216 v253 v290 v327 v364 v401 v438 v475 v512 arg13 k0_t86) a + S1x16.size a ≤ S512x128.size a) ∧
  (∀ k0_t86 : Fin (k0_t86_loop v16 v31 v68 v105 v142 v179 v216 v253 v290 v327 v364 v401 v438 v475 v512 arg13).trips, ∀ a, (k0_off251 v16 v31 v68 v105 v142 v179 v216 v253 v290 v327 v364 v401 v438 v475 v512 arg13 k0_t86) a + S1x16.size a ≤ S512x128.size a) ∧
  (∀ k0_t86 : Fin (k0_t86_loop v16 v31 v68 v105 v142 v179 v216 v253 v290 v327 v364 v401 v438 v475 v512 arg13).trips, ∀ a, (k0_off252 v16 v31 v68 v105 v142 v179 v216 v253 v290 v327 v364 v401 v438 v475 v512 arg13 k0_t86) a + S1x16.size a ≤ S512x128.size a)
theorem k0_mult28_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13), 8 ∣ (k0_mult28 arg13).toNat := fun v16 v31 v68 v105 v142 v179 v216 v253 v290 v327 v364 v401 v438 v475 v512 arg13 k0_hw46 => k0_hw46.1
theorem k0_off244_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13), ∀ a, (k0_off244 arg13) a + S512x128.size a ≤ S320000x128.size a := fun v16 v31 v68 v105 v142 v179 v216 v253 v290 v327 v364 v401 v438 v475 v512 arg13 k0_hw46 => k0_hw46.2.1
theorem k0_t85_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13), (k0_t85_loop v16 v31 v68 v105 v142 v179 v216 v253 v290 v327 v364 v401 v438 v475 v512 arg13).OK := fun v16 v31 v68 v105 v142 v179 v216 v253 v290 v327 v364 v401 v438 v475 v512 arg13 k0_hw46 => k0_hw46.2.2.1
theorem k0_off245_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13) (k0_t85 : Fin (k0_t85_loop v16 v31 v68 v105 v142 v179 v216 v253 v290 v327 v364 v401 v438 v475 v512 arg13).trips), ∀ a, (k0_off245 v16 v31 v68 v105 v142 v179 v216 v253 v290 v327 v364 v401 v438 v475 v512 arg13 k0_t85) a + S1x16.size a ≤ S512x128.size a := fun v16 v31 v68 v105 v142 v179 v216 v253 v290 v327 v364 v401 v438 v475 v512 arg13 k0_hw46 k0_t85 => k0_hw46.2.2.2.1 k0_t85
theorem k0_off246_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13) (k0_t85 : Fin (k0_t85_loop v16 v31 v68 v105 v142 v179 v216 v253 v290 v327 v364 v401 v438 v475 v512 arg13).trips), ∀ a, (k0_off246 v16 v31 v68 v105 v142 v179 v216 v253 v290 v327 v364 v401 v438 v475 v512 arg13 k0_t85) a + S1x16.size a ≤ S512x128.size a := fun v16 v31 v68 v105 v142 v179 v216 v253 v290 v327 v364 v401 v438 v475 v512 arg13 k0_hw46 k0_t85 => k0_hw46.2.2.2.2.1 k0_t85
theorem k0_off247_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13) (k0_t85 : Fin (k0_t85_loop v16 v31 v68 v105 v142 v179 v216 v253 v290 v327 v364 v401 v438 v475 v512 arg13).trips), ∀ a, (k0_off247 v16 v31 v68 v105 v142 v179 v216 v253 v290 v327 v364 v401 v438 v475 v512 arg13 k0_t85) a + S1x16.size a ≤ S512x128.size a := fun v16 v31 v68 v105 v142 v179 v216 v253 v290 v327 v364 v401 v438 v475 v512 arg13 k0_hw46 k0_t85 => k0_hw46.2.2.2.2.2.1 k0_t85
theorem k0_off248_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13) (k0_t85 : Fin (k0_t85_loop v16 v31 v68 v105 v142 v179 v216 v253 v290 v327 v364 v401 v438 v475 v512 arg13).trips), ∀ a, (k0_off248 v16 v31 v68 v105 v142 v179 v216 v253 v290 v327 v364 v401 v438 v475 v512 arg13 k0_t85) a + S1x16.size a ≤ S512x128.size a := fun v16 v31 v68 v105 v142 v179 v216 v253 v290 v327 v364 v401 v438 v475 v512 arg13 k0_hw46 k0_t85 => k0_hw46.2.2.2.2.2.2.1 k0_t85
theorem k0_t86_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13), (k0_t86_loop v16 v31 v68 v105 v142 v179 v216 v253 v290 v327 v364 v401 v438 v475 v512 arg13).OK := fun v16 v31 v68 v105 v142 v179 v216 v253 v290 v327 v364 v401 v438 v475 v512 arg13 k0_hw46 => k0_hw46.2.2.2.2.2.2.2.1
theorem k0_off249_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13) (k0_t86 : Fin (k0_t86_loop v16 v31 v68 v105 v142 v179 v216 v253 v290 v327 v364 v401 v438 v475 v512 arg13).trips), ∀ a, (k0_off249 v16 v31 v68 v105 v142 v179 v216 v253 v290 v327 v364 v401 v438 v475 v512 arg13 k0_t86) a + S1x16.size a ≤ S512x128.size a := fun v16 v31 v68 v105 v142 v179 v216 v253 v290 v327 v364 v401 v438 v475 v512 arg13 k0_hw46 k0_t86 => k0_hw46.2.2.2.2.2.2.2.2.1 k0_t86
theorem k0_off250_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13) (k0_t86 : Fin (k0_t86_loop v16 v31 v68 v105 v142 v179 v216 v253 v290 v327 v364 v401 v438 v475 v512 arg13).trips), ∀ a, (k0_off250 v16 v31 v68 v105 v142 v179 v216 v253 v290 v327 v364 v401 v438 v475 v512 arg13 k0_t86) a + S1x16.size a ≤ S512x128.size a := fun v16 v31 v68 v105 v142 v179 v216 v253 v290 v327 v364 v401 v438 v475 v512 arg13 k0_hw46 k0_t86 => k0_hw46.2.2.2.2.2.2.2.2.2.1 k0_t86
theorem k0_off251_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13) (k0_t86 : Fin (k0_t86_loop v16 v31 v68 v105 v142 v179 v216 v253 v290 v327 v364 v401 v438 v475 v512 arg13).trips), ∀ a, (k0_off251 v16 v31 v68 v105 v142 v179 v216 v253 v290 v327 v364 v401 v438 v475 v512 arg13 k0_t86) a + S1x16.size a ≤ S512x128.size a := fun v16 v31 v68 v105 v142 v179 v216 v253 v290 v327 v364 v401 v438 v475 v512 arg13 k0_hw46 k0_t86 => k0_hw46.2.2.2.2.2.2.2.2.2.2.1 k0_t86
theorem k0_off252_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (arg13 : BitVec 32) (k0_hw46 : k0_chk46 v16 v31 v68 v105 v142 v179 v216 v253 v290 v327 v364 v401 v438 v475 v512 arg13) (k0_t86 : Fin (k0_t86_loop v16 v31 v68 v105 v142 v179 v216 v253 v290 v327 v364 v401 v438 v475 v512 arg13).trips), ∀ a, (k0_off252 v16 v31 v68 v105 v142 v179 v216 v253 v290 v327 v364 v401 v438 v475 v512 arg13 k0_t86) a + S1x16.size a ≤ S512x128.size a := fun v16 v31 v68 v105 v142 v179 v216 v253 v290 v327 v364 v401 v438 v475 v512 arg13 k0_hw46 k0_t86 => k0_hw46.2.2.2.2.2.2.2.2.2.2.2 k0_t86

@[reducible] def k0_t87_loop (v549 : BitVec 32) : Scf.Loop 32 :=
  let c0_i32_213 : BitVec 32 := 0#32
  let c0_i32_206 : BitVec 32 := 0#32
  let v552 : BitVec 1 := Scalar.cmpi .sgt v549 c0_i32_206
  let v553 : BitVec 32 := Scalar.extui v552
  let c0_i32_207 : BitVec 32 := 0#32
  let v554 : BitVec 1 := Scalar.cmpi .slt v549 c0_i32_207
  let v555 : BitVec 32 := Scalar.extui v554
  let v556 : BitVec 32 := Scalar.subi v553 v555
  let c504_i32_205 : BitVec 32 := 504#32
  let c0_i32_208 : BitVec 32 := 0#32
  let v557 : BitVec 1 := Scalar.cmpi .sgt c504_i32_205 c0_i32_208
  let v558 : BitVec 32 := Scalar.extui v557
  let c0_i32_209 : BitVec 32 := 0#32
  let v559 : BitVec 1 := Scalar.cmpi .slt c504_i32_205 c0_i32_209
  let v560 : BitVec 32 := Scalar.extui v559
  let v561 : BitVec 32 := Scalar.subi v558 v560
  let v562 : BitVec 1 := Scalar.cmpi .ne v556 v561
  let v563 : BitVec 32 := Scalar.remsi v549 c504_i32_205
  let c0_i32_210 : BitVec 32 := 0#32
  let v564 : BitVec 1 := Scalar.cmpi .ne v563 c0_i32_210
  let v565 : BitVec 1 := Scalar.andi v562 v564
  let v551 : BitVec 32 := Scalar.divsi v549 c504_i32_205
  let c1_i32_211 : BitVec 32 := 1#32
  let v566 : BitVec 32 := Scalar.subi v551 c1_i32_211
  let v567 : BitVec 32 := Scalar.select v565 v566 v551
  let c1_i32_212 : BitVec 32 := 1#32
  let v568 : BitVec 32 := Scalar.addi v567 c1_i32_212
  let v569 : BitVec 32 := Scalar.subi v568 c0_i32_213
  let c1_i32_214 : BitVec 32 := 1#32
  let v571 : BitVec 32 := Scalar.divsi v569 c1_i32_214
  let v572 : BitVec 32 := Scalar.muli v571 c1_i32_214
  let v573 : BitVec 32 := Scalar.addi c0_i32_213 v572
  let c1_i32_215 : BitVec 32 := 1#32
  ⟨c0_i32_213, v573, c1_i32_215⟩

def k0_mult29 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off253 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r29 : BitVec 32 := 0#32
  ![v1213.toNat, 0]
@[reducible] def k0_t88_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off254 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t88 : Fin (k0_t88_loop v16 v31 v68 v105 v142 v179 v216 v253 v290 v327 v364 v401 v438 v475 v512 v549 arg13).trips) : Fin 2 → Nat :=
  let c1_i32_473 : BitVec 32 := 1#32
  let arg14 : BitVec 32 := Scf.iv arg13 c1_i32_473 k0_t88
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off255 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t88 : Fin (k0_t88_loop v16 v31 v68 v105 v142 v179 v216 v253 v290 v327 v364 v401 v438 v475 v512 v549 arg13).trips) : Fin 2 → Nat :=
  let c1_i32_473 : BitVec 32 := 1#32
  let arg14 : BitVec 32 := Scf.iv arg13 c1_i32_473 k0_t88
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off256 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t88 : Fin (k0_t88_loop v16 v31 v68 v105 v142 v179 v216 v253 v290 v327 v364 v401 v438 v475 v512 v549 arg13).trips) : Fin 2 → Nat :=
  let c1_i32_473 : BitVec 32 := 1#32
  let arg14 : BitVec 32 := Scf.iv arg13 c1_i32_473 k0_t88
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off257 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t88 : Fin (k0_t88_loop v16 v31 v68 v105 v142 v179 v216 v253 v290 v327 v364 v401 v438 v475 v512 v549 arg13).trips) : Fin 2 → Nat :=
  let c1_i32_473 : BitVec 32 := 1#32
  let arg14 : BitVec 32 := Scf.iv arg13 c1_i32_473 k0_t88
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t89_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off258 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t89 : Fin (k0_t89_loop v16 v31 v68 v105 v142 v179 v216 v253 v290 v327 v364 v401 v438 v475 v512 v549 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t89
  let v1224 : BitVec 32 := Scalar.subi arg14 v1213
  let v1225 : Index := Scalar.indexCast v1224
  let c0_475 : Index := 0#32
  ![v1225.toNat, 0]
def k0_off259 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t89 : Fin (k0_t89_loop v16 v31 v68 v105 v142 v179 v216 v253 v290 v327 v364 v401 v438 v475 v512 v549 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t89
  let v1224 : BitVec 32 := Scalar.subi arg14 v1213
  let v1228 : Index := Scalar.indexCast v1224
  let c16_476 : Index := 16#32
  ![v1228.toNat, 16]
def k0_off260 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t89 : Fin (k0_t89_loop v16 v31 v68 v105 v142 v179 v216 v253 v290 v327 v364 v401 v438 v475 v512 v549 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t89
  let v1224 : BitVec 32 := Scalar.subi arg14 v1213
  let v1231 : Index := Scalar.indexCast v1224
  let c32_477 : Index := 32#32
  ![v1231.toNat, 32]
def k0_off261 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t89 : Fin (k0_t89_loop v16 v31 v68 v105 v142 v179 v216 v253 v290 v327 v364 v401 v438 v475 v512 v549 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t89
  let v1224 : BitVec 32 := Scalar.subi arg14 v1213
  let v1234 : Index := Scalar.indexCast v1224
  let c48_478 : Index := 48#32
  ![v1234.toNat, 48]

def k0_chk48 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) : Prop :=
  (8 ∣ (k0_mult29 arg13).toNat) ∧
  (∀ a, (k0_off253 arg13) a + S512x128.size a ≤ S320000x128.size a) ∧
  ((k0_t88_loop v16 v31 v68 v105 v142 v179 v216 v253 v290 v327 v364 v401 v438 v475 v512 v549 arg13).OK) ∧
  (∀ k0_t88 : Fin (k0_t88_loop v16 v31 v68 v105 v142 v179 v216 v253 v290 v327 v364 v401 v438 v475 v512 v549 arg13).trips, ∀ a, (k0_off254 v16 v31 v68 v105 v142 v179 v216 v253 v290 v327 v364 v401 v438 v475 v512 v549 arg13 k0_t88) a + S1x16.size a ≤ S512x128.size a) ∧
  (∀ k0_t88 : Fin (k0_t88_loop v16 v31 v68 v105 v142 v179 v216 v253 v290 v327 v364 v401 v438 v475 v512 v549 arg13).trips, ∀ a, (k0_off255 v16 v31 v68 v105 v142 v179 v216 v253 v290 v327 v364 v401 v438 v475 v512 v549 arg13 k0_t88) a + S1x16.size a ≤ S512x128.size a) ∧
  (∀ k0_t88 : Fin (k0_t88_loop v16 v31 v68 v105 v142 v179 v216 v253 v290 v327 v364 v401 v438 v475 v512 v549 arg13).trips, ∀ a, (k0_off256 v16 v31 v68 v105 v142 v179 v216 v253 v290 v327 v364 v401 v438 v475 v512 v549 arg13 k0_t88) a + S1x16.size a ≤ S512x128.size a) ∧
  (∀ k0_t88 : Fin (k0_t88_loop v16 v31 v68 v105 v142 v179 v216 v253 v290 v327 v364 v401 v438 v475 v512 v549 arg13).trips, ∀ a, (k0_off257 v16 v31 v68 v105 v142 v179 v216 v253 v290 v327 v364 v401 v438 v475 v512 v549 arg13 k0_t88) a + S1x16.size a ≤ S512x128.size a) ∧
  ((k0_t89_loop v16 v31 v68 v105 v142 v179 v216 v253 v290 v327 v364 v401 v438 v475 v512 v549 arg13).OK) ∧
  (∀ k0_t89 : Fin (k0_t89_loop v16 v31 v68 v105 v142 v179 v216 v253 v290 v327 v364 v401 v438 v475 v512 v549 arg13).trips, ∀ a, (k0_off258 v16 v31 v68 v105 v142 v179 v216 v253 v290 v327 v364 v401 v438 v475 v512 v549 arg13 k0_t89) a + S1x16.size a ≤ S512x128.size a) ∧
  (∀ k0_t89 : Fin (k0_t89_loop v16 v31 v68 v105 v142 v179 v216 v253 v290 v327 v364 v401 v438 v475 v512 v549 arg13).trips, ∀ a, (k0_off259 v16 v31 v68 v105 v142 v179 v216 v253 v290 v327 v364 v401 v438 v475 v512 v549 arg13 k0_t89) a + S1x16.size a ≤ S512x128.size a) ∧
  (∀ k0_t89 : Fin (k0_t89_loop v16 v31 v68 v105 v142 v179 v216 v253 v290 v327 v364 v401 v438 v475 v512 v549 arg13).trips, ∀ a, (k0_off260 v16 v31 v68 v105 v142 v179 v216 v253 v290 v327 v364 v401 v438 v475 v512 v549 arg13 k0_t89) a + S1x16.size a ≤ S512x128.size a) ∧
  (∀ k0_t89 : Fin (k0_t89_loop v16 v31 v68 v105 v142 v179 v216 v253 v290 v327 v364 v401 v438 v475 v512 v549 arg13).trips, ∀ a, (k0_off261 v16 v31 v68 v105 v142 v179 v216 v253 v290 v327 v364 v401 v438 v475 v512 v549 arg13 k0_t89) a + S1x16.size a ≤ S512x128.size a)
theorem k0_mult29_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13), 8 ∣ (k0_mult29 arg13).toNat := fun v16 v31 v68 v105 v142 v179 v216 v253 v290 v327 v364 v401 v438 v475 v512 v549 arg13 k0_hw48 => k0_hw48.1
theorem k0_off253_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13), ∀ a, (k0_off253 arg13) a + S512x128.size a ≤ S320000x128.size a := fun v16 v31 v68 v105 v142 v179 v216 v253 v290 v327 v364 v401 v438 v475 v512 v549 arg13 k0_hw48 => k0_hw48.2.1
theorem k0_t88_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13), (k0_t88_loop v16 v31 v68 v105 v142 v179 v216 v253 v290 v327 v364 v401 v438 v475 v512 v549 arg13).OK := fun v16 v31 v68 v105 v142 v179 v216 v253 v290 v327 v364 v401 v438 v475 v512 v549 arg13 k0_hw48 => k0_hw48.2.2.1
theorem k0_off254_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13) (k0_t88 : Fin (k0_t88_loop v16 v31 v68 v105 v142 v179 v216 v253 v290 v327 v364 v401 v438 v475 v512 v549 arg13).trips), ∀ a, (k0_off254 v16 v31 v68 v105 v142 v179 v216 v253 v290 v327 v364 v401 v438 v475 v512 v549 arg13 k0_t88) a + S1x16.size a ≤ S512x128.size a := fun v16 v31 v68 v105 v142 v179 v216 v253 v290 v327 v364 v401 v438 v475 v512 v549 arg13 k0_hw48 k0_t88 => k0_hw48.2.2.2.1 k0_t88
theorem k0_off255_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13) (k0_t88 : Fin (k0_t88_loop v16 v31 v68 v105 v142 v179 v216 v253 v290 v327 v364 v401 v438 v475 v512 v549 arg13).trips), ∀ a, (k0_off255 v16 v31 v68 v105 v142 v179 v216 v253 v290 v327 v364 v401 v438 v475 v512 v549 arg13 k0_t88) a + S1x16.size a ≤ S512x128.size a := fun v16 v31 v68 v105 v142 v179 v216 v253 v290 v327 v364 v401 v438 v475 v512 v549 arg13 k0_hw48 k0_t88 => k0_hw48.2.2.2.2.1 k0_t88
theorem k0_off256_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13) (k0_t88 : Fin (k0_t88_loop v16 v31 v68 v105 v142 v179 v216 v253 v290 v327 v364 v401 v438 v475 v512 v549 arg13).trips), ∀ a, (k0_off256 v16 v31 v68 v105 v142 v179 v216 v253 v290 v327 v364 v401 v438 v475 v512 v549 arg13 k0_t88) a + S1x16.size a ≤ S512x128.size a := fun v16 v31 v68 v105 v142 v179 v216 v253 v290 v327 v364 v401 v438 v475 v512 v549 arg13 k0_hw48 k0_t88 => k0_hw48.2.2.2.2.2.1 k0_t88
theorem k0_off257_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13) (k0_t88 : Fin (k0_t88_loop v16 v31 v68 v105 v142 v179 v216 v253 v290 v327 v364 v401 v438 v475 v512 v549 arg13).trips), ∀ a, (k0_off257 v16 v31 v68 v105 v142 v179 v216 v253 v290 v327 v364 v401 v438 v475 v512 v549 arg13 k0_t88) a + S1x16.size a ≤ S512x128.size a := fun v16 v31 v68 v105 v142 v179 v216 v253 v290 v327 v364 v401 v438 v475 v512 v549 arg13 k0_hw48 k0_t88 => k0_hw48.2.2.2.2.2.2.1 k0_t88
theorem k0_t89_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13), (k0_t89_loop v16 v31 v68 v105 v142 v179 v216 v253 v290 v327 v364 v401 v438 v475 v512 v549 arg13).OK := fun v16 v31 v68 v105 v142 v179 v216 v253 v290 v327 v364 v401 v438 v475 v512 v549 arg13 k0_hw48 => k0_hw48.2.2.2.2.2.2.2.1
theorem k0_off258_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13) (k0_t89 : Fin (k0_t89_loop v16 v31 v68 v105 v142 v179 v216 v253 v290 v327 v364 v401 v438 v475 v512 v549 arg13).trips), ∀ a, (k0_off258 v16 v31 v68 v105 v142 v179 v216 v253 v290 v327 v364 v401 v438 v475 v512 v549 arg13 k0_t89) a + S1x16.size a ≤ S512x128.size a := fun v16 v31 v68 v105 v142 v179 v216 v253 v290 v327 v364 v401 v438 v475 v512 v549 arg13 k0_hw48 k0_t89 => k0_hw48.2.2.2.2.2.2.2.2.1 k0_t89
theorem k0_off259_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13) (k0_t89 : Fin (k0_t89_loop v16 v31 v68 v105 v142 v179 v216 v253 v290 v327 v364 v401 v438 v475 v512 v549 arg13).trips), ∀ a, (k0_off259 v16 v31 v68 v105 v142 v179 v216 v253 v290 v327 v364 v401 v438 v475 v512 v549 arg13 k0_t89) a + S1x16.size a ≤ S512x128.size a := fun v16 v31 v68 v105 v142 v179 v216 v253 v290 v327 v364 v401 v438 v475 v512 v549 arg13 k0_hw48 k0_t89 => k0_hw48.2.2.2.2.2.2.2.2.2.1 k0_t89
theorem k0_off260_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13) (k0_t89 : Fin (k0_t89_loop v16 v31 v68 v105 v142 v179 v216 v253 v290 v327 v364 v401 v438 v475 v512 v549 arg13).trips), ∀ a, (k0_off260 v16 v31 v68 v105 v142 v179 v216 v253 v290 v327 v364 v401 v438 v475 v512 v549 arg13 k0_t89) a + S1x16.size a ≤ S512x128.size a := fun v16 v31 v68 v105 v142 v179 v216 v253 v290 v327 v364 v401 v438 v475 v512 v549 arg13 k0_hw48 k0_t89 => k0_hw48.2.2.2.2.2.2.2.2.2.2.1 k0_t89
theorem k0_off261_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw48 : k0_chk48 v16 v31 v68 v105 v142 v179 v216 v253 v290 v327 v364 v401 v438 v475 v512 v549 arg13) (k0_t89 : Fin (k0_t89_loop v16 v31 v68 v105 v142 v179 v216 v253 v290 v327 v364 v401 v438 v475 v512 v549 arg13).trips), ∀ a, (k0_off261 v16 v31 v68 v105 v142 v179 v216 v253 v290 v327 v364 v401 v438 v475 v512 v549 arg13 k0_t89) a + S1x16.size a ≤ S512x128.size a := fun v16 v31 v68 v105 v142 v179 v216 v253 v290 v327 v364 v401 v438 v475 v512 v549 arg13 k0_hw48 k0_t89 => k0_hw48.2.2.2.2.2.2.2.2.2.2.2 k0_t89

@[reducible] def k0_t90_loop (v549 : BitVec 32) : Scf.Loop 32 :=
  let c0_i32_213 : BitVec 32 := 0#32
  let c0_i32_206 : BitVec 32 := 0#32
  let v552 : BitVec 1 := Scalar.cmpi .sgt v549 c0_i32_206
  let v553 : BitVec 32 := Scalar.extui v552
  let c0_i32_207 : BitVec 32 := 0#32
  let v554 : BitVec 1 := Scalar.cmpi .slt v549 c0_i32_207
  let v555 : BitVec 32 := Scalar.extui v554
  let v556 : BitVec 32 := Scalar.subi v553 v555
  let c504_i32_205 : BitVec 32 := 504#32
  let c0_i32_208 : BitVec 32 := 0#32
  let v557 : BitVec 1 := Scalar.cmpi .sgt c504_i32_205 c0_i32_208
  let v558 : BitVec 32 := Scalar.extui v557
  let c0_i32_209 : BitVec 32 := 0#32
  let v559 : BitVec 1 := Scalar.cmpi .slt c504_i32_205 c0_i32_209
  let v560 : BitVec 32 := Scalar.extui v559
  let v561 : BitVec 32 := Scalar.subi v558 v560
  let v562 : BitVec 1 := Scalar.cmpi .ne v556 v561
  let v563 : BitVec 32 := Scalar.remsi v549 c504_i32_205
  let c0_i32_210 : BitVec 32 := 0#32
  let v564 : BitVec 1 := Scalar.cmpi .ne v563 c0_i32_210
  let v565 : BitVec 1 := Scalar.andi v562 v564
  let v551 : BitVec 32 := Scalar.divsi v549 c504_i32_205
  let c1_i32_211 : BitVec 32 := 1#32
  let v566 : BitVec 32 := Scalar.subi v551 c1_i32_211
  let v567 : BitVec 32 := Scalar.select v565 v566 v551
  let c1_i32_212 : BitVec 32 := 1#32
  let v568 : BitVec 32 := Scalar.addi v567 c1_i32_212
  let v569 : BitVec 32 := Scalar.subi v568 c0_i32_213
  let c1_i32_214 : BitVec 32 := 1#32
  let v571 : BitVec 32 := Scalar.divsi v569 c1_i32_214
  let v572 : BitVec 32 := Scalar.muli v571 c1_i32_214
  let v573 : BitVec 32 := Scalar.addi c0_i32_213 v572
  let v570 : BitVec 32 := Scalar.addi c0_i32_213 v569
  let c1_i32_216 : BitVec 32 := 1#32
  ⟨v573, v570, c1_i32_216⟩

def k0_chk47 (v549 : BitVec 32) : Prop :=
  ((k0_t87_loop v549).OK) ∧
  ((k0_t90_loop v549).OK)
theorem k0_t87_ok : ∀ (v549 : BitVec 32) (k0_hw47 : k0_chk47 v549), (k0_t87_loop v549).OK := fun v549 k0_hw47 => k0_hw47.1
theorem k0_t90_ok : ∀ (v549 : BitVec 32) (k0_hw47 : k0_chk47 v549), (k0_t90_loop v549).OK := fun v549 k0_hw47 => k0_hw47.2

def k0_mult30 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off262 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r30 : BitVec 32 := 0#32
  ![v1213.toNat, 0]
@[reducible] def k0_t91_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off263 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t91 : Fin (k0_t91_loop v16 v31 v68 v105 v142 v179 v216 v253 v290 v327 v364 v401 v438 v475 v512 v549 arg13).trips) : Fin 2 → Nat :=
  let c1_i32_473 : BitVec 32 := 1#32
  let arg14 : BitVec 32 := Scf.iv arg13 c1_i32_473 k0_t91
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off264 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t91 : Fin (k0_t91_loop v16 v31 v68 v105 v142 v179 v216 v253 v290 v327 v364 v401 v438 v475 v512 v549 arg13).trips) : Fin 2 → Nat :=
  let c1_i32_473 : BitVec 32 := 1#32
  let arg14 : BitVec 32 := Scf.iv arg13 c1_i32_473 k0_t91
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off265 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t91 : Fin (k0_t91_loop v16 v31 v68 v105 v142 v179 v216 v253 v290 v327 v364 v401 v438 v475 v512 v549 arg13).trips) : Fin 2 → Nat :=
  let c1_i32_473 : BitVec 32 := 1#32
  let arg14 : BitVec 32 := Scf.iv arg13 c1_i32_473 k0_t91
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off266 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t91 : Fin (k0_t91_loop v16 v31 v68 v105 v142 v179 v216 v253 v290 v327 v364 v401 v438 v475 v512 v549 arg13).trips) : Fin 2 → Nat :=
  let c1_i32_473 : BitVec 32 := 1#32
  let arg14 : BitVec 32 := Scf.iv arg13 c1_i32_473 k0_t91
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t92_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off267 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t92 : Fin (k0_t92_loop v16 v31 v68 v105 v142 v179 v216 v253 v290 v327 v364 v401 v438 v475 v512 v549 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t92
  let v1224 : BitVec 32 := Scalar.subi arg14 v1213
  let v1225 : Index := Scalar.indexCast v1224
  let c0_475 : Index := 0#32
  ![v1225.toNat, 0]
def k0_off268 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t92 : Fin (k0_t92_loop v16 v31 v68 v105 v142 v179 v216 v253 v290 v327 v364 v401 v438 v475 v512 v549 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t92
  let v1224 : BitVec 32 := Scalar.subi arg14 v1213
  let v1228 : Index := Scalar.indexCast v1224
  let c16_476 : Index := 16#32
  ![v1228.toNat, 16]
def k0_off269 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t92 : Fin (k0_t92_loop v16 v31 v68 v105 v142 v179 v216 v253 v290 v327 v364 v401 v438 v475 v512 v549 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t92
  let v1224 : BitVec 32 := Scalar.subi arg14 v1213
  let v1231 : Index := Scalar.indexCast v1224
  let c32_477 : Index := 32#32
  ![v1231.toNat, 32]
def k0_off270 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_t92 : Fin (k0_t92_loop v16 v31 v68 v105 v142 v179 v216 v253 v290 v327 v364 v401 v438 v475 v512 v549 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v550 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t92
  let v1224 : BitVec 32 := Scalar.subi arg14 v1213
  let v1234 : Index := Scalar.indexCast v1224
  let c48_478 : Index := 48#32
  ![v1234.toNat, 48]

def k0_chk49 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) : Prop :=
  (8 ∣ (k0_mult30 arg13).toNat) ∧
  (∀ a, (k0_off262 arg13) a + S512x128.size a ≤ S320000x128.size a) ∧
  ((k0_t91_loop v16 v31 v68 v105 v142 v179 v216 v253 v290 v327 v364 v401 v438 v475 v512 v549 arg13).OK) ∧
  (∀ k0_t91 : Fin (k0_t91_loop v16 v31 v68 v105 v142 v179 v216 v253 v290 v327 v364 v401 v438 v475 v512 v549 arg13).trips, ∀ a, (k0_off263 v16 v31 v68 v105 v142 v179 v216 v253 v290 v327 v364 v401 v438 v475 v512 v549 arg13 k0_t91) a + S1x16.size a ≤ S512x128.size a) ∧
  (∀ k0_t91 : Fin (k0_t91_loop v16 v31 v68 v105 v142 v179 v216 v253 v290 v327 v364 v401 v438 v475 v512 v549 arg13).trips, ∀ a, (k0_off264 v16 v31 v68 v105 v142 v179 v216 v253 v290 v327 v364 v401 v438 v475 v512 v549 arg13 k0_t91) a + S1x16.size a ≤ S512x128.size a) ∧
  (∀ k0_t91 : Fin (k0_t91_loop v16 v31 v68 v105 v142 v179 v216 v253 v290 v327 v364 v401 v438 v475 v512 v549 arg13).trips, ∀ a, (k0_off265 v16 v31 v68 v105 v142 v179 v216 v253 v290 v327 v364 v401 v438 v475 v512 v549 arg13 k0_t91) a + S1x16.size a ≤ S512x128.size a) ∧
  (∀ k0_t91 : Fin (k0_t91_loop v16 v31 v68 v105 v142 v179 v216 v253 v290 v327 v364 v401 v438 v475 v512 v549 arg13).trips, ∀ a, (k0_off266 v16 v31 v68 v105 v142 v179 v216 v253 v290 v327 v364 v401 v438 v475 v512 v549 arg13 k0_t91) a + S1x16.size a ≤ S512x128.size a) ∧
  ((k0_t92_loop v16 v31 v68 v105 v142 v179 v216 v253 v290 v327 v364 v401 v438 v475 v512 v549 arg13).OK) ∧
  (∀ k0_t92 : Fin (k0_t92_loop v16 v31 v68 v105 v142 v179 v216 v253 v290 v327 v364 v401 v438 v475 v512 v549 arg13).trips, ∀ a, (k0_off267 v16 v31 v68 v105 v142 v179 v216 v253 v290 v327 v364 v401 v438 v475 v512 v549 arg13 k0_t92) a + S1x16.size a ≤ S512x128.size a) ∧
  (∀ k0_t92 : Fin (k0_t92_loop v16 v31 v68 v105 v142 v179 v216 v253 v290 v327 v364 v401 v438 v475 v512 v549 arg13).trips, ∀ a, (k0_off268 v16 v31 v68 v105 v142 v179 v216 v253 v290 v327 v364 v401 v438 v475 v512 v549 arg13 k0_t92) a + S1x16.size a ≤ S512x128.size a) ∧
  (∀ k0_t92 : Fin (k0_t92_loop v16 v31 v68 v105 v142 v179 v216 v253 v290 v327 v364 v401 v438 v475 v512 v549 arg13).trips, ∀ a, (k0_off269 v16 v31 v68 v105 v142 v179 v216 v253 v290 v327 v364 v401 v438 v475 v512 v549 arg13 k0_t92) a + S1x16.size a ≤ S512x128.size a) ∧
  (∀ k0_t92 : Fin (k0_t92_loop v16 v31 v68 v105 v142 v179 v216 v253 v290 v327 v364 v401 v438 v475 v512 v549 arg13).trips, ∀ a, (k0_off270 v16 v31 v68 v105 v142 v179 v216 v253 v290 v327 v364 v401 v438 v475 v512 v549 arg13 k0_t92) a + S1x16.size a ≤ S512x128.size a)
theorem k0_mult30_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13), 8 ∣ (k0_mult30 arg13).toNat := fun v16 v31 v68 v105 v142 v179 v216 v253 v290 v327 v364 v401 v438 v475 v512 v549 arg13 k0_hw49 => k0_hw49.1
theorem k0_off262_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13), ∀ a, (k0_off262 arg13) a + S512x128.size a ≤ S320000x128.size a := fun v16 v31 v68 v105 v142 v179 v216 v253 v290 v327 v364 v401 v438 v475 v512 v549 arg13 k0_hw49 => k0_hw49.2.1
theorem k0_t91_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13), (k0_t91_loop v16 v31 v68 v105 v142 v179 v216 v253 v290 v327 v364 v401 v438 v475 v512 v549 arg13).OK := fun v16 v31 v68 v105 v142 v179 v216 v253 v290 v327 v364 v401 v438 v475 v512 v549 arg13 k0_hw49 => k0_hw49.2.2.1
theorem k0_off263_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13) (k0_t91 : Fin (k0_t91_loop v16 v31 v68 v105 v142 v179 v216 v253 v290 v327 v364 v401 v438 v475 v512 v549 arg13).trips), ∀ a, (k0_off263 v16 v31 v68 v105 v142 v179 v216 v253 v290 v327 v364 v401 v438 v475 v512 v549 arg13 k0_t91) a + S1x16.size a ≤ S512x128.size a := fun v16 v31 v68 v105 v142 v179 v216 v253 v290 v327 v364 v401 v438 v475 v512 v549 arg13 k0_hw49 k0_t91 => k0_hw49.2.2.2.1 k0_t91
theorem k0_off264_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13) (k0_t91 : Fin (k0_t91_loop v16 v31 v68 v105 v142 v179 v216 v253 v290 v327 v364 v401 v438 v475 v512 v549 arg13).trips), ∀ a, (k0_off264 v16 v31 v68 v105 v142 v179 v216 v253 v290 v327 v364 v401 v438 v475 v512 v549 arg13 k0_t91) a + S1x16.size a ≤ S512x128.size a := fun v16 v31 v68 v105 v142 v179 v216 v253 v290 v327 v364 v401 v438 v475 v512 v549 arg13 k0_hw49 k0_t91 => k0_hw49.2.2.2.2.1 k0_t91
theorem k0_off265_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13) (k0_t91 : Fin (k0_t91_loop v16 v31 v68 v105 v142 v179 v216 v253 v290 v327 v364 v401 v438 v475 v512 v549 arg13).trips), ∀ a, (k0_off265 v16 v31 v68 v105 v142 v179 v216 v253 v290 v327 v364 v401 v438 v475 v512 v549 arg13 k0_t91) a + S1x16.size a ≤ S512x128.size a := fun v16 v31 v68 v105 v142 v179 v216 v253 v290 v327 v364 v401 v438 v475 v512 v549 arg13 k0_hw49 k0_t91 => k0_hw49.2.2.2.2.2.1 k0_t91
theorem k0_off266_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13) (k0_t91 : Fin (k0_t91_loop v16 v31 v68 v105 v142 v179 v216 v253 v290 v327 v364 v401 v438 v475 v512 v549 arg13).trips), ∀ a, (k0_off266 v16 v31 v68 v105 v142 v179 v216 v253 v290 v327 v364 v401 v438 v475 v512 v549 arg13 k0_t91) a + S1x16.size a ≤ S512x128.size a := fun v16 v31 v68 v105 v142 v179 v216 v253 v290 v327 v364 v401 v438 v475 v512 v549 arg13 k0_hw49 k0_t91 => k0_hw49.2.2.2.2.2.2.1 k0_t91
theorem k0_t92_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13), (k0_t92_loop v16 v31 v68 v105 v142 v179 v216 v253 v290 v327 v364 v401 v438 v475 v512 v549 arg13).OK := fun v16 v31 v68 v105 v142 v179 v216 v253 v290 v327 v364 v401 v438 v475 v512 v549 arg13 k0_hw49 => k0_hw49.2.2.2.2.2.2.2.1
theorem k0_off267_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13) (k0_t92 : Fin (k0_t92_loop v16 v31 v68 v105 v142 v179 v216 v253 v290 v327 v364 v401 v438 v475 v512 v549 arg13).trips), ∀ a, (k0_off267 v16 v31 v68 v105 v142 v179 v216 v253 v290 v327 v364 v401 v438 v475 v512 v549 arg13 k0_t92) a + S1x16.size a ≤ S512x128.size a := fun v16 v31 v68 v105 v142 v179 v216 v253 v290 v327 v364 v401 v438 v475 v512 v549 arg13 k0_hw49 k0_t92 => k0_hw49.2.2.2.2.2.2.2.2.1 k0_t92
theorem k0_off268_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13) (k0_t92 : Fin (k0_t92_loop v16 v31 v68 v105 v142 v179 v216 v253 v290 v327 v364 v401 v438 v475 v512 v549 arg13).trips), ∀ a, (k0_off268 v16 v31 v68 v105 v142 v179 v216 v253 v290 v327 v364 v401 v438 v475 v512 v549 arg13 k0_t92) a + S1x16.size a ≤ S512x128.size a := fun v16 v31 v68 v105 v142 v179 v216 v253 v290 v327 v364 v401 v438 v475 v512 v549 arg13 k0_hw49 k0_t92 => k0_hw49.2.2.2.2.2.2.2.2.2.1 k0_t92
theorem k0_off269_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13) (k0_t92 : Fin (k0_t92_loop v16 v31 v68 v105 v142 v179 v216 v253 v290 v327 v364 v401 v438 v475 v512 v549 arg13).trips), ∀ a, (k0_off269 v16 v31 v68 v105 v142 v179 v216 v253 v290 v327 v364 v401 v438 v475 v512 v549 arg13 k0_t92) a + S1x16.size a ≤ S512x128.size a := fun v16 v31 v68 v105 v142 v179 v216 v253 v290 v327 v364 v401 v438 v475 v512 v549 arg13 k0_hw49 k0_t92 => k0_hw49.2.2.2.2.2.2.2.2.2.2.1 k0_t92
theorem k0_off270_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (arg13 : BitVec 32) (k0_hw49 : k0_chk49 v16 v31 v68 v105 v142 v179 v216 v253 v290 v327 v364 v401 v438 v475 v512 v549 arg13) (k0_t92 : Fin (k0_t92_loop v16 v31 v68 v105 v142 v179 v216 v253 v290 v327 v364 v401 v438 v475 v512 v549 arg13).trips), ∀ a, (k0_off270 v16 v31 v68 v105 v142 v179 v216 v253 v290 v327 v364 v401 v438 v475 v512 v549 arg13 k0_t92) a + S1x16.size a ≤ S512x128.size a := fun v16 v31 v68 v105 v142 v179 v216 v253 v290 v327 v364 v401 v438 v475 v512 v549 arg13 k0_hw49 k0_t92 => k0_hw49.2.2.2.2.2.2.2.2.2.2.2 k0_t92

@[reducible] def k0_t93_loop (v586 : BitVec 32) : Scf.Loop 32 :=
  let c0_i32_227 : BitVec 32 := 0#32
  let c0_i32_220 : BitVec 32 := 0#32
  let v589 : BitVec 1 := Scalar.cmpi .sgt v586 c0_i32_220
  let v590 : BitVec 32 := Scalar.extui v589
  let c0_i32_221 : BitVec 32 := 0#32
  let v591 : BitVec 1 := Scalar.cmpi .slt v586 c0_i32_221
  let v592 : BitVec 32 := Scalar.extui v591
  let v593 : BitVec 32 := Scalar.subi v590 v592
  let c504_i32_219 : BitVec 32 := 504#32
  let c0_i32_222 : BitVec 32 := 0#32
  let v594 : BitVec 1 := Scalar.cmpi .sgt c504_i32_219 c0_i32_222
  let v595 : BitVec 32 := Scalar.extui v594
  let c0_i32_223 : BitVec 32 := 0#32
  let v596 : BitVec 1 := Scalar.cmpi .slt c504_i32_219 c0_i32_223
  let v597 : BitVec 32 := Scalar.extui v596
  let v598 : BitVec 32 := Scalar.subi v595 v597
  let v599 : BitVec 1 := Scalar.cmpi .ne v593 v598
  let v600 : BitVec 32 := Scalar.remsi v586 c504_i32_219
  let c0_i32_224 : BitVec 32 := 0#32
  let v601 : BitVec 1 := Scalar.cmpi .ne v600 c0_i32_224
  let v602 : BitVec 1 := Scalar.andi v599 v601
  let v588 : BitVec 32 := Scalar.divsi v586 c504_i32_219
  let c1_i32_225 : BitVec 32 := 1#32
  let v603 : BitVec 32 := Scalar.subi v588 c1_i32_225
  let v604 : BitVec 32 := Scalar.select v602 v603 v588
  let c1_i32_226 : BitVec 32 := 1#32
  let v605 : BitVec 32 := Scalar.addi v604 c1_i32_226
  let v606 : BitVec 32 := Scalar.subi v605 c0_i32_227
  let c1_i32_228 : BitVec 32 := 1#32
  let v608 : BitVec 32 := Scalar.divsi v606 c1_i32_228
  let v609 : BitVec 32 := Scalar.muli v608 c1_i32_228
  let v610 : BitVec 32 := Scalar.addi c0_i32_227 v609
  let c1_i32_229 : BitVec 32 := 1#32
  ⟨c0_i32_227, v610, c1_i32_229⟩

def k0_mult31 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off271 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r31 : BitVec 32 := 0#32
  ![v1213.toNat, 0]
@[reducible] def k0_t94_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off272 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t94 : Fin (k0_t94_loop v16 v31 v68 v105 v142 v179 v216 v253 v290 v327 v364 v401 v438 v475 v512 v549 v586 arg13).trips) : Fin 2 → Nat :=
  let c1_i32_473 : BitVec 32 := 1#32
  let arg14 : BitVec 32 := Scf.iv arg13 c1_i32_473 k0_t94
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off273 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t94 : Fin (k0_t94_loop v16 v31 v68 v105 v142 v179 v216 v253 v290 v327 v364 v401 v438 v475 v512 v549 v586 arg13).trips) : Fin 2 → Nat :=
  let c1_i32_473 : BitVec 32 := 1#32
  let arg14 : BitVec 32 := Scf.iv arg13 c1_i32_473 k0_t94
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off274 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t94 : Fin (k0_t94_loop v16 v31 v68 v105 v142 v179 v216 v253 v290 v327 v364 v401 v438 v475 v512 v549 v586 arg13).trips) : Fin 2 → Nat :=
  let c1_i32_473 : BitVec 32 := 1#32
  let arg14 : BitVec 32 := Scf.iv arg13 c1_i32_473 k0_t94
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off275 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t94 : Fin (k0_t94_loop v16 v31 v68 v105 v142 v179 v216 v253 v290 v327 v364 v401 v438 v475 v512 v549 v586 arg13).trips) : Fin 2 → Nat :=
  let c1_i32_473 : BitVec 32 := 1#32
  let arg14 : BitVec 32 := Scf.iv arg13 c1_i32_473 k0_t94
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t95_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off276 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t95 : Fin (k0_t95_loop v16 v31 v68 v105 v142 v179 v216 v253 v290 v327 v364 v401 v438 v475 v512 v549 v586 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t95
  let v1224 : BitVec 32 := Scalar.subi arg14 v1213
  let v1225 : Index := Scalar.indexCast v1224
  let c0_475 : Index := 0#32
  ![v1225.toNat, 0]
def k0_off277 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t95 : Fin (k0_t95_loop v16 v31 v68 v105 v142 v179 v216 v253 v290 v327 v364 v401 v438 v475 v512 v549 v586 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t95
  let v1224 : BitVec 32 := Scalar.subi arg14 v1213
  let v1228 : Index := Scalar.indexCast v1224
  let c16_476 : Index := 16#32
  ![v1228.toNat, 16]
def k0_off278 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t95 : Fin (k0_t95_loop v16 v31 v68 v105 v142 v179 v216 v253 v290 v327 v364 v401 v438 v475 v512 v549 v586 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t95
  let v1224 : BitVec 32 := Scalar.subi arg14 v1213
  let v1231 : Index := Scalar.indexCast v1224
  let c32_477 : Index := 32#32
  ![v1231.toNat, 32]
def k0_off279 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t95 : Fin (k0_t95_loop v16 v31 v68 v105 v142 v179 v216 v253 v290 v327 v364 v401 v438 v475 v512 v549 v586 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t95
  let v1224 : BitVec 32 := Scalar.subi arg14 v1213
  let v1234 : Index := Scalar.indexCast v1224
  let c48_478 : Index := 48#32
  ![v1234.toNat, 48]

def k0_chk51 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) : Prop :=
  (8 ∣ (k0_mult31 arg13).toNat) ∧
  (∀ a, (k0_off271 arg13) a + S512x128.size a ≤ S320000x128.size a) ∧
  ((k0_t94_loop v16 v31 v68 v105 v142 v179 v216 v253 v290 v327 v364 v401 v438 v475 v512 v549 v586 arg13).OK) ∧
  (∀ k0_t94 : Fin (k0_t94_loop v16 v31 v68 v105 v142 v179 v216 v253 v290 v327 v364 v401 v438 v475 v512 v549 v586 arg13).trips, ∀ a, (k0_off272 v16 v31 v68 v105 v142 v179 v216 v253 v290 v327 v364 v401 v438 v475 v512 v549 v586 arg13 k0_t94) a + S1x16.size a ≤ S512x128.size a) ∧
  (∀ k0_t94 : Fin (k0_t94_loop v16 v31 v68 v105 v142 v179 v216 v253 v290 v327 v364 v401 v438 v475 v512 v549 v586 arg13).trips, ∀ a, (k0_off273 v16 v31 v68 v105 v142 v179 v216 v253 v290 v327 v364 v401 v438 v475 v512 v549 v586 arg13 k0_t94) a + S1x16.size a ≤ S512x128.size a) ∧
  (∀ k0_t94 : Fin (k0_t94_loop v16 v31 v68 v105 v142 v179 v216 v253 v290 v327 v364 v401 v438 v475 v512 v549 v586 arg13).trips, ∀ a, (k0_off274 v16 v31 v68 v105 v142 v179 v216 v253 v290 v327 v364 v401 v438 v475 v512 v549 v586 arg13 k0_t94) a + S1x16.size a ≤ S512x128.size a) ∧
  (∀ k0_t94 : Fin (k0_t94_loop v16 v31 v68 v105 v142 v179 v216 v253 v290 v327 v364 v401 v438 v475 v512 v549 v586 arg13).trips, ∀ a, (k0_off275 v16 v31 v68 v105 v142 v179 v216 v253 v290 v327 v364 v401 v438 v475 v512 v549 v586 arg13 k0_t94) a + S1x16.size a ≤ S512x128.size a) ∧
  ((k0_t95_loop v16 v31 v68 v105 v142 v179 v216 v253 v290 v327 v364 v401 v438 v475 v512 v549 v586 arg13).OK) ∧
  (∀ k0_t95 : Fin (k0_t95_loop v16 v31 v68 v105 v142 v179 v216 v253 v290 v327 v364 v401 v438 v475 v512 v549 v586 arg13).trips, ∀ a, (k0_off276 v16 v31 v68 v105 v142 v179 v216 v253 v290 v327 v364 v401 v438 v475 v512 v549 v586 arg13 k0_t95) a + S1x16.size a ≤ S512x128.size a) ∧
  (∀ k0_t95 : Fin (k0_t95_loop v16 v31 v68 v105 v142 v179 v216 v253 v290 v327 v364 v401 v438 v475 v512 v549 v586 arg13).trips, ∀ a, (k0_off277 v16 v31 v68 v105 v142 v179 v216 v253 v290 v327 v364 v401 v438 v475 v512 v549 v586 arg13 k0_t95) a + S1x16.size a ≤ S512x128.size a) ∧
  (∀ k0_t95 : Fin (k0_t95_loop v16 v31 v68 v105 v142 v179 v216 v253 v290 v327 v364 v401 v438 v475 v512 v549 v586 arg13).trips, ∀ a, (k0_off278 v16 v31 v68 v105 v142 v179 v216 v253 v290 v327 v364 v401 v438 v475 v512 v549 v586 arg13 k0_t95) a + S1x16.size a ≤ S512x128.size a) ∧
  (∀ k0_t95 : Fin (k0_t95_loop v16 v31 v68 v105 v142 v179 v216 v253 v290 v327 v364 v401 v438 v475 v512 v549 v586 arg13).trips, ∀ a, (k0_off279 v16 v31 v68 v105 v142 v179 v216 v253 v290 v327 v364 v401 v438 v475 v512 v549 v586 arg13 k0_t95) a + S1x16.size a ≤ S512x128.size a)
theorem k0_mult31_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13), 8 ∣ (k0_mult31 arg13).toNat := fun v16 v31 v68 v105 v142 v179 v216 v253 v290 v327 v364 v401 v438 v475 v512 v549 v586 arg13 k0_hw51 => k0_hw51.1
theorem k0_off271_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13), ∀ a, (k0_off271 arg13) a + S512x128.size a ≤ S320000x128.size a := fun v16 v31 v68 v105 v142 v179 v216 v253 v290 v327 v364 v401 v438 v475 v512 v549 v586 arg13 k0_hw51 => k0_hw51.2.1
theorem k0_t94_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13), (k0_t94_loop v16 v31 v68 v105 v142 v179 v216 v253 v290 v327 v364 v401 v438 v475 v512 v549 v586 arg13).OK := fun v16 v31 v68 v105 v142 v179 v216 v253 v290 v327 v364 v401 v438 v475 v512 v549 v586 arg13 k0_hw51 => k0_hw51.2.2.1
theorem k0_off272_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13) (k0_t94 : Fin (k0_t94_loop v16 v31 v68 v105 v142 v179 v216 v253 v290 v327 v364 v401 v438 v475 v512 v549 v586 arg13).trips), ∀ a, (k0_off272 v16 v31 v68 v105 v142 v179 v216 v253 v290 v327 v364 v401 v438 v475 v512 v549 v586 arg13 k0_t94) a + S1x16.size a ≤ S512x128.size a := fun v16 v31 v68 v105 v142 v179 v216 v253 v290 v327 v364 v401 v438 v475 v512 v549 v586 arg13 k0_hw51 k0_t94 => k0_hw51.2.2.2.1 k0_t94
theorem k0_off273_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13) (k0_t94 : Fin (k0_t94_loop v16 v31 v68 v105 v142 v179 v216 v253 v290 v327 v364 v401 v438 v475 v512 v549 v586 arg13).trips), ∀ a, (k0_off273 v16 v31 v68 v105 v142 v179 v216 v253 v290 v327 v364 v401 v438 v475 v512 v549 v586 arg13 k0_t94) a + S1x16.size a ≤ S512x128.size a := fun v16 v31 v68 v105 v142 v179 v216 v253 v290 v327 v364 v401 v438 v475 v512 v549 v586 arg13 k0_hw51 k0_t94 => k0_hw51.2.2.2.2.1 k0_t94
theorem k0_off274_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13) (k0_t94 : Fin (k0_t94_loop v16 v31 v68 v105 v142 v179 v216 v253 v290 v327 v364 v401 v438 v475 v512 v549 v586 arg13).trips), ∀ a, (k0_off274 v16 v31 v68 v105 v142 v179 v216 v253 v290 v327 v364 v401 v438 v475 v512 v549 v586 arg13 k0_t94) a + S1x16.size a ≤ S512x128.size a := fun v16 v31 v68 v105 v142 v179 v216 v253 v290 v327 v364 v401 v438 v475 v512 v549 v586 arg13 k0_hw51 k0_t94 => k0_hw51.2.2.2.2.2.1 k0_t94
theorem k0_off275_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13) (k0_t94 : Fin (k0_t94_loop v16 v31 v68 v105 v142 v179 v216 v253 v290 v327 v364 v401 v438 v475 v512 v549 v586 arg13).trips), ∀ a, (k0_off275 v16 v31 v68 v105 v142 v179 v216 v253 v290 v327 v364 v401 v438 v475 v512 v549 v586 arg13 k0_t94) a + S1x16.size a ≤ S512x128.size a := fun v16 v31 v68 v105 v142 v179 v216 v253 v290 v327 v364 v401 v438 v475 v512 v549 v586 arg13 k0_hw51 k0_t94 => k0_hw51.2.2.2.2.2.2.1 k0_t94
theorem k0_t95_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13), (k0_t95_loop v16 v31 v68 v105 v142 v179 v216 v253 v290 v327 v364 v401 v438 v475 v512 v549 v586 arg13).OK := fun v16 v31 v68 v105 v142 v179 v216 v253 v290 v327 v364 v401 v438 v475 v512 v549 v586 arg13 k0_hw51 => k0_hw51.2.2.2.2.2.2.2.1
theorem k0_off276_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13) (k0_t95 : Fin (k0_t95_loop v16 v31 v68 v105 v142 v179 v216 v253 v290 v327 v364 v401 v438 v475 v512 v549 v586 arg13).trips), ∀ a, (k0_off276 v16 v31 v68 v105 v142 v179 v216 v253 v290 v327 v364 v401 v438 v475 v512 v549 v586 arg13 k0_t95) a + S1x16.size a ≤ S512x128.size a := fun v16 v31 v68 v105 v142 v179 v216 v253 v290 v327 v364 v401 v438 v475 v512 v549 v586 arg13 k0_hw51 k0_t95 => k0_hw51.2.2.2.2.2.2.2.2.1 k0_t95
theorem k0_off277_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13) (k0_t95 : Fin (k0_t95_loop v16 v31 v68 v105 v142 v179 v216 v253 v290 v327 v364 v401 v438 v475 v512 v549 v586 arg13).trips), ∀ a, (k0_off277 v16 v31 v68 v105 v142 v179 v216 v253 v290 v327 v364 v401 v438 v475 v512 v549 v586 arg13 k0_t95) a + S1x16.size a ≤ S512x128.size a := fun v16 v31 v68 v105 v142 v179 v216 v253 v290 v327 v364 v401 v438 v475 v512 v549 v586 arg13 k0_hw51 k0_t95 => k0_hw51.2.2.2.2.2.2.2.2.2.1 k0_t95
theorem k0_off278_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13) (k0_t95 : Fin (k0_t95_loop v16 v31 v68 v105 v142 v179 v216 v253 v290 v327 v364 v401 v438 v475 v512 v549 v586 arg13).trips), ∀ a, (k0_off278 v16 v31 v68 v105 v142 v179 v216 v253 v290 v327 v364 v401 v438 v475 v512 v549 v586 arg13 k0_t95) a + S1x16.size a ≤ S512x128.size a := fun v16 v31 v68 v105 v142 v179 v216 v253 v290 v327 v364 v401 v438 v475 v512 v549 v586 arg13 k0_hw51 k0_t95 => k0_hw51.2.2.2.2.2.2.2.2.2.2.1 k0_t95
theorem k0_off279_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw51 : k0_chk51 v16 v31 v68 v105 v142 v179 v216 v253 v290 v327 v364 v401 v438 v475 v512 v549 v586 arg13) (k0_t95 : Fin (k0_t95_loop v16 v31 v68 v105 v142 v179 v216 v253 v290 v327 v364 v401 v438 v475 v512 v549 v586 arg13).trips), ∀ a, (k0_off279 v16 v31 v68 v105 v142 v179 v216 v253 v290 v327 v364 v401 v438 v475 v512 v549 v586 arg13 k0_t95) a + S1x16.size a ≤ S512x128.size a := fun v16 v31 v68 v105 v142 v179 v216 v253 v290 v327 v364 v401 v438 v475 v512 v549 v586 arg13 k0_hw51 k0_t95 => k0_hw51.2.2.2.2.2.2.2.2.2.2.2 k0_t95

@[reducible] def k0_t96_loop (v586 : BitVec 32) : Scf.Loop 32 :=
  let c0_i32_227 : BitVec 32 := 0#32
  let c0_i32_220 : BitVec 32 := 0#32
  let v589 : BitVec 1 := Scalar.cmpi .sgt v586 c0_i32_220
  let v590 : BitVec 32 := Scalar.extui v589
  let c0_i32_221 : BitVec 32 := 0#32
  let v591 : BitVec 1 := Scalar.cmpi .slt v586 c0_i32_221
  let v592 : BitVec 32 := Scalar.extui v591
  let v593 : BitVec 32 := Scalar.subi v590 v592
  let c504_i32_219 : BitVec 32 := 504#32
  let c0_i32_222 : BitVec 32 := 0#32
  let v594 : BitVec 1 := Scalar.cmpi .sgt c504_i32_219 c0_i32_222
  let v595 : BitVec 32 := Scalar.extui v594
  let c0_i32_223 : BitVec 32 := 0#32
  let v596 : BitVec 1 := Scalar.cmpi .slt c504_i32_219 c0_i32_223
  let v597 : BitVec 32 := Scalar.extui v596
  let v598 : BitVec 32 := Scalar.subi v595 v597
  let v599 : BitVec 1 := Scalar.cmpi .ne v593 v598
  let v600 : BitVec 32 := Scalar.remsi v586 c504_i32_219
  let c0_i32_224 : BitVec 32 := 0#32
  let v601 : BitVec 1 := Scalar.cmpi .ne v600 c0_i32_224
  let v602 : BitVec 1 := Scalar.andi v599 v601
  let v588 : BitVec 32 := Scalar.divsi v586 c504_i32_219
  let c1_i32_225 : BitVec 32 := 1#32
  let v603 : BitVec 32 := Scalar.subi v588 c1_i32_225
  let v604 : BitVec 32 := Scalar.select v602 v603 v588
  let c1_i32_226 : BitVec 32 := 1#32
  let v605 : BitVec 32 := Scalar.addi v604 c1_i32_226
  let v606 : BitVec 32 := Scalar.subi v605 c0_i32_227
  let c1_i32_228 : BitVec 32 := 1#32
  let v608 : BitVec 32 := Scalar.divsi v606 c1_i32_228
  let v609 : BitVec 32 := Scalar.muli v608 c1_i32_228
  let v610 : BitVec 32 := Scalar.addi c0_i32_227 v609
  let v607 : BitVec 32 := Scalar.addi c0_i32_227 v606
  let c1_i32_230 : BitVec 32 := 1#32
  ⟨v610, v607, c1_i32_230⟩

def k0_chk50 (v586 : BitVec 32) : Prop :=
  ((k0_t93_loop v586).OK) ∧
  ((k0_t96_loop v586).OK)
theorem k0_t93_ok : ∀ (v586 : BitVec 32) (k0_hw50 : k0_chk50 v586), (k0_t93_loop v586).OK := fun v586 k0_hw50 => k0_hw50.1
theorem k0_t96_ok : ∀ (v586 : BitVec 32) (k0_hw50 : k0_chk50 v586), (k0_t96_loop v586).OK := fun v586 k0_hw50 => k0_hw50.2

def k0_mult32 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off280 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r32 : BitVec 32 := 0#32
  ![v1213.toNat, 0]
@[reducible] def k0_t97_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off281 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t97 : Fin (k0_t97_loop v16 v31 v68 v105 v142 v179 v216 v253 v290 v327 v364 v401 v438 v475 v512 v549 v586 arg13).trips) : Fin 2 → Nat :=
  let c1_i32_473 : BitVec 32 := 1#32
  let arg14 : BitVec 32 := Scf.iv arg13 c1_i32_473 k0_t97
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off282 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t97 : Fin (k0_t97_loop v16 v31 v68 v105 v142 v179 v216 v253 v290 v327 v364 v401 v438 v475 v512 v549 v586 arg13).trips) : Fin 2 → Nat :=
  let c1_i32_473 : BitVec 32 := 1#32
  let arg14 : BitVec 32 := Scf.iv arg13 c1_i32_473 k0_t97
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off283 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t97 : Fin (k0_t97_loop v16 v31 v68 v105 v142 v179 v216 v253 v290 v327 v364 v401 v438 v475 v512 v549 v586 arg13).trips) : Fin 2 → Nat :=
  let c1_i32_473 : BitVec 32 := 1#32
  let arg14 : BitVec 32 := Scf.iv arg13 c1_i32_473 k0_t97
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off284 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t97 : Fin (k0_t97_loop v16 v31 v68 v105 v142 v179 v216 v253 v290 v327 v364 v401 v438 v475 v512 v549 v586 arg13).trips) : Fin 2 → Nat :=
  let c1_i32_473 : BitVec 32 := 1#32
  let arg14 : BitVec 32 := Scf.iv arg13 c1_i32_473 k0_t97
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t98_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off285 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t98 : Fin (k0_t98_loop v16 v31 v68 v105 v142 v179 v216 v253 v290 v327 v364 v401 v438 v475 v512 v549 v586 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t98
  let v1224 : BitVec 32 := Scalar.subi arg14 v1213
  let v1225 : Index := Scalar.indexCast v1224
  let c0_475 : Index := 0#32
  ![v1225.toNat, 0]
def k0_off286 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t98 : Fin (k0_t98_loop v16 v31 v68 v105 v142 v179 v216 v253 v290 v327 v364 v401 v438 v475 v512 v549 v586 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t98
  let v1224 : BitVec 32 := Scalar.subi arg14 v1213
  let v1228 : Index := Scalar.indexCast v1224
  let c16_476 : Index := 16#32
  ![v1228.toNat, 16]
def k0_off287 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t98 : Fin (k0_t98_loop v16 v31 v68 v105 v142 v179 v216 v253 v290 v327 v364 v401 v438 v475 v512 v549 v586 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t98
  let v1224 : BitVec 32 := Scalar.subi arg14 v1213
  let v1231 : Index := Scalar.indexCast v1224
  let c32_477 : Index := 32#32
  ![v1231.toNat, 32]
def k0_off288 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_t98 : Fin (k0_t98_loop v16 v31 v68 v105 v142 v179 v216 v253 v290 v327 v364 v401 v438 v475 v512 v549 v586 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v587 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t98
  let v1224 : BitVec 32 := Scalar.subi arg14 v1213
  let v1234 : Index := Scalar.indexCast v1224
  let c48_478 : Index := 48#32
  ![v1234.toNat, 48]

def k0_chk52 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) : Prop :=
  (8 ∣ (k0_mult32 arg13).toNat) ∧
  (∀ a, (k0_off280 arg13) a + S512x128.size a ≤ S320000x128.size a) ∧
  ((k0_t97_loop v16 v31 v68 v105 v142 v179 v216 v253 v290 v327 v364 v401 v438 v475 v512 v549 v586 arg13).OK) ∧
  (∀ k0_t97 : Fin (k0_t97_loop v16 v31 v68 v105 v142 v179 v216 v253 v290 v327 v364 v401 v438 v475 v512 v549 v586 arg13).trips, ∀ a, (k0_off281 v16 v31 v68 v105 v142 v179 v216 v253 v290 v327 v364 v401 v438 v475 v512 v549 v586 arg13 k0_t97) a + S1x16.size a ≤ S512x128.size a) ∧
  (∀ k0_t97 : Fin (k0_t97_loop v16 v31 v68 v105 v142 v179 v216 v253 v290 v327 v364 v401 v438 v475 v512 v549 v586 arg13).trips, ∀ a, (k0_off282 v16 v31 v68 v105 v142 v179 v216 v253 v290 v327 v364 v401 v438 v475 v512 v549 v586 arg13 k0_t97) a + S1x16.size a ≤ S512x128.size a) ∧
  (∀ k0_t97 : Fin (k0_t97_loop v16 v31 v68 v105 v142 v179 v216 v253 v290 v327 v364 v401 v438 v475 v512 v549 v586 arg13).trips, ∀ a, (k0_off283 v16 v31 v68 v105 v142 v179 v216 v253 v290 v327 v364 v401 v438 v475 v512 v549 v586 arg13 k0_t97) a + S1x16.size a ≤ S512x128.size a) ∧
  (∀ k0_t97 : Fin (k0_t97_loop v16 v31 v68 v105 v142 v179 v216 v253 v290 v327 v364 v401 v438 v475 v512 v549 v586 arg13).trips, ∀ a, (k0_off284 v16 v31 v68 v105 v142 v179 v216 v253 v290 v327 v364 v401 v438 v475 v512 v549 v586 arg13 k0_t97) a + S1x16.size a ≤ S512x128.size a) ∧
  ((k0_t98_loop v16 v31 v68 v105 v142 v179 v216 v253 v290 v327 v364 v401 v438 v475 v512 v549 v586 arg13).OK) ∧
  (∀ k0_t98 : Fin (k0_t98_loop v16 v31 v68 v105 v142 v179 v216 v253 v290 v327 v364 v401 v438 v475 v512 v549 v586 arg13).trips, ∀ a, (k0_off285 v16 v31 v68 v105 v142 v179 v216 v253 v290 v327 v364 v401 v438 v475 v512 v549 v586 arg13 k0_t98) a + S1x16.size a ≤ S512x128.size a) ∧
  (∀ k0_t98 : Fin (k0_t98_loop v16 v31 v68 v105 v142 v179 v216 v253 v290 v327 v364 v401 v438 v475 v512 v549 v586 arg13).trips, ∀ a, (k0_off286 v16 v31 v68 v105 v142 v179 v216 v253 v290 v327 v364 v401 v438 v475 v512 v549 v586 arg13 k0_t98) a + S1x16.size a ≤ S512x128.size a) ∧
  (∀ k0_t98 : Fin (k0_t98_loop v16 v31 v68 v105 v142 v179 v216 v253 v290 v327 v364 v401 v438 v475 v512 v549 v586 arg13).trips, ∀ a, (k0_off287 v16 v31 v68 v105 v142 v179 v216 v253 v290 v327 v364 v401 v438 v475 v512 v549 v586 arg13 k0_t98) a + S1x16.size a ≤ S512x128.size a) ∧
  (∀ k0_t98 : Fin (k0_t98_loop v16 v31 v68 v105 v142 v179 v216 v253 v290 v327 v364 v401 v438 v475 v512 v549 v586 arg13).trips, ∀ a, (k0_off288 v16 v31 v68 v105 v142 v179 v216 v253 v290 v327 v364 v401 v438 v475 v512 v549 v586 arg13 k0_t98) a + S1x16.size a ≤ S512x128.size a)
theorem k0_mult32_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13), 8 ∣ (k0_mult32 arg13).toNat := fun v16 v31 v68 v105 v142 v179 v216 v253 v290 v327 v364 v401 v438 v475 v512 v549 v586 arg13 k0_hw52 => k0_hw52.1
theorem k0_off280_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13), ∀ a, (k0_off280 arg13) a + S512x128.size a ≤ S320000x128.size a := fun v16 v31 v68 v105 v142 v179 v216 v253 v290 v327 v364 v401 v438 v475 v512 v549 v586 arg13 k0_hw52 => k0_hw52.2.1
theorem k0_t97_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13), (k0_t97_loop v16 v31 v68 v105 v142 v179 v216 v253 v290 v327 v364 v401 v438 v475 v512 v549 v586 arg13).OK := fun v16 v31 v68 v105 v142 v179 v216 v253 v290 v327 v364 v401 v438 v475 v512 v549 v586 arg13 k0_hw52 => k0_hw52.2.2.1
theorem k0_off281_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13) (k0_t97 : Fin (k0_t97_loop v16 v31 v68 v105 v142 v179 v216 v253 v290 v327 v364 v401 v438 v475 v512 v549 v586 arg13).trips), ∀ a, (k0_off281 v16 v31 v68 v105 v142 v179 v216 v253 v290 v327 v364 v401 v438 v475 v512 v549 v586 arg13 k0_t97) a + S1x16.size a ≤ S512x128.size a := fun v16 v31 v68 v105 v142 v179 v216 v253 v290 v327 v364 v401 v438 v475 v512 v549 v586 arg13 k0_hw52 k0_t97 => k0_hw52.2.2.2.1 k0_t97
theorem k0_off282_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13) (k0_t97 : Fin (k0_t97_loop v16 v31 v68 v105 v142 v179 v216 v253 v290 v327 v364 v401 v438 v475 v512 v549 v586 arg13).trips), ∀ a, (k0_off282 v16 v31 v68 v105 v142 v179 v216 v253 v290 v327 v364 v401 v438 v475 v512 v549 v586 arg13 k0_t97) a + S1x16.size a ≤ S512x128.size a := fun v16 v31 v68 v105 v142 v179 v216 v253 v290 v327 v364 v401 v438 v475 v512 v549 v586 arg13 k0_hw52 k0_t97 => k0_hw52.2.2.2.2.1 k0_t97
theorem k0_off283_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13) (k0_t97 : Fin (k0_t97_loop v16 v31 v68 v105 v142 v179 v216 v253 v290 v327 v364 v401 v438 v475 v512 v549 v586 arg13).trips), ∀ a, (k0_off283 v16 v31 v68 v105 v142 v179 v216 v253 v290 v327 v364 v401 v438 v475 v512 v549 v586 arg13 k0_t97) a + S1x16.size a ≤ S512x128.size a := fun v16 v31 v68 v105 v142 v179 v216 v253 v290 v327 v364 v401 v438 v475 v512 v549 v586 arg13 k0_hw52 k0_t97 => k0_hw52.2.2.2.2.2.1 k0_t97
theorem k0_off284_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13) (k0_t97 : Fin (k0_t97_loop v16 v31 v68 v105 v142 v179 v216 v253 v290 v327 v364 v401 v438 v475 v512 v549 v586 arg13).trips), ∀ a, (k0_off284 v16 v31 v68 v105 v142 v179 v216 v253 v290 v327 v364 v401 v438 v475 v512 v549 v586 arg13 k0_t97) a + S1x16.size a ≤ S512x128.size a := fun v16 v31 v68 v105 v142 v179 v216 v253 v290 v327 v364 v401 v438 v475 v512 v549 v586 arg13 k0_hw52 k0_t97 => k0_hw52.2.2.2.2.2.2.1 k0_t97
theorem k0_t98_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13), (k0_t98_loop v16 v31 v68 v105 v142 v179 v216 v253 v290 v327 v364 v401 v438 v475 v512 v549 v586 arg13).OK := fun v16 v31 v68 v105 v142 v179 v216 v253 v290 v327 v364 v401 v438 v475 v512 v549 v586 arg13 k0_hw52 => k0_hw52.2.2.2.2.2.2.2.1
theorem k0_off285_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13) (k0_t98 : Fin (k0_t98_loop v16 v31 v68 v105 v142 v179 v216 v253 v290 v327 v364 v401 v438 v475 v512 v549 v586 arg13).trips), ∀ a, (k0_off285 v16 v31 v68 v105 v142 v179 v216 v253 v290 v327 v364 v401 v438 v475 v512 v549 v586 arg13 k0_t98) a + S1x16.size a ≤ S512x128.size a := fun v16 v31 v68 v105 v142 v179 v216 v253 v290 v327 v364 v401 v438 v475 v512 v549 v586 arg13 k0_hw52 k0_t98 => k0_hw52.2.2.2.2.2.2.2.2.1 k0_t98
theorem k0_off286_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13) (k0_t98 : Fin (k0_t98_loop v16 v31 v68 v105 v142 v179 v216 v253 v290 v327 v364 v401 v438 v475 v512 v549 v586 arg13).trips), ∀ a, (k0_off286 v16 v31 v68 v105 v142 v179 v216 v253 v290 v327 v364 v401 v438 v475 v512 v549 v586 arg13 k0_t98) a + S1x16.size a ≤ S512x128.size a := fun v16 v31 v68 v105 v142 v179 v216 v253 v290 v327 v364 v401 v438 v475 v512 v549 v586 arg13 k0_hw52 k0_t98 => k0_hw52.2.2.2.2.2.2.2.2.2.1 k0_t98
theorem k0_off287_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13) (k0_t98 : Fin (k0_t98_loop v16 v31 v68 v105 v142 v179 v216 v253 v290 v327 v364 v401 v438 v475 v512 v549 v586 arg13).trips), ∀ a, (k0_off287 v16 v31 v68 v105 v142 v179 v216 v253 v290 v327 v364 v401 v438 v475 v512 v549 v586 arg13 k0_t98) a + S1x16.size a ≤ S512x128.size a := fun v16 v31 v68 v105 v142 v179 v216 v253 v290 v327 v364 v401 v438 v475 v512 v549 v586 arg13 k0_hw52 k0_t98 => k0_hw52.2.2.2.2.2.2.2.2.2.2.1 k0_t98
theorem k0_off288_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (arg13 : BitVec 32) (k0_hw52 : k0_chk52 v16 v31 v68 v105 v142 v179 v216 v253 v290 v327 v364 v401 v438 v475 v512 v549 v586 arg13) (k0_t98 : Fin (k0_t98_loop v16 v31 v68 v105 v142 v179 v216 v253 v290 v327 v364 v401 v438 v475 v512 v549 v586 arg13).trips), ∀ a, (k0_off288 v16 v31 v68 v105 v142 v179 v216 v253 v290 v327 v364 v401 v438 v475 v512 v549 v586 arg13 k0_t98) a + S1x16.size a ≤ S512x128.size a := fun v16 v31 v68 v105 v142 v179 v216 v253 v290 v327 v364 v401 v438 v475 v512 v549 v586 arg13 k0_hw52 k0_t98 => k0_hw52.2.2.2.2.2.2.2.2.2.2.2 k0_t98

@[reducible] def k0_t99_loop (v623 : BitVec 32) : Scf.Loop 32 :=
  let c0_i32_242 : BitVec 32 := 0#32
  let c0_i32_235 : BitVec 32 := 0#32
  let v626 : BitVec 1 := Scalar.cmpi .sgt v623 c0_i32_235
  let v627 : BitVec 32 := Scalar.extui v626
  let c0_i32_236 : BitVec 32 := 0#32
  let v628 : BitVec 1 := Scalar.cmpi .slt v623 c0_i32_236
  let v629 : BitVec 32 := Scalar.extui v628
  let v630 : BitVec 32 := Scalar.subi v627 v629
  let c504_i32_234 : BitVec 32 := 504#32
  let c0_i32_237 : BitVec 32 := 0#32
  let v631 : BitVec 1 := Scalar.cmpi .sgt c504_i32_234 c0_i32_237
  let v632 : BitVec 32 := Scalar.extui v631
  let c0_i32_238 : BitVec 32 := 0#32
  let v633 : BitVec 1 := Scalar.cmpi .slt c504_i32_234 c0_i32_238
  let v634 : BitVec 32 := Scalar.extui v633
  let v635 : BitVec 32 := Scalar.subi v632 v634
  let v636 : BitVec 1 := Scalar.cmpi .ne v630 v635
  let v637 : BitVec 32 := Scalar.remsi v623 c504_i32_234
  let c0_i32_239 : BitVec 32 := 0#32
  let v638 : BitVec 1 := Scalar.cmpi .ne v637 c0_i32_239
  let v639 : BitVec 1 := Scalar.andi v636 v638
  let v625 : BitVec 32 := Scalar.divsi v623 c504_i32_234
  let c1_i32_240 : BitVec 32 := 1#32
  let v640 : BitVec 32 := Scalar.subi v625 c1_i32_240
  let v641 : BitVec 32 := Scalar.select v639 v640 v625
  let c1_i32_241 : BitVec 32 := 1#32
  let v642 : BitVec 32 := Scalar.addi v641 c1_i32_241
  let v643 : BitVec 32 := Scalar.subi v642 c0_i32_242
  let c1_i32_243 : BitVec 32 := 1#32
  let v645 : BitVec 32 := Scalar.divsi v643 c1_i32_243
  let v646 : BitVec 32 := Scalar.muli v645 c1_i32_243
  let v647 : BitVec 32 := Scalar.addi c0_i32_242 v646
  let c1_i32_244 : BitVec 32 := 1#32
  ⟨c0_i32_242, v647, c1_i32_244⟩

def k0_mult33 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off289 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r33 : BitVec 32 := 0#32
  ![v1213.toNat, 0]
@[reducible] def k0_t100_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off290 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t100 : Fin (k0_t100_loop v16 v31 v68 v105 v142 v179 v216 v253 v290 v327 v364 v401 v438 v475 v512 v549 v586 v623 arg13).trips) : Fin 2 → Nat :=
  let c1_i32_473 : BitVec 32 := 1#32
  let arg14 : BitVec 32 := Scf.iv arg13 c1_i32_473 k0_t100
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off291 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t100 : Fin (k0_t100_loop v16 v31 v68 v105 v142 v179 v216 v253 v290 v327 v364 v401 v438 v475 v512 v549 v586 v623 arg13).trips) : Fin 2 → Nat :=
  let c1_i32_473 : BitVec 32 := 1#32
  let arg14 : BitVec 32 := Scf.iv arg13 c1_i32_473 k0_t100
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off292 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t100 : Fin (k0_t100_loop v16 v31 v68 v105 v142 v179 v216 v253 v290 v327 v364 v401 v438 v475 v512 v549 v586 v623 arg13).trips) : Fin 2 → Nat :=
  let c1_i32_473 : BitVec 32 := 1#32
  let arg14 : BitVec 32 := Scf.iv arg13 c1_i32_473 k0_t100
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off293 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t100 : Fin (k0_t100_loop v16 v31 v68 v105 v142 v179 v216 v253 v290 v327 v364 v401 v438 v475 v512 v549 v586 v623 arg13).trips) : Fin 2 → Nat :=
  let c1_i32_473 : BitVec 32 := 1#32
  let arg14 : BitVec 32 := Scf.iv arg13 c1_i32_473 k0_t100
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t101_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off294 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t101 : Fin (k0_t101_loop v16 v31 v68 v105 v142 v179 v216 v253 v290 v327 v364 v401 v438 v475 v512 v549 v586 v623 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t101
  let v1224 : BitVec 32 := Scalar.subi arg14 v1213
  let v1225 : Index := Scalar.indexCast v1224
  let c0_475 : Index := 0#32
  ![v1225.toNat, 0]
def k0_off295 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t101 : Fin (k0_t101_loop v16 v31 v68 v105 v142 v179 v216 v253 v290 v327 v364 v401 v438 v475 v512 v549 v586 v623 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t101
  let v1224 : BitVec 32 := Scalar.subi arg14 v1213
  let v1228 : Index := Scalar.indexCast v1224
  let c16_476 : Index := 16#32
  ![v1228.toNat, 16]
def k0_off296 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t101 : Fin (k0_t101_loop v16 v31 v68 v105 v142 v179 v216 v253 v290 v327 v364 v401 v438 v475 v512 v549 v586 v623 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t101
  let v1224 : BitVec 32 := Scalar.subi arg14 v1213
  let v1231 : Index := Scalar.indexCast v1224
  let c32_477 : Index := 32#32
  ![v1231.toNat, 32]
def k0_off297 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t101 : Fin (k0_t101_loop v16 v31 v68 v105 v142 v179 v216 v253 v290 v327 v364 v401 v438 v475 v512 v549 v586 v623 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t101
  let v1224 : BitVec 32 := Scalar.subi arg14 v1213
  let v1234 : Index := Scalar.indexCast v1224
  let c48_478 : Index := 48#32
  ![v1234.toNat, 48]

def k0_chk54 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) : Prop :=
  (8 ∣ (k0_mult33 arg13).toNat) ∧
  (∀ a, (k0_off289 arg13) a + S512x128.size a ≤ S320000x128.size a) ∧
  ((k0_t100_loop v16 v31 v68 v105 v142 v179 v216 v253 v290 v327 v364 v401 v438 v475 v512 v549 v586 v623 arg13).OK) ∧
  (∀ k0_t100 : Fin (k0_t100_loop v16 v31 v68 v105 v142 v179 v216 v253 v290 v327 v364 v401 v438 v475 v512 v549 v586 v623 arg13).trips, ∀ a, (k0_off290 v16 v31 v68 v105 v142 v179 v216 v253 v290 v327 v364 v401 v438 v475 v512 v549 v586 v623 arg13 k0_t100) a + S1x16.size a ≤ S512x128.size a) ∧
  (∀ k0_t100 : Fin (k0_t100_loop v16 v31 v68 v105 v142 v179 v216 v253 v290 v327 v364 v401 v438 v475 v512 v549 v586 v623 arg13).trips, ∀ a, (k0_off291 v16 v31 v68 v105 v142 v179 v216 v253 v290 v327 v364 v401 v438 v475 v512 v549 v586 v623 arg13 k0_t100) a + S1x16.size a ≤ S512x128.size a) ∧
  (∀ k0_t100 : Fin (k0_t100_loop v16 v31 v68 v105 v142 v179 v216 v253 v290 v327 v364 v401 v438 v475 v512 v549 v586 v623 arg13).trips, ∀ a, (k0_off292 v16 v31 v68 v105 v142 v179 v216 v253 v290 v327 v364 v401 v438 v475 v512 v549 v586 v623 arg13 k0_t100) a + S1x16.size a ≤ S512x128.size a) ∧
  (∀ k0_t100 : Fin (k0_t100_loop v16 v31 v68 v105 v142 v179 v216 v253 v290 v327 v364 v401 v438 v475 v512 v549 v586 v623 arg13).trips, ∀ a, (k0_off293 v16 v31 v68 v105 v142 v179 v216 v253 v290 v327 v364 v401 v438 v475 v512 v549 v586 v623 arg13 k0_t100) a + S1x16.size a ≤ S512x128.size a) ∧
  ((k0_t101_loop v16 v31 v68 v105 v142 v179 v216 v253 v290 v327 v364 v401 v438 v475 v512 v549 v586 v623 arg13).OK) ∧
  (∀ k0_t101 : Fin (k0_t101_loop v16 v31 v68 v105 v142 v179 v216 v253 v290 v327 v364 v401 v438 v475 v512 v549 v586 v623 arg13).trips, ∀ a, (k0_off294 v16 v31 v68 v105 v142 v179 v216 v253 v290 v327 v364 v401 v438 v475 v512 v549 v586 v623 arg13 k0_t101) a + S1x16.size a ≤ S512x128.size a) ∧
  (∀ k0_t101 : Fin (k0_t101_loop v16 v31 v68 v105 v142 v179 v216 v253 v290 v327 v364 v401 v438 v475 v512 v549 v586 v623 arg13).trips, ∀ a, (k0_off295 v16 v31 v68 v105 v142 v179 v216 v253 v290 v327 v364 v401 v438 v475 v512 v549 v586 v623 arg13 k0_t101) a + S1x16.size a ≤ S512x128.size a) ∧
  (∀ k0_t101 : Fin (k0_t101_loop v16 v31 v68 v105 v142 v179 v216 v253 v290 v327 v364 v401 v438 v475 v512 v549 v586 v623 arg13).trips, ∀ a, (k0_off296 v16 v31 v68 v105 v142 v179 v216 v253 v290 v327 v364 v401 v438 v475 v512 v549 v586 v623 arg13 k0_t101) a + S1x16.size a ≤ S512x128.size a) ∧
  (∀ k0_t101 : Fin (k0_t101_loop v16 v31 v68 v105 v142 v179 v216 v253 v290 v327 v364 v401 v438 v475 v512 v549 v586 v623 arg13).trips, ∀ a, (k0_off297 v16 v31 v68 v105 v142 v179 v216 v253 v290 v327 v364 v401 v438 v475 v512 v549 v586 v623 arg13 k0_t101) a + S1x16.size a ≤ S512x128.size a)
theorem k0_mult33_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13), 8 ∣ (k0_mult33 arg13).toNat := fun v16 v31 v68 v105 v142 v179 v216 v253 v290 v327 v364 v401 v438 v475 v512 v549 v586 v623 arg13 k0_hw54 => k0_hw54.1
theorem k0_off289_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13), ∀ a, (k0_off289 arg13) a + S512x128.size a ≤ S320000x128.size a := fun v16 v31 v68 v105 v142 v179 v216 v253 v290 v327 v364 v401 v438 v475 v512 v549 v586 v623 arg13 k0_hw54 => k0_hw54.2.1
theorem k0_t100_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13), (k0_t100_loop v16 v31 v68 v105 v142 v179 v216 v253 v290 v327 v364 v401 v438 v475 v512 v549 v586 v623 arg13).OK := fun v16 v31 v68 v105 v142 v179 v216 v253 v290 v327 v364 v401 v438 v475 v512 v549 v586 v623 arg13 k0_hw54 => k0_hw54.2.2.1
theorem k0_off290_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13) (k0_t100 : Fin (k0_t100_loop v16 v31 v68 v105 v142 v179 v216 v253 v290 v327 v364 v401 v438 v475 v512 v549 v586 v623 arg13).trips), ∀ a, (k0_off290 v16 v31 v68 v105 v142 v179 v216 v253 v290 v327 v364 v401 v438 v475 v512 v549 v586 v623 arg13 k0_t100) a + S1x16.size a ≤ S512x128.size a := fun v16 v31 v68 v105 v142 v179 v216 v253 v290 v327 v364 v401 v438 v475 v512 v549 v586 v623 arg13 k0_hw54 k0_t100 => k0_hw54.2.2.2.1 k0_t100
theorem k0_off291_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13) (k0_t100 : Fin (k0_t100_loop v16 v31 v68 v105 v142 v179 v216 v253 v290 v327 v364 v401 v438 v475 v512 v549 v586 v623 arg13).trips), ∀ a, (k0_off291 v16 v31 v68 v105 v142 v179 v216 v253 v290 v327 v364 v401 v438 v475 v512 v549 v586 v623 arg13 k0_t100) a + S1x16.size a ≤ S512x128.size a := fun v16 v31 v68 v105 v142 v179 v216 v253 v290 v327 v364 v401 v438 v475 v512 v549 v586 v623 arg13 k0_hw54 k0_t100 => k0_hw54.2.2.2.2.1 k0_t100
theorem k0_off292_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13) (k0_t100 : Fin (k0_t100_loop v16 v31 v68 v105 v142 v179 v216 v253 v290 v327 v364 v401 v438 v475 v512 v549 v586 v623 arg13).trips), ∀ a, (k0_off292 v16 v31 v68 v105 v142 v179 v216 v253 v290 v327 v364 v401 v438 v475 v512 v549 v586 v623 arg13 k0_t100) a + S1x16.size a ≤ S512x128.size a := fun v16 v31 v68 v105 v142 v179 v216 v253 v290 v327 v364 v401 v438 v475 v512 v549 v586 v623 arg13 k0_hw54 k0_t100 => k0_hw54.2.2.2.2.2.1 k0_t100
theorem k0_off293_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13) (k0_t100 : Fin (k0_t100_loop v16 v31 v68 v105 v142 v179 v216 v253 v290 v327 v364 v401 v438 v475 v512 v549 v586 v623 arg13).trips), ∀ a, (k0_off293 v16 v31 v68 v105 v142 v179 v216 v253 v290 v327 v364 v401 v438 v475 v512 v549 v586 v623 arg13 k0_t100) a + S1x16.size a ≤ S512x128.size a := fun v16 v31 v68 v105 v142 v179 v216 v253 v290 v327 v364 v401 v438 v475 v512 v549 v586 v623 arg13 k0_hw54 k0_t100 => k0_hw54.2.2.2.2.2.2.1 k0_t100
theorem k0_t101_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13), (k0_t101_loop v16 v31 v68 v105 v142 v179 v216 v253 v290 v327 v364 v401 v438 v475 v512 v549 v586 v623 arg13).OK := fun v16 v31 v68 v105 v142 v179 v216 v253 v290 v327 v364 v401 v438 v475 v512 v549 v586 v623 arg13 k0_hw54 => k0_hw54.2.2.2.2.2.2.2.1
theorem k0_off294_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13) (k0_t101 : Fin (k0_t101_loop v16 v31 v68 v105 v142 v179 v216 v253 v290 v327 v364 v401 v438 v475 v512 v549 v586 v623 arg13).trips), ∀ a, (k0_off294 v16 v31 v68 v105 v142 v179 v216 v253 v290 v327 v364 v401 v438 v475 v512 v549 v586 v623 arg13 k0_t101) a + S1x16.size a ≤ S512x128.size a := fun v16 v31 v68 v105 v142 v179 v216 v253 v290 v327 v364 v401 v438 v475 v512 v549 v586 v623 arg13 k0_hw54 k0_t101 => k0_hw54.2.2.2.2.2.2.2.2.1 k0_t101
theorem k0_off295_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13) (k0_t101 : Fin (k0_t101_loop v16 v31 v68 v105 v142 v179 v216 v253 v290 v327 v364 v401 v438 v475 v512 v549 v586 v623 arg13).trips), ∀ a, (k0_off295 v16 v31 v68 v105 v142 v179 v216 v253 v290 v327 v364 v401 v438 v475 v512 v549 v586 v623 arg13 k0_t101) a + S1x16.size a ≤ S512x128.size a := fun v16 v31 v68 v105 v142 v179 v216 v253 v290 v327 v364 v401 v438 v475 v512 v549 v586 v623 arg13 k0_hw54 k0_t101 => k0_hw54.2.2.2.2.2.2.2.2.2.1 k0_t101
theorem k0_off296_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13) (k0_t101 : Fin (k0_t101_loop v16 v31 v68 v105 v142 v179 v216 v253 v290 v327 v364 v401 v438 v475 v512 v549 v586 v623 arg13).trips), ∀ a, (k0_off296 v16 v31 v68 v105 v142 v179 v216 v253 v290 v327 v364 v401 v438 v475 v512 v549 v586 v623 arg13 k0_t101) a + S1x16.size a ≤ S512x128.size a := fun v16 v31 v68 v105 v142 v179 v216 v253 v290 v327 v364 v401 v438 v475 v512 v549 v586 v623 arg13 k0_hw54 k0_t101 => k0_hw54.2.2.2.2.2.2.2.2.2.2.1 k0_t101
theorem k0_off297_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw54 : k0_chk54 v16 v31 v68 v105 v142 v179 v216 v253 v290 v327 v364 v401 v438 v475 v512 v549 v586 v623 arg13) (k0_t101 : Fin (k0_t101_loop v16 v31 v68 v105 v142 v179 v216 v253 v290 v327 v364 v401 v438 v475 v512 v549 v586 v623 arg13).trips), ∀ a, (k0_off297 v16 v31 v68 v105 v142 v179 v216 v253 v290 v327 v364 v401 v438 v475 v512 v549 v586 v623 arg13 k0_t101) a + S1x16.size a ≤ S512x128.size a := fun v16 v31 v68 v105 v142 v179 v216 v253 v290 v327 v364 v401 v438 v475 v512 v549 v586 v623 arg13 k0_hw54 k0_t101 => k0_hw54.2.2.2.2.2.2.2.2.2.2.2 k0_t101

@[reducible] def k0_t102_loop (v623 : BitVec 32) : Scf.Loop 32 :=
  let c0_i32_242 : BitVec 32 := 0#32
  let c0_i32_235 : BitVec 32 := 0#32
  let v626 : BitVec 1 := Scalar.cmpi .sgt v623 c0_i32_235
  let v627 : BitVec 32 := Scalar.extui v626
  let c0_i32_236 : BitVec 32 := 0#32
  let v628 : BitVec 1 := Scalar.cmpi .slt v623 c0_i32_236
  let v629 : BitVec 32 := Scalar.extui v628
  let v630 : BitVec 32 := Scalar.subi v627 v629
  let c504_i32_234 : BitVec 32 := 504#32
  let c0_i32_237 : BitVec 32 := 0#32
  let v631 : BitVec 1 := Scalar.cmpi .sgt c504_i32_234 c0_i32_237
  let v632 : BitVec 32 := Scalar.extui v631
  let c0_i32_238 : BitVec 32 := 0#32
  let v633 : BitVec 1 := Scalar.cmpi .slt c504_i32_234 c0_i32_238
  let v634 : BitVec 32 := Scalar.extui v633
  let v635 : BitVec 32 := Scalar.subi v632 v634
  let v636 : BitVec 1 := Scalar.cmpi .ne v630 v635
  let v637 : BitVec 32 := Scalar.remsi v623 c504_i32_234
  let c0_i32_239 : BitVec 32 := 0#32
  let v638 : BitVec 1 := Scalar.cmpi .ne v637 c0_i32_239
  let v639 : BitVec 1 := Scalar.andi v636 v638
  let v625 : BitVec 32 := Scalar.divsi v623 c504_i32_234
  let c1_i32_240 : BitVec 32 := 1#32
  let v640 : BitVec 32 := Scalar.subi v625 c1_i32_240
  let v641 : BitVec 32 := Scalar.select v639 v640 v625
  let c1_i32_241 : BitVec 32 := 1#32
  let v642 : BitVec 32 := Scalar.addi v641 c1_i32_241
  let v643 : BitVec 32 := Scalar.subi v642 c0_i32_242
  let c1_i32_243 : BitVec 32 := 1#32
  let v645 : BitVec 32 := Scalar.divsi v643 c1_i32_243
  let v646 : BitVec 32 := Scalar.muli v645 c1_i32_243
  let v647 : BitVec 32 := Scalar.addi c0_i32_242 v646
  let v644 : BitVec 32 := Scalar.addi c0_i32_242 v643
  let c1_i32_245 : BitVec 32 := 1#32
  ⟨v647, v644, c1_i32_245⟩

def k0_chk53 (v623 : BitVec 32) : Prop :=
  ((k0_t99_loop v623).OK) ∧
  ((k0_t102_loop v623).OK)
theorem k0_t99_ok : ∀ (v623 : BitVec 32) (k0_hw53 : k0_chk53 v623), (k0_t99_loop v623).OK := fun v623 k0_hw53 => k0_hw53.1
theorem k0_t102_ok : ∀ (v623 : BitVec 32) (k0_hw53 : k0_chk53 v623), (k0_t102_loop v623).OK := fun v623 k0_hw53 => k0_hw53.2

def k0_mult34 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off298 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r34 : BitVec 32 := 0#32
  ![v1213.toNat, 0]
@[reducible] def k0_t103_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off299 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t103 : Fin (k0_t103_loop v16 v31 v68 v105 v142 v179 v216 v253 v290 v327 v364 v401 v438 v475 v512 v549 v586 v623 arg13).trips) : Fin 2 → Nat :=
  let c1_i32_473 : BitVec 32 := 1#32
  let arg14 : BitVec 32 := Scf.iv arg13 c1_i32_473 k0_t103
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off300 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t103 : Fin (k0_t103_loop v16 v31 v68 v105 v142 v179 v216 v253 v290 v327 v364 v401 v438 v475 v512 v549 v586 v623 arg13).trips) : Fin 2 → Nat :=
  let c1_i32_473 : BitVec 32 := 1#32
  let arg14 : BitVec 32 := Scf.iv arg13 c1_i32_473 k0_t103
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off301 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t103 : Fin (k0_t103_loop v16 v31 v68 v105 v142 v179 v216 v253 v290 v327 v364 v401 v438 v475 v512 v549 v586 v623 arg13).trips) : Fin 2 → Nat :=
  let c1_i32_473 : BitVec 32 := 1#32
  let arg14 : BitVec 32 := Scf.iv arg13 c1_i32_473 k0_t103
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off302 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t103 : Fin (k0_t103_loop v16 v31 v68 v105 v142 v179 v216 v253 v290 v327 v364 v401 v438 v475 v512 v549 v586 v623 arg13).trips) : Fin 2 → Nat :=
  let c1_i32_473 : BitVec 32 := 1#32
  let arg14 : BitVec 32 := Scf.iv arg13 c1_i32_473 k0_t103
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t104_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off303 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t104 : Fin (k0_t104_loop v16 v31 v68 v105 v142 v179 v216 v253 v290 v327 v364 v401 v438 v475 v512 v549 v586 v623 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t104
  let v1224 : BitVec 32 := Scalar.subi arg14 v1213
  let v1225 : Index := Scalar.indexCast v1224
  let c0_475 : Index := 0#32
  ![v1225.toNat, 0]
def k0_off304 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t104 : Fin (k0_t104_loop v16 v31 v68 v105 v142 v179 v216 v253 v290 v327 v364 v401 v438 v475 v512 v549 v586 v623 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t104
  let v1224 : BitVec 32 := Scalar.subi arg14 v1213
  let v1228 : Index := Scalar.indexCast v1224
  let c16_476 : Index := 16#32
  ![v1228.toNat, 16]
def k0_off305 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t104 : Fin (k0_t104_loop v16 v31 v68 v105 v142 v179 v216 v253 v290 v327 v364 v401 v438 v475 v512 v549 v586 v623 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t104
  let v1224 : BitVec 32 := Scalar.subi arg14 v1213
  let v1231 : Index := Scalar.indexCast v1224
  let c32_477 : Index := 32#32
  ![v1231.toNat, 32]
def k0_off306 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_t104 : Fin (k0_t104_loop v16 v31 v68 v105 v142 v179 v216 v253 v290 v327 v364 v401 v438 v475 v512 v549 v586 v623 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v624 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t104
  let v1224 : BitVec 32 := Scalar.subi arg14 v1213
  let v1234 : Index := Scalar.indexCast v1224
  let c48_478 : Index := 48#32
  ![v1234.toNat, 48]

def k0_chk55 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) : Prop :=
  (8 ∣ (k0_mult34 arg13).toNat) ∧
  (∀ a, (k0_off298 arg13) a + S512x128.size a ≤ S320000x128.size a) ∧
  ((k0_t103_loop v16 v31 v68 v105 v142 v179 v216 v253 v290 v327 v364 v401 v438 v475 v512 v549 v586 v623 arg13).OK) ∧
  (∀ k0_t103 : Fin (k0_t103_loop v16 v31 v68 v105 v142 v179 v216 v253 v290 v327 v364 v401 v438 v475 v512 v549 v586 v623 arg13).trips, ∀ a, (k0_off299 v16 v31 v68 v105 v142 v179 v216 v253 v290 v327 v364 v401 v438 v475 v512 v549 v586 v623 arg13 k0_t103) a + S1x16.size a ≤ S512x128.size a) ∧
  (∀ k0_t103 : Fin (k0_t103_loop v16 v31 v68 v105 v142 v179 v216 v253 v290 v327 v364 v401 v438 v475 v512 v549 v586 v623 arg13).trips, ∀ a, (k0_off300 v16 v31 v68 v105 v142 v179 v216 v253 v290 v327 v364 v401 v438 v475 v512 v549 v586 v623 arg13 k0_t103) a + S1x16.size a ≤ S512x128.size a) ∧
  (∀ k0_t103 : Fin (k0_t103_loop v16 v31 v68 v105 v142 v179 v216 v253 v290 v327 v364 v401 v438 v475 v512 v549 v586 v623 arg13).trips, ∀ a, (k0_off301 v16 v31 v68 v105 v142 v179 v216 v253 v290 v327 v364 v401 v438 v475 v512 v549 v586 v623 arg13 k0_t103) a + S1x16.size a ≤ S512x128.size a) ∧
  (∀ k0_t103 : Fin (k0_t103_loop v16 v31 v68 v105 v142 v179 v216 v253 v290 v327 v364 v401 v438 v475 v512 v549 v586 v623 arg13).trips, ∀ a, (k0_off302 v16 v31 v68 v105 v142 v179 v216 v253 v290 v327 v364 v401 v438 v475 v512 v549 v586 v623 arg13 k0_t103) a + S1x16.size a ≤ S512x128.size a) ∧
  ((k0_t104_loop v16 v31 v68 v105 v142 v179 v216 v253 v290 v327 v364 v401 v438 v475 v512 v549 v586 v623 arg13).OK) ∧
  (∀ k0_t104 : Fin (k0_t104_loop v16 v31 v68 v105 v142 v179 v216 v253 v290 v327 v364 v401 v438 v475 v512 v549 v586 v623 arg13).trips, ∀ a, (k0_off303 v16 v31 v68 v105 v142 v179 v216 v253 v290 v327 v364 v401 v438 v475 v512 v549 v586 v623 arg13 k0_t104) a + S1x16.size a ≤ S512x128.size a) ∧
  (∀ k0_t104 : Fin (k0_t104_loop v16 v31 v68 v105 v142 v179 v216 v253 v290 v327 v364 v401 v438 v475 v512 v549 v586 v623 arg13).trips, ∀ a, (k0_off304 v16 v31 v68 v105 v142 v179 v216 v253 v290 v327 v364 v401 v438 v475 v512 v549 v586 v623 arg13 k0_t104) a + S1x16.size a ≤ S512x128.size a) ∧
  (∀ k0_t104 : Fin (k0_t104_loop v16 v31 v68 v105 v142 v179 v216 v253 v290 v327 v364 v401 v438 v475 v512 v549 v586 v623 arg13).trips, ∀ a, (k0_off305 v16 v31 v68 v105 v142 v179 v216 v253 v290 v327 v364 v401 v438 v475 v512 v549 v586 v623 arg13 k0_t104) a + S1x16.size a ≤ S512x128.size a) ∧
  (∀ k0_t104 : Fin (k0_t104_loop v16 v31 v68 v105 v142 v179 v216 v253 v290 v327 v364 v401 v438 v475 v512 v549 v586 v623 arg13).trips, ∀ a, (k0_off306 v16 v31 v68 v105 v142 v179 v216 v253 v290 v327 v364 v401 v438 v475 v512 v549 v586 v623 arg13 k0_t104) a + S1x16.size a ≤ S512x128.size a)
theorem k0_mult34_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13), 8 ∣ (k0_mult34 arg13).toNat := fun v16 v31 v68 v105 v142 v179 v216 v253 v290 v327 v364 v401 v438 v475 v512 v549 v586 v623 arg13 k0_hw55 => k0_hw55.1
theorem k0_off298_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13), ∀ a, (k0_off298 arg13) a + S512x128.size a ≤ S320000x128.size a := fun v16 v31 v68 v105 v142 v179 v216 v253 v290 v327 v364 v401 v438 v475 v512 v549 v586 v623 arg13 k0_hw55 => k0_hw55.2.1
theorem k0_t103_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13), (k0_t103_loop v16 v31 v68 v105 v142 v179 v216 v253 v290 v327 v364 v401 v438 v475 v512 v549 v586 v623 arg13).OK := fun v16 v31 v68 v105 v142 v179 v216 v253 v290 v327 v364 v401 v438 v475 v512 v549 v586 v623 arg13 k0_hw55 => k0_hw55.2.2.1
theorem k0_off299_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13) (k0_t103 : Fin (k0_t103_loop v16 v31 v68 v105 v142 v179 v216 v253 v290 v327 v364 v401 v438 v475 v512 v549 v586 v623 arg13).trips), ∀ a, (k0_off299 v16 v31 v68 v105 v142 v179 v216 v253 v290 v327 v364 v401 v438 v475 v512 v549 v586 v623 arg13 k0_t103) a + S1x16.size a ≤ S512x128.size a := fun v16 v31 v68 v105 v142 v179 v216 v253 v290 v327 v364 v401 v438 v475 v512 v549 v586 v623 arg13 k0_hw55 k0_t103 => k0_hw55.2.2.2.1 k0_t103
theorem k0_off300_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13) (k0_t103 : Fin (k0_t103_loop v16 v31 v68 v105 v142 v179 v216 v253 v290 v327 v364 v401 v438 v475 v512 v549 v586 v623 arg13).trips), ∀ a, (k0_off300 v16 v31 v68 v105 v142 v179 v216 v253 v290 v327 v364 v401 v438 v475 v512 v549 v586 v623 arg13 k0_t103) a + S1x16.size a ≤ S512x128.size a := fun v16 v31 v68 v105 v142 v179 v216 v253 v290 v327 v364 v401 v438 v475 v512 v549 v586 v623 arg13 k0_hw55 k0_t103 => k0_hw55.2.2.2.2.1 k0_t103
theorem k0_off301_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13) (k0_t103 : Fin (k0_t103_loop v16 v31 v68 v105 v142 v179 v216 v253 v290 v327 v364 v401 v438 v475 v512 v549 v586 v623 arg13).trips), ∀ a, (k0_off301 v16 v31 v68 v105 v142 v179 v216 v253 v290 v327 v364 v401 v438 v475 v512 v549 v586 v623 arg13 k0_t103) a + S1x16.size a ≤ S512x128.size a := fun v16 v31 v68 v105 v142 v179 v216 v253 v290 v327 v364 v401 v438 v475 v512 v549 v586 v623 arg13 k0_hw55 k0_t103 => k0_hw55.2.2.2.2.2.1 k0_t103
theorem k0_off302_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13) (k0_t103 : Fin (k0_t103_loop v16 v31 v68 v105 v142 v179 v216 v253 v290 v327 v364 v401 v438 v475 v512 v549 v586 v623 arg13).trips), ∀ a, (k0_off302 v16 v31 v68 v105 v142 v179 v216 v253 v290 v327 v364 v401 v438 v475 v512 v549 v586 v623 arg13 k0_t103) a + S1x16.size a ≤ S512x128.size a := fun v16 v31 v68 v105 v142 v179 v216 v253 v290 v327 v364 v401 v438 v475 v512 v549 v586 v623 arg13 k0_hw55 k0_t103 => k0_hw55.2.2.2.2.2.2.1 k0_t103
theorem k0_t104_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13), (k0_t104_loop v16 v31 v68 v105 v142 v179 v216 v253 v290 v327 v364 v401 v438 v475 v512 v549 v586 v623 arg13).OK := fun v16 v31 v68 v105 v142 v179 v216 v253 v290 v327 v364 v401 v438 v475 v512 v549 v586 v623 arg13 k0_hw55 => k0_hw55.2.2.2.2.2.2.2.1
theorem k0_off303_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13) (k0_t104 : Fin (k0_t104_loop v16 v31 v68 v105 v142 v179 v216 v253 v290 v327 v364 v401 v438 v475 v512 v549 v586 v623 arg13).trips), ∀ a, (k0_off303 v16 v31 v68 v105 v142 v179 v216 v253 v290 v327 v364 v401 v438 v475 v512 v549 v586 v623 arg13 k0_t104) a + S1x16.size a ≤ S512x128.size a := fun v16 v31 v68 v105 v142 v179 v216 v253 v290 v327 v364 v401 v438 v475 v512 v549 v586 v623 arg13 k0_hw55 k0_t104 => k0_hw55.2.2.2.2.2.2.2.2.1 k0_t104
theorem k0_off304_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13) (k0_t104 : Fin (k0_t104_loop v16 v31 v68 v105 v142 v179 v216 v253 v290 v327 v364 v401 v438 v475 v512 v549 v586 v623 arg13).trips), ∀ a, (k0_off304 v16 v31 v68 v105 v142 v179 v216 v253 v290 v327 v364 v401 v438 v475 v512 v549 v586 v623 arg13 k0_t104) a + S1x16.size a ≤ S512x128.size a := fun v16 v31 v68 v105 v142 v179 v216 v253 v290 v327 v364 v401 v438 v475 v512 v549 v586 v623 arg13 k0_hw55 k0_t104 => k0_hw55.2.2.2.2.2.2.2.2.2.1 k0_t104
theorem k0_off305_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13) (k0_t104 : Fin (k0_t104_loop v16 v31 v68 v105 v142 v179 v216 v253 v290 v327 v364 v401 v438 v475 v512 v549 v586 v623 arg13).trips), ∀ a, (k0_off305 v16 v31 v68 v105 v142 v179 v216 v253 v290 v327 v364 v401 v438 v475 v512 v549 v586 v623 arg13 k0_t104) a + S1x16.size a ≤ S512x128.size a := fun v16 v31 v68 v105 v142 v179 v216 v253 v290 v327 v364 v401 v438 v475 v512 v549 v586 v623 arg13 k0_hw55 k0_t104 => k0_hw55.2.2.2.2.2.2.2.2.2.2.1 k0_t104
theorem k0_off306_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (arg13 : BitVec 32) (k0_hw55 : k0_chk55 v16 v31 v68 v105 v142 v179 v216 v253 v290 v327 v364 v401 v438 v475 v512 v549 v586 v623 arg13) (k0_t104 : Fin (k0_t104_loop v16 v31 v68 v105 v142 v179 v216 v253 v290 v327 v364 v401 v438 v475 v512 v549 v586 v623 arg13).trips), ∀ a, (k0_off306 v16 v31 v68 v105 v142 v179 v216 v253 v290 v327 v364 v401 v438 v475 v512 v549 v586 v623 arg13 k0_t104) a + S1x16.size a ≤ S512x128.size a := fun v16 v31 v68 v105 v142 v179 v216 v253 v290 v327 v364 v401 v438 v475 v512 v549 v586 v623 arg13 k0_hw55 k0_t104 => k0_hw55.2.2.2.2.2.2.2.2.2.2.2 k0_t104

@[reducible] def k0_t105_loop (v660 : BitVec 32) : Scf.Loop 32 :=
  let c0_i32_257 : BitVec 32 := 0#32
  let c0_i32_250 : BitVec 32 := 0#32
  let v663 : BitVec 1 := Scalar.cmpi .sgt v660 c0_i32_250
  let v664 : BitVec 32 := Scalar.extui v663
  let c0_i32_251 : BitVec 32 := 0#32
  let v665 : BitVec 1 := Scalar.cmpi .slt v660 c0_i32_251
  let v666 : BitVec 32 := Scalar.extui v665
  let v667 : BitVec 32 := Scalar.subi v664 v666
  let c504_i32_249 : BitVec 32 := 504#32
  let c0_i32_252 : BitVec 32 := 0#32
  let v668 : BitVec 1 := Scalar.cmpi .sgt c504_i32_249 c0_i32_252
  let v669 : BitVec 32 := Scalar.extui v668
  let c0_i32_253 : BitVec 32 := 0#32
  let v670 : BitVec 1 := Scalar.cmpi .slt c504_i32_249 c0_i32_253
  let v671 : BitVec 32 := Scalar.extui v670
  let v672 : BitVec 32 := Scalar.subi v669 v671
  let v673 : BitVec 1 := Scalar.cmpi .ne v667 v672
  let v674 : BitVec 32 := Scalar.remsi v660 c504_i32_249
  let c0_i32_254 : BitVec 32 := 0#32
  let v675 : BitVec 1 := Scalar.cmpi .ne v674 c0_i32_254
  let v676 : BitVec 1 := Scalar.andi v673 v675
  let v662 : BitVec 32 := Scalar.divsi v660 c504_i32_249
  let c1_i32_255 : BitVec 32 := 1#32
  let v677 : BitVec 32 := Scalar.subi v662 c1_i32_255
  let v678 : BitVec 32 := Scalar.select v676 v677 v662
  let c1_i32_256 : BitVec 32 := 1#32
  let v679 : BitVec 32 := Scalar.addi v678 c1_i32_256
  let v680 : BitVec 32 := Scalar.subi v679 c0_i32_257
  let c1_i32_258 : BitVec 32 := 1#32
  let v682 : BitVec 32 := Scalar.divsi v680 c1_i32_258
  let v683 : BitVec 32 := Scalar.muli v682 c1_i32_258
  let v684 : BitVec 32 := Scalar.addi c0_i32_257 v683
  let c1_i32_259 : BitVec 32 := 1#32
  ⟨c0_i32_257, v684, c1_i32_259⟩

def k0_mult35 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off307 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r35 : BitVec 32 := 0#32
  ![v1213.toNat, 0]
@[reducible] def k0_t106_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off308 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t106 : Fin (k0_t106_loop v16 v31 v68 v105 v142 v179 v216 v253 v290 v327 v364 v401 v438 v475 v512 v549 v586 v623 v660 arg13).trips) : Fin 2 → Nat :=
  let c1_i32_473 : BitVec 32 := 1#32
  let arg14 : BitVec 32 := Scf.iv arg13 c1_i32_473 k0_t106
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off309 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t106 : Fin (k0_t106_loop v16 v31 v68 v105 v142 v179 v216 v253 v290 v327 v364 v401 v438 v475 v512 v549 v586 v623 v660 arg13).trips) : Fin 2 → Nat :=
  let c1_i32_473 : BitVec 32 := 1#32
  let arg14 : BitVec 32 := Scf.iv arg13 c1_i32_473 k0_t106
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off310 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t106 : Fin (k0_t106_loop v16 v31 v68 v105 v142 v179 v216 v253 v290 v327 v364 v401 v438 v475 v512 v549 v586 v623 v660 arg13).trips) : Fin 2 → Nat :=
  let c1_i32_473 : BitVec 32 := 1#32
  let arg14 : BitVec 32 := Scf.iv arg13 c1_i32_473 k0_t106
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off311 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t106 : Fin (k0_t106_loop v16 v31 v68 v105 v142 v179 v216 v253 v290 v327 v364 v401 v438 v475 v512 v549 v586 v623 v660 arg13).trips) : Fin 2 → Nat :=
  let c1_i32_473 : BitVec 32 := 1#32
  let arg14 : BitVec 32 := Scf.iv arg13 c1_i32_473 k0_t106
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t107_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off312 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t107 : Fin (k0_t107_loop v16 v31 v68 v105 v142 v179 v216 v253 v290 v327 v364 v401 v438 v475 v512 v549 v586 v623 v660 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t107
  let v1224 : BitVec 32 := Scalar.subi arg14 v1213
  let v1225 : Index := Scalar.indexCast v1224
  let c0_475 : Index := 0#32
  ![v1225.toNat, 0]
def k0_off313 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t107 : Fin (k0_t107_loop v16 v31 v68 v105 v142 v179 v216 v253 v290 v327 v364 v401 v438 v475 v512 v549 v586 v623 v660 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t107
  let v1224 : BitVec 32 := Scalar.subi arg14 v1213
  let v1228 : Index := Scalar.indexCast v1224
  let c16_476 : Index := 16#32
  ![v1228.toNat, 16]
def k0_off314 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t107 : Fin (k0_t107_loop v16 v31 v68 v105 v142 v179 v216 v253 v290 v327 v364 v401 v438 v475 v512 v549 v586 v623 v660 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t107
  let v1224 : BitVec 32 := Scalar.subi arg14 v1213
  let v1231 : Index := Scalar.indexCast v1224
  let c32_477 : Index := 32#32
  ![v1231.toNat, 32]
def k0_off315 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t107 : Fin (k0_t107_loop v16 v31 v68 v105 v142 v179 v216 v253 v290 v327 v364 v401 v438 v475 v512 v549 v586 v623 v660 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t107
  let v1224 : BitVec 32 := Scalar.subi arg14 v1213
  let v1234 : Index := Scalar.indexCast v1224
  let c48_478 : Index := 48#32
  ![v1234.toNat, 48]

def k0_chk57 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) : Prop :=
  (8 ∣ (k0_mult35 arg13).toNat) ∧
  (∀ a, (k0_off307 arg13) a + S512x128.size a ≤ S320000x128.size a) ∧
  ((k0_t106_loop v16 v31 v68 v105 v142 v179 v216 v253 v290 v327 v364 v401 v438 v475 v512 v549 v586 v623 v660 arg13).OK) ∧
  (∀ k0_t106 : Fin (k0_t106_loop v16 v31 v68 v105 v142 v179 v216 v253 v290 v327 v364 v401 v438 v475 v512 v549 v586 v623 v660 arg13).trips, ∀ a, (k0_off308 v16 v31 v68 v105 v142 v179 v216 v253 v290 v327 v364 v401 v438 v475 v512 v549 v586 v623 v660 arg13 k0_t106) a + S1x16.size a ≤ S512x128.size a) ∧
  (∀ k0_t106 : Fin (k0_t106_loop v16 v31 v68 v105 v142 v179 v216 v253 v290 v327 v364 v401 v438 v475 v512 v549 v586 v623 v660 arg13).trips, ∀ a, (k0_off309 v16 v31 v68 v105 v142 v179 v216 v253 v290 v327 v364 v401 v438 v475 v512 v549 v586 v623 v660 arg13 k0_t106) a + S1x16.size a ≤ S512x128.size a) ∧
  (∀ k0_t106 : Fin (k0_t106_loop v16 v31 v68 v105 v142 v179 v216 v253 v290 v327 v364 v401 v438 v475 v512 v549 v586 v623 v660 arg13).trips, ∀ a, (k0_off310 v16 v31 v68 v105 v142 v179 v216 v253 v290 v327 v364 v401 v438 v475 v512 v549 v586 v623 v660 arg13 k0_t106) a + S1x16.size a ≤ S512x128.size a) ∧
  (∀ k0_t106 : Fin (k0_t106_loop v16 v31 v68 v105 v142 v179 v216 v253 v290 v327 v364 v401 v438 v475 v512 v549 v586 v623 v660 arg13).trips, ∀ a, (k0_off311 v16 v31 v68 v105 v142 v179 v216 v253 v290 v327 v364 v401 v438 v475 v512 v549 v586 v623 v660 arg13 k0_t106) a + S1x16.size a ≤ S512x128.size a) ∧
  ((k0_t107_loop v16 v31 v68 v105 v142 v179 v216 v253 v290 v327 v364 v401 v438 v475 v512 v549 v586 v623 v660 arg13).OK) ∧
  (∀ k0_t107 : Fin (k0_t107_loop v16 v31 v68 v105 v142 v179 v216 v253 v290 v327 v364 v401 v438 v475 v512 v549 v586 v623 v660 arg13).trips, ∀ a, (k0_off312 v16 v31 v68 v105 v142 v179 v216 v253 v290 v327 v364 v401 v438 v475 v512 v549 v586 v623 v660 arg13 k0_t107) a + S1x16.size a ≤ S512x128.size a) ∧
  (∀ k0_t107 : Fin (k0_t107_loop v16 v31 v68 v105 v142 v179 v216 v253 v290 v327 v364 v401 v438 v475 v512 v549 v586 v623 v660 arg13).trips, ∀ a, (k0_off313 v16 v31 v68 v105 v142 v179 v216 v253 v290 v327 v364 v401 v438 v475 v512 v549 v586 v623 v660 arg13 k0_t107) a + S1x16.size a ≤ S512x128.size a) ∧
  (∀ k0_t107 : Fin (k0_t107_loop v16 v31 v68 v105 v142 v179 v216 v253 v290 v327 v364 v401 v438 v475 v512 v549 v586 v623 v660 arg13).trips, ∀ a, (k0_off314 v16 v31 v68 v105 v142 v179 v216 v253 v290 v327 v364 v401 v438 v475 v512 v549 v586 v623 v660 arg13 k0_t107) a + S1x16.size a ≤ S512x128.size a) ∧
  (∀ k0_t107 : Fin (k0_t107_loop v16 v31 v68 v105 v142 v179 v216 v253 v290 v327 v364 v401 v438 v475 v512 v549 v586 v623 v660 arg13).trips, ∀ a, (k0_off315 v16 v31 v68 v105 v142 v179 v216 v253 v290 v327 v364 v401 v438 v475 v512 v549 v586 v623 v660 arg13 k0_t107) a + S1x16.size a ≤ S512x128.size a)
theorem k0_mult35_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13), 8 ∣ (k0_mult35 arg13).toNat := fun v16 v31 v68 v105 v142 v179 v216 v253 v290 v327 v364 v401 v438 v475 v512 v549 v586 v623 v660 arg13 k0_hw57 => k0_hw57.1
theorem k0_off307_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13), ∀ a, (k0_off307 arg13) a + S512x128.size a ≤ S320000x128.size a := fun v16 v31 v68 v105 v142 v179 v216 v253 v290 v327 v364 v401 v438 v475 v512 v549 v586 v623 v660 arg13 k0_hw57 => k0_hw57.2.1
theorem k0_t106_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13), (k0_t106_loop v16 v31 v68 v105 v142 v179 v216 v253 v290 v327 v364 v401 v438 v475 v512 v549 v586 v623 v660 arg13).OK := fun v16 v31 v68 v105 v142 v179 v216 v253 v290 v327 v364 v401 v438 v475 v512 v549 v586 v623 v660 arg13 k0_hw57 => k0_hw57.2.2.1
theorem k0_off308_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13) (k0_t106 : Fin (k0_t106_loop v16 v31 v68 v105 v142 v179 v216 v253 v290 v327 v364 v401 v438 v475 v512 v549 v586 v623 v660 arg13).trips), ∀ a, (k0_off308 v16 v31 v68 v105 v142 v179 v216 v253 v290 v327 v364 v401 v438 v475 v512 v549 v586 v623 v660 arg13 k0_t106) a + S1x16.size a ≤ S512x128.size a := fun v16 v31 v68 v105 v142 v179 v216 v253 v290 v327 v364 v401 v438 v475 v512 v549 v586 v623 v660 arg13 k0_hw57 k0_t106 => k0_hw57.2.2.2.1 k0_t106
theorem k0_off309_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13) (k0_t106 : Fin (k0_t106_loop v16 v31 v68 v105 v142 v179 v216 v253 v290 v327 v364 v401 v438 v475 v512 v549 v586 v623 v660 arg13).trips), ∀ a, (k0_off309 v16 v31 v68 v105 v142 v179 v216 v253 v290 v327 v364 v401 v438 v475 v512 v549 v586 v623 v660 arg13 k0_t106) a + S1x16.size a ≤ S512x128.size a := fun v16 v31 v68 v105 v142 v179 v216 v253 v290 v327 v364 v401 v438 v475 v512 v549 v586 v623 v660 arg13 k0_hw57 k0_t106 => k0_hw57.2.2.2.2.1 k0_t106
theorem k0_off310_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13) (k0_t106 : Fin (k0_t106_loop v16 v31 v68 v105 v142 v179 v216 v253 v290 v327 v364 v401 v438 v475 v512 v549 v586 v623 v660 arg13).trips), ∀ a, (k0_off310 v16 v31 v68 v105 v142 v179 v216 v253 v290 v327 v364 v401 v438 v475 v512 v549 v586 v623 v660 arg13 k0_t106) a + S1x16.size a ≤ S512x128.size a := fun v16 v31 v68 v105 v142 v179 v216 v253 v290 v327 v364 v401 v438 v475 v512 v549 v586 v623 v660 arg13 k0_hw57 k0_t106 => k0_hw57.2.2.2.2.2.1 k0_t106
theorem k0_off311_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13) (k0_t106 : Fin (k0_t106_loop v16 v31 v68 v105 v142 v179 v216 v253 v290 v327 v364 v401 v438 v475 v512 v549 v586 v623 v660 arg13).trips), ∀ a, (k0_off311 v16 v31 v68 v105 v142 v179 v216 v253 v290 v327 v364 v401 v438 v475 v512 v549 v586 v623 v660 arg13 k0_t106) a + S1x16.size a ≤ S512x128.size a := fun v16 v31 v68 v105 v142 v179 v216 v253 v290 v327 v364 v401 v438 v475 v512 v549 v586 v623 v660 arg13 k0_hw57 k0_t106 => k0_hw57.2.2.2.2.2.2.1 k0_t106
theorem k0_t107_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13), (k0_t107_loop v16 v31 v68 v105 v142 v179 v216 v253 v290 v327 v364 v401 v438 v475 v512 v549 v586 v623 v660 arg13).OK := fun v16 v31 v68 v105 v142 v179 v216 v253 v290 v327 v364 v401 v438 v475 v512 v549 v586 v623 v660 arg13 k0_hw57 => k0_hw57.2.2.2.2.2.2.2.1
theorem k0_off312_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13) (k0_t107 : Fin (k0_t107_loop v16 v31 v68 v105 v142 v179 v216 v253 v290 v327 v364 v401 v438 v475 v512 v549 v586 v623 v660 arg13).trips), ∀ a, (k0_off312 v16 v31 v68 v105 v142 v179 v216 v253 v290 v327 v364 v401 v438 v475 v512 v549 v586 v623 v660 arg13 k0_t107) a + S1x16.size a ≤ S512x128.size a := fun v16 v31 v68 v105 v142 v179 v216 v253 v290 v327 v364 v401 v438 v475 v512 v549 v586 v623 v660 arg13 k0_hw57 k0_t107 => k0_hw57.2.2.2.2.2.2.2.2.1 k0_t107
theorem k0_off313_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13) (k0_t107 : Fin (k0_t107_loop v16 v31 v68 v105 v142 v179 v216 v253 v290 v327 v364 v401 v438 v475 v512 v549 v586 v623 v660 arg13).trips), ∀ a, (k0_off313 v16 v31 v68 v105 v142 v179 v216 v253 v290 v327 v364 v401 v438 v475 v512 v549 v586 v623 v660 arg13 k0_t107) a + S1x16.size a ≤ S512x128.size a := fun v16 v31 v68 v105 v142 v179 v216 v253 v290 v327 v364 v401 v438 v475 v512 v549 v586 v623 v660 arg13 k0_hw57 k0_t107 => k0_hw57.2.2.2.2.2.2.2.2.2.1 k0_t107
theorem k0_off314_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13) (k0_t107 : Fin (k0_t107_loop v16 v31 v68 v105 v142 v179 v216 v253 v290 v327 v364 v401 v438 v475 v512 v549 v586 v623 v660 arg13).trips), ∀ a, (k0_off314 v16 v31 v68 v105 v142 v179 v216 v253 v290 v327 v364 v401 v438 v475 v512 v549 v586 v623 v660 arg13 k0_t107) a + S1x16.size a ≤ S512x128.size a := fun v16 v31 v68 v105 v142 v179 v216 v253 v290 v327 v364 v401 v438 v475 v512 v549 v586 v623 v660 arg13 k0_hw57 k0_t107 => k0_hw57.2.2.2.2.2.2.2.2.2.2.1 k0_t107
theorem k0_off315_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw57 : k0_chk57 v16 v31 v68 v105 v142 v179 v216 v253 v290 v327 v364 v401 v438 v475 v512 v549 v586 v623 v660 arg13) (k0_t107 : Fin (k0_t107_loop v16 v31 v68 v105 v142 v179 v216 v253 v290 v327 v364 v401 v438 v475 v512 v549 v586 v623 v660 arg13).trips), ∀ a, (k0_off315 v16 v31 v68 v105 v142 v179 v216 v253 v290 v327 v364 v401 v438 v475 v512 v549 v586 v623 v660 arg13 k0_t107) a + S1x16.size a ≤ S512x128.size a := fun v16 v31 v68 v105 v142 v179 v216 v253 v290 v327 v364 v401 v438 v475 v512 v549 v586 v623 v660 arg13 k0_hw57 k0_t107 => k0_hw57.2.2.2.2.2.2.2.2.2.2.2 k0_t107

@[reducible] def k0_t108_loop (v660 : BitVec 32) : Scf.Loop 32 :=
  let c0_i32_257 : BitVec 32 := 0#32
  let c0_i32_250 : BitVec 32 := 0#32
  let v663 : BitVec 1 := Scalar.cmpi .sgt v660 c0_i32_250
  let v664 : BitVec 32 := Scalar.extui v663
  let c0_i32_251 : BitVec 32 := 0#32
  let v665 : BitVec 1 := Scalar.cmpi .slt v660 c0_i32_251
  let v666 : BitVec 32 := Scalar.extui v665
  let v667 : BitVec 32 := Scalar.subi v664 v666
  let c504_i32_249 : BitVec 32 := 504#32
  let c0_i32_252 : BitVec 32 := 0#32
  let v668 : BitVec 1 := Scalar.cmpi .sgt c504_i32_249 c0_i32_252
  let v669 : BitVec 32 := Scalar.extui v668
  let c0_i32_253 : BitVec 32 := 0#32
  let v670 : BitVec 1 := Scalar.cmpi .slt c504_i32_249 c0_i32_253
  let v671 : BitVec 32 := Scalar.extui v670
  let v672 : BitVec 32 := Scalar.subi v669 v671
  let v673 : BitVec 1 := Scalar.cmpi .ne v667 v672
  let v674 : BitVec 32 := Scalar.remsi v660 c504_i32_249
  let c0_i32_254 : BitVec 32 := 0#32
  let v675 : BitVec 1 := Scalar.cmpi .ne v674 c0_i32_254
  let v676 : BitVec 1 := Scalar.andi v673 v675
  let v662 : BitVec 32 := Scalar.divsi v660 c504_i32_249
  let c1_i32_255 : BitVec 32 := 1#32
  let v677 : BitVec 32 := Scalar.subi v662 c1_i32_255
  let v678 : BitVec 32 := Scalar.select v676 v677 v662
  let c1_i32_256 : BitVec 32 := 1#32
  let v679 : BitVec 32 := Scalar.addi v678 c1_i32_256
  let v680 : BitVec 32 := Scalar.subi v679 c0_i32_257
  let c1_i32_258 : BitVec 32 := 1#32
  let v682 : BitVec 32 := Scalar.divsi v680 c1_i32_258
  let v683 : BitVec 32 := Scalar.muli v682 c1_i32_258
  let v684 : BitVec 32 := Scalar.addi c0_i32_257 v683
  let v681 : BitVec 32 := Scalar.addi c0_i32_257 v680
  let c1_i32_260 : BitVec 32 := 1#32
  ⟨v684, v681, c1_i32_260⟩

def k0_chk56 (v660 : BitVec 32) : Prop :=
  ((k0_t105_loop v660).OK) ∧
  ((k0_t108_loop v660).OK)
theorem k0_t105_ok : ∀ (v660 : BitVec 32) (k0_hw56 : k0_chk56 v660), (k0_t105_loop v660).OK := fun v660 k0_hw56 => k0_hw56.1
theorem k0_t108_ok : ∀ (v660 : BitVec 32) (k0_hw56 : k0_chk56 v660), (k0_t108_loop v660).OK := fun v660 k0_hw56 => k0_hw56.2

def k0_mult36 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off316 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r36 : BitVec 32 := 0#32
  ![v1213.toNat, 0]
@[reducible] def k0_t109_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off317 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t109 : Fin (k0_t109_loop v16 v31 v68 v105 v142 v179 v216 v253 v290 v327 v364 v401 v438 v475 v512 v549 v586 v623 v660 arg13).trips) : Fin 2 → Nat :=
  let c1_i32_473 : BitVec 32 := 1#32
  let arg14 : BitVec 32 := Scf.iv arg13 c1_i32_473 k0_t109
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off318 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t109 : Fin (k0_t109_loop v16 v31 v68 v105 v142 v179 v216 v253 v290 v327 v364 v401 v438 v475 v512 v549 v586 v623 v660 arg13).trips) : Fin 2 → Nat :=
  let c1_i32_473 : BitVec 32 := 1#32
  let arg14 : BitVec 32 := Scf.iv arg13 c1_i32_473 k0_t109
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off319 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t109 : Fin (k0_t109_loop v16 v31 v68 v105 v142 v179 v216 v253 v290 v327 v364 v401 v438 v475 v512 v549 v586 v623 v660 arg13).trips) : Fin 2 → Nat :=
  let c1_i32_473 : BitVec 32 := 1#32
  let arg14 : BitVec 32 := Scf.iv arg13 c1_i32_473 k0_t109
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off320 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t109 : Fin (k0_t109_loop v16 v31 v68 v105 v142 v179 v216 v253 v290 v327 v364 v401 v438 v475 v512 v549 v586 v623 v660 arg13).trips) : Fin 2 → Nat :=
  let c1_i32_473 : BitVec 32 := 1#32
  let arg14 : BitVec 32 := Scf.iv arg13 c1_i32_473 k0_t109
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t110_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off321 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t110 : Fin (k0_t110_loop v16 v31 v68 v105 v142 v179 v216 v253 v290 v327 v364 v401 v438 v475 v512 v549 v586 v623 v660 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t110
  let v1224 : BitVec 32 := Scalar.subi arg14 v1213
  let v1225 : Index := Scalar.indexCast v1224
  let c0_475 : Index := 0#32
  ![v1225.toNat, 0]
def k0_off322 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t110 : Fin (k0_t110_loop v16 v31 v68 v105 v142 v179 v216 v253 v290 v327 v364 v401 v438 v475 v512 v549 v586 v623 v660 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t110
  let v1224 : BitVec 32 := Scalar.subi arg14 v1213
  let v1228 : Index := Scalar.indexCast v1224
  let c16_476 : Index := 16#32
  ![v1228.toNat, 16]
def k0_off323 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t110 : Fin (k0_t110_loop v16 v31 v68 v105 v142 v179 v216 v253 v290 v327 v364 v401 v438 v475 v512 v549 v586 v623 v660 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t110
  let v1224 : BitVec 32 := Scalar.subi arg14 v1213
  let v1231 : Index := Scalar.indexCast v1224
  let c32_477 : Index := 32#32
  ![v1231.toNat, 32]
def k0_off324 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_t110 : Fin (k0_t110_loop v16 v31 v68 v105 v142 v179 v216 v253 v290 v327 v364 v401 v438 v475 v512 v549 v586 v623 v660 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v661 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t110
  let v1224 : BitVec 32 := Scalar.subi arg14 v1213
  let v1234 : Index := Scalar.indexCast v1224
  let c48_478 : Index := 48#32
  ![v1234.toNat, 48]

def k0_chk58 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) : Prop :=
  (8 ∣ (k0_mult36 arg13).toNat) ∧
  (∀ a, (k0_off316 arg13) a + S512x128.size a ≤ S320000x128.size a) ∧
  ((k0_t109_loop v16 v31 v68 v105 v142 v179 v216 v253 v290 v327 v364 v401 v438 v475 v512 v549 v586 v623 v660 arg13).OK) ∧
  (∀ k0_t109 : Fin (k0_t109_loop v16 v31 v68 v105 v142 v179 v216 v253 v290 v327 v364 v401 v438 v475 v512 v549 v586 v623 v660 arg13).trips, ∀ a, (k0_off317 v16 v31 v68 v105 v142 v179 v216 v253 v290 v327 v364 v401 v438 v475 v512 v549 v586 v623 v660 arg13 k0_t109) a + S1x16.size a ≤ S512x128.size a) ∧
  (∀ k0_t109 : Fin (k0_t109_loop v16 v31 v68 v105 v142 v179 v216 v253 v290 v327 v364 v401 v438 v475 v512 v549 v586 v623 v660 arg13).trips, ∀ a, (k0_off318 v16 v31 v68 v105 v142 v179 v216 v253 v290 v327 v364 v401 v438 v475 v512 v549 v586 v623 v660 arg13 k0_t109) a + S1x16.size a ≤ S512x128.size a) ∧
  (∀ k0_t109 : Fin (k0_t109_loop v16 v31 v68 v105 v142 v179 v216 v253 v290 v327 v364 v401 v438 v475 v512 v549 v586 v623 v660 arg13).trips, ∀ a, (k0_off319 v16 v31 v68 v105 v142 v179 v216 v253 v290 v327 v364 v401 v438 v475 v512 v549 v586 v623 v660 arg13 k0_t109) a + S1x16.size a ≤ S512x128.size a) ∧
  (∀ k0_t109 : Fin (k0_t109_loop v16 v31 v68 v105 v142 v179 v216 v253 v290 v327 v364 v401 v438 v475 v512 v549 v586 v623 v660 arg13).trips, ∀ a, (k0_off320 v16 v31 v68 v105 v142 v179 v216 v253 v290 v327 v364 v401 v438 v475 v512 v549 v586 v623 v660 arg13 k0_t109) a + S1x16.size a ≤ S512x128.size a) ∧
  ((k0_t110_loop v16 v31 v68 v105 v142 v179 v216 v253 v290 v327 v364 v401 v438 v475 v512 v549 v586 v623 v660 arg13).OK) ∧
  (∀ k0_t110 : Fin (k0_t110_loop v16 v31 v68 v105 v142 v179 v216 v253 v290 v327 v364 v401 v438 v475 v512 v549 v586 v623 v660 arg13).trips, ∀ a, (k0_off321 v16 v31 v68 v105 v142 v179 v216 v253 v290 v327 v364 v401 v438 v475 v512 v549 v586 v623 v660 arg13 k0_t110) a + S1x16.size a ≤ S512x128.size a) ∧
  (∀ k0_t110 : Fin (k0_t110_loop v16 v31 v68 v105 v142 v179 v216 v253 v290 v327 v364 v401 v438 v475 v512 v549 v586 v623 v660 arg13).trips, ∀ a, (k0_off322 v16 v31 v68 v105 v142 v179 v216 v253 v290 v327 v364 v401 v438 v475 v512 v549 v586 v623 v660 arg13 k0_t110) a + S1x16.size a ≤ S512x128.size a) ∧
  (∀ k0_t110 : Fin (k0_t110_loop v16 v31 v68 v105 v142 v179 v216 v253 v290 v327 v364 v401 v438 v475 v512 v549 v586 v623 v660 arg13).trips, ∀ a, (k0_off323 v16 v31 v68 v105 v142 v179 v216 v253 v290 v327 v364 v401 v438 v475 v512 v549 v586 v623 v660 arg13 k0_t110) a + S1x16.size a ≤ S512x128.size a) ∧
  (∀ k0_t110 : Fin (k0_t110_loop v16 v31 v68 v105 v142 v179 v216 v253 v290 v327 v364 v401 v438 v475 v512 v549 v586 v623 v660 arg13).trips, ∀ a, (k0_off324 v16 v31 v68 v105 v142 v179 v216 v253 v290 v327 v364 v401 v438 v475 v512 v549 v586 v623 v660 arg13 k0_t110) a + S1x16.size a ≤ S512x128.size a)
theorem k0_mult36_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13), 8 ∣ (k0_mult36 arg13).toNat := fun v16 v31 v68 v105 v142 v179 v216 v253 v290 v327 v364 v401 v438 v475 v512 v549 v586 v623 v660 arg13 k0_hw58 => k0_hw58.1
theorem k0_off316_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13), ∀ a, (k0_off316 arg13) a + S512x128.size a ≤ S320000x128.size a := fun v16 v31 v68 v105 v142 v179 v216 v253 v290 v327 v364 v401 v438 v475 v512 v549 v586 v623 v660 arg13 k0_hw58 => k0_hw58.2.1
theorem k0_t109_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13), (k0_t109_loop v16 v31 v68 v105 v142 v179 v216 v253 v290 v327 v364 v401 v438 v475 v512 v549 v586 v623 v660 arg13).OK := fun v16 v31 v68 v105 v142 v179 v216 v253 v290 v327 v364 v401 v438 v475 v512 v549 v586 v623 v660 arg13 k0_hw58 => k0_hw58.2.2.1
theorem k0_off317_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13) (k0_t109 : Fin (k0_t109_loop v16 v31 v68 v105 v142 v179 v216 v253 v290 v327 v364 v401 v438 v475 v512 v549 v586 v623 v660 arg13).trips), ∀ a, (k0_off317 v16 v31 v68 v105 v142 v179 v216 v253 v290 v327 v364 v401 v438 v475 v512 v549 v586 v623 v660 arg13 k0_t109) a + S1x16.size a ≤ S512x128.size a := fun v16 v31 v68 v105 v142 v179 v216 v253 v290 v327 v364 v401 v438 v475 v512 v549 v586 v623 v660 arg13 k0_hw58 k0_t109 => k0_hw58.2.2.2.1 k0_t109
theorem k0_off318_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13) (k0_t109 : Fin (k0_t109_loop v16 v31 v68 v105 v142 v179 v216 v253 v290 v327 v364 v401 v438 v475 v512 v549 v586 v623 v660 arg13).trips), ∀ a, (k0_off318 v16 v31 v68 v105 v142 v179 v216 v253 v290 v327 v364 v401 v438 v475 v512 v549 v586 v623 v660 arg13 k0_t109) a + S1x16.size a ≤ S512x128.size a := fun v16 v31 v68 v105 v142 v179 v216 v253 v290 v327 v364 v401 v438 v475 v512 v549 v586 v623 v660 arg13 k0_hw58 k0_t109 => k0_hw58.2.2.2.2.1 k0_t109
theorem k0_off319_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13) (k0_t109 : Fin (k0_t109_loop v16 v31 v68 v105 v142 v179 v216 v253 v290 v327 v364 v401 v438 v475 v512 v549 v586 v623 v660 arg13).trips), ∀ a, (k0_off319 v16 v31 v68 v105 v142 v179 v216 v253 v290 v327 v364 v401 v438 v475 v512 v549 v586 v623 v660 arg13 k0_t109) a + S1x16.size a ≤ S512x128.size a := fun v16 v31 v68 v105 v142 v179 v216 v253 v290 v327 v364 v401 v438 v475 v512 v549 v586 v623 v660 arg13 k0_hw58 k0_t109 => k0_hw58.2.2.2.2.2.1 k0_t109
theorem k0_off320_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13) (k0_t109 : Fin (k0_t109_loop v16 v31 v68 v105 v142 v179 v216 v253 v290 v327 v364 v401 v438 v475 v512 v549 v586 v623 v660 arg13).trips), ∀ a, (k0_off320 v16 v31 v68 v105 v142 v179 v216 v253 v290 v327 v364 v401 v438 v475 v512 v549 v586 v623 v660 arg13 k0_t109) a + S1x16.size a ≤ S512x128.size a := fun v16 v31 v68 v105 v142 v179 v216 v253 v290 v327 v364 v401 v438 v475 v512 v549 v586 v623 v660 arg13 k0_hw58 k0_t109 => k0_hw58.2.2.2.2.2.2.1 k0_t109
theorem k0_t110_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13), (k0_t110_loop v16 v31 v68 v105 v142 v179 v216 v253 v290 v327 v364 v401 v438 v475 v512 v549 v586 v623 v660 arg13).OK := fun v16 v31 v68 v105 v142 v179 v216 v253 v290 v327 v364 v401 v438 v475 v512 v549 v586 v623 v660 arg13 k0_hw58 => k0_hw58.2.2.2.2.2.2.2.1
theorem k0_off321_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13) (k0_t110 : Fin (k0_t110_loop v16 v31 v68 v105 v142 v179 v216 v253 v290 v327 v364 v401 v438 v475 v512 v549 v586 v623 v660 arg13).trips), ∀ a, (k0_off321 v16 v31 v68 v105 v142 v179 v216 v253 v290 v327 v364 v401 v438 v475 v512 v549 v586 v623 v660 arg13 k0_t110) a + S1x16.size a ≤ S512x128.size a := fun v16 v31 v68 v105 v142 v179 v216 v253 v290 v327 v364 v401 v438 v475 v512 v549 v586 v623 v660 arg13 k0_hw58 k0_t110 => k0_hw58.2.2.2.2.2.2.2.2.1 k0_t110
theorem k0_off322_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13) (k0_t110 : Fin (k0_t110_loop v16 v31 v68 v105 v142 v179 v216 v253 v290 v327 v364 v401 v438 v475 v512 v549 v586 v623 v660 arg13).trips), ∀ a, (k0_off322 v16 v31 v68 v105 v142 v179 v216 v253 v290 v327 v364 v401 v438 v475 v512 v549 v586 v623 v660 arg13 k0_t110) a + S1x16.size a ≤ S512x128.size a := fun v16 v31 v68 v105 v142 v179 v216 v253 v290 v327 v364 v401 v438 v475 v512 v549 v586 v623 v660 arg13 k0_hw58 k0_t110 => k0_hw58.2.2.2.2.2.2.2.2.2.1 k0_t110
theorem k0_off323_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13) (k0_t110 : Fin (k0_t110_loop v16 v31 v68 v105 v142 v179 v216 v253 v290 v327 v364 v401 v438 v475 v512 v549 v586 v623 v660 arg13).trips), ∀ a, (k0_off323 v16 v31 v68 v105 v142 v179 v216 v253 v290 v327 v364 v401 v438 v475 v512 v549 v586 v623 v660 arg13 k0_t110) a + S1x16.size a ≤ S512x128.size a := fun v16 v31 v68 v105 v142 v179 v216 v253 v290 v327 v364 v401 v438 v475 v512 v549 v586 v623 v660 arg13 k0_hw58 k0_t110 => k0_hw58.2.2.2.2.2.2.2.2.2.2.1 k0_t110
theorem k0_off324_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (arg13 : BitVec 32) (k0_hw58 : k0_chk58 v16 v31 v68 v105 v142 v179 v216 v253 v290 v327 v364 v401 v438 v475 v512 v549 v586 v623 v660 arg13) (k0_t110 : Fin (k0_t110_loop v16 v31 v68 v105 v142 v179 v216 v253 v290 v327 v364 v401 v438 v475 v512 v549 v586 v623 v660 arg13).trips), ∀ a, (k0_off324 v16 v31 v68 v105 v142 v179 v216 v253 v290 v327 v364 v401 v438 v475 v512 v549 v586 v623 v660 arg13 k0_t110) a + S1x16.size a ≤ S512x128.size a := fun v16 v31 v68 v105 v142 v179 v216 v253 v290 v327 v364 v401 v438 v475 v512 v549 v586 v623 v660 arg13 k0_hw58 k0_t110 => k0_hw58.2.2.2.2.2.2.2.2.2.2.2 k0_t110

@[reducible] def k0_t111_loop (v697 : BitVec 32) : Scf.Loop 32 :=
  let c0_i32_272 : BitVec 32 := 0#32
  let c0_i32_265 : BitVec 32 := 0#32
  let v700 : BitVec 1 := Scalar.cmpi .sgt v697 c0_i32_265
  let v701 : BitVec 32 := Scalar.extui v700
  let c0_i32_266 : BitVec 32 := 0#32
  let v702 : BitVec 1 := Scalar.cmpi .slt v697 c0_i32_266
  let v703 : BitVec 32 := Scalar.extui v702
  let v704 : BitVec 32 := Scalar.subi v701 v703
  let c504_i32_264 : BitVec 32 := 504#32
  let c0_i32_267 : BitVec 32 := 0#32
  let v705 : BitVec 1 := Scalar.cmpi .sgt c504_i32_264 c0_i32_267
  let v706 : BitVec 32 := Scalar.extui v705
  let c0_i32_268 : BitVec 32 := 0#32
  let v707 : BitVec 1 := Scalar.cmpi .slt c504_i32_264 c0_i32_268
  let v708 : BitVec 32 := Scalar.extui v707
  let v709 : BitVec 32 := Scalar.subi v706 v708
  let v710 : BitVec 1 := Scalar.cmpi .ne v704 v709
  let v711 : BitVec 32 := Scalar.remsi v697 c504_i32_264
  let c0_i32_269 : BitVec 32 := 0#32
  let v712 : BitVec 1 := Scalar.cmpi .ne v711 c0_i32_269
  let v713 : BitVec 1 := Scalar.andi v710 v712
  let v699 : BitVec 32 := Scalar.divsi v697 c504_i32_264
  let c1_i32_270 : BitVec 32 := 1#32
  let v714 : BitVec 32 := Scalar.subi v699 c1_i32_270
  let v715 : BitVec 32 := Scalar.select v713 v714 v699
  let c1_i32_271 : BitVec 32 := 1#32
  let v716 : BitVec 32 := Scalar.addi v715 c1_i32_271
  let v717 : BitVec 32 := Scalar.subi v716 c0_i32_272
  let c1_i32_273 : BitVec 32 := 1#32
  let v719 : BitVec 32 := Scalar.divsi v717 c1_i32_273
  let v720 : BitVec 32 := Scalar.muli v719 c1_i32_273
  let v721 : BitVec 32 := Scalar.addi c0_i32_272 v720
  let c1_i32_274 : BitVec 32 := 1#32
  ⟨c0_i32_272, v721, c1_i32_274⟩

def k0_mult37 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off325 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r37 : BitVec 32 := 0#32
  ![v1213.toNat, 0]
@[reducible] def k0_t112_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off326 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t112 : Fin (k0_t112_loop v16 v31 v68 v105 v142 v179 v216 v253 v290 v327 v364 v401 v438 v475 v512 v549 v586 v623 v660 v697 arg13).trips) : Fin 2 → Nat :=
  let c1_i32_473 : BitVec 32 := 1#32
  let arg14 : BitVec 32 := Scf.iv arg13 c1_i32_473 k0_t112
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off327 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t112 : Fin (k0_t112_loop v16 v31 v68 v105 v142 v179 v216 v253 v290 v327 v364 v401 v438 v475 v512 v549 v586 v623 v660 v697 arg13).trips) : Fin 2 → Nat :=
  let c1_i32_473 : BitVec 32 := 1#32
  let arg14 : BitVec 32 := Scf.iv arg13 c1_i32_473 k0_t112
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off328 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t112 : Fin (k0_t112_loop v16 v31 v68 v105 v142 v179 v216 v253 v290 v327 v364 v401 v438 v475 v512 v549 v586 v623 v660 v697 arg13).trips) : Fin 2 → Nat :=
  let c1_i32_473 : BitVec 32 := 1#32
  let arg14 : BitVec 32 := Scf.iv arg13 c1_i32_473 k0_t112
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off329 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t112 : Fin (k0_t112_loop v16 v31 v68 v105 v142 v179 v216 v253 v290 v327 v364 v401 v438 v475 v512 v549 v586 v623 v660 v697 arg13).trips) : Fin 2 → Nat :=
  let c1_i32_473 : BitVec 32 := 1#32
  let arg14 : BitVec 32 := Scf.iv arg13 c1_i32_473 k0_t112
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t113_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off330 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t113 : Fin (k0_t113_loop v16 v31 v68 v105 v142 v179 v216 v253 v290 v327 v364 v401 v438 v475 v512 v549 v586 v623 v660 v697 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t113
  let v1224 : BitVec 32 := Scalar.subi arg14 v1213
  let v1225 : Index := Scalar.indexCast v1224
  let c0_475 : Index := 0#32
  ![v1225.toNat, 0]
def k0_off331 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t113 : Fin (k0_t113_loop v16 v31 v68 v105 v142 v179 v216 v253 v290 v327 v364 v401 v438 v475 v512 v549 v586 v623 v660 v697 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t113
  let v1224 : BitVec 32 := Scalar.subi arg14 v1213
  let v1228 : Index := Scalar.indexCast v1224
  let c16_476 : Index := 16#32
  ![v1228.toNat, 16]
def k0_off332 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t113 : Fin (k0_t113_loop v16 v31 v68 v105 v142 v179 v216 v253 v290 v327 v364 v401 v438 v475 v512 v549 v586 v623 v660 v697 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t113
  let v1224 : BitVec 32 := Scalar.subi arg14 v1213
  let v1231 : Index := Scalar.indexCast v1224
  let c32_477 : Index := 32#32
  ![v1231.toNat, 32]
def k0_off333 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t113 : Fin (k0_t113_loop v16 v31 v68 v105 v142 v179 v216 v253 v290 v327 v364 v401 v438 v475 v512 v549 v586 v623 v660 v697 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t113
  let v1224 : BitVec 32 := Scalar.subi arg14 v1213
  let v1234 : Index := Scalar.indexCast v1224
  let c48_478 : Index := 48#32
  ![v1234.toNat, 48]

def k0_chk60 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) : Prop :=
  (8 ∣ (k0_mult37 arg13).toNat) ∧
  (∀ a, (k0_off325 arg13) a + S512x128.size a ≤ S320000x128.size a) ∧
  ((k0_t112_loop v16 v31 v68 v105 v142 v179 v216 v253 v290 v327 v364 v401 v438 v475 v512 v549 v586 v623 v660 v697 arg13).OK) ∧
  (∀ k0_t112 : Fin (k0_t112_loop v16 v31 v68 v105 v142 v179 v216 v253 v290 v327 v364 v401 v438 v475 v512 v549 v586 v623 v660 v697 arg13).trips, ∀ a, (k0_off326 v16 v31 v68 v105 v142 v179 v216 v253 v290 v327 v364 v401 v438 v475 v512 v549 v586 v623 v660 v697 arg13 k0_t112) a + S1x16.size a ≤ S512x128.size a) ∧
  (∀ k0_t112 : Fin (k0_t112_loop v16 v31 v68 v105 v142 v179 v216 v253 v290 v327 v364 v401 v438 v475 v512 v549 v586 v623 v660 v697 arg13).trips, ∀ a, (k0_off327 v16 v31 v68 v105 v142 v179 v216 v253 v290 v327 v364 v401 v438 v475 v512 v549 v586 v623 v660 v697 arg13 k0_t112) a + S1x16.size a ≤ S512x128.size a) ∧
  (∀ k0_t112 : Fin (k0_t112_loop v16 v31 v68 v105 v142 v179 v216 v253 v290 v327 v364 v401 v438 v475 v512 v549 v586 v623 v660 v697 arg13).trips, ∀ a, (k0_off328 v16 v31 v68 v105 v142 v179 v216 v253 v290 v327 v364 v401 v438 v475 v512 v549 v586 v623 v660 v697 arg13 k0_t112) a + S1x16.size a ≤ S512x128.size a) ∧
  (∀ k0_t112 : Fin (k0_t112_loop v16 v31 v68 v105 v142 v179 v216 v253 v290 v327 v364 v401 v438 v475 v512 v549 v586 v623 v660 v697 arg13).trips, ∀ a, (k0_off329 v16 v31 v68 v105 v142 v179 v216 v253 v290 v327 v364 v401 v438 v475 v512 v549 v586 v623 v660 v697 arg13 k0_t112) a + S1x16.size a ≤ S512x128.size a) ∧
  ((k0_t113_loop v16 v31 v68 v105 v142 v179 v216 v253 v290 v327 v364 v401 v438 v475 v512 v549 v586 v623 v660 v697 arg13).OK) ∧
  (∀ k0_t113 : Fin (k0_t113_loop v16 v31 v68 v105 v142 v179 v216 v253 v290 v327 v364 v401 v438 v475 v512 v549 v586 v623 v660 v697 arg13).trips, ∀ a, (k0_off330 v16 v31 v68 v105 v142 v179 v216 v253 v290 v327 v364 v401 v438 v475 v512 v549 v586 v623 v660 v697 arg13 k0_t113) a + S1x16.size a ≤ S512x128.size a) ∧
  (∀ k0_t113 : Fin (k0_t113_loop v16 v31 v68 v105 v142 v179 v216 v253 v290 v327 v364 v401 v438 v475 v512 v549 v586 v623 v660 v697 arg13).trips, ∀ a, (k0_off331 v16 v31 v68 v105 v142 v179 v216 v253 v290 v327 v364 v401 v438 v475 v512 v549 v586 v623 v660 v697 arg13 k0_t113) a + S1x16.size a ≤ S512x128.size a) ∧
  (∀ k0_t113 : Fin (k0_t113_loop v16 v31 v68 v105 v142 v179 v216 v253 v290 v327 v364 v401 v438 v475 v512 v549 v586 v623 v660 v697 arg13).trips, ∀ a, (k0_off332 v16 v31 v68 v105 v142 v179 v216 v253 v290 v327 v364 v401 v438 v475 v512 v549 v586 v623 v660 v697 arg13 k0_t113) a + S1x16.size a ≤ S512x128.size a) ∧
  (∀ k0_t113 : Fin (k0_t113_loop v16 v31 v68 v105 v142 v179 v216 v253 v290 v327 v364 v401 v438 v475 v512 v549 v586 v623 v660 v697 arg13).trips, ∀ a, (k0_off333 v16 v31 v68 v105 v142 v179 v216 v253 v290 v327 v364 v401 v438 v475 v512 v549 v586 v623 v660 v697 arg13 k0_t113) a + S1x16.size a ≤ S512x128.size a)
theorem k0_mult37_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13), 8 ∣ (k0_mult37 arg13).toNat := fun v16 v31 v68 v105 v142 v179 v216 v253 v290 v327 v364 v401 v438 v475 v512 v549 v586 v623 v660 v697 arg13 k0_hw60 => k0_hw60.1
theorem k0_off325_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13), ∀ a, (k0_off325 arg13) a + S512x128.size a ≤ S320000x128.size a := fun v16 v31 v68 v105 v142 v179 v216 v253 v290 v327 v364 v401 v438 v475 v512 v549 v586 v623 v660 v697 arg13 k0_hw60 => k0_hw60.2.1
theorem k0_t112_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13), (k0_t112_loop v16 v31 v68 v105 v142 v179 v216 v253 v290 v327 v364 v401 v438 v475 v512 v549 v586 v623 v660 v697 arg13).OK := fun v16 v31 v68 v105 v142 v179 v216 v253 v290 v327 v364 v401 v438 v475 v512 v549 v586 v623 v660 v697 arg13 k0_hw60 => k0_hw60.2.2.1
theorem k0_off326_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13) (k0_t112 : Fin (k0_t112_loop v16 v31 v68 v105 v142 v179 v216 v253 v290 v327 v364 v401 v438 v475 v512 v549 v586 v623 v660 v697 arg13).trips), ∀ a, (k0_off326 v16 v31 v68 v105 v142 v179 v216 v253 v290 v327 v364 v401 v438 v475 v512 v549 v586 v623 v660 v697 arg13 k0_t112) a + S1x16.size a ≤ S512x128.size a := fun v16 v31 v68 v105 v142 v179 v216 v253 v290 v327 v364 v401 v438 v475 v512 v549 v586 v623 v660 v697 arg13 k0_hw60 k0_t112 => k0_hw60.2.2.2.1 k0_t112
theorem k0_off327_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13) (k0_t112 : Fin (k0_t112_loop v16 v31 v68 v105 v142 v179 v216 v253 v290 v327 v364 v401 v438 v475 v512 v549 v586 v623 v660 v697 arg13).trips), ∀ a, (k0_off327 v16 v31 v68 v105 v142 v179 v216 v253 v290 v327 v364 v401 v438 v475 v512 v549 v586 v623 v660 v697 arg13 k0_t112) a + S1x16.size a ≤ S512x128.size a := fun v16 v31 v68 v105 v142 v179 v216 v253 v290 v327 v364 v401 v438 v475 v512 v549 v586 v623 v660 v697 arg13 k0_hw60 k0_t112 => k0_hw60.2.2.2.2.1 k0_t112
theorem k0_off328_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13) (k0_t112 : Fin (k0_t112_loop v16 v31 v68 v105 v142 v179 v216 v253 v290 v327 v364 v401 v438 v475 v512 v549 v586 v623 v660 v697 arg13).trips), ∀ a, (k0_off328 v16 v31 v68 v105 v142 v179 v216 v253 v290 v327 v364 v401 v438 v475 v512 v549 v586 v623 v660 v697 arg13 k0_t112) a + S1x16.size a ≤ S512x128.size a := fun v16 v31 v68 v105 v142 v179 v216 v253 v290 v327 v364 v401 v438 v475 v512 v549 v586 v623 v660 v697 arg13 k0_hw60 k0_t112 => k0_hw60.2.2.2.2.2.1 k0_t112
theorem k0_off329_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13) (k0_t112 : Fin (k0_t112_loop v16 v31 v68 v105 v142 v179 v216 v253 v290 v327 v364 v401 v438 v475 v512 v549 v586 v623 v660 v697 arg13).trips), ∀ a, (k0_off329 v16 v31 v68 v105 v142 v179 v216 v253 v290 v327 v364 v401 v438 v475 v512 v549 v586 v623 v660 v697 arg13 k0_t112) a + S1x16.size a ≤ S512x128.size a := fun v16 v31 v68 v105 v142 v179 v216 v253 v290 v327 v364 v401 v438 v475 v512 v549 v586 v623 v660 v697 arg13 k0_hw60 k0_t112 => k0_hw60.2.2.2.2.2.2.1 k0_t112
theorem k0_t113_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13), (k0_t113_loop v16 v31 v68 v105 v142 v179 v216 v253 v290 v327 v364 v401 v438 v475 v512 v549 v586 v623 v660 v697 arg13).OK := fun v16 v31 v68 v105 v142 v179 v216 v253 v290 v327 v364 v401 v438 v475 v512 v549 v586 v623 v660 v697 arg13 k0_hw60 => k0_hw60.2.2.2.2.2.2.2.1
theorem k0_off330_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13) (k0_t113 : Fin (k0_t113_loop v16 v31 v68 v105 v142 v179 v216 v253 v290 v327 v364 v401 v438 v475 v512 v549 v586 v623 v660 v697 arg13).trips), ∀ a, (k0_off330 v16 v31 v68 v105 v142 v179 v216 v253 v290 v327 v364 v401 v438 v475 v512 v549 v586 v623 v660 v697 arg13 k0_t113) a + S1x16.size a ≤ S512x128.size a := fun v16 v31 v68 v105 v142 v179 v216 v253 v290 v327 v364 v401 v438 v475 v512 v549 v586 v623 v660 v697 arg13 k0_hw60 k0_t113 => k0_hw60.2.2.2.2.2.2.2.2.1 k0_t113
theorem k0_off331_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13) (k0_t113 : Fin (k0_t113_loop v16 v31 v68 v105 v142 v179 v216 v253 v290 v327 v364 v401 v438 v475 v512 v549 v586 v623 v660 v697 arg13).trips), ∀ a, (k0_off331 v16 v31 v68 v105 v142 v179 v216 v253 v290 v327 v364 v401 v438 v475 v512 v549 v586 v623 v660 v697 arg13 k0_t113) a + S1x16.size a ≤ S512x128.size a := fun v16 v31 v68 v105 v142 v179 v216 v253 v290 v327 v364 v401 v438 v475 v512 v549 v586 v623 v660 v697 arg13 k0_hw60 k0_t113 => k0_hw60.2.2.2.2.2.2.2.2.2.1 k0_t113
theorem k0_off332_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13) (k0_t113 : Fin (k0_t113_loop v16 v31 v68 v105 v142 v179 v216 v253 v290 v327 v364 v401 v438 v475 v512 v549 v586 v623 v660 v697 arg13).trips), ∀ a, (k0_off332 v16 v31 v68 v105 v142 v179 v216 v253 v290 v327 v364 v401 v438 v475 v512 v549 v586 v623 v660 v697 arg13 k0_t113) a + S1x16.size a ≤ S512x128.size a := fun v16 v31 v68 v105 v142 v179 v216 v253 v290 v327 v364 v401 v438 v475 v512 v549 v586 v623 v660 v697 arg13 k0_hw60 k0_t113 => k0_hw60.2.2.2.2.2.2.2.2.2.2.1 k0_t113
theorem k0_off333_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw60 : k0_chk60 v16 v31 v68 v105 v142 v179 v216 v253 v290 v327 v364 v401 v438 v475 v512 v549 v586 v623 v660 v697 arg13) (k0_t113 : Fin (k0_t113_loop v16 v31 v68 v105 v142 v179 v216 v253 v290 v327 v364 v401 v438 v475 v512 v549 v586 v623 v660 v697 arg13).trips), ∀ a, (k0_off333 v16 v31 v68 v105 v142 v179 v216 v253 v290 v327 v364 v401 v438 v475 v512 v549 v586 v623 v660 v697 arg13 k0_t113) a + S1x16.size a ≤ S512x128.size a := fun v16 v31 v68 v105 v142 v179 v216 v253 v290 v327 v364 v401 v438 v475 v512 v549 v586 v623 v660 v697 arg13 k0_hw60 k0_t113 => k0_hw60.2.2.2.2.2.2.2.2.2.2.2 k0_t113

@[reducible] def k0_t114_loop (v697 : BitVec 32) : Scf.Loop 32 :=
  let c0_i32_272 : BitVec 32 := 0#32
  let c0_i32_265 : BitVec 32 := 0#32
  let v700 : BitVec 1 := Scalar.cmpi .sgt v697 c0_i32_265
  let v701 : BitVec 32 := Scalar.extui v700
  let c0_i32_266 : BitVec 32 := 0#32
  let v702 : BitVec 1 := Scalar.cmpi .slt v697 c0_i32_266
  let v703 : BitVec 32 := Scalar.extui v702
  let v704 : BitVec 32 := Scalar.subi v701 v703
  let c504_i32_264 : BitVec 32 := 504#32
  let c0_i32_267 : BitVec 32 := 0#32
  let v705 : BitVec 1 := Scalar.cmpi .sgt c504_i32_264 c0_i32_267
  let v706 : BitVec 32 := Scalar.extui v705
  let c0_i32_268 : BitVec 32 := 0#32
  let v707 : BitVec 1 := Scalar.cmpi .slt c504_i32_264 c0_i32_268
  let v708 : BitVec 32 := Scalar.extui v707
  let v709 : BitVec 32 := Scalar.subi v706 v708
  let v710 : BitVec 1 := Scalar.cmpi .ne v704 v709
  let v711 : BitVec 32 := Scalar.remsi v697 c504_i32_264
  let c0_i32_269 : BitVec 32 := 0#32
  let v712 : BitVec 1 := Scalar.cmpi .ne v711 c0_i32_269
  let v713 : BitVec 1 := Scalar.andi v710 v712
  let v699 : BitVec 32 := Scalar.divsi v697 c504_i32_264
  let c1_i32_270 : BitVec 32 := 1#32
  let v714 : BitVec 32 := Scalar.subi v699 c1_i32_270
  let v715 : BitVec 32 := Scalar.select v713 v714 v699
  let c1_i32_271 : BitVec 32 := 1#32
  let v716 : BitVec 32 := Scalar.addi v715 c1_i32_271
  let v717 : BitVec 32 := Scalar.subi v716 c0_i32_272
  let c1_i32_273 : BitVec 32 := 1#32
  let v719 : BitVec 32 := Scalar.divsi v717 c1_i32_273
  let v720 : BitVec 32 := Scalar.muli v719 c1_i32_273
  let v721 : BitVec 32 := Scalar.addi c0_i32_272 v720
  let v718 : BitVec 32 := Scalar.addi c0_i32_272 v717
  let c1_i32_275 : BitVec 32 := 1#32
  ⟨v721, v718, c1_i32_275⟩

def k0_chk59 (v697 : BitVec 32) : Prop :=
  ((k0_t111_loop v697).OK) ∧
  ((k0_t114_loop v697).OK)
theorem k0_t111_ok : ∀ (v697 : BitVec 32) (k0_hw59 : k0_chk59 v697), (k0_t111_loop v697).OK := fun v697 k0_hw59 => k0_hw59.1
theorem k0_t114_ok : ∀ (v697 : BitVec 32) (k0_hw59 : k0_chk59 v697), (k0_t114_loop v697).OK := fun v697 k0_hw59 => k0_hw59.2

def k0_mult38 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off334 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r38 : BitVec 32 := 0#32
  ![v1213.toNat, 0]
@[reducible] def k0_t115_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off335 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t115 : Fin (k0_t115_loop v16 v31 v68 v105 v142 v179 v216 v253 v290 v327 v364 v401 v438 v475 v512 v549 v586 v623 v660 v697 arg13).trips) : Fin 2 → Nat :=
  let c1_i32_473 : BitVec 32 := 1#32
  let arg14 : BitVec 32 := Scf.iv arg13 c1_i32_473 k0_t115
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off336 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t115 : Fin (k0_t115_loop v16 v31 v68 v105 v142 v179 v216 v253 v290 v327 v364 v401 v438 v475 v512 v549 v586 v623 v660 v697 arg13).trips) : Fin 2 → Nat :=
  let c1_i32_473 : BitVec 32 := 1#32
  let arg14 : BitVec 32 := Scf.iv arg13 c1_i32_473 k0_t115
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off337 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t115 : Fin (k0_t115_loop v16 v31 v68 v105 v142 v179 v216 v253 v290 v327 v364 v401 v438 v475 v512 v549 v586 v623 v660 v697 arg13).trips) : Fin 2 → Nat :=
  let c1_i32_473 : BitVec 32 := 1#32
  let arg14 : BitVec 32 := Scf.iv arg13 c1_i32_473 k0_t115
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off338 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t115 : Fin (k0_t115_loop v16 v31 v68 v105 v142 v179 v216 v253 v290 v327 v364 v401 v438 v475 v512 v549 v586 v623 v660 v697 arg13).trips) : Fin 2 → Nat :=
  let c1_i32_473 : BitVec 32 := 1#32
  let arg14 : BitVec 32 := Scf.iv arg13 c1_i32_473 k0_t115
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t116_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off339 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t116 : Fin (k0_t116_loop v16 v31 v68 v105 v142 v179 v216 v253 v290 v327 v364 v401 v438 v475 v512 v549 v586 v623 v660 v697 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t116
  let v1224 : BitVec 32 := Scalar.subi arg14 v1213
  let v1225 : Index := Scalar.indexCast v1224
  let c0_475 : Index := 0#32
  ![v1225.toNat, 0]
def k0_off340 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t116 : Fin (k0_t116_loop v16 v31 v68 v105 v142 v179 v216 v253 v290 v327 v364 v401 v438 v475 v512 v549 v586 v623 v660 v697 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t116
  let v1224 : BitVec 32 := Scalar.subi arg14 v1213
  let v1228 : Index := Scalar.indexCast v1224
  let c16_476 : Index := 16#32
  ![v1228.toNat, 16]
def k0_off341 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t116 : Fin (k0_t116_loop v16 v31 v68 v105 v142 v179 v216 v253 v290 v327 v364 v401 v438 v475 v512 v549 v586 v623 v660 v697 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t116
  let v1224 : BitVec 32 := Scalar.subi arg14 v1213
  let v1231 : Index := Scalar.indexCast v1224
  let c32_477 : Index := 32#32
  ![v1231.toNat, 32]
def k0_off342 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_t116 : Fin (k0_t116_loop v16 v31 v68 v105 v142 v179 v216 v253 v290 v327 v364 v401 v438 v475 v512 v549 v586 v623 v660 v697 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v698 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t116
  let v1224 : BitVec 32 := Scalar.subi arg14 v1213
  let v1234 : Index := Scalar.indexCast v1224
  let c48_478 : Index := 48#32
  ![v1234.toNat, 48]

def k0_chk61 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) : Prop :=
  (8 ∣ (k0_mult38 arg13).toNat) ∧
  (∀ a, (k0_off334 arg13) a + S512x128.size a ≤ S320000x128.size a) ∧
  ((k0_t115_loop v16 v31 v68 v105 v142 v179 v216 v253 v290 v327 v364 v401 v438 v475 v512 v549 v586 v623 v660 v697 arg13).OK) ∧
  (∀ k0_t115 : Fin (k0_t115_loop v16 v31 v68 v105 v142 v179 v216 v253 v290 v327 v364 v401 v438 v475 v512 v549 v586 v623 v660 v697 arg13).trips, ∀ a, (k0_off335 v16 v31 v68 v105 v142 v179 v216 v253 v290 v327 v364 v401 v438 v475 v512 v549 v586 v623 v660 v697 arg13 k0_t115) a + S1x16.size a ≤ S512x128.size a) ∧
  (∀ k0_t115 : Fin (k0_t115_loop v16 v31 v68 v105 v142 v179 v216 v253 v290 v327 v364 v401 v438 v475 v512 v549 v586 v623 v660 v697 arg13).trips, ∀ a, (k0_off336 v16 v31 v68 v105 v142 v179 v216 v253 v290 v327 v364 v401 v438 v475 v512 v549 v586 v623 v660 v697 arg13 k0_t115) a + S1x16.size a ≤ S512x128.size a) ∧
  (∀ k0_t115 : Fin (k0_t115_loop v16 v31 v68 v105 v142 v179 v216 v253 v290 v327 v364 v401 v438 v475 v512 v549 v586 v623 v660 v697 arg13).trips, ∀ a, (k0_off337 v16 v31 v68 v105 v142 v179 v216 v253 v290 v327 v364 v401 v438 v475 v512 v549 v586 v623 v660 v697 arg13 k0_t115) a + S1x16.size a ≤ S512x128.size a) ∧
  (∀ k0_t115 : Fin (k0_t115_loop v16 v31 v68 v105 v142 v179 v216 v253 v290 v327 v364 v401 v438 v475 v512 v549 v586 v623 v660 v697 arg13).trips, ∀ a, (k0_off338 v16 v31 v68 v105 v142 v179 v216 v253 v290 v327 v364 v401 v438 v475 v512 v549 v586 v623 v660 v697 arg13 k0_t115) a + S1x16.size a ≤ S512x128.size a) ∧
  ((k0_t116_loop v16 v31 v68 v105 v142 v179 v216 v253 v290 v327 v364 v401 v438 v475 v512 v549 v586 v623 v660 v697 arg13).OK) ∧
  (∀ k0_t116 : Fin (k0_t116_loop v16 v31 v68 v105 v142 v179 v216 v253 v290 v327 v364 v401 v438 v475 v512 v549 v586 v623 v660 v697 arg13).trips, ∀ a, (k0_off339 v16 v31 v68 v105 v142 v179 v216 v253 v290 v327 v364 v401 v438 v475 v512 v549 v586 v623 v660 v697 arg13 k0_t116) a + S1x16.size a ≤ S512x128.size a) ∧
  (∀ k0_t116 : Fin (k0_t116_loop v16 v31 v68 v105 v142 v179 v216 v253 v290 v327 v364 v401 v438 v475 v512 v549 v586 v623 v660 v697 arg13).trips, ∀ a, (k0_off340 v16 v31 v68 v105 v142 v179 v216 v253 v290 v327 v364 v401 v438 v475 v512 v549 v586 v623 v660 v697 arg13 k0_t116) a + S1x16.size a ≤ S512x128.size a) ∧
  (∀ k0_t116 : Fin (k0_t116_loop v16 v31 v68 v105 v142 v179 v216 v253 v290 v327 v364 v401 v438 v475 v512 v549 v586 v623 v660 v697 arg13).trips, ∀ a, (k0_off341 v16 v31 v68 v105 v142 v179 v216 v253 v290 v327 v364 v401 v438 v475 v512 v549 v586 v623 v660 v697 arg13 k0_t116) a + S1x16.size a ≤ S512x128.size a) ∧
  (∀ k0_t116 : Fin (k0_t116_loop v16 v31 v68 v105 v142 v179 v216 v253 v290 v327 v364 v401 v438 v475 v512 v549 v586 v623 v660 v697 arg13).trips, ∀ a, (k0_off342 v16 v31 v68 v105 v142 v179 v216 v253 v290 v327 v364 v401 v438 v475 v512 v549 v586 v623 v660 v697 arg13 k0_t116) a + S1x16.size a ≤ S512x128.size a)
theorem k0_mult38_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13), 8 ∣ (k0_mult38 arg13).toNat := fun v16 v31 v68 v105 v142 v179 v216 v253 v290 v327 v364 v401 v438 v475 v512 v549 v586 v623 v660 v697 arg13 k0_hw61 => k0_hw61.1
theorem k0_off334_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13), ∀ a, (k0_off334 arg13) a + S512x128.size a ≤ S320000x128.size a := fun v16 v31 v68 v105 v142 v179 v216 v253 v290 v327 v364 v401 v438 v475 v512 v549 v586 v623 v660 v697 arg13 k0_hw61 => k0_hw61.2.1
theorem k0_t115_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13), (k0_t115_loop v16 v31 v68 v105 v142 v179 v216 v253 v290 v327 v364 v401 v438 v475 v512 v549 v586 v623 v660 v697 arg13).OK := fun v16 v31 v68 v105 v142 v179 v216 v253 v290 v327 v364 v401 v438 v475 v512 v549 v586 v623 v660 v697 arg13 k0_hw61 => k0_hw61.2.2.1
theorem k0_off335_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13) (k0_t115 : Fin (k0_t115_loop v16 v31 v68 v105 v142 v179 v216 v253 v290 v327 v364 v401 v438 v475 v512 v549 v586 v623 v660 v697 arg13).trips), ∀ a, (k0_off335 v16 v31 v68 v105 v142 v179 v216 v253 v290 v327 v364 v401 v438 v475 v512 v549 v586 v623 v660 v697 arg13 k0_t115) a + S1x16.size a ≤ S512x128.size a := fun v16 v31 v68 v105 v142 v179 v216 v253 v290 v327 v364 v401 v438 v475 v512 v549 v586 v623 v660 v697 arg13 k0_hw61 k0_t115 => k0_hw61.2.2.2.1 k0_t115
theorem k0_off336_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13) (k0_t115 : Fin (k0_t115_loop v16 v31 v68 v105 v142 v179 v216 v253 v290 v327 v364 v401 v438 v475 v512 v549 v586 v623 v660 v697 arg13).trips), ∀ a, (k0_off336 v16 v31 v68 v105 v142 v179 v216 v253 v290 v327 v364 v401 v438 v475 v512 v549 v586 v623 v660 v697 arg13 k0_t115) a + S1x16.size a ≤ S512x128.size a := fun v16 v31 v68 v105 v142 v179 v216 v253 v290 v327 v364 v401 v438 v475 v512 v549 v586 v623 v660 v697 arg13 k0_hw61 k0_t115 => k0_hw61.2.2.2.2.1 k0_t115
theorem k0_off337_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13) (k0_t115 : Fin (k0_t115_loop v16 v31 v68 v105 v142 v179 v216 v253 v290 v327 v364 v401 v438 v475 v512 v549 v586 v623 v660 v697 arg13).trips), ∀ a, (k0_off337 v16 v31 v68 v105 v142 v179 v216 v253 v290 v327 v364 v401 v438 v475 v512 v549 v586 v623 v660 v697 arg13 k0_t115) a + S1x16.size a ≤ S512x128.size a := fun v16 v31 v68 v105 v142 v179 v216 v253 v290 v327 v364 v401 v438 v475 v512 v549 v586 v623 v660 v697 arg13 k0_hw61 k0_t115 => k0_hw61.2.2.2.2.2.1 k0_t115
theorem k0_off338_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13) (k0_t115 : Fin (k0_t115_loop v16 v31 v68 v105 v142 v179 v216 v253 v290 v327 v364 v401 v438 v475 v512 v549 v586 v623 v660 v697 arg13).trips), ∀ a, (k0_off338 v16 v31 v68 v105 v142 v179 v216 v253 v290 v327 v364 v401 v438 v475 v512 v549 v586 v623 v660 v697 arg13 k0_t115) a + S1x16.size a ≤ S512x128.size a := fun v16 v31 v68 v105 v142 v179 v216 v253 v290 v327 v364 v401 v438 v475 v512 v549 v586 v623 v660 v697 arg13 k0_hw61 k0_t115 => k0_hw61.2.2.2.2.2.2.1 k0_t115
theorem k0_t116_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13), (k0_t116_loop v16 v31 v68 v105 v142 v179 v216 v253 v290 v327 v364 v401 v438 v475 v512 v549 v586 v623 v660 v697 arg13).OK := fun v16 v31 v68 v105 v142 v179 v216 v253 v290 v327 v364 v401 v438 v475 v512 v549 v586 v623 v660 v697 arg13 k0_hw61 => k0_hw61.2.2.2.2.2.2.2.1
theorem k0_off339_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13) (k0_t116 : Fin (k0_t116_loop v16 v31 v68 v105 v142 v179 v216 v253 v290 v327 v364 v401 v438 v475 v512 v549 v586 v623 v660 v697 arg13).trips), ∀ a, (k0_off339 v16 v31 v68 v105 v142 v179 v216 v253 v290 v327 v364 v401 v438 v475 v512 v549 v586 v623 v660 v697 arg13 k0_t116) a + S1x16.size a ≤ S512x128.size a := fun v16 v31 v68 v105 v142 v179 v216 v253 v290 v327 v364 v401 v438 v475 v512 v549 v586 v623 v660 v697 arg13 k0_hw61 k0_t116 => k0_hw61.2.2.2.2.2.2.2.2.1 k0_t116
theorem k0_off340_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13) (k0_t116 : Fin (k0_t116_loop v16 v31 v68 v105 v142 v179 v216 v253 v290 v327 v364 v401 v438 v475 v512 v549 v586 v623 v660 v697 arg13).trips), ∀ a, (k0_off340 v16 v31 v68 v105 v142 v179 v216 v253 v290 v327 v364 v401 v438 v475 v512 v549 v586 v623 v660 v697 arg13 k0_t116) a + S1x16.size a ≤ S512x128.size a := fun v16 v31 v68 v105 v142 v179 v216 v253 v290 v327 v364 v401 v438 v475 v512 v549 v586 v623 v660 v697 arg13 k0_hw61 k0_t116 => k0_hw61.2.2.2.2.2.2.2.2.2.1 k0_t116
theorem k0_off341_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13) (k0_t116 : Fin (k0_t116_loop v16 v31 v68 v105 v142 v179 v216 v253 v290 v327 v364 v401 v438 v475 v512 v549 v586 v623 v660 v697 arg13).trips), ∀ a, (k0_off341 v16 v31 v68 v105 v142 v179 v216 v253 v290 v327 v364 v401 v438 v475 v512 v549 v586 v623 v660 v697 arg13 k0_t116) a + S1x16.size a ≤ S512x128.size a := fun v16 v31 v68 v105 v142 v179 v216 v253 v290 v327 v364 v401 v438 v475 v512 v549 v586 v623 v660 v697 arg13 k0_hw61 k0_t116 => k0_hw61.2.2.2.2.2.2.2.2.2.2.1 k0_t116
theorem k0_off342_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (arg13 : BitVec 32) (k0_hw61 : k0_chk61 v16 v31 v68 v105 v142 v179 v216 v253 v290 v327 v364 v401 v438 v475 v512 v549 v586 v623 v660 v697 arg13) (k0_t116 : Fin (k0_t116_loop v16 v31 v68 v105 v142 v179 v216 v253 v290 v327 v364 v401 v438 v475 v512 v549 v586 v623 v660 v697 arg13).trips), ∀ a, (k0_off342 v16 v31 v68 v105 v142 v179 v216 v253 v290 v327 v364 v401 v438 v475 v512 v549 v586 v623 v660 v697 arg13 k0_t116) a + S1x16.size a ≤ S512x128.size a := fun v16 v31 v68 v105 v142 v179 v216 v253 v290 v327 v364 v401 v438 v475 v512 v549 v586 v623 v660 v697 arg13 k0_hw61 k0_t116 => k0_hw61.2.2.2.2.2.2.2.2.2.2.2 k0_t116

@[reducible] def k0_t117_loop (v734 : BitVec 32) : Scf.Loop 32 :=
  let c0_i32_287 : BitVec 32 := 0#32
  let c0_i32_280 : BitVec 32 := 0#32
  let v737 : BitVec 1 := Scalar.cmpi .sgt v734 c0_i32_280
  let v738 : BitVec 32 := Scalar.extui v737
  let c0_i32_281 : BitVec 32 := 0#32
  let v739 : BitVec 1 := Scalar.cmpi .slt v734 c0_i32_281
  let v740 : BitVec 32 := Scalar.extui v739
  let v741 : BitVec 32 := Scalar.subi v738 v740
  let c504_i32_279 : BitVec 32 := 504#32
  let c0_i32_282 : BitVec 32 := 0#32
  let v742 : BitVec 1 := Scalar.cmpi .sgt c504_i32_279 c0_i32_282
  let v743 : BitVec 32 := Scalar.extui v742
  let c0_i32_283 : BitVec 32 := 0#32
  let v744 : BitVec 1 := Scalar.cmpi .slt c504_i32_279 c0_i32_283
  let v745 : BitVec 32 := Scalar.extui v744
  let v746 : BitVec 32 := Scalar.subi v743 v745
  let v747 : BitVec 1 := Scalar.cmpi .ne v741 v746
  let v748 : BitVec 32 := Scalar.remsi v734 c504_i32_279
  let c0_i32_284 : BitVec 32 := 0#32
  let v749 : BitVec 1 := Scalar.cmpi .ne v748 c0_i32_284
  let v750 : BitVec 1 := Scalar.andi v747 v749
  let v736 : BitVec 32 := Scalar.divsi v734 c504_i32_279
  let c1_i32_285 : BitVec 32 := 1#32
  let v751 : BitVec 32 := Scalar.subi v736 c1_i32_285
  let v752 : BitVec 32 := Scalar.select v750 v751 v736
  let c1_i32_286 : BitVec 32 := 1#32
  let v753 : BitVec 32 := Scalar.addi v752 c1_i32_286
  let v754 : BitVec 32 := Scalar.subi v753 c0_i32_287
  let c1_i32_288 : BitVec 32 := 1#32
  let v756 : BitVec 32 := Scalar.divsi v754 c1_i32_288
  let v757 : BitVec 32 := Scalar.muli v756 c1_i32_288
  let v758 : BitVec 32 := Scalar.addi c0_i32_287 v757
  let c1_i32_289 : BitVec 32 := 1#32
  ⟨c0_i32_287, v758, c1_i32_289⟩

def k0_mult39 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off343 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r39 : BitVec 32 := 0#32
  ![v1213.toNat, 0]
@[reducible] def k0_t118_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off344 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t118 : Fin (k0_t118_loop v16 v31 v68 v105 v142 v179 v216 v253 v290 v327 v364 v401 v438 v475 v512 v549 v586 v623 v660 v697 v734 arg13).trips) : Fin 2 → Nat :=
  let c1_i32_473 : BitVec 32 := 1#32
  let arg14 : BitVec 32 := Scf.iv arg13 c1_i32_473 k0_t118
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off345 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t118 : Fin (k0_t118_loop v16 v31 v68 v105 v142 v179 v216 v253 v290 v327 v364 v401 v438 v475 v512 v549 v586 v623 v660 v697 v734 arg13).trips) : Fin 2 → Nat :=
  let c1_i32_473 : BitVec 32 := 1#32
  let arg14 : BitVec 32 := Scf.iv arg13 c1_i32_473 k0_t118
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off346 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t118 : Fin (k0_t118_loop v16 v31 v68 v105 v142 v179 v216 v253 v290 v327 v364 v401 v438 v475 v512 v549 v586 v623 v660 v697 v734 arg13).trips) : Fin 2 → Nat :=
  let c1_i32_473 : BitVec 32 := 1#32
  let arg14 : BitVec 32 := Scf.iv arg13 c1_i32_473 k0_t118
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off347 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t118 : Fin (k0_t118_loop v16 v31 v68 v105 v142 v179 v216 v253 v290 v327 v364 v401 v438 v475 v512 v549 v586 v623 v660 v697 v734 arg13).trips) : Fin 2 → Nat :=
  let c1_i32_473 : BitVec 32 := 1#32
  let arg14 : BitVec 32 := Scf.iv arg13 c1_i32_473 k0_t118
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t119_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off348 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t119 : Fin (k0_t119_loop v16 v31 v68 v105 v142 v179 v216 v253 v290 v327 v364 v401 v438 v475 v512 v549 v586 v623 v660 v697 v734 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t119
  let v1224 : BitVec 32 := Scalar.subi arg14 v1213
  let v1225 : Index := Scalar.indexCast v1224
  let c0_475 : Index := 0#32
  ![v1225.toNat, 0]
def k0_off349 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t119 : Fin (k0_t119_loop v16 v31 v68 v105 v142 v179 v216 v253 v290 v327 v364 v401 v438 v475 v512 v549 v586 v623 v660 v697 v734 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t119
  let v1224 : BitVec 32 := Scalar.subi arg14 v1213
  let v1228 : Index := Scalar.indexCast v1224
  let c16_476 : Index := 16#32
  ![v1228.toNat, 16]
def k0_off350 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t119 : Fin (k0_t119_loop v16 v31 v68 v105 v142 v179 v216 v253 v290 v327 v364 v401 v438 v475 v512 v549 v586 v623 v660 v697 v734 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t119
  let v1224 : BitVec 32 := Scalar.subi arg14 v1213
  let v1231 : Index := Scalar.indexCast v1224
  let c32_477 : Index := 32#32
  ![v1231.toNat, 32]
def k0_off351 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t119 : Fin (k0_t119_loop v16 v31 v68 v105 v142 v179 v216 v253 v290 v327 v364 v401 v438 v475 v512 v549 v586 v623 v660 v697 v734 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t119
  let v1224 : BitVec 32 := Scalar.subi arg14 v1213
  let v1234 : Index := Scalar.indexCast v1224
  let c48_478 : Index := 48#32
  ![v1234.toNat, 48]

def k0_chk63 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) : Prop :=
  (8 ∣ (k0_mult39 arg13).toNat) ∧
  (∀ a, (k0_off343 arg13) a + S512x128.size a ≤ S320000x128.size a) ∧
  ((k0_t118_loop v16 v31 v68 v105 v142 v179 v216 v253 v290 v327 v364 v401 v438 v475 v512 v549 v586 v623 v660 v697 v734 arg13).OK) ∧
  (∀ k0_t118 : Fin (k0_t118_loop v16 v31 v68 v105 v142 v179 v216 v253 v290 v327 v364 v401 v438 v475 v512 v549 v586 v623 v660 v697 v734 arg13).trips, ∀ a, (k0_off344 v16 v31 v68 v105 v142 v179 v216 v253 v290 v327 v364 v401 v438 v475 v512 v549 v586 v623 v660 v697 v734 arg13 k0_t118) a + S1x16.size a ≤ S512x128.size a) ∧
  (∀ k0_t118 : Fin (k0_t118_loop v16 v31 v68 v105 v142 v179 v216 v253 v290 v327 v364 v401 v438 v475 v512 v549 v586 v623 v660 v697 v734 arg13).trips, ∀ a, (k0_off345 v16 v31 v68 v105 v142 v179 v216 v253 v290 v327 v364 v401 v438 v475 v512 v549 v586 v623 v660 v697 v734 arg13 k0_t118) a + S1x16.size a ≤ S512x128.size a) ∧
  (∀ k0_t118 : Fin (k0_t118_loop v16 v31 v68 v105 v142 v179 v216 v253 v290 v327 v364 v401 v438 v475 v512 v549 v586 v623 v660 v697 v734 arg13).trips, ∀ a, (k0_off346 v16 v31 v68 v105 v142 v179 v216 v253 v290 v327 v364 v401 v438 v475 v512 v549 v586 v623 v660 v697 v734 arg13 k0_t118) a + S1x16.size a ≤ S512x128.size a) ∧
  (∀ k0_t118 : Fin (k0_t118_loop v16 v31 v68 v105 v142 v179 v216 v253 v290 v327 v364 v401 v438 v475 v512 v549 v586 v623 v660 v697 v734 arg13).trips, ∀ a, (k0_off347 v16 v31 v68 v105 v142 v179 v216 v253 v290 v327 v364 v401 v438 v475 v512 v549 v586 v623 v660 v697 v734 arg13 k0_t118) a + S1x16.size a ≤ S512x128.size a) ∧
  ((k0_t119_loop v16 v31 v68 v105 v142 v179 v216 v253 v290 v327 v364 v401 v438 v475 v512 v549 v586 v623 v660 v697 v734 arg13).OK) ∧
  (∀ k0_t119 : Fin (k0_t119_loop v16 v31 v68 v105 v142 v179 v216 v253 v290 v327 v364 v401 v438 v475 v512 v549 v586 v623 v660 v697 v734 arg13).trips, ∀ a, (k0_off348 v16 v31 v68 v105 v142 v179 v216 v253 v290 v327 v364 v401 v438 v475 v512 v549 v586 v623 v660 v697 v734 arg13 k0_t119) a + S1x16.size a ≤ S512x128.size a) ∧
  (∀ k0_t119 : Fin (k0_t119_loop v16 v31 v68 v105 v142 v179 v216 v253 v290 v327 v364 v401 v438 v475 v512 v549 v586 v623 v660 v697 v734 arg13).trips, ∀ a, (k0_off349 v16 v31 v68 v105 v142 v179 v216 v253 v290 v327 v364 v401 v438 v475 v512 v549 v586 v623 v660 v697 v734 arg13 k0_t119) a + S1x16.size a ≤ S512x128.size a) ∧
  (∀ k0_t119 : Fin (k0_t119_loop v16 v31 v68 v105 v142 v179 v216 v253 v290 v327 v364 v401 v438 v475 v512 v549 v586 v623 v660 v697 v734 arg13).trips, ∀ a, (k0_off350 v16 v31 v68 v105 v142 v179 v216 v253 v290 v327 v364 v401 v438 v475 v512 v549 v586 v623 v660 v697 v734 arg13 k0_t119) a + S1x16.size a ≤ S512x128.size a) ∧
  (∀ k0_t119 : Fin (k0_t119_loop v16 v31 v68 v105 v142 v179 v216 v253 v290 v327 v364 v401 v438 v475 v512 v549 v586 v623 v660 v697 v734 arg13).trips, ∀ a, (k0_off351 v16 v31 v68 v105 v142 v179 v216 v253 v290 v327 v364 v401 v438 v475 v512 v549 v586 v623 v660 v697 v734 arg13 k0_t119) a + S1x16.size a ≤ S512x128.size a)
theorem k0_mult39_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13), 8 ∣ (k0_mult39 arg13).toNat := fun v16 v31 v68 v105 v142 v179 v216 v253 v290 v327 v364 v401 v438 v475 v512 v549 v586 v623 v660 v697 v734 arg13 k0_hw63 => k0_hw63.1
theorem k0_off343_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13), ∀ a, (k0_off343 arg13) a + S512x128.size a ≤ S320000x128.size a := fun v16 v31 v68 v105 v142 v179 v216 v253 v290 v327 v364 v401 v438 v475 v512 v549 v586 v623 v660 v697 v734 arg13 k0_hw63 => k0_hw63.2.1
theorem k0_t118_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13), (k0_t118_loop v16 v31 v68 v105 v142 v179 v216 v253 v290 v327 v364 v401 v438 v475 v512 v549 v586 v623 v660 v697 v734 arg13).OK := fun v16 v31 v68 v105 v142 v179 v216 v253 v290 v327 v364 v401 v438 v475 v512 v549 v586 v623 v660 v697 v734 arg13 k0_hw63 => k0_hw63.2.2.1
theorem k0_off344_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13) (k0_t118 : Fin (k0_t118_loop v16 v31 v68 v105 v142 v179 v216 v253 v290 v327 v364 v401 v438 v475 v512 v549 v586 v623 v660 v697 v734 arg13).trips), ∀ a, (k0_off344 v16 v31 v68 v105 v142 v179 v216 v253 v290 v327 v364 v401 v438 v475 v512 v549 v586 v623 v660 v697 v734 arg13 k0_t118) a + S1x16.size a ≤ S512x128.size a := fun v16 v31 v68 v105 v142 v179 v216 v253 v290 v327 v364 v401 v438 v475 v512 v549 v586 v623 v660 v697 v734 arg13 k0_hw63 k0_t118 => k0_hw63.2.2.2.1 k0_t118
theorem k0_off345_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13) (k0_t118 : Fin (k0_t118_loop v16 v31 v68 v105 v142 v179 v216 v253 v290 v327 v364 v401 v438 v475 v512 v549 v586 v623 v660 v697 v734 arg13).trips), ∀ a, (k0_off345 v16 v31 v68 v105 v142 v179 v216 v253 v290 v327 v364 v401 v438 v475 v512 v549 v586 v623 v660 v697 v734 arg13 k0_t118) a + S1x16.size a ≤ S512x128.size a := fun v16 v31 v68 v105 v142 v179 v216 v253 v290 v327 v364 v401 v438 v475 v512 v549 v586 v623 v660 v697 v734 arg13 k0_hw63 k0_t118 => k0_hw63.2.2.2.2.1 k0_t118
theorem k0_off346_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13) (k0_t118 : Fin (k0_t118_loop v16 v31 v68 v105 v142 v179 v216 v253 v290 v327 v364 v401 v438 v475 v512 v549 v586 v623 v660 v697 v734 arg13).trips), ∀ a, (k0_off346 v16 v31 v68 v105 v142 v179 v216 v253 v290 v327 v364 v401 v438 v475 v512 v549 v586 v623 v660 v697 v734 arg13 k0_t118) a + S1x16.size a ≤ S512x128.size a := fun v16 v31 v68 v105 v142 v179 v216 v253 v290 v327 v364 v401 v438 v475 v512 v549 v586 v623 v660 v697 v734 arg13 k0_hw63 k0_t118 => k0_hw63.2.2.2.2.2.1 k0_t118
theorem k0_off347_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13) (k0_t118 : Fin (k0_t118_loop v16 v31 v68 v105 v142 v179 v216 v253 v290 v327 v364 v401 v438 v475 v512 v549 v586 v623 v660 v697 v734 arg13).trips), ∀ a, (k0_off347 v16 v31 v68 v105 v142 v179 v216 v253 v290 v327 v364 v401 v438 v475 v512 v549 v586 v623 v660 v697 v734 arg13 k0_t118) a + S1x16.size a ≤ S512x128.size a := fun v16 v31 v68 v105 v142 v179 v216 v253 v290 v327 v364 v401 v438 v475 v512 v549 v586 v623 v660 v697 v734 arg13 k0_hw63 k0_t118 => k0_hw63.2.2.2.2.2.2.1 k0_t118
theorem k0_t119_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13), (k0_t119_loop v16 v31 v68 v105 v142 v179 v216 v253 v290 v327 v364 v401 v438 v475 v512 v549 v586 v623 v660 v697 v734 arg13).OK := fun v16 v31 v68 v105 v142 v179 v216 v253 v290 v327 v364 v401 v438 v475 v512 v549 v586 v623 v660 v697 v734 arg13 k0_hw63 => k0_hw63.2.2.2.2.2.2.2.1
theorem k0_off348_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13) (k0_t119 : Fin (k0_t119_loop v16 v31 v68 v105 v142 v179 v216 v253 v290 v327 v364 v401 v438 v475 v512 v549 v586 v623 v660 v697 v734 arg13).trips), ∀ a, (k0_off348 v16 v31 v68 v105 v142 v179 v216 v253 v290 v327 v364 v401 v438 v475 v512 v549 v586 v623 v660 v697 v734 arg13 k0_t119) a + S1x16.size a ≤ S512x128.size a := fun v16 v31 v68 v105 v142 v179 v216 v253 v290 v327 v364 v401 v438 v475 v512 v549 v586 v623 v660 v697 v734 arg13 k0_hw63 k0_t119 => k0_hw63.2.2.2.2.2.2.2.2.1 k0_t119
theorem k0_off349_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13) (k0_t119 : Fin (k0_t119_loop v16 v31 v68 v105 v142 v179 v216 v253 v290 v327 v364 v401 v438 v475 v512 v549 v586 v623 v660 v697 v734 arg13).trips), ∀ a, (k0_off349 v16 v31 v68 v105 v142 v179 v216 v253 v290 v327 v364 v401 v438 v475 v512 v549 v586 v623 v660 v697 v734 arg13 k0_t119) a + S1x16.size a ≤ S512x128.size a := fun v16 v31 v68 v105 v142 v179 v216 v253 v290 v327 v364 v401 v438 v475 v512 v549 v586 v623 v660 v697 v734 arg13 k0_hw63 k0_t119 => k0_hw63.2.2.2.2.2.2.2.2.2.1 k0_t119
theorem k0_off350_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13) (k0_t119 : Fin (k0_t119_loop v16 v31 v68 v105 v142 v179 v216 v253 v290 v327 v364 v401 v438 v475 v512 v549 v586 v623 v660 v697 v734 arg13).trips), ∀ a, (k0_off350 v16 v31 v68 v105 v142 v179 v216 v253 v290 v327 v364 v401 v438 v475 v512 v549 v586 v623 v660 v697 v734 arg13 k0_t119) a + S1x16.size a ≤ S512x128.size a := fun v16 v31 v68 v105 v142 v179 v216 v253 v290 v327 v364 v401 v438 v475 v512 v549 v586 v623 v660 v697 v734 arg13 k0_hw63 k0_t119 => k0_hw63.2.2.2.2.2.2.2.2.2.2.1 k0_t119
theorem k0_off351_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw63 : k0_chk63 v16 v31 v68 v105 v142 v179 v216 v253 v290 v327 v364 v401 v438 v475 v512 v549 v586 v623 v660 v697 v734 arg13) (k0_t119 : Fin (k0_t119_loop v16 v31 v68 v105 v142 v179 v216 v253 v290 v327 v364 v401 v438 v475 v512 v549 v586 v623 v660 v697 v734 arg13).trips), ∀ a, (k0_off351 v16 v31 v68 v105 v142 v179 v216 v253 v290 v327 v364 v401 v438 v475 v512 v549 v586 v623 v660 v697 v734 arg13 k0_t119) a + S1x16.size a ≤ S512x128.size a := fun v16 v31 v68 v105 v142 v179 v216 v253 v290 v327 v364 v401 v438 v475 v512 v549 v586 v623 v660 v697 v734 arg13 k0_hw63 k0_t119 => k0_hw63.2.2.2.2.2.2.2.2.2.2.2 k0_t119

@[reducible] def k0_t120_loop (v734 : BitVec 32) : Scf.Loop 32 :=
  let c0_i32_287 : BitVec 32 := 0#32
  let c0_i32_280 : BitVec 32 := 0#32
  let v737 : BitVec 1 := Scalar.cmpi .sgt v734 c0_i32_280
  let v738 : BitVec 32 := Scalar.extui v737
  let c0_i32_281 : BitVec 32 := 0#32
  let v739 : BitVec 1 := Scalar.cmpi .slt v734 c0_i32_281
  let v740 : BitVec 32 := Scalar.extui v739
  let v741 : BitVec 32 := Scalar.subi v738 v740
  let c504_i32_279 : BitVec 32 := 504#32
  let c0_i32_282 : BitVec 32 := 0#32
  let v742 : BitVec 1 := Scalar.cmpi .sgt c504_i32_279 c0_i32_282
  let v743 : BitVec 32 := Scalar.extui v742
  let c0_i32_283 : BitVec 32 := 0#32
  let v744 : BitVec 1 := Scalar.cmpi .slt c504_i32_279 c0_i32_283
  let v745 : BitVec 32 := Scalar.extui v744
  let v746 : BitVec 32 := Scalar.subi v743 v745
  let v747 : BitVec 1 := Scalar.cmpi .ne v741 v746
  let v748 : BitVec 32 := Scalar.remsi v734 c504_i32_279
  let c0_i32_284 : BitVec 32 := 0#32
  let v749 : BitVec 1 := Scalar.cmpi .ne v748 c0_i32_284
  let v750 : BitVec 1 := Scalar.andi v747 v749
  let v736 : BitVec 32 := Scalar.divsi v734 c504_i32_279
  let c1_i32_285 : BitVec 32 := 1#32
  let v751 : BitVec 32 := Scalar.subi v736 c1_i32_285
  let v752 : BitVec 32 := Scalar.select v750 v751 v736
  let c1_i32_286 : BitVec 32 := 1#32
  let v753 : BitVec 32 := Scalar.addi v752 c1_i32_286
  let v754 : BitVec 32 := Scalar.subi v753 c0_i32_287
  let c1_i32_288 : BitVec 32 := 1#32
  let v756 : BitVec 32 := Scalar.divsi v754 c1_i32_288
  let v757 : BitVec 32 := Scalar.muli v756 c1_i32_288
  let v758 : BitVec 32 := Scalar.addi c0_i32_287 v757
  let v755 : BitVec 32 := Scalar.addi c0_i32_287 v754
  let c1_i32_290 : BitVec 32 := 1#32
  ⟨v758, v755, c1_i32_290⟩

def k0_chk62 (v734 : BitVec 32) : Prop :=
  ((k0_t117_loop v734).OK) ∧
  ((k0_t120_loop v734).OK)
theorem k0_t117_ok : ∀ (v734 : BitVec 32) (k0_hw62 : k0_chk62 v734), (k0_t117_loop v734).OK := fun v734 k0_hw62 => k0_hw62.1
theorem k0_t120_ok : ∀ (v734 : BitVec 32) (k0_hw62 : k0_chk62 v734), (k0_t120_loop v734).OK := fun v734 k0_hw62 => k0_hw62.2

def k0_mult40 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off352 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r40 : BitVec 32 := 0#32
  ![v1213.toNat, 0]
@[reducible] def k0_t121_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off353 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t121 : Fin (k0_t121_loop v16 v31 v68 v105 v142 v179 v216 v253 v290 v327 v364 v401 v438 v475 v512 v549 v586 v623 v660 v697 v734 arg13).trips) : Fin 2 → Nat :=
  let c1_i32_473 : BitVec 32 := 1#32
  let arg14 : BitVec 32 := Scf.iv arg13 c1_i32_473 k0_t121
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off354 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t121 : Fin (k0_t121_loop v16 v31 v68 v105 v142 v179 v216 v253 v290 v327 v364 v401 v438 v475 v512 v549 v586 v623 v660 v697 v734 arg13).trips) : Fin 2 → Nat :=
  let c1_i32_473 : BitVec 32 := 1#32
  let arg14 : BitVec 32 := Scf.iv arg13 c1_i32_473 k0_t121
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off355 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t121 : Fin (k0_t121_loop v16 v31 v68 v105 v142 v179 v216 v253 v290 v327 v364 v401 v438 v475 v512 v549 v586 v623 v660 v697 v734 arg13).trips) : Fin 2 → Nat :=
  let c1_i32_473 : BitVec 32 := 1#32
  let arg14 : BitVec 32 := Scf.iv arg13 c1_i32_473 k0_t121
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off356 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t121 : Fin (k0_t121_loop v16 v31 v68 v105 v142 v179 v216 v253 v290 v327 v364 v401 v438 v475 v512 v549 v586 v623 v660 v697 v734 arg13).trips) : Fin 2 → Nat :=
  let c1_i32_473 : BitVec 32 := 1#32
  let arg14 : BitVec 32 := Scf.iv arg13 c1_i32_473 k0_t121
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t122_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off357 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t122 : Fin (k0_t122_loop v16 v31 v68 v105 v142 v179 v216 v253 v290 v327 v364 v401 v438 v475 v512 v549 v586 v623 v660 v697 v734 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t122
  let v1224 : BitVec 32 := Scalar.subi arg14 v1213
  let v1225 : Index := Scalar.indexCast v1224
  let c0_475 : Index := 0#32
  ![v1225.toNat, 0]
def k0_off358 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t122 : Fin (k0_t122_loop v16 v31 v68 v105 v142 v179 v216 v253 v290 v327 v364 v401 v438 v475 v512 v549 v586 v623 v660 v697 v734 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t122
  let v1224 : BitVec 32 := Scalar.subi arg14 v1213
  let v1228 : Index := Scalar.indexCast v1224
  let c16_476 : Index := 16#32
  ![v1228.toNat, 16]
def k0_off359 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t122 : Fin (k0_t122_loop v16 v31 v68 v105 v142 v179 v216 v253 v290 v327 v364 v401 v438 v475 v512 v549 v586 v623 v660 v697 v734 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t122
  let v1224 : BitVec 32 := Scalar.subi arg14 v1213
  let v1231 : Index := Scalar.indexCast v1224
  let c32_477 : Index := 32#32
  ![v1231.toNat, 32]
def k0_off360 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_t122 : Fin (k0_t122_loop v16 v31 v68 v105 v142 v179 v216 v253 v290 v327 v364 v401 v438 v475 v512 v549 v586 v623 v660 v697 v734 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v735 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t122
  let v1224 : BitVec 32 := Scalar.subi arg14 v1213
  let v1234 : Index := Scalar.indexCast v1224
  let c48_478 : Index := 48#32
  ![v1234.toNat, 48]

def k0_chk64 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) : Prop :=
  (8 ∣ (k0_mult40 arg13).toNat) ∧
  (∀ a, (k0_off352 arg13) a + S512x128.size a ≤ S320000x128.size a) ∧
  ((k0_t121_loop v16 v31 v68 v105 v142 v179 v216 v253 v290 v327 v364 v401 v438 v475 v512 v549 v586 v623 v660 v697 v734 arg13).OK) ∧
  (∀ k0_t121 : Fin (k0_t121_loop v16 v31 v68 v105 v142 v179 v216 v253 v290 v327 v364 v401 v438 v475 v512 v549 v586 v623 v660 v697 v734 arg13).trips, ∀ a, (k0_off353 v16 v31 v68 v105 v142 v179 v216 v253 v290 v327 v364 v401 v438 v475 v512 v549 v586 v623 v660 v697 v734 arg13 k0_t121) a + S1x16.size a ≤ S512x128.size a) ∧
  (∀ k0_t121 : Fin (k0_t121_loop v16 v31 v68 v105 v142 v179 v216 v253 v290 v327 v364 v401 v438 v475 v512 v549 v586 v623 v660 v697 v734 arg13).trips, ∀ a, (k0_off354 v16 v31 v68 v105 v142 v179 v216 v253 v290 v327 v364 v401 v438 v475 v512 v549 v586 v623 v660 v697 v734 arg13 k0_t121) a + S1x16.size a ≤ S512x128.size a) ∧
  (∀ k0_t121 : Fin (k0_t121_loop v16 v31 v68 v105 v142 v179 v216 v253 v290 v327 v364 v401 v438 v475 v512 v549 v586 v623 v660 v697 v734 arg13).trips, ∀ a, (k0_off355 v16 v31 v68 v105 v142 v179 v216 v253 v290 v327 v364 v401 v438 v475 v512 v549 v586 v623 v660 v697 v734 arg13 k0_t121) a + S1x16.size a ≤ S512x128.size a) ∧
  (∀ k0_t121 : Fin (k0_t121_loop v16 v31 v68 v105 v142 v179 v216 v253 v290 v327 v364 v401 v438 v475 v512 v549 v586 v623 v660 v697 v734 arg13).trips, ∀ a, (k0_off356 v16 v31 v68 v105 v142 v179 v216 v253 v290 v327 v364 v401 v438 v475 v512 v549 v586 v623 v660 v697 v734 arg13 k0_t121) a + S1x16.size a ≤ S512x128.size a) ∧
  ((k0_t122_loop v16 v31 v68 v105 v142 v179 v216 v253 v290 v327 v364 v401 v438 v475 v512 v549 v586 v623 v660 v697 v734 arg13).OK) ∧
  (∀ k0_t122 : Fin (k0_t122_loop v16 v31 v68 v105 v142 v179 v216 v253 v290 v327 v364 v401 v438 v475 v512 v549 v586 v623 v660 v697 v734 arg13).trips, ∀ a, (k0_off357 v16 v31 v68 v105 v142 v179 v216 v253 v290 v327 v364 v401 v438 v475 v512 v549 v586 v623 v660 v697 v734 arg13 k0_t122) a + S1x16.size a ≤ S512x128.size a) ∧
  (∀ k0_t122 : Fin (k0_t122_loop v16 v31 v68 v105 v142 v179 v216 v253 v290 v327 v364 v401 v438 v475 v512 v549 v586 v623 v660 v697 v734 arg13).trips, ∀ a, (k0_off358 v16 v31 v68 v105 v142 v179 v216 v253 v290 v327 v364 v401 v438 v475 v512 v549 v586 v623 v660 v697 v734 arg13 k0_t122) a + S1x16.size a ≤ S512x128.size a) ∧
  (∀ k0_t122 : Fin (k0_t122_loop v16 v31 v68 v105 v142 v179 v216 v253 v290 v327 v364 v401 v438 v475 v512 v549 v586 v623 v660 v697 v734 arg13).trips, ∀ a, (k0_off359 v16 v31 v68 v105 v142 v179 v216 v253 v290 v327 v364 v401 v438 v475 v512 v549 v586 v623 v660 v697 v734 arg13 k0_t122) a + S1x16.size a ≤ S512x128.size a) ∧
  (∀ k0_t122 : Fin (k0_t122_loop v16 v31 v68 v105 v142 v179 v216 v253 v290 v327 v364 v401 v438 v475 v512 v549 v586 v623 v660 v697 v734 arg13).trips, ∀ a, (k0_off360 v16 v31 v68 v105 v142 v179 v216 v253 v290 v327 v364 v401 v438 v475 v512 v549 v586 v623 v660 v697 v734 arg13 k0_t122) a + S1x16.size a ≤ S512x128.size a)
theorem k0_mult40_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13), 8 ∣ (k0_mult40 arg13).toNat := fun v16 v31 v68 v105 v142 v179 v216 v253 v290 v327 v364 v401 v438 v475 v512 v549 v586 v623 v660 v697 v734 arg13 k0_hw64 => k0_hw64.1
theorem k0_off352_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13), ∀ a, (k0_off352 arg13) a + S512x128.size a ≤ S320000x128.size a := fun v16 v31 v68 v105 v142 v179 v216 v253 v290 v327 v364 v401 v438 v475 v512 v549 v586 v623 v660 v697 v734 arg13 k0_hw64 => k0_hw64.2.1
theorem k0_t121_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13), (k0_t121_loop v16 v31 v68 v105 v142 v179 v216 v253 v290 v327 v364 v401 v438 v475 v512 v549 v586 v623 v660 v697 v734 arg13).OK := fun v16 v31 v68 v105 v142 v179 v216 v253 v290 v327 v364 v401 v438 v475 v512 v549 v586 v623 v660 v697 v734 arg13 k0_hw64 => k0_hw64.2.2.1
theorem k0_off353_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13) (k0_t121 : Fin (k0_t121_loop v16 v31 v68 v105 v142 v179 v216 v253 v290 v327 v364 v401 v438 v475 v512 v549 v586 v623 v660 v697 v734 arg13).trips), ∀ a, (k0_off353 v16 v31 v68 v105 v142 v179 v216 v253 v290 v327 v364 v401 v438 v475 v512 v549 v586 v623 v660 v697 v734 arg13 k0_t121) a + S1x16.size a ≤ S512x128.size a := fun v16 v31 v68 v105 v142 v179 v216 v253 v290 v327 v364 v401 v438 v475 v512 v549 v586 v623 v660 v697 v734 arg13 k0_hw64 k0_t121 => k0_hw64.2.2.2.1 k0_t121
theorem k0_off354_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13) (k0_t121 : Fin (k0_t121_loop v16 v31 v68 v105 v142 v179 v216 v253 v290 v327 v364 v401 v438 v475 v512 v549 v586 v623 v660 v697 v734 arg13).trips), ∀ a, (k0_off354 v16 v31 v68 v105 v142 v179 v216 v253 v290 v327 v364 v401 v438 v475 v512 v549 v586 v623 v660 v697 v734 arg13 k0_t121) a + S1x16.size a ≤ S512x128.size a := fun v16 v31 v68 v105 v142 v179 v216 v253 v290 v327 v364 v401 v438 v475 v512 v549 v586 v623 v660 v697 v734 arg13 k0_hw64 k0_t121 => k0_hw64.2.2.2.2.1 k0_t121
theorem k0_off355_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13) (k0_t121 : Fin (k0_t121_loop v16 v31 v68 v105 v142 v179 v216 v253 v290 v327 v364 v401 v438 v475 v512 v549 v586 v623 v660 v697 v734 arg13).trips), ∀ a, (k0_off355 v16 v31 v68 v105 v142 v179 v216 v253 v290 v327 v364 v401 v438 v475 v512 v549 v586 v623 v660 v697 v734 arg13 k0_t121) a + S1x16.size a ≤ S512x128.size a := fun v16 v31 v68 v105 v142 v179 v216 v253 v290 v327 v364 v401 v438 v475 v512 v549 v586 v623 v660 v697 v734 arg13 k0_hw64 k0_t121 => k0_hw64.2.2.2.2.2.1 k0_t121
theorem k0_off356_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13) (k0_t121 : Fin (k0_t121_loop v16 v31 v68 v105 v142 v179 v216 v253 v290 v327 v364 v401 v438 v475 v512 v549 v586 v623 v660 v697 v734 arg13).trips), ∀ a, (k0_off356 v16 v31 v68 v105 v142 v179 v216 v253 v290 v327 v364 v401 v438 v475 v512 v549 v586 v623 v660 v697 v734 arg13 k0_t121) a + S1x16.size a ≤ S512x128.size a := fun v16 v31 v68 v105 v142 v179 v216 v253 v290 v327 v364 v401 v438 v475 v512 v549 v586 v623 v660 v697 v734 arg13 k0_hw64 k0_t121 => k0_hw64.2.2.2.2.2.2.1 k0_t121
theorem k0_t122_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13), (k0_t122_loop v16 v31 v68 v105 v142 v179 v216 v253 v290 v327 v364 v401 v438 v475 v512 v549 v586 v623 v660 v697 v734 arg13).OK := fun v16 v31 v68 v105 v142 v179 v216 v253 v290 v327 v364 v401 v438 v475 v512 v549 v586 v623 v660 v697 v734 arg13 k0_hw64 => k0_hw64.2.2.2.2.2.2.2.1
theorem k0_off357_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13) (k0_t122 : Fin (k0_t122_loop v16 v31 v68 v105 v142 v179 v216 v253 v290 v327 v364 v401 v438 v475 v512 v549 v586 v623 v660 v697 v734 arg13).trips), ∀ a, (k0_off357 v16 v31 v68 v105 v142 v179 v216 v253 v290 v327 v364 v401 v438 v475 v512 v549 v586 v623 v660 v697 v734 arg13 k0_t122) a + S1x16.size a ≤ S512x128.size a := fun v16 v31 v68 v105 v142 v179 v216 v253 v290 v327 v364 v401 v438 v475 v512 v549 v586 v623 v660 v697 v734 arg13 k0_hw64 k0_t122 => k0_hw64.2.2.2.2.2.2.2.2.1 k0_t122
theorem k0_off358_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13) (k0_t122 : Fin (k0_t122_loop v16 v31 v68 v105 v142 v179 v216 v253 v290 v327 v364 v401 v438 v475 v512 v549 v586 v623 v660 v697 v734 arg13).trips), ∀ a, (k0_off358 v16 v31 v68 v105 v142 v179 v216 v253 v290 v327 v364 v401 v438 v475 v512 v549 v586 v623 v660 v697 v734 arg13 k0_t122) a + S1x16.size a ≤ S512x128.size a := fun v16 v31 v68 v105 v142 v179 v216 v253 v290 v327 v364 v401 v438 v475 v512 v549 v586 v623 v660 v697 v734 arg13 k0_hw64 k0_t122 => k0_hw64.2.2.2.2.2.2.2.2.2.1 k0_t122
theorem k0_off359_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13) (k0_t122 : Fin (k0_t122_loop v16 v31 v68 v105 v142 v179 v216 v253 v290 v327 v364 v401 v438 v475 v512 v549 v586 v623 v660 v697 v734 arg13).trips), ∀ a, (k0_off359 v16 v31 v68 v105 v142 v179 v216 v253 v290 v327 v364 v401 v438 v475 v512 v549 v586 v623 v660 v697 v734 arg13 k0_t122) a + S1x16.size a ≤ S512x128.size a := fun v16 v31 v68 v105 v142 v179 v216 v253 v290 v327 v364 v401 v438 v475 v512 v549 v586 v623 v660 v697 v734 arg13 k0_hw64 k0_t122 => k0_hw64.2.2.2.2.2.2.2.2.2.2.1 k0_t122
theorem k0_off360_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (arg13 : BitVec 32) (k0_hw64 : k0_chk64 v16 v31 v68 v105 v142 v179 v216 v253 v290 v327 v364 v401 v438 v475 v512 v549 v586 v623 v660 v697 v734 arg13) (k0_t122 : Fin (k0_t122_loop v16 v31 v68 v105 v142 v179 v216 v253 v290 v327 v364 v401 v438 v475 v512 v549 v586 v623 v660 v697 v734 arg13).trips), ∀ a, (k0_off360 v16 v31 v68 v105 v142 v179 v216 v253 v290 v327 v364 v401 v438 v475 v512 v549 v586 v623 v660 v697 v734 arg13 k0_t122) a + S1x16.size a ≤ S512x128.size a := fun v16 v31 v68 v105 v142 v179 v216 v253 v290 v327 v364 v401 v438 v475 v512 v549 v586 v623 v660 v697 v734 arg13 k0_hw64 k0_t122 => k0_hw64.2.2.2.2.2.2.2.2.2.2.2 k0_t122

@[reducible] def k0_t123_loop (v771 : BitVec 32) : Scf.Loop 32 :=
  let c0_i32_302 : BitVec 32 := 0#32
  let c0_i32_295 : BitVec 32 := 0#32
  let v774 : BitVec 1 := Scalar.cmpi .sgt v771 c0_i32_295
  let v775 : BitVec 32 := Scalar.extui v774
  let c0_i32_296 : BitVec 32 := 0#32
  let v776 : BitVec 1 := Scalar.cmpi .slt v771 c0_i32_296
  let v777 : BitVec 32 := Scalar.extui v776
  let v778 : BitVec 32 := Scalar.subi v775 v777
  let c504_i32_294 : BitVec 32 := 504#32
  let c0_i32_297 : BitVec 32 := 0#32
  let v779 : BitVec 1 := Scalar.cmpi .sgt c504_i32_294 c0_i32_297
  let v780 : BitVec 32 := Scalar.extui v779
  let c0_i32_298 : BitVec 32 := 0#32
  let v781 : BitVec 1 := Scalar.cmpi .slt c504_i32_294 c0_i32_298
  let v782 : BitVec 32 := Scalar.extui v781
  let v783 : BitVec 32 := Scalar.subi v780 v782
  let v784 : BitVec 1 := Scalar.cmpi .ne v778 v783
  let v785 : BitVec 32 := Scalar.remsi v771 c504_i32_294
  let c0_i32_299 : BitVec 32 := 0#32
  let v786 : BitVec 1 := Scalar.cmpi .ne v785 c0_i32_299
  let v787 : BitVec 1 := Scalar.andi v784 v786
  let v773 : BitVec 32 := Scalar.divsi v771 c504_i32_294
  let c1_i32_300 : BitVec 32 := 1#32
  let v788 : BitVec 32 := Scalar.subi v773 c1_i32_300
  let v789 : BitVec 32 := Scalar.select v787 v788 v773
  let c1_i32_301 : BitVec 32 := 1#32
  let v790 : BitVec 32 := Scalar.addi v789 c1_i32_301
  let v791 : BitVec 32 := Scalar.subi v790 c0_i32_302
  let c1_i32_303 : BitVec 32 := 1#32
  let v793 : BitVec 32 := Scalar.divsi v791 c1_i32_303
  let v794 : BitVec 32 := Scalar.muli v793 c1_i32_303
  let v795 : BitVec 32 := Scalar.addi c0_i32_302 v794
  let c1_i32_304 : BitVec 32 := 1#32
  ⟨c0_i32_302, v795, c1_i32_304⟩

def k0_mult41 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off361 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r41 : BitVec 32 := 0#32
  ![v1213.toNat, 0]
@[reducible] def k0_t124_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off362 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t124 : Fin (k0_t124_loop v16 v31 v68 v105 v142 v179 v216 v253 v290 v327 v364 v401 v438 v475 v512 v549 v586 v623 v660 v697 v734 v771 arg13).trips) : Fin 2 → Nat :=
  let c1_i32_473 : BitVec 32 := 1#32
  let arg14 : BitVec 32 := Scf.iv arg13 c1_i32_473 k0_t124
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off363 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t124 : Fin (k0_t124_loop v16 v31 v68 v105 v142 v179 v216 v253 v290 v327 v364 v401 v438 v475 v512 v549 v586 v623 v660 v697 v734 v771 arg13).trips) : Fin 2 → Nat :=
  let c1_i32_473 : BitVec 32 := 1#32
  let arg14 : BitVec 32 := Scf.iv arg13 c1_i32_473 k0_t124
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off364 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t124 : Fin (k0_t124_loop v16 v31 v68 v105 v142 v179 v216 v253 v290 v327 v364 v401 v438 v475 v512 v549 v586 v623 v660 v697 v734 v771 arg13).trips) : Fin 2 → Nat :=
  let c1_i32_473 : BitVec 32 := 1#32
  let arg14 : BitVec 32 := Scf.iv arg13 c1_i32_473 k0_t124
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off365 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t124 : Fin (k0_t124_loop v16 v31 v68 v105 v142 v179 v216 v253 v290 v327 v364 v401 v438 v475 v512 v549 v586 v623 v660 v697 v734 v771 arg13).trips) : Fin 2 → Nat :=
  let c1_i32_473 : BitVec 32 := 1#32
  let arg14 : BitVec 32 := Scf.iv arg13 c1_i32_473 k0_t124
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t125_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off366 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t125 : Fin (k0_t125_loop v16 v31 v68 v105 v142 v179 v216 v253 v290 v327 v364 v401 v438 v475 v512 v549 v586 v623 v660 v697 v734 v771 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t125
  let v1224 : BitVec 32 := Scalar.subi arg14 v1213
  let v1225 : Index := Scalar.indexCast v1224
  let c0_475 : Index := 0#32
  ![v1225.toNat, 0]
def k0_off367 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t125 : Fin (k0_t125_loop v16 v31 v68 v105 v142 v179 v216 v253 v290 v327 v364 v401 v438 v475 v512 v549 v586 v623 v660 v697 v734 v771 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t125
  let v1224 : BitVec 32 := Scalar.subi arg14 v1213
  let v1228 : Index := Scalar.indexCast v1224
  let c16_476 : Index := 16#32
  ![v1228.toNat, 16]
def k0_off368 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t125 : Fin (k0_t125_loop v16 v31 v68 v105 v142 v179 v216 v253 v290 v327 v364 v401 v438 v475 v512 v549 v586 v623 v660 v697 v734 v771 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t125
  let v1224 : BitVec 32 := Scalar.subi arg14 v1213
  let v1231 : Index := Scalar.indexCast v1224
  let c32_477 : Index := 32#32
  ![v1231.toNat, 32]
def k0_off369 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t125 : Fin (k0_t125_loop v16 v31 v68 v105 v142 v179 v216 v253 v290 v327 v364 v401 v438 v475 v512 v549 v586 v623 v660 v697 v734 v771 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t125
  let v1224 : BitVec 32 := Scalar.subi arg14 v1213
  let v1234 : Index := Scalar.indexCast v1224
  let c48_478 : Index := 48#32
  ![v1234.toNat, 48]

def k0_chk66 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) : Prop :=
  (8 ∣ (k0_mult41 arg13).toNat) ∧
  (∀ a, (k0_off361 arg13) a + S512x128.size a ≤ S320000x128.size a) ∧
  ((k0_t124_loop v16 v31 v68 v105 v142 v179 v216 v253 v290 v327 v364 v401 v438 v475 v512 v549 v586 v623 v660 v697 v734 v771 arg13).OK) ∧
  (∀ k0_t124 : Fin (k0_t124_loop v16 v31 v68 v105 v142 v179 v216 v253 v290 v327 v364 v401 v438 v475 v512 v549 v586 v623 v660 v697 v734 v771 arg13).trips, ∀ a, (k0_off362 v16 v31 v68 v105 v142 v179 v216 v253 v290 v327 v364 v401 v438 v475 v512 v549 v586 v623 v660 v697 v734 v771 arg13 k0_t124) a + S1x16.size a ≤ S512x128.size a) ∧
  (∀ k0_t124 : Fin (k0_t124_loop v16 v31 v68 v105 v142 v179 v216 v253 v290 v327 v364 v401 v438 v475 v512 v549 v586 v623 v660 v697 v734 v771 arg13).trips, ∀ a, (k0_off363 v16 v31 v68 v105 v142 v179 v216 v253 v290 v327 v364 v401 v438 v475 v512 v549 v586 v623 v660 v697 v734 v771 arg13 k0_t124) a + S1x16.size a ≤ S512x128.size a) ∧
  (∀ k0_t124 : Fin (k0_t124_loop v16 v31 v68 v105 v142 v179 v216 v253 v290 v327 v364 v401 v438 v475 v512 v549 v586 v623 v660 v697 v734 v771 arg13).trips, ∀ a, (k0_off364 v16 v31 v68 v105 v142 v179 v216 v253 v290 v327 v364 v401 v438 v475 v512 v549 v586 v623 v660 v697 v734 v771 arg13 k0_t124) a + S1x16.size a ≤ S512x128.size a) ∧
  (∀ k0_t124 : Fin (k0_t124_loop v16 v31 v68 v105 v142 v179 v216 v253 v290 v327 v364 v401 v438 v475 v512 v549 v586 v623 v660 v697 v734 v771 arg13).trips, ∀ a, (k0_off365 v16 v31 v68 v105 v142 v179 v216 v253 v290 v327 v364 v401 v438 v475 v512 v549 v586 v623 v660 v697 v734 v771 arg13 k0_t124) a + S1x16.size a ≤ S512x128.size a) ∧
  ((k0_t125_loop v16 v31 v68 v105 v142 v179 v216 v253 v290 v327 v364 v401 v438 v475 v512 v549 v586 v623 v660 v697 v734 v771 arg13).OK) ∧
  (∀ k0_t125 : Fin (k0_t125_loop v16 v31 v68 v105 v142 v179 v216 v253 v290 v327 v364 v401 v438 v475 v512 v549 v586 v623 v660 v697 v734 v771 arg13).trips, ∀ a, (k0_off366 v16 v31 v68 v105 v142 v179 v216 v253 v290 v327 v364 v401 v438 v475 v512 v549 v586 v623 v660 v697 v734 v771 arg13 k0_t125) a + S1x16.size a ≤ S512x128.size a) ∧
  (∀ k0_t125 : Fin (k0_t125_loop v16 v31 v68 v105 v142 v179 v216 v253 v290 v327 v364 v401 v438 v475 v512 v549 v586 v623 v660 v697 v734 v771 arg13).trips, ∀ a, (k0_off367 v16 v31 v68 v105 v142 v179 v216 v253 v290 v327 v364 v401 v438 v475 v512 v549 v586 v623 v660 v697 v734 v771 arg13 k0_t125) a + S1x16.size a ≤ S512x128.size a) ∧
  (∀ k0_t125 : Fin (k0_t125_loop v16 v31 v68 v105 v142 v179 v216 v253 v290 v327 v364 v401 v438 v475 v512 v549 v586 v623 v660 v697 v734 v771 arg13).trips, ∀ a, (k0_off368 v16 v31 v68 v105 v142 v179 v216 v253 v290 v327 v364 v401 v438 v475 v512 v549 v586 v623 v660 v697 v734 v771 arg13 k0_t125) a + S1x16.size a ≤ S512x128.size a) ∧
  (∀ k0_t125 : Fin (k0_t125_loop v16 v31 v68 v105 v142 v179 v216 v253 v290 v327 v364 v401 v438 v475 v512 v549 v586 v623 v660 v697 v734 v771 arg13).trips, ∀ a, (k0_off369 v16 v31 v68 v105 v142 v179 v216 v253 v290 v327 v364 v401 v438 v475 v512 v549 v586 v623 v660 v697 v734 v771 arg13 k0_t125) a + S1x16.size a ≤ S512x128.size a)
theorem k0_mult41_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13), 8 ∣ (k0_mult41 arg13).toNat := fun v16 v31 v68 v105 v142 v179 v216 v253 v290 v327 v364 v401 v438 v475 v512 v549 v586 v623 v660 v697 v734 v771 arg13 k0_hw66 => k0_hw66.1
theorem k0_off361_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13), ∀ a, (k0_off361 arg13) a + S512x128.size a ≤ S320000x128.size a := fun v16 v31 v68 v105 v142 v179 v216 v253 v290 v327 v364 v401 v438 v475 v512 v549 v586 v623 v660 v697 v734 v771 arg13 k0_hw66 => k0_hw66.2.1
theorem k0_t124_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13), (k0_t124_loop v16 v31 v68 v105 v142 v179 v216 v253 v290 v327 v364 v401 v438 v475 v512 v549 v586 v623 v660 v697 v734 v771 arg13).OK := fun v16 v31 v68 v105 v142 v179 v216 v253 v290 v327 v364 v401 v438 v475 v512 v549 v586 v623 v660 v697 v734 v771 arg13 k0_hw66 => k0_hw66.2.2.1
theorem k0_off362_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13) (k0_t124 : Fin (k0_t124_loop v16 v31 v68 v105 v142 v179 v216 v253 v290 v327 v364 v401 v438 v475 v512 v549 v586 v623 v660 v697 v734 v771 arg13).trips), ∀ a, (k0_off362 v16 v31 v68 v105 v142 v179 v216 v253 v290 v327 v364 v401 v438 v475 v512 v549 v586 v623 v660 v697 v734 v771 arg13 k0_t124) a + S1x16.size a ≤ S512x128.size a := fun v16 v31 v68 v105 v142 v179 v216 v253 v290 v327 v364 v401 v438 v475 v512 v549 v586 v623 v660 v697 v734 v771 arg13 k0_hw66 k0_t124 => k0_hw66.2.2.2.1 k0_t124
theorem k0_off363_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13) (k0_t124 : Fin (k0_t124_loop v16 v31 v68 v105 v142 v179 v216 v253 v290 v327 v364 v401 v438 v475 v512 v549 v586 v623 v660 v697 v734 v771 arg13).trips), ∀ a, (k0_off363 v16 v31 v68 v105 v142 v179 v216 v253 v290 v327 v364 v401 v438 v475 v512 v549 v586 v623 v660 v697 v734 v771 arg13 k0_t124) a + S1x16.size a ≤ S512x128.size a := fun v16 v31 v68 v105 v142 v179 v216 v253 v290 v327 v364 v401 v438 v475 v512 v549 v586 v623 v660 v697 v734 v771 arg13 k0_hw66 k0_t124 => k0_hw66.2.2.2.2.1 k0_t124
theorem k0_off364_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13) (k0_t124 : Fin (k0_t124_loop v16 v31 v68 v105 v142 v179 v216 v253 v290 v327 v364 v401 v438 v475 v512 v549 v586 v623 v660 v697 v734 v771 arg13).trips), ∀ a, (k0_off364 v16 v31 v68 v105 v142 v179 v216 v253 v290 v327 v364 v401 v438 v475 v512 v549 v586 v623 v660 v697 v734 v771 arg13 k0_t124) a + S1x16.size a ≤ S512x128.size a := fun v16 v31 v68 v105 v142 v179 v216 v253 v290 v327 v364 v401 v438 v475 v512 v549 v586 v623 v660 v697 v734 v771 arg13 k0_hw66 k0_t124 => k0_hw66.2.2.2.2.2.1 k0_t124
theorem k0_off365_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13) (k0_t124 : Fin (k0_t124_loop v16 v31 v68 v105 v142 v179 v216 v253 v290 v327 v364 v401 v438 v475 v512 v549 v586 v623 v660 v697 v734 v771 arg13).trips), ∀ a, (k0_off365 v16 v31 v68 v105 v142 v179 v216 v253 v290 v327 v364 v401 v438 v475 v512 v549 v586 v623 v660 v697 v734 v771 arg13 k0_t124) a + S1x16.size a ≤ S512x128.size a := fun v16 v31 v68 v105 v142 v179 v216 v253 v290 v327 v364 v401 v438 v475 v512 v549 v586 v623 v660 v697 v734 v771 arg13 k0_hw66 k0_t124 => k0_hw66.2.2.2.2.2.2.1 k0_t124
theorem k0_t125_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13), (k0_t125_loop v16 v31 v68 v105 v142 v179 v216 v253 v290 v327 v364 v401 v438 v475 v512 v549 v586 v623 v660 v697 v734 v771 arg13).OK := fun v16 v31 v68 v105 v142 v179 v216 v253 v290 v327 v364 v401 v438 v475 v512 v549 v586 v623 v660 v697 v734 v771 arg13 k0_hw66 => k0_hw66.2.2.2.2.2.2.2.1
theorem k0_off366_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13) (k0_t125 : Fin (k0_t125_loop v16 v31 v68 v105 v142 v179 v216 v253 v290 v327 v364 v401 v438 v475 v512 v549 v586 v623 v660 v697 v734 v771 arg13).trips), ∀ a, (k0_off366 v16 v31 v68 v105 v142 v179 v216 v253 v290 v327 v364 v401 v438 v475 v512 v549 v586 v623 v660 v697 v734 v771 arg13 k0_t125) a + S1x16.size a ≤ S512x128.size a := fun v16 v31 v68 v105 v142 v179 v216 v253 v290 v327 v364 v401 v438 v475 v512 v549 v586 v623 v660 v697 v734 v771 arg13 k0_hw66 k0_t125 => k0_hw66.2.2.2.2.2.2.2.2.1 k0_t125
theorem k0_off367_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13) (k0_t125 : Fin (k0_t125_loop v16 v31 v68 v105 v142 v179 v216 v253 v290 v327 v364 v401 v438 v475 v512 v549 v586 v623 v660 v697 v734 v771 arg13).trips), ∀ a, (k0_off367 v16 v31 v68 v105 v142 v179 v216 v253 v290 v327 v364 v401 v438 v475 v512 v549 v586 v623 v660 v697 v734 v771 arg13 k0_t125) a + S1x16.size a ≤ S512x128.size a := fun v16 v31 v68 v105 v142 v179 v216 v253 v290 v327 v364 v401 v438 v475 v512 v549 v586 v623 v660 v697 v734 v771 arg13 k0_hw66 k0_t125 => k0_hw66.2.2.2.2.2.2.2.2.2.1 k0_t125
theorem k0_off368_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13) (k0_t125 : Fin (k0_t125_loop v16 v31 v68 v105 v142 v179 v216 v253 v290 v327 v364 v401 v438 v475 v512 v549 v586 v623 v660 v697 v734 v771 arg13).trips), ∀ a, (k0_off368 v16 v31 v68 v105 v142 v179 v216 v253 v290 v327 v364 v401 v438 v475 v512 v549 v586 v623 v660 v697 v734 v771 arg13 k0_t125) a + S1x16.size a ≤ S512x128.size a := fun v16 v31 v68 v105 v142 v179 v216 v253 v290 v327 v364 v401 v438 v475 v512 v549 v586 v623 v660 v697 v734 v771 arg13 k0_hw66 k0_t125 => k0_hw66.2.2.2.2.2.2.2.2.2.2.1 k0_t125
theorem k0_off369_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw66 : k0_chk66 v16 v31 v68 v105 v142 v179 v216 v253 v290 v327 v364 v401 v438 v475 v512 v549 v586 v623 v660 v697 v734 v771 arg13) (k0_t125 : Fin (k0_t125_loop v16 v31 v68 v105 v142 v179 v216 v253 v290 v327 v364 v401 v438 v475 v512 v549 v586 v623 v660 v697 v734 v771 arg13).trips), ∀ a, (k0_off369 v16 v31 v68 v105 v142 v179 v216 v253 v290 v327 v364 v401 v438 v475 v512 v549 v586 v623 v660 v697 v734 v771 arg13 k0_t125) a + S1x16.size a ≤ S512x128.size a := fun v16 v31 v68 v105 v142 v179 v216 v253 v290 v327 v364 v401 v438 v475 v512 v549 v586 v623 v660 v697 v734 v771 arg13 k0_hw66 k0_t125 => k0_hw66.2.2.2.2.2.2.2.2.2.2.2 k0_t125

@[reducible] def k0_t126_loop (v771 : BitVec 32) : Scf.Loop 32 :=
  let c0_i32_302 : BitVec 32 := 0#32
  let c0_i32_295 : BitVec 32 := 0#32
  let v774 : BitVec 1 := Scalar.cmpi .sgt v771 c0_i32_295
  let v775 : BitVec 32 := Scalar.extui v774
  let c0_i32_296 : BitVec 32 := 0#32
  let v776 : BitVec 1 := Scalar.cmpi .slt v771 c0_i32_296
  let v777 : BitVec 32 := Scalar.extui v776
  let v778 : BitVec 32 := Scalar.subi v775 v777
  let c504_i32_294 : BitVec 32 := 504#32
  let c0_i32_297 : BitVec 32 := 0#32
  let v779 : BitVec 1 := Scalar.cmpi .sgt c504_i32_294 c0_i32_297
  let v780 : BitVec 32 := Scalar.extui v779
  let c0_i32_298 : BitVec 32 := 0#32
  let v781 : BitVec 1 := Scalar.cmpi .slt c504_i32_294 c0_i32_298
  let v782 : BitVec 32 := Scalar.extui v781
  let v783 : BitVec 32 := Scalar.subi v780 v782
  let v784 : BitVec 1 := Scalar.cmpi .ne v778 v783
  let v785 : BitVec 32 := Scalar.remsi v771 c504_i32_294
  let c0_i32_299 : BitVec 32 := 0#32
  let v786 : BitVec 1 := Scalar.cmpi .ne v785 c0_i32_299
  let v787 : BitVec 1 := Scalar.andi v784 v786
  let v773 : BitVec 32 := Scalar.divsi v771 c504_i32_294
  let c1_i32_300 : BitVec 32 := 1#32
  let v788 : BitVec 32 := Scalar.subi v773 c1_i32_300
  let v789 : BitVec 32 := Scalar.select v787 v788 v773
  let c1_i32_301 : BitVec 32 := 1#32
  let v790 : BitVec 32 := Scalar.addi v789 c1_i32_301
  let v791 : BitVec 32 := Scalar.subi v790 c0_i32_302
  let c1_i32_303 : BitVec 32 := 1#32
  let v793 : BitVec 32 := Scalar.divsi v791 c1_i32_303
  let v794 : BitVec 32 := Scalar.muli v793 c1_i32_303
  let v795 : BitVec 32 := Scalar.addi c0_i32_302 v794
  let v792 : BitVec 32 := Scalar.addi c0_i32_302 v791
  let c1_i32_305 : BitVec 32 := 1#32
  ⟨v795, v792, c1_i32_305⟩

def k0_chk65 (v771 : BitVec 32) : Prop :=
  ((k0_t123_loop v771).OK) ∧
  ((k0_t126_loop v771).OK)
theorem k0_t123_ok : ∀ (v771 : BitVec 32) (k0_hw65 : k0_chk65 v771), (k0_t123_loop v771).OK := fun v771 k0_hw65 => k0_hw65.1
theorem k0_t126_ok : ∀ (v771 : BitVec 32) (k0_hw65 : k0_chk65 v771), (k0_t126_loop v771).OK := fun v771 k0_hw65 => k0_hw65.2

def k0_mult42 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off370 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r42 : BitVec 32 := 0#32
  ![v1213.toNat, 0]
@[reducible] def k0_t127_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off371 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t127 : Fin (k0_t127_loop v16 v31 v68 v105 v142 v179 v216 v253 v290 v327 v364 v401 v438 v475 v512 v549 v586 v623 v660 v697 v734 v771 arg13).trips) : Fin 2 → Nat :=
  let c1_i32_473 : BitVec 32 := 1#32
  let arg14 : BitVec 32 := Scf.iv arg13 c1_i32_473 k0_t127
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off372 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t127 : Fin (k0_t127_loop v16 v31 v68 v105 v142 v179 v216 v253 v290 v327 v364 v401 v438 v475 v512 v549 v586 v623 v660 v697 v734 v771 arg13).trips) : Fin 2 → Nat :=
  let c1_i32_473 : BitVec 32 := 1#32
  let arg14 : BitVec 32 := Scf.iv arg13 c1_i32_473 k0_t127
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off373 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t127 : Fin (k0_t127_loop v16 v31 v68 v105 v142 v179 v216 v253 v290 v327 v364 v401 v438 v475 v512 v549 v586 v623 v660 v697 v734 v771 arg13).trips) : Fin 2 → Nat :=
  let c1_i32_473 : BitVec 32 := 1#32
  let arg14 : BitVec 32 := Scf.iv arg13 c1_i32_473 k0_t127
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off374 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t127 : Fin (k0_t127_loop v16 v31 v68 v105 v142 v179 v216 v253 v290 v327 v364 v401 v438 v475 v512 v549 v586 v623 v660 v697 v734 v771 arg13).trips) : Fin 2 → Nat :=
  let c1_i32_473 : BitVec 32 := 1#32
  let arg14 : BitVec 32 := Scf.iv arg13 c1_i32_473 k0_t127
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t128_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off375 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t128 : Fin (k0_t128_loop v16 v31 v68 v105 v142 v179 v216 v253 v290 v327 v364 v401 v438 v475 v512 v549 v586 v623 v660 v697 v734 v771 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t128
  let v1224 : BitVec 32 := Scalar.subi arg14 v1213
  let v1225 : Index := Scalar.indexCast v1224
  let c0_475 : Index := 0#32
  ![v1225.toNat, 0]
def k0_off376 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t128 : Fin (k0_t128_loop v16 v31 v68 v105 v142 v179 v216 v253 v290 v327 v364 v401 v438 v475 v512 v549 v586 v623 v660 v697 v734 v771 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t128
  let v1224 : BitVec 32 := Scalar.subi arg14 v1213
  let v1228 : Index := Scalar.indexCast v1224
  let c16_476 : Index := 16#32
  ![v1228.toNat, 16]
def k0_off377 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t128 : Fin (k0_t128_loop v16 v31 v68 v105 v142 v179 v216 v253 v290 v327 v364 v401 v438 v475 v512 v549 v586 v623 v660 v697 v734 v771 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t128
  let v1224 : BitVec 32 := Scalar.subi arg14 v1213
  let v1231 : Index := Scalar.indexCast v1224
  let c32_477 : Index := 32#32
  ![v1231.toNat, 32]
def k0_off378 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_t128 : Fin (k0_t128_loop v16 v31 v68 v105 v142 v179 v216 v253 v290 v327 v364 v401 v438 v475 v512 v549 v586 v623 v660 v697 v734 v771 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v772 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t128
  let v1224 : BitVec 32 := Scalar.subi arg14 v1213
  let v1234 : Index := Scalar.indexCast v1224
  let c48_478 : Index := 48#32
  ![v1234.toNat, 48]

def k0_chk67 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) : Prop :=
  (8 ∣ (k0_mult42 arg13).toNat) ∧
  (∀ a, (k0_off370 arg13) a + S512x128.size a ≤ S320000x128.size a) ∧
  ((k0_t127_loop v16 v31 v68 v105 v142 v179 v216 v253 v290 v327 v364 v401 v438 v475 v512 v549 v586 v623 v660 v697 v734 v771 arg13).OK) ∧
  (∀ k0_t127 : Fin (k0_t127_loop v16 v31 v68 v105 v142 v179 v216 v253 v290 v327 v364 v401 v438 v475 v512 v549 v586 v623 v660 v697 v734 v771 arg13).trips, ∀ a, (k0_off371 v16 v31 v68 v105 v142 v179 v216 v253 v290 v327 v364 v401 v438 v475 v512 v549 v586 v623 v660 v697 v734 v771 arg13 k0_t127) a + S1x16.size a ≤ S512x128.size a) ∧
  (∀ k0_t127 : Fin (k0_t127_loop v16 v31 v68 v105 v142 v179 v216 v253 v290 v327 v364 v401 v438 v475 v512 v549 v586 v623 v660 v697 v734 v771 arg13).trips, ∀ a, (k0_off372 v16 v31 v68 v105 v142 v179 v216 v253 v290 v327 v364 v401 v438 v475 v512 v549 v586 v623 v660 v697 v734 v771 arg13 k0_t127) a + S1x16.size a ≤ S512x128.size a) ∧
  (∀ k0_t127 : Fin (k0_t127_loop v16 v31 v68 v105 v142 v179 v216 v253 v290 v327 v364 v401 v438 v475 v512 v549 v586 v623 v660 v697 v734 v771 arg13).trips, ∀ a, (k0_off373 v16 v31 v68 v105 v142 v179 v216 v253 v290 v327 v364 v401 v438 v475 v512 v549 v586 v623 v660 v697 v734 v771 arg13 k0_t127) a + S1x16.size a ≤ S512x128.size a) ∧
  (∀ k0_t127 : Fin (k0_t127_loop v16 v31 v68 v105 v142 v179 v216 v253 v290 v327 v364 v401 v438 v475 v512 v549 v586 v623 v660 v697 v734 v771 arg13).trips, ∀ a, (k0_off374 v16 v31 v68 v105 v142 v179 v216 v253 v290 v327 v364 v401 v438 v475 v512 v549 v586 v623 v660 v697 v734 v771 arg13 k0_t127) a + S1x16.size a ≤ S512x128.size a) ∧
  ((k0_t128_loop v16 v31 v68 v105 v142 v179 v216 v253 v290 v327 v364 v401 v438 v475 v512 v549 v586 v623 v660 v697 v734 v771 arg13).OK) ∧
  (∀ k0_t128 : Fin (k0_t128_loop v16 v31 v68 v105 v142 v179 v216 v253 v290 v327 v364 v401 v438 v475 v512 v549 v586 v623 v660 v697 v734 v771 arg13).trips, ∀ a, (k0_off375 v16 v31 v68 v105 v142 v179 v216 v253 v290 v327 v364 v401 v438 v475 v512 v549 v586 v623 v660 v697 v734 v771 arg13 k0_t128) a + S1x16.size a ≤ S512x128.size a) ∧
  (∀ k0_t128 : Fin (k0_t128_loop v16 v31 v68 v105 v142 v179 v216 v253 v290 v327 v364 v401 v438 v475 v512 v549 v586 v623 v660 v697 v734 v771 arg13).trips, ∀ a, (k0_off376 v16 v31 v68 v105 v142 v179 v216 v253 v290 v327 v364 v401 v438 v475 v512 v549 v586 v623 v660 v697 v734 v771 arg13 k0_t128) a + S1x16.size a ≤ S512x128.size a) ∧
  (∀ k0_t128 : Fin (k0_t128_loop v16 v31 v68 v105 v142 v179 v216 v253 v290 v327 v364 v401 v438 v475 v512 v549 v586 v623 v660 v697 v734 v771 arg13).trips, ∀ a, (k0_off377 v16 v31 v68 v105 v142 v179 v216 v253 v290 v327 v364 v401 v438 v475 v512 v549 v586 v623 v660 v697 v734 v771 arg13 k0_t128) a + S1x16.size a ≤ S512x128.size a) ∧
  (∀ k0_t128 : Fin (k0_t128_loop v16 v31 v68 v105 v142 v179 v216 v253 v290 v327 v364 v401 v438 v475 v512 v549 v586 v623 v660 v697 v734 v771 arg13).trips, ∀ a, (k0_off378 v16 v31 v68 v105 v142 v179 v216 v253 v290 v327 v364 v401 v438 v475 v512 v549 v586 v623 v660 v697 v734 v771 arg13 k0_t128) a + S1x16.size a ≤ S512x128.size a)
theorem k0_mult42_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13), 8 ∣ (k0_mult42 arg13).toNat := fun v16 v31 v68 v105 v142 v179 v216 v253 v290 v327 v364 v401 v438 v475 v512 v549 v586 v623 v660 v697 v734 v771 arg13 k0_hw67 => k0_hw67.1
theorem k0_off370_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13), ∀ a, (k0_off370 arg13) a + S512x128.size a ≤ S320000x128.size a := fun v16 v31 v68 v105 v142 v179 v216 v253 v290 v327 v364 v401 v438 v475 v512 v549 v586 v623 v660 v697 v734 v771 arg13 k0_hw67 => k0_hw67.2.1
theorem k0_t127_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13), (k0_t127_loop v16 v31 v68 v105 v142 v179 v216 v253 v290 v327 v364 v401 v438 v475 v512 v549 v586 v623 v660 v697 v734 v771 arg13).OK := fun v16 v31 v68 v105 v142 v179 v216 v253 v290 v327 v364 v401 v438 v475 v512 v549 v586 v623 v660 v697 v734 v771 arg13 k0_hw67 => k0_hw67.2.2.1
theorem k0_off371_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13) (k0_t127 : Fin (k0_t127_loop v16 v31 v68 v105 v142 v179 v216 v253 v290 v327 v364 v401 v438 v475 v512 v549 v586 v623 v660 v697 v734 v771 arg13).trips), ∀ a, (k0_off371 v16 v31 v68 v105 v142 v179 v216 v253 v290 v327 v364 v401 v438 v475 v512 v549 v586 v623 v660 v697 v734 v771 arg13 k0_t127) a + S1x16.size a ≤ S512x128.size a := fun v16 v31 v68 v105 v142 v179 v216 v253 v290 v327 v364 v401 v438 v475 v512 v549 v586 v623 v660 v697 v734 v771 arg13 k0_hw67 k0_t127 => k0_hw67.2.2.2.1 k0_t127
theorem k0_off372_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13) (k0_t127 : Fin (k0_t127_loop v16 v31 v68 v105 v142 v179 v216 v253 v290 v327 v364 v401 v438 v475 v512 v549 v586 v623 v660 v697 v734 v771 arg13).trips), ∀ a, (k0_off372 v16 v31 v68 v105 v142 v179 v216 v253 v290 v327 v364 v401 v438 v475 v512 v549 v586 v623 v660 v697 v734 v771 arg13 k0_t127) a + S1x16.size a ≤ S512x128.size a := fun v16 v31 v68 v105 v142 v179 v216 v253 v290 v327 v364 v401 v438 v475 v512 v549 v586 v623 v660 v697 v734 v771 arg13 k0_hw67 k0_t127 => k0_hw67.2.2.2.2.1 k0_t127
theorem k0_off373_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13) (k0_t127 : Fin (k0_t127_loop v16 v31 v68 v105 v142 v179 v216 v253 v290 v327 v364 v401 v438 v475 v512 v549 v586 v623 v660 v697 v734 v771 arg13).trips), ∀ a, (k0_off373 v16 v31 v68 v105 v142 v179 v216 v253 v290 v327 v364 v401 v438 v475 v512 v549 v586 v623 v660 v697 v734 v771 arg13 k0_t127) a + S1x16.size a ≤ S512x128.size a := fun v16 v31 v68 v105 v142 v179 v216 v253 v290 v327 v364 v401 v438 v475 v512 v549 v586 v623 v660 v697 v734 v771 arg13 k0_hw67 k0_t127 => k0_hw67.2.2.2.2.2.1 k0_t127
theorem k0_off374_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13) (k0_t127 : Fin (k0_t127_loop v16 v31 v68 v105 v142 v179 v216 v253 v290 v327 v364 v401 v438 v475 v512 v549 v586 v623 v660 v697 v734 v771 arg13).trips), ∀ a, (k0_off374 v16 v31 v68 v105 v142 v179 v216 v253 v290 v327 v364 v401 v438 v475 v512 v549 v586 v623 v660 v697 v734 v771 arg13 k0_t127) a + S1x16.size a ≤ S512x128.size a := fun v16 v31 v68 v105 v142 v179 v216 v253 v290 v327 v364 v401 v438 v475 v512 v549 v586 v623 v660 v697 v734 v771 arg13 k0_hw67 k0_t127 => k0_hw67.2.2.2.2.2.2.1 k0_t127
theorem k0_t128_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13), (k0_t128_loop v16 v31 v68 v105 v142 v179 v216 v253 v290 v327 v364 v401 v438 v475 v512 v549 v586 v623 v660 v697 v734 v771 arg13).OK := fun v16 v31 v68 v105 v142 v179 v216 v253 v290 v327 v364 v401 v438 v475 v512 v549 v586 v623 v660 v697 v734 v771 arg13 k0_hw67 => k0_hw67.2.2.2.2.2.2.2.1
theorem k0_off375_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13) (k0_t128 : Fin (k0_t128_loop v16 v31 v68 v105 v142 v179 v216 v253 v290 v327 v364 v401 v438 v475 v512 v549 v586 v623 v660 v697 v734 v771 arg13).trips), ∀ a, (k0_off375 v16 v31 v68 v105 v142 v179 v216 v253 v290 v327 v364 v401 v438 v475 v512 v549 v586 v623 v660 v697 v734 v771 arg13 k0_t128) a + S1x16.size a ≤ S512x128.size a := fun v16 v31 v68 v105 v142 v179 v216 v253 v290 v327 v364 v401 v438 v475 v512 v549 v586 v623 v660 v697 v734 v771 arg13 k0_hw67 k0_t128 => k0_hw67.2.2.2.2.2.2.2.2.1 k0_t128
theorem k0_off376_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13) (k0_t128 : Fin (k0_t128_loop v16 v31 v68 v105 v142 v179 v216 v253 v290 v327 v364 v401 v438 v475 v512 v549 v586 v623 v660 v697 v734 v771 arg13).trips), ∀ a, (k0_off376 v16 v31 v68 v105 v142 v179 v216 v253 v290 v327 v364 v401 v438 v475 v512 v549 v586 v623 v660 v697 v734 v771 arg13 k0_t128) a + S1x16.size a ≤ S512x128.size a := fun v16 v31 v68 v105 v142 v179 v216 v253 v290 v327 v364 v401 v438 v475 v512 v549 v586 v623 v660 v697 v734 v771 arg13 k0_hw67 k0_t128 => k0_hw67.2.2.2.2.2.2.2.2.2.1 k0_t128
theorem k0_off377_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13) (k0_t128 : Fin (k0_t128_loop v16 v31 v68 v105 v142 v179 v216 v253 v290 v327 v364 v401 v438 v475 v512 v549 v586 v623 v660 v697 v734 v771 arg13).trips), ∀ a, (k0_off377 v16 v31 v68 v105 v142 v179 v216 v253 v290 v327 v364 v401 v438 v475 v512 v549 v586 v623 v660 v697 v734 v771 arg13 k0_t128) a + S1x16.size a ≤ S512x128.size a := fun v16 v31 v68 v105 v142 v179 v216 v253 v290 v327 v364 v401 v438 v475 v512 v549 v586 v623 v660 v697 v734 v771 arg13 k0_hw67 k0_t128 => k0_hw67.2.2.2.2.2.2.2.2.2.2.1 k0_t128
theorem k0_off378_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (arg13 : BitVec 32) (k0_hw67 : k0_chk67 v16 v31 v68 v105 v142 v179 v216 v253 v290 v327 v364 v401 v438 v475 v512 v549 v586 v623 v660 v697 v734 v771 arg13) (k0_t128 : Fin (k0_t128_loop v16 v31 v68 v105 v142 v179 v216 v253 v290 v327 v364 v401 v438 v475 v512 v549 v586 v623 v660 v697 v734 v771 arg13).trips), ∀ a, (k0_off378 v16 v31 v68 v105 v142 v179 v216 v253 v290 v327 v364 v401 v438 v475 v512 v549 v586 v623 v660 v697 v734 v771 arg13 k0_t128) a + S1x16.size a ≤ S512x128.size a := fun v16 v31 v68 v105 v142 v179 v216 v253 v290 v327 v364 v401 v438 v475 v512 v549 v586 v623 v660 v697 v734 v771 arg13 k0_hw67 k0_t128 => k0_hw67.2.2.2.2.2.2.2.2.2.2.2 k0_t128

@[reducible] def k0_t129_loop (v808 : BitVec 32) : Scf.Loop 32 :=
  let c0_i32_317 : BitVec 32 := 0#32
  let c0_i32_310 : BitVec 32 := 0#32
  let v811 : BitVec 1 := Scalar.cmpi .sgt v808 c0_i32_310
  let v812 : BitVec 32 := Scalar.extui v811
  let c0_i32_311 : BitVec 32 := 0#32
  let v813 : BitVec 1 := Scalar.cmpi .slt v808 c0_i32_311
  let v814 : BitVec 32 := Scalar.extui v813
  let v815 : BitVec 32 := Scalar.subi v812 v814
  let c504_i32_309 : BitVec 32 := 504#32
  let c0_i32_312 : BitVec 32 := 0#32
  let v816 : BitVec 1 := Scalar.cmpi .sgt c504_i32_309 c0_i32_312
  let v817 : BitVec 32 := Scalar.extui v816
  let c0_i32_313 : BitVec 32 := 0#32
  let v818 : BitVec 1 := Scalar.cmpi .slt c504_i32_309 c0_i32_313
  let v819 : BitVec 32 := Scalar.extui v818
  let v820 : BitVec 32 := Scalar.subi v817 v819
  let v821 : BitVec 1 := Scalar.cmpi .ne v815 v820
  let v822 : BitVec 32 := Scalar.remsi v808 c504_i32_309
  let c0_i32_314 : BitVec 32 := 0#32
  let v823 : BitVec 1 := Scalar.cmpi .ne v822 c0_i32_314
  let v824 : BitVec 1 := Scalar.andi v821 v823
  let v810 : BitVec 32 := Scalar.divsi v808 c504_i32_309
  let c1_i32_315 : BitVec 32 := 1#32
  let v825 : BitVec 32 := Scalar.subi v810 c1_i32_315
  let v826 : BitVec 32 := Scalar.select v824 v825 v810
  let c1_i32_316 : BitVec 32 := 1#32
  let v827 : BitVec 32 := Scalar.addi v826 c1_i32_316
  let v828 : BitVec 32 := Scalar.subi v827 c0_i32_317
  let c1_i32_318 : BitVec 32 := 1#32
  let v830 : BitVec 32 := Scalar.divsi v828 c1_i32_318
  let v831 : BitVec 32 := Scalar.muli v830 c1_i32_318
  let v832 : BitVec 32 := Scalar.addi c0_i32_317 v831
  let c1_i32_319 : BitVec 32 := 1#32
  ⟨c0_i32_317, v832, c1_i32_319⟩

def k0_mult43 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off379 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r43 : BitVec 32 := 0#32
  ![v1213.toNat, 0]
@[reducible] def k0_t130_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off380 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t130 : Fin (k0_t130_loop v16 v31 v68 v105 v142 v179 v216 v253 v290 v327 v364 v401 v438 v475 v512 v549 v586 v623 v660 v697 v734 v771 v808 arg13).trips) : Fin 2 → Nat :=
  let c1_i32_473 : BitVec 32 := 1#32
  let arg14 : BitVec 32 := Scf.iv arg13 c1_i32_473 k0_t130
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off381 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t130 : Fin (k0_t130_loop v16 v31 v68 v105 v142 v179 v216 v253 v290 v327 v364 v401 v438 v475 v512 v549 v586 v623 v660 v697 v734 v771 v808 arg13).trips) : Fin 2 → Nat :=
  let c1_i32_473 : BitVec 32 := 1#32
  let arg14 : BitVec 32 := Scf.iv arg13 c1_i32_473 k0_t130
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off382 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t130 : Fin (k0_t130_loop v16 v31 v68 v105 v142 v179 v216 v253 v290 v327 v364 v401 v438 v475 v512 v549 v586 v623 v660 v697 v734 v771 v808 arg13).trips) : Fin 2 → Nat :=
  let c1_i32_473 : BitVec 32 := 1#32
  let arg14 : BitVec 32 := Scf.iv arg13 c1_i32_473 k0_t130
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off383 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t130 : Fin (k0_t130_loop v16 v31 v68 v105 v142 v179 v216 v253 v290 v327 v364 v401 v438 v475 v512 v549 v586 v623 v660 v697 v734 v771 v808 arg13).trips) : Fin 2 → Nat :=
  let c1_i32_473 : BitVec 32 := 1#32
  let arg14 : BitVec 32 := Scf.iv arg13 c1_i32_473 k0_t130
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t131_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off384 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t131 : Fin (k0_t131_loop v16 v31 v68 v105 v142 v179 v216 v253 v290 v327 v364 v401 v438 v475 v512 v549 v586 v623 v660 v697 v734 v771 v808 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t131
  let v1224 : BitVec 32 := Scalar.subi arg14 v1213
  let v1225 : Index := Scalar.indexCast v1224
  let c0_475 : Index := 0#32
  ![v1225.toNat, 0]
def k0_off385 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t131 : Fin (k0_t131_loop v16 v31 v68 v105 v142 v179 v216 v253 v290 v327 v364 v401 v438 v475 v512 v549 v586 v623 v660 v697 v734 v771 v808 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t131
  let v1224 : BitVec 32 := Scalar.subi arg14 v1213
  let v1228 : Index := Scalar.indexCast v1224
  let c16_476 : Index := 16#32
  ![v1228.toNat, 16]
def k0_off386 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t131 : Fin (k0_t131_loop v16 v31 v68 v105 v142 v179 v216 v253 v290 v327 v364 v401 v438 v475 v512 v549 v586 v623 v660 v697 v734 v771 v808 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t131
  let v1224 : BitVec 32 := Scalar.subi arg14 v1213
  let v1231 : Index := Scalar.indexCast v1224
  let c32_477 : Index := 32#32
  ![v1231.toNat, 32]
def k0_off387 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t131 : Fin (k0_t131_loop v16 v31 v68 v105 v142 v179 v216 v253 v290 v327 v364 v401 v438 v475 v512 v549 v586 v623 v660 v697 v734 v771 v808 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t131
  let v1224 : BitVec 32 := Scalar.subi arg14 v1213
  let v1234 : Index := Scalar.indexCast v1224
  let c48_478 : Index := 48#32
  ![v1234.toNat, 48]

def k0_chk69 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) : Prop :=
  (8 ∣ (k0_mult43 arg13).toNat) ∧
  (∀ a, (k0_off379 arg13) a + S512x128.size a ≤ S320000x128.size a) ∧
  ((k0_t130_loop v16 v31 v68 v105 v142 v179 v216 v253 v290 v327 v364 v401 v438 v475 v512 v549 v586 v623 v660 v697 v734 v771 v808 arg13).OK) ∧
  (∀ k0_t130 : Fin (k0_t130_loop v16 v31 v68 v105 v142 v179 v216 v253 v290 v327 v364 v401 v438 v475 v512 v549 v586 v623 v660 v697 v734 v771 v808 arg13).trips, ∀ a, (k0_off380 v16 v31 v68 v105 v142 v179 v216 v253 v290 v327 v364 v401 v438 v475 v512 v549 v586 v623 v660 v697 v734 v771 v808 arg13 k0_t130) a + S1x16.size a ≤ S512x128.size a) ∧
  (∀ k0_t130 : Fin (k0_t130_loop v16 v31 v68 v105 v142 v179 v216 v253 v290 v327 v364 v401 v438 v475 v512 v549 v586 v623 v660 v697 v734 v771 v808 arg13).trips, ∀ a, (k0_off381 v16 v31 v68 v105 v142 v179 v216 v253 v290 v327 v364 v401 v438 v475 v512 v549 v586 v623 v660 v697 v734 v771 v808 arg13 k0_t130) a + S1x16.size a ≤ S512x128.size a) ∧
  (∀ k0_t130 : Fin (k0_t130_loop v16 v31 v68 v105 v142 v179 v216 v253 v290 v327 v364 v401 v438 v475 v512 v549 v586 v623 v660 v697 v734 v771 v808 arg13).trips, ∀ a, (k0_off382 v16 v31 v68 v105 v142 v179 v216 v253 v290 v327 v364 v401 v438 v475 v512 v549 v586 v623 v660 v697 v734 v771 v808 arg13 k0_t130) a + S1x16.size a ≤ S512x128.size a) ∧
  (∀ k0_t130 : Fin (k0_t130_loop v16 v31 v68 v105 v142 v179 v216 v253 v290 v327 v364 v401 v438 v475 v512 v549 v586 v623 v660 v697 v734 v771 v808 arg13).trips, ∀ a, (k0_off383 v16 v31 v68 v105 v142 v179 v216 v253 v290 v327 v364 v401 v438 v475 v512 v549 v586 v623 v660 v697 v734 v771 v808 arg13 k0_t130) a + S1x16.size a ≤ S512x128.size a) ∧
  ((k0_t131_loop v16 v31 v68 v105 v142 v179 v216 v253 v290 v327 v364 v401 v438 v475 v512 v549 v586 v623 v660 v697 v734 v771 v808 arg13).OK) ∧
  (∀ k0_t131 : Fin (k0_t131_loop v16 v31 v68 v105 v142 v179 v216 v253 v290 v327 v364 v401 v438 v475 v512 v549 v586 v623 v660 v697 v734 v771 v808 arg13).trips, ∀ a, (k0_off384 v16 v31 v68 v105 v142 v179 v216 v253 v290 v327 v364 v401 v438 v475 v512 v549 v586 v623 v660 v697 v734 v771 v808 arg13 k0_t131) a + S1x16.size a ≤ S512x128.size a) ∧
  (∀ k0_t131 : Fin (k0_t131_loop v16 v31 v68 v105 v142 v179 v216 v253 v290 v327 v364 v401 v438 v475 v512 v549 v586 v623 v660 v697 v734 v771 v808 arg13).trips, ∀ a, (k0_off385 v16 v31 v68 v105 v142 v179 v216 v253 v290 v327 v364 v401 v438 v475 v512 v549 v586 v623 v660 v697 v734 v771 v808 arg13 k0_t131) a + S1x16.size a ≤ S512x128.size a) ∧
  (∀ k0_t131 : Fin (k0_t131_loop v16 v31 v68 v105 v142 v179 v216 v253 v290 v327 v364 v401 v438 v475 v512 v549 v586 v623 v660 v697 v734 v771 v808 arg13).trips, ∀ a, (k0_off386 v16 v31 v68 v105 v142 v179 v216 v253 v290 v327 v364 v401 v438 v475 v512 v549 v586 v623 v660 v697 v734 v771 v808 arg13 k0_t131) a + S1x16.size a ≤ S512x128.size a) ∧
  (∀ k0_t131 : Fin (k0_t131_loop v16 v31 v68 v105 v142 v179 v216 v253 v290 v327 v364 v401 v438 v475 v512 v549 v586 v623 v660 v697 v734 v771 v808 arg13).trips, ∀ a, (k0_off387 v16 v31 v68 v105 v142 v179 v216 v253 v290 v327 v364 v401 v438 v475 v512 v549 v586 v623 v660 v697 v734 v771 v808 arg13 k0_t131) a + S1x16.size a ≤ S512x128.size a)
theorem k0_mult43_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13), 8 ∣ (k0_mult43 arg13).toNat := fun v16 v31 v68 v105 v142 v179 v216 v253 v290 v327 v364 v401 v438 v475 v512 v549 v586 v623 v660 v697 v734 v771 v808 arg13 k0_hw69 => k0_hw69.1
theorem k0_off379_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13), ∀ a, (k0_off379 arg13) a + S512x128.size a ≤ S320000x128.size a := fun v16 v31 v68 v105 v142 v179 v216 v253 v290 v327 v364 v401 v438 v475 v512 v549 v586 v623 v660 v697 v734 v771 v808 arg13 k0_hw69 => k0_hw69.2.1
theorem k0_t130_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13), (k0_t130_loop v16 v31 v68 v105 v142 v179 v216 v253 v290 v327 v364 v401 v438 v475 v512 v549 v586 v623 v660 v697 v734 v771 v808 arg13).OK := fun v16 v31 v68 v105 v142 v179 v216 v253 v290 v327 v364 v401 v438 v475 v512 v549 v586 v623 v660 v697 v734 v771 v808 arg13 k0_hw69 => k0_hw69.2.2.1
theorem k0_off380_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13) (k0_t130 : Fin (k0_t130_loop v16 v31 v68 v105 v142 v179 v216 v253 v290 v327 v364 v401 v438 v475 v512 v549 v586 v623 v660 v697 v734 v771 v808 arg13).trips), ∀ a, (k0_off380 v16 v31 v68 v105 v142 v179 v216 v253 v290 v327 v364 v401 v438 v475 v512 v549 v586 v623 v660 v697 v734 v771 v808 arg13 k0_t130) a + S1x16.size a ≤ S512x128.size a := fun v16 v31 v68 v105 v142 v179 v216 v253 v290 v327 v364 v401 v438 v475 v512 v549 v586 v623 v660 v697 v734 v771 v808 arg13 k0_hw69 k0_t130 => k0_hw69.2.2.2.1 k0_t130
theorem k0_off381_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13) (k0_t130 : Fin (k0_t130_loop v16 v31 v68 v105 v142 v179 v216 v253 v290 v327 v364 v401 v438 v475 v512 v549 v586 v623 v660 v697 v734 v771 v808 arg13).trips), ∀ a, (k0_off381 v16 v31 v68 v105 v142 v179 v216 v253 v290 v327 v364 v401 v438 v475 v512 v549 v586 v623 v660 v697 v734 v771 v808 arg13 k0_t130) a + S1x16.size a ≤ S512x128.size a := fun v16 v31 v68 v105 v142 v179 v216 v253 v290 v327 v364 v401 v438 v475 v512 v549 v586 v623 v660 v697 v734 v771 v808 arg13 k0_hw69 k0_t130 => k0_hw69.2.2.2.2.1 k0_t130
theorem k0_off382_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13) (k0_t130 : Fin (k0_t130_loop v16 v31 v68 v105 v142 v179 v216 v253 v290 v327 v364 v401 v438 v475 v512 v549 v586 v623 v660 v697 v734 v771 v808 arg13).trips), ∀ a, (k0_off382 v16 v31 v68 v105 v142 v179 v216 v253 v290 v327 v364 v401 v438 v475 v512 v549 v586 v623 v660 v697 v734 v771 v808 arg13 k0_t130) a + S1x16.size a ≤ S512x128.size a := fun v16 v31 v68 v105 v142 v179 v216 v253 v290 v327 v364 v401 v438 v475 v512 v549 v586 v623 v660 v697 v734 v771 v808 arg13 k0_hw69 k0_t130 => k0_hw69.2.2.2.2.2.1 k0_t130
theorem k0_off383_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13) (k0_t130 : Fin (k0_t130_loop v16 v31 v68 v105 v142 v179 v216 v253 v290 v327 v364 v401 v438 v475 v512 v549 v586 v623 v660 v697 v734 v771 v808 arg13).trips), ∀ a, (k0_off383 v16 v31 v68 v105 v142 v179 v216 v253 v290 v327 v364 v401 v438 v475 v512 v549 v586 v623 v660 v697 v734 v771 v808 arg13 k0_t130) a + S1x16.size a ≤ S512x128.size a := fun v16 v31 v68 v105 v142 v179 v216 v253 v290 v327 v364 v401 v438 v475 v512 v549 v586 v623 v660 v697 v734 v771 v808 arg13 k0_hw69 k0_t130 => k0_hw69.2.2.2.2.2.2.1 k0_t130
theorem k0_t131_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13), (k0_t131_loop v16 v31 v68 v105 v142 v179 v216 v253 v290 v327 v364 v401 v438 v475 v512 v549 v586 v623 v660 v697 v734 v771 v808 arg13).OK := fun v16 v31 v68 v105 v142 v179 v216 v253 v290 v327 v364 v401 v438 v475 v512 v549 v586 v623 v660 v697 v734 v771 v808 arg13 k0_hw69 => k0_hw69.2.2.2.2.2.2.2.1
theorem k0_off384_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13) (k0_t131 : Fin (k0_t131_loop v16 v31 v68 v105 v142 v179 v216 v253 v290 v327 v364 v401 v438 v475 v512 v549 v586 v623 v660 v697 v734 v771 v808 arg13).trips), ∀ a, (k0_off384 v16 v31 v68 v105 v142 v179 v216 v253 v290 v327 v364 v401 v438 v475 v512 v549 v586 v623 v660 v697 v734 v771 v808 arg13 k0_t131) a + S1x16.size a ≤ S512x128.size a := fun v16 v31 v68 v105 v142 v179 v216 v253 v290 v327 v364 v401 v438 v475 v512 v549 v586 v623 v660 v697 v734 v771 v808 arg13 k0_hw69 k0_t131 => k0_hw69.2.2.2.2.2.2.2.2.1 k0_t131
theorem k0_off385_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13) (k0_t131 : Fin (k0_t131_loop v16 v31 v68 v105 v142 v179 v216 v253 v290 v327 v364 v401 v438 v475 v512 v549 v586 v623 v660 v697 v734 v771 v808 arg13).trips), ∀ a, (k0_off385 v16 v31 v68 v105 v142 v179 v216 v253 v290 v327 v364 v401 v438 v475 v512 v549 v586 v623 v660 v697 v734 v771 v808 arg13 k0_t131) a + S1x16.size a ≤ S512x128.size a := fun v16 v31 v68 v105 v142 v179 v216 v253 v290 v327 v364 v401 v438 v475 v512 v549 v586 v623 v660 v697 v734 v771 v808 arg13 k0_hw69 k0_t131 => k0_hw69.2.2.2.2.2.2.2.2.2.1 k0_t131
theorem k0_off386_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13) (k0_t131 : Fin (k0_t131_loop v16 v31 v68 v105 v142 v179 v216 v253 v290 v327 v364 v401 v438 v475 v512 v549 v586 v623 v660 v697 v734 v771 v808 arg13).trips), ∀ a, (k0_off386 v16 v31 v68 v105 v142 v179 v216 v253 v290 v327 v364 v401 v438 v475 v512 v549 v586 v623 v660 v697 v734 v771 v808 arg13 k0_t131) a + S1x16.size a ≤ S512x128.size a := fun v16 v31 v68 v105 v142 v179 v216 v253 v290 v327 v364 v401 v438 v475 v512 v549 v586 v623 v660 v697 v734 v771 v808 arg13 k0_hw69 k0_t131 => k0_hw69.2.2.2.2.2.2.2.2.2.2.1 k0_t131
theorem k0_off387_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw69 : k0_chk69 v16 v31 v68 v105 v142 v179 v216 v253 v290 v327 v364 v401 v438 v475 v512 v549 v586 v623 v660 v697 v734 v771 v808 arg13) (k0_t131 : Fin (k0_t131_loop v16 v31 v68 v105 v142 v179 v216 v253 v290 v327 v364 v401 v438 v475 v512 v549 v586 v623 v660 v697 v734 v771 v808 arg13).trips), ∀ a, (k0_off387 v16 v31 v68 v105 v142 v179 v216 v253 v290 v327 v364 v401 v438 v475 v512 v549 v586 v623 v660 v697 v734 v771 v808 arg13 k0_t131) a + S1x16.size a ≤ S512x128.size a := fun v16 v31 v68 v105 v142 v179 v216 v253 v290 v327 v364 v401 v438 v475 v512 v549 v586 v623 v660 v697 v734 v771 v808 arg13 k0_hw69 k0_t131 => k0_hw69.2.2.2.2.2.2.2.2.2.2.2 k0_t131

@[reducible] def k0_t132_loop (v808 : BitVec 32) : Scf.Loop 32 :=
  let c0_i32_317 : BitVec 32 := 0#32
  let c0_i32_310 : BitVec 32 := 0#32
  let v811 : BitVec 1 := Scalar.cmpi .sgt v808 c0_i32_310
  let v812 : BitVec 32 := Scalar.extui v811
  let c0_i32_311 : BitVec 32 := 0#32
  let v813 : BitVec 1 := Scalar.cmpi .slt v808 c0_i32_311
  let v814 : BitVec 32 := Scalar.extui v813
  let v815 : BitVec 32 := Scalar.subi v812 v814
  let c504_i32_309 : BitVec 32 := 504#32
  let c0_i32_312 : BitVec 32 := 0#32
  let v816 : BitVec 1 := Scalar.cmpi .sgt c504_i32_309 c0_i32_312
  let v817 : BitVec 32 := Scalar.extui v816
  let c0_i32_313 : BitVec 32 := 0#32
  let v818 : BitVec 1 := Scalar.cmpi .slt c504_i32_309 c0_i32_313
  let v819 : BitVec 32 := Scalar.extui v818
  let v820 : BitVec 32 := Scalar.subi v817 v819
  let v821 : BitVec 1 := Scalar.cmpi .ne v815 v820
  let v822 : BitVec 32 := Scalar.remsi v808 c504_i32_309
  let c0_i32_314 : BitVec 32 := 0#32
  let v823 : BitVec 1 := Scalar.cmpi .ne v822 c0_i32_314
  let v824 : BitVec 1 := Scalar.andi v821 v823
  let v810 : BitVec 32 := Scalar.divsi v808 c504_i32_309
  let c1_i32_315 : BitVec 32 := 1#32
  let v825 : BitVec 32 := Scalar.subi v810 c1_i32_315
  let v826 : BitVec 32 := Scalar.select v824 v825 v810
  let c1_i32_316 : BitVec 32 := 1#32
  let v827 : BitVec 32 := Scalar.addi v826 c1_i32_316
  let v828 : BitVec 32 := Scalar.subi v827 c0_i32_317
  let c1_i32_318 : BitVec 32 := 1#32
  let v830 : BitVec 32 := Scalar.divsi v828 c1_i32_318
  let v831 : BitVec 32 := Scalar.muli v830 c1_i32_318
  let v832 : BitVec 32 := Scalar.addi c0_i32_317 v831
  let v829 : BitVec 32 := Scalar.addi c0_i32_317 v828
  let c1_i32_320 : BitVec 32 := 1#32
  ⟨v832, v829, c1_i32_320⟩

def k0_chk68 (v808 : BitVec 32) : Prop :=
  ((k0_t129_loop v808).OK) ∧
  ((k0_t132_loop v808).OK)
theorem k0_t129_ok : ∀ (v808 : BitVec 32) (k0_hw68 : k0_chk68 v808), (k0_t129_loop v808).OK := fun v808 k0_hw68 => k0_hw68.1
theorem k0_t132_ok : ∀ (v808 : BitVec 32) (k0_hw68 : k0_chk68 v808), (k0_t132_loop v808).OK := fun v808 k0_hw68 => k0_hw68.2

def k0_mult44 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off388 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r44 : BitVec 32 := 0#32
  ![v1213.toNat, 0]
@[reducible] def k0_t133_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off389 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t133 : Fin (k0_t133_loop v16 v31 v68 v105 v142 v179 v216 v253 v290 v327 v364 v401 v438 v475 v512 v549 v586 v623 v660 v697 v734 v771 v808 arg13).trips) : Fin 2 → Nat :=
  let c1_i32_473 : BitVec 32 := 1#32
  let arg14 : BitVec 32 := Scf.iv arg13 c1_i32_473 k0_t133
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off390 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t133 : Fin (k0_t133_loop v16 v31 v68 v105 v142 v179 v216 v253 v290 v327 v364 v401 v438 v475 v512 v549 v586 v623 v660 v697 v734 v771 v808 arg13).trips) : Fin 2 → Nat :=
  let c1_i32_473 : BitVec 32 := 1#32
  let arg14 : BitVec 32 := Scf.iv arg13 c1_i32_473 k0_t133
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off391 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t133 : Fin (k0_t133_loop v16 v31 v68 v105 v142 v179 v216 v253 v290 v327 v364 v401 v438 v475 v512 v549 v586 v623 v660 v697 v734 v771 v808 arg13).trips) : Fin 2 → Nat :=
  let c1_i32_473 : BitVec 32 := 1#32
  let arg14 : BitVec 32 := Scf.iv arg13 c1_i32_473 k0_t133
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off392 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t133 : Fin (k0_t133_loop v16 v31 v68 v105 v142 v179 v216 v253 v290 v327 v364 v401 v438 v475 v512 v549 v586 v623 v660 v697 v734 v771 v808 arg13).trips) : Fin 2 → Nat :=
  let c1_i32_473 : BitVec 32 := 1#32
  let arg14 : BitVec 32 := Scf.iv arg13 c1_i32_473 k0_t133
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t134_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off393 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t134 : Fin (k0_t134_loop v16 v31 v68 v105 v142 v179 v216 v253 v290 v327 v364 v401 v438 v475 v512 v549 v586 v623 v660 v697 v734 v771 v808 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t134
  let v1224 : BitVec 32 := Scalar.subi arg14 v1213
  let v1225 : Index := Scalar.indexCast v1224
  let c0_475 : Index := 0#32
  ![v1225.toNat, 0]
def k0_off394 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t134 : Fin (k0_t134_loop v16 v31 v68 v105 v142 v179 v216 v253 v290 v327 v364 v401 v438 v475 v512 v549 v586 v623 v660 v697 v734 v771 v808 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t134
  let v1224 : BitVec 32 := Scalar.subi arg14 v1213
  let v1228 : Index := Scalar.indexCast v1224
  let c16_476 : Index := 16#32
  ![v1228.toNat, 16]
def k0_off395 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t134 : Fin (k0_t134_loop v16 v31 v68 v105 v142 v179 v216 v253 v290 v327 v364 v401 v438 v475 v512 v549 v586 v623 v660 v697 v734 v771 v808 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t134
  let v1224 : BitVec 32 := Scalar.subi arg14 v1213
  let v1231 : Index := Scalar.indexCast v1224
  let c32_477 : Index := 32#32
  ![v1231.toNat, 32]
def k0_off396 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_t134 : Fin (k0_t134_loop v16 v31 v68 v105 v142 v179 v216 v253 v290 v327 v364 v401 v438 v475 v512 v549 v586 v623 v660 v697 v734 v771 v808 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v809 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t134
  let v1224 : BitVec 32 := Scalar.subi arg14 v1213
  let v1234 : Index := Scalar.indexCast v1224
  let c48_478 : Index := 48#32
  ![v1234.toNat, 48]

def k0_chk70 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) : Prop :=
  (8 ∣ (k0_mult44 arg13).toNat) ∧
  (∀ a, (k0_off388 arg13) a + S512x128.size a ≤ S320000x128.size a) ∧
  ((k0_t133_loop v16 v31 v68 v105 v142 v179 v216 v253 v290 v327 v364 v401 v438 v475 v512 v549 v586 v623 v660 v697 v734 v771 v808 arg13).OK) ∧
  (∀ k0_t133 : Fin (k0_t133_loop v16 v31 v68 v105 v142 v179 v216 v253 v290 v327 v364 v401 v438 v475 v512 v549 v586 v623 v660 v697 v734 v771 v808 arg13).trips, ∀ a, (k0_off389 v16 v31 v68 v105 v142 v179 v216 v253 v290 v327 v364 v401 v438 v475 v512 v549 v586 v623 v660 v697 v734 v771 v808 arg13 k0_t133) a + S1x16.size a ≤ S512x128.size a) ∧
  (∀ k0_t133 : Fin (k0_t133_loop v16 v31 v68 v105 v142 v179 v216 v253 v290 v327 v364 v401 v438 v475 v512 v549 v586 v623 v660 v697 v734 v771 v808 arg13).trips, ∀ a, (k0_off390 v16 v31 v68 v105 v142 v179 v216 v253 v290 v327 v364 v401 v438 v475 v512 v549 v586 v623 v660 v697 v734 v771 v808 arg13 k0_t133) a + S1x16.size a ≤ S512x128.size a) ∧
  (∀ k0_t133 : Fin (k0_t133_loop v16 v31 v68 v105 v142 v179 v216 v253 v290 v327 v364 v401 v438 v475 v512 v549 v586 v623 v660 v697 v734 v771 v808 arg13).trips, ∀ a, (k0_off391 v16 v31 v68 v105 v142 v179 v216 v253 v290 v327 v364 v401 v438 v475 v512 v549 v586 v623 v660 v697 v734 v771 v808 arg13 k0_t133) a + S1x16.size a ≤ S512x128.size a) ∧
  (∀ k0_t133 : Fin (k0_t133_loop v16 v31 v68 v105 v142 v179 v216 v253 v290 v327 v364 v401 v438 v475 v512 v549 v586 v623 v660 v697 v734 v771 v808 arg13).trips, ∀ a, (k0_off392 v16 v31 v68 v105 v142 v179 v216 v253 v290 v327 v364 v401 v438 v475 v512 v549 v586 v623 v660 v697 v734 v771 v808 arg13 k0_t133) a + S1x16.size a ≤ S512x128.size a) ∧
  ((k0_t134_loop v16 v31 v68 v105 v142 v179 v216 v253 v290 v327 v364 v401 v438 v475 v512 v549 v586 v623 v660 v697 v734 v771 v808 arg13).OK) ∧
  (∀ k0_t134 : Fin (k0_t134_loop v16 v31 v68 v105 v142 v179 v216 v253 v290 v327 v364 v401 v438 v475 v512 v549 v586 v623 v660 v697 v734 v771 v808 arg13).trips, ∀ a, (k0_off393 v16 v31 v68 v105 v142 v179 v216 v253 v290 v327 v364 v401 v438 v475 v512 v549 v586 v623 v660 v697 v734 v771 v808 arg13 k0_t134) a + S1x16.size a ≤ S512x128.size a) ∧
  (∀ k0_t134 : Fin (k0_t134_loop v16 v31 v68 v105 v142 v179 v216 v253 v290 v327 v364 v401 v438 v475 v512 v549 v586 v623 v660 v697 v734 v771 v808 arg13).trips, ∀ a, (k0_off394 v16 v31 v68 v105 v142 v179 v216 v253 v290 v327 v364 v401 v438 v475 v512 v549 v586 v623 v660 v697 v734 v771 v808 arg13 k0_t134) a + S1x16.size a ≤ S512x128.size a) ∧
  (∀ k0_t134 : Fin (k0_t134_loop v16 v31 v68 v105 v142 v179 v216 v253 v290 v327 v364 v401 v438 v475 v512 v549 v586 v623 v660 v697 v734 v771 v808 arg13).trips, ∀ a, (k0_off395 v16 v31 v68 v105 v142 v179 v216 v253 v290 v327 v364 v401 v438 v475 v512 v549 v586 v623 v660 v697 v734 v771 v808 arg13 k0_t134) a + S1x16.size a ≤ S512x128.size a) ∧
  (∀ k0_t134 : Fin (k0_t134_loop v16 v31 v68 v105 v142 v179 v216 v253 v290 v327 v364 v401 v438 v475 v512 v549 v586 v623 v660 v697 v734 v771 v808 arg13).trips, ∀ a, (k0_off396 v16 v31 v68 v105 v142 v179 v216 v253 v290 v327 v364 v401 v438 v475 v512 v549 v586 v623 v660 v697 v734 v771 v808 arg13 k0_t134) a + S1x16.size a ≤ S512x128.size a)
theorem k0_mult44_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13), 8 ∣ (k0_mult44 arg13).toNat := fun v16 v31 v68 v105 v142 v179 v216 v253 v290 v327 v364 v401 v438 v475 v512 v549 v586 v623 v660 v697 v734 v771 v808 arg13 k0_hw70 => k0_hw70.1
theorem k0_off388_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13), ∀ a, (k0_off388 arg13) a + S512x128.size a ≤ S320000x128.size a := fun v16 v31 v68 v105 v142 v179 v216 v253 v290 v327 v364 v401 v438 v475 v512 v549 v586 v623 v660 v697 v734 v771 v808 arg13 k0_hw70 => k0_hw70.2.1
theorem k0_t133_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13), (k0_t133_loop v16 v31 v68 v105 v142 v179 v216 v253 v290 v327 v364 v401 v438 v475 v512 v549 v586 v623 v660 v697 v734 v771 v808 arg13).OK := fun v16 v31 v68 v105 v142 v179 v216 v253 v290 v327 v364 v401 v438 v475 v512 v549 v586 v623 v660 v697 v734 v771 v808 arg13 k0_hw70 => k0_hw70.2.2.1
theorem k0_off389_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13) (k0_t133 : Fin (k0_t133_loop v16 v31 v68 v105 v142 v179 v216 v253 v290 v327 v364 v401 v438 v475 v512 v549 v586 v623 v660 v697 v734 v771 v808 arg13).trips), ∀ a, (k0_off389 v16 v31 v68 v105 v142 v179 v216 v253 v290 v327 v364 v401 v438 v475 v512 v549 v586 v623 v660 v697 v734 v771 v808 arg13 k0_t133) a + S1x16.size a ≤ S512x128.size a := fun v16 v31 v68 v105 v142 v179 v216 v253 v290 v327 v364 v401 v438 v475 v512 v549 v586 v623 v660 v697 v734 v771 v808 arg13 k0_hw70 k0_t133 => k0_hw70.2.2.2.1 k0_t133
theorem k0_off390_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13) (k0_t133 : Fin (k0_t133_loop v16 v31 v68 v105 v142 v179 v216 v253 v290 v327 v364 v401 v438 v475 v512 v549 v586 v623 v660 v697 v734 v771 v808 arg13).trips), ∀ a, (k0_off390 v16 v31 v68 v105 v142 v179 v216 v253 v290 v327 v364 v401 v438 v475 v512 v549 v586 v623 v660 v697 v734 v771 v808 arg13 k0_t133) a + S1x16.size a ≤ S512x128.size a := fun v16 v31 v68 v105 v142 v179 v216 v253 v290 v327 v364 v401 v438 v475 v512 v549 v586 v623 v660 v697 v734 v771 v808 arg13 k0_hw70 k0_t133 => k0_hw70.2.2.2.2.1 k0_t133
theorem k0_off391_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13) (k0_t133 : Fin (k0_t133_loop v16 v31 v68 v105 v142 v179 v216 v253 v290 v327 v364 v401 v438 v475 v512 v549 v586 v623 v660 v697 v734 v771 v808 arg13).trips), ∀ a, (k0_off391 v16 v31 v68 v105 v142 v179 v216 v253 v290 v327 v364 v401 v438 v475 v512 v549 v586 v623 v660 v697 v734 v771 v808 arg13 k0_t133) a + S1x16.size a ≤ S512x128.size a := fun v16 v31 v68 v105 v142 v179 v216 v253 v290 v327 v364 v401 v438 v475 v512 v549 v586 v623 v660 v697 v734 v771 v808 arg13 k0_hw70 k0_t133 => k0_hw70.2.2.2.2.2.1 k0_t133
theorem k0_off392_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13) (k0_t133 : Fin (k0_t133_loop v16 v31 v68 v105 v142 v179 v216 v253 v290 v327 v364 v401 v438 v475 v512 v549 v586 v623 v660 v697 v734 v771 v808 arg13).trips), ∀ a, (k0_off392 v16 v31 v68 v105 v142 v179 v216 v253 v290 v327 v364 v401 v438 v475 v512 v549 v586 v623 v660 v697 v734 v771 v808 arg13 k0_t133) a + S1x16.size a ≤ S512x128.size a := fun v16 v31 v68 v105 v142 v179 v216 v253 v290 v327 v364 v401 v438 v475 v512 v549 v586 v623 v660 v697 v734 v771 v808 arg13 k0_hw70 k0_t133 => k0_hw70.2.2.2.2.2.2.1 k0_t133
theorem k0_t134_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13), (k0_t134_loop v16 v31 v68 v105 v142 v179 v216 v253 v290 v327 v364 v401 v438 v475 v512 v549 v586 v623 v660 v697 v734 v771 v808 arg13).OK := fun v16 v31 v68 v105 v142 v179 v216 v253 v290 v327 v364 v401 v438 v475 v512 v549 v586 v623 v660 v697 v734 v771 v808 arg13 k0_hw70 => k0_hw70.2.2.2.2.2.2.2.1
theorem k0_off393_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13) (k0_t134 : Fin (k0_t134_loop v16 v31 v68 v105 v142 v179 v216 v253 v290 v327 v364 v401 v438 v475 v512 v549 v586 v623 v660 v697 v734 v771 v808 arg13).trips), ∀ a, (k0_off393 v16 v31 v68 v105 v142 v179 v216 v253 v290 v327 v364 v401 v438 v475 v512 v549 v586 v623 v660 v697 v734 v771 v808 arg13 k0_t134) a + S1x16.size a ≤ S512x128.size a := fun v16 v31 v68 v105 v142 v179 v216 v253 v290 v327 v364 v401 v438 v475 v512 v549 v586 v623 v660 v697 v734 v771 v808 arg13 k0_hw70 k0_t134 => k0_hw70.2.2.2.2.2.2.2.2.1 k0_t134
theorem k0_off394_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13) (k0_t134 : Fin (k0_t134_loop v16 v31 v68 v105 v142 v179 v216 v253 v290 v327 v364 v401 v438 v475 v512 v549 v586 v623 v660 v697 v734 v771 v808 arg13).trips), ∀ a, (k0_off394 v16 v31 v68 v105 v142 v179 v216 v253 v290 v327 v364 v401 v438 v475 v512 v549 v586 v623 v660 v697 v734 v771 v808 arg13 k0_t134) a + S1x16.size a ≤ S512x128.size a := fun v16 v31 v68 v105 v142 v179 v216 v253 v290 v327 v364 v401 v438 v475 v512 v549 v586 v623 v660 v697 v734 v771 v808 arg13 k0_hw70 k0_t134 => k0_hw70.2.2.2.2.2.2.2.2.2.1 k0_t134
theorem k0_off395_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13) (k0_t134 : Fin (k0_t134_loop v16 v31 v68 v105 v142 v179 v216 v253 v290 v327 v364 v401 v438 v475 v512 v549 v586 v623 v660 v697 v734 v771 v808 arg13).trips), ∀ a, (k0_off395 v16 v31 v68 v105 v142 v179 v216 v253 v290 v327 v364 v401 v438 v475 v512 v549 v586 v623 v660 v697 v734 v771 v808 arg13 k0_t134) a + S1x16.size a ≤ S512x128.size a := fun v16 v31 v68 v105 v142 v179 v216 v253 v290 v327 v364 v401 v438 v475 v512 v549 v586 v623 v660 v697 v734 v771 v808 arg13 k0_hw70 k0_t134 => k0_hw70.2.2.2.2.2.2.2.2.2.2.1 k0_t134
theorem k0_off396_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (arg13 : BitVec 32) (k0_hw70 : k0_chk70 v16 v31 v68 v105 v142 v179 v216 v253 v290 v327 v364 v401 v438 v475 v512 v549 v586 v623 v660 v697 v734 v771 v808 arg13) (k0_t134 : Fin (k0_t134_loop v16 v31 v68 v105 v142 v179 v216 v253 v290 v327 v364 v401 v438 v475 v512 v549 v586 v623 v660 v697 v734 v771 v808 arg13).trips), ∀ a, (k0_off396 v16 v31 v68 v105 v142 v179 v216 v253 v290 v327 v364 v401 v438 v475 v512 v549 v586 v623 v660 v697 v734 v771 v808 arg13 k0_t134) a + S1x16.size a ≤ S512x128.size a := fun v16 v31 v68 v105 v142 v179 v216 v253 v290 v327 v364 v401 v438 v475 v512 v549 v586 v623 v660 v697 v734 v771 v808 arg13 k0_hw70 k0_t134 => k0_hw70.2.2.2.2.2.2.2.2.2.2.2 k0_t134

@[reducible] def k0_t135_loop (v845 : BitVec 32) : Scf.Loop 32 :=
  let c0_i32_332 : BitVec 32 := 0#32
  let c0_i32_325 : BitVec 32 := 0#32
  let v848 : BitVec 1 := Scalar.cmpi .sgt v845 c0_i32_325
  let v849 : BitVec 32 := Scalar.extui v848
  let c0_i32_326 : BitVec 32 := 0#32
  let v850 : BitVec 1 := Scalar.cmpi .slt v845 c0_i32_326
  let v851 : BitVec 32 := Scalar.extui v850
  let v852 : BitVec 32 := Scalar.subi v849 v851
  let c504_i32_324 : BitVec 32 := 504#32
  let c0_i32_327 : BitVec 32 := 0#32
  let v853 : BitVec 1 := Scalar.cmpi .sgt c504_i32_324 c0_i32_327
  let v854 : BitVec 32 := Scalar.extui v853
  let c0_i32_328 : BitVec 32 := 0#32
  let v855 : BitVec 1 := Scalar.cmpi .slt c504_i32_324 c0_i32_328
  let v856 : BitVec 32 := Scalar.extui v855
  let v857 : BitVec 32 := Scalar.subi v854 v856
  let v858 : BitVec 1 := Scalar.cmpi .ne v852 v857
  let v859 : BitVec 32 := Scalar.remsi v845 c504_i32_324
  let c0_i32_329 : BitVec 32 := 0#32
  let v860 : BitVec 1 := Scalar.cmpi .ne v859 c0_i32_329
  let v861 : BitVec 1 := Scalar.andi v858 v860
  let v847 : BitVec 32 := Scalar.divsi v845 c504_i32_324
  let c1_i32_330 : BitVec 32 := 1#32
  let v862 : BitVec 32 := Scalar.subi v847 c1_i32_330
  let v863 : BitVec 32 := Scalar.select v861 v862 v847
  let c1_i32_331 : BitVec 32 := 1#32
  let v864 : BitVec 32 := Scalar.addi v863 c1_i32_331
  let v865 : BitVec 32 := Scalar.subi v864 c0_i32_332
  let c1_i32_333 : BitVec 32 := 1#32
  let v867 : BitVec 32 := Scalar.divsi v865 c1_i32_333
  let v868 : BitVec 32 := Scalar.muli v867 c1_i32_333
  let v869 : BitVec 32 := Scalar.addi c0_i32_332 v868
  let c1_i32_334 : BitVec 32 := 1#32
  ⟨c0_i32_332, v869, c1_i32_334⟩

def k0_mult45 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off397 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r45 : BitVec 32 := 0#32
  ![v1213.toNat, 0]
@[reducible] def k0_t136_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off398 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t136 : Fin (k0_t136_loop v16 v31 v68 v105 v142 v179 v216 v253 v290 v327 v364 v401 v438 v475 v512 v549 v586 v623 v660 v697 v734 v771 v808 v845 arg13).trips) : Fin 2 → Nat :=
  let c1_i32_473 : BitVec 32 := 1#32
  let arg14 : BitVec 32 := Scf.iv arg13 c1_i32_473 k0_t136
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off399 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t136 : Fin (k0_t136_loop v16 v31 v68 v105 v142 v179 v216 v253 v290 v327 v364 v401 v438 v475 v512 v549 v586 v623 v660 v697 v734 v771 v808 v845 arg13).trips) : Fin 2 → Nat :=
  let c1_i32_473 : BitVec 32 := 1#32
  let arg14 : BitVec 32 := Scf.iv arg13 c1_i32_473 k0_t136
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off400 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t136 : Fin (k0_t136_loop v16 v31 v68 v105 v142 v179 v216 v253 v290 v327 v364 v401 v438 v475 v512 v549 v586 v623 v660 v697 v734 v771 v808 v845 arg13).trips) : Fin 2 → Nat :=
  let c1_i32_473 : BitVec 32 := 1#32
  let arg14 : BitVec 32 := Scf.iv arg13 c1_i32_473 k0_t136
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off401 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t136 : Fin (k0_t136_loop v16 v31 v68 v105 v142 v179 v216 v253 v290 v327 v364 v401 v438 v475 v512 v549 v586 v623 v660 v697 v734 v771 v808 v845 arg13).trips) : Fin 2 → Nat :=
  let c1_i32_473 : BitVec 32 := 1#32
  let arg14 : BitVec 32 := Scf.iv arg13 c1_i32_473 k0_t136
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t137_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off402 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t137 : Fin (k0_t137_loop v16 v31 v68 v105 v142 v179 v216 v253 v290 v327 v364 v401 v438 v475 v512 v549 v586 v623 v660 v697 v734 v771 v808 v845 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t137
  let v1224 : BitVec 32 := Scalar.subi arg14 v1213
  let v1225 : Index := Scalar.indexCast v1224
  let c0_475 : Index := 0#32
  ![v1225.toNat, 0]
def k0_off403 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t137 : Fin (k0_t137_loop v16 v31 v68 v105 v142 v179 v216 v253 v290 v327 v364 v401 v438 v475 v512 v549 v586 v623 v660 v697 v734 v771 v808 v845 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t137
  let v1224 : BitVec 32 := Scalar.subi arg14 v1213
  let v1228 : Index := Scalar.indexCast v1224
  let c16_476 : Index := 16#32
  ![v1228.toNat, 16]
def k0_off404 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t137 : Fin (k0_t137_loop v16 v31 v68 v105 v142 v179 v216 v253 v290 v327 v364 v401 v438 v475 v512 v549 v586 v623 v660 v697 v734 v771 v808 v845 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t137
  let v1224 : BitVec 32 := Scalar.subi arg14 v1213
  let v1231 : Index := Scalar.indexCast v1224
  let c32_477 : Index := 32#32
  ![v1231.toNat, 32]
def k0_off405 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t137 : Fin (k0_t137_loop v16 v31 v68 v105 v142 v179 v216 v253 v290 v327 v364 v401 v438 v475 v512 v549 v586 v623 v660 v697 v734 v771 v808 v845 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t137
  let v1224 : BitVec 32 := Scalar.subi arg14 v1213
  let v1234 : Index := Scalar.indexCast v1224
  let c48_478 : Index := 48#32
  ![v1234.toNat, 48]

def k0_chk72 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) : Prop :=
  (8 ∣ (k0_mult45 arg13).toNat) ∧
  (∀ a, (k0_off397 arg13) a + S512x128.size a ≤ S320000x128.size a) ∧
  ((k0_t136_loop v16 v31 v68 v105 v142 v179 v216 v253 v290 v327 v364 v401 v438 v475 v512 v549 v586 v623 v660 v697 v734 v771 v808 v845 arg13).OK) ∧
  (∀ k0_t136 : Fin (k0_t136_loop v16 v31 v68 v105 v142 v179 v216 v253 v290 v327 v364 v401 v438 v475 v512 v549 v586 v623 v660 v697 v734 v771 v808 v845 arg13).trips, ∀ a, (k0_off398 v16 v31 v68 v105 v142 v179 v216 v253 v290 v327 v364 v401 v438 v475 v512 v549 v586 v623 v660 v697 v734 v771 v808 v845 arg13 k0_t136) a + S1x16.size a ≤ S512x128.size a) ∧
  (∀ k0_t136 : Fin (k0_t136_loop v16 v31 v68 v105 v142 v179 v216 v253 v290 v327 v364 v401 v438 v475 v512 v549 v586 v623 v660 v697 v734 v771 v808 v845 arg13).trips, ∀ a, (k0_off399 v16 v31 v68 v105 v142 v179 v216 v253 v290 v327 v364 v401 v438 v475 v512 v549 v586 v623 v660 v697 v734 v771 v808 v845 arg13 k0_t136) a + S1x16.size a ≤ S512x128.size a) ∧
  (∀ k0_t136 : Fin (k0_t136_loop v16 v31 v68 v105 v142 v179 v216 v253 v290 v327 v364 v401 v438 v475 v512 v549 v586 v623 v660 v697 v734 v771 v808 v845 arg13).trips, ∀ a, (k0_off400 v16 v31 v68 v105 v142 v179 v216 v253 v290 v327 v364 v401 v438 v475 v512 v549 v586 v623 v660 v697 v734 v771 v808 v845 arg13 k0_t136) a + S1x16.size a ≤ S512x128.size a) ∧
  (∀ k0_t136 : Fin (k0_t136_loop v16 v31 v68 v105 v142 v179 v216 v253 v290 v327 v364 v401 v438 v475 v512 v549 v586 v623 v660 v697 v734 v771 v808 v845 arg13).trips, ∀ a, (k0_off401 v16 v31 v68 v105 v142 v179 v216 v253 v290 v327 v364 v401 v438 v475 v512 v549 v586 v623 v660 v697 v734 v771 v808 v845 arg13 k0_t136) a + S1x16.size a ≤ S512x128.size a) ∧
  ((k0_t137_loop v16 v31 v68 v105 v142 v179 v216 v253 v290 v327 v364 v401 v438 v475 v512 v549 v586 v623 v660 v697 v734 v771 v808 v845 arg13).OK) ∧
  (∀ k0_t137 : Fin (k0_t137_loop v16 v31 v68 v105 v142 v179 v216 v253 v290 v327 v364 v401 v438 v475 v512 v549 v586 v623 v660 v697 v734 v771 v808 v845 arg13).trips, ∀ a, (k0_off402 v16 v31 v68 v105 v142 v179 v216 v253 v290 v327 v364 v401 v438 v475 v512 v549 v586 v623 v660 v697 v734 v771 v808 v845 arg13 k0_t137) a + S1x16.size a ≤ S512x128.size a) ∧
  (∀ k0_t137 : Fin (k0_t137_loop v16 v31 v68 v105 v142 v179 v216 v253 v290 v327 v364 v401 v438 v475 v512 v549 v586 v623 v660 v697 v734 v771 v808 v845 arg13).trips, ∀ a, (k0_off403 v16 v31 v68 v105 v142 v179 v216 v253 v290 v327 v364 v401 v438 v475 v512 v549 v586 v623 v660 v697 v734 v771 v808 v845 arg13 k0_t137) a + S1x16.size a ≤ S512x128.size a) ∧
  (∀ k0_t137 : Fin (k0_t137_loop v16 v31 v68 v105 v142 v179 v216 v253 v290 v327 v364 v401 v438 v475 v512 v549 v586 v623 v660 v697 v734 v771 v808 v845 arg13).trips, ∀ a, (k0_off404 v16 v31 v68 v105 v142 v179 v216 v253 v290 v327 v364 v401 v438 v475 v512 v549 v586 v623 v660 v697 v734 v771 v808 v845 arg13 k0_t137) a + S1x16.size a ≤ S512x128.size a) ∧
  (∀ k0_t137 : Fin (k0_t137_loop v16 v31 v68 v105 v142 v179 v216 v253 v290 v327 v364 v401 v438 v475 v512 v549 v586 v623 v660 v697 v734 v771 v808 v845 arg13).trips, ∀ a, (k0_off405 v16 v31 v68 v105 v142 v179 v216 v253 v290 v327 v364 v401 v438 v475 v512 v549 v586 v623 v660 v697 v734 v771 v808 v845 arg13 k0_t137) a + S1x16.size a ≤ S512x128.size a)
theorem k0_mult45_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13), 8 ∣ (k0_mult45 arg13).toNat := fun v16 v31 v68 v105 v142 v179 v216 v253 v290 v327 v364 v401 v438 v475 v512 v549 v586 v623 v660 v697 v734 v771 v808 v845 arg13 k0_hw72 => k0_hw72.1
theorem k0_off397_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13), ∀ a, (k0_off397 arg13) a + S512x128.size a ≤ S320000x128.size a := fun v16 v31 v68 v105 v142 v179 v216 v253 v290 v327 v364 v401 v438 v475 v512 v549 v586 v623 v660 v697 v734 v771 v808 v845 arg13 k0_hw72 => k0_hw72.2.1
theorem k0_t136_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13), (k0_t136_loop v16 v31 v68 v105 v142 v179 v216 v253 v290 v327 v364 v401 v438 v475 v512 v549 v586 v623 v660 v697 v734 v771 v808 v845 arg13).OK := fun v16 v31 v68 v105 v142 v179 v216 v253 v290 v327 v364 v401 v438 v475 v512 v549 v586 v623 v660 v697 v734 v771 v808 v845 arg13 k0_hw72 => k0_hw72.2.2.1
theorem k0_off398_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13) (k0_t136 : Fin (k0_t136_loop v16 v31 v68 v105 v142 v179 v216 v253 v290 v327 v364 v401 v438 v475 v512 v549 v586 v623 v660 v697 v734 v771 v808 v845 arg13).trips), ∀ a, (k0_off398 v16 v31 v68 v105 v142 v179 v216 v253 v290 v327 v364 v401 v438 v475 v512 v549 v586 v623 v660 v697 v734 v771 v808 v845 arg13 k0_t136) a + S1x16.size a ≤ S512x128.size a := fun v16 v31 v68 v105 v142 v179 v216 v253 v290 v327 v364 v401 v438 v475 v512 v549 v586 v623 v660 v697 v734 v771 v808 v845 arg13 k0_hw72 k0_t136 => k0_hw72.2.2.2.1 k0_t136
theorem k0_off399_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13) (k0_t136 : Fin (k0_t136_loop v16 v31 v68 v105 v142 v179 v216 v253 v290 v327 v364 v401 v438 v475 v512 v549 v586 v623 v660 v697 v734 v771 v808 v845 arg13).trips), ∀ a, (k0_off399 v16 v31 v68 v105 v142 v179 v216 v253 v290 v327 v364 v401 v438 v475 v512 v549 v586 v623 v660 v697 v734 v771 v808 v845 arg13 k0_t136) a + S1x16.size a ≤ S512x128.size a := fun v16 v31 v68 v105 v142 v179 v216 v253 v290 v327 v364 v401 v438 v475 v512 v549 v586 v623 v660 v697 v734 v771 v808 v845 arg13 k0_hw72 k0_t136 => k0_hw72.2.2.2.2.1 k0_t136
theorem k0_off400_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13) (k0_t136 : Fin (k0_t136_loop v16 v31 v68 v105 v142 v179 v216 v253 v290 v327 v364 v401 v438 v475 v512 v549 v586 v623 v660 v697 v734 v771 v808 v845 arg13).trips), ∀ a, (k0_off400 v16 v31 v68 v105 v142 v179 v216 v253 v290 v327 v364 v401 v438 v475 v512 v549 v586 v623 v660 v697 v734 v771 v808 v845 arg13 k0_t136) a + S1x16.size a ≤ S512x128.size a := fun v16 v31 v68 v105 v142 v179 v216 v253 v290 v327 v364 v401 v438 v475 v512 v549 v586 v623 v660 v697 v734 v771 v808 v845 arg13 k0_hw72 k0_t136 => k0_hw72.2.2.2.2.2.1 k0_t136
theorem k0_off401_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13) (k0_t136 : Fin (k0_t136_loop v16 v31 v68 v105 v142 v179 v216 v253 v290 v327 v364 v401 v438 v475 v512 v549 v586 v623 v660 v697 v734 v771 v808 v845 arg13).trips), ∀ a, (k0_off401 v16 v31 v68 v105 v142 v179 v216 v253 v290 v327 v364 v401 v438 v475 v512 v549 v586 v623 v660 v697 v734 v771 v808 v845 arg13 k0_t136) a + S1x16.size a ≤ S512x128.size a := fun v16 v31 v68 v105 v142 v179 v216 v253 v290 v327 v364 v401 v438 v475 v512 v549 v586 v623 v660 v697 v734 v771 v808 v845 arg13 k0_hw72 k0_t136 => k0_hw72.2.2.2.2.2.2.1 k0_t136
theorem k0_t137_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13), (k0_t137_loop v16 v31 v68 v105 v142 v179 v216 v253 v290 v327 v364 v401 v438 v475 v512 v549 v586 v623 v660 v697 v734 v771 v808 v845 arg13).OK := fun v16 v31 v68 v105 v142 v179 v216 v253 v290 v327 v364 v401 v438 v475 v512 v549 v586 v623 v660 v697 v734 v771 v808 v845 arg13 k0_hw72 => k0_hw72.2.2.2.2.2.2.2.1
theorem k0_off402_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13) (k0_t137 : Fin (k0_t137_loop v16 v31 v68 v105 v142 v179 v216 v253 v290 v327 v364 v401 v438 v475 v512 v549 v586 v623 v660 v697 v734 v771 v808 v845 arg13).trips), ∀ a, (k0_off402 v16 v31 v68 v105 v142 v179 v216 v253 v290 v327 v364 v401 v438 v475 v512 v549 v586 v623 v660 v697 v734 v771 v808 v845 arg13 k0_t137) a + S1x16.size a ≤ S512x128.size a := fun v16 v31 v68 v105 v142 v179 v216 v253 v290 v327 v364 v401 v438 v475 v512 v549 v586 v623 v660 v697 v734 v771 v808 v845 arg13 k0_hw72 k0_t137 => k0_hw72.2.2.2.2.2.2.2.2.1 k0_t137
theorem k0_off403_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13) (k0_t137 : Fin (k0_t137_loop v16 v31 v68 v105 v142 v179 v216 v253 v290 v327 v364 v401 v438 v475 v512 v549 v586 v623 v660 v697 v734 v771 v808 v845 arg13).trips), ∀ a, (k0_off403 v16 v31 v68 v105 v142 v179 v216 v253 v290 v327 v364 v401 v438 v475 v512 v549 v586 v623 v660 v697 v734 v771 v808 v845 arg13 k0_t137) a + S1x16.size a ≤ S512x128.size a := fun v16 v31 v68 v105 v142 v179 v216 v253 v290 v327 v364 v401 v438 v475 v512 v549 v586 v623 v660 v697 v734 v771 v808 v845 arg13 k0_hw72 k0_t137 => k0_hw72.2.2.2.2.2.2.2.2.2.1 k0_t137
theorem k0_off404_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13) (k0_t137 : Fin (k0_t137_loop v16 v31 v68 v105 v142 v179 v216 v253 v290 v327 v364 v401 v438 v475 v512 v549 v586 v623 v660 v697 v734 v771 v808 v845 arg13).trips), ∀ a, (k0_off404 v16 v31 v68 v105 v142 v179 v216 v253 v290 v327 v364 v401 v438 v475 v512 v549 v586 v623 v660 v697 v734 v771 v808 v845 arg13 k0_t137) a + S1x16.size a ≤ S512x128.size a := fun v16 v31 v68 v105 v142 v179 v216 v253 v290 v327 v364 v401 v438 v475 v512 v549 v586 v623 v660 v697 v734 v771 v808 v845 arg13 k0_hw72 k0_t137 => k0_hw72.2.2.2.2.2.2.2.2.2.2.1 k0_t137
theorem k0_off405_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw72 : k0_chk72 v16 v31 v68 v105 v142 v179 v216 v253 v290 v327 v364 v401 v438 v475 v512 v549 v586 v623 v660 v697 v734 v771 v808 v845 arg13) (k0_t137 : Fin (k0_t137_loop v16 v31 v68 v105 v142 v179 v216 v253 v290 v327 v364 v401 v438 v475 v512 v549 v586 v623 v660 v697 v734 v771 v808 v845 arg13).trips), ∀ a, (k0_off405 v16 v31 v68 v105 v142 v179 v216 v253 v290 v327 v364 v401 v438 v475 v512 v549 v586 v623 v660 v697 v734 v771 v808 v845 arg13 k0_t137) a + S1x16.size a ≤ S512x128.size a := fun v16 v31 v68 v105 v142 v179 v216 v253 v290 v327 v364 v401 v438 v475 v512 v549 v586 v623 v660 v697 v734 v771 v808 v845 arg13 k0_hw72 k0_t137 => k0_hw72.2.2.2.2.2.2.2.2.2.2.2 k0_t137

@[reducible] def k0_t138_loop (v845 : BitVec 32) : Scf.Loop 32 :=
  let c0_i32_332 : BitVec 32 := 0#32
  let c0_i32_325 : BitVec 32 := 0#32
  let v848 : BitVec 1 := Scalar.cmpi .sgt v845 c0_i32_325
  let v849 : BitVec 32 := Scalar.extui v848
  let c0_i32_326 : BitVec 32 := 0#32
  let v850 : BitVec 1 := Scalar.cmpi .slt v845 c0_i32_326
  let v851 : BitVec 32 := Scalar.extui v850
  let v852 : BitVec 32 := Scalar.subi v849 v851
  let c504_i32_324 : BitVec 32 := 504#32
  let c0_i32_327 : BitVec 32 := 0#32
  let v853 : BitVec 1 := Scalar.cmpi .sgt c504_i32_324 c0_i32_327
  let v854 : BitVec 32 := Scalar.extui v853
  let c0_i32_328 : BitVec 32 := 0#32
  let v855 : BitVec 1 := Scalar.cmpi .slt c504_i32_324 c0_i32_328
  let v856 : BitVec 32 := Scalar.extui v855
  let v857 : BitVec 32 := Scalar.subi v854 v856
  let v858 : BitVec 1 := Scalar.cmpi .ne v852 v857
  let v859 : BitVec 32 := Scalar.remsi v845 c504_i32_324
  let c0_i32_329 : BitVec 32 := 0#32
  let v860 : BitVec 1 := Scalar.cmpi .ne v859 c0_i32_329
  let v861 : BitVec 1 := Scalar.andi v858 v860
  let v847 : BitVec 32 := Scalar.divsi v845 c504_i32_324
  let c1_i32_330 : BitVec 32 := 1#32
  let v862 : BitVec 32 := Scalar.subi v847 c1_i32_330
  let v863 : BitVec 32 := Scalar.select v861 v862 v847
  let c1_i32_331 : BitVec 32 := 1#32
  let v864 : BitVec 32 := Scalar.addi v863 c1_i32_331
  let v865 : BitVec 32 := Scalar.subi v864 c0_i32_332
  let c1_i32_333 : BitVec 32 := 1#32
  let v867 : BitVec 32 := Scalar.divsi v865 c1_i32_333
  let v868 : BitVec 32 := Scalar.muli v867 c1_i32_333
  let v869 : BitVec 32 := Scalar.addi c0_i32_332 v868
  let v866 : BitVec 32 := Scalar.addi c0_i32_332 v865
  let c1_i32_335 : BitVec 32 := 1#32
  ⟨v869, v866, c1_i32_335⟩

def k0_chk71 (v845 : BitVec 32) : Prop :=
  ((k0_t135_loop v845).OK) ∧
  ((k0_t138_loop v845).OK)
theorem k0_t135_ok : ∀ (v845 : BitVec 32) (k0_hw71 : k0_chk71 v845), (k0_t135_loop v845).OK := fun v845 k0_hw71 => k0_hw71.1
theorem k0_t138_ok : ∀ (v845 : BitVec 32) (k0_hw71 : k0_chk71 v845), (k0_t138_loop v845).OK := fun v845 k0_hw71 => k0_hw71.2

def k0_mult46 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off406 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r46 : BitVec 32 := 0#32
  ![v1213.toNat, 0]
@[reducible] def k0_t139_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off407 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t139 : Fin (k0_t139_loop v16 v31 v68 v105 v142 v179 v216 v253 v290 v327 v364 v401 v438 v475 v512 v549 v586 v623 v660 v697 v734 v771 v808 v845 arg13).trips) : Fin 2 → Nat :=
  let c1_i32_473 : BitVec 32 := 1#32
  let arg14 : BitVec 32 := Scf.iv arg13 c1_i32_473 k0_t139
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off408 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t139 : Fin (k0_t139_loop v16 v31 v68 v105 v142 v179 v216 v253 v290 v327 v364 v401 v438 v475 v512 v549 v586 v623 v660 v697 v734 v771 v808 v845 arg13).trips) : Fin 2 → Nat :=
  let c1_i32_473 : BitVec 32 := 1#32
  let arg14 : BitVec 32 := Scf.iv arg13 c1_i32_473 k0_t139
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off409 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t139 : Fin (k0_t139_loop v16 v31 v68 v105 v142 v179 v216 v253 v290 v327 v364 v401 v438 v475 v512 v549 v586 v623 v660 v697 v734 v771 v808 v845 arg13).trips) : Fin 2 → Nat :=
  let c1_i32_473 : BitVec 32 := 1#32
  let arg14 : BitVec 32 := Scf.iv arg13 c1_i32_473 k0_t139
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off410 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t139 : Fin (k0_t139_loop v16 v31 v68 v105 v142 v179 v216 v253 v290 v327 v364 v401 v438 v475 v512 v549 v586 v623 v660 v697 v734 v771 v808 v845 arg13).trips) : Fin 2 → Nat :=
  let c1_i32_473 : BitVec 32 := 1#32
  let arg14 : BitVec 32 := Scf.iv arg13 c1_i32_473 k0_t139
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t140_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off411 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t140 : Fin (k0_t140_loop v16 v31 v68 v105 v142 v179 v216 v253 v290 v327 v364 v401 v438 v475 v512 v549 v586 v623 v660 v697 v734 v771 v808 v845 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t140
  let v1224 : BitVec 32 := Scalar.subi arg14 v1213
  let v1225 : Index := Scalar.indexCast v1224
  let c0_475 : Index := 0#32
  ![v1225.toNat, 0]
def k0_off412 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t140 : Fin (k0_t140_loop v16 v31 v68 v105 v142 v179 v216 v253 v290 v327 v364 v401 v438 v475 v512 v549 v586 v623 v660 v697 v734 v771 v808 v845 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t140
  let v1224 : BitVec 32 := Scalar.subi arg14 v1213
  let v1228 : Index := Scalar.indexCast v1224
  let c16_476 : Index := 16#32
  ![v1228.toNat, 16]
def k0_off413 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t140 : Fin (k0_t140_loop v16 v31 v68 v105 v142 v179 v216 v253 v290 v327 v364 v401 v438 v475 v512 v549 v586 v623 v660 v697 v734 v771 v808 v845 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t140
  let v1224 : BitVec 32 := Scalar.subi arg14 v1213
  let v1231 : Index := Scalar.indexCast v1224
  let c32_477 : Index := 32#32
  ![v1231.toNat, 32]
def k0_off414 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_t140 : Fin (k0_t140_loop v16 v31 v68 v105 v142 v179 v216 v253 v290 v327 v364 v401 v438 v475 v512 v549 v586 v623 v660 v697 v734 v771 v808 v845 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v846 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t140
  let v1224 : BitVec 32 := Scalar.subi arg14 v1213
  let v1234 : Index := Scalar.indexCast v1224
  let c48_478 : Index := 48#32
  ![v1234.toNat, 48]

def k0_chk73 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) : Prop :=
  (8 ∣ (k0_mult46 arg13).toNat) ∧
  (∀ a, (k0_off406 arg13) a + S512x128.size a ≤ S320000x128.size a) ∧
  ((k0_t139_loop v16 v31 v68 v105 v142 v179 v216 v253 v290 v327 v364 v401 v438 v475 v512 v549 v586 v623 v660 v697 v734 v771 v808 v845 arg13).OK) ∧
  (∀ k0_t139 : Fin (k0_t139_loop v16 v31 v68 v105 v142 v179 v216 v253 v290 v327 v364 v401 v438 v475 v512 v549 v586 v623 v660 v697 v734 v771 v808 v845 arg13).trips, ∀ a, (k0_off407 v16 v31 v68 v105 v142 v179 v216 v253 v290 v327 v364 v401 v438 v475 v512 v549 v586 v623 v660 v697 v734 v771 v808 v845 arg13 k0_t139) a + S1x16.size a ≤ S512x128.size a) ∧
  (∀ k0_t139 : Fin (k0_t139_loop v16 v31 v68 v105 v142 v179 v216 v253 v290 v327 v364 v401 v438 v475 v512 v549 v586 v623 v660 v697 v734 v771 v808 v845 arg13).trips, ∀ a, (k0_off408 v16 v31 v68 v105 v142 v179 v216 v253 v290 v327 v364 v401 v438 v475 v512 v549 v586 v623 v660 v697 v734 v771 v808 v845 arg13 k0_t139) a + S1x16.size a ≤ S512x128.size a) ∧
  (∀ k0_t139 : Fin (k0_t139_loop v16 v31 v68 v105 v142 v179 v216 v253 v290 v327 v364 v401 v438 v475 v512 v549 v586 v623 v660 v697 v734 v771 v808 v845 arg13).trips, ∀ a, (k0_off409 v16 v31 v68 v105 v142 v179 v216 v253 v290 v327 v364 v401 v438 v475 v512 v549 v586 v623 v660 v697 v734 v771 v808 v845 arg13 k0_t139) a + S1x16.size a ≤ S512x128.size a) ∧
  (∀ k0_t139 : Fin (k0_t139_loop v16 v31 v68 v105 v142 v179 v216 v253 v290 v327 v364 v401 v438 v475 v512 v549 v586 v623 v660 v697 v734 v771 v808 v845 arg13).trips, ∀ a, (k0_off410 v16 v31 v68 v105 v142 v179 v216 v253 v290 v327 v364 v401 v438 v475 v512 v549 v586 v623 v660 v697 v734 v771 v808 v845 arg13 k0_t139) a + S1x16.size a ≤ S512x128.size a) ∧
  ((k0_t140_loop v16 v31 v68 v105 v142 v179 v216 v253 v290 v327 v364 v401 v438 v475 v512 v549 v586 v623 v660 v697 v734 v771 v808 v845 arg13).OK) ∧
  (∀ k0_t140 : Fin (k0_t140_loop v16 v31 v68 v105 v142 v179 v216 v253 v290 v327 v364 v401 v438 v475 v512 v549 v586 v623 v660 v697 v734 v771 v808 v845 arg13).trips, ∀ a, (k0_off411 v16 v31 v68 v105 v142 v179 v216 v253 v290 v327 v364 v401 v438 v475 v512 v549 v586 v623 v660 v697 v734 v771 v808 v845 arg13 k0_t140) a + S1x16.size a ≤ S512x128.size a) ∧
  (∀ k0_t140 : Fin (k0_t140_loop v16 v31 v68 v105 v142 v179 v216 v253 v290 v327 v364 v401 v438 v475 v512 v549 v586 v623 v660 v697 v734 v771 v808 v845 arg13).trips, ∀ a, (k0_off412 v16 v31 v68 v105 v142 v179 v216 v253 v290 v327 v364 v401 v438 v475 v512 v549 v586 v623 v660 v697 v734 v771 v808 v845 arg13 k0_t140) a + S1x16.size a ≤ S512x128.size a) ∧
  (∀ k0_t140 : Fin (k0_t140_loop v16 v31 v68 v105 v142 v179 v216 v253 v290 v327 v364 v401 v438 v475 v512 v549 v586 v623 v660 v697 v734 v771 v808 v845 arg13).trips, ∀ a, (k0_off413 v16 v31 v68 v105 v142 v179 v216 v253 v290 v327 v364 v401 v438 v475 v512 v549 v586 v623 v660 v697 v734 v771 v808 v845 arg13 k0_t140) a + S1x16.size a ≤ S512x128.size a) ∧
  (∀ k0_t140 : Fin (k0_t140_loop v16 v31 v68 v105 v142 v179 v216 v253 v290 v327 v364 v401 v438 v475 v512 v549 v586 v623 v660 v697 v734 v771 v808 v845 arg13).trips, ∀ a, (k0_off414 v16 v31 v68 v105 v142 v179 v216 v253 v290 v327 v364 v401 v438 v475 v512 v549 v586 v623 v660 v697 v734 v771 v808 v845 arg13 k0_t140) a + S1x16.size a ≤ S512x128.size a)
theorem k0_mult46_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13), 8 ∣ (k0_mult46 arg13).toNat := fun v16 v31 v68 v105 v142 v179 v216 v253 v290 v327 v364 v401 v438 v475 v512 v549 v586 v623 v660 v697 v734 v771 v808 v845 arg13 k0_hw73 => k0_hw73.1
theorem k0_off406_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13), ∀ a, (k0_off406 arg13) a + S512x128.size a ≤ S320000x128.size a := fun v16 v31 v68 v105 v142 v179 v216 v253 v290 v327 v364 v401 v438 v475 v512 v549 v586 v623 v660 v697 v734 v771 v808 v845 arg13 k0_hw73 => k0_hw73.2.1
theorem k0_t139_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13), (k0_t139_loop v16 v31 v68 v105 v142 v179 v216 v253 v290 v327 v364 v401 v438 v475 v512 v549 v586 v623 v660 v697 v734 v771 v808 v845 arg13).OK := fun v16 v31 v68 v105 v142 v179 v216 v253 v290 v327 v364 v401 v438 v475 v512 v549 v586 v623 v660 v697 v734 v771 v808 v845 arg13 k0_hw73 => k0_hw73.2.2.1
theorem k0_off407_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13) (k0_t139 : Fin (k0_t139_loop v16 v31 v68 v105 v142 v179 v216 v253 v290 v327 v364 v401 v438 v475 v512 v549 v586 v623 v660 v697 v734 v771 v808 v845 arg13).trips), ∀ a, (k0_off407 v16 v31 v68 v105 v142 v179 v216 v253 v290 v327 v364 v401 v438 v475 v512 v549 v586 v623 v660 v697 v734 v771 v808 v845 arg13 k0_t139) a + S1x16.size a ≤ S512x128.size a := fun v16 v31 v68 v105 v142 v179 v216 v253 v290 v327 v364 v401 v438 v475 v512 v549 v586 v623 v660 v697 v734 v771 v808 v845 arg13 k0_hw73 k0_t139 => k0_hw73.2.2.2.1 k0_t139
theorem k0_off408_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13) (k0_t139 : Fin (k0_t139_loop v16 v31 v68 v105 v142 v179 v216 v253 v290 v327 v364 v401 v438 v475 v512 v549 v586 v623 v660 v697 v734 v771 v808 v845 arg13).trips), ∀ a, (k0_off408 v16 v31 v68 v105 v142 v179 v216 v253 v290 v327 v364 v401 v438 v475 v512 v549 v586 v623 v660 v697 v734 v771 v808 v845 arg13 k0_t139) a + S1x16.size a ≤ S512x128.size a := fun v16 v31 v68 v105 v142 v179 v216 v253 v290 v327 v364 v401 v438 v475 v512 v549 v586 v623 v660 v697 v734 v771 v808 v845 arg13 k0_hw73 k0_t139 => k0_hw73.2.2.2.2.1 k0_t139
theorem k0_off409_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13) (k0_t139 : Fin (k0_t139_loop v16 v31 v68 v105 v142 v179 v216 v253 v290 v327 v364 v401 v438 v475 v512 v549 v586 v623 v660 v697 v734 v771 v808 v845 arg13).trips), ∀ a, (k0_off409 v16 v31 v68 v105 v142 v179 v216 v253 v290 v327 v364 v401 v438 v475 v512 v549 v586 v623 v660 v697 v734 v771 v808 v845 arg13 k0_t139) a + S1x16.size a ≤ S512x128.size a := fun v16 v31 v68 v105 v142 v179 v216 v253 v290 v327 v364 v401 v438 v475 v512 v549 v586 v623 v660 v697 v734 v771 v808 v845 arg13 k0_hw73 k0_t139 => k0_hw73.2.2.2.2.2.1 k0_t139
theorem k0_off410_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13) (k0_t139 : Fin (k0_t139_loop v16 v31 v68 v105 v142 v179 v216 v253 v290 v327 v364 v401 v438 v475 v512 v549 v586 v623 v660 v697 v734 v771 v808 v845 arg13).trips), ∀ a, (k0_off410 v16 v31 v68 v105 v142 v179 v216 v253 v290 v327 v364 v401 v438 v475 v512 v549 v586 v623 v660 v697 v734 v771 v808 v845 arg13 k0_t139) a + S1x16.size a ≤ S512x128.size a := fun v16 v31 v68 v105 v142 v179 v216 v253 v290 v327 v364 v401 v438 v475 v512 v549 v586 v623 v660 v697 v734 v771 v808 v845 arg13 k0_hw73 k0_t139 => k0_hw73.2.2.2.2.2.2.1 k0_t139
theorem k0_t140_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13), (k0_t140_loop v16 v31 v68 v105 v142 v179 v216 v253 v290 v327 v364 v401 v438 v475 v512 v549 v586 v623 v660 v697 v734 v771 v808 v845 arg13).OK := fun v16 v31 v68 v105 v142 v179 v216 v253 v290 v327 v364 v401 v438 v475 v512 v549 v586 v623 v660 v697 v734 v771 v808 v845 arg13 k0_hw73 => k0_hw73.2.2.2.2.2.2.2.1
theorem k0_off411_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13) (k0_t140 : Fin (k0_t140_loop v16 v31 v68 v105 v142 v179 v216 v253 v290 v327 v364 v401 v438 v475 v512 v549 v586 v623 v660 v697 v734 v771 v808 v845 arg13).trips), ∀ a, (k0_off411 v16 v31 v68 v105 v142 v179 v216 v253 v290 v327 v364 v401 v438 v475 v512 v549 v586 v623 v660 v697 v734 v771 v808 v845 arg13 k0_t140) a + S1x16.size a ≤ S512x128.size a := fun v16 v31 v68 v105 v142 v179 v216 v253 v290 v327 v364 v401 v438 v475 v512 v549 v586 v623 v660 v697 v734 v771 v808 v845 arg13 k0_hw73 k0_t140 => k0_hw73.2.2.2.2.2.2.2.2.1 k0_t140
theorem k0_off412_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13) (k0_t140 : Fin (k0_t140_loop v16 v31 v68 v105 v142 v179 v216 v253 v290 v327 v364 v401 v438 v475 v512 v549 v586 v623 v660 v697 v734 v771 v808 v845 arg13).trips), ∀ a, (k0_off412 v16 v31 v68 v105 v142 v179 v216 v253 v290 v327 v364 v401 v438 v475 v512 v549 v586 v623 v660 v697 v734 v771 v808 v845 arg13 k0_t140) a + S1x16.size a ≤ S512x128.size a := fun v16 v31 v68 v105 v142 v179 v216 v253 v290 v327 v364 v401 v438 v475 v512 v549 v586 v623 v660 v697 v734 v771 v808 v845 arg13 k0_hw73 k0_t140 => k0_hw73.2.2.2.2.2.2.2.2.2.1 k0_t140
theorem k0_off413_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13) (k0_t140 : Fin (k0_t140_loop v16 v31 v68 v105 v142 v179 v216 v253 v290 v327 v364 v401 v438 v475 v512 v549 v586 v623 v660 v697 v734 v771 v808 v845 arg13).trips), ∀ a, (k0_off413 v16 v31 v68 v105 v142 v179 v216 v253 v290 v327 v364 v401 v438 v475 v512 v549 v586 v623 v660 v697 v734 v771 v808 v845 arg13 k0_t140) a + S1x16.size a ≤ S512x128.size a := fun v16 v31 v68 v105 v142 v179 v216 v253 v290 v327 v364 v401 v438 v475 v512 v549 v586 v623 v660 v697 v734 v771 v808 v845 arg13 k0_hw73 k0_t140 => k0_hw73.2.2.2.2.2.2.2.2.2.2.1 k0_t140
theorem k0_off414_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (arg13 : BitVec 32) (k0_hw73 : k0_chk73 v16 v31 v68 v105 v142 v179 v216 v253 v290 v327 v364 v401 v438 v475 v512 v549 v586 v623 v660 v697 v734 v771 v808 v845 arg13) (k0_t140 : Fin (k0_t140_loop v16 v31 v68 v105 v142 v179 v216 v253 v290 v327 v364 v401 v438 v475 v512 v549 v586 v623 v660 v697 v734 v771 v808 v845 arg13).trips), ∀ a, (k0_off414 v16 v31 v68 v105 v142 v179 v216 v253 v290 v327 v364 v401 v438 v475 v512 v549 v586 v623 v660 v697 v734 v771 v808 v845 arg13 k0_t140) a + S1x16.size a ≤ S512x128.size a := fun v16 v31 v68 v105 v142 v179 v216 v253 v290 v327 v364 v401 v438 v475 v512 v549 v586 v623 v660 v697 v734 v771 v808 v845 arg13 k0_hw73 k0_t140 => k0_hw73.2.2.2.2.2.2.2.2.2.2.2 k0_t140

@[reducible] def k0_t141_loop (v882 : BitVec 32) : Scf.Loop 32 :=
  let c0_i32_347 : BitVec 32 := 0#32
  let c0_i32_340 : BitVec 32 := 0#32
  let v885 : BitVec 1 := Scalar.cmpi .sgt v882 c0_i32_340
  let v886 : BitVec 32 := Scalar.extui v885
  let c0_i32_341 : BitVec 32 := 0#32
  let v887 : BitVec 1 := Scalar.cmpi .slt v882 c0_i32_341
  let v888 : BitVec 32 := Scalar.extui v887
  let v889 : BitVec 32 := Scalar.subi v886 v888
  let c504_i32_339 : BitVec 32 := 504#32
  let c0_i32_342 : BitVec 32 := 0#32
  let v890 : BitVec 1 := Scalar.cmpi .sgt c504_i32_339 c0_i32_342
  let v891 : BitVec 32 := Scalar.extui v890
  let c0_i32_343 : BitVec 32 := 0#32
  let v892 : BitVec 1 := Scalar.cmpi .slt c504_i32_339 c0_i32_343
  let v893 : BitVec 32 := Scalar.extui v892
  let v894 : BitVec 32 := Scalar.subi v891 v893
  let v895 : BitVec 1 := Scalar.cmpi .ne v889 v894
  let v896 : BitVec 32 := Scalar.remsi v882 c504_i32_339
  let c0_i32_344 : BitVec 32 := 0#32
  let v897 : BitVec 1 := Scalar.cmpi .ne v896 c0_i32_344
  let v898 : BitVec 1 := Scalar.andi v895 v897
  let v884 : BitVec 32 := Scalar.divsi v882 c504_i32_339
  let c1_i32_345 : BitVec 32 := 1#32
  let v899 : BitVec 32 := Scalar.subi v884 c1_i32_345
  let v900 : BitVec 32 := Scalar.select v898 v899 v884
  let c1_i32_346 : BitVec 32 := 1#32
  let v901 : BitVec 32 := Scalar.addi v900 c1_i32_346
  let v902 : BitVec 32 := Scalar.subi v901 c0_i32_347
  let c1_i32_348 : BitVec 32 := 1#32
  let v904 : BitVec 32 := Scalar.divsi v902 c1_i32_348
  let v905 : BitVec 32 := Scalar.muli v904 c1_i32_348
  let v906 : BitVec 32 := Scalar.addi c0_i32_347 v905
  let c1_i32_349 : BitVec 32 := 1#32
  ⟨c0_i32_347, v906, c1_i32_349⟩

def k0_mult47 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off415 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r47 : BitVec 32 := 0#32
  ![v1213.toNat, 0]
@[reducible] def k0_t142_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off416 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t142 : Fin (k0_t142_loop v16 v31 v68 v105 v142 v179 v216 v253 v290 v327 v364 v401 v438 v475 v512 v549 v586 v623 v660 v697 v734 v771 v808 v845 v882 arg13).trips) : Fin 2 → Nat :=
  let c1_i32_473 : BitVec 32 := 1#32
  let arg14 : BitVec 32 := Scf.iv arg13 c1_i32_473 k0_t142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off417 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t142 : Fin (k0_t142_loop v16 v31 v68 v105 v142 v179 v216 v253 v290 v327 v364 v401 v438 v475 v512 v549 v586 v623 v660 v697 v734 v771 v808 v845 v882 arg13).trips) : Fin 2 → Nat :=
  let c1_i32_473 : BitVec 32 := 1#32
  let arg14 : BitVec 32 := Scf.iv arg13 c1_i32_473 k0_t142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off418 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t142 : Fin (k0_t142_loop v16 v31 v68 v105 v142 v179 v216 v253 v290 v327 v364 v401 v438 v475 v512 v549 v586 v623 v660 v697 v734 v771 v808 v845 v882 arg13).trips) : Fin 2 → Nat :=
  let c1_i32_473 : BitVec 32 := 1#32
  let arg14 : BitVec 32 := Scf.iv arg13 c1_i32_473 k0_t142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off419 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t142 : Fin (k0_t142_loop v16 v31 v68 v105 v142 v179 v216 v253 v290 v327 v364 v401 v438 v475 v512 v549 v586 v623 v660 v697 v734 v771 v808 v845 v882 arg13).trips) : Fin 2 → Nat :=
  let c1_i32_473 : BitVec 32 := 1#32
  let arg14 : BitVec 32 := Scf.iv arg13 c1_i32_473 k0_t142
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t143_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off420 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t143 : Fin (k0_t143_loop v16 v31 v68 v105 v142 v179 v216 v253 v290 v327 v364 v401 v438 v475 v512 v549 v586 v623 v660 v697 v734 v771 v808 v845 v882 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t143
  let v1224 : BitVec 32 := Scalar.subi arg14 v1213
  let v1225 : Index := Scalar.indexCast v1224
  let c0_475 : Index := 0#32
  ![v1225.toNat, 0]
def k0_off421 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t143 : Fin (k0_t143_loop v16 v31 v68 v105 v142 v179 v216 v253 v290 v327 v364 v401 v438 v475 v512 v549 v586 v623 v660 v697 v734 v771 v808 v845 v882 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t143
  let v1224 : BitVec 32 := Scalar.subi arg14 v1213
  let v1228 : Index := Scalar.indexCast v1224
  let c16_476 : Index := 16#32
  ![v1228.toNat, 16]
def k0_off422 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t143 : Fin (k0_t143_loop v16 v31 v68 v105 v142 v179 v216 v253 v290 v327 v364 v401 v438 v475 v512 v549 v586 v623 v660 v697 v734 v771 v808 v845 v882 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t143
  let v1224 : BitVec 32 := Scalar.subi arg14 v1213
  let v1231 : Index := Scalar.indexCast v1224
  let c32_477 : Index := 32#32
  ![v1231.toNat, 32]
def k0_off423 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t143 : Fin (k0_t143_loop v16 v31 v68 v105 v142 v179 v216 v253 v290 v327 v364 v401 v438 v475 v512 v549 v586 v623 v660 v697 v734 v771 v808 v845 v882 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t143
  let v1224 : BitVec 32 := Scalar.subi arg14 v1213
  let v1234 : Index := Scalar.indexCast v1224
  let c48_478 : Index := 48#32
  ![v1234.toNat, 48]

def k0_chk75 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) : Prop :=
  (8 ∣ (k0_mult47 arg13).toNat) ∧
  (∀ a, (k0_off415 arg13) a + S512x128.size a ≤ S320000x128.size a) ∧
  ((k0_t142_loop v16 v31 v68 v105 v142 v179 v216 v253 v290 v327 v364 v401 v438 v475 v512 v549 v586 v623 v660 v697 v734 v771 v808 v845 v882 arg13).OK) ∧
  (∀ k0_t142 : Fin (k0_t142_loop v16 v31 v68 v105 v142 v179 v216 v253 v290 v327 v364 v401 v438 v475 v512 v549 v586 v623 v660 v697 v734 v771 v808 v845 v882 arg13).trips, ∀ a, (k0_off416 v16 v31 v68 v105 v142 v179 v216 v253 v290 v327 v364 v401 v438 v475 v512 v549 v586 v623 v660 v697 v734 v771 v808 v845 v882 arg13 k0_t142) a + S1x16.size a ≤ S512x128.size a) ∧
  (∀ k0_t142 : Fin (k0_t142_loop v16 v31 v68 v105 v142 v179 v216 v253 v290 v327 v364 v401 v438 v475 v512 v549 v586 v623 v660 v697 v734 v771 v808 v845 v882 arg13).trips, ∀ a, (k0_off417 v16 v31 v68 v105 v142 v179 v216 v253 v290 v327 v364 v401 v438 v475 v512 v549 v586 v623 v660 v697 v734 v771 v808 v845 v882 arg13 k0_t142) a + S1x16.size a ≤ S512x128.size a) ∧
  (∀ k0_t142 : Fin (k0_t142_loop v16 v31 v68 v105 v142 v179 v216 v253 v290 v327 v364 v401 v438 v475 v512 v549 v586 v623 v660 v697 v734 v771 v808 v845 v882 arg13).trips, ∀ a, (k0_off418 v16 v31 v68 v105 v142 v179 v216 v253 v290 v327 v364 v401 v438 v475 v512 v549 v586 v623 v660 v697 v734 v771 v808 v845 v882 arg13 k0_t142) a + S1x16.size a ≤ S512x128.size a) ∧
  (∀ k0_t142 : Fin (k0_t142_loop v16 v31 v68 v105 v142 v179 v216 v253 v290 v327 v364 v401 v438 v475 v512 v549 v586 v623 v660 v697 v734 v771 v808 v845 v882 arg13).trips, ∀ a, (k0_off419 v16 v31 v68 v105 v142 v179 v216 v253 v290 v327 v364 v401 v438 v475 v512 v549 v586 v623 v660 v697 v734 v771 v808 v845 v882 arg13 k0_t142) a + S1x16.size a ≤ S512x128.size a) ∧
  ((k0_t143_loop v16 v31 v68 v105 v142 v179 v216 v253 v290 v327 v364 v401 v438 v475 v512 v549 v586 v623 v660 v697 v734 v771 v808 v845 v882 arg13).OK) ∧
  (∀ k0_t143 : Fin (k0_t143_loop v16 v31 v68 v105 v142 v179 v216 v253 v290 v327 v364 v401 v438 v475 v512 v549 v586 v623 v660 v697 v734 v771 v808 v845 v882 arg13).trips, ∀ a, (k0_off420 v16 v31 v68 v105 v142 v179 v216 v253 v290 v327 v364 v401 v438 v475 v512 v549 v586 v623 v660 v697 v734 v771 v808 v845 v882 arg13 k0_t143) a + S1x16.size a ≤ S512x128.size a) ∧
  (∀ k0_t143 : Fin (k0_t143_loop v16 v31 v68 v105 v142 v179 v216 v253 v290 v327 v364 v401 v438 v475 v512 v549 v586 v623 v660 v697 v734 v771 v808 v845 v882 arg13).trips, ∀ a, (k0_off421 v16 v31 v68 v105 v142 v179 v216 v253 v290 v327 v364 v401 v438 v475 v512 v549 v586 v623 v660 v697 v734 v771 v808 v845 v882 arg13 k0_t143) a + S1x16.size a ≤ S512x128.size a) ∧
  (∀ k0_t143 : Fin (k0_t143_loop v16 v31 v68 v105 v142 v179 v216 v253 v290 v327 v364 v401 v438 v475 v512 v549 v586 v623 v660 v697 v734 v771 v808 v845 v882 arg13).trips, ∀ a, (k0_off422 v16 v31 v68 v105 v142 v179 v216 v253 v290 v327 v364 v401 v438 v475 v512 v549 v586 v623 v660 v697 v734 v771 v808 v845 v882 arg13 k0_t143) a + S1x16.size a ≤ S512x128.size a) ∧
  (∀ k0_t143 : Fin (k0_t143_loop v16 v31 v68 v105 v142 v179 v216 v253 v290 v327 v364 v401 v438 v475 v512 v549 v586 v623 v660 v697 v734 v771 v808 v845 v882 arg13).trips, ∀ a, (k0_off423 v16 v31 v68 v105 v142 v179 v216 v253 v290 v327 v364 v401 v438 v475 v512 v549 v586 v623 v660 v697 v734 v771 v808 v845 v882 arg13 k0_t143) a + S1x16.size a ≤ S512x128.size a)
theorem k0_mult47_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13), 8 ∣ (k0_mult47 arg13).toNat := fun v16 v31 v68 v105 v142 v179 v216 v253 v290 v327 v364 v401 v438 v475 v512 v549 v586 v623 v660 v697 v734 v771 v808 v845 v882 arg13 k0_hw75 => k0_hw75.1
theorem k0_off415_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13), ∀ a, (k0_off415 arg13) a + S512x128.size a ≤ S320000x128.size a := fun v16 v31 v68 v105 v142 v179 v216 v253 v290 v327 v364 v401 v438 v475 v512 v549 v586 v623 v660 v697 v734 v771 v808 v845 v882 arg13 k0_hw75 => k0_hw75.2.1
theorem k0_t142_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13), (k0_t142_loop v16 v31 v68 v105 v142 v179 v216 v253 v290 v327 v364 v401 v438 v475 v512 v549 v586 v623 v660 v697 v734 v771 v808 v845 v882 arg13).OK := fun v16 v31 v68 v105 v142 v179 v216 v253 v290 v327 v364 v401 v438 v475 v512 v549 v586 v623 v660 v697 v734 v771 v808 v845 v882 arg13 k0_hw75 => k0_hw75.2.2.1
theorem k0_off416_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13) (k0_t142 : Fin (k0_t142_loop v16 v31 v68 v105 v142 v179 v216 v253 v290 v327 v364 v401 v438 v475 v512 v549 v586 v623 v660 v697 v734 v771 v808 v845 v882 arg13).trips), ∀ a, (k0_off416 v16 v31 v68 v105 v142 v179 v216 v253 v290 v327 v364 v401 v438 v475 v512 v549 v586 v623 v660 v697 v734 v771 v808 v845 v882 arg13 k0_t142) a + S1x16.size a ≤ S512x128.size a := fun v16 v31 v68 v105 v142 v179 v216 v253 v290 v327 v364 v401 v438 v475 v512 v549 v586 v623 v660 v697 v734 v771 v808 v845 v882 arg13 k0_hw75 k0_t142 => k0_hw75.2.2.2.1 k0_t142
theorem k0_off417_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13) (k0_t142 : Fin (k0_t142_loop v16 v31 v68 v105 v142 v179 v216 v253 v290 v327 v364 v401 v438 v475 v512 v549 v586 v623 v660 v697 v734 v771 v808 v845 v882 arg13).trips), ∀ a, (k0_off417 v16 v31 v68 v105 v142 v179 v216 v253 v290 v327 v364 v401 v438 v475 v512 v549 v586 v623 v660 v697 v734 v771 v808 v845 v882 arg13 k0_t142) a + S1x16.size a ≤ S512x128.size a := fun v16 v31 v68 v105 v142 v179 v216 v253 v290 v327 v364 v401 v438 v475 v512 v549 v586 v623 v660 v697 v734 v771 v808 v845 v882 arg13 k0_hw75 k0_t142 => k0_hw75.2.2.2.2.1 k0_t142
theorem k0_off418_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13) (k0_t142 : Fin (k0_t142_loop v16 v31 v68 v105 v142 v179 v216 v253 v290 v327 v364 v401 v438 v475 v512 v549 v586 v623 v660 v697 v734 v771 v808 v845 v882 arg13).trips), ∀ a, (k0_off418 v16 v31 v68 v105 v142 v179 v216 v253 v290 v327 v364 v401 v438 v475 v512 v549 v586 v623 v660 v697 v734 v771 v808 v845 v882 arg13 k0_t142) a + S1x16.size a ≤ S512x128.size a := fun v16 v31 v68 v105 v142 v179 v216 v253 v290 v327 v364 v401 v438 v475 v512 v549 v586 v623 v660 v697 v734 v771 v808 v845 v882 arg13 k0_hw75 k0_t142 => k0_hw75.2.2.2.2.2.1 k0_t142
theorem k0_off419_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13) (k0_t142 : Fin (k0_t142_loop v16 v31 v68 v105 v142 v179 v216 v253 v290 v327 v364 v401 v438 v475 v512 v549 v586 v623 v660 v697 v734 v771 v808 v845 v882 arg13).trips), ∀ a, (k0_off419 v16 v31 v68 v105 v142 v179 v216 v253 v290 v327 v364 v401 v438 v475 v512 v549 v586 v623 v660 v697 v734 v771 v808 v845 v882 arg13 k0_t142) a + S1x16.size a ≤ S512x128.size a := fun v16 v31 v68 v105 v142 v179 v216 v253 v290 v327 v364 v401 v438 v475 v512 v549 v586 v623 v660 v697 v734 v771 v808 v845 v882 arg13 k0_hw75 k0_t142 => k0_hw75.2.2.2.2.2.2.1 k0_t142
theorem k0_t143_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13), (k0_t143_loop v16 v31 v68 v105 v142 v179 v216 v253 v290 v327 v364 v401 v438 v475 v512 v549 v586 v623 v660 v697 v734 v771 v808 v845 v882 arg13).OK := fun v16 v31 v68 v105 v142 v179 v216 v253 v290 v327 v364 v401 v438 v475 v512 v549 v586 v623 v660 v697 v734 v771 v808 v845 v882 arg13 k0_hw75 => k0_hw75.2.2.2.2.2.2.2.1
theorem k0_off420_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13) (k0_t143 : Fin (k0_t143_loop v16 v31 v68 v105 v142 v179 v216 v253 v290 v327 v364 v401 v438 v475 v512 v549 v586 v623 v660 v697 v734 v771 v808 v845 v882 arg13).trips), ∀ a, (k0_off420 v16 v31 v68 v105 v142 v179 v216 v253 v290 v327 v364 v401 v438 v475 v512 v549 v586 v623 v660 v697 v734 v771 v808 v845 v882 arg13 k0_t143) a + S1x16.size a ≤ S512x128.size a := fun v16 v31 v68 v105 v142 v179 v216 v253 v290 v327 v364 v401 v438 v475 v512 v549 v586 v623 v660 v697 v734 v771 v808 v845 v882 arg13 k0_hw75 k0_t143 => k0_hw75.2.2.2.2.2.2.2.2.1 k0_t143
theorem k0_off421_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13) (k0_t143 : Fin (k0_t143_loop v16 v31 v68 v105 v142 v179 v216 v253 v290 v327 v364 v401 v438 v475 v512 v549 v586 v623 v660 v697 v734 v771 v808 v845 v882 arg13).trips), ∀ a, (k0_off421 v16 v31 v68 v105 v142 v179 v216 v253 v290 v327 v364 v401 v438 v475 v512 v549 v586 v623 v660 v697 v734 v771 v808 v845 v882 arg13 k0_t143) a + S1x16.size a ≤ S512x128.size a := fun v16 v31 v68 v105 v142 v179 v216 v253 v290 v327 v364 v401 v438 v475 v512 v549 v586 v623 v660 v697 v734 v771 v808 v845 v882 arg13 k0_hw75 k0_t143 => k0_hw75.2.2.2.2.2.2.2.2.2.1 k0_t143
theorem k0_off422_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13) (k0_t143 : Fin (k0_t143_loop v16 v31 v68 v105 v142 v179 v216 v253 v290 v327 v364 v401 v438 v475 v512 v549 v586 v623 v660 v697 v734 v771 v808 v845 v882 arg13).trips), ∀ a, (k0_off422 v16 v31 v68 v105 v142 v179 v216 v253 v290 v327 v364 v401 v438 v475 v512 v549 v586 v623 v660 v697 v734 v771 v808 v845 v882 arg13 k0_t143) a + S1x16.size a ≤ S512x128.size a := fun v16 v31 v68 v105 v142 v179 v216 v253 v290 v327 v364 v401 v438 v475 v512 v549 v586 v623 v660 v697 v734 v771 v808 v845 v882 arg13 k0_hw75 k0_t143 => k0_hw75.2.2.2.2.2.2.2.2.2.2.1 k0_t143
theorem k0_off423_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw75 : k0_chk75 v16 v31 v68 v105 v142 v179 v216 v253 v290 v327 v364 v401 v438 v475 v512 v549 v586 v623 v660 v697 v734 v771 v808 v845 v882 arg13) (k0_t143 : Fin (k0_t143_loop v16 v31 v68 v105 v142 v179 v216 v253 v290 v327 v364 v401 v438 v475 v512 v549 v586 v623 v660 v697 v734 v771 v808 v845 v882 arg13).trips), ∀ a, (k0_off423 v16 v31 v68 v105 v142 v179 v216 v253 v290 v327 v364 v401 v438 v475 v512 v549 v586 v623 v660 v697 v734 v771 v808 v845 v882 arg13 k0_t143) a + S1x16.size a ≤ S512x128.size a := fun v16 v31 v68 v105 v142 v179 v216 v253 v290 v327 v364 v401 v438 v475 v512 v549 v586 v623 v660 v697 v734 v771 v808 v845 v882 arg13 k0_hw75 k0_t143 => k0_hw75.2.2.2.2.2.2.2.2.2.2.2 k0_t143

@[reducible] def k0_t144_loop (v882 : BitVec 32) : Scf.Loop 32 :=
  let c0_i32_347 : BitVec 32 := 0#32
  let c0_i32_340 : BitVec 32 := 0#32
  let v885 : BitVec 1 := Scalar.cmpi .sgt v882 c0_i32_340
  let v886 : BitVec 32 := Scalar.extui v885
  let c0_i32_341 : BitVec 32 := 0#32
  let v887 : BitVec 1 := Scalar.cmpi .slt v882 c0_i32_341
  let v888 : BitVec 32 := Scalar.extui v887
  let v889 : BitVec 32 := Scalar.subi v886 v888
  let c504_i32_339 : BitVec 32 := 504#32
  let c0_i32_342 : BitVec 32 := 0#32
  let v890 : BitVec 1 := Scalar.cmpi .sgt c504_i32_339 c0_i32_342
  let v891 : BitVec 32 := Scalar.extui v890
  let c0_i32_343 : BitVec 32 := 0#32
  let v892 : BitVec 1 := Scalar.cmpi .slt c504_i32_339 c0_i32_343
  let v893 : BitVec 32 := Scalar.extui v892
  let v894 : BitVec 32 := Scalar.subi v891 v893
  let v895 : BitVec 1 := Scalar.cmpi .ne v889 v894
  let v896 : BitVec 32 := Scalar.remsi v882 c504_i32_339
  let c0_i32_344 : BitVec 32 := 0#32
  let v897 : BitVec 1 := Scalar.cmpi .ne v896 c0_i32_344
  let v898 : BitVec 1 := Scalar.andi v895 v897
  let v884 : BitVec 32 := Scalar.divsi v882 c504_i32_339
  let c1_i32_345 : BitVec 32 := 1#32
  let v899 : BitVec 32 := Scalar.subi v884 c1_i32_345
  let v900 : BitVec 32 := Scalar.select v898 v899 v884
  let c1_i32_346 : BitVec 32 := 1#32
  let v901 : BitVec 32 := Scalar.addi v900 c1_i32_346
  let v902 : BitVec 32 := Scalar.subi v901 c0_i32_347
  let c1_i32_348 : BitVec 32 := 1#32
  let v904 : BitVec 32 := Scalar.divsi v902 c1_i32_348
  let v905 : BitVec 32 := Scalar.muli v904 c1_i32_348
  let v906 : BitVec 32 := Scalar.addi c0_i32_347 v905
  let v903 : BitVec 32 := Scalar.addi c0_i32_347 v902
  let c1_i32_350 : BitVec 32 := 1#32
  ⟨v906, v903, c1_i32_350⟩

def k0_chk74 (v882 : BitVec 32) : Prop :=
  ((k0_t141_loop v882).OK) ∧
  ((k0_t144_loop v882).OK)
theorem k0_t141_ok : ∀ (v882 : BitVec 32) (k0_hw74 : k0_chk74 v882), (k0_t141_loop v882).OK := fun v882 k0_hw74 => k0_hw74.1
theorem k0_t144_ok : ∀ (v882 : BitVec 32) (k0_hw74 : k0_chk74 v882), (k0_t144_loop v882).OK := fun v882 k0_hw74 => k0_hw74.2

def k0_mult48 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off424 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r48 : BitVec 32 := 0#32
  ![v1213.toNat, 0]
@[reducible] def k0_t145_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off425 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t145 : Fin (k0_t145_loop v16 v31 v68 v105 v142 v179 v216 v253 v290 v327 v364 v401 v438 v475 v512 v549 v586 v623 v660 v697 v734 v771 v808 v845 v882 arg13).trips) : Fin 2 → Nat :=
  let c1_i32_473 : BitVec 32 := 1#32
  let arg14 : BitVec 32 := Scf.iv arg13 c1_i32_473 k0_t145
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off426 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t145 : Fin (k0_t145_loop v16 v31 v68 v105 v142 v179 v216 v253 v290 v327 v364 v401 v438 v475 v512 v549 v586 v623 v660 v697 v734 v771 v808 v845 v882 arg13).trips) : Fin 2 → Nat :=
  let c1_i32_473 : BitVec 32 := 1#32
  let arg14 : BitVec 32 := Scf.iv arg13 c1_i32_473 k0_t145
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off427 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t145 : Fin (k0_t145_loop v16 v31 v68 v105 v142 v179 v216 v253 v290 v327 v364 v401 v438 v475 v512 v549 v586 v623 v660 v697 v734 v771 v808 v845 v882 arg13).trips) : Fin 2 → Nat :=
  let c1_i32_473 : BitVec 32 := 1#32
  let arg14 : BitVec 32 := Scf.iv arg13 c1_i32_473 k0_t145
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off428 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t145 : Fin (k0_t145_loop v16 v31 v68 v105 v142 v179 v216 v253 v290 v327 v364 v401 v438 v475 v512 v549 v586 v623 v660 v697 v734 v771 v808 v845 v882 arg13).trips) : Fin 2 → Nat :=
  let c1_i32_473 : BitVec 32 := 1#32
  let arg14 : BitVec 32 := Scf.iv arg13 c1_i32_473 k0_t145
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t146_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off429 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t146 : Fin (k0_t146_loop v16 v31 v68 v105 v142 v179 v216 v253 v290 v327 v364 v401 v438 v475 v512 v549 v586 v623 v660 v697 v734 v771 v808 v845 v882 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t146
  let v1224 : BitVec 32 := Scalar.subi arg14 v1213
  let v1225 : Index := Scalar.indexCast v1224
  let c0_475 : Index := 0#32
  ![v1225.toNat, 0]
def k0_off430 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t146 : Fin (k0_t146_loop v16 v31 v68 v105 v142 v179 v216 v253 v290 v327 v364 v401 v438 v475 v512 v549 v586 v623 v660 v697 v734 v771 v808 v845 v882 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t146
  let v1224 : BitVec 32 := Scalar.subi arg14 v1213
  let v1228 : Index := Scalar.indexCast v1224
  let c16_476 : Index := 16#32
  ![v1228.toNat, 16]
def k0_off431 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t146 : Fin (k0_t146_loop v16 v31 v68 v105 v142 v179 v216 v253 v290 v327 v364 v401 v438 v475 v512 v549 v586 v623 v660 v697 v734 v771 v808 v845 v882 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t146
  let v1224 : BitVec 32 := Scalar.subi arg14 v1213
  let v1231 : Index := Scalar.indexCast v1224
  let c32_477 : Index := 32#32
  ![v1231.toNat, 32]
def k0_off432 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_t146 : Fin (k0_t146_loop v16 v31 v68 v105 v142 v179 v216 v253 v290 v327 v364 v401 v438 v475 v512 v549 v586 v623 v660 v697 v734 v771 v808 v845 v882 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v883 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t146
  let v1224 : BitVec 32 := Scalar.subi arg14 v1213
  let v1234 : Index := Scalar.indexCast v1224
  let c48_478 : Index := 48#32
  ![v1234.toNat, 48]

def k0_chk76 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) : Prop :=
  (8 ∣ (k0_mult48 arg13).toNat) ∧
  (∀ a, (k0_off424 arg13) a + S512x128.size a ≤ S320000x128.size a) ∧
  ((k0_t145_loop v16 v31 v68 v105 v142 v179 v216 v253 v290 v327 v364 v401 v438 v475 v512 v549 v586 v623 v660 v697 v734 v771 v808 v845 v882 arg13).OK) ∧
  (∀ k0_t145 : Fin (k0_t145_loop v16 v31 v68 v105 v142 v179 v216 v253 v290 v327 v364 v401 v438 v475 v512 v549 v586 v623 v660 v697 v734 v771 v808 v845 v882 arg13).trips, ∀ a, (k0_off425 v16 v31 v68 v105 v142 v179 v216 v253 v290 v327 v364 v401 v438 v475 v512 v549 v586 v623 v660 v697 v734 v771 v808 v845 v882 arg13 k0_t145) a + S1x16.size a ≤ S512x128.size a) ∧
  (∀ k0_t145 : Fin (k0_t145_loop v16 v31 v68 v105 v142 v179 v216 v253 v290 v327 v364 v401 v438 v475 v512 v549 v586 v623 v660 v697 v734 v771 v808 v845 v882 arg13).trips, ∀ a, (k0_off426 v16 v31 v68 v105 v142 v179 v216 v253 v290 v327 v364 v401 v438 v475 v512 v549 v586 v623 v660 v697 v734 v771 v808 v845 v882 arg13 k0_t145) a + S1x16.size a ≤ S512x128.size a) ∧
  (∀ k0_t145 : Fin (k0_t145_loop v16 v31 v68 v105 v142 v179 v216 v253 v290 v327 v364 v401 v438 v475 v512 v549 v586 v623 v660 v697 v734 v771 v808 v845 v882 arg13).trips, ∀ a, (k0_off427 v16 v31 v68 v105 v142 v179 v216 v253 v290 v327 v364 v401 v438 v475 v512 v549 v586 v623 v660 v697 v734 v771 v808 v845 v882 arg13 k0_t145) a + S1x16.size a ≤ S512x128.size a) ∧
  (∀ k0_t145 : Fin (k0_t145_loop v16 v31 v68 v105 v142 v179 v216 v253 v290 v327 v364 v401 v438 v475 v512 v549 v586 v623 v660 v697 v734 v771 v808 v845 v882 arg13).trips, ∀ a, (k0_off428 v16 v31 v68 v105 v142 v179 v216 v253 v290 v327 v364 v401 v438 v475 v512 v549 v586 v623 v660 v697 v734 v771 v808 v845 v882 arg13 k0_t145) a + S1x16.size a ≤ S512x128.size a) ∧
  ((k0_t146_loop v16 v31 v68 v105 v142 v179 v216 v253 v290 v327 v364 v401 v438 v475 v512 v549 v586 v623 v660 v697 v734 v771 v808 v845 v882 arg13).OK) ∧
  (∀ k0_t146 : Fin (k0_t146_loop v16 v31 v68 v105 v142 v179 v216 v253 v290 v327 v364 v401 v438 v475 v512 v549 v586 v623 v660 v697 v734 v771 v808 v845 v882 arg13).trips, ∀ a, (k0_off429 v16 v31 v68 v105 v142 v179 v216 v253 v290 v327 v364 v401 v438 v475 v512 v549 v586 v623 v660 v697 v734 v771 v808 v845 v882 arg13 k0_t146) a + S1x16.size a ≤ S512x128.size a) ∧
  (∀ k0_t146 : Fin (k0_t146_loop v16 v31 v68 v105 v142 v179 v216 v253 v290 v327 v364 v401 v438 v475 v512 v549 v586 v623 v660 v697 v734 v771 v808 v845 v882 arg13).trips, ∀ a, (k0_off430 v16 v31 v68 v105 v142 v179 v216 v253 v290 v327 v364 v401 v438 v475 v512 v549 v586 v623 v660 v697 v734 v771 v808 v845 v882 arg13 k0_t146) a + S1x16.size a ≤ S512x128.size a) ∧
  (∀ k0_t146 : Fin (k0_t146_loop v16 v31 v68 v105 v142 v179 v216 v253 v290 v327 v364 v401 v438 v475 v512 v549 v586 v623 v660 v697 v734 v771 v808 v845 v882 arg13).trips, ∀ a, (k0_off431 v16 v31 v68 v105 v142 v179 v216 v253 v290 v327 v364 v401 v438 v475 v512 v549 v586 v623 v660 v697 v734 v771 v808 v845 v882 arg13 k0_t146) a + S1x16.size a ≤ S512x128.size a) ∧
  (∀ k0_t146 : Fin (k0_t146_loop v16 v31 v68 v105 v142 v179 v216 v253 v290 v327 v364 v401 v438 v475 v512 v549 v586 v623 v660 v697 v734 v771 v808 v845 v882 arg13).trips, ∀ a, (k0_off432 v16 v31 v68 v105 v142 v179 v216 v253 v290 v327 v364 v401 v438 v475 v512 v549 v586 v623 v660 v697 v734 v771 v808 v845 v882 arg13 k0_t146) a + S1x16.size a ≤ S512x128.size a)
theorem k0_mult48_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13), 8 ∣ (k0_mult48 arg13).toNat := fun v16 v31 v68 v105 v142 v179 v216 v253 v290 v327 v364 v401 v438 v475 v512 v549 v586 v623 v660 v697 v734 v771 v808 v845 v882 arg13 k0_hw76 => k0_hw76.1
theorem k0_off424_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13), ∀ a, (k0_off424 arg13) a + S512x128.size a ≤ S320000x128.size a := fun v16 v31 v68 v105 v142 v179 v216 v253 v290 v327 v364 v401 v438 v475 v512 v549 v586 v623 v660 v697 v734 v771 v808 v845 v882 arg13 k0_hw76 => k0_hw76.2.1
theorem k0_t145_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13), (k0_t145_loop v16 v31 v68 v105 v142 v179 v216 v253 v290 v327 v364 v401 v438 v475 v512 v549 v586 v623 v660 v697 v734 v771 v808 v845 v882 arg13).OK := fun v16 v31 v68 v105 v142 v179 v216 v253 v290 v327 v364 v401 v438 v475 v512 v549 v586 v623 v660 v697 v734 v771 v808 v845 v882 arg13 k0_hw76 => k0_hw76.2.2.1
theorem k0_off425_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13) (k0_t145 : Fin (k0_t145_loop v16 v31 v68 v105 v142 v179 v216 v253 v290 v327 v364 v401 v438 v475 v512 v549 v586 v623 v660 v697 v734 v771 v808 v845 v882 arg13).trips), ∀ a, (k0_off425 v16 v31 v68 v105 v142 v179 v216 v253 v290 v327 v364 v401 v438 v475 v512 v549 v586 v623 v660 v697 v734 v771 v808 v845 v882 arg13 k0_t145) a + S1x16.size a ≤ S512x128.size a := fun v16 v31 v68 v105 v142 v179 v216 v253 v290 v327 v364 v401 v438 v475 v512 v549 v586 v623 v660 v697 v734 v771 v808 v845 v882 arg13 k0_hw76 k0_t145 => k0_hw76.2.2.2.1 k0_t145
theorem k0_off426_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13) (k0_t145 : Fin (k0_t145_loop v16 v31 v68 v105 v142 v179 v216 v253 v290 v327 v364 v401 v438 v475 v512 v549 v586 v623 v660 v697 v734 v771 v808 v845 v882 arg13).trips), ∀ a, (k0_off426 v16 v31 v68 v105 v142 v179 v216 v253 v290 v327 v364 v401 v438 v475 v512 v549 v586 v623 v660 v697 v734 v771 v808 v845 v882 arg13 k0_t145) a + S1x16.size a ≤ S512x128.size a := fun v16 v31 v68 v105 v142 v179 v216 v253 v290 v327 v364 v401 v438 v475 v512 v549 v586 v623 v660 v697 v734 v771 v808 v845 v882 arg13 k0_hw76 k0_t145 => k0_hw76.2.2.2.2.1 k0_t145
theorem k0_off427_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13) (k0_t145 : Fin (k0_t145_loop v16 v31 v68 v105 v142 v179 v216 v253 v290 v327 v364 v401 v438 v475 v512 v549 v586 v623 v660 v697 v734 v771 v808 v845 v882 arg13).trips), ∀ a, (k0_off427 v16 v31 v68 v105 v142 v179 v216 v253 v290 v327 v364 v401 v438 v475 v512 v549 v586 v623 v660 v697 v734 v771 v808 v845 v882 arg13 k0_t145) a + S1x16.size a ≤ S512x128.size a := fun v16 v31 v68 v105 v142 v179 v216 v253 v290 v327 v364 v401 v438 v475 v512 v549 v586 v623 v660 v697 v734 v771 v808 v845 v882 arg13 k0_hw76 k0_t145 => k0_hw76.2.2.2.2.2.1 k0_t145
theorem k0_off428_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13) (k0_t145 : Fin (k0_t145_loop v16 v31 v68 v105 v142 v179 v216 v253 v290 v327 v364 v401 v438 v475 v512 v549 v586 v623 v660 v697 v734 v771 v808 v845 v882 arg13).trips), ∀ a, (k0_off428 v16 v31 v68 v105 v142 v179 v216 v253 v290 v327 v364 v401 v438 v475 v512 v549 v586 v623 v660 v697 v734 v771 v808 v845 v882 arg13 k0_t145) a + S1x16.size a ≤ S512x128.size a := fun v16 v31 v68 v105 v142 v179 v216 v253 v290 v327 v364 v401 v438 v475 v512 v549 v586 v623 v660 v697 v734 v771 v808 v845 v882 arg13 k0_hw76 k0_t145 => k0_hw76.2.2.2.2.2.2.1 k0_t145
theorem k0_t146_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13), (k0_t146_loop v16 v31 v68 v105 v142 v179 v216 v253 v290 v327 v364 v401 v438 v475 v512 v549 v586 v623 v660 v697 v734 v771 v808 v845 v882 arg13).OK := fun v16 v31 v68 v105 v142 v179 v216 v253 v290 v327 v364 v401 v438 v475 v512 v549 v586 v623 v660 v697 v734 v771 v808 v845 v882 arg13 k0_hw76 => k0_hw76.2.2.2.2.2.2.2.1
theorem k0_off429_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13) (k0_t146 : Fin (k0_t146_loop v16 v31 v68 v105 v142 v179 v216 v253 v290 v327 v364 v401 v438 v475 v512 v549 v586 v623 v660 v697 v734 v771 v808 v845 v882 arg13).trips), ∀ a, (k0_off429 v16 v31 v68 v105 v142 v179 v216 v253 v290 v327 v364 v401 v438 v475 v512 v549 v586 v623 v660 v697 v734 v771 v808 v845 v882 arg13 k0_t146) a + S1x16.size a ≤ S512x128.size a := fun v16 v31 v68 v105 v142 v179 v216 v253 v290 v327 v364 v401 v438 v475 v512 v549 v586 v623 v660 v697 v734 v771 v808 v845 v882 arg13 k0_hw76 k0_t146 => k0_hw76.2.2.2.2.2.2.2.2.1 k0_t146
theorem k0_off430_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13) (k0_t146 : Fin (k0_t146_loop v16 v31 v68 v105 v142 v179 v216 v253 v290 v327 v364 v401 v438 v475 v512 v549 v586 v623 v660 v697 v734 v771 v808 v845 v882 arg13).trips), ∀ a, (k0_off430 v16 v31 v68 v105 v142 v179 v216 v253 v290 v327 v364 v401 v438 v475 v512 v549 v586 v623 v660 v697 v734 v771 v808 v845 v882 arg13 k0_t146) a + S1x16.size a ≤ S512x128.size a := fun v16 v31 v68 v105 v142 v179 v216 v253 v290 v327 v364 v401 v438 v475 v512 v549 v586 v623 v660 v697 v734 v771 v808 v845 v882 arg13 k0_hw76 k0_t146 => k0_hw76.2.2.2.2.2.2.2.2.2.1 k0_t146
theorem k0_off431_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13) (k0_t146 : Fin (k0_t146_loop v16 v31 v68 v105 v142 v179 v216 v253 v290 v327 v364 v401 v438 v475 v512 v549 v586 v623 v660 v697 v734 v771 v808 v845 v882 arg13).trips), ∀ a, (k0_off431 v16 v31 v68 v105 v142 v179 v216 v253 v290 v327 v364 v401 v438 v475 v512 v549 v586 v623 v660 v697 v734 v771 v808 v845 v882 arg13 k0_t146) a + S1x16.size a ≤ S512x128.size a := fun v16 v31 v68 v105 v142 v179 v216 v253 v290 v327 v364 v401 v438 v475 v512 v549 v586 v623 v660 v697 v734 v771 v808 v845 v882 arg13 k0_hw76 k0_t146 => k0_hw76.2.2.2.2.2.2.2.2.2.2.1 k0_t146
theorem k0_off432_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (arg13 : BitVec 32) (k0_hw76 : k0_chk76 v16 v31 v68 v105 v142 v179 v216 v253 v290 v327 v364 v401 v438 v475 v512 v549 v586 v623 v660 v697 v734 v771 v808 v845 v882 arg13) (k0_t146 : Fin (k0_t146_loop v16 v31 v68 v105 v142 v179 v216 v253 v290 v327 v364 v401 v438 v475 v512 v549 v586 v623 v660 v697 v734 v771 v808 v845 v882 arg13).trips), ∀ a, (k0_off432 v16 v31 v68 v105 v142 v179 v216 v253 v290 v327 v364 v401 v438 v475 v512 v549 v586 v623 v660 v697 v734 v771 v808 v845 v882 arg13 k0_t146) a + S1x16.size a ≤ S512x128.size a := fun v16 v31 v68 v105 v142 v179 v216 v253 v290 v327 v364 v401 v438 v475 v512 v549 v586 v623 v660 v697 v734 v771 v808 v845 v882 arg13 k0_hw76 k0_t146 => k0_hw76.2.2.2.2.2.2.2.2.2.2.2 k0_t146

@[reducible] def k0_t147_loop (v919 : BitVec 32) : Scf.Loop 32 :=
  let c0_i32_362 : BitVec 32 := 0#32
  let c0_i32_355 : BitVec 32 := 0#32
  let v922 : BitVec 1 := Scalar.cmpi .sgt v919 c0_i32_355
  let v923 : BitVec 32 := Scalar.extui v922
  let c0_i32_356 : BitVec 32 := 0#32
  let v924 : BitVec 1 := Scalar.cmpi .slt v919 c0_i32_356
  let v925 : BitVec 32 := Scalar.extui v924
  let v926 : BitVec 32 := Scalar.subi v923 v925
  let c504_i32_354 : BitVec 32 := 504#32
  let c0_i32_357 : BitVec 32 := 0#32
  let v927 : BitVec 1 := Scalar.cmpi .sgt c504_i32_354 c0_i32_357
  let v928 : BitVec 32 := Scalar.extui v927
  let c0_i32_358 : BitVec 32 := 0#32
  let v929 : BitVec 1 := Scalar.cmpi .slt c504_i32_354 c0_i32_358
  let v930 : BitVec 32 := Scalar.extui v929
  let v931 : BitVec 32 := Scalar.subi v928 v930
  let v932 : BitVec 1 := Scalar.cmpi .ne v926 v931
  let v933 : BitVec 32 := Scalar.remsi v919 c504_i32_354
  let c0_i32_359 : BitVec 32 := 0#32
  let v934 : BitVec 1 := Scalar.cmpi .ne v933 c0_i32_359
  let v935 : BitVec 1 := Scalar.andi v932 v934
  let v921 : BitVec 32 := Scalar.divsi v919 c504_i32_354
  let c1_i32_360 : BitVec 32 := 1#32
  let v936 : BitVec 32 := Scalar.subi v921 c1_i32_360
  let v937 : BitVec 32 := Scalar.select v935 v936 v921
  let c1_i32_361 : BitVec 32 := 1#32
  let v938 : BitVec 32 := Scalar.addi v937 c1_i32_361
  let v939 : BitVec 32 := Scalar.subi v938 c0_i32_362
  let c1_i32_363 : BitVec 32 := 1#32
  let v941 : BitVec 32 := Scalar.divsi v939 c1_i32_363
  let v942 : BitVec 32 := Scalar.muli v941 c1_i32_363
  let v943 : BitVec 32 := Scalar.addi c0_i32_362 v942
  let c1_i32_364 : BitVec 32 := 1#32
  ⟨c0_i32_362, v943, c1_i32_364⟩

def k0_mult49 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off433 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r49 : BitVec 32 := 0#32
  ![v1213.toNat, 0]
@[reducible] def k0_t148_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off434 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t148 : Fin (k0_t148_loop v16 v31 v68 v105 v142 v179 v216 v253 v290 v327 v364 v401 v438 v475 v512 v549 v586 v623 v660 v697 v734 v771 v808 v845 v882 v919 arg13).trips) : Fin 2 → Nat :=
  let c1_i32_473 : BitVec 32 := 1#32
  let arg14 : BitVec 32 := Scf.iv arg13 c1_i32_473 k0_t148
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off435 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t148 : Fin (k0_t148_loop v16 v31 v68 v105 v142 v179 v216 v253 v290 v327 v364 v401 v438 v475 v512 v549 v586 v623 v660 v697 v734 v771 v808 v845 v882 v919 arg13).trips) : Fin 2 → Nat :=
  let c1_i32_473 : BitVec 32 := 1#32
  let arg14 : BitVec 32 := Scf.iv arg13 c1_i32_473 k0_t148
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off436 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t148 : Fin (k0_t148_loop v16 v31 v68 v105 v142 v179 v216 v253 v290 v327 v364 v401 v438 v475 v512 v549 v586 v623 v660 v697 v734 v771 v808 v845 v882 v919 arg13).trips) : Fin 2 → Nat :=
  let c1_i32_473 : BitVec 32 := 1#32
  let arg14 : BitVec 32 := Scf.iv arg13 c1_i32_473 k0_t148
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off437 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t148 : Fin (k0_t148_loop v16 v31 v68 v105 v142 v179 v216 v253 v290 v327 v364 v401 v438 v475 v512 v549 v586 v623 v660 v697 v734 v771 v808 v845 v882 v919 arg13).trips) : Fin 2 → Nat :=
  let c1_i32_473 : BitVec 32 := 1#32
  let arg14 : BitVec 32 := Scf.iv arg13 c1_i32_473 k0_t148
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t149_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off438 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t149 : Fin (k0_t149_loop v16 v31 v68 v105 v142 v179 v216 v253 v290 v327 v364 v401 v438 v475 v512 v549 v586 v623 v660 v697 v734 v771 v808 v845 v882 v919 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t149
  let v1224 : BitVec 32 := Scalar.subi arg14 v1213
  let v1225 : Index := Scalar.indexCast v1224
  let c0_475 : Index := 0#32
  ![v1225.toNat, 0]
def k0_off439 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t149 : Fin (k0_t149_loop v16 v31 v68 v105 v142 v179 v216 v253 v290 v327 v364 v401 v438 v475 v512 v549 v586 v623 v660 v697 v734 v771 v808 v845 v882 v919 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t149
  let v1224 : BitVec 32 := Scalar.subi arg14 v1213
  let v1228 : Index := Scalar.indexCast v1224
  let c16_476 : Index := 16#32
  ![v1228.toNat, 16]
def k0_off440 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t149 : Fin (k0_t149_loop v16 v31 v68 v105 v142 v179 v216 v253 v290 v327 v364 v401 v438 v475 v512 v549 v586 v623 v660 v697 v734 v771 v808 v845 v882 v919 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t149
  let v1224 : BitVec 32 := Scalar.subi arg14 v1213
  let v1231 : Index := Scalar.indexCast v1224
  let c32_477 : Index := 32#32
  ![v1231.toNat, 32]
def k0_off441 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t149 : Fin (k0_t149_loop v16 v31 v68 v105 v142 v179 v216 v253 v290 v327 v364 v401 v438 v475 v512 v549 v586 v623 v660 v697 v734 v771 v808 v845 v882 v919 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t149
  let v1224 : BitVec 32 := Scalar.subi arg14 v1213
  let v1234 : Index := Scalar.indexCast v1224
  let c48_478 : Index := 48#32
  ![v1234.toNat, 48]

def k0_chk78 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) : Prop :=
  (8 ∣ (k0_mult49 arg13).toNat) ∧
  (∀ a, (k0_off433 arg13) a + S512x128.size a ≤ S320000x128.size a) ∧
  ((k0_t148_loop v16 v31 v68 v105 v142 v179 v216 v253 v290 v327 v364 v401 v438 v475 v512 v549 v586 v623 v660 v697 v734 v771 v808 v845 v882 v919 arg13).OK) ∧
  (∀ k0_t148 : Fin (k0_t148_loop v16 v31 v68 v105 v142 v179 v216 v253 v290 v327 v364 v401 v438 v475 v512 v549 v586 v623 v660 v697 v734 v771 v808 v845 v882 v919 arg13).trips, ∀ a, (k0_off434 v16 v31 v68 v105 v142 v179 v216 v253 v290 v327 v364 v401 v438 v475 v512 v549 v586 v623 v660 v697 v734 v771 v808 v845 v882 v919 arg13 k0_t148) a + S1x16.size a ≤ S512x128.size a) ∧
  (∀ k0_t148 : Fin (k0_t148_loop v16 v31 v68 v105 v142 v179 v216 v253 v290 v327 v364 v401 v438 v475 v512 v549 v586 v623 v660 v697 v734 v771 v808 v845 v882 v919 arg13).trips, ∀ a, (k0_off435 v16 v31 v68 v105 v142 v179 v216 v253 v290 v327 v364 v401 v438 v475 v512 v549 v586 v623 v660 v697 v734 v771 v808 v845 v882 v919 arg13 k0_t148) a + S1x16.size a ≤ S512x128.size a) ∧
  (∀ k0_t148 : Fin (k0_t148_loop v16 v31 v68 v105 v142 v179 v216 v253 v290 v327 v364 v401 v438 v475 v512 v549 v586 v623 v660 v697 v734 v771 v808 v845 v882 v919 arg13).trips, ∀ a, (k0_off436 v16 v31 v68 v105 v142 v179 v216 v253 v290 v327 v364 v401 v438 v475 v512 v549 v586 v623 v660 v697 v734 v771 v808 v845 v882 v919 arg13 k0_t148) a + S1x16.size a ≤ S512x128.size a) ∧
  (∀ k0_t148 : Fin (k0_t148_loop v16 v31 v68 v105 v142 v179 v216 v253 v290 v327 v364 v401 v438 v475 v512 v549 v586 v623 v660 v697 v734 v771 v808 v845 v882 v919 arg13).trips, ∀ a, (k0_off437 v16 v31 v68 v105 v142 v179 v216 v253 v290 v327 v364 v401 v438 v475 v512 v549 v586 v623 v660 v697 v734 v771 v808 v845 v882 v919 arg13 k0_t148) a + S1x16.size a ≤ S512x128.size a) ∧
  ((k0_t149_loop v16 v31 v68 v105 v142 v179 v216 v253 v290 v327 v364 v401 v438 v475 v512 v549 v586 v623 v660 v697 v734 v771 v808 v845 v882 v919 arg13).OK) ∧
  (∀ k0_t149 : Fin (k0_t149_loop v16 v31 v68 v105 v142 v179 v216 v253 v290 v327 v364 v401 v438 v475 v512 v549 v586 v623 v660 v697 v734 v771 v808 v845 v882 v919 arg13).trips, ∀ a, (k0_off438 v16 v31 v68 v105 v142 v179 v216 v253 v290 v327 v364 v401 v438 v475 v512 v549 v586 v623 v660 v697 v734 v771 v808 v845 v882 v919 arg13 k0_t149) a + S1x16.size a ≤ S512x128.size a) ∧
  (∀ k0_t149 : Fin (k0_t149_loop v16 v31 v68 v105 v142 v179 v216 v253 v290 v327 v364 v401 v438 v475 v512 v549 v586 v623 v660 v697 v734 v771 v808 v845 v882 v919 arg13).trips, ∀ a, (k0_off439 v16 v31 v68 v105 v142 v179 v216 v253 v290 v327 v364 v401 v438 v475 v512 v549 v586 v623 v660 v697 v734 v771 v808 v845 v882 v919 arg13 k0_t149) a + S1x16.size a ≤ S512x128.size a) ∧
  (∀ k0_t149 : Fin (k0_t149_loop v16 v31 v68 v105 v142 v179 v216 v253 v290 v327 v364 v401 v438 v475 v512 v549 v586 v623 v660 v697 v734 v771 v808 v845 v882 v919 arg13).trips, ∀ a, (k0_off440 v16 v31 v68 v105 v142 v179 v216 v253 v290 v327 v364 v401 v438 v475 v512 v549 v586 v623 v660 v697 v734 v771 v808 v845 v882 v919 arg13 k0_t149) a + S1x16.size a ≤ S512x128.size a) ∧
  (∀ k0_t149 : Fin (k0_t149_loop v16 v31 v68 v105 v142 v179 v216 v253 v290 v327 v364 v401 v438 v475 v512 v549 v586 v623 v660 v697 v734 v771 v808 v845 v882 v919 arg13).trips, ∀ a, (k0_off441 v16 v31 v68 v105 v142 v179 v216 v253 v290 v327 v364 v401 v438 v475 v512 v549 v586 v623 v660 v697 v734 v771 v808 v845 v882 v919 arg13 k0_t149) a + S1x16.size a ≤ S512x128.size a)
theorem k0_mult49_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13), 8 ∣ (k0_mult49 arg13).toNat := fun v16 v31 v68 v105 v142 v179 v216 v253 v290 v327 v364 v401 v438 v475 v512 v549 v586 v623 v660 v697 v734 v771 v808 v845 v882 v919 arg13 k0_hw78 => k0_hw78.1
theorem k0_off433_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13), ∀ a, (k0_off433 arg13) a + S512x128.size a ≤ S320000x128.size a := fun v16 v31 v68 v105 v142 v179 v216 v253 v290 v327 v364 v401 v438 v475 v512 v549 v586 v623 v660 v697 v734 v771 v808 v845 v882 v919 arg13 k0_hw78 => k0_hw78.2.1
theorem k0_t148_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13), (k0_t148_loop v16 v31 v68 v105 v142 v179 v216 v253 v290 v327 v364 v401 v438 v475 v512 v549 v586 v623 v660 v697 v734 v771 v808 v845 v882 v919 arg13).OK := fun v16 v31 v68 v105 v142 v179 v216 v253 v290 v327 v364 v401 v438 v475 v512 v549 v586 v623 v660 v697 v734 v771 v808 v845 v882 v919 arg13 k0_hw78 => k0_hw78.2.2.1
theorem k0_off434_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13) (k0_t148 : Fin (k0_t148_loop v16 v31 v68 v105 v142 v179 v216 v253 v290 v327 v364 v401 v438 v475 v512 v549 v586 v623 v660 v697 v734 v771 v808 v845 v882 v919 arg13).trips), ∀ a, (k0_off434 v16 v31 v68 v105 v142 v179 v216 v253 v290 v327 v364 v401 v438 v475 v512 v549 v586 v623 v660 v697 v734 v771 v808 v845 v882 v919 arg13 k0_t148) a + S1x16.size a ≤ S512x128.size a := fun v16 v31 v68 v105 v142 v179 v216 v253 v290 v327 v364 v401 v438 v475 v512 v549 v586 v623 v660 v697 v734 v771 v808 v845 v882 v919 arg13 k0_hw78 k0_t148 => k0_hw78.2.2.2.1 k0_t148
theorem k0_off435_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13) (k0_t148 : Fin (k0_t148_loop v16 v31 v68 v105 v142 v179 v216 v253 v290 v327 v364 v401 v438 v475 v512 v549 v586 v623 v660 v697 v734 v771 v808 v845 v882 v919 arg13).trips), ∀ a, (k0_off435 v16 v31 v68 v105 v142 v179 v216 v253 v290 v327 v364 v401 v438 v475 v512 v549 v586 v623 v660 v697 v734 v771 v808 v845 v882 v919 arg13 k0_t148) a + S1x16.size a ≤ S512x128.size a := fun v16 v31 v68 v105 v142 v179 v216 v253 v290 v327 v364 v401 v438 v475 v512 v549 v586 v623 v660 v697 v734 v771 v808 v845 v882 v919 arg13 k0_hw78 k0_t148 => k0_hw78.2.2.2.2.1 k0_t148
theorem k0_off436_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13) (k0_t148 : Fin (k0_t148_loop v16 v31 v68 v105 v142 v179 v216 v253 v290 v327 v364 v401 v438 v475 v512 v549 v586 v623 v660 v697 v734 v771 v808 v845 v882 v919 arg13).trips), ∀ a, (k0_off436 v16 v31 v68 v105 v142 v179 v216 v253 v290 v327 v364 v401 v438 v475 v512 v549 v586 v623 v660 v697 v734 v771 v808 v845 v882 v919 arg13 k0_t148) a + S1x16.size a ≤ S512x128.size a := fun v16 v31 v68 v105 v142 v179 v216 v253 v290 v327 v364 v401 v438 v475 v512 v549 v586 v623 v660 v697 v734 v771 v808 v845 v882 v919 arg13 k0_hw78 k0_t148 => k0_hw78.2.2.2.2.2.1 k0_t148
theorem k0_off437_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13) (k0_t148 : Fin (k0_t148_loop v16 v31 v68 v105 v142 v179 v216 v253 v290 v327 v364 v401 v438 v475 v512 v549 v586 v623 v660 v697 v734 v771 v808 v845 v882 v919 arg13).trips), ∀ a, (k0_off437 v16 v31 v68 v105 v142 v179 v216 v253 v290 v327 v364 v401 v438 v475 v512 v549 v586 v623 v660 v697 v734 v771 v808 v845 v882 v919 arg13 k0_t148) a + S1x16.size a ≤ S512x128.size a := fun v16 v31 v68 v105 v142 v179 v216 v253 v290 v327 v364 v401 v438 v475 v512 v549 v586 v623 v660 v697 v734 v771 v808 v845 v882 v919 arg13 k0_hw78 k0_t148 => k0_hw78.2.2.2.2.2.2.1 k0_t148
theorem k0_t149_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13), (k0_t149_loop v16 v31 v68 v105 v142 v179 v216 v253 v290 v327 v364 v401 v438 v475 v512 v549 v586 v623 v660 v697 v734 v771 v808 v845 v882 v919 arg13).OK := fun v16 v31 v68 v105 v142 v179 v216 v253 v290 v327 v364 v401 v438 v475 v512 v549 v586 v623 v660 v697 v734 v771 v808 v845 v882 v919 arg13 k0_hw78 => k0_hw78.2.2.2.2.2.2.2.1
theorem k0_off438_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13) (k0_t149 : Fin (k0_t149_loop v16 v31 v68 v105 v142 v179 v216 v253 v290 v327 v364 v401 v438 v475 v512 v549 v586 v623 v660 v697 v734 v771 v808 v845 v882 v919 arg13).trips), ∀ a, (k0_off438 v16 v31 v68 v105 v142 v179 v216 v253 v290 v327 v364 v401 v438 v475 v512 v549 v586 v623 v660 v697 v734 v771 v808 v845 v882 v919 arg13 k0_t149) a + S1x16.size a ≤ S512x128.size a := fun v16 v31 v68 v105 v142 v179 v216 v253 v290 v327 v364 v401 v438 v475 v512 v549 v586 v623 v660 v697 v734 v771 v808 v845 v882 v919 arg13 k0_hw78 k0_t149 => k0_hw78.2.2.2.2.2.2.2.2.1 k0_t149
theorem k0_off439_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13) (k0_t149 : Fin (k0_t149_loop v16 v31 v68 v105 v142 v179 v216 v253 v290 v327 v364 v401 v438 v475 v512 v549 v586 v623 v660 v697 v734 v771 v808 v845 v882 v919 arg13).trips), ∀ a, (k0_off439 v16 v31 v68 v105 v142 v179 v216 v253 v290 v327 v364 v401 v438 v475 v512 v549 v586 v623 v660 v697 v734 v771 v808 v845 v882 v919 arg13 k0_t149) a + S1x16.size a ≤ S512x128.size a := fun v16 v31 v68 v105 v142 v179 v216 v253 v290 v327 v364 v401 v438 v475 v512 v549 v586 v623 v660 v697 v734 v771 v808 v845 v882 v919 arg13 k0_hw78 k0_t149 => k0_hw78.2.2.2.2.2.2.2.2.2.1 k0_t149
theorem k0_off440_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13) (k0_t149 : Fin (k0_t149_loop v16 v31 v68 v105 v142 v179 v216 v253 v290 v327 v364 v401 v438 v475 v512 v549 v586 v623 v660 v697 v734 v771 v808 v845 v882 v919 arg13).trips), ∀ a, (k0_off440 v16 v31 v68 v105 v142 v179 v216 v253 v290 v327 v364 v401 v438 v475 v512 v549 v586 v623 v660 v697 v734 v771 v808 v845 v882 v919 arg13 k0_t149) a + S1x16.size a ≤ S512x128.size a := fun v16 v31 v68 v105 v142 v179 v216 v253 v290 v327 v364 v401 v438 v475 v512 v549 v586 v623 v660 v697 v734 v771 v808 v845 v882 v919 arg13 k0_hw78 k0_t149 => k0_hw78.2.2.2.2.2.2.2.2.2.2.1 k0_t149
theorem k0_off441_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw78 : k0_chk78 v16 v31 v68 v105 v142 v179 v216 v253 v290 v327 v364 v401 v438 v475 v512 v549 v586 v623 v660 v697 v734 v771 v808 v845 v882 v919 arg13) (k0_t149 : Fin (k0_t149_loop v16 v31 v68 v105 v142 v179 v216 v253 v290 v327 v364 v401 v438 v475 v512 v549 v586 v623 v660 v697 v734 v771 v808 v845 v882 v919 arg13).trips), ∀ a, (k0_off441 v16 v31 v68 v105 v142 v179 v216 v253 v290 v327 v364 v401 v438 v475 v512 v549 v586 v623 v660 v697 v734 v771 v808 v845 v882 v919 arg13 k0_t149) a + S1x16.size a ≤ S512x128.size a := fun v16 v31 v68 v105 v142 v179 v216 v253 v290 v327 v364 v401 v438 v475 v512 v549 v586 v623 v660 v697 v734 v771 v808 v845 v882 v919 arg13 k0_hw78 k0_t149 => k0_hw78.2.2.2.2.2.2.2.2.2.2.2 k0_t149

@[reducible] def k0_t150_loop (v919 : BitVec 32) : Scf.Loop 32 :=
  let c0_i32_362 : BitVec 32 := 0#32
  let c0_i32_355 : BitVec 32 := 0#32
  let v922 : BitVec 1 := Scalar.cmpi .sgt v919 c0_i32_355
  let v923 : BitVec 32 := Scalar.extui v922
  let c0_i32_356 : BitVec 32 := 0#32
  let v924 : BitVec 1 := Scalar.cmpi .slt v919 c0_i32_356
  let v925 : BitVec 32 := Scalar.extui v924
  let v926 : BitVec 32 := Scalar.subi v923 v925
  let c504_i32_354 : BitVec 32 := 504#32
  let c0_i32_357 : BitVec 32 := 0#32
  let v927 : BitVec 1 := Scalar.cmpi .sgt c504_i32_354 c0_i32_357
  let v928 : BitVec 32 := Scalar.extui v927
  let c0_i32_358 : BitVec 32 := 0#32
  let v929 : BitVec 1 := Scalar.cmpi .slt c504_i32_354 c0_i32_358
  let v930 : BitVec 32 := Scalar.extui v929
  let v931 : BitVec 32 := Scalar.subi v928 v930
  let v932 : BitVec 1 := Scalar.cmpi .ne v926 v931
  let v933 : BitVec 32 := Scalar.remsi v919 c504_i32_354
  let c0_i32_359 : BitVec 32 := 0#32
  let v934 : BitVec 1 := Scalar.cmpi .ne v933 c0_i32_359
  let v935 : BitVec 1 := Scalar.andi v932 v934
  let v921 : BitVec 32 := Scalar.divsi v919 c504_i32_354
  let c1_i32_360 : BitVec 32 := 1#32
  let v936 : BitVec 32 := Scalar.subi v921 c1_i32_360
  let v937 : BitVec 32 := Scalar.select v935 v936 v921
  let c1_i32_361 : BitVec 32 := 1#32
  let v938 : BitVec 32 := Scalar.addi v937 c1_i32_361
  let v939 : BitVec 32 := Scalar.subi v938 c0_i32_362
  let c1_i32_363 : BitVec 32 := 1#32
  let v941 : BitVec 32 := Scalar.divsi v939 c1_i32_363
  let v942 : BitVec 32 := Scalar.muli v941 c1_i32_363
  let v943 : BitVec 32 := Scalar.addi c0_i32_362 v942
  let v940 : BitVec 32 := Scalar.addi c0_i32_362 v939
  let c1_i32_365 : BitVec 32 := 1#32
  ⟨v943, v940, c1_i32_365⟩

def k0_chk77 (v919 : BitVec 32) : Prop :=
  ((k0_t147_loop v919).OK) ∧
  ((k0_t150_loop v919).OK)
theorem k0_t147_ok : ∀ (v919 : BitVec 32) (k0_hw77 : k0_chk77 v919), (k0_t147_loop v919).OK := fun v919 k0_hw77 => k0_hw77.1
theorem k0_t150_ok : ∀ (v919 : BitVec 32) (k0_hw77 : k0_chk77 v919), (k0_t150_loop v919).OK := fun v919 k0_hw77 => k0_hw77.2

def k0_mult50 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off442 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r50 : BitVec 32 := 0#32
  ![v1213.toNat, 0]
@[reducible] def k0_t151_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off443 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t151 : Fin (k0_t151_loop v16 v31 v68 v105 v142 v179 v216 v253 v290 v327 v364 v401 v438 v475 v512 v549 v586 v623 v660 v697 v734 v771 v808 v845 v882 v919 arg13).trips) : Fin 2 → Nat :=
  let c1_i32_473 : BitVec 32 := 1#32
  let arg14 : BitVec 32 := Scf.iv arg13 c1_i32_473 k0_t151
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off444 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t151 : Fin (k0_t151_loop v16 v31 v68 v105 v142 v179 v216 v253 v290 v327 v364 v401 v438 v475 v512 v549 v586 v623 v660 v697 v734 v771 v808 v845 v882 v919 arg13).trips) : Fin 2 → Nat :=
  let c1_i32_473 : BitVec 32 := 1#32
  let arg14 : BitVec 32 := Scf.iv arg13 c1_i32_473 k0_t151
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off445 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t151 : Fin (k0_t151_loop v16 v31 v68 v105 v142 v179 v216 v253 v290 v327 v364 v401 v438 v475 v512 v549 v586 v623 v660 v697 v734 v771 v808 v845 v882 v919 arg13).trips) : Fin 2 → Nat :=
  let c1_i32_473 : BitVec 32 := 1#32
  let arg14 : BitVec 32 := Scf.iv arg13 c1_i32_473 k0_t151
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off446 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t151 : Fin (k0_t151_loop v16 v31 v68 v105 v142 v179 v216 v253 v290 v327 v364 v401 v438 v475 v512 v549 v586 v623 v660 v697 v734 v771 v808 v845 v882 v919 arg13).trips) : Fin 2 → Nat :=
  let c1_i32_473 : BitVec 32 := 1#32
  let arg14 : BitVec 32 := Scf.iv arg13 c1_i32_473 k0_t151
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t152_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off447 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t152 : Fin (k0_t152_loop v16 v31 v68 v105 v142 v179 v216 v253 v290 v327 v364 v401 v438 v475 v512 v549 v586 v623 v660 v697 v734 v771 v808 v845 v882 v919 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t152
  let v1224 : BitVec 32 := Scalar.subi arg14 v1213
  let v1225 : Index := Scalar.indexCast v1224
  let c0_475 : Index := 0#32
  ![v1225.toNat, 0]
def k0_off448 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t152 : Fin (k0_t152_loop v16 v31 v68 v105 v142 v179 v216 v253 v290 v327 v364 v401 v438 v475 v512 v549 v586 v623 v660 v697 v734 v771 v808 v845 v882 v919 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t152
  let v1224 : BitVec 32 := Scalar.subi arg14 v1213
  let v1228 : Index := Scalar.indexCast v1224
  let c16_476 : Index := 16#32
  ![v1228.toNat, 16]
def k0_off449 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t152 : Fin (k0_t152_loop v16 v31 v68 v105 v142 v179 v216 v253 v290 v327 v364 v401 v438 v475 v512 v549 v586 v623 v660 v697 v734 v771 v808 v845 v882 v919 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t152
  let v1224 : BitVec 32 := Scalar.subi arg14 v1213
  let v1231 : Index := Scalar.indexCast v1224
  let c32_477 : Index := 32#32
  ![v1231.toNat, 32]
def k0_off450 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_t152 : Fin (k0_t152_loop v16 v31 v68 v105 v142 v179 v216 v253 v290 v327 v364 v401 v438 v475 v512 v549 v586 v623 v660 v697 v734 v771 v808 v845 v882 v919 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v920 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t152
  let v1224 : BitVec 32 := Scalar.subi arg14 v1213
  let v1234 : Index := Scalar.indexCast v1224
  let c48_478 : Index := 48#32
  ![v1234.toNat, 48]

def k0_chk79 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) : Prop :=
  (8 ∣ (k0_mult50 arg13).toNat) ∧
  (∀ a, (k0_off442 arg13) a + S512x128.size a ≤ S320000x128.size a) ∧
  ((k0_t151_loop v16 v31 v68 v105 v142 v179 v216 v253 v290 v327 v364 v401 v438 v475 v512 v549 v586 v623 v660 v697 v734 v771 v808 v845 v882 v919 arg13).OK) ∧
  (∀ k0_t151 : Fin (k0_t151_loop v16 v31 v68 v105 v142 v179 v216 v253 v290 v327 v364 v401 v438 v475 v512 v549 v586 v623 v660 v697 v734 v771 v808 v845 v882 v919 arg13).trips, ∀ a, (k0_off443 v16 v31 v68 v105 v142 v179 v216 v253 v290 v327 v364 v401 v438 v475 v512 v549 v586 v623 v660 v697 v734 v771 v808 v845 v882 v919 arg13 k0_t151) a + S1x16.size a ≤ S512x128.size a) ∧
  (∀ k0_t151 : Fin (k0_t151_loop v16 v31 v68 v105 v142 v179 v216 v253 v290 v327 v364 v401 v438 v475 v512 v549 v586 v623 v660 v697 v734 v771 v808 v845 v882 v919 arg13).trips, ∀ a, (k0_off444 v16 v31 v68 v105 v142 v179 v216 v253 v290 v327 v364 v401 v438 v475 v512 v549 v586 v623 v660 v697 v734 v771 v808 v845 v882 v919 arg13 k0_t151) a + S1x16.size a ≤ S512x128.size a) ∧
  (∀ k0_t151 : Fin (k0_t151_loop v16 v31 v68 v105 v142 v179 v216 v253 v290 v327 v364 v401 v438 v475 v512 v549 v586 v623 v660 v697 v734 v771 v808 v845 v882 v919 arg13).trips, ∀ a, (k0_off445 v16 v31 v68 v105 v142 v179 v216 v253 v290 v327 v364 v401 v438 v475 v512 v549 v586 v623 v660 v697 v734 v771 v808 v845 v882 v919 arg13 k0_t151) a + S1x16.size a ≤ S512x128.size a) ∧
  (∀ k0_t151 : Fin (k0_t151_loop v16 v31 v68 v105 v142 v179 v216 v253 v290 v327 v364 v401 v438 v475 v512 v549 v586 v623 v660 v697 v734 v771 v808 v845 v882 v919 arg13).trips, ∀ a, (k0_off446 v16 v31 v68 v105 v142 v179 v216 v253 v290 v327 v364 v401 v438 v475 v512 v549 v586 v623 v660 v697 v734 v771 v808 v845 v882 v919 arg13 k0_t151) a + S1x16.size a ≤ S512x128.size a) ∧
  ((k0_t152_loop v16 v31 v68 v105 v142 v179 v216 v253 v290 v327 v364 v401 v438 v475 v512 v549 v586 v623 v660 v697 v734 v771 v808 v845 v882 v919 arg13).OK) ∧
  (∀ k0_t152 : Fin (k0_t152_loop v16 v31 v68 v105 v142 v179 v216 v253 v290 v327 v364 v401 v438 v475 v512 v549 v586 v623 v660 v697 v734 v771 v808 v845 v882 v919 arg13).trips, ∀ a, (k0_off447 v16 v31 v68 v105 v142 v179 v216 v253 v290 v327 v364 v401 v438 v475 v512 v549 v586 v623 v660 v697 v734 v771 v808 v845 v882 v919 arg13 k0_t152) a + S1x16.size a ≤ S512x128.size a) ∧
  (∀ k0_t152 : Fin (k0_t152_loop v16 v31 v68 v105 v142 v179 v216 v253 v290 v327 v364 v401 v438 v475 v512 v549 v586 v623 v660 v697 v734 v771 v808 v845 v882 v919 arg13).trips, ∀ a, (k0_off448 v16 v31 v68 v105 v142 v179 v216 v253 v290 v327 v364 v401 v438 v475 v512 v549 v586 v623 v660 v697 v734 v771 v808 v845 v882 v919 arg13 k0_t152) a + S1x16.size a ≤ S512x128.size a) ∧
  (∀ k0_t152 : Fin (k0_t152_loop v16 v31 v68 v105 v142 v179 v216 v253 v290 v327 v364 v401 v438 v475 v512 v549 v586 v623 v660 v697 v734 v771 v808 v845 v882 v919 arg13).trips, ∀ a, (k0_off449 v16 v31 v68 v105 v142 v179 v216 v253 v290 v327 v364 v401 v438 v475 v512 v549 v586 v623 v660 v697 v734 v771 v808 v845 v882 v919 arg13 k0_t152) a + S1x16.size a ≤ S512x128.size a) ∧
  (∀ k0_t152 : Fin (k0_t152_loop v16 v31 v68 v105 v142 v179 v216 v253 v290 v327 v364 v401 v438 v475 v512 v549 v586 v623 v660 v697 v734 v771 v808 v845 v882 v919 arg13).trips, ∀ a, (k0_off450 v16 v31 v68 v105 v142 v179 v216 v253 v290 v327 v364 v401 v438 v475 v512 v549 v586 v623 v660 v697 v734 v771 v808 v845 v882 v919 arg13 k0_t152) a + S1x16.size a ≤ S512x128.size a)
theorem k0_mult50_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13), 8 ∣ (k0_mult50 arg13).toNat := fun v16 v31 v68 v105 v142 v179 v216 v253 v290 v327 v364 v401 v438 v475 v512 v549 v586 v623 v660 v697 v734 v771 v808 v845 v882 v919 arg13 k0_hw79 => k0_hw79.1
theorem k0_off442_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13), ∀ a, (k0_off442 arg13) a + S512x128.size a ≤ S320000x128.size a := fun v16 v31 v68 v105 v142 v179 v216 v253 v290 v327 v364 v401 v438 v475 v512 v549 v586 v623 v660 v697 v734 v771 v808 v845 v882 v919 arg13 k0_hw79 => k0_hw79.2.1
theorem k0_t151_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13), (k0_t151_loop v16 v31 v68 v105 v142 v179 v216 v253 v290 v327 v364 v401 v438 v475 v512 v549 v586 v623 v660 v697 v734 v771 v808 v845 v882 v919 arg13).OK := fun v16 v31 v68 v105 v142 v179 v216 v253 v290 v327 v364 v401 v438 v475 v512 v549 v586 v623 v660 v697 v734 v771 v808 v845 v882 v919 arg13 k0_hw79 => k0_hw79.2.2.1
theorem k0_off443_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13) (k0_t151 : Fin (k0_t151_loop v16 v31 v68 v105 v142 v179 v216 v253 v290 v327 v364 v401 v438 v475 v512 v549 v586 v623 v660 v697 v734 v771 v808 v845 v882 v919 arg13).trips), ∀ a, (k0_off443 v16 v31 v68 v105 v142 v179 v216 v253 v290 v327 v364 v401 v438 v475 v512 v549 v586 v623 v660 v697 v734 v771 v808 v845 v882 v919 arg13 k0_t151) a + S1x16.size a ≤ S512x128.size a := fun v16 v31 v68 v105 v142 v179 v216 v253 v290 v327 v364 v401 v438 v475 v512 v549 v586 v623 v660 v697 v734 v771 v808 v845 v882 v919 arg13 k0_hw79 k0_t151 => k0_hw79.2.2.2.1 k0_t151
theorem k0_off444_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13) (k0_t151 : Fin (k0_t151_loop v16 v31 v68 v105 v142 v179 v216 v253 v290 v327 v364 v401 v438 v475 v512 v549 v586 v623 v660 v697 v734 v771 v808 v845 v882 v919 arg13).trips), ∀ a, (k0_off444 v16 v31 v68 v105 v142 v179 v216 v253 v290 v327 v364 v401 v438 v475 v512 v549 v586 v623 v660 v697 v734 v771 v808 v845 v882 v919 arg13 k0_t151) a + S1x16.size a ≤ S512x128.size a := fun v16 v31 v68 v105 v142 v179 v216 v253 v290 v327 v364 v401 v438 v475 v512 v549 v586 v623 v660 v697 v734 v771 v808 v845 v882 v919 arg13 k0_hw79 k0_t151 => k0_hw79.2.2.2.2.1 k0_t151
theorem k0_off445_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13) (k0_t151 : Fin (k0_t151_loop v16 v31 v68 v105 v142 v179 v216 v253 v290 v327 v364 v401 v438 v475 v512 v549 v586 v623 v660 v697 v734 v771 v808 v845 v882 v919 arg13).trips), ∀ a, (k0_off445 v16 v31 v68 v105 v142 v179 v216 v253 v290 v327 v364 v401 v438 v475 v512 v549 v586 v623 v660 v697 v734 v771 v808 v845 v882 v919 arg13 k0_t151) a + S1x16.size a ≤ S512x128.size a := fun v16 v31 v68 v105 v142 v179 v216 v253 v290 v327 v364 v401 v438 v475 v512 v549 v586 v623 v660 v697 v734 v771 v808 v845 v882 v919 arg13 k0_hw79 k0_t151 => k0_hw79.2.2.2.2.2.1 k0_t151
theorem k0_off446_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13) (k0_t151 : Fin (k0_t151_loop v16 v31 v68 v105 v142 v179 v216 v253 v290 v327 v364 v401 v438 v475 v512 v549 v586 v623 v660 v697 v734 v771 v808 v845 v882 v919 arg13).trips), ∀ a, (k0_off446 v16 v31 v68 v105 v142 v179 v216 v253 v290 v327 v364 v401 v438 v475 v512 v549 v586 v623 v660 v697 v734 v771 v808 v845 v882 v919 arg13 k0_t151) a + S1x16.size a ≤ S512x128.size a := fun v16 v31 v68 v105 v142 v179 v216 v253 v290 v327 v364 v401 v438 v475 v512 v549 v586 v623 v660 v697 v734 v771 v808 v845 v882 v919 arg13 k0_hw79 k0_t151 => k0_hw79.2.2.2.2.2.2.1 k0_t151
theorem k0_t152_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13), (k0_t152_loop v16 v31 v68 v105 v142 v179 v216 v253 v290 v327 v364 v401 v438 v475 v512 v549 v586 v623 v660 v697 v734 v771 v808 v845 v882 v919 arg13).OK := fun v16 v31 v68 v105 v142 v179 v216 v253 v290 v327 v364 v401 v438 v475 v512 v549 v586 v623 v660 v697 v734 v771 v808 v845 v882 v919 arg13 k0_hw79 => k0_hw79.2.2.2.2.2.2.2.1
theorem k0_off447_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13) (k0_t152 : Fin (k0_t152_loop v16 v31 v68 v105 v142 v179 v216 v253 v290 v327 v364 v401 v438 v475 v512 v549 v586 v623 v660 v697 v734 v771 v808 v845 v882 v919 arg13).trips), ∀ a, (k0_off447 v16 v31 v68 v105 v142 v179 v216 v253 v290 v327 v364 v401 v438 v475 v512 v549 v586 v623 v660 v697 v734 v771 v808 v845 v882 v919 arg13 k0_t152) a + S1x16.size a ≤ S512x128.size a := fun v16 v31 v68 v105 v142 v179 v216 v253 v290 v327 v364 v401 v438 v475 v512 v549 v586 v623 v660 v697 v734 v771 v808 v845 v882 v919 arg13 k0_hw79 k0_t152 => k0_hw79.2.2.2.2.2.2.2.2.1 k0_t152
theorem k0_off448_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13) (k0_t152 : Fin (k0_t152_loop v16 v31 v68 v105 v142 v179 v216 v253 v290 v327 v364 v401 v438 v475 v512 v549 v586 v623 v660 v697 v734 v771 v808 v845 v882 v919 arg13).trips), ∀ a, (k0_off448 v16 v31 v68 v105 v142 v179 v216 v253 v290 v327 v364 v401 v438 v475 v512 v549 v586 v623 v660 v697 v734 v771 v808 v845 v882 v919 arg13 k0_t152) a + S1x16.size a ≤ S512x128.size a := fun v16 v31 v68 v105 v142 v179 v216 v253 v290 v327 v364 v401 v438 v475 v512 v549 v586 v623 v660 v697 v734 v771 v808 v845 v882 v919 arg13 k0_hw79 k0_t152 => k0_hw79.2.2.2.2.2.2.2.2.2.1 k0_t152
theorem k0_off449_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13) (k0_t152 : Fin (k0_t152_loop v16 v31 v68 v105 v142 v179 v216 v253 v290 v327 v364 v401 v438 v475 v512 v549 v586 v623 v660 v697 v734 v771 v808 v845 v882 v919 arg13).trips), ∀ a, (k0_off449 v16 v31 v68 v105 v142 v179 v216 v253 v290 v327 v364 v401 v438 v475 v512 v549 v586 v623 v660 v697 v734 v771 v808 v845 v882 v919 arg13 k0_t152) a + S1x16.size a ≤ S512x128.size a := fun v16 v31 v68 v105 v142 v179 v216 v253 v290 v327 v364 v401 v438 v475 v512 v549 v586 v623 v660 v697 v734 v771 v808 v845 v882 v919 arg13 k0_hw79 k0_t152 => k0_hw79.2.2.2.2.2.2.2.2.2.2.1 k0_t152
theorem k0_off450_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (arg13 : BitVec 32) (k0_hw79 : k0_chk79 v16 v31 v68 v105 v142 v179 v216 v253 v290 v327 v364 v401 v438 v475 v512 v549 v586 v623 v660 v697 v734 v771 v808 v845 v882 v919 arg13) (k0_t152 : Fin (k0_t152_loop v16 v31 v68 v105 v142 v179 v216 v253 v290 v327 v364 v401 v438 v475 v512 v549 v586 v623 v660 v697 v734 v771 v808 v845 v882 v919 arg13).trips), ∀ a, (k0_off450 v16 v31 v68 v105 v142 v179 v216 v253 v290 v327 v364 v401 v438 v475 v512 v549 v586 v623 v660 v697 v734 v771 v808 v845 v882 v919 arg13 k0_t152) a + S1x16.size a ≤ S512x128.size a := fun v16 v31 v68 v105 v142 v179 v216 v253 v290 v327 v364 v401 v438 v475 v512 v549 v586 v623 v660 v697 v734 v771 v808 v845 v882 v919 arg13 k0_hw79 k0_t152 => k0_hw79.2.2.2.2.2.2.2.2.2.2.2 k0_t152

@[reducible] def k0_t153_loop (v956 : BitVec 32) : Scf.Loop 32 :=
  let c0_i32_377 : BitVec 32 := 0#32
  let c0_i32_370 : BitVec 32 := 0#32
  let v959 : BitVec 1 := Scalar.cmpi .sgt v956 c0_i32_370
  let v960 : BitVec 32 := Scalar.extui v959
  let c0_i32_371 : BitVec 32 := 0#32
  let v961 : BitVec 1 := Scalar.cmpi .slt v956 c0_i32_371
  let v962 : BitVec 32 := Scalar.extui v961
  let v963 : BitVec 32 := Scalar.subi v960 v962
  let c504_i32_369 : BitVec 32 := 504#32
  let c0_i32_372 : BitVec 32 := 0#32
  let v964 : BitVec 1 := Scalar.cmpi .sgt c504_i32_369 c0_i32_372
  let v965 : BitVec 32 := Scalar.extui v964
  let c0_i32_373 : BitVec 32 := 0#32
  let v966 : BitVec 1 := Scalar.cmpi .slt c504_i32_369 c0_i32_373
  let v967 : BitVec 32 := Scalar.extui v966
  let v968 : BitVec 32 := Scalar.subi v965 v967
  let v969 : BitVec 1 := Scalar.cmpi .ne v963 v968
  let v970 : BitVec 32 := Scalar.remsi v956 c504_i32_369
  let c0_i32_374 : BitVec 32 := 0#32
  let v971 : BitVec 1 := Scalar.cmpi .ne v970 c0_i32_374
  let v972 : BitVec 1 := Scalar.andi v969 v971
  let v958 : BitVec 32 := Scalar.divsi v956 c504_i32_369
  let c1_i32_375 : BitVec 32 := 1#32
  let v973 : BitVec 32 := Scalar.subi v958 c1_i32_375
  let v974 : BitVec 32 := Scalar.select v972 v973 v958
  let c1_i32_376 : BitVec 32 := 1#32
  let v975 : BitVec 32 := Scalar.addi v974 c1_i32_376
  let v976 : BitVec 32 := Scalar.subi v975 c0_i32_377
  let c1_i32_378 : BitVec 32 := 1#32
  let v978 : BitVec 32 := Scalar.divsi v976 c1_i32_378
  let v979 : BitVec 32 := Scalar.muli v978 c1_i32_378
  let v980 : BitVec 32 := Scalar.addi c0_i32_377 v979
  let c1_i32_379 : BitVec 32 := 1#32
  ⟨c0_i32_377, v980, c1_i32_379⟩

def k0_mult51 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off451 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r51 : BitVec 32 := 0#32
  ![v1213.toNat, 0]
@[reducible] def k0_t154_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off452 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t154 : Fin (k0_t154_loop v16 v31 v68 v105 v142 v179 v216 v253 v290 v327 v364 v401 v438 v475 v512 v549 v586 v623 v660 v697 v734 v771 v808 v845 v882 v919 v956 arg13).trips) : Fin 2 → Nat :=
  let c1_i32_473 : BitVec 32 := 1#32
  let arg14 : BitVec 32 := Scf.iv arg13 c1_i32_473 k0_t154
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off453 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t154 : Fin (k0_t154_loop v16 v31 v68 v105 v142 v179 v216 v253 v290 v327 v364 v401 v438 v475 v512 v549 v586 v623 v660 v697 v734 v771 v808 v845 v882 v919 v956 arg13).trips) : Fin 2 → Nat :=
  let c1_i32_473 : BitVec 32 := 1#32
  let arg14 : BitVec 32 := Scf.iv arg13 c1_i32_473 k0_t154
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off454 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t154 : Fin (k0_t154_loop v16 v31 v68 v105 v142 v179 v216 v253 v290 v327 v364 v401 v438 v475 v512 v549 v586 v623 v660 v697 v734 v771 v808 v845 v882 v919 v956 arg13).trips) : Fin 2 → Nat :=
  let c1_i32_473 : BitVec 32 := 1#32
  let arg14 : BitVec 32 := Scf.iv arg13 c1_i32_473 k0_t154
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off455 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t154 : Fin (k0_t154_loop v16 v31 v68 v105 v142 v179 v216 v253 v290 v327 v364 v401 v438 v475 v512 v549 v586 v623 v660 v697 v734 v771 v808 v845 v882 v919 v956 arg13).trips) : Fin 2 → Nat :=
  let c1_i32_473 : BitVec 32 := 1#32
  let arg14 : BitVec 32 := Scf.iv arg13 c1_i32_473 k0_t154
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t155_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off456 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t155 : Fin (k0_t155_loop v16 v31 v68 v105 v142 v179 v216 v253 v290 v327 v364 v401 v438 v475 v512 v549 v586 v623 v660 v697 v734 v771 v808 v845 v882 v919 v956 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t155
  let v1224 : BitVec 32 := Scalar.subi arg14 v1213
  let v1225 : Index := Scalar.indexCast v1224
  let c0_475 : Index := 0#32
  ![v1225.toNat, 0]
def k0_off457 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t155 : Fin (k0_t155_loop v16 v31 v68 v105 v142 v179 v216 v253 v290 v327 v364 v401 v438 v475 v512 v549 v586 v623 v660 v697 v734 v771 v808 v845 v882 v919 v956 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t155
  let v1224 : BitVec 32 := Scalar.subi arg14 v1213
  let v1228 : Index := Scalar.indexCast v1224
  let c16_476 : Index := 16#32
  ![v1228.toNat, 16]
def k0_off458 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t155 : Fin (k0_t155_loop v16 v31 v68 v105 v142 v179 v216 v253 v290 v327 v364 v401 v438 v475 v512 v549 v586 v623 v660 v697 v734 v771 v808 v845 v882 v919 v956 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t155
  let v1224 : BitVec 32 := Scalar.subi arg14 v1213
  let v1231 : Index := Scalar.indexCast v1224
  let c32_477 : Index := 32#32
  ![v1231.toNat, 32]
def k0_off459 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t155 : Fin (k0_t155_loop v16 v31 v68 v105 v142 v179 v216 v253 v290 v327 v364 v401 v438 v475 v512 v549 v586 v623 v660 v697 v734 v771 v808 v845 v882 v919 v956 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t155
  let v1224 : BitVec 32 := Scalar.subi arg14 v1213
  let v1234 : Index := Scalar.indexCast v1224
  let c48_478 : Index := 48#32
  ![v1234.toNat, 48]

def k0_chk81 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) : Prop :=
  (8 ∣ (k0_mult51 arg13).toNat) ∧
  (∀ a, (k0_off451 arg13) a + S512x128.size a ≤ S320000x128.size a) ∧
  ((k0_t154_loop v16 v31 v68 v105 v142 v179 v216 v253 v290 v327 v364 v401 v438 v475 v512 v549 v586 v623 v660 v697 v734 v771 v808 v845 v882 v919 v956 arg13).OK) ∧
  (∀ k0_t154 : Fin (k0_t154_loop v16 v31 v68 v105 v142 v179 v216 v253 v290 v327 v364 v401 v438 v475 v512 v549 v586 v623 v660 v697 v734 v771 v808 v845 v882 v919 v956 arg13).trips, ∀ a, (k0_off452 v16 v31 v68 v105 v142 v179 v216 v253 v290 v327 v364 v401 v438 v475 v512 v549 v586 v623 v660 v697 v734 v771 v808 v845 v882 v919 v956 arg13 k0_t154) a + S1x16.size a ≤ S512x128.size a) ∧
  (∀ k0_t154 : Fin (k0_t154_loop v16 v31 v68 v105 v142 v179 v216 v253 v290 v327 v364 v401 v438 v475 v512 v549 v586 v623 v660 v697 v734 v771 v808 v845 v882 v919 v956 arg13).trips, ∀ a, (k0_off453 v16 v31 v68 v105 v142 v179 v216 v253 v290 v327 v364 v401 v438 v475 v512 v549 v586 v623 v660 v697 v734 v771 v808 v845 v882 v919 v956 arg13 k0_t154) a + S1x16.size a ≤ S512x128.size a) ∧
  (∀ k0_t154 : Fin (k0_t154_loop v16 v31 v68 v105 v142 v179 v216 v253 v290 v327 v364 v401 v438 v475 v512 v549 v586 v623 v660 v697 v734 v771 v808 v845 v882 v919 v956 arg13).trips, ∀ a, (k0_off454 v16 v31 v68 v105 v142 v179 v216 v253 v290 v327 v364 v401 v438 v475 v512 v549 v586 v623 v660 v697 v734 v771 v808 v845 v882 v919 v956 arg13 k0_t154) a + S1x16.size a ≤ S512x128.size a) ∧
  (∀ k0_t154 : Fin (k0_t154_loop v16 v31 v68 v105 v142 v179 v216 v253 v290 v327 v364 v401 v438 v475 v512 v549 v586 v623 v660 v697 v734 v771 v808 v845 v882 v919 v956 arg13).trips, ∀ a, (k0_off455 v16 v31 v68 v105 v142 v179 v216 v253 v290 v327 v364 v401 v438 v475 v512 v549 v586 v623 v660 v697 v734 v771 v808 v845 v882 v919 v956 arg13 k0_t154) a + S1x16.size a ≤ S512x128.size a) ∧
  ((k0_t155_loop v16 v31 v68 v105 v142 v179 v216 v253 v290 v327 v364 v401 v438 v475 v512 v549 v586 v623 v660 v697 v734 v771 v808 v845 v882 v919 v956 arg13).OK) ∧
  (∀ k0_t155 : Fin (k0_t155_loop v16 v31 v68 v105 v142 v179 v216 v253 v290 v327 v364 v401 v438 v475 v512 v549 v586 v623 v660 v697 v734 v771 v808 v845 v882 v919 v956 arg13).trips, ∀ a, (k0_off456 v16 v31 v68 v105 v142 v179 v216 v253 v290 v327 v364 v401 v438 v475 v512 v549 v586 v623 v660 v697 v734 v771 v808 v845 v882 v919 v956 arg13 k0_t155) a + S1x16.size a ≤ S512x128.size a) ∧
  (∀ k0_t155 : Fin (k0_t155_loop v16 v31 v68 v105 v142 v179 v216 v253 v290 v327 v364 v401 v438 v475 v512 v549 v586 v623 v660 v697 v734 v771 v808 v845 v882 v919 v956 arg13).trips, ∀ a, (k0_off457 v16 v31 v68 v105 v142 v179 v216 v253 v290 v327 v364 v401 v438 v475 v512 v549 v586 v623 v660 v697 v734 v771 v808 v845 v882 v919 v956 arg13 k0_t155) a + S1x16.size a ≤ S512x128.size a) ∧
  (∀ k0_t155 : Fin (k0_t155_loop v16 v31 v68 v105 v142 v179 v216 v253 v290 v327 v364 v401 v438 v475 v512 v549 v586 v623 v660 v697 v734 v771 v808 v845 v882 v919 v956 arg13).trips, ∀ a, (k0_off458 v16 v31 v68 v105 v142 v179 v216 v253 v290 v327 v364 v401 v438 v475 v512 v549 v586 v623 v660 v697 v734 v771 v808 v845 v882 v919 v956 arg13 k0_t155) a + S1x16.size a ≤ S512x128.size a) ∧
  (∀ k0_t155 : Fin (k0_t155_loop v16 v31 v68 v105 v142 v179 v216 v253 v290 v327 v364 v401 v438 v475 v512 v549 v586 v623 v660 v697 v734 v771 v808 v845 v882 v919 v956 arg13).trips, ∀ a, (k0_off459 v16 v31 v68 v105 v142 v179 v216 v253 v290 v327 v364 v401 v438 v475 v512 v549 v586 v623 v660 v697 v734 v771 v808 v845 v882 v919 v956 arg13 k0_t155) a + S1x16.size a ≤ S512x128.size a)
theorem k0_mult51_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13), 8 ∣ (k0_mult51 arg13).toNat := fun v16 v31 v68 v105 v142 v179 v216 v253 v290 v327 v364 v401 v438 v475 v512 v549 v586 v623 v660 v697 v734 v771 v808 v845 v882 v919 v956 arg13 k0_hw81 => k0_hw81.1
theorem k0_off451_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13), ∀ a, (k0_off451 arg13) a + S512x128.size a ≤ S320000x128.size a := fun v16 v31 v68 v105 v142 v179 v216 v253 v290 v327 v364 v401 v438 v475 v512 v549 v586 v623 v660 v697 v734 v771 v808 v845 v882 v919 v956 arg13 k0_hw81 => k0_hw81.2.1
theorem k0_t154_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13), (k0_t154_loop v16 v31 v68 v105 v142 v179 v216 v253 v290 v327 v364 v401 v438 v475 v512 v549 v586 v623 v660 v697 v734 v771 v808 v845 v882 v919 v956 arg13).OK := fun v16 v31 v68 v105 v142 v179 v216 v253 v290 v327 v364 v401 v438 v475 v512 v549 v586 v623 v660 v697 v734 v771 v808 v845 v882 v919 v956 arg13 k0_hw81 => k0_hw81.2.2.1
theorem k0_off452_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13) (k0_t154 : Fin (k0_t154_loop v16 v31 v68 v105 v142 v179 v216 v253 v290 v327 v364 v401 v438 v475 v512 v549 v586 v623 v660 v697 v734 v771 v808 v845 v882 v919 v956 arg13).trips), ∀ a, (k0_off452 v16 v31 v68 v105 v142 v179 v216 v253 v290 v327 v364 v401 v438 v475 v512 v549 v586 v623 v660 v697 v734 v771 v808 v845 v882 v919 v956 arg13 k0_t154) a + S1x16.size a ≤ S512x128.size a := fun v16 v31 v68 v105 v142 v179 v216 v253 v290 v327 v364 v401 v438 v475 v512 v549 v586 v623 v660 v697 v734 v771 v808 v845 v882 v919 v956 arg13 k0_hw81 k0_t154 => k0_hw81.2.2.2.1 k0_t154
theorem k0_off453_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13) (k0_t154 : Fin (k0_t154_loop v16 v31 v68 v105 v142 v179 v216 v253 v290 v327 v364 v401 v438 v475 v512 v549 v586 v623 v660 v697 v734 v771 v808 v845 v882 v919 v956 arg13).trips), ∀ a, (k0_off453 v16 v31 v68 v105 v142 v179 v216 v253 v290 v327 v364 v401 v438 v475 v512 v549 v586 v623 v660 v697 v734 v771 v808 v845 v882 v919 v956 arg13 k0_t154) a + S1x16.size a ≤ S512x128.size a := fun v16 v31 v68 v105 v142 v179 v216 v253 v290 v327 v364 v401 v438 v475 v512 v549 v586 v623 v660 v697 v734 v771 v808 v845 v882 v919 v956 arg13 k0_hw81 k0_t154 => k0_hw81.2.2.2.2.1 k0_t154
theorem k0_off454_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13) (k0_t154 : Fin (k0_t154_loop v16 v31 v68 v105 v142 v179 v216 v253 v290 v327 v364 v401 v438 v475 v512 v549 v586 v623 v660 v697 v734 v771 v808 v845 v882 v919 v956 arg13).trips), ∀ a, (k0_off454 v16 v31 v68 v105 v142 v179 v216 v253 v290 v327 v364 v401 v438 v475 v512 v549 v586 v623 v660 v697 v734 v771 v808 v845 v882 v919 v956 arg13 k0_t154) a + S1x16.size a ≤ S512x128.size a := fun v16 v31 v68 v105 v142 v179 v216 v253 v290 v327 v364 v401 v438 v475 v512 v549 v586 v623 v660 v697 v734 v771 v808 v845 v882 v919 v956 arg13 k0_hw81 k0_t154 => k0_hw81.2.2.2.2.2.1 k0_t154
theorem k0_off455_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13) (k0_t154 : Fin (k0_t154_loop v16 v31 v68 v105 v142 v179 v216 v253 v290 v327 v364 v401 v438 v475 v512 v549 v586 v623 v660 v697 v734 v771 v808 v845 v882 v919 v956 arg13).trips), ∀ a, (k0_off455 v16 v31 v68 v105 v142 v179 v216 v253 v290 v327 v364 v401 v438 v475 v512 v549 v586 v623 v660 v697 v734 v771 v808 v845 v882 v919 v956 arg13 k0_t154) a + S1x16.size a ≤ S512x128.size a := fun v16 v31 v68 v105 v142 v179 v216 v253 v290 v327 v364 v401 v438 v475 v512 v549 v586 v623 v660 v697 v734 v771 v808 v845 v882 v919 v956 arg13 k0_hw81 k0_t154 => k0_hw81.2.2.2.2.2.2.1 k0_t154
theorem k0_t155_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13), (k0_t155_loop v16 v31 v68 v105 v142 v179 v216 v253 v290 v327 v364 v401 v438 v475 v512 v549 v586 v623 v660 v697 v734 v771 v808 v845 v882 v919 v956 arg13).OK := fun v16 v31 v68 v105 v142 v179 v216 v253 v290 v327 v364 v401 v438 v475 v512 v549 v586 v623 v660 v697 v734 v771 v808 v845 v882 v919 v956 arg13 k0_hw81 => k0_hw81.2.2.2.2.2.2.2.1
theorem k0_off456_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13) (k0_t155 : Fin (k0_t155_loop v16 v31 v68 v105 v142 v179 v216 v253 v290 v327 v364 v401 v438 v475 v512 v549 v586 v623 v660 v697 v734 v771 v808 v845 v882 v919 v956 arg13).trips), ∀ a, (k0_off456 v16 v31 v68 v105 v142 v179 v216 v253 v290 v327 v364 v401 v438 v475 v512 v549 v586 v623 v660 v697 v734 v771 v808 v845 v882 v919 v956 arg13 k0_t155) a + S1x16.size a ≤ S512x128.size a := fun v16 v31 v68 v105 v142 v179 v216 v253 v290 v327 v364 v401 v438 v475 v512 v549 v586 v623 v660 v697 v734 v771 v808 v845 v882 v919 v956 arg13 k0_hw81 k0_t155 => k0_hw81.2.2.2.2.2.2.2.2.1 k0_t155
theorem k0_off457_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13) (k0_t155 : Fin (k0_t155_loop v16 v31 v68 v105 v142 v179 v216 v253 v290 v327 v364 v401 v438 v475 v512 v549 v586 v623 v660 v697 v734 v771 v808 v845 v882 v919 v956 arg13).trips), ∀ a, (k0_off457 v16 v31 v68 v105 v142 v179 v216 v253 v290 v327 v364 v401 v438 v475 v512 v549 v586 v623 v660 v697 v734 v771 v808 v845 v882 v919 v956 arg13 k0_t155) a + S1x16.size a ≤ S512x128.size a := fun v16 v31 v68 v105 v142 v179 v216 v253 v290 v327 v364 v401 v438 v475 v512 v549 v586 v623 v660 v697 v734 v771 v808 v845 v882 v919 v956 arg13 k0_hw81 k0_t155 => k0_hw81.2.2.2.2.2.2.2.2.2.1 k0_t155
theorem k0_off458_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13) (k0_t155 : Fin (k0_t155_loop v16 v31 v68 v105 v142 v179 v216 v253 v290 v327 v364 v401 v438 v475 v512 v549 v586 v623 v660 v697 v734 v771 v808 v845 v882 v919 v956 arg13).trips), ∀ a, (k0_off458 v16 v31 v68 v105 v142 v179 v216 v253 v290 v327 v364 v401 v438 v475 v512 v549 v586 v623 v660 v697 v734 v771 v808 v845 v882 v919 v956 arg13 k0_t155) a + S1x16.size a ≤ S512x128.size a := fun v16 v31 v68 v105 v142 v179 v216 v253 v290 v327 v364 v401 v438 v475 v512 v549 v586 v623 v660 v697 v734 v771 v808 v845 v882 v919 v956 arg13 k0_hw81 k0_t155 => k0_hw81.2.2.2.2.2.2.2.2.2.2.1 k0_t155
theorem k0_off459_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw81 : k0_chk81 v16 v31 v68 v105 v142 v179 v216 v253 v290 v327 v364 v401 v438 v475 v512 v549 v586 v623 v660 v697 v734 v771 v808 v845 v882 v919 v956 arg13) (k0_t155 : Fin (k0_t155_loop v16 v31 v68 v105 v142 v179 v216 v253 v290 v327 v364 v401 v438 v475 v512 v549 v586 v623 v660 v697 v734 v771 v808 v845 v882 v919 v956 arg13).trips), ∀ a, (k0_off459 v16 v31 v68 v105 v142 v179 v216 v253 v290 v327 v364 v401 v438 v475 v512 v549 v586 v623 v660 v697 v734 v771 v808 v845 v882 v919 v956 arg13 k0_t155) a + S1x16.size a ≤ S512x128.size a := fun v16 v31 v68 v105 v142 v179 v216 v253 v290 v327 v364 v401 v438 v475 v512 v549 v586 v623 v660 v697 v734 v771 v808 v845 v882 v919 v956 arg13 k0_hw81 k0_t155 => k0_hw81.2.2.2.2.2.2.2.2.2.2.2 k0_t155

@[reducible] def k0_t156_loop (v956 : BitVec 32) : Scf.Loop 32 :=
  let c0_i32_377 : BitVec 32 := 0#32
  let c0_i32_370 : BitVec 32 := 0#32
  let v959 : BitVec 1 := Scalar.cmpi .sgt v956 c0_i32_370
  let v960 : BitVec 32 := Scalar.extui v959
  let c0_i32_371 : BitVec 32 := 0#32
  let v961 : BitVec 1 := Scalar.cmpi .slt v956 c0_i32_371
  let v962 : BitVec 32 := Scalar.extui v961
  let v963 : BitVec 32 := Scalar.subi v960 v962
  let c504_i32_369 : BitVec 32 := 504#32
  let c0_i32_372 : BitVec 32 := 0#32
  let v964 : BitVec 1 := Scalar.cmpi .sgt c504_i32_369 c0_i32_372
  let v965 : BitVec 32 := Scalar.extui v964
  let c0_i32_373 : BitVec 32 := 0#32
  let v966 : BitVec 1 := Scalar.cmpi .slt c504_i32_369 c0_i32_373
  let v967 : BitVec 32 := Scalar.extui v966
  let v968 : BitVec 32 := Scalar.subi v965 v967
  let v969 : BitVec 1 := Scalar.cmpi .ne v963 v968
  let v970 : BitVec 32 := Scalar.remsi v956 c504_i32_369
  let c0_i32_374 : BitVec 32 := 0#32
  let v971 : BitVec 1 := Scalar.cmpi .ne v970 c0_i32_374
  let v972 : BitVec 1 := Scalar.andi v969 v971
  let v958 : BitVec 32 := Scalar.divsi v956 c504_i32_369
  let c1_i32_375 : BitVec 32 := 1#32
  let v973 : BitVec 32 := Scalar.subi v958 c1_i32_375
  let v974 : BitVec 32 := Scalar.select v972 v973 v958
  let c1_i32_376 : BitVec 32 := 1#32
  let v975 : BitVec 32 := Scalar.addi v974 c1_i32_376
  let v976 : BitVec 32 := Scalar.subi v975 c0_i32_377
  let c1_i32_378 : BitVec 32 := 1#32
  let v978 : BitVec 32 := Scalar.divsi v976 c1_i32_378
  let v979 : BitVec 32 := Scalar.muli v978 c1_i32_378
  let v980 : BitVec 32 := Scalar.addi c0_i32_377 v979
  let v977 : BitVec 32 := Scalar.addi c0_i32_377 v976
  let c1_i32_380 : BitVec 32 := 1#32
  ⟨v980, v977, c1_i32_380⟩

def k0_chk80 (v956 : BitVec 32) : Prop :=
  ((k0_t153_loop v956).OK) ∧
  ((k0_t156_loop v956).OK)
theorem k0_t153_ok : ∀ (v956 : BitVec 32) (k0_hw80 : k0_chk80 v956), (k0_t153_loop v956).OK := fun v956 k0_hw80 => k0_hw80.1
theorem k0_t156_ok : ∀ (v956 : BitVec 32) (k0_hw80 : k0_chk80 v956), (k0_t156_loop v956).OK := fun v956 k0_hw80 => k0_hw80.2

def k0_mult52 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off460 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r52 : BitVec 32 := 0#32
  ![v1213.toNat, 0]
@[reducible] def k0_t157_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off461 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t157 : Fin (k0_t157_loop v16 v31 v68 v105 v142 v179 v216 v253 v290 v327 v364 v401 v438 v475 v512 v549 v586 v623 v660 v697 v734 v771 v808 v845 v882 v919 v956 arg13).trips) : Fin 2 → Nat :=
  let c1_i32_473 : BitVec 32 := 1#32
  let arg14 : BitVec 32 := Scf.iv arg13 c1_i32_473 k0_t157
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off462 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t157 : Fin (k0_t157_loop v16 v31 v68 v105 v142 v179 v216 v253 v290 v327 v364 v401 v438 v475 v512 v549 v586 v623 v660 v697 v734 v771 v808 v845 v882 v919 v956 arg13).trips) : Fin 2 → Nat :=
  let c1_i32_473 : BitVec 32 := 1#32
  let arg14 : BitVec 32 := Scf.iv arg13 c1_i32_473 k0_t157
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off463 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t157 : Fin (k0_t157_loop v16 v31 v68 v105 v142 v179 v216 v253 v290 v327 v364 v401 v438 v475 v512 v549 v586 v623 v660 v697 v734 v771 v808 v845 v882 v919 v956 arg13).trips) : Fin 2 → Nat :=
  let c1_i32_473 : BitVec 32 := 1#32
  let arg14 : BitVec 32 := Scf.iv arg13 c1_i32_473 k0_t157
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off464 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t157 : Fin (k0_t157_loop v16 v31 v68 v105 v142 v179 v216 v253 v290 v327 v364 v401 v438 v475 v512 v549 v586 v623 v660 v697 v734 v771 v808 v845 v882 v919 v956 arg13).trips) : Fin 2 → Nat :=
  let c1_i32_473 : BitVec 32 := 1#32
  let arg14 : BitVec 32 := Scf.iv arg13 c1_i32_473 k0_t157
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t158_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off465 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t158 : Fin (k0_t158_loop v16 v31 v68 v105 v142 v179 v216 v253 v290 v327 v364 v401 v438 v475 v512 v549 v586 v623 v660 v697 v734 v771 v808 v845 v882 v919 v956 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t158
  let v1224 : BitVec 32 := Scalar.subi arg14 v1213
  let v1225 : Index := Scalar.indexCast v1224
  let c0_475 : Index := 0#32
  ![v1225.toNat, 0]
def k0_off466 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t158 : Fin (k0_t158_loop v16 v31 v68 v105 v142 v179 v216 v253 v290 v327 v364 v401 v438 v475 v512 v549 v586 v623 v660 v697 v734 v771 v808 v845 v882 v919 v956 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t158
  let v1224 : BitVec 32 := Scalar.subi arg14 v1213
  let v1228 : Index := Scalar.indexCast v1224
  let c16_476 : Index := 16#32
  ![v1228.toNat, 16]
def k0_off467 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t158 : Fin (k0_t158_loop v16 v31 v68 v105 v142 v179 v216 v253 v290 v327 v364 v401 v438 v475 v512 v549 v586 v623 v660 v697 v734 v771 v808 v845 v882 v919 v956 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t158
  let v1224 : BitVec 32 := Scalar.subi arg14 v1213
  let v1231 : Index := Scalar.indexCast v1224
  let c32_477 : Index := 32#32
  ![v1231.toNat, 32]
def k0_off468 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_t158 : Fin (k0_t158_loop v16 v31 v68 v105 v142 v179 v216 v253 v290 v327 v364 v401 v438 v475 v512 v549 v586 v623 v660 v697 v734 v771 v808 v845 v882 v919 v956 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v957 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t158
  let v1224 : BitVec 32 := Scalar.subi arg14 v1213
  let v1234 : Index := Scalar.indexCast v1224
  let c48_478 : Index := 48#32
  ![v1234.toNat, 48]

def k0_chk82 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) : Prop :=
  (8 ∣ (k0_mult52 arg13).toNat) ∧
  (∀ a, (k0_off460 arg13) a + S512x128.size a ≤ S320000x128.size a) ∧
  ((k0_t157_loop v16 v31 v68 v105 v142 v179 v216 v253 v290 v327 v364 v401 v438 v475 v512 v549 v586 v623 v660 v697 v734 v771 v808 v845 v882 v919 v956 arg13).OK) ∧
  (∀ k0_t157 : Fin (k0_t157_loop v16 v31 v68 v105 v142 v179 v216 v253 v290 v327 v364 v401 v438 v475 v512 v549 v586 v623 v660 v697 v734 v771 v808 v845 v882 v919 v956 arg13).trips, ∀ a, (k0_off461 v16 v31 v68 v105 v142 v179 v216 v253 v290 v327 v364 v401 v438 v475 v512 v549 v586 v623 v660 v697 v734 v771 v808 v845 v882 v919 v956 arg13 k0_t157) a + S1x16.size a ≤ S512x128.size a) ∧
  (∀ k0_t157 : Fin (k0_t157_loop v16 v31 v68 v105 v142 v179 v216 v253 v290 v327 v364 v401 v438 v475 v512 v549 v586 v623 v660 v697 v734 v771 v808 v845 v882 v919 v956 arg13).trips, ∀ a, (k0_off462 v16 v31 v68 v105 v142 v179 v216 v253 v290 v327 v364 v401 v438 v475 v512 v549 v586 v623 v660 v697 v734 v771 v808 v845 v882 v919 v956 arg13 k0_t157) a + S1x16.size a ≤ S512x128.size a) ∧
  (∀ k0_t157 : Fin (k0_t157_loop v16 v31 v68 v105 v142 v179 v216 v253 v290 v327 v364 v401 v438 v475 v512 v549 v586 v623 v660 v697 v734 v771 v808 v845 v882 v919 v956 arg13).trips, ∀ a, (k0_off463 v16 v31 v68 v105 v142 v179 v216 v253 v290 v327 v364 v401 v438 v475 v512 v549 v586 v623 v660 v697 v734 v771 v808 v845 v882 v919 v956 arg13 k0_t157) a + S1x16.size a ≤ S512x128.size a) ∧
  (∀ k0_t157 : Fin (k0_t157_loop v16 v31 v68 v105 v142 v179 v216 v253 v290 v327 v364 v401 v438 v475 v512 v549 v586 v623 v660 v697 v734 v771 v808 v845 v882 v919 v956 arg13).trips, ∀ a, (k0_off464 v16 v31 v68 v105 v142 v179 v216 v253 v290 v327 v364 v401 v438 v475 v512 v549 v586 v623 v660 v697 v734 v771 v808 v845 v882 v919 v956 arg13 k0_t157) a + S1x16.size a ≤ S512x128.size a) ∧
  ((k0_t158_loop v16 v31 v68 v105 v142 v179 v216 v253 v290 v327 v364 v401 v438 v475 v512 v549 v586 v623 v660 v697 v734 v771 v808 v845 v882 v919 v956 arg13).OK) ∧
  (∀ k0_t158 : Fin (k0_t158_loop v16 v31 v68 v105 v142 v179 v216 v253 v290 v327 v364 v401 v438 v475 v512 v549 v586 v623 v660 v697 v734 v771 v808 v845 v882 v919 v956 arg13).trips, ∀ a, (k0_off465 v16 v31 v68 v105 v142 v179 v216 v253 v290 v327 v364 v401 v438 v475 v512 v549 v586 v623 v660 v697 v734 v771 v808 v845 v882 v919 v956 arg13 k0_t158) a + S1x16.size a ≤ S512x128.size a) ∧
  (∀ k0_t158 : Fin (k0_t158_loop v16 v31 v68 v105 v142 v179 v216 v253 v290 v327 v364 v401 v438 v475 v512 v549 v586 v623 v660 v697 v734 v771 v808 v845 v882 v919 v956 arg13).trips, ∀ a, (k0_off466 v16 v31 v68 v105 v142 v179 v216 v253 v290 v327 v364 v401 v438 v475 v512 v549 v586 v623 v660 v697 v734 v771 v808 v845 v882 v919 v956 arg13 k0_t158) a + S1x16.size a ≤ S512x128.size a) ∧
  (∀ k0_t158 : Fin (k0_t158_loop v16 v31 v68 v105 v142 v179 v216 v253 v290 v327 v364 v401 v438 v475 v512 v549 v586 v623 v660 v697 v734 v771 v808 v845 v882 v919 v956 arg13).trips, ∀ a, (k0_off467 v16 v31 v68 v105 v142 v179 v216 v253 v290 v327 v364 v401 v438 v475 v512 v549 v586 v623 v660 v697 v734 v771 v808 v845 v882 v919 v956 arg13 k0_t158) a + S1x16.size a ≤ S512x128.size a) ∧
  (∀ k0_t158 : Fin (k0_t158_loop v16 v31 v68 v105 v142 v179 v216 v253 v290 v327 v364 v401 v438 v475 v512 v549 v586 v623 v660 v697 v734 v771 v808 v845 v882 v919 v956 arg13).trips, ∀ a, (k0_off468 v16 v31 v68 v105 v142 v179 v216 v253 v290 v327 v364 v401 v438 v475 v512 v549 v586 v623 v660 v697 v734 v771 v808 v845 v882 v919 v956 arg13 k0_t158) a + S1x16.size a ≤ S512x128.size a)
theorem k0_mult52_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13), 8 ∣ (k0_mult52 arg13).toNat := fun v16 v31 v68 v105 v142 v179 v216 v253 v290 v327 v364 v401 v438 v475 v512 v549 v586 v623 v660 v697 v734 v771 v808 v845 v882 v919 v956 arg13 k0_hw82 => k0_hw82.1
theorem k0_off460_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13), ∀ a, (k0_off460 arg13) a + S512x128.size a ≤ S320000x128.size a := fun v16 v31 v68 v105 v142 v179 v216 v253 v290 v327 v364 v401 v438 v475 v512 v549 v586 v623 v660 v697 v734 v771 v808 v845 v882 v919 v956 arg13 k0_hw82 => k0_hw82.2.1
theorem k0_t157_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13), (k0_t157_loop v16 v31 v68 v105 v142 v179 v216 v253 v290 v327 v364 v401 v438 v475 v512 v549 v586 v623 v660 v697 v734 v771 v808 v845 v882 v919 v956 arg13).OK := fun v16 v31 v68 v105 v142 v179 v216 v253 v290 v327 v364 v401 v438 v475 v512 v549 v586 v623 v660 v697 v734 v771 v808 v845 v882 v919 v956 arg13 k0_hw82 => k0_hw82.2.2.1
theorem k0_off461_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13) (k0_t157 : Fin (k0_t157_loop v16 v31 v68 v105 v142 v179 v216 v253 v290 v327 v364 v401 v438 v475 v512 v549 v586 v623 v660 v697 v734 v771 v808 v845 v882 v919 v956 arg13).trips), ∀ a, (k0_off461 v16 v31 v68 v105 v142 v179 v216 v253 v290 v327 v364 v401 v438 v475 v512 v549 v586 v623 v660 v697 v734 v771 v808 v845 v882 v919 v956 arg13 k0_t157) a + S1x16.size a ≤ S512x128.size a := fun v16 v31 v68 v105 v142 v179 v216 v253 v290 v327 v364 v401 v438 v475 v512 v549 v586 v623 v660 v697 v734 v771 v808 v845 v882 v919 v956 arg13 k0_hw82 k0_t157 => k0_hw82.2.2.2.1 k0_t157
theorem k0_off462_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13) (k0_t157 : Fin (k0_t157_loop v16 v31 v68 v105 v142 v179 v216 v253 v290 v327 v364 v401 v438 v475 v512 v549 v586 v623 v660 v697 v734 v771 v808 v845 v882 v919 v956 arg13).trips), ∀ a, (k0_off462 v16 v31 v68 v105 v142 v179 v216 v253 v290 v327 v364 v401 v438 v475 v512 v549 v586 v623 v660 v697 v734 v771 v808 v845 v882 v919 v956 arg13 k0_t157) a + S1x16.size a ≤ S512x128.size a := fun v16 v31 v68 v105 v142 v179 v216 v253 v290 v327 v364 v401 v438 v475 v512 v549 v586 v623 v660 v697 v734 v771 v808 v845 v882 v919 v956 arg13 k0_hw82 k0_t157 => k0_hw82.2.2.2.2.1 k0_t157
theorem k0_off463_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13) (k0_t157 : Fin (k0_t157_loop v16 v31 v68 v105 v142 v179 v216 v253 v290 v327 v364 v401 v438 v475 v512 v549 v586 v623 v660 v697 v734 v771 v808 v845 v882 v919 v956 arg13).trips), ∀ a, (k0_off463 v16 v31 v68 v105 v142 v179 v216 v253 v290 v327 v364 v401 v438 v475 v512 v549 v586 v623 v660 v697 v734 v771 v808 v845 v882 v919 v956 arg13 k0_t157) a + S1x16.size a ≤ S512x128.size a := fun v16 v31 v68 v105 v142 v179 v216 v253 v290 v327 v364 v401 v438 v475 v512 v549 v586 v623 v660 v697 v734 v771 v808 v845 v882 v919 v956 arg13 k0_hw82 k0_t157 => k0_hw82.2.2.2.2.2.1 k0_t157
theorem k0_off464_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13) (k0_t157 : Fin (k0_t157_loop v16 v31 v68 v105 v142 v179 v216 v253 v290 v327 v364 v401 v438 v475 v512 v549 v586 v623 v660 v697 v734 v771 v808 v845 v882 v919 v956 arg13).trips), ∀ a, (k0_off464 v16 v31 v68 v105 v142 v179 v216 v253 v290 v327 v364 v401 v438 v475 v512 v549 v586 v623 v660 v697 v734 v771 v808 v845 v882 v919 v956 arg13 k0_t157) a + S1x16.size a ≤ S512x128.size a := fun v16 v31 v68 v105 v142 v179 v216 v253 v290 v327 v364 v401 v438 v475 v512 v549 v586 v623 v660 v697 v734 v771 v808 v845 v882 v919 v956 arg13 k0_hw82 k0_t157 => k0_hw82.2.2.2.2.2.2.1 k0_t157
theorem k0_t158_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13), (k0_t158_loop v16 v31 v68 v105 v142 v179 v216 v253 v290 v327 v364 v401 v438 v475 v512 v549 v586 v623 v660 v697 v734 v771 v808 v845 v882 v919 v956 arg13).OK := fun v16 v31 v68 v105 v142 v179 v216 v253 v290 v327 v364 v401 v438 v475 v512 v549 v586 v623 v660 v697 v734 v771 v808 v845 v882 v919 v956 arg13 k0_hw82 => k0_hw82.2.2.2.2.2.2.2.1
theorem k0_off465_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13) (k0_t158 : Fin (k0_t158_loop v16 v31 v68 v105 v142 v179 v216 v253 v290 v327 v364 v401 v438 v475 v512 v549 v586 v623 v660 v697 v734 v771 v808 v845 v882 v919 v956 arg13).trips), ∀ a, (k0_off465 v16 v31 v68 v105 v142 v179 v216 v253 v290 v327 v364 v401 v438 v475 v512 v549 v586 v623 v660 v697 v734 v771 v808 v845 v882 v919 v956 arg13 k0_t158) a + S1x16.size a ≤ S512x128.size a := fun v16 v31 v68 v105 v142 v179 v216 v253 v290 v327 v364 v401 v438 v475 v512 v549 v586 v623 v660 v697 v734 v771 v808 v845 v882 v919 v956 arg13 k0_hw82 k0_t158 => k0_hw82.2.2.2.2.2.2.2.2.1 k0_t158
theorem k0_off466_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13) (k0_t158 : Fin (k0_t158_loop v16 v31 v68 v105 v142 v179 v216 v253 v290 v327 v364 v401 v438 v475 v512 v549 v586 v623 v660 v697 v734 v771 v808 v845 v882 v919 v956 arg13).trips), ∀ a, (k0_off466 v16 v31 v68 v105 v142 v179 v216 v253 v290 v327 v364 v401 v438 v475 v512 v549 v586 v623 v660 v697 v734 v771 v808 v845 v882 v919 v956 arg13 k0_t158) a + S1x16.size a ≤ S512x128.size a := fun v16 v31 v68 v105 v142 v179 v216 v253 v290 v327 v364 v401 v438 v475 v512 v549 v586 v623 v660 v697 v734 v771 v808 v845 v882 v919 v956 arg13 k0_hw82 k0_t158 => k0_hw82.2.2.2.2.2.2.2.2.2.1 k0_t158
theorem k0_off467_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13) (k0_t158 : Fin (k0_t158_loop v16 v31 v68 v105 v142 v179 v216 v253 v290 v327 v364 v401 v438 v475 v512 v549 v586 v623 v660 v697 v734 v771 v808 v845 v882 v919 v956 arg13).trips), ∀ a, (k0_off467 v16 v31 v68 v105 v142 v179 v216 v253 v290 v327 v364 v401 v438 v475 v512 v549 v586 v623 v660 v697 v734 v771 v808 v845 v882 v919 v956 arg13 k0_t158) a + S1x16.size a ≤ S512x128.size a := fun v16 v31 v68 v105 v142 v179 v216 v253 v290 v327 v364 v401 v438 v475 v512 v549 v586 v623 v660 v697 v734 v771 v808 v845 v882 v919 v956 arg13 k0_hw82 k0_t158 => k0_hw82.2.2.2.2.2.2.2.2.2.2.1 k0_t158
theorem k0_off468_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (arg13 : BitVec 32) (k0_hw82 : k0_chk82 v16 v31 v68 v105 v142 v179 v216 v253 v290 v327 v364 v401 v438 v475 v512 v549 v586 v623 v660 v697 v734 v771 v808 v845 v882 v919 v956 arg13) (k0_t158 : Fin (k0_t158_loop v16 v31 v68 v105 v142 v179 v216 v253 v290 v327 v364 v401 v438 v475 v512 v549 v586 v623 v660 v697 v734 v771 v808 v845 v882 v919 v956 arg13).trips), ∀ a, (k0_off468 v16 v31 v68 v105 v142 v179 v216 v253 v290 v327 v364 v401 v438 v475 v512 v549 v586 v623 v660 v697 v734 v771 v808 v845 v882 v919 v956 arg13 k0_t158) a + S1x16.size a ≤ S512x128.size a := fun v16 v31 v68 v105 v142 v179 v216 v253 v290 v327 v364 v401 v438 v475 v512 v549 v586 v623 v660 v697 v734 v771 v808 v845 v882 v919 v956 arg13 k0_hw82 k0_t158 => k0_hw82.2.2.2.2.2.2.2.2.2.2.2 k0_t158

@[reducible] def k0_t159_loop (v993 : BitVec 32) : Scf.Loop 32 :=
  let c0_i32_392 : BitVec 32 := 0#32
  let c0_i32_385 : BitVec 32 := 0#32
  let v996 : BitVec 1 := Scalar.cmpi .sgt v993 c0_i32_385
  let v997 : BitVec 32 := Scalar.extui v996
  let c0_i32_386 : BitVec 32 := 0#32
  let v998 : BitVec 1 := Scalar.cmpi .slt v993 c0_i32_386
  let v999 : BitVec 32 := Scalar.extui v998
  let v1000 : BitVec 32 := Scalar.subi v997 v999
  let c504_i32_384 : BitVec 32 := 504#32
  let c0_i32_387 : BitVec 32 := 0#32
  let v1001 : BitVec 1 := Scalar.cmpi .sgt c504_i32_384 c0_i32_387
  let v1002 : BitVec 32 := Scalar.extui v1001
  let c0_i32_388 : BitVec 32 := 0#32
  let v1003 : BitVec 1 := Scalar.cmpi .slt c504_i32_384 c0_i32_388
  let v1004 : BitVec 32 := Scalar.extui v1003
  let v1005 : BitVec 32 := Scalar.subi v1002 v1004
  let v1006 : BitVec 1 := Scalar.cmpi .ne v1000 v1005
  let v1007 : BitVec 32 := Scalar.remsi v993 c504_i32_384
  let c0_i32_389 : BitVec 32 := 0#32
  let v1008 : BitVec 1 := Scalar.cmpi .ne v1007 c0_i32_389
  let v1009 : BitVec 1 := Scalar.andi v1006 v1008
  let v995 : BitVec 32 := Scalar.divsi v993 c504_i32_384
  let c1_i32_390 : BitVec 32 := 1#32
  let v1010 : BitVec 32 := Scalar.subi v995 c1_i32_390
  let v1011 : BitVec 32 := Scalar.select v1009 v1010 v995
  let c1_i32_391 : BitVec 32 := 1#32
  let v1012 : BitVec 32 := Scalar.addi v1011 c1_i32_391
  let v1013 : BitVec 32 := Scalar.subi v1012 c0_i32_392
  let c1_i32_393 : BitVec 32 := 1#32
  let v1015 : BitVec 32 := Scalar.divsi v1013 c1_i32_393
  let v1016 : BitVec 32 := Scalar.muli v1015 c1_i32_393
  let v1017 : BitVec 32 := Scalar.addi c0_i32_392 v1016
  let c1_i32_394 : BitVec 32 := 1#32
  ⟨c0_i32_392, v1017, c1_i32_394⟩

def k0_mult53 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off469 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r53 : BitVec 32 := 0#32
  ![v1213.toNat, 0]
@[reducible] def k0_t160_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off470 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t160 : Fin (k0_t160_loop v16 v31 v68 v105 v142 v179 v216 v253 v290 v327 v364 v401 v438 v475 v512 v549 v586 v623 v660 v697 v734 v771 v808 v845 v882 v919 v956 v993 arg13).trips) : Fin 2 → Nat :=
  let c1_i32_473 : BitVec 32 := 1#32
  let arg14 : BitVec 32 := Scf.iv arg13 c1_i32_473 k0_t160
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off471 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t160 : Fin (k0_t160_loop v16 v31 v68 v105 v142 v179 v216 v253 v290 v327 v364 v401 v438 v475 v512 v549 v586 v623 v660 v697 v734 v771 v808 v845 v882 v919 v956 v993 arg13).trips) : Fin 2 → Nat :=
  let c1_i32_473 : BitVec 32 := 1#32
  let arg14 : BitVec 32 := Scf.iv arg13 c1_i32_473 k0_t160
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off472 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t160 : Fin (k0_t160_loop v16 v31 v68 v105 v142 v179 v216 v253 v290 v327 v364 v401 v438 v475 v512 v549 v586 v623 v660 v697 v734 v771 v808 v845 v882 v919 v956 v993 arg13).trips) : Fin 2 → Nat :=
  let c1_i32_473 : BitVec 32 := 1#32
  let arg14 : BitVec 32 := Scf.iv arg13 c1_i32_473 k0_t160
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off473 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t160 : Fin (k0_t160_loop v16 v31 v68 v105 v142 v179 v216 v253 v290 v327 v364 v401 v438 v475 v512 v549 v586 v623 v660 v697 v734 v771 v808 v845 v882 v919 v956 v993 arg13).trips) : Fin 2 → Nat :=
  let c1_i32_473 : BitVec 32 := 1#32
  let arg14 : BitVec 32 := Scf.iv arg13 c1_i32_473 k0_t160
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t161_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off474 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t161 : Fin (k0_t161_loop v16 v31 v68 v105 v142 v179 v216 v253 v290 v327 v364 v401 v438 v475 v512 v549 v586 v623 v660 v697 v734 v771 v808 v845 v882 v919 v956 v993 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t161
  let v1224 : BitVec 32 := Scalar.subi arg14 v1213
  let v1225 : Index := Scalar.indexCast v1224
  let c0_475 : Index := 0#32
  ![v1225.toNat, 0]
def k0_off475 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t161 : Fin (k0_t161_loop v16 v31 v68 v105 v142 v179 v216 v253 v290 v327 v364 v401 v438 v475 v512 v549 v586 v623 v660 v697 v734 v771 v808 v845 v882 v919 v956 v993 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t161
  let v1224 : BitVec 32 := Scalar.subi arg14 v1213
  let v1228 : Index := Scalar.indexCast v1224
  let c16_476 : Index := 16#32
  ![v1228.toNat, 16]
def k0_off476 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t161 : Fin (k0_t161_loop v16 v31 v68 v105 v142 v179 v216 v253 v290 v327 v364 v401 v438 v475 v512 v549 v586 v623 v660 v697 v734 v771 v808 v845 v882 v919 v956 v993 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t161
  let v1224 : BitVec 32 := Scalar.subi arg14 v1213
  let v1231 : Index := Scalar.indexCast v1224
  let c32_477 : Index := 32#32
  ![v1231.toNat, 32]
def k0_off477 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t161 : Fin (k0_t161_loop v16 v31 v68 v105 v142 v179 v216 v253 v290 v327 v364 v401 v438 v475 v512 v549 v586 v623 v660 v697 v734 v771 v808 v845 v882 v919 v956 v993 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t161
  let v1224 : BitVec 32 := Scalar.subi arg14 v1213
  let v1234 : Index := Scalar.indexCast v1224
  let c48_478 : Index := 48#32
  ![v1234.toNat, 48]

def k0_chk84 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) : Prop :=
  (8 ∣ (k0_mult53 arg13).toNat) ∧
  (∀ a, (k0_off469 arg13) a + S512x128.size a ≤ S320000x128.size a) ∧
  ((k0_t160_loop v16 v31 v68 v105 v142 v179 v216 v253 v290 v327 v364 v401 v438 v475 v512 v549 v586 v623 v660 v697 v734 v771 v808 v845 v882 v919 v956 v993 arg13).OK) ∧
  (∀ k0_t160 : Fin (k0_t160_loop v16 v31 v68 v105 v142 v179 v216 v253 v290 v327 v364 v401 v438 v475 v512 v549 v586 v623 v660 v697 v734 v771 v808 v845 v882 v919 v956 v993 arg13).trips, ∀ a, (k0_off470 v16 v31 v68 v105 v142 v179 v216 v253 v290 v327 v364 v401 v438 v475 v512 v549 v586 v623 v660 v697 v734 v771 v808 v845 v882 v919 v956 v993 arg13 k0_t160) a + S1x16.size a ≤ S512x128.size a) ∧
  (∀ k0_t160 : Fin (k0_t160_loop v16 v31 v68 v105 v142 v179 v216 v253 v290 v327 v364 v401 v438 v475 v512 v549 v586 v623 v660 v697 v734 v771 v808 v845 v882 v919 v956 v993 arg13).trips, ∀ a, (k0_off471 v16 v31 v68 v105 v142 v179 v216 v253 v290 v327 v364 v401 v438 v475 v512 v549 v586 v623 v660 v697 v734 v771 v808 v845 v882 v919 v956 v993 arg13 k0_t160) a + S1x16.size a ≤ S512x128.size a) ∧
  (∀ k0_t160 : Fin (k0_t160_loop v16 v31 v68 v105 v142 v179 v216 v253 v290 v327 v364 v401 v438 v475 v512 v549 v586 v623 v660 v697 v734 v771 v808 v845 v882 v919 v956 v993 arg13).trips, ∀ a, (k0_off472 v16 v31 v68 v105 v142 v179 v216 v253 v290 v327 v364 v401 v438 v475 v512 v549 v586 v623 v660 v697 v734 v771 v808 v845 v882 v919 v956 v993 arg13 k0_t160) a + S1x16.size a ≤ S512x128.size a) ∧
  (∀ k0_t160 : Fin (k0_t160_loop v16 v31 v68 v105 v142 v179 v216 v253 v290 v327 v364 v401 v438 v475 v512 v549 v586 v623 v660 v697 v734 v771 v808 v845 v882 v919 v956 v993 arg13).trips, ∀ a, (k0_off473 v16 v31 v68 v105 v142 v179 v216 v253 v290 v327 v364 v401 v438 v475 v512 v549 v586 v623 v660 v697 v734 v771 v808 v845 v882 v919 v956 v993 arg13 k0_t160) a + S1x16.size a ≤ S512x128.size a) ∧
  ((k0_t161_loop v16 v31 v68 v105 v142 v179 v216 v253 v290 v327 v364 v401 v438 v475 v512 v549 v586 v623 v660 v697 v734 v771 v808 v845 v882 v919 v956 v993 arg13).OK) ∧
  (∀ k0_t161 : Fin (k0_t161_loop v16 v31 v68 v105 v142 v179 v216 v253 v290 v327 v364 v401 v438 v475 v512 v549 v586 v623 v660 v697 v734 v771 v808 v845 v882 v919 v956 v993 arg13).trips, ∀ a, (k0_off474 v16 v31 v68 v105 v142 v179 v216 v253 v290 v327 v364 v401 v438 v475 v512 v549 v586 v623 v660 v697 v734 v771 v808 v845 v882 v919 v956 v993 arg13 k0_t161) a + S1x16.size a ≤ S512x128.size a) ∧
  (∀ k0_t161 : Fin (k0_t161_loop v16 v31 v68 v105 v142 v179 v216 v253 v290 v327 v364 v401 v438 v475 v512 v549 v586 v623 v660 v697 v734 v771 v808 v845 v882 v919 v956 v993 arg13).trips, ∀ a, (k0_off475 v16 v31 v68 v105 v142 v179 v216 v253 v290 v327 v364 v401 v438 v475 v512 v549 v586 v623 v660 v697 v734 v771 v808 v845 v882 v919 v956 v993 arg13 k0_t161) a + S1x16.size a ≤ S512x128.size a) ∧
  (∀ k0_t161 : Fin (k0_t161_loop v16 v31 v68 v105 v142 v179 v216 v253 v290 v327 v364 v401 v438 v475 v512 v549 v586 v623 v660 v697 v734 v771 v808 v845 v882 v919 v956 v993 arg13).trips, ∀ a, (k0_off476 v16 v31 v68 v105 v142 v179 v216 v253 v290 v327 v364 v401 v438 v475 v512 v549 v586 v623 v660 v697 v734 v771 v808 v845 v882 v919 v956 v993 arg13 k0_t161) a + S1x16.size a ≤ S512x128.size a) ∧
  (∀ k0_t161 : Fin (k0_t161_loop v16 v31 v68 v105 v142 v179 v216 v253 v290 v327 v364 v401 v438 v475 v512 v549 v586 v623 v660 v697 v734 v771 v808 v845 v882 v919 v956 v993 arg13).trips, ∀ a, (k0_off477 v16 v31 v68 v105 v142 v179 v216 v253 v290 v327 v364 v401 v438 v475 v512 v549 v586 v623 v660 v697 v734 v771 v808 v845 v882 v919 v956 v993 arg13 k0_t161) a + S1x16.size a ≤ S512x128.size a)
theorem k0_mult53_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13), 8 ∣ (k0_mult53 arg13).toNat := fun v16 v31 v68 v105 v142 v179 v216 v253 v290 v327 v364 v401 v438 v475 v512 v549 v586 v623 v660 v697 v734 v771 v808 v845 v882 v919 v956 v993 arg13 k0_hw84 => k0_hw84.1
theorem k0_off469_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13), ∀ a, (k0_off469 arg13) a + S512x128.size a ≤ S320000x128.size a := fun v16 v31 v68 v105 v142 v179 v216 v253 v290 v327 v364 v401 v438 v475 v512 v549 v586 v623 v660 v697 v734 v771 v808 v845 v882 v919 v956 v993 arg13 k0_hw84 => k0_hw84.2.1
theorem k0_t160_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13), (k0_t160_loop v16 v31 v68 v105 v142 v179 v216 v253 v290 v327 v364 v401 v438 v475 v512 v549 v586 v623 v660 v697 v734 v771 v808 v845 v882 v919 v956 v993 arg13).OK := fun v16 v31 v68 v105 v142 v179 v216 v253 v290 v327 v364 v401 v438 v475 v512 v549 v586 v623 v660 v697 v734 v771 v808 v845 v882 v919 v956 v993 arg13 k0_hw84 => k0_hw84.2.2.1
theorem k0_off470_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13) (k0_t160 : Fin (k0_t160_loop v16 v31 v68 v105 v142 v179 v216 v253 v290 v327 v364 v401 v438 v475 v512 v549 v586 v623 v660 v697 v734 v771 v808 v845 v882 v919 v956 v993 arg13).trips), ∀ a, (k0_off470 v16 v31 v68 v105 v142 v179 v216 v253 v290 v327 v364 v401 v438 v475 v512 v549 v586 v623 v660 v697 v734 v771 v808 v845 v882 v919 v956 v993 arg13 k0_t160) a + S1x16.size a ≤ S512x128.size a := fun v16 v31 v68 v105 v142 v179 v216 v253 v290 v327 v364 v401 v438 v475 v512 v549 v586 v623 v660 v697 v734 v771 v808 v845 v882 v919 v956 v993 arg13 k0_hw84 k0_t160 => k0_hw84.2.2.2.1 k0_t160
theorem k0_off471_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13) (k0_t160 : Fin (k0_t160_loop v16 v31 v68 v105 v142 v179 v216 v253 v290 v327 v364 v401 v438 v475 v512 v549 v586 v623 v660 v697 v734 v771 v808 v845 v882 v919 v956 v993 arg13).trips), ∀ a, (k0_off471 v16 v31 v68 v105 v142 v179 v216 v253 v290 v327 v364 v401 v438 v475 v512 v549 v586 v623 v660 v697 v734 v771 v808 v845 v882 v919 v956 v993 arg13 k0_t160) a + S1x16.size a ≤ S512x128.size a := fun v16 v31 v68 v105 v142 v179 v216 v253 v290 v327 v364 v401 v438 v475 v512 v549 v586 v623 v660 v697 v734 v771 v808 v845 v882 v919 v956 v993 arg13 k0_hw84 k0_t160 => k0_hw84.2.2.2.2.1 k0_t160
theorem k0_off472_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13) (k0_t160 : Fin (k0_t160_loop v16 v31 v68 v105 v142 v179 v216 v253 v290 v327 v364 v401 v438 v475 v512 v549 v586 v623 v660 v697 v734 v771 v808 v845 v882 v919 v956 v993 arg13).trips), ∀ a, (k0_off472 v16 v31 v68 v105 v142 v179 v216 v253 v290 v327 v364 v401 v438 v475 v512 v549 v586 v623 v660 v697 v734 v771 v808 v845 v882 v919 v956 v993 arg13 k0_t160) a + S1x16.size a ≤ S512x128.size a := fun v16 v31 v68 v105 v142 v179 v216 v253 v290 v327 v364 v401 v438 v475 v512 v549 v586 v623 v660 v697 v734 v771 v808 v845 v882 v919 v956 v993 arg13 k0_hw84 k0_t160 => k0_hw84.2.2.2.2.2.1 k0_t160
theorem k0_off473_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13) (k0_t160 : Fin (k0_t160_loop v16 v31 v68 v105 v142 v179 v216 v253 v290 v327 v364 v401 v438 v475 v512 v549 v586 v623 v660 v697 v734 v771 v808 v845 v882 v919 v956 v993 arg13).trips), ∀ a, (k0_off473 v16 v31 v68 v105 v142 v179 v216 v253 v290 v327 v364 v401 v438 v475 v512 v549 v586 v623 v660 v697 v734 v771 v808 v845 v882 v919 v956 v993 arg13 k0_t160) a + S1x16.size a ≤ S512x128.size a := fun v16 v31 v68 v105 v142 v179 v216 v253 v290 v327 v364 v401 v438 v475 v512 v549 v586 v623 v660 v697 v734 v771 v808 v845 v882 v919 v956 v993 arg13 k0_hw84 k0_t160 => k0_hw84.2.2.2.2.2.2.1 k0_t160
theorem k0_t161_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13), (k0_t161_loop v16 v31 v68 v105 v142 v179 v216 v253 v290 v327 v364 v401 v438 v475 v512 v549 v586 v623 v660 v697 v734 v771 v808 v845 v882 v919 v956 v993 arg13).OK := fun v16 v31 v68 v105 v142 v179 v216 v253 v290 v327 v364 v401 v438 v475 v512 v549 v586 v623 v660 v697 v734 v771 v808 v845 v882 v919 v956 v993 arg13 k0_hw84 => k0_hw84.2.2.2.2.2.2.2.1
theorem k0_off474_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13) (k0_t161 : Fin (k0_t161_loop v16 v31 v68 v105 v142 v179 v216 v253 v290 v327 v364 v401 v438 v475 v512 v549 v586 v623 v660 v697 v734 v771 v808 v845 v882 v919 v956 v993 arg13).trips), ∀ a, (k0_off474 v16 v31 v68 v105 v142 v179 v216 v253 v290 v327 v364 v401 v438 v475 v512 v549 v586 v623 v660 v697 v734 v771 v808 v845 v882 v919 v956 v993 arg13 k0_t161) a + S1x16.size a ≤ S512x128.size a := fun v16 v31 v68 v105 v142 v179 v216 v253 v290 v327 v364 v401 v438 v475 v512 v549 v586 v623 v660 v697 v734 v771 v808 v845 v882 v919 v956 v993 arg13 k0_hw84 k0_t161 => k0_hw84.2.2.2.2.2.2.2.2.1 k0_t161
theorem k0_off475_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13) (k0_t161 : Fin (k0_t161_loop v16 v31 v68 v105 v142 v179 v216 v253 v290 v327 v364 v401 v438 v475 v512 v549 v586 v623 v660 v697 v734 v771 v808 v845 v882 v919 v956 v993 arg13).trips), ∀ a, (k0_off475 v16 v31 v68 v105 v142 v179 v216 v253 v290 v327 v364 v401 v438 v475 v512 v549 v586 v623 v660 v697 v734 v771 v808 v845 v882 v919 v956 v993 arg13 k0_t161) a + S1x16.size a ≤ S512x128.size a := fun v16 v31 v68 v105 v142 v179 v216 v253 v290 v327 v364 v401 v438 v475 v512 v549 v586 v623 v660 v697 v734 v771 v808 v845 v882 v919 v956 v993 arg13 k0_hw84 k0_t161 => k0_hw84.2.2.2.2.2.2.2.2.2.1 k0_t161
theorem k0_off476_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13) (k0_t161 : Fin (k0_t161_loop v16 v31 v68 v105 v142 v179 v216 v253 v290 v327 v364 v401 v438 v475 v512 v549 v586 v623 v660 v697 v734 v771 v808 v845 v882 v919 v956 v993 arg13).trips), ∀ a, (k0_off476 v16 v31 v68 v105 v142 v179 v216 v253 v290 v327 v364 v401 v438 v475 v512 v549 v586 v623 v660 v697 v734 v771 v808 v845 v882 v919 v956 v993 arg13 k0_t161) a + S1x16.size a ≤ S512x128.size a := fun v16 v31 v68 v105 v142 v179 v216 v253 v290 v327 v364 v401 v438 v475 v512 v549 v586 v623 v660 v697 v734 v771 v808 v845 v882 v919 v956 v993 arg13 k0_hw84 k0_t161 => k0_hw84.2.2.2.2.2.2.2.2.2.2.1 k0_t161
theorem k0_off477_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw84 : k0_chk84 v16 v31 v68 v105 v142 v179 v216 v253 v290 v327 v364 v401 v438 v475 v512 v549 v586 v623 v660 v697 v734 v771 v808 v845 v882 v919 v956 v993 arg13) (k0_t161 : Fin (k0_t161_loop v16 v31 v68 v105 v142 v179 v216 v253 v290 v327 v364 v401 v438 v475 v512 v549 v586 v623 v660 v697 v734 v771 v808 v845 v882 v919 v956 v993 arg13).trips), ∀ a, (k0_off477 v16 v31 v68 v105 v142 v179 v216 v253 v290 v327 v364 v401 v438 v475 v512 v549 v586 v623 v660 v697 v734 v771 v808 v845 v882 v919 v956 v993 arg13 k0_t161) a + S1x16.size a ≤ S512x128.size a := fun v16 v31 v68 v105 v142 v179 v216 v253 v290 v327 v364 v401 v438 v475 v512 v549 v586 v623 v660 v697 v734 v771 v808 v845 v882 v919 v956 v993 arg13 k0_hw84 k0_t161 => k0_hw84.2.2.2.2.2.2.2.2.2.2.2 k0_t161

@[reducible] def k0_t162_loop (v993 : BitVec 32) : Scf.Loop 32 :=
  let c0_i32_392 : BitVec 32 := 0#32
  let c0_i32_385 : BitVec 32 := 0#32
  let v996 : BitVec 1 := Scalar.cmpi .sgt v993 c0_i32_385
  let v997 : BitVec 32 := Scalar.extui v996
  let c0_i32_386 : BitVec 32 := 0#32
  let v998 : BitVec 1 := Scalar.cmpi .slt v993 c0_i32_386
  let v999 : BitVec 32 := Scalar.extui v998
  let v1000 : BitVec 32 := Scalar.subi v997 v999
  let c504_i32_384 : BitVec 32 := 504#32
  let c0_i32_387 : BitVec 32 := 0#32
  let v1001 : BitVec 1 := Scalar.cmpi .sgt c504_i32_384 c0_i32_387
  let v1002 : BitVec 32 := Scalar.extui v1001
  let c0_i32_388 : BitVec 32 := 0#32
  let v1003 : BitVec 1 := Scalar.cmpi .slt c504_i32_384 c0_i32_388
  let v1004 : BitVec 32 := Scalar.extui v1003
  let v1005 : BitVec 32 := Scalar.subi v1002 v1004
  let v1006 : BitVec 1 := Scalar.cmpi .ne v1000 v1005
  let v1007 : BitVec 32 := Scalar.remsi v993 c504_i32_384
  let c0_i32_389 : BitVec 32 := 0#32
  let v1008 : BitVec 1 := Scalar.cmpi .ne v1007 c0_i32_389
  let v1009 : BitVec 1 := Scalar.andi v1006 v1008
  let v995 : BitVec 32 := Scalar.divsi v993 c504_i32_384
  let c1_i32_390 : BitVec 32 := 1#32
  let v1010 : BitVec 32 := Scalar.subi v995 c1_i32_390
  let v1011 : BitVec 32 := Scalar.select v1009 v1010 v995
  let c1_i32_391 : BitVec 32 := 1#32
  let v1012 : BitVec 32 := Scalar.addi v1011 c1_i32_391
  let v1013 : BitVec 32 := Scalar.subi v1012 c0_i32_392
  let c1_i32_393 : BitVec 32 := 1#32
  let v1015 : BitVec 32 := Scalar.divsi v1013 c1_i32_393
  let v1016 : BitVec 32 := Scalar.muli v1015 c1_i32_393
  let v1017 : BitVec 32 := Scalar.addi c0_i32_392 v1016
  let v1014 : BitVec 32 := Scalar.addi c0_i32_392 v1013
  let c1_i32_395 : BitVec 32 := 1#32
  ⟨v1017, v1014, c1_i32_395⟩

def k0_chk83 (v993 : BitVec 32) : Prop :=
  ((k0_t159_loop v993).OK) ∧
  ((k0_t162_loop v993).OK)
theorem k0_t159_ok : ∀ (v993 : BitVec 32) (k0_hw83 : k0_chk83 v993), (k0_t159_loop v993).OK := fun v993 k0_hw83 => k0_hw83.1
theorem k0_t162_ok : ∀ (v993 : BitVec 32) (k0_hw83 : k0_chk83 v993), (k0_t162_loop v993).OK := fun v993 k0_hw83 => k0_hw83.2

def k0_mult54 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off478 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r54 : BitVec 32 := 0#32
  ![v1213.toNat, 0]
@[reducible] def k0_t163_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off479 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t163 : Fin (k0_t163_loop v16 v31 v68 v105 v142 v179 v216 v253 v290 v327 v364 v401 v438 v475 v512 v549 v586 v623 v660 v697 v734 v771 v808 v845 v882 v919 v956 v993 arg13).trips) : Fin 2 → Nat :=
  let c1_i32_473 : BitVec 32 := 1#32
  let arg14 : BitVec 32 := Scf.iv arg13 c1_i32_473 k0_t163
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off480 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t163 : Fin (k0_t163_loop v16 v31 v68 v105 v142 v179 v216 v253 v290 v327 v364 v401 v438 v475 v512 v549 v586 v623 v660 v697 v734 v771 v808 v845 v882 v919 v956 v993 arg13).trips) : Fin 2 → Nat :=
  let c1_i32_473 : BitVec 32 := 1#32
  let arg14 : BitVec 32 := Scf.iv arg13 c1_i32_473 k0_t163
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off481 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t163 : Fin (k0_t163_loop v16 v31 v68 v105 v142 v179 v216 v253 v290 v327 v364 v401 v438 v475 v512 v549 v586 v623 v660 v697 v734 v771 v808 v845 v882 v919 v956 v993 arg13).trips) : Fin 2 → Nat :=
  let c1_i32_473 : BitVec 32 := 1#32
  let arg14 : BitVec 32 := Scf.iv arg13 c1_i32_473 k0_t163
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off482 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t163 : Fin (k0_t163_loop v16 v31 v68 v105 v142 v179 v216 v253 v290 v327 v364 v401 v438 v475 v512 v549 v586 v623 v660 v697 v734 v771 v808 v845 v882 v919 v956 v993 arg13).trips) : Fin 2 → Nat :=
  let c1_i32_473 : BitVec 32 := 1#32
  let arg14 : BitVec 32 := Scf.iv arg13 c1_i32_473 k0_t163
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t164_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off483 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t164 : Fin (k0_t164_loop v16 v31 v68 v105 v142 v179 v216 v253 v290 v327 v364 v401 v438 v475 v512 v549 v586 v623 v660 v697 v734 v771 v808 v845 v882 v919 v956 v993 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t164
  let v1224 : BitVec 32 := Scalar.subi arg14 v1213
  let v1225 : Index := Scalar.indexCast v1224
  let c0_475 : Index := 0#32
  ![v1225.toNat, 0]
def k0_off484 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t164 : Fin (k0_t164_loop v16 v31 v68 v105 v142 v179 v216 v253 v290 v327 v364 v401 v438 v475 v512 v549 v586 v623 v660 v697 v734 v771 v808 v845 v882 v919 v956 v993 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t164
  let v1224 : BitVec 32 := Scalar.subi arg14 v1213
  let v1228 : Index := Scalar.indexCast v1224
  let c16_476 : Index := 16#32
  ![v1228.toNat, 16]
def k0_off485 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t164 : Fin (k0_t164_loop v16 v31 v68 v105 v142 v179 v216 v253 v290 v327 v364 v401 v438 v475 v512 v549 v586 v623 v660 v697 v734 v771 v808 v845 v882 v919 v956 v993 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t164
  let v1224 : BitVec 32 := Scalar.subi arg14 v1213
  let v1231 : Index := Scalar.indexCast v1224
  let c32_477 : Index := 32#32
  ![v1231.toNat, 32]
def k0_off486 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_t164 : Fin (k0_t164_loop v16 v31 v68 v105 v142 v179 v216 v253 v290 v327 v364 v401 v438 v475 v512 v549 v586 v623 v660 v697 v734 v771 v808 v845 v882 v919 v956 v993 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v994 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t164
  let v1224 : BitVec 32 := Scalar.subi arg14 v1213
  let v1234 : Index := Scalar.indexCast v1224
  let c48_478 : Index := 48#32
  ![v1234.toNat, 48]

def k0_chk85 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) : Prop :=
  (8 ∣ (k0_mult54 arg13).toNat) ∧
  (∀ a, (k0_off478 arg13) a + S512x128.size a ≤ S320000x128.size a) ∧
  ((k0_t163_loop v16 v31 v68 v105 v142 v179 v216 v253 v290 v327 v364 v401 v438 v475 v512 v549 v586 v623 v660 v697 v734 v771 v808 v845 v882 v919 v956 v993 arg13).OK) ∧
  (∀ k0_t163 : Fin (k0_t163_loop v16 v31 v68 v105 v142 v179 v216 v253 v290 v327 v364 v401 v438 v475 v512 v549 v586 v623 v660 v697 v734 v771 v808 v845 v882 v919 v956 v993 arg13).trips, ∀ a, (k0_off479 v16 v31 v68 v105 v142 v179 v216 v253 v290 v327 v364 v401 v438 v475 v512 v549 v586 v623 v660 v697 v734 v771 v808 v845 v882 v919 v956 v993 arg13 k0_t163) a + S1x16.size a ≤ S512x128.size a) ∧
  (∀ k0_t163 : Fin (k0_t163_loop v16 v31 v68 v105 v142 v179 v216 v253 v290 v327 v364 v401 v438 v475 v512 v549 v586 v623 v660 v697 v734 v771 v808 v845 v882 v919 v956 v993 arg13).trips, ∀ a, (k0_off480 v16 v31 v68 v105 v142 v179 v216 v253 v290 v327 v364 v401 v438 v475 v512 v549 v586 v623 v660 v697 v734 v771 v808 v845 v882 v919 v956 v993 arg13 k0_t163) a + S1x16.size a ≤ S512x128.size a) ∧
  (∀ k0_t163 : Fin (k0_t163_loop v16 v31 v68 v105 v142 v179 v216 v253 v290 v327 v364 v401 v438 v475 v512 v549 v586 v623 v660 v697 v734 v771 v808 v845 v882 v919 v956 v993 arg13).trips, ∀ a, (k0_off481 v16 v31 v68 v105 v142 v179 v216 v253 v290 v327 v364 v401 v438 v475 v512 v549 v586 v623 v660 v697 v734 v771 v808 v845 v882 v919 v956 v993 arg13 k0_t163) a + S1x16.size a ≤ S512x128.size a) ∧
  (∀ k0_t163 : Fin (k0_t163_loop v16 v31 v68 v105 v142 v179 v216 v253 v290 v327 v364 v401 v438 v475 v512 v549 v586 v623 v660 v697 v734 v771 v808 v845 v882 v919 v956 v993 arg13).trips, ∀ a, (k0_off482 v16 v31 v68 v105 v142 v179 v216 v253 v290 v327 v364 v401 v438 v475 v512 v549 v586 v623 v660 v697 v734 v771 v808 v845 v882 v919 v956 v993 arg13 k0_t163) a + S1x16.size a ≤ S512x128.size a) ∧
  ((k0_t164_loop v16 v31 v68 v105 v142 v179 v216 v253 v290 v327 v364 v401 v438 v475 v512 v549 v586 v623 v660 v697 v734 v771 v808 v845 v882 v919 v956 v993 arg13).OK) ∧
  (∀ k0_t164 : Fin (k0_t164_loop v16 v31 v68 v105 v142 v179 v216 v253 v290 v327 v364 v401 v438 v475 v512 v549 v586 v623 v660 v697 v734 v771 v808 v845 v882 v919 v956 v993 arg13).trips, ∀ a, (k0_off483 v16 v31 v68 v105 v142 v179 v216 v253 v290 v327 v364 v401 v438 v475 v512 v549 v586 v623 v660 v697 v734 v771 v808 v845 v882 v919 v956 v993 arg13 k0_t164) a + S1x16.size a ≤ S512x128.size a) ∧
  (∀ k0_t164 : Fin (k0_t164_loop v16 v31 v68 v105 v142 v179 v216 v253 v290 v327 v364 v401 v438 v475 v512 v549 v586 v623 v660 v697 v734 v771 v808 v845 v882 v919 v956 v993 arg13).trips, ∀ a, (k0_off484 v16 v31 v68 v105 v142 v179 v216 v253 v290 v327 v364 v401 v438 v475 v512 v549 v586 v623 v660 v697 v734 v771 v808 v845 v882 v919 v956 v993 arg13 k0_t164) a + S1x16.size a ≤ S512x128.size a) ∧
  (∀ k0_t164 : Fin (k0_t164_loop v16 v31 v68 v105 v142 v179 v216 v253 v290 v327 v364 v401 v438 v475 v512 v549 v586 v623 v660 v697 v734 v771 v808 v845 v882 v919 v956 v993 arg13).trips, ∀ a, (k0_off485 v16 v31 v68 v105 v142 v179 v216 v253 v290 v327 v364 v401 v438 v475 v512 v549 v586 v623 v660 v697 v734 v771 v808 v845 v882 v919 v956 v993 arg13 k0_t164) a + S1x16.size a ≤ S512x128.size a) ∧
  (∀ k0_t164 : Fin (k0_t164_loop v16 v31 v68 v105 v142 v179 v216 v253 v290 v327 v364 v401 v438 v475 v512 v549 v586 v623 v660 v697 v734 v771 v808 v845 v882 v919 v956 v993 arg13).trips, ∀ a, (k0_off486 v16 v31 v68 v105 v142 v179 v216 v253 v290 v327 v364 v401 v438 v475 v512 v549 v586 v623 v660 v697 v734 v771 v808 v845 v882 v919 v956 v993 arg13 k0_t164) a + S1x16.size a ≤ S512x128.size a)
theorem k0_mult54_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13), 8 ∣ (k0_mult54 arg13).toNat := fun v16 v31 v68 v105 v142 v179 v216 v253 v290 v327 v364 v401 v438 v475 v512 v549 v586 v623 v660 v697 v734 v771 v808 v845 v882 v919 v956 v993 arg13 k0_hw85 => k0_hw85.1
theorem k0_off478_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13), ∀ a, (k0_off478 arg13) a + S512x128.size a ≤ S320000x128.size a := fun v16 v31 v68 v105 v142 v179 v216 v253 v290 v327 v364 v401 v438 v475 v512 v549 v586 v623 v660 v697 v734 v771 v808 v845 v882 v919 v956 v993 arg13 k0_hw85 => k0_hw85.2.1
theorem k0_t163_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13), (k0_t163_loop v16 v31 v68 v105 v142 v179 v216 v253 v290 v327 v364 v401 v438 v475 v512 v549 v586 v623 v660 v697 v734 v771 v808 v845 v882 v919 v956 v993 arg13).OK := fun v16 v31 v68 v105 v142 v179 v216 v253 v290 v327 v364 v401 v438 v475 v512 v549 v586 v623 v660 v697 v734 v771 v808 v845 v882 v919 v956 v993 arg13 k0_hw85 => k0_hw85.2.2.1
theorem k0_off479_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13) (k0_t163 : Fin (k0_t163_loop v16 v31 v68 v105 v142 v179 v216 v253 v290 v327 v364 v401 v438 v475 v512 v549 v586 v623 v660 v697 v734 v771 v808 v845 v882 v919 v956 v993 arg13).trips), ∀ a, (k0_off479 v16 v31 v68 v105 v142 v179 v216 v253 v290 v327 v364 v401 v438 v475 v512 v549 v586 v623 v660 v697 v734 v771 v808 v845 v882 v919 v956 v993 arg13 k0_t163) a + S1x16.size a ≤ S512x128.size a := fun v16 v31 v68 v105 v142 v179 v216 v253 v290 v327 v364 v401 v438 v475 v512 v549 v586 v623 v660 v697 v734 v771 v808 v845 v882 v919 v956 v993 arg13 k0_hw85 k0_t163 => k0_hw85.2.2.2.1 k0_t163
theorem k0_off480_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13) (k0_t163 : Fin (k0_t163_loop v16 v31 v68 v105 v142 v179 v216 v253 v290 v327 v364 v401 v438 v475 v512 v549 v586 v623 v660 v697 v734 v771 v808 v845 v882 v919 v956 v993 arg13).trips), ∀ a, (k0_off480 v16 v31 v68 v105 v142 v179 v216 v253 v290 v327 v364 v401 v438 v475 v512 v549 v586 v623 v660 v697 v734 v771 v808 v845 v882 v919 v956 v993 arg13 k0_t163) a + S1x16.size a ≤ S512x128.size a := fun v16 v31 v68 v105 v142 v179 v216 v253 v290 v327 v364 v401 v438 v475 v512 v549 v586 v623 v660 v697 v734 v771 v808 v845 v882 v919 v956 v993 arg13 k0_hw85 k0_t163 => k0_hw85.2.2.2.2.1 k0_t163
theorem k0_off481_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13) (k0_t163 : Fin (k0_t163_loop v16 v31 v68 v105 v142 v179 v216 v253 v290 v327 v364 v401 v438 v475 v512 v549 v586 v623 v660 v697 v734 v771 v808 v845 v882 v919 v956 v993 arg13).trips), ∀ a, (k0_off481 v16 v31 v68 v105 v142 v179 v216 v253 v290 v327 v364 v401 v438 v475 v512 v549 v586 v623 v660 v697 v734 v771 v808 v845 v882 v919 v956 v993 arg13 k0_t163) a + S1x16.size a ≤ S512x128.size a := fun v16 v31 v68 v105 v142 v179 v216 v253 v290 v327 v364 v401 v438 v475 v512 v549 v586 v623 v660 v697 v734 v771 v808 v845 v882 v919 v956 v993 arg13 k0_hw85 k0_t163 => k0_hw85.2.2.2.2.2.1 k0_t163
theorem k0_off482_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13) (k0_t163 : Fin (k0_t163_loop v16 v31 v68 v105 v142 v179 v216 v253 v290 v327 v364 v401 v438 v475 v512 v549 v586 v623 v660 v697 v734 v771 v808 v845 v882 v919 v956 v993 arg13).trips), ∀ a, (k0_off482 v16 v31 v68 v105 v142 v179 v216 v253 v290 v327 v364 v401 v438 v475 v512 v549 v586 v623 v660 v697 v734 v771 v808 v845 v882 v919 v956 v993 arg13 k0_t163) a + S1x16.size a ≤ S512x128.size a := fun v16 v31 v68 v105 v142 v179 v216 v253 v290 v327 v364 v401 v438 v475 v512 v549 v586 v623 v660 v697 v734 v771 v808 v845 v882 v919 v956 v993 arg13 k0_hw85 k0_t163 => k0_hw85.2.2.2.2.2.2.1 k0_t163
theorem k0_t164_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13), (k0_t164_loop v16 v31 v68 v105 v142 v179 v216 v253 v290 v327 v364 v401 v438 v475 v512 v549 v586 v623 v660 v697 v734 v771 v808 v845 v882 v919 v956 v993 arg13).OK := fun v16 v31 v68 v105 v142 v179 v216 v253 v290 v327 v364 v401 v438 v475 v512 v549 v586 v623 v660 v697 v734 v771 v808 v845 v882 v919 v956 v993 arg13 k0_hw85 => k0_hw85.2.2.2.2.2.2.2.1
theorem k0_off483_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13) (k0_t164 : Fin (k0_t164_loop v16 v31 v68 v105 v142 v179 v216 v253 v290 v327 v364 v401 v438 v475 v512 v549 v586 v623 v660 v697 v734 v771 v808 v845 v882 v919 v956 v993 arg13).trips), ∀ a, (k0_off483 v16 v31 v68 v105 v142 v179 v216 v253 v290 v327 v364 v401 v438 v475 v512 v549 v586 v623 v660 v697 v734 v771 v808 v845 v882 v919 v956 v993 arg13 k0_t164) a + S1x16.size a ≤ S512x128.size a := fun v16 v31 v68 v105 v142 v179 v216 v253 v290 v327 v364 v401 v438 v475 v512 v549 v586 v623 v660 v697 v734 v771 v808 v845 v882 v919 v956 v993 arg13 k0_hw85 k0_t164 => k0_hw85.2.2.2.2.2.2.2.2.1 k0_t164
theorem k0_off484_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13) (k0_t164 : Fin (k0_t164_loop v16 v31 v68 v105 v142 v179 v216 v253 v290 v327 v364 v401 v438 v475 v512 v549 v586 v623 v660 v697 v734 v771 v808 v845 v882 v919 v956 v993 arg13).trips), ∀ a, (k0_off484 v16 v31 v68 v105 v142 v179 v216 v253 v290 v327 v364 v401 v438 v475 v512 v549 v586 v623 v660 v697 v734 v771 v808 v845 v882 v919 v956 v993 arg13 k0_t164) a + S1x16.size a ≤ S512x128.size a := fun v16 v31 v68 v105 v142 v179 v216 v253 v290 v327 v364 v401 v438 v475 v512 v549 v586 v623 v660 v697 v734 v771 v808 v845 v882 v919 v956 v993 arg13 k0_hw85 k0_t164 => k0_hw85.2.2.2.2.2.2.2.2.2.1 k0_t164
theorem k0_off485_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13) (k0_t164 : Fin (k0_t164_loop v16 v31 v68 v105 v142 v179 v216 v253 v290 v327 v364 v401 v438 v475 v512 v549 v586 v623 v660 v697 v734 v771 v808 v845 v882 v919 v956 v993 arg13).trips), ∀ a, (k0_off485 v16 v31 v68 v105 v142 v179 v216 v253 v290 v327 v364 v401 v438 v475 v512 v549 v586 v623 v660 v697 v734 v771 v808 v845 v882 v919 v956 v993 arg13 k0_t164) a + S1x16.size a ≤ S512x128.size a := fun v16 v31 v68 v105 v142 v179 v216 v253 v290 v327 v364 v401 v438 v475 v512 v549 v586 v623 v660 v697 v734 v771 v808 v845 v882 v919 v956 v993 arg13 k0_hw85 k0_t164 => k0_hw85.2.2.2.2.2.2.2.2.2.2.1 k0_t164
theorem k0_off486_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (arg13 : BitVec 32) (k0_hw85 : k0_chk85 v16 v31 v68 v105 v142 v179 v216 v253 v290 v327 v364 v401 v438 v475 v512 v549 v586 v623 v660 v697 v734 v771 v808 v845 v882 v919 v956 v993 arg13) (k0_t164 : Fin (k0_t164_loop v16 v31 v68 v105 v142 v179 v216 v253 v290 v327 v364 v401 v438 v475 v512 v549 v586 v623 v660 v697 v734 v771 v808 v845 v882 v919 v956 v993 arg13).trips), ∀ a, (k0_off486 v16 v31 v68 v105 v142 v179 v216 v253 v290 v327 v364 v401 v438 v475 v512 v549 v586 v623 v660 v697 v734 v771 v808 v845 v882 v919 v956 v993 arg13 k0_t164) a + S1x16.size a ≤ S512x128.size a := fun v16 v31 v68 v105 v142 v179 v216 v253 v290 v327 v364 v401 v438 v475 v512 v549 v586 v623 v660 v697 v734 v771 v808 v845 v882 v919 v956 v993 arg13 k0_hw85 k0_t164 => k0_hw85.2.2.2.2.2.2.2.2.2.2.2 k0_t164

@[reducible] def k0_t165_loop (v1030 : BitVec 32) : Scf.Loop 32 :=
  let c0_i32_407 : BitVec 32 := 0#32
  let c0_i32_400 : BitVec 32 := 0#32
  let v1033 : BitVec 1 := Scalar.cmpi .sgt v1030 c0_i32_400
  let v1034 : BitVec 32 := Scalar.extui v1033
  let c0_i32_401 : BitVec 32 := 0#32
  let v1035 : BitVec 1 := Scalar.cmpi .slt v1030 c0_i32_401
  let v1036 : BitVec 32 := Scalar.extui v1035
  let v1037 : BitVec 32 := Scalar.subi v1034 v1036
  let c504_i32_399 : BitVec 32 := 504#32
  let c0_i32_402 : BitVec 32 := 0#32
  let v1038 : BitVec 1 := Scalar.cmpi .sgt c504_i32_399 c0_i32_402
  let v1039 : BitVec 32 := Scalar.extui v1038
  let c0_i32_403 : BitVec 32 := 0#32
  let v1040 : BitVec 1 := Scalar.cmpi .slt c504_i32_399 c0_i32_403
  let v1041 : BitVec 32 := Scalar.extui v1040
  let v1042 : BitVec 32 := Scalar.subi v1039 v1041
  let v1043 : BitVec 1 := Scalar.cmpi .ne v1037 v1042
  let v1044 : BitVec 32 := Scalar.remsi v1030 c504_i32_399
  let c0_i32_404 : BitVec 32 := 0#32
  let v1045 : BitVec 1 := Scalar.cmpi .ne v1044 c0_i32_404
  let v1046 : BitVec 1 := Scalar.andi v1043 v1045
  let v1032 : BitVec 32 := Scalar.divsi v1030 c504_i32_399
  let c1_i32_405 : BitVec 32 := 1#32
  let v1047 : BitVec 32 := Scalar.subi v1032 c1_i32_405
  let v1048 : BitVec 32 := Scalar.select v1046 v1047 v1032
  let c1_i32_406 : BitVec 32 := 1#32
  let v1049 : BitVec 32 := Scalar.addi v1048 c1_i32_406
  let v1050 : BitVec 32 := Scalar.subi v1049 c0_i32_407
  let c1_i32_408 : BitVec 32 := 1#32
  let v1052 : BitVec 32 := Scalar.divsi v1050 c1_i32_408
  let v1053 : BitVec 32 := Scalar.muli v1052 c1_i32_408
  let v1054 : BitVec 32 := Scalar.addi c0_i32_407 v1053
  let c1_i32_409 : BitVec 32 := 1#32
  ⟨c0_i32_407, v1054, c1_i32_409⟩

def k0_mult55 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off487 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r55 : BitVec 32 := 0#32
  ![v1213.toNat, 0]
@[reducible] def k0_t166_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off488 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t166 : Fin (k0_t166_loop v16 v31 v68 v105 v142 v179 v216 v253 v290 v327 v364 v401 v438 v475 v512 v549 v586 v623 v660 v697 v734 v771 v808 v845 v882 v919 v956 v993 v1030 arg13).trips) : Fin 2 → Nat :=
  let c1_i32_473 : BitVec 32 := 1#32
  let arg14 : BitVec 32 := Scf.iv arg13 c1_i32_473 k0_t166
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off489 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t166 : Fin (k0_t166_loop v16 v31 v68 v105 v142 v179 v216 v253 v290 v327 v364 v401 v438 v475 v512 v549 v586 v623 v660 v697 v734 v771 v808 v845 v882 v919 v956 v993 v1030 arg13).trips) : Fin 2 → Nat :=
  let c1_i32_473 : BitVec 32 := 1#32
  let arg14 : BitVec 32 := Scf.iv arg13 c1_i32_473 k0_t166
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off490 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t166 : Fin (k0_t166_loop v16 v31 v68 v105 v142 v179 v216 v253 v290 v327 v364 v401 v438 v475 v512 v549 v586 v623 v660 v697 v734 v771 v808 v845 v882 v919 v956 v993 v1030 arg13).trips) : Fin 2 → Nat :=
  let c1_i32_473 : BitVec 32 := 1#32
  let arg14 : BitVec 32 := Scf.iv arg13 c1_i32_473 k0_t166
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off491 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t166 : Fin (k0_t166_loop v16 v31 v68 v105 v142 v179 v216 v253 v290 v327 v364 v401 v438 v475 v512 v549 v586 v623 v660 v697 v734 v771 v808 v845 v882 v919 v956 v993 v1030 arg13).trips) : Fin 2 → Nat :=
  let c1_i32_473 : BitVec 32 := 1#32
  let arg14 : BitVec 32 := Scf.iv arg13 c1_i32_473 k0_t166
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t167_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off492 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t167 : Fin (k0_t167_loop v16 v31 v68 v105 v142 v179 v216 v253 v290 v327 v364 v401 v438 v475 v512 v549 v586 v623 v660 v697 v734 v771 v808 v845 v882 v919 v956 v993 v1030 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t167
  let v1224 : BitVec 32 := Scalar.subi arg14 v1213
  let v1225 : Index := Scalar.indexCast v1224
  let c0_475 : Index := 0#32
  ![v1225.toNat, 0]
def k0_off493 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t167 : Fin (k0_t167_loop v16 v31 v68 v105 v142 v179 v216 v253 v290 v327 v364 v401 v438 v475 v512 v549 v586 v623 v660 v697 v734 v771 v808 v845 v882 v919 v956 v993 v1030 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t167
  let v1224 : BitVec 32 := Scalar.subi arg14 v1213
  let v1228 : Index := Scalar.indexCast v1224
  let c16_476 : Index := 16#32
  ![v1228.toNat, 16]
def k0_off494 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t167 : Fin (k0_t167_loop v16 v31 v68 v105 v142 v179 v216 v253 v290 v327 v364 v401 v438 v475 v512 v549 v586 v623 v660 v697 v734 v771 v808 v845 v882 v919 v956 v993 v1030 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t167
  let v1224 : BitVec 32 := Scalar.subi arg14 v1213
  let v1231 : Index := Scalar.indexCast v1224
  let c32_477 : Index := 32#32
  ![v1231.toNat, 32]
def k0_off495 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t167 : Fin (k0_t167_loop v16 v31 v68 v105 v142 v179 v216 v253 v290 v327 v364 v401 v438 v475 v512 v549 v586 v623 v660 v697 v734 v771 v808 v845 v882 v919 v956 v993 v1030 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t167
  let v1224 : BitVec 32 := Scalar.subi arg14 v1213
  let v1234 : Index := Scalar.indexCast v1224
  let c48_478 : Index := 48#32
  ![v1234.toNat, 48]

def k0_chk87 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) : Prop :=
  (8 ∣ (k0_mult55 arg13).toNat) ∧
  (∀ a, (k0_off487 arg13) a + S512x128.size a ≤ S320000x128.size a) ∧
  ((k0_t166_loop v16 v31 v68 v105 v142 v179 v216 v253 v290 v327 v364 v401 v438 v475 v512 v549 v586 v623 v660 v697 v734 v771 v808 v845 v882 v919 v956 v993 v1030 arg13).OK) ∧
  (∀ k0_t166 : Fin (k0_t166_loop v16 v31 v68 v105 v142 v179 v216 v253 v290 v327 v364 v401 v438 v475 v512 v549 v586 v623 v660 v697 v734 v771 v808 v845 v882 v919 v956 v993 v1030 arg13).trips, ∀ a, (k0_off488 v16 v31 v68 v105 v142 v179 v216 v253 v290 v327 v364 v401 v438 v475 v512 v549 v586 v623 v660 v697 v734 v771 v808 v845 v882 v919 v956 v993 v1030 arg13 k0_t166) a + S1x16.size a ≤ S512x128.size a) ∧
  (∀ k0_t166 : Fin (k0_t166_loop v16 v31 v68 v105 v142 v179 v216 v253 v290 v327 v364 v401 v438 v475 v512 v549 v586 v623 v660 v697 v734 v771 v808 v845 v882 v919 v956 v993 v1030 arg13).trips, ∀ a, (k0_off489 v16 v31 v68 v105 v142 v179 v216 v253 v290 v327 v364 v401 v438 v475 v512 v549 v586 v623 v660 v697 v734 v771 v808 v845 v882 v919 v956 v993 v1030 arg13 k0_t166) a + S1x16.size a ≤ S512x128.size a) ∧
  (∀ k0_t166 : Fin (k0_t166_loop v16 v31 v68 v105 v142 v179 v216 v253 v290 v327 v364 v401 v438 v475 v512 v549 v586 v623 v660 v697 v734 v771 v808 v845 v882 v919 v956 v993 v1030 arg13).trips, ∀ a, (k0_off490 v16 v31 v68 v105 v142 v179 v216 v253 v290 v327 v364 v401 v438 v475 v512 v549 v586 v623 v660 v697 v734 v771 v808 v845 v882 v919 v956 v993 v1030 arg13 k0_t166) a + S1x16.size a ≤ S512x128.size a) ∧
  (∀ k0_t166 : Fin (k0_t166_loop v16 v31 v68 v105 v142 v179 v216 v253 v290 v327 v364 v401 v438 v475 v512 v549 v586 v623 v660 v697 v734 v771 v808 v845 v882 v919 v956 v993 v1030 arg13).trips, ∀ a, (k0_off491 v16 v31 v68 v105 v142 v179 v216 v253 v290 v327 v364 v401 v438 v475 v512 v549 v586 v623 v660 v697 v734 v771 v808 v845 v882 v919 v956 v993 v1030 arg13 k0_t166) a + S1x16.size a ≤ S512x128.size a) ∧
  ((k0_t167_loop v16 v31 v68 v105 v142 v179 v216 v253 v290 v327 v364 v401 v438 v475 v512 v549 v586 v623 v660 v697 v734 v771 v808 v845 v882 v919 v956 v993 v1030 arg13).OK) ∧
  (∀ k0_t167 : Fin (k0_t167_loop v16 v31 v68 v105 v142 v179 v216 v253 v290 v327 v364 v401 v438 v475 v512 v549 v586 v623 v660 v697 v734 v771 v808 v845 v882 v919 v956 v993 v1030 arg13).trips, ∀ a, (k0_off492 v16 v31 v68 v105 v142 v179 v216 v253 v290 v327 v364 v401 v438 v475 v512 v549 v586 v623 v660 v697 v734 v771 v808 v845 v882 v919 v956 v993 v1030 arg13 k0_t167) a + S1x16.size a ≤ S512x128.size a) ∧
  (∀ k0_t167 : Fin (k0_t167_loop v16 v31 v68 v105 v142 v179 v216 v253 v290 v327 v364 v401 v438 v475 v512 v549 v586 v623 v660 v697 v734 v771 v808 v845 v882 v919 v956 v993 v1030 arg13).trips, ∀ a, (k0_off493 v16 v31 v68 v105 v142 v179 v216 v253 v290 v327 v364 v401 v438 v475 v512 v549 v586 v623 v660 v697 v734 v771 v808 v845 v882 v919 v956 v993 v1030 arg13 k0_t167) a + S1x16.size a ≤ S512x128.size a) ∧
  (∀ k0_t167 : Fin (k0_t167_loop v16 v31 v68 v105 v142 v179 v216 v253 v290 v327 v364 v401 v438 v475 v512 v549 v586 v623 v660 v697 v734 v771 v808 v845 v882 v919 v956 v993 v1030 arg13).trips, ∀ a, (k0_off494 v16 v31 v68 v105 v142 v179 v216 v253 v290 v327 v364 v401 v438 v475 v512 v549 v586 v623 v660 v697 v734 v771 v808 v845 v882 v919 v956 v993 v1030 arg13 k0_t167) a + S1x16.size a ≤ S512x128.size a) ∧
  (∀ k0_t167 : Fin (k0_t167_loop v16 v31 v68 v105 v142 v179 v216 v253 v290 v327 v364 v401 v438 v475 v512 v549 v586 v623 v660 v697 v734 v771 v808 v845 v882 v919 v956 v993 v1030 arg13).trips, ∀ a, (k0_off495 v16 v31 v68 v105 v142 v179 v216 v253 v290 v327 v364 v401 v438 v475 v512 v549 v586 v623 v660 v697 v734 v771 v808 v845 v882 v919 v956 v993 v1030 arg13 k0_t167) a + S1x16.size a ≤ S512x128.size a)
theorem k0_mult55_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13), 8 ∣ (k0_mult55 arg13).toNat := fun v16 v31 v68 v105 v142 v179 v216 v253 v290 v327 v364 v401 v438 v475 v512 v549 v586 v623 v660 v697 v734 v771 v808 v845 v882 v919 v956 v993 v1030 arg13 k0_hw87 => k0_hw87.1
theorem k0_off487_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13), ∀ a, (k0_off487 arg13) a + S512x128.size a ≤ S320000x128.size a := fun v16 v31 v68 v105 v142 v179 v216 v253 v290 v327 v364 v401 v438 v475 v512 v549 v586 v623 v660 v697 v734 v771 v808 v845 v882 v919 v956 v993 v1030 arg13 k0_hw87 => k0_hw87.2.1
theorem k0_t166_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13), (k0_t166_loop v16 v31 v68 v105 v142 v179 v216 v253 v290 v327 v364 v401 v438 v475 v512 v549 v586 v623 v660 v697 v734 v771 v808 v845 v882 v919 v956 v993 v1030 arg13).OK := fun v16 v31 v68 v105 v142 v179 v216 v253 v290 v327 v364 v401 v438 v475 v512 v549 v586 v623 v660 v697 v734 v771 v808 v845 v882 v919 v956 v993 v1030 arg13 k0_hw87 => k0_hw87.2.2.1
theorem k0_off488_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13) (k0_t166 : Fin (k0_t166_loop v16 v31 v68 v105 v142 v179 v216 v253 v290 v327 v364 v401 v438 v475 v512 v549 v586 v623 v660 v697 v734 v771 v808 v845 v882 v919 v956 v993 v1030 arg13).trips), ∀ a, (k0_off488 v16 v31 v68 v105 v142 v179 v216 v253 v290 v327 v364 v401 v438 v475 v512 v549 v586 v623 v660 v697 v734 v771 v808 v845 v882 v919 v956 v993 v1030 arg13 k0_t166) a + S1x16.size a ≤ S512x128.size a := fun v16 v31 v68 v105 v142 v179 v216 v253 v290 v327 v364 v401 v438 v475 v512 v549 v586 v623 v660 v697 v734 v771 v808 v845 v882 v919 v956 v993 v1030 arg13 k0_hw87 k0_t166 => k0_hw87.2.2.2.1 k0_t166
theorem k0_off489_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13) (k0_t166 : Fin (k0_t166_loop v16 v31 v68 v105 v142 v179 v216 v253 v290 v327 v364 v401 v438 v475 v512 v549 v586 v623 v660 v697 v734 v771 v808 v845 v882 v919 v956 v993 v1030 arg13).trips), ∀ a, (k0_off489 v16 v31 v68 v105 v142 v179 v216 v253 v290 v327 v364 v401 v438 v475 v512 v549 v586 v623 v660 v697 v734 v771 v808 v845 v882 v919 v956 v993 v1030 arg13 k0_t166) a + S1x16.size a ≤ S512x128.size a := fun v16 v31 v68 v105 v142 v179 v216 v253 v290 v327 v364 v401 v438 v475 v512 v549 v586 v623 v660 v697 v734 v771 v808 v845 v882 v919 v956 v993 v1030 arg13 k0_hw87 k0_t166 => k0_hw87.2.2.2.2.1 k0_t166
theorem k0_off490_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13) (k0_t166 : Fin (k0_t166_loop v16 v31 v68 v105 v142 v179 v216 v253 v290 v327 v364 v401 v438 v475 v512 v549 v586 v623 v660 v697 v734 v771 v808 v845 v882 v919 v956 v993 v1030 arg13).trips), ∀ a, (k0_off490 v16 v31 v68 v105 v142 v179 v216 v253 v290 v327 v364 v401 v438 v475 v512 v549 v586 v623 v660 v697 v734 v771 v808 v845 v882 v919 v956 v993 v1030 arg13 k0_t166) a + S1x16.size a ≤ S512x128.size a := fun v16 v31 v68 v105 v142 v179 v216 v253 v290 v327 v364 v401 v438 v475 v512 v549 v586 v623 v660 v697 v734 v771 v808 v845 v882 v919 v956 v993 v1030 arg13 k0_hw87 k0_t166 => k0_hw87.2.2.2.2.2.1 k0_t166
theorem k0_off491_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13) (k0_t166 : Fin (k0_t166_loop v16 v31 v68 v105 v142 v179 v216 v253 v290 v327 v364 v401 v438 v475 v512 v549 v586 v623 v660 v697 v734 v771 v808 v845 v882 v919 v956 v993 v1030 arg13).trips), ∀ a, (k0_off491 v16 v31 v68 v105 v142 v179 v216 v253 v290 v327 v364 v401 v438 v475 v512 v549 v586 v623 v660 v697 v734 v771 v808 v845 v882 v919 v956 v993 v1030 arg13 k0_t166) a + S1x16.size a ≤ S512x128.size a := fun v16 v31 v68 v105 v142 v179 v216 v253 v290 v327 v364 v401 v438 v475 v512 v549 v586 v623 v660 v697 v734 v771 v808 v845 v882 v919 v956 v993 v1030 arg13 k0_hw87 k0_t166 => k0_hw87.2.2.2.2.2.2.1 k0_t166
theorem k0_t167_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13), (k0_t167_loop v16 v31 v68 v105 v142 v179 v216 v253 v290 v327 v364 v401 v438 v475 v512 v549 v586 v623 v660 v697 v734 v771 v808 v845 v882 v919 v956 v993 v1030 arg13).OK := fun v16 v31 v68 v105 v142 v179 v216 v253 v290 v327 v364 v401 v438 v475 v512 v549 v586 v623 v660 v697 v734 v771 v808 v845 v882 v919 v956 v993 v1030 arg13 k0_hw87 => k0_hw87.2.2.2.2.2.2.2.1
theorem k0_off492_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13) (k0_t167 : Fin (k0_t167_loop v16 v31 v68 v105 v142 v179 v216 v253 v290 v327 v364 v401 v438 v475 v512 v549 v586 v623 v660 v697 v734 v771 v808 v845 v882 v919 v956 v993 v1030 arg13).trips), ∀ a, (k0_off492 v16 v31 v68 v105 v142 v179 v216 v253 v290 v327 v364 v401 v438 v475 v512 v549 v586 v623 v660 v697 v734 v771 v808 v845 v882 v919 v956 v993 v1030 arg13 k0_t167) a + S1x16.size a ≤ S512x128.size a := fun v16 v31 v68 v105 v142 v179 v216 v253 v290 v327 v364 v401 v438 v475 v512 v549 v586 v623 v660 v697 v734 v771 v808 v845 v882 v919 v956 v993 v1030 arg13 k0_hw87 k0_t167 => k0_hw87.2.2.2.2.2.2.2.2.1 k0_t167
theorem k0_off493_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13) (k0_t167 : Fin (k0_t167_loop v16 v31 v68 v105 v142 v179 v216 v253 v290 v327 v364 v401 v438 v475 v512 v549 v586 v623 v660 v697 v734 v771 v808 v845 v882 v919 v956 v993 v1030 arg13).trips), ∀ a, (k0_off493 v16 v31 v68 v105 v142 v179 v216 v253 v290 v327 v364 v401 v438 v475 v512 v549 v586 v623 v660 v697 v734 v771 v808 v845 v882 v919 v956 v993 v1030 arg13 k0_t167) a + S1x16.size a ≤ S512x128.size a := fun v16 v31 v68 v105 v142 v179 v216 v253 v290 v327 v364 v401 v438 v475 v512 v549 v586 v623 v660 v697 v734 v771 v808 v845 v882 v919 v956 v993 v1030 arg13 k0_hw87 k0_t167 => k0_hw87.2.2.2.2.2.2.2.2.2.1 k0_t167
theorem k0_off494_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13) (k0_t167 : Fin (k0_t167_loop v16 v31 v68 v105 v142 v179 v216 v253 v290 v327 v364 v401 v438 v475 v512 v549 v586 v623 v660 v697 v734 v771 v808 v845 v882 v919 v956 v993 v1030 arg13).trips), ∀ a, (k0_off494 v16 v31 v68 v105 v142 v179 v216 v253 v290 v327 v364 v401 v438 v475 v512 v549 v586 v623 v660 v697 v734 v771 v808 v845 v882 v919 v956 v993 v1030 arg13 k0_t167) a + S1x16.size a ≤ S512x128.size a := fun v16 v31 v68 v105 v142 v179 v216 v253 v290 v327 v364 v401 v438 v475 v512 v549 v586 v623 v660 v697 v734 v771 v808 v845 v882 v919 v956 v993 v1030 arg13 k0_hw87 k0_t167 => k0_hw87.2.2.2.2.2.2.2.2.2.2.1 k0_t167
theorem k0_off495_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw87 : k0_chk87 v16 v31 v68 v105 v142 v179 v216 v253 v290 v327 v364 v401 v438 v475 v512 v549 v586 v623 v660 v697 v734 v771 v808 v845 v882 v919 v956 v993 v1030 arg13) (k0_t167 : Fin (k0_t167_loop v16 v31 v68 v105 v142 v179 v216 v253 v290 v327 v364 v401 v438 v475 v512 v549 v586 v623 v660 v697 v734 v771 v808 v845 v882 v919 v956 v993 v1030 arg13).trips), ∀ a, (k0_off495 v16 v31 v68 v105 v142 v179 v216 v253 v290 v327 v364 v401 v438 v475 v512 v549 v586 v623 v660 v697 v734 v771 v808 v845 v882 v919 v956 v993 v1030 arg13 k0_t167) a + S1x16.size a ≤ S512x128.size a := fun v16 v31 v68 v105 v142 v179 v216 v253 v290 v327 v364 v401 v438 v475 v512 v549 v586 v623 v660 v697 v734 v771 v808 v845 v882 v919 v956 v993 v1030 arg13 k0_hw87 k0_t167 => k0_hw87.2.2.2.2.2.2.2.2.2.2.2 k0_t167

@[reducible] def k0_t168_loop (v1030 : BitVec 32) : Scf.Loop 32 :=
  let c0_i32_407 : BitVec 32 := 0#32
  let c0_i32_400 : BitVec 32 := 0#32
  let v1033 : BitVec 1 := Scalar.cmpi .sgt v1030 c0_i32_400
  let v1034 : BitVec 32 := Scalar.extui v1033
  let c0_i32_401 : BitVec 32 := 0#32
  let v1035 : BitVec 1 := Scalar.cmpi .slt v1030 c0_i32_401
  let v1036 : BitVec 32 := Scalar.extui v1035
  let v1037 : BitVec 32 := Scalar.subi v1034 v1036
  let c504_i32_399 : BitVec 32 := 504#32
  let c0_i32_402 : BitVec 32 := 0#32
  let v1038 : BitVec 1 := Scalar.cmpi .sgt c504_i32_399 c0_i32_402
  let v1039 : BitVec 32 := Scalar.extui v1038
  let c0_i32_403 : BitVec 32 := 0#32
  let v1040 : BitVec 1 := Scalar.cmpi .slt c504_i32_399 c0_i32_403
  let v1041 : BitVec 32 := Scalar.extui v1040
  let v1042 : BitVec 32 := Scalar.subi v1039 v1041
  let v1043 : BitVec 1 := Scalar.cmpi .ne v1037 v1042
  let v1044 : BitVec 32 := Scalar.remsi v1030 c504_i32_399
  let c0_i32_404 : BitVec 32 := 0#32
  let v1045 : BitVec 1 := Scalar.cmpi .ne v1044 c0_i32_404
  let v1046 : BitVec 1 := Scalar.andi v1043 v1045
  let v1032 : BitVec 32 := Scalar.divsi v1030 c504_i32_399
  let c1_i32_405 : BitVec 32 := 1#32
  let v1047 : BitVec 32 := Scalar.subi v1032 c1_i32_405
  let v1048 : BitVec 32 := Scalar.select v1046 v1047 v1032
  let c1_i32_406 : BitVec 32 := 1#32
  let v1049 : BitVec 32 := Scalar.addi v1048 c1_i32_406
  let v1050 : BitVec 32 := Scalar.subi v1049 c0_i32_407
  let c1_i32_408 : BitVec 32 := 1#32
  let v1052 : BitVec 32 := Scalar.divsi v1050 c1_i32_408
  let v1053 : BitVec 32 := Scalar.muli v1052 c1_i32_408
  let v1054 : BitVec 32 := Scalar.addi c0_i32_407 v1053
  let v1051 : BitVec 32 := Scalar.addi c0_i32_407 v1050
  let c1_i32_410 : BitVec 32 := 1#32
  ⟨v1054, v1051, c1_i32_410⟩

def k0_chk86 (v1030 : BitVec 32) : Prop :=
  ((k0_t165_loop v1030).OK) ∧
  ((k0_t168_loop v1030).OK)
theorem k0_t165_ok : ∀ (v1030 : BitVec 32) (k0_hw86 : k0_chk86 v1030), (k0_t165_loop v1030).OK := fun v1030 k0_hw86 => k0_hw86.1
theorem k0_t168_ok : ∀ (v1030 : BitVec 32) (k0_hw86 : k0_chk86 v1030), (k0_t168_loop v1030).OK := fun v1030 k0_hw86 => k0_hw86.2

def k0_mult56 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off496 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r56 : BitVec 32 := 0#32
  ![v1213.toNat, 0]
@[reducible] def k0_t169_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off497 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t169 : Fin (k0_t169_loop v16 v31 v68 v105 v142 v179 v216 v253 v290 v327 v364 v401 v438 v475 v512 v549 v586 v623 v660 v697 v734 v771 v808 v845 v882 v919 v956 v993 v1030 arg13).trips) : Fin 2 → Nat :=
  let c1_i32_473 : BitVec 32 := 1#32
  let arg14 : BitVec 32 := Scf.iv arg13 c1_i32_473 k0_t169
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off498 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t169 : Fin (k0_t169_loop v16 v31 v68 v105 v142 v179 v216 v253 v290 v327 v364 v401 v438 v475 v512 v549 v586 v623 v660 v697 v734 v771 v808 v845 v882 v919 v956 v993 v1030 arg13).trips) : Fin 2 → Nat :=
  let c1_i32_473 : BitVec 32 := 1#32
  let arg14 : BitVec 32 := Scf.iv arg13 c1_i32_473 k0_t169
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off499 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t169 : Fin (k0_t169_loop v16 v31 v68 v105 v142 v179 v216 v253 v290 v327 v364 v401 v438 v475 v512 v549 v586 v623 v660 v697 v734 v771 v808 v845 v882 v919 v956 v993 v1030 arg13).trips) : Fin 2 → Nat :=
  let c1_i32_473 : BitVec 32 := 1#32
  let arg14 : BitVec 32 := Scf.iv arg13 c1_i32_473 k0_t169
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off500 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t169 : Fin (k0_t169_loop v16 v31 v68 v105 v142 v179 v216 v253 v290 v327 v364 v401 v438 v475 v512 v549 v586 v623 v660 v697 v734 v771 v808 v845 v882 v919 v956 v993 v1030 arg13).trips) : Fin 2 → Nat :=
  let c1_i32_473 : BitVec 32 := 1#32
  let arg14 : BitVec 32 := Scf.iv arg13 c1_i32_473 k0_t169
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t170_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off501 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t170 : Fin (k0_t170_loop v16 v31 v68 v105 v142 v179 v216 v253 v290 v327 v364 v401 v438 v475 v512 v549 v586 v623 v660 v697 v734 v771 v808 v845 v882 v919 v956 v993 v1030 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t170
  let v1224 : BitVec 32 := Scalar.subi arg14 v1213
  let v1225 : Index := Scalar.indexCast v1224
  let c0_475 : Index := 0#32
  ![v1225.toNat, 0]
def k0_off502 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t170 : Fin (k0_t170_loop v16 v31 v68 v105 v142 v179 v216 v253 v290 v327 v364 v401 v438 v475 v512 v549 v586 v623 v660 v697 v734 v771 v808 v845 v882 v919 v956 v993 v1030 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t170
  let v1224 : BitVec 32 := Scalar.subi arg14 v1213
  let v1228 : Index := Scalar.indexCast v1224
  let c16_476 : Index := 16#32
  ![v1228.toNat, 16]
def k0_off503 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t170 : Fin (k0_t170_loop v16 v31 v68 v105 v142 v179 v216 v253 v290 v327 v364 v401 v438 v475 v512 v549 v586 v623 v660 v697 v734 v771 v808 v845 v882 v919 v956 v993 v1030 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t170
  let v1224 : BitVec 32 := Scalar.subi arg14 v1213
  let v1231 : Index := Scalar.indexCast v1224
  let c32_477 : Index := 32#32
  ![v1231.toNat, 32]
def k0_off504 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_t170 : Fin (k0_t170_loop v16 v31 v68 v105 v142 v179 v216 v253 v290 v327 v364 v401 v438 v475 v512 v549 v586 v623 v660 v697 v734 v771 v808 v845 v882 v919 v956 v993 v1030 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1031 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t170
  let v1224 : BitVec 32 := Scalar.subi arg14 v1213
  let v1234 : Index := Scalar.indexCast v1224
  let c48_478 : Index := 48#32
  ![v1234.toNat, 48]

def k0_chk88 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) : Prop :=
  (8 ∣ (k0_mult56 arg13).toNat) ∧
  (∀ a, (k0_off496 arg13) a + S512x128.size a ≤ S320000x128.size a) ∧
  ((k0_t169_loop v16 v31 v68 v105 v142 v179 v216 v253 v290 v327 v364 v401 v438 v475 v512 v549 v586 v623 v660 v697 v734 v771 v808 v845 v882 v919 v956 v993 v1030 arg13).OK) ∧
  (∀ k0_t169 : Fin (k0_t169_loop v16 v31 v68 v105 v142 v179 v216 v253 v290 v327 v364 v401 v438 v475 v512 v549 v586 v623 v660 v697 v734 v771 v808 v845 v882 v919 v956 v993 v1030 arg13).trips, ∀ a, (k0_off497 v16 v31 v68 v105 v142 v179 v216 v253 v290 v327 v364 v401 v438 v475 v512 v549 v586 v623 v660 v697 v734 v771 v808 v845 v882 v919 v956 v993 v1030 arg13 k0_t169) a + S1x16.size a ≤ S512x128.size a) ∧
  (∀ k0_t169 : Fin (k0_t169_loop v16 v31 v68 v105 v142 v179 v216 v253 v290 v327 v364 v401 v438 v475 v512 v549 v586 v623 v660 v697 v734 v771 v808 v845 v882 v919 v956 v993 v1030 arg13).trips, ∀ a, (k0_off498 v16 v31 v68 v105 v142 v179 v216 v253 v290 v327 v364 v401 v438 v475 v512 v549 v586 v623 v660 v697 v734 v771 v808 v845 v882 v919 v956 v993 v1030 arg13 k0_t169) a + S1x16.size a ≤ S512x128.size a) ∧
  (∀ k0_t169 : Fin (k0_t169_loop v16 v31 v68 v105 v142 v179 v216 v253 v290 v327 v364 v401 v438 v475 v512 v549 v586 v623 v660 v697 v734 v771 v808 v845 v882 v919 v956 v993 v1030 arg13).trips, ∀ a, (k0_off499 v16 v31 v68 v105 v142 v179 v216 v253 v290 v327 v364 v401 v438 v475 v512 v549 v586 v623 v660 v697 v734 v771 v808 v845 v882 v919 v956 v993 v1030 arg13 k0_t169) a + S1x16.size a ≤ S512x128.size a) ∧
  (∀ k0_t169 : Fin (k0_t169_loop v16 v31 v68 v105 v142 v179 v216 v253 v290 v327 v364 v401 v438 v475 v512 v549 v586 v623 v660 v697 v734 v771 v808 v845 v882 v919 v956 v993 v1030 arg13).trips, ∀ a, (k0_off500 v16 v31 v68 v105 v142 v179 v216 v253 v290 v327 v364 v401 v438 v475 v512 v549 v586 v623 v660 v697 v734 v771 v808 v845 v882 v919 v956 v993 v1030 arg13 k0_t169) a + S1x16.size a ≤ S512x128.size a) ∧
  ((k0_t170_loop v16 v31 v68 v105 v142 v179 v216 v253 v290 v327 v364 v401 v438 v475 v512 v549 v586 v623 v660 v697 v734 v771 v808 v845 v882 v919 v956 v993 v1030 arg13).OK) ∧
  (∀ k0_t170 : Fin (k0_t170_loop v16 v31 v68 v105 v142 v179 v216 v253 v290 v327 v364 v401 v438 v475 v512 v549 v586 v623 v660 v697 v734 v771 v808 v845 v882 v919 v956 v993 v1030 arg13).trips, ∀ a, (k0_off501 v16 v31 v68 v105 v142 v179 v216 v253 v290 v327 v364 v401 v438 v475 v512 v549 v586 v623 v660 v697 v734 v771 v808 v845 v882 v919 v956 v993 v1030 arg13 k0_t170) a + S1x16.size a ≤ S512x128.size a) ∧
  (∀ k0_t170 : Fin (k0_t170_loop v16 v31 v68 v105 v142 v179 v216 v253 v290 v327 v364 v401 v438 v475 v512 v549 v586 v623 v660 v697 v734 v771 v808 v845 v882 v919 v956 v993 v1030 arg13).trips, ∀ a, (k0_off502 v16 v31 v68 v105 v142 v179 v216 v253 v290 v327 v364 v401 v438 v475 v512 v549 v586 v623 v660 v697 v734 v771 v808 v845 v882 v919 v956 v993 v1030 arg13 k0_t170) a + S1x16.size a ≤ S512x128.size a) ∧
  (∀ k0_t170 : Fin (k0_t170_loop v16 v31 v68 v105 v142 v179 v216 v253 v290 v327 v364 v401 v438 v475 v512 v549 v586 v623 v660 v697 v734 v771 v808 v845 v882 v919 v956 v993 v1030 arg13).trips, ∀ a, (k0_off503 v16 v31 v68 v105 v142 v179 v216 v253 v290 v327 v364 v401 v438 v475 v512 v549 v586 v623 v660 v697 v734 v771 v808 v845 v882 v919 v956 v993 v1030 arg13 k0_t170) a + S1x16.size a ≤ S512x128.size a) ∧
  (∀ k0_t170 : Fin (k0_t170_loop v16 v31 v68 v105 v142 v179 v216 v253 v290 v327 v364 v401 v438 v475 v512 v549 v586 v623 v660 v697 v734 v771 v808 v845 v882 v919 v956 v993 v1030 arg13).trips, ∀ a, (k0_off504 v16 v31 v68 v105 v142 v179 v216 v253 v290 v327 v364 v401 v438 v475 v512 v549 v586 v623 v660 v697 v734 v771 v808 v845 v882 v919 v956 v993 v1030 arg13 k0_t170) a + S1x16.size a ≤ S512x128.size a)
theorem k0_mult56_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13), 8 ∣ (k0_mult56 arg13).toNat := fun v16 v31 v68 v105 v142 v179 v216 v253 v290 v327 v364 v401 v438 v475 v512 v549 v586 v623 v660 v697 v734 v771 v808 v845 v882 v919 v956 v993 v1030 arg13 k0_hw88 => k0_hw88.1
theorem k0_off496_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13), ∀ a, (k0_off496 arg13) a + S512x128.size a ≤ S320000x128.size a := fun v16 v31 v68 v105 v142 v179 v216 v253 v290 v327 v364 v401 v438 v475 v512 v549 v586 v623 v660 v697 v734 v771 v808 v845 v882 v919 v956 v993 v1030 arg13 k0_hw88 => k0_hw88.2.1
theorem k0_t169_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13), (k0_t169_loop v16 v31 v68 v105 v142 v179 v216 v253 v290 v327 v364 v401 v438 v475 v512 v549 v586 v623 v660 v697 v734 v771 v808 v845 v882 v919 v956 v993 v1030 arg13).OK := fun v16 v31 v68 v105 v142 v179 v216 v253 v290 v327 v364 v401 v438 v475 v512 v549 v586 v623 v660 v697 v734 v771 v808 v845 v882 v919 v956 v993 v1030 arg13 k0_hw88 => k0_hw88.2.2.1
theorem k0_off497_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13) (k0_t169 : Fin (k0_t169_loop v16 v31 v68 v105 v142 v179 v216 v253 v290 v327 v364 v401 v438 v475 v512 v549 v586 v623 v660 v697 v734 v771 v808 v845 v882 v919 v956 v993 v1030 arg13).trips), ∀ a, (k0_off497 v16 v31 v68 v105 v142 v179 v216 v253 v290 v327 v364 v401 v438 v475 v512 v549 v586 v623 v660 v697 v734 v771 v808 v845 v882 v919 v956 v993 v1030 arg13 k0_t169) a + S1x16.size a ≤ S512x128.size a := fun v16 v31 v68 v105 v142 v179 v216 v253 v290 v327 v364 v401 v438 v475 v512 v549 v586 v623 v660 v697 v734 v771 v808 v845 v882 v919 v956 v993 v1030 arg13 k0_hw88 k0_t169 => k0_hw88.2.2.2.1 k0_t169
theorem k0_off498_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13) (k0_t169 : Fin (k0_t169_loop v16 v31 v68 v105 v142 v179 v216 v253 v290 v327 v364 v401 v438 v475 v512 v549 v586 v623 v660 v697 v734 v771 v808 v845 v882 v919 v956 v993 v1030 arg13).trips), ∀ a, (k0_off498 v16 v31 v68 v105 v142 v179 v216 v253 v290 v327 v364 v401 v438 v475 v512 v549 v586 v623 v660 v697 v734 v771 v808 v845 v882 v919 v956 v993 v1030 arg13 k0_t169) a + S1x16.size a ≤ S512x128.size a := fun v16 v31 v68 v105 v142 v179 v216 v253 v290 v327 v364 v401 v438 v475 v512 v549 v586 v623 v660 v697 v734 v771 v808 v845 v882 v919 v956 v993 v1030 arg13 k0_hw88 k0_t169 => k0_hw88.2.2.2.2.1 k0_t169
theorem k0_off499_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13) (k0_t169 : Fin (k0_t169_loop v16 v31 v68 v105 v142 v179 v216 v253 v290 v327 v364 v401 v438 v475 v512 v549 v586 v623 v660 v697 v734 v771 v808 v845 v882 v919 v956 v993 v1030 arg13).trips), ∀ a, (k0_off499 v16 v31 v68 v105 v142 v179 v216 v253 v290 v327 v364 v401 v438 v475 v512 v549 v586 v623 v660 v697 v734 v771 v808 v845 v882 v919 v956 v993 v1030 arg13 k0_t169) a + S1x16.size a ≤ S512x128.size a := fun v16 v31 v68 v105 v142 v179 v216 v253 v290 v327 v364 v401 v438 v475 v512 v549 v586 v623 v660 v697 v734 v771 v808 v845 v882 v919 v956 v993 v1030 arg13 k0_hw88 k0_t169 => k0_hw88.2.2.2.2.2.1 k0_t169
theorem k0_off500_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13) (k0_t169 : Fin (k0_t169_loop v16 v31 v68 v105 v142 v179 v216 v253 v290 v327 v364 v401 v438 v475 v512 v549 v586 v623 v660 v697 v734 v771 v808 v845 v882 v919 v956 v993 v1030 arg13).trips), ∀ a, (k0_off500 v16 v31 v68 v105 v142 v179 v216 v253 v290 v327 v364 v401 v438 v475 v512 v549 v586 v623 v660 v697 v734 v771 v808 v845 v882 v919 v956 v993 v1030 arg13 k0_t169) a + S1x16.size a ≤ S512x128.size a := fun v16 v31 v68 v105 v142 v179 v216 v253 v290 v327 v364 v401 v438 v475 v512 v549 v586 v623 v660 v697 v734 v771 v808 v845 v882 v919 v956 v993 v1030 arg13 k0_hw88 k0_t169 => k0_hw88.2.2.2.2.2.2.1 k0_t169
theorem k0_t170_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13), (k0_t170_loop v16 v31 v68 v105 v142 v179 v216 v253 v290 v327 v364 v401 v438 v475 v512 v549 v586 v623 v660 v697 v734 v771 v808 v845 v882 v919 v956 v993 v1030 arg13).OK := fun v16 v31 v68 v105 v142 v179 v216 v253 v290 v327 v364 v401 v438 v475 v512 v549 v586 v623 v660 v697 v734 v771 v808 v845 v882 v919 v956 v993 v1030 arg13 k0_hw88 => k0_hw88.2.2.2.2.2.2.2.1
theorem k0_off501_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13) (k0_t170 : Fin (k0_t170_loop v16 v31 v68 v105 v142 v179 v216 v253 v290 v327 v364 v401 v438 v475 v512 v549 v586 v623 v660 v697 v734 v771 v808 v845 v882 v919 v956 v993 v1030 arg13).trips), ∀ a, (k0_off501 v16 v31 v68 v105 v142 v179 v216 v253 v290 v327 v364 v401 v438 v475 v512 v549 v586 v623 v660 v697 v734 v771 v808 v845 v882 v919 v956 v993 v1030 arg13 k0_t170) a + S1x16.size a ≤ S512x128.size a := fun v16 v31 v68 v105 v142 v179 v216 v253 v290 v327 v364 v401 v438 v475 v512 v549 v586 v623 v660 v697 v734 v771 v808 v845 v882 v919 v956 v993 v1030 arg13 k0_hw88 k0_t170 => k0_hw88.2.2.2.2.2.2.2.2.1 k0_t170
theorem k0_off502_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13) (k0_t170 : Fin (k0_t170_loop v16 v31 v68 v105 v142 v179 v216 v253 v290 v327 v364 v401 v438 v475 v512 v549 v586 v623 v660 v697 v734 v771 v808 v845 v882 v919 v956 v993 v1030 arg13).trips), ∀ a, (k0_off502 v16 v31 v68 v105 v142 v179 v216 v253 v290 v327 v364 v401 v438 v475 v512 v549 v586 v623 v660 v697 v734 v771 v808 v845 v882 v919 v956 v993 v1030 arg13 k0_t170) a + S1x16.size a ≤ S512x128.size a := fun v16 v31 v68 v105 v142 v179 v216 v253 v290 v327 v364 v401 v438 v475 v512 v549 v586 v623 v660 v697 v734 v771 v808 v845 v882 v919 v956 v993 v1030 arg13 k0_hw88 k0_t170 => k0_hw88.2.2.2.2.2.2.2.2.2.1 k0_t170
theorem k0_off503_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13) (k0_t170 : Fin (k0_t170_loop v16 v31 v68 v105 v142 v179 v216 v253 v290 v327 v364 v401 v438 v475 v512 v549 v586 v623 v660 v697 v734 v771 v808 v845 v882 v919 v956 v993 v1030 arg13).trips), ∀ a, (k0_off503 v16 v31 v68 v105 v142 v179 v216 v253 v290 v327 v364 v401 v438 v475 v512 v549 v586 v623 v660 v697 v734 v771 v808 v845 v882 v919 v956 v993 v1030 arg13 k0_t170) a + S1x16.size a ≤ S512x128.size a := fun v16 v31 v68 v105 v142 v179 v216 v253 v290 v327 v364 v401 v438 v475 v512 v549 v586 v623 v660 v697 v734 v771 v808 v845 v882 v919 v956 v993 v1030 arg13 k0_hw88 k0_t170 => k0_hw88.2.2.2.2.2.2.2.2.2.2.1 k0_t170
theorem k0_off504_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (arg13 : BitVec 32) (k0_hw88 : k0_chk88 v16 v31 v68 v105 v142 v179 v216 v253 v290 v327 v364 v401 v438 v475 v512 v549 v586 v623 v660 v697 v734 v771 v808 v845 v882 v919 v956 v993 v1030 arg13) (k0_t170 : Fin (k0_t170_loop v16 v31 v68 v105 v142 v179 v216 v253 v290 v327 v364 v401 v438 v475 v512 v549 v586 v623 v660 v697 v734 v771 v808 v845 v882 v919 v956 v993 v1030 arg13).trips), ∀ a, (k0_off504 v16 v31 v68 v105 v142 v179 v216 v253 v290 v327 v364 v401 v438 v475 v512 v549 v586 v623 v660 v697 v734 v771 v808 v845 v882 v919 v956 v993 v1030 arg13 k0_t170) a + S1x16.size a ≤ S512x128.size a := fun v16 v31 v68 v105 v142 v179 v216 v253 v290 v327 v364 v401 v438 v475 v512 v549 v586 v623 v660 v697 v734 v771 v808 v845 v882 v919 v956 v993 v1030 arg13 k0_hw88 k0_t170 => k0_hw88.2.2.2.2.2.2.2.2.2.2.2 k0_t170

@[reducible] def k0_t171_loop (v1067 : BitVec 32) : Scf.Loop 32 :=
  let c0_i32_422 : BitVec 32 := 0#32
  let c0_i32_415 : BitVec 32 := 0#32
  let v1070 : BitVec 1 := Scalar.cmpi .sgt v1067 c0_i32_415
  let v1071 : BitVec 32 := Scalar.extui v1070
  let c0_i32_416 : BitVec 32 := 0#32
  let v1072 : BitVec 1 := Scalar.cmpi .slt v1067 c0_i32_416
  let v1073 : BitVec 32 := Scalar.extui v1072
  let v1074 : BitVec 32 := Scalar.subi v1071 v1073
  let c504_i32_414 : BitVec 32 := 504#32
  let c0_i32_417 : BitVec 32 := 0#32
  let v1075 : BitVec 1 := Scalar.cmpi .sgt c504_i32_414 c0_i32_417
  let v1076 : BitVec 32 := Scalar.extui v1075
  let c0_i32_418 : BitVec 32 := 0#32
  let v1077 : BitVec 1 := Scalar.cmpi .slt c504_i32_414 c0_i32_418
  let v1078 : BitVec 32 := Scalar.extui v1077
  let v1079 : BitVec 32 := Scalar.subi v1076 v1078
  let v1080 : BitVec 1 := Scalar.cmpi .ne v1074 v1079
  let v1081 : BitVec 32 := Scalar.remsi v1067 c504_i32_414
  let c0_i32_419 : BitVec 32 := 0#32
  let v1082 : BitVec 1 := Scalar.cmpi .ne v1081 c0_i32_419
  let v1083 : BitVec 1 := Scalar.andi v1080 v1082
  let v1069 : BitVec 32 := Scalar.divsi v1067 c504_i32_414
  let c1_i32_420 : BitVec 32 := 1#32
  let v1084 : BitVec 32 := Scalar.subi v1069 c1_i32_420
  let v1085 : BitVec 32 := Scalar.select v1083 v1084 v1069
  let c1_i32_421 : BitVec 32 := 1#32
  let v1086 : BitVec 32 := Scalar.addi v1085 c1_i32_421
  let v1087 : BitVec 32 := Scalar.subi v1086 c0_i32_422
  let c1_i32_423 : BitVec 32 := 1#32
  let v1089 : BitVec 32 := Scalar.divsi v1087 c1_i32_423
  let v1090 : BitVec 32 := Scalar.muli v1089 c1_i32_423
  let v1091 : BitVec 32 := Scalar.addi c0_i32_422 v1090
  let c1_i32_424 : BitVec 32 := 1#32
  ⟨c0_i32_422, v1091, c1_i32_424⟩

def k0_mult57 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off505 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r57 : BitVec 32 := 0#32
  ![v1213.toNat, 0]
@[reducible] def k0_t172_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off506 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t172 : Fin (k0_t172_loop v16 v31 v68 v105 v142 v179 v216 v253 v290 v327 v364 v401 v438 v475 v512 v549 v586 v623 v660 v697 v734 v771 v808 v845 v882 v919 v956 v993 v1030 v1067 arg13).trips) : Fin 2 → Nat :=
  let c1_i32_473 : BitVec 32 := 1#32
  let arg14 : BitVec 32 := Scf.iv arg13 c1_i32_473 k0_t172
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off507 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t172 : Fin (k0_t172_loop v16 v31 v68 v105 v142 v179 v216 v253 v290 v327 v364 v401 v438 v475 v512 v549 v586 v623 v660 v697 v734 v771 v808 v845 v882 v919 v956 v993 v1030 v1067 arg13).trips) : Fin 2 → Nat :=
  let c1_i32_473 : BitVec 32 := 1#32
  let arg14 : BitVec 32 := Scf.iv arg13 c1_i32_473 k0_t172
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off508 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t172 : Fin (k0_t172_loop v16 v31 v68 v105 v142 v179 v216 v253 v290 v327 v364 v401 v438 v475 v512 v549 v586 v623 v660 v697 v734 v771 v808 v845 v882 v919 v956 v993 v1030 v1067 arg13).trips) : Fin 2 → Nat :=
  let c1_i32_473 : BitVec 32 := 1#32
  let arg14 : BitVec 32 := Scf.iv arg13 c1_i32_473 k0_t172
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off509 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t172 : Fin (k0_t172_loop v16 v31 v68 v105 v142 v179 v216 v253 v290 v327 v364 v401 v438 v475 v512 v549 v586 v623 v660 v697 v734 v771 v808 v845 v882 v919 v956 v993 v1030 v1067 arg13).trips) : Fin 2 → Nat :=
  let c1_i32_473 : BitVec 32 := 1#32
  let arg14 : BitVec 32 := Scf.iv arg13 c1_i32_473 k0_t172
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t173_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off510 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t173 : Fin (k0_t173_loop v16 v31 v68 v105 v142 v179 v216 v253 v290 v327 v364 v401 v438 v475 v512 v549 v586 v623 v660 v697 v734 v771 v808 v845 v882 v919 v956 v993 v1030 v1067 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t173
  let v1224 : BitVec 32 := Scalar.subi arg14 v1213
  let v1225 : Index := Scalar.indexCast v1224
  let c0_475 : Index := 0#32
  ![v1225.toNat, 0]
def k0_off511 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t173 : Fin (k0_t173_loop v16 v31 v68 v105 v142 v179 v216 v253 v290 v327 v364 v401 v438 v475 v512 v549 v586 v623 v660 v697 v734 v771 v808 v845 v882 v919 v956 v993 v1030 v1067 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t173
  let v1224 : BitVec 32 := Scalar.subi arg14 v1213
  let v1228 : Index := Scalar.indexCast v1224
  let c16_476 : Index := 16#32
  ![v1228.toNat, 16]
def k0_off512 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t173 : Fin (k0_t173_loop v16 v31 v68 v105 v142 v179 v216 v253 v290 v327 v364 v401 v438 v475 v512 v549 v586 v623 v660 v697 v734 v771 v808 v845 v882 v919 v956 v993 v1030 v1067 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t173
  let v1224 : BitVec 32 := Scalar.subi arg14 v1213
  let v1231 : Index := Scalar.indexCast v1224
  let c32_477 : Index := 32#32
  ![v1231.toNat, 32]
def k0_off513 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t173 : Fin (k0_t173_loop v16 v31 v68 v105 v142 v179 v216 v253 v290 v327 v364 v401 v438 v475 v512 v549 v586 v623 v660 v697 v734 v771 v808 v845 v882 v919 v956 v993 v1030 v1067 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t173
  let v1224 : BitVec 32 := Scalar.subi arg14 v1213
  let v1234 : Index := Scalar.indexCast v1224
  let c48_478 : Index := 48#32
  ![v1234.toNat, 48]

variable {F : FTy → Type} [FloatOps F]

def k0_chk90 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) : Prop :=
  (8 ∣ (k0_mult57 arg13).toNat) ∧
  (∀ a, (k0_off505 arg13) a + S512x128.size a ≤ S320000x128.size a) ∧
  ((k0_t172_loop v16 v31 v68 v105 v142 v179 v216 v253 v290 v327 v364 v401 v438 v475 v512 v549 v586 v623 v660 v697 v734 v771 v808 v845 v882 v919 v956 v993 v1030 v1067 arg13).OK) ∧
  (∀ k0_t172 : Fin (k0_t172_loop v16 v31 v68 v105 v142 v179 v216 v253 v290 v327 v364 v401 v438 v475 v512 v549 v586 v623 v660 v697 v734 v771 v808 v845 v882 v919 v956 v993 v1030 v1067 arg13).trips, ∀ a, (k0_off506 v16 v31 v68 v105 v142 v179 v216 v253 v290 v327 v364 v401 v438 v475 v512 v549 v586 v623 v660 v697 v734 v771 v808 v845 v882 v919 v956 v993 v1030 v1067 arg13 k0_t172) a + S1x16.size a ≤ S512x128.size a) ∧
  (∀ k0_t172 : Fin (k0_t172_loop v16 v31 v68 v105 v142 v179 v216 v253 v290 v327 v364 v401 v438 v475 v512 v549 v586 v623 v660 v697 v734 v771 v808 v845 v882 v919 v956 v993 v1030 v1067 arg13).trips, ∀ a, (k0_off507 v16 v31 v68 v105 v142 v179 v216 v253 v290 v327 v364 v401 v438 v475 v512 v549 v586 v623 v660 v697 v734 v771 v808 v845 v882 v919 v956 v993 v1030 v1067 arg13 k0_t172) a + S1x16.size a ≤ S512x128.size a) ∧
  (∀ k0_t172 : Fin (k0_t172_loop v16 v31 v68 v105 v142 v179 v216 v253 v290 v327 v364 v401 v438 v475 v512 v549 v586 v623 v660 v697 v734 v771 v808 v845 v882 v919 v956 v993 v1030 v1067 arg13).trips, ∀ a, (k0_off508 v16 v31 v68 v105 v142 v179 v216 v253 v290 v327 v364 v401 v438 v475 v512 v549 v586 v623 v660 v697 v734 v771 v808 v845 v882 v919 v956 v993 v1030 v1067 arg13 k0_t172) a + S1x16.size a ≤ S512x128.size a) ∧
  (∀ k0_t172 : Fin (k0_t172_loop v16 v31 v68 v105 v142 v179 v216 v253 v290 v327 v364 v401 v438 v475 v512 v549 v586 v623 v660 v697 v734 v771 v808 v845 v882 v919 v956 v993 v1030 v1067 arg13).trips, ∀ a, (k0_off509 v16 v31 v68 v105 v142 v179 v216 v253 v290 v327 v364 v401 v438 v475 v512 v549 v586 v623 v660 v697 v734 v771 v808 v845 v882 v919 v956 v993 v1030 v1067 arg13 k0_t172) a + S1x16.size a ≤ S512x128.size a) ∧
  ((k0_t173_loop v16 v31 v68 v105 v142 v179 v216 v253 v290 v327 v364 v401 v438 v475 v512 v549 v586 v623 v660 v697 v734 v771 v808 v845 v882 v919 v956 v993 v1030 v1067 arg13).OK) ∧
  (∀ k0_t173 : Fin (k0_t173_loop v16 v31 v68 v105 v142 v179 v216 v253 v290 v327 v364 v401 v438 v475 v512 v549 v586 v623 v660 v697 v734 v771 v808 v845 v882 v919 v956 v993 v1030 v1067 arg13).trips, ∀ a, (k0_off510 v16 v31 v68 v105 v142 v179 v216 v253 v290 v327 v364 v401 v438 v475 v512 v549 v586 v623 v660 v697 v734 v771 v808 v845 v882 v919 v956 v993 v1030 v1067 arg13 k0_t173) a + S1x16.size a ≤ S512x128.size a) ∧
  (∀ k0_t173 : Fin (k0_t173_loop v16 v31 v68 v105 v142 v179 v216 v253 v290 v327 v364 v401 v438 v475 v512 v549 v586 v623 v660 v697 v734 v771 v808 v845 v882 v919 v956 v993 v1030 v1067 arg13).trips, ∀ a, (k0_off511 v16 v31 v68 v105 v142 v179 v216 v253 v290 v327 v364 v401 v438 v475 v512 v549 v586 v623 v660 v697 v734 v771 v808 v845 v882 v919 v956 v993 v1030 v1067 arg13 k0_t173) a + S1x16.size a ≤ S512x128.size a) ∧
  (∀ k0_t173 : Fin (k0_t173_loop v16 v31 v68 v105 v142 v179 v216 v253 v290 v327 v364 v401 v438 v475 v512 v549 v586 v623 v660 v697 v734 v771 v808 v845 v882 v919 v956 v993 v1030 v1067 arg13).trips, ∀ a, (k0_off512 v16 v31 v68 v105 v142 v179 v216 v253 v290 v327 v364 v401 v438 v475 v512 v549 v586 v623 v660 v697 v734 v771 v808 v845 v882 v919 v956 v993 v1030 v1067 arg13 k0_t173) a + S1x16.size a ≤ S512x128.size a) ∧
  (∀ k0_t173 : Fin (k0_t173_loop v16 v31 v68 v105 v142 v179 v216 v253 v290 v327 v364 v401 v438 v475 v512 v549 v586 v623 v660 v697 v734 v771 v808 v845 v882 v919 v956 v993 v1030 v1067 arg13).trips, ∀ a, (k0_off513 v16 v31 v68 v105 v142 v179 v216 v253 v290 v327 v364 v401 v438 v475 v512 v549 v586 v623 v660 v697 v734 v771 v808 v845 v882 v919 v956 v993 v1030 v1067 arg13 k0_t173) a + S1x16.size a ≤ S512x128.size a)
theorem k0_mult57_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13), 8 ∣ (k0_mult57 arg13).toNat := fun v16 v31 v68 v105 v142 v179 v216 v253 v290 v327 v364 v401 v438 v475 v512 v549 v586 v623 v660 v697 v734 v771 v808 v845 v882 v919 v956 v993 v1030 v1067 arg13 k0_hw90 => k0_hw90.1
theorem k0_off505_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13), ∀ a, (k0_off505 arg13) a + S512x128.size a ≤ S320000x128.size a := fun v16 v31 v68 v105 v142 v179 v216 v253 v290 v327 v364 v401 v438 v475 v512 v549 v586 v623 v660 v697 v734 v771 v808 v845 v882 v919 v956 v993 v1030 v1067 arg13 k0_hw90 => k0_hw90.2.1
theorem k0_t172_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13), (k0_t172_loop v16 v31 v68 v105 v142 v179 v216 v253 v290 v327 v364 v401 v438 v475 v512 v549 v586 v623 v660 v697 v734 v771 v808 v845 v882 v919 v956 v993 v1030 v1067 arg13).OK := fun v16 v31 v68 v105 v142 v179 v216 v253 v290 v327 v364 v401 v438 v475 v512 v549 v586 v623 v660 v697 v734 v771 v808 v845 v882 v919 v956 v993 v1030 v1067 arg13 k0_hw90 => k0_hw90.2.2.1
theorem k0_off506_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13) (k0_t172 : Fin (k0_t172_loop v16 v31 v68 v105 v142 v179 v216 v253 v290 v327 v364 v401 v438 v475 v512 v549 v586 v623 v660 v697 v734 v771 v808 v845 v882 v919 v956 v993 v1030 v1067 arg13).trips), ∀ a, (k0_off506 v16 v31 v68 v105 v142 v179 v216 v253 v290 v327 v364 v401 v438 v475 v512 v549 v586 v623 v660 v697 v734 v771 v808 v845 v882 v919 v956 v993 v1030 v1067 arg13 k0_t172) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw90 k0_t172 => k0_hw90.2.2.2.1 k0_t172
theorem k0_off507_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13) (k0_t172 : Fin (k0_t172_loop v16 v31 v68 v105 v142 v179 v216 v253 v290 v327 v364 v401 v438 v475 v512 v549 v586 v623 v660 v697 v734 v771 v808 v845 v882 v919 v956 v993 v1030 v1067 arg13).trips), ∀ a, (k0_off507 v16 v31 v68 v105 v142 v179 v216 v253 v290 v327 v364 v401 v438 v475 v512 v549 v586 v623 v660 v697 v734 v771 v808 v845 v882 v919 v956 v993 v1030 v1067 arg13 k0_t172) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw90 k0_t172 => k0_hw90.2.2.2.2.1 k0_t172
theorem k0_off508_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13) (k0_t172 : Fin (k0_t172_loop v16 v31 v68 v105 v142 v179 v216 v253 v290 v327 v364 v401 v438 v475 v512 v549 v586 v623 v660 v697 v734 v771 v808 v845 v882 v919 v956 v993 v1030 v1067 arg13).trips), ∀ a, (k0_off508 v16 v31 v68 v105 v142 v179 v216 v253 v290 v327 v364 v401 v438 v475 v512 v549 v586 v623 v660 v697 v734 v771 v808 v845 v882 v919 v956 v993 v1030 v1067 arg13 k0_t172) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw90 k0_t172 => k0_hw90.2.2.2.2.2.1 k0_t172
theorem k0_off509_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13) (k0_t172 : Fin (k0_t172_loop v16 v31 v68 v105 v142 v179 v216 v253 v290 v327 v364 v401 v438 v475 v512 v549 v586 v623 v660 v697 v734 v771 v808 v845 v882 v919 v956 v993 v1030 v1067 arg13).trips), ∀ a, (k0_off509 v16 v31 v68 v105 v142 v179 v216 v253 v290 v327 v364 v401 v438 v475 v512 v549 v586 v623 v660 v697 v734 v771 v808 v845 v882 v919 v956 v993 v1030 v1067 arg13 k0_t172) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw90 k0_t172 => k0_hw90.2.2.2.2.2.2.1 k0_t172
theorem k0_t173_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13), (k0_t173_loop v16 v31 v68 v105 v142 v179 v216 v253 v290 v327 v364 v401 v438 v475 v512 v549 v586 v623 v660 v697 v734 v771 v808 v845 v882 v919 v956 v993 v1030 v1067 arg13).OK := fun v16 v31 v68 v105 v142 v179 v216 v253 v290 v327 v364 v401 v438 v475 v512 v549 v586 v623 v660 v697 v734 v771 v808 v845 v882 v919 v956 v993 v1030 v1067 arg13 k0_hw90 => k0_hw90.2.2.2.2.2.2.2.1
theorem k0_off510_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13) (k0_t173 : Fin (k0_t173_loop v16 v31 v68 v105 v142 v179 v216 v253 v290 v327 v364 v401 v438 v475 v512 v549 v586 v623 v660 v697 v734 v771 v808 v845 v882 v919 v956 v993 v1030 v1067 arg13).trips), ∀ a, (k0_off510 v16 v31 v68 v105 v142 v179 v216 v253 v290 v327 v364 v401 v438 v475 v512 v549 v586 v623 v660 v697 v734 v771 v808 v845 v882 v919 v956 v993 v1030 v1067 arg13 k0_t173) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw90 k0_t173 => k0_hw90.2.2.2.2.2.2.2.2.1 k0_t173
theorem k0_off511_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13) (k0_t173 : Fin (k0_t173_loop v16 v31 v68 v105 v142 v179 v216 v253 v290 v327 v364 v401 v438 v475 v512 v549 v586 v623 v660 v697 v734 v771 v808 v845 v882 v919 v956 v993 v1030 v1067 arg13).trips), ∀ a, (k0_off511 v16 v31 v68 v105 v142 v179 v216 v253 v290 v327 v364 v401 v438 v475 v512 v549 v586 v623 v660 v697 v734 v771 v808 v845 v882 v919 v956 v993 v1030 v1067 arg13 k0_t173) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw90 k0_t173 => k0_hw90.2.2.2.2.2.2.2.2.2.1 k0_t173
theorem k0_off512_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13) (k0_t173 : Fin (k0_t173_loop v16 v31 v68 v105 v142 v179 v216 v253 v290 v327 v364 v401 v438 v475 v512 v549 v586 v623 v660 v697 v734 v771 v808 v845 v882 v919 v956 v993 v1030 v1067 arg13).trips), ∀ a, (k0_off512 v16 v31 v68 v105 v142 v179 v216 v253 v290 v327 v364 v401 v438 v475 v512 v549 v586 v623 v660 v697 v734 v771 v808 v845 v882 v919 v956 v993 v1030 v1067 arg13 k0_t173) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw90 k0_t173 => k0_hw90.2.2.2.2.2.2.2.2.2.2.1 k0_t173
theorem k0_off513_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw90 : k0_chk90 v16 v31 v68 v105 v142 v179 v216 v253 v290 v327 v364 v401 v438 v475 v512 v549 v586 v623 v660 v697 v734 v771 v808 v845 v882 v919 v956 v993 v1030 v1067 arg13) (k0_t173 : Fin (k0_t173_loop v16 v31 v68 v105 v142 v179 v216 v253 v290 v327 v364 v401 v438 v475 v512 v549 v586 v623 v660 v697 v734 v771 v808 v845 v882 v919 v956 v993 v1030 v1067 arg13).trips), ∀ a, (k0_off513 v16 v31 v68 v105 v142 v179 v216 v253 v290 v327 v364 v401 v438 v475 v512 v549 v586 v623 v660 v697 v734 v771 v808 v845 v882 v919 v956 v993 v1030 v1067 arg13 k0_t173) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw90 k0_t173 => k0_hw90.2.2.2.2.2.2.2.2.2.2.2 k0_t173

@[reducible] def k0_t174_loop (v1067 : BitVec 32) : Scf.Loop 32 :=
  let c0_i32_422 : BitVec 32 := 0#32
  let c0_i32_415 : BitVec 32 := 0#32
  let v1070 : BitVec 1 := Scalar.cmpi .sgt v1067 c0_i32_415
  let v1071 : BitVec 32 := Scalar.extui v1070
  let c0_i32_416 : BitVec 32 := 0#32
  let v1072 : BitVec 1 := Scalar.cmpi .slt v1067 c0_i32_416
  let v1073 : BitVec 32 := Scalar.extui v1072
  let v1074 : BitVec 32 := Scalar.subi v1071 v1073
  let c504_i32_414 : BitVec 32 := 504#32
  let c0_i32_417 : BitVec 32 := 0#32
  let v1075 : BitVec 1 := Scalar.cmpi .sgt c504_i32_414 c0_i32_417
  let v1076 : BitVec 32 := Scalar.extui v1075
  let c0_i32_418 : BitVec 32 := 0#32
  let v1077 : BitVec 1 := Scalar.cmpi .slt c504_i32_414 c0_i32_418
  let v1078 : BitVec 32 := Scalar.extui v1077
  let v1079 : BitVec 32 := Scalar.subi v1076 v1078
  let v1080 : BitVec 1 := Scalar.cmpi .ne v1074 v1079
  let v1081 : BitVec 32 := Scalar.remsi v1067 c504_i32_414
  let c0_i32_419 : BitVec 32 := 0#32
  let v1082 : BitVec 1 := Scalar.cmpi .ne v1081 c0_i32_419
  let v1083 : BitVec 1 := Scalar.andi v1080 v1082
  let v1069 : BitVec 32 := Scalar.divsi v1067 c504_i32_414
  let c1_i32_420 : BitVec 32 := 1#32
  let v1084 : BitVec 32 := Scalar.subi v1069 c1_i32_420
  let v1085 : BitVec 32 := Scalar.select v1083 v1084 v1069
  let c1_i32_421 : BitVec 32 := 1#32
  let v1086 : BitVec 32 := Scalar.addi v1085 c1_i32_421
  let v1087 : BitVec 32 := Scalar.subi v1086 c0_i32_422
  let c1_i32_423 : BitVec 32 := 1#32
  let v1089 : BitVec 32 := Scalar.divsi v1087 c1_i32_423
  let v1090 : BitVec 32 := Scalar.muli v1089 c1_i32_423
  let v1091 : BitVec 32 := Scalar.addi c0_i32_422 v1090
  let v1088 : BitVec 32 := Scalar.addi c0_i32_422 v1087
  let c1_i32_425 : BitVec 32 := 1#32
  ⟨v1091, v1088, c1_i32_425⟩

def k0_chk89 (v1067 : BitVec 32) : Prop :=
  ((k0_t171_loop v1067).OK) ∧
  ((k0_t174_loop v1067).OK)
theorem k0_t171_ok : ∀ (v1067 : BitVec 32) (k0_hw89 : k0_chk89 v1067), (k0_t171_loop v1067).OK := fun v1067 k0_hw89 => k0_hw89.1
theorem k0_t174_ok : ∀ (v1067 : BitVec 32) (k0_hw89 : k0_chk89 v1067), (k0_t174_loop v1067).OK := fun v1067 k0_hw89 => k0_hw89.2

def k0_mult58 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off514 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r58 : BitVec 32 := 0#32
  ![v1213.toNat, 0]
@[reducible] def k0_t175_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off515 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t175 : Fin (k0_t175_loop v16 v31 v68 v105 v142 v179 v216 v253 v290 v327 v364 v401 v438 v475 v512 v549 v586 v623 v660 v697 v734 v771 v808 v845 v882 v919 v956 v993 v1030 v1067 arg13).trips) : Fin 2 → Nat :=
  let c1_i32_473 : BitVec 32 := 1#32
  let arg14 : BitVec 32 := Scf.iv arg13 c1_i32_473 k0_t175
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off516 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t175 : Fin (k0_t175_loop v16 v31 v68 v105 v142 v179 v216 v253 v290 v327 v364 v401 v438 v475 v512 v549 v586 v623 v660 v697 v734 v771 v808 v845 v882 v919 v956 v993 v1030 v1067 arg13).trips) : Fin 2 → Nat :=
  let c1_i32_473 : BitVec 32 := 1#32
  let arg14 : BitVec 32 := Scf.iv arg13 c1_i32_473 k0_t175
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off517 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t175 : Fin (k0_t175_loop v16 v31 v68 v105 v142 v179 v216 v253 v290 v327 v364 v401 v438 v475 v512 v549 v586 v623 v660 v697 v734 v771 v808 v845 v882 v919 v956 v993 v1030 v1067 arg13).trips) : Fin 2 → Nat :=
  let c1_i32_473 : BitVec 32 := 1#32
  let arg14 : BitVec 32 := Scf.iv arg13 c1_i32_473 k0_t175
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off518 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t175 : Fin (k0_t175_loop v16 v31 v68 v105 v142 v179 v216 v253 v290 v327 v364 v401 v438 v475 v512 v549 v586 v623 v660 v697 v734 v771 v808 v845 v882 v919 v956 v993 v1030 v1067 arg13).trips) : Fin 2 → Nat :=
  let c1_i32_473 : BitVec 32 := 1#32
  let arg14 : BitVec 32 := Scf.iv arg13 c1_i32_473 k0_t175
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t176_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off519 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t176 : Fin (k0_t176_loop v16 v31 v68 v105 v142 v179 v216 v253 v290 v327 v364 v401 v438 v475 v512 v549 v586 v623 v660 v697 v734 v771 v808 v845 v882 v919 v956 v993 v1030 v1067 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t176
  let v1224 : BitVec 32 := Scalar.subi arg14 v1213
  let v1225 : Index := Scalar.indexCast v1224
  let c0_475 : Index := 0#32
  ![v1225.toNat, 0]
def k0_off520 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t176 : Fin (k0_t176_loop v16 v31 v68 v105 v142 v179 v216 v253 v290 v327 v364 v401 v438 v475 v512 v549 v586 v623 v660 v697 v734 v771 v808 v845 v882 v919 v956 v993 v1030 v1067 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t176
  let v1224 : BitVec 32 := Scalar.subi arg14 v1213
  let v1228 : Index := Scalar.indexCast v1224
  let c16_476 : Index := 16#32
  ![v1228.toNat, 16]
def k0_off521 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t176 : Fin (k0_t176_loop v16 v31 v68 v105 v142 v179 v216 v253 v290 v327 v364 v401 v438 v475 v512 v549 v586 v623 v660 v697 v734 v771 v808 v845 v882 v919 v956 v993 v1030 v1067 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t176
  let v1224 : BitVec 32 := Scalar.subi arg14 v1213
  let v1231 : Index := Scalar.indexCast v1224
  let c32_477 : Index := 32#32
  ![v1231.toNat, 32]
def k0_off522 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_t176 : Fin (k0_t176_loop v16 v31 v68 v105 v142 v179 v216 v253 v290 v327 v364 v401 v438 v475 v512 v549 v586 v623 v660 v697 v734 v771 v808 v845 v882 v919 v956 v993 v1030 v1067 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1068 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t176
  let v1224 : BitVec 32 := Scalar.subi arg14 v1213
  let v1234 : Index := Scalar.indexCast v1224
  let c48_478 : Index := 48#32
  ![v1234.toNat, 48]

def k0_chk91 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) : Prop :=
  (8 ∣ (k0_mult58 arg13).toNat) ∧
  (∀ a, (k0_off514 arg13) a + S512x128.size a ≤ S320000x128.size a) ∧
  ((k0_t175_loop v16 v31 v68 v105 v142 v179 v216 v253 v290 v327 v364 v401 v438 v475 v512 v549 v586 v623 v660 v697 v734 v771 v808 v845 v882 v919 v956 v993 v1030 v1067 arg13).OK) ∧
  (∀ k0_t175 : Fin (k0_t175_loop v16 v31 v68 v105 v142 v179 v216 v253 v290 v327 v364 v401 v438 v475 v512 v549 v586 v623 v660 v697 v734 v771 v808 v845 v882 v919 v956 v993 v1030 v1067 arg13).trips, ∀ a, (k0_off515 v16 v31 v68 v105 v142 v179 v216 v253 v290 v327 v364 v401 v438 v475 v512 v549 v586 v623 v660 v697 v734 v771 v808 v845 v882 v919 v956 v993 v1030 v1067 arg13 k0_t175) a + S1x16.size a ≤ S512x128.size a) ∧
  (∀ k0_t175 : Fin (k0_t175_loop v16 v31 v68 v105 v142 v179 v216 v253 v290 v327 v364 v401 v438 v475 v512 v549 v586 v623 v660 v697 v734 v771 v808 v845 v882 v919 v956 v993 v1030 v1067 arg13).trips, ∀ a, (k0_off516 v16 v31 v68 v105 v142 v179 v216 v253 v290 v327 v364 v401 v438 v475 v512 v549 v586 v623 v660 v697 v734 v771 v808 v845 v882 v919 v956 v993 v1030 v1067 arg13 k0_t175) a + S1x16.size a ≤ S512x128.size a) ∧
  (∀ k0_t175 : Fin (k0_t175_loop v16 v31 v68 v105 v142 v179 v216 v253 v290 v327 v364 v401 v438 v475 v512 v549 v586 v623 v660 v697 v734 v771 v808 v845 v882 v919 v956 v993 v1030 v1067 arg13).trips, ∀ a, (k0_off517 v16 v31 v68 v105 v142 v179 v216 v253 v290 v327 v364 v401 v438 v475 v512 v549 v586 v623 v660 v697 v734 v771 v808 v845 v882 v919 v956 v993 v1030 v1067 arg13 k0_t175) a + S1x16.size a ≤ S512x128.size a) ∧
  (∀ k0_t175 : Fin (k0_t175_loop v16 v31 v68 v105 v142 v179 v216 v253 v290 v327 v364 v401 v438 v475 v512 v549 v586 v623 v660 v697 v734 v771 v808 v845 v882 v919 v956 v993 v1030 v1067 arg13).trips, ∀ a, (k0_off518 v16 v31 v68 v105 v142 v179 v216 v253 v290 v327 v364 v401 v438 v475 v512 v549 v586 v623 v660 v697 v734 v771 v808 v845 v882 v919 v956 v993 v1030 v1067 arg13 k0_t175) a + S1x16.size a ≤ S512x128.size a) ∧
  ((k0_t176_loop v16 v31 v68 v105 v142 v179 v216 v253 v290 v327 v364 v401 v438 v475 v512 v549 v586 v623 v660 v697 v734 v771 v808 v845 v882 v919 v956 v993 v1030 v1067 arg13).OK) ∧
  (∀ k0_t176 : Fin (k0_t176_loop v16 v31 v68 v105 v142 v179 v216 v253 v290 v327 v364 v401 v438 v475 v512 v549 v586 v623 v660 v697 v734 v771 v808 v845 v882 v919 v956 v993 v1030 v1067 arg13).trips, ∀ a, (k0_off519 v16 v31 v68 v105 v142 v179 v216 v253 v290 v327 v364 v401 v438 v475 v512 v549 v586 v623 v660 v697 v734 v771 v808 v845 v882 v919 v956 v993 v1030 v1067 arg13 k0_t176) a + S1x16.size a ≤ S512x128.size a) ∧
  (∀ k0_t176 : Fin (k0_t176_loop v16 v31 v68 v105 v142 v179 v216 v253 v290 v327 v364 v401 v438 v475 v512 v549 v586 v623 v660 v697 v734 v771 v808 v845 v882 v919 v956 v993 v1030 v1067 arg13).trips, ∀ a, (k0_off520 v16 v31 v68 v105 v142 v179 v216 v253 v290 v327 v364 v401 v438 v475 v512 v549 v586 v623 v660 v697 v734 v771 v808 v845 v882 v919 v956 v993 v1030 v1067 arg13 k0_t176) a + S1x16.size a ≤ S512x128.size a) ∧
  (∀ k0_t176 : Fin (k0_t176_loop v16 v31 v68 v105 v142 v179 v216 v253 v290 v327 v364 v401 v438 v475 v512 v549 v586 v623 v660 v697 v734 v771 v808 v845 v882 v919 v956 v993 v1030 v1067 arg13).trips, ∀ a, (k0_off521 v16 v31 v68 v105 v142 v179 v216 v253 v290 v327 v364 v401 v438 v475 v512 v549 v586 v623 v660 v697 v734 v771 v808 v845 v882 v919 v956 v993 v1030 v1067 arg13 k0_t176) a + S1x16.size a ≤ S512x128.size a) ∧
  (∀ k0_t176 : Fin (k0_t176_loop v16 v31 v68 v105 v142 v179 v216 v253 v290 v327 v364 v401 v438 v475 v512 v549 v586 v623 v660 v697 v734 v771 v808 v845 v882 v919 v956 v993 v1030 v1067 arg13).trips, ∀ a, (k0_off522 v16 v31 v68 v105 v142 v179 v216 v253 v290 v327 v364 v401 v438 v475 v512 v549 v586 v623 v660 v697 v734 v771 v808 v845 v882 v919 v956 v993 v1030 v1067 arg13 k0_t176) a + S1x16.size a ≤ S512x128.size a)
theorem k0_mult58_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13), 8 ∣ (k0_mult58 arg13).toNat := fun v16 v31 v68 v105 v142 v179 v216 v253 v290 v327 v364 v401 v438 v475 v512 v549 v586 v623 v660 v697 v734 v771 v808 v845 v882 v919 v956 v993 v1030 v1067 arg13 k0_hw91 => k0_hw91.1
theorem k0_off514_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13), ∀ a, (k0_off514 arg13) a + S512x128.size a ≤ S320000x128.size a := fun v16 v31 v68 v105 v142 v179 v216 v253 v290 v327 v364 v401 v438 v475 v512 v549 v586 v623 v660 v697 v734 v771 v808 v845 v882 v919 v956 v993 v1030 v1067 arg13 k0_hw91 => k0_hw91.2.1
theorem k0_t175_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13), (k0_t175_loop v16 v31 v68 v105 v142 v179 v216 v253 v290 v327 v364 v401 v438 v475 v512 v549 v586 v623 v660 v697 v734 v771 v808 v845 v882 v919 v956 v993 v1030 v1067 arg13).OK := fun v16 v31 v68 v105 v142 v179 v216 v253 v290 v327 v364 v401 v438 v475 v512 v549 v586 v623 v660 v697 v734 v771 v808 v845 v882 v919 v956 v993 v1030 v1067 arg13 k0_hw91 => k0_hw91.2.2.1
theorem k0_off515_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13) (k0_t175 : Fin (k0_t175_loop v16 v31 v68 v105 v142 v179 v216 v253 v290 v327 v364 v401 v438 v475 v512 v549 v586 v623 v660 v697 v734 v771 v808 v845 v882 v919 v956 v993 v1030 v1067 arg13).trips), ∀ a, (k0_off515 v16 v31 v68 v105 v142 v179 v216 v253 v290 v327 v364 v401 v438 v475 v512 v549 v586 v623 v660 v697 v734 v771 v808 v845 v882 v919 v956 v993 v1030 v1067 arg13 k0_t175) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw91 k0_t175 => k0_hw91.2.2.2.1 k0_t175
theorem k0_off516_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13) (k0_t175 : Fin (k0_t175_loop v16 v31 v68 v105 v142 v179 v216 v253 v290 v327 v364 v401 v438 v475 v512 v549 v586 v623 v660 v697 v734 v771 v808 v845 v882 v919 v956 v993 v1030 v1067 arg13).trips), ∀ a, (k0_off516 v16 v31 v68 v105 v142 v179 v216 v253 v290 v327 v364 v401 v438 v475 v512 v549 v586 v623 v660 v697 v734 v771 v808 v845 v882 v919 v956 v993 v1030 v1067 arg13 k0_t175) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw91 k0_t175 => k0_hw91.2.2.2.2.1 k0_t175
theorem k0_off517_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13) (k0_t175 : Fin (k0_t175_loop v16 v31 v68 v105 v142 v179 v216 v253 v290 v327 v364 v401 v438 v475 v512 v549 v586 v623 v660 v697 v734 v771 v808 v845 v882 v919 v956 v993 v1030 v1067 arg13).trips), ∀ a, (k0_off517 v16 v31 v68 v105 v142 v179 v216 v253 v290 v327 v364 v401 v438 v475 v512 v549 v586 v623 v660 v697 v734 v771 v808 v845 v882 v919 v956 v993 v1030 v1067 arg13 k0_t175) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw91 k0_t175 => k0_hw91.2.2.2.2.2.1 k0_t175
theorem k0_off518_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13) (k0_t175 : Fin (k0_t175_loop v16 v31 v68 v105 v142 v179 v216 v253 v290 v327 v364 v401 v438 v475 v512 v549 v586 v623 v660 v697 v734 v771 v808 v845 v882 v919 v956 v993 v1030 v1067 arg13).trips), ∀ a, (k0_off518 v16 v31 v68 v105 v142 v179 v216 v253 v290 v327 v364 v401 v438 v475 v512 v549 v586 v623 v660 v697 v734 v771 v808 v845 v882 v919 v956 v993 v1030 v1067 arg13 k0_t175) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw91 k0_t175 => k0_hw91.2.2.2.2.2.2.1 k0_t175
theorem k0_t176_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13), (k0_t176_loop v16 v31 v68 v105 v142 v179 v216 v253 v290 v327 v364 v401 v438 v475 v512 v549 v586 v623 v660 v697 v734 v771 v808 v845 v882 v919 v956 v993 v1030 v1067 arg13).OK := fun v16 v31 v68 v105 v142 v179 v216 v253 v290 v327 v364 v401 v438 v475 v512 v549 v586 v623 v660 v697 v734 v771 v808 v845 v882 v919 v956 v993 v1030 v1067 arg13 k0_hw91 => k0_hw91.2.2.2.2.2.2.2.1
theorem k0_off519_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13) (k0_t176 : Fin (k0_t176_loop v16 v31 v68 v105 v142 v179 v216 v253 v290 v327 v364 v401 v438 v475 v512 v549 v586 v623 v660 v697 v734 v771 v808 v845 v882 v919 v956 v993 v1030 v1067 arg13).trips), ∀ a, (k0_off519 v16 v31 v68 v105 v142 v179 v216 v253 v290 v327 v364 v401 v438 v475 v512 v549 v586 v623 v660 v697 v734 v771 v808 v845 v882 v919 v956 v993 v1030 v1067 arg13 k0_t176) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw91 k0_t176 => k0_hw91.2.2.2.2.2.2.2.2.1 k0_t176
theorem k0_off520_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13) (k0_t176 : Fin (k0_t176_loop v16 v31 v68 v105 v142 v179 v216 v253 v290 v327 v364 v401 v438 v475 v512 v549 v586 v623 v660 v697 v734 v771 v808 v845 v882 v919 v956 v993 v1030 v1067 arg13).trips), ∀ a, (k0_off520 v16 v31 v68 v105 v142 v179 v216 v253 v290 v327 v364 v401 v438 v475 v512 v549 v586 v623 v660 v697 v734 v771 v808 v845 v882 v919 v956 v993 v1030 v1067 arg13 k0_t176) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw91 k0_t176 => k0_hw91.2.2.2.2.2.2.2.2.2.1 k0_t176
theorem k0_off521_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13) (k0_t176 : Fin (k0_t176_loop v16 v31 v68 v105 v142 v179 v216 v253 v290 v327 v364 v401 v438 v475 v512 v549 v586 v623 v660 v697 v734 v771 v808 v845 v882 v919 v956 v993 v1030 v1067 arg13).trips), ∀ a, (k0_off521 v16 v31 v68 v105 v142 v179 v216 v253 v290 v327 v364 v401 v438 v475 v512 v549 v586 v623 v660 v697 v734 v771 v808 v845 v882 v919 v956 v993 v1030 v1067 arg13 k0_t176) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw91 k0_t176 => k0_hw91.2.2.2.2.2.2.2.2.2.2.1 k0_t176
theorem k0_off522_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (arg13 : BitVec 32) (k0_hw91 : k0_chk91 v16 v31 v68 v105 v142 v179 v216 v253 v290 v327 v364 v401 v438 v475 v512 v549 v586 v623 v660 v697 v734 v771 v808 v845 v882 v919 v956 v993 v1030 v1067 arg13) (k0_t176 : Fin (k0_t176_loop v16 v31 v68 v105 v142 v179 v216 v253 v290 v327 v364 v401 v438 v475 v512 v549 v586 v623 v660 v697 v734 v771 v808 v845 v882 v919 v956 v993 v1030 v1067 arg13).trips), ∀ a, (k0_off522 v16 v31 v68 v105 v142 v179 v216 v253 v290 v327 v364 v401 v438 v475 v512 v549 v586 v623 v660 v697 v734 v771 v808 v845 v882 v919 v956 v993 v1030 v1067 arg13 k0_t176) a + S1x16.size a ≤ S512x128.size a := fun v16 v31 v68 v105 v142 v179 v216 v253 v290 v327 v364 v401 v438 v475 v512 v549 v586 v623 v660 v697 v734 v771 v808 v845 v882 v919 v956 v993 v1030 v1067 arg13 k0_hw91 k0_t176 => k0_hw91.2.2.2.2.2.2.2.2.2.2.2 k0_t176

@[reducible] def k0_t177_loop (v1104 : BitVec 32) : Scf.Loop 32 :=
  let c0_i32_437 : BitVec 32 := 0#32
  let c0_i32_430 : BitVec 32 := 0#32
  let v1107 : BitVec 1 := Scalar.cmpi .sgt v1104 c0_i32_430
  let v1108 : BitVec 32 := Scalar.extui v1107
  let c0_i32_431 : BitVec 32 := 0#32
  let v1109 : BitVec 1 := Scalar.cmpi .slt v1104 c0_i32_431
  let v1110 : BitVec 32 := Scalar.extui v1109
  let v1111 : BitVec 32 := Scalar.subi v1108 v1110
  let c504_i32_429 : BitVec 32 := 504#32
  let c0_i32_432 : BitVec 32 := 0#32
  let v1112 : BitVec 1 := Scalar.cmpi .sgt c504_i32_429 c0_i32_432
  let v1113 : BitVec 32 := Scalar.extui v1112
  let c0_i32_433 : BitVec 32 := 0#32
  let v1114 : BitVec 1 := Scalar.cmpi .slt c504_i32_429 c0_i32_433
  let v1115 : BitVec 32 := Scalar.extui v1114
  let v1116 : BitVec 32 := Scalar.subi v1113 v1115
  let v1117 : BitVec 1 := Scalar.cmpi .ne v1111 v1116
  let v1118 : BitVec 32 := Scalar.remsi v1104 c504_i32_429
  let c0_i32_434 : BitVec 32 := 0#32
  let v1119 : BitVec 1 := Scalar.cmpi .ne v1118 c0_i32_434
  let v1120 : BitVec 1 := Scalar.andi v1117 v1119
  let v1106 : BitVec 32 := Scalar.divsi v1104 c504_i32_429
  let c1_i32_435 : BitVec 32 := 1#32
  let v1121 : BitVec 32 := Scalar.subi v1106 c1_i32_435
  let v1122 : BitVec 32 := Scalar.select v1120 v1121 v1106
  let c1_i32_436 : BitVec 32 := 1#32
  let v1123 : BitVec 32 := Scalar.addi v1122 c1_i32_436
  let v1124 : BitVec 32 := Scalar.subi v1123 c0_i32_437
  let c1_i32_438 : BitVec 32 := 1#32
  let v1126 : BitVec 32 := Scalar.divsi v1124 c1_i32_438
  let v1127 : BitVec 32 := Scalar.muli v1126 c1_i32_438
  let v1128 : BitVec 32 := Scalar.addi c0_i32_437 v1127
  let c1_i32_439 : BitVec 32 := 1#32
  ⟨c0_i32_437, v1128, c1_i32_439⟩

def k0_mult59 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off523 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r59 : BitVec 32 := 0#32
  ![v1213.toNat, 0]
@[reducible] def k0_t178_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off524 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t178 : Fin (k0_t178_loop v16 v31 v68 v105 v142 v179 v216 v253 v290 v327 v364 v401 v438 v475 v512 v549 v586 v623 v660 v697 v734 v771 v808 v845 v882 v919 v956 v993 v1030 v1067 v1104 arg13).trips) : Fin 2 → Nat :=
  let c1_i32_473 : BitVec 32 := 1#32
  let arg14 : BitVec 32 := Scf.iv arg13 c1_i32_473 k0_t178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off525 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t178 : Fin (k0_t178_loop v16 v31 v68 v105 v142 v179 v216 v253 v290 v327 v364 v401 v438 v475 v512 v549 v586 v623 v660 v697 v734 v771 v808 v845 v882 v919 v956 v993 v1030 v1067 v1104 arg13).trips) : Fin 2 → Nat :=
  let c1_i32_473 : BitVec 32 := 1#32
  let arg14 : BitVec 32 := Scf.iv arg13 c1_i32_473 k0_t178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off526 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t178 : Fin (k0_t178_loop v16 v31 v68 v105 v142 v179 v216 v253 v290 v327 v364 v401 v438 v475 v512 v549 v586 v623 v660 v697 v734 v771 v808 v845 v882 v919 v956 v993 v1030 v1067 v1104 arg13).trips) : Fin 2 → Nat :=
  let c1_i32_473 : BitVec 32 := 1#32
  let arg14 : BitVec 32 := Scf.iv arg13 c1_i32_473 k0_t178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off527 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t178 : Fin (k0_t178_loop v16 v31 v68 v105 v142 v179 v216 v253 v290 v327 v364 v401 v438 v475 v512 v549 v586 v623 v660 v697 v734 v771 v808 v845 v882 v919 v956 v993 v1030 v1067 v1104 arg13).trips) : Fin 2 → Nat :=
  let c1_i32_473 : BitVec 32 := 1#32
  let arg14 : BitVec 32 := Scf.iv arg13 c1_i32_473 k0_t178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t179_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off528 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t179 : Fin (k0_t179_loop v16 v31 v68 v105 v142 v179 v216 v253 v290 v327 v364 v401 v438 v475 v512 v549 v586 v623 v660 v697 v734 v771 v808 v845 v882 v919 v956 v993 v1030 v1067 v1104 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t179
  let v1224 : BitVec 32 := Scalar.subi arg14 v1213
  let v1225 : Index := Scalar.indexCast v1224
  let c0_475 : Index := 0#32
  ![v1225.toNat, 0]
def k0_off529 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t179 : Fin (k0_t179_loop v16 v31 v68 v105 v142 v179 v216 v253 v290 v327 v364 v401 v438 v475 v512 v549 v586 v623 v660 v697 v734 v771 v808 v845 v882 v919 v956 v993 v1030 v1067 v1104 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t179
  let v1224 : BitVec 32 := Scalar.subi arg14 v1213
  let v1228 : Index := Scalar.indexCast v1224
  let c16_476 : Index := 16#32
  ![v1228.toNat, 16]
def k0_off530 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t179 : Fin (k0_t179_loop v16 v31 v68 v105 v142 v179 v216 v253 v290 v327 v364 v401 v438 v475 v512 v549 v586 v623 v660 v697 v734 v771 v808 v845 v882 v919 v956 v993 v1030 v1067 v1104 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t179
  let v1224 : BitVec 32 := Scalar.subi arg14 v1213
  let v1231 : Index := Scalar.indexCast v1224
  let c32_477 : Index := 32#32
  ![v1231.toNat, 32]
def k0_off531 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t179 : Fin (k0_t179_loop v16 v31 v68 v105 v142 v179 v216 v253 v290 v327 v364 v401 v438 v475 v512 v549 v586 v623 v660 v697 v734 v771 v808 v845 v882 v919 v956 v993 v1030 v1067 v1104 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t179
  let v1224 : BitVec 32 := Scalar.subi arg14 v1213
  let v1234 : Index := Scalar.indexCast v1224
  let c48_478 : Index := 48#32
  ![v1234.toNat, 48]

def k0_chk93 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) : Prop :=
  (8 ∣ (k0_mult59 arg13).toNat) ∧
  (∀ a, (k0_off523 arg13) a + S512x128.size a ≤ S320000x128.size a) ∧
  ((k0_t178_loop v16 v31 v68 v105 v142 v179 v216 v253 v290 v327 v364 v401 v438 v475 v512 v549 v586 v623 v660 v697 v734 v771 v808 v845 v882 v919 v956 v993 v1030 v1067 v1104 arg13).OK) ∧
  (∀ k0_t178 : Fin (k0_t178_loop v16 v31 v68 v105 v142 v179 v216 v253 v290 v327 v364 v401 v438 v475 v512 v549 v586 v623 v660 v697 v734 v771 v808 v845 v882 v919 v956 v993 v1030 v1067 v1104 arg13).trips, ∀ a, (k0_off524 v16 v31 v68 v105 v142 v179 v216 v253 v290 v327 v364 v401 v438 v475 v512 v549 v586 v623 v660 v697 v734 v771 v808 v845 v882 v919 v956 v993 v1030 v1067 v1104 arg13 k0_t178) a + S1x16.size a ≤ S512x128.size a) ∧
  (∀ k0_t178 : Fin (k0_t178_loop v16 v31 v68 v105 v142 v179 v216 v253 v290 v327 v364 v401 v438 v475 v512 v549 v586 v623 v660 v697 v734 v771 v808 v845 v882 v919 v956 v993 v1030 v1067 v1104 arg13).trips, ∀ a, (k0_off525 v16 v31 v68 v105 v142 v179 v216 v253 v290 v327 v364 v401 v438 v475 v512 v549 v586 v623 v660 v697 v734 v771 v808 v845 v882 v919 v956 v993 v1030 v1067 v1104 arg13 k0_t178) a + S1x16.size a ≤ S512x128.size a) ∧
  (∀ k0_t178 : Fin (k0_t178_loop v16 v31 v68 v105 v142 v179 v216 v253 v290 v327 v364 v401 v438 v475 v512 v549 v586 v623 v660 v697 v734 v771 v808 v845 v882 v919 v956 v993 v1030 v1067 v1104 arg13).trips, ∀ a, (k0_off526 v16 v31 v68 v105 v142 v179 v216 v253 v290 v327 v364 v401 v438 v475 v512 v549 v586 v623 v660 v697 v734 v771 v808 v845 v882 v919 v956 v993 v1030 v1067 v1104 arg13 k0_t178) a + S1x16.size a ≤ S512x128.size a) ∧
  (∀ k0_t178 : Fin (k0_t178_loop v16 v31 v68 v105 v142 v179 v216 v253 v290 v327 v364 v401 v438 v475 v512 v549 v586 v623 v660 v697 v734 v771 v808 v845 v882 v919 v956 v993 v1030 v1067 v1104 arg13).trips, ∀ a, (k0_off527 v16 v31 v68 v105 v142 v179 v216 v253 v290 v327 v364 v401 v438 v475 v512 v549 v586 v623 v660 v697 v734 v771 v808 v845 v882 v919 v956 v993 v1030 v1067 v1104 arg13 k0_t178) a + S1x16.size a ≤ S512x128.size a) ∧
  ((k0_t179_loop v16 v31 v68 v105 v142 v179 v216 v253 v290 v327 v364 v401 v438 v475 v512 v549 v586 v623 v660 v697 v734 v771 v808 v845 v882 v919 v956 v993 v1030 v1067 v1104 arg13).OK) ∧
  (∀ k0_t179 : Fin (k0_t179_loop v16 v31 v68 v105 v142 v179 v216 v253 v290 v327 v364 v401 v438 v475 v512 v549 v586 v623 v660 v697 v734 v771 v808 v845 v882 v919 v956 v993 v1030 v1067 v1104 arg13).trips, ∀ a, (k0_off528 v16 v31 v68 v105 v142 v179 v216 v253 v290 v327 v364 v401 v438 v475 v512 v549 v586 v623 v660 v697 v734 v771 v808 v845 v882 v919 v956 v993 v1030 v1067 v1104 arg13 k0_t179) a + S1x16.size a ≤ S512x128.size a) ∧
  (∀ k0_t179 : Fin (k0_t179_loop v16 v31 v68 v105 v142 v179 v216 v253 v290 v327 v364 v401 v438 v475 v512 v549 v586 v623 v660 v697 v734 v771 v808 v845 v882 v919 v956 v993 v1030 v1067 v1104 arg13).trips, ∀ a, (k0_off529 v16 v31 v68 v105 v142 v179 v216 v253 v290 v327 v364 v401 v438 v475 v512 v549 v586 v623 v660 v697 v734 v771 v808 v845 v882 v919 v956 v993 v1030 v1067 v1104 arg13 k0_t179) a + S1x16.size a ≤ S512x128.size a) ∧
  (∀ k0_t179 : Fin (k0_t179_loop v16 v31 v68 v105 v142 v179 v216 v253 v290 v327 v364 v401 v438 v475 v512 v549 v586 v623 v660 v697 v734 v771 v808 v845 v882 v919 v956 v993 v1030 v1067 v1104 arg13).trips, ∀ a, (k0_off530 v16 v31 v68 v105 v142 v179 v216 v253 v290 v327 v364 v401 v438 v475 v512 v549 v586 v623 v660 v697 v734 v771 v808 v845 v882 v919 v956 v993 v1030 v1067 v1104 arg13 k0_t179) a + S1x16.size a ≤ S512x128.size a) ∧
  (∀ k0_t179 : Fin (k0_t179_loop v16 v31 v68 v105 v142 v179 v216 v253 v290 v327 v364 v401 v438 v475 v512 v549 v586 v623 v660 v697 v734 v771 v808 v845 v882 v919 v956 v993 v1030 v1067 v1104 arg13).trips, ∀ a, (k0_off531 v16 v31 v68 v105 v142 v179 v216 v253 v290 v327 v364 v401 v438 v475 v512 v549 v586 v623 v660 v697 v734 v771 v808 v845 v882 v919 v956 v993 v1030 v1067 v1104 arg13 k0_t179) a + S1x16.size a ≤ S512x128.size a)
theorem k0_mult59_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13), 8 ∣ (k0_mult59 arg13).toNat := fun v16 v31 v68 v105 v142 v179 v216 v253 v290 v327 v364 v401 v438 v475 v512 v549 v586 v623 v660 v697 v734 v771 v808 v845 v882 v919 v956 v993 v1030 v1067 v1104 arg13 k0_hw93 => k0_hw93.1
theorem k0_off523_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13), ∀ a, (k0_off523 arg13) a + S512x128.size a ≤ S320000x128.size a := fun v16 v31 v68 v105 v142 v179 v216 v253 v290 v327 v364 v401 v438 v475 v512 v549 v586 v623 v660 v697 v734 v771 v808 v845 v882 v919 v956 v993 v1030 v1067 v1104 arg13 k0_hw93 => k0_hw93.2.1
theorem k0_t178_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13), (k0_t178_loop v16 v31 v68 v105 v142 v179 v216 v253 v290 v327 v364 v401 v438 v475 v512 v549 v586 v623 v660 v697 v734 v771 v808 v845 v882 v919 v956 v993 v1030 v1067 v1104 arg13).OK := fun v16 v31 v68 v105 v142 v179 v216 v253 v290 v327 v364 v401 v438 v475 v512 v549 v586 v623 v660 v697 v734 v771 v808 v845 v882 v919 v956 v993 v1030 v1067 v1104 arg13 k0_hw93 => k0_hw93.2.2.1
theorem k0_off524_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13) (k0_t178 : Fin (k0_t178_loop v16 v31 v68 v105 v142 v179 v216 v253 v290 v327 v364 v401 v438 v475 v512 v549 v586 v623 v660 v697 v734 v771 v808 v845 v882 v919 v956 v993 v1030 v1067 v1104 arg13).trips), ∀ a, (k0_off524 v16 v31 v68 v105 v142 v179 v216 v253 v290 v327 v364 v401 v438 v475 v512 v549 v586 v623 v660 v697 v734 v771 v808 v845 v882 v919 v956 v993 v1030 v1067 v1104 arg13 k0_t178) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw93 k0_t178 => k0_hw93.2.2.2.1 k0_t178
theorem k0_off525_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13) (k0_t178 : Fin (k0_t178_loop v16 v31 v68 v105 v142 v179 v216 v253 v290 v327 v364 v401 v438 v475 v512 v549 v586 v623 v660 v697 v734 v771 v808 v845 v882 v919 v956 v993 v1030 v1067 v1104 arg13).trips), ∀ a, (k0_off525 v16 v31 v68 v105 v142 v179 v216 v253 v290 v327 v364 v401 v438 v475 v512 v549 v586 v623 v660 v697 v734 v771 v808 v845 v882 v919 v956 v993 v1030 v1067 v1104 arg13 k0_t178) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw93 k0_t178 => k0_hw93.2.2.2.2.1 k0_t178
theorem k0_off526_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13) (k0_t178 : Fin (k0_t178_loop v16 v31 v68 v105 v142 v179 v216 v253 v290 v327 v364 v401 v438 v475 v512 v549 v586 v623 v660 v697 v734 v771 v808 v845 v882 v919 v956 v993 v1030 v1067 v1104 arg13).trips), ∀ a, (k0_off526 v16 v31 v68 v105 v142 v179 v216 v253 v290 v327 v364 v401 v438 v475 v512 v549 v586 v623 v660 v697 v734 v771 v808 v845 v882 v919 v956 v993 v1030 v1067 v1104 arg13 k0_t178) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw93 k0_t178 => k0_hw93.2.2.2.2.2.1 k0_t178
theorem k0_off527_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13) (k0_t178 : Fin (k0_t178_loop v16 v31 v68 v105 v142 v179 v216 v253 v290 v327 v364 v401 v438 v475 v512 v549 v586 v623 v660 v697 v734 v771 v808 v845 v882 v919 v956 v993 v1030 v1067 v1104 arg13).trips), ∀ a, (k0_off527 v16 v31 v68 v105 v142 v179 v216 v253 v290 v327 v364 v401 v438 v475 v512 v549 v586 v623 v660 v697 v734 v771 v808 v845 v882 v919 v956 v993 v1030 v1067 v1104 arg13 k0_t178) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw93 k0_t178 => k0_hw93.2.2.2.2.2.2.1 k0_t178
theorem k0_t179_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13), (k0_t179_loop v16 v31 v68 v105 v142 v179 v216 v253 v290 v327 v364 v401 v438 v475 v512 v549 v586 v623 v660 v697 v734 v771 v808 v845 v882 v919 v956 v993 v1030 v1067 v1104 arg13).OK := fun v16 v31 v68 v105 v142 v179 v216 v253 v290 v327 v364 v401 v438 v475 v512 v549 v586 v623 v660 v697 v734 v771 v808 v845 v882 v919 v956 v993 v1030 v1067 v1104 arg13 k0_hw93 => k0_hw93.2.2.2.2.2.2.2.1
theorem k0_off528_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13) (k0_t179 : Fin (k0_t179_loop v16 v31 v68 v105 v142 v179 v216 v253 v290 v327 v364 v401 v438 v475 v512 v549 v586 v623 v660 v697 v734 v771 v808 v845 v882 v919 v956 v993 v1030 v1067 v1104 arg13).trips), ∀ a, (k0_off528 v16 v31 v68 v105 v142 v179 v216 v253 v290 v327 v364 v401 v438 v475 v512 v549 v586 v623 v660 v697 v734 v771 v808 v845 v882 v919 v956 v993 v1030 v1067 v1104 arg13 k0_t179) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw93 k0_t179 => k0_hw93.2.2.2.2.2.2.2.2.1 k0_t179
theorem k0_off529_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13) (k0_t179 : Fin (k0_t179_loop v16 v31 v68 v105 v142 v179 v216 v253 v290 v327 v364 v401 v438 v475 v512 v549 v586 v623 v660 v697 v734 v771 v808 v845 v882 v919 v956 v993 v1030 v1067 v1104 arg13).trips), ∀ a, (k0_off529 v16 v31 v68 v105 v142 v179 v216 v253 v290 v327 v364 v401 v438 v475 v512 v549 v586 v623 v660 v697 v734 v771 v808 v845 v882 v919 v956 v993 v1030 v1067 v1104 arg13 k0_t179) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw93 k0_t179 => k0_hw93.2.2.2.2.2.2.2.2.2.1 k0_t179
theorem k0_off530_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13) (k0_t179 : Fin (k0_t179_loop v16 v31 v68 v105 v142 v179 v216 v253 v290 v327 v364 v401 v438 v475 v512 v549 v586 v623 v660 v697 v734 v771 v808 v845 v882 v919 v956 v993 v1030 v1067 v1104 arg13).trips), ∀ a, (k0_off530 v16 v31 v68 v105 v142 v179 v216 v253 v290 v327 v364 v401 v438 v475 v512 v549 v586 v623 v660 v697 v734 v771 v808 v845 v882 v919 v956 v993 v1030 v1067 v1104 arg13 k0_t179) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw93 k0_t179 => k0_hw93.2.2.2.2.2.2.2.2.2.2.1 k0_t179
theorem k0_off531_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw93 : k0_chk93 v16 v31 v68 v105 v142 v179 v216 v253 v290 v327 v364 v401 v438 v475 v512 v549 v586 v623 v660 v697 v734 v771 v808 v845 v882 v919 v956 v993 v1030 v1067 v1104 arg13) (k0_t179 : Fin (k0_t179_loop v16 v31 v68 v105 v142 v179 v216 v253 v290 v327 v364 v401 v438 v475 v512 v549 v586 v623 v660 v697 v734 v771 v808 v845 v882 v919 v956 v993 v1030 v1067 v1104 arg13).trips), ∀ a, (k0_off531 v16 v31 v68 v105 v142 v179 v216 v253 v290 v327 v364 v401 v438 v475 v512 v549 v586 v623 v660 v697 v734 v771 v808 v845 v882 v919 v956 v993 v1030 v1067 v1104 arg13 k0_t179) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw93 k0_t179 => k0_hw93.2.2.2.2.2.2.2.2.2.2.2 k0_t179

@[reducible] def k0_t180_loop (v1104 : BitVec 32) : Scf.Loop 32 :=
  let c0_i32_437 : BitVec 32 := 0#32
  let c0_i32_430 : BitVec 32 := 0#32
  let v1107 : BitVec 1 := Scalar.cmpi .sgt v1104 c0_i32_430
  let v1108 : BitVec 32 := Scalar.extui v1107
  let c0_i32_431 : BitVec 32 := 0#32
  let v1109 : BitVec 1 := Scalar.cmpi .slt v1104 c0_i32_431
  let v1110 : BitVec 32 := Scalar.extui v1109
  let v1111 : BitVec 32 := Scalar.subi v1108 v1110
  let c504_i32_429 : BitVec 32 := 504#32
  let c0_i32_432 : BitVec 32 := 0#32
  let v1112 : BitVec 1 := Scalar.cmpi .sgt c504_i32_429 c0_i32_432
  let v1113 : BitVec 32 := Scalar.extui v1112
  let c0_i32_433 : BitVec 32 := 0#32
  let v1114 : BitVec 1 := Scalar.cmpi .slt c504_i32_429 c0_i32_433
  let v1115 : BitVec 32 := Scalar.extui v1114
  let v1116 : BitVec 32 := Scalar.subi v1113 v1115
  let v1117 : BitVec 1 := Scalar.cmpi .ne v1111 v1116
  let v1118 : BitVec 32 := Scalar.remsi v1104 c504_i32_429
  let c0_i32_434 : BitVec 32 := 0#32
  let v1119 : BitVec 1 := Scalar.cmpi .ne v1118 c0_i32_434
  let v1120 : BitVec 1 := Scalar.andi v1117 v1119
  let v1106 : BitVec 32 := Scalar.divsi v1104 c504_i32_429
  let c1_i32_435 : BitVec 32 := 1#32
  let v1121 : BitVec 32 := Scalar.subi v1106 c1_i32_435
  let v1122 : BitVec 32 := Scalar.select v1120 v1121 v1106
  let c1_i32_436 : BitVec 32 := 1#32
  let v1123 : BitVec 32 := Scalar.addi v1122 c1_i32_436
  let v1124 : BitVec 32 := Scalar.subi v1123 c0_i32_437
  let c1_i32_438 : BitVec 32 := 1#32
  let v1126 : BitVec 32 := Scalar.divsi v1124 c1_i32_438
  let v1127 : BitVec 32 := Scalar.muli v1126 c1_i32_438
  let v1128 : BitVec 32 := Scalar.addi c0_i32_437 v1127
  let v1125 : BitVec 32 := Scalar.addi c0_i32_437 v1124
  let c1_i32_440 : BitVec 32 := 1#32
  ⟨v1128, v1125, c1_i32_440⟩

def k0_chk92 (v1104 : BitVec 32) : Prop :=
  ((k0_t177_loop v1104).OK) ∧
  ((k0_t180_loop v1104).OK)
theorem k0_t177_ok : ∀ (v1104 : BitVec 32) (k0_hw92 : k0_chk92 v1104), (k0_t177_loop v1104).OK := fun v1104 k0_hw92 => k0_hw92.1
theorem k0_t180_ok : ∀ (v1104 : BitVec 32) (k0_hw92 : k0_chk92 v1104), (k0_t180_loop v1104).OK := fun v1104 k0_hw92 => k0_hw92.2

def k0_mult60 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off532 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r60 : BitVec 32 := 0#32
  ![v1213.toNat, 0]
@[reducible] def k0_t181_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off533 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t181 : Fin (k0_t181_loop v16 v31 v68 v105 v142 v179 v216 v253 v290 v327 v364 v401 v438 v475 v512 v549 v586 v623 v660 v697 v734 v771 v808 v845 v882 v919 v956 v993 v1030 v1067 v1104 arg13).trips) : Fin 2 → Nat :=
  let c1_i32_473 : BitVec 32 := 1#32
  let arg14 : BitVec 32 := Scf.iv arg13 c1_i32_473 k0_t181
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off534 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t181 : Fin (k0_t181_loop v16 v31 v68 v105 v142 v179 v216 v253 v290 v327 v364 v401 v438 v475 v512 v549 v586 v623 v660 v697 v734 v771 v808 v845 v882 v919 v956 v993 v1030 v1067 v1104 arg13).trips) : Fin 2 → Nat :=
  let c1_i32_473 : BitVec 32 := 1#32
  let arg14 : BitVec 32 := Scf.iv arg13 c1_i32_473 k0_t181
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off535 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t181 : Fin (k0_t181_loop v16 v31 v68 v105 v142 v179 v216 v253 v290 v327 v364 v401 v438 v475 v512 v549 v586 v623 v660 v697 v734 v771 v808 v845 v882 v919 v956 v993 v1030 v1067 v1104 arg13).trips) : Fin 2 → Nat :=
  let c1_i32_473 : BitVec 32 := 1#32
  let arg14 : BitVec 32 := Scf.iv arg13 c1_i32_473 k0_t181
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off536 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t181 : Fin (k0_t181_loop v16 v31 v68 v105 v142 v179 v216 v253 v290 v327 v364 v401 v438 v475 v512 v549 v586 v623 v660 v697 v734 v771 v808 v845 v882 v919 v956 v993 v1030 v1067 v1104 arg13).trips) : Fin 2 → Nat :=
  let c1_i32_473 : BitVec 32 := 1#32
  let arg14 : BitVec 32 := Scf.iv arg13 c1_i32_473 k0_t181
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t182_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off537 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t182 : Fin (k0_t182_loop v16 v31 v68 v105 v142 v179 v216 v253 v290 v327 v364 v401 v438 v475 v512 v549 v586 v623 v660 v697 v734 v771 v808 v845 v882 v919 v956 v993 v1030 v1067 v1104 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t182
  let v1224 : BitVec 32 := Scalar.subi arg14 v1213
  let v1225 : Index := Scalar.indexCast v1224
  let c0_475 : Index := 0#32
  ![v1225.toNat, 0]
def k0_off538 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t182 : Fin (k0_t182_loop v16 v31 v68 v105 v142 v179 v216 v253 v290 v327 v364 v401 v438 v475 v512 v549 v586 v623 v660 v697 v734 v771 v808 v845 v882 v919 v956 v993 v1030 v1067 v1104 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t182
  let v1224 : BitVec 32 := Scalar.subi arg14 v1213
  let v1228 : Index := Scalar.indexCast v1224
  let c16_476 : Index := 16#32
  ![v1228.toNat, 16]
def k0_off539 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t182 : Fin (k0_t182_loop v16 v31 v68 v105 v142 v179 v216 v253 v290 v327 v364 v401 v438 v475 v512 v549 v586 v623 v660 v697 v734 v771 v808 v845 v882 v919 v956 v993 v1030 v1067 v1104 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t182
  let v1224 : BitVec 32 := Scalar.subi arg14 v1213
  let v1231 : Index := Scalar.indexCast v1224
  let c32_477 : Index := 32#32
  ![v1231.toNat, 32]
def k0_off540 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_t182 : Fin (k0_t182_loop v16 v31 v68 v105 v142 v179 v216 v253 v290 v327 v364 v401 v438 v475 v512 v549 v586 v623 v660 v697 v734 v771 v808 v845 v882 v919 v956 v993 v1030 v1067 v1104 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1105 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t182
  let v1224 : BitVec 32 := Scalar.subi arg14 v1213
  let v1234 : Index := Scalar.indexCast v1224
  let c48_478 : Index := 48#32
  ![v1234.toNat, 48]

def k0_chk94 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) : Prop :=
  (8 ∣ (k0_mult60 arg13).toNat) ∧
  (∀ a, (k0_off532 arg13) a + S512x128.size a ≤ S320000x128.size a) ∧
  ((k0_t181_loop v16 v31 v68 v105 v142 v179 v216 v253 v290 v327 v364 v401 v438 v475 v512 v549 v586 v623 v660 v697 v734 v771 v808 v845 v882 v919 v956 v993 v1030 v1067 v1104 arg13).OK) ∧
  (∀ k0_t181 : Fin (k0_t181_loop v16 v31 v68 v105 v142 v179 v216 v253 v290 v327 v364 v401 v438 v475 v512 v549 v586 v623 v660 v697 v734 v771 v808 v845 v882 v919 v956 v993 v1030 v1067 v1104 arg13).trips, ∀ a, (k0_off533 v16 v31 v68 v105 v142 v179 v216 v253 v290 v327 v364 v401 v438 v475 v512 v549 v586 v623 v660 v697 v734 v771 v808 v845 v882 v919 v956 v993 v1030 v1067 v1104 arg13 k0_t181) a + S1x16.size a ≤ S512x128.size a) ∧
  (∀ k0_t181 : Fin (k0_t181_loop v16 v31 v68 v105 v142 v179 v216 v253 v290 v327 v364 v401 v438 v475 v512 v549 v586 v623 v660 v697 v734 v771 v808 v845 v882 v919 v956 v993 v1030 v1067 v1104 arg13).trips, ∀ a, (k0_off534 v16 v31 v68 v105 v142 v179 v216 v253 v290 v327 v364 v401 v438 v475 v512 v549 v586 v623 v660 v697 v734 v771 v808 v845 v882 v919 v956 v993 v1030 v1067 v1104 arg13 k0_t181) a + S1x16.size a ≤ S512x128.size a) ∧
  (∀ k0_t181 : Fin (k0_t181_loop v16 v31 v68 v105 v142 v179 v216 v253 v290 v327 v364 v401 v438 v475 v512 v549 v586 v623 v660 v697 v734 v771 v808 v845 v882 v919 v956 v993 v1030 v1067 v1104 arg13).trips, ∀ a, (k0_off535 v16 v31 v68 v105 v142 v179 v216 v253 v290 v327 v364 v401 v438 v475 v512 v549 v586 v623 v660 v697 v734 v771 v808 v845 v882 v919 v956 v993 v1030 v1067 v1104 arg13 k0_t181) a + S1x16.size a ≤ S512x128.size a) ∧
  (∀ k0_t181 : Fin (k0_t181_loop v16 v31 v68 v105 v142 v179 v216 v253 v290 v327 v364 v401 v438 v475 v512 v549 v586 v623 v660 v697 v734 v771 v808 v845 v882 v919 v956 v993 v1030 v1067 v1104 arg13).trips, ∀ a, (k0_off536 v16 v31 v68 v105 v142 v179 v216 v253 v290 v327 v364 v401 v438 v475 v512 v549 v586 v623 v660 v697 v734 v771 v808 v845 v882 v919 v956 v993 v1030 v1067 v1104 arg13 k0_t181) a + S1x16.size a ≤ S512x128.size a) ∧
  ((k0_t182_loop v16 v31 v68 v105 v142 v179 v216 v253 v290 v327 v364 v401 v438 v475 v512 v549 v586 v623 v660 v697 v734 v771 v808 v845 v882 v919 v956 v993 v1030 v1067 v1104 arg13).OK) ∧
  (∀ k0_t182 : Fin (k0_t182_loop v16 v31 v68 v105 v142 v179 v216 v253 v290 v327 v364 v401 v438 v475 v512 v549 v586 v623 v660 v697 v734 v771 v808 v845 v882 v919 v956 v993 v1030 v1067 v1104 arg13).trips, ∀ a, (k0_off537 v16 v31 v68 v105 v142 v179 v216 v253 v290 v327 v364 v401 v438 v475 v512 v549 v586 v623 v660 v697 v734 v771 v808 v845 v882 v919 v956 v993 v1030 v1067 v1104 arg13 k0_t182) a + S1x16.size a ≤ S512x128.size a) ∧
  (∀ k0_t182 : Fin (k0_t182_loop v16 v31 v68 v105 v142 v179 v216 v253 v290 v327 v364 v401 v438 v475 v512 v549 v586 v623 v660 v697 v734 v771 v808 v845 v882 v919 v956 v993 v1030 v1067 v1104 arg13).trips, ∀ a, (k0_off538 v16 v31 v68 v105 v142 v179 v216 v253 v290 v327 v364 v401 v438 v475 v512 v549 v586 v623 v660 v697 v734 v771 v808 v845 v882 v919 v956 v993 v1030 v1067 v1104 arg13 k0_t182) a + S1x16.size a ≤ S512x128.size a) ∧
  (∀ k0_t182 : Fin (k0_t182_loop v16 v31 v68 v105 v142 v179 v216 v253 v290 v327 v364 v401 v438 v475 v512 v549 v586 v623 v660 v697 v734 v771 v808 v845 v882 v919 v956 v993 v1030 v1067 v1104 arg13).trips, ∀ a, (k0_off539 v16 v31 v68 v105 v142 v179 v216 v253 v290 v327 v364 v401 v438 v475 v512 v549 v586 v623 v660 v697 v734 v771 v808 v845 v882 v919 v956 v993 v1030 v1067 v1104 arg13 k0_t182) a + S1x16.size a ≤ S512x128.size a) ∧
  (∀ k0_t182 : Fin (k0_t182_loop v16 v31 v68 v105 v142 v179 v216 v253 v290 v327 v364 v401 v438 v475 v512 v549 v586 v623 v660 v697 v734 v771 v808 v845 v882 v919 v956 v993 v1030 v1067 v1104 arg13).trips, ∀ a, (k0_off540 v16 v31 v68 v105 v142 v179 v216 v253 v290 v327 v364 v401 v438 v475 v512 v549 v586 v623 v660 v697 v734 v771 v808 v845 v882 v919 v956 v993 v1030 v1067 v1104 arg13 k0_t182) a + S1x16.size a ≤ S512x128.size a)
theorem k0_mult60_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13), 8 ∣ (k0_mult60 arg13).toNat := fun v16 v31 v68 v105 v142 v179 v216 v253 v290 v327 v364 v401 v438 v475 v512 v549 v586 v623 v660 v697 v734 v771 v808 v845 v882 v919 v956 v993 v1030 v1067 v1104 arg13 k0_hw94 => k0_hw94.1
theorem k0_off532_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13), ∀ a, (k0_off532 arg13) a + S512x128.size a ≤ S320000x128.size a := fun v16 v31 v68 v105 v142 v179 v216 v253 v290 v327 v364 v401 v438 v475 v512 v549 v586 v623 v660 v697 v734 v771 v808 v845 v882 v919 v956 v993 v1030 v1067 v1104 arg13 k0_hw94 => k0_hw94.2.1
theorem k0_t181_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13), (k0_t181_loop v16 v31 v68 v105 v142 v179 v216 v253 v290 v327 v364 v401 v438 v475 v512 v549 v586 v623 v660 v697 v734 v771 v808 v845 v882 v919 v956 v993 v1030 v1067 v1104 arg13).OK := fun v16 v31 v68 v105 v142 v179 v216 v253 v290 v327 v364 v401 v438 v475 v512 v549 v586 v623 v660 v697 v734 v771 v808 v845 v882 v919 v956 v993 v1030 v1067 v1104 arg13 k0_hw94 => k0_hw94.2.2.1
theorem k0_off533_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13) (k0_t181 : Fin (k0_t181_loop v16 v31 v68 v105 v142 v179 v216 v253 v290 v327 v364 v401 v438 v475 v512 v549 v586 v623 v660 v697 v734 v771 v808 v845 v882 v919 v956 v993 v1030 v1067 v1104 arg13).trips), ∀ a, (k0_off533 v16 v31 v68 v105 v142 v179 v216 v253 v290 v327 v364 v401 v438 v475 v512 v549 v586 v623 v660 v697 v734 v771 v808 v845 v882 v919 v956 v993 v1030 v1067 v1104 arg13 k0_t181) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw94 k0_t181 => k0_hw94.2.2.2.1 k0_t181
theorem k0_off534_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13) (k0_t181 : Fin (k0_t181_loop v16 v31 v68 v105 v142 v179 v216 v253 v290 v327 v364 v401 v438 v475 v512 v549 v586 v623 v660 v697 v734 v771 v808 v845 v882 v919 v956 v993 v1030 v1067 v1104 arg13).trips), ∀ a, (k0_off534 v16 v31 v68 v105 v142 v179 v216 v253 v290 v327 v364 v401 v438 v475 v512 v549 v586 v623 v660 v697 v734 v771 v808 v845 v882 v919 v956 v993 v1030 v1067 v1104 arg13 k0_t181) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw94 k0_t181 => k0_hw94.2.2.2.2.1 k0_t181
theorem k0_off535_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13) (k0_t181 : Fin (k0_t181_loop v16 v31 v68 v105 v142 v179 v216 v253 v290 v327 v364 v401 v438 v475 v512 v549 v586 v623 v660 v697 v734 v771 v808 v845 v882 v919 v956 v993 v1030 v1067 v1104 arg13).trips), ∀ a, (k0_off535 v16 v31 v68 v105 v142 v179 v216 v253 v290 v327 v364 v401 v438 v475 v512 v549 v586 v623 v660 v697 v734 v771 v808 v845 v882 v919 v956 v993 v1030 v1067 v1104 arg13 k0_t181) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw94 k0_t181 => k0_hw94.2.2.2.2.2.1 k0_t181
theorem k0_off536_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13) (k0_t181 : Fin (k0_t181_loop v16 v31 v68 v105 v142 v179 v216 v253 v290 v327 v364 v401 v438 v475 v512 v549 v586 v623 v660 v697 v734 v771 v808 v845 v882 v919 v956 v993 v1030 v1067 v1104 arg13).trips), ∀ a, (k0_off536 v16 v31 v68 v105 v142 v179 v216 v253 v290 v327 v364 v401 v438 v475 v512 v549 v586 v623 v660 v697 v734 v771 v808 v845 v882 v919 v956 v993 v1030 v1067 v1104 arg13 k0_t181) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw94 k0_t181 => k0_hw94.2.2.2.2.2.2.1 k0_t181
theorem k0_t182_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13), (k0_t182_loop v16 v31 v68 v105 v142 v179 v216 v253 v290 v327 v364 v401 v438 v475 v512 v549 v586 v623 v660 v697 v734 v771 v808 v845 v882 v919 v956 v993 v1030 v1067 v1104 arg13).OK := fun v16 v31 v68 v105 v142 v179 v216 v253 v290 v327 v364 v401 v438 v475 v512 v549 v586 v623 v660 v697 v734 v771 v808 v845 v882 v919 v956 v993 v1030 v1067 v1104 arg13 k0_hw94 => k0_hw94.2.2.2.2.2.2.2.1
theorem k0_off537_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13) (k0_t182 : Fin (k0_t182_loop v16 v31 v68 v105 v142 v179 v216 v253 v290 v327 v364 v401 v438 v475 v512 v549 v586 v623 v660 v697 v734 v771 v808 v845 v882 v919 v956 v993 v1030 v1067 v1104 arg13).trips), ∀ a, (k0_off537 v16 v31 v68 v105 v142 v179 v216 v253 v290 v327 v364 v401 v438 v475 v512 v549 v586 v623 v660 v697 v734 v771 v808 v845 v882 v919 v956 v993 v1030 v1067 v1104 arg13 k0_t182) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw94 k0_t182 => k0_hw94.2.2.2.2.2.2.2.2.1 k0_t182
theorem k0_off538_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13) (k0_t182 : Fin (k0_t182_loop v16 v31 v68 v105 v142 v179 v216 v253 v290 v327 v364 v401 v438 v475 v512 v549 v586 v623 v660 v697 v734 v771 v808 v845 v882 v919 v956 v993 v1030 v1067 v1104 arg13).trips), ∀ a, (k0_off538 v16 v31 v68 v105 v142 v179 v216 v253 v290 v327 v364 v401 v438 v475 v512 v549 v586 v623 v660 v697 v734 v771 v808 v845 v882 v919 v956 v993 v1030 v1067 v1104 arg13 k0_t182) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw94 k0_t182 => k0_hw94.2.2.2.2.2.2.2.2.2.1 k0_t182
theorem k0_off539_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13) (k0_t182 : Fin (k0_t182_loop v16 v31 v68 v105 v142 v179 v216 v253 v290 v327 v364 v401 v438 v475 v512 v549 v586 v623 v660 v697 v734 v771 v808 v845 v882 v919 v956 v993 v1030 v1067 v1104 arg13).trips), ∀ a, (k0_off539 v16 v31 v68 v105 v142 v179 v216 v253 v290 v327 v364 v401 v438 v475 v512 v549 v586 v623 v660 v697 v734 v771 v808 v845 v882 v919 v956 v993 v1030 v1067 v1104 arg13 k0_t182) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw94 k0_t182 => k0_hw94.2.2.2.2.2.2.2.2.2.2.1 k0_t182
theorem k0_off540_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (arg13 : BitVec 32) (k0_hw94 : k0_chk94 v16 v31 v68 v105 v142 v179 v216 v253 v290 v327 v364 v401 v438 v475 v512 v549 v586 v623 v660 v697 v734 v771 v808 v845 v882 v919 v956 v993 v1030 v1067 v1104 arg13) (k0_t182 : Fin (k0_t182_loop v16 v31 v68 v105 v142 v179 v216 v253 v290 v327 v364 v401 v438 v475 v512 v549 v586 v623 v660 v697 v734 v771 v808 v845 v882 v919 v956 v993 v1030 v1067 v1104 arg13).trips), ∀ a, (k0_off540 v16 v31 v68 v105 v142 v179 v216 v253 v290 v327 v364 v401 v438 v475 v512 v549 v586 v623 v660 v697 v734 v771 v808 v845 v882 v919 v956 v993 v1030 v1067 v1104 arg13 k0_t182) a + S1x16.size a ≤ S512x128.size a := fun v16 v31 v68 v105 v142 v179 v216 v253 v290 v327 v364 v401 v438 v475 v512 v549 v586 v623 v660 v697 v734 v771 v808 v845 v882 v919 v956 v993 v1030 v1067 v1104 arg13 k0_hw94 k0_t182 => k0_hw94.2.2.2.2.2.2.2.2.2.2.2 k0_t182

@[reducible] def k0_t183_loop (v1141 : BitVec 32) : Scf.Loop 32 :=
  let c0_i32_452 : BitVec 32 := 0#32
  let c0_i32_445 : BitVec 32 := 0#32
  let v1144 : BitVec 1 := Scalar.cmpi .sgt v1141 c0_i32_445
  let v1145 : BitVec 32 := Scalar.extui v1144
  let c0_i32_446 : BitVec 32 := 0#32
  let v1146 : BitVec 1 := Scalar.cmpi .slt v1141 c0_i32_446
  let v1147 : BitVec 32 := Scalar.extui v1146
  let v1148 : BitVec 32 := Scalar.subi v1145 v1147
  let c504_i32_444 : BitVec 32 := 504#32
  let c0_i32_447 : BitVec 32 := 0#32
  let v1149 : BitVec 1 := Scalar.cmpi .sgt c504_i32_444 c0_i32_447
  let v1150 : BitVec 32 := Scalar.extui v1149
  let c0_i32_448 : BitVec 32 := 0#32
  let v1151 : BitVec 1 := Scalar.cmpi .slt c504_i32_444 c0_i32_448
  let v1152 : BitVec 32 := Scalar.extui v1151
  let v1153 : BitVec 32 := Scalar.subi v1150 v1152
  let v1154 : BitVec 1 := Scalar.cmpi .ne v1148 v1153
  let v1155 : BitVec 32 := Scalar.remsi v1141 c504_i32_444
  let c0_i32_449 : BitVec 32 := 0#32
  let v1156 : BitVec 1 := Scalar.cmpi .ne v1155 c0_i32_449
  let v1157 : BitVec 1 := Scalar.andi v1154 v1156
  let v1143 : BitVec 32 := Scalar.divsi v1141 c504_i32_444
  let c1_i32_450 : BitVec 32 := 1#32
  let v1158 : BitVec 32 := Scalar.subi v1143 c1_i32_450
  let v1159 : BitVec 32 := Scalar.select v1157 v1158 v1143
  let c1_i32_451 : BitVec 32 := 1#32
  let v1160 : BitVec 32 := Scalar.addi v1159 c1_i32_451
  let v1161 : BitVec 32 := Scalar.subi v1160 c0_i32_452
  let c1_i32_453 : BitVec 32 := 1#32
  let v1163 : BitVec 32 := Scalar.divsi v1161 c1_i32_453
  let v1164 : BitVec 32 := Scalar.muli v1163 c1_i32_453
  let v1165 : BitVec 32 := Scalar.addi c0_i32_452 v1164
  let c1_i32_454 : BitVec 32 := 1#32
  ⟨c0_i32_452, v1165, c1_i32_454⟩

def k0_mult61 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off541 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r61 : BitVec 32 := 0#32
  ![v1213.toNat, 0]
@[reducible] def k0_t184_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off542 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let c1_i32_473 : BitVec 32 := 1#32
  let arg14 : BitVec 32 := Scf.iv arg13 c1_i32_473 k0_t184
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off543 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let c1_i32_473 : BitVec 32 := 1#32
  let arg14 : BitVec 32 := Scf.iv arg13 c1_i32_473 k0_t184
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off544 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let c1_i32_473 : BitVec 32 := 1#32
  let arg14 : BitVec 32 := Scf.iv arg13 c1_i32_473 k0_t184
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off545 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let c1_i32_473 : BitVec 32 := 1#32
  let arg14 : BitVec 32 := Scf.iv arg13 c1_i32_473 k0_t184
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t185_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off546 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t185
  let v1224 : BitVec 32 := Scalar.subi arg14 v1213
  let v1225 : Index := Scalar.indexCast v1224
  let c0_475 : Index := 0#32
  ![v1225.toNat, 0]
def k0_off547 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t185
  let v1224 : BitVec 32 := Scalar.subi arg14 v1213
  let v1228 : Index := Scalar.indexCast v1224
  let c16_476 : Index := 16#32
  ![v1228.toNat, 16]
def k0_off548 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t185
  let v1224 : BitVec 32 := Scalar.subi arg14 v1213
  let v1231 : Index := Scalar.indexCast v1224
  let c32_477 : Index := 32#32
  ![v1231.toNat, 32]
def k0_off549 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t185
  let v1224 : BitVec 32 := Scalar.subi arg14 v1213
  let v1234 : Index := Scalar.indexCast v1224
  let c48_478 : Index := 48#32
  ![v1234.toNat, 48]

def k0_chk96 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) : Prop :=
  (8 ∣ (k0_mult61 arg13).toNat) ∧
  (∀ a, (k0_off541 arg13) a + S512x128.size a ≤ S320000x128.size a) ∧
  ((k0_t184_loop v16 v31 v68 v105 v142 v179 v216 v253 v290 v327 v364 v401 v438 v475 v512 v549 v586 v623 v660 v697 v734 v771 v808 v845 v882 v919 v956 v993 v1030 v1067 v1104 v1141 arg13).OK) ∧
  (∀ k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips, ∀ a, (k0_off542 v16 v31 v68 v105 v142 v179 v216 v253 v290 v327 v364 v401 v438 v475 v512 v549 v586 v623 v660 v697 v734 v771 v808 v845 v882 v919 v956 v993 v1030 v1067 v1104 v1141 arg13 k0_t184) a + S1x16.size a ≤ S512x128.size a) ∧
  (∀ k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips, ∀ a, (k0_off543 v16 v31 v68 v105 v142 v179 v216 v253 v290 v327 v364 v401 v438 v475 v512 v549 v586 v623 v660 v697 v734 v771 v808 v845 v882 v919 v956 v993 v1030 v1067 v1104 v1141 arg13 k0_t184) a + S1x16.size a ≤ S512x128.size a) ∧
  (∀ k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips, ∀ a, (k0_off544 v16 v31 v68 v105 v142 v179 v216 v253 v290 v327 v364 v401 v438 v475 v512 v549 v586 v623 v660 v697 v734 v771 v808 v845 v882 v919 v956 v993 v1030 v1067 v1104 v1141 arg13 k0_t184) a + S1x16.size a ≤ S512x128.size a) ∧
  (∀ k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips, ∀ a, (k0_off545 v16 v31 v68 v105 v142 v179 v216 v253 v290 v327 v364 v401 v438 v475 v512 v549 v586 v623 v660 v697 v734 v771 v808 v845 v882 v919 v956 v993 v1030 v1067 v1104 v1141 arg13 k0_t184) a + S1x16.size a ≤ S512x128.size a) ∧
  ((k0_t185_loop v16 v31 v68 v105 v142 v179 v216 v253 v290 v327 v364 v401 v438 v475 v512 v549 v586 v623 v660 v697 v734 v771 v808 v845 v882 v919 v956 v993 v1030 v1067 v1104 v1141 arg13).OK) ∧
  (∀ k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips, ∀ a, (k0_off546 v16 v31 v68 v105 v142 v179 v216 v253 v290 v327 v364 v401 v438 v475 v512 v549 v586 v623 v660 v697 v734 v771 v808 v845 v882 v919 v956 v993 v1030 v1067 v1104 v1141 arg13 k0_t185) a + S1x16.size a ≤ S512x128.size a) ∧
  (∀ k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips, ∀ a, (k0_off547 v16 v31 v68 v105 v142 v179 v216 v253 v290 v327 v364 v401 v438 v475 v512 v549 v586 v623 v660 v697 v734 v771 v808 v845 v882 v919 v956 v993 v1030 v1067 v1104 v1141 arg13 k0_t185) a + S1x16.size a ≤ S512x128.size a) ∧
  (∀ k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips, ∀ a, (k0_off548 v16 v31 v68 v105 v142 v179 v216 v253 v290 v327 v364 v401 v438 v475 v512 v549 v586 v623 v660 v697 v734 v771 v808 v845 v882 v919 v956 v993 v1030 v1067 v1104 v1141 arg13 k0_t185) a + S1x16.size a ≤ S512x128.size a) ∧
  (∀ k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips, ∀ a, (k0_off549 v16 v31 v68 v105 v142 v179 v216 v253 v290 v327 v364 v401 v438 v475 v512 v549 v586 v623 v660 v697 v734 v771 v808 v845 v882 v919 v956 v993 v1030 v1067 v1104 v1141 arg13 k0_t185) a + S1x16.size a ≤ S512x128.size a)
theorem k0_mult61_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13), 8 ∣ (k0_mult61 arg13).toNat := fun v16 v31 v68 v105 v142 v179 v216 v253 v290 v327 v364 v401 v438 v475 v512 v549 v586 v623 v660 v697 v734 v771 v808 v845 v882 v919 v956 v993 v1030 v1067 v1104 v1141 arg13 k0_hw96 => k0_hw96.1
theorem k0_off541_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13), ∀ a, (k0_off541 arg13) a + S512x128.size a ≤ S320000x128.size a := fun v16 v31 v68 v105 v142 v179 v216 v253 v290 v327 v364 v401 v438 v475 v512 v549 v586 v623 v660 v697 v734 v771 v808 v845 v882 v919 v956 v993 v1030 v1067 v1104 v1141 arg13 k0_hw96 => k0_hw96.2.1
theorem k0_t184_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13), (k0_t184_loop v16 v31 v68 v105 v142 v179 v216 v253 v290 v327 v364 v401 v438 v475 v512 v549 v586 v623 v660 v697 v734 v771 v808 v845 v882 v919 v956 v993 v1030 v1067 v1104 v1141 arg13).OK := fun v16 v31 v68 v105 v142 v179 v216 v253 v290 v327 v364 v401 v438 v475 v512 v549 v586 v623 v660 v697 v734 v771 v808 v845 v882 v919 v956 v993 v1030 v1067 v1104 v1141 arg13 k0_hw96 => k0_hw96.2.2.1
theorem k0_off542_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13) (k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips), ∀ a, (k0_off542 v16 v31 v68 v105 v142 v179 v216 v253 v290 v327 v364 v401 v438 v475 v512 v549 v586 v623 v660 v697 v734 v771 v808 v845 v882 v919 v956 v993 v1030 v1067 v1104 v1141 arg13 k0_t184) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw96 k0_t184 => k0_hw96.2.2.2.1 k0_t184
theorem k0_off543_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13) (k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips), ∀ a, (k0_off543 v16 v31 v68 v105 v142 v179 v216 v253 v290 v327 v364 v401 v438 v475 v512 v549 v586 v623 v660 v697 v734 v771 v808 v845 v882 v919 v956 v993 v1030 v1067 v1104 v1141 arg13 k0_t184) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw96 k0_t184 => k0_hw96.2.2.2.2.1 k0_t184
theorem k0_off544_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13) (k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips), ∀ a, (k0_off544 v16 v31 v68 v105 v142 v179 v216 v253 v290 v327 v364 v401 v438 v475 v512 v549 v586 v623 v660 v697 v734 v771 v808 v845 v882 v919 v956 v993 v1030 v1067 v1104 v1141 arg13 k0_t184) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw96 k0_t184 => k0_hw96.2.2.2.2.2.1 k0_t184
theorem k0_off545_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13) (k0_t184 : Fin (k0_t184_loop v16 v31 v68 v105 v142 v179 v216 v253 v290 v327 v364 v401 v438 v475 v512 v549 v586 v623 v660 v697 v734 v771 v808 v845 v882 v919 v956 v993 v1030 v1067 v1104 v1141 arg13).trips), ∀ a, (k0_off545 v16 v31 v68 v105 v142 v179 v216 v253 v290 v327 v364 v401 v438 v475 v512 v549 v586 v623 v660 v697 v734 v771 v808 v845 v882 v919 v956 v993 v1030 v1067 v1104 v1141 arg13 k0_t184) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw96 k0_t184 => k0_hw96.2.2.2.2.2.2.1 k0_t184
theorem k0_t185_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13), (k0_t185_loop v16 v31 v68 v105 v142 v179 v216 v253 v290 v327 v364 v401 v438 v475 v512 v549 v586 v623 v660 v697 v734 v771 v808 v845 v882 v919 v956 v993 v1030 v1067 v1104 v1141 arg13).OK := fun v16 v31 v68 v105 v142 v179 v216 v253 v290 v327 v364 v401 v438 v475 v512 v549 v586 v623 v660 v697 v734 v771 v808 v845 v882 v919 v956 v993 v1030 v1067 v1104 v1141 arg13 k0_hw96 => k0_hw96.2.2.2.2.2.2.2.1
theorem k0_off546_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13) (k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips), ∀ a, (k0_off546 v16 v31 v68 v105 v142 v179 v216 v253 v290 v327 v364 v401 v438 v475 v512 v549 v586 v623 v660 v697 v734 v771 v808 v845 v882 v919 v956 v993 v1030 v1067 v1104 v1141 arg13 k0_t185) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw96 k0_t185 => k0_hw96.2.2.2.2.2.2.2.2.1 k0_t185
theorem k0_off547_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13) (k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips), ∀ a, (k0_off547 v16 v31 v68 v105 v142 v179 v216 v253 v290 v327 v364 v401 v438 v475 v512 v549 v586 v623 v660 v697 v734 v771 v808 v845 v882 v919 v956 v993 v1030 v1067 v1104 v1141 arg13 k0_t185) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw96 k0_t185 => k0_hw96.2.2.2.2.2.2.2.2.2.1 k0_t185
theorem k0_off548_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13) (k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips), ∀ a, (k0_off548 v16 v31 v68 v105 v142 v179 v216 v253 v290 v327 v364 v401 v438 v475 v512 v549 v586 v623 v660 v697 v734 v771 v808 v845 v882 v919 v956 v993 v1030 v1067 v1104 v1141 arg13 k0_t185) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw96 k0_t185 => k0_hw96.2.2.2.2.2.2.2.2.2.2.1 k0_t185
theorem k0_off549_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw96 : k0_chk96 v16 v31 v68 v105 v142 v179 v216 v253 v290 v327 v364 v401 v438 v475 v512 v549 v586 v623 v660 v697 v734 v771 v808 v845 v882 v919 v956 v993 v1030 v1067 v1104 v1141 arg13) (k0_t185 : Fin (k0_t185_loop v16 v31 v68 v105 v142 v179 v216 v253 v290 v327 v364 v401 v438 v475 v512 v549 v586 v623 v660 v697 v734 v771 v808 v845 v882 v919 v956 v993 v1030 v1067 v1104 v1141 arg13).trips), ∀ a, (k0_off549 v16 v31 v68 v105 v142 v179 v216 v253 v290 v327 v364 v401 v438 v475 v512 v549 v586 v623 v660 v697 v734 v771 v808 v845 v882 v919 v956 v993 v1030 v1067 v1104 v1141 arg13 k0_t185) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw96 k0_t185 => k0_hw96.2.2.2.2.2.2.2.2.2.2.2 k0_t185

@[reducible] def k0_t186_loop (v1141 : BitVec 32) : Scf.Loop 32 :=
  let c0_i32_452 : BitVec 32 := 0#32
  let c0_i32_445 : BitVec 32 := 0#32
  let v1144 : BitVec 1 := Scalar.cmpi .sgt v1141 c0_i32_445
  let v1145 : BitVec 32 := Scalar.extui v1144
  let c0_i32_446 : BitVec 32 := 0#32
  let v1146 : BitVec 1 := Scalar.cmpi .slt v1141 c0_i32_446
  let v1147 : BitVec 32 := Scalar.extui v1146
  let v1148 : BitVec 32 := Scalar.subi v1145 v1147
  let c504_i32_444 : BitVec 32 := 504#32
  let c0_i32_447 : BitVec 32 := 0#32
  let v1149 : BitVec 1 := Scalar.cmpi .sgt c504_i32_444 c0_i32_447
  let v1150 : BitVec 32 := Scalar.extui v1149
  let c0_i32_448 : BitVec 32 := 0#32
  let v1151 : BitVec 1 := Scalar.cmpi .slt c504_i32_444 c0_i32_448
  let v1152 : BitVec 32 := Scalar.extui v1151
  let v1153 : BitVec 32 := Scalar.subi v1150 v1152
  let v1154 : BitVec 1 := Scalar.cmpi .ne v1148 v1153
  let v1155 : BitVec 32 := Scalar.remsi v1141 c504_i32_444
  let c0_i32_449 : BitVec 32 := 0#32
  let v1156 : BitVec 1 := Scalar.cmpi .ne v1155 c0_i32_449
  let v1157 : BitVec 1 := Scalar.andi v1154 v1156
  let v1143 : BitVec 32 := Scalar.divsi v1141 c504_i32_444
  let c1_i32_450 : BitVec 32 := 1#32
  let v1158 : BitVec 32 := Scalar.subi v1143 c1_i32_450
  let v1159 : BitVec 32 := Scalar.select v1157 v1158 v1143
  let c1_i32_451 : BitVec 32 := 1#32
  let v1160 : BitVec 32 := Scalar.addi v1159 c1_i32_451
  let v1161 : BitVec 32 := Scalar.subi v1160 c0_i32_452
  let c1_i32_453 : BitVec 32 := 1#32
  let v1163 : BitVec 32 := Scalar.divsi v1161 c1_i32_453
  let v1164 : BitVec 32 := Scalar.muli v1163 c1_i32_453
  let v1165 : BitVec 32 := Scalar.addi c0_i32_452 v1164
  let v1162 : BitVec 32 := Scalar.addi c0_i32_452 v1161
  let c1_i32_455 : BitVec 32 := 1#32
  ⟨v1165, v1162, c1_i32_455⟩

def k0_chk95 (v1141 : BitVec 32) : Prop :=
  ((k0_t183_loop v1141).OK) ∧
  ((k0_t186_loop v1141).OK)
theorem k0_t183_ok : ∀ (v1141 : BitVec 32) (k0_hw95 : k0_chk95 v1141), (k0_t183_loop v1141).OK := fun v1141 k0_hw95 => k0_hw95.1
theorem k0_t186_ok : ∀ (v1141 : BitVec 32) (k0_hw95 : k0_chk95 v1141), (k0_t186_loop v1141).OK := fun v1141 k0_hw95 => k0_hw95.2

def k0_mult62 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off550 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r62 : BitVec 32 := 0#32
  ![v1213.toNat, 0]
@[reducible] def k0_t187_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off551 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let c1_i32_473 : BitVec 32 := 1#32
  let arg14 : BitVec 32 := Scf.iv arg13 c1_i32_473 k0_t187
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off552 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let c1_i32_473 : BitVec 32 := 1#32
  let arg14 : BitVec 32 := Scf.iv arg13 c1_i32_473 k0_t187
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off553 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let c1_i32_473 : BitVec 32 := 1#32
  let arg14 : BitVec 32 := Scf.iv arg13 c1_i32_473 k0_t187
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off554 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let c1_i32_473 : BitVec 32 := 1#32
  let arg14 : BitVec 32 := Scf.iv arg13 c1_i32_473 k0_t187
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t188_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off555 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t188
  let v1224 : BitVec 32 := Scalar.subi arg14 v1213
  let v1225 : Index := Scalar.indexCast v1224
  let c0_475 : Index := 0#32
  ![v1225.toNat, 0]
def k0_off556 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t188
  let v1224 : BitVec 32 := Scalar.subi arg14 v1213
  let v1228 : Index := Scalar.indexCast v1224
  let c16_476 : Index := 16#32
  ![v1228.toNat, 16]
def k0_off557 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t188
  let v1224 : BitVec 32 := Scalar.subi arg14 v1213
  let v1231 : Index := Scalar.indexCast v1224
  let c32_477 : Index := 32#32
  ![v1231.toNat, 32]
def k0_off558 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1142 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t188
  let v1224 : BitVec 32 := Scalar.subi arg14 v1213
  let v1234 : Index := Scalar.indexCast v1224
  let c48_478 : Index := 48#32
  ![v1234.toNat, 48]

def k0_chk97 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) : Prop :=
  (8 ∣ (k0_mult62 arg13).toNat) ∧
  (∀ a, (k0_off550 arg13) a + S512x128.size a ≤ S320000x128.size a) ∧
  ((k0_t187_loop v16 v31 v68 v105 v142 v179 v216 v253 v290 v327 v364 v401 v438 v475 v512 v549 v586 v623 v660 v697 v734 v771 v808 v845 v882 v919 v956 v993 v1030 v1067 v1104 v1141 arg13).OK) ∧
  (∀ k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips, ∀ a, (k0_off551 v16 v31 v68 v105 v142 v179 v216 v253 v290 v327 v364 v401 v438 v475 v512 v549 v586 v623 v660 v697 v734 v771 v808 v845 v882 v919 v956 v993 v1030 v1067 v1104 v1141 arg13 k0_t187) a + S1x16.size a ≤ S512x128.size a) ∧
  (∀ k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips, ∀ a, (k0_off552 v16 v31 v68 v105 v142 v179 v216 v253 v290 v327 v364 v401 v438 v475 v512 v549 v586 v623 v660 v697 v734 v771 v808 v845 v882 v919 v956 v993 v1030 v1067 v1104 v1141 arg13 k0_t187) a + S1x16.size a ≤ S512x128.size a) ∧
  (∀ k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips, ∀ a, (k0_off553 v16 v31 v68 v105 v142 v179 v216 v253 v290 v327 v364 v401 v438 v475 v512 v549 v586 v623 v660 v697 v734 v771 v808 v845 v882 v919 v956 v993 v1030 v1067 v1104 v1141 arg13 k0_t187) a + S1x16.size a ≤ S512x128.size a) ∧
  (∀ k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips, ∀ a, (k0_off554 v16 v31 v68 v105 v142 v179 v216 v253 v290 v327 v364 v401 v438 v475 v512 v549 v586 v623 v660 v697 v734 v771 v808 v845 v882 v919 v956 v993 v1030 v1067 v1104 v1141 arg13 k0_t187) a + S1x16.size a ≤ S512x128.size a) ∧
  ((k0_t188_loop v16 v31 v68 v105 v142 v179 v216 v253 v290 v327 v364 v401 v438 v475 v512 v549 v586 v623 v660 v697 v734 v771 v808 v845 v882 v919 v956 v993 v1030 v1067 v1104 v1141 arg13).OK) ∧
  (∀ k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips, ∀ a, (k0_off555 v16 v31 v68 v105 v142 v179 v216 v253 v290 v327 v364 v401 v438 v475 v512 v549 v586 v623 v660 v697 v734 v771 v808 v845 v882 v919 v956 v993 v1030 v1067 v1104 v1141 arg13 k0_t188) a + S1x16.size a ≤ S512x128.size a) ∧
  (∀ k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips, ∀ a, (k0_off556 v16 v31 v68 v105 v142 v179 v216 v253 v290 v327 v364 v401 v438 v475 v512 v549 v586 v623 v660 v697 v734 v771 v808 v845 v882 v919 v956 v993 v1030 v1067 v1104 v1141 arg13 k0_t188) a + S1x16.size a ≤ S512x128.size a) ∧
  (∀ k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips, ∀ a, (k0_off557 v16 v31 v68 v105 v142 v179 v216 v253 v290 v327 v364 v401 v438 v475 v512 v549 v586 v623 v660 v697 v734 v771 v808 v845 v882 v919 v956 v993 v1030 v1067 v1104 v1141 arg13 k0_t188) a + S1x16.size a ≤ S512x128.size a) ∧
  (∀ k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips, ∀ a, (k0_off558 v16 v31 v68 v105 v142 v179 v216 v253 v290 v327 v364 v401 v438 v475 v512 v549 v586 v623 v660 v697 v734 v771 v808 v845 v882 v919 v956 v993 v1030 v1067 v1104 v1141 arg13 k0_t188) a + S1x16.size a ≤ S512x128.size a)
theorem k0_mult62_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13), 8 ∣ (k0_mult62 arg13).toNat := fun v16 v31 v68 v105 v142 v179 v216 v253 v290 v327 v364 v401 v438 v475 v512 v549 v586 v623 v660 v697 v734 v771 v808 v845 v882 v919 v956 v993 v1030 v1067 v1104 v1141 arg13 k0_hw97 => k0_hw97.1
theorem k0_off550_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13), ∀ a, (k0_off550 arg13) a + S512x128.size a ≤ S320000x128.size a := fun v16 v31 v68 v105 v142 v179 v216 v253 v290 v327 v364 v401 v438 v475 v512 v549 v586 v623 v660 v697 v734 v771 v808 v845 v882 v919 v956 v993 v1030 v1067 v1104 v1141 arg13 k0_hw97 => k0_hw97.2.1
theorem k0_t187_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13), (k0_t187_loop v16 v31 v68 v105 v142 v179 v216 v253 v290 v327 v364 v401 v438 v475 v512 v549 v586 v623 v660 v697 v734 v771 v808 v845 v882 v919 v956 v993 v1030 v1067 v1104 v1141 arg13).OK := fun v16 v31 v68 v105 v142 v179 v216 v253 v290 v327 v364 v401 v438 v475 v512 v549 v586 v623 v660 v697 v734 v771 v808 v845 v882 v919 v956 v993 v1030 v1067 v1104 v1141 arg13 k0_hw97 => k0_hw97.2.2.1
theorem k0_off551_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13) (k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips), ∀ a, (k0_off551 v16 v31 v68 v105 v142 v179 v216 v253 v290 v327 v364 v401 v438 v475 v512 v549 v586 v623 v660 v697 v734 v771 v808 v845 v882 v919 v956 v993 v1030 v1067 v1104 v1141 arg13 k0_t187) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw97 k0_t187 => k0_hw97.2.2.2.1 k0_t187
theorem k0_off552_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13) (k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips), ∀ a, (k0_off552 v16 v31 v68 v105 v142 v179 v216 v253 v290 v327 v364 v401 v438 v475 v512 v549 v586 v623 v660 v697 v734 v771 v808 v845 v882 v919 v956 v993 v1030 v1067 v1104 v1141 arg13 k0_t187) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw97 k0_t187 => k0_hw97.2.2.2.2.1 k0_t187
theorem k0_off553_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13) (k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips), ∀ a, (k0_off553 v16 v31 v68 v105 v142 v179 v216 v253 v290 v327 v364 v401 v438 v475 v512 v549 v586 v623 v660 v697 v734 v771 v808 v845 v882 v919 v956 v993 v1030 v1067 v1104 v1141 arg13 k0_t187) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw97 k0_t187 => k0_hw97.2.2.2.2.2.1 k0_t187
theorem k0_off554_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13) (k0_t187 : Fin (k0_t187_loop v16 v31 v68 v105 v142 v179 v216 v253 v290 v327 v364 v401 v438 v475 v512 v549 v586 v623 v660 v697 v734 v771 v808 v845 v882 v919 v956 v993 v1030 v1067 v1104 v1141 arg13).trips), ∀ a, (k0_off554 v16 v31 v68 v105 v142 v179 v216 v253 v290 v327 v364 v401 v438 v475 v512 v549 v586 v623 v660 v697 v734 v771 v808 v845 v882 v919 v956 v993 v1030 v1067 v1104 v1141 arg13 k0_t187) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw97 k0_t187 => k0_hw97.2.2.2.2.2.2.1 k0_t187
theorem k0_t188_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13), (k0_t188_loop v16 v31 v68 v105 v142 v179 v216 v253 v290 v327 v364 v401 v438 v475 v512 v549 v586 v623 v660 v697 v734 v771 v808 v845 v882 v919 v956 v993 v1030 v1067 v1104 v1141 arg13).OK := fun v16 v31 v68 v105 v142 v179 v216 v253 v290 v327 v364 v401 v438 v475 v512 v549 v586 v623 v660 v697 v734 v771 v808 v845 v882 v919 v956 v993 v1030 v1067 v1104 v1141 arg13 k0_hw97 => k0_hw97.2.2.2.2.2.2.2.1
theorem k0_off555_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13) (k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips), ∀ a, (k0_off555 v16 v31 v68 v105 v142 v179 v216 v253 v290 v327 v364 v401 v438 v475 v512 v549 v586 v623 v660 v697 v734 v771 v808 v845 v882 v919 v956 v993 v1030 v1067 v1104 v1141 arg13 k0_t188) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw97 k0_t188 => k0_hw97.2.2.2.2.2.2.2.2.1 k0_t188
theorem k0_off556_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13) (k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips), ∀ a, (k0_off556 v16 v31 v68 v105 v142 v179 v216 v253 v290 v327 v364 v401 v438 v475 v512 v549 v586 v623 v660 v697 v734 v771 v808 v845 v882 v919 v956 v993 v1030 v1067 v1104 v1141 arg13 k0_t188) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw97 k0_t188 => k0_hw97.2.2.2.2.2.2.2.2.2.1 k0_t188
theorem k0_off557_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13) (k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips), ∀ a, (k0_off557 v16 v31 v68 v105 v142 v179 v216 v253 v290 v327 v364 v401 v438 v475 v512 v549 v586 v623 v660 v697 v734 v771 v808 v845 v882 v919 v956 v993 v1030 v1067 v1104 v1141 arg13 k0_t188) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw97 k0_t188 => k0_hw97.2.2.2.2.2.2.2.2.2.2.1 k0_t188
theorem k0_off558_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (arg13 : BitVec 32) (k0_hw97 : k0_chk97 v16 v31 v68 v105 v142 v179 v216 v253 v290 v327 v364 v401 v438 v475 v512 v549 v586 v623 v660 v697 v734 v771 v808 v845 v882 v919 v956 v993 v1030 v1067 v1104 v1141 arg13) (k0_t188 : Fin (k0_t188_loop v16 v31 v68 v105 v142 v179 v216 v253 v290 v327 v364 v401 v438 v475 v512 v549 v586 v623 v660 v697 v734 v771 v808 v845 v882 v919 v956 v993 v1030 v1067 v1104 v1141 arg13).trips), ∀ a, (k0_off558 v16 v31 v68 v105 v142 v179 v216 v253 v290 v327 v364 v401 v438 v475 v512 v549 v586 v623 v660 v697 v734 v771 v808 v845 v882 v919 v956 v993 v1030 v1067 v1104 v1141 arg13 k0_t188) a + S1x16.size a ≤ S512x128.size a := fun v16 v31 v68 v105 v142 v179 v216 v253 v290 v327 v364 v401 v438 v475 v512 v549 v586 v623 v660 v697 v734 v771 v808 v845 v882 v919 v956 v993 v1030 v1067 v1104 v1141 arg13 k0_hw97 k0_t188 => k0_hw97.2.2.2.2.2.2.2.2.2.2.2 k0_t188

@[reducible] def k0_t189_loop (v1178 : BitVec 32) : Scf.Loop 32 :=
  let c0_i32_467 : BitVec 32 := 0#32
  let c0_i32_460 : BitVec 32 := 0#32
  let v1181 : BitVec 1 := Scalar.cmpi .sgt v1178 c0_i32_460
  let v1182 : BitVec 32 := Scalar.extui v1181
  let c0_i32_461 : BitVec 32 := 0#32
  let v1183 : BitVec 1 := Scalar.cmpi .slt v1178 c0_i32_461
  let v1184 : BitVec 32 := Scalar.extui v1183
  let v1185 : BitVec 32 := Scalar.subi v1182 v1184
  let c504_i32_459 : BitVec 32 := 504#32
  let c0_i32_462 : BitVec 32 := 0#32
  let v1186 : BitVec 1 := Scalar.cmpi .sgt c504_i32_459 c0_i32_462
  let v1187 : BitVec 32 := Scalar.extui v1186
  let c0_i32_463 : BitVec 32 := 0#32
  let v1188 : BitVec 1 := Scalar.cmpi .slt c504_i32_459 c0_i32_463
  let v1189 : BitVec 32 := Scalar.extui v1188
  let v1190 : BitVec 32 := Scalar.subi v1187 v1189
  let v1191 : BitVec 1 := Scalar.cmpi .ne v1185 v1190
  let v1192 : BitVec 32 := Scalar.remsi v1178 c504_i32_459
  let c0_i32_464 : BitVec 32 := 0#32
  let v1193 : BitVec 1 := Scalar.cmpi .ne v1192 c0_i32_464
  let v1194 : BitVec 1 := Scalar.andi v1191 v1193
  let v1180 : BitVec 32 := Scalar.divsi v1178 c504_i32_459
  let c1_i32_465 : BitVec 32 := 1#32
  let v1195 : BitVec 32 := Scalar.subi v1180 c1_i32_465
  let v1196 : BitVec 32 := Scalar.select v1194 v1195 v1180
  let c1_i32_466 : BitVec 32 := 1#32
  let v1197 : BitVec 32 := Scalar.addi v1196 c1_i32_466
  let v1198 : BitVec 32 := Scalar.subi v1197 c0_i32_467
  let c1_i32_468 : BitVec 32 := 1#32
  let v1200 : BitVec 32 := Scalar.divsi v1198 c1_i32_468
  let v1201 : BitVec 32 := Scalar.muli v1200 c1_i32_468
  let v1202 : BitVec 32 := Scalar.addi c0_i32_467 v1201
  let c1_i32_469 : BitVec 32 := 1#32
  ⟨c0_i32_467, v1202, c1_i32_469⟩

def k0_mult63 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off559 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r63 : BitVec 32 := 0#32
  ![v1213.toNat, 0]
@[reducible] def k0_t190_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off560 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let c1_i32_473 : BitVec 32 := 1#32
  let arg14 : BitVec 32 := Scf.iv arg13 c1_i32_473 k0_t190
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off561 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let c1_i32_473 : BitVec 32 := 1#32
  let arg14 : BitVec 32 := Scf.iv arg13 c1_i32_473 k0_t190
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off562 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let c1_i32_473 : BitVec 32 := 1#32
  let arg14 : BitVec 32 := Scf.iv arg13 c1_i32_473 k0_t190
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off563 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let c1_i32_473 : BitVec 32 := 1#32
  let arg14 : BitVec 32 := Scf.iv arg13 c1_i32_473 k0_t190
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t191_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off564 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t191
  let v1224 : BitVec 32 := Scalar.subi arg14 v1213
  let v1225 : Index := Scalar.indexCast v1224
  let c0_475 : Index := 0#32
  ![v1225.toNat, 0]
def k0_off565 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t191
  let v1224 : BitVec 32 := Scalar.subi arg14 v1213
  let v1228 : Index := Scalar.indexCast v1224
  let c16_476 : Index := 16#32
  ![v1228.toNat, 16]
def k0_off566 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t191
  let v1224 : BitVec 32 := Scalar.subi arg14 v1213
  let v1231 : Index := Scalar.indexCast v1224
  let c32_477 : Index := 32#32
  ![v1231.toNat, 32]
def k0_off567 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t191
  let v1224 : BitVec 32 := Scalar.subi arg14 v1213
  let v1234 : Index := Scalar.indexCast v1224
  let c48_478 : Index := 48#32
  ![v1234.toNat, 48]

def k0_chk99 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) : Prop :=
  (8 ∣ (k0_mult63 arg13).toNat) ∧
  (∀ a, (k0_off559 arg13) a + S512x128.size a ≤ S320000x128.size a) ∧
  ((k0_t190_loop v16 v31 v68 v105 v142 v179 v216 v253 v290 v327 v364 v401 v438 v475 v512 v549 v586 v623 v660 v697 v734 v771 v808 v845 v882 v919 v956 v993 v1030 v1067 v1104 v1141 v1178 arg13).OK) ∧
  (∀ k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off560 v16 v31 v68 v105 v142 v179 v216 v253 v290 v327 v364 v401 v438 v475 v512 v549 v586 v623 v660 v697 v734 v771 v808 v845 v882 v919 v956 v993 v1030 v1067 v1104 v1141 v1178 arg13 k0_t190) a + S1x16.size a ≤ S512x128.size a) ∧
  (∀ k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off561 v16 v31 v68 v105 v142 v179 v216 v253 v290 v327 v364 v401 v438 v475 v512 v549 v586 v623 v660 v697 v734 v771 v808 v845 v882 v919 v956 v993 v1030 v1067 v1104 v1141 v1178 arg13 k0_t190) a + S1x16.size a ≤ S512x128.size a) ∧
  (∀ k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off562 v16 v31 v68 v105 v142 v179 v216 v253 v290 v327 v364 v401 v438 v475 v512 v549 v586 v623 v660 v697 v734 v771 v808 v845 v882 v919 v956 v993 v1030 v1067 v1104 v1141 v1178 arg13 k0_t190) a + S1x16.size a ≤ S512x128.size a) ∧
  (∀ k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off563 v16 v31 v68 v105 v142 v179 v216 v253 v290 v327 v364 v401 v438 v475 v512 v549 v586 v623 v660 v697 v734 v771 v808 v845 v882 v919 v956 v993 v1030 v1067 v1104 v1141 v1178 arg13 k0_t190) a + S1x16.size a ≤ S512x128.size a) ∧
  ((k0_t191_loop v16 v31 v68 v105 v142 v179 v216 v253 v290 v327 v364 v401 v438 v475 v512 v549 v586 v623 v660 v697 v734 v771 v808 v845 v882 v919 v956 v993 v1030 v1067 v1104 v1141 v1178 arg13).OK) ∧
  (∀ k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off564 v16 v31 v68 v105 v142 v179 v216 v253 v290 v327 v364 v401 v438 v475 v512 v549 v586 v623 v660 v697 v734 v771 v808 v845 v882 v919 v956 v993 v1030 v1067 v1104 v1141 v1178 arg13 k0_t191) a + S1x16.size a ≤ S512x128.size a) ∧
  (∀ k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off565 v16 v31 v68 v105 v142 v179 v216 v253 v290 v327 v364 v401 v438 v475 v512 v549 v586 v623 v660 v697 v734 v771 v808 v845 v882 v919 v956 v993 v1030 v1067 v1104 v1141 v1178 arg13 k0_t191) a + S1x16.size a ≤ S512x128.size a) ∧
  (∀ k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off566 v16 v31 v68 v105 v142 v179 v216 v253 v290 v327 v364 v401 v438 v475 v512 v549 v586 v623 v660 v697 v734 v771 v808 v845 v882 v919 v956 v993 v1030 v1067 v1104 v1141 v1178 arg13 k0_t191) a + S1x16.size a ≤ S512x128.size a) ∧
  (∀ k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off567 v16 v31 v68 v105 v142 v179 v216 v253 v290 v327 v364 v401 v438 v475 v512 v549 v586 v623 v660 v697 v734 v771 v808 v845 v882 v919 v956 v993 v1030 v1067 v1104 v1141 v1178 arg13 k0_t191) a + S1x16.size a ≤ S512x128.size a)
theorem k0_mult63_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13), 8 ∣ (k0_mult63 arg13).toNat := fun v16 v31 v68 v105 v142 v179 v216 v253 v290 v327 v364 v401 v438 v475 v512 v549 v586 v623 v660 v697 v734 v771 v808 v845 v882 v919 v956 v993 v1030 v1067 v1104 v1141 v1178 arg13 k0_hw99 => k0_hw99.1
theorem k0_off559_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13), ∀ a, (k0_off559 arg13) a + S512x128.size a ≤ S320000x128.size a := fun v16 v31 v68 v105 v142 v179 v216 v253 v290 v327 v364 v401 v438 v475 v512 v549 v586 v623 v660 v697 v734 v771 v808 v845 v882 v919 v956 v993 v1030 v1067 v1104 v1141 v1178 arg13 k0_hw99 => k0_hw99.2.1
theorem k0_t190_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13), (k0_t190_loop v16 v31 v68 v105 v142 v179 v216 v253 v290 v327 v364 v401 v438 v475 v512 v549 v586 v623 v660 v697 v734 v771 v808 v845 v882 v919 v956 v993 v1030 v1067 v1104 v1141 v1178 arg13).OK := fun v16 v31 v68 v105 v142 v179 v216 v253 v290 v327 v364 v401 v438 v475 v512 v549 v586 v623 v660 v697 v734 v771 v808 v845 v882 v919 v956 v993 v1030 v1067 v1104 v1141 v1178 arg13 k0_hw99 => k0_hw99.2.2.1
theorem k0_off560_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13) (k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off560 v16 v31 v68 v105 v142 v179 v216 v253 v290 v327 v364 v401 v438 v475 v512 v549 v586 v623 v660 v697 v734 v771 v808 v845 v882 v919 v956 v993 v1030 v1067 v1104 v1141 v1178 arg13 k0_t190) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw99 k0_t190 => k0_hw99.2.2.2.1 k0_t190
theorem k0_off561_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13) (k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off561 v16 v31 v68 v105 v142 v179 v216 v253 v290 v327 v364 v401 v438 v475 v512 v549 v586 v623 v660 v697 v734 v771 v808 v845 v882 v919 v956 v993 v1030 v1067 v1104 v1141 v1178 arg13 k0_t190) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw99 k0_t190 => k0_hw99.2.2.2.2.1 k0_t190
theorem k0_off562_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13) (k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off562 v16 v31 v68 v105 v142 v179 v216 v253 v290 v327 v364 v401 v438 v475 v512 v549 v586 v623 v660 v697 v734 v771 v808 v845 v882 v919 v956 v993 v1030 v1067 v1104 v1141 v1178 arg13 k0_t190) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw99 k0_t190 => k0_hw99.2.2.2.2.2.1 k0_t190
theorem k0_off563_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13) (k0_t190 : Fin (k0_t190_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off563 v16 v31 v68 v105 v142 v179 v216 v253 v290 v327 v364 v401 v438 v475 v512 v549 v586 v623 v660 v697 v734 v771 v808 v845 v882 v919 v956 v993 v1030 v1067 v1104 v1141 v1178 arg13 k0_t190) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw99 k0_t190 => k0_hw99.2.2.2.2.2.2.1 k0_t190
theorem k0_t191_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13), (k0_t191_loop v16 v31 v68 v105 v142 v179 v216 v253 v290 v327 v364 v401 v438 v475 v512 v549 v586 v623 v660 v697 v734 v771 v808 v845 v882 v919 v956 v993 v1030 v1067 v1104 v1141 v1178 arg13).OK := fun v16 v31 v68 v105 v142 v179 v216 v253 v290 v327 v364 v401 v438 v475 v512 v549 v586 v623 v660 v697 v734 v771 v808 v845 v882 v919 v956 v993 v1030 v1067 v1104 v1141 v1178 arg13 k0_hw99 => k0_hw99.2.2.2.2.2.2.2.1
theorem k0_off564_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13) (k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off564 v16 v31 v68 v105 v142 v179 v216 v253 v290 v327 v364 v401 v438 v475 v512 v549 v586 v623 v660 v697 v734 v771 v808 v845 v882 v919 v956 v993 v1030 v1067 v1104 v1141 v1178 arg13 k0_t191) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw99 k0_t191 => k0_hw99.2.2.2.2.2.2.2.2.1 k0_t191
theorem k0_off565_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13) (k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off565 v16 v31 v68 v105 v142 v179 v216 v253 v290 v327 v364 v401 v438 v475 v512 v549 v586 v623 v660 v697 v734 v771 v808 v845 v882 v919 v956 v993 v1030 v1067 v1104 v1141 v1178 arg13 k0_t191) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw99 k0_t191 => k0_hw99.2.2.2.2.2.2.2.2.2.1 k0_t191
theorem k0_off566_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13) (k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off566 v16 v31 v68 v105 v142 v179 v216 v253 v290 v327 v364 v401 v438 v475 v512 v549 v586 v623 v660 v697 v734 v771 v808 v845 v882 v919 v956 v993 v1030 v1067 v1104 v1141 v1178 arg13 k0_t191) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw99 k0_t191 => k0_hw99.2.2.2.2.2.2.2.2.2.2.1 k0_t191
theorem k0_off567_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw99 : k0_chk99 v16 v31 v68 v105 v142 v179 v216 v253 v290 v327 v364 v401 v438 v475 v512 v549 v586 v623 v660 v697 v734 v771 v808 v845 v882 v919 v956 v993 v1030 v1067 v1104 v1141 v1178 arg13) (k0_t191 : Fin (k0_t191_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off567 v16 v31 v68 v105 v142 v179 v216 v253 v290 v327 v364 v401 v438 v475 v512 v549 v586 v623 v660 v697 v734 v771 v808 v845 v882 v919 v956 v993 v1030 v1067 v1104 v1141 v1178 arg13 k0_t191) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw99 k0_t191 => k0_hw99.2.2.2.2.2.2.2.2.2.2.2 k0_t191

@[reducible] def k0_t192_loop (v1178 : BitVec 32) : Scf.Loop 32 :=
  let c0_i32_467 : BitVec 32 := 0#32
  let c0_i32_460 : BitVec 32 := 0#32
  let v1181 : BitVec 1 := Scalar.cmpi .sgt v1178 c0_i32_460
  let v1182 : BitVec 32 := Scalar.extui v1181
  let c0_i32_461 : BitVec 32 := 0#32
  let v1183 : BitVec 1 := Scalar.cmpi .slt v1178 c0_i32_461
  let v1184 : BitVec 32 := Scalar.extui v1183
  let v1185 : BitVec 32 := Scalar.subi v1182 v1184
  let c504_i32_459 : BitVec 32 := 504#32
  let c0_i32_462 : BitVec 32 := 0#32
  let v1186 : BitVec 1 := Scalar.cmpi .sgt c504_i32_459 c0_i32_462
  let v1187 : BitVec 32 := Scalar.extui v1186
  let c0_i32_463 : BitVec 32 := 0#32
  let v1188 : BitVec 1 := Scalar.cmpi .slt c504_i32_459 c0_i32_463
  let v1189 : BitVec 32 := Scalar.extui v1188
  let v1190 : BitVec 32 := Scalar.subi v1187 v1189
  let v1191 : BitVec 1 := Scalar.cmpi .ne v1185 v1190
  let v1192 : BitVec 32 := Scalar.remsi v1178 c504_i32_459
  let c0_i32_464 : BitVec 32 := 0#32
  let v1193 : BitVec 1 := Scalar.cmpi .ne v1192 c0_i32_464
  let v1194 : BitVec 1 := Scalar.andi v1191 v1193
  let v1180 : BitVec 32 := Scalar.divsi v1178 c504_i32_459
  let c1_i32_465 : BitVec 32 := 1#32
  let v1195 : BitVec 32 := Scalar.subi v1180 c1_i32_465
  let v1196 : BitVec 32 := Scalar.select v1194 v1195 v1180
  let c1_i32_466 : BitVec 32 := 1#32
  let v1197 : BitVec 32 := Scalar.addi v1196 c1_i32_466
  let v1198 : BitVec 32 := Scalar.subi v1197 c0_i32_467
  let c1_i32_468 : BitVec 32 := 1#32
  let v1200 : BitVec 32 := Scalar.divsi v1198 c1_i32_468
  let v1201 : BitVec 32 := Scalar.muli v1200 c1_i32_468
  let v1202 : BitVec 32 := Scalar.addi c0_i32_467 v1201
  let v1199 : BitVec 32 := Scalar.addi c0_i32_467 v1198
  let c1_i32_470 : BitVec 32 := 1#32
  ⟨v1202, v1199, c1_i32_470⟩

def k0_chk98 (v1178 : BitVec 32) : Prop :=
  ((k0_t189_loop v1178).OK) ∧
  ((k0_t192_loop v1178).OK)
theorem k0_t189_ok : ∀ (v1178 : BitVec 32) (k0_hw98 : k0_chk98 v1178), (k0_t189_loop v1178).OK := fun v1178 k0_hw98 => k0_hw98.1
theorem k0_t192_ok : ∀ (v1178 : BitVec 32) (k0_hw98 : k0_chk98 v1178), (k0_t192_loop v1178).OK := fun v1178 k0_hw98 => k0_hw98.2

def k0_mult64 (arg13 : BitVec 32) : BitVec 32 :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  v1212

def k0_off568 (arg13 : BitVec 32) : Fin 2 → Nat :=
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c0_i32_475_r64 : BitVec 32 := 0#32
  ![v1213.toNat, 0]
@[reducible] def k0_t193_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_473 : BitVec 32 := 1#32
  ⟨arg13, v1221, c1_i32_473⟩
def k0_off569 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let c1_i32_473 : BitVec 32 := 1#32
  let arg14 : BitVec 32 := Scf.iv arg13 c1_i32_473 k0_t193
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1225 : Index := Scalar.indexCast v1224
  let c0_475 : Index := 0#32
  ![v1225.toNat, 0]
def k0_off570 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let c1_i32_473 : BitVec 32 := 1#32
  let arg14 : BitVec 32 := Scf.iv arg13 c1_i32_473 k0_t193
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1228 : Index := Scalar.indexCast v1224
  let c16_476 : Index := 16#32
  ![v1228.toNat, 16]
def k0_off571 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let c1_i32_473 : BitVec 32 := 1#32
  let arg14 : BitVec 32 := Scf.iv arg13 c1_i32_473 k0_t193
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1231 : Index := Scalar.indexCast v1224
  let c32_477 : Index := 32#32
  ![v1231.toNat, 32]
def k0_off572 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let c1_i32_473 : BitVec 32 := 1#32
  let arg14 : BitVec 32 := Scf.iv arg13 c1_i32_473 k0_t193
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let v1224 : BitVec 32 := Scalar.subi arg14 v1213
  let v1234 : Index := Scalar.indexCast v1224
  let c48_478 : Index := 48#32
  ![v1234.toNat, 48]
@[reducible] def k0_t194_loop (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) : Scf.Loop 32 :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let v1218 : BitVec 32 := Scalar.addi arg13 v1217
  let c1_i32_474 : BitVec 32 := 1#32
  ⟨v1221, v1218, c1_i32_474⟩
def k0_off573 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t194
  let v1224 : BitVec 32 := Scalar.subi arg14 v1213
  let v1225 : Index := Scalar.indexCast v1224
  let c0_475 : Index := 0#32
  ![v1225.toNat, 0]
def k0_off574 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t194
  let v1224 : BitVec 32 := Scalar.subi arg14 v1213
  let v1228 : Index := Scalar.indexCast v1224
  let c16_476 : Index := 16#32
  ![v1228.toNat, 16]
def k0_off575 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t194
  let v1224 : BitVec 32 := Scalar.subi arg14 v1213
  let v1231 : Index := Scalar.indexCast v1224
  let c32_477 : Index := 32#32
  ![v1231.toNat, 32]
def k0_off576 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips) : Fin 2 → Nat :=
  let v32 : BitVec 32 := Scalar.addi v16 v31
  let v69 : BitVec 32 := Scalar.addi v32 v68
  let v106 : BitVec 32 := Scalar.addi v69 v105
  let v143 : BitVec 32 := Scalar.addi v106 v142
  let v180 : BitVec 32 := Scalar.addi v143 v179
  let v217 : BitVec 32 := Scalar.addi v180 v216
  let v254 : BitVec 32 := Scalar.addi v217 v253
  let v291 : BitVec 32 := Scalar.addi v254 v290
  let v328 : BitVec 32 := Scalar.addi v291 v327
  let v365 : BitVec 32 := Scalar.addi v328 v364
  let v402 : BitVec 32 := Scalar.addi v365 v401
  let v439 : BitVec 32 := Scalar.addi v402 v438
  let v476 : BitVec 32 := Scalar.addi v439 v475
  let v513 : BitVec 32 := Scalar.addi v476 v512
  let v550 : BitVec 32 := Scalar.addi v513 v549
  let v587 : BitVec 32 := Scalar.addi v550 v586
  let v624 : BitVec 32 := Scalar.addi v587 v623
  let v661 : BitVec 32 := Scalar.addi v624 v660
  let v698 : BitVec 32 := Scalar.addi v661 v697
  let v735 : BitVec 32 := Scalar.addi v698 v734
  let v772 : BitVec 32 := Scalar.addi v735 v771
  let v809 : BitVec 32 := Scalar.addi v772 v808
  let v846 : BitVec 32 := Scalar.addi v809 v845
  let v883 : BitVec 32 := Scalar.addi v846 v882
  let v920 : BitVec 32 := Scalar.addi v883 v919
  let v957 : BitVec 32 := Scalar.addi v920 v956
  let v994 : BitVec 32 := Scalar.addi v957 v993
  let v1031 : BitVec 32 := Scalar.addi v994 v1030
  let v1068 : BitVec 32 := Scalar.addi v1031 v1067
  let v1105 : BitVec 32 := Scalar.addi v1068 v1104
  let v1142 : BitVec 32 := Scalar.addi v1105 v1141
  let v1179 : BitVec 32 := Scalar.addi v1142 v1178
  let c8_i32_471 : BitVec 32 := 8#32
  let v1210 : BitVec 32 := Scalar.remsi arg13 c8_i32_471
  let v1211 : BitVec 32 := Scalar.subi arg13 v1210
  let c319488_i32 : BitVec 32 := 319488#32
  let v1212 : BitVec 32 := Scalar.minsi v1211 c319488_i32
  let v1213 : BitVec 32 := v1212
  let c512_i32 : BitVec 32 := 512#32
  let v1214 : BitVec 32 := Scalar.addi v1213 c512_i32
  let v1215 : BitVec 32 := Scalar.minsi v1179 v1214
  let v1216 : BitVec 32 := Scalar.maxsi v1215 arg13
  let v1217 : BitVec 32 := Scalar.subi v1216 arg13
  let c1_i32_472 : BitVec 32 := 1#32
  let v1219 : BitVec 32 := Scalar.divsi v1217 c1_i32_472
  let v1220 : BitVec 32 := Scalar.muli v1219 c1_i32_472
  let v1221 : BitVec 32 := Scalar.addi arg13 v1220
  let c1_i32_474 : BitVec 32 := 1#32
  let arg14 : BitVec 32 := Scf.iv v1221 c1_i32_474 k0_t194
  let v1224 : BitVec 32 := Scalar.subi arg14 v1213
  let v1234 : Index := Scalar.indexCast v1224
  let c48_478 : Index := 48#32
  ![v1234.toNat, 48]

def k0_chk100 (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) : Prop :=
  (8 ∣ (k0_mult64 arg13).toNat) ∧
  (∀ a, (k0_off568 arg13) a + S512x128.size a ≤ S320000x128.size a) ∧
  ((k0_t193_loop v16 v31 v68 v105 v142 v179 v216 v253 v290 v327 v364 v401 v438 v475 v512 v549 v586 v623 v660 v697 v734 v771 v808 v845 v882 v919 v956 v993 v1030 v1067 v1104 v1141 v1178 arg13).OK) ∧
  (∀ k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off569 v16 v31 v68 v105 v142 v179 v216 v253 v290 v327 v364 v401 v438 v475 v512 v549 v586 v623 v660 v697 v734 v771 v808 v845 v882 v919 v956 v993 v1030 v1067 v1104 v1141 v1178 arg13 k0_t193) a + S1x16.size a ≤ S512x128.size a) ∧
  (∀ k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off570 v16 v31 v68 v105 v142 v179 v216 v253 v290 v327 v364 v401 v438 v475 v512 v549 v586 v623 v660 v697 v734 v771 v808 v845 v882 v919 v956 v993 v1030 v1067 v1104 v1141 v1178 arg13 k0_t193) a + S1x16.size a ≤ S512x128.size a) ∧
  (∀ k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off571 v16 v31 v68 v105 v142 v179 v216 v253 v290 v327 v364 v401 v438 v475 v512 v549 v586 v623 v660 v697 v734 v771 v808 v845 v882 v919 v956 v993 v1030 v1067 v1104 v1141 v1178 arg13 k0_t193) a + S1x16.size a ≤ S512x128.size a) ∧
  (∀ k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off572 v16 v31 v68 v105 v142 v179 v216 v253 v290 v327 v364 v401 v438 v475 v512 v549 v586 v623 v660 v697 v734 v771 v808 v845 v882 v919 v956 v993 v1030 v1067 v1104 v1141 v1178 arg13 k0_t193) a + S1x16.size a ≤ S512x128.size a) ∧
  ((k0_t194_loop v16 v31 v68 v105 v142 v179 v216 v253 v290 v327 v364 v401 v438 v475 v512 v549 v586 v623 v660 v697 v734 v771 v808 v845 v882 v919 v956 v993 v1030 v1067 v1104 v1141 v1178 arg13).OK) ∧
  (∀ k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off573 v16 v31 v68 v105 v142 v179 v216 v253 v290 v327 v364 v401 v438 v475 v512 v549 v586 v623 v660 v697 v734 v771 v808 v845 v882 v919 v956 v993 v1030 v1067 v1104 v1141 v1178 arg13 k0_t194) a + S1x16.size a ≤ S512x128.size a) ∧
  (∀ k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off574 v16 v31 v68 v105 v142 v179 v216 v253 v290 v327 v364 v401 v438 v475 v512 v549 v586 v623 v660 v697 v734 v771 v808 v845 v882 v919 v956 v993 v1030 v1067 v1104 v1141 v1178 arg13 k0_t194) a + S1x16.size a ≤ S512x128.size a) ∧
  (∀ k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off575 v16 v31 v68 v105 v142 v179 v216 v253 v290 v327 v364 v401 v438 v475 v512 v549 v586 v623 v660 v697 v734 v771 v808 v845 v882 v919 v956 v993 v1030 v1067 v1104 v1141 v1178 arg13 k0_t194) a + S1x16.size a ≤ S512x128.size a) ∧
  (∀ k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips, ∀ a, (k0_off576 v16 v31 v68 v105 v142 v179 v216 v253 v290 v327 v364 v401 v438 v475 v512 v549 v586 v623 v660 v697 v734 v771 v808 v845 v882 v919 v956 v993 v1030 v1067 v1104 v1141 v1178 arg13 k0_t194) a + S1x16.size a ≤ S512x128.size a)
theorem k0_mult64_dvd : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13), 8 ∣ (k0_mult64 arg13).toNat := fun v16 v31 v68 v105 v142 v179 v216 v253 v290 v327 v364 v401 v438 v475 v512 v549 v586 v623 v660 v697 v734 v771 v808 v845 v882 v919 v956 v993 v1030 v1067 v1104 v1141 v1178 arg13 k0_hw100 => k0_hw100.1
theorem k0_off568_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13), ∀ a, (k0_off568 arg13) a + S512x128.size a ≤ S320000x128.size a := fun v16 v31 v68 v105 v142 v179 v216 v253 v290 v327 v364 v401 v438 v475 v512 v549 v586 v623 v660 v697 v734 v771 v808 v845 v882 v919 v956 v993 v1030 v1067 v1104 v1141 v1178 arg13 k0_hw100 => k0_hw100.2.1
theorem k0_t193_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13), (k0_t193_loop v16 v31 v68 v105 v142 v179 v216 v253 v290 v327 v364 v401 v438 v475 v512 v549 v586 v623 v660 v697 v734 v771 v808 v845 v882 v919 v956 v993 v1030 v1067 v1104 v1141 v1178 arg13).OK := fun v16 v31 v68 v105 v142 v179 v216 v253 v290 v327 v364 v401 v438 v475 v512 v549 v586 v623 v660 v697 v734 v771 v808 v845 v882 v919 v956 v993 v1030 v1067 v1104 v1141 v1178 arg13 k0_hw100 => k0_hw100.2.2.1
theorem k0_off569_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13) (k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off569 v16 v31 v68 v105 v142 v179 v216 v253 v290 v327 v364 v401 v438 v475 v512 v549 v586 v623 v660 v697 v734 v771 v808 v845 v882 v919 v956 v993 v1030 v1067 v1104 v1141 v1178 arg13 k0_t193) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw100 k0_t193 => k0_hw100.2.2.2.1 k0_t193
theorem k0_off570_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13) (k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off570 v16 v31 v68 v105 v142 v179 v216 v253 v290 v327 v364 v401 v438 v475 v512 v549 v586 v623 v660 v697 v734 v771 v808 v845 v882 v919 v956 v993 v1030 v1067 v1104 v1141 v1178 arg13 k0_t193) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw100 k0_t193 => k0_hw100.2.2.2.2.1 k0_t193
theorem k0_off571_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13) (k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off571 v16 v31 v68 v105 v142 v179 v216 v253 v290 v327 v364 v401 v438 v475 v512 v549 v586 v623 v660 v697 v734 v771 v808 v845 v882 v919 v956 v993 v1030 v1067 v1104 v1141 v1178 arg13 k0_t193) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw100 k0_t193 => k0_hw100.2.2.2.2.2.1 k0_t193
theorem k0_off572_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13) (k0_t193 : Fin (k0_t193_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off572 v16 v31 v68 v105 v142 v179 v216 v253 v290 v327 v364 v401 v438 v475 v512 v549 v586 v623 v660 v697 v734 v771 v808 v845 v882 v919 v956 v993 v1030 v1067 v1104 v1141 v1178 arg13 k0_t193) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw100 k0_t193 => k0_hw100.2.2.2.2.2.2.1 k0_t193
theorem k0_t194_ok : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13), (k0_t194_loop v16 v31 v68 v105 v142 v179 v216 v253 v290 v327 v364 v401 v438 v475 v512 v549 v586 v623 v660 v697 v734 v771 v808 v845 v882 v919 v956 v993 v1030 v1067 v1104 v1141 v1178 arg13).OK := fun v16 v31 v68 v105 v142 v179 v216 v253 v290 v327 v364 v401 v438 v475 v512 v549 v586 v623 v660 v697 v734 v771 v808 v845 v882 v919 v956 v993 v1030 v1067 v1104 v1141 v1178 arg13 k0_hw100 => k0_hw100.2.2.2.2.2.2.2.1
theorem k0_off573_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13) (k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off573 v16 v31 v68 v105 v142 v179 v216 v253 v290 v327 v364 v401 v438 v475 v512 v549 v586 v623 v660 v697 v734 v771 v808 v845 v882 v919 v956 v993 v1030 v1067 v1104 v1141 v1178 arg13 k0_t194) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw100 k0_t194 => k0_hw100.2.2.2.2.2.2.2.2.1 k0_t194
theorem k0_off574_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13) (k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off574 v16 v31 v68 v105 v142 v179 v216 v253 v290 v327 v364 v401 v438 v475 v512 v549 v586 v623 v660 v697 v734 v771 v808 v845 v882 v919 v956 v993 v1030 v1067 v1104 v1141 v1178 arg13 k0_t194) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw100 k0_t194 => k0_hw100.2.2.2.2.2.2.2.2.2.1 k0_t194
theorem k0_off575_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13) (k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off575 v16 v31 v68 v105 v142 v179 v216 v253 v290 v327 v364 v401 v438 v475 v512 v549 v586 v623 v660 v697 v734 v771 v808 v845 v882 v919 v956 v993 v1030 v1067 v1104 v1141 v1178 arg13 k0_t194) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw100 k0_t194 => k0_hw100.2.2.2.2.2.2.2.2.2.2.1 k0_t194
theorem k0_off576_inb : ∀ (v16 : BitVec 32) (v31 : BitVec 32) (v68 : BitVec 32) (v105 : BitVec 32) (v142 : BitVec 32) (v179 : BitVec 32) (v216 : BitVec 32) (v253 : BitVec 32) (v290 : BitVec 32) (v327 : BitVec 32) (v364 : BitVec 32) (v401 : BitVec 32) (v438 : BitVec 32) (v475 : BitVec 32) (v512 : BitVec 32) (v549 : BitVec 32) (v586 : BitVec 32) (v623 : BitVec 32) (v660 : BitVec 32) (v697 : BitVec 32) (v734 : BitVec 32) (v771 : BitVec 32) (v808 : BitVec 32) (v845 : BitVec 32) (v882 : BitVec 32) (v919 : BitVec 32) (v956 : BitVec 32) (v993 : BitVec 32) (v1030 : BitVec 32) (v1067 : BitVec 32) (v1104 : BitVec 32) (v1141 : BitVec 32) (v1178 : BitVec 32) (arg13 : BitVec 32) (k0_hw100 : k0_chk100 v16 v31 v68 v105 v142 v179 v216 v253 v290 v327 v364 v401 v438 v475 v512 v549 v586 v623 v660 v697 v734 v771 v808 v845 v882 v919 v956 v993 v1030 v1067 v1104 v1141 v1178 arg13) (k0_t194 : Fin (k0_t194_loop v16 v31 v68 v105 v142 v179 v216 v253 v290 v327 v364 v401 v438 v475 v512 v549 v586 v623 v660 v697 v734 v771 v808 v845 v882 v919 v956 v993 v1030 v1067 v1104 v1141 v1178 arg13).trips), ∀ a, (k0_off576 v16 v31 v68 v105 v142 v179 v216 v253 v290 v327 v364 v401 v438 v475 v512 v549 v586 v623 v660 v697 v734 v771 v808 v845 v882 v919 v956 v993 v1030 v1067 v1104 v1141 v1178 arg13 k0_t194) a + S1x16.size a ≤ S512x128.size a := fun v16 v31 v68 v105 v142 v179 v216 v253 v290 v327 v364 v401 v438 v475 v512 v549 v586 v623 v660 v697 v734 v771 v808 v845 v882 v919 v956 v993 v1030 v1067 v1104 v1141 v1178 arg13 k0_hw100 k0_t194 => k0_hw100.2.2.2.2.2.2.2.2.2.2.2 k0_t194

def k0_off577 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c64_i32 : BitVec 32 := 64#32
  let v1209 : BitVec 32 := Scalar.muli v2 c64_i32
  ![v1209.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S1024 : Shape := ⟨1, ![1024]⟩
abbrev S_ : Shape := ⟨0, ![]⟩
abbrev S320000x1024 : Shape := ⟨2, ![320000, 1024]⟩
abbrev S1x1024 : Shape := ⟨2, ![1, 1024]⟩
abbrev S320000 : Shape := ⟨1, ![320000]⟩
abbrev S320000x64 : Shape := ⟨2, ![320000, 64]⟩
abbrev S1024x64 : Shape := ⟨2, ![1024, 64]⟩
abbrev S320000x1 : Shape := ⟨2, ![320000, 1]⟩
abbrev S65536 : Shape := ⟨1, ![65536]⟩

abbrev nBuf : Space → Nat
  | .hbm => 18
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S1024, .i32⟩
  | .hbm, ⟨2, _⟩ => ⟨S_, .i32⟩
  | .hbm, ⟨3, _⟩ => ⟨S_, .i32⟩
  | .hbm, ⟨4, _⟩ => ⟨S1024, .i32⟩
  | .hbm, ⟨5, _⟩ => ⟨S320000x1024, .i32⟩
  | .hbm, ⟨6, _⟩ => ⟨S1x1024, .i32⟩
  | .hbm, ⟨7, _⟩ => ⟨S320000x1024, .i32⟩
  | .hbm, ⟨8, _⟩ => ⟨S320000x1024, .i1⟩
  | .hbm, ⟨9, _⟩ => ⟨S320000x1024, .i32⟩
  | .hbm, ⟨10, _⟩ => ⟨S_, .i32⟩
  | .hbm, ⟨11, _⟩ => ⟨S320000, .i32⟩
  | .hbm, ⟨12, _⟩ => ⟨S320000x64, .f32⟩
  | .hbm, ⟨13, _⟩ => ⟨S_, .f32⟩
  | .hbm, ⟨14, _⟩ => ⟨S1024x64, .f32⟩
  | .hbm, ⟨15, _⟩ => ⟨S320000x1, .i32⟩
  | .hbm, ⟨16, _⟩ => ⟨S1024x64, .f32⟩
  | .hbm, ⟨17, _⟩ => ⟨S65536, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Norm.lean ====
abbrev S5120000 : Shape := ⟨1, ![5120000]⟩
abbrev S320000 : Shape := ⟨1, ![320000]⟩
abbrev S16384 : Shape := ⟨1, ![16384]⟩
abbrev S32000 : Shape := ⟨1, ![32000]⟩
abbrev S2000 : Shape := ⟨1, ![2000]⟩
abbrev S_ : Shape := ⟨0, ![]⟩
abbrev S16 : Shape := ⟨1, ![16]⟩

abbrev nBuf : Table → Nat
  | .hbm => 4
  | .local .scVector .vmem => 4
  | _ => 0

abbrev bufTy : (tb : Table) → Fin (nBuf tb) → BufTy
  | .hbm, ⟨0, _⟩ => ⟨S5120000, .f32⟩
  | .hbm, ⟨1, _⟩ => ⟨S320000, .i32⟩
  | .hbm, ⟨2, _⟩ => ⟨S16384, .f32⟩
  | .hbm, ⟨3, _⟩ => ⟨S5120000, .f32⟩
  | .local .scVector .vmem, ⟨0, _⟩ => ⟨S32000, .f32⟩
  | .local .scVector .vmem, ⟨1, _⟩ => ⟨S32000, .f32⟩
  | .local .scVector .vmem, ⟨2, _⟩ => ⟨S2000, .i32⟩
  | .local .scVector .vmem, ⟨3, _⟩ => ⟨S16384, .f32⟩
  | _, _ => ⟨S5120000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v4 : BitVec 32 := Scalar.addi v2 c0_i32
  let c16_i32 : BitVec 32 := 16#32
  let v5 : BitVec 32 := Scalar.muli v4 c16_i32
  ![v5.toNat]
def k0_off2 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v4 : BitVec 32 := Scalar.addi v2 c0_i32
  ![v4.toNat]
@[reducible] def k0_t1_loop : Scf.Loop 32 :=
  let c0_i32_1 : BitVec 32 := 0#32
  let c125_i32 : BitVec 32 := 125#32
  let v6 : BitVec 32 := Scalar.addi c0_i32_1 c125_i32
  let c1_i32 : BitVec 32 := 1#32
  ⟨c0_i32_1, v6, c1_i32⟩

def k0_chk1 (v31 : IVec S16 32) : Prop :=
  (∀ a x, ((![v31] : Fin 1 → IVec S16 32) a x).toNat < S2000.size a)
theorem k0_idx1_inb : ∀ (v31 : IVec S16 32) (k0_hw1 : k0_chk1 v31), ∀ a x, ((![v31] : Fin 1 → IVec S16 32) a x).toNat < S2000.size a := fun v31 k0_hw1 => k0_hw1

def k0_chk2 (v36 : IVec S16 32) : Prop :=
  (∀ a x, ((![v36] : Fin 1 → IVec S16 32) a x).toNat < S32000.size a)
theorem k0_idx2_inb : ∀ (v36 : IVec S16 32) (k0_hw2 : k0_chk2 v36), ∀ a x, ((![v36] : Fin 1 → IVec S16 32) a x).toNat < S32000.size a := fun v36 k0_hw2 => k0_hw2

def k0_chk3 (v39 : IVec S16 32) : Prop :=
  (∀ a x, ((![v39] : Fin 1 → IVec S16 32) a x).toNat < S16384.size a)
theorem k0_idx3_inb : ∀ (v39 : IVec S16 32) (k0_hw3 : k0_chk3 v39), ∀ a x, ((![v39] : Fin 1 → IVec S16 32) a x).toNat < S16384.size a := fun v39 k0_hw3 => k0_hw3

def k0_chk4 (v42 : IVec S16 32) : Prop :=
  (∀ a x, ((![v42] : Fin 1 → IVec S16 32) a x).toNat < S32000.size a)
theorem k0_idx4_inb : ∀ (v42 : IVec S16 32) (k0_hw4 : k0_chk4 v42), ∀ a x, ((![v42] : Fin 1 → IVec S16 32) a x).toNat < S32000.size a := fun v42 k0_hw4 => k0_hw4

def k0_chk5 (v45 : IVec S16 32) : Prop :=
  (∀ a x, ((![v45] : Fin 1 → IVec S16 32) a x).toNat < S32000.size a)
theorem k0_idx5_inb : ∀ (v45 : IVec S16 32) (k0_hw5 : k0_chk5 v45), ∀ a x, ((![v45] : Fin 1 → IVec S16 32) a x).toNat < S32000.size a := fun v45 k0_hw5 => k0_hw5

def k0_chk6 (v48 : IVec S16 32) : Prop :=
  (∀ a x, ((![v48] : Fin 1 → IVec S16 32) a x).toNat < S16384.size a)
theorem k0_idx6_inb : ∀ (v48 : IVec S16 32) (k0_hw6 : k0_chk6 v48), ∀ a x, ((![v48] : Fin 1 → IVec S16 32) a x).toNat < S16384.size a := fun v48 k0_hw6 => k0_hw6

def k0_chk7 (v51 : IVec S16 32) : Prop :=
  (∀ a x, ((![v51] : Fin 1 → IVec S16 32) a x).toNat < S32000.size a)
theorem k0_idx7_inb : ∀ (v51 : IVec S16 32) (k0_hw7 : k0_chk7 v51), ∀ a x, ((![v51] : Fin 1 → IVec S16 32) a x).toNat < S32000.size a := fun v51 k0_hw7 => k0_hw7

def k0_chk8 (v54 : IVec S16 32) : Prop :=
  (∀ a x, ((![v54] : Fin 1 → IVec S16 32) a x).toNat < S32000.size a)
theorem k0_idx8_inb : ∀ (v54 : IVec S16 32) (k0_hw8 : k0_chk8 v54), ∀ a x, ((![v54] : Fin 1 → IVec S16 32) a x).toNat < S32000.size a := fun v54 k0_hw8 => k0_hw8

def k0_chk9 (v57 : IVec S16 32) : Prop :=
  (∀ a x, ((![v57] : Fin 1 → IVec S16 32) a x).toNat < S16384.size a)
theorem k0_idx9_inb : ∀ (v57 : IVec S16 32) (k0_hw9 : k0_chk9 v57), ∀ a x, ((![v57] : Fin 1 → IVec S16 32) a x).toNat < S16384.size a := fun v57 k0_hw9 => k0_hw9

def k0_chk10 (v60 : IVec S16 32) : Prop :=
  (∀ a x, ((![v60] : Fin 1 → IVec S16 32) a x).toNat < S32000.size a)
theorem k0_idx10_inb : ∀ (v60 : IVec S16 32) (k0_hw10 : k0_chk10 v60), ∀ a x, ((![v60] : Fin 1 → IVec S16 32) a x).toNat < S32000.size a := fun v60 k0_hw10 => k0_hw10

def k0_chk11 (v63 : IVec S16 32) : Prop :=
  (∀ a x, ((![v63] : Fin 1 → IVec S16 32) a x).toNat < S32000.size a)
theorem k0_idx11_inb : ∀ (v63 : IVec S16 32) (k0_hw11 : k0_chk11 v63), ∀ a x, ((![v63] : Fin 1 → IVec S16 32) a x).toNat < S32000.size a := fun v63 k0_hw11 => k0_hw11

def k0_chk12 (v66 : IVec S16 32) : Prop :=
  (∀ a x, ((![v66] : Fin 1 → IVec S16 32) a x).toNat < S16384.size a)
theorem k0_idx12_inb : ∀ (v66 : IVec S16 32) (k0_hw12 : k0_chk12 v66), ∀ a x, ((![v66] : Fin 1 → IVec S16 32) a x).toNat < S16384.size a := fun v66 k0_hw12 => k0_hw12

def k0_chk13 (v69 : IVec S16 32) : Prop :=
  (∀ a x, ((![v69] : Fin 1 → IVec S16 32) a x).toNat < S32000.size a)
theorem k0_idx13_inb : ∀ (v69 : IVec S16 32) (k0_hw13 : k0_chk13 v69), ∀ a x, ((![v69] : Fin 1 → IVec S16 32) a x).toNat < S32000.size a := fun v69 k0_hw13 => k0_hw13

def k0_chk14 (v72 : IVec S16 32) : Prop :=
  (∀ a x, ((![v72] : Fin 1 → IVec S16 32) a x).toNat < S32000.size a)
theorem k0_idx14_inb : ∀ (v72 : IVec S16 32) (k0_hw14 : k0_chk14 v72), ∀ a x, ((![v72] : Fin 1 → IVec S16 32) a x).toNat < S32000.size a := fun v72 k0_hw14 => k0_hw14

def k0_chk15 (v75 : IVec S16 32) : Prop :=
  (∀ a x, ((![v75] : Fin 1 → IVec S16 32) a x).toNat < S16384.size a)
theorem k0_idx15_inb : ∀ (v75 : IVec S16 32) (k0_hw15 : k0_chk15 v75), ∀ a x, ((![v75] : Fin 1 → IVec S16 32) a x).toNat < S16384.size a := fun v75 k0_hw15 => k0_hw15

def k0_chk16 (v78 : IVec S16 32) : Prop :=
  (∀ a x, ((![v78] : Fin 1 → IVec S16 32) a x).toNat < S32000.size a)
theorem k0_idx16_inb : ∀ (v78 : IVec S16 32) (k0_hw16 : k0_chk16 v78), ∀ a x, ((![v78] : Fin 1 → IVec S16 32) a x).toNat < S32000.size a := fun v78 k0_hw16 => k0_hw16

def k0_chk17 (v81 : IVec S16 32) : Prop :=
  (∀ a x, ((![v81] : Fin 1 → IVec S16 32) a x).toNat < S32000.size a)
theorem k0_idx17_inb : ∀ (v81 : IVec S16 32) (k0_hw17 : k0_chk17 v81), ∀ a x, ((![v81] : Fin 1 → IVec S16 32) a x).toNat < S32000.size a := fun v81 k0_hw17 => k0_hw17

def k0_chk18 (v84 : IVec S16 32) : Prop :=
  (∀ a x, ((![v84] : Fin 1 → IVec S16 32) a x).toNat < S16384.size a)
theorem k0_idx18_inb : ∀ (v84 : IVec S16 32) (k0_hw18 : k0_chk18 v84), ∀ a x, ((![v84] : Fin 1 → IVec S16 32) a x).toNat < S16384.size a := fun v84 k0_hw18 => k0_hw18

def k0_chk19 (v87 : IVec S16 32) : Prop :=
  (∀ a x, ((![v87] : Fin 1 → IVec S16 32) a x).toNat < S32000.size a)
theorem k0_idx19_inb : ∀ (v87 : IVec S16 32) (k0_hw19 : k0_chk19 v87), ∀ a x, ((![v87] : Fin 1 → IVec S16 32) a x).toNat < S32000.size a := fun v87 k0_hw19 => k0_hw19

def k0_chk20 (v90 : IVec S16 32) : Prop :=
  (∀ a x, ((![v90] : Fin 1 → IVec S16 32) a x).toNat < S32000.size a)
theorem k0_idx20_inb : ∀ (v90 : IVec S16 32) (k0_hw20 : k0_chk20 v90), ∀ a x, ((![v90] : Fin 1 → IVec S16 32) a x).toNat < S32000.size a := fun v90 k0_hw20 => k0_hw20

def k0_chk21 (v93 : IVec S16 32) : Prop :=
  (∀ a x, ((![v93] : Fin 1 → IVec S16 32) a x).toNat < S16384.size a)
theorem k0_idx21_inb : ∀ (v93 : IVec S16 32) (k0_hw21 : k0_chk21 v93), ∀ a x, ((![v93] : Fin 1 → IVec S16 32) a x).toNat < S16384.size a := fun v93 k0_hw21 => k0_hw21

def k0_chk22 (v96 : IVec S16 32) : Prop :=
  (∀ a x, ((![v96] : Fin 1 → IVec S16 32) a x).toNat < S32000.size a)
theorem k0_idx22_inb : ∀ (v96 : IVec S16 32) (k0_hw22 : k0_chk22 v96), ∀ a x, ((![v96] : Fin 1 → IVec S16 32) a x).toNat < S32000.size a := fun v96 k0_hw22 => k0_hw22

def k0_chk23 (v99 : IVec S16 32) : Prop :=
  (∀ a x, ((![v99] : Fin 1 → IVec S16 32) a x).toNat < S32000.size a)
theorem k0_idx23_inb : ∀ (v99 : IVec S16 32) (k0_hw23 : k0_chk23 v99), ∀ a x, ((![v99] : Fin 1 → IVec S16 32) a x).toNat < S32000.size a := fun v99 k0_hw23 => k0_hw23

def k0_chk24 (v102 : IVec S16 32) : Prop :=
  (∀ a x, ((![v102] : Fin 1 → IVec S16 32) a x).toNat < S16384.size a)
theorem k0_idx24_inb : ∀ (v102 : IVec S16 32) (k0_hw24 : k0_chk24 v102), ∀ a x, ((![v102] : Fin 1 → IVec S16 32) a x).toNat < S16384.size a := fun v102 k0_hw24 => k0_hw24

def k0_chk25 (v105 : IVec S16 32) : Prop :=
  (∀ a x, ((![v105] : Fin 1 → IVec S16 32) a x).toNat < S32000.size a)
theorem k0_idx25_inb : ∀ (v105 : IVec S16 32) (k0_hw25 : k0_chk25 v105), ∀ a x, ((![v105] : Fin 1 → IVec S16 32) a x).toNat < S32000.size a := fun v105 k0_hw25 => k0_hw25

def k0_chk26 (v108 : IVec S16 32) : Prop :=
  (∀ a x, ((![v108] : Fin 1 → IVec S16 32) a x).toNat < S32000.size a)
theorem k0_idx26_inb : ∀ (v108 : IVec S16 32) (k0_hw26 : k0_chk26 v108), ∀ a x, ((![v108] : Fin 1 → IVec S16 32) a x).toNat < S32000.size a := fun v108 k0_hw26 => k0_hw26

def k0_chk27 (v111 : IVec S16 32) : Prop :=
  (∀ a x, ((![v111] : Fin 1 → IVec S16 32) a x).toNat < S16384.size a)
theorem k0_idx27_inb : ∀ (v111 : IVec S16 32) (k0_hw27 : k0_chk27 v111), ∀ a x, ((![v111] : Fin 1 → IVec S16 32) a x).toNat < S16384.size a := fun v111 k0_hw27 => k0_hw27

def k0_chk28 (v114 : IVec S16 32) : Prop :=
  (∀ a x, ((![v114] : Fin 1 → IVec S16 32) a x).toNat < S32000.size a)
theorem k0_idx28_inb : ∀ (v114 : IVec S16 32) (k0_hw28 : k0_chk28 v114), ∀ a x, ((![v114] : Fin 1 → IVec S16 32) a x).toNat < S32000.size a := fun v114 k0_hw28 => k0_hw28

def k0_chk29 (v117 : IVec S16 32) : Prop :=
  (∀ a x, ((![v117] : Fin 1 → IVec S16 32) a x).toNat < S32000.size a)
theorem k0_idx29_inb : ∀ (v117 : IVec S16 32) (k0_hw29 : k0_chk29 v117), ∀ a x, ((![v117] : Fin 1 → IVec S16 32) a x).toNat < S32000.size a := fun v117 k0_hw29 => k0_hw29

def k0_chk30 (v120 : IVec S16 32) : Prop :=
  (∀ a x, ((![v120] : Fin 1 → IVec S16 32) a x).toNat < S16384.size a)
theorem k0_idx30_inb : ∀ (v120 : IVec S16 32) (k0_hw30 : k0_chk30 v120), ∀ a x, ((![v120] : Fin 1 → IVec S16 32) a x).toNat < S16384.size a := fun v120 k0_hw30 => k0_hw30

def k0_chk31 (v123 : IVec S16 32) : Prop :=
  (∀ a x, ((![v123] : Fin 1 → IVec S16 32) a x).toNat < S32000.size a)
theorem k0_idx31_inb : ∀ (v123 : IVec S16 32) (k0_hw31 : k0_chk31 v123), ∀ a x, ((![v123] : Fin 1 → IVec S16 32) a x).toNat < S32000.size a := fun v123 k0_hw31 => k0_hw31

def k0_chk32 (v126 : IVec S16 32) : Prop :=
  (∀ a x, ((![v126] : Fin 1 → IVec S16 32) a x).toNat < S32000.size a)
theorem k0_idx32_inb : ∀ (v126 : IVec S16 32) (k0_hw32 : k0_chk32 v126), ∀ a x, ((![v126] : Fin 1 → IVec S16 32) a x).toNat < S32000.size a := fun v126 k0_hw32 => k0_hw32

def k0_chk33 (v129 : IVec S16 32) : Prop :=
  (∀ a x, ((![v129] : Fin 1 → IVec S16 32) a x).toNat < S16384.size a)
theorem k0_idx33_inb : ∀ (v129 : IVec S16 32) (k0_hw33 : k0_chk33 v129), ∀ a x, ((![v129] : Fin 1 → IVec S16 32) a x).toNat < S16384.size a := fun v129 k0_hw33 => k0_hw33

def k0_chk34 (v132 : IVec S16 32) : Prop :=
  (∀ a x, ((![v132] : Fin 1 → IVec S16 32) a x).toNat < S32000.size a)
theorem k0_idx34_inb : ∀ (v132 : IVec S16 32) (k0_hw34 : k0_chk34 v132), ∀ a x, ((![v132] : Fin 1 → IVec S16 32) a x).toNat < S32000.size a := fun v132 k0_hw34 => k0_hw34

def k0_chk35 (v135 : IVec S16 32) : Prop :=
  (∀ a x, ((![v135] : Fin 1 → IVec S16 32) a x).toNat < S32000.size a)
theorem k0_idx35_inb : ∀ (v135 : IVec S16 32) (k0_hw35 : k0_chk35 v135), ∀ a x, ((![v135] : Fin 1 → IVec S16 32) a x).toNat < S32000.size a := fun v135 k0_hw35 => k0_hw35

def k0_chk36 (v138 : IVec S16 32) : Prop :=
  (∀ a x, ((![v138] : Fin 1 → IVec S16 32) a x).toNat < S16384.size a)
theorem k0_idx36_inb : ∀ (v138 : IVec S16 32) (k0_hw36 : k0_chk36 v138), ∀ a x, ((![v138] : Fin 1 → IVec S16 32) a x).toNat < S16384.size a := fun v138 k0_hw36 => k0_hw36

def k0_chk37 (v141 : IVec S16 32) : Prop :=
  (∀ a x, ((![v141] : Fin 1 → IVec S16 32) a x).toNat < S32000.size a)
theorem k0_idx37_inb : ∀ (v141 : IVec S16 32) (k0_hw37 : k0_chk37 v141), ∀ a x, ((![v141] : Fin 1 → IVec S16 32) a x).toNat < S32000.size a := fun v141 k0_hw37 => k0_hw37

def k0_chk38 (v144 : IVec S16 32) : Prop :=
  (∀ a x, ((![v144] : Fin 1 → IVec S16 32) a x).toNat < S32000.size a)
theorem k0_idx38_inb : ∀ (v144 : IVec S16 32) (k0_hw38 : k0_chk38 v144), ∀ a x, ((![v144] : Fin 1 → IVec S16 32) a x).toNat < S32000.size a := fun v144 k0_hw38 => k0_hw38

def k0_chk39 (v147 : IVec S16 32) : Prop :=
  (∀ a x, ((![v147] : Fin 1 → IVec S16 32) a x).toNat < S16384.size a)
theorem k0_idx39_inb : ∀ (v147 : IVec S16 32) (k0_hw39 : k0_chk39 v147), ∀ a x, ((![v147] : Fin 1 → IVec S16 32) a x).toNat < S16384.size a := fun v147 k0_hw39 => k0_hw39

def k0_chk40 (v150 : IVec S16 32) : Prop :=
  (∀ a x, ((![v150] : Fin 1 → IVec S16 32) a x).toNat < S32000.size a)
theorem k0_idx40_inb : ∀ (v150 : IVec S16 32) (k0_hw40 : k0_chk40 v150), ∀ a x, ((![v150] : Fin 1 → IVec S16 32) a x).toNat < S32000.size a := fun v150 k0_hw40 => k0_hw40

def k0_chk41 (v153 : IVec S16 32) : Prop :=
  (∀ a x, ((![v153] : Fin 1 → IVec S16 32) a x).toNat < S32000.size a)
theorem k0_idx41_inb : ∀ (v153 : IVec S16 32) (k0_hw41 : k0_chk41 v153), ∀ a x, ((![v153] : Fin 1 → IVec S16 32) a x).toNat < S32000.size a := fun v153 k0_hw41 => k0_hw41

def k0_chk42 (v156 : IVec S16 32) : Prop :=
  (∀ a x, ((![v156] : Fin 1 → IVec S16 32) a x).toNat < S16384.size a)
theorem k0_idx42_inb : ∀ (v156 : IVec S16 32) (k0_hw42 : k0_chk42 v156), ∀ a x, ((![v156] : Fin 1 → IVec S16 32) a x).toNat < S16384.size a := fun v156 k0_hw42 => k0_hw42

def k0_chk43 (v159 : IVec S16 32) : Prop :=
  (∀ a x, ((![v159] : Fin 1 → IVec S16 32) a x).toNat < S32000.size a)
theorem k0_idx43_inb : ∀ (v159 : IVec S16 32) (k0_hw43 : k0_chk43 v159), ∀ a x, ((![v159] : Fin 1 → IVec S16 32) a x).toNat < S32000.size a := fun v159 k0_hw43 => k0_hw43

def k0_chk44 (v162 : IVec S16 32) : Prop :=
  (∀ a x, ((![v162] : Fin 1 → IVec S16 32) a x).toNat < S32000.size a)
theorem k0_idx44_inb : ∀ (v162 : IVec S16 32) (k0_hw44 : k0_chk44 v162), ∀ a x, ((![v162] : Fin 1 → IVec S16 32) a x).toNat < S32000.size a := fun v162 k0_hw44 => k0_hw44

def k0_chk45 (v165 : IVec S16 32) : Prop :=
  (∀ a x, ((![v165] : Fin 1 → IVec S16 32) a x).toNat < S16384.size a)
theorem k0_idx45_inb : ∀ (v165 : IVec S16 32) (k0_hw45 : k0_chk45 v165), ∀ a x, ((![v165] : Fin 1 → IVec S16 32) a x).toNat < S16384.size a := fun v165 k0_hw45 => k0_hw45

def k0_chk46 (v168 : IVec S16 32) : Prop :=
  (∀ a x, ((![v168] : Fin 1 → IVec S16 32) a x).toNat < S32000.size a)
theorem k0_idx46_inb : ∀ (v168 : IVec S16 32) (k0_hw46 : k0_chk46 v168), ∀ a x, ((![v168] : Fin 1 → IVec S16 32) a x).toNat < S32000.size a := fun v168 k0_hw46 => k0_hw46

def k0_chk47 (v171 : IVec S16 32) : Prop :=
  (∀ a x, ((![v171] : Fin 1 → IVec S16 32) a x).toNat < S32000.size a)
theorem k0_idx47_inb : ∀ (v171 : IVec S16 32) (k0_hw47 : k0_chk47 v171), ∀ a x, ((![v171] : Fin 1 → IVec S16 32) a x).toNat < S32000.size a := fun v171 k0_hw47 => k0_hw47

def k0_chk48 (v174 : IVec S16 32) : Prop :=
  (∀ a x, ((![v174] : Fin 1 → IVec S16 32) a x).toNat < S16384.size a)
theorem k0_idx48_inb : ∀ (v174 : IVec S16 32) (k0_hw48 : k0_chk48 v174), ∀ a x, ((![v174] : Fin 1 → IVec S16 32) a x).toNat < S16384.size a := fun v174 k0_hw48 => k0_hw48

def k0_chk49 (v177 : IVec S16 32) : Prop :=
  (∀ a x, ((![v177] : Fin 1 → IVec S16 32) a x).toNat < S32000.size a)
theorem k0_idx49_inb : ∀ (v177 : IVec S16 32) (k0_hw49 : k0_chk49 v177), ∀ a x, ((![v177] : Fin 1 → IVec S16 32) a x).toNat < S32000.size a := fun v177 k0_hw49 => k0_hw49
@[reducible] def k0_t2_loop : Scf.Loop 32 :=
  let c0_i32_6 : BitVec 32 := 0#32
  let c125_i32_7 : BitVec 32 := 125#32
  let v10 : BitVec 32 := Scalar.addi c0_i32_6 c125_i32_7
  let c1_i32_8 : BitVec 32 := 1#32
  ⟨c0_i32_6, v10, c1_i32_8⟩

def k0_chk50 (v31 : IVec S16 32) : Prop :=
  (∀ a x, ((![v31] : Fin 1 → IVec S16 32) a x).toNat < S2000.size a)
theorem k0_idx50_inb : ∀ (v31 : IVec S16 32) (k0_hw50 : k0_chk50 v31), ∀ a x, ((![v31] : Fin 1 → IVec S16 32) a x).toNat < S2000.size a := fun v31 k0_hw50 => k0_hw50

def k0_chk51 (v36 : IVec S16 32) : Prop :=
  (∀ a x, ((![v36] : Fin 1 → IVec S16 32) a x).toNat < S32000.size a)
theorem k0_idx51_inb : ∀ (v36 : IVec S16 32) (k0_hw51 : k0_chk51 v36), ∀ a x, ((![v36] : Fin 1 → IVec S16 32) a x).toNat < S32000.size a := fun v36 k0_hw51 => k0_hw51

def k0_chk52 (v39 : IVec S16 32) : Prop :=
  (∀ a x, ((![v39] : Fin 1 → IVec S16 32) a x).toNat < S16384.size a)
theorem k0_idx52_inb : ∀ (v39 : IVec S16 32) (k0_hw52 : k0_chk52 v39), ∀ a x, ((![v39] : Fin 1 → IVec S16 32) a x).toNat < S16384.size a := fun v39 k0_hw52 => k0_hw52

def k0_chk53 (v42 : IVec S16 32) : Prop :=
  (∀ a x, ((![v42] : Fin 1 → IVec S16 32) a x).toNat < S32000.size a)
theorem k0_idx53_inb : ∀ (v42 : IVec S16 32) (k0_hw53 : k0_chk53 v42), ∀ a x, ((![v42] : Fin 1 → IVec S16 32) a x).toNat < S32000.size a := fun v42 k0_hw53 => k0_hw53

def k0_chk54 (v45 : IVec S16 32) : Prop :=
  (∀ a x, ((![v45] : Fin 1 → IVec S16 32) a x).toNat < S32000.size a)
theorem k0_idx54_inb : ∀ (v45 : IVec S16 32) (k0_hw54 : k0_chk54 v45), ∀ a x, ((![v45] : Fin 1 → IVec S16 32) a x).toNat < S32000.size a := fun v45 k0_hw54 => k0_hw54

def k0_chk55 (v48 : IVec S16 32) : Prop :=
  (∀ a x, ((![v48] : Fin 1 → IVec S16 32) a x).toNat < S16384.size a)
theorem k0_idx55_inb : ∀ (v48 : IVec S16 32) (k0_hw55 : k0_chk55 v48), ∀ a x, ((![v48] : Fin 1 → IVec S16 32) a x).toNat < S16384.size a := fun v48 k0_hw55 => k0_hw55

def k0_chk56 (v51 : IVec S16 32) : Prop :=
  (∀ a x, ((![v51] : Fin 1 → IVec S16 32) a x).toNat < S32000.size a)
theorem k0_idx56_inb : ∀ (v51 : IVec S16 32) (k0_hw56 : k0_chk56 v51), ∀ a x, ((![v51] : Fin 1 → IVec S16 32) a x).toNat < S32000.size a := fun v51 k0_hw56 => k0_hw56

def k0_chk57 (v54 : IVec S16 32) : Prop :=
  (∀ a x, ((![v54] : Fin 1 → IVec S16 32) a x).toNat < S32000.size a)
theorem k0_idx57_inb : ∀ (v54 : IVec S16 32) (k0_hw57 : k0_chk57 v54), ∀ a x, ((![v54] : Fin 1 → IVec S16 32) a x).toNat < S32000.size a := fun v54 k0_hw57 => k0_hw57

def k0_chk58 (v57 : IVec S16 32) : Prop :=
  (∀ a x, ((![v57] : Fin 1 → IVec S16 32) a x).toNat < S16384.size a)
theorem k0_idx58_inb : ∀ (v57 : IVec S16 32) (k0_hw58 : k0_chk58 v57), ∀ a x, ((![v57] : Fin 1 → IVec S16 32) a x).toNat < S16384.size a := fun v57 k0_hw58 => k0_hw58

def k0_chk59 (v60 : IVec S16 32) : Prop :=
  (∀ a x, ((![v60] : Fin 1 → IVec S16 32) a x).toNat < S32000.size a)
theorem k0_idx59_inb : ∀ (v60 : IVec S16 32) (k0_hw59 : k0_chk59 v60), ∀ a x, ((![v60] : Fin 1 → IVec S16 32) a x).toNat < S32000.size a := fun v60 k0_hw59 => k0_hw59

def k0_chk60 (v63 : IVec S16 32) : Prop :=
  (∀ a x, ((![v63] : Fin 1 → IVec S16 32) a x).toNat < S32000.size a)
theorem k0_idx60_inb : ∀ (v63 : IVec S16 32) (k0_hw60 : k0_chk60 v63), ∀ a x, ((![v63] : Fin 1 → IVec S16 32) a x).toNat < S32000.size a := fun v63 k0_hw60 => k0_hw60

def k0_chk61 (v66 : IVec S16 32) : Prop :=
  (∀ a x, ((![v66] : Fin 1 → IVec S16 32) a x).toNat < S16384.size a)
theorem k0_idx61_inb : ∀ (v66 : IVec S16 32) (k0_hw61 : k0_chk61 v66), ∀ a x, ((![v66] : Fin 1 → IVec S16 32) a x).toNat < S16384.size a := fun v66 k0_hw61 => k0_hw61

def k0_chk62 (v69 : IVec S16 32) : Prop :=
  (∀ a x, ((![v69] : Fin 1 → IVec S16 32) a x).toNat < S32000.size a)
theorem k0_idx62_inb : ∀ (v69 : IVec S16 32) (k0_hw62 : k0_chk62 v69), ∀ a x, ((![v69] : Fin 1 → IVec S16 32) a x).toNat < S32000.size a := fun v69 k0_hw62 => k0_hw62

def k0_chk63 (v72 : IVec S16 32) : Prop :=
  (∀ a x, ((![v72] : Fin 1 → IVec S16 32) a x).toNat < S32000.size a)
theorem k0_idx63_inb : ∀ (v72 : IVec S16 32) (k0_hw63 : k0_chk63 v72), ∀ a x, ((![v72] : Fin 1 → IVec S16 32) a x).toNat < S32000.size a := fun v72 k0_hw63 => k0_hw63

def k0_chk64 (v75 : IVec S16 32) : Prop :=
  (∀ a x, ((![v75] : Fin 1 → IVec S16 32) a x).toNat < S16384.size a)
theorem k0_idx64_inb : ∀ (v75 : IVec S16 32) (k0_hw64 : k0_chk64 v75), ∀ a x, ((![v75] : Fin 1 → IVec S16 32) a x).toNat < S16384.size a := fun v75 k0_hw64 => k0_hw64

def k0_chk65 (v78 : IVec S16 32) : Prop :=
  (∀ a x, ((![v78] : Fin 1 → IVec S16 32) a x).toNat < S32000.size a)
theorem k0_idx65_inb : ∀ (v78 : IVec S16 32) (k0_hw65 : k0_chk65 v78), ∀ a x, ((![v78] : Fin 1 → IVec S16 32) a x).toNat < S32000.size a := fun v78 k0_hw65 => k0_hw65

def k0_chk66 (v81 : IVec S16 32) : Prop :=
  (∀ a x, ((![v81] : Fin 1 → IVec S16 32) a x).toNat < S32000.size a)
theorem k0_idx66_inb : ∀ (v81 : IVec S16 32) (k0_hw66 : k0_chk66 v81), ∀ a x, ((![v81] : Fin 1 → IVec S16 32) a x).toNat < S32000.size a := fun v81 k0_hw66 => k0_hw66

def k0_chk67 (v84 : IVec S16 32) : Prop :=
  (∀ a x, ((![v84] : Fin 1 → IVec S16 32) a x).toNat < S16384.size a)
theorem k0_idx67_inb : ∀ (v84 : IVec S16 32) (k0_hw67 : k0_chk67 v84), ∀ a x, ((![v84] : Fin 1 → IVec S16 32) a x).toNat < S16384.size a := fun v84 k0_hw67 => k0_hw67

def k0_chk68 (v87 : IVec S16 32) : Prop :=
  (∀ a x, ((![v87] : Fin 1 → IVec S16 32) a x).toNat < S32000.size a)
theorem k0_idx68_inb : ∀ (v87 : IVec S16 32) (k0_hw68 : k0_chk68 v87), ∀ a x, ((![v87] : Fin 1 → IVec S16 32) a x).toNat < S32000.size a := fun v87 k0_hw68 => k0_hw68

def k0_chk69 (v90 : IVec S16 32) : Prop :=
  (∀ a x, ((![v90] : Fin 1 → IVec S16 32) a x).toNat < S32000.size a)
theorem k0_idx69_inb : ∀ (v90 : IVec S16 32) (k0_hw69 : k0_chk69 v90), ∀ a x, ((![v90] : Fin 1 → IVec S16 32) a x).toNat < S32000.size a := fun v90 k0_hw69 => k0_hw69

def k0_chk70 (v93 : IVec S16 32) : Prop :=
  (∀ a x, ((![v93] : Fin 1 → IVec S16 32) a x).toNat < S16384.size a)
theorem k0_idx70_inb : ∀ (v93 : IVec S16 32) (k0_hw70 : k0_chk70 v93), ∀ a x, ((![v93] : Fin 1 → IVec S16 32) a x).toNat < S16384.size a := fun v93 k0_hw70 => k0_hw70

def k0_chk71 (v96 : IVec S16 32) : Prop :=
  (∀ a x, ((![v96] : Fin 1 → IVec S16 32) a x).toNat < S32000.size a)
theorem k0_idx71_inb : ∀ (v96 : IVec S16 32) (k0_hw71 : k0_chk71 v96), ∀ a x, ((![v96] : Fin 1 → IVec S16 32) a x).toNat < S32000.size a := fun v96 k0_hw71 => k0_hw71

def k0_chk72 (v99 : IVec S16 32) : Prop :=
  (∀ a x, ((![v99] : Fin 1 → IVec S16 32) a x).toNat < S32000.size a)
theorem k0_idx72_inb : ∀ (v99 : IVec S16 32) (k0_hw72 : k0_chk72 v99), ∀ a x, ((![v99] : Fin 1 → IVec S16 32) a x).toNat < S32000.size a := fun v99 k0_hw72 => k0_hw72

def k0_chk73 (v102 : IVec S16 32) : Prop :=
  (∀ a x, ((![v102] : Fin 1 → IVec S16 32) a x).toNat < S16384.size a)
theorem k0_idx73_inb : ∀ (v102 : IVec S16 32) (k0_hw73 : k0_chk73 v102), ∀ a x, ((![v102] : Fin 1 → IVec S16 32) a x).toNat < S16384.size a := fun v102 k0_hw73 => k0_hw73

def k0_chk74 (v105 : IVec S16 32) : Prop :=
  (∀ a x, ((![v105] : Fin 1 → IVec S16 32) a x).toNat < S32000.size a)
theorem k0_idx74_inb : ∀ (v105 : IVec S16 32) (k0_hw74 : k0_chk74 v105), ∀ a x, ((![v105] : Fin 1 → IVec S16 32) a x).toNat < S32000.size a := fun v105 k0_hw74 => k0_hw74

def k0_chk75 (v108 : IVec S16 32) : Prop :=
  (∀ a x, ((![v108] : Fin 1 → IVec S16 32) a x).toNat < S32000.size a)
theorem k0_idx75_inb : ∀ (v108 : IVec S16 32) (k0_hw75 : k0_chk75 v108), ∀ a x, ((![v108] : Fin 1 → IVec S16 32) a x).toNat < S32000.size a := fun v108 k0_hw75 => k0_hw75

def k0_chk76 (v111 : IVec S16 32) : Prop :=
  (∀ a x, ((![v111] : Fin 1 → IVec S16 32) a x).toNat < S16384.size a)
theorem k0_idx76_inb : ∀ (v111 : IVec S16 32) (k0_hw76 : k0_chk76 v111), ∀ a x, ((![v111] : Fin 1 → IVec S16 32) a x).toNat < S16384.size a := fun v111 k0_hw76 => k0_hw76

def k0_chk77 (v114 : IVec S16 32) : Prop :=
  (∀ a x, ((![v114] : Fin 1 → IVec S16 32) a x).toNat < S32000.size a)
theorem k0_idx77_inb : ∀ (v114 : IVec S16 32) (k0_hw77 : k0_chk77 v114), ∀ a x, ((![v114] : Fin 1 → IVec S16 32) a x).toNat < S32000.size a := fun v114 k0_hw77 => k0_hw77

def k0_chk78 (v117 : IVec S16 32) : Prop :=
  (∀ a x, ((![v117] : Fin 1 → IVec S16 32) a x).toNat < S32000.size a)
theorem k0_idx78_inb : ∀ (v117 : IVec S16 32) (k0_hw78 : k0_chk78 v117), ∀ a x, ((![v117] : Fin 1 → IVec S16 32) a x).toNat < S32000.size a := fun v117 k0_hw78 => k0_hw78

def k0_chk79 (v120 : IVec S16 32) : Prop :=
  (∀ a x, ((![v120] : Fin 1 → IVec S16 32) a x).toNat < S16384.size a)
theorem k0_idx79_inb : ∀ (v120 : IVec S16 32) (k0_hw79 : k0_chk79 v120), ∀ a x, ((![v120] : Fin 1 → IVec S16 32) a x).toNat < S16384.size a := fun v120 k0_hw79 => k0_hw79

def k0_chk80 (v123 : IVec S16 32) : Prop :=
  (∀ a x, ((![v123] : Fin 1 → IVec S16 32) a x).toNat < S32000.size a)
theorem k0_idx80_inb : ∀ (v123 : IVec S16 32) (k0_hw80 : k0_chk80 v123), ∀ a x, ((![v123] : Fin 1 → IVec S16 32) a x).toNat < S32000.size a := fun v123 k0_hw80 => k0_hw80

def k0_chk81 (v126 : IVec S16 32) : Prop :=
  (∀ a x, ((![v126] : Fin 1 → IVec S16 32) a x).toNat < S32000.size a)
theorem k0_idx81_inb : ∀ (v126 : IVec S16 32) (k0_hw81 : k0_chk81 v126), ∀ a x, ((![v126] : Fin 1 → IVec S16 32) a x).toNat < S32000.size a := fun v126 k0_hw81 => k0_hw81

def k0_chk82 (v129 : IVec S16 32) : Prop :=
  (∀ a x, ((![v129] : Fin 1 → IVec S16 32) a x).toNat < S16384.size a)
theorem k0_idx82_inb : ∀ (v129 : IVec S16 32) (k0_hw82 : k0_chk82 v129), ∀ a x, ((![v129] : Fin 1 → IVec S16 32) a x).toNat < S16384.size a := fun v129 k0_hw82 => k0_hw82

def k0_chk83 (v132 : IVec S16 32) : Prop :=
  (∀ a x, ((![v132] : Fin 1 → IVec S16 32) a x).toNat < S32000.size a)
theorem k0_idx83_inb : ∀ (v132 : IVec S16 32) (k0_hw83 : k0_chk83 v132), ∀ a x, ((![v132] : Fin 1 → IVec S16 32) a x).toNat < S32000.size a := fun v132 k0_hw83 => k0_hw83

def k0_chk84 (v135 : IVec S16 32) : Prop :=
  (∀ a x, ((![v135] : Fin 1 → IVec S16 32) a x).toNat < S32000.size a)
theorem k0_idx84_inb : ∀ (v135 : IVec S16 32) (k0_hw84 : k0_chk84 v135), ∀ a x, ((![v135] : Fin 1 → IVec S16 32) a x).toNat < S32000.size a := fun v135 k0_hw84 => k0_hw84

def k0_chk85 (v138 : IVec S16 32) : Prop :=
  (∀ a x, ((![v138] : Fin 1 → IVec S16 32) a x).toNat < S16384.size a)
theorem k0_idx85_inb : ∀ (v138 : IVec S16 32) (k0_hw85 : k0_chk85 v138), ∀ a x, ((![v138] : Fin 1 → IVec S16 32) a x).toNat < S16384.size a := fun v138 k0_hw85 => k0_hw85

def k0_chk86 (v141 : IVec S16 32) : Prop :=
  (∀ a x, ((![v141] : Fin 1 → IVec S16 32) a x).toNat < S32000.size a)
theorem k0_idx86_inb : ∀ (v141 : IVec S16 32) (k0_hw86 : k0_chk86 v141), ∀ a x, ((![v141] : Fin 1 → IVec S16 32) a x).toNat < S32000.size a := fun v141 k0_hw86 => k0_hw86

def k0_chk87 (v144 : IVec S16 32) : Prop :=
  (∀ a x, ((![v144] : Fin 1 → IVec S16 32) a x).toNat < S32000.size a)
theorem k0_idx87_inb : ∀ (v144 : IVec S16 32) (k0_hw87 : k0_chk87 v144), ∀ a x, ((![v144] : Fin 1 → IVec S16 32) a x).toNat < S32000.size a := fun v144 k0_hw87 => k0_hw87

def k0_chk88 (v147 : IVec S16 32) : Prop :=
  (∀ a x, ((![v147] : Fin 1 → IVec S16 32) a x).toNat < S16384.size a)
theorem k0_idx88_inb : ∀ (v147 : IVec S16 32) (k0_hw88 : k0_chk88 v147), ∀ a x, ((![v147] : Fin 1 → IVec S16 32) a x).toNat < S16384.size a := fun v147 k0_hw88 => k0_hw88

def k0_chk89 (v150 : IVec S16 32) : Prop :=
  (∀ a x, ((![v150] : Fin 1 → IVec S16 32) a x).toNat < S32000.size a)
theorem k0_idx89_inb : ∀ (v150 : IVec S16 32) (k0_hw89 : k0_chk89 v150), ∀ a x, ((![v150] : Fin 1 → IVec S16 32) a x).toNat < S32000.size a := fun v150 k0_hw89 => k0_hw89

def k0_chk90 (v153 : IVec S16 32) : Prop :=
  (∀ a x, ((![v153] : Fin 1 → IVec S16 32) a x).toNat < S32000.size a)
theorem k0_idx90_inb : ∀ (v153 : IVec S16 32) (k0_hw90 : k0_chk90 v153), ∀ a x, ((![v153] : Fin 1 → IVec S16 32) a x).toNat < S32000.size a := fun v153 k0_hw90 => k0_hw90

def k0_chk91 (v156 : IVec S16 32) : Prop :=
  (∀ a x, ((![v156] : Fin 1 → IVec S16 32) a x).toNat < S16384.size a)
theorem k0_idx91_inb : ∀ (v156 : IVec S16 32) (k0_hw91 : k0_chk91 v156), ∀ a x, ((![v156] : Fin 1 → IVec S16 32) a x).toNat < S16384.size a := fun v156 k0_hw91 => k0_hw91

def k0_chk92 (v159 : IVec S16 32) : Prop :=
  (∀ a x, ((![v159] : Fin 1 → IVec S16 32) a x).toNat < S32000.size a)
theorem k0_idx92_inb : ∀ (v159 : IVec S16 32) (k0_hw92 : k0_chk92 v159), ∀ a x, ((![v159] : Fin 1 → IVec S16 32) a x).toNat < S32000.size a := fun v159 k0_hw92 => k0_hw92

def k0_chk93 (v162 : IVec S16 32) : Prop :=
  (∀ a x, ((![v162] : Fin 1 → IVec S16 32) a x).toNat < S32000.size a)
theorem k0_idx93_inb : ∀ (v162 : IVec S16 32) (k0_hw93 : k0_chk93 v162), ∀ a x, ((![v162] : Fin 1 → IVec S16 32) a x).toNat < S32000.size a := fun v162 k0_hw93 => k0_hw93

def k0_chk94 (v165 : IVec S16 32) : Prop :=
  (∀ a x, ((![v165] : Fin 1 → IVec S16 32) a x).toNat < S16384.size a)
theorem k0_idx94_inb : ∀ (v165 : IVec S16 32) (k0_hw94 : k0_chk94 v165), ∀ a x, ((![v165] : Fin 1 → IVec S16 32) a x).toNat < S16384.size a := fun v165 k0_hw94 => k0_hw94

def k0_chk95 (v168 : IVec S16 32) : Prop :=
  (∀ a x, ((![v168] : Fin 1 → IVec S16 32) a x).toNat < S32000.size a)
theorem k0_idx95_inb : ∀ (v168 : IVec S16 32) (k0_hw95 : k0_chk95 v168), ∀ a x, ((![v168] : Fin 1 → IVec S16 32) a x).toNat < S32000.size a := fun v168 k0_hw95 => k0_hw95

def k0_chk96 (v171 : IVec S16 32) : Prop :=
  (∀ a x, ((![v171] : Fin 1 → IVec S16 32) a x).toNat < S32000.size a)
theorem k0_idx96_inb : ∀ (v171 : IVec S16 32) (k0_hw96 : k0_chk96 v171), ∀ a x, ((![v171] : Fin 1 → IVec S16 32) a x).toNat < S32000.size a := fun v171 k0_hw96 => k0_hw96

def k0_chk97 (v174 : IVec S16 32) : Prop :=
  (∀ a x, ((![v174] : Fin 1 → IVec S16 32) a x).toNat < S16384.size a)
theorem k0_idx97_inb : ∀ (v174 : IVec S16 32) (k0_hw97 : k0_chk97 v174), ∀ a x, ((![v174] : Fin 1 → IVec S16 32) a x).toNat < S16384.size a := fun v174 k0_hw97 => k0_hw97

def k0_chk98 (v177 : IVec S16 32) : Prop :=
  (∀ a x, ((![v177] : Fin 1 → IVec S16 32) a x).toNat < S32000.size a)
theorem k0_idx98_inb : ∀ (v177 : IVec S16 32) (k0_hw98 : k0_chk98 v177), ∀ a x, ((![v177] : Fin 1 → IVec S16 32) a x).toNat < S32000.size a := fun v177 k0_hw98 => k0_hw98
@[reducible] def k0_t3_loop : Scf.Loop 32 :=
  let c0_i32_13 : BitVec 32 := 0#32
  let c125_i32_14 : BitVec 32 := 125#32
  let v14 : BitVec 32 := Scalar.addi c0_i32_13 c125_i32_14
  let c1_i32_15 : BitVec 32 := 1#32
  ⟨c0_i32_13, v14, c1_i32_15⟩

def k0_chk99 (v31 : IVec S16 32) : Prop :=
  (∀ a x, ((![v31] : Fin 1 → IVec S16 32) a x).toNat < S2000.size a)
theorem k0_idx99_inb : ∀ (v31 : IVec S16 32) (k0_hw99 : k0_chk99 v31), ∀ a x, ((![v31] : Fin 1 → IVec S16 32) a x).toNat < S2000.size a := fun v31 k0_hw99 => k0_hw99

def k0_chk100 (v36 : IVec S16 32) : Prop :=
  (∀ a x, ((![v36] : Fin 1 → IVec S16 32) a x).toNat < S32000.size a)
theorem k0_idx100_inb : ∀ (v36 : IVec S16 32) (k0_hw100 : k0_chk100 v36), ∀ a x, ((![v36] : Fin 1 → IVec S16 32) a x).toNat < S32000.size a := fun v36 k0_hw100 => k0_hw100

def k0_chk101 (v39 : IVec S16 32) : Prop :=
  (∀ a x, ((![v39] : Fin 1 → IVec S16 32) a x).toNat < S16384.size a)
theorem k0_idx101_inb : ∀ (v39 : IVec S16 32) (k0_hw101 : k0_chk101 v39), ∀ a x, ((![v39] : Fin 1 → IVec S16 32) a x).toNat < S16384.size a := fun v39 k0_hw101 => k0_hw101

def k0_chk102 (v42 : IVec S16 32) : Prop :=
  (∀ a x, ((![v42] : Fin 1 → IVec S16 32) a x).toNat < S32000.size a)
theorem k0_idx102_inb : ∀ (v42 : IVec S16 32) (k0_hw102 : k0_chk102 v42), ∀ a x, ((![v42] : Fin 1 → IVec S16 32) a x).toNat < S32000.size a := fun v42 k0_hw102 => k0_hw102

def k0_chk103 (v45 : IVec S16 32) : Prop :=
  (∀ a x, ((![v45] : Fin 1 → IVec S16 32) a x).toNat < S32000.size a)
theorem k0_idx103_inb : ∀ (v45 : IVec S16 32) (k0_hw103 : k0_chk103 v45), ∀ a x, ((![v45] : Fin 1 → IVec S16 32) a x).toNat < S32000.size a := fun v45 k0_hw103 => k0_hw103

def k0_chk104 (v48 : IVec S16 32) : Prop :=
  (∀ a x, ((![v48] : Fin 1 → IVec S16 32) a x).toNat < S16384.size a)
theorem k0_idx104_inb : ∀ (v48 : IVec S16 32) (k0_hw104 : k0_chk104 v48), ∀ a x, ((![v48] : Fin 1 → IVec S16 32) a x).toNat < S16384.size a := fun v48 k0_hw104 => k0_hw104

def k0_chk105 (v51 : IVec S16 32) : Prop :=
  (∀ a x, ((![v51] : Fin 1 → IVec S16 32) a x).toNat < S32000.size a)
theorem k0_idx105_inb : ∀ (v51 : IVec S16 32) (k0_hw105 : k0_chk105 v51), ∀ a x, ((![v51] : Fin 1 → IVec S16 32) a x).toNat < S32000.size a := fun v51 k0_hw105 => k0_hw105

def k0_chk106 (v54 : IVec S16 32) : Prop :=
  (∀ a x, ((![v54] : Fin 1 → IVec S16 32) a x).toNat < S32000.size a)
theorem k0_idx106_inb : ∀ (v54 : IVec S16 32) (k0_hw106 : k0_chk106 v54), ∀ a x, ((![v54] : Fin 1 → IVec S16 32) a x).toNat < S32000.size a := fun v54 k0_hw106 => k0_hw106

def k0_chk107 (v57 : IVec S16 32) : Prop :=
  (∀ a x, ((![v57] : Fin 1 → IVec S16 32) a x).toNat < S16384.size a)
theorem k0_idx107_inb : ∀ (v57 : IVec S16 32) (k0_hw107 : k0_chk107 v57), ∀ a x, ((![v57] : Fin 1 → IVec S16 32) a x).toNat < S16384.size a := fun v57 k0_hw107 => k0_hw107

def k0_chk108 (v60 : IVec S16 32) : Prop :=
  (∀ a x, ((![v60] : Fin 1 → IVec S16 32) a x).toNat < S32000.size a)
theorem k0_idx108_inb : ∀ (v60 : IVec S16 32) (k0_hw108 : k0_chk108 v60), ∀ a x, ((![v60] : Fin 1 → IVec S16 32) a x).toNat < S32000.size a := fun v60 k0_hw108 => k0_hw108

def k0_chk109 (v63 : IVec S16 32) : Prop :=
  (∀ a x, ((![v63] : Fin 1 → IVec S16 32) a x).toNat < S32000.size a)
theorem k0_idx109_inb : ∀ (v63 : IVec S16 32) (k0_hw109 : k0_chk109 v63), ∀ a x, ((![v63] : Fin 1 → IVec S16 32) a x).toNat < S32000.size a := fun v63 k0_hw109 => k0_hw109

def k0_chk110 (v66 : IVec S16 32) : Prop :=
  (∀ a x, ((![v66] : Fin 1 → IVec S16 32) a x).toNat < S16384.size a)
theorem k0_idx110_inb : ∀ (v66 : IVec S16 32) (k0_hw110 : k0_chk110 v66), ∀ a x, ((![v66] : Fin 1 → IVec S16 32) a x).toNat < S16384.size a := fun v66 k0_hw110 => k0_hw110

def k0_chk111 (v69 : IVec S16 32) : Prop :=
  (∀ a x, ((![v69] : Fin 1 → IVec S16 32) a x).toNat < S32000.size a)
theorem k0_idx111_inb : ∀ (v69 : IVec S16 32) (k0_hw111 : k0_chk111 v69), ∀ a x, ((![v69] : Fin 1 → IVec S16 32) a x).toNat < S32000.size a := fun v69 k0_hw111 => k0_hw111

def k0_chk112 (v72 : IVec S16 32) : Prop :=
  (∀ a x, ((![v72] : Fin 1 → IVec S16 32) a x).toNat < S32000.size a)
theorem k0_idx112_inb : ∀ (v72 : IVec S16 32) (k0_hw112 : k0_chk112 v72), ∀ a x, ((![v72] : Fin 1 → IVec S16 32) a x).toNat < S32000.size a := fun v72 k0_hw112 => k0_hw112

def k0_chk113 (v75 : IVec S16 32) : Prop :=
  (∀ a x, ((![v75] : Fin 1 → IVec S16 32) a x).toNat < S16384.size a)
theorem k0_idx113_inb : ∀ (v75 : IVec S16 32) (k0_hw113 : k0_chk113 v75), ∀ a x, ((![v75] : Fin 1 → IVec S16 32) a x).toNat < S16384.size a := fun v75 k0_hw113 => k0_hw113

def k0_chk114 (v78 : IVec S16 32) : Prop :=
  (∀ a x, ((![v78] : Fin 1 → IVec S16 32) a x).toNat < S32000.size a)
theorem k0_idx114_inb : ∀ (v78 : IVec S16 32) (k0_hw114 : k0_chk114 v78), ∀ a x, ((![v78] : Fin 1 → IVec S16 32) a x).toNat < S32000.size a := fun v78 k0_hw114 => k0_hw114

def k0_chk115 (v81 : IVec S16 32) : Prop :=
  (∀ a x, ((![v81] : Fin 1 → IVec S16 32) a x).toNat < S32000.size a)
theorem k0_idx115_inb : ∀ (v81 : IVec S16 32) (k0_hw115 : k0_chk115 v81), ∀ a x, ((![v81] : Fin 1 → IVec S16 32) a x).toNat < S32000.size a := fun v81 k0_hw115 => k0_hw115

def k0_chk116 (v84 : IVec S16 32) : Prop :=
  (∀ a x, ((![v84] : Fin 1 → IVec S16 32) a x).toNat < S16384.size a)
theorem k0_idx116_inb : ∀ (v84 : IVec S16 32) (k0_hw116 : k0_chk116 v84), ∀ a x, ((![v84] : Fin 1 → IVec S16 32) a x).toNat < S16384.size a := fun v84 k0_hw116 => k0_hw116

def k0_chk117 (v87 : IVec S16 32) : Prop :=
  (∀ a x, ((![v87] : Fin 1 → IVec S16 32) a x).toNat < S32000.size a)
theorem k0_idx117_inb : ∀ (v87 : IVec S16 32) (k0_hw117 : k0_chk117 v87), ∀ a x, ((![v87] : Fin 1 → IVec S16 32) a x).toNat < S32000.size a := fun v87 k0_hw117 => k0_hw117

def k0_chk118 (v90 : IVec S16 32) : Prop :=
  (∀ a x, ((![v90] : Fin 1 → IVec S16 32) a x).toNat < S32000.size a)
theorem k0_idx118_inb : ∀ (v90 : IVec S16 32) (k0_hw118 : k0_chk118 v90), ∀ a x, ((![v90] : Fin 1 → IVec S16 32) a x).toNat < S32000.size a := fun v90 k0_hw118 => k0_hw118

def k0_chk119 (v93 : IVec S16 32) : Prop :=
  (∀ a x, ((![v93] : Fin 1 → IVec S16 32) a x).toNat < S16384.size a)
theorem k0_idx119_inb : ∀ (v93 : IVec S16 32) (k0_hw119 : k0_chk119 v93), ∀ a x, ((![v93] : Fin 1 → IVec S16 32) a x).toNat < S16384.size a := fun v93 k0_hw119 => k0_hw119

def k0_chk120 (v96 : IVec S16 32) : Prop :=
  (∀ a x, ((![v96] : Fin 1 → IVec S16 32) a x).toNat < S32000.size a)
theorem k0_idx120_inb : ∀ (v96 : IVec S16 32) (k0_hw120 : k0_chk120 v96), ∀ a x, ((![v96] : Fin 1 → IVec S16 32) a x).toNat < S32000.size a := fun v96 k0_hw120 => k0_hw120

def k0_chk121 (v99 : IVec S16 32) : Prop :=
  (∀ a x, ((![v99] : Fin 1 → IVec S16 32) a x).toNat < S32000.size a)
theorem k0_idx121_inb : ∀ (v99 : IVec S16 32) (k0_hw121 : k0_chk121 v99), ∀ a x, ((![v99] : Fin 1 → IVec S16 32) a x).toNat < S32000.size a := fun v99 k0_hw121 => k0_hw121

def k0_chk122 (v102 : IVec S16 32) : Prop :=
  (∀ a x, ((![v102] : Fin 1 → IVec S16 32) a x).toNat < S16384.size a)
theorem k0_idx122_inb : ∀ (v102 : IVec S16 32) (k0_hw122 : k0_chk122 v102), ∀ a x, ((![v102] : Fin 1 → IVec S16 32) a x).toNat < S16384.size a := fun v102 k0_hw122 => k0_hw122

def k0_chk123 (v105 : IVec S16 32) : Prop :=
  (∀ a x, ((![v105] : Fin 1 → IVec S16 32) a x).toNat < S32000.size a)
theorem k0_idx123_inb : ∀ (v105 : IVec S16 32) (k0_hw123 : k0_chk123 v105), ∀ a x, ((![v105] : Fin 1 → IVec S16 32) a x).toNat < S32000.size a := fun v105 k0_hw123 => k0_hw123

def k0_chk124 (v108 : IVec S16 32) : Prop :=
  (∀ a x, ((![v108] : Fin 1 → IVec S16 32) a x).toNat < S32000.size a)
theorem k0_idx124_inb : ∀ (v108 : IVec S16 32) (k0_hw124 : k0_chk124 v108), ∀ a x, ((![v108] : Fin 1 → IVec S16 32) a x).toNat < S32000.size a := fun v108 k0_hw124 => k0_hw124

def k0_chk125 (v111 : IVec S16 32) : Prop :=
  (∀ a x, ((![v111] : Fin 1 → IVec S16 32) a x).toNat < S16384.size a)
theorem k0_idx125_inb : ∀ (v111 : IVec S16 32) (k0_hw125 : k0_chk125 v111), ∀ a x, ((![v111] : Fin 1 → IVec S16 32) a x).toNat < S16384.size a := fun v111 k0_hw125 => k0_hw125

def k0_chk126 (v114 : IVec S16 32) : Prop :=
  (∀ a x, ((![v114] : Fin 1 → IVec S16 32) a x).toNat < S32000.size a)
theorem k0_idx126_inb : ∀ (v114 : IVec S16 32) (k0_hw126 : k0_chk126 v114), ∀ a x, ((![v114] : Fin 1 → IVec S16 32) a x).toNat < S32000.size a := fun v114 k0_hw126 => k0_hw126

def k0_chk127 (v117 : IVec S16 32) : Prop :=
  (∀ a x, ((![v117] : Fin 1 → IVec S16 32) a x).toNat < S32000.size a)
theorem k0_idx127_inb : ∀ (v117 : IVec S16 32) (k0_hw127 : k0_chk127 v117), ∀ a x, ((![v117] : Fin 1 → IVec S16 32) a x).toNat < S32000.size a := fun v117 k0_hw127 => k0_hw127

def k0_chk128 (v120 : IVec S16 32) : Prop :=
  (∀ a x, ((![v120] : Fin 1 → IVec S16 32) a x).toNat < S16384.size a)
theorem k0_idx128_inb : ∀ (v120 : IVec S16 32) (k0_hw128 : k0_chk128 v120), ∀ a x, ((![v120] : Fin 1 → IVec S16 32) a x).toNat < S16384.size a := fun v120 k0_hw128 => k0_hw128

def k0_chk129 (v123 : IVec S16 32) : Prop :=
  (∀ a x, ((![v123] : Fin 1 → IVec S16 32) a x).toNat < S32000.size a)
theorem k0_idx129_inb : ∀ (v123 : IVec S16 32) (k0_hw129 : k0_chk129 v123), ∀ a x, ((![v123] : Fin 1 → IVec S16 32) a x).toNat < S32000.size a := fun v123 k0_hw129 => k0_hw129

def k0_chk130 (v126 : IVec S16 32) : Prop :=
  (∀ a x, ((![v126] : Fin 1 → IVec S16 32) a x).toNat < S32000.size a)
theorem k0_idx130_inb : ∀ (v126 : IVec S16 32) (k0_hw130 : k0_chk130 v126), ∀ a x, ((![v126] : Fin 1 → IVec S16 32) a x).toNat < S32000.size a := fun v126 k0_hw130 => k0_hw130

def k0_chk131 (v129 : IVec S16 32) : Prop :=
  (∀ a x, ((![v129] : Fin 1 → IVec S16 32) a x).toNat < S16384.size a)
theorem k0_idx131_inb : ∀ (v129 : IVec S16 32) (k0_hw131 : k0_chk131 v129), ∀ a x, ((![v129] : Fin 1 → IVec S16 32) a x).toNat < S16384.size a := fun v129 k0_hw131 => k0_hw131

def k0_chk132 (v132 : IVec S16 32) : Prop :=
  (∀ a x, ((![v132] : Fin 1 → IVec S16 32) a x).toNat < S32000.size a)
theorem k0_idx132_inb : ∀ (v132 : IVec S16 32) (k0_hw132 : k0_chk132 v132), ∀ a x, ((![v132] : Fin 1 → IVec S16 32) a x).toNat < S32000.size a := fun v132 k0_hw132 => k0_hw132

def k0_chk133 (v135 : IVec S16 32) : Prop :=
  (∀ a x, ((![v135] : Fin 1 → IVec S16 32) a x).toNat < S32000.size a)
theorem k0_idx133_inb : ∀ (v135 : IVec S16 32) (k0_hw133 : k0_chk133 v135), ∀ a x, ((![v135] : Fin 1 → IVec S16 32) a x).toNat < S32000.size a := fun v135 k0_hw133 => k0_hw133

def k0_chk134 (v138 : IVec S16 32) : Prop :=
  (∀ a x, ((![v138] : Fin 1 → IVec S16 32) a x).toNat < S16384.size a)
theorem k0_idx134_inb : ∀ (v138 : IVec S16 32) (k0_hw134 : k0_chk134 v138), ∀ a x, ((![v138] : Fin 1 → IVec S16 32) a x).toNat < S16384.size a := fun v138 k0_hw134 => k0_hw134

def k0_chk135 (v141 : IVec S16 32) : Prop :=
  (∀ a x, ((![v141] : Fin 1 → IVec S16 32) a x).toNat < S32000.size a)
theorem k0_idx135_inb : ∀ (v141 : IVec S16 32) (k0_hw135 : k0_chk135 v141), ∀ a x, ((![v141] : Fin 1 → IVec S16 32) a x).toNat < S32000.size a := fun v141 k0_hw135 => k0_hw135

def k0_chk136 (v144 : IVec S16 32) : Prop :=
  (∀ a x, ((![v144] : Fin 1 → IVec S16 32) a x).toNat < S32000.size a)
theorem k0_idx136_inb : ∀ (v144 : IVec S16 32) (k0_hw136 : k0_chk136 v144), ∀ a x, ((![v144] : Fin 1 → IVec S16 32) a x).toNat < S32000.size a := fun v144 k0_hw136 => k0_hw136

def k0_chk137 (v147 : IVec S16 32) : Prop :=
  (∀ a x, ((![v147] : Fin 1 → IVec S16 32) a x).toNat < S16384.size a)
theorem k0_idx137_inb : ∀ (v147 : IVec S16 32) (k0_hw137 : k0_chk137 v147), ∀ a x, ((![v147] : Fin 1 → IVec S16 32) a x).toNat < S16384.size a := fun v147 k0_hw137 => k0_hw137

def k0_chk138 (v150 : IVec S16 32) : Prop :=
  (∀ a x, ((![v150] : Fin 1 → IVec S16 32) a x).toNat < S32000.size a)
theorem k0_idx138_inb : ∀ (v150 : IVec S16 32) (k0_hw138 : k0_chk138 v150), ∀ a x, ((![v150] : Fin 1 → IVec S16 32) a x).toNat < S32000.size a := fun v150 k0_hw138 => k0_hw138

def k0_chk139 (v153 : IVec S16 32) : Prop :=
  (∀ a x, ((![v153] : Fin 1 → IVec S16 32) a x).toNat < S32000.size a)
theorem k0_idx139_inb : ∀ (v153 : IVec S16 32) (k0_hw139 : k0_chk139 v153), ∀ a x, ((![v153] : Fin 1 → IVec S16 32) a x).toNat < S32000.size a := fun v153 k0_hw139 => k0_hw139

def k0_chk140 (v156 : IVec S16 32) : Prop :=
  (∀ a x, ((![v156] : Fin 1 → IVec S16 32) a x).toNat < S16384.size a)
theorem k0_idx140_inb : ∀ (v156 : IVec S16 32) (k0_hw140 : k0_chk140 v156), ∀ a x, ((![v156] : Fin 1 → IVec S16 32) a x).toNat < S16384.size a := fun v156 k0_hw140 => k0_hw140

def k0_chk141 (v159 : IVec S16 32) : Prop :=
  (∀ a x, ((![v159] : Fin 1 → IVec S16 32) a x).toNat < S32000.size a)
theorem k0_idx141_inb : ∀ (v159 : IVec S16 32) (k0_hw141 : k0_chk141 v159), ∀ a x, ((![v159] : Fin 1 → IVec S16 32) a x).toNat < S32000.size a := fun v159 k0_hw141 => k0_hw141

def k0_chk142 (v162 : IVec S16 32) : Prop :=
  (∀ a x, ((![v162] : Fin 1 → IVec S16 32) a x).toNat < S32000.size a)
theorem k0_idx142_inb : ∀ (v162 : IVec S16 32) (k0_hw142 : k0_chk142 v162), ∀ a x, ((![v162] : Fin 1 → IVec S16 32) a x).toNat < S32000.size a := fun v162 k0_hw142 => k0_hw142

def k0_chk143 (v165 : IVec S16 32) : Prop :=
  (∀ a x, ((![v165] : Fin 1 → IVec S16 32) a x).toNat < S16384.size a)
theorem k0_idx143_inb : ∀ (v165 : IVec S16 32) (k0_hw143 : k0_chk143 v165), ∀ a x, ((![v165] : Fin 1 → IVec S16 32) a x).toNat < S16384.size a := fun v165 k0_hw143 => k0_hw143

def k0_chk144 (v168 : IVec S16 32) : Prop :=
  (∀ a x, ((![v168] : Fin 1 → IVec S16 32) a x).toNat < S32000.size a)
theorem k0_idx144_inb : ∀ (v168 : IVec S16 32) (k0_hw144 : k0_chk144 v168), ∀ a x, ((![v168] : Fin 1 → IVec S16 32) a x).toNat < S32000.size a := fun v168 k0_hw144 => k0_hw144

def k0_chk145 (v171 : IVec S16 32) : Prop :=
  (∀ a x, ((![v171] : Fin 1 → IVec S16 32) a x).toNat < S32000.size a)
theorem k0_idx145_inb : ∀ (v171 : IVec S16 32) (k0_hw145 : k0_chk145 v171), ∀ a x, ((![v171] : Fin 1 → IVec S16 32) a x).toNat < S32000.size a := fun v171 k0_hw145 => k0_hw145

def k0_chk146 (v174 : IVec S16 32) : Prop :=
  (∀ a x, ((![v174] : Fin 1 → IVec S16 32) a x).toNat < S16384.size a)
theorem k0_idx146_inb : ∀ (v174 : IVec S16 32) (k0_hw146 : k0_chk146 v174), ∀ a x, ((![v174] : Fin 1 → IVec S16 32) a x).toNat < S16384.size a := fun v174 k0_hw146 => k0_hw146

def k0_chk147 (v177 : IVec S16 32) : Prop :=
  (∀ a x, ((![v177] : Fin 1 → IVec S16 32) a x).toNat < S32000.size a)
theorem k0_idx147_inb : ∀ (v177 : IVec S16 32) (k0_hw147 : k0_chk147 v177), ∀ a x, ((![v177] : Fin 1 → IVec S16 32) a x).toNat < S32000.size a := fun v177 k0_hw147 => k0_hw147
@[reducible] def k0_t4_loop : Scf.Loop 32 :=
  let c0_i32_20 : BitVec 32 := 0#32
  let c125_i32_21 : BitVec 32 := 125#32
  let v18 : BitVec 32 := Scalar.addi c0_i32_20 c125_i32_21
  let c1_i32_22 : BitVec 32 := 1#32
  ⟨c0_i32_20, v18, c1_i32_22⟩

def k0_chk148 (v31 : IVec S16 32) : Prop :=
  (∀ a x, ((![v31] : Fin 1 → IVec S16 32) a x).toNat < S2000.size a)
theorem k0_idx148_inb : ∀ (v31 : IVec S16 32) (k0_hw148 : k0_chk148 v31), ∀ a x, ((![v31] : Fin 1 → IVec S16 32) a x).toNat < S2000.size a := fun v31 k0_hw148 => k0_hw148

def k0_chk149 (v36 : IVec S16 32) : Prop :=
  (∀ a x, ((![v36] : Fin 1 → IVec S16 32) a x).toNat < S32000.size a)
theorem k0_idx149_inb : ∀ (v36 : IVec S16 32) (k0_hw149 : k0_chk149 v36), ∀ a x, ((![v36] : Fin 1 → IVec S16 32) a x).toNat < S32000.size a := fun v36 k0_hw149 => k0_hw149

def k0_chk150 (v39 : IVec S16 32) : Prop :=
  (∀ a x, ((![v39] : Fin 1 → IVec S16 32) a x).toNat < S16384.size a)
theorem k0_idx150_inb : ∀ (v39 : IVec S16 32) (k0_hw150 : k0_chk150 v39), ∀ a x, ((![v39] : Fin 1 → IVec S16 32) a x).toNat < S16384.size a := fun v39 k0_hw150 => k0_hw150

def k0_chk151 (v42 : IVec S16 32) : Prop :=
  (∀ a x, ((![v42] : Fin 1 → IVec S16 32) a x).toNat < S32000.size a)
theorem k0_idx151_inb : ∀ (v42 : IVec S16 32) (k0_hw151 : k0_chk151 v42), ∀ a x, ((![v42] : Fin 1 → IVec S16 32) a x).toNat < S32000.size a := fun v42 k0_hw151 => k0_hw151

def k0_chk152 (v45 : IVec S16 32) : Prop :=
  (∀ a x, ((![v45] : Fin 1 → IVec S16 32) a x).toNat < S32000.size a)
theorem k0_idx152_inb : ∀ (v45 : IVec S16 32) (k0_hw152 : k0_chk152 v45), ∀ a x, ((![v45] : Fin 1 → IVec S16 32) a x).toNat < S32000.size a := fun v45 k0_hw152 => k0_hw152

def k0_chk153 (v48 : IVec S16 32) : Prop :=
  (∀ a x, ((![v48] : Fin 1 → IVec S16 32) a x).toNat < S16384.size a)
theorem k0_idx153_inb : ∀ (v48 : IVec S16 32) (k0_hw153 : k0_chk153 v48), ∀ a x, ((![v48] : Fin 1 → IVec S16 32) a x).toNat < S16384.size a := fun v48 k0_hw153 => k0_hw153

def k0_chk154 (v51 : IVec S16 32) : Prop :=
  (∀ a x, ((![v51] : Fin 1 → IVec S16 32) a x).toNat < S32000.size a)
theorem k0_idx154_inb : ∀ (v51 : IVec S16 32) (k0_hw154 : k0_chk154 v51), ∀ a x, ((![v51] : Fin 1 → IVec S16 32) a x).toNat < S32000.size a := fun v51 k0_hw154 => k0_hw154

def k0_chk155 (v54 : IVec S16 32) : Prop :=
  (∀ a x, ((![v54] : Fin 1 → IVec S16 32) a x).toNat < S32000.size a)
theorem k0_idx155_inb : ∀ (v54 : IVec S16 32) (k0_hw155 : k0_chk155 v54), ∀ a x, ((![v54] : Fin 1 → IVec S16 32) a x).toNat < S32000.size a := fun v54 k0_hw155 => k0_hw155

def k0_chk156 (v57 : IVec S16 32) : Prop :=
  (∀ a x, ((![v57] : Fin 1 → IVec S16 32) a x).toNat < S16384.size a)
theorem k0_idx156_inb : ∀ (v57 : IVec S16 32) (k0_hw156 : k0_chk156 v57), ∀ a x, ((![v57] : Fin 1 → IVec S16 32) a x).toNat < S16384.size a := fun v57 k0_hw156 => k0_hw156

def k0_chk157 (v60 : IVec S16 32) : Prop :=
  (∀ a x, ((![v60] : Fin 1 → IVec S16 32) a x).toNat < S32000.size a)
theorem k0_idx157_inb : ∀ (v60 : IVec S16 32) (k0_hw157 : k0_chk157 v60), ∀ a x, ((![v60] : Fin 1 → IVec S16 32) a x).toNat < S32000.size a := fun v60 k0_hw157 => k0_hw157

def k0_chk158 (v63 : IVec S16 32) : Prop :=
  (∀ a x, ((![v63] : Fin 1 → IVec S16 32) a x).toNat < S32000.size a)
theorem k0_idx158_inb : ∀ (v63 : IVec S16 32) (k0_hw158 : k0_chk158 v63), ∀ a x, ((![v63] : Fin 1 → IVec S16 32) a x).toNat < S32000.size a := fun v63 k0_hw158 => k0_hw158

def k0_chk159 (v66 : IVec S16 32) : Prop :=
  (∀ a x, ((![v66] : Fin 1 → IVec S16 32) a x).toNat < S16384.size a)
theorem k0_idx159_inb : ∀ (v66 : IVec S16 32) (k0_hw159 : k0_chk159 v66), ∀ a x, ((![v66] : Fin 1 → IVec S16 32) a x).toNat < S16384.size a := fun v66 k0_hw159 => k0_hw159

def k0_chk160 (v69 : IVec S16 32) : Prop :=
  (∀ a x, ((![v69] : Fin 1 → IVec S16 32) a x).toNat < S32000.size a)
theorem k0_idx160_inb : ∀ (v69 : IVec S16 32) (k0_hw160 : k0_chk160 v69), ∀ a x, ((![v69] : Fin 1 → IVec S16 32) a x).toNat < S32000.size a := fun v69 k0_hw160 => k0_hw160

def k0_chk161 (v72 : IVec S16 32) : Prop :=
  (∀ a x, ((![v72] : Fin 1 → IVec S16 32) a x).toNat < S32000.size a)
theorem k0_idx161_inb : ∀ (v72 : IVec S16 32) (k0_hw161 : k0_chk161 v72), ∀ a x, ((![v72] : Fin 1 → IVec S16 32) a x).toNat < S32000.size a := fun v72 k0_hw161 => k0_hw161

def k0_chk162 (v75 : IVec S16 32) : Prop :=
  (∀ a x, ((![v75] : Fin 1 → IVec S16 32) a x).toNat < S16384.size a)
theorem k0_idx162_inb : ∀ (v75 : IVec S16 32) (k0_hw162 : k0_chk162 v75), ∀ a x, ((![v75] : Fin 1 → IVec S16 32) a x).toNat < S16384.size a := fun v75 k0_hw162 => k0_hw162

def k0_chk163 (v78 : IVec S16 32) : Prop :=
  (∀ a x, ((![v78] : Fin 1 → IVec S16 32) a x).toNat < S32000.size a)
theorem k0_idx163_inb : ∀ (v78 : IVec S16 32) (k0_hw163 : k0_chk163 v78), ∀ a x, ((![v78] : Fin 1 → IVec S16 32) a x).toNat < S32000.size a := fun v78 k0_hw163 => k0_hw163

def k0_chk164 (v81 : IVec S16 32) : Prop :=
  (∀ a x, ((![v81] : Fin 1 → IVec S16 32) a x).toNat < S32000.size a)
theorem k0_idx164_inb : ∀ (v81 : IVec S16 32) (k0_hw164 : k0_chk164 v81), ∀ a x, ((![v81] : Fin 1 → IVec S16 32) a x).toNat < S32000.size a := fun v81 k0_hw164 => k0_hw164

def k0_chk165 (v84 : IVec S16 32) : Prop :=
  (∀ a x, ((![v84] : Fin 1 → IVec S16 32) a x).toNat < S16384.size a)
theorem k0_idx165_inb : ∀ (v84 : IVec S16 32) (k0_hw165 : k0_chk165 v84), ∀ a x, ((![v84] : Fin 1 → IVec S16 32) a x).toNat < S16384.size a := fun v84 k0_hw165 => k0_hw165

def k0_chk166 (v87 : IVec S16 32) : Prop :=
  (∀ a x, ((![v87] : Fin 1 → IVec S16 32) a x).toNat < S32000.size a)
theorem k0_idx166_inb : ∀ (v87 : IVec S16 32) (k0_hw166 : k0_chk166 v87), ∀ a x, ((![v87] : Fin 1 → IVec S16 32) a x).toNat < S32000.size a := fun v87 k0_hw166 => k0_hw166

def k0_chk167 (v90 : IVec S16 32) : Prop :=
  (∀ a x, ((![v90] : Fin 1 → IVec S16 32) a x).toNat < S32000.size a)
theorem k0_idx167_inb : ∀ (v90 : IVec S16 32) (k0_hw167 : k0_chk167 v90), ∀ a x, ((![v90] : Fin 1 → IVec S16 32) a x).toNat < S32000.size a := fun v90 k0_hw167 => k0_hw167

def k0_chk168 (v93 : IVec S16 32) : Prop :=
  (∀ a x, ((![v93] : Fin 1 → IVec S16 32) a x).toNat < S16384.size a)
theorem k0_idx168_inb : ∀ (v93 : IVec S16 32) (k0_hw168 : k0_chk168 v93), ∀ a x, ((![v93] : Fin 1 → IVec S16 32) a x).toNat < S16384.size a := fun v93 k0_hw168 => k0_hw168

def k0_chk169 (v96 : IVec S16 32) : Prop :=
  (∀ a x, ((![v96] : Fin 1 → IVec S16 32) a x).toNat < S32000.size a)
theorem k0_idx169_inb : ∀ (v96 : IVec S16 32) (k0_hw169 : k0_chk169 v96), ∀ a x, ((![v96] : Fin 1 → IVec S16 32) a x).toNat < S32000.size a := fun v96 k0_hw169 => k0_hw169

def k0_chk170 (v99 : IVec S16 32) : Prop :=
  (∀ a x, ((![v99] : Fin 1 → IVec S16 32) a x).toNat < S32000.size a)
theorem k0_idx170_inb : ∀ (v99 : IVec S16 32) (k0_hw170 : k0_chk170 v99), ∀ a x, ((![v99] : Fin 1 → IVec S16 32) a x).toNat < S32000.size a := fun v99 k0_hw170 => k0_hw170

def k0_chk171 (v102 : IVec S16 32) : Prop :=
  (∀ a x, ((![v102] : Fin 1 → IVec S16 32) a x).toNat < S16384.size a)
theorem k0_idx171_inb : ∀ (v102 : IVec S16 32) (k0_hw171 : k0_chk171 v102), ∀ a x, ((![v102] : Fin 1 → IVec S16 32) a x).toNat < S16384.size a := fun v102 k0_hw171 => k0_hw171

def k0_chk172 (v105 : IVec S16 32) : Prop :=
  (∀ a x, ((![v105] : Fin 1 → IVec S16 32) a x).toNat < S32000.size a)
theorem k0_idx172_inb : ∀ (v105 : IVec S16 32) (k0_hw172 : k0_chk172 v105), ∀ a x, ((![v105] : Fin 1 → IVec S16 32) a x).toNat < S32000.size a := fun v105 k0_hw172 => k0_hw172

def k0_chk173 (v108 : IVec S16 32) : Prop :=
  (∀ a x, ((![v108] : Fin 1 → IVec S16 32) a x).toNat < S32000.size a)
theorem k0_idx173_inb : ∀ (v108 : IVec S16 32) (k0_hw173 : k0_chk173 v108), ∀ a x, ((![v108] : Fin 1 → IVec S16 32) a x).toNat < S32000.size a := fun v108 k0_hw173 => k0_hw173

def k0_chk174 (v111 : IVec S16 32) : Prop :=
  (∀ a x, ((![v111] : Fin 1 → IVec S16 32) a x).toNat < S16384.size a)
theorem k0_idx174_inb : ∀ (v111 : IVec S16 32) (k0_hw174 : k0_chk174 v111), ∀ a x, ((![v111] : Fin 1 → IVec S16 32) a x).toNat < S16384.size a := fun v111 k0_hw174 => k0_hw174

def k0_chk175 (v114 : IVec S16 32) : Prop :=
  (∀ a x, ((![v114] : Fin 1 → IVec S16 32) a x).toNat < S32000.size a)
theorem k0_idx175_inb : ∀ (v114 : IVec S16 32) (k0_hw175 : k0_chk175 v114), ∀ a x, ((![v114] : Fin 1 → IVec S16 32) a x).toNat < S32000.size a := fun v114 k0_hw175 => k0_hw175

def k0_chk176 (v117 : IVec S16 32) : Prop :=
  (∀ a x, ((![v117] : Fin 1 → IVec S16 32) a x).toNat < S32000.size a)
theorem k0_idx176_inb : ∀ (v117 : IVec S16 32) (k0_hw176 : k0_chk176 v117), ∀ a x, ((![v117] : Fin 1 → IVec S16 32) a x).toNat < S32000.size a := fun v117 k0_hw176 => k0_hw176

def k0_chk177 (v120 : IVec S16 32) : Prop :=
  (∀ a x, ((![v120] : Fin 1 → IVec S16 32) a x).toNat < S16384.size a)
theorem k0_idx177_inb : ∀ (v120 : IVec S16 32) (k0_hw177 : k0_chk177 v120), ∀ a x, ((![v120] : Fin 1 → IVec S16 32) a x).toNat < S16384.size a := fun v120 k0_hw177 => k0_hw177

def k0_chk178 (v123 : IVec S16 32) : Prop :=
  (∀ a x, ((![v123] : Fin 1 → IVec S16 32) a x).toNat < S32000.size a)
theorem k0_idx178_inb : ∀ (v123 : IVec S16 32) (k0_hw178 : k0_chk178 v123), ∀ a x, ((![v123] : Fin 1 → IVec S16 32) a x).toNat < S32000.size a := fun v123 k0_hw178 => k0_hw178

def k0_chk179 (v126 : IVec S16 32) : Prop :=
  (∀ a x, ((![v126] : Fin 1 → IVec S16 32) a x).toNat < S32000.size a)
theorem k0_idx179_inb : ∀ (v126 : IVec S16 32) (k0_hw179 : k0_chk179 v126), ∀ a x, ((![v126] : Fin 1 → IVec S16 32) a x).toNat < S32000.size a := fun v126 k0_hw179 => k0_hw179

def k0_chk180 (v129 : IVec S16 32) : Prop :=
  (∀ a x, ((![v129] : Fin 1 → IVec S16 32) a x).toNat < S16384.size a)
theorem k0_idx180_inb : ∀ (v129 : IVec S16 32) (k0_hw180 : k0_chk180 v129), ∀ a x, ((![v129] : Fin 1 → IVec S16 32) a x).toNat < S16384.size a := fun v129 k0_hw180 => k0_hw180

def k0_chk181 (v132 : IVec S16 32) : Prop :=
  (∀ a x, ((![v132] : Fin 1 → IVec S16 32) a x).toNat < S32000.size a)
theorem k0_idx181_inb : ∀ (v132 : IVec S16 32) (k0_hw181 : k0_chk181 v132), ∀ a x, ((![v132] : Fin 1 → IVec S16 32) a x).toNat < S32000.size a := fun v132 k0_hw181 => k0_hw181

def k0_chk182 (v135 : IVec S16 32) : Prop :=
  (∀ a x, ((![v135] : Fin 1 → IVec S16 32) a x).toNat < S32000.size a)
theorem k0_idx182_inb : ∀ (v135 : IVec S16 32) (k0_hw182 : k0_chk182 v135), ∀ a x, ((![v135] : Fin 1 → IVec S16 32) a x).toNat < S32000.size a := fun v135 k0_hw182 => k0_hw182

def k0_chk183 (v138 : IVec S16 32) : Prop :=
  (∀ a x, ((![v138] : Fin 1 → IVec S16 32) a x).toNat < S16384.size a)
theorem k0_idx183_inb : ∀ (v138 : IVec S16 32) (k0_hw183 : k0_chk183 v138), ∀ a x, ((![v138] : Fin 1 → IVec S16 32) a x).toNat < S16384.size a := fun v138 k0_hw183 => k0_hw183

def k0_chk184 (v141 : IVec S16 32) : Prop :=
  (∀ a x, ((![v141] : Fin 1 → IVec S16 32) a x).toNat < S32000.size a)
theorem k0_idx184_inb : ∀ (v141 : IVec S16 32) (k0_hw184 : k0_chk184 v141), ∀ a x, ((![v141] : Fin 1 → IVec S16 32) a x).toNat < S32000.size a := fun v141 k0_hw184 => k0_hw184

def k0_chk185 (v144 : IVec S16 32) : Prop :=
  (∀ a x, ((![v144] : Fin 1 → IVec S16 32) a x).toNat < S32000.size a)
theorem k0_idx185_inb : ∀ (v144 : IVec S16 32) (k0_hw185 : k0_chk185 v144), ∀ a x, ((![v144] : Fin 1 → IVec S16 32) a x).toNat < S32000.size a := fun v144 k0_hw185 => k0_hw185

def k0_chk186 (v147 : IVec S16 32) : Prop :=
  (∀ a x, ((![v147] : Fin 1 → IVec S16 32) a x).toNat < S16384.size a)
theorem k0_idx186_inb : ∀ (v147 : IVec S16 32) (k0_hw186 : k0_chk186 v147), ∀ a x, ((![v147] : Fin 1 → IVec S16 32) a x).toNat < S16384.size a := fun v147 k0_hw186 => k0_hw186

def k0_chk187 (v150 : IVec S16 32) : Prop :=
  (∀ a x, ((![v150] : Fin 1 → IVec S16 32) a x).toNat < S32000.size a)
theorem k0_idx187_inb : ∀ (v150 : IVec S16 32) (k0_hw187 : k0_chk187 v150), ∀ a x, ((![v150] : Fin 1 → IVec S16 32) a x).toNat < S32000.size a := fun v150 k0_hw187 => k0_hw187

def k0_chk188 (v153 : IVec S16 32) : Prop :=
  (∀ a x, ((![v153] : Fin 1 → IVec S16 32) a x).toNat < S32000.size a)
theorem k0_idx188_inb : ∀ (v153 : IVec S16 32) (k0_hw188 : k0_chk188 v153), ∀ a x, ((![v153] : Fin 1 → IVec S16 32) a x).toNat < S32000.size a := fun v153 k0_hw188 => k0_hw188

def k0_chk189 (v156 : IVec S16 32) : Prop :=
  (∀ a x, ((![v156] : Fin 1 → IVec S16 32) a x).toNat < S16384.size a)
theorem k0_idx189_inb : ∀ (v156 : IVec S16 32) (k0_hw189 : k0_chk189 v156), ∀ a x, ((![v156] : Fin 1 → IVec S16 32) a x).toNat < S16384.size a := fun v156 k0_hw189 => k0_hw189

def k0_chk190 (v159 : IVec S16 32) : Prop :=
  (∀ a x, ((![v159] : Fin 1 → IVec S16 32) a x).toNat < S32000.size a)
theorem k0_idx190_inb : ∀ (v159 : IVec S16 32) (k0_hw190 : k0_chk190 v159), ∀ a x, ((![v159] : Fin 1 → IVec S16 32) a x).toNat < S32000.size a := fun v159 k0_hw190 => k0_hw190

def k0_chk191 (v162 : IVec S16 32) : Prop :=
  (∀ a x, ((![v162] : Fin 1 → IVec S16 32) a x).toNat < S32000.size a)
theorem k0_idx191_inb : ∀ (v162 : IVec S16 32) (k0_hw191 : k0_chk191 v162), ∀ a x, ((![v162] : Fin 1 → IVec S16 32) a x).toNat < S32000.size a := fun v162 k0_hw191 => k0_hw191

def k0_chk192 (v165 : IVec S16 32) : Prop :=
  (∀ a x, ((![v165] : Fin 1 → IVec S16 32) a x).toNat < S16384.size a)
theorem k0_idx192_inb : ∀ (v165 : IVec S16 32) (k0_hw192 : k0_chk192 v165), ∀ a x, ((![v165] : Fin 1 → IVec S16 32) a x).toNat < S16384.size a := fun v165 k0_hw192 => k0_hw192

def k0_chk193 (v168 : IVec S16 32) : Prop :=
  (∀ a x, ((![v168] : Fin 1 → IVec S16 32) a x).toNat < S32000.size a)
theorem k0_idx193_inb : ∀ (v168 : IVec S16 32) (k0_hw193 : k0_chk193 v168), ∀ a x, ((![v168] : Fin 1 → IVec S16 32) a x).toNat < S32000.size a := fun v168 k0_hw193 => k0_hw193

def k0_chk194 (v171 : IVec S16 32) : Prop :=
  (∀ a x, ((![v171] : Fin 1 → IVec S16 32) a x).toNat < S32000.size a)
theorem k0_idx194_inb : ∀ (v171 : IVec S16 32) (k0_hw194 : k0_chk194 v171), ∀ a x, ((![v171] : Fin 1 → IVec S16 32) a x).toNat < S32000.size a := fun v171 k0_hw194 => k0_hw194

def k0_chk195 (v174 : IVec S16 32) : Prop :=
  (∀ a x, ((![v174] : Fin 1 → IVec S16 32) a x).toNat < S16384.size a)
theorem k0_idx195_inb : ∀ (v174 : IVec S16 32) (k0_hw195 : k0_chk195 v174), ∀ a x, ((![v174] : Fin 1 → IVec S16 32) a x).toNat < S16384.size a := fun v174 k0_hw195 => k0_hw195

def k0_chk196 (v177 : IVec S16 32) : Prop :=
  (∀ a x, ((![v177] : Fin 1 → IVec S16 32) a x).toNat < S32000.size a)
theorem k0_idx196_inb : ∀ (v177 : IVec S16 32) (k0_hw196 : k0_chk196 v177), ∀ a x, ((![v177] : Fin 1 → IVec S16 32) a x).toNat < S32000.size a := fun v177 k0_hw196 => k0_hw196
@[reducible] def k0_t5_loop : Scf.Loop 32 :=
  let c0_i32_27 : BitVec 32 := 0#32
  let c125_i32_28 : BitVec 32 := 125#32
  let v22 : BitVec 32 := Scalar.addi c0_i32_27 c125_i32_28
  let c1_i32_29 : BitVec 32 := 1#32
  ⟨c0_i32_27, v22, c1_i32_29⟩

def k0_chk197 (v31 : IVec S16 32) : Prop :=
  (∀ a x, ((![v31] : Fin 1 → IVec S16 32) a x).toNat < S2000.size a)
theorem k0_idx197_inb : ∀ (v31 : IVec S16 32) (k0_hw197 : k0_chk197 v31), ∀ a x, ((![v31] : Fin 1 → IVec S16 32) a x).toNat < S2000.size a := fun v31 k0_hw197 => k0_hw197

def k0_chk198 (v36 : IVec S16 32) : Prop :=
  (∀ a x, ((![v36] : Fin 1 → IVec S16 32) a x).toNat < S32000.size a)
theorem k0_idx198_inb : ∀ (v36 : IVec S16 32) (k0_hw198 : k0_chk198 v36), ∀ a x, ((![v36] : Fin 1 → IVec S16 32) a x).toNat < S32000.size a := fun v36 k0_hw198 => k0_hw198

def k0_chk199 (v39 : IVec S16 32) : Prop :=
  (∀ a x, ((![v39] : Fin 1 → IVec S16 32) a x).toNat < S16384.size a)
theorem k0_idx199_inb : ∀ (v39 : IVec S16 32) (k0_hw199 : k0_chk199 v39), ∀ a x, ((![v39] : Fin 1 → IVec S16 32) a x).toNat < S16384.size a := fun v39 k0_hw199 => k0_hw199

def k0_chk200 (v42 : IVec S16 32) : Prop :=
  (∀ a x, ((![v42] : Fin 1 → IVec S16 32) a x).toNat < S32000.size a)
theorem k0_idx200_inb : ∀ (v42 : IVec S16 32) (k0_hw200 : k0_chk200 v42), ∀ a x, ((![v42] : Fin 1 → IVec S16 32) a x).toNat < S32000.size a := fun v42 k0_hw200 => k0_hw200

def k0_chk201 (v45 : IVec S16 32) : Prop :=
  (∀ a x, ((![v45] : Fin 1 → IVec S16 32) a x).toNat < S32000.size a)
theorem k0_idx201_inb : ∀ (v45 : IVec S16 32) (k0_hw201 : k0_chk201 v45), ∀ a x, ((![v45] : Fin 1 → IVec S16 32) a x).toNat < S32000.size a := fun v45 k0_hw201 => k0_hw201

def k0_chk202 (v48 : IVec S16 32) : Prop :=
  (∀ a x, ((![v48] : Fin 1 → IVec S16 32) a x).toNat < S16384.size a)
theorem k0_idx202_inb : ∀ (v48 : IVec S16 32) (k0_hw202 : k0_chk202 v48), ∀ a x, ((![v48] : Fin 1 → IVec S16 32) a x).toNat < S16384.size a := fun v48 k0_hw202 => k0_hw202

def k0_chk203 (v51 : IVec S16 32) : Prop :=
  (∀ a x, ((![v51] : Fin 1 → IVec S16 32) a x).toNat < S32000.size a)
theorem k0_idx203_inb : ∀ (v51 : IVec S16 32) (k0_hw203 : k0_chk203 v51), ∀ a x, ((![v51] : Fin 1 → IVec S16 32) a x).toNat < S32000.size a := fun v51 k0_hw203 => k0_hw203

def k0_chk204 (v54 : IVec S16 32) : Prop :=
  (∀ a x, ((![v54] : Fin 1 → IVec S16 32) a x).toNat < S32000.size a)
theorem k0_idx204_inb : ∀ (v54 : IVec S16 32) (k0_hw204 : k0_chk204 v54), ∀ a x, ((![v54] : Fin 1 → IVec S16 32) a x).toNat < S32000.size a := fun v54 k0_hw204 => k0_hw204

def k0_chk205 (v57 : IVec S16 32) : Prop :=
  (∀ a x, ((![v57] : Fin 1 → IVec S16 32) a x).toNat < S16384.size a)
theorem k0_idx205_inb : ∀ (v57 : IVec S16 32) (k0_hw205 : k0_chk205 v57), ∀ a x, ((![v57] : Fin 1 → IVec S16 32) a x).toNat < S16384.size a := fun v57 k0_hw205 => k0_hw205

def k0_chk206 (v60 : IVec S16 32) : Prop :=
  (∀ a x, ((![v60] : Fin 1 → IVec S16 32) a x).toNat < S32000.size a)
theorem k0_idx206_inb : ∀ (v60 : IVec S16 32) (k0_hw206 : k0_chk206 v60), ∀ a x, ((![v60] : Fin 1 → IVec S16 32) a x).toNat < S32000.size a := fun v60 k0_hw206 => k0_hw206

def k0_chk207 (v63 : IVec S16 32) : Prop :=
  (∀ a x, ((![v63] : Fin 1 → IVec S16 32) a x).toNat < S32000.size a)
theorem k0_idx207_inb : ∀ (v63 : IVec S16 32) (k0_hw207 : k0_chk207 v63), ∀ a x, ((![v63] : Fin 1 → IVec S16 32) a x).toNat < S32000.size a := fun v63 k0_hw207 => k0_hw207

def k0_chk208 (v66 : IVec S16 32) : Prop :=
  (∀ a x, ((![v66] : Fin 1 → IVec S16 32) a x).toNat < S16384.size a)
theorem k0_idx208_inb : ∀ (v66 : IVec S16 32) (k0_hw208 : k0_chk208 v66), ∀ a x, ((![v66] : Fin 1 → IVec S16 32) a x).toNat < S16384.size a := fun v66 k0_hw208 => k0_hw208

def k0_chk209 (v69 : IVec S16 32) : Prop :=
  (∀ a x, ((![v69] : Fin 1 → IVec S16 32) a x).toNat < S32000.size a)
theorem k0_idx209_inb : ∀ (v69 : IVec S16 32) (k0_hw209 : k0_chk209 v69), ∀ a x, ((![v69] : Fin 1 → IVec S16 32) a x).toNat < S32000.size a := fun v69 k0_hw209 => k0_hw209

def k0_chk210 (v72 : IVec S16 32) : Prop :=
  (∀ a x, ((![v72] : Fin 1 → IVec S16 32) a x).toNat < S32000.size a)
theorem k0_idx210_inb : ∀ (v72 : IVec S16 32) (k0_hw210 : k0_chk210 v72), ∀ a x, ((![v72] : Fin 1 → IVec S16 32) a x).toNat < S32000.size a := fun v72 k0_hw210 => k0_hw210

def k0_chk211 (v75 : IVec S16 32) : Prop :=
  (∀ a x, ((![v75] : Fin 1 → IVec S16 32) a x).toNat < S16384.size a)
theorem k0_idx211_inb : ∀ (v75 : IVec S16 32) (k0_hw211 : k0_chk211 v75), ∀ a x, ((![v75] : Fin 1 → IVec S16 32) a x).toNat < S16384.size a := fun v75 k0_hw211 => k0_hw211

def k0_chk212 (v78 : IVec S16 32) : Prop :=
  (∀ a x, ((![v78] : Fin 1 → IVec S16 32) a x).toNat < S32000.size a)
theorem k0_idx212_inb : ∀ (v78 : IVec S16 32) (k0_hw212 : k0_chk212 v78), ∀ a x, ((![v78] : Fin 1 → IVec S16 32) a x).toNat < S32000.size a := fun v78 k0_hw212 => k0_hw212

def k0_chk213 (v81 : IVec S16 32) : Prop :=
  (∀ a x, ((![v81] : Fin 1 → IVec S16 32) a x).toNat < S32000.size a)
theorem k0_idx213_inb : ∀ (v81 : IVec S16 32) (k0_hw213 : k0_chk213 v81), ∀ a x, ((![v81] : Fin 1 → IVec S16 32) a x).toNat < S32000.size a := fun v81 k0_hw213 => k0_hw213

def k0_chk214 (v84 : IVec S16 32) : Prop :=
  (∀ a x, ((![v84] : Fin 1 → IVec S16 32) a x).toNat < S16384.size a)
theorem k0_idx214_inb : ∀ (v84 : IVec S16 32) (k0_hw214 : k0_chk214 v84), ∀ a x, ((![v84] : Fin 1 → IVec S16 32) a x).toNat < S16384.size a := fun v84 k0_hw214 => k0_hw214

def k0_chk215 (v87 : IVec S16 32) : Prop :=
  (∀ a x, ((![v87] : Fin 1 → IVec S16 32) a x).toNat < S32000.size a)
theorem k0_idx215_inb : ∀ (v87 : IVec S16 32) (k0_hw215 : k0_chk215 v87), ∀ a x, ((![v87] : Fin 1 → IVec S16 32) a x).toNat < S32000.size a := fun v87 k0_hw215 => k0_hw215

def k0_chk216 (v90 : IVec S16 32) : Prop :=
  (∀ a x, ((![v90] : Fin 1 → IVec S16 32) a x).toNat < S32000.size a)
theorem k0_idx216_inb : ∀ (v90 : IVec S16 32) (k0_hw216 : k0_chk216 v90), ∀ a x, ((![v90] : Fin 1 → IVec S16 32) a x).toNat < S32000.size a := fun v90 k0_hw216 => k0_hw216

def k0_chk217 (v93 : IVec S16 32) : Prop :=
  (∀ a x, ((![v93] : Fin 1 → IVec S16 32) a x).toNat < S16384.size a)
theorem k0_idx217_inb : ∀ (v93 : IVec S16 32) (k0_hw217 : k0_chk217 v93), ∀ a x, ((![v93] : Fin 1 → IVec S16 32) a x).toNat < S16384.size a := fun v93 k0_hw217 => k0_hw217

def k0_chk218 (v96 : IVec S16 32) : Prop :=
  (∀ a x, ((![v96] : Fin 1 → IVec S16 32) a x).toNat < S32000.size a)
theorem k0_idx218_inb : ∀ (v96 : IVec S16 32) (k0_hw218 : k0_chk218 v96), ∀ a x, ((![v96] : Fin 1 → IVec S16 32) a x).toNat < S32000.size a := fun v96 k0_hw218 => k0_hw218

def k0_chk219 (v99 : IVec S16 32) : Prop :=
  (∀ a x, ((![v99] : Fin 1 → IVec S16 32) a x).toNat < S32000.size a)
theorem k0_idx219_inb : ∀ (v99 : IVec S16 32) (k0_hw219 : k0_chk219 v99), ∀ a x, ((![v99] : Fin 1 → IVec S16 32) a x).toNat < S32000.size a := fun v99 k0_hw219 => k0_hw219

def k0_chk220 (v102 : IVec S16 32) : Prop :=
  (∀ a x, ((![v102] : Fin 1 → IVec S16 32) a x).toNat < S16384.size a)
theorem k0_idx220_inb : ∀ (v102 : IVec S16 32) (k0_hw220 : k0_chk220 v102), ∀ a x, ((![v102] : Fin 1 → IVec S16 32) a x).toNat < S16384.size a := fun v102 k0_hw220 => k0_hw220

def k0_chk221 (v105 : IVec S16 32) : Prop :=
  (∀ a x, ((![v105] : Fin 1 → IVec S16 32) a x).toNat < S32000.size a)
theorem k0_idx221_inb : ∀ (v105 : IVec S16 32) (k0_hw221 : k0_chk221 v105), ∀ a x, ((![v105] : Fin 1 → IVec S16 32) a x).toNat < S32000.size a := fun v105 k0_hw221 => k0_hw221

def k0_chk222 (v108 : IVec S16 32) : Prop :=
  (∀ a x, ((![v108] : Fin 1 → IVec S16 32) a x).toNat < S32000.size a)
theorem k0_idx222_inb : ∀ (v108 : IVec S16 32) (k0_hw222 : k0_chk222 v108), ∀ a x, ((![v108] : Fin 1 → IVec S16 32) a x).toNat < S32000.size a := fun v108 k0_hw222 => k0_hw222

def k0_chk223 (v111 : IVec S16 32) : Prop :=
  (∀ a x, ((![v111] : Fin 1 → IVec S16 32) a x).toNat < S16384.size a)
theorem k0_idx223_inb : ∀ (v111 : IVec S16 32) (k0_hw223 : k0_chk223 v111), ∀ a x, ((![v111] : Fin 1 → IVec S16 32) a x).toNat < S16384.size a := fun v111 k0_hw223 => k0_hw223

def k0_chk224 (v114 : IVec S16 32) : Prop :=
  (∀ a x, ((![v114] : Fin 1 → IVec S16 32) a x).toNat < S32000.size a)
theorem k0_idx224_inb : ∀ (v114 : IVec S16 32) (k0_hw224 : k0_chk224 v114), ∀ a x, ((![v114] : Fin 1 → IVec S16 32) a x).toNat < S32000.size a := fun v114 k0_hw224 => k0_hw224

def k0_chk225 (v117 : IVec S16 32) : Prop :=
  (∀ a x, ((![v117] : Fin 1 → IVec S16 32) a x).toNat < S32000.size a)
theorem k0_idx225_inb : ∀ (v117 : IVec S16 32) (k0_hw225 : k0_chk225 v117), ∀ a x, ((![v117] : Fin 1 → IVec S16 32) a x).toNat < S32000.size a := fun v117 k0_hw225 => k0_hw225

def k0_chk226 (v120 : IVec S16 32) : Prop :=
  (∀ a x, ((![v120] : Fin 1 → IVec S16 32) a x).toNat < S16384.size a)
theorem k0_idx226_inb : ∀ (v120 : IVec S16 32) (k0_hw226 : k0_chk226 v120), ∀ a x, ((![v120] : Fin 1 → IVec S16 32) a x).toNat < S16384.size a := fun v120 k0_hw226 => k0_hw226

def k0_chk227 (v123 : IVec S16 32) : Prop :=
  (∀ a x, ((![v123] : Fin 1 → IVec S16 32) a x).toNat < S32000.size a)
theorem k0_idx227_inb : ∀ (v123 : IVec S16 32) (k0_hw227 : k0_chk227 v123), ∀ a x, ((![v123] : Fin 1 → IVec S16 32) a x).toNat < S32000.size a := fun v123 k0_hw227 => k0_hw227

def k0_chk228 (v126 : IVec S16 32) : Prop :=
  (∀ a x, ((![v126] : Fin 1 → IVec S16 32) a x).toNat < S32000.size a)
theorem k0_idx228_inb : ∀ (v126 : IVec S16 32) (k0_hw228 : k0_chk228 v126), ∀ a x, ((![v126] : Fin 1 → IVec S16 32) a x).toNat < S32000.size a := fun v126 k0_hw228 => k0_hw228

def k0_chk229 (v129 : IVec S16 32) : Prop :=
  (∀ a x, ((![v129] : Fin 1 → IVec S16 32) a x).toNat < S16384.size a)
theorem k0_idx229_inb : ∀ (v129 : IVec S16 32) (k0_hw229 : k0_chk229 v129), ∀ a x, ((![v129] : Fin 1 → IVec S16 32) a x).toNat < S16384.size a := fun v129 k0_hw229 => k0_hw229

def k0_chk230 (v132 : IVec S16 32) : Prop :=
  (∀ a x, ((![v132] : Fin 1 → IVec S16 32) a x).toNat < S32000.size a)
theorem k0_idx230_inb : ∀ (v132 : IVec S16 32) (k0_hw230 : k0_chk230 v132), ∀ a x, ((![v132] : Fin 1 → IVec S16 32) a x).toNat < S32000.size a := fun v132 k0_hw230 => k0_hw230

def k0_chk231 (v135 : IVec S16 32) : Prop :=
  (∀ a x, ((![v135] : Fin 1 → IVec S16 32) a x).toNat < S32000.size a)
theorem k0_idx231_inb : ∀ (v135 : IVec S16 32) (k0_hw231 : k0_chk231 v135), ∀ a x, ((![v135] : Fin 1 → IVec S16 32) a x).toNat < S32000.size a := fun v135 k0_hw231 => k0_hw231

def k0_chk232 (v138 : IVec S16 32) : Prop :=
  (∀ a x, ((![v138] : Fin 1 → IVec S16 32) a x).toNat < S16384.size a)
theorem k0_idx232_inb : ∀ (v138 : IVec S16 32) (k0_hw232 : k0_chk232 v138), ∀ a x, ((![v138] : Fin 1 → IVec S16 32) a x).toNat < S16384.size a := fun v138 k0_hw232 => k0_hw232

def k0_chk233 (v141 : IVec S16 32) : Prop :=
  (∀ a x, ((![v141] : Fin 1 → IVec S16 32) a x).toNat < S32000.size a)
theorem k0_idx233_inb : ∀ (v141 : IVec S16 32) (k0_hw233 : k0_chk233 v141), ∀ a x, ((![v141] : Fin 1 → IVec S16 32) a x).toNat < S32000.size a := fun v141 k0_hw233 => k0_hw233

def k0_chk234 (v144 : IVec S16 32) : Prop :=
  (∀ a x, ((![v144] : Fin 1 → IVec S16 32) a x).toNat < S32000.size a)
theorem k0_idx234_inb : ∀ (v144 : IVec S16 32) (k0_hw234 : k0_chk234 v144), ∀ a x, ((![v144] : Fin 1 → IVec S16 32) a x).toNat < S32000.size a := fun v144 k0_hw234 => k0_hw234

def k0_chk235 (v147 : IVec S16 32) : Prop :=
  (∀ a x, ((![v147] : Fin 1 → IVec S16 32) a x).toNat < S16384.size a)
theorem k0_idx235_inb : ∀ (v147 : IVec S16 32) (k0_hw235 : k0_chk235 v147), ∀ a x, ((![v147] : Fin 1 → IVec S16 32) a x).toNat < S16384.size a := fun v147 k0_hw235 => k0_hw235

def k0_chk236 (v150 : IVec S16 32) : Prop :=
  (∀ a x, ((![v150] : Fin 1 → IVec S16 32) a x).toNat < S32000.size a)
theorem k0_idx236_inb : ∀ (v150 : IVec S16 32) (k0_hw236 : k0_chk236 v150), ∀ a x, ((![v150] : Fin 1 → IVec S16 32) a x).toNat < S32000.size a := fun v150 k0_hw236 => k0_hw236

def k0_chk237 (v153 : IVec S16 32) : Prop :=
  (∀ a x, ((![v153] : Fin 1 → IVec S16 32) a x).toNat < S32000.size a)
theorem k0_idx237_inb : ∀ (v153 : IVec S16 32) (k0_hw237 : k0_chk237 v153), ∀ a x, ((![v153] : Fin 1 → IVec S16 32) a x).toNat < S32000.size a := fun v153 k0_hw237 => k0_hw237

def k0_chk238 (v156 : IVec S16 32) : Prop :=
  (∀ a x, ((![v156] : Fin 1 → IVec S16 32) a x).toNat < S16384.size a)
theorem k0_idx238_inb : ∀ (v156 : IVec S16 32) (k0_hw238 : k0_chk238 v156), ∀ a x, ((![v156] : Fin 1 → IVec S16 32) a x).toNat < S16384.size a := fun v156 k0_hw238 => k0_hw238

def k0_chk239 (v159 : IVec S16 32) : Prop :=
  (∀ a x, ((![v159] : Fin 1 → IVec S16 32) a x).toNat < S32000.size a)
theorem k0_idx239_inb : ∀ (v159 : IVec S16 32) (k0_hw239 : k0_chk239 v159), ∀ a x, ((![v159] : Fin 1 → IVec S16 32) a x).toNat < S32000.size a := fun v159 k0_hw239 => k0_hw239

def k0_chk240 (v162 : IVec S16 32) : Prop :=
  (∀ a x, ((![v162] : Fin 1 → IVec S16 32) a x).toNat < S32000.size a)
theorem k0_idx240_inb : ∀ (v162 : IVec S16 32) (k0_hw240 : k0_chk240 v162), ∀ a x, ((![v162] : Fin 1 → IVec S16 32) a x).toNat < S32000.size a := fun v162 k0_hw240 => k0_hw240

def k0_chk241 (v165 : IVec S16 32) : Prop :=
  (∀ a x, ((![v165] : Fin 1 → IVec S16 32) a x).toNat < S16384.size a)
theorem k0_idx241_inb : ∀ (v165 : IVec S16 32) (k0_hw241 : k0_chk241 v165), ∀ a x, ((![v165] : Fin 1 → IVec S16 32) a x).toNat < S16384.size a := fun v165 k0_hw241 => k0_hw241

def k0_chk242 (v168 : IVec S16 32) : Prop :=
  (∀ a x, ((![v168] : Fin 1 → IVec S16 32) a x).toNat < S32000.size a)
theorem k0_idx242_inb : ∀ (v168 : IVec S16 32) (k0_hw242 : k0_chk242 v168), ∀ a x, ((![v168] : Fin 1 → IVec S16 32) a x).toNat < S32000.size a := fun v168 k0_hw242 => k0_hw242

def k0_chk243 (v171 : IVec S16 32) : Prop :=
  (∀ a x, ((![v171] : Fin 1 → IVec S16 32) a x).toNat < S32000.size a)
theorem k0_idx243_inb : ∀ (v171 : IVec S16 32) (k0_hw243 : k0_chk243 v171), ∀ a x, ((![v171] : Fin 1 → IVec S16 32) a x).toNat < S32000.size a := fun v171 k0_hw243 => k0_hw243

def k0_chk244 (v174 : IVec S16 32) : Prop :=
  (∀ a x, ((![v174] : Fin 1 → IVec S16 32) a x).toNat < S16384.size a)
theorem k0_idx244_inb : ∀ (v174 : IVec S16 32) (k0_hw244 : k0_chk244 v174), ∀ a x, ((![v174] : Fin 1 → IVec S16 32) a x).toNat < S16384.size a := fun v174 k0_hw244 => k0_hw244

def k0_chk245 (v177 : IVec S16 32) : Prop :=
  (∀ a x, ((![v177] : Fin 1 → IVec S16 32) a x).toNat < S32000.size a)
theorem k0_idx245_inb : ∀ (v177 : IVec S16 32) (k0_hw245 : k0_chk245 v177), ∀ a x, ((![v177] : Fin 1 → IVec S16 32) a x).toNat < S32000.size a := fun v177 k0_hw245 => k0_hw245
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== NormRefIdeal.lean ====
abbrev S5120000 : Shape := ⟨1, ![5120000]⟩
abbrev S320000 : Shape := ⟨1, ![320000]⟩
abbrev S16384 : Shape := ⟨1, ![16384]⟩
abbrev S320000x16 : Shape := ⟨2, ![320000, 16]⟩
abbrev S1024x16 : Shape := ⟨2, ![1024, 16]⟩
abbrev S_ : Shape := ⟨0, ![]⟩
abbrev S320000x1 : Shape := ⟨2, ![320000, 1]⟩

abbrev nBuf : Space → Nat
  | .hbm => 16
  | .vmem => 0
  | .smem => 0
  | _ => 0

abbrev bufTy : (tb : Table) → Fin (tcTables nBuf tb) → BufTy
  | .hbm, ⟨0, _⟩ => ⟨S5120000, .f32⟩
  | .hbm, ⟨1, _⟩ => ⟨S320000, .i32⟩
  | .hbm, ⟨2, _⟩ => ⟨S16384, .f32⟩
  | .hbm, ⟨3, _⟩ => ⟨S320000x16, .f32⟩
  | .hbm, ⟨4, _⟩ => ⟨S1024x16, .f32⟩
  | .hbm, ⟨5, _⟩ => ⟨S_, .i32⟩
  | .hbm, ⟨6, _⟩ => ⟨S320000, .i32⟩
  | .hbm, ⟨7, _⟩ => ⟨S320000, .i1⟩
  | .hbm, ⟨8, _⟩ => ⟨S_, .i32⟩
  | .hbm, ⟨9, _⟩ => ⟨S320000, .i32⟩
  | .hbm, ⟨10, _⟩ => ⟨S320000, .i32⟩
  | .hbm, ⟨11, _⟩ => ⟨S320000, .i32⟩
  | .hbm, ⟨12, _⟩ => ⟨S320000x1, .i32⟩
  | .hbm, ⟨13, _⟩ => ⟨S320000x16, .f32⟩
  | .hbm, ⟨14, _⟩ => ⟨S320000x16, .f32⟩
  | .hbm, ⟨15, _⟩ => ⟨S5120000, .f32⟩
  | _, _ => ⟨S5120000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Epi.lean ====
abbrev S65536 : Shape := ⟨1, ![65536]⟩
abbrev S1024 : Shape := ⟨1, ![1024]⟩
abbrev S1024x64 : Shape := ⟨2, ![1024, 64]⟩
abbrev S1024x1 : Shape := ⟨2, ![1024, 1]⟩
abbrev S1024x16 : Shape := ⟨2, ![1024, 16]⟩

abbrev nBuf : Space → Nat
  | .hbm => 9
  | .vmem => 7
  | .smem => 0
  | _ => 0

abbrev bufTy : (tb : Table) → Fin (tcTables nBuf tb) → BufTy
  | .hbm, ⟨0, _⟩ => ⟨S65536, .f32⟩
  | .hbm, ⟨1, _⟩ => ⟨S1024, .i32⟩
  | .hbm, ⟨2, _⟩ => ⟨S1024x64, .f32⟩
  | .hbm, ⟨3, _⟩ => ⟨S1024x1, .i32⟩
  | .hbm, ⟨4, _⟩ => ⟨S1024x1, .f32⟩
  | .hbm, ⟨5, _⟩ => ⟨S1024x1, .f32⟩
  | .hbm, ⟨6, _⟩ => ⟨S1024x1, .f32⟩
  | .hbm, ⟨7, _⟩ => ⟨S1024x16, .f32⟩
  | .hbm, ⟨8, _⟩ => ⟨S1024x16, .f32⟩
  | .local _ .vmem, ⟨0, _⟩ => ⟨S1024x64, .f32⟩
  | .local _ .vmem, ⟨1, _⟩ => ⟨S1024x1, .i32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x16, .f32⟩
  | .local _ .vmem, ⟨6, _⟩ => ⟨S1024x16, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== EpiRefIdeal.lean ====
abbrev S65536 : Shape := ⟨1, ![65536]⟩
abbrev S1024 : Shape := ⟨1, ![1024]⟩
abbrev S1024x64 : Shape := ⟨2, ![1024, 64]⟩
abbrev S1024x16 : Shape := ⟨2, ![1024, 16]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S65536, .f32⟩
  | .hbm, ⟨1, _⟩ => ⟨S1024, .i32⟩
  | .hbm, ⟨2, _⟩ => ⟨S1024x64, .f32⟩
  | .hbm, ⟨3, _⟩ => ⟨S1024x16, .f32⟩
  | .hbm, ⟨4, _⟩ => ⟨S1024x16, .f32⟩
  | .hbm, ⟨5, _⟩ => ⟨S1024x16, .f32⟩
  | .hbm, ⟨6, _⟩ => ⟨S1024x16, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x16, .f32⟩
  | .hbm, ⟨14, _⟩ => ⟨S1024x16, .f32⟩
  | .hbm, ⟨15, _⟩ => ⟨S_, .f32⟩
  | .hbm, ⟨16, _⟩ => ⟨S1024x16, .f32⟩
  | .hbm, ⟨17, _⟩ => ⟨S1024x16, .f32⟩
  | .hbm, ⟨18, _⟩ => ⟨S1024x16, .f32⟩
  | .hbm, ⟨19, _⟩ => ⟨S1024x1, .i32⟩
  | .hbm, ⟨20, _⟩ => ⟨S_, .i32⟩
  | .hbm, ⟨21, _⟩ => ⟨S1024x1, .i32⟩
  | .hbm, ⟨22, _⟩ => ⟨S1024x1, .i1⟩
  | .hbm, ⟨23, _⟩ => ⟨S_, .i32⟩
  | .hbm, ⟨24, _⟩ => ⟨S1024x1, .i32⟩
  | .hbm, ⟨25, _⟩ => ⟨S1024x1, .i32⟩
  | .hbm, ⟨26, _⟩ => ⟨S1024x1, .i32⟩
  | .hbm, ⟨27, _⟩ => ⟨S1024x1x1, .i32⟩
  | .hbm, ⟨28, _⟩ => ⟨S1, .i32⟩
  | .hbm, ⟨29, _⟩ => ⟨S_, .i32⟩
  | .hbm, ⟨30, _⟩ => ⟨S1024x1x1, .i32⟩
  | .hbm, ⟨31, _⟩ => ⟨S1024x1x1, .i1⟩
  | .hbm, ⟨32, _⟩ => ⟨S1x1x1, .i32⟩
  | .hbm, ⟨33, _⟩ => ⟨S1024x1x1, .i32⟩
  | .hbm, ⟨34, _⟩ => ⟨S1024x1x1, .i1⟩
  | .hbm, ⟨35, _⟩ => ⟨S1024x1x1, .i1⟩
  | .hbm, ⟨36, _⟩ => ⟨S_, .i1⟩
  | .hbm, ⟨37, _⟩ => ⟨S1024x1, .i1⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S1024x16, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S1024x16, .f32⟩
  | .hbm, ⟨48, _⟩ => ⟨S1024x16, .f32⟩
  | .hbm, ⟨49, _⟩ => ⟨S_, .f32⟩
  | .hbm, ⟨50, _⟩ => ⟨S1024x16, .f32⟩
  | .hbm, ⟨51, _⟩ => ⟨S1024x16, .f32⟩
  | .hbm, ⟨52, _⟩ => ⟨S1024x16, .f32⟩
  | .hbm, ⟨53, _⟩ => ⟨S1024x16, .f32⟩
  | .hbm, ⟨54, _⟩ => ⟨S1024x16, .f32⟩
  | .hbm, ⟨55, _⟩ => ⟨S_, .f32⟩
  | .hbm, ⟨56, _⟩ => ⟨S1024, .f32⟩
  | .hbm, ⟨57, _⟩ => ⟨S1024x1, .f32⟩
  | .hbm, ⟨58, _⟩ => ⟨S1024x1, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩

abbrev nD : Nat := 1
abbrev τ : Topo := Topo.v7x

variable {F : FTy → Type} [FloatOps F]
-- ==== Node.lean ====
abbrev S320000x128 : Shape := ⟨2, ![320000, 128]⟩
abbrev S128x1 : Shape := ⟨2, ![128, 1]⟩
abbrev S128x16 : Shape := ⟨2, ![128, 16]⟩
abbrev S16 : Shape := ⟨1, ![16]⟩
abbrev S_ : Shape := ⟨0, ![]⟩
abbrev S128x15 : Shape := ⟨2, ![128, 15]⟩
abbrev S128x80 : Shape := ⟨2, ![128, 80]⟩
abbrev S80 : Shape := ⟨1, ![80]⟩
abbrev S1x80 : Shape := ⟨2, ![1, 80]⟩
abbrev S320000x16 : Shape := ⟨2, ![320000, 16]⟩
abbrev S8000x128 : Shape := ⟨2, ![8000, 128]⟩
abbrev S8000x16 : Shape := ⟨2, ![8000, 16]⟩
abbrev S8000x80 : Shape := ⟨2, ![8000, 80]⟩
abbrev S8000x1 : Shape := ⟨2, ![8000, 1]⟩
abbrev S8000 : Shape := ⟨1, ![8000]⟩
abbrev S8000x64 : Shape := ⟨2, ![8000, 64]⟩

abbrev nBuf : Space → Nat
  | .hbm => 19
  | .vmem => 8
  | .smem => 0
  | _ => 0

abbrev bufTy : (tb : Table) → Fin (tcTables nBuf tb) → BufTy
  | .hbm, ⟨0, _⟩ => ⟨S320000x128, .f32⟩
  | .hbm, ⟨1, _⟩ => ⟨S128x1, .f32⟩
  | .hbm, ⟨2, _⟩ => ⟨S128x16, .f32⟩
  | .hbm, ⟨3, _⟩ => ⟨S16, .f32⟩
  | .hbm, ⟨4, _⟩ => ⟨S128x16, .f32⟩
  | .hbm, ⟨5, _⟩ => ⟨S16, .f32⟩
  | .hbm, ⟨6, _⟩ => ⟨S128x16, .f32⟩
  | .hbm, ⟨7, _⟩ => ⟨S16, .f32⟩
  | .hbm, ⟨8, _⟩ => ⟨S128x16, .f32⟩
  | .hbm, ⟨9, _⟩ => ⟨S16, .f32⟩
  | .hbm, ⟨10, _⟩ => ⟨S_, .f32⟩
  | .hbm, ⟨11, _⟩ => ⟨S128x15, .f32⟩
  | .hbm, ⟨12, _⟩ => ⟨S128x80, .f32⟩
  | .hbm, ⟨13, _⟩ => ⟨S_, .f32⟩
  | .hbm, ⟨14, _⟩ => ⟨S16, .f32⟩
  | .hbm, ⟨15, _⟩ => ⟨S80, .f32⟩
  | .hbm, ⟨16, _⟩ => ⟨S1x80, .f32⟩
  | .hbm, ⟨17, _⟩ => ⟨S320000x128, .f32⟩
  | .hbm, ⟨18, _⟩ => ⟨S320000x16, .f32⟩
  | .local _ .vmem, ⟨0, _⟩ => ⟨S8000x128, .f32⟩
  | .local _ .vmem, ⟨1, _⟩ => ⟨S8000x128, .f32⟩
  | .local _ .vmem, ⟨2, _⟩ => ⟨S128x80, .f32⟩
  | .local _ .vmem, ⟨3, _⟩ => ⟨S1x80, .f32⟩
  | .local _ .vmem, ⟨4, _⟩ => ⟨S8000x128, .f32⟩
  | .local _ .vmem, ⟨5, _⟩ => ⟨S8000x128, .f32⟩
  | .local _ .vmem, ⟨6, _⟩ => ⟨S8000x16, .f32⟩
  | .local _ .vmem, ⟨7, _⟩ => ⟨S8000x16, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NodeRefIdeal.lean ====
abbrev S320000x128 : Shape := ⟨2, ![320000, 128]⟩
abbrev S128x1 : Shape := ⟨2, ![128, 1]⟩
abbrev S128x16 : Shape := ⟨2, ![128, 16]⟩
abbrev S16 : Shape := ⟨1, ![16]⟩
abbrev S320000x1 : Shape := ⟨2, ![320000, 1]⟩
abbrev S320000x16 : Shape := ⟨2, ![320000, 16]⟩
abbrev S1x16 : Shape := ⟨2, ![1, 16]⟩
abbrev S_ : Shape := ⟨0, ![]⟩
abbrev S320000 : Shape := ⟨1, ![320000]⟩
abbrev S320000x64 : Shape := ⟨2, ![320000, 64]⟩

abbrev nBuf : Space → Nat
  | .hbm => 49
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S128x1, .f32⟩
  | .hbm, ⟨2, _⟩ => ⟨S128x16, .f32⟩
  | .hbm, ⟨3, _⟩ => ⟨S16, .f32⟩
  | .hbm, ⟨4, _⟩ => ⟨S128x16, .f32⟩
  | .hbm, ⟨5, _⟩ => ⟨S16, .f32⟩
  | .hbm, ⟨6, _⟩ => ⟨S128x16, .f32⟩
  | .hbm, ⟨7, _⟩ => ⟨S16, .f32⟩
  | .hbm, ⟨8, _⟩ => ⟨S128x16, .f32⟩
  | .hbm, ⟨9, _⟩ => ⟨S16, .f32⟩
  | .hbm, ⟨10, _⟩ => ⟨S320000x1, .f32⟩
  | .hbm, ⟨11, _⟩ => ⟨S320000x1, .f32⟩
  | .hbm, ⟨12, _⟩ => ⟨S320000x16, .f32⟩
  | .hbm, ⟨13, _⟩ => ⟨S1x16, .f32⟩
  | .hbm, ⟨14, _⟩ => ⟨S320000x16, .f32⟩
  | .hbm, ⟨15, _⟩ => ⟨S320000x16, .f32⟩
  | .hbm, ⟨16, _⟩ => ⟨S_, .f32⟩
  | .hbm, ⟨17, _⟩ => ⟨S320000, .f32⟩
  | .hbm, ⟨18, _⟩ => ⟨S_, .f32⟩
  | .hbm, ⟨19, _⟩ => ⟨S320000, .f32⟩
  | .hbm, ⟨20, _⟩ => ⟨S320000, .f32⟩
  | .hbm, ⟨21, _⟩ => ⟨S320000x1, .f32⟩
  | .hbm, ⟨22, _⟩ => ⟨S320000x16, .f32⟩
  | .hbm, ⟨23, _⟩ => ⟨S320000x16, .f32⟩
  | .hbm, ⟨24, _⟩ => ⟨S320000x16, .f32⟩
  | .hbm, ⟨25, _⟩ => ⟨S_, .f32⟩
  | .hbm, ⟨26, _⟩ => ⟨S320000, .f32⟩
  | .hbm, ⟨27, _⟩ => ⟨S320000x1, .f32⟩
  | .hbm, ⟨28, _⟩ => ⟨S320000x16, .f32⟩
  | .hbm, ⟨29, _⟩ => ⟨S320000x16, .f32⟩
  | .hbm, ⟨30, _⟩ => ⟨S320000x16, .f32⟩
  | .hbm, ⟨31, _⟩ => ⟨S1x16, .f32⟩
  | .hbm, ⟨32, _⟩ => ⟨S320000x16, .f32⟩
  | .hbm, ⟨33, _⟩ => ⟨S320000x16, .f32⟩
  | .hbm, ⟨34, _⟩ => ⟨S320000x16, .f32⟩
  | .hbm, ⟨35, _⟩ => ⟨S320000x16, .f32⟩
  | .hbm, ⟨36, _⟩ => ⟨S1x16, .f32⟩
  | .hbm, ⟨37, _⟩ => ⟨S320000x16, .f32⟩
  | .hbm, ⟨38, _⟩ => ⟨S320000x16, .f32⟩
  | .hbm, ⟨39, _⟩ => ⟨S320000x16, .f32⟩
  | .hbm, ⟨40, _⟩ => ⟨S1x16, .f32⟩
  | .hbm, ⟨41, _⟩ => ⟨S320000x16, .f32⟩
  | .hbm, ⟨42, _⟩ => ⟨S320000x16, .f32⟩
  | .hbm, ⟨43, _⟩ => ⟨S320000x16, .f32⟩
  | .hbm, ⟨44, _⟩ => ⟨S320000x16, .f32⟩
  | .hbm, ⟨45, _⟩ => ⟨S320000x16, .f32⟩
  | .hbm, ⟨46, _⟩ => ⟨S_, .f32⟩
  | .hbm, ⟨47, _⟩ => ⟨S320000x64, .f32⟩
  | .hbm, ⟨48, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.SegWords.lean ====
/-
  The words the segment-sum tiles compute, as natural numbers: where a chunk of rows starts, how many of its rows belong
  to the segment, how many chunks a segment takes. Every word here is between 0 and 320000, so nothing wraps.
-/
module

public import proofs.«01_k».proof.Proof.Gen.KernelIdeal.Skeleton
public import Idealize.ShloMosaic.Lib.LoopRemainder
public import Idealize.ShloMosaic.Lib.Affine

@[expose] public section

namespace Cert.Proof.Seg

open Cert.KernelIdeal Cert.KernelIdeal.Gen
open Idealize.ShloMosaic
open Idealize.ShloMosaic.Affine (IsInt)

theorem isInt_of_toNat {x : BitVec 32} {n : ℕ} (h : x.toNat = n) (hn : n < 2 ^ 31) : IsInt x (n : Int) := by
  unfold IsInt; rw [BitVec.toInt_eq_toNat_cond]; split <;> omega

theorem toNat_of_isInt {x : BitVec 32} {e : Int} {n : ℕ} (h : IsInt x e) (hn : e = (n : Int)) : x.toNat = n := by
  unfold IsInt at h; rw [BitVec.toInt_eq_toNat_cond] at h; have := x.isLt; split at h <;> omega

theorem trips_of_isInt {lb ub : BitVec 32} {a b : ℕ} (ha : IsInt lb (a : Int)) (hb : IsInt ub (b : Int)) (hab : a ≤ b) :
    Scf.trips lb ub 1#32 = b - a := by
  have h1 : (1#32 : BitVec 32).toInt = 1 := by decide
  unfold IsInt at ha hb
  unfold Scf.trips; rw [h1, ha, hb]; omega

theorem ok_of_isInt {lb ub : BitVec 32} {a b : ℕ} (ha : IsInt lb (a : Int)) (hb : IsInt ub (b : Int)) (hab : a ≤ b) (hb' : b < 2 ^ 31) :
    Scf.OK lb ub 1#32 := by
  have h1 : (1#32 : BitVec 32).toInt = 1 := by decide
  refine ⟨by rw [h1]; decide, ?_⟩
  rw [trips_of_isInt ha hb hab, h1]
  unfold IsInt at ha
  rw [ha]; simp only [Nat.add_one_sub_one]; omega

/-- The first row of the chunk copied for a segment whose next row is `L`. -/
def base (L : ℕ) : ℕ := min (L - L % 8) 319488

theorem base_le {L : ℕ} : base L ≤ L := by unfold base; omega
theorem base_lt {L : ℕ} (h : L ≤ 320000) : L ≤ base L + 512 := by unfold base; omega

/-- The row after the chunk's last row of the segment that ends before row `E`. -/
def hiRow (L E : ℕ) : ℕ := min E (base L + 512)

theorem hiRow_ge {L E : ℕ} (h : L ≤ E) (h' : E ≤ 320000) : L ≤ hiRow L E := by
  have := base_lt (L := L) (by omega); unfold hiRow; omega

/-- A chunk finishes the segment or takes at least 504 of its rows. -/
theorem hiRow_progress {L E : ℕ} (h : L ≤ E) (h' : E ≤ 320000) : hiRow L E = E ∨ L + 504 ≤ hiRow L E := by
  unfold hiRow base; omega

section Words

variable {start n lo : BitVec 32} {A N L : ℕ}

theorem isInt_base (hL : lo.toNat = L) (h : L ≤ 320000) : IsInt (k0_mult1 lo) (base L : Int) := by
  have l := isInt_of_toNat hL (by omega)
  have c8 : IsInt 8#32 8 := Affine.ofNat 8 ⟨rfl, by decide⟩
  have cM : IsInt 319488#32 319488 := Affine.ofNat 319488 ⟨rfl, by decide⟩
  have r := Affine.remsi l c8 ⟨rfl, by omega, by omega⟩
  have s := Affine.subi (e := ((L - L % 8 : ℕ) : Int)) l r ⟨by omega, by omega, by omega⟩
  exact Affine.minsi s cM (by unfold base; omega)

theorem toNat_end (hA : start.toNat = A) (hN : n.toNat = N) (h : A + N ≤ 320000) : (Scalar.addi start n).toNat = A + N := by
  show (start + n).toNat = _
  rw [BitVec.toNat_add, hA, hN]; omega

/-- The word the chunk's step carries on: the row after the chunk's last. -/
def hiWord (start n lo : BitVec 32) : BitVec 32 :=
  Scalar.maxsi (Scalar.minsi (Scalar.addi start n) (Scalar.addi (k0_mult1 lo) 512#32)) lo

theorem isInt_hi (hA : start.toNat = A) (hN : n.toNat = N) (hL : lo.toNat = L) (h1 : L ≤ A + N) (h2 : A + N ≤ 320000) :
    IsInt (hiWord start n lo) (hiRow L (A + N) : Int) := by
  have l := isInt_of_toNat hL (by omega)
  have e := isInt_of_toNat (toNat_end hA hN h2) (by omega)
  have b := isInt_base hL (by omega)
  have c : IsInt 512#32 512 := Affine.ofNat 512 ⟨rfl, by decide⟩
  have hb := base_le (L := L)
  have hb' := base_lt (L := L) (by omega)
  have s := Affine.addi (e := ((base L + 512 : ℕ) : Int)) b c ⟨by omega, by omega, by omega⟩
  have m := Affine.minsi (e := (hiRow L (A + N) : Int)) e s (by unfold hiRow; omega)
  have := hiRow_ge h1 h2
  exact Affine.maxsi m l (by omega)

theorem toNat_hi (hA : start.toNat = A) (hN : n.toNat = N) (hL : lo.toNat = L) (h1 : L ≤ A + N) (h2 : A + N ≤ 320000) :
    (hiWord start n lo).toNat = hiRow L (A + N) := toNat_of_isInt (isInt_hi hA hN hL h1 h2) rfl

theorem isInt_ub (hA : start.toNat = A) (hN : n.toNat = N) (hL : lo.toNat = L) (h1 : L ≤ A + N) (h2 : A + N ≤ 320000) :
    IsInt (k0_t4_loop start n lo).ub (hiRow L (A + N) : Int) := by
  show IsInt (Scalar.addi lo (Scalar.muli (Scalar.divsi (Scalar.subi (hiWord start n lo) lo) 1#32) 1#32)) _
  rw [Scalar.muli_divsi_one]
  have l := isInt_of_toNat hL (by omega)
  have := hiRow_ge h1 h2
  have hh : hiRow L (A + N) ≤ A + N := by unfold hiRow; omega
  have s := Affine.subi (e := ((hiRow L (A + N) - L : ℕ) : Int)) (isInt_hi hA hN hL h1 h2) l ⟨by omega, by omega, by omega⟩
  exact Affine.addi l s ⟨by omega, by omega, by omega⟩

theorem t4_trips (hA : start.toNat = A) (hN : n.toNat = N) (hL : lo.toNat = L) (h1 : L ≤ A + N) (h2 : A + N ≤ 320000) :
    (k0_t4_loop start n lo).trips = hiRow L (A + N) - L :=
  trips_of_isInt (isInt_of_toNat hL (by omega)) (isInt_ub hA hN hL h1 h2) (hiRow_ge h1 h2)

theorem row_word (hL : lo.toNat = L) (h : L ≤ 320000) {k : ℕ} (hk : L + k < base L + 512) :
    (Scalar.subi (Scf.iv lo 1#32 k) (k0_mult1 lo)).toNat = L + k - base L := by
  have l := isInt_of_toNat hL (by omega)
  have c : IsInt 1#32 1 := Affine.ofNat 1 ⟨rfl, by decide⟩
  have hb := base_le (L := L)
  have v := Affine.iv l c k (e := ((L + k : ℕ) : Int)) ⟨by omega, by omega, by omega⟩
  exact toNat_of_isInt (Affine.subi v (isInt_base hL h) (e := ((L + k - base L : ℕ) : Int)) ⟨by omega, by omega, by omega⟩) rfl

theorem row_lt (hA : start.toNat = A) (hN : n.toNat = N) (hL : lo.toNat = L) (h1 : L ≤ A + N) (h2 : A + N ≤ 320000)
    (k : Fin (k0_t4_loop start n lo).trips) : L + k.val < base L + 512 := by
  have h3 : k.val < hiRow L (A + N) - L := lt_of_lt_of_eq k.isLt (t4_trips hA hN hL h1 h2)
  generalize k.val = j at h3 ⊢
  unfold hiRow at h3; omega

theorem off2_eq (hL : lo.toNat = L) (h : L ≤ 320000) (k : Fin (k0_t4_loop start n lo).trips) (hk : L + k.val < base L + 512) :
    k0_off2 start n lo k = ![L + k.val - base L, 0] := by
  show ![(Scalar.subi (Scf.iv lo 1#32 k) (k0_mult1 lo)).toNat, 0] = _; rw [row_word hL h hk]
theorem off3_eq (hL : lo.toNat = L) (h : L ≤ 320000) (k : Fin (k0_t4_loop start n lo).trips) (hk : L + k.val < base L + 512) :
    k0_off3 start n lo k = ![L + k.val - base L, 16] := by
  show ![(Scalar.subi (Scf.iv lo 1#32 k) (k0_mult1 lo)).toNat, 16] = _; rw [row_word hL h hk]
theorem off4_eq (hL : lo.toNat = L) (h : L ≤ 320000) (k : Fin (k0_t4_loop start n lo).trips) (hk : L + k.val < base L + 512) :
    k0_off4 start n lo k = ![L + k.val - base L, 32] := by
  show ![(Scalar.subi (Scf.iv lo 1#32 k) (k0_mult1 lo)).toNat, 32] = _; rw [row_word hL h hk]
theorem off5_eq (hL : lo.toNat = L) (h : L ≤ 320000) (k : Fin (k0_t4_loop start n lo).trips) (hk : L + k.val < base L + 512) :
    k0_off5 start n lo k = ![L + k.val - base L, 48] := by
  show ![(Scalar.subi (Scf.iv lo 1#32 k) (k0_mult1 lo)).toNat, 48] = _; rw [row_word hL h hk]

theorem off1_eq (hL : lo.toNat = L) (h : L ≤ 320000) : k0_off1 lo = ![base L, 0] := by
  show ![(k0_mult1 lo).toNat, 0] = _; rw [toNat_of_isInt (isInt_base hL h) rfl]

/-- The facts a chunk's step asks for hold. -/
theorem chk6 (hA : start.toNat = A) (hN : n.toNat = N) (hL : lo.toNat = L) (h1 : L ≤ A + N) (h2 : A + N ≤ 320000) :
    k0_chk6 start n lo := by
  have hb : (k0_mult1 lo).toNat = base L := toNat_of_isInt (isInt_base hL (by omega)) rfl
  have hrow : ∀ k : Fin (k0_t4_loop start n lo).trips, L + k.val - base L < 512 := fun k => by
    have := row_lt hA hN hL h1 h2 k; omega
  have hcol : ∀ {r c : ℕ}, r < 512 → c + 16 ≤ 128 → ∀ a, (![r, c] : Fin 2 → ℕ) a + S1x16.size a ≤ S512x128.size a := by
    intro r c hr hc a
    match a with
    | ⟨0, _⟩ => show r + 1 ≤ 512; omega
    | ⟨1, _⟩ => show c + 16 ≤ 128; omega
  refine ⟨?_, ?_, ?_, ?_, ?_, ?_, ?_, ?_, ?_, ?_, ?_, ?_⟩
  · rw [hb]; unfold base; omega
  · rw [off1_eq hL (by omega)]; intro a
    match a with
    | ⟨0, _⟩ => show base L + 512 ≤ 320000; unfold base; omega
    | ⟨1, _⟩ => show 0 + 128 ≤ 128; omega
  · exact ok_of_isInt (isInt_of_toNat hL (by omega)) (isInt_ub hA hN hL h1 h2) (hiRow_ge h1 h2) (by unfold hiRow; omega)
  · intro k; rw [off2_eq hL (by omega) k (row_lt hA hN hL h1 h2 k)]; exact hcol (hrow k) (by omega)
  · intro k; rw [off3_eq hL (by omega) k (row_lt hA hN hL h1 h2 k)]; exact hcol (hrow k) (by omega)
  · intro k; rw [off4_eq hL (by omega) k (row_lt hA hN hL h1 h2 k)]; exact hcol (hrow k) (by omega)
  · intro k; rw [off5_eq hL (by omega) k (row_lt hA hN hL h1 h2 k)]; exact hcol (hrow k) (by omega)
  · exact Scf.rem_ok _ _
  all_goals exact fun k => (Scf.rem_no_trip _ _ k).elim

/-- The number of chunks a segment of `N` rows takes. -/
theorem isInt_chunks (hN : n.toNat = N) (h : N ≤ 320000) : IsInt (k0_t3_loop n).ub ((N / 504 + 1 : ℕ) : Int) := by
  have c504 : IsInt 504#32 504 := Affine.ofNat 504 ⟨rfl, by decide⟩
  have c0 : IsInt 0#32 0 := Affine.ofNat 0 ⟨rfl, by decide⟩
  have c1 : IsInt 1#32 1 := Affine.ofNat 1 ⟨rfl, by decide⟩
  have hn := isInt_of_toNat hN (by omega)
  have q := Affine.divsi (e := ((N / 504 : ℕ) : Int)) hn c504 ⟨by omega, by omega, by omega⟩
  have r := Affine.remsi (e := ((N % 504 : ℕ) : Int)) hn c504 ⟨by omega, by omega, by omega⟩
  -- the correction for a negative dividend is not taken
  have hsel : IsInt (Scalar.select (Scalar.andi (Scalar.cmpi .ne (Scalar.subi (Scalar.extui (Scalar.cmpi .sgt n 0#32)) (Scalar.extui (Scalar.cmpi .slt n 0#32))) (Scalar.subi (Scalar.extui (Scalar.cmpi .sgt 504#32 0#32)) (Scalar.extui (Scalar.cmpi .slt 504#32 0#32)))) (Scalar.cmpi .ne (Scalar.remsi n 504#32) 0#32)) (Scalar.subi (Scalar.divsi n 504#32) 1#32) (Scalar.divsi n 504#32)) ((N / 504 : ℕ) : Int) := by
    have s1 : IsInt (Scalar.subi (Scalar.extui (Scalar.cmpi .sgt 504#32 0#32)) (Scalar.extui (Scalar.cmpi .slt 504#32 0#32))) 1 := by
      unfold IsInt; decide
    have hlt := Affine.slt_fails hn c0 (by omega)
    have hd := Affine.subi (e := ((N / 504 : ℕ) : Int) - 1) q c1 ⟨by omega, by omega, by omega⟩
    rcases Nat.eq_zero_or_pos N with h0 | h0
    · have rr := Affine.ne_fails r c0 (by omega)
      exact Affine.select_fails (by
        intro hh
        have := (BitVec.eq_zero_or_eq_one (Scalar.cmpi .ne (Scalar.remsi n 504#32) 0#32)).resolve_right rr
        rw [this] at hh; revert hh
        rcases BitVec.eq_zero_or_eq_one (Scalar.cmpi .ne (Scalar.subi (Scalar.extui (Scalar.cmpi .sgt n 0#32)) (Scalar.extui (Scalar.cmpi .slt n 0#32))) (Scalar.subi (Scalar.extui (Scalar.cmpi .sgt 504#32 0#32)) (Scalar.extui (Scalar.cmpi .slt 504#32 0#32)))) with h | h <;> rw [h] <;> decide) hd q rfl
    · have hgt := Affine.sgt_holds hn c0 (by omega)
      have s2 := Affine.subi (e := 1) (Affine.extui_holds hgt rfl) (Affine.extui_fails hlt rfl) ⟨by omega, by omega, by omega⟩
      have rr := Affine.ne_fails s2 s1 rfl
      exact Affine.select_fails (by
        intro hh
        have := (BitVec.eq_zero_or_eq_one (Scalar.cmpi .ne (Scalar.subi (Scalar.extui (Scalar.cmpi .sgt n 0#32)) (Scalar.extui (Scalar.cmpi .slt n 0#32))) (Scalar.subi (Scalar.extui (Scalar.cmpi .sgt 504#32 0#32)) (Scalar.extui (Scalar.cmpi .slt 504#32 0#32))))).resolve_right rr
        rw [this] at hh; revert hh
        rcases BitVec.eq_zero_or_eq_one (Scalar.cmpi .ne (Scalar.remsi n 504#32) 0#32) with h | h <;> rw [h] <;> decide) hd q rfl
  have a1 := Affine.addi (e := ((N / 504 + 1 : ℕ) : Int)) hsel c1 ⟨by omega, by omega, by omega⟩
  have a2 := Affine.subi (e := ((N / 504 + 1 : ℕ) : Int)) a1 c0 ⟨by omega, by omega, by omega⟩
  show IsInt (Scalar.addi 0#32 (Scalar.muli (Scalar.divsi (Scalar.subi (Scalar.addi _ 1#32) 0#32) 1#32) 1#32)) _
  rw [Scalar.muli_divsi_one]
  exact Affine.addi c0 a2 ⟨by omega, by omega, by omega⟩

theorem t3_trips (hN : n.toNat = N) (h : N ≤ 320000) : (k0_t3_loop n).trips = N / 504 + 1 := by
  have c0 : IsInt 0#32 ((0 : ℕ) : Int) := Affine.ofNat 0 ⟨rfl, by decide⟩
  exact trips_of_isInt c0 (isInt_chunks hN h) (by omega)

theorem chk5 (hN : n.toNat = N) (h : N ≤ 320000) : k0_chk5 n := by
  have c0 : IsInt 0#32 ((0 : ℕ) : Int) := Affine.ofNat 0 ⟨rfl, by decide⟩
  exact ⟨ok_of_isInt c0 (isInt_chunks hN h) (by omega) (by omega), Scf.rem_ok _ _⟩

end Words

end Cert.Proof.Seg
-- ==== Proof.SegBase.lean ====
module
public import proofs.«01_k».proof.Proof.SegWords
public import Idealize.ShloMosaic.Lib.SparseCore.Quiescent
public import Idealize.ShloMosaic.Lib.LoopRemainder
public import Idealize.ShloMosaic.Lib.Tactic
public import Idealize.ShloMosaic.Lib.Pointwise.Reshape
public import Idealize.ShloMosaic.Lib.Pipeline.Value
@[expose] public section
noncomputable section
namespace Cert.Proof.Seg
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

local notation "ctW" => (Memref.whole Cert.KernelIdeal.main_arg0_scv : Memref Cert.KernelIdeal.sig Kind.scVector Space.hbm Cert.KernelIdeal.S320000x128 EltTy.f32)
local notation "nnW" => (Memref.whole Cert.KernelIdeal.main_arg1_scv : Memref Cert.KernelIdeal.sig Kind.scVector Space.hbm Cert.KernelIdeal.S1024 EltTy.i32)
local notation "outW" => (Memref.whole Cert.KernelIdeal.main_v0_scv : Memref Cert.KernelIdeal.sig Kind.scVector Space.hbm Cert.KernelIdeal.S65536 EltTy.f32)
local notation "bufW" => (Memref.whole Cert.KernelIdeal.cc0_scratch0 : Memref Cert.KernelIdeal.sig Kind.scVector Space.vmem Cert.KernelIdeal.S512x128 EltTy.f32)
local notation "nvW" => (Memref.whole Cert.KernelIdeal.cc0_scratch1 : Memref Cert.KernelIdeal.sig Kind.scVector Space.vmem Cert.KernelIdeal.S1024 EltTy.i32)
local notation "accW" => (Memref.whole Cert.KernelIdeal.cc0_scratch2 : Memref Cert.KernelIdeal.sig Kind.scVector Space.vmem Cert.KernelIdeal.S2048 EltTy.f32)

variable (d : Dev nD) (i : grid0.Coords)

/-- The vector subcore that runs grid point `i`. -/
abbrev thr : Thread nD τ := V d ((i 0).castLE hcore0) ((i 1).castLE hsub0)

/-- One row's step of a segment's sum. -/
def rowTrip (r : DmaSems sig S_) (start n e lo : BitVec 32) (hn : k0_chk5 n) (hw : k0_chk6 start n lo) :=
  k0_t4_body (F := F) i ctW (Memref.isWhole_whole _) nnW (Memref.isWhole_whole _) outW (Memref.isWhole_whole _) bufW (Memref.isWhole_whole _) nvW (Memref.isWhole_whole _) accW (Memref.isWhole_whole _)
    r r r r r r r r r r r r r r r r r r r r r r r r r r r r r r r r r r r r r r r r r r r r r r r r r r r r r r r r r r r r r r r r r r  (fun _ => 0#32) (fun _ => Scalar.ofBits .f32 0x00000000#32) start (fun _ => 0#32) n hn e 504#32 0#32 0#32 lo hw

/-- One chunk's step of a segment's sum. -/
def chunkTrip (r : DmaSems sig S_) (start n e : BitVec 32) (hn : k0_chk5 n) :=
  k0_t3_body (F := F) i ctW (Memref.isWhole_whole _) nnW (Memref.isWhole_whole _) outW (Memref.isWhole_whole _) bufW (Memref.isWhole_whole _) nvW (Memref.isWhole_whole _) accW (Memref.isWhole_whole _)
    r r r r r r r r r r r r r r r r r r r r r r r r r r r r r r r r r r r r r r r r r r r r r r r r r r r r r r r r r r r r r r r r r r  (fun _ => 0#32) (fun _ => Scalar.ofBits .f32 0x00000000#32) start (fun _ => 0#32) n hn e 504#32 0#32 0#32

/-! ## What a segment's sum is -/

/-- The rows to be summed, read at natural-number places. -/
def cell (f2 : S320000x128.Idx → F .f32) (row col : ℕ) : F .f32 :=
  if h : row < 320000 ∧ col < 128 then f2 (ix2 ⟨row, h.1⟩ ⟨col, h.2⟩) else Scalar.ofBits .f32 0x00000000#32

/-- The first `k` rows from row `a` on, summed in order at column `c`. -/
def rowSum (g : ℕ → ℕ → F .f32) (a c : ℕ) : ℕ → F .f32
  | 0 => Scalar.ofBits .f32 0x00000000#32
  | k + 1 => FloatOps.addf (rowSum g a c k) (g (a + k) c)

/-- Sixteen of those sums, at the columns from `16 * q` on. -/
def sums (g : ℕ → ℕ → F .f32) (a q k : ℕ) : FVec F S16 .f32 := fun x => rowSum g a (16 * q + (x 0).val) k

/-- The four vectors of sums a segment's loops carry. -/
def sums4 (g : ℕ → ℕ → F .f32) (a k : ℕ) : FVec F S16 .f32 × FVec F S16 .f32 × FVec F S16 .f32 × FVec F S16 .f32 :=
  (sums g a 0 k, sums g a 1 k, sums g a 2 k, sums g a 3 k)

/-- The chunk buffer holds the rows from `b` on. -/
def Holds5 (g : ℕ → ℕ → F .f32) (b : ℕ) (f5 : S512x128.Idx → F .f32) : Prop :=
  ∀ x : S512x128.Idx, f5 x = g (b + (x 0).val) (x 1).val

omit [URA U] [CountersIn U] in
theorem row_val (f5 : Buf (Elt F) ((bufW).view.loc (thr d i))) (g : ℕ → ℕ → F .f32) (b : ℕ) (h5 : Holds5 g b f5) {off : Fin 2 → ℕ} {inb}
    {r q : ℕ} (ho : off = ![r, 16 * q]) (acc : FVec F S16 .f32) (a k : ℕ) (hacc : acc = sums g a q k) (hr : b + r = a + k) :
    addf acc (shapeCast S16 (View.readAt (Elt F) (bufW).view (Rect.unit (s := S512x128) off S1x16.size inb).toLoadRect f5) shapeCasts_S1x16_S16 : FVec F S16 .f32)
      = sums g a q (k + 1) := by
  subst hacc
  funext x
  show FloatOps.addf (rowSum g a (16 * q + (x 0).val) k) ((shapeCast S16 _ shapeCasts_S1x16_S16 : FVec F S16 .f32) x) = FloatOps.addf (rowSum g a (16 * q + (x 0).val) k) (g (a + k) (16 * q + (x 0).val))
  subst ho
  refine congrArg _ ?_
  rw [show (shapeCast S16 (View.readAt (Elt F) (bufW).view (Rect.unit (s := S512x128) ![r, 16 * q] S1x16.size inb).toLoadRect f5) shapeCasts_S1x16_S16 : FVec F S16 .f32) x
      = (View.readAt (Elt F) (bufW).view (Rect.unit (s := S512x128) ![r, 16 * q] S1x16.size inb).toLoadRect f5) (Fin.cons ⟨0, Nat.one_pos⟩ x)
    from Idealize.ShloMosaic.shapeCast_dropUnit_apply (n := 1) ![16] _ shapeCasts_S1x16_S16 x, View.readAt_apply]
  show f5 _ = _
  rw [h5]
  show g (b + (r + 1 * 0)) (16 * q + 1 * (x 0).val) = _
  simp only [Nat.one_mul, Nat.add_zero, hr]

theorem rowTrip_wp (r : DmaSems sig S_) (start n e lo : BitVec 32) (hn : k0_chk5 n) (hw : k0_chk6 start n lo) (k : Fin (k0_t4_loop start n lo).trips)
    {L A : ℕ} (g : ℕ → ℕ → F .f32) (hL : lo.toNat = L) (hLs : L ≤ 320000) (hk : L + k.val < base L + 512) (hA : A ≤ L)
    (f5 : Buf (Elt F) ((bufW).view.loc (thr d i))) (h5 : Holds5 g (base L) f5) (acc) (hacc : acc = sums4 g A (L - A + k.val)) (Q) :
    ((bufW).view.loc (thr d i) ↦{fullShare} f5 : sProp 𝕄)
      ⊢ iprop((((bufW).view.loc (thr d i) ↦{fullShare} f5) -∗ Q (sums4 g A (L - A + (k.val + 1)))) -∗
        wp frame (wpE (defs₀ (F := F)) Variants.none (thr d i) none) Set.univ (rowTrip i r start n e lo hn hw k acc) Q) := by
  subst hacc
  have hb := base_le (L := L)
  have e2 := row_val d i f5 g (base L) h5 (inb := k0_off2_inb start n lo hw k) (q := 0) (off2_eq hL hLs k hk) _ A (L - A + k.val) rfl (by omega)
  have e3 := row_val d i f5 g (base L) h5 (inb := k0_off3_inb start n lo hw k) (q := 1) (off3_eq hL hLs k hk) _ A (L - A + k.val) rfl (by omega)
  have e4 := row_val d i f5 g (base L) h5 (inb := k0_off4_inb start n lo hw k) (q := 2) (off4_eq hL hLs k hk) _ A (L - A + k.val) rfl (by omega)
  have e5 := row_val d i f5 g (base L) h5 (inb := k0_off5_inb start n lo hw k) (q := 3) (off5_eq hL hLs k hk) _ A (L - A + k.val) rfl (by omega)
  unfold rowTrip k0_t4_body sums4
  iintro Hb HK
  sl_exec
  rw [wp_ret]; imodintro
  unfold k0_pay27 k0_pay28 k0_pay29 k0_pay30
  dsimp only
  rw [e2, e3, e4, e5]
  iapply HK; iexact Hb

/-- Before row `j` of a chunk: the sums over the rows before it, the chunk buffer as copied. -/
def rowInv (g : ℕ → ℕ → F .f32) (A L : ℕ) (f5 : Buf (Elt F) ((bufW).view.loc (thr d i))) (j : ℕ)
    (acc : FVec F S16 .f32 × FVec F S16 .f32 × FVec F S16 .f32 × FVec F S16 .f32) : sProp 𝕄 :=
  iprop(⌜acc = sums4 g A (L - A + j)⌝ ∗ ((bufW).view.loc (thr d i) ↦{fullShare} f5))

theorem chunkTrip_wp (r : DmaSems sig S_) (start n : BitVec 32) (hn : k0_chk5 n) (k : Fin (k0_t3_loop n).trips) (lo : BitVec 32)
    {L A N : ℕ} (q : PosShare TreeShare) (f2 : Buf (Elt F) ((ctW).view.loc (thr d i)))
    (hA : start.toNat = A) (hN : n.toNat = N) (hL : lo.toNat = L) (h0 : A ≤ L) (h1 : L ≤ A + N) (h2 : A + N ≤ 320000)
    (O : CellTallies nD τ sig (HIx 1)) (W : Waits sig (HIx 1)) (Q : FVec F S16 .f32 × FVec F S16 .f32 × FVec F S16 .f32 × FVec F S16 .f32 × BitVec 32 → sProp 𝕄) (f5 : Buf (Elt F) ((bufW).view.loc (thr d i))) :
    iprop(Transfers.MayWaits (thr d i) (none : HIx 1) O ∗ ((ctW).view.loc (thr d i) ↦{q} f2) ∗ ((bufW).view.loc (thr d i) ↦{fullShare} f5)
        ∗ semVal (thr d i, SemLoc.dma r.sem) 0 ∗ owes (thr d i) O W)
      ⊢ iprop((∀ f5', Transfers.MayWaits (thr d i) (none : HIx 1) O -∗ ((ctW).view.loc (thr d i) ↦{q} f2) -∗ ((bufW).view.loc (thr d i) ↦{fullShare} f5') -∗ semVal (thr d i, SemLoc.dma r.sem) 0
          -∗ owes (thr d i) O (insert (SemLoc.dma r.sem, (none : HIx 1)) W)
          -∗ Q ((sums4 (cell f2) A (hiRow L (A + N) - A)).1, (sums4 (cell f2) A (hiRow L (A + N) - A)).2.1, (sums4 (cell f2) A (hiRow L (A + N) - A)).2.2.1,
              (sums4 (cell f2) A (hiRow L (A + N) - A)).2.2.2, hiWord start n lo)) -∗
        wp frame (wpE (defs₀ (F := F)) Variants.none (thr d i) none) Set.univ
          (chunkTrip i r start n (Scalar.addi start n) hn k (sums (cell f2) A 0 (L - A), sums (cell f2) A 1 (L - A), sums (cell f2) A 2 (L - A), sums (cell f2) A 3 (L - A), lo)) Q) := by
  have hw := chk6 hA hN hL h1 h2
  unfold chunkTrip k0_t3_body
  iintro ⟨Hmw, Hct, Hb, Hsem, HO⟩ HK
  sl_exec (disch := first | exact hw | exact View.amount_pos _ _ (show 0 < S512x128.numel by decide))
  have h5 : Holds5 (cell f2) (base L) (View.write (Elt F) (bufW).view f5 (chunkTrip_wp.sl.dma0 d i start n lo f2 hw) Finset.univ) := by
    have hwr : View.write (Elt F) (bufW).view f5 (chunkTrip_wp.sl.dma0 d i start n lo f2 hw) Finset.univ = chunkTrip_wp.sl.dma0 d i start n lo f2 hw :=
      View.write_whole_univ _ _ _
    rw [hwr]
    intro x
    unfold chunkTrip_wp.sl.dma0
    have hb := off1_eq hL (by omega)
    have hrow : base L + 512 ≤ 320000 := by unfold base; omega
    show f2 _ = _
    unfold cell
    have hx0 : (x 0).val < 512 := (x 0).isLt
    have hx1 : (x 1).val < 128 := (x 1).isLt
    rw [dif_pos ⟨by omega, hx1⟩]
    refine congrArg f2 (funext fun a => Fin.ext ?_)
    match a with
    | ⟨0, _⟩ => show k0_off1 lo 0 + 1 * (x 0).val = base L + (x 0).val; rw [hb, Nat.one_mul]; rfl
    | ⟨1, _⟩ => show k0_off1 lo 1 + 1 * (x 1).val = (x 1).val; rw [hb, Nat.one_mul]; exact Nat.zero_add _
  revert h5
  generalize View.write (Elt F) (bufW).view f5 (chunkTrip_wp.sl.dma0 d i start n lo f2 hw) Finset.univ = f5'
  intro h5
  have hbody : ∀ (j : Fin (k0_t4_loop start n lo).trips) (acc), rowInv d i (cell f2) A L f5' j.val acc
        ⊢ wp frame (wpE (defs₀ (F := F)) Variants.none (thr d i) none) Set.univ (rowTrip i r start n (Scalar.addi start n) lo hn hw j acc)
          (rowInv (U := U) d i (cell f2) A L f5' (j.val + 1)) := by
    intro j acc
    unfold rowInv
    iintro ⟨%hacc, Hb⟩
    iapply (rowTrip_wp d i r start n (Scalar.addi start n) lo hn hw j (cell f2) hL (by omega) (row_lt hA hN hL h1 h2 j) h0 f5' h5 acc hacc) $$ [Hb]
    · iexact Hb
    iintro Hb
    isplitr
    · ipureintro; rfl
    · iexact Hb
  iapply (Scf.wp_for_bind frame (wpE (defs₀ (F := F)) Variants.none (thr d i) none) Set.univ (k0_t4_loop start n lo).lb (k0_t4_loop start n lo).ub (k0_t4_loop start n lo).st
    (k0_t4_ok start n lo hw) (sums (cell f2) A 0 (L - A), sums (cell f2) A 1 (L - A), sums (cell f2) A 2 (L - A), sums (cell f2) A 3 (L - A))
    (rowTrip i r start n (Scalar.addi start n) lo hn hw) (rowInv d i (cell f2) A L f5') hbody) $$ [Hb]
  · unfold rowInv
    isplitr
    · ipureintro; rfl
    · iexact Hb
  unfold rowInv
  iintro %acc ⟨%hacc, Hb⟩
  have htr : L - A + (k0_t4_loop start n lo).trips = hiRow L (A + N) - A := by
    have := hiRow_ge h1 h2
    rw [t4_trips hA hN hL h1 h2]; omega
  subst hacc
  rw [show Scf.trips (k0_t4_loop start n lo).lb (k0_t4_loop start n lo).ub (k0_t4_loop start n lo).st = (k0_t4_loop start n lo).trips from rfl, htr]
  unfold sums4
  dsimp only
  sl_exec
  rw [wp_ret]; imodintro
  rw [show chunkTrip_wp.sl.v1216 start n lo = hiWord start n lo from rfl]
  dsimp only
  iapply HK $$ %f5' Hmw Hct Hb Hsem HO

/-! ## A segment -/

/-- What a tile holds between two segments, except its table of sums: the rows to be summed (a read share), the chunk buffer,
    its semaphores at zero, and what it owes. -/
def TileSt (q : PosShare TreeShare) (f2 : Buf (Elt F) ((ctW).view.loc (thr d i))) (O : CellTallies nD τ sig (HIx 1)) (W : Waits sig (HIx 1)) : sProp 𝕄 :=
  iprop(Transfers.MayWaits (thr d i) (none : HIx 1) O ∗ ((ctW).view.loc (thr d i) ↦{q} f2) ∗ (∃ f5, (bufW).view.loc (thr d i) ↦{fullShare} f5)
    ∗ ownSems0 (thr d i) ∗ ∃ W', ⌜∀ p ∈ W', p ∈ W ∨ p.2 = none⌝ ∗ owes (thr d i) O W')

/-- Before chunk `k`: the rows summed so far are `504 * k` at least, or all. -/
def chunkInv (q : PosShare TreeShare) (f2 : Buf (Elt F) ((ctW).view.loc (thr d i))) (O : CellTallies nD τ sig (HIx 1)) (W : Waits sig (HIx 1))
    (A N : ℕ) (k : ℕ) (acc : FVec F S16 .f32 × FVec F S16 .f32 × FVec F S16 .f32 × FVec F S16 .f32 × BitVec 32) : sProp 𝕄 :=
  iprop(⌜∃ (L : ℕ) (lo : BitVec 32), lo.toNat = L ∧ A ≤ L ∧ L ≤ A + N ∧ (L = A + N ∨ A + 504 * k ≤ L)
      ∧ acc = (sums (cell f2) A 0 (L - A), sums (cell f2) A 1 (L - A), sums (cell f2) A 2 (L - A), sums (cell f2) A 3 (L - A), lo)⌝
    ∗ TileSt d i q f2 O W)

theorem ownSems0_take (r : DmaSems sig S_) (hr : (thr d i, SemLoc.dma r.sem) ∈ ownCells (thr d i)) :
    (ownSems0 (thr d i) : sProp 𝕄) = iprop(semVal (thr d i, SemLoc.dma r.sem) 0 ∗ bigSep ((ownCells (thr d i)).erase (thr d i, SemLoc.dma r.sem)) fun g => semVal g 0) := by
  unfold SparseCore.Cfg.ownSems0
  exact SparseCore.bigSep_erase' hr

theorem chunk_step (r : DmaSems sig S_) (hr : (thr d i, SemLoc.dma r.sem) ∈ ownCells (thr d i)) (start n : BitVec 32) (hn : k0_chk5 n)
    {A N : ℕ} (q : PosShare TreeShare) (f2 : Buf (Elt F) ((ctW).view.loc (thr d i)))
    (hA : start.toNat = A) (hN : n.toNat = N) (h2 : A + N ≤ 320000)
    (O : CellTallies nD τ sig (HIx 1)) (W : Waits sig (HIx 1)) (k : Fin (k0_t3_loop n).trips) (acc) :
    chunkInv d i q f2 O W A N k.val acc
      ⊢ wp frame (wpE (defs₀ (F := F)) Variants.none (thr d i) none) Set.univ (chunkTrip i r start n (Scalar.addi start n) hn k acc)
        (chunkInv (U := U) d i q f2 O W A N (k.val + 1)) := by
  unfold chunkInv TileSt
  iintro ⟨%hacc, Hmw, Hct, ⟨%f5, Hb⟩, Hss, %W', %hW', HO⟩
  obtain ⟨L, lo, hL, h0, h1, hp, rfl⟩ := hacc
  ihave Hss' := (Entails.of_eq (ownSems0_take (F := F) d i r hr)) $$ Hss
  icases Hss' with ⟨Hsem, Hrest⟩
  iapply (chunkTrip_wp d i r start n hn k lo q f2 hA hN hL h0 h1 h2 O W') $$ [Hmw Hct Hb Hsem HO]
  · isplitl [Hmw]; · iexact Hmw
    isplitl [Hct]; · iexact Hct
    isplitl [Hb]; · iexact Hb
    isplitl [Hsem] <;> iassumption
  iintro %f5' Hmw Hct Hb Hsem HO
  isplitr
  · ipureintro
    refine ⟨hiRow L (A + N), hiWord start n lo, toNat_hi hA hN hL h1 h2, ?_, ?_, ?_, rfl⟩
    · have := hiRow_ge h1 h2; omega
    · unfold hiRow; omega
    · rcases hiRow_progress h1 h2 with h | h
      · exact .inl h
      · rcases hp with hp | hp
        · left; unfold hiRow at h ⊢; omega
        · right; omega
  isplitl [Hmw]; · iexact Hmw
  isplitl [Hct]; · iexact Hct
  isplitl [Hb]; · iexists _; iexact Hb
  isplitl [Hsem Hrest]
  · iapply (Entails.of_eq (ownSems0_take (F := F) d i r hr).symm)
    isplitl [Hsem] <;> iassumption
  iexists (insert (SemLoc.dma r.sem, (none : HIx 1)) W'); isplitr
  · ipureintro; intro p hp
    rcases Finset.mem_insert.mp hp with hp | hp
    · exact .inr (hp ▸ rfl)
    · exact hW' p hp
  · iexact HO

/-- A segment's chunk loop leaves the sums over its `N` rows. -/
theorem seg_loop (r : DmaSems sig S_) (hr : (thr d i, SemLoc.dma r.sem) ∈ ownCells (thr d i)) (start n : BitVec 32) (hn : k0_chk5 n)
    {A N : ℕ} (q : PosShare TreeShare) (f2 : Buf (Elt F) ((ctW).view.loc (thr d i)))
    (hA : start.toNat = A) (hN : n.toNat = N) (h2 : A + N ≤ 320000)
    (O : CellTallies nD τ sig (HIx 1)) (W : Waits sig (HIx 1)) {β : Type} (kk : _ → Prog (TpuEff nD τ sig (Elt F) Λ₀ (thr d i).2) β) (Q : β → sProp 𝕄) :
    TileSt d i q f2 O W
      ⊢ iprop((∀ w, TileSt d i q f2 O W -∗ wp frame (wpE (defs₀ (F := F)) Variants.none (thr d i) none) Set.univ
            (kk (sums (cell f2) A 0 N, sums (cell f2) A 1 N, sums (cell f2) A 2 N, sums (cell f2) A 3 N, w)) Q) -∗
        wp frame (wpE (defs₀ (F := F)) Variants.none (thr d i) none) Set.univ
          (Scf.Loop.for (k0_t3_loop n) (k0_t3_ok n hn) (sums (cell f2) A 0 0, sums (cell f2) A 0 0, sums (cell f2) A 0 0, sums (cell f2) A 0 0, start)
            (chunkTrip i r start n (Scalar.addi start n) hn) >>= kk) Q) := by
  iintro HT HK
  iapply (Scf.wp_for_bind frame (wpE (defs₀ (F := F)) Variants.none (thr d i) none) Set.univ (k0_t3_loop n).lb (k0_t3_loop n).ub (k0_t3_loop n).st
    (k0_t3_ok n hn) _ (chunkTrip i r start n (Scalar.addi start n) hn) (chunkInv d i q f2 O W A N)
    (chunk_step d i r hr start n hn q f2 hA hN h2 O W)) $$ [HT]
  · unfold chunkInv
    isplitr
    · ipureintro
      refine ⟨A, start, hA, le_refl _, by omega, .inr (by omega), ?_⟩
      rw [Nat.sub_self]; rfl
    · iexact HT
  iintro %acc HI
  unfold chunkInv
  icases HI with ⟨%hacc, HT⟩
  obtain ⟨L, lo, hL, h0, h1, hp, rfl⟩ := hacc
  have htr := t3_trips hN (by omega)
  rw [show Scf.trips (k0_t3_loop n).lb (k0_t3_loop n).ub (k0_t3_loop n).st = (k0_t3_loop n).trips from rfl, htr] at hp
  have hLe : L - A = N := by omega
  rw [hLe]
  iapply HK $$ %lo HT
-- ==== Proof.SegLanes.lean ====
module
public import proofs.«01_k».proof.Proof.SegBase
public import Idealize.ShloMosaic.Lib.SparseCore.Ops
@[expose] public section
noncomputable section
/-!
  The words a tile computes from the segment lengths: the sum of sixteen lanes, one lane picked out of a vector, and the
  sum of all lengths before the tile's own.
-/
namespace Cert.Proof.Seg
open Cert.KernelIdeal Cert.KernelIdeal.Gen
open Idealize.ShloMosaic

theorem foldl_sum16 (f : Fin 16 → BitVec 32) :
    ([1,2,3,4,5,6,7,8,9,10,11,12,13,14,15] : List (Fin 16)).foldl (fun r k => r + f k) (f 0) = ∑ k, f k := by
  simp only [Fin.sum_univ_castSucc, Finset.univ_eq_empty, Finset.sum_empty, zero_add]
  rfl

/-- The sum of sixteen lanes, as the last lane of the running sums. -/
theorem scan_last (v : IVec S16 32) : extractAt ![15] (scan .sum v) inpos_S16_p15 = ∑ k : Fin 16, v (ix1 k) := by
  rw [← foldl_sum16 fun k => v (ix1 k)]
  have hl : ((List.finRange 16).filter fun k => decide (0 < k.val ∧ k.val ≤ 15)) = [1,2,3,4,5,6,7,8,9,10,11,12,13,14,15] := by decide
  rw [← hl]
  have h : (fun k : Fin 16 => v (ix1 k)) = fun k => v (Shape.ofLane k) := by
    funext k; congr 1; funext a; rw [Fin.eq_zero a]; rfl
  have h2 := congrArg (fun f : Fin 16 → BitVec 32 => ((List.finRange 16).filter fun k => decide (0 < k.val ∧ k.val ≤ 15)).foldl (fun r k => r + f k) (f 0)) h
  exact Eq.trans (by rfl) h2.symm

theorem lane_eq (x : S16.Idx) : x = ix1 (x 0) := by
  funext a; rw [Fin.eq_zero a]; rfl

/-- Lane `j`, picked by a mask and summed. -/
theorem pick {j : ℕ} (hj : j < 16) (v : IVec S16 32) :
    extractAt ![15] (scan .sum (select (cmpi .eq (iota .scVector S16 32 [0] iota_S16_d0_w32_scVector) (broadcast S16 (BitVec.ofNat 32 j))) v (broadcast S16 0#32)) : IVec S16 32) inpos_S16_p15
      = v (ix1 ⟨j, hj⟩) := by
  rw [scan_last, Finset.sum_eq_single (⟨j, hj⟩ : Fin 16)]
  · show (if IntOp.cmpi .eq (BitVec.ofNat 32 (0 * 16 + j)) (BitVec.ofNat 32 j) = 1 then _ else _) = _
    rw [Nat.zero_mul, Nat.zero_add, if_pos (by simp [IntOp.cmpi])]
  · intro b _ hb
    show (if IntOp.cmpi .eq (BitVec.ofNat 32 (0 * 16 + b.val)) (BitVec.ofNat 32 j) = 1 then _ else (0#32 : BitVec 32)) = _
    rw [Nat.zero_mul, Nat.zero_add, if_neg]
    · rfl
    · have hne : BitVec.ofNat 32 b.val ≠ BitVec.ofNat 32 j := by
        intro h
        have h' := congrArg BitVec.toNat h
        rw [BitVec.toNat_ofNat, BitVec.toNat_ofNat, Nat.mod_eq_of_lt (by omega), Nat.mod_eq_of_lt (by omega)] at h'
        exact hb (Fin.ext h')
      show ¬ BitVec.ofBool (BitVec.ofNat 32 b.val == BitVec.ofNat 32 j) = 1#1
      rw [beq_eq_false_iff_ne.mpr hne]; decide
  · intro h; exact absurd (Finset.mem_univ _) h

/-! ## The lengths -/

/-- Segment `g`'s length. -/
def nN (f : S1024.Idx → BitVec 32) (g : ℕ) : ℕ := if h : g < 1024 then (f (ix1 ⟨g, h⟩)).toNat else 0

/-- The first `g` lengths together: where segment `g` starts. -/
def pfx (f : S1024.Idx → BitVec 32) (g : ℕ) : ℕ := ∑ j ∈ Finset.range g, nN f j

theorem pfx_succ (f : S1024.Idx → BitVec 32) (g : ℕ) : pfx f (g + 1) = pfx f g + nN f g := Finset.sum_range_succ _ _

theorem pfx_mono (f : S1024.Idx → BitVec 32) {a b : ℕ} (h : a ≤ b) : pfx f a ≤ pfx f b :=
  Finset.sum_le_sum_of_subset (Finset.range_mono h)

/-- Lane `x` of the sum of the first `k` groups of sixteen lengths. -/
def laneSum (f : S1024.Idx → BitVec 32) (k x : ℕ) : ℕ := ∑ t ∈ Finset.range k, nN f (16 * t + x)

theorem laneSum_total (f : S1024.Idx → BitVec 32) (k : ℕ) : ∑ x : Fin 16, laneSum f k x.val = pfx f (16 * k) := by
  induction k with
  | zero => simp [laneSum, pfx]
  | succ k ih =>
    have h : ∀ x : Fin 16, laneSum f (k + 1) x.val = laneSum f k x.val + nN f (16 * k + x.val) := fun x => Finset.sum_range_succ _ _
    simp only [h, Finset.sum_add_distrib, ih]
    unfold pfx
    rw [show 16 * (k + 1) = 16 * k + 16 from by omega, Finset.sum_range_add]
    congr 1

theorem ofNat_sum (g : Fin 16 → ℕ) : (∑ k, BitVec.ofNat 32 (g k)) = BitVec.ofNat 32 (∑ k, g k) := by
  simp only [Fin.sum_univ_castSucc, Finset.univ_eq_empty, Finset.sum_empty, zero_add, BitVec.ofNat_add]

/-- The lanes' total is where the next group starts. -/
theorem total_toNat (f : S1024.Idx → BitVec 32) (hf : pfx f 1024 ≤ 320000) {k : ℕ} (hk : k ≤ 64) (v : IVec S16 32)
    (hv : v = fun x => BitVec.ofNat 32 (laneSum f k (x 0).val)) :
    (extractAt ![15] (scan .sum v) inpos_S16_p15).toNat = pfx f (16 * k) := by
  rw [scan_last, hv]
  have : (∑ x : Fin 16, (fun x : S16.Idx => BitVec.ofNat 32 (laneSum f k (x 0).val)) (ix1 x)) = BitVec.ofNat 32 (pfx f (16 * k)) := by
    rw [← laneSum_total, ← ofNat_sum]; rfl
  rw [this, BitVec.toNat_ofNat]
  have := pfx_mono f (show 16 * k ≤ 1024 by omega)
  exact Nat.mod_eq_of_lt (by omega)

end Cert.Proof.Seg
-- ==== Proof.SegSteps.lean ====
module
public import proofs.«01_k».proof.Proof.SegLanes
@[expose] public section
noncomputable section
/-!
  A tile's walk over its segments, one kind of step at a time: a chunk loop, its remainder loop, a load and a store of the
  table of sums, an assumption, and the passage from one part of the kernel to the next.
-/
namespace Cert.Proof.Seg
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

local notation "ctW" => (Memref.whole Cert.KernelIdeal.main_arg0_scv : Memref Cert.KernelIdeal.sig Kind.scVector Space.hbm Cert.KernelIdeal.S320000x128 EltTy.f32)
local notation "nnW" => (Memref.whole Cert.KernelIdeal.main_arg1_scv : Memref Cert.KernelIdeal.sig Kind.scVector Space.hbm Cert.KernelIdeal.S1024 EltTy.i32)
local notation "outW" => (Memref.whole Cert.KernelIdeal.main_v0_scv : Memref Cert.KernelIdeal.sig Kind.scVector Space.hbm Cert.KernelIdeal.S65536 EltTy.f32)
local notation "bufW" => (Memref.whole Cert.KernelIdeal.cc0_scratch0 : Memref Cert.KernelIdeal.sig Kind.scVector Space.vmem Cert.KernelIdeal.S512x128 EltTy.f32)
local notation "nvW" => (Memref.whole Cert.KernelIdeal.cc0_scratch1 : Memref Cert.KernelIdeal.sig Kind.scVector Space.vmem Cert.KernelIdeal.S1024 EltTy.i32)
local notation "accW" => (Memref.whole Cert.KernelIdeal.cc0_scratch2 : Memref Cert.KernelIdeal.sig Kind.scVector Space.vmem Cert.KernelIdeal.S2048 EltTy.f32)

variable (d : Dev nD) (i : grid0.Coords)

/-- Place `y` of a tile's table of sums, for the tile whose first segment is `B`. -/
def tableVal (g : ℕ → ℕ → F .f32) (f3 : S1024.Idx → BitVec 32) (B y : ℕ) : F .f32 :=
  rowSum g (pfx f3 (B + y / 64)) (y % 64) (nN f3 (B + y / 64))

/-- The first `m` groups of sixteen of the table are in place. -/
def Good7 (g : ℕ → ℕ → F .f32) (f3 : S1024.Idx → BitVec 32) (B m : ℕ) (f7 : S2048.Idx → F .f32) : Prop :=
  ∀ y : S2048.Idx, (y 0).val < 16 * m → f7 y = tableVal g f3 B (y 0).val

/-- What a tile holds when `m` groups of its table are in place; `X` is what else it holds, which the walk does not touch. -/
def St (q : PosShare TreeShare) (f2 : Buf (Elt F) ((ctW).view.loc (thr d i))) (O : CellTallies nD τ sig (HIx 1)) (W : Waits sig (HIx 1))
    (X : sProp 𝕄) (f3 : S1024.Idx → BitVec 32) (B m : ℕ) : sProp 𝕄 :=
  iprop((TileSt d i q f2 O W ∗ X) ∗ ∃ f7, ⌜Good7 (cell f2) f3 B m f7⌝ ∗ ((accW).view.loc (thr d i) ↦{fullShare} f7))

variable {d i} {q : PosShare TreeShare} {f2 : Buf (Elt F) ((ctW).view.loc (thr d i))} {O : CellTallies nD τ sig (HIx 1)} {W : Waits sig (HIx 1)}
  {f3 : S1024.Idx → BitVec 32} {B m : ℕ}

theorem loop_step {β : Type} {Q : β → sProp 𝕄} {X : sProp 𝕄} (r : DmaSems sig S_) (hr : (thr d i, SemLoc.dma r.sem) ∈ ownCells (thr d i)) (start n : BitVec 32)
    (j : ℕ) (hA : start.toNat = pfx f3 (B + j)) (hN : n.toNat = nN f3 (B + j)) (h2 : pfx f3 (B + j) + nN f3 (B + j) ≤ 320000) (hn : k0_chk5 n) (kk : _ → Prog (TpuEff nD τ sig (Elt F) Λ₀ (thr d i).2) β)
    (h : ∀ w, St (U := U) d i q f2 O W X f3 B m ⊢ wp frame (wpE (defs₀ (F := F)) Variants.none (thr d i) none) Set.univ (kk (sums (cell f2) (pfx f3 (B + j)) 0 (nN f3 (B + j)), sums (cell f2) (pfx f3 (B + j)) 1 (nN f3 (B + j)),
        sums (cell f2) (pfx f3 (B + j)) 2 (nN f3 (B + j)), sums (cell f2) (pfx f3 (B + j)) 3 (nN f3 (B + j)), w)) Q) :
    St (U := U) d i q f2 O W X f3 B m ⊢ wp frame (wpE (defs₀ (F := F)) Variants.none (thr d i) none) Set.univ (Scf.Loop.for (k0_t3_loop n) (k0_t3_ok n hn) (k0_pay17, k0_pay17, k0_pay17, k0_pay17, start)
            (chunkTrip i r start n (Scalar.addi start n) hn) >>= kk) Q := by
  unfold St
  iintro ⟨⟨HT, HX⟩, H7⟩
  iapply (seg_loop d i r hr start n hn q f2 hA hN h2 O W kk Q) $$ HT
  iintro %w HT
  iapply (h w)
  unfold St
  isplitl [HT HX]
  · isplitl [HT] <;> iassumption
  · iassumption

theorem rem_step {β : Type} {Q : β → sProp 𝕄} {X : sProp 𝕄} (a x : BitVec 32) (hok : Scf.OK (Scalar.addi a (Scalar.muli (Scalar.divsi x 1#32) 1#32)) (Scalar.addi a x) 1#32) {σ : Type} (init : σ) (body) (kk : σ → Prog (TpuEff nD τ sig (Elt F) Λ₀ (thr d i).2) β)
    (h : St (U := U) d i q f2 O W X f3 B m ⊢ wp frame (wpE (defs₀ (F := F)) Variants.none (thr d i) none) Set.univ (kk init) Q) :
    St (U := U) d i q f2 O W X f3 B m ⊢ wp frame (wpE (defs₀ (F := F)) Variants.none (thr d i) none) Set.univ (Scf.for (Scalar.addi a (Scalar.muli (Scalar.divsi x 1#32) 1#32)) (Scalar.addi a x) 1#32 hok init body >>= kk) Q := by
  rw [Scf.for_rem_eq]
  exact h

theorem load_step {β : Type} {Q : β → sProp 𝕄} {X : sProp 𝕄} {r : LoadRect S2048} {hl : (accW).view.LoadsAt r} (kk : (r.shape.Idx → Elt F .f32) → Prog (TpuEff nD τ sig (Elt F) Λ₀ (thr d i).2) β)
    (h : ∀ v, St (U := U) d i q f2 O W X f3 B m ⊢ wp frame (wpE (defs₀ (F := F)) Variants.none (thr d i) none) Set.univ (kk v) Q) :
    St (U := U) d i q f2 O W X f3 B m ⊢ wp frame (wpE (defs₀ (F := F)) Variants.none (thr d i) none) Set.univ (Prog.lift (.load accW r hl) >>= kk) Q := by
  show _ ⊢ wp frame (wpE (defs₀ (F := F)) Variants.none (thr d i) none) Set.univ (.op (.load accW r hl) kk) Q
  conv_lhs => unfold St
  iintro ⟨HT, %f7, %hg, H7⟩
  iapply (wp_load Variants.none (thr d i) none Set.univ (m := accW) (S := Finset.univ) (Finset.subset_univ _)) $$ H7
  iintro H7
  iapply (h _)
  unfold St
  isplitl [HT]; · iexact HT
  iexists f7; isplitr
  · ipureintro; exact hg
  · iexact H7

theorem good_store {g : ℕ → ℕ → F .f32} (f7 : Buf (Elt F) ((accW).view.loc (thr d i))) (hg : Good7 g f3 B m f7) {off : Fin 1 → ℕ} {inb} (ho : off = ![16 * m])
    (v : FVec F S16 .f32) (hv : ∀ x : S16.Idx, v x = tableVal g f3 B (16 * m + (x 0).val)) :
    Good7 g f3 B (m + 1) (((accW).access (Rect.unit (s := S2048) off S16.size inb)).write (Elt F) f7 v Finset.univ) := by
  subst ho
  intro y hy
  change (accW).view.read (Elt F) ((accW).view.writes (Elt F) f7 [⟨Rect.unit (s := S2048) ![16 * m] S16.size inb, v⟩]) y = _
  by_cases h : (y 0).val < 16 * m
  · rw [View.read_writes_cons_miss_of_axis (accW).view f7 _ _ y 0 (16 * m) 16 rfl rfl rfl (.inl h)]
    exact hg y h
  · have hlt : (y 0).val - 16 * m < 16 := by omega
    refine (View.read_writes_cons_hit_of_coords (accW).view f7 (Rect.unit (s := S2048) ![16 * m] S16.size inb) v [] (ix1 ⟨(y 0).val - 16 * m, hlt⟩) y ?_).trans ?_
    · intro a; rw [Fin.eq_zero a]
      show (y 0).val = 16 * m + 1 * ((y 0).val - 16 * m)
      omega
    · rw [hv]
      show tableVal g f3 B (16 * m + ((y 0).val - 16 * m)) = _
      rw [Nat.add_sub_cancel' (by omega)]

theorem store_step {β : Type} {Q : β → sProp 𝕄} {X : sProp 𝕄} {j k : ℕ} {off : Fin 1 → ℕ} {inb} {Mk} {hx} {hm} (kk : PUnit → Prog (TpuEff nD τ sig (Elt F) Λ₀ (thr d i).2) β) (hk : k < 4) (ho : off = ![16 * m]) (hjk : m = 4 * j + k) (hMk : Mk = Finset.univ)
    (h : St (U := U) d i q f2 O W X f3 B (m + 1) ⊢ wp frame (wpE (defs₀ (F := F)) Variants.none (thr d i) none) Set.univ (kk ⟨⟩) Q) :
    St (U := U) d i q f2 O W X f3 B m ⊢ wp frame (wpE (defs₀ (F := F)) Variants.none (thr d i) none) Set.univ (Prog.lift (.store accW (Rect.unit (s := S2048) off S16.size inb) (sums (cell f2) (pfx f3 (B + j)) k (nN f3 (B + j))) Mk hx hm) >>= kk) Q := by
  subst hMk
  show _ ⊢ wp frame (wpE (defs₀ (F := F)) Variants.none (thr d i) none) Set.univ (.op (.store accW (Rect.unit (s := S2048) off S16.size inb) (sums (cell f2) (pfx f3 (B + j)) k (nN f3 (B + j))) Finset.univ hx hm) kk) Q
  conv_lhs => unfold St
  iintro ⟨HT, %f7, %hg, H7⟩
  iapply (wp_store Variants.none (thr d i) none Set.univ (m := accW) (r := Rect.unit (s := S2048) off S16.size inb) (f := f7) (S := Finset.univ) (Finset.subset_univ _)) $$ H7
  iintro H7
  iapply h
  unfold St
  isplitl [HT]; · iexact HT
  iexists (((accW).access (Rect.unit (s := S2048) off S16.size inb)).write (Elt F) f7 (sums (cell f2) (pfx f3 (B + j)) k (nN f3 (B + j))) Finset.univ); isplitr
  · ipureintro
    refine good_store (d := d) (i := i) f7 hg ho _ fun x => ?_
    have hx : (x 0).val < 16 := (x 0).isLt
    show rowSum _ _ (16 * k + (x 0).val) _ = rowSum _ (pfx f3 (B + (16 * m + (x 0).val) / 64)) ((16 * m + (x 0).val) % 64) (nN f3 (B + (16 * m + (x 0).val) / 64))
    rw [show (16 * m + (x 0).val) / 64 = j by omega, show (16 * m + (x 0).val) % 64 = 16 * k + (x 0).val by omega]
  · iexact H7

theorem assume_step {β : Type} {Q : β → sProp 𝕄} {X : sProp 𝕄} {P : Prop} {dec : Decidable P} (hP : P) (kk : PLift P → Prog (TpuEff nD τ sig (Elt F) Λ₀ (thr d i).2) β) (h : St (U := U) d i q f2 O W X f3 B m ⊢ wp frame (wpE (defs₀ (F := F)) Variants.none (thr d i) none) Set.univ (kk ⟨hP⟩) Q) :
    St (U := U) d i q f2 O W X f3 B m ⊢ wp frame (wpE (defs₀ (F := F)) Variants.none (thr d i) none) Set.univ (Prog.lift (.assume P dec) >>= kk) Q :=
  h.trans (wp_assume Variants.none (thr d i) none Set.univ hP)

theorem part_step {β : Type} {Q : β → sProp 𝕄} {X : sProp 𝕄} {α : Type} (p : Prog (TpuEff nD τ sig (Elt F) Λ₀ (thr d i).2) α) (kk : α → Prog (TpuEff nD τ sig (Elt F) Λ₀ (thr d i).2) β)
    (h : ∀ R : α → sProp 𝕄, (∀ a, R a = wp frame (wpE (defs₀ (F := F)) Variants.none (thr d i) none) Set.univ (kk a) Q) → St (U := U) d i q f2 O W X f3 B m ⊢ wp frame (wpE (defs₀ (F := F)) Variants.none (thr d i) none) Set.univ p R) :
    St (U := U) d i q f2 O W X f3 B m ⊢ wp frame (wpE (defs₀ (F := F)) Variants.none (thr d i) none) Set.univ (p >>= kk) Q := by
  rw [wp_bind]
  exact h _ fun _ => rfl

theorem ret_step {β₀ : Type} {α : Type} {Q₀ : β₀ → sProp 𝕄} {R : α → sProp 𝕄} {X : sProp 𝕄} (a : α) (kk : α → Prog (TpuEff nD τ sig (Elt F) Λ₀ (thr d i).2) β₀) (hR : ∀ a, R a = wp frame (wpE (defs₀ (F := F)) Variants.none (thr d i) none) Set.univ (kk a) Q₀)
    (h : St (U := U) d i q f2 O W X f3 B m ⊢ wp frame (wpE (defs₀ (F := F)) Variants.none (thr d i) none) Set.univ (kk a) Q₀) :
    St (U := U) d i q f2 O W X f3 B m ⊢ wp frame (wpE (defs₀ (F := F)) Variants.none (thr d i) none) Set.univ (pure a : Prog (TpuEff nD τ sig (Elt F) Λ₀ (thr d i).2) α) R := by
  show _ ⊢ wp frame (wpE (defs₀ (F := F)) Variants.none (thr d i) none) Set.univ (.ret a) R
  rw [wp_ret, hR]
  exact h.trans fupd_intro

/-- The next segment's first row. -/
theorem next_start {start n : BitVec 32} {j : ℕ} (hf : pfx f3 1024 ≤ 320000) (hj : B + j < 1024) (hA : start.toNat = pfx f3 (B + j)) (hN : n.toNat = nN f3 (B + j)) :
    (Scalar.addi start n).toNat = pfx f3 (B + (j + 1)) := by
  have := pfx_succ f3 (B + j)
  have h1 := pfx_mono f3 (show B + j + 1 ≤ 1024 by omega)
  rw [toNat_end hA hN (by omega), ← Nat.add_assoc, this]

theorem seg_le (hf : pfx f3 1024 ≤ 320000) {j : ℕ} (hj : B + j < 1024) : pfx f3 (B + j) + nN f3 (B + j) ≤ 320000 := by
  have := pfx_succ f3 (B + j)
  have h1 := pfx_mono f3 (show B + j + 1 ≤ 1024 by omega)
  omega

/-- The word a segment's length is picked out as. -/
theorem pick_toNat (v : IVec S16 32) (b j l : ℕ) (hl : l < 16) (hv : ∀ x : S16.Idx, (v x).toNat = nN f3 (b + (x 0).val)) (hj : b + l = B + j) (e : BitVec 32)
    (he : extractAt ![15] (scan .sum (select (cmpi .eq (iota .scVector S16 32 [0] iota_S16_d0_w32_scVector) (broadcast S16 (BitVec.ofNat 32 l))) v (broadcast S16 0#32)) : IVec S16 32) inpos_S16_p15 = e) :
    e.toNat = nN f3 (B + j) := by
  rw [← he, pick hl, hv, ← hj]; rfl

/-- The length of the next segment, from its start. -/
theorem pick_next {start : BitVec 32} {v : IVec S16 32} {b j l : ℕ} (hS : start.toNat = pfx f3 (B + j)) (hv : ∀ x : S16.Idx, (v x).toNat = nN f3 (b + (x 0).val)) {e : BitVec 32}
    (he : extractAt ![15] (scan .sum (select (cmpi .eq (iota .scVector S16 32 [0] iota_S16_d0_w32_scVector) (broadcast S16 (BitVec.ofNat 32 l))) v (broadcast S16 0#32)) : IVec S16 32) inpos_S16_p15 = e)
    (hl : l < 16) (hj : b + l = B + (j + 1)) : e.toNat = nN f3 (B + (j + 1)) :=
  pick_toNat v b (j + 1) l hl hv hj e he

theorem chk_of {n : BitVec 32} (hf : pfx f3 1024 ≤ 320000) {j : ℕ} (hj : B + j < 1024) (hN : n.toNat = nN f3 (B + j)) : k0_chk5 n :=
  chk5 hN (by have := seg_le (B := B) hf hj; omega)

end Cert.Proof.Seg
-- ==== Proof.SegStart.lean ====
module
public import proofs.«01_k».proof.Proof.SegSteps
public import Idealize.ShloMosaic.Lib.SparseCore.Ops
@[expose] public section
noncomputable section
/-!
  The start of a tile's kernel: the lengths copied in, the rows before the tile's first segment counted, the lengths of its
  thirty-two segments gathered.
-/
namespace Cert.Proof.Seg
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

local notation "ctW" => (Memref.whole Cert.KernelIdeal.main_arg0_scv : Memref Cert.KernelIdeal.sig Kind.scVector Space.hbm Cert.KernelIdeal.S320000x128 EltTy.f32)
local notation "nnW" => (Memref.whole Cert.KernelIdeal.main_arg1_scv : Memref Cert.KernelIdeal.sig Kind.scVector Space.hbm Cert.KernelIdeal.S1024 EltTy.i32)
local notation "outW" => (Memref.whole Cert.KernelIdeal.main_v0_scv : Memref Cert.KernelIdeal.sig Kind.scVector Space.hbm Cert.KernelIdeal.S65536 EltTy.f32)
local notation "bufW" => (Memref.whole Cert.KernelIdeal.cc0_scratch0 : Memref Cert.KernelIdeal.sig Kind.scVector Space.vmem Cert.KernelIdeal.S512x128 EltTy.f32)
local notation "nvW" => (Memref.whole Cert.KernelIdeal.cc0_scratch1 : Memref Cert.KernelIdeal.sig Kind.scVector Space.vmem Cert.KernelIdeal.S1024 EltTy.i32)
local notation "accW" => (Memref.whole Cert.KernelIdeal.cc0_scratch2 : Memref Cert.KernelIdeal.sig Kind.scVector Space.vmem Cert.KernelIdeal.S2048 EltTy.f32)

variable (d : Dev nD) (i : grid0.Coords)

/-- The tile's place among the thirty-two. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

/-- The tile's place, as the kernel computes it. -/
theorem wid_word (i : grid0.Coords) :
    Scalar.addi (Scalar.muli (BitVec.ofNat 32 (i 1).val) 2#32) (BitVec.ofNat 32 (i 0).val) = BitVec.ofNat 32 (wid i) := by
  show BitVec.ofNat 32 (i 1).val * BitVec.ofNat 32 2 + BitVec.ofNat 32 (i 0).val = _
  rw [← BitVec.ofNat_mul, ← BitVec.ofNat_add, Nat.mul_comm]; rfl

theorem ofNat_toNat {n : ℕ} (h : n < 2 ^ 32) : (BitVec.ofNat 32 n).toNat = n := by
  rw [BitVec.toNat_ofNat]; exact Nat.mod_eq_of_lt h

theorem lane_word (x : S16.Idx) : (iota .scVector S16 32 [0] iota_S16_d0_w32_scVector : IVec S16 32) x = BitVec.ofNat 32 (x 0).val := by
  show BitVec.ofNat 32 (0 * 16 + (x 0).val) = _
  rw [Nat.zero_mul, Nat.zero_add]

theorem idx_trip (i : grid0.Coords) (k : Fin (k0_t1_loop i).trips) (x : S16.Idx) (hk : k.val < 64) :
    (k0_pay19 i k x).toNat = 16 * k.val + (x 0).val := by
  have hx : (x 0).val < 16 := (x 0).isLt
  show ((BitVec.ofNat 32 0 + BitVec.ofNat 32 k.val * BitVec.ofNat 32 1) * BitVec.ofNat 32 16 + (iota .scVector S16 32 [0] iota_S16_d0_w32_scVector : IVec S16 32) x).toNat = _
  rw [lane_word, ← BitVec.ofNat_mul, ← BitVec.ofNat_add, ← BitVec.ofNat_mul, ← BitVec.ofNat_add, ofNat_toNat (by omega)]
  omega

theorem idx_first (i : grid0.Coords) (x : S16.Idx) : (k0_pay24 i x).toNat = 32 * wid i + (x 0).val := by
  have hx : (x 0).val < 16 := (x 0).isLt
  have := wid_lt i
  show ((Scalar.addi (Scalar.muli (BitVec.ofNat 32 (i 1).val) 2#32) (BitVec.ofNat 32 (i 0).val) * BitVec.ofNat 32 32 + BitVec.ofNat 32 0) + (iota .scVector S16 32 [0] iota_S16_d0_w32_scVector : IVec S16 32) x).toNat = _
  rw [wid_word, lane_word, ← BitVec.ofNat_mul, ← BitVec.ofNat_add, ← BitVec.ofNat_add, ofNat_toNat (by omega)]
  omega

theorem idx_second (i : grid0.Coords) (x : S16.Idx) : (k0_pay25 i x).toNat = 32 * wid i + 16 + (x 0).val := by
  have hx : (x 0).val < 16 := (x 0).isLt
  have := wid_lt i
  show ((Scalar.addi (Scalar.muli (BitVec.ofNat 32 (i 1).val) 2#32) (BitVec.ofNat 32 (i 0).val) * BitVec.ofNat 32 32 + BitVec.ofNat 32 16) + (iota .scVector S16 32 [0] iota_S16_d0_w32_scVector : IVec S16 32) x).toNat = _
  rw [wid_word, lane_word, ← BitVec.ofNat_mul, ← BitVec.ofNat_add, ← BitVec.ofNat_add, ofNat_toNat (by omega)]
  omega

theorem off577_eq (i : grid0.Coords) : k0_off577 i = ![2048 * wid i] := by
  have := wid_lt i
  show ![((Scalar.addi (Scalar.muli (BitVec.ofNat 32 (i 1).val) 2#32) (BitVec.ofNat 32 (i 0).val) * BitVec.ofNat 32 32) * BitVec.ofNat 32 64).toNat] = _
  rw [wid_word, ← BitVec.ofNat_mul, ← BitVec.ofNat_mul, ofNat_toNat (by omega)]
  congr 1; omega

theorem t1_trips (i : grid0.Coords) : (k0_t1_loop i).trips = 2 * wid i := by
  have := wid_lt i
  have hub : (k0_t1_loop i).ub = BitVec.ofNat 32 (2 * wid i) := by
    show 0#32 + Scalar.divsi (Scalar.addi (Scalar.muli (BitVec.ofNat 32 (i 1).val) 2#32) (BitVec.ofNat 32 (i 0).val) * BitVec.ofNat 32 2 - 0#32) 1#32 * 1#32 = _
    rw [wid_word, ← BitVec.ofNat_mul, BitVec.sub_zero, Nat.mul_comm]
    exact (congrArg (0#32 + ·) (Scalar.muli_divsi_one _)).trans (BitVec.zero_add _)
  show Scf.trips 0#32 (k0_t1_loop i).ub 1#32 = _
  rw [hub, trips_of_isInt (isInt_of_toNat (n := 0) rfl (by omega)) (isInt_of_toNat (ofNat_toNat (by omega)) (by omega)) (Nat.zero_le _), Nat.sub_zero]

theorem gathered (f3 : S1024.Idx → BitVec 32) (v : IVec S16 32) (h : ∀ a x, ((![v] : Fin 1 → IVec S16 32) a x).toNat < S1024.size a) (b : ℕ)
    (hv : ∀ x : S16.Idx, (v x).toNat = b + (x 0).val) (hb : b + 16 ≤ 1024) (x : S16.Idx) :
    (loadIdx (e := .i32) (F := F) f3 ![v] h x : BitVec 32).toNat = nN f3 (b + (x 0).val) := by
  have hx : (x 0).val < 16 := (x 0).isLt
  show (f3 fun a => ⟨((![v] : Fin 1 → IVec S16 32) a x).toNat, h a x⟩).toNat = _
  unfold nN
  rw [dif_pos (by omega)]
  congr 2
  funext a; rw [Fin.eq_zero a]; exact Fin.ext (hv x)

/-- Before group `k` of sixteen lengths: each lane holds the sum of its lengths so far. -/
def cntInv (f3 : Buf (Elt F) ((nvW).view.loc (thr d i))) (k : ℕ) (acc : IVec S16 32) : sProp 𝕄 :=
  iprop(⌜acc = fun x => BitVec.ofNat 32 (laneSum f3 k (x 0).val)⌝ ∗ ((nvW).view.loc (thr d i) ↦{fullShare} f3))

/-- One group's step. -/
def cntTrip (i : grid0.Coords) := k0_t1_body (F := F) i ctW (Memref.isWhole_whole _) nnW (Memref.isWhole_whole _) outW (Memref.isWhole_whole _) bufW (Memref.isWhole_whole _) nvW (Memref.isWhole_whole _) accW (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65

/-- One remaining group's step: there is none. -/
def remTrip (i : grid0.Coords) := k0_t2_body (F := F) i ctW (Memref.isWhole_whole _) nnW (Memref.isWhole_whole _) outW (Memref.isWhole_whole _) bufW (Memref.isWhole_whole _) nvW (Memref.isWhole_whole _) accW (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65

theorem rem_entry {β : Type} {Q : β → sProp 𝕄} (acc : IVec S16 32) (kk : IVec S16 32 → Prog (TpuEff nD τ sig (Elt F) Λ₀ (thr d i).2) β) :
    wp frame (wpE (defs₀ (F := F)) Variants.none (thr d i) none) Set.univ (kk acc) Q
      ⊢ wp frame (wpE (defs₀ (F := F)) Variants.none (thr d i) none) Set.univ (Scf.Loop.for (k0_t2_loop i) (k0_t2_ok i) acc (remTrip i) >>= kk) Q := by
  have hrem := Scf.for_rem_eq (E := TpuEff nD τ sig (Elt F) Λ₀ (thr d i).2) 0#32 (Scalar.subi (Scalar.muli (Scalar.addi (Scalar.muli (BitVec.ofNat 32 (i 1).val) 2#32) (BitVec.ofNat 32 (i 0).val)) 2#32) 0#32)
    (k0_t2_ok i) acc (remTrip i)
  rw [show Scf.Loop.for (k0_t2_loop i) (k0_t2_ok i) acc (remTrip i) = (.ret acc : Prog (TpuEff nD τ sig (Elt F) Λ₀ (thr d i).2) _) from hrem]
  exact Entails.of_eq rfl

theorem cnt_step (f3 : Buf (Elt F) ((nvW).view.loc (thr d i))) (k : Fin (k0_t1_loop i).trips) (acc : IVec S16 32) :
    cntInv (U := U) d i f3 k.val acc ⊢ wp frame (wpE (defs₀ (F := F)) Variants.none (thr d i) none) Set.univ (cntTrip i k acc) (cntInv d i f3 (k.val + 1)) := by
  have hk : k.val < 64 := by have := k.isLt; have := t1_trips i; have := wid_lt i; omega
  have hc : k0_chk1 i k (k0_pay19 i k) := by
    intro a x
    rw [Fin.eq_zero a]
    have hx : (x 0).val < 16 := (x 0).isLt
    show (k0_pay19 i k x).toNat < 1024
    rw [idx_trip i k x hk]; omega
  unfold cntTrip k0_t1_body cntInv
  iintro ⟨%ha, Hv⟩
  subst ha
  iapply (wp_assume Variants.none (thr d i) none Set.univ hc)
  dsimp only [Prog.bind]
  iapply (SparseCore.wp_vectorLoadIdx Variants.none (thr d i) none Set.univ (base := nvW) (S := Finset.univ) (Finset.subset_univ _)) $$ Hv
  iintro Hv
  dsimp only
  rw [show (pure : IVec S16 32 → Prog (TpuEff nD τ sig (Elt F) Λ₀ (thr d i).2) _) = Prog.ret from rfl, wp_ret]; imodintro
  isplitr
  · ipureintro
    funext x
    have hx : (x 0).val < 16 := (x 0).isLt
    simp only [Memref.read_access_whole]
    show BitVec.ofNat 32 (laneSum f3 k.val (x 0).val) + loadIdx (F := F) (e := .i32) f3 ![k0_pay19 i k] hc x = _
    rw [show laneSum f3 (k.val + 1) (x 0).val = laneSum f3 k.val (x 0).val + nN f3 (16 * k.val + (x 0).val) from Finset.sum_range_succ _ _,
      ← gathered (F := F) f3 _ hc (16 * k.val) (fun x => idx_trip i k x hk) (by omega) x, BitVec.ofNat_add, BitVec.ofNat_toNat, BitVec.setWidth_eq]
  · iexact Hv

set_option maxHeartbeats 2000000 in
theorem part1_step {β : Type} {Q : β → sProp 𝕄} {Y : sProp 𝕄} (q q3 : PosShare TreeShare) (f2 : Buf (Elt F) ((ctW).view.loc (thr d i))) (f3 : Buf (Elt F) ((nnW).view.loc (thr d i)))
    (O : CellTallies nD τ sig (HIx 1)) (W : Waits sig (HIx 1)) (hf : pfx f3 1024 ≤ 320000) (kk : _ → Prog (TpuEff nD τ sig (Elt F) Λ₀ (thr d i).2) β)
    (h : ∀ (v2 v16 v31 : BitVec 32) (v20 v24 : IVec S16 32) (hw : k0_chk5 v31) (c d' : BitVec 32), v16.toNat = pfx f3 (32 * wid i + 0) → v31.toNat = nN f3 (32 * wid i + 0) →
      (∀ x : S16.Idx, (v20 x).toNat = nN f3 (32 * wid i + (x 0).val)) → (∀ x : S16.Idx, (v24 x).toNat = nN f3 (32 * wid i + 16 + (x 0).val)) →
      St (U := U) d i q f2 O W iprop(((nnW).view.loc (thr d i) ↦{q3} f3) ∗ (∃ f6, (nvW).view.loc (thr d i) ↦{fullShare} f6) ∗ Y) f3 (32 * wid i) 0
        ⊢ wp frame (wpE (defs₀ (F := F)) Variants.none (thr d i) none) Set.univ
        (kk ⟨v2, iota .scVector S16 32 [0] iota_S16_d0_w32_scVector, k0_pay17 (F := F), v16, v20, v24, v31, hw, Scalar.addi v16 v31, 504#32, c, d'⟩) Q)
    (f5 : Buf (Elt F) ((bufW).view.loc (thr d i))) (f6 : Buf (Elt F) ((nvW).view.loc (thr d i))) (f7 : Buf (Elt F) ((accW).view.loc (thr d i))) :
    iprop(Transfers.MayWaits (thr d i) (none : HIx 1) O ∗ ((ctW).view.loc (thr d i) ↦{q} f2) ∗ ((nnW).view.loc (thr d i) ↦{q3} f3)
        ∗ ((bufW).view.loc (thr d i) ↦{fullShare} f5) ∗ ((nvW).view.loc (thr d i) ↦{fullShare} f6) ∗ ((accW).view.loc (thr d i) ↦{fullShare} f7)
        ∗ ownSems0 (thr d i) ∗ owes (thr d i) O W ∗ Y)
      ⊢ wp frame (wpE (defs₀ (F := F)) Variants.none (thr d i) none) Set.univ (k0_part1 i ctW (Memref.isWhole_whole _) nnW (Memref.isWhole_whole _) outW (Memref.isWhole_whole _) bufW (Memref.isWhole_whole _) nvW (Memref.isWhole_whole _) accW (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 >>= kk) Q := by
  have hw := wid_lt i
  have hr0 : (thr d i, SemLoc.dma cc0_scoped0.sem) ∈ ownCells (thr d i) := (mem_ownCells (g := (thr d i, SemLoc.dma cc0_scoped0.sem))).mpr ⟨rfl, by rfl⟩
  have hc3 : k0_chk3 (k0_pay24 i) := by
    intro a x
    rw [Fin.eq_zero a]
    have hx : (x 0).val < 16 := (x 0).isLt
    show (k0_pay24 i x).toNat < 1024
    rw [idx_first]; omega
  have hc4 : k0_chk4 (k0_pay25 i) := by
    intro a x
    rw [Fin.eq_zero a]
    have hx : (x 0).val < 16 := (x 0).isLt
    show (k0_pay25 i x).toNat < 1024
    rw [idx_second]; omega
  rw [wp_bind]
  rw [k0_part1_eq_skeleton]; unfold k0_part1_skel
  iintro ⟨Hmw, Hct, Hnn, Hb, H6, H7, Hss, HO, HY⟩
  ihave Hss' := (Entails.of_eq (ownSems0_take (F := F) d i cc0_scoped0 hr0)) $$ Hss
  icases Hss' with ⟨Hsem, Hrest⟩
  sl_exec (disch := exact View.amount_pos _ _ (show 0 < S1024.numel by decide))
  have hwr : View.write (Elt F) (nvW).view f6 (part1_step.sl.dma0 d i f3) Finset.univ = f3 := View.write_whole_univ _ _ _
  rw [hwr]
  iapply (Scf.wp_for_bind frame (wpE (defs₀ (F := F)) Variants.none (thr d i) none) Set.univ (k0_t1_loop i).lb (k0_t1_loop i).ub (k0_t1_loop i).st
    (k0_t1_ok i) k0_pay18 (cntTrip i) (cntInv d i f3) (cnt_step d i f3)) $$ [H6]
  · unfold cntInv
    isplitr
    · ipureintro; rfl
    · iexact H6
  unfold cntInv
  iintro %acc ⟨%hacc, H6⟩
  rw [show Scf.trips (k0_t1_loop i).lb (k0_t1_loop i).ub (k0_t1_loop i).st = (k0_t1_loop i).trips from rfl, t1_trips] at hacc
  have h16 : (extractAt ![15] (k0_pay23 acc) inpos_S16_p15).toNat = pfx f3 (32 * wid i + 0) := by
    rw [Nat.add_zero, show 32 * wid i = 16 * (2 * wid i) by omega]
    exact total_toNat f3 hf (by omega) acc hacc
  iapply (rem_entry d i acc)
  iapply (wp_assume Variants.none (thr d i) none Set.univ hc3)
  dsimp only [Prog.bind]
  iapply (SparseCore.wp_vectorLoadIdx Variants.none (thr d i) none Set.univ (base := nvW) (S := Finset.univ) (Finset.subset_univ _)) $$ H6
  iintro H6
  iapply (wp_assume Variants.none (thr d i) none Set.univ hc4)
  dsimp only [Prog.bind]
  iapply (SparseCore.wp_vectorLoadIdx Variants.none (thr d i) none Set.univ (base := nvW) (S := Finset.univ) (Finset.subset_univ _)) $$ H6
  iintro H6
  have h20 : ∀ x : S16.Idx, (loadIdx (e := .i32) (F := F) (View.read (Elt F) ((nvW).access (Rect.whole cc0_scratch1.ty.shape)) f3) ![k0_pay24 i] (k0_idx3_inb _ hc3) x : BitVec 32).toNat = nN f3 (32 * wid i + (x 0).val) := by
    rw [Memref.read_access_whole]
    exact gathered (F := F) f3 _ hc3 _ (idx_first i) (by omega)
  have h24 : ∀ x : S16.Idx, (loadIdx (e := .i32) (F := F) (View.read (Elt F) ((nvW).access (Rect.whole cc0_scratch1.ty.shape)) f3) ![k0_pay25 i] (k0_idx4_inb _ hc4) x : BitVec 32).toNat = nN f3 (32 * wid i + 16 + (x 0).val) := by
    rw [Memref.read_access_whole]
    exact gathered (F := F) f3 _ hc4 _ (idx_second i) (by omega)
  have h31 := pick_toNat (B := 32 * wid i) (f3 := f3) _ (32 * wid i) 0 0 (by decide) h20 rfl _ rfl
  iapply (wp_assume Variants.none (thr d i) none Set.univ (chk_of hf (j := 0) (by omega) h31))
  dsimp only [Prog.bind]
  rw [show ∀ (α : Type), (pure : α → Prog (TpuEff nD τ sig (Elt F) Λ₀ (thr d i).2) _) = Prog.ret from fun _ => rfl, wp_ret]
  imodintro
  iapply (h _ _ _ _ _ (chk_of hf (j := 0) (by omega) h31) _ _ h16 h31 h20 h24)
  unfold St TileSt
  isplitr [H7]
  · isplitr [Hnn H6 HY]
    · isplitl [Hmw]; · iexact Hmw
      isplitl [Hct]; · iexact Hct
      isplitl [Hb]; · iexists f5; iexact Hb
      isplitl [Hsem Hrest]
      · iapply (Entails.of_eq (ownSems0_take (F := F) d i cc0_scoped0 hr0).symm)
        isplitl [Hsem]
        · iexact Hsem
        · iexact Hrest
      iexists (insert (SemLoc.dma cc0_scoped0.sem, (none : HIx 1)) W); isplitr
      · ipureintro; intro p hp
        rcases Finset.mem_insert.mp hp with hp | hp
        · exact .inr (hp ▸ rfl)
        · exact .inl hp
      · iexact HO
    · isplitl [Hnn]; · iexact Hnn
      isplitl [H6]
      · iexists f3; iexact H6
      · iexact HY
  · iexists f7; isplitr
    · ipureintro; intro y hy; exact absurd hy (by omega)
    · iexact H7

end Cert.Proof.Seg
-- ==== Proof.SegOut.lean ====
module
public import proofs.«01_k».proof.Proof.SegStart
@[expose] public section
noncomputable section
/-!
  The end of a tile's kernel: its table of sums copied out to its share of the result.
-/
namespace Cert.Proof.Seg
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

local notation "ctW" => (Memref.whole Cert.KernelIdeal.main_arg0_scv : Memref Cert.KernelIdeal.sig Kind.scVector Space.hbm Cert.KernelIdeal.S320000x128 EltTy.f32)
local notation "nnW" => (Memref.whole Cert.KernelIdeal.main_arg1_scv : Memref Cert.KernelIdeal.sig Kind.scVector Space.hbm Cert.KernelIdeal.S1024 EltTy.i32)
local notation "outW" => (Memref.whole Cert.KernelIdeal.main_v0_scv : Memref Cert.KernelIdeal.sig Kind.scVector Space.hbm Cert.KernelIdeal.S65536 EltTy.f32)
local notation "bufW" => (Memref.whole Cert.KernelIdeal.cc0_scratch0 : Memref Cert.KernelIdeal.sig Kind.scVector Space.vmem Cert.KernelIdeal.S512x128 EltTy.f32)
local notation "nvW" => (Memref.whole Cert.KernelIdeal.cc0_scratch1 : Memref Cert.KernelIdeal.sig Kind.scVector Space.vmem Cert.KernelIdeal.S1024 EltTy.i32)
local notation "accW" => (Memref.whole Cert.KernelIdeal.cc0_scratch2 : Memref Cert.KernelIdeal.sig Kind.scVector Space.vmem Cert.KernelIdeal.S2048 EltTy.f32)

variable (d : Dev nD) (i : grid0.Coords)

/-- The result: place `z` is column `z % 64` of the sum over segment `z / 64`. -/
def outVal (f2 : S320000x128.Idx → F .f32) (f3 : S1024.Idx → BitVec 32) (z : S65536.Idx) : F .f32 :=
  rowSum (cell f2) (pfx f3 ((z 0).val / 64)) ((z 0).val % 64) (nN f3 ((z 0).val / 64))

/-- The tile's share of the result. -/
abbrev outS (i : grid0.Coords) : Memref sig .scVector .hbm S2048 .f32 :=
  (outW).slice (Rect.unit (s := S65536) (k0_off577 i) S2048.size (k0_off577_inb i)) (fun _ => rfl)

/-- A table of sums in place is the tile's share of the result. -/
theorem out_value (f2 : Buf (Elt F) ((ctW).view.loc (thr d i))) (f3 : S1024.Idx → BitVec 32) (f7 : S2048.Idx → F .f32) (fo : Buf (Elt F) ((outS i).view.loc (thr d i)))
    (h7 : Good7 (cell f2) f3 (32 * wid i) 128 f7) :
    ∀ z ∈ (outS i).view.set, (outS i).view.writes (Elt F) fo [⟨Rect.whole S2048, f7⟩] z = outVal f2 f3 z := by
  intro z hz
  obtain ⟨x, -, rfl⟩ := Finset.mem_map.mp hz
  have hx : (x 0).val < 2048 := (x 0).isLt
  have hread : ∀ f : Buf (Elt F) ((outS i).view.loc (thr d i)), f ((outS i).view.emb x) = (outS i).view.read (Elt F) f x := fun f => rfl
  have hw : (outS i).view.read (Elt F) ((outS i).view.writes (Elt F) fo [⟨Rect.whole S2048, f7⟩]) x = f7 x :=
    View.read_writes_cons_hit_of_coords (outS i).view fo (Rect.whole S2048) f7 [] x x fun a => by
      show (x a).val = 0 + 1 * (x a).val
      omega
  rw [hread ((outS i).view.writes (Elt F) fo [⟨Rect.whole S2048, f7⟩]), hw, h7 x (by omega)]
  have he : (((outS i).view.emb x : S65536.Idx) 0).val = 2048 * wid i + (x 0).val := by
    show k0_off577 i 0 + 1 * (x 0).val = _
    rw [off577_eq, Nat.one_mul]; rfl
  unfold tableVal outVal
  rw [he, show (2048 * wid i + (x 0).val) / 64 = 32 * wid i + (x 0).val / 64 by omega, show (2048 * wid i + (x 0).val) % 64 = (x 0).val % 64 by omega]

theorem out_step {Q : PUnit → sProp 𝕄} {X : sProp 𝕄} (q : PosShare TreeShare) (f2 : Buf (Elt F) ((ctW).view.loc (thr d i))) (f3 : S1024.Idx → BitVec 32)
    (O : CellTallies nD τ sig (HIx 1)) (W : Waits sig (HIx 1)) (fo : Buf (Elt F) ((outS i).view.loc (thr d i)))
    (ha) (hb) (hc) (hd) (he)
    (h : iprop((TileSt d i q f2 O W ∗ X ∗ ((outS i).view.loc (thr d i) ↦[(outS i).view.set]{fullShare} outVal f2 f3)) ∗ ∃ f7, ((accW).view.loc (thr d i) ↦{fullShare} f7)) ⊢ Q ⟨⟩) :
    St (U := U) d i q f2 O W iprop(X ∗ ((outS i).view.loc (thr d i) ↦[(outS i).view.set]{fullShare} fo)) f3 (32 * wid i) 128
      ⊢ wp frame (wpE (defs₀ (F := F)) Variants.none (thr d i) none) Set.univ
        (do
          Prog.lift (.enqueueDma accW (.here (outS i)) (.dma cc0_scoped65.sem) ha hb hc)
          Prog.lift (.waitDma2 cc0_scoped65.sem accW (outS i) hd he)
          pure ⟨⟩ : Prog (TpuEff nD τ sig (Elt F) Λ₀ (thr d i).2) PUnit) Q := by
  have hr : (thr d i, SemLoc.dma cc0_scoped65.sem) ∈ ownCells (thr d i) := (mem_ownCells (g := (thr d i, SemLoc.dma cc0_scoped65.sem))).mpr ⟨rfl, by rfl⟩
  conv_lhs => unfold St TileSt
  iintro ⟨⟨⟨Hmw, Hct, Hb, Hss, %W', %hW', HO⟩, HX, Ho⟩, %f7, %h7, H7⟩
  ihave Hss' := (Entails.of_eq (ownSems0_take (F := F) d i cc0_scoped65 hr)) $$ Hss
  icases Hss' with ⟨Hsem, Hrest⟩
  sl_exec (disch := exact View.amount_pos _ _ (show 0 < S2048.numel by decide))
  rw [wp_ret]; imodintro
  iapply h
  ihave Ho := (Entails.of_eq (pointsTo_congr (out_value d i f2 f3 f7 fo h7))) $$ Ho
  unfold TileSt
  isplitr [H7]
  · isplitr [HX Ho]
    · isplitl [Hmw]; · iexact Hmw
      isplitl [Hct]; · iexact Hct
      isplitl [Hb]; · iexact Hb
      isplitl [Hsem Hrest]
      · iapply (Entails.of_eq (ownSems0_take (F := F) d i cc0_scoped65 hr).symm)
        isplitl [Hsem]
        · iexact Hsem
        · iexact Hrest
      iexists (insert (SemLoc.dma cc0_scoped65.sem, (none : HIx 1)) W'); isplitr
      · ipureintro; intro p hp
        rcases Finset.mem_insert.mp hp with hp | hp
        · exact .inr (hp ▸ rfl)
        · exact hW' p hp
      · iexact HO
    · isplitl [HX] <;> iassumption
  · iexists f7; iexact H7

end Cert.Proof.Seg
-- ==== Proof.SegWalk.lean ====
module
public import proofs.«01_k».proof.Proof.SegOut
@[expose] public section
noncomputable section
/-!
  A tile's whole kernel: its start, its thirty-two segments in turn, its table copied out.
-/
namespace Cert.Proof.Seg
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

local notation "ctW" => (Memref.whole Cert.KernelIdeal.main_arg0_scv : Memref Cert.KernelIdeal.sig Kind.scVector Space.hbm Cert.KernelIdeal.S320000x128 EltTy.f32)
local notation "nnW" => (Memref.whole Cert.KernelIdeal.main_arg1_scv : Memref Cert.KernelIdeal.sig Kind.scVector Space.hbm Cert.KernelIdeal.S1024 EltTy.i32)
local notation "outW" => (Memref.whole Cert.KernelIdeal.main_v0_scv : Memref Cert.KernelIdeal.sig Kind.scVector Space.hbm Cert.KernelIdeal.S65536 EltTy.f32)
local notation "bufW" => (Memref.whole Cert.KernelIdeal.cc0_scratch0 : Memref Cert.KernelIdeal.sig Kind.scVector Space.vmem Cert.KernelIdeal.S512x128 EltTy.f32)
local notation "nvW" => (Memref.whole Cert.KernelIdeal.cc0_scratch1 : Memref Cert.KernelIdeal.sig Kind.scVector Space.vmem Cert.KernelIdeal.S1024 EltTy.i32)
local notation "accW" => (Memref.whole Cert.KernelIdeal.cc0_scratch2 : Memref Cert.KernelIdeal.sig Kind.scVector Space.vmem Cert.KernelIdeal.S2048 EltTy.f32)

variable (d : Dev nD) (i : grid0.Coords)

/-- The tile's kernel at the launch's own memrefs. -/
def segBody := cc0__sc_segsum_body (F := F) i ctW (Memref.isWhole_whole _) nnW (Memref.isWhole_whole _) outW (Memref.isWhole_whole _) bufW (Memref.isWhole_whole _) nvW (Memref.isWhole_whole _) accW (Memref.isWhole_whole _)
  cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65

theorem st_regroup {q : PosShare TreeShare} {f2 : Buf (Elt F) ((ctW).view.loc (thr d i))} {O : CellTallies nD τ sig (HIx 1)} {W : Waits sig (HIx 1)}
    {X Y Z : sProp 𝕄} {f3 : S1024.Idx → BitVec 32} {B m : ℕ} :
    St (U := U) d i q f2 O W iprop(X ∗ Y ∗ Z) f3 B m ⊢ St (U := U) d i q f2 O W iprop((X ∗ Y) ∗ Z) f3 B m := by
  unfold St
  iintro ⟨⟨HT, HX, HY, HZ⟩, H7⟩
  isplitr [H7]
  · isplitl [HT]; · iexact HT
    isplitr [HZ]
    · isplitl [HX] <;> iassumption
    · iexact HZ
  · iexact H7

set_option maxHeartbeats 2000000 in
/-- A tile leaves its share of the result in place. -/
theorem segBody_wp (q q3 : PosShare TreeShare) (f2 : Buf (Elt F) ((ctW).view.loc (thr d i))) (f3 : Buf (Elt F) ((nnW).view.loc (thr d i)))
    (O : CellTallies nD τ sig (HIx 1)) (W : Waits sig (HIx 1)) (hf : pfx f3 1024 ≤ 320000)
    (f5 : Buf (Elt F) ((bufW).view.loc (thr d i))) (f6 : Buf (Elt F) ((nvW).view.loc (thr d i))) (f7 : Buf (Elt F) ((accW).view.loc (thr d i)))
    (fo : Buf (Elt F) ((outS i).view.loc (thr d i))) (Q : PUnit → sProp 𝕄)
    (h : iprop((TileSt d i q f2 O W ∗ (((nnW).view.loc (thr d i) ↦{q3} f3) ∗ (∃ f6, (nvW).view.loc (thr d i) ↦{fullShare} f6))
        ∗ ((outS i).view.loc (thr d i) ↦[(outS i).view.set]{fullShare} outVal f2 f3)) ∗ ∃ f7, ((accW).view.loc (thr d i) ↦{fullShare} f7)) ⊢ Q ⟨⟩) :
    iprop(Transfers.MayWaits (thr d i) (none : HIx 1) O ∗ ((ctW).view.loc (thr d i) ↦{q} f2) ∗ ((nnW).view.loc (thr d i) ↦{q3} f3)
        ∗ ((bufW).view.loc (thr d i) ↦{fullShare} f5) ∗ ((nvW).view.loc (thr d i) ↦{fullShare} f6) ∗ ((accW).view.loc (thr d i) ↦{fullShare} f7)
        ∗ ownSems0 (thr d i) ∗ owes (thr d i) O W ∗ ((outS i).view.loc (thr d i) ↦[(outS i).view.set]{fullShare} fo))
      ⊢ wp frame (wpE (defs₀ (F := F)) Variants.none (thr d i) none) Set.univ (segBody i) Q := by
  have hB := wid_lt i
  unfold segBody
  rw [cc0__sc_segsum_body_eq_skeleton]; unfold cc0__sc_segsum_body_skel
  refine part1_step d i q q3 f2 f3 O W hf _ (fun v2 v16 v31 v20 v24 hw c c' hS hN hv hv' => ?_) f5 f6 f7
  refine (show _ ⊢ St (U := U) d i q f2 O W iprop((((nnW).view.loc (thr d i) ↦{q3} f3) ∗ (∃ f6, (nvW).view.loc (thr d i) ↦{fullShare} f6))
        ∗ ((outS i).view.loc (thr d i) ↦[(outS i).view.set]{fullShare} fo)) f3 (32 * wid i) 0 from st_regroup d i).trans ?_
  iterate 6
    refine part_step _ _ fun R hR => ?_
    simp only [k0_part2_eq_skeleton, k0_part3_eq_skeleton, k0_part4_eq_skeleton, k0_part5_eq_skeleton, k0_part6_eq_skeleton, k0_part7_eq_skeleton]
    refine loop_step _ ((mem_ownCells (g := (thr d i, SemLoc.dma _))).mpr ⟨rfl, by rfl⟩) _ _ _ hS hN (seg_le hf (by omega)) (chk_of hf (by omega) hN) _ fun _ => ?_
    refine rem_step _ _ _ _ _ _ ?_
    iterate 4
      refine load_step _ fun _ => ?_
      refine store_step _ (by decide) (by rfl) (by rfl) (by rfl) ?_
    extract_lets n
    have hN' := pick_next hS hv (e := n) rfl (by decide) (by omega)
    replace hS := next_start hf (by omega) hS hN
    replace hN := hN'
    refine assume_step (chk_of hf (by omega) hN) _ ?_
    refine ret_step _ _ hR ?_
    clear hR
  refine part_step _ _ fun R hR => ?_
  simp only [k0_part8_eq_skeleton]
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  iterate 4
    refine load_step _ fun _ => ?_
    refine store_step _ (by decide) (by rfl) (by rfl) (by rfl) ?_
  extract_lets n
  have hN' := pick_next hS hv (e := n) rfl (by decide) (by omega)
  replace hS := next_start hf (by omega) hS hN
  replace hN := hN'
  refine ret_step _ _ hR ?_
  clear hR
  refine part_step _ _ fun R hR => ?_
  simp only [k0_part9_eq_skeleton]
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  iterate 4
    refine load_step _ fun _ => ?_
    refine store_step _ (by decide) (by rfl) (by rfl) (by rfl) ?_
  refine ret_step _ _ hR ?_
  clear hR
  iterate 8
    refine part_step _ _ fun R hR => ?_
    simp only [k0_part10_eq_skeleton, k0_part11_eq_skeleton, k0_part12_eq_skeleton, k0_part13_eq_skeleton, k0_part14_eq_skeleton, k0_part15_eq_skeleton, k0_part16_eq_skeleton, k0_part17_eq_skeleton]
    first | unfold k0_part10_skel | unfold k0_part11_skel | unfold k0_part12_skel | unfold k0_part13_skel | unfold k0_part14_skel | unfold k0_part15_skel | unfold k0_part16_skel | unfold k0_part17_skel
    extract_lets n
    have hN' := pick_next hS hv (e := n) rfl (by decide) (by omega)
    replace hS := next_start hf (by omega) hS hN
    replace hN := hN'
    refine assume_step (chk_of hf (by omega) hN) _ ?_
    refine loop_step _ ((mem_ownCells (g := (thr d i, SemLoc.dma _))).mpr ⟨rfl, by rfl⟩) _ _ _ hS hN (seg_le hf (by omega)) (chk_of hf (by omega) hN) _ fun _ => ?_
    refine rem_step _ _ _ _ _ _ ?_
    iterate 4
      refine load_step _ fun _ => ?_
      refine store_step _ (by decide) (by rfl) (by rfl) (by rfl) ?_
    refine ret_step _ _ hR ?_
    clear hR
  refine part_step _ _ fun R hR => ?_
  simp only [k0_part18_eq_skeleton]
  first | unfold k0_part18_skel
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  iterate 4
    refine load_step _ fun _ => ?_
    refine store_step _ (by decide) (by rfl) (by rfl) (by rfl) ?_
  refine ret_step _ _ hR ?_
  clear hR
  refine part_step _ _ fun R hR => ?_
  simp only [k0_part19_eq_skeleton]
  first | unfold k0_part19_skel
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  iterate 3
    refine load_step _ fun _ => ?_
    refine store_step _ (by decide) (by rfl) (by rfl) (by rfl) ?_
  refine load_step _ fun _ => ?_
  refine ret_step _ _ hR ?_
  clear hR
  refine part_step _ _ fun R hR => ?_
  simp only [k0_part20_eq_skeleton]
  refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  iterate 3
    refine load_step _ fun _ => ?_
    refine store_step _ (by decide) (by rfl) (by rfl) (by rfl) ?_
  refine ret_step _ _ hR ?_
  clear hR
  refine part_step _ _ fun R hR => ?_
  simp only [k0_part21_eq_skeleton]
  refine load_step _ fun _ => ?_
  refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  iterate 3
    refine load_step _ fun _ => ?_
    refine store_step _ (by decide) (by rfl) (by rfl) (by rfl) ?_
  refine ret_step _ _ hR ?_
  clear hR
  refine part_step _ _ fun R hR => ?_
  simp only [k0_part22_eq_skeleton]
  refine load_step _ fun _ => ?_
  refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  refine load_step _ fun _ => ?_
  refine store_step _ (by decide) (by rfl) (by rfl) (by rfl) ?_
  refine load_step _ fun _ => ?_
  refine store_step _ (by decide) (by rfl) (by rfl) (by rfl) ?_
  refine load_step _ fun _ => ?_
  refine ret_step _ _ hR ?_
  clear hR
  refine part_step _ _ fun R hR => ?_
  simp only [k0_part23_eq_skeleton]
  refine store_step _ (by decide) (by rfl) (by rfl) (by rfl) ?_
  refine load_step _ fun _ => ?_
  refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  refine load_step _ fun _ => ?_
  refine store_step _ (by decide) (by rfl) (by rfl) (by rfl) ?_
  refine load_step _ fun _ => ?_
  refine store_step _ (by decide) (by rfl) (by rfl) (by rfl) ?_
  refine ret_step _ _ hR ?_
  clear hR
  refine part_step _ _ fun R hR => ?_
  simp only [k0_part24_eq_skeleton]
  refine load_step _ fun _ => ?_
  refine store_step _ (by decide) (by rfl) (by rfl) (by rfl) ?_
  refine load_step _ fun _ => ?_
  refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  refine load_step _ fun _ => ?_
  refine store_step _ (by decide) (by rfl) (by rfl) (by rfl) ?_
  refine load_step _ fun _ => ?_
  refine store_step _ (by decide) (by rfl) (by rfl) (by rfl) ?_
  refine ret_step _ _ hR ?_
  clear hR
  refine part_step _ _ fun R hR => ?_
  simp only [k0_part25_eq_skeleton]
  refine load_step _ fun _ => ?_
  refine store_step _ (by decide) (by rfl) (by rfl) (by rfl) ?_
  refine load_step _ fun _ => ?_
  refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  refine load_step _ fun _ => ?_
  refine store_step _ (by decide) (by rfl) (by rfl) (by rfl) ?_
  refine load_step _ fun _ => ?_
  refine ret_step _ _ hR ?_
  clear hR
  refine part_step _ _ fun R hR => ?_
  simp only [k0_part26_eq_skeleton]
  refine store_step _ (by decide) (by rfl) (by rfl) (by rfl) ?_
  refine load_step _ fun _ => ?_
  refine store_step _ (by decide) (by rfl) (by rfl) (by rfl) ?_
  refine load_step _ fun _ => ?_
  refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  refine load_step _ fun _ => ?_
  refine store_step _ (by decide) (by rfl) (by rfl) (by rfl) ?_
  refine ret_step _ _ hR ?_
  clear hR
  refine part_step _ _ fun R hR => ?_
  simp only [k0_part27_eq_skeleton]
  iterate 3
    refine load_step _ fun _ => ?_
    refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  refine load_step _ fun _ => ?_
  refine store_step _ (by decide) (by rfl) (by rfl) (by rfl) ?_
  refine ret_step _ _ hR ?_
  clear hR
  refine part_step _ _ fun R hR => ?_
  simp only [k0_part28_eq_skeleton]
  iterate 3
    refine load_step _ fun _ => ?_
    refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  refine load_step _ fun _ => ?_
  refine ret_step _ _ hR ?_
  clear hR
  refine part_step _ _ fun R hR => ?_
  simp only [k0_part29_eq_skeleton]
  refine store_step _ (by decide) (by rfl) (by rfl) (by rfl) ?_
  iterate 3
    refine load_step _ fun _ => ?_
    refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  refine ret_step _ _ hR ?_
  clear hR
  refine part_step _ _ fun R hR => ?_
  simp only [k0_part30_eq_skeleton]
  iterate 4
    refine load_step _ fun _ => ?_
    refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  refine ret_step _ _ hR ?_
  clear hR
  refine part_step _ _ fun R hR => ?_
  simp only [k0_part31_eq_skeleton]
  iterate 4
    refine load_step _ fun _ => ?_
    refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine ret_step _ _ hR ?_
  clear hR
  refine part_step _ _ fun R hR => ?_
  simp only [k0_part32_eq_skeleton]
  refine rem_step _ _ _ _ _ _ ?_
  iterate 4
    refine load_step _ fun _ => ?_
    refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine loop_step _ ((mem_ownCells (g := (thr d i, SemLoc.dma _))).mpr ⟨rfl, by rfl⟩) _ _ _ hS hN (seg_le hf (by omega)) (chk_of hf (by omega) hN) _ fun _ => ?_
  refine ret_step _ _ hR ?_
  clear hR
  refine part_step _ _ fun R hR => ?_
  simp only [k0_part33_eq_skeleton]
  refine rem_step _ _ _ _ _ _ ?_
  iterate 4
    refine load_step _ fun _ => ?_
    refine store_step _ (by decide) (by rfl) (by rfl) (by rfl) ?_
  extract_lets n
  have hN' := pick_next hS hv' (e := n) rfl (by decide) (by omega)
  replace hS := next_start hf (by omega) hS hN
  replace hN := hN'
  refine assume_step (chk_of hf (by omega) hN) _ ?_
  refine ret_step _ _ hR ?_
  clear hR
  refine loop_step _ ((mem_ownCells (g := (thr d i, SemLoc.dma _))).mpr ⟨rfl, by rfl⟩) _ _ _ hS hN (seg_le hf (by omega)) (chk_of hf (by omega) hN) _ fun _ => ?_
  refine rem_step _ _ _ _ _ _ ?_
  iterate 4
    refine load_step _ fun _ => ?_
    refine store_step _ (by decide) (by rfl) (by rfl) (by rfl) ?_
  exact out_step d i q f2 f3 O W fo _ _ _ _ _ h

end Cert.Proof.Seg
-- ==== Proof.SegLaunch.lean ====
module
public import proofs.«01_k».proof.Proof.SegWalk
public import Idealize.ShloMosaic.Lib.StableHlo.Run
public import Idealize.ShloMosaic.Lib.Pipeline.Kit
@[expose] public section
noncomputable section
/-!
  The whole program: the one SparseCore call, from its arrays at launch to its result.

  Tile `w` of the thirty-two reads both arguments through read share `w` and owns the 2048 places of the result from `2048 * w` on.
  The TensorCore keeps what is left of the two arguments while the call runs.
-/
namespace Cert.Proof.Seg
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := Variants.none.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "ctW" => (Memref.whole Cert.KernelIdeal.main_arg0_scv : Memref Cert.KernelIdeal.sig Kind.scVector Space.hbm Cert.KernelIdeal.S320000x128 EltTy.f32)
local notation "nnW" => (Memref.whole Cert.KernelIdeal.main_arg1_scv : Memref Cert.KernelIdeal.sig Kind.scVector Space.hbm Cert.KernelIdeal.S1024 EltTy.i32)
local notation "outW" => (Memref.whole Cert.KernelIdeal.main_v0_scv : Memref Cert.KernelIdeal.sig Kind.scVector Space.hbm Cert.KernelIdeal.S65536 EltTy.f32)
local notation "bufW" => (Memref.whole Cert.KernelIdeal.cc0_scratch0 : Memref Cert.KernelIdeal.sig Kind.scVector Space.vmem Cert.KernelIdeal.S512x128 EltTy.f32)
local notation "nvW" => (Memref.whole Cert.KernelIdeal.cc0_scratch1 : Memref Cert.KernelIdeal.sig Kind.scVector Space.vmem Cert.KernelIdeal.S1024 EltTy.i32)
local notation "accW" => (Memref.whole Cert.KernelIdeal.cc0_scratch2 : Memref Cert.KernelIdeal.sig Kind.scVector Space.vmem Cert.KernelIdeal.S2048 EltTy.f32)

/-! ## The arrays and their parts -/

variable (m : (ℓ : Loc nD τ sig) → Buf (Elt F) ℓ) (ρ : Dev nD → PrngReg)

/-- The rows, the counts and the result, as locations of device `d`. -/
abbrev xLoc (d : Dev nD) : Loc nD τ sig := (SparseCore.T d).loc main_arg0
abbrev aLoc (d : Dev nD) : Loc nD τ sig := (SparseCore.T d).loc main_arg1
abbrev oLoc (d : Dev nD) : Loc nD τ sig := (SparseCore.T d).loc main_v0

/-- Tile `w`'s places of the result. -/
def outSet (w : ℕ) : Finset S65536.Idx := Finset.univ.filter fun z => (z 0).val / 2048 = w

theorem outSet_disjoint : ∀ w ∈ Finset.range 32, ∀ w' ∈ Finset.range 32, w ≠ w' → Disjoint (outSet w) (outSet w') := fun w _ w' _ h =>
  Finset.disjoint_left.mpr fun z hz hz' => h ((Finset.mem_filter.mp hz).2.symm.trans (Finset.mem_filter.mp hz').2)

theorem outSet_cover : (Finset.range 32).biUnion outSet = Finset.univ := Finset.eq_univ_of_forall fun z => by
  have hz : (z 0).val < 65536 := (z 0).isLt
  exact Finset.mem_biUnion.mpr ⟨(z 0).val / 2048, Finset.mem_range.mpr (by omega), Finset.mem_filter.mpr ⟨Finset.mem_univ _, rfl⟩⟩

theorem outS_set (i : grid0.Coords) : (outS i).view.set = outSet (wid i) := by
  have he : ∀ x : S2048.Idx, (((outS i).view.emb x : S65536.Idx) 0).val = 2048 * wid i + (x 0).val := fun x => by
    show k0_off577 i 0 + 1 * (x 0).val = _
    rw [off577_eq, Nat.one_mul]; rfl
  ext z
  refine Iff.trans Finset.mem_map (Iff.trans ?_ Finset.mem_filter.symm)
  constructor
  · rintro ⟨x, -, rfl⟩
    have hx : (x 0).val < 2048 := (x 0).isLt
    exact ⟨Finset.mem_univ _, by rw [he]; omega⟩
  · rintro ⟨-, hz⟩
    refine ⟨fun a => match a with | 0 => ⟨(z 0).val % 2048, Nat.mod_lt _ (by decide)⟩, Finset.mem_univ _, funext fun a => ?_⟩
    match a with
    | 0 => exact Fin.ext ((he _).trans (by show 2048 * wid i + (z 0).val % 2048 = (z 0).val; omega))

/-- What tile `w` holds of the arrays: its read shares of the arguments, its places of the result at `f`. -/
abbrev part (d : Dev nD) (f : Buf (Elt F) (oLoc d)) (w : ℕ) : sProp 𝕄 :=
  iprop((xLoc d ↦{Transfers.shareTokN fullShare w} m (xLoc d)) ∗ (aLoc d ↦{Transfers.shareTokN fullShare w} m (aLoc d)) ∗ (oLoc d ↦[outSet w]{fullShare} f))

/-- What stays with the TensorCore while the call runs. -/
abbrev kept (d : Dev nD) : sProp 𝕄 :=
  iprop((xLoc d ↦{Transfers.shareDrop fullShare 32} m (xLoc d)) ∗ (aLoc d ↦{Transfers.shareDrop fullShare 32} m (aLoc d)))

/-- The three arrays are what the TensorCore keeps and the thirty-two tiles' parts. -/
theorem parts_split (d : Dev nD) (f : Buf (Elt F) (oLoc d)) :
    iprop((xLoc d ↦{fullShare} m (xLoc d)) ∗ (aLoc d ↦{fullShare} m (aLoc d)) ∗ (oLoc d ↦{fullShare} f))
      ⊢ (iprop(kept m d ∗ bigSep (Finset.range 32) (part m d f)) : sProp 𝕄) := by
  unfold part kept
  rw [bigSep_sep', bigSep_sep', ← pointsTo_biUnion (ℓ := oLoc d) (Finset.range 32) outSet outSet_disjoint, outSet_cover]
  iintro ⟨Hx, Ha, Ho⟩
  ihave Hx := (Transfers.pointsTo_toks_range (ℓ := xLoc d) (f := m (xLoc d)) (S := Finset.univ) fullShare 32).1 $$ Hx
  ihave Ha := (Transfers.pointsTo_toks_range (ℓ := aLoc d) (f := m (aLoc d)) (S := Finset.univ) fullShare 32).1 $$ Ha
  icases Hx with ⟨Hx, Hxs⟩
  icases Ha with ⟨Ha, Has⟩
  isplitl [Hx Ha]
  · isplitl [Hx] <;> iassumption
  isplitl [Hxs]; · iexact Hxs
  isplitl [Has]; · iexact Has
  iexact Ho

theorem parts_join (d : Dev nD) (f : Buf (Elt F) (oLoc d)) :
    (iprop(kept m d ∗ bigSep (Finset.range 32) (part m d f)) : sProp 𝕄)
      ⊢ iprop((xLoc d ↦{fullShare} m (xLoc d)) ∗ (aLoc d ↦{fullShare} m (aLoc d)) ∗ (oLoc d ↦{fullShare} f)) := by
  unfold part kept
  rw [bigSep_sep', bigSep_sep', ← pointsTo_biUnion (ℓ := oLoc d) (Finset.range 32) outSet outSet_disjoint, outSet_cover]
  iintro ⟨⟨Hx, Ha⟩, Hxs, Has, Ho⟩
  isplitl [Hx Hxs]
  · iapply (Transfers.pointsTo_toks_range (ℓ := xLoc d) (f := m (xLoc d)) (S := Finset.univ) fullShare 32).2
    isplitl [Hx] <;> iassumption
  isplitl [Ha Has]
  · iapply (Transfers.pointsTo_toks_range (ℓ := aLoc d) (f := m (aLoc d)) (S := Finset.univ) fullShare 32).2
    isplitl [Ha] <;> iassumption
  iexact Ho

/-- The thirty-two tiles, by core and subcore. -/
theorem tiles_eq (Φ : ℕ → sProp 𝕄) :
    (bigSep Finset.univ fun c : Fin 2 => bigSep Finset.univ fun s : Fin 16 => Φ (2 * s.val + c.val)) = bigSep (Finset.range 32) Φ := by
  rw [show Finset.range 32 = ((Finset.univ : Finset (Fin 2)) ×ˢ (Finset.univ : Finset (Fin 16))).image (fun p => 2 * p.2.val + p.1.val) by decide,
    SparseCore.bigSep_image_of_injOn, SparseCore.bigSep_product]
  rintro ⟨a, b⟩ - ⟨a', b'⟩ - h
  have h : 2 * b.val + a.val = 2 * b'.val + a'.val := h
  exact Prod.ext (Fin.ext (show a.val = a'.val by omega)) (Fin.ext (show b.val = b'.val by omega))

section Run
variable [FloatOps F]

/-- The result the program leaves on device `d`. -/
abbrev res (d : Dev nD) : Buf (Elt F) (oLoc d) := outVal (F := F) (m (xLoc d)) (m (aLoc d))

/-- The call hands each tile its part and takes it back with the tile's places of the result written. -/
def P : (K (F := F)).Pay (nD := nD) (Val := Elt F) (Name := ℕ) (U := UU) where
  st := fun q d c => match q with | 0 => bigSep Finset.univ fun s : Fin 16 => part m d (m (oLoc d)) (2 * s.val + c.val)
  dn := fun q d c => match q with | 0 => bigSep Finset.univ fun s : Fin 16 => part m d (res m d) (2 * s.val + c.val)
  go := fun q d c s => match q with | 0 => part m d (m (oLoc d)) (2 * s.val + c.val)
  td := fun q d c s => match q with | 0 => part m d (res m d) (2 * s.val + c.val)
  x := fun _ _ => iprop(emp)

instance P_storable : (P (F := F) m).IsStorable where
  st q d c := match q with
    | 0 => (inferInstance : BI.Storable (upEmb : UEmb _ 𝕄) (bigSep Finset.univ fun s : Fin 16 => part m d (m (oLoc d)) (2 * s.val + c.val)))
  dn q d c := match q with
    | 0 => (inferInstance : BI.Storable (upEmb : UEmb _ 𝕄) (bigSep Finset.univ fun s : Fin 16 => part m d (res m d) (2 * s.val + c.val)))
  go q d c s := match q with
    | 0 => (inferInstance : BI.Storable (upEmb : UEmb _ 𝕄) (part m d (m (oLoc d)) (2 * s.val + c.val)))
  td q d c s := match q with
    | 0 => (inferInstance : BI.Storable (upEmb : UEmb _ 𝕄) (part m d (res m d) (2 * s.val + c.val)))

/-! ## The tile's task -/

/-- The tile's own buffers are its three scratch arrays and the rest. -/
theorem ownBufs_V (d : Dev nD) (i : grid0.Coords) :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f)
          ∗ bigSep ((((ownRefs (τ := τ) (thr d i).2).erase ((thr d i).2.devRef cc0_scratch0)).erase
              ((thr d i).2.devRef cc0_scratch1)).erase ((thr d i).2.devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := (thr d i).2) (b := (thr d i).2.devRef cc0_scratch2) rfl⟩⟩)]

theorem pts_out (d : Dev nD) (i : grid0.Coords) (f : Buf (Elt F) (oLoc d)) :
    ((outS i).view.loc (thr d i) ↦[(outS i).view.set]{fullShare} f : sProp 𝕄) = (oLoc d ↦[outSet (wid i)]{fullShare} f) := by
  rw [outS_set]

theorem tile_body (hp : ∀ d, pfx (m (aLoc d)) 1024 ≤ 320000) (d : Dev nD) (i : grid0.Coords) (O : CellTallies nD τ sig (HIx 1)) (W : Waits sig (HIx 1)) (hO : ∀ g, O g none = 0) :
    iprop(levAts (K (F := F)).L (K (F := F)).lev ∗ emp ∗ part m d (m (oLoc d)) (wid i)
        ∗ scopedBufs (thr d i) ∗ scopedSems0 (thr d i) ∗ owes (thr d i) O W)
      ⊢ wp frame (wpE (defs₀ (F := F)) Variants.none (thr d i) none) Set.univ (segBody i)
          fun _ => iprop(part m d (res m d) (wid i) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V facts d _ _, SparseCore.Cfg.scopedSems0_V (Val := Elt F) d _ _, ownBufs_V]
  refine BIBase.Entails.trans ?_ (wp_mono _ _ _ (Q := fun a => iprop((bigSep ((((ownRefs (τ := τ) (thr d i).2).erase ((thr d i).2.devRef cc0_scratch0)).erase
              ((thr d i).2.devRef cc0_scratch1)).erase ((thr d i).2.devRef cc0_scratch2))
              fun b => iprop(∃ f, ((d, b) : Loc nD τ sig) ↦{fullShare} f))
            ∗ (TileSt d i (Transfers.shareTokN fullShare (wid i)) (m (xLoc d)) O W
              ∗ (((nnW).view.loc (thr d i) ↦{Transfers.shareTokN fullShare (wid i)} m (aLoc d)) ∗ (∃ f6, (nvW).view.loc (thr d i) ↦{fullShare} f6))
              ∗ ((outS i).view.loc (thr d i) ↦[(outS i).view.set]{fullShare} outVal (F := F) (m (xLoc d)) (m (aLoc d)))) ∗ ∃ f7, ((accW).view.loc (thr d i) ↦{fullShare} f7))) ?_)
  · iintro ⟨#Hlv, -, ⟨Hx, Ha, Ho⟩, ⟨⟨%f5, H5⟩, ⟨%f6, H6⟩, ⟨%f7, H7⟩, Hbufs⟩, Hsems, HO⟩
    ihave Hmw := (show levAts (K (F := F)).L (K (F := F)).lev ⊢ Transfers.MayWaits (thr d i) (none : HIx 1) O from
      (K (F := F)).mayWaits_none (thr := thr d i) hO) $$ Hlv
    ihave Ho := (Entails.of_eq (pts_out d i _).symm) $$ Ho
    iapply wp_frame_l
    isplitl [Hbufs]; · iexact Hbufs
    iapply (segBody_wp d i (Transfers.shareTokN fullShare (wid i)) (Transfers.shareTokN fullShare (wid i)) (m (xLoc d)) (m (aLoc d)) O W (hp d) f5 f6 f7 (m (oLoc d)) _ .rfl)
    isplitl [Hmw]; · iexact Hmw
    isplitl [Hx]; · iexact Hx
    isplitl [Ha]; · iexact Ha
    isplitl [H5]; · iexact H5
    isplitl [H6]; · iexact H6
    isplitl [H7]; · iexact H7
    isplitl [Hsems]; · iexact Hsems
    isplitl [HO]; · iexact HO
    iexact Ho
  intro _
  unfold TileSt
  iintro ⟨Hbufs, ⟨⟨-, Hx, ⟨%g5, H5⟩, Hsems, %W', %hW', HO⟩, ⟨Ha, %g6, H6⟩, Ho⟩, %g7, H7⟩
  isplitl [Hx Ha Ho]
  · isplitl [Hx]; · iexact Hx
    isplitl [Ha]; · iexact Ha
    iapply (Entails.of_eq (pts_out d i _)); iexact Ho
  isplitl [H5 H6 H7 Hbufs]
  · isplitl [H5]; · iexists _; iexact H5
    isplitl [H6]; · iexists _; iexact H6
    isplitl [H7]; · iexists _; iexact H7
    iexact Hbufs
  isplitl [Hsems]; · iexact Hsems
  iexists W'; isplitr
  · ipureintro; intro p hp
    exact (hW' p hp).imp_right .inl
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => segBody (coordsV c s)) ⟨⟩ c s := rfl

theorem tileObl (hp : ∀ d, pfx (m (aLoc d)) 1024 ≤ 320000) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  exact tile_body m hp d (coordsV ⟨_, hci.1⟩ ⟨_, hci.2⟩) O W hO

theorem vecSplit : (K (F := F)).VecSplit' (P m) 0 := by
  intro d c
  show (bigSep Finset.univ fun s : Fin 16 => part m d (m (oLoc d)) (2 * s.val + c.val)) ⊢ |={Set.univ}=> iprop(
      (bigSep Finset.univ fun s : Fin 16 => part m d (m (oLoc d)) (2 * s.val + c.val))
      ∗ ((bigSep Finset.univ fun s : Fin 16 => part m d (res m d) (2 * s.val + c.val))
          -∗ bigSep Finset.univ fun s : Fin 16 => part m d (res m d) (2 * s.val + c.val)))
  iintro H; imodintro
  isplitl [H]; · iexact H
  iintro H; iexact H

/-! ## The program on the TensorCore -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (oLoc d ↦{fullShare} W main_v0)) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) :
    (bigSep Finset.univ fun c : Fin ((K (F := F)).nCore 0) => (P m).st 0 d c) = bigSep (Finset.range 32) (part m d (m (oLoc d))) :=
  tiles_eq (part m d (m (oLoc d)))

theorem dn0_eq (d : Dev nD) :
    (bigSep Finset.univ fun c : Fin ((K (F := F)).nCore 0) => (P m).dn 0 d c) = bigSep (Finset.range 32) (part m d (res m d)) :=
  tiles_eq (part m d (res m d))

abbrev FIN (d : Dev nD) : sProp 𝕄 := iprop((xLoc d ↦{fullShare} m (xLoc d)) ∗ (aLoc d ↦{fullShare} m (aLoc d)) ∗ (oLoc d ↦{fullShare} res m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hxs, Hts, -⟩, -⟩
  ihave Hxs := (parts_split m d (m (oLoc d))) $$ Hxs
  icases Hxs with ⟨Hk, Hp⟩
  iapply ((K (F := F)).wp_run (D (F := F)) 𝒱 (EH := EH) (P := P m) κ d 0) $$ [Hst Hk Hp Hb Hts]
  isplitr; · iexact Hctx
  isplitl [Hst]; · iexact Hst
  isplitl [Hp]
  · rw [st0_eq]; iexact Hp
  iintro ⟨Hst, Hdn⟩
  ihave Hdn' := (Entails.of_eq (dn0_eq m d)) $$ Hdn
  imodintro
  isplitl [Hst]; · iexact Hst
  isplitr [Hb Hts]
  · iapply (parts_join m d (res m d))
    isplitl [Hk] <;> iassumption
  isplitl [Hb] <;> iassumption

def fq (d : Dev nD) (s' : Phys nD τ sig (Elt F)) : Prop :=
  s'.mem.mem (xLoc d) = m (xLoc d) ∧ s'.mem.mem (aLoc d) = m (aLoc d) ∧ s'.mem.mem (oLoc d) = res m d

theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := oLoc d) (I := Finset.univ) (q := fullShare) (f := res m d)) $$ [HSI Ho]
  · isplitl [HSI] <;> iassumption
  icases H with %ho
  ipureintro
  exact ⟨funext fun i => hx i (Finset.mem_univ i), funext fun i => ha i (Finset.mem_univ i), funext fun i => ho i (Finset.mem_univ i)⟩

/-- What a run ends in: the arguments unchanged, the result at the segments' sums, every semaphore at zero. -/
def QC : PUnit × MemSt nD τ sig (Elt F) → Prop := fun r =>
  (∀ c : Dev nD, r.2.mem (xLoc c) = m (xLoc c) ∧ r.2.mem (aLoc c) = m (aLoc c) ∧ r.2.mem (oLoc c) = res m c) ∧ r.2.sem = fun _ => 0

/-- Every run of the program ends so, when the counts' total is at most the number of rows. -/
theorem run_main [∀ e, Nonempty (Elt F e)] (hp : ∀ d, pfx (m (aLoc d)) 1024 ≤ 320000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hp)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run
end Cert.Proof.Seg
-- ==== Proof.SegCounts.lean ====
module
public import proofs.«01_k».proof.Defs
public import proofs.«01_k».proof.Proof.SegLanes
public import proofs.«01_k».proof.Proof.Gen.Pre_counts_ok
public import Idealize.ShloMosaic.Lib.StableHlo.Predicate
public import Idealize.ShloMosaic.Lib.Routing.Ops
@[expose] public section
noncomputable section
/-!
  What the precondition says of the counts: each lies in 0 … 320000, and together they count the 320000 rows.
-/
namespace Cert.Proof.Seg
open Idealize.ShloMosaic Idealize.ShloMosaic.StableHlo

theorem andi_one {a b : BitVec 1} : IntOp.andi a b = 1#1 ↔ a = 1#1 ∧ b = 1#1 := by
  unfold IntOp.andi
  revert a b; decide

/-- Where the conjunction of some bits is one, each bit is. -/
theorem fold_and_one {ι : Type} (S : Finset ι) (f : ι → BitVec 1) (b : BitVec 1) (h : S.fold IntOp.andi b f = 1#1) : ∀ i ∈ S, f i = 1#1 := by
  classical
  induction S using Finset.cons_induction with
  | empty => intro i hi; exact absurd hi (Finset.notMem_empty _)
  | cons a S ha ih =>
    rw [Finset.fold_cons, andi_one] at h
    intro i hi
    rcases Finset.mem_cons.mp hi with rfl | hi
    · exact h.1
    · exact ih h.2 i hi

theorem pfx_list (f : Cert.KernelIdeal.S1024.Idx → BitVec 32) (k : ℕ) : ((List.range k).map (nN f)).sum = pfx f k := by
  induction k with
  | zero => rfl
  | succ k ih => rw [List.range_succ, List.map_append, List.sum_append, ih, pfx_succ]; simp

theorem nN_word (f : Cert.KernelIdeal.S1024.Idx → BitVec 32) (j : Fin 1024) : f (ix1 j) = BitVec.ofNat 32 (nN f j.val) := by
  unfold nN
  rw [dif_pos j.isLt]
  rw [BitVec.ofNat_toNat, BitVec.setWidth_eq]

/-- A signed word between zero and 320000 is such a natural number. -/
theorem word_le {a : BitVec 32} (h0 : IntOp.cmpi .sge a 0#32 = 1#1) (h1 : IntOp.cmpi .sle a 320000#32 = 1#1) : a.toNat ≤ 320000 := by
  have h0 : (0#32).sle a = true := Predicate.ofBool_eq_one_iff _ |>.mp h0
  have h1 : a.sle 320000#32 = true := Predicate.ofBool_eq_one_iff _ |>.mp h1
  simp only [BitVec.sle, decide_eq_true_eq, BitVec.toInt_eq_toNat_cond, BitVec.toNat_ofNat] at h0 h1
  omega

/-- Under the precondition the counts' total is the number of rows. -/
theorem counts_total {F : FTy → Type} [FloatOps F] (x : FVec F Cert.Pre_counts_ok.S320000x128 .f32) (n : IVec Cert.Pre_counts_ok.S1024 32)
    (h : Cert.Pre_counts_ok.fn (F := F) x n = fun _ => 1#1) : pfx n 1024 = 320000 := by
  have h := congrFun h ValueIdx.ix0
  obtain ⟨h5, h7⟩ := andi_one.mp h
  have hb : ∀ j : Fin 1024, (n (ix1 j)).toNat ≤ 320000 := fun j => by
    have h5 := (Host.reduce_eq_fold IntOp.andi _ _ _ _ _).symm.trans h5
    have hj := fold_and_one _ _ _ h5 (ix1 j) (Finset.mem_filter.mpr ⟨Finset.mem_univ _, funext fun a => a.elim0⟩)
    obtain ⟨ha, hb⟩ := andi_one.mp hj
    exact word_le ha hb
  have hs := (Routing.reduce_sum (N := 1024) n (nN n) (nN_word n) _ _).symm.trans (Predicate.cmpi_eq_iff.mp h7)
  rw [pfx_list] at hs
  have hle : pfx n 1024 ≤ 1024 * 320000 := by
    unfold pfx
    refine (Finset.sum_le_card_nsmul _ _ 320000 fun j hj => ?_).trans (by simp)
    have hj := Finset.mem_range.mp hj
    unfold nN; rw [dif_pos hj]; exact hb ⟨j, hj⟩
  have := congrArg BitVec.toNat hs
  simp only [BitVec.toNat_ofNat] at this
  have h2 : (constantI Cert.Pre_counts_ok.S_ 32 320000#32 ValueIdx.ix0 : BitVec 32).toNat = 320000 := rfl
  omega

end Cert.Proof.Seg
-- ==== Proof.SegRef.lean ====
module
public import proofs.«01_k».proof.Defs
public import proofs.«01_k».proof.Proof.SegOut
public import proofs.«01_k».proof.Proof.SegCounts
public import proofs.«01_k».proof.Proof.Gen.ReferenceIdeal
public import Idealize.ShloMosaic.Lib.Routing.Ops
public import Idealize.ShloMosaic.Lib.Routing.OpsPair
public import Idealize.ShloMosaic.Lib.IdealHost
@[expose] public section
noncomputable section
/-!
  The reference's result at exact arithmetic is the kernel's.

  The reference numbers each row by the segment it falls into, the number of segments that end at or before it, and adds each
  row into that segment's place. The rows numbered `g` are those from `pfx g` up to `pfx (g + 1)`, which the kernel sums in order.
-/
namespace Cert.Proof.Seg
open Cert.ReferenceIdeal Cert.ReferenceIdeal.Gen
open Idealize.ShloMosaic Idealize.ShloMosaic.StableHlo Idealize.ShloMosaic.Routing

/-! ## Which segment a row falls into -/

/-- The number of segments that end at or before row `i`. -/
def segN (n : S1024.Idx → BitVec 32) (i : ℕ) : ℕ := Nat.count (fun q => pfx n (q + 1) ≤ i) 1024

theorem count_below (P : ℕ → Prop) [DecidablePred P] (g N : ℕ) (hg : g ≤ N) (h : ∀ q, q < N → (P q ↔ q < g)) : Nat.count P N = g := by
  induction N generalizing g with
  | zero => rw [Nat.count_zero]; omega
  | succ N ih =>
    rw [Nat.count_succ]
    rcases Nat.lt_or_ge N g with hN | hN
    · rw [if_pos ((h N (by omega)).mpr hN), ih N (le_refl _) fun q hq => (h q (by omega)).trans (by omega)]; omega
    · rw [if_neg fun hP => by have := (h N (by omega)).mp hP; omega, ih g hN fun q hq => h q (by omega)]; omega

theorem segN_of (n : S1024.Idx → BitVec 32) {g i : ℕ} (hg : g < 1024) (h0 : pfx n g ≤ i) (h1 : i < pfx n (g + 1)) : segN n i = g :=
  count_below _ g 1024 (by omega) fun q _ => by
    constructor
    · intro h
      by_contra hq
      have := pfx_mono n (show g + 1 ≤ q + 1 by omega)
      omega
    · intro h
      exact (pfx_mono n (show q + 1 ≤ g by omega)).trans h0

theorem seg_exists (n : S1024.Idx → BitVec 32) (i k : ℕ) (h : i < pfx n k) : ∃ g < k, pfx n g ≤ i ∧ i < pfx n (g + 1) := by
  induction k with
  | zero => exact absurd h (Nat.not_lt_zero _)
  | succ k ih =>
    rcases Nat.lt_or_ge i (pfx n k) with hk | hk
    · obtain ⟨g, hg, h'⟩ := ih hk
      exact ⟨g, by omega, h'⟩
    · exact ⟨k, by omega, hk, h⟩

/-- Row `i` falls into segment `g` exactly when it lies among that segment's rows. -/
theorem segN_iff (n : S1024.Idx → BitVec 32) (hp : pfx n 1024 = 320000) {g i : ℕ} (hg : g < 1024) (hi : i < 320000) :
    segN n i = g ↔ pfx n g ≤ i ∧ i < pfx n g + nN n g := by
  rw [← pfx_succ]
  constructor
  · intro h
    obtain ⟨g', hg', h0, h1⟩ := seg_exists n i 1024 (by omega)
    rw [← h, segN_of n hg' h0 h1]
    exact ⟨h0, h1⟩
  · rintro ⟨h0, h1⟩
    exact segN_of n hg h0 h1

/-! ## The reference's words -/

/-- Where each segment ends. -/
theorem ends_word (n : IVec S1024 32) (init : IVec S_ 32) (hinit : init ValueIdx.ix0 = 0#32) (g : Fin 1024) :
    Host.reduceWindow IntOp.addi ![1024] ![1] ![1023] ![0] n init reduceWindows_S1024_S1024_w1024s1p1023_0 h_S_ (ValueIdx.ix1 g) = BitVec.ofNat 32 (pfx n (g.val + 1)) := by
  rw [← pfx_list]
  exact cumsum1 (N := 1024) (Nm1 := 1023) rfl n (nN n) (nN_word n) init hinit _ _ g

/-- The number of each row's segment, from the segments' ends. -/
theorem seg_word (n : IVec S1024 32) (hp : pfx n 1024 = 320000) (e : IVec S1024 32) (he : ∀ g : Fin 1024, e (ValueIdx.ix1 g) = BitVec.ofNat 32 (pfx n (g.val + 1)))
    (i : Fin 320000) :
    Host.reduce IntOp.addi (extui 32 (cmpi .sge (iotaInDim S320000x1024 32 0) (broadcastInDim S320000x1024 ![0, 1] bcast_S1x1024_S320000x1024_0_1 (broadcastInDim S1x1024 ![1] bcast_S1024_S1x1024_1 e))) natLt_1_32)
      (constantI S_ 32 0#32) reducesTo_S320000x1024_S320000_d1 h_S_ (ValueIdx.ix1 i) = BitVec.ofNat 32 (segN n i.val) := by
  refine reduce_count (n := 320000) (m := 1024) (by decide) _ _ _ _ i (fun q => pfx n (q + 1) ≤ i.val) fun q => ?_
  show IntOp.cmpi .sge (BitVec.ofNat 32 i.val) (broadcastInDim S320000x1024 ![0, 1] bcast_S1x1024_S320000x1024_0_1 (broadcastInDim S1x1024 ![1] bcast_S1024_S1x1024_1 e) (ValueIdx.ix2 i q)) = 1#1 ↔ _
  have hb := bcCols (n := 320000) (m := 1024) bcast_S1024_S1x1024_1 bcast_S1x1024_S320000x1024_0_1 e i q
  rw [hb, he]
  have h1 := pfx_mono n (show q.val + 1 ≤ 1024 from q.isLt)
  have h2 := i.isLt
  rw [Predicate.sge_iff_toNat (by rw [BitVec.toNat_ofNat]; omega) (by rw [BitVec.toNat_ofNat]; omega), BitVec.toNat_ofNat, BitVec.toNat_ofNat,
    Nat.mod_eq_of_lt (by omega), Nat.mod_eq_of_lt (by omega)]

/-! ## Where a row's entries land -/

theorem lands (idx : IVec S320000x1 32) (i : Fin 320000) (c : Fin 64) (k : ℕ) (hk : k < 2 ^ 31) (hi : idx (ValueIdx.ix2 i (0 : Fin 1)) = BitVec.ofNat 32 k) (g : Fin 1024) (c' : Fin 64) :
    scatter_S1024x64_S320000x1_S320000x64_1_0_0_1.resultIdx? (ValueIdx.ix2 i c) idx = some (ValueIdx.ix2 g c') ↔ k = g.val ∧ c = c' := by
  have hw0 : scatter_S1024x64_S320000x1_S320000x64_1_0_0_1.window (ValueIdx.ix2 i c) 0 = 0 := rfl
  have hw1 : scatter_S1024x64_S320000x1_S320000x64_1_0_0_1.window (ValueIdx.ix2 i c) 1 = c.val := rfl
  have hs1 : scatter_S1024x64_S320000x1_S320000x64_1_0_0_1.start (ValueIdx.ix2 i c) idx 1 = 0 := rfl
  have hs0 : scatter_S1024x64_S320000x1_S320000x64_1_0_0_1.start (ValueIdx.ix2 i c) idx 0 = (k : ℤ) := by
    refine (congrArg (fun x => (idx x).toInt) (?_ : _ = (ValueIdx.ix2 i (0 : Fin 1) : S320000x1.Idx))).trans ((congrArg BitVec.toInt hi).trans (Predicate.toInt_ofNat_small k hk))
    funext a
    match a with
    | ⟨0, _⟩ => rfl
    | ⟨1, _⟩ => rfl
  refine (resultIdx?_ix2 (R := 1024) (C := 64) scatter_S1024x64_S320000x1_S320000x64_1_0_0_1 _ _ _ _).trans ?_
  rw [hw0, hw1, hs0, hs1, Fin.ext_iff]
  omega

/-! ## The sums -/

theorem rowSum_ideal (g : ℕ → ℕ → Ideal .f32) (a c k : ℕ) : (rowSum g a c k : EReal) = ∑ j ∈ Finset.range k, (g (a + j) c : EReal) := by
  induction k with
  | zero => exact Ideal.ofBits_zero_f32
  | succ k ih =>
    rw [Finset.sum_range_succ, ← ih]
    rfl

/-- The entries added into one place are the entries of the segment's rows. -/
theorem landed_sum (x : S320000x64.Idx → EReal) (n : IVec S1024 32) (hp : pfx n 1024 = 320000) (idx : IVec S320000x1 32)
    (hidx : ∀ i : Fin 320000, idx (ValueIdx.ix2 i (0 : Fin 1)) = BitVec.ofNat 32 (segN n i.val)) (g : Fin 1024) (c : Fin 64) :
    ∑ j ∈ Finset.univ.filter (fun j => scatter_S1024x64_S320000x1_S320000x64_1_0_0_1.resultIdx? j idx = some (ValueIdx.ix2 g c)), x j
      = ∑ j ∈ Finset.range (nN n g.val), if h : pfx n g.val + j < 320000 then x (ValueIdx.ix2 ⟨pfx n g.val + j, h⟩ c) else 0 := by
  have hle : pfx n g.val + nN n g.val ≤ 320000 := by
    rw [← pfx_succ, ← hp]; exact pfx_mono n g.isLt
  have hmem : ∀ (i : Fin 320000) (c' : Fin 64), scatter_S1024x64_S320000x1_S320000x64_1_0_0_1.resultIdx? (ValueIdx.ix2 i c') idx = some (ValueIdx.ix2 g c)
      ↔ (pfx n g.val ≤ i.val ∧ i.val < pfx n g.val + nN n g.val) ∧ c' = c := fun i c' => by
    have hlt : segN n i.val ≤ 1024 := Nat.count_le _
    rw [lands idx i c' _ (by omega) (hidx i) g c, segN_iff n hp g.isLt i.isLt]
  symm
  refine Finset.sum_bij (fun j hj => ValueIdx.ix2 ⟨pfx n g.val + j, by have := Finset.mem_range.mp hj; omega⟩ c) ?_ ?_ ?_ ?_
  · intro j hj
    have hj := Finset.mem_range.mp hj
    exact Finset.mem_filter.mpr ⟨Finset.mem_univ _, (hmem _ _).mpr ⟨⟨Nat.le_add_right _ _, by show pfx n g.val + j < _; omega⟩, rfl⟩⟩
  · intro j hj j' hj' h
    have h := congrArg (fun y : S320000x64.Idx => (y 0).val) h
    have h : pfx n g.val + j = pfx n g.val + j' := h
    omega
  · intro y hy
    obtain ⟨i, c', rfl⟩ : ∃ (i : Fin 320000) (c' : Fin 64), y = ValueIdx.ix2 i c' := ⟨y 0, y 1, ValueIdx.eq_ix2 y⟩
    obtain ⟨⟨h0, h1⟩, rfl⟩ := (hmem i c').mp (Finset.mem_filter.mp hy).2
    refine ⟨i.val - pfx n g.val, Finset.mem_range.mpr (by omega), congrArg (fun r => ValueIdx.ix2 r c') (Fin.ext ?_)⟩
    show pfx n g.val + (i.val - pfx n g.val) = i.val
    omega
  · intro j hj
    have hj := Finset.mem_range.mp hj
    rw [dif_pos (by omega)]

theorem scatterAdd_at (x0 : S1024x64.Idx → EReal) (idx : IVec S320000x1 32) (upd : S320000x64.Idx → EReal) (y : S1024x64.Idx) :
    (Host.scatterAdd (F := Ideal) (φ := .f32) scatter_S1024x64_S320000x1_S320000x64_1_0_0_1 x0 idx upd y : EReal)
      = x0 y + ∑ j ∈ Finset.univ.filter (fun j => scatter_S1024x64_S320000x1_S320000x64_1_0_0_1.resultIdx? j idx = some y), upd j := rfl

/-- The left columns of a matrix. -/
theorem slice_left {α : Type} {a b c : ℕ} (x : (shape2 a b).Idx → α) (h : (shape2 a b).Slices ![0, 0] (shape2 a c)) (i : Fin a) (j : Fin c) (hj : j.val < b) :
    extractStridedSlice (shape2 a c) ![0, 0] x h (ValueIdx.ix2 i j) = x (ValueIdx.ix2 i ⟨j.val, hj⟩) := by
  unfold extractStridedSlice
  refine congrArg x (funext fun a' => Fin.ext ?_)
  match a' with
  | ⟨0, _⟩ => exact Nat.zero_add _
  | ⟨1, _⟩ => exact Nat.zero_add _

/-- The reference's composed term, at exact arithmetic, is what the kernel leaves. -/
theorem ref_value (x : S320000x128.Idx → Ideal .f32) (n : IVec S1024 32) (hp : pfx n 1024 = 320000) :
    (shapeCast S65536 (Host.scatterAdd (F := Ideal) (φ := .f32) scatter_S1024x64_S320000x1_S320000x64_1_0_0_1 (broadcastInDim S1024x64 ![] bcast_S_S1024x64 (constant S_ .f32 0x00000000#32))
      (broadcastInDim S320000x1 ![0] bcast_S320000_S320000x1_0 (Host.reduce IntOp.addi (extui 32 (cmpi .sge (iotaInDim S320000x1024 32 0)
        (broadcastInDim S320000x1024 ![0, 1] bcast_S1x1024_S320000x1024_0_1 (broadcastInDim S1x1024 ![1] bcast_S1024_S1x1024_1
          (Host.reduceWindow IntOp.addi ![1024] ![1] ![1023] ![0] n (broadcastInDim S_ ![] bcast_S_S_ (constantI S_ 32 0#32)) reduceWindows_S1024_S1024_w1024s1p1023_0 h_S_)))) natLt_1_32)
        (constantI S_ 32 0#32) reducesTo_S320000x1024_S320000_d1 h_S_))
      (extractStridedSlice S320000x64 ![0, 0] x slices_S320000x128_S320000x64_0_0)) shapeCasts_S1024x64_S65536 : S65536.Idx → Ideal .f32)
      = outVal x n := by
  funext z
  obtain ⟨p, rfl⟩ : ∃ p : Fin 65536, z = ValueIdx.ix1 p := ⟨z 0, ValueIdx.eq_ix1 z⟩
  have hg : p.val / 64 < 1024 := by have := p.isLt; omega
  have hc : p.val % 64 < 64 := Nat.mod_lt _ (by decide)
  refine (cast21 (a := 1024) (b := 64) (n := 65536) _ _ ⟨p.val / 64, hg⟩ ⟨p.val % 64, hc⟩ p (by show p.val = p.val / 64 * 64 + p.val % 64; omega)).trans ?_
  refine (scatterAdd_at _ _ _ _).trans ?_
  rw [landed_sum _ n hp _ (fun i => ?_) ⟨p.val / 64, hg⟩ ⟨p.val % 64, hc⟩]
  rotate_left
  · exact (bcCol (n := 320000) bcast_S320000_S320000x1_0 _ i).trans (seg_word n hp _ (fun g => ends_word n _ rfl g) i)
  · have h0 : ∀ y, (broadcastInDim S1024x64 ![] bcast_S_S1024x64 (constant (F := Ideal) S_ .f32 0x00000000#32) y : EReal) = 0 := fun y => Ideal.ofBits_zero_f32
    rw [h0, zero_add]
    refine Eq.trans ?_ (rowSum_ideal (cell x) (pfx n (p.val / 64)) (p.val % 64) (nN n (p.val / 64))).symm
    have hle : pfx n (p.val / 64) + nN n (p.val / 64) ≤ 320000 := by
      rw [← pfx_succ, ← hp]; exact pfx_mono n hg
    refine Finset.sum_congr rfl fun j hj => ?_
    have hj := Finset.mem_range.mp hj
    rw [dif_pos (show pfx n (p.val / 64) + j < 320000 by omega)]
    unfold cell
    rw [dif_pos ⟨by omega, by omega⟩]
    exact slice_left (a := 320000) (b := 128) (c := 64) x _ _ _ (by omega)

end Cert.Proof.Seg
-- ==== Proof.NormBase.lean ====
module
public import proofs.«01_k».proof.Proof.Gen.NormIdeal
public import proofs.«01_k».proof.Proof.Gen.NormIdeal.Skeleton
public import Idealize.ShloMosaic.Lib.SparseCore.Quiescent
public import Idealize.ShloMosaic.Lib.SparseCore.Ops
public import Idealize.ShloMosaic.Lib.Tactic
public import Idealize.ShloMosaic.Lib.Pointwise.Index
public import Idealize.ShloMosaic.Lib.Pointwise.Reshape
public import Idealize.ShloMosaic.Lib.Pipeline.Value
@[expose] public section
noncomputable section
/-!
  What the normalising call writes: every entry of the rows times the entry of the same column of the row's graph. One
  column of sixteen rows is one gather of each, a product, and a scatter.
-/
namespace Cert.Proof.Norm
open Cert.NormIdeal Cert.NormIdeal.Gen
open Idealize.ShloMosaic

variable {F : FTy → Type} [FloatOps F]

theorem ofNat_toNat {n : ℕ} (h : n < 2 ^ 32) : (BitVec.ofNat 32 n).toNat = n := by
  rw [BitVec.toNat_ofNat]; exact Nat.mod_eq_of_lt h

theorem lane_word (x : S16.Idx) : (iota .scVector S16 32 [0] iota_S16_d0_w32_scVector : IVec S16 32) x = BitVec.ofNat 32 (x 0).val := by
  show BitVec.ofNat 32 (0 * 16 + (x 0).val) = _
  rw [Nat.zero_mul, Nat.zero_add]

/-! ## A scatter to places given by natural numbers -/

section scatter
variable {n : ℕ} {s : Shape} {e : EltTy}

/-- A scatter keeps what no lane names. -/
theorem scatter_off (f : Vec F s e) (idxs : Fin s.rank → IVec ⟨1, ![n]⟩ 32) (x : Vec F ⟨1, ![n]⟩ e)
    (h : ∀ a k, (idxs a k).toNat < s.size a) (y : s.Idx) (hy : ∀ k, ∃ a, (idxs a k).toNat ≠ (y a).val) :
    storeIdx f idxs x (fun _ => 1#1) false h y = f y := by
  unfold storeIdx
  induction List.finRange ((![n] : Fin 1 → ℕ) 0) generalizing f with
  | nil => rfl
  | cons k l ih =>
    rw [List.foldl_cons, ih]
    obtain ⟨a, ha⟩ := hy (Shape.ofLane k)
    dsimp only
    rw [if_pos (show (1#1 : BitVec 1) = 1 from rfl)]
    exact if_neg fun hc => ha (hc a).symm

/-- A scatter leaves at a place what the lanes that name it hold, if they agree. -/
theorem scatter_at (f : Vec F s e) (idxs : Fin s.rank → IVec ⟨1, ![n]⟩ 32) (x : Vec F ⟨1, ![n]⟩ e)
    (h : ∀ a k, (idxs a k).toNat < s.size a) (y : s.Idx) (w : Elt F e)
    (hw : ∀ k, (∀ a, (idxs a k).toNat = (y a).val) → x k = w) (hy : ∃ k, ∀ a, (idxs a k).toNat = (y a).val) :
    storeIdx f idxs x (fun _ => 1#1) false h y = w := by
  have hl : f y = w ∨ ∃ k ∈ List.finRange ((![n] : Fin 1 → ℕ) 0), ∀ a, (idxs a (Shape.ofLane k)).toNat = (y a).val := by
    obtain ⟨k, hk⟩ := hy
    refine .inr ⟨k 0, List.mem_finRange _, ?_⟩
    have : Shape.ofLane (k 0) = k := by funext a; rw [Fin.eq_zero a]; rfl
    rw [this]; exact hk
  unfold storeIdx
  generalize List.finRange ((![n] : Fin 1 → ℕ) 0) = L at hl ⊢
  induction L generalizing f with
  | nil => exact hl.resolve_right fun ⟨k, hk, _⟩ => absurd hk (List.not_mem_nil)
  | cons k l ih =>
    rw [List.foldl_cons]
    refine ih _ ?_
    dsimp only
    rw [if_pos (show (1#1 : BitVec 1) = 1 from rfl)]
    by_cases hk : ∀ a, (idxs a (Shape.ofLane k)).toNat = (y a).val
    · exact .inl ((if_pos fun a => (hk a).symm).trans (hw _ hk))
    · rcases hl with hl | ⟨k', hk', hh⟩
      · exact .inl ((if_neg fun hc => hk fun a => (hc a).symm).trans hl)
      · rcases List.mem_cons.mp hk' with hk' | hk'
        · exact absurd (hk' ▸ hh) hk
        · exact .inr ⟨k', hk', hh⟩
end scatter

/-! ## The value -/

/-- A word of the tile's graph numbers, read at a natural-number place. -/
def segN (f8 : S2000.Idx → BitVec 32) (r : ℕ) : ℕ := if h : r < 2000 then (f8 (ix1 ⟨r, h⟩)).toNat else 0

/-- The graphs' factors, read at natural-number places. -/
def facN (f9 : S16384.Idx → F .f32) (z : ℕ) : F .f32 := if h : z < 16384 then f9 (ix1 ⟨z, h⟩) else Scalar.ofBits .f32 0x00000000#32

/-- What a tile's block holds in the end. -/
def blockVal (f6 : S32000.Idx → F .f32) (f8 : S2000.Idx → BitVec 32) (f9 : S16384.Idx → F .f32) (y : S32000.Idx) : F .f32 :=
  FloatOps.mulf (f6 y) (facN f9 (16 * segN f8 ((y 0).val / 16) + (y 0).val % 16))

/-- The places written before column `c` of group `g` of sixteen rows. -/
def Done (g c : ℕ) (y : S32000.Idx) : Prop := (y 0).val / 16 < 16 * g ∨ ((y 0).val / 16 < 16 * g + 16 ∧ (y 0).val % 16 < c)

/-- The block is right where it has been written. -/
def Good (f6 : S32000.Idx → F .f32) (f8 : S2000.Idx → BitVec 32) (f9 : S16384.Idx → F .f32) (g c : ℕ) (f7 : S32000.Idx → F .f32) : Prop :=
  ∀ y, Done g c y → f7 y = blockVal f6 f8 f9 y

theorem Good.next {f6 : S32000.Idx → F .f32} {f8 : S2000.Idx → BitVec 32} {f9 : S16384.Idx → F .f32} {g : ℕ} {f7 : S32000.Idx → F .f32}
    (h : Good f6 f8 f9 g 16 f7) : Good f6 f8 f9 (g + 1) 0 f7 := fun y hy => h y (by unfold Done at hy ⊢; omega)

/-- The lanes' places in a block. -/
theorem place_word (v28 : IVec S16 32) (g c : ℕ) (hg : g < 125) (hc : c < 16) (h28 : ∀ x : S16.Idx, (v28 x).toNat = 256 * g + 16 * (x 0).val) (x : S16.Idx) :
    (addi v28 (broadcast S16 (BitVec.ofNat 32 c)) x).toNat = 256 * g + 16 * (x 0).val + c := by
  have hx : (x 0).val < 16 := (x 0).isLt
  show (v28 x + BitVec.ofNat 32 c).toNat = _
  rw [BitVec.toNat_add, h28, ofNat_toNat (by omega)]; omega

/-- The lanes' places among the factors. -/
theorem factor_word (v34 : IVec S16 32) (c : ℕ) (hc : c < 16) (s : ℕ → ℕ) (hs : ∀ r, s r < 1024)
    (h34 : ∀ x : S16.Idx, (v34 x).toNat = 16 * s (x 0).val) (x : S16.Idx) :
    (addi v34 (broadcast S16 (BitVec.ofNat 32 c)) x).toNat = 16 * s (x 0).val + c := by
  have := hs (x 0).val
  show (v34 x + BitVec.ofNat 32 c).toNat = _
  rw [BitVec.toNat_add, h34, ofNat_toNat (by omega)]; omega

/-- One column's step. -/
theorem Good.column {f6 : S32000.Idx → F .f32} {f8 : S2000.Idx → BitVec 32} {f9 : S16384.Idx → F .f32} {g c : ℕ} {f7 : S32000.Idx → F .f32}
    (h : Good f6 f8 f9 g c f7) (v v' : IVec S16 32) (hv : ∀ x : S16.Idx, (v x).toNat = 256 * g + 16 * (x 0).val + c) (hc : c < 16)
    (hv' : ∀ x : S16.Idx, (v' x).toNat = 16 * segN f8 (16 * g + (x 0).val) + c)
    (h6 : ∀ a x, ((![v] : Fin 1 → IVec S16 32) a x).toNat < S32000.size a) (h9 : ∀ a x, ((![v'] : Fin 1 → IVec S16 32) a x).toNat < S16384.size a) :
    Good f6 f8 f9 g (c + 1)
      (storeIdx (e := .f32) (F := F) f7 ![v] (mulf (loadIdx (e := .f32) (F := F) f6 ![v] h6) (loadIdx (e := .f32) (F := F) f9 ![v'] h9)) (fun _ => 1#1) false h6) := by
  intro y hy
  by_cases hd : Done g c y
  · rw [scatter_off (n := 16)]
    · exact h y hd
    · intro k
      refine ⟨0, ?_⟩
      have hk : (k 0).val < 16 := (k 0).isLt
      show (v k).toNat ≠ (y 0).val
      rw [hv]; unfold Done at hd hy; omega
  · refine scatter_at (n := 16) _ _ _ _ y _ ?_ ?_
    · intro k hk
      have hk' : (k 0).val < 16 := (k 0).isLt
      have h0 : (v k).toNat = (y 0).val := hk 0
      have h0' := hv k
      show FloatOps.mulf (f6 fun a => ⟨((![v] : Fin 1 → IVec S16 32) a k).toNat, h6 a k⟩) (f9 fun a => ⟨((![v'] : Fin 1 → IVec S16 32) a k).toNat, h9 a k⟩) = _
      unfold blockVal
      congr 1
      · congr 1; funext a; rw [Fin.eq_zero a]; exact Fin.ext h0
      · have h9k : (v' k).toNat < 16384 := h9 0 k
        have hz : 16 * segN f8 ((y 0).val / 16) + (y 0).val % 16 = (v' k).toNat := by
          rw [hv', show (y 0).val / 16 = 16 * g + (k 0).val by omega]; omega
        rw [hz]; unfold facN; rw [dif_pos h9k]
        congr 1; funext a; rw [Fin.eq_zero a]; exact Fin.ext rfl
    · have hy' : (y 0).val < 32000 := (y 0).isLt
      unfold Done at hd hy
      refine ⟨ix1 ⟨(y 0).val / 16 - 16 * g, by omega⟩, fun a => ?_⟩
      rw [Fin.eq_zero a]
      show (v _).toNat = (y 0).val
      rw [hv]
      show 256 * g + 16 * ((y 0).val / 16 - 16 * g) + c = _
      omega

end Cert.Proof.Norm
-- ==== Proof.NormGroup.lean ====
module
public import proofs.«01_k».proof.Proof.NormBase
@[expose] public section
noncomputable section
/-!
  One group of sixteen rows: the rows' graph numbers, then the sixteen columns one after the other. The five loops of a
  tile's kernel have this same step.
-/
namespace Cert.Proof.Norm
open Cert.NormIdeal Cert.NormIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

local notation "egvW" => (Memref.whole Cert.NormIdeal.cc0_scratch0 : Memref Cert.NormIdeal.sig Kind.scVector Space.vmem Cert.NormIdeal.S32000 EltTy.f32)
local notation "outvW" => (Memref.whole Cert.NormIdeal.cc0_scratch1 : Memref Cert.NormIdeal.sig Kind.scVector Space.vmem Cert.NormIdeal.S32000 EltTy.f32)
local notation "segvW" => (Memref.whole Cert.NormIdeal.cc0_scratch2 : Memref Cert.NormIdeal.sig Kind.scVector Space.vmem Cert.NormIdeal.S2000 EltTy.i32)
local notation "rgvW" => (Memref.whole Cert.NormIdeal.cc0_scratch3 : Memref Cert.NormIdeal.sig Kind.scVector Space.vmem Cert.NormIdeal.S16384 EltTy.f32)

variable (d : Dev nD) (i : grid0.Coords)

/-- The vector subcore that runs grid point `i`. -/
abbrev thr : Thread nD τ := V d ((i 0).castLE hcore0) ((i 1).castLE hsub0)

/-- One column of sixteen rows: gather the entries, gather the factors, scatter the products. -/
def column (v28 v34 : IVec S16 32) (c : BitVec 32) : Prog (TpuEff nD τ sig (Elt F) Λ₀ (thr d i).2) PUnit := do
  have hw : k0_chk2 (addi v28 (broadcast S16 c)) := (← Prog.lift (TpuEff.assume (k0_chk2 (addi v28 (broadcast S16 c))) (k0_chk2.dec _))).down
  let a : Vec F S16 .f32 ← SparseCore.vectorLoadIdx egvW ![addi v28 (broadcast S16 c)] (k0_idx2_inb _ hw) (View.loads_vmem h_S32000)
  have hw' : k0_chk3 (addi v34 (broadcast S16 c)) := (← Prog.lift (TpuEff.assume (k0_chk3 (addi v34 (broadcast S16 c))) (k0_chk3.dec _))).down
  let b : Vec F S16 .f32 ← SparseCore.vectorLoadIdx rgvW ![addi v34 (broadcast S16 c)] (k0_idx3_inb _ hw') (View.loads_vmem h_S16384)
  have hw'' : k0_chk4 (addi v28 (broadcast S16 c)) := (← Prog.lift (TpuEff.assume (k0_chk4 (addi v28 (broadcast S16 c))) (k0_chk4.dec _))).down
  SparseCore.vectorStoreIdx outvW ![addi v28 (broadcast S16 c)] (mulf a b) (fun _ => 1#1) false (k0_idx4_inb _ hw'') (View.stores_vmem_bits_univ h_S32000 rfl)
  pure ⟨⟩

/-- Columns `c`, `c + 1`, … of sixteen rows, `n` of them. -/
def columns (v28 v34 : IVec S16 32) (c : ℕ) : ℕ → Prog (TpuEff nD τ sig (Elt F) Λ₀ (thr d i).2) PUnit
  | 0 => pure ⟨⟩
  | n + 1 => do
    column d i v28 v34 (BitVec.ofNat 32 c)
    columns v28 v34 (c + 1) n

/-- The places of a group's rows in the block. -/
def rowsWord (k : ℕ) : IVec S16 32 :=
  addi (broadcast S16 (Scalar.muli (Scf.iv 0#32 1#32 k) 256#32)) (muli (iota .scVector S16 32 [0] iota_S16_d0_w32_scVector) (broadcast S16 16#32))

/-- The places of a group's graph numbers. -/
def segsWord (k : ℕ) : IVec S16 32 :=
  addi (broadcast S16 (Scalar.muli (Scf.iv 0#32 1#32 k) 16#32)) (iota .scVector S16 32 [0] iota_S16_d0_w32_scVector)

/-- One group of sixteen rows. -/
def group (k : ℕ) : Prog (TpuEff nD τ sig (Elt F) Λ₀ (thr d i).2) PUnit := do
  have hw : k0_chk1 (segsWord k) := (← Prog.lift (TpuEff.assume (k0_chk1 (segsWord k)) (k0_chk1.dec _))).down
  let s : Vec F S16 .i32 ← SparseCore.vectorLoadIdx segvW ![segsWord k] (k0_idx1_inb _ hw) (View.loads_vmem h_S2000)
  columns d i (rowsWord k) (muli s (broadcast S16 16#32)) 0 16

theorem rows_word (k : ℕ) (hk : k < 125) (x : S16.Idx) : (rowsWord k x).toNat = 256 * k + 16 * (x 0).val := by
  have hx : (x 0).val < 16 := (x 0).isLt
  show ((BitVec.ofNat 32 0 + BitVec.ofNat 32 k * BitVec.ofNat 32 1) * BitVec.ofNat 32 256 + (iota .scVector S16 32 [0] iota_S16_d0_w32_scVector : IVec S16 32) x * BitVec.ofNat 32 16).toNat = _
  rw [lane_word, ← BitVec.ofNat_mul, ← BitVec.ofNat_add, ← BitVec.ofNat_mul, ← BitVec.ofNat_mul, ← BitVec.ofNat_add, ofNat_toNat (by omega)]
  omega

theorem segs_word (k : ℕ) (hk : k < 125) (x : S16.Idx) : (segsWord k x).toNat = 16 * k + (x 0).val := by
  have hx : (x 0).val < 16 := (x 0).isLt
  show ((BitVec.ofNat 32 0 + BitVec.ofNat 32 k * BitVec.ofNat 32 1) * BitVec.ofNat 32 16 + (iota .scVector S16 32 [0] iota_S16_d0_w32_scVector : IVec S16 32) x).toNat = _
  rw [lane_word, ← BitVec.ofNat_mul, ← BitVec.ofNat_add, ← BitVec.ofNat_mul, ← BitVec.ofNat_add, ofNat_toNat (by omega)]
  omega

/-- A tile's block while it is being written: the rows, the graph numbers and the factors as they were copied in, the
    products right where they have been written. -/
def Blk (f6 : S32000.Idx → F .f32) (f8 : S2000.Idx → BitVec 32) (f9 : S16384.Idx → F .f32) (g c : ℕ) : sProp 𝕄 :=
  iprop(((egvW).view.loc (thr d i) ↦{fullShare} f6) ∗ ((segvW).view.loc (thr d i) ↦{fullShare} f8) ∗ ((rgvW).view.loc (thr d i) ↦{fullShare} f9)
    ∗ ∃ f7, ⌜Good f6 f8 f9 g c f7⌝ ∗ ((outvW).view.loc (thr d i) ↦{fullShare} f7))

/-- A scatter into the tile's block of products. -/
theorem wp_scatter {β : Type} {Q : β → sProp 𝕄} (v : IVec S16 32) (x : Vec F S16 .f32) (h : ∀ a k, ((![v] : Fin 1 → IVec S16 32) a k).toNat < S32000.size a)
    (hs : ((outvW).access (.whole S32000)).Stores Finset.univ) (kk : PUnit → Prog (TpuEff nD τ sig (Elt F) Λ₀ (thr d i).2) β) (f7 : S32000.Idx → F .f32) :
    ((outvW).view.loc (thr d i) ↦{fullShare} f7)
      ⊢ iprop((((outvW).view.loc (thr d i) ↦{fullShare} (storeIdx (e := .f32) (F := F) f7 ![v] x (fun _ => 1#1) false h))
          -∗ wp frame (wpE (defs₀ (F := F)) Variants.none (thr d i) none) Set.univ (kk ⟨⟩) Q)
        -∗ wp frame (wpE (defs₀ (F := F)) Variants.none (thr d i) none) Set.univ (SparseCore.vectorStoreIdx outvW ![v] x (fun _ => 1#1) false h hs >>= kk) Q) := by
  have H := SparseCore.wp_vectorStoreIdx (defs := defs₀ (F := F)) Variants.none (thr d i) none Set.univ (Q := Q) (base := outvW) (idxs := ![v]) (v := x)
    (mask := fun _ => 1#1) (add := false) (h := h) (hs := hs) (k := kk) (f := f7)
  rw [Memref.set_access_whole, Memref.read_access_whole, Memref.write_access_whole_univ] at H
  exact H

set_option maxHeartbeats 4000000 in
theorem column_step (f6 : S32000.Idx → F .f32) (f8 : S2000.Idx → BitVec 32) (f9 : S16384.Idx → F .f32)
    (hs : ∀ r, segN f8 r < 1024) (g c : ℕ) (hg : g < 125) (hc : c < 16) (v28 v34 : IVec S16 32) (h28 : ∀ x : S16.Idx, (v28 x).toNat = 256 * g + 16 * (x 0).val)
    (h34 : ∀ x : S16.Idx, (v34 x).toNat = 16 * segN f8 (16 * g + (x 0).val)) :
    Blk (U := U) d i f6 f8 f9 g c
      ⊢ wp frame (wpE (defs₀ (F := F)) Variants.none (thr d i) none) Set.univ (column d i v28 v34 (BitVec.ofNat 32 c)) (fun _ => Blk d i f6 f8 f9 g (c + 1)) := by
  have hv := place_word v28 g c hg hc h28
  have hv' := factor_word v34 c hc (fun r => segN f8 (16 * g + r)) (fun r => hs _) h34
  have hc2 : k0_chk2 (addi v28 (broadcast S16 (BitVec.ofNat 32 c))) := by
    intro a x
    rw [Fin.eq_zero a]
    have hx : (x 0).val < 16 := (x 0).isLt
    show (addi v28 (broadcast S16 (BitVec.ofNat 32 c)) x).toNat < 32000
    rw [hv]; omega
  have hc3 : k0_chk3 (addi v34 (broadcast S16 (BitVec.ofNat 32 c))) := by
    intro a x
    rw [Fin.eq_zero a]
    have := hs (16 * g + (x 0).val)
    show (addi v34 (broadcast S16 (BitVec.ofNat 32 c)) x).toNat < 16384
    rw [hv']; omega
  unfold column Blk
  iintro ⟨H6, H8, H9, %f7, %hf7, H7⟩
  iapply (wp_assume Variants.none (thr d i) none Set.univ hc2)
  dsimp only [Prog.bind]
  iapply (SparseCore.wp_vectorLoadIdx Variants.none (thr d i) none Set.univ (base := egvW) (S := Finset.univ) (Finset.subset_univ _)) $$ H6
  iintro H6
  iapply (wp_assume Variants.none (thr d i) none Set.univ hc3)
  dsimp only [Prog.bind]
  iapply (SparseCore.wp_vectorLoadIdx Variants.none (thr d i) none Set.univ (base := rgvW) (S := Finset.univ) (Finset.subset_univ _)) $$ H9
  iintro H9
  iapply (wp_assume Variants.none (thr d i) none Set.univ (show k0_chk4 _ from hc2))
  dsimp only [Prog.bind]
  iapply (wp_scatter d i) $$ H7
  iintro H7
  rw [show (pure : PUnit → Prog (TpuEff nD τ sig (Elt F) Λ₀ (thr d i).2) _) = Prog.ret from rfl, wp_ret]; imodintro
  isplitl [H6]; · iexact H6
  isplitl [H8]; · iexact H8
  isplitl [H9]; · iexact H9
  iexists _
  isplitr [H7]
  rotate_left
  · iexact H7
  ipureintro
  simp only [Memref.read_access_whole]
  exact hf7.column _ _ hv hc hv' _ _

theorem columns_step (f6 : S32000.Idx → F .f32) (f8 : S2000.Idx → BitVec 32) (f9 : S16384.Idx → F .f32)
    (hs : ∀ r, segN f8 r < 1024) (g : ℕ) (hg : g < 125) (v28 v34 : IVec S16 32) (h28 : ∀ x : S16.Idx, (v28 x).toNat = 256 * g + 16 * (x 0).val)
    (h34 : ∀ x : S16.Idx, (v34 x).toNat = 16 * segN f8 (16 * g + (x 0).val)) (n c : ℕ) (hc : c + n = 16) :
    Blk (U := U) d i f6 f8 f9 g c
      ⊢ wp frame (wpE (defs₀ (F := F)) Variants.none (thr d i) none) Set.univ (columns d i v28 v34 c n) (fun _ => Blk d i f6 f8 f9 g 16) := by
  induction n generalizing c with
  | zero =>
    obtain rfl : c = 16 := hc
    rw [show columns (F := F) d i v28 v34 16 0 = Prog.ret ⟨⟩ from rfl, wp_ret]
    iintro H; imodintro; iexact H
  | succ n ih =>
    rw [show columns (F := F) d i v28 v34 c (n + 1) = (column d i v28 v34 (BitVec.ofNat 32 c) >>= fun _ => columns d i v28 v34 (c + 1) n) from rfl, wp_bind]
    exact (column_step d i f6 f8 f9 hs g c hg (by omega) v28 v34 h28 h34).trans (wp_mono _ _ _ fun _ => ih (c + 1) (by omega))

set_option maxHeartbeats 4000000 in
theorem group_wp {R : sProp 𝕄} (f6 : S32000.Idx → F .f32) (f8 : S2000.Idx → BitVec 32) (f9 : S16384.Idx → F .f32)
    (hs : ∀ r, segN f8 r < 1024) (g : ℕ) (hg : g < 125) (hR : Blk (U := U) d i f6 f8 f9 g 16 ⊢ R) :
    Blk (U := U) d i f6 f8 f9 g 0
      ⊢ wp frame (wpE (defs₀ (F := F)) Variants.none (thr d i) none) Set.univ (group d i g) (fun _ => R) := by
  have hc : k0_chk1 (segsWord g) := by
    intro a x
    rw [Fin.eq_zero a]
    have hx : (x 0).val < 16 := (x 0).isLt
    show (segsWord g x).toNat < 2000
    rw [segs_word g hg]; omega
  unfold group Blk
  iintro ⟨H6, H8, H9, %f7, %hf7, H7⟩
  iapply (wp_assume Variants.none (thr d i) none Set.univ hc)
  dsimp only [Prog.bind]
  iapply (SparseCore.wp_vectorLoadIdx Variants.none (thr d i) none Set.univ (base := segvW) (S := Finset.univ) (Finset.subset_univ _)) $$ H8
  iintro H8
  simp only [Memref.read_access_whole]
  have h34 : ∀ x : S16.Idx, (muli (loadIdx (e := .i32) (F := F) f8 ![segsWord g] hc) (broadcast S16 16#32) x).toNat = 16 * segN f8 (16 * g + (x 0).val) := by
    intro x
    have hx : (x 0).val < 16 := (x 0).isLt
    have hq : (loadIdx (e := .i32) (F := F) f8 ![segsWord g] hc x : BitVec 32).toNat = segN f8 (16 * g + (x 0).val) := by
      show (f8 fun a => ⟨((![segsWord g] : Fin 1 → IVec S16 32) a x).toNat, hc a x⟩).toNat = _
      unfold segN
      rw [dif_pos (by omega)]
      congr 2
      funext a; rw [Fin.eq_zero a]; exact Fin.ext (segs_word g hg x)
    have := hs (16 * g + (x 0).val)
    show ((loadIdx (e := .i32) (F := F) f8 ![segsWord g] hc x : BitVec 32) * 16#32).toNat = _
    rw [BitVec.toNat_mul, hq, show (16#32).toNat = 16 from rfl]; omega
  iapply ((columns_step d i f6 f8 f9 hs g hg _ _ (rows_word g hg) h34 16 0 rfl).trans (wp_mono _ _ _ fun _ => hR))
  unfold Blk
  isplitl [H6]; · iexact H6
  isplitl [H8]; · iexact H8
  isplitl [H9]; · iexact H9
  iexists f7
  isplitr [H7]
  · ipureintro; exact hf7
  · iexact H7

theorem Blk_next (f6 : S32000.Idx → F .f32) (f8 : S2000.Idx → BitVec 32) (f9 : S16384.Idx → F .f32) (g : ℕ) :
    Blk (U := U) d i f6 f8 f9 g 16 ⊢ Blk (U := U) d i f6 f8 f9 (g + 1) 0 := by
  unfold Blk
  iintro ⟨H6, H8, H9, %f7, %hf7, H7⟩
  isplitl [H6]; · iexact H6
  isplitl [H8]; · iexact H8
  isplitl [H9]; · iexact H9
  iexists f7
  isplitr [H7]
  · ipureintro; exact hf7.next
  · iexact H7

/-- One group's step. -/
theorem group_step (f6 : S32000.Idx → F .f32) (f8 : S2000.Idx → BitVec 32) (f9 : S16384.Idx → F .f32) (hs : ∀ r, segN f8 r < 1024) (g : ℕ) (hg : g < 125) :
    Blk (U := U) d i f6 f8 f9 g 0
      ⊢ wp frame (wpE (defs₀ (F := F)) Variants.none (thr d i) none) Set.univ (group d i g) (fun _ => Blk d i f6 f8 f9 (g + 1) 0) :=
  group_wp d i f6 f8 f9 hs g hg (Blk_next d i f6 f8 f9 g)

end Cert.Proof.Norm
-- ==== Proof.NormCut.lean ====
module
public import proofs.«01_k».proof.Proof.NormGroup
@[expose] public section
noncomputable section
/-!
  A tile's kernel as copies in, loops over groups and copies out: the factors first, then five chunks of two thousand rows.
-/
namespace Cert.Proof.Norm
open Cert.NormIdeal Cert.NormIdeal.Gen
open Idealize.ShloMosaic
open Idealize.ShloMosaic.SparseCore (S V T)
open Idealize.SL Idealize.SL.Sem

variable {F : FTy → Type} [FloatOps F]

local notation "egW" => (Memref.whole Cert.NormIdeal.main_arg0_scv : Memref Cert.NormIdeal.sig Kind.scVector Space.hbm Cert.NormIdeal.S5120000 EltTy.f32)
local notation "segW" => (Memref.whole Cert.NormIdeal.main_arg1_scv : Memref Cert.NormIdeal.sig Kind.scVector Space.hbm Cert.NormIdeal.S320000 EltTy.i32)
local notation "rgW" => (Memref.whole Cert.NormIdeal.main_arg2_scv : Memref Cert.NormIdeal.sig Kind.scVector Space.hbm Cert.NormIdeal.S16384 EltTy.f32)
local notation "outW" => (Memref.whole Cert.NormIdeal.main_v0_scv : Memref Cert.NormIdeal.sig Kind.scVector Space.hbm Cert.NormIdeal.S5120000 EltTy.f32)
local notation "egvW" => (Memref.whole Cert.NormIdeal.cc0_scratch0 : Memref Cert.NormIdeal.sig Kind.scVector Space.vmem Cert.NormIdeal.S32000 EltTy.f32)
local notation "outvW" => (Memref.whole Cert.NormIdeal.cc0_scratch1 : Memref Cert.NormIdeal.sig Kind.scVector Space.vmem Cert.NormIdeal.S32000 EltTy.f32)
local notation "segvW" => (Memref.whole Cert.NormIdeal.cc0_scratch2 : Memref Cert.NormIdeal.sig Kind.scVector Space.vmem Cert.NormIdeal.S2000 EltTy.i32)
local notation "rgvW" => (Memref.whole Cert.NormIdeal.cc0_scratch3 : Memref Cert.NormIdeal.sig Kind.scVector Space.vmem Cert.NormIdeal.S16384 EltTy.f32)

variable (d : Dev nD) (i : grid0.Coords)

/-- Chunk `j` of a tile's rows, of its graph numbers, and of its share of the result. -/
abbrev egS (i : grid0.Coords) (j : Fin 5) : Memref sig .scVector .hbm S32000 .f32 :=
  (egW).slice (Rect.unit (s := S5120000) (k0_off1 i (BitVec.ofNat 32 (2000 * j.val))) S32000.size (k0_off1_inb i j)) (fun _ => rfl)
abbrev segS (i : grid0.Coords) (j : Fin 5) : Memref sig .scVector .hbm S2000 .i32 :=
  (segW).slice (Rect.unit (s := S320000) (k0_off2 i (BitVec.ofNat 32 (2000 * j.val))) S2000.size (k0_off2_inb i j)) (fun _ => rfl)
abbrev outS (i : grid0.Coords) (j : Fin 5) : Memref sig .scVector .hbm S32000 .f32 :=
  (outW).slice (Rect.unit (s := S5120000) (k0_off1 i (BitVec.ofNat 32 (2000 * j.val))) S32000.size (k0_off1_inb i j)) (fun _ => rfl)

/-- The factors copied in. -/
def copyFac (r : DmaSems sig S_) : Prog (TpuEff nD τ sig (Elt F) Λ₀ (thr d i).2) PUnit := do
  Prog.lift (.enqueueDma rgW (.here rgvW) (.dma r.sem) (Memref.isWhole_whole _).wordExact (Memref.isWhole_whole _).wordExact ⟨Or.inl rfl, trivial⟩)
  Prog.lift (.waitDma2 r.sem rgW rgvW (Memref.isWhole_whole _).wordExact (Memref.isWhole_whole _).wordExact)
  pure ⟨⟩

/-- A chunk of rows copied in. -/
def copyRows (j : Fin 5) (r : DmaSems sig S_) : Prog (TpuEff nD τ sig (Elt F) Λ₀ (thr d i).2) PUnit := do
  Prog.lift (.enqueueDma (egS i j) (.here egvW) (.dma r.sem) (View.wordExact_bits rfl) (Memref.isWhole_whole _).wordExact ⟨Or.inl rfl, trivial⟩)
  Prog.lift (.waitDma2 r.sem (egS i j) egvW (View.wordExact_bits rfl) (Memref.isWhole_whole _).wordExact)
  pure ⟨⟩

/-- A chunk's graph numbers copied in. -/
def copySegs (j : Fin 5) (r : DmaSems sig S_) : Prog (TpuEff nD τ sig (Elt F) Λ₀ (thr d i).2) PUnit := do
  Prog.lift (.enqueueDma (segS i j) (.here segvW) (.dma r.sem) (View.wordExact_bits rfl) (Memref.isWhole_whole _).wordExact ⟨Or.inl rfl, trivial⟩)
  Prog.lift (.waitDma2 r.sem (segS i j) segvW (View.wordExact_bits rfl) (Memref.isWhole_whole _).wordExact)
  pure ⟨⟩

/-- A chunk of products copied out. -/
def copyOut (j : Fin 5) (r : DmaSems sig S_) : Prog (TpuEff nD τ sig (Elt F) Λ₀ (thr d i).2) PUnit := do
  Prog.lift (.enqueueDma outvW (.here (outS i j)) (.dma r.sem) (Memref.isWhole_whole _).wordExact (View.wordExact_bits rfl) ⟨Or.inl rfl, trivial⟩)
  Prog.lift (.waitDma2 r.sem outvW (outS i j) (Memref.isWhole_whole _).wordExact (View.wordExact_bits rfl))
  pure ⟨⟩

/-- A chunk's loop over its groups of sixteen rows. -/
def groups : Prog (TpuEff nD τ sig (Elt F) Λ₀ (thr d i).2) PUnit :=
  Scf.Loop.for k0_t1_loop k0_t1_ok ⟨⟩ fun k _ => group d i k.val

/-- A tile's kernel. -/
def normBody := cc0__sc_norm_body (F := F) i egW (Memref.isWhole_whole _) segW (Memref.isWhole_whole _) rgW (Memref.isWhole_whole _) outW (Memref.isWhole_whole _) egvW (Memref.isWhole_whole _) outvW (Memref.isWhole_whole _) segvW (Memref.isWhole_whole _) rgvW (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15

/-- The first window: the first chunk, and the second copied in. -/
def window1 := k0_part21 (F := F) i egW (Memref.isWhole_whole _) segW (Memref.isWhole_whole _) rgW (Memref.isWhole_whole _) outW (Memref.isWhole_whole _) egvW (Memref.isWhole_whole _) outvW (Memref.isWhole_whole _) segvW (Memref.isWhole_whole _) rgvW (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15

set_option maxHeartbeats 40000000 in
theorem window1_eq : window1 (F := F) i = (do
    copyFac d i cc0_scoped0
    copyRows d i 0 cc0_scoped1
    copySegs d i 0 cc0_scoped2
    groups d i
    copyOut d i 0 cc0_scoped3
    copyRows d i 1 cc0_scoped4
    copySegs d i 1 cc0_scoped5
    pure ⟨Scalar.muli (Scalar.addi (Scalar.muli (BitVec.ofNat 32 (i 1).val) 2#32) (BitVec.ofNat 32 (i 0).val)) 10000#32,
      iota .scVector S16 32 [0] iota_S16_d0_w32_scVector,
      Scalar.addi (Scalar.muli (Scalar.addi (Scalar.muli (BitVec.ofNat 32 (i 1).val) 2#32) (BitVec.ofNat 32 (i 0).val)) 10000#32) 2000#32, 0#32, 125#32⟩) := rfl

/-- The second window: the second and third chunks, and the fourth copied in. -/
def window2 := k0_part22 (F := F) i egW (Memref.isWhole_whole _) segW (Memref.isWhole_whole _) rgW (Memref.isWhole_whole _) outW (Memref.isWhole_whole _) egvW (Memref.isWhole_whole _) outvW (Memref.isWhole_whole _) segvW (Memref.isWhole_whole _) rgvW (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15

set_option maxHeartbeats 40000000 in
theorem window2_eq (v2 v8 : BitVec 32) : window2 (F := F) i v2 (iota .scVector S16 32 [0] iota_S16_d0_w32_scVector) v8 0#32 125#32 = (do
    groups d i
    copyOut d i 1 cc0_scoped6
    copyRows d i 2 cc0_scoped7
    copySegs d i 2 cc0_scoped8
    groups d i
    copyOut d i 2 cc0_scoped9
    copyRows d i 3 cc0_scoped10
    copySegs d i 3 cc0_scoped11
    pure (Scalar.addi v2 6000#32)) := rfl

/-- What follows the two windows. -/
def window3 : Prog (TpuEff nD τ sig (Elt F) Λ₀ (thr d i).2) PUnit := do
  groups d i
  copyOut d i 3 cc0_scoped12
  copyRows d i 4 cc0_scoped13
  copySegs d i 4 cc0_scoped14
  groups d i
  copyOut d i 4 cc0_scoped15

set_option maxHeartbeats 40000000 in
/-- The kernel is its three windows, one after the other. -/
theorem normBody_eq : ∃ K : (Σ' (_ : BitVec 32) (_ : IVec S16 32) (_ : BitVec 32) (_ : BitVec 32), BitVec 32) → BitVec 32 → Prog (TpuEff nD τ sig (Elt F) Λ₀ (thr d i).2) PUnit,
    normBody (F := F) i = (window1 (F := F) i >>= fun a => window2 (F := F) i a.1 a.2.1 a.2.2.1 a.2.2.2.1 a.2.2.2.2 >>= K a)
    ∧ ∀ v2 v8 v16, K ⟨v2, iota .scVector S16 32 [0] iota_S16_d0_w32_scVector, v8, 0#32, 125#32⟩ v16 = window3 (F := F) d i := ⟨_, rfl, fun _ _ _ => rfl⟩

end Cert.Proof.Norm
-- ==== Proof.NormTile.lean ====
module
public import proofs.«01_k».proof.Proof.NormCut
@[expose] public section
noncomputable section
/-!
  A tile's kernel: the factors copied in once; five times a chunk copied in, its groups' products, and the products copied out
  to the tile's share of the result.
-/
namespace Cert.Proof.Norm
open Cert.NormIdeal Cert.NormIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

local notation "egW" => (Memref.whole Cert.NormIdeal.main_arg0_scv : Memref Cert.NormIdeal.sig Kind.scVector Space.hbm Cert.NormIdeal.S5120000 EltTy.f32)
local notation "segW" => (Memref.whole Cert.NormIdeal.main_arg1_scv : Memref Cert.NormIdeal.sig Kind.scVector Space.hbm Cert.NormIdeal.S320000 EltTy.i32)
local notation "rgW" => (Memref.whole Cert.NormIdeal.main_arg2_scv : Memref Cert.NormIdeal.sig Kind.scVector Space.hbm Cert.NormIdeal.S16384 EltTy.f32)
local notation "outW" => (Memref.whole Cert.NormIdeal.main_v0_scv : Memref Cert.NormIdeal.sig Kind.scVector Space.hbm Cert.NormIdeal.S5120000 EltTy.f32)
local notation "egvW" => (Memref.whole Cert.NormIdeal.cc0_scratch0 : Memref Cert.NormIdeal.sig Kind.scVector Space.vmem Cert.NormIdeal.S32000 EltTy.f32)
local notation "outvW" => (Memref.whole Cert.NormIdeal.cc0_scratch1 : Memref Cert.NormIdeal.sig Kind.scVector Space.vmem Cert.NormIdeal.S32000 EltTy.f32)
local notation "segvW" => (Memref.whole Cert.NormIdeal.cc0_scratch2 : Memref Cert.NormIdeal.sig Kind.scVector Space.vmem Cert.NormIdeal.S2000 EltTy.i32)
local notation "rgvW" => (Memref.whole Cert.NormIdeal.cc0_scratch3 : Memref Cert.NormIdeal.sig Kind.scVector Space.vmem Cert.NormIdeal.S16384 EltTy.f32)

variable (d : Dev nD) (i : grid0.Coords)

/-! ## Places -/

/-- The tile's place among the thirty-two. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

/-- The tile's place, as the kernel computes it. -/
theorem wid_word (i : grid0.Coords) :
    Scalar.addi (Scalar.muli (BitVec.ofNat 32 (i 1).val) 2#32) (BitVec.ofNat 32 (i 0).val) = BitVec.ofNat 32 (wid i) := by
  show BitVec.ofNat 32 (i 1).val * BitVec.ofNat 32 2 + BitVec.ofNat 32 (i 0).val = _
  rw [← BitVec.ofNat_mul, ← BitVec.ofNat_add, Nat.mul_comm]; rfl

theorem off1_eq (i : grid0.Coords) (j : Fin 5) : k0_off1 i (BitVec.ofNat 32 (2000 * j.val)) = ![160000 * wid i + 32000 * j.val] := by
  have := wid_lt i
  show ![(((Scalar.addi (Scalar.muli (BitVec.ofNat 32 (i 1).val) 2#32) (BitVec.ofNat 32 (i 0).val) * BitVec.ofNat 32 10000) + BitVec.ofNat 32 (2000 * j.val)) * BitVec.ofNat 32 16).toNat] = _
  rw [wid_word, ← BitVec.ofNat_mul, ← BitVec.ofNat_add, ← BitVec.ofNat_mul, ofNat_toNat (by omega)]
  congr 1; omega

theorem off2_eq (i : grid0.Coords) (j : Fin 5) : k0_off2 i (BitVec.ofNat 32 (2000 * j.val)) = ![10000 * wid i + 2000 * j.val] := by
  have := wid_lt i
  show ![((Scalar.addi (Scalar.muli (BitVec.ofNat 32 (i 1).val) 2#32) (BitVec.ofNat 32 (i 0).val) * BitVec.ofNat 32 10000) + BitVec.ofNat 32 (2000 * j.val)).toNat] = _
  rw [wid_word, ← BitVec.ofNat_mul, ← BitVec.ofNat_add, ofNat_toNat (by omega)]
  congr 1; omega

theorem outS_place (i : grid0.Coords) (j : Fin 5) (x : S32000.Idx) : (((outS i j).view.emb x : S5120000.Idx) 0).val = 160000 * wid i + 32000 * j.val + (x 0).val := by
  show k0_off1 i (BitVec.ofNat 32 (2000 * j.val)) 0 + 1 * (x 0).val = _
  rw [off1_eq, Nat.one_mul]; rfl

theorem egS_place (i : grid0.Coords) (j : Fin 5) (x : S32000.Idx) : (((egS i j).view.emb x : S5120000.Idx) 0).val = 160000 * wid i + 32000 * j.val + (x 0).val := outS_place i j x

theorem segS_place (i : grid0.Coords) (j : Fin 5) (x : S2000.Idx) : (((segS i j).view.emb x : S320000.Idx) 0).val = 10000 * wid i + 2000 * j.val + (x 0).val := by
  show k0_off2 i (BitVec.ofNat 32 (2000 * j.val)) 0 + 1 * (x 0).val = _
  rw [off2_eq, Nat.one_mul]; rfl

/-! ## The result -/

/-- A row's graph number, read at a natural-number place. -/
def rowN (fh : S320000.Idx → BitVec 32) (r : ℕ) : ℕ := if h : r < 320000 then (fh (ix1 ⟨r, h⟩)).toNat else 0

/-- The result: place `z` is column `z % 16` of row `z / 16`, times the factor of that column of the row's graph. -/
def outVal (fe : S5120000.Idx → F .f32) (fh : S320000.Idx → BitVec 32) (fr : S16384.Idx → F .f32) (z : S5120000.Idx) : F .f32 :=
  FloatOps.mulf (fe z) (facN fr (16 * rowN fh ((z 0).val / 16) + (z 0).val % 16))

/-- Tile `w`'s places of the result. -/
def outSet (w : ℕ) : Finset S5120000.Idx := Finset.univ.filter fun z => (z 0).val / 160000 = w

/-- The result while the tile is at work: its first `n` chunks are written. -/
def sofar (fe : S5120000.Idx → F .f32) (fh : S320000.Idx → BitVec 32) (fr : S16384.Idx → F .f32) (fo : S5120000.Idx → F .f32) (n : ℕ) (z : S5120000.Idx) : F .f32 :=
  if (z 0).val % 160000 < 32000 * n then outVal fe fh fr z else fo z

/-- A chunk's rows and graph numbers. -/
abbrev rowsAt (i : grid0.Coords) (fe : S5120000.Idx → F .f32) (j : Fin 5) : S32000.Idx → F .f32 := fun x => fe ((egS i j).view.emb x)
abbrev segsAt (i : grid0.Coords) (fh : S320000.Idx → BitVec 32) (j : Fin 5) : S2000.Idx → BitVec 32 := fun x => fh ((segS i j).view.emb x)

theorem segsAt_lt (fh : S320000.Idx → BitVec 32) (hh : ∀ x, (fh x).toNat < 1024) (j : Fin 5) (r : ℕ) : segN (segsAt i fh j) r < 1024 := by
  unfold segN; split
  · exact hh _
  · decide

theorem outS_sub (j : Fin 5) : (outS i j).view.set ⊆ outSet (wid i) := by
  intro z hz
  obtain ⟨x, -, rfl⟩ := Finset.mem_map.mp hz
  have hx : (x 0).val < 32000 := (x 0).isLt
  refine Finset.mem_filter.mpr ⟨Finset.mem_univ _, ?_⟩
  rw [outS_place]; omega

theorem outS_of_place (j : Fin 5) (z : S5120000.Idx) (h0 : (z 0).val / 160000 = wid i) (h1 : (z 0).val % 160000 / 32000 = j.val) : z ∈ (outS i j).view.set := by
  refine Finset.mem_map.mpr ⟨ix1 ⟨(z 0).val % 32000, Nat.mod_lt _ (by decide)⟩, Finset.mem_univ _, funext fun a => ?_⟩
  rw [Fin.eq_zero a]
  exact Fin.ext ((outS_place i j _).trans (by show 160000 * wid i + 32000 * j.val + (z 0).val % 32000 = (z 0).val; omega))

/-- A finished block in place is the tile's chunk of the result. -/
theorem out_value (fe : S5120000.Idx → F .f32) (fh : S320000.Idx → BitVec 32) (fr : S16384.Idx → F .f32) (fo : S5120000.Idx → F .f32) (j : Fin 5)
    (f7 : S32000.Idx → F .f32) (fo' : Buf (Elt F) ((outS i j).view.loc (thr d i))) (h7 : Good (rowsAt i fe j) (segsAt i fh j) fr 125 0 f7) :
    ∀ z ∈ (outS i j).view.set, (outS i j).view.writes (Elt F) fo' [⟨Rect.whole S32000, f7⟩] z = sofar fe fh fr fo (j.val + 1) z := by
  intro z hz
  obtain ⟨x, -, rfl⟩ := Finset.mem_map.mp hz
  have hx : (x 0).val < 32000 := (x 0).isLt
  have hread : ∀ f : Buf (Elt F) ((outS i j).view.loc (thr d i)), f ((outS i j).view.emb x) = (outS i j).view.read (Elt F) f x := fun f => rfl
  have hw : (outS i j).view.read (Elt F) ((outS i j).view.writes (Elt F) fo' [⟨Rect.whole S32000, f7⟩]) x = f7 x :=
    View.read_writes_cons_hit_of_coords (outS i j).view fo' (Rect.whole S32000) f7 [] x x fun a => by
      show (x a).val = 0 + 1 * (x a).val
      omega
  rw [hread ((outS i j).view.writes (Elt F) fo' [⟨Rect.whole S32000, f7⟩]), hw, h7 x (by unfold Done; omega)]
  have he := outS_place i j x
  unfold blockVal sofar
  rw [if_pos (by rw [he]; omega)]
  unfold outVal
  refine congrArg₂ FloatOps.mulf rfl ?_
  rw [he, show (160000 * wid i + 32000 * j.val + (x 0).val) / 16 = 10000 * wid i + 2000 * j.val + (x 0).val / 16 by omega,
    show (160000 * wid i + 32000 * j.val + (x 0).val) % 16 = (x 0).val % 16 by omega]
  have hs : segN (segsAt i fh j) ((x 0).val / 16) = rowN fh (10000 * wid i + 2000 * j.val + (x 0).val / 16) := by
    have := wid_lt i
    unfold segN rowN
    rw [dif_pos (by omega), dif_pos (by omega)]
    refine congrArg (fun y => (fh y).toNat) (funext fun a => ?_)
    rw [Fin.eq_zero a]
    exact Fin.ext (segS_place i j _)
  rw [hs]

/-! ## What a tile holds -/

section
variable (q : PosShare TreeShare) (fe : S5120000.Idx → F .f32) (fh : S320000.Idx → BitVec 32) (fr : S16384.Idx → F .f32) (fo : S5120000.Idx → F .f32)
  (O : CellTallies nD τ sig (HIx 1)) (W : Waits sig (HIx 1))

/-- What a tile holds apart from its scratch arrays, once `n` chunks are written: read shares of the arguments, its places of
    the result, its semaphores at zero, and what it owes. -/
def TileSt (n : ℕ) : sProp 𝕄 :=
  iprop(Transfers.MayWaits (thr d i) (none : HIx 1) O ∗ ((egW).view.loc (thr d i) ↦{q} fe) ∗ ((segW).view.loc (thr d i) ↦{q} fh) ∗ ((rgW).view.loc (thr d i) ↦{q} fr)
    ∗ ((outW).view.loc (thr d i) ↦[outSet (wid i)]{fullShare} sofar fe fh fr fo n)
    ∗ ownSems0 (thr d i) ∗ ∃ W', ⌜∀ p ∈ W', p ∈ W ∨ p.2 = none⌝ ∗ owes (thr d i) O W')

/-- All a tile holds: `X6`, `X8`, `X9`, `X7` are its scratch arrays, of rows, of graph numbers, of factors, and of products. -/
def St (n : ℕ) (X6 X8 X9 X7 : sProp 𝕄) : sProp 𝕄 := iprop(TileSt (U := U) d i q fe fh fr fo O W n ∗ X6 ∗ X8 ∗ X9 ∗ X7)

theorem ownSems0_take (r : DmaSems sig S_) (hr : (thr d i, SemLoc.dma r.sem) ∈ ownCells (thr d i)) :
    (ownSems0 (thr d i) : sProp 𝕄) = iprop(semVal (thr d i, SemLoc.dma r.sem) 0 ∗ bigSep ((ownCells (thr d i)).erase (thr d i, SemLoc.dma r.sem)) fun g => semVal g 0) := by
  unfold SparseCore.Cfg.ownSems0
  exact SparseCore.bigSep_erase' hr

theorem waits_insert {r : DmaSems sig S_} {W W' : Waits sig (HIx 1)} (h : ∀ p ∈ W', p ∈ W ∨ p.2 = none) :
    ∀ p ∈ insert (SemLoc.dma r.sem, (none : HIx 1)) W', p ∈ W ∨ p.2 = none := by
  intro p hp
  rcases Finset.mem_insert.mp hp with hp | hp
  · exact .inr (hp ▸ rfl)
  · exact h p hp

/-- A tile's holdings after a copy: the copy's semaphore is back at zero. -/
theorem tile_back (n : ℕ) (r : DmaSems sig S_) (hr : (thr d i, SemLoc.dma r.sem) ∈ ownCells (thr d i)) (W' : Waits sig (HIx 1)) (hW' : ∀ p ∈ W', p ∈ W ∨ p.2 = none) :
    iprop(Transfers.MayWaits (thr d i) (none : HIx 1) O ∗ ((egW).view.loc (thr d i) ↦{q} fe) ∗ ((segW).view.loc (thr d i) ↦{q} fh) ∗ ((rgW).view.loc (thr d i) ↦{q} fr)
        ∗ ((outW).view.loc (thr d i) ↦[outSet (wid i)]{fullShare} sofar fe fh fr fo n)
        ∗ semVal (thr d i, SemLoc.dma r.sem) 0 ∗ (bigSep ((ownCells (thr d i)).erase (thr d i, SemLoc.dma r.sem)) fun g => semVal g 0)
        ∗ owes (thr d i) O (insert (SemLoc.dma r.sem, (none : HIx 1)) W'))
      ⊢ TileSt (U := U) d i q fe fh fr fo O W n := by
  unfold TileSt
  iintro ⟨Hmw, He, Hs, Hr, Ho, Hsem, Hrest, HO⟩
  isplitl [Hmw]; · iexact Hmw
  isplitl [He]; · iexact He
  isplitl [Hs]; · iexact Hs
  isplitl [Hr]; · iexact Hr
  isplitl [Ho]; · iexact Ho
  isplitl [Hsem Hrest]
  · iapply (Entails.of_eq (ownSems0_take (F := F) d i r hr).symm)
    isplitl [Hsem]
    · iexact Hsem
    · iexact Hrest
  iexists (insert (SemLoc.dma r.sem, (none : HIx 1)) W'); isplitr
  · ipureintro; exact waits_insert hW'
  · iexact HO

set_option maxHeartbeats 2000000 in
theorem copyRows_step (r : DmaSems sig S_) (hr : (thr d i, SemLoc.dma r.sem) ∈ ownCells (thr d i)) (n : ℕ) (j : Fin 5) (X8 X9 X7 : sProp 𝕄) :
    St (U := U) d i q fe fh fr fo O W n iprop(∃ f6, (egvW).view.loc (thr d i) ↦{fullShare} f6) X8 X9 X7
      ⊢ wp frame (wpE (defs₀ (F := F)) Variants.none (thr d i) none) Set.univ (copyRows d i j r)
        fun _ => St (U := U) d i q fe fh fr fo O W n iprop((egvW).view.loc (thr d i) ↦{fullShare} rowsAt i fe j) X8 X9 X7 := by
  unfold copyRows St
  conv_lhs => unfold TileSt
  iintro ⟨⟨Hmw, He, Hs, Hr, Ho, Hss, %W', %hW', HO⟩, ⟨%f6, H6⟩, H8, H9, H7⟩
  ihave Hss' := (Entails.of_eq (ownSems0_take (F := F) d i r hr)) $$ Hss
  icases Hss' with ⟨Hsem, Hrest⟩
  sl_exec (disch := exact View.amount_pos _ _ (show 0 < S32000.numel by decide))
  rw [wp_ret]; imodintro
  isplitl [Hmw He Hs Hr Ho Hsem Hrest HO]
  · iapply (tile_back d i q fe fh fr fo O W n r hr W' hW')
    isplitl [Hmw]; · iexact Hmw
    isplitl [He]; · iexact He
    isplitl [Hs]; · iexact Hs
    isplitl [Hr]; · iexact Hr
    isplitl [Ho]; · iexact Ho
    isplitl [Hsem]; · iexact Hsem
    isplitl [Hrest] <;> iassumption
  isplitl [H6]
  · rw [show View.write (Elt F) (egvW).view f6 (copyRows_step.sl.dma0 i fe j) Finset.univ = rowsAt i fe j from View.write_whole_univ _ _ _]
    iexact H6
  isplitl [H8]; · iexact H8
  isplitl [H9] <;> iassumption

set_option maxHeartbeats 2000000 in
theorem copySegs_step (r : DmaSems sig S_) (hr : (thr d i, SemLoc.dma r.sem) ∈ ownCells (thr d i)) (n : ℕ) (j : Fin 5) (X6 X9 X7 : sProp 𝕄) :
    St (U := U) d i q fe fh fr fo O W n X6 iprop(∃ f8, (segvW).view.loc (thr d i) ↦{fullShare} f8) X9 X7
      ⊢ wp frame (wpE (defs₀ (F := F)) Variants.none (thr d i) none) Set.univ (copySegs d i j r)
        fun _ => St (U := U) d i q fe fh fr fo O W n X6 iprop((segvW).view.loc (thr d i) ↦{fullShare} segsAt i fh j) X9 X7 := by
  unfold copySegs St
  conv_lhs => unfold TileSt
  iintro ⟨⟨Hmw, He, Hs, Hr, Ho, Hss, %W', %hW', HO⟩, H6, ⟨%f8, H8⟩, H9, H7⟩
  ihave Hss' := (Entails.of_eq (ownSems0_take (F := F) d i r hr)) $$ Hss
  icases Hss' with ⟨Hsem, Hrest⟩
  sl_exec (disch := exact View.amount_pos _ _ (show 0 < S2000.numel by decide))
  rw [wp_ret]; imodintro
  isplitl [Hmw He Hs Hr Ho Hsem Hrest HO]
  · iapply (tile_back d i q fe fh fr fo O W n r hr W' hW')
    isplitl [Hmw]; · iexact Hmw
    isplitl [He]; · iexact He
    isplitl [Hs]; · iexact Hs
    isplitl [Hr]; · iexact Hr
    isplitl [Ho]; · iexact Ho
    isplitl [Hsem]; · iexact Hsem
    isplitl [Hrest] <;> iassumption
  isplitl [H6]; · iexact H6
  isplitl [H8]
  · rw [show View.write (Elt F) (segvW).view f8 (copySegs_step.sl.dma0 i fh j) Finset.univ = segsAt i fh j from View.write_whole_univ _ _ _]
    iexact H8
  isplitl [H9] <;> iassumption

set_option maxHeartbeats 2000000 in
theorem copyFac_step (r : DmaSems sig S_) (hr : (thr d i, SemLoc.dma r.sem) ∈ ownCells (thr d i)) (n : ℕ) (X6 X8 X7 : sProp 𝕄) :
    St (U := U) d i q fe fh fr fo O W n X6 X8 iprop(∃ f9, (rgvW).view.loc (thr d i) ↦{fullShare} f9) X7
      ⊢ wp frame (wpE (defs₀ (F := F)) Variants.none (thr d i) none) Set.univ (copyFac d i r)
        fun _ => St (U := U) d i q fe fh fr fo O W n X6 X8 iprop((rgvW).view.loc (thr d i) ↦{fullShare} fr) X7 := by
  unfold copyFac St
  conv_lhs => unfold TileSt
  iintro ⟨⟨Hmw, He, Hs, Hr, Ho, Hss, %W', %hW', HO⟩, H6, H8, ⟨%f9, H9⟩, H7⟩
  ihave Hss' := (Entails.of_eq (ownSems0_take (F := F) d i r hr)) $$ Hss
  icases Hss' with ⟨Hsem, Hrest⟩
  sl_exec (disch := exact View.amount_pos _ _ (show 0 < S16384.numel by decide))
  rw [wp_ret]; imodintro
  isplitl [Hmw He Hs Hr Ho Hsem Hrest HO]
  · iapply (tile_back d i q fe fh fr fo O W n r hr W' hW')
    isplitl [Hmw]; · iexact Hmw
    isplitl [He]; · iexact He
    isplitl [Hs]; · iexact Hs
    isplitl [Hr]; · iexact Hr
    isplitl [Ho]; · iexact Ho
    isplitl [Hsem]; · iexact Hsem
    isplitl [Hrest] <;> iassumption
  isplitl [H6]; · iexact H6
  isplitl [H8]; · iexact H8
  isplitl [H9]
  · rw [show View.write (Elt F) (rgvW).view f9 (copyFac_step.sl.dma0 fr) Finset.univ = fr from View.write_whole_univ _ _ _]
    iexact H9
  · iexact H7

/-- The tile's places of the result, with one more chunk written. -/
theorem sofar_next (j : Fin 5) (f7 : S32000.Idx → F .f32) (h7 : Good (rowsAt i fe j) (segsAt i fh j) fr 125 0 f7) (fo' : Buf (Elt F) ((outS i j).view.loc (thr d i))) :
    iprop(((outS i j).view.loc (thr d i) ↦[(outS i j).view.set]{fullShare} (outS i j).view.writes (Elt F) fo' [⟨Rect.whole S32000, f7⟩])
        ∗ ((outW).view.loc (thr d i) ↦[outSet (wid i) \ (outS i j).view.set]{fullShare} sofar fe fh fr fo j.val))
      ⊢ ((outW).view.loc (thr d i) ↦[outSet (wid i)]{fullShare} sofar fe fh fr fo (j.val + 1) : sProp 𝕄) := by
  have hrest : ∀ z ∈ outSet (wid i) \ (outS i j).view.set, sofar fe fh fr fo j.val z = sofar fe fh fr fo (j.val + 1) z := by
    intro z hz
    obtain ⟨hz, hn⟩ := Finset.mem_sdiff.mp hz
    have h0 := (Finset.mem_filter.mp hz).2
    have h1 : (z 0).val % 160000 / 32000 ≠ j.val := fun h1 => hn (outS_of_place i j z h0 h1)
    unfold sofar
    by_cases hc : (z 0).val % 160000 < 32000 * j.val
    · rw [if_pos hc, if_pos (by omega)]
    · rw [if_neg hc, if_neg (by omega)]
  have h1 : ((outS i j).view.loc (thr d i) ↦[(outS i j).view.set]{fullShare} (outS i j).view.writes (Elt F) fo' [⟨Rect.whole S32000, f7⟩] : sProp 𝕄)
      = ((outW).view.loc (thr d i) ↦[(outS i j).view.set]{fullShare} sofar fe fh fr fo (j.val + 1)) :=
    pointsTo_congr (ℓ := (outW).view.loc (thr d i)) (out_value d i fe fh fr fo j f7 fo' h7)
  have h2 : ((outW).view.loc (thr d i) ↦[outSet (wid i) \ (outS i j).view.set]{fullShare} sofar fe fh fr fo j.val : sProp 𝕄)
      = ((outW).view.loc (thr d i) ↦[outSet (wid i) \ (outS i j).view.set]{fullShare} sofar fe fh fr fo (j.val + 1)) :=
    pointsTo_congr (ℓ := (outW).view.loc (thr d i)) hrest
  rw [h1, h2]
  exact (pointsTo_split_subset (outS_sub i j)).2

set_option maxHeartbeats 2000000 in
theorem copyOut_step (r : DmaSems sig S_) (hr : (thr d i, SemLoc.dma r.sem) ∈ ownCells (thr d i)) (j : Fin 5) (X6 X8 X9 : sProp 𝕄) :
    St (U := U) d i q fe fh fr fo O W j.val X6 X8 X9 iprop(∃ f7, ⌜Good (rowsAt i fe j) (segsAt i fh j) fr 125 0 f7⌝ ∗ ((outvW).view.loc (thr d i) ↦{fullShare} f7))
      ⊢ wp frame (wpE (defs₀ (F := F)) Variants.none (thr d i) none) Set.univ (copyOut d i j r)
        fun _ => St (U := U) d i q fe fh fr fo O W (j.val + 1) X6 X8 X9 iprop(∃ f7, (outvW).view.loc (thr d i) ↦{fullShare} f7) := by
  unfold copyOut St
  conv_lhs => unfold TileSt
  iintro ⟨⟨Hmw, He, Hs, Hr, Ho, Hss, %W', %hW', HO⟩, H6, H8, H9, %f7, %h7, H7⟩
  ihave Hss' := (Entails.of_eq (ownSems0_take (F := F) d i r hr)) $$ Hss
  icases Hss' with ⟨Hsem, Hrest⟩
  ihave Ho2 := (show ((outW).view.loc (thr d i) ↦[outSet (wid i)]{fullShare} sofar fe fh fr fo j.val : sProp 𝕄)
      ⊢ iprop(((outS i j).view.loc (thr d i) ↦[(outS i j).view.set]{fullShare} sofar fe fh fr fo j.val)
        ∗ ((outW).view.loc (thr d i) ↦[outSet (wid i) \ (outS i j).view.set]{fullShare} sofar fe fh fr fo j.val)) from
    (pointsTo_split_subset (outS_sub i j)).1) $$ Ho
  icases Ho2 with ⟨Ho, Hoff⟩
  sl_exec (disch := exact View.amount_pos _ _ (show 0 < S32000.numel by decide))
  rw [wp_ret]; imodintro
  ihave Hon := (sofar_next d i fe fh fr fo j f7 h7 _) $$ [Ho Hoff]
  · isplitl [Ho]
    · iexact Ho
    · iexact Hoff
  isplitl [Hmw He Hs Hr Hon Hsem Hrest HO]
  · iapply (tile_back d i q fe fh fr fo O W (j.val + 1) r hr W' hW')
    isplitl [Hmw]; · iexact Hmw
    isplitl [He]; · iexact He
    isplitl [Hs]; · iexact Hs
    isplitl [Hr]; · iexact Hr
    isplitl [Hon]; · iexact Hon
    isplitl [Hsem]; · iexact Hsem
    isplitl [Hrest] <;> iassumption
  isplitl [H6]; · iexact H6
  isplitl [H8]; · iexact H8
  isplitl [H9]; · iexact H9
  iexists f7; iexact H7

theorem t1_trips : Scf.trips k0_t1_loop.lb k0_t1_loop.ub k0_t1_loop.st = 125 := by decide

/-- A chunk's loop. -/
theorem groups_step (n : ℕ) (j : Fin 5) (hh : ∀ x, (fh x).toNat < 1024) :
    St (U := U) d i q fe fh fr fo O W n iprop((egvW).view.loc (thr d i) ↦{fullShare} rowsAt i fe j) iprop((segvW).view.loc (thr d i) ↦{fullShare} segsAt i fh j)
        iprop((rgvW).view.loc (thr d i) ↦{fullShare} fr) iprop(∃ f7, (outvW).view.loc (thr d i) ↦{fullShare} f7)
      ⊢ wp frame (wpE (defs₀ (F := F)) Variants.none (thr d i) none) Set.univ (groups d i)
        fun _ => St (U := U) d i q fe fh fr fo O W n iprop((egvW).view.loc (thr d i) ↦{fullShare} rowsAt i fe j) iprop((segvW).view.loc (thr d i) ↦{fullShare} segsAt i fh j)
          iprop((rgvW).view.loc (thr d i) ↦{fullShare} fr)
          iprop(∃ f7, ⌜Good (rowsAt i fe j) (segsAt i fh j) fr 125 0 f7⌝ ∗ ((outvW).view.loc (thr d i) ↦{fullShare} f7)) := by
  have H : ∀ Q : PUnit → sProp 𝕄, iprop(Blk (U := U) d i (rowsAt i fe j) (segsAt i fh j) fr 0 0 ∗ (∀ acc, Blk (U := U) d i (rowsAt i fe j) (segsAt i fh j) fr 125 0 -∗ Q acc))
      ⊢ wp frame (wpE (defs₀ (F := F)) Variants.none (thr d i) none) Set.univ (groups d i) Q := by
    intro Q
    have H := Scf.wp_for frame (wpE (defs₀ (F := F)) Variants.none (thr d i) none) Set.univ k0_t1_loop.lb k0_t1_loop.ub k0_t1_loop.st k0_t1_ok PUnit.unit
      (fun k _ => group d i k.val) (fun k _ => Blk (U := U) d i (rowsAt i fe j) (segsAt i fh j) fr k 0)
      (fun k _ => group_step (U := U) d i (rowsAt i fe j) (segsAt i fh j) fr (segsAt_lt i fh hh j) k.val (t1_trips ▸ k.isLt)) (Q := Q)
    have hB : Blk (U := U) d i (rowsAt i fe j) (segsAt i fh j) fr 125 0 = Blk (U := U) d i (rowsAt i fe j) (segsAt i fh j) fr (Scf.trips k0_t1_loop.lb k0_t1_loop.ub k0_t1_loop.st) 0 := by rw [t1_trips]
    rw [hB]
    exact H
  unfold St
  iintro ⟨HT, H6, H8, H9, %f7, H7⟩
  iapply (H _)
  unfold Blk
  isplitl [H6 H8 H9 H7]
  · isplitl [H6]; · iexact H6
    isplitl [H8]; · iexact H8
    isplitl [H9]; · iexact H9
    iexists f7; isplitr
    · ipureintro; exact fun y hy => absurd hy (by unfold Done; omega)
    · iexact H7
  iintro %acc ⟨H6, H8, H9, H7⟩
  isplitl [HT]; · iexact HT
  isplitl [H6]; · iexact H6
  isplitl [H8]; · iexact H8
  isplitl [H9] <;> iassumption

/-- A tile between two chunks, and with chunk `j` copied in. -/
def Free (n : ℕ) : sProp 𝕄 := St d i q fe fh fr fo O W n iprop(∃ f6, (egvW).view.loc (thr d i) ↦{fullShare} f6) iprop(∃ f8, (segvW).view.loc (thr d i) ↦{fullShare} f8)
  iprop((rgvW).view.loc (thr d i) ↦{fullShare} fr) iprop(∃ f7, (outvW).view.loc (thr d i) ↦{fullShare} f7)
def Held (n : ℕ) (j : Fin 5) : sProp 𝕄 := St d i q fe fh fr fo O W n iprop((egvW).view.loc (thr d i) ↦{fullShare} rowsAt i fe j) iprop((segvW).view.loc (thr d i) ↦{fullShare} segsAt i fh j)
  iprop((rgvW).view.loc (thr d i) ↦{fullShare} fr) iprop(∃ f7, (outvW).view.loc (thr d i) ↦{fullShare} f7)

theorem free_of_held (n : ℕ) (j : Fin 5) : Held (U := U) d i q fe fh fr fo O W n j ⊢ Free (U := U) d i q fe fh fr fo O W n := by
  unfold Held Free St
  iintro ⟨HT, H6, H8, H9, H7⟩
  isplitl [HT]; · iexact HT
  isplitl [H6]; · iexists _; iexact H6
  isplitl [H8]; · iexists _; iexact H8
  isplitl [H9] <;> iassumption

theorem own_sem (r : DmaSems sig S_) (h : (SemLoc.dma r.sem : SemLoc sig).isScoped .scVector = true) : (thr d i, SemLoc.dma r.sem) ∈ ownCells (thr d i) :=
  (mem_ownCells (g := (thr d i, SemLoc.dma r.sem))).mpr ⟨rfl, h⟩

/-- A chunk copied in, before any continuation. -/
theorem load_step (n : ℕ) (j : Fin 5) (r r' : DmaSems sig S_) (h : (SemLoc.dma r.sem : SemLoc sig).isScoped .scVector = true)
    (h' : (SemLoc.dma r'.sem : SemLoc sig).isScoped .scVector = true) {Q : sProp 𝕄} (hQ : Held (U := U) d i q fe fh fr fo O W n j ⊢ Q) :
    Free (U := U) d i q fe fh fr fo O W n ⊢ wp frame (wpE (defs₀ (F := F)) Variants.none (thr d i) none) Set.univ (copyRows d i j r)
      fun _ => wp frame (wpE (defs₀ (F := F)) Variants.none (thr d i) none) Set.univ (copySegs d i j r') fun _ => Q :=
  (copyRows_step d i q fe fh fr fo O W r (own_sem d i r h) n j _ _ _).trans (wp_mono _ _ _ fun _ =>
    (copySegs_step d i q fe fh fr fo O W r' (own_sem d i r' h') n j _ _ _).trans (wp_mono _ _ _ fun _ => hQ))

/-- A chunk's products formed and copied out, before any continuation. -/
theorem work_step (hh : ∀ x, (fh x).toNat < 1024) (j : Fin 5) (r : DmaSems sig S_) (h : (SemLoc.dma r.sem : SemLoc sig).isScoped .scVector = true)
    {Q : sProp 𝕄} (hQ : Free (U := U) d i q fe fh fr fo O W (j.val + 1) ⊢ Q) :
    Held (U := U) d i q fe fh fr fo O W j.val j ⊢ wp frame (wpE (defs₀ (F := F)) Variants.none (thr d i) none) Set.univ (groups d i)
      fun _ => wp frame (wpE (defs₀ (F := F)) Variants.none (thr d i) none) Set.univ (copyOut d i j r) fun _ => Q :=
  (groups_step d i q fe fh fr fo O W j.val j hh).trans (wp_mono _ _ _ fun _ =>
    (copyOut_step d i q fe fh fr fo O W r (own_sem d i r h) j _ _ _).trans (wp_mono _ _ _ fun _ => (free_of_held d i q fe fh fr fo O W (j.val + 1) j).trans hQ))

theorem window1_wp (hh : ∀ x, (fh x).toNat < 1024) {Q : (Σ' (_ : BitVec 32) (_ : IVec S16 32) (_ : BitVec 32) (_ : BitVec 32), BitVec 32) → sProp 𝕄}
    (hQ : ∀ v2 v8, Held (U := U) d i q fe fh fr fo O W 1 1 ⊢ Q ⟨v2, iota .scVector S16 32 [0] iota_S16_d0_w32_scVector, v8, 0#32, 125#32⟩) :
    St (U := U) d i q fe fh fr fo O W 0 iprop(∃ f6, (egvW).view.loc (thr d i) ↦{fullShare} f6) iprop(∃ f8, (segvW).view.loc (thr d i) ↦{fullShare} f8)
        iprop(∃ f9, (rgvW).view.loc (thr d i) ↦{fullShare} f9) iprop(∃ f7, (outvW).view.loc (thr d i) ↦{fullShare} f7)
      ⊢ wp frame (wpE (defs₀ (F := F)) Variants.none (thr d i) none) Set.univ (window1 (F := F) i) Q := by
  rw [window1_eq d i]
  simp only [wp_bind, wp_pure]
  refine (copyFac_step d i q fe fh fr fo O W cc0_scoped0 (own_sem d i _ rfl) 0 _ _ _).trans (wp_mono _ _ _ fun _ => ?_)
  refine load_step d i q fe fh fr fo O W 0 0 _ _ rfl rfl ?_
  refine work_step d i q fe fh fr fo O W hh 0 _ rfl ?_
  refine load_step d i q fe fh fr fo O W 1 1 _ _ rfl rfl ?_
  exact (hQ _ _).trans fupd_intro

theorem window2_wp (hh : ∀ x, (fh x).toNat < 1024) (v2 v8 : BitVec 32) {Q : BitVec 32 → sProp 𝕄} (hQ : ∀ v, Held (U := U) d i q fe fh fr fo O W 3 3 ⊢ Q v) :
    Held (U := U) d i q fe fh fr fo O W 1 1
      ⊢ wp frame (wpE (defs₀ (F := F)) Variants.none (thr d i) none) Set.univ (window2 (F := F) i v2 (iota .scVector S16 32 [0] iota_S16_d0_w32_scVector) v8 0#32 125#32) Q := by
  rw [window2_eq d i]
  simp only [wp_bind, wp_pure]
  refine work_step d i q fe fh fr fo O W hh 1 _ rfl ?_
  refine load_step d i q fe fh fr fo O W 2 2 _ _ rfl rfl ?_
  refine work_step d i q fe fh fr fo O W hh 2 _ rfl ?_
  refine load_step d i q fe fh fr fo O W 3 3 _ _ rfl rfl ?_
  exact (hQ _).trans fupd_intro

theorem window3_wp (hh : ∀ x, (fh x).toNat < 1024) :
    Held (U := U) d i q fe fh fr fo O W 3 3
      ⊢ wp frame (wpE (defs₀ (F := F)) Variants.none (thr d i) none) Set.univ (window3 (F := F) d i) fun _ => Free (U := U) d i q fe fh fr fo O W 5 := by
  unfold window3
  simp only [wp_bind]
  refine work_step d i q fe fh fr fo O W hh 3 _ rfl ?_
  refine load_step d i q fe fh fr fo O W 4 4 _ _ rfl rfl ?_
  exact work_step d i q fe fh fr fo O W hh 4 _ rfl .rfl

/-- A tile's kernel: its five chunks of the result are written. -/
theorem normBody_wp (hh : ∀ x, (fh x).toNat < 1024) :
    St (U := U) d i q fe fh fr fo O W 0 iprop(∃ f6, (egvW).view.loc (thr d i) ↦{fullShare} f6) iprop(∃ f8, (segvW).view.loc (thr d i) ↦{fullShare} f8)
        iprop(∃ f9, (rgvW).view.loc (thr d i) ↦{fullShare} f9) iprop(∃ f7, (outvW).view.loc (thr d i) ↦{fullShare} f7)
      ⊢ wp frame (wpE (defs₀ (F := F)) Variants.none (thr d i) none) Set.univ (normBody (F := F) i) fun _ => Free (U := U) d i q fe fh fr fo O W 5 := by
  obtain ⟨K, h1, h2⟩ := normBody_eq (F := F) d i
  rw [h1]
  rw [wp_bind]
  refine window1_wp d i q fe fh fr fo O W hh fun v2 v8 => ?_
  show _ ⊢ wp frame (wpE (defs₀ (F := F)) Variants.none (thr d i) none) Set.univ (window2 (F := F) i v2 (iota .scVector S16 32 [0] iota_S16_d0_w32_scVector) v8 0#32 125#32 >>= K _) _
  rw [wp_bind]
  refine window2_wp d i q fe fh fr fo O W hh v2 v8 fun v => ?_
  rw [h2]
  exact window3_wp d i q fe fh fr fo O W hh

/-- Before the first chunk no place of the result has changed, after the fifth every one of the tile's is right. -/
theorem sofar_zero : sofar fe fh fr fo 0 = fo := funext fun z => if_neg (by omega)

theorem sofar_five (w : ℕ) : ∀ z ∈ outSet w, sofar fe fh fr fo 5 z = outVal fe fh fr z := fun z _ => if_pos (by have := Nat.mod_lt (z 0).val (show 160000 > 0 by decide); omega)

end

end Cert.Proof.Norm
-- ==== Proof.NormLaunch.lean ====
module
public import proofs.«01_k».proof.Proof.NormTile
public import Idealize.ShloMosaic.Lib.StableHlo.Run
public import Idealize.ShloMosaic.Lib.Pipeline.Kit
@[expose] public section
noncomputable section
/-!
  The whole program: the one SparseCore call, from its arrays at launch to its result.

  Tile `w` of the thirty-two reads the three arguments through read share `w` and owns the 160000 places of the result from
  `160000 * w` on. The TensorCore keeps what is left of the three arguments while the call runs.
-/
namespace Cert.Proof.Norm
open Cert.NormIdeal Cert.NormIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := Variants.none.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "egW" => (Memref.whole Cert.NormIdeal.main_arg0_scv : Memref Cert.NormIdeal.sig Kind.scVector Space.hbm Cert.NormIdeal.S5120000 EltTy.f32)
local notation "segW" => (Memref.whole Cert.NormIdeal.main_arg1_scv : Memref Cert.NormIdeal.sig Kind.scVector Space.hbm Cert.NormIdeal.S320000 EltTy.i32)
local notation "rgW" => (Memref.whole Cert.NormIdeal.main_arg2_scv : Memref Cert.NormIdeal.sig Kind.scVector Space.hbm Cert.NormIdeal.S16384 EltTy.f32)
local notation "outW" => (Memref.whole Cert.NormIdeal.main_v0_scv : Memref Cert.NormIdeal.sig Kind.scVector Space.hbm Cert.NormIdeal.S5120000 EltTy.f32)
local notation "egvW" => (Memref.whole Cert.NormIdeal.cc0_scratch0 : Memref Cert.NormIdeal.sig Kind.scVector Space.vmem Cert.NormIdeal.S32000 EltTy.f32)
local notation "outvW" => (Memref.whole Cert.NormIdeal.cc0_scratch1 : Memref Cert.NormIdeal.sig Kind.scVector Space.vmem Cert.NormIdeal.S32000 EltTy.f32)
local notation "segvW" => (Memref.whole Cert.NormIdeal.cc0_scratch2 : Memref Cert.NormIdeal.sig Kind.scVector Space.vmem Cert.NormIdeal.S2000 EltTy.i32)
local notation "rgvW" => (Memref.whole Cert.NormIdeal.cc0_scratch3 : Memref Cert.NormIdeal.sig Kind.scVector Space.vmem Cert.NormIdeal.S16384 EltTy.f32)

/-! ## The arrays and their parts -/

variable (m : (ℓ : Loc nD τ sig) → Buf (Elt F) ℓ) (ρ : Dev nD → PrngReg)

/-- The rows, the graph numbers, the factors and the result, as locations of device `d`. -/
abbrev xLoc (d : Dev nD) : Loc nD τ sig := (SparseCore.T d).loc main_arg0
abbrev aLoc (d : Dev nD) : Loc nD τ sig := (SparseCore.T d).loc main_arg1
abbrev fLoc (d : Dev nD) : Loc nD τ sig := (SparseCore.T d).loc main_arg2
abbrev oLoc (d : Dev nD) : Loc nD τ sig := (SparseCore.T d).loc main_v0

theorem outSet_disjoint : ∀ w ∈ Finset.range 32, ∀ w' ∈ Finset.range 32, w ≠ w' → Disjoint (outSet w) (outSet w') := fun w _ w' _ h =>
  Finset.disjoint_left.mpr fun z hz hz' => h ((Finset.mem_filter.mp hz).2.symm.trans (Finset.mem_filter.mp hz').2)

theorem outSet_cover : (Finset.range 32).biUnion outSet = Finset.univ := Finset.eq_univ_of_forall fun z => by
  have hz : (z 0).val < 5120000 := (z 0).isLt
  exact Finset.mem_biUnion.mpr ⟨(z 0).val / 160000, Finset.mem_range.mpr (by omega), Finset.mem_filter.mpr ⟨Finset.mem_univ _, rfl⟩⟩

/-- What tile `w` holds of the arrays: its read shares of the arguments, its places of the result at `f`. -/
abbrev part (d : Dev nD) (f : Buf (Elt F) (oLoc d)) (w : ℕ) : sProp 𝕄 :=
  iprop((xLoc d ↦{Transfers.shareTokN fullShare w} m (xLoc d)) ∗ (aLoc d ↦{Transfers.shareTokN fullShare w} m (aLoc d)) ∗ (fLoc d ↦{Transfers.shareTokN fullShare w} m (fLoc d)) ∗ (oLoc d ↦[outSet w]{fullShare} f))

/-- What stays with the TensorCore while the call runs. -/
abbrev kept (d : Dev nD) : sProp 𝕄 :=
  iprop((xLoc d ↦{Transfers.shareDrop fullShare 32} m (xLoc d)) ∗ (aLoc d ↦{Transfers.shareDrop fullShare 32} m (aLoc d)) ∗ (fLoc d ↦{Transfers.shareDrop fullShare 32} m (fLoc d)))

/-- The four arrays are what the TensorCore keeps and the thirty-two tiles' parts. -/
theorem parts_split (d : Dev nD) (f : Buf (Elt F) (oLoc d)) :
    iprop((xLoc d ↦{fullShare} m (xLoc d)) ∗ (aLoc d ↦{fullShare} m (aLoc d)) ∗ (fLoc d ↦{fullShare} m (fLoc d)) ∗ (oLoc d ↦{fullShare} f))
      ⊢ (iprop(kept m d ∗ bigSep (Finset.range 32) (part m d f)) : sProp 𝕄) := by
  unfold part kept
  rw [bigSep_sep', bigSep_sep', bigSep_sep', ← pointsTo_biUnion (ℓ := oLoc d) (Finset.range 32) outSet outSet_disjoint, outSet_cover]
  iintro ⟨Hx, Ha, Hf, Ho⟩
  ihave Hx := (Transfers.pointsTo_toks_range (ℓ := xLoc d) (f := m (xLoc d)) (S := Finset.univ) fullShare 32).1 $$ Hx
  ihave Ha := (Transfers.pointsTo_toks_range (ℓ := aLoc d) (f := m (aLoc d)) (S := Finset.univ) fullShare 32).1 $$ Ha
  ihave Hf := (Transfers.pointsTo_toks_range (ℓ := fLoc d) (f := m (fLoc d)) (S := Finset.univ) fullShare 32).1 $$ Hf
  icases Hx with ⟨Hx, Hxs⟩
  icases Ha with ⟨Ha, Has⟩
  icases Hf with ⟨Hf, Hfs⟩
  isplitl [Hx Ha Hf]
  · isplitl [Hx]; · iexact Hx
    isplitl [Ha] <;> iassumption
  isplitl [Hxs]; · iexact Hxs
  isplitl [Has]; · iexact Has
  isplitl [Hfs]; · iexact Hfs
  iexact Ho

theorem parts_join (d : Dev nD) (f : Buf (Elt F) (oLoc d)) :
    (iprop(kept m d ∗ bigSep (Finset.range 32) (part m d f)) : sProp 𝕄)
      ⊢ iprop((xLoc d ↦{fullShare} m (xLoc d)) ∗ (aLoc d ↦{fullShare} m (aLoc d)) ∗ (fLoc d ↦{fullShare} m (fLoc d)) ∗ (oLoc d ↦{fullShare} f)) := by
  unfold part kept
  rw [bigSep_sep', bigSep_sep', bigSep_sep', ← pointsTo_biUnion (ℓ := oLoc d) (Finset.range 32) outSet outSet_disjoint, outSet_cover]
  iintro ⟨⟨Hx, Ha, Hf⟩, Hxs, Has, Hfs, Ho⟩
  isplitl [Hx Hxs]
  · iapply (Transfers.pointsTo_toks_range (ℓ := xLoc d) (f := m (xLoc d)) (S := Finset.univ) fullShare 32).2
    isplitl [Hx] <;> iassumption
  isplitl [Ha Has]
  · iapply (Transfers.pointsTo_toks_range (ℓ := aLoc d) (f := m (aLoc d)) (S := Finset.univ) fullShare 32).2
    isplitl [Ha] <;> iassumption
  isplitl [Hf Hfs]
  · iapply (Transfers.pointsTo_toks_range (ℓ := fLoc d) (f := m (fLoc d)) (S := Finset.univ) fullShare 32).2
    isplitl [Hf] <;> iassumption
  iexact Ho

/-- The thirty-two tiles, by core and subcore. -/
theorem tiles_eq (Φ : ℕ → sProp 𝕄) :
    (bigSep Finset.univ fun c : Fin 2 => bigSep Finset.univ fun s : Fin 16 => Φ (2 * s.val + c.val)) = bigSep (Finset.range 32) Φ := by
  rw [show Finset.range 32 = ((Finset.univ : Finset (Fin 2)) ×ˢ (Finset.univ : Finset (Fin 16))).image (fun p => 2 * p.2.val + p.1.val) by decide,
    SparseCore.bigSep_image_of_injOn, SparseCore.bigSep_product]
  rintro ⟨a, b⟩ - ⟨a', b'⟩ - h
  have h : 2 * b.val + a.val = 2 * b'.val + a'.val := h
  exact Prod.ext (Fin.ext (show a.val = a'.val by omega)) (Fin.ext (show b.val = b'.val by omega))

section Run
variable [FloatOps F]

/-- The result the program leaves on device `d`. -/
abbrev res (d : Dev nD) : Buf (Elt F) (oLoc d) := outVal (F := F) (m (xLoc d)) (m (aLoc d)) (m (fLoc d))

/-- The call hands each tile its part and takes it back with the tile's places of the result written. -/
def P : (K (F := F)).Pay (nD := nD) (Val := Elt F) (Name := ℕ) (U := UU) where
  st := fun q d c => match q with | 0 => bigSep Finset.univ fun s : Fin 16 => part m d (m (oLoc d)) (2 * s.val + c.val)
  dn := fun q d c => match q with | 0 => bigSep Finset.univ fun s : Fin 16 => part m d (res m d) (2 * s.val + c.val)
  go := fun q d c s => match q with | 0 => part m d (m (oLoc d)) (2 * s.val + c.val)
  td := fun q d c s => match q with | 0 => part m d (res m d) (2 * s.val + c.val)
  x := fun _ _ => iprop(emp)

instance P_storable : (P (F := F) m).IsStorable where
  st q d c := match q with
    | 0 => (inferInstance : BI.Storable (upEmb : UEmb _ 𝕄) (bigSep Finset.univ fun s : Fin 16 => part m d (m (oLoc d)) (2 * s.val + c.val)))
  dn q d c := match q with
    | 0 => (inferInstance : BI.Storable (upEmb : UEmb _ 𝕄) (bigSep Finset.univ fun s : Fin 16 => part m d (res m d) (2 * s.val + c.val)))
  go q d c s := match q with
    | 0 => (inferInstance : BI.Storable (upEmb : UEmb _ 𝕄) (part m d (m (oLoc d)) (2 * s.val + c.val)))
  td q d c s := match q with
    | 0 => (inferInstance : BI.Storable (upEmb : UEmb _ 𝕄) (part m d (res m d) (2 * s.val + c.val)))

/-! ## The tile's task -/

/-- What is left of the tile's own buffers besides its four scratch arrays. -/
abbrev others (d : Dev nD) (i : grid0.Coords) : Finset (DevRef τ sig) :=
  ((((ownRefs (τ := τ) (thr d i).2).erase ((thr d i).2.devRef cc0_scratch0)).erase ((thr d i).2.devRef cc0_scratch1)).erase
    ((thr d i).2.devRef cc0_scratch2)).erase ((thr d i).2.devRef cc0_scratch3)

/-- The tile's own buffers are its four scratch arrays and the rest. -/
theorem ownBufs_V (d : Dev nD) (i : grid0.Coords) :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (others d i) fun b => iprop(∃ f, ((d, b) : Loc nD τ sig) ↦{fullShare} f)) := by
  have hm : ∀ r : Ref sig .scVector, ((thr d i).2.devRef r).owner = .proc (thr d i).2 → (thr d i).2.devRef r ∈ ownRefs (τ := τ) (thr d i).2 := fun r h =>
    SparseCore.Cfg.mem_ownRefs_of_owner (p := (thr d i).2) (b := (thr d i).2.devRef r) h
  have hne : ∀ r r' : Ref sig .scVector, r ≠ r' → (thr d i).2.devRef r ≠ (thr d i).2.devRef r' := fun r r' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide), Finset.mem_erase.mpr ⟨hne cc0_scratch2 cc0_scratch0 (by decide),
      hm cc0_scratch2 rfl⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), hm cc0_scratch3 rfl⟩⟩⟩)]

theorem out_done (d : Dev nD) (w : ℕ) :
    (oLoc d ↦[outSet w]{fullShare} sofar (m (xLoc d)) (m (aLoc d)) (m (fLoc d)) (m (oLoc d)) 5 : sProp 𝕄) = (oLoc d ↦[outSet w]{fullShare} res m d) :=
  pointsTo_congr (ℓ := oLoc d) (sofar_five (m (xLoc d)) (m (aLoc d)) (m (fLoc d)) (m (oLoc d)) w)

theorem tile_body (hp : ∀ d x, (m (aLoc d) x).toNat < 1024) (d : Dev nD) (i : grid0.Coords) (O : CellTallies nD τ sig (HIx 1)) (W : Waits sig (HIx 1)) (hO : ∀ g, O g none = 0) :
    iprop(levAts (K (F := F)).L (K (F := F)).lev ∗ emp ∗ part m d (m (oLoc d)) (wid i)
        ∗ scopedBufs (thr d i) ∗ scopedSems0 (thr d i) ∗ owes (thr d i) O W)
      ⊢ wp frame (wpE (defs₀ (F := F)) Variants.none (thr d i) none) Set.univ (normBody i)
          fun _ => iprop(part m d (res m d) (wid i) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V facts d _ _, SparseCore.Cfg.scopedSems0_V (Val := Elt F) d _ _, ownBufs_V]
  refine BIBase.Entails.trans ?_ (wp_mono _ _ _ (Q := fun a => iprop((bigSep (others d i) fun b => iprop(∃ f, ((d, b) : Loc nD τ sig) ↦{fullShare} f))
            ∗ Free d i (Transfers.shareTokN fullShare (wid i)) (m (xLoc d)) (m (aLoc d)) (m (fLoc d)) (m (oLoc d)) O W 5)) ?_)
  · iintro ⟨#Hlv, -, ⟨Hx, Ha, Hf, Ho⟩, ⟨H6, H7, H8, H9, Hbufs⟩, Hsems, HO⟩
    ihave Hmw := (show levAts (K (F := F)).L (K (F := F)).lev ⊢ Transfers.MayWaits (thr d i) (none : HIx 1) O from
      (K (F := F)).mayWaits_none (thr := thr d i) hO) $$ Hlv
    iapply wp_frame_l
    isplitl [Hbufs]; · iexact Hbufs
    iapply (normBody_wp d i (Transfers.shareTokN fullShare (wid i)) (m (xLoc d)) (m (aLoc d)) (m (fLoc d)) (m (oLoc d)) O W (hp d))
    unfold St TileSt
    rw [sofar_zero]
    isplitl [Hmw Hx Ha Hf Ho Hsems HO]
    · isplitl [Hmw]; · iexact Hmw
      isplitl [Hx]; · iexact Hx
      isplitl [Ha]; · iexact Ha
      isplitl [Hf]; · iexact Hf
      isplitl [Ho]; · iexact Ho
      isplitl [Hsems]; · iexact Hsems
      iexists W; isplitr
      · ipureintro; exact fun p hp => .inl hp
      · iexact HO
    isplitl [H6]; · iexact H6
    isplitl [H8]; · iexact H8
    isplitl [H9]; · iexact H9
    iexact H7
  intro _
  unfold Free St TileSt
  iintro ⟨Hbufs, ⟨-, Hx, Ha, Hf, Ho, Hsems, %W', %hW', HO⟩, H6, H8, H9, H7⟩
  ihave Ho := (Entails.of_eq (out_done m d (wid i))) $$ Ho
  isplitl [Hx Ha Hf Ho]
  · isplitl [Hx]; · iexact Hx
    isplitl [Ha]; · iexact Ha
    isplitl [Hf]; · iexact Hf
    iexact Ho
  isplitl [H6 H7 H8 H9 Hbufs]
  · isplitl [H6]; · iexact H6
    isplitl [H7]; · iexact H7
    isplitl [H8]; · iexact H8
    isplitl [H9]
    · iexists _; iexact H9
    iexact Hbufs
  isplitl [Hsems]; · iexact Hsems
  iexists W'; isplitr
  · ipureintro; intro p hp
    exact (hW' p hp).imp_right .inl
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => normBody (coordsV c s)) ⟨⟩ c s := rfl

theorem tileObl (hp : ∀ d x, (m (aLoc d) x).toNat < 1024) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  exact tile_body m hp d (coordsV ⟨_, hci.1⟩ ⟨_, hci.2⟩) O W hO

theorem vecSplit : (K (F := F)).VecSplit' (P m) 0 := by
  intro d c
  show (bigSep Finset.univ fun s : Fin 16 => part m d (m (oLoc d)) (2 * s.val + c.val)) ⊢ |={Set.univ}=> iprop(
      (bigSep Finset.univ fun s : Fin 16 => part m d (m (oLoc d)) (2 * s.val + c.val))
      ∗ ((bigSep Finset.univ fun s : Fin 16 => part m d (res m d) (2 * s.val + c.val))
          -∗ bigSep Finset.univ fun s : Fin 16 => part m d (res m d) (2 * s.val + c.val)))
  iintro H; imodintro
  isplitl [H]; · iexact H
  iintro H; iexact H

/-! ## The program on the TensorCore -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (fLoc d ↦{fullShare} W main_arg2) ∗ (oLoc d ↦{fullShare} W main_v0)) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) :
    (bigSep Finset.univ fun c : Fin ((K (F := F)).nCore 0) => (P m).st 0 d c) = bigSep (Finset.range 32) (part m d (m (oLoc d))) :=
  tiles_eq (part m d (m (oLoc d)))

theorem dn0_eq (d : Dev nD) :
    (bigSep Finset.univ fun c : Fin ((K (F := F)).nCore 0) => (P m).dn 0 d c) = bigSep (Finset.range 32) (part m d (res m d)) :=
  tiles_eq (part m d (res m d))

abbrev FIN (d : Dev nD) : sProp 𝕄 := iprop((xLoc d ↦{fullShare} m (xLoc d)) ∗ (aLoc d ↦{fullShare} m (aLoc d)) ∗ (fLoc d ↦{fullShare} m (fLoc d)) ∗ (oLoc d ↦{fullShare} res m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hxs, Hts, -⟩, -⟩
  ihave Hxs := (parts_split m d (m (oLoc d))) $$ Hxs
  icases Hxs with ⟨Hk, Hp⟩
  iapply ((K (F := F)).wp_run (D (F := F)) 𝒱 (EH := EH) (P := P m) κ d 0) $$ [Hst Hk Hp Hb Hts]
  isplitr; · iexact Hctx
  isplitl [Hst]; · iexact Hst
  isplitl [Hp]
  · rw [st0_eq]; iexact Hp
  iintro ⟨Hst, Hdn⟩
  ihave Hdn' := (Entails.of_eq (dn0_eq m d)) $$ Hdn
  imodintro
  isplitl [Hst]; · iexact Hst
  isplitr [Hb Hts]
  · iapply (parts_join m d (res m d))
    isplitl [Hk] <;> iassumption
  isplitl [Hb] <;> iassumption

def fq (d : Dev nD) (s' : Phys nD τ sig (Elt F)) : Prop :=
  s'.mem.mem (xLoc d) = m (xLoc d) ∧ s'.mem.mem (aLoc d) = m (aLoc d) ∧ s'.mem.mem (fLoc d) = m (fLoc d) ∧ s'.mem.mem (oLoc d) = res m d

theorem hfin (d : Dev nD) (s' : Phys nD τ sig (Elt F)) : iprop(FIN m d ∗ SI s') ⊢ (⌜fq m d s'⌝ : sProp 𝕄) := by
  iintro ⟨⟨Hx, Ha, Hf, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := fLoc d) (I := Finset.univ) (q := fullShare) (f := m (fLoc d)))) $$ [HSI Hf]
  · isplitl [HSI] <;> iassumption
  icases H with ⟨%hf, HSI, -⟩
  ihave H := (SI_pointsTo_agree (st := s') (ℓ := oLoc d) (I := Finset.univ) (q := fullShare) (f := res m d)) $$ [HSI Ho]
  · isplitl [HSI] <;> iassumption
  icases H with %ho
  ipureintro
  exact ⟨funext fun i => hx i (Finset.mem_univ i), funext fun i => ha i (Finset.mem_univ i), funext fun i => hf i (Finset.mem_univ i), funext fun i => ho i (Finset.mem_univ i)⟩

/-- What a run ends in: the arguments unchanged, the result at the products, every semaphore at zero. -/
def QC : PUnit × MemSt nD τ sig (Elt F) → Prop := fun r =>
  (∀ c : Dev nD, r.2.mem (xLoc c) = m (xLoc c) ∧ r.2.mem (aLoc c) = m (aLoc c) ∧ r.2.mem (fLoc c) = m (fLoc c) ∧ r.2.mem (oLoc c) = res m c) ∧ r.2.sem = fun _ => 0

/-- Every run of the program ends so, when every graph number is below 1024. -/
theorem run_main [∀ e, Nonempty (Elt F e)] (hp : ∀ d x, (m (aLoc d) x).toNat < 1024) :
    θ_run (Cert.NormIdeal.defs (F := F)) (Cert.NormIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hp)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run
end Cert.Proof.Norm
-- ==== Proof.NormRef.lean ====
module
public import proofs.«01_k».proof.Defs
public import proofs.«01_k».proof.Proof.NormTile
public import proofs.«01_k».proof.Proof.SegCounts
public import proofs.«01_k».proof.Proof.Gen.NormRefIdeal
public import proofs.«01_k».proof.Proof.Gen.Pre_graphs_ok
public import Idealize.ShloMosaic.Lib.StableHlo.Predicate
public import Idealize.ShloMosaic.Lib.Routing.Ops
@[expose] public section
noncomputable section
/-!
  What the precondition says of the graph numbers, and the reference's result: it is the kernel's, where each graph number is
  one of the 1024 graphs.

  The reference takes row `h r` of the factors' table for row `r`, and where a graph number is negative the row counted from the
  table's end; a graph number within range is not negative, and the row it names is in the table.
-/
namespace Cert.Proof.Norm
open Cert.NormRefIdeal Cert.NormRefIdeal.Gen
open Idealize.ShloMosaic Idealize.ShloMosaic.StableHlo

variable {F : FTy → Type} [FloatOps F]

/-- A signed word from zero on and below 1024 is such a natural number. -/
theorem word_lt {a : BitVec 32} (h0 : IntOp.cmpi .sge a 0#32 = 1#1) (h1 : IntOp.cmpi .slt a 1024#32 = 1#1) : a.toNat < 1024 := by
  have h0 : (0#32).sle a = true := Predicate.ofBool_eq_one_iff _ |>.mp h0
  have h1 : a.slt 1024#32 = true := Predicate.ofBool_eq_one_iff _ |>.mp h1
  simp only [BitVec.sle, BitVec.slt, decide_eq_true_eq, BitVec.toInt_eq_toNat_cond, BitVec.toNat_ofNat] at h0 h1
  omega

/-- Under the precondition every graph number is one of the 1024 graphs. -/
theorem graphs_lt (e : FVec F Cert.Pre_graphs_ok.S5120000 .f32) (n : IVec Cert.Pre_graphs_ok.S320000 32) (r : FVec F Cert.Pre_graphs_ok.S16384 .f32)
    (h : Cert.Pre_graphs_ok.fn (F := F) e n r = fun _ => 1#1) (x : Cert.Pre_graphs_ok.S320000.Idx) : (n x).toNat < 1024 := by
  have h := congrFun h ValueIdx.ix0
  have h := (Host.reduce_eq_fold IntOp.andi _ _ _ _ _).symm.trans h
  obtain ⟨ha, hb⟩ := Seg.andi_one.mp (Seg.fold_and_one _ _ _ h x (Finset.mem_filter.mpr ⟨Finset.mem_univ _, funext fun a => a.elim0⟩))
  exact word_lt ha hb

/-- A graph number within range is not negative, so it is taken as it stands. -/
theorem graph_word (n : IVec S320000 32) (hn : ∀ x, (n x).toNat < 1024) (x : S320000.Idx) :
    (select (cmpi .slt n (broadcastInDim S320000 ![] bcast_S_S320000 (constantI S_ 32 0#32)))
      (addi n (broadcastInDim S320000 ![] bcast_S_S320000 (constantI S_ 32 1024#32))) n : IVec S320000 32) x = n x := by
  have h : IntOp.cmpi .slt (n x) 0#32 ≠ 1#1 := fun h => by
    have h : (n x).slt 0#32 = true := Predicate.ofBool_eq_one_iff _ |>.mp h
    have := hn x
    simp only [BitVec.slt, decide_eq_true_eq, BitVec.toInt_eq_toNat_cond, BitVec.toNat_ofNat] at h
    omega
  exact if_neg h

/-- The reference's result. -/
theorem ref_value (e : FVec F S5120000 .f32) (n : IVec S320000 32) (r : FVec F S16384 .f32) (hn : ∀ x, (n x).toNat < 1024) :
    (shapeCast S5120000 (mulf (shapeCast _ e shapeCasts_S5120000_S320000x16)
      (Host.gather gather_S1024x16_S320000x1_S320000x16_1_0_n_n_0_1_116 (shapeCast _ r shapeCasts_S16384_S1024x16)
        (broadcastInDim S320000x1 ![0] bcast_S320000_S320000x1_0 (select (cmpi .slt n (broadcastInDim S320000 ![] bcast_S_S320000 (constantI S_ 32 0#32)))
          (addi n (broadcastInDim S320000 ![] bcast_S_S320000 (constantI S_ 32 1024#32))) n)))) shapeCasts_S320000x16_S5120000 : S5120000.Idx → F .f32)
      = outVal e n r := by
  funext z
  obtain ⟨p, rfl⟩ : ∃ p : Fin 5120000, z = ValueIdx.ix1 p := ⟨z 0, ValueIdx.eq_ix1 z⟩
  have hr : p.val / 16 < 320000 := by have := p.isLt; omega
  have hc : p.val % 16 < 16 := Nat.mod_lt _ (by decide)
  have hg := hn (ValueIdx.ix1 ⟨p.val / 16, hr⟩)
  refine (Routing.cast21 (a := 320000) (b := 16) (n := 5120000) _ _ ⟨p.val / 16, hr⟩ ⟨p.val % 16, hc⟩ p (by show p.val = p.val / 16 * 16 + p.val % 16; omega)).trans ?_
  refine congrArg₂ FloatOps.mulf ?_ ?_
  · exact Routing.cast12 (a := 320000) (b := 16) (n := 5120000) e _ ⟨p.val / 16, hr⟩ ⟨p.val % 16, hc⟩ p (by show p.val = p.val / 16 * 16 + p.val % 16; omega)
  · refine (Routing.gather_row (nb := 1024) (B := 16) (n := 320000) _ rfl rfl rfl rfl rfl _ _ ⟨p.val / 16, hr⟩ ⟨p.val % 16, hc⟩ ⟨_, hg⟩ ?_ (by decide)).trans ?_
    · refine (Routing.bcCol (n := 320000) bcast_S320000_S320000x1_0 _ ⟨p.val / 16, hr⟩).trans ((graph_word n hn _).trans ?_)
      rw [BitVec.ofNat_toNat, BitVec.setWidth_eq]
    · refine (Routing.cast12 (a := 1024) (b := 16) (n := 16384) r _ ⟨_, hg⟩ ⟨p.val % 16, hc⟩
        ⟨16 * (n (ValueIdx.ix1 ⟨p.val / 16, hr⟩)).toNat + p.val % 16, by omega⟩ (by show 16 * (n (ValueIdx.ix1 ⟨p.val / 16, hr⟩)).toNat + p.val % 16 = (n (ValueIdx.ix1 ⟨p.val / 16, hr⟩)).toNat * 16 + p.val % 16; omega)).trans ?_
      have hrow : rowN n ((ValueIdx.ix1 p 0).val / 16) = (n (ValueIdx.ix1 ⟨p.val / 16, hr⟩)).toNat := dif_pos hr
      rw [hrow]
      unfold facN
      rw [dif_pos (show 16 * (n (ValueIdx.ix1 ⟨p.val / 16, hr⟩)).toNat + (ValueIdx.ix1 p 0).val % 16 < 16384 by
        show 16 * (n (ValueIdx.ix1 ⟨p.val / 16, hr⟩)).toNat + p.val % 16 < 16384; omega)]
      rfl

end Cert.Proof.Norm
-- ==== Proof.EpiValue.lean ====
module
public import proofs.«01_k».proof.Defs
public import proofs.«01_k».proof.Proof.Gen.EpiIdeal
public import proofs.«01_k».proof.Proof.Gen.EpiIdeal.Frame
public import proofs.«01_k».proof.Proof.Gen.EpiIdeal.Value
@[expose] public section
noncomputable section
/-!
  The run of the third call, over any float values, with its five results.

  The call has one point, and each of its windows is its whole array: so what the body stores for a window is what the window's
  array holds after the run, and what the body loads is the reshaped argument.
-/
namespace Cert.Proof.Epi
open Cert.EpiIdeal Cert.EpiIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The sums of the call's first argument, a row of 64 for each graph. -/
abbrev sums (c : Dev nD) : Vec F S1024x64 .f32 := shapeCast S1024x64 (m ((c : Thread nD τ).loc main_arg0)) shapeCasts_S65536_S1024x64

/-- The actions of the call's second argument, as a column. -/
abbrev acts (c : Dev nD) : Vec F S1024x1 .i32 := shapeCast S1024x1 (m ((c : Thread nD τ).loc main_arg1)) shapeCasts_S1024_S1024x1

theorem V_sums (c : Dev nD) : V m c main_v0 = sums m c := by
  show StableHlo.after hostOps0 _ _ = _
  simp only [hostOps0]
  after_results_simp <;> rfl

theorem V_acts (c : Dev nD) : V m c main_v1 = acts m c := by
  show StableHlo.after hostOps0 _ _ = _
  simp only [hostOps0]
  after_results_simp <;> rfl

theorem zeros : (![0, 0] : Fin 2 → Nat) = fun _ => 0 := funext fun a => by fin_cases a <;> rfl

/-! ## Each window's block is its array -/

theorem emb_0 (t : Fin cfg0.N) (j : S1024x64.Idx) : ((cfg0.win 0).blk t).view.emb j = j := by
  funext a; apply Fin.ext; show 0 * _ + 1 * (j a).val = (j a).val; omega
theorem emb_1 (t : Fin cfg0.N) (j : S1024x1.Idx) : ((cfg0.win 1).blk t).view.emb j = j := by
  funext a; apply Fin.ext; show 0 * _ + 1 * (j a).val = (j a).val; omega
theorem emb_2 (t : Fin cfg0.N) (j : S1024x1.Idx) : ((cfg0.win 2).blk t).view.emb j = j := by
  funext a; apply Fin.ext; show 0 * _ + 1 * (j a).val = (j a).val; omega
theorem emb_3 (t : Fin cfg0.N) (j : S1024x1.Idx) : ((cfg0.win 3).blk t).view.emb j = j := by
  funext a; apply Fin.ext; show 0 * _ + 1 * (j a).val = (j a).val; omega
theorem emb_4 (t : Fin cfg0.N) (j : S1024x1.Idx) : ((cfg0.win 4).blk t).view.emb j = j := by
  funext a; apply Fin.ext; show 0 * _ + 1 * (j a).val = (j a).val; omega
theorem emb_5 (t : Fin cfg0.N) (j : S1024x16.Idx) : ((cfg0.win 5).blk t).view.emb j = j := by
  funext a; apply Fin.ext; show 0 * _ + 1 * (j a).val = (j a).val; omega
theorem emb_6 (t : Fin cfg0.N) (j : S1024x16.Idx) : ((cfg0.win 6).blk t).view.emb j = j := by
  funext a; apply Fin.ext; show 0 * _ + 1 * (j a).val = (j a).val; omega

theorem iblk_0 (c : Dev nD) (t : Fin cfg0.N) : iblk m c 0 t = sums m c := by
  funext j
  exact (congrArg (V m c main_v0) (emb_0 t j)).trans (congrFun (V_sums m c) j)

theorem iblk_1 (c : Dev nD) (t : Fin cfg0.N) : iblk m c 1 t = acts m c := by
  funext j
  exact (congrArg (V m c main_v1) (emb_1 t j)).trans (congrFun (V_acts m c) j)

/-! ## What each array holds after the run -/

/-- The chosen actions' logarithms. -/
theorem arr_2 (c : Dev nD) : (dats m 0 c).arrAt 2 cfg0.N = k0_pay4 (sums m c) (acts m c) := by
  refine (dats m 0 c).arrAt_eq_of_cover 2 (k0_pay4 (sums m c) (acts m c)) (fun t _ => ?_) fun i =>
    ⟨⟨0, by decide⟩, flush0_2 _, by have h := ((cfg0.win 2).blk ⟨0, by decide⟩).view.emb_mem_set i; rwa [emb_2] at h⟩
  rw [Value.flushed2, iblk_0, iblk_1]
  unfold out0_2
  rw [View.canon_unit_zero zeros, View.ld_unit_zero zeros, View.ld_unit_zero zeros]
  exact funext fun j => (congrArg (k0_pay4 (sums m c) (acts m c)) (emb_2 t j)).symm

/-- The entropies. -/
theorem arr_3 (c : Dev nD) : (dats m 0 c).arrAt 3 cfg0.N = k0_pay5 (sums m c) := by
  refine (dats m 0 c).arrAt_eq_of_cover 3 (k0_pay5 (sums m c)) (fun t _ => ?_) fun i =>
    ⟨⟨0, by decide⟩, flush0_3 _, by have h := ((cfg0.win 3).blk ⟨0, by decide⟩).view.emb_mem_set i; rwa [emb_3] at h⟩
  rw [Value.flushed3, iblk_0]
  unfold out0_3
  rw [View.canon_unit_zero zeros, View.ld_unit_zero zeros]
  exact funext fun j => (congrArg (k0_pay5 (sums m c)) (emb_3 t j)).symm

/-- The values. -/
theorem arr_4 (c : Dev nD) : (dats m 0 c).arrAt 4 cfg0.N = k0_pay7 (sums m c) := by
  refine (dats m 0 c).arrAt_eq_of_cover 4 (k0_pay7 (sums m c)) (fun t _ => ?_) fun i =>
    ⟨⟨0, by decide⟩, flush0_4 _, by have h := ((cfg0.win 4).blk ⟨0, by decide⟩).view.emb_mem_set i; rwa [emb_4] at h⟩
  rw [Value.flushed4, iblk_0]
  unfold out0_4
  rw [View.canon_unit_zero zeros, View.ld_unit_zero zeros]
  exact funext fun j => (congrArg (k0_pay7 (sums m c)) (emb_4 t j)).symm

/-- The actions' probabilities. -/
theorem arr_5 (c : Dev nD) : (dats m 0 c).arrAt 5 cfg0.N = k0_pay2 (sums m c) := by
  refine (dats m 0 c).arrAt_eq_of_cover 5 (k0_pay2 (sums m c)) (fun t _ => ?_) fun i =>
    ⟨⟨0, by decide⟩, flush0_5 _, by have h := ((cfg0.win 5).blk ⟨0, by decide⟩).view.emb_mem_set i; rwa [emb_5] at h⟩
  rw [Value.flushed5, iblk_0]
  unfold out0_5
  rw [View.canon_unit_zero zeros, View.ld_unit_zero zeros]
  exact funext fun j => (congrArg (k0_pay2 (sums m c)) (emb_5 t j)).symm

/-- The factors. -/
theorem arr_6 (c : Dev nD) : (dats m 0 c).arrAt 6 cfg0.N = k0_pay6 (sums m c) := by
  refine (dats m 0 c).arrAt_eq_of_cover 6 (k0_pay6 (sums m c)) (fun t _ => ?_) fun i =>
    ⟨⟨0, by decide⟩, flush0_6 _, by have h := ((cfg0.win 6).blk ⟨0, by decide⟩).view.emb_mem_set i; rwa [emb_6] at h⟩
  rw [Value.flushed6, iblk_0]
  unfold out0_6
  rw [View.canon_unit_zero zeros, View.ld_unit_zero zeros]
  exact funext fun j => (congrArg (k0_pay6 (sums m c)) (emb_6 t j)).symm

/-- The run, its five results named as the body's operations over the reshaped arguments. -/
theorem run : θ_run defs (onTc (τ := τ) (main (F := F))) ⟨m, fun _ => 0, ρ⟩ fun r => ∀ c : Dev nD,
    r.2.mem ((c : Thread nD τ).loc main_v2_0) = k0_pay4 (sums m c) (acts m c)
      ∧ r.2.mem ((c : Thread nD τ).loc main_v2_1) = k0_pay5 (sums m c)
      ∧ r.2.mem ((c : Thread nD τ).loc main_v2_2) = k0_pay7 (sums m c)
      ∧ r.2.mem ((c : Thread nD τ).loc main_v2_3) = k0_pay2 (sums m c)
      ∧ r.2.mem ((c : Thread nD τ).loc main_v2_4) = k0_pay6 (sums m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h1, h2, h3, h4, ha⟩ := h c
    exact ⟨h0.trans (arr_2 m c), h1.trans (arr_3 m c), h2.trans (arr_4 m c), h3.trans (arr_5 m c), h4.trans (arr_6 m c), ha⟩)
    (Value.run_blocks m ρ)

end Cert.Proof.Epi
-- ==== Proof.EpiRef.lean ====
module
public import proofs.«01_k».proof.Defs
public import proofs.«01_k».proof.Proof.EpiValue
public import proofs.«01_k».proof.Proof.SegCounts
public import proofs.«01_k».proof.Proof.Gen.EpiRefIdeal
public import proofs.«01_k».proof.Proof.Gen.EpiRefIdeal.Run
public import proofs.«01_k».proof.Proof.Gen.Pre_actions_ok
public import Idealize.ShloMosaic.Lib.KernelVsHost
public import Idealize.ShloMosaic.Lib.StableHlo.Predicate
public import Idealize.ShloMosaic.Lib.Routing.Ops
@[expose] public section
noncomputable section
/-!
  What the precondition says of the actions, and the third reference's five results in exact arithmetic: they are the call's.

  Four of the five are the same operations, written once for a kernel and once for a whole array: a sum along a row, a column laid
  along a row, a negation. The fifth, the logarithm of the chosen action's probability, the reference takes from its row by
  the action's number; the call compares each lane's number with the action's, keeps the one lane that agrees, and sums.
-/
namespace Cert.Proof.Epi
open Cert.EpiRefIdeal Cert.EpiRefIdeal.Gen
open Idealize.ShloMosaic Idealize.ShloMosaic.StableHlo
open Cert.EpiIdeal.Gen (k0_pay1 k0_pay2 k0_pay3 k0_pay4 k0_pay5 k0_pay6 k0_pay7)

/-! ## The actions -/

/-- A signed word from zero on and below 16 is such a natural number. -/
theorem word_lt {a : BitVec 32} (h0 : IntOp.cmpi .sge a 0#32 = 1#1) (h1 : IntOp.cmpi .slt a 16#32 = 1#1) : a.toNat < 16 := by
  have h0 : (0#32).sle a = true := Predicate.ofBool_eq_one_iff _ |>.mp h0
  have h1 : a.slt 16#32 = true := Predicate.ofBool_eq_one_iff _ |>.mp h1
  simp only [BitVec.sle, BitVec.slt, decide_eq_true_eq, BitVec.toInt_eq_toNat_cond, BitVec.toNat_ofNat] at h0 h1
  omega

/-- Under the precondition every graph's action is one of the 16. -/
theorem actions_lt {F : FTy → Type} [FloatOps F] (x : FVec F Cert.Pre_actions_ok.S65536 .f32) (n : IVec Cert.Pre_actions_ok.S1024 32)
    (h : Cert.Pre_actions_ok.fn (F := F) x n = fun _ => 1#1) (g : Cert.Pre_actions_ok.S1024.Idx) : (n g).toNat < 16 := by
  have h := congrFun h ValueIdx.ix0
  have h := (Host.reduce_eq_fold IntOp.andi _ _ _ _ _).symm.trans h
  obtain ⟨ha, hb⟩ := Seg.andi_one.mp (Seg.fold_and_one _ _ _ h g (Finset.mem_filter.mpr ⟨Finset.mem_univ _, funext fun a => a.elim0⟩))
  exact word_lt ha hb

/-- The conjunction of ones is one. -/
theorem fold_ones {ι : Type} (S : Finset ι) (f : ι → BitVec 1) (h : ∀ i ∈ S, f i = 1#1) : S.fold IntOp.andi 1#1 f = 1#1 := by
  classical
  induction S using Finset.cons_induction with
  | empty => rfl
  | cons a S ha ih =>
    rw [Finset.fold_cons, Seg.andi_one]
    exact ⟨h a (Finset.mem_cons_self _ _), ih fun i hi => h i (Finset.mem_cons_of_mem hi)⟩

/-! ## The two ways of writing one operation -/

/-- A vector cast to a column is the vector laid down a column. -/
theorem col_eq {α : Type} (v : S1024.Idx → α) (h : S1024.ShapeCasts S1024x1) :
    shapeCast S1024x1 v h = broadcastInDim S1024x1 ![0] bcast_S1024_S1024x1_0 v := by
  funext j
  obtain ⟨p, q, rfl⟩ : ∃ p q, j = ValueIdx.ix2 (n0 := 1024) (n1 := 1) p q := ⟨j 0, j 1, ValueIdx.eq_ix2 j⟩
  obtain rfl : q = 0 := Subsingleton.elim _ _
  exact (Routing.cast12 (n := 1024) (a := 1024) (b := 1) v h p 0 p (by simp)).trans
    (Routing.bcCol (n := 1024) bcast_S1024_S1024x1_0 v p).symm

/-- A column laid along the rows, read at an entry. -/
theorem rows_apply {α : Type} (v : S1024x1.Idx → α) (h : S1024x1.Broadcasts S1024x16) (p : Fin 1024) (q : Fin 16) :
    broadcastTo S1024x16 v h (ValueIdx.ix2 p q) = v (ValueIdx.ix2 p (0 : Fin 1)) :=
  broadcastTo_apply v h _ _ fun a => match a with | ⟨0, _⟩ => rfl | ⟨1, _⟩ => rfl

/-- A column laid along the rows, by either operation. -/
theorem rows_eq {α : Type} (v : S1024x1.Idx → α) (h : S1024x1.Broadcasts S1024x16) :
    broadcastTo S1024x16 v h = broadcastInDim S1024x16 ![0, 1] bcast_S1024x1_S1024x16_0_1 v := by
  funext j
  obtain ⟨p, q, rfl⟩ : ∃ p q, j = ValueIdx.ix2 (n0 := 1024) (n1 := 16) p q := ⟨j 0, j 1, ValueIdx.eq_ix2 j⟩
  exact (rows_apply v h p q).trans
    (broadcastInDim_apply _ bcast_S1024x1_S1024x16_0_1 v _ _ fun a => match a with | ⟨0, _⟩ => rfl | ⟨1, _⟩ => rfl).symm

/-- A sum along each row, by either operation. -/
theorem sum_eq (v : FVec Ideal S1024x16 .f32) (h : S1024x16.Reduces [1] S1024) :
    multiReduction .add [1] S1024 v 0x00000000#32 h (.inl rfl) rfl
      = Host.reduceAdd v (constant S_ .f32 0x00000000#32) reducesTo_S1024x16_S1024_d1 h_S_ :=
  multiReduction_add_eq_hostReduceAdd v _ h _ _ _ _ _ Ideal.ofBits_zero_f32

/-! ## The reference's values -/

/-- The actions' probabilities, from the sums. -/
abbrev rP (X : FVec Ideal S1024x64 .f32) : FVec Ideal S1024x16 .f32 :=
  Host.divf (extractStridedSlice S1024x16 ![0, 0] X slices_S1024x64_S1024x16_0_0) (broadcastInDim S1024x16 ![0, 1] bcast_S1024x1_S1024x16_0_1
    (addf (broadcastInDim S1024x1 ![0] bcast_S1024_S1024x1_0 (Host.reduceAdd (extractStridedSlice S1024x16 ![0, 0] X slices_S1024x64_S1024x16_0_0)
      (constant S_ .f32 0x00000000#32) reducesTo_S1024x16_S1024_d1 h_S_)) (broadcastInDim S1024x1 ![] bcast_S_S1024x1 (constant S_ .f32 0x2B8CBCCC#32))))

/-- Their logarithms. -/
abbrev rLog (X : FVec Ideal S1024x64 .f32) : FVec Ideal S1024x16 .f32 :=
  Host.log (addf (rP X) (broadcastInDim S1024x16 ![] bcast_S_S1024x16 (constant S_ .f32 0x2B8CBCCC#32)))

/-- The factors. -/
abbrev rFac (X : FVec Ideal S1024x64 .f32) : FVec Ideal S1024x16 .f32 :=
  Host.divf (broadcastInDim S1024x16 ![] bcast_S_S1024x16 (constant S_ .f32 0x3F800000#32))
    (addf (extractStridedSlice S1024x16 ![0, 16] X slices_S1024x64_S1024x16_0_16) (broadcastInDim S1024x16 ![] bcast_S_S1024x16 (constant S_ .f32 0x2B8CBCCC#32)))

/-- The entropies. -/
abbrev rEnt (X : FVec Ideal S1024x64 .f32) : FVec Ideal S1024x1 .f32 :=
  broadcastInDim S1024x1 ![0] bcast_S1024_S1024x1_0 (Host.negf (Host.reduceAdd (mulf (rP X) (rLog X)) (constant S_ .f32 0x00000000#32) reducesTo_S1024x16_S1024_d1 h_S_))

/-- The values. -/
abbrev rVal (X : FVec Ideal S1024x64 .f32) : FVec Ideal S1024x1 .f32 :=
  broadcastInDim S1024x1 ![0] bcast_S1024_S1024x1_0 (Host.reduceAdd (mulf (rP X) (addf (extractStridedSlice S1024x16 ![0, 32] X slices_S1024x64_S1024x16_0_32)
    (mulf (extractStridedSlice S1024x16 ![0, 48] X slices_S1024x64_S1024x16_0_48) (rFac X)))) (constant S_ .f32 0x00000000#32) reducesTo_S1024x16_S1024_d1 h_S_)

/-- Each graph's action, one below zero counted from the end. -/
abbrev rAct (n : IVec S1024 32) : IVec S1024x1x1 32 :=
  shapeCast _ (select (cmpi .slt (broadcastInDim S1024x1 ![0] bcast_S1024_S1024x1_0 n) (broadcastInDim S1024x1 ![] bcast_S_S1024x1 (constantI S_ 32 0#32)))
    (addi (broadcastInDim S1024x1 ![0] bcast_S1024_S1024x1_0 n) (broadcastInDim S1024x1 ![] bcast_S_S1024x1 (constantI S_ 32 16#32)))
    (broadcastInDim S1024x1 ![0] bcast_S1024_S1024x1_0 n)) shapeCasts_S1024x1_S1024x1x1

/-- The logarithm at each graph's action, where the action is within range. -/
abbrev rTake (X : FVec Ideal S1024x64 .f32) (n : IVec S1024 32) : FVec Ideal S1024x1 .f32 :=
  select (Host.reduce IntOp.andi (andi (cmpi .sge (rAct n) (broadcastInDim S1024x1x1 ![] bcast_S_S1024x1x1 (constantI S_ 32 0#32)))
      (cmpi .sle (rAct n) (broadcastInDim S1024x1x1 ![0, 1, 2] bcast_S1x1x1_S1024x1x1_0_1_2 (broadcastInDim S1x1x1 ![2] bcast_S1_S1x1x1_2 (constantI S1 32 15#32)))))
      (constantI S_ 1 1#1) reducesTo_S1024x1x1_S1024x1_d2 h_S_)
    (Host.gather gather_S1024x16_S1024x1x1_S1024x1_n_1_0_0_1_2_11 (rLog X) (rAct n))
    (broadcastInDim S1024x1 ![] bcast_S_S1024x1 (constant S_ .f32 0x7FC00000#32))

/-! ## The four results that are the same operations -/

theorem p_eq (X : FVec Ideal S1024x64 .f32) : rP X = k0_pay2 X := by
  unfold k0_pay2 k0_pay1
  dsimp only
  rw [shapeCast_self, sum_eq, col_eq, rows_eq]
  rfl

theorem log_eq (X : FVec Ideal S1024x64 .f32) : rLog X = k0_pay3 X := by
  unfold k0_pay3
  dsimp only
  rw [← p_eq]
  rfl

theorem fac_eq (X : FVec Ideal S1024x64 .f32) : rFac X = k0_pay6 X := by
  unfold k0_pay6 k0_pay1
  dsimp only
  rw [shapeCast_self]
  rfl

theorem ent_eq (X : FVec Ideal S1024x64 .f32) : rEnt X = k0_pay5 X := by
  unfold k0_pay5
  dsimp only
  rw [← p_eq, ← log_eq, sum_eq, col_eq, subf_zero_eq_hostNegf]
  rfl

theorem val_eq (X : FVec Ideal S1024x64 .f32) : rVal X = k0_pay7 X := by
  unfold k0_pay7 k0_pay1
  dsimp only
  rw [← p_eq, ← fac_eq, shapeCast_self, sum_eq, col_eq]

/-! ## The logarithm at the chosen action -/

/-- The action within range is taken as it stands. -/
theorem act_apply (n : IVec S1024 32) (hn : ∀ g, (n g).toNat < 16) (y : S1024x1x1.Idx) : rAct n y = n (ValueIdx.ix1 (n := 1024) (y 0)) := by
  obtain ⟨p, q, r, rfl⟩ : ∃ p q r, y = ValueIdx.ix3 (n0 := 1024) (n1 := 1) (n2 := 1) p q r := ⟨y 0, y 1, y 2, ValueIdx.eq_ix3 y⟩
  obtain rfl : q = 0 := Subsingleton.elim _ _
  obtain rfl : r = 0 := Subsingleton.elim _ _
  refine (shapeCast_apply _ shapeCasts_S1024x1_S1024x1x1 _ (ValueIdx.ix2 p (0 : Fin 1)) ?_).trans ?_
  · rw [Shape.rowMajor_val_two, Shape.rowMajor_val_three]
    show p.val * 1 + 0 = (p.val * 1 + 0) * 1 + 0
    omega
  · have hc := Routing.bcCol (n := 1024) bcast_S1024_S1024x1_0 n p
    have h : IntOp.cmpi .slt (broadcastInDim S1024x1 ![0] bcast_S1024_S1024x1_0 n (ValueIdx.ix2 p (0 : Fin 1))) 0#32 ≠ 1#1 := fun h => by
      rw [hc] at h
      have h : (n (ValueIdx.ix1 p)).slt 0#32 = true := Predicate.ofBool_eq_one_iff _ |>.mp h
      have := hn (ValueIdx.ix1 p)
      simp only [BitVec.slt, decide_eq_true_eq, BitVec.toInt_eq_toNat_cond, BitVec.toNat_ofNat] at h
      omega
    exact (if_neg h).trans hc

/-- What is taken from a row by a number within range is the row's entry there. -/
theorem take_apply {α : Type} (x : S1024x16.Idx → α) (I : IVec S1024x1x1 32) (p : Fin 1024) (k : Fin 16)
    (hk : I (ValueIdx.ix3 p (0 : Fin 1) (0 : Fin 1)) = BitVec.ofNat 32 k.val) :
    Host.gather gather_S1024x16_S1024x1x1_S1024x1_n_1_0_0_1_2_11 x I (ValueIdx.ix2 p (0 : Fin 1)) = x (ValueIdx.ix2 p k) := by
  unfold Host.gather
  congr 1
  funext a
  refine Fin.ext ?_
  show GatherDims.start _ _ I a + GatherDims.batchCoord _ _ a + GatherDims.offCoord _ _ a = _
  have h01 : a = 0 ∨ a = 1 := match a with | ⟨0, _⟩ => Or.inl rfl | ⟨1, _⟩ => Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S1024x16_S1024x1x1_S1024x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x16_S1024x1x1_S1024x1_n_1_0_0_1_2_11.startIndexMap from List.mem_singleton.mpr rfl)]
    have hsi : gather_S1024x16_S1024x1x1_S1024x1_n_1_0_0_1_2_11.siIdx (ValueIdx.ix2 p (0 : Fin 1))
        ⟨List.idxOf (1 : Fin 2) gather_S1024x16_S1024x1x1_S1024x1_n_1_0_0_1_2_11.startIndexMap,
          List.idxOf_lt_length_iff.2 (List.mem_singleton.mpr rfl)⟩ = ValueIdx.ix3 p (0 : Fin 1) (0 : Fin 1) := by
      funext b; refine Fin.ext ?_
      match b with
      | ⟨0, _⟩ => rfl
      | ⟨1, _⟩ => rfl
      | ⟨2, _⟩ => rfl
    rw [hsi, hk]
    show min (BitVec.ofNat 32 k.val).toInt.toNat 15 = k.val
    clear hk hsi
    revert k; decide

/-- Where the actions are within range, the reference's logarithm is the row's at the action. -/
theorem rTake_apply (X : FVec Ideal S1024x64 .f32) (n : IVec S1024 32) (hn : ∀ g, (n g).toNat < 16) (p : Fin 1024) :
    rTake X n (ValueIdx.ix2 p (0 : Fin 1)) = rLog X (ValueIdx.ix2 p ⟨(n (ValueIdx.ix1 p)).toNat, hn _⟩) := by
  have hm : ∀ y : S1024x1x1.Idx, andi (cmpi .sge (rAct n) (broadcastInDim S1024x1x1 ![] bcast_S_S1024x1x1 (constantI S_ 32 0#32)))
      (cmpi .sle (rAct n) (broadcastInDim S1024x1x1 ![0, 1, 2] bcast_S1x1x1_S1024x1x1_0_1_2 (broadcastInDim S1x1x1 ![2] bcast_S1_S1x1x1_2 (constantI S1 32 15#32)))) y = 1#1 := fun y => by
    refine Seg.andi_one.mpr ⟨?_, ?_⟩
    · show IntOp.cmpi .sge (rAct n y) 0#32 = 1#1
      rw [act_apply n hn]
      refine (Predicate.ofBool_eq_one_iff _).mpr ?_
      have := hn (ValueIdx.ix1 (n := 1024) (y 0))
      simp only [BitVec.sle, decide_eq_true_eq, BitVec.toInt_eq_toNat_cond, BitVec.toNat_ofNat]
      omega
    · show IntOp.cmpi .sle (rAct n y) 15#32 = 1#1
      rw [act_apply n hn]
      refine (Predicate.ofBool_eq_one_iff _).mpr ?_
      have := hn (ValueIdx.ix1 (n := 1024) (y 0))
      simp only [BitVec.sle, decide_eq_true_eq, BitVec.toInt_eq_toNat_cond, BitVec.toNat_ofNat]
      omega
  refine (if_pos ?_).trans (take_apply (rLog X) (rAct n) p ⟨(n (ValueIdx.ix1 p)).toNat, hn _⟩ ?_)
  · rw [Host.reduce_eq_fold]
    exact fold_ones _ _ fun y _ => hm y
  · rw [act_apply n hn]
    show n (ValueIdx.ix1 p) = BitVec.ofNat 32 (n (ValueIdx.ix1 p)).toNat
    rw [BitVec.ofNat_toNat, BitVec.setWidth_eq]

/-- The one lane kept, summed. -/
theorem pick_apply (X : FVec Ideal S1024x64 .f32) (n : IVec S1024 32) (h : S1024.ShapeCasts S1024x1) (p : Fin 1024) (k : Fin 16)
    (hk : n (ValueIdx.ix1 p) = BitVec.ofNat 32 k.val) : k0_pay4 X (shapeCast S1024x1 n h) (ValueIdx.ix2 p (0 : Fin 1)) = k0_pay3 (F := Ideal) X (ValueIdx.ix2 p k) := by
  unfold k0_pay4
  dsimp only
  rw [shapeCast_self]
  refine (Routing.cast12 (n := 1024) (a := 1024) (b := 1) _ _ p 0 p (by simp)).trans ?_
  refine (Ideal.multiReduction_add_single _ _ _ _ _ _).trans ?_
  have hl : ∀ (r : S1024x16.Reduces [1] S1024) (b : Fin 16), r.lift (ValueIdx.ix1 p) b = ValueIdx.ix2 p b := fun _ b =>
    funext fun a => match a with | ⟨0, _⟩ => rfl | ⟨1, _⟩ => rfl
  have hc : ∀ r : S1024x1.Broadcasts S1024x16, broadcastTo S1024x16 (shapeCast S1024x1 n h) r = fun j => n (ValueIdx.ix1 (n := 1024) (j 0)) := fun r => by
    funext j
    obtain ⟨p, q, rfl⟩ : ∃ p q, j = ValueIdx.ix2 (n0 := 1024) (n1 := 16) p q := ⟨j 0, j 1, ValueIdx.eq_ix2 j⟩
    exact (rows_apply _ _ p q).trans (Routing.cast12 (n := 1024) (a := 1024) (b := 1) n h p 0 p (by simp))
  refine (Finset.sum_eq_single (M := EReal) k (fun b _ hb => ?_) fun hk => absurd (Finset.mem_univ _) hk).trans ?_
  · rw [hl, hc]
    refine (if_neg fun h => ?_).trans Ideal.ofBits_zero_f32
    have h : BitVec.ofNat 32 (0 * 16 + b.val) = n (ValueIdx.ix1 p) := Predicate.cmpi_eq_iff.mp h
    rw [hk] at h
    have h := congrArg BitVec.toNat h
    have hb' := b.isLt
    have hk' := k.isLt
    simp only [BitVec.toNat_ofNat] at h
    exact hb (Fin.ext (by omega))
  · rw [hl, hc]
    refine if_pos (Predicate.cmpi_eq_iff.mpr ?_)
    show BitVec.ofNat 32 (0 * 16 + k.val) = n (ValueIdx.ix1 p)
    rw [hk, Nat.zero_mul, Nat.zero_add]

/-- So the logarithms at the chosen actions agree. -/
theorem take_eq (X : FVec Ideal S1024x64 .f32) (n : IVec S1024 32) (hn : ∀ g, (n g).toNat < 16) (h : S1024.ShapeCasts S1024x1) :
    rTake X n = k0_pay4 X (shapeCast S1024x1 n h) := by
  funext j
  obtain ⟨p, q, rfl⟩ : ∃ p q, j = ValueIdx.ix2 (n0 := 1024) (n1 := 1) p q := ⟨j 0, j 1, ValueIdx.eq_ix2 j⟩
  obtain rfl : q = 0 := Subsingleton.elim _ _
  rw [rTake_apply X n hn, log_eq]
  refine (pick_apply X n h p ⟨(n (ValueIdx.ix1 p)).toNat, hn _⟩ ?_).symm
  show n (ValueIdx.ix1 p) = BitVec.ofNat 32 (n (ValueIdx.ix1 p)).toNat
  rw [BitVec.ofNat_toNat, BitVec.setWidth_eq]

end Cert.Proof.Epi
-- ==== Proof.NodeParts.lean ====
module
public import proofs.«01_k».proof.Defs
public import proofs.«01_k».proof.Proof.Gen.NodeIdeal
public import proofs.«01_k».proof.Proof.Gen.NodeIdeal.Skeleton
public import proofs.«01_k».proof.Proof.Gen.NodeRefIdeal
public import Idealize.ShloMosaic.Lib.Pipeline.Value
public import Idealize.ShloMosaic.Lib.KernelVsHost
public import Idealize.ShloMosaic.Lib.StackMember
public import Idealize.ShloMosaic.Lib.MatmulPlain
public import Idealize.ShloMosaic.Lib.Routing.Ops
@[expose] public section
noncomputable section
/-!
  The first call's block of rows in exact arithmetic.

  The call multiplies a block of 8000 rows by one matrix of 80 columns, in which the weights of the five products lie side by side,
  and cuts the product apart; the reference multiplies all rows by each of the five weights. So an entry of a cut is an entry of
  the reference's product with the weights that lie in the cut's columns, at the row that the block's row is of the array.
-/
namespace Cert.Proof.Node
open Cert.NodeIdeal hiding S320000x16
open Cert.NodeIdeal.Gen
open Idealize.ShloMosaic Idealize.ShloMosaic.StableHlo
open Cert.NodeRefIdeal (S1x16 S320000x16 S320000x1 S320000 dot_S320000x128_S128x16_S320000x16_1_0_0_1_n_n dot_S320000x128_S128x1_S320000x1_1_0_0_1_n_n)
open Cert.NodeRefIdeal.Facts₀ (bcast_S1x16_S320000x16_0_1 bcast_S16_S1x16_1 bcast_S320000x1_S320000x16_0_1 bcast_S320000_S320000x1_0
  reducesTo_S320000x16_S320000_d1 bcast_S_S320000x64 concatenates_S320000x16_S320000x16_S320000x16_S320000x16_S320000x64_S320000x128_d1)

/-! ## Pieces side by side -/

/-- A piece of a row of pieces, read where its columns lie. -/
theorem piece {α : Type} {n w v : Nat} (xs : List ((s : Shape) × (s.Idx → α))) (h : Shape.Concatenates (xs.map (·.1)) ⟨2, ![n, w]⟩ 1)
    (p : Fin n) (j : Fin w) (k : Nat) (hk : k < xs.length) (x : (⟨2, ![n, v]⟩ : Shape).Idx → α) (hx : xs[k] = ⟨⟨2, ![n, v]⟩, x⟩)
    (pre : Nat) (hpre : (((xs.take k).map (·.1)).map fun s => if h : s.rank = 2 then s.size ((1 : Fin 2).cast h.symm) else 0).sum = pre)
    (q : Fin v) (hq : pre + q.val = j.val) :
    concatenate ⟨2, ![n, w]⟩ 1 xs h (ValueIdx.ix2 p j) = x (ValueIdx.ix2 p q) :=
  concatenate_apply_piece (t := ⟨2, ![n, w]⟩) 1 xs h (ValueIdx.ix2 p j) k hk _ x hx rfl pre hpre (ValueIdx.ix2 p q)
    (fun b hb => match b with | ⟨0, _⟩ => rfl | ⟨1, _⟩ => absurd rfl hb) hq

/-- The same of a vector of pieces. -/
theorem piece1 {α : Type} {w v : Nat} (xs : List ((s : Shape) × (s.Idx → α))) (h : Shape.Concatenates (xs.map (·.1)) ⟨1, ![w]⟩ 0)
    (j : Fin w) (k : Nat) (hk : k < xs.length) (x : (⟨1, ![v]⟩ : Shape).Idx → α) (hx : xs[k] = ⟨⟨1, ![v]⟩, x⟩)
    (pre : Nat) (hpre : (((xs.take k).map (·.1)).map fun s => if h : s.rank = 1 then s.size ((0 : Fin 1).cast h.symm) else 0).sum = pre)
    (q : Fin v) (hq : pre + q.val = j.val) :
    concatenate ⟨1, ![w]⟩ 0 xs h (ValueIdx.ix1 j) = x (ValueIdx.ix1 q) :=
  concatenate_apply_piece (t := ⟨1, ![w]⟩) 0 xs h (ValueIdx.ix1 j) k hk _ x hx rfl pre hpre (ValueIdx.ix1 q)
    (fun b hb => match b with | ⟨0, _⟩ => absurd rfl hb) hq

/-- Two rows of five pieces agree where the pieces do. -/
theorem cat_agree {α : Type} {n m : Nat} (x0 x1 x2 x3 : (⟨2, ![n, 16]⟩ : Shape).Idx → α) (x4 : (⟨2, ![n, 64]⟩ : Shape).Idx → α)
    (y0 y1 y2 y3 : (⟨2, ![m, 16]⟩ : Shape).Idx → α) (y4 : (⟨2, ![m, 64]⟩ : Shape).Idx → α) (hx hy) (p : Fin n) (r : Fin m)
    (e0 : ∀ q, x0 (ValueIdx.ix2 p q) = y0 (ValueIdx.ix2 r q)) (e1 : ∀ q, x1 (ValueIdx.ix2 p q) = y1 (ValueIdx.ix2 r q))
    (e2 : ∀ q, x2 (ValueIdx.ix2 p q) = y2 (ValueIdx.ix2 r q)) (e3 : ∀ q, x3 (ValueIdx.ix2 p q) = y3 (ValueIdx.ix2 r q))
    (e4 : ∀ q, x4 (ValueIdx.ix2 p q) = y4 (ValueIdx.ix2 r q)) (j : Fin 128) :
    concatenate ⟨2, ![n, 128]⟩ 1 [⟨_, x0⟩, ⟨_, x1⟩, ⟨_, x2⟩, ⟨_, x3⟩, ⟨_, x4⟩] hx (ValueIdx.ix2 p j)
      = concatenate ⟨2, ![m, 128]⟩ 1 [⟨_, y0⟩, ⟨_, y1⟩, ⟨_, y2⟩, ⟨_, y3⟩, ⟨_, y4⟩] hy (ValueIdx.ix2 r j) := by
  have hj := j.isLt
  by_cases h0 : j.val < 16
  · exact (piece _ hx p j 0 (by simp) x0 rfl 0 rfl ⟨j.val, h0⟩ (by simp)).trans
      ((e0 _).trans (piece _ hy r j 0 (by simp) y0 rfl 0 rfl ⟨j.val, h0⟩ (by simp)).symm)
  by_cases h1 : j.val < 32
  · exact (piece _ hx p j 1 (by simp) x1 rfl 16 rfl ⟨j.val - 16, by omega⟩ (by simp; omega)).trans
      ((e1 _).trans (piece _ hy r j 1 (by simp) y1 rfl 16 rfl ⟨j.val - 16, by omega⟩ (by simp; omega)).symm)
  by_cases h2 : j.val < 48
  · exact (piece _ hx p j 2 (by simp) x2 rfl 32 rfl ⟨j.val - 32, by omega⟩ (by simp; omega)).trans
      ((e2 _).trans (piece _ hy r j 2 (by simp) y2 rfl 32 rfl ⟨j.val - 32, by omega⟩ (by simp; omega)).symm)
  by_cases h3 : j.val < 64
  · exact (piece _ hx p j 3 (by simp) x3 rfl 48 rfl ⟨j.val - 48, by omega⟩ (by simp; omega)).trans
      ((e3 _).trans (piece _ hy r j 3 (by simp) y3 rfl 48 rfl ⟨j.val - 48, by omega⟩ (by simp; omega)).symm)
  · exact (piece _ hx p j 4 (by simp) x4 rfl 64 rfl ⟨j.val - 64, by omega⟩ (by simp; omega)).trans
      ((e4 _).trans (piece _ hy r j 4 (by simp) y4 rfl 64 rfl ⟨j.val - 64, by omega⟩ (by simp; omega)).symm)

/-! ## The products -/

/-- An entry of the call's product: a row times a column, and the column's bias. -/
theorem pay1_apply (x : FVec Ideal S8000x128 .f32) (w : FVec Ideal S128x80 .f32) (b : FVec Ideal S1x80 .f32) (p : Fin 8000) (j : Fin 80) :
    k0_pay1 (F := Ideal) x w b (ValueIdx.ix2 p j)
      = (∑ k : Fin 128, x (ValueIdx.ix2 p k) * w (ValueIdx.ix2 k j)) + b (ValueIdx.ix2 (0 : Fin 1) j) := by
  unfold k0_pay1
  rw [shapeCast_self, shapeCast_self]
  have hm : FloatOps.matmul (F := Ideal) dot_S8000x128_S128x80_S8000x80_1_0_0_1_n_n none x w (constant S8000x80 .f32 0x00000000#32) (ValueIdx.ix2 p j)
      = ∑ k : Fin 128, x (ValueIdx.ix2 p k) * w (ValueIdx.ix2 k j) := by
    rw [show dot_S8000x128_S128x80_S8000x80_1_0_0_1_n_n = DotDims.plain 8000 128 80 from rfl]
    exact (Ideal.matmul_plain_apply ..).trans ((congrArg (· + _) Ideal.ofBits_zero_f32).trans (zero_add _))
  have hb : broadcastTo S8000x80 b broadcasts_S1x80_S8000x80 (ValueIdx.ix2 p j) = b (ValueIdx.ix2 (0 : Fin 1) j) :=
    broadcastTo_apply b _ _ _ fun a => match a with | ⟨0, _⟩ => rfl | ⟨1, _⟩ => rfl
  exact congrArg₂ (fun u v : EReal => u + v) hm hb

/-- The reference's product of all rows with one of the weights, and its bias. -/
abbrev rLin (H : FVec Ideal S320000x128 .f32) (a : FVec Ideal S128x16 .f32) (b : FVec Ideal S16 .f32) : FVec Ideal S320000x16 .f32 :=
  addf (Host.dotGeneral dot_S320000x128_S128x16_S320000x16_1_0_0_1_n_n none H a)
    (broadcastInDim S320000x16 ![0, 1] bcast_S1x16_S320000x16_0_1 (broadcastInDim S1x16 ![1] bcast_S16_S1x16_1 b))

/-- Its entry. -/
theorem rLin_apply (H : FVec Ideal S320000x128 .f32) (a : FVec Ideal S128x16 .f32) (b : FVec Ideal S16 .f32) (r : Fin 320000) (q : Fin 16) :
    rLin H a b (ValueIdx.ix2 r q) = (∑ k : Fin 128, H (ValueIdx.ix2 r k) * a (ValueIdx.ix2 k q)) + b (ValueIdx.ix1 q) := by
  have hd : Host.dotGeneral (F := Ideal) dot_S320000x128_S128x16_S320000x16_1_0_0_1_n_n none H a (ValueIdx.ix2 r q)
      = ∑ k : Fin 128, H (ValueIdx.ix2 r k) * a (ValueIdx.ix2 k q) := by
    rw [show dot_S320000x128_S128x16_S320000x16_1_0_0_1_n_n = DotDims.plain 320000 128 16 from rfl]
    exact StackMember.dotGeneral_plain_apply ..
  have hb : broadcastInDim S320000x16 ![0, 1] bcast_S1x16_S320000x16_0_1 (broadcastInDim S1x16 ![1] bcast_S16_S1x16_1 b) (ValueIdx.ix2 r q)
      = b (ValueIdx.ix1 q) :=
    (broadcastInDim_apply _ _ _ _ (ValueIdx.ix2 (0 : Fin 1) q) fun a => match a with | ⟨0, _⟩ => rfl | ⟨1, _⟩ => rfl).trans
      (broadcastInDim_apply _ _ _ _ (ValueIdx.ix1 q) fun a => match a with | ⟨0, _⟩ => rfl)
  exact congrArg₂ (fun u v : EReal => u + v) hd hb

/-- An entry of the call's product is one of the reference's, where the row, the weight's column and the bias are. -/
theorem lin_eq (x : FVec Ideal S8000x128 .f32) (w : FVec Ideal S128x80 .f32) (b : FVec Ideal S1x80 .f32)
    (H : FVec Ideal S320000x128 .f32) (a : FVec Ideal S128x16 .f32) (d : FVec Ideal S16 .f32)
    (p : Fin 8000) (r : Fin 320000) (j : Fin 80) (q : Fin 16)
    (hx : ∀ k : Fin 128, x (ValueIdx.ix2 p k) = H (ValueIdx.ix2 r k)) (hw : ∀ k : Fin 128, w (ValueIdx.ix2 k j) = a (ValueIdx.ix2 k q))
    (hb : b (ValueIdx.ix2 (0 : Fin 1) j) = d (ValueIdx.ix1 q)) :
    k0_pay1 (F := Ideal) x w b (ValueIdx.ix2 p j) = rLin H a d (ValueIdx.ix2 r q) := by
  rw [pay1_apply, rLin_apply, hb]
  exact congrArg (· + _) (Finset.sum_congr rfl fun k _ => by rw [hx, hw])

/-- The same of the product with the nodes' weight, a single column without a bias. -/
theorem node_eq (x : FVec Ideal S8000x128 .f32) (w : FVec Ideal S128x80 .f32) (b : FVec Ideal S1x80 .f32)
    (H : FVec Ideal S320000x128 .f32) (a : FVec Ideal S128x1 .f32) (p : Fin 8000) (r : Fin 320000) (j : Fin 80)
    (hx : ∀ k : Fin 128, x (ValueIdx.ix2 p k) = H (ValueIdx.ix2 r k))
    (hw : ∀ k : Fin 128, w (ValueIdx.ix2 k j) = a (ValueIdx.ix2 k (0 : Fin 1))) (hb : b (ValueIdx.ix2 (0 : Fin 1) j) = (0 : EReal)) :
    k0_pay1 (F := Ideal) x w b (ValueIdx.ix2 p j)
      = Host.dotGeneral (F := Ideal) dot_S320000x128_S128x1_S320000x1_1_0_0_1_n_n none H a (ValueIdx.ix2 r (0 : Fin 1)) := by
  rw [pay1_apply, hb, show dot_S320000x128_S128x1_S320000x1_1_0_0_1_n_n = DotDims.plain 320000 128 1 from rfl]
  refine (add_zero (M := EReal) _).trans (Eq.trans ?_ (StackMember.dotGeneral_plain_apply ..).symm)
  exact Finset.sum_congr rfl fun k _ => by rw [hx, hw]

/-! ## A row's sum -/

/-- A row's sum in the block is the sum of the row of the array. -/
theorem rowSum_eq (v : FVec Ideal S8000x16 .f32) (V : FVec Ideal S320000x16 .f32) (h : S8000x16.Reduces [1] S8000) (p : Fin 8000) (r : Fin 320000)
    (e : ∀ q : Fin 16, v (ValueIdx.ix2 p q) = V (ValueIdx.ix2 r q)) :
    multiReduction .add [1] S8000 v 0x00000000#32 h (.inl rfl) rfl (ValueIdx.ix1 p)
      = Host.reduceAdd V (constant Cert.NodeRefIdeal.S_ .f32 0x00000000#32) reducesTo_S320000x16_S320000_d1 Cert.NodeRefIdeal.Facts₀.h_S_ (ValueIdx.ix1 r) := by
  have h' : S320000x16.Reduces [1] S320000 := ⟨reducesTo_S320000x16_S320000_d1.1, Nat.one_pos, reducesTo_S320000x16_S320000_d1.2⟩
  refine (Ideal.multiReduction_add_single v _ h _ _ _).trans (Eq.trans ?_ (Ideal.hostReduceAdd_single reducesTo_S320000x16_S320000_d1 h' V _ _).symm)
  refine Eq.trans ?_ ((congrArg (· + _) Ideal.ofBits_zero_f32).trans (zero_add _)).symm
  refine Finset.sum_congr rfl fun k _ => ?_
  have l : h.lift (ValueIdx.ix1 p) k = ValueIdx.ix2 p k := funext fun a => match a with | ⟨0, _⟩ => rfl | ⟨1, _⟩ => rfl
  have l' : h'.lift (ValueIdx.ix1 r) k = ValueIdx.ix2 r k := funext fun a => match a with | ⟨0, _⟩ => rfl | ⟨1, _⟩ => rfl
  exact (congrArg v l).trans ((e k).trans (congrArg V l').symm)

end Cert.Proof.Node
-- ==== Proof.NodeRef.lean ====
module
public import proofs.«01_k».proof.Proof.NodeParts
@[expose] public section
noncomputable section
/-!
  The first call's two results for a block of rows in exact arithmetic, as rows of two arrays computed of all rows at once: the
  reference's results, but for the softmax, for which the first array has the call's own quotient (`NodeSoft`).
-/
namespace Cert.Proof.Node
open Cert.NodeIdeal hiding S320000x16
open Cert.NodeIdeal.Gen
open Idealize.ShloMosaic Idealize.ShloMosaic.StableHlo
open Cert.NodeRefIdeal (S320000x16 S320000x1 S320000x64 dot_S320000x128_S128x1_S320000x1_1_0_0_1_n_n)
open Cert.NodeRefIdeal.Facts₀ (bcast_S320000x1_S320000x16_0_1 bcast_S320000_S320000x1_0
  reducesTo_S320000x16_S320000_d1 bcast_S_S320000x64 concatenates_S320000x16_S320000x16_S320000x16_S320000x16_S320000x64_S320000x128_d1)

/-! ## The weights and the biases side by side -/

/-- The weights of the five products side by side, and zeros. -/
abbrev wAll {F : FTy → Type} [FloatOps F] (an ng qa qn : FVec F S128x16 .f32) (nd : FVec F S128x1 .f32) : FVec F S128x80 .f32 :=
  concatenate S128x80 1 [⟨S128x16, an⟩, ⟨S128x16, ng⟩, ⟨S128x16, qa⟩, ⟨S128x16, qn⟩, ⟨S128x1, nd⟩,
    ⟨S128x15, broadcastInDim S128x15 ![] bcast_S_S128x15 (constant S_ .f32 0x00000000#32)⟩]
    concatenates_S128x16_S128x16_S128x16_S128x16_S128x1_S128x15_S128x80_d1

/-- The biases of four of them, and zeros, as a row. -/
abbrev bAll {F : FTy → Type} [FloatOps F] (an ng qa qn : FVec F S16 .f32) : FVec F S1x80 .f32 :=
  shapeCast S1x80 (concatenate S80 0 [⟨S16, an⟩, ⟨S16, ng⟩, ⟨S16, qa⟩, ⟨S16, qn⟩,
    ⟨S16, broadcastInDim S16 ![] bcast_S_S16 (constant S_ .f32 0x00000000#32)⟩] concatenates_S16_S16_S16_S16_S16_S80_d0) shapeCasts_S80_S1x80

section Columns
variable (an ng qa qn : FVec Ideal S128x16 .f32) (nd : FVec Ideal S128x1 .f32) (k : Fin 128) (q : Fin 16)

theorem w_0 : wAll an ng qa qn nd (ValueIdx.ix2 k (⟨0 + q.val, by omega⟩ : Fin 80)) = an (ValueIdx.ix2 k q) :=
  piece _ _ k _ 0 (by simp) an rfl 0 rfl q rfl
theorem w_1 : wAll an ng qa qn nd (ValueIdx.ix2 k (⟨16 + q.val, by omega⟩ : Fin 80)) = ng (ValueIdx.ix2 k q) :=
  piece _ _ k _ 1 (by simp) ng rfl 16 rfl q rfl
theorem w_2 : wAll an ng qa qn nd (ValueIdx.ix2 k (⟨32 + q.val, by omega⟩ : Fin 80)) = qa (ValueIdx.ix2 k q) :=
  piece _ _ k _ 2 (by simp) qa rfl 32 rfl q rfl
theorem w_3 : wAll an ng qa qn nd (ValueIdx.ix2 k (⟨48 + q.val, by omega⟩ : Fin 80)) = qn (ValueIdx.ix2 k q) :=
  piece _ _ k _ 3 (by simp) qn rfl 48 rfl q rfl
theorem w_4 : wAll an ng qa qn nd (ValueIdx.ix2 k (64 : Fin 80)) = nd (ValueIdx.ix2 k (0 : Fin 1)) :=
  piece _ _ k _ 4 (by simp) nd rfl 64 rfl 0 rfl
end Columns

section Biases
variable (an ng qa qn : FVec Ideal S16 .f32) (q : Fin 16)

/-- The row's entry is the vector's. -/
theorem row_apply {α : Type} (v : S80.Idx → α) (j : Fin 80) : shapeCast S1x80 v shapeCasts_S80_S1x80 (ValueIdx.ix2 (0 : Fin 1) j) = v (ValueIdx.ix1 j) :=
  shapeCast_apply v shapeCasts_S80_S1x80 _ _ (by
    rw [Shape.rowMajor_val_one, Shape.rowMajor_val_two]
    show j.val = 0 * 80 + j.val
    omega)

theorem b_0 : bAll an ng qa qn (ValueIdx.ix2 (0 : Fin 1) (⟨0 + q.val, by omega⟩ : Fin 80)) = an (ValueIdx.ix1 q) :=
  (row_apply _ _).trans (piece1 _ _ _ 0 (by simp) an rfl 0 rfl q rfl)
theorem b_1 : bAll an ng qa qn (ValueIdx.ix2 (0 : Fin 1) (⟨16 + q.val, by omega⟩ : Fin 80)) = ng (ValueIdx.ix1 q) :=
  (row_apply _ _).trans (piece1 _ _ _ 1 (by simp) ng rfl 16 rfl q rfl)
theorem b_2 : bAll an ng qa qn (ValueIdx.ix2 (0 : Fin 1) (⟨32 + q.val, by omega⟩ : Fin 80)) = qa (ValueIdx.ix1 q) :=
  (row_apply _ _).trans (piece1 _ _ _ 2 (by simp) qa rfl 32 rfl q rfl)
theorem b_3 : bAll an ng qa qn (ValueIdx.ix2 (0 : Fin 1) (⟨48 + q.val, by omega⟩ : Fin 80)) = qn (ValueIdx.ix1 q) :=
  (row_apply _ _).trans (piece1 _ _ _ 3 (by simp) qn rfl 48 rfl q rfl)
theorem b_4 : bAll an ng qa qn (ValueIdx.ix2 (0 : Fin 1) (64 : Fin 80)) = (0 : EReal) :=
  (row_apply _ _).trans ((piece1 _ _ _ 4 (by simp) _ rfl 64 rfl (0 : Fin 16) rfl).trans Ideal.ofBits_zero_f32)
end Biases

/-! ## The reference's two results -/

section Results
variable (H : FVec Ideal S320000x128 .f32) (wan wng wqa wqn : FVec Ideal S128x16 .f32) (wnd : FVec Ideal S128x1 .f32)
  (ban bng bqa bqn : FVec Ideal S16 .f32)

/-- The nodes' weights. -/
abbrev rWeight : FVec Ideal S320000x16 .f32 := Host.exp (rLin H wng bng)

/-- The joint probabilities of node and action, up to the sum over a graph's nodes. -/
abbrev rJoint : FVec Ideal S320000x16 .f32 :=
  mulf (Host.exp (rLin H wan ban)) (broadcastInDim S320000x16 ![0, 1] bcast_S320000x1_S320000x16_0_1
    (Host.divf (Host.exp (Host.dotGeneral dot_S320000x128_S128x1_S320000x1_1_0_0_1_n_n none H wnd))
      (broadcastInDim S320000x1 ![0] bcast_S320000_S320000x1_0 (Host.reduceAdd (Host.exp (rLin H wan ban))
        (constant Cert.NodeRefIdeal.S_ .f32 0x00000000#32) reducesTo_S320000x16_S320000_d1 Cert.NodeRefIdeal.Facts₀.h_S_))))

/-- What each node adds to its graph's sums. -/
abbrev rContrib : FVec Ideal S320000x128 .f32 :=
  concatenate S320000x128 1 [⟨S320000x16, rJoint H wan wnd ban⟩, ⟨S320000x16, rWeight H wng bng⟩, ⟨S320000x16, rLin H wqa bqa⟩,
    ⟨S320000x16, mulf (rWeight H wng bng) (rLin H wqn bqn)⟩,
    ⟨S320000x64, broadcastInDim S320000x64 ![] bcast_S_S320000x64 (constant Cert.NodeRefIdeal.S_ .f32 0x00000000#32)⟩]
    concatenates_S320000x16_S320000x16_S320000x16_S320000x16_S320000x64_S320000x128_d1

/-! ## A block of the call's results -/

/-- A cut of 16 columns of a block, read at an entry. -/
theorem cut_apply {α : Type} (o : Nat) (v : S8000x80.Idx → α) (h : S8000x80.Slices ![0, o] S8000x16) (p : Fin 8000) (q : Fin 16) (ho : o + q.val < 80) :
    extractStridedSlice S8000x16 ![0, o] v h (ValueIdx.ix2 p q) = v (ValueIdx.ix2 p (⟨o + q.val, ho⟩ : Fin 80)) :=
  extractStridedSlice_apply ![0, o] v h _ _ fun a => match a with
    | ⟨0, _⟩ => by show p.val = 0 + p.val; omega
    | ⟨1, _⟩ => rfl

/-- The cut of one column, read at an entry. -/
theorem col_apply {α : Type} (v : S8000x80.Idx → α) (h : S8000x80.Slices ![0, 64] S8000x1) (p : Fin 8000) :
    extractStridedSlice S8000x1 ![0, 64] v h (ValueIdx.ix2 p (0 : Fin 1)) = v (ValueIdx.ix2 p (64 : Fin 80)) :=
  extractStridedSlice_apply ![0, 64] v h _ _ fun a => match a with
    | ⟨0, _⟩ => by show p.val = 0 + p.val; omega
    | ⟨1, _⟩ => rfl

/-- Quotients of equal entries are equal, by either operation. -/
theorem quot_eq {s t : Shape} (a b : FVec Ideal s .f32) (A B : FVec Ideal t .f32) (i : s.Idx) (j : t.Idx) (ha : a i = A j) (hb : b i = B j) :
    divf a b i = Host.divf A B j := by
  show Ideal.div (a i) (b i) = Ideal.div (A j) (B j)
  rw [ha, hb]

/-- Exponentials of equal entries are equal, by either operation. -/
theorem exp_eq {s t : Shape} (a : FVec Ideal s .f32) (A : FVec Ideal t .f32) (i : s.Idx) (j : t.Idx) (ha : a i = A j) : exp a i = Host.exp A j := by
  show Ideal.exp (a i) = Ideal.exp (A j)
  rw [ha]

variable (x : FVec Ideal S8000x128 .f32) (p : Fin 8000) (r : Fin 320000)

/-- The call's second result. -/
theorem pay2_eq (hx : ∀ k : Fin 128, x (ValueIdx.ix2 p k) = H (ValueIdx.ix2 r k)) (q : Fin 16) :
    k0_pay2 (F := Ideal) x (wAll wan wng wqa wqn wnd) (bAll ban bng bqa bqn) (ValueIdx.ix2 p q) = rWeight H wng bng (ValueIdx.ix2 r q) := by
  unfold k0_pay2
  refine exp_eq _ _ _ _ ?_
  exact (cut_apply 16 _ _ p q (by omega)).trans (lin_eq x _ _ H wng bng p r _ q hx (fun k => w_1 ..) (b_1 ..))

/-- The exponential of the actions' logits. -/
theorem act_eq (hx : ∀ k : Fin 128, x (ValueIdx.ix2 p k) = H (ValueIdx.ix2 r k)) (h : S8000x80.Slices ![0, 0] S8000x16) (q : Fin 16) :
    exp (extractStridedSlice S8000x16 ![0, 0] (k0_pay1 (F := Ideal) x (wAll wan wng wqa wqn wnd) (bAll ban bng bqa bqn)) h) (ValueIdx.ix2 p q)
      = Host.exp (rLin H wan ban) (ValueIdx.ix2 r q) := by
  refine exp_eq _ _ _ _ ?_
  exact (cut_apply 0 _ _ p q (by omega)).trans (lin_eq x _ _ H wan ban p r _ q hx (fun k => w_0 ..) (b_0 ..))

/-- The call's first result. -/
theorem pay3_eq (hx : ∀ k : Fin 128, x (ValueIdx.ix2 p k) = H (ValueIdx.ix2 r k)) (j : Fin 128) :
    k0_pay3 (F := Ideal) x (wAll wan wng wqa wqn wnd) (bAll ban bng bqa bqn) (ValueIdx.ix2 p j)
      = rContrib H wan wng wqa wqn wnd ban bng bqa bqn (ValueIdx.ix2 r j) := by
  unfold k0_pay3
  refine cat_agree (n := 8000) (m := 320000) _ _ _ _ _ _ _ _ _ _ _ _ p r (fun q => ?_) (fun q => ?_) (fun q => ?_) (fun q => ?_) (fun q => ?_) j
  · refine congrArg₂ (fun u v : EReal => u * v) (act_eq H wan wng wqa wqn wnd ban bng bqa bqn x p r hx _ q) ?_
    refine (broadcastTo_apply _ broadcasts_S8000x1_S8000x16 _ (ValueIdx.ix2 p (0 : Fin 1)) fun a => match a with | ⟨0, _⟩ => rfl | ⟨1, _⟩ => rfl).trans
      (Eq.trans ?_ (broadcastInDim_apply _ bcast_S320000x1_S320000x16_0_1 _ _ (ValueIdx.ix2 r (0 : Fin 1)) fun a => match a with
        | ⟨0, _⟩ => rfl | ⟨1, _⟩ => rfl).symm)
    refine quot_eq _ _ _ _ _ _ (exp_eq _ _ _ _ ?_) ?_
    · exact (col_apply _ _ p).trans (node_eq x _ _ H wnd p r 64 hx (fun k => w_4 ..) (b_4 ..))
    · refine (Routing.cast12 (n := 8000) (a := 8000) (b := 1) _ _ p 0 p (by simp)).trans
        (Eq.trans ?_ (Routing.bcCol (n := 320000) bcast_S320000_S320000x1_0 _ r).symm)
      exact rowSum_eq _ _ _ p r fun q => act_eq H wan wng wqa wqn wnd ban bng bqa bqn x p r hx _ q
  · exact pay2_eq H wan wng wqa wqn wnd ban bng bqa bqn x p r hx q
  · exact (cut_apply 32 _ _ p q (by omega)).trans (lin_eq x _ _ H wqa bqa p r _ q hx (fun k => w_2 ..) (b_2 ..))
  · exact congrArg₂ (fun u v : EReal => u * v) (pay2_eq H wan wng wqa wqn wnd ban bng bqa bqn x p r hx q)
      ((cut_apply 48 _ _ p q (by omega)).trans (lin_eq x _ _ H wqn bqn p r _ q hx (fun k => w_3 ..) (b_3 ..)))
  · rfl

end Results

end Cert.Proof.Node
-- ==== Proof.NodeSoft.lean ====
module
public import proofs.«01_k».proof.Proof.NodeRef
public import proofs.«01_k».proof.Proof.SegCounts
public import proofs.«01_k».proof.Proof.Gen.Pre_logits_ok
@[expose] public section
noncomputable section
/-!
  The softmax of a row of finite logits, in exact arithmetic.

  The reference takes the row's largest logit off before the exponential; the call does not, and divides the node's exponential by
  the row's sum before it multiplies. Of finite logits the two are one value, whatever the node's exponential is.
-/
namespace Cert.Proof.Node
open Idealize.ShloMosaic Idealize.ShloMosaic.StableHlo

/-! ## Finite values -/

/-- A value is a real number. -/
def IsFin (x : EReal) : Prop := ∃ r : ℝ, x = r

theorem fin_of_ne {x : EReal} (hb : x ≠ ⊥) (ht : x ≠ ⊤) : IsFin x := ⟨x.toReal, (EReal.coe_toReal ht hb).symm⟩

theorem fin_add {x y : EReal} (hx : IsFin x) (hy : IsFin y) : IsFin (x + y) := by
  obtain ⟨a, rfl⟩ := hx; obtain ⟨b, rfl⟩ := hy; exact ⟨a + b, (EReal.coe_add a b).symm⟩

theorem fin_mul {x y : EReal} (hx : IsFin x) (hy : IsFin y) : IsFin (x * y) := by
  obtain ⟨a, rfl⟩ := hx; obtain ⟨b, rfl⟩ := hy; exact ⟨a * b, (EReal.coe_mul a b).symm⟩

theorem sum_coe {ι : Type} (S : Finset ι) (f : ι → ℝ) : ∑ i ∈ S, (f i : EReal) = ((∑ i ∈ S, f i : ℝ) : EReal) := by
  classical
  induction S using Finset.cons_induction with
  | empty => rfl
  | cons a S ha ih => rw [Finset.sum_cons, Finset.sum_cons, ih, EReal.coe_add]

theorem fin_sum {ι : Type} (S : Finset ι) (f : ι → EReal) (h : ∀ i, IsFin (f i)) : IsFin (∑ i ∈ S, f i) := by
  choose g hg using h
  exact ⟨∑ i ∈ S, g i, (Finset.sum_congr rfl fun i _ => hg i).trans (sum_coe S g)⟩

theorem top_bits : Ideal.ofBits .f32 0x7F800000#32 = ⊤ := by simp [Ideal.ofBits, Ideal.ieee]
theorem bot_bits : Ideal.ofBits .f32 0xFF800000#32 = ⊥ := by simp [Ideal.ofBits, Ideal.ieee]

/-- A largest value of finite values is finite. -/
theorem fin_max {ι : Type} (S : Finset ι) (f : ι → EReal) (h : ∀ i, IsFin (f i)) (hS : S.Nonempty) : IsFin (S.fold max ⊥ f) := by
  obtain ⟨i, hi⟩ := hS
  refine fin_of_ne (ne_of_gt ((Finset.lt_fold_max _).mpr (.inr ⟨i, hi, ?_⟩))) (ne_of_lt ((Finset.fold_max_lt _).mpr ⟨bot_lt_top, fun i _ => ?_⟩))
  · obtain ⟨r, hr⟩ := h i; rw [hr]; exact EReal.bot_lt_coe r
  · obtain ⟨r, hr⟩ := h i; rw [hr]; exact EReal.coe_lt_top r

/-- The largest of the values that a reduction folds is finite, where it folds one. -/
theorem fin_hostMax {s t : Shape} {axes : List (Fin s.rank)} (L : FVec Ideal s .f32) (h : s.ReducesTo axes t) (h0 : 0 < Cert.NodeRefIdeal.S_.numel)
    (hb : Cert.NodeRefIdeal.S_.BroadcastsInDim t (![] : Fin 0 → Fin t.rank)) (hL : ∀ i, IsFin (L i)) (j : t.Idx) (i : s.Idx) (hi : h.drop i = j) :
    IsFin (maximumf (broadcastInDim t ![] hb (constant Cert.NodeRefIdeal.S_ .f32 0xFF800000#32))
      (Host.reduce FloatOps.maximumf L (constant (F := Ideal) Cert.NodeRefIdeal.S_ .f32 0xFF800000#32) h h0) j) := by
  have e := Host.reduce_eq_fold (FloatOps.maximumf (F := Ideal) (φ := .f32)) L (constant (F := Ideal) Cert.NodeRefIdeal.S_ .f32 0xFF800000#32) h h0 j
  show IsFin (max (Ideal.ofBits .f32 0xFF800000#32)
    (Host.reduce (FloatOps.maximumf (F := Ideal) (φ := .f32)) L (constant (F := Ideal) Cert.NodeRefIdeal.S_ .f32 0xFF800000#32) h h0 j))
  rw [e]
  show IsFin (max (Ideal.ofBits .f32 0xFF800000#32) ((Finset.univ.filter fun i => h.drop i = j).fold max (Ideal.ofBits .f32 0xFF800000#32) L))
  rw [bot_bits, max_eq_right bot_le]
  exact fin_max _ _ hL ⟨i, Finset.mem_filter.mpr ⟨Finset.mem_univ _, hi⟩⟩

/-- The host's quotient at an entry, of the two entries. -/
theorem hquot {s : Shape} (A B : FVec Ideal s .f32) (j : s.Idx) (x y : EReal) (hx : A j = x) (hy : B j = y) : Host.divf A B j = Ideal.div x y := by
  show Ideal.div (A j) (B j) = _
  rw [hx, hy]

/-! ## One row -/

/-- A quotient by a real number other than zero. -/
theorem div_coe (x : EReal) {s : ℝ} (hs : s ≠ 0) : Ideal.div x (s : EReal) = x * ((s⁻¹ : ℝ) : EReal) := by
  unfold Ideal.div
  rw [if_neg (by exact_mod_cast hs), EReal.coe_inv]

/-- The row's equation for real logits. -/
theorem soft_real (y : Fin 16 → ℝ) (μ : ℝ) (e : EReal) (q : Fin 16) :
    Ideal.exp (y q) * Ideal.div e (∑ k, Ideal.exp (y k))
      = e * Ideal.div (Ideal.exp ((y q : EReal) - μ)) (∑ k, Ideal.exp ((y k : EReal) - μ)) := by
  have hS : (0 : ℝ) < ∑ k, Real.exp (y k) := Finset.sum_pos (fun k _ => Real.exp_pos _) ⟨q, Finset.mem_univ _⟩
  have hS' : (0 : ℝ) < ∑ k, Real.exp (y k - μ) := Finset.sum_pos (fun k _ => Real.exp_pos _) ⟨q, Finset.mem_univ _⟩
  have e1 : ∑ k, Ideal.exp (y k) = ((∑ k, Real.exp (y k) : ℝ) : EReal) := sum_coe _ fun k => Real.exp (y k)
  have e2 : ∑ k, Ideal.exp ((y k : EReal) - μ) = ((∑ k, Real.exp (y k - μ) : ℝ) : EReal) :=
    (Finset.sum_congr rfl fun k _ => by rw [← EReal.coe_sub]; rfl).trans (sum_coe _ fun k => Real.exp (y k - μ))
  rw [e1, e2, div_coe _ hS.ne', div_coe _ hS'.ne', ← EReal.coe_sub]
  show ((Real.exp (y q) : ℝ) : EReal) * (e * _) = e * (((Real.exp (y q - μ) : ℝ) : EReal) * _)
  rw [mul_left_comm, ← EReal.coe_mul, ← EReal.coe_mul]
  refine congrArg (fun u : ℝ => e * (u : EReal)) ?_
  have h : ∑ k, Real.exp (y k - μ) = (∑ k, Real.exp (y k)) * Real.exp (-μ) := by
    rw [Finset.sum_mul]
    exact Finset.sum_congr rfl fun k _ => by rw [sub_eq_add_neg, Real.exp_add]
  rw [h, sub_eq_add_neg, Real.exp_add]
  have := Real.exp_pos (-μ)
  field_simp

/-- The same for finite logits and a finite number taken off. -/
theorem soft_eq (z : Fin 16 → EReal) (hz : ∀ k, IsFin (z k)) (M : EReal) (hM : IsFin M) (e : EReal) (q : Fin 16) :
    Ideal.exp (z q) * Ideal.div e (∑ k, Ideal.exp (z k)) = e * Ideal.div (Ideal.exp (z q - M)) (∑ k, Ideal.exp (z k - M)) := by
  choose y hy using hz
  obtain ⟨μ, rfl⟩ := hM
  obtain rfl : z = fun k => (y k : EReal) := funext hy
  exact soft_real y μ e q

/-! ## What the precondition says -/

/-- A value whose magnitude is below infinity is finite. -/
theorem fin_of_abs {x : Ideal .f32} (h : FloatOps.cmpf .olt (FloatOps.hostAbsf x) (FloatOps.ofBits (F := Ideal) .f32 0x7F800000#32) = 1#1) : IsFin x := by
  have h : Ideal.cmp .olt (max (x : EReal) (-(x : EReal))) (Ideal.ofBits .f32 0x7F800000#32) = 1#1 := h
  rw [top_bits] at h
  have h : max (x : EReal) (-(x : EReal)) < ⊤ := of_decide_eq_true ((Predicate.ofBool_eq_one_iff _).mp h)
  obtain ⟨h1, h2⟩ := max_lt_iff.mp h
  exact fin_of_ne (fun hb => by rw [hb] at h2; exact absurd h2 (by simp)) h1.ne

/-- Under the precondition the features, the actions' weights and their biases are finite. -/
theorem logits_fin (x0 : FVec Ideal Cert.Pre_logits_ok.S320000x128 .f32) (x1 x2 x3 x4 x5 x6 x7 x8 x9)
    (h : Cert.Pre_logits_ok.fn (F := Ideal) x0 x1 x2 x3 x4 x5 x6 x7 x8 x9 = fun _ => 1#1) :
    (∀ i, IsFin (x0 i)) ∧ (∀ i, IsFin (x2 i)) ∧ ∀ i, IsFin (x3 i) := by
  have h := congrFun h ValueIdx.ix0
  obtain ⟨h, h3⟩ := Seg.andi_one.mp h
  obtain ⟨h0, h2⟩ := Seg.andi_one.mp h
  refine ⟨fun i => ?_, fun i => ?_, fun i => ?_⟩
  · exact fin_of_abs (Seg.fold_and_one _ _ _ ((Host.reduce_eq_fold IntOp.andi _ _ _ _ _).symm.trans h0) i
      (Finset.mem_filter.mpr ⟨Finset.mem_univ _, funext fun a => a.elim0⟩))
  · exact fin_of_abs (Seg.fold_and_one _ _ _ ((Host.reduce_eq_fold IntOp.andi _ _ _ _ _).symm.trans h2) i
      (Finset.mem_filter.mpr ⟨Finset.mem_univ _, funext fun a => a.elim0⟩))
  · exact fin_of_abs (Seg.fold_and_one _ _ _ ((Host.reduce_eq_fold IntOp.andi _ _ _ _ _).symm.trans h3) i
      (Finset.mem_filter.mpr ⟨Finset.mem_univ _, funext fun a => a.elim0⟩))

/-! ## The reference's first columns -/

section Joint
open Cert.NodeRefIdeal
open Cert.NodeRefIdeal.Facts₀

/-- The host's sum of a row. -/
theorem hostSum_apply (V : FVec Ideal S320000x16 .f32) (r : Fin 320000) :
    Host.reduceAdd V (constant S_ .f32 0x00000000#32) reducesTo_S320000x16_S320000_d1 h_S_ (ValueIdx.ix1 r) = ∑ k : Fin 16, V (ValueIdx.ix2 r k) := by
  have h' : S320000x16.Reduces [1] S320000 := ⟨reducesTo_S320000x16_S320000_d1.1, Nat.one_pos, reducesTo_S320000x16_S320000_d1.2⟩
  refine (Ideal.hostReduceAdd_single reducesTo_S320000x16_S320000_d1 h' V _ _).trans ?_
  refine ((congrArg (· + _) Ideal.ofBits_zero_f32).trans (zero_add _)).trans ?_
  exact Finset.sum_congr rfl fun k _ => congrArg V (show h'.lift (ValueIdx.ix1 r) k = ValueIdx.ix2 r k from
    funext fun a => match a with | ⟨0, _⟩ => rfl | ⟨1, _⟩ => rfl)

/-- The largest logit of each row. -/
abbrev rMax (L : FVec Ideal S320000x16 .f32) : FVec Ideal S320000 .f32 :=
  maximumf (broadcastInDim S320000 ![] bcast_S_S320000 (constant S_ .f32 0xFF800000#32))
    (Host.reduce FloatOps.maximumf L (constant S_ .f32 0xFF800000#32) reducesTo_S320000x16_S320000_d1 h_S_)

/-- Of finite logits it is finite. -/
theorem fin_rMax (L : FVec Ideal S320000x16 .f32) (hL : ∀ i, IsFin (L i)) (r : Fin 320000) : IsFin (rMax L (ValueIdx.ix1 r)) := by
  have h' : S320000x16.Reduces [1] S320000 := ⟨reducesTo_S320000x16_S320000_d1.1, Nat.one_pos, reducesTo_S320000x16_S320000_d1.2⟩
  refine fin_hostMax L reducesTo_S320000x16_S320000_d1 h_S_ bcast_S_S320000 hL (ValueIdx.ix1 r) (h'.lift (ValueIdx.ix1 r) (0 : Fin 16)) ?_
  rw [Shape.ReducesTo.drop_eq_drop _ h']
  exact h'.drop_lift _ _

/-- The exponentials of a row's logits, the largest taken off. -/
abbrev rShift (L : FVec Ideal S320000x16 .f32) : FVec Ideal S320000x16 .f32 :=
  Host.exp (subf L (broadcastInDim S320000x16 ![0, 1] bcast_S320000x1_S320000x16_0_1 (broadcastInDim S320000x1 ![0] bcast_S320000_S320000x1_0 (rMax L))))

/-- The softmax of a row's logits, times the node's exponential. -/
abbrev sJoint (L : FVec Ideal S320000x16 .f32) (e : FVec Ideal S320000x1 .f32) : FVec Ideal S320000x16 .f32 :=
  mulf (broadcastInDim S320000x16 ![0, 1] bcast_S320000x1_S320000x16_0_1 e)
    (Host.divf (rShift L) (broadcastInDim S320000x16 ![0, 1] bcast_S320000x1_S320000x16_0_1 (broadcastInDim S320000x1 ![0] bcast_S320000_S320000x1_0
      (Host.reduceAdd (rShift L) (constant S_ .f32 0x00000000#32) reducesTo_S320000x16_S320000_d1 h_S_))))

/-- A column beside itself, read at an entry. -/
theorem colBc_apply (v : FVec Ideal S320000x1 .f32) (r : Fin 320000) (q : Fin 16) :
    broadcastInDim S320000x16 ![0, 1] bcast_S320000x1_S320000x16_0_1 v (ValueIdx.ix2 r q) = v (ValueIdx.ix2 r (0 : Fin 1)) :=
  broadcastInDim_apply _ _ _ _ _ fun a => match a with | ⟨0, _⟩ => rfl | ⟨1, _⟩ => rfl

theorem rShift_apply (L : FVec Ideal S320000x16 .f32) (r : Fin 320000) (q : Fin 16) :
    rShift L (ValueIdx.ix2 r q) = Ideal.exp ((L (ValueIdx.ix2 r q) : EReal) - rMax L (ValueIdx.ix1 r)) :=
  congrArg (fun u : EReal => Ideal.exp ((L (ValueIdx.ix2 r q) : EReal) - u)) ((colBc_apply _ r q).trans (Routing.bcCol (n := 320000) bcast_S320000_S320000x1_0 _ r))

theorem sJoint_apply (L : FVec Ideal S320000x16 .f32) (e : FVec Ideal S320000x1 .f32) (r : Fin 320000) (q : Fin 16) :
    sJoint L e (ValueIdx.ix2 r q) = (e (ValueIdx.ix2 r (0 : Fin 1)) : EReal)
      * Ideal.div (Ideal.exp ((L (ValueIdx.ix2 r q) : EReal) - rMax L (ValueIdx.ix1 r)))
        (∑ k : Fin 16, Ideal.exp ((L (ValueIdx.ix2 r k) : EReal) - rMax L (ValueIdx.ix1 r))) := by
  refine congrArg₂ (fun u v : EReal => u * v) (colBc_apply e r q) ?_
  refine hquot _ _ _ _ _ (rShift_apply L r q) ?_
  refine ((colBc_apply _ r q).trans (Routing.bcCol (n := 320000) bcast_S320000_S320000x1_0 _ r)).trans ((hostSum_apply _ r).trans ?_)
  exact Finset.sum_congr rfl fun k _ => rShift_apply L r k

theorem rJoint_apply (H : FVec Ideal S320000x128 .f32) (wan : FVec Ideal S128x16 .f32) (wnd : FVec Ideal S128x1 .f32) (ban : FVec Ideal S16 .f32)
    (r : Fin 320000) (q : Fin 16) :
    rJoint H wan wnd ban (ValueIdx.ix2 r q) = Ideal.exp (rLin H wan ban (ValueIdx.ix2 r q))
      * Ideal.div (Host.exp (Host.dotGeneral dot_S320000x128_S128x1_S320000x1_1_0_0_1_n_n none H wnd) (ValueIdx.ix2 r (0 : Fin 1)))
        (∑ k : Fin 16, Ideal.exp (rLin H wan ban (ValueIdx.ix2 r k))) := by
  refine congrArg (fun u : EReal => Ideal.exp (rLin H wan ban (ValueIdx.ix2 r q)) * u) ((colBc_apply _ r q).trans ?_)
  refine hquot _ _ _ _ _ rfl ((Routing.bcCol (n := 320000) bcast_S320000_S320000x1_0 _ r).trans ?_)
  exact hostSum_apply _ r

/-- The logits are finite where what they are made of is. -/
theorem fin_rLin (H : FVec Ideal S320000x128 .f32) (a : FVec Ideal S128x16 .f32) (b : FVec Ideal S16 .f32)
    (hH : ∀ i, IsFin (H i)) (ha : ∀ i, IsFin (a i)) (hb : ∀ i, IsFin (b i)) (i : S320000x16.Idx) : IsFin (rLin H a b i) := by
  obtain ⟨r, q, rfl⟩ : ∃ r q, i = ValueIdx.ix2 (n0 := 320000) (n1 := 16) r q := ⟨i 0, i 1, ValueIdx.eq_ix2 i⟩
  rw [rLin_apply]
  exact fin_add (fin_sum _ _ fun k => fin_mul (hH _) (ha _)) (hb _)

/-- What the call leaves in the first columns is the reference's softmax times the node's exponential. -/
theorem joint_eq (H : FVec Ideal S320000x128 .f32) (wan : FVec Ideal S128x16 .f32) (wnd : FVec Ideal S128x1 .f32) (ban : FVec Ideal S16 .f32)
    (hH : ∀ i, IsFin (H i)) (ha : ∀ i, IsFin (wan i)) (hb : ∀ i, IsFin (ban i)) (r : Fin 320000) (q : Fin 16) :
    sJoint (rLin H wan ban) (Host.exp (Host.dotGeneral dot_S320000x128_S128x1_S320000x1_1_0_0_1_n_n none H wnd)) (ValueIdx.ix2 r q)
      = rJoint H wan wnd ban (ValueIdx.ix2 r q) := by
  rw [sJoint_apply, rJoint_apply]
  exact (soft_eq (fun k => rLin H wan ban (ValueIdx.ix2 r k)) (fun k => fin_rLin H wan ban hH ha hb _) _
    (fin_rMax _ (fin_rLin H wan ban hH ha hb) r) _ q).symm

end Joint

/-- The reference's first result is what the call leaves, where the actions' logits are made of finite numbers. -/
theorem soft_contrib (H : FVec Ideal Cert.NodeRefIdeal.S320000x128 .f32) (wan wng wqa wqn : FVec Ideal Cert.NodeRefIdeal.S128x16 .f32)
    (wnd : FVec Ideal Cert.NodeRefIdeal.S128x1 .f32) (ban bng bqa bqn : FVec Ideal Cert.NodeRefIdeal.S16 .f32)
    (hH : ∀ i, IsFin (H i)) (ha : ∀ i, IsFin (wan i)) (hb : ∀ i, IsFin (ban i)) :
    concatenate Cert.NodeRefIdeal.S320000x128 1 [⟨Cert.NodeRefIdeal.S320000x16, sJoint (rLin H wan ban) (Host.exp (Host.dotGeneral
        Cert.NodeRefIdeal.dot_S320000x128_S128x1_S320000x1_1_0_0_1_n_n none H wnd))⟩,
      ⟨Cert.NodeRefIdeal.S320000x16, rWeight H wng bng⟩, ⟨Cert.NodeRefIdeal.S320000x16, rLin H wqa bqa⟩,
      ⟨Cert.NodeRefIdeal.S320000x16, mulf (rWeight H wng bng) (rLin H wqn bqn)⟩,
      ⟨Cert.NodeRefIdeal.S320000x64, broadcastInDim Cert.NodeRefIdeal.S320000x64 ![] Cert.NodeRefIdeal.Facts₀.bcast_S_S320000x64
        (constant Cert.NodeRefIdeal.S_ .f32 0x00000000#32)⟩]
      Cert.NodeRefIdeal.Facts₀.concatenates_S320000x16_S320000x16_S320000x16_S320000x16_S320000x64_S320000x128_d1
      = rContrib H wan wng wqa wqn wnd ban bng bqa bqn := by
  funext i
  obtain ⟨r, j, rfl⟩ : ∃ r j, i = ValueIdx.ix2 (n0 := 320000) (n1 := 128) r j := ⟨i 0, i 1, ValueIdx.eq_ix2 i⟩
  exact cat_agree (n := 320000) (m := 320000) _ _ _ _ _ _ _ _ _ _ _ _ r r (joint_eq H wan wnd ban hH ha hb r) (fun _ => rfl) (fun _ => rfl) (fun _ => rfl)
    (fun _ => rfl) j

end Cert.Proof.Node
-- ==== Proof.NodeValue.lean ====
module
public import proofs.«01_k».proof.Defs
public import proofs.«01_k».proof.Proof.NodeRef
public import proofs.«01_k».proof.Proof.Gen.Node
public import proofs.«01_k».proof.Proof.Gen.Node.Frame
public import proofs.«01_k».proof.Proof.Gen.NodeIdeal
public import proofs.«01_k».proof.Proof.Gen.NodeIdeal.Frame
public import proofs.«01_k».proof.Proof.Gen.NodeIdeal.Value
public import proofs.«01_k».proof.Proof.Gen.NodeRefIdeal
public import proofs.«01_k».proof.Proof.Gen.NodeRefIdeal.Run
@[expose] public section
noncomputable section
/-!
  The run of the first call in exact arithmetic, with its two results.

  A point's block is 8000 rows of the features, and the point writes those rows of both results; the 40 points' blocks are all
  320000 rows. The weights and the biases every point takes whole.
-/
namespace Cert.Proof.Node
open Cert.NodeIdeal Cert.NodeIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The nodes' features. -/
abbrev feats (c : Dev nD) : FVec Ideal S320000x128 .f32 := m ((c : Thread nD τ).loc main_arg0)

/-- The weights that the call takes, from the arguments. -/
abbrev ws (c : Dev nD) : FVec Ideal S128x80 .f32 :=
  wAll (F := Ideal) (m ((c : Thread nD τ).loc main_arg2)) (m ((c : Thread nD τ).loc main_arg4)) (m ((c : Thread nD τ).loc main_arg8))
    (m ((c : Thread nD τ).loc main_arg6)) (m ((c : Thread nD τ).loc main_arg1))

/-- The biases that the call takes, from the arguments. -/
abbrev bs (c : Dev nD) : FVec Ideal S1x80 .f32 :=
  bAll (F := Ideal) (m ((c : Thread nD τ).loc main_arg3)) (m ((c : Thread nD τ).loc main_arg5)) (m ((c : Thread nD τ).loc main_arg9))
    (m ((c : Thread nD τ).loc main_arg7))

theorem V_ws (c : Dev nD) : V m c main_v1 = ws m c := by
  show StableHlo.after hostOps0 _ _ = _
  simp only [hostOps0]
  after_results_simp <;> rfl

theorem V_bs (c : Dev nD) : V m c main_v4 = bs m c := by
  show StableHlo.after hostOps0 _ _ = _
  simp only [hostOps0]
  after_results_simp <;> rfl

theorem zeros : (![0, 0] : Fin 2 → Nat) = fun _ => 0 := funext fun a => by fin_cases a <;> rfl

/-! ## The windows' blocks -/

/-- The row of the array that row `p` of point `t`'s block is. -/
abbrev row (t : Fin cfg0.N) (p : Fin 8000) : Fin 320000 := ⟨t.val * 8000 + p.val, by have h : t.val < 40 := t.isLt; omega⟩

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![t.val, 0] := (by decide +kernel : ∀ t : Fin grid0.N, win0_3.index t = ![t.val, 0])
theorem index_4 : ∀ t : Fin cfg0.N, win0_4.index t = ![t.val, 0] := (by decide +kernel : ∀ t : Fin grid0.N, win0_4.index t = ![t.val, 0])

theorem emb_0 (t : Fin cfg0.N) (p : Fin 8000) (k : Fin 128) : ((cfg0.win 0).blk t).view.emb (ValueIdx.ix2 p k) = ValueIdx.ix2 (row t p) k := by
  have e := index_0 t
  funext a; apply Fin.ext
  match a with
  | ⟨0, _⟩ => show win0_0.index t 0 * 8000 + 1 * p.val = t.val * 8000 + p.val; rw [e]; show t.val * 8000 + 1 * p.val = _; omega
  | ⟨1, _⟩ => show win0_0.index t 1 * 128 + 1 * k.val = k.val; rw [e]; show 0 * 128 + 1 * k.val = _; omega
theorem emb_1 (t : Fin cfg0.N) (j : S128x80.Idx) : ((cfg0.win 1).blk t).view.emb j = j := by
  have e := index_1 t
  funext a; apply Fin.ext
  match a with
  | ⟨0, _⟩ => show win0_1.index t 0 * 128 + 1 * (j 0).val = (j 0).val; rw [e]; show 0 * 128 + 1 * (j 0).val = _; omega
  | ⟨1, _⟩ => show win0_1.index t 1 * 80 + 1 * (j 1).val = (j 1).val; rw [e]; show 0 * 80 + 1 * (j 1).val = _; omega
theorem emb_2 (t : Fin cfg0.N) (j : S1x80.Idx) : ((cfg0.win 2).blk t).view.emb j = j := by
  have e := index_2 t
  funext a; apply Fin.ext
  match a with
  | ⟨0, _⟩ => show win0_2.index t 0 * 1 + 1 * (j 0).val = (j 0).val; rw [e]; show 0 * 1 + 1 * (j 0).val = _; omega
  | ⟨1, _⟩ => show win0_2.index t 1 * 80 + 1 * (j 1).val = (j 1).val; rw [e]; show 0 * 80 + 1 * (j 1).val = _; omega
theorem emb_3 (t : Fin cfg0.N) (p : Fin 8000) (k : Fin 128) : ((cfg0.win 3).blk t).view.emb (ValueIdx.ix2 p k) = ValueIdx.ix2 (row t p) k := by
  have e := index_3 t
  funext a; apply Fin.ext
  match a with
  | ⟨0, _⟩ => show win0_3.index t 0 * 8000 + 1 * p.val = t.val * 8000 + p.val; rw [e]; show t.val * 8000 + 1 * p.val = _; omega
  | ⟨1, _⟩ => show win0_3.index t 1 * 128 + 1 * k.val = k.val; rw [e]; show 0 * 128 + 1 * k.val = _; omega
theorem emb_4 (t : Fin cfg0.N) (p : Fin 8000) (k : Fin 16) : ((cfg0.win 4).blk t).view.emb (ValueIdx.ix2 p k) = ValueIdx.ix2 (row t p) k := by
  have e := index_4 t
  funext a; apply Fin.ext
  match a with
  | ⟨0, _⟩ => show win0_4.index t 0 * 8000 + 1 * p.val = t.val * 8000 + p.val; rw [e]; show t.val * 8000 + 1 * p.val = _; omega
  | ⟨1, _⟩ => show win0_4.index t 1 * 16 + 1 * k.val = k.val; rw [e]; show 0 * 16 + 1 * k.val = _; omega

theorem iblk_0 (c : Dev nD) (t : Fin cfg0.N) (p : Fin 8000) (k : Fin 128) : iblk m c 0 t (ValueIdx.ix2 p k) = feats m c (ValueIdx.ix2 (row t p) k) :=
  (congrArg (V m c main_arg0) (emb_0 t p k)).trans (congrFun (V_main_arg0 m c) _)

theorem iblk_1 (c : Dev nD) (t : Fin cfg0.N) : iblk m c 1 t = ws m c := by
  funext j
  exact (congrArg (V m c main_v1) (emb_1 t j)).trans (congrFun (V_ws m c) j)

theorem iblk_2 (c : Dev nD) (t : Fin cfg0.N) : iblk m c 2 t = bs m c := by
  funext j
  exact (congrArg (V m c main_v4) (emb_2 t j)).trans (congrFun (V_bs m c) j)

/-- The point whose block holds a row, and the row of the block. -/
theorem row_of (r : Fin 320000) : ∃ (t : Fin cfg0.N) (p : Fin 8000), row t p = r :=
  ⟨⟨r.val / 8000, by show r.val / 8000 < 40; omega⟩, ⟨r.val % 8000, Nat.mod_lt _ (by decide)⟩, Fin.ext (by show r.val / 8000 * 8000 + r.val % 8000 = r.val; omega)⟩

/-! ## The two results -/

/-- What each node adds, of the arguments. -/
abbrev contrib (c : Dev nD) : FVec Ideal S320000x128 .f32 :=
  rContrib (feats m c) (m ((c : Thread nD τ).loc main_arg2)) (m ((c : Thread nD τ).loc main_arg4)) (m ((c : Thread nD τ).loc main_arg8))
    (m ((c : Thread nD τ).loc main_arg6)) (m ((c : Thread nD τ).loc main_arg1)) (m ((c : Thread nD τ).loc main_arg3))
    (m ((c : Thread nD τ).loc main_arg5)) (m ((c : Thread nD τ).loc main_arg9)) (m ((c : Thread nD τ).loc main_arg7))

/-- The nodes' weights, of the arguments. -/
abbrev weight (c : Dev nD) : FVec Ideal S320000x16 .f32 :=
  rWeight (feats m c) (m ((c : Thread nD τ).loc main_arg4)) (m ((c : Thread nD τ).loc main_arg5))

theorem arr_3 (c : Dev nD) : (dats m 0 c).arrAt 3 cfg0.N = contrib m c := by
  refine (dats m 0 c).arrAt_eq_of_cover 3 (contrib m c) (fun t _ => ?_) fun i => ?_
  · rw [Value.flushed3, iblk_1, iblk_2]
    unfold out0_3
    rw [View.canon_unit_zero zeros, View.ld_unit_zero zeros, View.ld_unit_zero zeros, View.ld_unit_zero zeros]
    funext j
    obtain ⟨p, q, rfl⟩ : ∃ p q, j = ValueIdx.ix2 (n0 := 8000) (n1 := 128) p q := ⟨j 0, j 1, ValueIdx.eq_ix2 j⟩
    exact (pay3_eq (feats m c) _ _ _ _ _ _ _ _ _ (iblk m c 0 t) p (row t p) (fun k => iblk_0 m c t p k) q).trans
      (congrArg (contrib m c) (emb_3 t p q)).symm
  · obtain ⟨p, q, rfl⟩ : ∃ p q, i = ValueIdx.ix2 (n0 := 320000) (n1 := 128) p q := ⟨i 0, i 1, ValueIdx.eq_ix2 i⟩
    obtain ⟨t, p, rfl⟩ := row_of p
    exact ⟨t, flush0_3 _, by have h := ((cfg0.win 3).blk t).view.emb_mem_set (ValueIdx.ix2 p q); rwa [emb_3] at h⟩

theorem arr_4 (c : Dev nD) : (dats m 0 c).arrAt 4 cfg0.N = weight m c := by
  refine (dats m 0 c).arrAt_eq_of_cover 4 (weight m c) (fun t _ => ?_) fun i => ?_
  · rw [Value.flushed4, iblk_1, iblk_2]
    unfold out0_4
    rw [View.canon_unit_zero zeros, View.ld_unit_zero zeros, View.ld_unit_zero zeros, View.ld_unit_zero zeros]
    funext j
    obtain ⟨p, q, rfl⟩ : ∃ p q, j = ValueIdx.ix2 (n0 := 8000) (n1 := 16) p q := ⟨j 0, j 1, ValueIdx.eq_ix2 j⟩
    exact (pay2_eq (feats m c) _ _ _ _ _ _ _ _ _ (iblk m c 0 t) p (row t p) (fun k => iblk_0 m c t p k) q).trans
      (congrArg (weight m c) (emb_4 t p q)).symm
  · obtain ⟨p, q, rfl⟩ : ∃ p q, i = ValueIdx.ix2 (n0 := 320000) (n1 := 16) p q := ⟨i 0, i 1, ValueIdx.eq_ix2 i⟩
    obtain ⟨t, p, rfl⟩ := row_of p
    exact ⟨t, flush0_4 _, by have h := ((cfg0.win 4).blk t).view.emb_mem_set (ValueIdx.ix2 p q); rwa [emb_4] at h⟩

/-- The run, its two results named of the arguments. -/
theorem run : θ_run defs (onTc (τ := τ) (main (F := Ideal))) ⟨m, fun _ => 0, ρ⟩ fun r => ∀ c : Dev nD,
    r.2.mem ((c : Thread nD τ).loc main_v5_0) = contrib m c
      ∧ r.2.mem ((c : Thread nD τ).loc main_v5_1) = weight m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => by
    obtain ⟨h0, h1, ha⟩ := h c
    exact ⟨h0.trans (arr_3 m c), h1.trans (arr_4 m c), ha⟩)
    (Value.run_blocks m ρ)

end Cert.Proof.Node
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_counts_ok
public import proofs.«01_k».proof.Proof.Gen.Norm
public import proofs.«01_k».proof.Proof.Gen.NormIdeal
public import proofs.«01_k».proof.Proof.Gen.NormIdeal.Skeleton
public import proofs.«01_k».proof.Proof.Gen.NormRefIdeal
public import proofs.«01_k».proof.Proof.Gen.NormRefIdeal.Run
public import proofs.«01_k».proof.Proof.Gen.Pre_graphs_ok
public import proofs.«01_k».proof.Proof.SegLaunch
public import proofs.«01_k».proof.Proof.SegCounts
public import proofs.«01_k».proof.Proof.SegRef
public import proofs.«01_k».proof.Proof.NormLaunch
public import proofs.«01_k».proof.Proof.NormRef
public import proofs.«01_k».proof.Proof.Gen.Epi
public import proofs.«01_k».proof.Proof.Gen.Epi.Frame
public import proofs.«01_k».proof.Proof.Gen.EpiIdeal
public import proofs.«01_k».proof.Proof.Gen.EpiIdeal.Frame
public import proofs.«01_k».proof.Proof.Gen.EpiIdeal.Value
public import proofs.«01_k».proof.Proof.Gen.EpiRefIdeal
public import proofs.«01_k».proof.Proof.Gen.EpiRefIdeal.Run
public import proofs.«01_k».proof.Proof.Gen.Pre_actions_ok
public import proofs.«01_k».proof.Proof.EpiValue
public import proofs.«01_k».proof.Proof.EpiRef
public import proofs.«01_k».proof.Proof.Gen.Node
public import proofs.«01_k».proof.Proof.Gen.Node.Frame
public import proofs.«01_k».proof.Proof.Gen.NodeIdeal
public import proofs.«01_k».proof.Proof.Gen.NodeIdeal.Frame
public import proofs.«01_k».proof.Proof.Gen.NodeIdeal.Value
public import proofs.«01_k».proof.Proof.Gen.NodeRefIdeal
public import proofs.«01_k».proof.Proof.Gen.NodeRefIdeal.Run
public import proofs.«01_k».proof.Proof.NodeParts
public import proofs.«01_k».proof.Proof.NodeRef
public import proofs.«01_k».proof.Proof.Gen.Pre_logits_ok
public import proofs.«01_k».proof.Proof.NodeSoft
public import proofs.«01_k».proof.Proof.NodeValue
public import Idealize.ShloMosaic.Adequacy
public import Idealize.ShloMosaic.Init

/-!
# The two calls of the SparseCore, the segment sums and the normalised products, and the TensorCore's two

The claims of `Defs.lean`, put together from

* `Proof/SegLaunch.lean`: the run of the call, over any float values, with the value it leaves;
* `Proof/SegCounts.lean`: what the range of the node counts says of them;
* `Proof/SegRef.lean`: the reference's composed term is that value in exact arithmetic;
* `Proof/NormLaunch.lean`: the run of the second call, over any float values, with the value it leaves;
* `Proof/NormRef.lean`: what the range of the graph numbers says of them, and that the second reference's term is that value;
* `Proof/EpiValue.lean`: the run of the TensorCore's call, over any float values, with its five results;
* `Proof/EpiRef.lean`: what the range of the actions says of them, and that the third reference's results are those five;
* `Proof/NodeParts.lean`, `Proof/NodeRef.lean`: a block of the TensorCore's first call is a block of two arrays computed of all rows at once;
* `Proof/NodeSoft.lean`: what the range of the logits says of them, and that the reference's softmax is what the call computes in its place;
* `Proof/NodeValue.lean`: the run of that call in exact arithmetic, with its two results.
-/

@[expose] public section

noncomputable section

namespace Cert.Proof

open Idealize.ShloMosaic Idealize.SL.Sem Cert.Proof.Seg

set_option maxHeartbeats 4000000 in
/-- The program's run at the machine's floats, its value dropped. -/
theorem frame_kernel : Cert.quiescent_Kernel := fun m ρ h =>
  (θ_run (Cert.KernelIdeal.defs (F := Bits)) _ _).mono (fun _ hr => ⟨fun c => ⟨(hr.1 c).1, (hr.1 c).2.1⟩, hr.2⟩)
    (run_main (F := Bits) m ρ fun d => (counts_total _ _ (h d)).le)

/-- The program's run in exact arithmetic, its value dropped. -/
theorem frame_kernelIdeal : Cert.quiescent_KernelIdeal := fun m ρ h =>
  (θ_run (Cert.KernelIdeal.defs (F := Ideal)) _ _).mono (fun _ hr => ⟨fun c => ⟨(hr.1 c).1, (hr.1 c).2.1⟩, hr.2⟩)
    (run_main (F := Ideal) m ρ fun d => (counts_total _ _ (h d)).le)

/-- The reference declares no semaphore, and no operation of it writes an argument. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- The same where the node counts are within range. -/
theorem frame_reference_counts : Cert.quiescent_ReferenceIdeal_pre_counts_ok := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- In exact arithmetic the call and the reference leave the same sums. -/
theorem algebraic : Cert.algebraic_KernelIdeal_ReferenceIdeal := fun m g m' g' h hag =>
  ⟨fun c => res (F := Ideal) m c,
    (θ_run (Cert.KernelIdeal.defs (F := Ideal)) _ _).mono (fun _ hr c => ⟨(hr.1 c).2.2, (hr.1 c).1, (hr.1 c).2.1⟩)
      (run_main (F := Ideal) m g fun d => (counts_total _ _ (h d)).le),
    (θ_run (Cert.ReferenceIdeal.defs (F := Ideal)) _ _).mono
      (fun _ hr c => ⟨(hr c).1.trans (by
          rw [(hag c).1, (hag c).2]
          exact ref_value _ _ (counts_total _ _ (h c))), (hr c).2⟩)
      (Cert.ReferenceIdeal.Value.run (F := Ideal) m' g')⟩

/-! ## The second call -/

set_option maxHeartbeats 4000000 in
/-- The second program's run at the machine's floats, its value dropped. -/
theorem frame_norm : Cert.quiescent_Norm := fun m ρ h =>
  (θ_run (Cert.NormIdeal.defs (F := Bits)) _ _).mono (fun _ hr => ⟨fun c => ⟨(hr.1 c).1, (hr.1 c).2.1, (hr.1 c).2.2.1⟩, hr.2⟩)
    (Norm.run_main (F := Bits) m ρ fun d => Norm.graphs_lt _ _ _ (h d))

/-- The second program's run in exact arithmetic, its value dropped. -/
theorem frame_normIdeal : Cert.quiescent_NormIdeal := fun m ρ h =>
  (θ_run (Cert.NormIdeal.defs (F := Ideal)) _ _).mono (fun _ hr => ⟨fun c => ⟨(hr.1 c).1, (hr.1 c).2.1, (hr.1 c).2.2.1⟩, hr.2⟩)
    (Norm.run_main (F := Ideal) m ρ fun d => Norm.graphs_lt _ _ _ (h d))

theorem frame_normRef : Cert.quiescent_NormRefIdeal := fun m ρ _ =>
  (θ_run (Cert.NormRefIdeal.defs (F := Ideal)) _ _).mono
    (fun r h => ⟨fun c => (h c).2, sem_eq_zero_of_no_sems (by decide) r.2⟩)
    (Cert.NormRefIdeal.Value.run (F := Ideal) m ρ)

/-- The same where the graph numbers are within range. -/
theorem frame_normRef_graphs : Cert.quiescent_NormRefIdeal_pre_graphs_ok := fun m ρ _ =>
  (θ_run (Cert.NormRefIdeal.defs (F := Ideal)) _ _).mono
    (fun r h => ⟨fun c => (h c).2, sem_eq_zero_of_no_sems (by decide) r.2⟩)
    (Cert.NormRefIdeal.Value.run (F := Ideal) m ρ)

/-- In exact arithmetic the second call and its reference leave the same products. -/
theorem algebraic_norm : Cert.algebraic_NormIdeal_NormRefIdeal := fun m g m' g' h hag =>
  ⟨fun c => Norm.res (F := Ideal) m c,
    (θ_run (Cert.NormIdeal.defs (F := Ideal)) _ _).mono (fun _ hr c => ⟨(hr.1 c).2.2.2, (hr.1 c).1, (hr.1 c).2.1, (hr.1 c).2.2.1⟩)
      (Norm.run_main (F := Ideal) m g fun d => Norm.graphs_lt _ _ _ (h d)),
    (θ_run (Cert.NormRefIdeal.defs (F := Ideal)) _ _).mono
      (fun _ hr c => ⟨(hr c).1.trans (by
          rw [(hag c).1, (hag c).2.1, (hag c).2.2]
          exact Norm.ref_value _ _ _ (Norm.graphs_lt _ _ _ (h c))), (hr c).2⟩)
      (Cert.NormRefIdeal.Value.run (F := Ideal) m' g')⟩

/-! ## The TensorCore's call between the two -/

theorem frame_epi : Cert.quiescent_Epi := fun m ρ _ => Cert.Epi.Gen.frame m ρ

theorem frame_epiIdeal : Cert.quiescent_EpiIdeal := fun m ρ _ => Cert.EpiIdeal.Gen.frame m ρ

/-- The same where the actions are within range. -/
theorem frame_epiIdeal_actions : Cert.quiescent_EpiIdeal_pre_actions_ok := fun m ρ _ => Cert.EpiIdeal.Gen.frame m ρ

theorem frame_epiRef : Cert.quiescent_EpiRefIdeal := fun m ρ _ =>
  (θ_run (Cert.EpiRefIdeal.defs (F := Ideal)) _ _).mono
    (fun r h => ⟨fun c => (h c).2.2.2.2.2, sem_eq_zero_of_no_sems (by decide) r.2⟩)
    (Cert.EpiRefIdeal.Value.run (F := Ideal) m ρ)

/-- The same where the actions are within range. -/
theorem frame_epiRef_actions : Cert.quiescent_EpiRefIdeal_pre_actions_ok := fun m ρ _ =>
  (θ_run (Cert.EpiRefIdeal.defs (F := Ideal)) _ _).mono
    (fun r h => ⟨fun c => (h c).2.2.2.2.2, sem_eq_zero_of_no_sems (by decide) r.2⟩)
    (Cert.EpiRefIdeal.Value.run (F := Ideal) m ρ)

/-- In exact arithmetic the TensorCore's call and its reference leave the same five results. -/
theorem algebraic_epi : Cert.algebraic_EpiIdeal_EpiRefIdeal_pre_actions_ok := fun m g m' g' h hag =>
  ⟨_, _, _, _, _, Epi.run (F := Ideal) m g,
    (θ_run (Cert.EpiRefIdeal.defs (F := Ideal)) _ _).mono
      (fun _ hr c => by
        obtain ⟨h0, h1, h2, h3, h4, ha⟩ := hr c
        rw [(hag c).1, (hag c).2] at h0
        rw [(hag c).1] at h1 h2 h3 h4
        exact ⟨h0.trans (Epi.take_eq _ _ (Epi.actions_lt _ _ (h c)) _), h1.trans (Epi.ent_eq _), h2.trans (Epi.val_eq _), h3.trans (Epi.p_eq _),
          h4.trans (Epi.fac_eq _), ha⟩)
      (Cert.EpiRefIdeal.Value.run (F := Ideal) m' g')⟩

/-! ## The TensorCore's first call -/

theorem frame_node : Cert.quiescent_Node := fun m ρ _ => Cert.Node.Gen.frame m ρ

theorem frame_nodeIdeal : Cert.quiescent_NodeIdeal := fun m ρ _ => Cert.NodeIdeal.Gen.frame m ρ

/-- The same where the actions' logits are made of finite numbers. -/
theorem frame_nodeIdeal_logits : Cert.quiescent_NodeIdeal_pre_logits_ok := fun m ρ _ => Cert.NodeIdeal.Gen.frame m ρ

theorem frame_nodeRef : Cert.quiescent_NodeRefIdeal := fun m ρ _ =>
  (θ_run (Cert.NodeRefIdeal.defs (F := Ideal)) _ _).mono
    (fun r h => ⟨fun c => (h c).2.2, sem_eq_zero_of_no_sems (by decide) r.2⟩)
    (Cert.NodeRefIdeal.Value.run (F := Ideal) m ρ)

/-- The same where the actions' logits are made of finite numbers. -/
theorem frame_nodeRef_logits : Cert.quiescent_NodeRefIdeal_pre_logits_ok := fun m ρ _ =>
  (θ_run (Cert.NodeRefIdeal.defs (F := Ideal)) _ _).mono
    (fun r h => ⟨fun c => (h c).2.2, sem_eq_zero_of_no_sems (by decide) r.2⟩)
    (Cert.NodeRefIdeal.Value.run (F := Ideal) m ρ)

/-- In exact arithmetic the TensorCore's first call and its reference leave the same two results. -/
theorem algebraic_node : Cert.algebraic_NodeIdeal_NodeRefIdeal_pre_logits_ok := fun m g m' g' h hag =>
  ⟨_, _, Node.run m g,
    (θ_run (Cert.NodeRefIdeal.defs (F := Ideal)) _ _).mono
      (fun _ hr c => by
        obtain ⟨h0, h1, ha⟩ := hr c
        obtain ⟨e0, e1, e2, e3, e4, e5, e6, e7, e8, e9⟩ := hag c
        obtain ⟨f0, f2, f3⟩ := Node.logits_fin _ _ _ _ _ _ _ _ _ _ (h c)
        unfold Cert.NodeRefIdeal.Value.res_main_v34 at h0
        rw [e0, e1, e2, e3, e4, e5, e6, e7, e8, e9] at h0
        rw [e0, e4, e5] at h1
        exact ⟨h0.trans (Node.soft_contrib _ _ _ _ _ _ _ _ _ _ f0 f2 f3), h1, ha⟩)
      (Cert.NodeRefIdeal.Value.run (F := Ideal) m' g')⟩

/-- The certificate's claim. -/
theorem claim : Cert.Claim :=
  ⟨Cert.Kernel.Gen.facts, Cert.KernelIdeal.Gen.facts, Cert.ReferenceIdeal.Gen.facts, Cert.Norm.Gen.facts, Cert.NormIdeal.Gen.facts, Cert.NormRefIdeal.Gen.facts,
    Cert.Epi.Gen.facts, Cert.EpiIdeal.Gen.facts, Cert.EpiRefIdeal.Gen.facts, Cert.Node.Gen.facts, Cert.NodeIdeal.Gen.facts, Cert.NodeRefIdeal.Gen.facts,
    Cert.Pre_counts_ok.Gen.facts, Cert.Pre_graphs_ok.Gen.facts, Cert.Pre_actions_ok.Gen.facts, Cert.Pre_logits_ok.Gen.facts,
    frame_kernel, frame_kernelIdeal, frame_reference, frame_reference_counts, frame_norm, frame_normIdeal, frame_normRef, frame_normRef_graphs,
    frame_epi, frame_epiIdeal, frame_epiIdeal_actions, frame_epiRef, frame_epiRef_actions, frame_node, frame_nodeIdeal, frame_nodeIdeal_logits,
    frame_nodeRef, frame_nodeRef_logits,
    trivial, algebraic, trivial, algebraic_norm, trivial, algebraic_epi, trivial, algebraic_node⟩

end Cert.Proof

end
